-- ==== Defs.lean ====
def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherReferenceIdeal (m : (ℓ : Loc Cert.GatherReferenceIdeal.nD Cert.GatherReferenceIdeal.τ Cert.GatherReferenceIdeal.sig) → Buf (Elt Ideal) ℓ) : Prop :=
  True

def Pre_GatherReference (m : (ℓ : Loc Cert.GatherReference.nD Cert.GatherReference.τ Cert.GatherReference.sig) → Buf (Elt Bits) ℓ) : Prop :=
  True

def Pre_PairExchange (m : (ℓ : Loc Cert.PairExchange.nD Cert.PairExchange.τ Cert.PairExchange.sig) → Buf (Elt Bits) ℓ) : Prop :=
  True

def Pre_PairExchangeIdeal (m : (ℓ : Loc Cert.PairExchangeIdeal.nD Cert.PairExchangeIdeal.τ Cert.PairExchangeIdeal.sig) → Buf (Elt Ideal) ℓ) : Prop :=
  True

def Pre_PairExchangeReferenceIdeal (m : (ℓ : Loc Cert.PairExchangeReferenceIdeal.nD Cert.PairExchangeReferenceIdeal.τ Cert.PairExchangeReferenceIdeal.sig) → Buf (Elt Ideal) ℓ) : Prop :=
  True

def Pre_PairExchangeReference (m : (ℓ : Loc Cert.PairExchangeReference.nD Cert.PairExchangeReference.τ Cert.PairExchangeReference.sig) → Buf (Elt Bits) ℓ) : Prop :=
  True

def Pre_ChipExchange (m : (ℓ : Loc Cert.ChipExchange.nD Cert.ChipExchange.τ Cert.ChipExchange.sig) → Buf (Elt Bits) ℓ) : Prop :=
  True

def Pre_ChipExchangeIdeal (m : (ℓ : Loc Cert.ChipExchangeIdeal.nD Cert.ChipExchangeIdeal.τ Cert.ChipExchangeIdeal.sig) → Buf (Elt Ideal) ℓ) : Prop :=
  True

def Pre_ChipExchangeReferenceIdeal (m : (ℓ : Loc Cert.ChipExchangeReferenceIdeal.nD Cert.ChipExchangeReferenceIdeal.τ Cert.ChipExchangeReferenceIdeal.sig) → Buf (Elt Ideal) ℓ) : Prop :=
  True

def Pre_ChipExchangeReference (m : (ℓ : Loc Cert.ChipExchangeReference.nD Cert.ChipExchangeReference.τ Cert.ChipExchangeReference.sig) → Buf (Elt Bits) ℓ) : Prop :=
  True

def Pre_PairShare (m : (ℓ : Loc Cert.PairShare.nD Cert.PairShare.τ Cert.PairShare.sig) → Buf (Elt Bits) ℓ) : Prop :=
  True

def Pre_PairShareIdeal (m : (ℓ : Loc Cert.PairShareIdeal.nD Cert.PairShareIdeal.τ Cert.PairShareIdeal.sig) → Buf (Elt Ideal) ℓ) : Prop :=
  True

def Pre_PairShareReferenceIdeal (m : (ℓ : Loc Cert.PairShareReferenceIdeal.nD Cert.PairShareReferenceIdeal.τ Cert.PairShareReferenceIdeal.sig) → Buf (Elt Ideal) ℓ) : Prop :=
  True

def Pre_PairShareReference (m : (ℓ : Loc Cert.PairShareReference.nD Cert.PairShareReference.τ Cert.PairShareReference.sig) → Buf (Elt Bits) ℓ) : Prop :=
  True

def Pre_PairSumNaQkv (m : (ℓ : Loc Cert.PairSumNaQkv.nD Cert.PairSumNaQkv.τ Cert.PairSumNaQkv.sig) → Buf (Elt Bits) ℓ) : Prop :=
  True

def Pre_PairSumNaQkvIdeal (m : (ℓ : Loc Cert.PairSumNaQkvIdeal.nD Cert.PairSumNaQkvIdeal.τ Cert.PairSumNaQkvIdeal.sig) → Buf (Elt Ideal) ℓ) : Prop :=
  True

def Pre_PairSumNaQkvReferenceIdeal (m : (ℓ : Loc Cert.PairSumNaQkvReferenceIdeal.nD Cert.PairSumNaQkvReferenceIdeal.τ Cert.PairSumNaQkvReferenceIdeal.sig) → Buf (Elt Ideal) ℓ) : Prop :=
  True

def Pre_PairSumNaQkvReference (m : (ℓ : Loc Cert.PairSumNaQkvReference.nD Cert.PairSumNaQkvReference.τ Cert.PairSumNaQkvReference.sig) → Buf (Elt Bits) ℓ) : Prop :=
  True

def Pre_PairSumOut (m : (ℓ : Loc Cert.PairSumOut.nD Cert.PairSumOut.τ Cert.PairSumOut.sig) → Buf (Elt Bits) ℓ) : Prop :=
  True

def Pre_PairSumOutIdeal (m : (ℓ : Loc Cert.PairSumOutIdeal.nD Cert.PairSumOutIdeal.τ Cert.PairSumOutIdeal.sig) → Buf (Elt Ideal) ℓ) : Prop :=
  True

def Pre_PairSumOutReferenceIdeal (m : (ℓ : Loc Cert.PairSumOutReferenceIdeal.nD Cert.PairSumOutReferenceIdeal.τ Cert.PairSumOutReferenceIdeal.sig) → Buf (Elt Ideal) ℓ) : Prop :=
  True

def Pre_PairSumOutReference (m : (ℓ : Loc Cert.PairSumOutReference.nD Cert.PairSumOutReference.τ Cert.PairSumOutReference.sig) → Buf (Elt Bits) ℓ) : Prop :=
  True

def Pre_PairSumFfn (m : (ℓ : Loc Cert.PairSumFfn.nD Cert.PairSumFfn.τ Cert.PairSumFfn.sig) → Buf (Elt Bits) ℓ) : Prop :=
  True

def Pre_PairSumFfnIdeal (m : (ℓ : Loc Cert.PairSumFfnIdeal.nD Cert.PairSumFfnIdeal.τ Cert.PairSumFfnIdeal.sig) → Buf (Elt Ideal) ℓ) : Prop :=
  True

def Pre_PairSumFfnReferenceIdeal (m : (ℓ : Loc Cert.PairSumFfnReferenceIdeal.nD Cert.PairSumFfnReferenceIdeal.τ Cert.PairSumFfnReferenceIdeal.sig) → Buf (Elt Ideal) ℓ) : Prop :=
  True

def Pre_PairSumFfnReference (m : (ℓ : Loc Cert.PairSumFfnReference.nD Cert.PairSumFfnReference.τ Cert.PairSumFfnReference.sig) → Buf (Elt Bits) ℓ) : Prop :=
  True

def Pre_PairSumFfnDown (m : (ℓ : Loc Cert.PairSumFfnDown.nD Cert.PairSumFfnDown.τ Cert.PairSumFfnDown.sig) → Buf (Elt Bits) ℓ) : Prop :=
  True

def Pre_PairSumFfnDownIdeal (m : (ℓ : Loc Cert.PairSumFfnDownIdeal.nD Cert.PairSumFfnDownIdeal.τ Cert.PairSumFfnDownIdeal.sig) → Buf (Elt Ideal) ℓ) : Prop :=
  True

def Pre_PairSumFfnDownReferenceIdeal (m : (ℓ : Loc Cert.PairSumFfnDownReferenceIdeal.nD Cert.PairSumFfnDownReferenceIdeal.τ Cert.PairSumFfnDownReferenceIdeal.sig) → Buf (Elt Ideal) ℓ) : Prop :=
  True

def Pre_PairSumFfnDownReference (m : (ℓ : Loc Cert.PairSumFfnDownReference.nD Cert.PairSumFfnDownReference.τ Cert.PairSumFfnDownReference.sig) → Buf (Elt Bits) ℓ) : Prop :=
  True

def Pre_PairSumDilQkv (m : (ℓ : Loc Cert.PairSumDilQkv.nD Cert.PairSumDilQkv.τ Cert.PairSumDilQkv.sig) → Buf (Elt Bits) ℓ) : Prop :=
  True

def Pre_PairSumDilQkvIdeal (m : (ℓ : Loc Cert.PairSumDilQkvIdeal.nD Cert.PairSumDilQkvIdeal.τ Cert.PairSumDilQkvIdeal.sig) → Buf (Elt Ideal) ℓ) : Prop :=
  True

def Pre_PairSumDilQkvReferenceIdeal (m : (ℓ : Loc Cert.PairSumDilQkvReferenceIdeal.nD Cert.PairSumDilQkvReferenceIdeal.τ Cert.PairSumDilQkvReferenceIdeal.sig) → Buf (Elt Ideal) ℓ) : Prop :=
  True

def Pre_PairSumDilQkvReference (m : (ℓ : Loc Cert.PairSumDilQkvReference.nD Cert.PairSumDilQkvReference.τ Cert.PairSumDilQkvReference.sig) → Buf (Elt Bits) ℓ) : Prop :=
  True

def Pre_ChipSumNaQkv (m : (ℓ : Loc Cert.ChipSumNaQkv.nD Cert.ChipSumNaQkv.τ Cert.ChipSumNaQkv.sig) → Buf (Elt Bits) ℓ) : Prop :=
  True

def Pre_ChipSumNaQkvIdeal (m : (ℓ : Loc Cert.ChipSumNaQkvIdeal.nD Cert.ChipSumNaQkvIdeal.τ Cert.ChipSumNaQkvIdeal.sig) → Buf (Elt Ideal) ℓ) : Prop :=
  True

def Pre_ChipSumNaQkvReferenceIdeal (m : (ℓ : Loc Cert.ChipSumNaQkvReferenceIdeal.nD Cert.ChipSumNaQkvReferenceIdeal.τ Cert.ChipSumNaQkvReferenceIdeal.sig) → Buf (Elt Ideal) ℓ) : Prop :=
  True

def Pre_ChipSumNaQkvReference (m : (ℓ : Loc Cert.ChipSumNaQkvReference.nD Cert.ChipSumNaQkvReference.τ Cert.ChipSumNaQkvReference.sig) → Buf (Elt Bits) ℓ) : Prop :=
  True

def Pre_ChipSumOut (m : (ℓ : Loc Cert.ChipSumOut.nD Cert.ChipSumOut.τ Cert.ChipSumOut.sig) → Buf (Elt Bits) ℓ) : Prop :=
  True

def Pre_ChipSumOutIdeal (m : (ℓ : Loc Cert.ChipSumOutIdeal.nD Cert.ChipSumOutIdeal.τ Cert.ChipSumOutIdeal.sig) → Buf (Elt Ideal) ℓ) : Prop :=
  True

def Pre_ChipSumOutReferenceIdeal (m : (ℓ : Loc Cert.ChipSumOutReferenceIdeal.nD Cert.ChipSumOutReferenceIdeal.τ Cert.ChipSumOutReferenceIdeal.sig) → Buf (Elt Ideal) ℓ) : Prop :=
  True

def Pre_ChipSumOutReference (m : (ℓ : Loc Cert.ChipSumOutReference.nD Cert.ChipSumOutReference.τ Cert.ChipSumOutReference.sig) → Buf (Elt Bits) ℓ) : Prop :=
  True

def Pre_ChipSumFfn (m : (ℓ : Loc Cert.ChipSumFfn.nD Cert.ChipSumFfn.τ Cert.ChipSumFfn.sig) → Buf (Elt Bits) ℓ) : Prop :=
  True

def Pre_ChipSumFfnIdeal (m : (ℓ : Loc Cert.ChipSumFfnIdeal.nD Cert.ChipSumFfnIdeal.τ Cert.ChipSumFfnIdeal.sig) → Buf (Elt Ideal) ℓ) : Prop :=
  True

def Pre_ChipSumFfnReferenceIdeal (m : (ℓ : Loc Cert.ChipSumFfnReferenceIdeal.nD Cert.ChipSumFfnReferenceIdeal.τ Cert.ChipSumFfnReferenceIdeal.sig) → Buf (Elt Ideal) ℓ) : Prop :=
  True

def Pre_ChipSumFfnReference (m : (ℓ : Loc Cert.ChipSumFfnReference.nD Cert.ChipSumFfnReference.τ Cert.ChipSumFfnReference.sig) → Buf (Elt Bits) ℓ) : Prop :=
  True

def Pre_ChipSumFfnDown (m : (ℓ : Loc Cert.ChipSumFfnDown.nD Cert.ChipSumFfnDown.τ Cert.ChipSumFfnDown.sig) → Buf (Elt Bits) ℓ) : Prop :=
  True

def Pre_ChipSumFfnDownIdeal (m : (ℓ : Loc Cert.ChipSumFfnDownIdeal.nD Cert.ChipSumFfnDownIdeal.τ Cert.ChipSumFfnDownIdeal.sig) → Buf (Elt Ideal) ℓ) : Prop :=
  True

def Pre_ChipSumFfnDownReferenceIdeal (m : (ℓ : Loc Cert.ChipSumFfnDownReferenceIdeal.nD Cert.ChipSumFfnDownReferenceIdeal.τ Cert.ChipSumFfnDownReferenceIdeal.sig) → Buf (Elt Ideal) ℓ) : Prop :=
  True

def Pre_ChipSumFfnDownReference (m : (ℓ : Loc Cert.ChipSumFfnDownReference.nD Cert.ChipSumFfnDownReference.τ Cert.ChipSumFfnDownReference.sig) → Buf (Elt Bits) ℓ) : Prop :=
  True

def Pre_ChipSumDilQkv (m : (ℓ : Loc Cert.ChipSumDilQkv.nD Cert.ChipSumDilQkv.τ Cert.ChipSumDilQkv.sig) → Buf (Elt Bits) ℓ) : Prop :=
  True

def Pre_ChipSumDilQkvIdeal (m : (ℓ : Loc Cert.ChipSumDilQkvIdeal.nD Cert.ChipSumDilQkvIdeal.τ Cert.ChipSumDilQkvIdeal.sig) → Buf (Elt Ideal) ℓ) : Prop :=
  True

def Pre_ChipSumDilQkvReferenceIdeal (m : (ℓ : Loc Cert.ChipSumDilQkvReferenceIdeal.nD Cert.ChipSumDilQkvReferenceIdeal.τ Cert.ChipSumDilQkvReferenceIdeal.sig) → Buf (Elt Ideal) ℓ) : Prop :=
  True

def Pre_ChipSumDilQkvReference (m : (ℓ : Loc Cert.ChipSumDilQkvReference.nD Cert.ChipSumDilQkvReference.τ Cert.ChipSumDilQkvReference.sig) → Buf (Elt Bits) ℓ) : Prop :=
  True

def Pre_AdamNaQkv (m : (ℓ : Loc Cert.AdamNaQkv.nD Cert.AdamNaQkv.τ Cert.AdamNaQkv.sig) → Buf (Elt Bits) ℓ) : Prop :=
  True

def Pre_AdamNaQkvIdeal (m : (ℓ : Loc Cert.AdamNaQkvIdeal.nD Cert.AdamNaQkvIdeal.τ Cert.AdamNaQkvIdeal.sig) → Buf (Elt Ideal) ℓ) : Prop :=
  True

def Pre_AdamNaQkvReferenceIdeal (m : (ℓ : Loc Cert.AdamNaQkvReferenceIdeal.nD Cert.AdamNaQkvReferenceIdeal.τ Cert.AdamNaQkvReferenceIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutReferenceIdeal (m : (ℓ : Loc Cert.AdamOutReferenceIdeal.nD Cert.AdamOutReferenceIdeal.τ Cert.AdamOutReferenceIdeal.sig) → Buf (Elt Ideal) ℓ) : Prop :=
  True

def Pre_AdamFfn (m : (ℓ : Loc Cert.AdamFfn.nD Cert.AdamFfn.τ Cert.AdamFfn.sig) → Buf (Elt Bits) ℓ) : Prop :=
  True

def Pre_AdamFfnIdeal (m : (ℓ : Loc Cert.AdamFfnIdeal.nD Cert.AdamFfnIdeal.τ Cert.AdamFfnIdeal.sig) → Buf (Elt Ideal) ℓ) : Prop :=
  True

def Pre_AdamFfnReferenceIdeal (m : (ℓ : Loc Cert.AdamFfnReferenceIdeal.nD Cert.AdamFfnReferenceIdeal.τ Cert.AdamFfnReferenceIdeal.sig) → Buf (Elt Ideal) ℓ) : Prop :=
  True

def Pre_AdamFfnDown (m : (ℓ : Loc Cert.AdamFfnDown.nD Cert.AdamFfnDown.τ Cert.AdamFfnDown.sig) → Buf (Elt Bits) ℓ) : Prop :=
  True

def Pre_AdamFfnDownIdeal (m : (ℓ : Loc Cert.AdamFfnDownIdeal.nD Cert.AdamFfnDownIdeal.τ Cert.AdamFfnDownIdeal.sig) → Buf (Elt Ideal) ℓ) : Prop :=
  True

def Pre_AdamFfnDownReferenceIdeal (m : (ℓ : Loc Cert.AdamFfnDownReferenceIdeal.nD Cert.AdamFfnDownReferenceIdeal.τ Cert.AdamFfnDownReferenceIdeal.sig) → Buf (Elt Ideal) ℓ) : Prop :=
  True

def Pre_AdamDilQkv (m : (ℓ : Loc Cert.AdamDilQkv.nD Cert.AdamDilQkv.τ Cert.AdamDilQkv.sig) → Buf (Elt Bits) ℓ) : Prop :=
  True

def Pre_AdamDilQkvIdeal (m : (ℓ : Loc Cert.AdamDilQkvIdeal.nD Cert.AdamDilQkvIdeal.τ Cert.AdamDilQkvIdeal.sig) → Buf (Elt Ideal) ℓ) : Prop :=
  True

def Pre_AdamDilQkvReferenceIdeal (m : (ℓ : Loc Cert.AdamDilQkvReferenceIdeal.nD Cert.AdamDilQkvReferenceIdeal.τ Cert.AdamDilQkvReferenceIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallReferenceIdeal (m : (ℓ : Loc Cert.AdamSmallReferenceIdeal.nD Cert.AdamSmallReferenceIdeal.τ Cert.AdamSmallReferenceIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RmsReferenceIdeal (m : (ℓ : Loc Cert.RmsReferenceIdeal.nD Cert.RmsReferenceIdeal.τ Cert.RmsReferenceIdeal.sig) → Buf (Elt Ideal) ℓ) : Prop :=
  True

def Pre_Resid (m : (ℓ : Loc Cert.Resid.nD Cert.Resid.τ Cert.Resid.sig) → Buf (Elt Bits) ℓ) : Prop :=
  True

def Pre_ResidIdeal (m : (ℓ : Loc Cert.ResidIdeal.nD Cert.ResidIdeal.τ Cert.ResidIdeal.sig) → Buf (Elt Ideal) ℓ) : Prop :=
  True

def Pre_ResidReferenceIdeal (m : (ℓ : Loc Cert.ResidReferenceIdeal.nD Cert.ResidReferenceIdeal.τ Cert.ResidReferenceIdeal.sig) → Buf (Elt Ideal) ℓ) : Prop :=
  True

def Pre_NormPost (m : (ℓ : Loc Cert.NormPost.nD Cert.NormPost.τ Cert.NormPost.sig) → Buf (Elt Bits) ℓ) : Prop :=
  True

def Pre_NormPostIdeal (m : (ℓ : Loc Cert.NormPostIdeal.nD Cert.NormPostIdeal.τ Cert.NormPostIdeal.sig) → Buf (Elt Ideal) ℓ) : Prop :=
  True

def Pre_NormPostReferenceIdeal (m : (ℓ : Loc Cert.NormPostReferenceIdeal.nD Cert.NormPostReferenceIdeal.τ Cert.NormPostReferenceIdeal.sig) → Buf (Elt Ideal) ℓ) : Prop :=
  True

def Pre_NormPre (m : (ℓ : Loc Cert.NormPre.nD Cert.NormPre.τ Cert.NormPre.sig) → Buf (Elt Bits) ℓ) : Prop :=
  True

def Pre_NormPreIdeal (m : (ℓ : Loc Cert.NormPreIdeal.nD Cert.NormPreIdeal.τ Cert.NormPreIdeal.sig) → Buf (Elt Ideal) ℓ) : Prop :=
  True

def Pre_NormPreReferenceIdeal (m : (ℓ : Loc Cert.NormPreReferenceIdeal.nD Cert.NormPreReferenceIdeal.τ Cert.NormPreReferenceIdeal.sig) → Buf (Elt Ideal) ℓ) : Prop :=
  True

def Pre_NormPre3 (m : (ℓ : Loc Cert.NormPre3.nD Cert.NormPre3.τ Cert.NormPre3.sig) → Buf (Elt Bits) ℓ) : Prop :=
  True

def Pre_NormPre3Ideal (m : (ℓ : Loc Cert.NormPre3Ideal.nD Cert.NormPre3Ideal.τ Cert.NormPre3Ideal.sig) → Buf (Elt Ideal) ℓ) : Prop :=
  True

def Pre_NormPre3ReferenceIdeal (m : (ℓ : Loc Cert.NormPre3ReferenceIdeal.nD Cert.NormPre3ReferenceIdeal.τ Cert.NormPre3ReferenceIdeal.sig) → Buf (Elt Ideal) ℓ) : Prop :=
  True

def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_SwigluReferenceIdeal (m : (ℓ : Loc Cert.SwigluReferenceIdeal.nD Cert.SwigluReferenceIdeal.τ Cert.SwigluReferenceIdeal.sig) → Buf (Elt Ideal) ℓ) : Prop :=
  True

def Pre_SwigluBwd (m : (ℓ : Loc Cert.SwigluBwd.nD Cert.SwigluBwd.τ Cert.SwigluBwd.sig) → Buf (Elt Bits) ℓ) : Prop :=
  True

def Pre_SwigluBwdIdeal (m : (ℓ : Loc Cert.SwigluBwdIdeal.nD Cert.SwigluBwdIdeal.τ Cert.SwigluBwdIdeal.sig) → Buf (Elt Ideal) ℓ) : Prop :=
  True

def Pre_SwigluBwdReferenceIdeal (m : (ℓ : Loc Cert.SwigluBwdReferenceIdeal.nD Cert.SwigluBwdReferenceIdeal.τ Cert.SwigluBwdReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_ProjDo (m : (ℓ : Loc Cert.ProjDo.nD Cert.ProjDo.τ Cert.ProjDo.sig) → Buf (Elt Bits) ℓ) : Prop :=
  True

def Pre_ProjDoIdeal (m : (ℓ : Loc Cert.ProjDoIdeal.nD Cert.ProjDoIdeal.τ Cert.ProjDoIdeal.sig) → Buf (Elt Ideal) ℓ) : Prop :=
  True

def Pre_ProjDoReferenceIdeal (m : (ℓ : Loc Cert.ProjDoReferenceIdeal.nD Cert.ProjDoReferenceIdeal.τ Cert.ProjDoReferenceIdeal.sig) → Buf (Elt Ideal) ℓ) : Prop :=
  True

def Pre_ProjDw (m : (ℓ : Loc Cert.ProjDw.nD Cert.ProjDw.τ Cert.ProjDw.sig) → Buf (Elt Bits) ℓ) : Prop :=
  True

def Pre_ProjDwIdeal (m : (ℓ : Loc Cert.ProjDwIdeal.nD Cert.ProjDwIdeal.τ Cert.ProjDwIdeal.sig) → Buf (Elt Ideal) ℓ) : Prop :=
  True

def Pre_ProjDwReferenceIdeal (m : (ℓ : Loc Cert.ProjDwReferenceIdeal.nD Cert.ProjDwReferenceIdeal.τ Cert.ProjDwReferenceIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInReferenceIdeal (m : (ℓ : Loc Cert.FfnInReferenceIdeal.nD Cert.FfnInReferenceIdeal.τ Cert.FfnInReferenceIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutReferenceIdeal (m : (ℓ : Loc Cert.FfnOutReferenceIdeal.nD Cert.FfnOutReferenceIdeal.τ Cert.FfnOutReferenceIdeal.sig) → Buf (Elt Ideal) ℓ) : Prop :=
  True

def Pre_FfnDact (m : (ℓ : Loc Cert.FfnDact.nD Cert.FfnDact.τ Cert.FfnDact.sig) → Buf (Elt Bits) ℓ) : Prop :=
  True

def Pre_FfnDactIdeal (m : (ℓ : Loc Cert.FfnDactIdeal.nD Cert.FfnDactIdeal.τ Cert.FfnDactIdeal.sig) → Buf (Elt Ideal) ℓ) : Prop :=
  True

def Pre_FfnDactReferenceIdeal (m : (ℓ : Loc Cert.FfnDactReferenceIdeal.nD Cert.FfnDactReferenceIdeal.τ Cert.FfnDactReferenceIdeal.sig) → Buf (Elt Ideal) ℓ) : Prop :=
  True

def Pre_FfnDwDown (m : (ℓ : Loc Cert.FfnDwDown.nD Cert.FfnDwDown.τ Cert.FfnDwDown.sig) → Buf (Elt Bits) ℓ) : Prop :=
  True

def Pre_FfnDwDownIdeal (m : (ℓ : Loc Cert.FfnDwDownIdeal.nD Cert.FfnDwDownIdeal.τ Cert.FfnDwDownIdeal.sig) → Buf (Elt Ideal) ℓ) : Prop :=
  True

def Pre_FfnDwDownReferenceIdeal (m : (ℓ : Loc Cert.FfnDwDownReferenceIdeal.nD Cert.FfnDwDownReferenceIdeal.τ Cert.FfnDwDownReferenceIdeal.sig) → Buf (Elt Ideal) ℓ) : Prop :=
  True

def Pre_FfnDh (m : (ℓ : Loc Cert.FfnDh.nD Cert.FfnDh.τ Cert.FfnDh.sig) → Buf (Elt Bits) ℓ) : Prop :=
  True

def Pre_FfnDhIdeal (m : (ℓ : Loc Cert.FfnDhIdeal.nD Cert.FfnDhIdeal.τ Cert.FfnDhIdeal.sig) → Buf (Elt Ideal) ℓ) : Prop :=
  True

def Pre_FfnDhReferenceIdeal (m : (ℓ : Loc Cert.FfnDhReferenceIdeal.nD Cert.FfnDhReferenceIdeal.τ Cert.FfnDhReferenceIdeal.sig) → Buf (Elt Ideal) ℓ) : Prop :=
  True

def Pre_FfnDwIn (m : (ℓ : Loc Cert.FfnDwIn.nD Cert.FfnDwIn.τ Cert.FfnDwIn.sig) → Buf (Elt Bits) ℓ) : Prop :=
  True

def Pre_FfnDwInIdeal (m : (ℓ : Loc Cert.FfnDwInIdeal.nD Cert.FfnDwInIdeal.τ Cert.FfnDwInIdeal.sig) → Buf (Elt Ideal) ℓ) : Prop :=
  True

def Pre_FfnDwInReferenceIdeal (m : (ℓ : Loc Cert.FfnDwInReferenceIdeal.nD Cert.FfnDwInReferenceIdeal.τ Cert.FfnDwInReferenceIdeal.sig) → Buf (Elt Ideal) ℓ) : Prop :=
  True

def Pre_NaQkv (m : (ℓ : Loc Cert.NaQkv.nD Cert.NaQkv.τ Cert.NaQkv.sig) → Buf (Elt Bits) ℓ) : Prop :=
  True

def Pre_NaQkvIdeal (m : (ℓ : Loc Cert.NaQkvIdeal.nD Cert.NaQkvIdeal.τ Cert.NaQkvIdeal.sig) → Buf (Elt Ideal) ℓ) : Prop :=
  True

def Pre_NaQkvReferenceIdeal (m : (ℓ : Loc Cert.NaQkvReferenceIdeal.nD Cert.NaQkvReferenceIdeal.τ Cert.NaQkvReferenceIdeal.sig) → Buf (Elt Ideal) ℓ) : Prop :=
  True

def Pre_DilQkv (m : (ℓ : Loc Cert.DilQkv.nD Cert.DilQkv.τ Cert.DilQkv.sig) → Buf (Elt Bits) ℓ) : Prop :=
  True

def Pre_DilQkvIdeal (m : (ℓ : Loc Cert.DilQkvIdeal.nD Cert.DilQkvIdeal.τ Cert.DilQkvIdeal.sig) → Buf (Elt Ideal) ℓ) : Prop :=
  True

def Pre_DilQkvReferenceIdeal (m : (ℓ : Loc Cert.DilQkvReferenceIdeal.nD Cert.DilQkvReferenceIdeal.τ Cert.DilQkvReferenceIdeal.sig) → Buf (Elt Ideal) ℓ) : Prop :=
  True

def Pre_NaQkvDh (m : (ℓ : Loc Cert.NaQkvDh.nD Cert.NaQkvDh.τ Cert.NaQkvDh.sig) → Buf (Elt Bits) ℓ) : Prop :=
  True

def Pre_NaQkvDhIdeal (m : (ℓ : Loc Cert.NaQkvDhIdeal.nD Cert.NaQkvDhIdeal.τ Cert.NaQkvDhIdeal.sig) → Buf (Elt Ideal) ℓ) : Prop :=
  True

def Pre_NaQkvDhReferenceIdeal (m : (ℓ : Loc Cert.NaQkvDhReferenceIdeal.nD Cert.NaQkvDhReferenceIdeal.τ Cert.NaQkvDhReferenceIdeal.sig) → Buf (Elt Ideal) ℓ) : Prop :=
  True

def Pre_DilQkvDh (m : (ℓ : Loc Cert.DilQkvDh.nD Cert.DilQkvDh.τ Cert.DilQkvDh.sig) → Buf (Elt Bits) ℓ) : Prop :=
  True

def Pre_DilQkvDhIdeal (m : (ℓ : Loc Cert.DilQkvDhIdeal.nD Cert.DilQkvDhIdeal.τ Cert.DilQkvDhIdeal.sig) → Buf (Elt Ideal) ℓ) : Prop :=
  True

def Pre_DilQkvDhReferenceIdeal (m : (ℓ : Loc Cert.DilQkvDhReferenceIdeal.nD Cert.DilQkvDhReferenceIdeal.τ Cert.DilQkvDhReferenceIdeal.sig) → Buf (Elt Ideal) ℓ) : Prop :=
  True

def Pre_NaQkvDw (m : (ℓ : Loc Cert.NaQkvDw.nD Cert.NaQkvDw.τ Cert.NaQkvDw.sig) → Buf (Elt Bits) ℓ) : Prop :=
  True

def Pre_NaQkvDwIdeal (m : (ℓ : Loc Cert.NaQkvDwIdeal.nD Cert.NaQkvDwIdeal.τ Cert.NaQkvDwIdeal.sig) → Buf (Elt Ideal) ℓ) : Prop :=
  True

def Pre_NaQkvDwReferenceIdeal (m : (ℓ : Loc Cert.NaQkvDwReferenceIdeal.nD Cert.NaQkvDwReferenceIdeal.τ Cert.NaQkvDwReferenceIdeal.sig) → Buf (Elt Ideal) ℓ) : Prop :=
  True

def Pre_DilQkvDw (m : (ℓ : Loc Cert.DilQkvDw.nD Cert.DilQkvDw.τ Cert.DilQkvDw.sig) → Buf (Elt Bits) ℓ) : Prop :=
  True

def Pre_DilQkvDwIdeal (m : (ℓ : Loc Cert.DilQkvDwIdeal.nD Cert.DilQkvDwIdeal.τ Cert.DilQkvDwIdeal.sig) → Buf (Elt Ideal) ℓ) : Prop :=
  True

def Pre_DilQkvDwReferenceIdeal (m : (ℓ : Loc Cert.DilQkvDwReferenceIdeal.nD Cert.DilQkvDwReferenceIdeal.τ Cert.DilQkvDwReferenceIdeal.sig) → Buf (Elt Ideal) ℓ) : Prop :=
  True

def Pre_NaFwd (m : (ℓ : Loc Cert.NaFwd.nD Cert.NaFwd.τ Cert.NaFwd.sig) → Buf (Elt Bits) ℓ) : Prop :=
  True

def Pre_NaFwdIdeal (m : (ℓ : Loc Cert.NaFwdIdeal.nD Cert.NaFwdIdeal.τ Cert.NaFwdIdeal.sig) → Buf (Elt Ideal) ℓ) : Prop :=
  True

def Pre_NaFwdReferenceIdeal (m : (ℓ : Loc Cert.NaFwdReferenceIdeal.nD Cert.NaFwdReferenceIdeal.τ Cert.NaFwdReferenceIdeal.sig) → Buf (Elt Ideal) ℓ) : Prop :=
  True

def Pre_DilMerge (m : (ℓ : Loc Cert.DilMerge.nD Cert.DilMerge.τ Cert.DilMerge.sig) → Buf (Elt Bits) ℓ) : Prop :=
  True

def Pre_DilMergeIdeal (m : (ℓ : Loc Cert.DilMergeIdeal.nD Cert.DilMergeIdeal.τ Cert.DilMergeIdeal.sig) → Buf (Elt Ideal) ℓ) : Prop :=
  True

def Pre_DilMergeReferenceIdeal (m : (ℓ : Loc Cert.DilMergeReferenceIdeal.nD Cert.DilMergeReferenceIdeal.τ Cert.DilMergeReferenceIdeal.sig) → Buf (Elt Ideal) ℓ) : Prop :=
  True

def Pre_Rowdot (m : (ℓ : Loc Cert.Rowdot.nD Cert.Rowdot.τ Cert.Rowdot.sig) → Buf (Elt Bits) ℓ) : Prop :=
  True

def Pre_RowdotIdeal (m : (ℓ : Loc Cert.RowdotIdeal.nD Cert.RowdotIdeal.τ Cert.RowdotIdeal.sig) → Buf (Elt Ideal) ℓ) : Prop :=
  True

def Pre_RowdotReferenceIdeal (m : (ℓ : Loc Cert.RowdotReferenceIdeal.nD Cert.RowdotReferenceIdeal.τ Cert.RowdotReferenceIdeal.sig) → Buf (Elt Ideal) ℓ) : Prop :=
  True

def Pre_RpbGrad (m : (ℓ : Loc Cert.RpbGrad.nD Cert.RpbGrad.τ Cert.RpbGrad.sig) → Buf (Elt Bits) ℓ) : Prop :=
  True

def Pre_RpbGradIdeal (m : (ℓ : Loc Cert.RpbGradIdeal.nD Cert.RpbGradIdeal.τ Cert.RpbGradIdeal.sig) → Buf (Elt Ideal) ℓ) : Prop :=
  True

def Pre_RpbGradReferenceIdeal (m : (ℓ : Loc Cert.RpbGradReferenceIdeal.nD Cert.RpbGradReferenceIdeal.τ Cert.RpbGradReferenceIdeal.sig) → Buf (Elt Ideal) ℓ) : Prop :=
  True

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1)
      ∧ r.2.mem ((c.tc : Thread Cert.Gather.nD Cert.Gather.τ).loc Cert.Gather.main_arg2) = m ((c.tc : Thread Cert.Gather.nD Cert.Gather.τ).loc Cert.Gather.main_arg2)
      ∧ r.2.mem ((c.tc : Thread Cert.Gather.nD Cert.Gather.τ).loc Cert.Gather.main_arg3) = m ((c.tc : Thread Cert.Gather.nD Cert.Gather.τ).loc Cert.Gather.main_arg3)
      ∧ r.2.mem ((c.tc : Thread Cert.Gather.nD Cert.Gather.τ).loc Cert.Gather.main_arg4) = m ((c.tc : Thread Cert.Gather.nD Cert.Gather.τ).loc Cert.Gather.main_arg4)
      ∧ r.2.mem ((c.tc : Thread Cert.Gather.nD Cert.Gather.τ).loc Cert.Gather.main_arg5) = m ((c.tc : Thread Cert.Gather.nD Cert.Gather.τ).loc Cert.Gather.main_arg5)
      ∧ r.2.mem ((c.tc : Thread Cert.Gather.nD Cert.Gather.τ).loc Cert.Gather.main_arg6) = m ((c.tc : Thread Cert.Gather.nD Cert.Gather.τ).loc Cert.Gather.main_arg6))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
      ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
      ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3)
      ∧ r.2.mem ((c.tc : Thread Cert.GatherIdeal.nD Cert.GatherIdeal.τ).loc Cert.GatherIdeal.main_arg4) = m ((c.tc : Thread Cert.GatherIdeal.nD Cert.GatherIdeal.τ).loc Cert.GatherIdeal.main_arg4)
      ∧ r.2.mem ((c.tc : Thread Cert.GatherIdeal.nD Cert.GatherIdeal.τ).loc Cert.GatherIdeal.main_arg5) = m ((c.tc : Thread Cert.GatherIdeal.nD Cert.GatherIdeal.τ).loc Cert.GatherIdeal.main_arg5)
      ∧ r.2.mem ((c.tc : Thread Cert.GatherIdeal.nD Cert.GatherIdeal.τ).loc Cert.GatherIdeal.main_arg6) = m ((c.tc : Thread Cert.GatherIdeal.nD Cert.GatherIdeal.τ).loc Cert.GatherIdeal.main_arg6))
      ∧ r.2.sem = fun _ => 0)

def quiescent_GatherReferenceIdeal [hGatherReferenceIdeal : Cert.GatherReferenceIdeal.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0)
      ∧ r.2.mem ((c.tc : Thread Cert.GatherReferenceIdeal.nD Cert.GatherReferenceIdeal.τ).loc Cert.GatherReferenceIdeal.main_arg1) = m ((c.tc : Thread Cert.GatherReferenceIdeal.nD Cert.GatherReferenceIdeal.τ).loc Cert.GatherReferenceIdeal.main_arg1)
      ∧ r.2.mem ((c.tc : Thread Cert.GatherReferenceIdeal.nD Cert.GatherReferenceIdeal.τ).loc Cert.GatherReferenceIdeal.main_arg2) = m ((c.tc : Thread Cert.GatherReferenceIdeal.nD Cert.GatherReferenceIdeal.τ).loc Cert.GatherReferenceIdeal.main_arg2)
      ∧ r.2.mem ((c.tc : Thread Cert.GatherReferenceIdeal.nD Cert.GatherReferenceIdeal.τ).loc Cert.GatherReferenceIdeal.main_arg3) = m ((c.tc : Thread Cert.GatherReferenceIdeal.nD Cert.GatherReferenceIdeal.τ).loc Cert.GatherReferenceIdeal.main_arg3)
      ∧ r.2.mem ((c.tc : Thread Cert.GatherReferenceIdeal.nD Cert.GatherReferenceIdeal.τ).loc Cert.GatherReferenceIdeal.main_arg4) = m ((c.tc : Thread Cert.GatherReferenceIdeal.nD Cert.GatherReferenceIdeal.τ).loc Cert.GatherReferenceIdeal.main_arg4)
      ∧ r.2.mem ((c.tc : Thread Cert.GatherReferenceIdeal.nD Cert.GatherReferenceIdeal.τ).loc Cert.GatherReferenceIdeal.main_arg5) = m ((c.tc : Thread Cert.GatherReferenceIdeal.nD Cert.GatherReferenceIdeal.τ).loc Cert.GatherReferenceIdeal.main_arg5)
      ∧ r.2.mem ((c.tc : Thread Cert.GatherReferenceIdeal.nD Cert.GatherReferenceIdeal.τ).loc Cert.GatherReferenceIdeal.main_arg6) = m ((c.tc : Thread Cert.GatherReferenceIdeal.nD Cert.GatherReferenceIdeal.τ).loc Cert.GatherReferenceIdeal.main_arg6))
      ∧ r.2.sem = fun _ => 0)

def quiescent_GatherReference [hGatherReference : Cert.GatherReference.Facts] : Prop :=
  ∀ (m : (ℓ : Loc Cert.GatherReference.nD Cert.GatherReference.τ Cert.GatherReference.sig) → Buf (Elt Bits) ℓ) (g : Dev Cert.GatherReference.nD → PrngReg), Pre_GatherReference m →
    θ_run (Cert.GatherReference.defs (F := Bits)) (onTc (τ := Cert.GatherReference.τ) (Cert.GatherReference.main (F := Bits))) ⟨m, fun _ => 0, g⟩ (fun r => (∀ c : Dev Cert.GatherReference.nD,
      r.2.mem ((c.tc : Thread Cert.GatherReference.nD Cert.GatherReference.τ).loc Cert.GatherReference.main_arg0) = m ((c.tc : Thread Cert.GatherReference.nD Cert.GatherReference.τ).loc Cert.GatherReference.main_arg0)
      ∧ r.2.mem ((c.tc : Thread Cert.GatherReference.nD Cert.GatherReference.τ).loc Cert.GatherReference.main_arg1) = m ((c.tc : Thread Cert.GatherReference.nD Cert.GatherReference.τ).loc Cert.GatherReference.main_arg1)
      ∧ r.2.mem ((c.tc : Thread Cert.GatherReference.nD Cert.GatherReference.τ).loc Cert.GatherReference.main_arg2) = m ((c.tc : Thread Cert.GatherReference.nD Cert.GatherReference.τ).loc Cert.GatherReference.main_arg2)
      ∧ r.2.mem ((c.tc : Thread Cert.GatherReference.nD Cert.GatherReference.τ).loc Cert.GatherReference.main_arg3) = m ((c.tc : Thread Cert.GatherReference.nD Cert.GatherReference.τ).loc Cert.GatherReference.main_arg3)
      ∧ r.2.mem ((c.tc : Thread Cert.GatherReference.nD Cert.GatherReference.τ).loc Cert.GatherReference.main_arg4) = m ((c.tc : Thread Cert.GatherReference.nD Cert.GatherReference.τ).loc Cert.GatherReference.main_arg4)
      ∧ r.2.mem ((c.tc : Thread Cert.GatherReference.nD Cert.GatherReference.τ).loc Cert.GatherReference.main_arg5) = m ((c.tc : Thread Cert.GatherReference.nD Cert.GatherReference.τ).loc Cert.GatherReference.main_arg5)
      ∧ r.2.mem ((c.tc : Thread Cert.GatherReference.nD Cert.GatherReference.τ).loc Cert.GatherReference.main_arg6) = m ((c.tc : Thread Cert.GatherReference.nD Cert.GatherReference.τ).loc Cert.GatherReference.main_arg6))
      ∧ r.2.sem = fun _ => 0)

def quiescent_PairExchange [hPairExchange : Cert.PairExchange.Facts] : Prop :=
  ∀ (m : (ℓ : Loc Cert.PairExchange.nD Cert.PairExchange.τ Cert.PairExchange.sig) → Buf (Elt Bits) ℓ) (g : Dev Cert.PairExchange.nD → PrngReg), Pre_PairExchange m →
    θ_run (Cert.PairExchange.defs (F := Bits)) (onTc (τ := Cert.PairExchange.τ) (Cert.PairExchange.main (F := Bits))) ⟨m, fun _ => 0, g⟩ (fun r => (∀ c : Dev Cert.PairExchange.nD,
      r.2.mem ((c.tc : Thread Cert.PairExchange.nD Cert.PairExchange.τ).loc Cert.PairExchange.main_arg0) = m ((c.tc : Thread Cert.PairExchange.nD Cert.PairExchange.τ).loc Cert.PairExchange.main_arg0)
      ∧ r.2.mem ((c.tc : Thread Cert.PairExchange.nD Cert.PairExchange.τ).loc Cert.PairExchange.main_arg1) = m ((c.tc : Thread Cert.PairExchange.nD Cert.PairExchange.τ).loc Cert.PairExchange.main_arg1)
      ∧ r.2.mem ((c.tc : Thread Cert.PairExchange.nD Cert.PairExchange.τ).loc Cert.PairExchange.main_arg2) = m ((c.tc : Thread Cert.PairExchange.nD Cert.PairExchange.τ).loc Cert.PairExchange.main_arg2)
      ∧ r.2.mem ((c.tc : Thread Cert.PairExchange.nD Cert.PairExchange.τ).loc Cert.PairExchange.main_arg3) = m ((c.tc : Thread Cert.PairExchange.nD Cert.PairExchange.τ).loc Cert.PairExchange.main_arg3)
      ∧ r.2.mem ((c.tc : Thread Cert.PairExchange.nD Cert.PairExchange.τ).loc Cert.PairExchange.main_arg4) = m ((c.tc : Thread Cert.PairExchange.nD Cert.PairExchange.τ).loc Cert.PairExchange.main_arg4)
      ∧ r.2.mem ((c.tc : Thread Cert.PairExchange.nD Cert.PairExchange.τ).loc Cert.PairExchange.main_arg5) = m ((c.tc : Thread Cert.PairExchange.nD Cert.PairExchange.τ).loc Cert.PairExchange.main_arg5)
      ∧ r.2.mem ((c.tc : Thread Cert.PairExchange.nD Cert.PairExchange.τ).loc Cert.PairExchange.main_arg6) = m ((c.tc : Thread Cert.PairExchange.nD Cert.PairExchange.τ).loc Cert.PairExchange.main_arg6))
      ∧ r.2.sem = fun _ => 0)

def quiescent_PairExchangeIdeal [hPairExchangeIdeal : Cert.PairExchangeIdeal.Facts] : Prop :=
  ∀ (m : (ℓ : Loc Cert.PairExchangeIdeal.nD Cert.PairExchangeIdeal.τ Cert.PairExchangeIdeal.sig) → Buf (Elt Ideal) ℓ) (g : Dev Cert.PairExchangeIdeal.nD → PrngReg), Pre_PairExchangeIdeal m →
    θ_run (Cert.PairExchangeIdeal.defs (F := Ideal)) (onTc (τ := Cert.PairExchangeIdeal.τ) (Cert.PairExchangeIdeal.main (F := Ideal))) ⟨m, fun _ => 0, g⟩ (fun r => (∀ c : Dev Cert.PairExchangeIdeal.nD,
      r.2.mem ((c.tc : Thread Cert.PairExchangeIdeal.nD Cert.PairExchangeIdeal.τ).loc Cert.PairExchangeIdeal.main_arg0) = m ((c.tc : Thread Cert.PairExchangeIdeal.nD Cert.PairExchangeIdeal.τ).loc Cert.PairExchangeIdeal.main_arg0)
      ∧ r.2.mem ((c.tc : Thread Cert.PairExchangeIdeal.nD Cert.PairExchangeIdeal.τ).loc Cert.PairExchangeIdeal.main_arg1) = m ((c.tc : Thread Cert.PairExchangeIdeal.nD Cert.PairExchangeIdeal.τ).loc Cert.PairExchangeIdeal.main_arg1)
      ∧ r.2.mem ((c.tc : Thread Cert.PairExchangeIdeal.nD Cert.PairExchangeIdeal.τ).loc Cert.PairExchangeIdeal.main_arg2) = m ((c.tc : Thread Cert.PairExchangeIdeal.nD Cert.PairExchangeIdeal.τ).loc Cert.PairExchangeIdeal.main_arg2)
      ∧ r.2.mem ((c.tc : Thread Cert.PairExchangeIdeal.nD Cert.PairExchangeIdeal.τ).loc Cert.PairExchangeIdeal.main_arg3) = m ((c.tc : Thread Cert.PairExchangeIdeal.nD Cert.PairExchangeIdeal.τ).loc Cert.PairExchangeIdeal.main_arg3)
      ∧ r.2.mem ((c.tc : Thread Cert.PairExchangeIdeal.nD Cert.PairExchangeIdeal.τ).loc Cert.PairExchangeIdeal.main_arg4) = m ((c.tc : Thread Cert.PairExchangeIdeal.nD Cert.PairExchangeIdeal.τ).loc Cert.PairExchangeIdeal.main_arg4)
      ∧ r.2.mem ((c.tc : Thread Cert.PairExchangeIdeal.nD Cert.PairExchangeIdeal.τ).loc Cert.PairExchangeIdeal.main_arg5) = m ((c.tc : Thread Cert.PairExchangeIdeal.nD Cert.PairExchangeIdeal.τ).loc Cert.PairExchangeIdeal.main_arg5)
      ∧ r.2.mem ((c.tc : Thread Cert.PairExchangeIdeal.nD Cert.PairExchangeIdeal.τ).loc Cert.PairExchangeIdeal.main_arg6) = m ((c.tc : Thread Cert.PairExchangeIdeal.nD Cert.PairExchangeIdeal.τ).loc Cert.PairExchangeIdeal.main_arg6))
      ∧ r.2.sem = fun _ => 0)

def quiescent_PairExchangeReferenceIdeal [hPairExchangeReferenceIdeal : Cert.PairExchangeReferenceIdeal.Facts] : Prop :=
  ∀ (m : (ℓ : Loc Cert.PairExchangeReferenceIdeal.nD Cert.PairExchangeReferenceIdeal.τ Cert.PairExchangeReferenceIdeal.sig) → Buf (Elt Ideal) ℓ) (g : Dev Cert.PairExchangeReferenceIdeal.nD → PrngReg), Pre_PairExchangeReferenceIdeal m →
    θ_run (Cert.PairExchangeReferenceIdeal.defs (F := Ideal)) (onTc (τ := Cert.PairExchangeReferenceIdeal.τ) (Cert.PairExchangeReferenceIdeal.main (F := Ideal))) ⟨m, fun _ => 0, g⟩ (fun r => (∀ c : Dev Cert.PairExchangeReferenceIdeal.nD,
      r.2.mem ((c.tc : Thread Cert.PairExchangeReferenceIdeal.nD Cert.PairExchangeReferenceIdeal.τ).loc Cert.PairExchangeReferenceIdeal.main_arg0) = m ((c.tc : Thread Cert.PairExchangeReferenceIdeal.nD Cert.PairExchangeReferenceIdeal.τ).loc Cert.PairExchangeReferenceIdeal.main_arg0)
      ∧ r.2.mem ((c.tc : Thread Cert.PairExchangeReferenceIdeal.nD Cert.PairExchangeReferenceIdeal.τ).loc Cert.PairExchangeReferenceIdeal.main_arg1) = m ((c.tc : Thread Cert.PairExchangeReferenceIdeal.nD Cert.PairExchangeReferenceIdeal.τ).loc Cert.PairExchangeReferenceIdeal.main_arg1)
      ∧ r.2.mem ((c.tc : Thread Cert.PairExchangeReferenceIdeal.nD Cert.PairExchangeReferenceIdeal.τ).loc Cert.PairExchangeReferenceIdeal.main_arg2) = m ((c.tc : Thread Cert.PairExchangeReferenceIdeal.nD Cert.PairExchangeReferenceIdeal.τ).loc Cert.PairExchangeReferenceIdeal.main_arg2)
      ∧ r.2.mem ((c.tc : Thread Cert.PairExchangeReferenceIdeal.nD Cert.PairExchangeReferenceIdeal.τ).loc Cert.PairExchangeReferenceIdeal.main_arg3) = m ((c.tc : Thread Cert.PairExchangeReferenceIdeal.nD Cert.PairExchangeReferenceIdeal.τ).loc Cert.PairExchangeReferenceIdeal.main_arg3)
      ∧ r.2.mem ((c.tc : Thread Cert.PairExchangeReferenceIdeal.nD Cert.PairExchangeReferenceIdeal.τ).loc Cert.PairExchangeReferenceIdeal.main_arg4) = m ((c.tc : Thread Cert.PairExchangeReferenceIdeal.nD Cert.PairExchangeReferenceIdeal.τ).loc Cert.PairExchangeReferenceIdeal.main_arg4)
      ∧ r.2.mem ((c.tc : Thread Cert.PairExchangeReferenceIdeal.nD Cert.PairExchangeReferenceIdeal.τ).loc Cert.PairExchangeReferenceIdeal.main_arg5) = m ((c.tc : Thread Cert.PairExchangeReferenceIdeal.nD Cert.PairExchangeReferenceIdeal.τ).loc Cert.PairExchangeReferenceIdeal.main_arg5)
      ∧ r.2.mem ((c.tc : Thread Cert.PairExchangeReferenceIdeal.nD Cert.PairExchangeReferenceIdeal.τ).loc Cert.PairExchangeReferenceIdeal.main_arg6) = m ((c.tc : Thread Cert.PairExchangeReferenceIdeal.nD Cert.PairExchangeReferenceIdeal.τ).loc Cert.PairExchangeReferenceIdeal.main_arg6))
      ∧ r.2.sem = fun _ => 0)

def quiescent_PairExchangeReference [hPairExchangeReference : Cert.PairExchangeReference.Facts] : Prop :=
  ∀ (m : (ℓ : Loc Cert.PairExchangeReference.nD Cert.PairExchangeReference.τ Cert.PairExchangeReference.sig) → Buf (Elt Bits) ℓ) (g : Dev Cert.PairExchangeReference.nD → PrngReg), Pre_PairExchangeReference m →
    θ_run (Cert.PairExchangeReference.defs (F := Bits)) (onTc (τ := Cert.PairExchangeReference.τ) (Cert.PairExchangeReference.main (F := Bits))) ⟨m, fun _ => 0, g⟩ (fun r => (∀ c : Dev Cert.PairExchangeReference.nD,
      r.2.mem ((c.tc : Thread Cert.PairExchangeReference.nD Cert.PairExchangeReference.τ).loc Cert.PairExchangeReference.main_arg0) = m ((c.tc : Thread Cert.PairExchangeReference.nD Cert.PairExchangeReference.τ).loc Cert.PairExchangeReference.main_arg0)
      ∧ r.2.mem ((c.tc : Thread Cert.PairExchangeReference.nD Cert.PairExchangeReference.τ).loc Cert.PairExchangeReference.main_arg1) = m ((c.tc : Thread Cert.PairExchangeReference.nD Cert.PairExchangeReference.τ).loc Cert.PairExchangeReference.main_arg1)
      ∧ r.2.mem ((c.tc : Thread Cert.PairExchangeReference.nD Cert.PairExchangeReference.τ).loc Cert.PairExchangeReference.main_arg2) = m ((c.tc : Thread Cert.PairExchangeReference.nD Cert.PairExchangeReference.τ).loc Cert.PairExchangeReference.main_arg2)
      ∧ r.2.mem ((c.tc : Thread Cert.PairExchangeReference.nD Cert.PairExchangeReference.τ).loc Cert.PairExchangeReference.main_arg3) = m ((c.tc : Thread Cert.PairExchangeReference.nD Cert.PairExchangeReference.τ).loc Cert.PairExchangeReference.main_arg3)
      ∧ r.2.mem ((c.tc : Thread Cert.PairExchangeReference.nD Cert.PairExchangeReference.τ).loc Cert.PairExchangeReference.main_arg4) = m ((c.tc : Thread Cert.PairExchangeReference.nD Cert.PairExchangeReference.τ).loc Cert.PairExchangeReference.main_arg4)
      ∧ r.2.mem ((c.tc : Thread Cert.PairExchangeReference.nD Cert.PairExchangeReference.τ).loc Cert.PairExchangeReference.main_arg5) = m ((c.tc : Thread Cert.PairExchangeReference.nD Cert.PairExchangeReference.τ).loc Cert.PairExchangeReference.main_arg5)
      ∧ r.2.mem ((c.tc : Thread Cert.PairExchangeReference.nD Cert.PairExchangeReference.τ).loc Cert.PairExchangeReference.main_arg6) = m ((c.tc : Thread Cert.PairExchangeReference.nD Cert.PairExchangeReference.τ).loc Cert.PairExchangeReference.main_arg6))
      ∧ r.2.sem = fun _ => 0)

def quiescent_ChipExchange [hChipExchange : Cert.ChipExchange.Facts] : Prop :=
  ∀ (m : (ℓ : Loc Cert.ChipExchange.nD Cert.ChipExchange.τ Cert.ChipExchange.sig) → Buf (Elt Bits) ℓ) (g : Dev Cert.ChipExchange.nD → PrngReg), Pre_ChipExchange m →
    θ_run (Cert.ChipExchange.defs (F := Bits)) (onTc (τ := Cert.ChipExchange.τ) (Cert.ChipExchange.main (F := Bits))) ⟨m, fun _ => 0, g⟩ (fun r => (∀ c : Dev Cert.ChipExchange.nD,
      r.2.mem ((c.tc : Thread Cert.ChipExchange.nD Cert.ChipExchange.τ).loc Cert.ChipExchange.main_arg0) = m ((c.tc : Thread Cert.ChipExchange.nD Cert.ChipExchange.τ).loc Cert.ChipExchange.main_arg0)
      ∧ r.2.mem ((c.tc : Thread Cert.ChipExchange.nD Cert.ChipExchange.τ).loc Cert.ChipExchange.main_arg1) = m ((c.tc : Thread Cert.ChipExchange.nD Cert.ChipExchange.τ).loc Cert.ChipExchange.main_arg1)
      ∧ r.2.mem ((c.tc : Thread Cert.ChipExchange.nD Cert.ChipExchange.τ).loc Cert.ChipExchange.main_arg2) = m ((c.tc : Thread Cert.ChipExchange.nD Cert.ChipExchange.τ).loc Cert.ChipExchange.main_arg2)
      ∧ r.2.mem ((c.tc : Thread Cert.ChipExchange.nD Cert.ChipExchange.τ).loc Cert.ChipExchange.main_arg3) = m ((c.tc : Thread Cert.ChipExchange.nD Cert.ChipExchange.τ).loc Cert.ChipExchange.main_arg3)
      ∧ r.2.mem ((c.tc : Thread Cert.ChipExchange.nD Cert.ChipExchange.τ).loc Cert.ChipExchange.main_arg4) = m ((c.tc : Thread Cert.ChipExchange.nD Cert.ChipExchange.τ).loc Cert.ChipExchange.main_arg4)
      ∧ r.2.mem ((c.tc : Thread Cert.ChipExchange.nD Cert.ChipExchange.τ).loc Cert.ChipExchange.main_arg5) = m ((c.tc : Thread Cert.ChipExchange.nD Cert.ChipExchange.τ).loc Cert.ChipExchange.main_arg5)
      ∧ r.2.mem ((c.tc : Thread Cert.ChipExchange.nD Cert.ChipExchange.τ).loc Cert.ChipExchange.main_arg6) = m ((c.tc : Thread Cert.ChipExchange.nD Cert.ChipExchange.τ).loc Cert.ChipExchange.main_arg6))
      ∧ r.2.sem = fun _ => 0)

def quiescent_ChipExchangeIdeal [hChipExchangeIdeal : Cert.ChipExchangeIdeal.Facts] : Prop :=
  ∀ (m : (ℓ : Loc Cert.ChipExchangeIdeal.nD Cert.ChipExchangeIdeal.τ Cert.ChipExchangeIdeal.sig) → Buf (Elt Ideal) ℓ) (g : Dev Cert.ChipExchangeIdeal.nD → PrngReg), Pre_ChipExchangeIdeal m →
    θ_run (Cert.ChipExchangeIdeal.defs (F := Ideal)) (onTc (τ := Cert.ChipExchangeIdeal.τ) (Cert.ChipExchangeIdeal.main (F := Ideal))) ⟨m, fun _ => 0, g⟩ (fun r => (∀ c : Dev Cert.ChipExchangeIdeal.nD,
      r.2.mem ((c.tc : Thread Cert.ChipExchangeIdeal.nD Cert.ChipExchangeIdeal.τ).loc Cert.ChipExchangeIdeal.main_arg0) = m ((c.tc : Thread Cert.ChipExchangeIdeal.nD Cert.ChipExchangeIdeal.τ).loc Cert.ChipExchangeIdeal.main_arg0)
      ∧ r.2.mem ((c.tc : Thread Cert.ChipExchangeIdeal.nD Cert.ChipExchangeIdeal.τ).loc Cert.ChipExchangeIdeal.main_arg1) = m ((c.tc : Thread Cert.ChipExchangeIdeal.nD Cert.ChipExchangeIdeal.τ).loc Cert.ChipExchangeIdeal.main_arg1)
      ∧ r.2.mem ((c.tc : Thread Cert.ChipExchangeIdeal.nD Cert.ChipExchangeIdeal.τ).loc Cert.ChipExchangeIdeal.main_arg2) = m ((c.tc : Thread Cert.ChipExchangeIdeal.nD Cert.ChipExchangeIdeal.τ).loc Cert.ChipExchangeIdeal.main_arg2)
      ∧ r.2.mem ((c.tc : Thread Cert.ChipExchangeIdeal.nD Cert.ChipExchangeIdeal.τ).loc Cert.ChipExchangeIdeal.main_arg3) = m ((c.tc : Thread Cert.ChipExchangeIdeal.nD Cert.ChipExchangeIdeal.τ).loc Cert.ChipExchangeIdeal.main_arg3)
      ∧ r.2.mem ((c.tc : Thread Cert.ChipExchangeIdeal.nD Cert.ChipExchangeIdeal.τ).loc Cert.ChipExchangeIdeal.main_arg4) = m ((c.tc : Thread Cert.ChipExchangeIdeal.nD Cert.ChipExchangeIdeal.τ).loc Cert.ChipExchangeIdeal.main_arg4)
      ∧ r.2.mem ((c.tc : Thread Cert.ChipExchangeIdeal.nD Cert.ChipExchangeIdeal.τ).loc Cert.ChipExchangeIdeal.main_arg5) = m ((c.tc : Thread Cert.ChipExchangeIdeal.nD Cert.ChipExchangeIdeal.τ).loc Cert.ChipExchangeIdeal.main_arg5)
      ∧ r.2.mem ((c.tc : Thread Cert.ChipExchangeIdeal.nD Cert.ChipExchangeIdeal.τ).loc Cert.ChipExchangeIdeal.main_arg6) = m ((c.tc : Thread Cert.ChipExchangeIdeal.nD Cert.ChipExchangeIdeal.τ).loc Cert.ChipExchangeIdeal.main_arg6))
      ∧ r.2.sem = fun _ => 0)

def quiescent_ChipExchangeReferenceIdeal [hChipExchangeReferenceIdeal : Cert.ChipExchangeReferenceIdeal.Facts] : Prop :=
  ∀ (m : (ℓ : Loc Cert.ChipExchangeReferenceIdeal.nD Cert.ChipExchangeReferenceIdeal.τ Cert.ChipExchangeReferenceIdeal.sig) → Buf (Elt Ideal) ℓ) (g : Dev Cert.ChipExchangeReferenceIdeal.nD → PrngReg), Pre_ChipExchangeReferenceIdeal m →
    θ_run (Cert.ChipExchangeReferenceIdeal.defs (F := Ideal)) (onTc (τ := Cert.ChipExchangeReferenceIdeal.τ) (Cert.ChipExchangeReferenceIdeal.main (F := Ideal))) ⟨m, fun _ => 0, g⟩ (fun r => (∀ c : Dev Cert.ChipExchangeReferenceIdeal.nD,
      r.2.mem ((c.tc : Thread Cert.ChipExchangeReferenceIdeal.nD Cert.ChipExchangeReferenceIdeal.τ).loc Cert.ChipExchangeReferenceIdeal.main_arg0) = m ((c.tc : Thread Cert.ChipExchangeReferenceIdeal.nD Cert.ChipExchangeReferenceIdeal.τ).loc Cert.ChipExchangeReferenceIdeal.main_arg0)
      ∧ r.2.mem ((c.tc : Thread Cert.ChipExchangeReferenceIdeal.nD Cert.ChipExchangeReferenceIdeal.τ).loc Cert.ChipExchangeReferenceIdeal.main_arg1) = m ((c.tc : Thread Cert.ChipExchangeReferenceIdeal.nD Cert.ChipExchangeReferenceIdeal.τ).loc Cert.ChipExchangeReferenceIdeal.main_arg1)
      ∧ r.2.mem ((c.tc : Thread Cert.ChipExchangeReferenceIdeal.nD Cert.ChipExchangeReferenceIdeal.τ).loc Cert.ChipExchangeReferenceIdeal.main_arg2) = m ((c.tc : Thread Cert.ChipExchangeReferenceIdeal.nD Cert.ChipExchangeReferenceIdeal.τ).loc Cert.ChipExchangeReferenceIdeal.main_arg2)
      ∧ r.2.mem ((c.tc : Thread Cert.ChipExchangeReferenceIdeal.nD Cert.ChipExchangeReferenceIdeal.τ).loc Cert.ChipExchangeReferenceIdeal.main_arg3) = m ((c.tc : Thread Cert.ChipExchangeReferenceIdeal.nD Cert.ChipExchangeReferenceIdeal.τ).loc Cert.ChipExchangeReferenceIdeal.main_arg3)
      ∧ r.2.mem ((c.tc : Thread Cert.ChipExchangeReferenceIdeal.nD Cert.ChipExchangeReferenceIdeal.τ).loc Cert.ChipExchangeReferenceIdeal.main_arg4) = m ((c.tc : Thread Cert.ChipExchangeReferenceIdeal.nD Cert.ChipExchangeReferenceIdeal.τ).loc Cert.ChipExchangeReferenceIdeal.main_arg4)
      ∧ r.2.mem ((c.tc : Thread Cert.ChipExchangeReferenceIdeal.nD Cert.ChipExchangeReferenceIdeal.τ).loc Cert.ChipExchangeReferenceIdeal.main_arg5) = m ((c.tc : Thread Cert.ChipExchangeReferenceIdeal.nD Cert.ChipExchangeReferenceIdeal.τ).loc Cert.ChipExchangeReferenceIdeal.main_arg5)
      ∧ r.2.mem ((c.tc : Thread Cert.ChipExchangeReferenceIdeal.nD Cert.ChipExchangeReferenceIdeal.τ).loc Cert.ChipExchangeReferenceIdeal.main_arg6) = m ((c.tc : Thread Cert.ChipExchangeReferenceIdeal.nD Cert.ChipExchangeReferenceIdeal.τ).loc Cert.ChipExchangeReferenceIdeal.main_arg6))
      ∧ r.2.sem = fun _ => 0)

def quiescent_ChipExchangeReference [hChipExchangeReference : Cert.ChipExchangeReference.Facts] : Prop :=
  ∀ (m : (ℓ : Loc Cert.ChipExchangeReference.nD Cert.ChipExchangeReference.τ Cert.ChipExchangeReference.sig) → Buf (Elt Bits) ℓ) (g : Dev Cert.ChipExchangeReference.nD → PrngReg), Pre_ChipExchangeReference m →
    θ_run (Cert.ChipExchangeReference.defs (F := Bits)) (onTc (τ := Cert.ChipExchangeReference.τ) (Cert.ChipExchangeReference.main (F := Bits))) ⟨m, fun _ => 0, g⟩ (fun r => (∀ c : Dev Cert.ChipExchangeReference.nD,
      r.2.mem ((c.tc : Thread Cert.ChipExchangeReference.nD Cert.ChipExchangeReference.τ).loc Cert.ChipExchangeReference.main_arg0) = m ((c.tc : Thread Cert.ChipExchangeReference.nD Cert.ChipExchangeReference.τ).loc Cert.ChipExchangeReference.main_arg0)
      ∧ r.2.mem ((c.tc : Thread Cert.ChipExchangeReference.nD Cert.ChipExchangeReference.τ).loc Cert.ChipExchangeReference.main_arg1) = m ((c.tc : Thread Cert.ChipExchangeReference.nD Cert.ChipExchangeReference.τ).loc Cert.ChipExchangeReference.main_arg1)
      ∧ r.2.mem ((c.tc : Thread Cert.ChipExchangeReference.nD Cert.ChipExchangeReference.τ).loc Cert.ChipExchangeReference.main_arg2) = m ((c.tc : Thread Cert.ChipExchangeReference.nD Cert.ChipExchangeReference.τ).loc Cert.ChipExchangeReference.main_arg2)
      ∧ r.2.mem ((c.tc : Thread Cert.ChipExchangeReference.nD Cert.ChipExchangeReference.τ).loc Cert.ChipExchangeReference.main_arg3) = m ((c.tc : Thread Cert.ChipExchangeReference.nD Cert.ChipExchangeReference.τ).loc Cert.ChipExchangeReference.main_arg3)
      ∧ r.2.mem ((c.tc : Thread Cert.ChipExchangeReference.nD Cert.ChipExchangeReference.τ).loc Cert.ChipExchangeReference.main_arg4) = m ((c.tc : Thread Cert.ChipExchangeReference.nD Cert.ChipExchangeReference.τ).loc Cert.ChipExchangeReference.main_arg4)
      ∧ r.2.mem ((c.tc : Thread Cert.ChipExchangeReference.nD Cert.ChipExchangeReference.τ).loc Cert.ChipExchangeReference.main_arg5) = m ((c.tc : Thread Cert.ChipExchangeReference.nD Cert.ChipExchangeReference.τ).loc Cert.ChipExchangeReference.main_arg5)
      ∧ r.2.mem ((c.tc : Thread Cert.ChipExchangeReference.nD Cert.ChipExchangeReference.τ).loc Cert.ChipExchangeReference.main_arg6) = m ((c.tc : Thread Cert.ChipExchangeReference.nD Cert.ChipExchangeReference.τ).loc Cert.ChipExchangeReference.main_arg6))
      ∧ r.2.sem = fun _ => 0)

def quiescent_PairShare [hPairShare : Cert.PairShare.Facts] : Prop :=
  ∀ (m : (ℓ : Loc Cert.PairShare.nD Cert.PairShare.τ Cert.PairShare.sig) → Buf (Elt Bits) ℓ) (g : Dev Cert.PairShare.nD → PrngReg), Pre_PairShare m →
    θ_run (Cert.PairShare.defs (F := Bits)) (onTc (τ := Cert.PairShare.τ) (Cert.PairShare.main (F := Bits))) ⟨m, fun _ => 0, g⟩ (fun r => (∀ c : Dev Cert.PairShare.nD,
      r.2.mem ((c.tc : Thread Cert.PairShare.nD Cert.PairShare.τ).loc Cert.PairShare.main_arg0) = m ((c.tc : Thread Cert.PairShare.nD Cert.PairShare.τ).loc Cert.PairShare.main_arg0)
      ∧ r.2.mem ((c.tc : Thread Cert.PairShare.nD Cert.PairShare.τ).loc Cert.PairShare.main_arg1) = m ((c.tc : Thread Cert.PairShare.nD Cert.PairShare.τ).loc Cert.PairShare.main_arg1)
      ∧ r.2.mem ((c.tc : Thread Cert.PairShare.nD Cert.PairShare.τ).loc Cert.PairShare.main_arg2) = m ((c.tc : Thread Cert.PairShare.nD Cert.PairShare.τ).loc Cert.PairShare.main_arg2)
      ∧ r.2.mem ((c.tc : Thread Cert.PairShare.nD Cert.PairShare.τ).loc Cert.PairShare.main_arg3) = m ((c.tc : Thread Cert.PairShare.nD Cert.PairShare.τ).loc Cert.PairShare.main_arg3)
      ∧ r.2.mem ((c.tc : Thread Cert.PairShare.nD Cert.PairShare.τ).loc Cert.PairShare.main_arg4) = m ((c.tc : Thread Cert.PairShare.nD Cert.PairShare.τ).loc Cert.PairShare.main_arg4)
      ∧ r.2.mem ((c.tc : Thread Cert.PairShare.nD Cert.PairShare.τ).loc Cert.PairShare.main_arg5) = m ((c.tc : Thread Cert.PairShare.nD Cert.PairShare.τ).loc Cert.PairShare.main_arg5)
      ∧ r.2.mem ((c.tc : Thread Cert.PairShare.nD Cert.PairShare.τ).loc Cert.PairShare.main_arg6) = m ((c.tc : Thread Cert.PairShare.nD Cert.PairShare.τ).loc Cert.PairShare.main_arg6))
      ∧ r.2.sem = fun _ => 0)

def quiescent_PairShareIdeal [hPairShareIdeal : Cert.PairShareIdeal.Facts] : Prop :=
  ∀ (m : (ℓ : Loc Cert.PairShareIdeal.nD Cert.PairShareIdeal.τ Cert.PairShareIdeal.sig) → Buf (Elt Ideal) ℓ) (g : Dev Cert.PairShareIdeal.nD → PrngReg), Pre_PairShareIdeal m →
    θ_run (Cert.PairShareIdeal.defs (F := Ideal)) (onTc (τ := Cert.PairShareIdeal.τ) (Cert.PairShareIdeal.main (F := Ideal))) ⟨m, fun _ => 0, g⟩ (fun r => (∀ c : Dev Cert.PairShareIdeal.nD,
      r.2.mem ((c.tc : Thread Cert.PairShareIdeal.nD Cert.PairShareIdeal.τ).loc Cert.PairShareIdeal.main_arg0) = m ((c.tc : Thread Cert.PairShareIdeal.nD Cert.PairShareIdeal.τ).loc Cert.PairShareIdeal.main_arg0)
      ∧ r.2.mem ((c.tc : Thread Cert.PairShareIdeal.nD Cert.PairShareIdeal.τ).loc Cert.PairShareIdeal.main_arg1) = m ((c.tc : Thread Cert.PairShareIdeal.nD Cert.PairShareIdeal.τ).loc Cert.PairShareIdeal.main_arg1)
      ∧ r.2.mem ((c.tc : Thread Cert.PairShareIdeal.nD Cert.PairShareIdeal.τ).loc Cert.PairShareIdeal.main_arg2) = m ((c.tc : Thread Cert.PairShareIdeal.nD Cert.PairShareIdeal.τ).loc Cert.PairShareIdeal.main_arg2)
      ∧ r.2.mem ((c.tc : Thread Cert.PairShareIdeal.nD Cert.PairShareIdeal.τ).loc Cert.PairShareIdeal.main_arg3) = m ((c.tc : Thread Cert.PairShareIdeal.nD Cert.PairShareIdeal.τ).loc Cert.PairShareIdeal.main_arg3)
      ∧ r.2.mem ((c.tc : Thread Cert.PairShareIdeal.nD Cert.PairShareIdeal.τ).loc Cert.PairShareIdeal.main_arg4) = m ((c.tc : Thread Cert.PairShareIdeal.nD Cert.PairShareIdeal.τ).loc Cert.PairShareIdeal.main_arg4)
      ∧ r.2.mem ((c.tc : Thread Cert.PairShareIdeal.nD Cert.PairShareIdeal.τ).loc Cert.PairShareIdeal.main_arg5) = m ((c.tc : Thread Cert.PairShareIdeal.nD Cert.PairShareIdeal.τ).loc Cert.PairShareIdeal.main_arg5)
      ∧ r.2.mem ((c.tc : Thread Cert.PairShareIdeal.nD Cert.PairShareIdeal.τ).loc Cert.PairShareIdeal.main_arg6) = m ((c.tc : Thread Cert.PairShareIdeal.nD Cert.PairShareIdeal.τ).loc Cert.PairShareIdeal.main_arg6))
      ∧ r.2.sem = fun _ => 0)

def quiescent_PairShareReferenceIdeal [hPairShareReferenceIdeal : Cert.PairShareReferenceIdeal.Facts] : Prop :=
  ∀ (m : (ℓ : Loc Cert.PairShareReferenceIdeal.nD Cert.PairShareReferenceIdeal.τ Cert.PairShareReferenceIdeal.sig) → Buf (Elt Ideal) ℓ) (g : Dev Cert.PairShareReferenceIdeal.nD → PrngReg), Pre_PairShareReferenceIdeal m →
    θ_run (Cert.PairShareReferenceIdeal.defs (F := Ideal)) (onTc (τ := Cert.PairShareReferenceIdeal.τ) (Cert.PairShareReferenceIdeal.main (F := Ideal))) ⟨m, fun _ => 0, g⟩ (fun r => (∀ c : Dev Cert.PairShareReferenceIdeal.nD,
      r.2.mem ((c.tc : Thread Cert.PairShareReferenceIdeal.nD Cert.PairShareReferenceIdeal.τ).loc Cert.PairShareReferenceIdeal.main_arg0) = m ((c.tc : Thread Cert.PairShareReferenceIdeal.nD Cert.PairShareReferenceIdeal.τ).loc Cert.PairShareReferenceIdeal.main_arg0)
      ∧ r.2.mem ((c.tc : Thread Cert.PairShareReferenceIdeal.nD Cert.PairShareReferenceIdeal.τ).loc Cert.PairShareReferenceIdeal.main_arg1) = m ((c.tc : Thread Cert.PairShareReferenceIdeal.nD Cert.PairShareReferenceIdeal.τ).loc Cert.PairShareReferenceIdeal.main_arg1)
      ∧ r.2.mem ((c.tc : Thread Cert.PairShareReferenceIdeal.nD Cert.PairShareReferenceIdeal.τ).loc Cert.PairShareReferenceIdeal.main_arg2) = m ((c.tc : Thread Cert.PairShareReferenceIdeal.nD Cert.PairShareReferenceIdeal.τ).loc Cert.PairShareReferenceIdeal.main_arg2)
      ∧ r.2.mem ((c.tc : Thread Cert.PairShareReferenceIdeal.nD Cert.PairShareReferenceIdeal.τ).loc Cert.PairShareReferenceIdeal.main_arg3) = m ((c.tc : Thread Cert.PairShareReferenceIdeal.nD Cert.PairShareReferenceIdeal.τ).loc Cert.PairShareReferenceIdeal.main_arg3)
      ∧ r.2.mem ((c.tc : Thread Cert.PairShareReferenceIdeal.nD Cert.PairShareReferenceIdeal.τ).loc Cert.PairShareReferenceIdeal.main_arg4) = m ((c.tc : Thread Cert.PairShareReferenceIdeal.nD Cert.PairShareReferenceIdeal.τ).loc Cert.PairShareReferenceIdeal.main_arg4)
      ∧ r.2.mem ((c.tc : Thread Cert.PairShareReferenceIdeal.nD Cert.PairShareReferenceIdeal.τ).loc Cert.PairShareReferenceIdeal.main_arg5) = m ((c.tc : Thread Cert.PairShareReferenceIdeal.nD Cert.PairShareReferenceIdeal.τ).loc Cert.PairShareReferenceIdeal.main_arg5)
      ∧ r.2.mem ((c.tc : Thread Cert.PairShareReferenceIdeal.nD Cert.PairShareReferenceIdeal.τ).loc Cert.PairShareReferenceIdeal.main_arg6) = m ((c.tc : Thread Cert.PairShareReferenceIdeal.nD Cert.PairShareReferenceIdeal.τ).loc Cert.PairShareReferenceIdeal.main_arg6))
      ∧ r.2.sem = fun _ => 0)

def quiescent_PairShareReference [hPairShareReference : Cert.PairShareReference.Facts] : Prop :=
  ∀ (m : (ℓ : Loc Cert.PairShareReference.nD Cert.PairShareReference.τ Cert.PairShareReference.sig) → Buf (Elt Bits) ℓ) (g : Dev Cert.PairShareReference.nD → PrngReg), Pre_PairShareReference m →
    θ_run (Cert.PairShareReference.defs (F := Bits)) (onTc (τ := Cert.PairShareReference.τ) (Cert.PairShareReference.main (F := Bits))) ⟨m, fun _ => 0, g⟩ (fun r => (∀ c : Dev Cert.PairShareReference.nD,
      r.2.mem ((c.tc : Thread Cert.PairShareReference.nD Cert.PairShareReference.τ).loc Cert.PairShareReference.main_arg0) = m ((c.tc : Thread Cert.PairShareReference.nD Cert.PairShareReference.τ).loc Cert.PairShareReference.main_arg0)
      ∧ r.2.mem ((c.tc : Thread Cert.PairShareReference.nD Cert.PairShareReference.τ).loc Cert.PairShareReference.main_arg1) = m ((c.tc : Thread Cert.PairShareReference.nD Cert.PairShareReference.τ).loc Cert.PairShareReference.main_arg1)
      ∧ r.2.mem ((c.tc : Thread Cert.PairShareReference.nD Cert.PairShareReference.τ).loc Cert.PairShareReference.main_arg2) = m ((c.tc : Thread Cert.PairShareReference.nD Cert.PairShareReference.τ).loc Cert.PairShareReference.main_arg2)
      ∧ r.2.mem ((c.tc : Thread Cert.PairShareReference.nD Cert.PairShareReference.τ).loc Cert.PairShareReference.main_arg3) = m ((c.tc : Thread Cert.PairShareReference.nD Cert.PairShareReference.τ).loc Cert.PairShareReference.main_arg3)
      ∧ r.2.mem ((c.tc : Thread Cert.PairShareReference.nD Cert.PairShareReference.τ).loc Cert.PairShareReference.main_arg4) = m ((c.tc : Thread Cert.PairShareReference.nD Cert.PairShareReference.τ).loc Cert.PairShareReference.main_arg4)
      ∧ r.2.mem ((c.tc : Thread Cert.PairShareReference.nD Cert.PairShareReference.τ).loc Cert.PairShareReference.main_arg5) = m ((c.tc : Thread Cert.PairShareReference.nD Cert.PairShareReference.τ).loc Cert.PairShareReference.main_arg5)
      ∧ r.2.mem ((c.tc : Thread Cert.PairShareReference.nD Cert.PairShareReference.τ).loc Cert.PairShareReference.main_arg6) = m ((c.tc : Thread Cert.PairShareReference.nD Cert.PairShareReference.τ).loc Cert.PairShareReference.main_arg6))
      ∧ r.2.sem = fun _ => 0)

def quiescent_PairSumNaQkv [hPairSumNaQkv : Cert.PairSumNaQkv.Facts] : Prop :=
  ∀ (m : (ℓ : Loc Cert.PairSumNaQkv.nD Cert.PairSumNaQkv.τ Cert.PairSumNaQkv.sig) → Buf (Elt Bits) ℓ) (g : Dev Cert.PairSumNaQkv.nD → PrngReg), Pre_PairSumNaQkv m →
    θ_run (Cert.PairSumNaQkv.defs (F := Bits)) (onTc (τ := Cert.PairSumNaQkv.τ) (Cert.PairSumNaQkv.main (F := Bits))) ⟨m, fun _ => 0, g⟩ (fun r => (∀ c : Dev Cert.PairSumNaQkv.nD,
      r.2.mem ((c.tc : Thread Cert.PairSumNaQkv.nD Cert.PairSumNaQkv.τ).loc Cert.PairSumNaQkv.main_arg0) = m ((c.tc : Thread Cert.PairSumNaQkv.nD Cert.PairSumNaQkv.τ).loc Cert.PairSumNaQkv.main_arg0)
      ∧ r.2.mem ((c.tc : Thread Cert.PairSumNaQkv.nD Cert.PairSumNaQkv.τ).loc Cert.PairSumNaQkv.main_arg1) = m ((c.tc : Thread Cert.PairSumNaQkv.nD Cert.PairSumNaQkv.τ).loc Cert.PairSumNaQkv.main_arg1))
      ∧ r.2.sem = fun _ => 0)

def quiescent_PairSumNaQkvIdeal [hPairSumNaQkvIdeal : Cert.PairSumNaQkvIdeal.Facts] : Prop :=
  ∀ (m : (ℓ : Loc Cert.PairSumNaQkvIdeal.nD Cert.PairSumNaQkvIdeal.τ Cert.PairSumNaQkvIdeal.sig) → Buf (Elt Ideal) ℓ) (g : Dev Cert.PairSumNaQkvIdeal.nD → PrngReg), Pre_PairSumNaQkvIdeal m →
    θ_run (Cert.PairSumNaQkvIdeal.defs (F := Ideal)) (onTc (τ := Cert.PairSumNaQkvIdeal.τ) (Cert.PairSumNaQkvIdeal.main (F := Ideal))) ⟨m, fun _ => 0, g⟩ (fun r => (∀ c : Dev Cert.PairSumNaQkvIdeal.nD,
      r.2.mem ((c.tc : Thread Cert.PairSumNaQkvIdeal.nD Cert.PairSumNaQkvIdeal.τ).loc Cert.PairSumNaQkvIdeal.main_arg0) = m ((c.tc : Thread Cert.PairSumNaQkvIdeal.nD Cert.PairSumNaQkvIdeal.τ).loc Cert.PairSumNaQkvIdeal.main_arg0)
      ∧ r.2.mem ((c.tc : Thread Cert.PairSumNaQkvIdeal.nD Cert.PairSumNaQkvIdeal.τ).loc Cert.PairSumNaQkvIdeal.main_arg1) = m ((c.tc : Thread Cert.PairSumNaQkvIdeal.nD Cert.PairSumNaQkvIdeal.τ).loc Cert.PairSumNaQkvIdeal.main_arg1))
      ∧ r.2.sem = fun _ => 0)

def quiescent_PairSumNaQkvReferenceIdeal [hPairSumNaQkvReferenceIdeal : Cert.PairSumNaQkvReferenceIdeal.Facts] : Prop :=
  ∀ (m : (ℓ : Loc Cert.PairSumNaQkvReferenceIdeal.nD Cert.PairSumNaQkvReferenceIdeal.τ Cert.PairSumNaQkvReferenceIdeal.sig) → Buf (Elt Ideal) ℓ) (g : Dev Cert.PairSumNaQkvReferenceIdeal.nD → PrngReg), Pre_PairSumNaQkvReferenceIdeal m →
    θ_run (Cert.PairSumNaQkvReferenceIdeal.defs (F := Ideal)) (onTc (τ := Cert.PairSumNaQkvReferenceIdeal.τ) (Cert.PairSumNaQkvReferenceIdeal.main (F := Ideal))) ⟨m, fun _ => 0, g⟩ (fun r => (∀ c : Dev Cert.PairSumNaQkvReferenceIdeal.nD,
      r.2.mem ((c.tc : Thread Cert.PairSumNaQkvReferenceIdeal.nD Cert.PairSumNaQkvReferenceIdeal.τ).loc Cert.PairSumNaQkvReferenceIdeal.main_arg0) = m ((c.tc : Thread Cert.PairSumNaQkvReferenceIdeal.nD Cert.PairSumNaQkvReferenceIdeal.τ).loc Cert.PairSumNaQkvReferenceIdeal.main_arg0)
      ∧ r.2.mem ((c.tc : Thread Cert.PairSumNaQkvReferenceIdeal.nD Cert.PairSumNaQkvReferenceIdeal.τ).loc Cert.PairSumNaQkvReferenceIdeal.main_arg1) = m ((c.tc : Thread Cert.PairSumNaQkvReferenceIdeal.nD Cert.PairSumNaQkvReferenceIdeal.τ).loc Cert.PairSumNaQkvReferenceIdeal.main_arg1))
      ∧ r.2.sem = fun _ => 0)

def quiescent_PairSumNaQkvReference [hPairSumNaQkvReference : Cert.PairSumNaQkvReference.Facts] : Prop :=
  ∀ (m : (ℓ : Loc Cert.PairSumNaQkvReference.nD Cert.PairSumNaQkvReference.τ Cert.PairSumNaQkvReference.sig) → Buf (Elt Bits) ℓ) (g : Dev Cert.PairSumNaQkvReference.nD → PrngReg), Pre_PairSumNaQkvReference m →
    θ_run (Cert.PairSumNaQkvReference.defs (F := Bits)) (onTc (τ := Cert.PairSumNaQkvReference.τ) (Cert.PairSumNaQkvReference.main (F := Bits))) ⟨m, fun _ => 0, g⟩ (fun r => (∀ c : Dev Cert.PairSumNaQkvReference.nD,
      r.2.mem ((c.tc : Thread Cert.PairSumNaQkvReference.nD Cert.PairSumNaQkvReference.τ).loc Cert.PairSumNaQkvReference.main_arg0) = m ((c.tc : Thread Cert.PairSumNaQkvReference.nD Cert.PairSumNaQkvReference.τ).loc Cert.PairSumNaQkvReference.main_arg0)
      ∧ r.2.mem ((c.tc : Thread Cert.PairSumNaQkvReference.nD Cert.PairSumNaQkvReference.τ).loc Cert.PairSumNaQkvReference.main_arg1) = m ((c.tc : Thread Cert.PairSumNaQkvReference.nD Cert.PairSumNaQkvReference.τ).loc Cert.PairSumNaQkvReference.main_arg1))
      ∧ r.2.sem = fun _ => 0)

def quiescent_PairSumOut [hPairSumOut : Cert.PairSumOut.Facts] : Prop :=
  ∀ (m : (ℓ : Loc Cert.PairSumOut.nD Cert.PairSumOut.τ Cert.PairSumOut.sig) → Buf (Elt Bits) ℓ) (g : Dev Cert.PairSumOut.nD → PrngReg), Pre_PairSumOut m →
    θ_run (Cert.PairSumOut.defs (F := Bits)) (onTc (τ := Cert.PairSumOut.τ) (Cert.PairSumOut.main (F := Bits))) ⟨m, fun _ => 0, g⟩ (fun r => (∀ c : Dev Cert.PairSumOut.nD,
      r.2.mem ((c.tc : Thread Cert.PairSumOut.nD Cert.PairSumOut.τ).loc Cert.PairSumOut.main_arg0) = m ((c.tc : Thread Cert.PairSumOut.nD Cert.PairSumOut.τ).loc Cert.PairSumOut.main_arg0)
      ∧ r.2.mem ((c.tc : Thread Cert.PairSumOut.nD Cert.PairSumOut.τ).loc Cert.PairSumOut.main_arg1) = m ((c.tc : Thread Cert.PairSumOut.nD Cert.PairSumOut.τ).loc Cert.PairSumOut.main_arg1))
      ∧ r.2.sem = fun _ => 0)

def quiescent_PairSumOutIdeal [hPairSumOutIdeal : Cert.PairSumOutIdeal.Facts] : Prop :=
  ∀ (m : (ℓ : Loc Cert.PairSumOutIdeal.nD Cert.PairSumOutIdeal.τ Cert.PairSumOutIdeal.sig) → Buf (Elt Ideal) ℓ) (g : Dev Cert.PairSumOutIdeal.nD → PrngReg), Pre_PairSumOutIdeal m →
    θ_run (Cert.PairSumOutIdeal.defs (F := Ideal)) (onTc (τ := Cert.PairSumOutIdeal.τ) (Cert.PairSumOutIdeal.main (F := Ideal))) ⟨m, fun _ => 0, g⟩ (fun r => (∀ c : Dev Cert.PairSumOutIdeal.nD,
      r.2.mem ((c.tc : Thread Cert.PairSumOutIdeal.nD Cert.PairSumOutIdeal.τ).loc Cert.PairSumOutIdeal.main_arg0) = m ((c.tc : Thread Cert.PairSumOutIdeal.nD Cert.PairSumOutIdeal.τ).loc Cert.PairSumOutIdeal.main_arg0)
      ∧ r.2.mem ((c.tc : Thread Cert.PairSumOutIdeal.nD Cert.PairSumOutIdeal.τ).loc Cert.PairSumOutIdeal.main_arg1) = m ((c.tc : Thread Cert.PairSumOutIdeal.nD Cert.PairSumOutIdeal.τ).loc Cert.PairSumOutIdeal.main_arg1))
      ∧ r.2.sem = fun _ => 0)

def quiescent_PairSumOutReferenceIdeal [hPairSumOutReferenceIdeal : Cert.PairSumOutReferenceIdeal.Facts] : Prop :=
  ∀ (m : (ℓ : Loc Cert.PairSumOutReferenceIdeal.nD Cert.PairSumOutReferenceIdeal.τ Cert.PairSumOutReferenceIdeal.sig) → Buf (Elt Ideal) ℓ) (g : Dev Cert.PairSumOutReferenceIdeal.nD → PrngReg), Pre_PairSumOutReferenceIdeal m →
    θ_run (Cert.PairSumOutReferenceIdeal.defs (F := Ideal)) (onTc (τ := Cert.PairSumOutReferenceIdeal.τ) (Cert.PairSumOutReferenceIdeal.main (F := Ideal))) ⟨m, fun _ => 0, g⟩ (fun r => (∀ c : Dev Cert.PairSumOutReferenceIdeal.nD,
      r.2.mem ((c.tc : Thread Cert.PairSumOutReferenceIdeal.nD Cert.PairSumOutReferenceIdeal.τ).loc Cert.PairSumOutReferenceIdeal.main_arg0) = m ((c.tc : Thread Cert.PairSumOutReferenceIdeal.nD Cert.PairSumOutReferenceIdeal.τ).loc Cert.PairSumOutReferenceIdeal.main_arg0)
      ∧ r.2.mem ((c.tc : Thread Cert.PairSumOutReferenceIdeal.nD Cert.PairSumOutReferenceIdeal.τ).loc Cert.PairSumOutReferenceIdeal.main_arg1) = m ((c.tc : Thread Cert.PairSumOutReferenceIdeal.nD Cert.PairSumOutReferenceIdeal.τ).loc Cert.PairSumOutReferenceIdeal.main_arg1))
      ∧ r.2.sem = fun _ => 0)

def quiescent_PairSumOutReference [hPairSumOutReference : Cert.PairSumOutReference.Facts] : Prop :=
  ∀ (m : (ℓ : Loc Cert.PairSumOutReference.nD Cert.PairSumOutReference.τ Cert.PairSumOutReference.sig) → Buf (Elt Bits) ℓ) (g : Dev Cert.PairSumOutReference.nD → PrngReg), Pre_PairSumOutReference m →
    θ_run (Cert.PairSumOutReference.defs (F := Bits)) (onTc (τ := Cert.PairSumOutReference.τ) (Cert.PairSumOutReference.main (F := Bits))) ⟨m, fun _ => 0, g⟩ (fun r => (∀ c : Dev Cert.PairSumOutReference.nD,
      r.2.mem ((c.tc : Thread Cert.PairSumOutReference.nD Cert.PairSumOutReference.τ).loc Cert.PairSumOutReference.main_arg0) = m ((c.tc : Thread Cert.PairSumOutReference.nD Cert.PairSumOutReference.τ).loc Cert.PairSumOutReference.main_arg0)
      ∧ r.2.mem ((c.tc : Thread Cert.PairSumOutReference.nD Cert.PairSumOutReference.τ).loc Cert.PairSumOutReference.main_arg1) = m ((c.tc : Thread Cert.PairSumOutReference.nD Cert.PairSumOutReference.τ).loc Cert.PairSumOutReference.main_arg1))
      ∧ r.2.sem = fun _ => 0)

def quiescent_PairSumFfn [hPairSumFfn : Cert.PairSumFfn.Facts] : Prop :=
  ∀ (m : (ℓ : Loc Cert.PairSumFfn.nD Cert.PairSumFfn.τ Cert.PairSumFfn.sig) → Buf (Elt Bits) ℓ) (g : Dev Cert.PairSumFfn.nD → PrngReg), Pre_PairSumFfn m →
    θ_run (Cert.PairSumFfn.defs (F := Bits)) (onTc (τ := Cert.PairSumFfn.τ) (Cert.PairSumFfn.main (F := Bits))) ⟨m, fun _ => 0, g⟩ (fun r => (∀ c : Dev Cert.PairSumFfn.nD,
      r.2.mem ((c.tc : Thread Cert.PairSumFfn.nD Cert.PairSumFfn.τ).loc Cert.PairSumFfn.main_arg0) = m ((c.tc : Thread Cert.PairSumFfn.nD Cert.PairSumFfn.τ).loc Cert.PairSumFfn.main_arg0)
      ∧ r.2.mem ((c.tc : Thread Cert.PairSumFfn.nD Cert.PairSumFfn.τ).loc Cert.PairSumFfn.main_arg1) = m ((c.tc : Thread Cert.PairSumFfn.nD Cert.PairSumFfn.τ).loc Cert.PairSumFfn.main_arg1))
      ∧ r.2.sem = fun _ => 0)

def quiescent_PairSumFfnIdeal [hPairSumFfnIdeal : Cert.PairSumFfnIdeal.Facts] : Prop :=
  ∀ (m : (ℓ : Loc Cert.PairSumFfnIdeal.nD Cert.PairSumFfnIdeal.τ Cert.PairSumFfnIdeal.sig) → Buf (Elt Ideal) ℓ) (g : Dev Cert.PairSumFfnIdeal.nD → PrngReg), Pre_PairSumFfnIdeal m →
    θ_run (Cert.PairSumFfnIdeal.defs (F := Ideal)) (onTc (τ := Cert.PairSumFfnIdeal.τ) (Cert.PairSumFfnIdeal.main (F := Ideal))) ⟨m, fun _ => 0, g⟩ (fun r => (∀ c : Dev Cert.PairSumFfnIdeal.nD,
      r.2.mem ((c.tc : Thread Cert.PairSumFfnIdeal.nD Cert.PairSumFfnIdeal.τ).loc Cert.PairSumFfnIdeal.main_arg0) = m ((c.tc : Thread Cert.PairSumFfnIdeal.nD Cert.PairSumFfnIdeal.τ).loc Cert.PairSumFfnIdeal.main_arg0)
      ∧ r.2.mem ((c.tc : Thread Cert.PairSumFfnIdeal.nD Cert.PairSumFfnIdeal.τ).loc Cert.PairSumFfnIdeal.main_arg1) = m ((c.tc : Thread Cert.PairSumFfnIdeal.nD Cert.PairSumFfnIdeal.τ).loc Cert.PairSumFfnIdeal.main_arg1))
      ∧ r.2.sem = fun _ => 0)

def quiescent_PairSumFfnReferenceIdeal [hPairSumFfnReferenceIdeal : Cert.PairSumFfnReferenceIdeal.Facts] : Prop :=
  ∀ (m : (ℓ : Loc Cert.PairSumFfnReferenceIdeal.nD Cert.PairSumFfnReferenceIdeal.τ Cert.PairSumFfnReferenceIdeal.sig) → Buf (Elt Ideal) ℓ) (g : Dev Cert.PairSumFfnReferenceIdeal.nD → PrngReg), Pre_PairSumFfnReferenceIdeal m →
    θ_run (Cert.PairSumFfnReferenceIdeal.defs (F := Ideal)) (onTc (τ := Cert.PairSumFfnReferenceIdeal.τ) (Cert.PairSumFfnReferenceIdeal.main (F := Ideal))) ⟨m, fun _ => 0, g⟩ (fun r => (∀ c : Dev Cert.PairSumFfnReferenceIdeal.nD,
      r.2.mem ((c.tc : Thread Cert.PairSumFfnReferenceIdeal.nD Cert.PairSumFfnReferenceIdeal.τ).loc Cert.PairSumFfnReferenceIdeal.main_arg0) = m ((c.tc : Thread Cert.PairSumFfnReferenceIdeal.nD Cert.PairSumFfnReferenceIdeal.τ).loc Cert.PairSumFfnReferenceIdeal.main_arg0)
      ∧ r.2.mem ((c.tc : Thread Cert.PairSumFfnReferenceIdeal.nD Cert.PairSumFfnReferenceIdeal.τ).loc Cert.PairSumFfnReferenceIdeal.main_arg1) = m ((c.tc : Thread Cert.PairSumFfnReferenceIdeal.nD Cert.PairSumFfnReferenceIdeal.τ).loc Cert.PairSumFfnReferenceIdeal.main_arg1))
      ∧ r.2.sem = fun _ => 0)

def quiescent_PairSumFfnReference [hPairSumFfnReference : Cert.PairSumFfnReference.Facts] : Prop :=
  ∀ (m : (ℓ : Loc Cert.PairSumFfnReference.nD Cert.PairSumFfnReference.τ Cert.PairSumFfnReference.sig) → Buf (Elt Bits) ℓ) (g : Dev Cert.PairSumFfnReference.nD → PrngReg), Pre_PairSumFfnReference m →
    θ_run (Cert.PairSumFfnReference.defs (F := Bits)) (onTc (τ := Cert.PairSumFfnReference.τ) (Cert.PairSumFfnReference.main (F := Bits))) ⟨m, fun _ => 0, g⟩ (fun r => (∀ c : Dev Cert.PairSumFfnReference.nD,
      r.2.mem ((c.tc : Thread Cert.PairSumFfnReference.nD Cert.PairSumFfnReference.τ).loc Cert.PairSumFfnReference.main_arg0) = m ((c.tc : Thread Cert.PairSumFfnReference.nD Cert.PairSumFfnReference.τ).loc Cert.PairSumFfnReference.main_arg0)
      ∧ r.2.mem ((c.tc : Thread Cert.PairSumFfnReference.nD Cert.PairSumFfnReference.τ).loc Cert.PairSumFfnReference.main_arg1) = m ((c.tc : Thread Cert.PairSumFfnReference.nD Cert.PairSumFfnReference.τ).loc Cert.PairSumFfnReference.main_arg1))
      ∧ r.2.sem = fun _ => 0)

def quiescent_PairSumFfnDown [hPairSumFfnDown : Cert.PairSumFfnDown.Facts] : Prop :=
  ∀ (m : (ℓ : Loc Cert.PairSumFfnDown.nD Cert.PairSumFfnDown.τ Cert.PairSumFfnDown.sig) → Buf (Elt Bits) ℓ) (g : Dev Cert.PairSumFfnDown.nD → PrngReg), Pre_PairSumFfnDown m →
    θ_run (Cert.PairSumFfnDown.defs (F := Bits)) (onTc (τ := Cert.PairSumFfnDown.τ) (Cert.PairSumFfnDown.main (F := Bits))) ⟨m, fun _ => 0, g⟩ (fun r => (∀ c : Dev Cert.PairSumFfnDown.nD,
      r.2.mem ((c.tc : Thread Cert.PairSumFfnDown.nD Cert.PairSumFfnDown.τ).loc Cert.PairSumFfnDown.main_arg0) = m ((c.tc : Thread Cert.PairSumFfnDown.nD Cert.PairSumFfnDown.τ).loc Cert.PairSumFfnDown.main_arg0)
      ∧ r.2.mem ((c.tc : Thread Cert.PairSumFfnDown.nD Cert.PairSumFfnDown.τ).loc Cert.PairSumFfnDown.main_arg1) = m ((c.tc : Thread Cert.PairSumFfnDown.nD Cert.PairSumFfnDown.τ).loc Cert.PairSumFfnDown.main_arg1))
      ∧ r.2.sem = fun _ => 0)

def quiescent_PairSumFfnDownIdeal [hPairSumFfnDownIdeal : Cert.PairSumFfnDownIdeal.Facts] : Prop :=
  ∀ (m : (ℓ : Loc Cert.PairSumFfnDownIdeal.nD Cert.PairSumFfnDownIdeal.τ Cert.PairSumFfnDownIdeal.sig) → Buf (Elt Ideal) ℓ) (g : Dev Cert.PairSumFfnDownIdeal.nD → PrngReg), Pre_PairSumFfnDownIdeal m →
    θ_run (Cert.PairSumFfnDownIdeal.defs (F := Ideal)) (onTc (τ := Cert.PairSumFfnDownIdeal.τ) (Cert.PairSumFfnDownIdeal.main (F := Ideal))) ⟨m, fun _ => 0, g⟩ (fun r => (∀ c : Dev Cert.PairSumFfnDownIdeal.nD,
      r.2.mem ((c.tc : Thread Cert.PairSumFfnDownIdeal.nD Cert.PairSumFfnDownIdeal.τ).loc Cert.PairSumFfnDownIdeal.main_arg0) = m ((c.tc : Thread Cert.PairSumFfnDownIdeal.nD Cert.PairSumFfnDownIdeal.τ).loc Cert.PairSumFfnDownIdeal.main_arg0)
      ∧ r.2.mem ((c.tc : Thread Cert.PairSumFfnDownIdeal.nD Cert.PairSumFfnDownIdeal.τ).loc Cert.PairSumFfnDownIdeal.main_arg1) = m ((c.tc : Thread Cert.PairSumFfnDownIdeal.nD Cert.PairSumFfnDownIdeal.τ).loc Cert.PairSumFfnDownIdeal.main_arg1))
      ∧ r.2.sem = fun _ => 0)

def quiescent_PairSumFfnDownReferenceIdeal [hPairSumFfnDownReferenceIdeal : Cert.PairSumFfnDownReferenceIdeal.Facts] : Prop :=
  ∀ (m : (ℓ : Loc Cert.PairSumFfnDownReferenceIdeal.nD Cert.PairSumFfnDownReferenceIdeal.τ Cert.PairSumFfnDownReferenceIdeal.sig) → Buf (Elt Ideal) ℓ) (g : Dev Cert.PairSumFfnDownReferenceIdeal.nD → PrngReg), Pre_PairSumFfnDownReferenceIdeal m →
    θ_run (Cert.PairSumFfnDownReferenceIdeal.defs (F := Ideal)) (onTc (τ := Cert.PairSumFfnDownReferenceIdeal.τ) (Cert.PairSumFfnDownReferenceIdeal.main (F := Ideal))) ⟨m, fun _ => 0, g⟩ (fun r => (∀ c : Dev Cert.PairSumFfnDownReferenceIdeal.nD,
      r.2.mem ((c.tc : Thread Cert.PairSumFfnDownReferenceIdeal.nD Cert.PairSumFfnDownReferenceIdeal.τ).loc Cert.PairSumFfnDownReferenceIdeal.main_arg0) = m ((c.tc : Thread Cert.PairSumFfnDownReferenceIdeal.nD Cert.PairSumFfnDownReferenceIdeal.τ).loc Cert.PairSumFfnDownReferenceIdeal.main_arg0)
      ∧ r.2.mem ((c.tc : Thread Cert.PairSumFfnDownReferenceIdeal.nD Cert.PairSumFfnDownReferenceIdeal.τ).loc Cert.PairSumFfnDownReferenceIdeal.main_arg1) = m ((c.tc : Thread Cert.PairSumFfnDownReferenceIdeal.nD Cert.PairSumFfnDownReferenceIdeal.τ).loc Cert.PairSumFfnDownReferenceIdeal.main_arg1))
      ∧ r.2.sem = fun _ => 0)

def quiescent_PairSumFfnDownReference [hPairSumFfnDownReference : Cert.PairSumFfnDownReference.Facts] : Prop :=
  ∀ (m : (ℓ : Loc Cert.PairSumFfnDownReference.nD Cert.PairSumFfnDownReference.τ Cert.PairSumFfnDownReference.sig) → Buf (Elt Bits) ℓ) (g : Dev Cert.PairSumFfnDownReference.nD → PrngReg), Pre_PairSumFfnDownReference m →
    θ_run (Cert.PairSumFfnDownReference.defs (F := Bits)) (onTc (τ := Cert.PairSumFfnDownReference.τ) (Cert.PairSumFfnDownReference.main (F := Bits))) ⟨m, fun _ => 0, g⟩ (fun r => (∀ c : Dev Cert.PairSumFfnDownReference.nD,
      r.2.mem ((c.tc : Thread Cert.PairSumFfnDownReference.nD Cert.PairSumFfnDownReference.τ).loc Cert.PairSumFfnDownReference.main_arg0) = m ((c.tc : Thread Cert.PairSumFfnDownReference.nD Cert.PairSumFfnDownReference.τ).loc Cert.PairSumFfnDownReference.main_arg0)
      ∧ r.2.mem ((c.tc : Thread Cert.PairSumFfnDownReference.nD Cert.PairSumFfnDownReference.τ).loc Cert.PairSumFfnDownReference.main_arg1) = m ((c.tc : Thread Cert.PairSumFfnDownReference.nD Cert.PairSumFfnDownReference.τ).loc Cert.PairSumFfnDownReference.main_arg1))
      ∧ r.2.sem = fun _ => 0)

def quiescent_PairSumDilQkv [hPairSumDilQkv : Cert.PairSumDilQkv.Facts] : Prop :=
  ∀ (m : (ℓ : Loc Cert.PairSumDilQkv.nD Cert.PairSumDilQkv.τ Cert.PairSumDilQkv.sig) → Buf (Elt Bits) ℓ) (g : Dev Cert.PairSumDilQkv.nD → PrngReg), Pre_PairSumDilQkv m →
    θ_run (Cert.PairSumDilQkv.defs (F := Bits)) (onTc (τ := Cert.PairSumDilQkv.τ) (Cert.PairSumDilQkv.main (F := Bits))) ⟨m, fun _ => 0, g⟩ (fun r => (∀ c : Dev Cert.PairSumDilQkv.nD,
      r.2.mem ((c.tc : Thread Cert.PairSumDilQkv.nD Cert.PairSumDilQkv.τ).loc Cert.PairSumDilQkv.main_arg0) = m ((c.tc : Thread Cert.PairSumDilQkv.nD Cert.PairSumDilQkv.τ).loc Cert.PairSumDilQkv.main_arg0)
      ∧ r.2.mem ((c.tc : Thread Cert.PairSumDilQkv.nD Cert.PairSumDilQkv.τ).loc Cert.PairSumDilQkv.main_arg1) = m ((c.tc : Thread Cert.PairSumDilQkv.nD Cert.PairSumDilQkv.τ).loc Cert.PairSumDilQkv.main_arg1))
      ∧ r.2.sem = fun _ => 0)

def quiescent_PairSumDilQkvIdeal [hPairSumDilQkvIdeal : Cert.PairSumDilQkvIdeal.Facts] : Prop :=
  ∀ (m : (ℓ : Loc Cert.PairSumDilQkvIdeal.nD Cert.PairSumDilQkvIdeal.τ Cert.PairSumDilQkvIdeal.sig) → Buf (Elt Ideal) ℓ) (g : Dev Cert.PairSumDilQkvIdeal.nD → PrngReg), Pre_PairSumDilQkvIdeal m →
    θ_run (Cert.PairSumDilQkvIdeal.defs (F := Ideal)) (onTc (τ := Cert.PairSumDilQkvIdeal.τ) (Cert.PairSumDilQkvIdeal.main (F := Ideal))) ⟨m, fun _ => 0, g⟩ (fun r => (∀ c : Dev Cert.PairSumDilQkvIdeal.nD,
      r.2.mem ((c.tc : Thread Cert.PairSumDilQkvIdeal.nD Cert.PairSumDilQkvIdeal.τ).loc Cert.PairSumDilQkvIdeal.main_arg0) = m ((c.tc : Thread Cert.PairSumDilQkvIdeal.nD Cert.PairSumDilQkvIdeal.τ).loc Cert.PairSumDilQkvIdeal.main_arg0)
      ∧ r.2.mem ((c.tc : Thread Cert.PairSumDilQkvIdeal.nD Cert.PairSumDilQkvIdeal.τ).loc Cert.PairSumDilQkvIdeal.main_arg1) = m ((c.tc : Thread Cert.PairSumDilQkvIdeal.nD Cert.PairSumDilQkvIdeal.τ).loc Cert.PairSumDilQkvIdeal.main_arg1))
      ∧ r.2.sem = fun _ => 0)

def quiescent_PairSumDilQkvReferenceIdeal [hPairSumDilQkvReferenceIdeal : Cert.PairSumDilQkvReferenceIdeal.Facts] : Prop :=
  ∀ (m : (ℓ : Loc Cert.PairSumDilQkvReferenceIdeal.nD Cert.PairSumDilQkvReferenceIdeal.τ Cert.PairSumDilQkvReferenceIdeal.sig) → Buf (Elt Ideal) ℓ) (g : Dev Cert.PairSumDilQkvReferenceIdeal.nD → PrngReg), Pre_PairSumDilQkvReferenceIdeal m →
    θ_run (Cert.PairSumDilQkvReferenceIdeal.defs (F := Ideal)) (onTc (τ := Cert.PairSumDilQkvReferenceIdeal.τ) (Cert.PairSumDilQkvReferenceIdeal.main (F := Ideal))) ⟨m, fun _ => 0, g⟩ (fun r => (∀ c : Dev Cert.PairSumDilQkvReferenceIdeal.nD,
      r.2.mem ((c.tc : Thread Cert.PairSumDilQkvReferenceIdeal.nD Cert.PairSumDilQkvReferenceIdeal.τ).loc Cert.PairSumDilQkvReferenceIdeal.main_arg0) = m ((c.tc : Thread Cert.PairSumDilQkvReferenceIdeal.nD Cert.PairSumDilQkvReferenceIdeal.τ).loc Cert.PairSumDilQkvReferenceIdeal.main_arg0)
      ∧ r.2.mem ((c.tc : Thread Cert.PairSumDilQkvReferenceIdeal.nD Cert.PairSumDilQkvReferenceIdeal.τ).loc Cert.PairSumDilQkvReferenceIdeal.main_arg1) = m ((c.tc : Thread Cert.PairSumDilQkvReferenceIdeal.nD Cert.PairSumDilQkvReferenceIdeal.τ).loc Cert.PairSumDilQkvReferenceIdeal.main_arg1))
      ∧ r.2.sem = fun _ => 0)

def quiescent_PairSumDilQkvReference [hPairSumDilQkvReference : Cert.PairSumDilQkvReference.Facts] : Prop :=
  ∀ (m : (ℓ : Loc Cert.PairSumDilQkvReference.nD Cert.PairSumDilQkvReference.τ Cert.PairSumDilQkvReference.sig) → Buf (Elt Bits) ℓ) (g : Dev Cert.PairSumDilQkvReference.nD → PrngReg), Pre_PairSumDilQkvReference m →
    θ_run (Cert.PairSumDilQkvReference.defs (F := Bits)) (onTc (τ := Cert.PairSumDilQkvReference.τ) (Cert.PairSumDilQkvReference.main (F := Bits))) ⟨m, fun _ => 0, g⟩ (fun r => (∀ c : Dev Cert.PairSumDilQkvReference.nD,
      r.2.mem ((c.tc : Thread Cert.PairSumDilQkvReference.nD Cert.PairSumDilQkvReference.τ).loc Cert.PairSumDilQkvReference.main_arg0) = m ((c.tc : Thread Cert.PairSumDilQkvReference.nD Cert.PairSumDilQkvReference.τ).loc Cert.PairSumDilQkvReference.main_arg0)
      ∧ r.2.mem ((c.tc : Thread Cert.PairSumDilQkvReference.nD Cert.PairSumDilQkvReference.τ).loc Cert.PairSumDilQkvReference.main_arg1) = m ((c.tc : Thread Cert.PairSumDilQkvReference.nD Cert.PairSumDilQkvReference.τ).loc Cert.PairSumDilQkvReference.main_arg1))
      ∧ r.2.sem = fun _ => 0)

def quiescent_ChipSumNaQkv [hChipSumNaQkv : Cert.ChipSumNaQkv.Facts] : Prop :=
  ∀ (m : (ℓ : Loc Cert.ChipSumNaQkv.nD Cert.ChipSumNaQkv.τ Cert.ChipSumNaQkv.sig) → Buf (Elt Bits) ℓ) (g : Dev Cert.ChipSumNaQkv.nD → PrngReg), Pre_ChipSumNaQkv m →
    θ_run (Cert.ChipSumNaQkv.defs (F := Bits)) (onTc (τ := Cert.ChipSumNaQkv.τ) (Cert.ChipSumNaQkv.main (F := Bits))) ⟨m, fun _ => 0, g⟩ (fun r => (∀ c : Dev Cert.ChipSumNaQkv.nD,
      r.2.mem ((c.tc : Thread Cert.ChipSumNaQkv.nD Cert.ChipSumNaQkv.τ).loc Cert.ChipSumNaQkv.main_arg0) = m ((c.tc : Thread Cert.ChipSumNaQkv.nD Cert.ChipSumNaQkv.τ).loc Cert.ChipSumNaQkv.main_arg0))
      ∧ r.2.sem = fun _ => 0)

def quiescent_ChipSumNaQkvIdeal [hChipSumNaQkvIdeal : Cert.ChipSumNaQkvIdeal.Facts] : Prop :=
  ∀ (m : (ℓ : Loc Cert.ChipSumNaQkvIdeal.nD Cert.ChipSumNaQkvIdeal.τ Cert.ChipSumNaQkvIdeal.sig) → Buf (Elt Ideal) ℓ) (g : Dev Cert.ChipSumNaQkvIdeal.nD → PrngReg), Pre_ChipSumNaQkvIdeal m →
    θ_run (Cert.ChipSumNaQkvIdeal.defs (F := Ideal)) (onTc (τ := Cert.ChipSumNaQkvIdeal.τ) (Cert.ChipSumNaQkvIdeal.main (F := Ideal))) ⟨m, fun _ => 0, g⟩ (fun r => (∀ c : Dev Cert.ChipSumNaQkvIdeal.nD,
      r.2.mem ((c.tc : Thread Cert.ChipSumNaQkvIdeal.nD Cert.ChipSumNaQkvIdeal.τ).loc Cert.ChipSumNaQkvIdeal.main_arg0) = m ((c.tc : Thread Cert.ChipSumNaQkvIdeal.nD Cert.ChipSumNaQkvIdeal.τ).loc Cert.ChipSumNaQkvIdeal.main_arg0))
      ∧ r.2.sem = fun _ => 0)

def quiescent_ChipSumNaQkvReferenceIdeal [hChipSumNaQkvReferenceIdeal : Cert.ChipSumNaQkvReferenceIdeal.Facts] : Prop :=
  ∀ (m : (ℓ : Loc Cert.ChipSumNaQkvReferenceIdeal.nD Cert.ChipSumNaQkvReferenceIdeal.τ Cert.ChipSumNaQkvReferenceIdeal.sig) → Buf (Elt Ideal) ℓ) (g : Dev Cert.ChipSumNaQkvReferenceIdeal.nD → PrngReg), Pre_ChipSumNaQkvReferenceIdeal m →
    θ_run (Cert.ChipSumNaQkvReferenceIdeal.defs (F := Ideal)) (onTc (τ := Cert.ChipSumNaQkvReferenceIdeal.τ) (Cert.ChipSumNaQkvReferenceIdeal.main (F := Ideal))) ⟨m, fun _ => 0, g⟩ (fun r => (∀ c : Dev Cert.ChipSumNaQkvReferenceIdeal.nD,
      r.2.mem ((c.tc : Thread Cert.ChipSumNaQkvReferenceIdeal.nD Cert.ChipSumNaQkvReferenceIdeal.τ).loc Cert.ChipSumNaQkvReferenceIdeal.main_arg0) = m ((c.tc : Thread Cert.ChipSumNaQkvReferenceIdeal.nD Cert.ChipSumNaQkvReferenceIdeal.τ).loc Cert.ChipSumNaQkvReferenceIdeal.main_arg0))
      ∧ r.2.sem = fun _ => 0)

def quiescent_ChipSumNaQkvReference [hChipSumNaQkvReference : Cert.ChipSumNaQkvReference.Facts] : Prop :=
  ∀ (m : (ℓ : Loc Cert.ChipSumNaQkvReference.nD Cert.ChipSumNaQkvReference.τ Cert.ChipSumNaQkvReference.sig) → Buf (Elt Bits) ℓ) (g : Dev Cert.ChipSumNaQkvReference.nD → PrngReg), Pre_ChipSumNaQkvReference m →
    θ_run (Cert.ChipSumNaQkvReference.defs (F := Bits)) (onTc (τ := Cert.ChipSumNaQkvReference.τ) (Cert.ChipSumNaQkvReference.main (F := Bits))) ⟨m, fun _ => 0, g⟩ (fun r => (∀ c : Dev Cert.ChipSumNaQkvReference.nD,
      r.2.mem ((c.tc : Thread Cert.ChipSumNaQkvReference.nD Cert.ChipSumNaQkvReference.τ).loc Cert.ChipSumNaQkvReference.main_arg0) = m ((c.tc : Thread Cert.ChipSumNaQkvReference.nD Cert.ChipSumNaQkvReference.τ).loc Cert.ChipSumNaQkvReference.main_arg0))
      ∧ r.2.sem = fun _ => 0)

def quiescent_ChipSumOut [hChipSumOut : Cert.ChipSumOut.Facts] : Prop :=
  ∀ (m : (ℓ : Loc Cert.ChipSumOut.nD Cert.ChipSumOut.τ Cert.ChipSumOut.sig) → Buf (Elt Bits) ℓ) (g : Dev Cert.ChipSumOut.nD → PrngReg), Pre_ChipSumOut m →
    θ_run (Cert.ChipSumOut.defs (F := Bits)) (onTc (τ := Cert.ChipSumOut.τ) (Cert.ChipSumOut.main (F := Bits))) ⟨m, fun _ => 0, g⟩ (fun r => (∀ c : Dev Cert.ChipSumOut.nD,
      r.2.mem ((c.tc : Thread Cert.ChipSumOut.nD Cert.ChipSumOut.τ).loc Cert.ChipSumOut.main_arg0) = m ((c.tc : Thread Cert.ChipSumOut.nD Cert.ChipSumOut.τ).loc Cert.ChipSumOut.main_arg0))
      ∧ r.2.sem = fun _ => 0)

def quiescent_ChipSumOutIdeal [hChipSumOutIdeal : Cert.ChipSumOutIdeal.Facts] : Prop :=
  ∀ (m : (ℓ : Loc Cert.ChipSumOutIdeal.nD Cert.ChipSumOutIdeal.τ Cert.ChipSumOutIdeal.sig) → Buf (Elt Ideal) ℓ) (g : Dev Cert.ChipSumOutIdeal.nD → PrngReg), Pre_ChipSumOutIdeal m →
    θ_run (Cert.ChipSumOutIdeal.defs (F := Ideal)) (onTc (τ := Cert.ChipSumOutIdeal.τ) (Cert.ChipSumOutIdeal.main (F := Ideal))) ⟨m, fun _ => 0, g⟩ (fun r => (∀ c : Dev Cert.ChipSumOutIdeal.nD,
      r.2.mem ((c.tc : Thread Cert.ChipSumOutIdeal.nD Cert.ChipSumOutIdeal.τ).loc Cert.ChipSumOutIdeal.main_arg0) = m ((c.tc : Thread Cert.ChipSumOutIdeal.nD Cert.ChipSumOutIdeal.τ).loc Cert.ChipSumOutIdeal.main_arg0))
      ∧ r.2.sem = fun _ => 0)

def quiescent_ChipSumOutReferenceIdeal [hChipSumOutReferenceIdeal : Cert.ChipSumOutReferenceIdeal.Facts] : Prop :=
  ∀ (m : (ℓ : Loc Cert.ChipSumOutReferenceIdeal.nD Cert.ChipSumOutReferenceIdeal.τ Cert.ChipSumOutReferenceIdeal.sig) → Buf (Elt Ideal) ℓ) (g : Dev Cert.ChipSumOutReferenceIdeal.nD → PrngReg), Pre_ChipSumOutReferenceIdeal m →
    θ_run (Cert.ChipSumOutReferenceIdeal.defs (F := Ideal)) (onTc (τ := Cert.ChipSumOutReferenceIdeal.τ) (Cert.ChipSumOutReferenceIdeal.main (F := Ideal))) ⟨m, fun _ => 0, g⟩ (fun r => (∀ c : Dev Cert.ChipSumOutReferenceIdeal.nD,
      r.2.mem ((c.tc : Thread Cert.ChipSumOutReferenceIdeal.nD Cert.ChipSumOutReferenceIdeal.τ).loc Cert.ChipSumOutReferenceIdeal.main_arg0) = m ((c.tc : Thread Cert.ChipSumOutReferenceIdeal.nD Cert.ChipSumOutReferenceIdeal.τ).loc Cert.ChipSumOutReferenceIdeal.main_arg0))
      ∧ r.2.sem = fun _ => 0)

def quiescent_ChipSumOutReference [hChipSumOutReference : Cert.ChipSumOutReference.Facts] : Prop :=
  ∀ (m : (ℓ : Loc Cert.ChipSumOutReference.nD Cert.ChipSumOutReference.τ Cert.ChipSumOutReference.sig) → Buf (Elt Bits) ℓ) (g : Dev Cert.ChipSumOutReference.nD → PrngReg), Pre_ChipSumOutReference m →
    θ_run (Cert.ChipSumOutReference.defs (F := Bits)) (onTc (τ := Cert.ChipSumOutReference.τ) (Cert.ChipSumOutReference.main (F := Bits))) ⟨m, fun _ => 0, g⟩ (fun r => (∀ c : Dev Cert.ChipSumOutReference.nD,
      r.2.mem ((c.tc : Thread Cert.ChipSumOutReference.nD Cert.ChipSumOutReference.τ).loc Cert.ChipSumOutReference.main_arg0) = m ((c.tc : Thread Cert.ChipSumOutReference.nD Cert.ChipSumOutReference.τ).loc Cert.ChipSumOutReference.main_arg0))
      ∧ r.2.sem = fun _ => 0)

def quiescent_ChipSumFfn [hChipSumFfn : Cert.ChipSumFfn.Facts] : Prop :=
  ∀ (m : (ℓ : Loc Cert.ChipSumFfn.nD Cert.ChipSumFfn.τ Cert.ChipSumFfn.sig) → Buf (Elt Bits) ℓ) (g : Dev Cert.ChipSumFfn.nD → PrngReg), Pre_ChipSumFfn m →
    θ_run (Cert.ChipSumFfn.defs (F := Bits)) (onTc (τ := Cert.ChipSumFfn.τ) (Cert.ChipSumFfn.main (F := Bits))) ⟨m, fun _ => 0, g⟩ (fun r => (∀ c : Dev Cert.ChipSumFfn.nD,
      r.2.mem ((c.tc : Thread Cert.ChipSumFfn.nD Cert.ChipSumFfn.τ).loc Cert.ChipSumFfn.main_arg0) = m ((c.tc : Thread Cert.ChipSumFfn.nD Cert.ChipSumFfn.τ).loc Cert.ChipSumFfn.main_arg0))
      ∧ r.2.sem = fun _ => 0)

def quiescent_ChipSumFfnIdeal [hChipSumFfnIdeal : Cert.ChipSumFfnIdeal.Facts] : Prop :=
  ∀ (m : (ℓ : Loc Cert.ChipSumFfnIdeal.nD Cert.ChipSumFfnIdeal.τ Cert.ChipSumFfnIdeal.sig) → Buf (Elt Ideal) ℓ) (g : Dev Cert.ChipSumFfnIdeal.nD → PrngReg), Pre_ChipSumFfnIdeal m →
    θ_run (Cert.ChipSumFfnIdeal.defs (F := Ideal)) (onTc (τ := Cert.ChipSumFfnIdeal.τ) (Cert.ChipSumFfnIdeal.main (F := Ideal))) ⟨m, fun _ => 0, g⟩ (fun r => (∀ c : Dev Cert.ChipSumFfnIdeal.nD,
      r.2.mem ((c.tc : Thread Cert.ChipSumFfnIdeal.nD Cert.ChipSumFfnIdeal.τ).loc Cert.ChipSumFfnIdeal.main_arg0) = m ((c.tc : Thread Cert.ChipSumFfnIdeal.nD Cert.ChipSumFfnIdeal.τ).loc Cert.ChipSumFfnIdeal.main_arg0))
      ∧ r.2.sem = fun _ => 0)

def quiescent_ChipSumFfnReferenceIdeal [hChipSumFfnReferenceIdeal : Cert.ChipSumFfnReferenceIdeal.Facts] : Prop :=
  ∀ (m : (ℓ : Loc Cert.ChipSumFfnReferenceIdeal.nD Cert.ChipSumFfnReferenceIdeal.τ Cert.ChipSumFfnReferenceIdeal.sig) → Buf (Elt Ideal) ℓ) (g : Dev Cert.ChipSumFfnReferenceIdeal.nD → PrngReg), Pre_ChipSumFfnReferenceIdeal m →
    θ_run (Cert.ChipSumFfnReferenceIdeal.defs (F := Ideal)) (onTc (τ := Cert.ChipSumFfnReferenceIdeal.τ) (Cert.ChipSumFfnReferenceIdeal.main (F := Ideal))) ⟨m, fun _ => 0, g⟩ (fun r => (∀ c : Dev Cert.ChipSumFfnReferenceIdeal.nD,
      r.2.mem ((c.tc : Thread Cert.ChipSumFfnReferenceIdeal.nD Cert.ChipSumFfnReferenceIdeal.τ).loc Cert.ChipSumFfnReferenceIdeal.main_arg0) = m ((c.tc : Thread Cert.ChipSumFfnReferenceIdeal.nD Cert.ChipSumFfnReferenceIdeal.τ).loc Cert.ChipSumFfnReferenceIdeal.main_arg0))
      ∧ r.2.sem = fun _ => 0)

def quiescent_ChipSumFfnReference [hChipSumFfnReference : Cert.ChipSumFfnReference.Facts] : Prop :=
  ∀ (m : (ℓ : Loc Cert.ChipSumFfnReference.nD Cert.ChipSumFfnReference.τ Cert.ChipSumFfnReference.sig) → Buf (Elt Bits) ℓ) (g : Dev Cert.ChipSumFfnReference.nD → PrngReg), Pre_ChipSumFfnReference m →
    θ_run (Cert.ChipSumFfnReference.defs (F := Bits)) (onTc (τ := Cert.ChipSumFfnReference.τ) (Cert.ChipSumFfnReference.main (F := Bits))) ⟨m, fun _ => 0, g⟩ (fun r => (∀ c : Dev Cert.ChipSumFfnReference.nD,
      r.2.mem ((c.tc : Thread Cert.ChipSumFfnReference.nD Cert.ChipSumFfnReference.τ).loc Cert.ChipSumFfnReference.main_arg0) = m ((c.tc : Thread Cert.ChipSumFfnReference.nD Cert.ChipSumFfnReference.τ).loc Cert.ChipSumFfnReference.main_arg0))
      ∧ r.2.sem = fun _ => 0)

def quiescent_ChipSumFfnDown [hChipSumFfnDown : Cert.ChipSumFfnDown.Facts] : Prop :=
  ∀ (m : (ℓ : Loc Cert.ChipSumFfnDown.nD Cert.ChipSumFfnDown.τ Cert.ChipSumFfnDown.sig) → Buf (Elt Bits) ℓ) (g : Dev Cert.ChipSumFfnDown.nD → PrngReg), Pre_ChipSumFfnDown m →
    θ_run (Cert.ChipSumFfnDown.defs (F := Bits)) (onTc (τ := Cert.ChipSumFfnDown.τ) (Cert.ChipSumFfnDown.main (F := Bits))) ⟨m, fun _ => 0, g⟩ (fun r => (∀ c : Dev Cert.ChipSumFfnDown.nD,
      r.2.mem ((c.tc : Thread Cert.ChipSumFfnDown.nD Cert.ChipSumFfnDown.τ).loc Cert.ChipSumFfnDown.main_arg0) = m ((c.tc : Thread Cert.ChipSumFfnDown.nD Cert.ChipSumFfnDown.τ).loc Cert.ChipSumFfnDown.main_arg0))
      ∧ r.2.sem = fun _ => 0)

def quiescent_ChipSumFfnDownIdeal [hChipSumFfnDownIdeal : Cert.ChipSumFfnDownIdeal.Facts] : Prop :=
  ∀ (m : (ℓ : Loc Cert.ChipSumFfnDownIdeal.nD Cert.ChipSumFfnDownIdeal.τ Cert.ChipSumFfnDownIdeal.sig) → Buf (Elt Ideal) ℓ) (g : Dev Cert.ChipSumFfnDownIdeal.nD → PrngReg), Pre_ChipSumFfnDownIdeal m →
    θ_run (Cert.ChipSumFfnDownIdeal.defs (F := Ideal)) (onTc (τ := Cert.ChipSumFfnDownIdeal.τ) (Cert.ChipSumFfnDownIdeal.main (F := Ideal))) ⟨m, fun _ => 0, g⟩ (fun r => (∀ c : Dev Cert.ChipSumFfnDownIdeal.nD,
      r.2.mem ((c.tc : Thread Cert.ChipSumFfnDownIdeal.nD Cert.ChipSumFfnDownIdeal.τ).loc Cert.ChipSumFfnDownIdeal.main_arg0) = m ((c.tc : Thread Cert.ChipSumFfnDownIdeal.nD Cert.ChipSumFfnDownIdeal.τ).loc Cert.ChipSumFfnDownIdeal.main_arg0))
      ∧ r.2.sem = fun _ => 0)

def quiescent_ChipSumFfnDownReferenceIdeal [hChipSumFfnDownReferenceIdeal : Cert.ChipSumFfnDownReferenceIdeal.Facts] : Prop :=
  ∀ (m : (ℓ : Loc Cert.ChipSumFfnDownReferenceIdeal.nD Cert.ChipSumFfnDownReferenceIdeal.τ Cert.ChipSumFfnDownReferenceIdeal.sig) → Buf (Elt Ideal) ℓ) (g : Dev Cert.ChipSumFfnDownReferenceIdeal.nD → PrngReg), Pre_ChipSumFfnDownReferenceIdeal m →
    θ_run (Cert.ChipSumFfnDownReferenceIdeal.defs (F := Ideal)) (onTc (τ := Cert.ChipSumFfnDownReferenceIdeal.τ) (Cert.ChipSumFfnDownReferenceIdeal.main (F := Ideal))) ⟨m, fun _ => 0, g⟩ (fun r => (∀ c : Dev Cert.ChipSumFfnDownReferenceIdeal.nD,
      r.2.mem ((c.tc : Thread Cert.ChipSumFfnDownReferenceIdeal.nD Cert.ChipSumFfnDownReferenceIdeal.τ).loc Cert.ChipSumFfnDownReferenceIdeal.main_arg0) = m ((c.tc : Thread Cert.ChipSumFfnDownReferenceIdeal.nD Cert.ChipSumFfnDownReferenceIdeal.τ).loc Cert.ChipSumFfnDownReferenceIdeal.main_arg0))
      ∧ r.2.sem = fun _ => 0)

def quiescent_ChipSumFfnDownReference [hChipSumFfnDownReference : Cert.ChipSumFfnDownReference.Facts] : Prop :=
  ∀ (m : (ℓ : Loc Cert.ChipSumFfnDownReference.nD Cert.ChipSumFfnDownReference.τ Cert.ChipSumFfnDownReference.sig) → Buf (Elt Bits) ℓ) (g : Dev Cert.ChipSumFfnDownReference.nD → PrngReg), Pre_ChipSumFfnDownReference m →
    θ_run (Cert.ChipSumFfnDownReference.defs (F := Bits)) (onTc (τ := Cert.ChipSumFfnDownReference.τ) (Cert.ChipSumFfnDownReference.main (F := Bits))) ⟨m, fun _ => 0, g⟩ (fun r => (∀ c : Dev Cert.ChipSumFfnDownReference.nD,
      r.2.mem ((c.tc : Thread Cert.ChipSumFfnDownReference.nD Cert.ChipSumFfnDownReference.τ).loc Cert.ChipSumFfnDownReference.main_arg0) = m ((c.tc : Thread Cert.ChipSumFfnDownReference.nD Cert.ChipSumFfnDownReference.τ).loc Cert.ChipSumFfnDownReference.main_arg0))
      ∧ r.2.sem = fun _ => 0)

def quiescent_ChipSumDilQkv [hChipSumDilQkv : Cert.ChipSumDilQkv.Facts] : Prop :=
  ∀ (m : (ℓ : Loc Cert.ChipSumDilQkv.nD Cert.ChipSumDilQkv.τ Cert.ChipSumDilQkv.sig) → Buf (Elt Bits) ℓ) (g : Dev Cert.ChipSumDilQkv.nD → PrngReg), Pre_ChipSumDilQkv m →
    θ_run (Cert.ChipSumDilQkv.defs (F := Bits)) (onTc (τ := Cert.ChipSumDilQkv.τ) (Cert.ChipSumDilQkv.main (F := Bits))) ⟨m, fun _ => 0, g⟩ (fun r => (∀ c : Dev Cert.ChipSumDilQkv.nD,
      r.2.mem ((c.tc : Thread Cert.ChipSumDilQkv.nD Cert.ChipSumDilQkv.τ).loc Cert.ChipSumDilQkv.main_arg0) = m ((c.tc : Thread Cert.ChipSumDilQkv.nD Cert.ChipSumDilQkv.τ).loc Cert.ChipSumDilQkv.main_arg0))
      ∧ r.2.sem = fun _ => 0)

def quiescent_ChipSumDilQkvIdeal [hChipSumDilQkvIdeal : Cert.ChipSumDilQkvIdeal.Facts] : Prop :=
  ∀ (m : (ℓ : Loc Cert.ChipSumDilQkvIdeal.nD Cert.ChipSumDilQkvIdeal.τ Cert.ChipSumDilQkvIdeal.sig) → Buf (Elt Ideal) ℓ) (g : Dev Cert.ChipSumDilQkvIdeal.nD → PrngReg), Pre_ChipSumDilQkvIdeal m →
    θ_run (Cert.ChipSumDilQkvIdeal.defs (F := Ideal)) (onTc (τ := Cert.ChipSumDilQkvIdeal.τ) (Cert.ChipSumDilQkvIdeal.main (F := Ideal))) ⟨m, fun _ => 0, g⟩ (fun r => (∀ c : Dev Cert.ChipSumDilQkvIdeal.nD,
      r.2.mem ((c.tc : Thread Cert.ChipSumDilQkvIdeal.nD Cert.ChipSumDilQkvIdeal.τ).loc Cert.ChipSumDilQkvIdeal.main_arg0) = m ((c.tc : Thread Cert.ChipSumDilQkvIdeal.nD Cert.ChipSumDilQkvIdeal.τ).loc Cert.ChipSumDilQkvIdeal.main_arg0))
      ∧ r.2.sem = fun _ => 0)

def quiescent_ChipSumDilQkvReferenceIdeal [hChipSumDilQkvReferenceIdeal : Cert.ChipSumDilQkvReferenceIdeal.Facts] : Prop :=
  ∀ (m : (ℓ : Loc Cert.ChipSumDilQkvReferenceIdeal.nD Cert.ChipSumDilQkvReferenceIdeal.τ Cert.ChipSumDilQkvReferenceIdeal.sig) → Buf (Elt Ideal) ℓ) (g : Dev Cert.ChipSumDilQkvReferenceIdeal.nD → PrngReg), Pre_ChipSumDilQkvReferenceIdeal m →
    θ_run (Cert.ChipSumDilQkvReferenceIdeal.defs (F := Ideal)) (onTc (τ := Cert.ChipSumDilQkvReferenceIdeal.τ) (Cert.ChipSumDilQkvReferenceIdeal.main (F := Ideal))) ⟨m, fun _ => 0, g⟩ (fun r => (∀ c : Dev Cert.ChipSumDilQkvReferenceIdeal.nD,
      r.2.mem ((c.tc : Thread Cert.ChipSumDilQkvReferenceIdeal.nD Cert.ChipSumDilQkvReferenceIdeal.τ).loc Cert.ChipSumDilQkvReferenceIdeal.main_arg0) = m ((c.tc : Thread Cert.ChipSumDilQkvReferenceIdeal.nD Cert.ChipSumDilQkvReferenceIdeal.τ).loc Cert.ChipSumDilQkvReferenceIdeal.main_arg0))
      ∧ r.2.sem = fun _ => 0)

def quiescent_ChipSumDilQkvReference [hChipSumDilQkvReference : Cert.ChipSumDilQkvReference.Facts] : Prop :=
  ∀ (m : (ℓ : Loc Cert.ChipSumDilQkvReference.nD Cert.ChipSumDilQkvReference.τ Cert.ChipSumDilQkvReference.sig) → Buf (Elt Bits) ℓ) (g : Dev Cert.ChipSumDilQkvReference.nD → PrngReg), Pre_ChipSumDilQkvReference m →
    θ_run (Cert.ChipSumDilQkvReference.defs (F := Bits)) (onTc (τ := Cert.ChipSumDilQkvReference.τ) (Cert.ChipSumDilQkvReference.main (F := Bits))) ⟨m, fun _ => 0, g⟩ (fun r => (∀ c : Dev Cert.ChipSumDilQkvReference.nD,
      r.2.mem ((c.tc : Thread Cert.ChipSumDilQkvReference.nD Cert.ChipSumDilQkvReference.τ).loc Cert.ChipSumDilQkvReference.main_arg0) = m ((c.tc : Thread Cert.ChipSumDilQkvReference.nD Cert.ChipSumDilQkvReference.τ).loc Cert.ChipSumDilQkvReference.main_arg0))
      ∧ r.2.sem = fun _ => 0)

def quiescent_AdamNaQkv [hAdamNaQkv : Cert.AdamNaQkv.Facts] : Prop :=
  ∀ (m : (ℓ : Loc Cert.AdamNaQkv.nD Cert.AdamNaQkv.τ Cert.AdamNaQkv.sig) → Buf (Elt Bits) ℓ) (g : Dev Cert.AdamNaQkv.nD → PrngReg), Pre_AdamNaQkv m →
    θ_run (Cert.AdamNaQkv.defs (F := Bits)) (onTc (τ := Cert.AdamNaQkv.τ) (Cert.AdamNaQkv.main (F := Bits))) ⟨m, fun _ => 0, g⟩ (fun r => (∀ c : Dev Cert.AdamNaQkv.nD,
      r.2.mem ((c.tc : Thread Cert.AdamNaQkv.nD Cert.AdamNaQkv.τ).loc Cert.AdamNaQkv.main_arg0) = m ((c.tc : Thread Cert.AdamNaQkv.nD Cert.AdamNaQkv.τ).loc Cert.AdamNaQkv.main_arg0)
      ∧ r.2.mem ((c.tc : Thread Cert.AdamNaQkv.nD Cert.AdamNaQkv.τ).loc Cert.AdamNaQkv.main_arg1) = m ((c.tc : Thread Cert.AdamNaQkv.nD Cert.AdamNaQkv.τ).loc Cert.AdamNaQkv.main_arg1)
      ∧ r.2.mem ((c.tc : Thread Cert.AdamNaQkv.nD Cert.AdamNaQkv.τ).loc Cert.AdamNaQkv.main_arg2) = m ((c.tc : Thread Cert.AdamNaQkv.nD Cert.AdamNaQkv.τ).loc Cert.AdamNaQkv.main_arg2)
      ∧ r.2.mem ((c.tc : Thread Cert.AdamNaQkv.nD Cert.AdamNaQkv.τ).loc Cert.AdamNaQkv.main_arg3) = m ((c.tc : Thread Cert.AdamNaQkv.nD Cert.AdamNaQkv.τ).loc Cert.AdamNaQkv.main_arg3))
      ∧ r.2.sem = fun _ => 0)

def quiescent_AdamNaQkvIdeal [hAdamNaQkvIdeal : Cert.AdamNaQkvIdeal.Facts] : Prop :=
  ∀ (m : (ℓ : Loc Cert.AdamNaQkvIdeal.nD Cert.AdamNaQkvIdeal.τ Cert.AdamNaQkvIdeal.sig) → Buf (Elt Ideal) ℓ) (g : Dev Cert.AdamNaQkvIdeal.nD → PrngReg), Pre_AdamNaQkvIdeal m →
    θ_run (Cert.AdamNaQkvIdeal.defs (F := Ideal)) (onTc (τ := Cert.AdamNaQkvIdeal.τ) (Cert.AdamNaQkvIdeal.main (F := Ideal))) ⟨m, fun _ => 0, g⟩ (fun r => (∀ c : Dev Cert.AdamNaQkvIdeal.nD,
      r.2.mem ((c.tc : Thread Cert.AdamNaQkvIdeal.nD Cert.AdamNaQkvIdeal.τ).loc Cert.AdamNaQkvIdeal.main_arg0) = m ((c.tc : Thread Cert.AdamNaQkvIdeal.nD Cert.AdamNaQkvIdeal.τ).loc Cert.AdamNaQkvIdeal.main_arg0)
      ∧ r.2.mem ((c.tc : Thread Cert.AdamNaQkvIdeal.nD Cert.AdamNaQkvIdeal.τ).loc Cert.AdamNaQkvIdeal.main_arg1) = m ((c.tc : Thread Cert.AdamNaQkvIdeal.nD Cert.AdamNaQkvIdeal.τ).loc Cert.AdamNaQkvIdeal.main_arg1)
      ∧ r.2.mem ((c.tc : Thread Cert.AdamNaQkvIdeal.nD Cert.AdamNaQkvIdeal.τ).loc Cert.AdamNaQkvIdeal.main_arg2) = m ((c.tc : Thread Cert.AdamNaQkvIdeal.nD Cert.AdamNaQkvIdeal.τ).loc Cert.AdamNaQkvIdeal.main_arg2)
      ∧ r.2.mem ((c.tc : Thread Cert.AdamNaQkvIdeal.nD Cert.AdamNaQkvIdeal.τ).loc Cert.AdamNaQkvIdeal.main_arg3) = m ((c.tc : Thread Cert.AdamNaQkvIdeal.nD Cert.AdamNaQkvIdeal.τ).loc Cert.AdamNaQkvIdeal.main_arg3))
      ∧ r.2.sem = fun _ => 0)

def quiescent_AdamNaQkvReferenceIdeal [hAdamNaQkvReferenceIdeal : Cert.AdamNaQkvReferenceIdeal.Facts] : Prop :=
  ∀ (m : (ℓ : Loc Cert.AdamNaQkvReferenceIdeal.nD Cert.AdamNaQkvReferenceIdeal.τ Cert.AdamNaQkvReferenceIdeal.sig) → Buf (Elt Ideal) ℓ) (g : Dev Cert.AdamNaQkvReferenceIdeal.nD → PrngReg), Pre_AdamNaQkvReferenceIdeal m →
    θ_run (Cert.AdamNaQkvReferenceIdeal.defs (F := Ideal)) (onTc (τ := Cert.AdamNaQkvReferenceIdeal.τ) (Cert.AdamNaQkvReferenceIdeal.main (F := Ideal))) ⟨m, fun _ => 0, g⟩ (fun r => (∀ c : Dev Cert.AdamNaQkvReferenceIdeal.nD,
      r.2.mem ((c.tc : Thread Cert.AdamNaQkvReferenceIdeal.nD Cert.AdamNaQkvReferenceIdeal.τ).loc Cert.AdamNaQkvReferenceIdeal.main_arg0) = m ((c.tc : Thread Cert.AdamNaQkvReferenceIdeal.nD Cert.AdamNaQkvReferenceIdeal.τ).loc Cert.AdamNaQkvReferenceIdeal.main_arg0)
      ∧ r.2.mem ((c.tc : Thread Cert.AdamNaQkvReferenceIdeal.nD Cert.AdamNaQkvReferenceIdeal.τ).loc Cert.AdamNaQkvReferenceIdeal.main_arg1) = m ((c.tc : Thread Cert.AdamNaQkvReferenceIdeal.nD Cert.AdamNaQkvReferenceIdeal.τ).loc Cert.AdamNaQkvReferenceIdeal.main_arg1)
      ∧ r.2.mem ((c.tc : Thread Cert.AdamNaQkvReferenceIdeal.nD Cert.AdamNaQkvReferenceIdeal.τ).loc Cert.AdamNaQkvReferenceIdeal.main_arg2) = m ((c.tc : Thread Cert.AdamNaQkvReferenceIdeal.nD Cert.AdamNaQkvReferenceIdeal.τ).loc Cert.AdamNaQkvReferenceIdeal.main_arg2)
      ∧ r.2.mem ((c.tc : Thread Cert.AdamNaQkvReferenceIdeal.nD Cert.AdamNaQkvReferenceIdeal.τ).loc Cert.AdamNaQkvReferenceIdeal.main_arg3) = m ((c.tc : Thread Cert.AdamNaQkvReferenceIdeal.nD Cert.AdamNaQkvReferenceIdeal.τ).loc Cert.AdamNaQkvReferenceIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutReferenceIdeal [hAdamOutReferenceIdeal : Cert.AdamOutReferenceIdeal.Facts] : Prop :=
  ∀ (m : (ℓ : Loc Cert.AdamOutReferenceIdeal.nD Cert.AdamOutReferenceIdeal.τ Cert.AdamOutReferenceIdeal.sig) → Buf (Elt Ideal) ℓ) (g : Dev Cert.AdamOutReferenceIdeal.nD → PrngReg), Pre_AdamOutReferenceIdeal m →
    θ_run (Cert.AdamOutReferenceIdeal.defs (F := Ideal)) (onTc (τ := Cert.AdamOutReferenceIdeal.τ) (Cert.AdamOutReferenceIdeal.main (F := Ideal))) ⟨m, fun _ => 0, g⟩ (fun r => (∀ c : Dev Cert.AdamOutReferenceIdeal.nD,
      r.2.mem ((c.tc : Thread Cert.AdamOutReferenceIdeal.nD Cert.AdamOutReferenceIdeal.τ).loc Cert.AdamOutReferenceIdeal.main_arg0) = m ((c.tc : Thread Cert.AdamOutReferenceIdeal.nD Cert.AdamOutReferenceIdeal.τ).loc Cert.AdamOutReferenceIdeal.main_arg0)
      ∧ r.2.mem ((c.tc : Thread Cert.AdamOutReferenceIdeal.nD Cert.AdamOutReferenceIdeal.τ).loc Cert.AdamOutReferenceIdeal.main_arg1) = m ((c.tc : Thread Cert.AdamOutReferenceIdeal.nD Cert.AdamOutReferenceIdeal.τ).loc Cert.AdamOutReferenceIdeal.main_arg1)
      ∧ r.2.mem ((c.tc : Thread Cert.AdamOutReferenceIdeal.nD Cert.AdamOutReferenceIdeal.τ).loc Cert.AdamOutReferenceIdeal.main_arg2) = m ((c.tc : Thread Cert.AdamOutReferenceIdeal.nD Cert.AdamOutReferenceIdeal.τ).loc Cert.AdamOutReferenceIdeal.main_arg2)
      ∧ r.2.mem ((c.tc : Thread Cert.AdamOutReferenceIdeal.nD Cert.AdamOutReferenceIdeal.τ).loc Cert.AdamOutReferenceIdeal.main_arg3) = m ((c.tc : Thread Cert.AdamOutReferenceIdeal.nD Cert.AdamOutReferenceIdeal.τ).loc Cert.AdamOutReferenceIdeal.main_arg3))
      ∧ r.2.sem = fun _ => 0)

def quiescent_AdamFfn [hAdamFfn : Cert.AdamFfn.Facts] : Prop :=
  ∀ (m : (ℓ : Loc Cert.AdamFfn.nD Cert.AdamFfn.τ Cert.AdamFfn.sig) → Buf (Elt Bits) ℓ) (g : Dev Cert.AdamFfn.nD → PrngReg), Pre_AdamFfn m →
    θ_run (Cert.AdamFfn.defs (F := Bits)) (onTc (τ := Cert.AdamFfn.τ) (Cert.AdamFfn.main (F := Bits))) ⟨m, fun _ => 0, g⟩ (fun r => (∀ c : Dev Cert.AdamFfn.nD,
      r.2.mem ((c.tc : Thread Cert.AdamFfn.nD Cert.AdamFfn.τ).loc Cert.AdamFfn.main_arg0) = m ((c.tc : Thread Cert.AdamFfn.nD Cert.AdamFfn.τ).loc Cert.AdamFfn.main_arg0)
      ∧ r.2.mem ((c.tc : Thread Cert.AdamFfn.nD Cert.AdamFfn.τ).loc Cert.AdamFfn.main_arg1) = m ((c.tc : Thread Cert.AdamFfn.nD Cert.AdamFfn.τ).loc Cert.AdamFfn.main_arg1)
      ∧ r.2.mem ((c.tc : Thread Cert.AdamFfn.nD Cert.AdamFfn.τ).loc Cert.AdamFfn.main_arg2) = m ((c.tc : Thread Cert.AdamFfn.nD Cert.AdamFfn.τ).loc Cert.AdamFfn.main_arg2)
      ∧ r.2.mem ((c.tc : Thread Cert.AdamFfn.nD Cert.AdamFfn.τ).loc Cert.AdamFfn.main_arg3) = m ((c.tc : Thread Cert.AdamFfn.nD Cert.AdamFfn.τ).loc Cert.AdamFfn.main_arg3))
      ∧ r.2.sem = fun _ => 0)

def quiescent_AdamFfnIdeal [hAdamFfnIdeal : Cert.AdamFfnIdeal.Facts] : Prop :=
  ∀ (m : (ℓ : Loc Cert.AdamFfnIdeal.nD Cert.AdamFfnIdeal.τ Cert.AdamFfnIdeal.sig) → Buf (Elt Ideal) ℓ) (g : Dev Cert.AdamFfnIdeal.nD → PrngReg), Pre_AdamFfnIdeal m →
    θ_run (Cert.AdamFfnIdeal.defs (F := Ideal)) (onTc (τ := Cert.AdamFfnIdeal.τ) (Cert.AdamFfnIdeal.main (F := Ideal))) ⟨m, fun _ => 0, g⟩ (fun r => (∀ c : Dev Cert.AdamFfnIdeal.nD,
      r.2.mem ((c.tc : Thread Cert.AdamFfnIdeal.nD Cert.AdamFfnIdeal.τ).loc Cert.AdamFfnIdeal.main_arg0) = m ((c.tc : Thread Cert.AdamFfnIdeal.nD Cert.AdamFfnIdeal.τ).loc Cert.AdamFfnIdeal.main_arg0)
      ∧ r.2.mem ((c.tc : Thread Cert.AdamFfnIdeal.nD Cert.AdamFfnIdeal.τ).loc Cert.AdamFfnIdeal.main_arg1) = m ((c.tc : Thread Cert.AdamFfnIdeal.nD Cert.AdamFfnIdeal.τ).loc Cert.AdamFfnIdeal.main_arg1)
      ∧ r.2.mem ((c.tc : Thread Cert.AdamFfnIdeal.nD Cert.AdamFfnIdeal.τ).loc Cert.AdamFfnIdeal.main_arg2) = m ((c.tc : Thread Cert.AdamFfnIdeal.nD Cert.AdamFfnIdeal.τ).loc Cert.AdamFfnIdeal.main_arg2)
      ∧ r.2.mem ((c.tc : Thread Cert.AdamFfnIdeal.nD Cert.AdamFfnIdeal.τ).loc Cert.AdamFfnIdeal.main_arg3) = m ((c.tc : Thread Cert.AdamFfnIdeal.nD Cert.AdamFfnIdeal.τ).loc Cert.AdamFfnIdeal.main_arg3))
      ∧ r.2.sem = fun _ => 0)

def quiescent_AdamFfnReferenceIdeal [hAdamFfnReferenceIdeal : Cert.AdamFfnReferenceIdeal.Facts] : Prop :=
  ∀ (m : (ℓ : Loc Cert.AdamFfnReferenceIdeal.nD Cert.AdamFfnReferenceIdeal.τ Cert.AdamFfnReferenceIdeal.sig) → Buf (Elt Ideal) ℓ) (g : Dev Cert.AdamFfnReferenceIdeal.nD → PrngReg), Pre_AdamFfnReferenceIdeal m →
    θ_run (Cert.AdamFfnReferenceIdeal.defs (F := Ideal)) (onTc (τ := Cert.AdamFfnReferenceIdeal.τ) (Cert.AdamFfnReferenceIdeal.main (F := Ideal))) ⟨m, fun _ => 0, g⟩ (fun r => (∀ c : Dev Cert.AdamFfnReferenceIdeal.nD,
      r.2.mem ((c.tc : Thread Cert.AdamFfnReferenceIdeal.nD Cert.AdamFfnReferenceIdeal.τ).loc Cert.AdamFfnReferenceIdeal.main_arg0) = m ((c.tc : Thread Cert.AdamFfnReferenceIdeal.nD Cert.AdamFfnReferenceIdeal.τ).loc Cert.AdamFfnReferenceIdeal.main_arg0)
      ∧ r.2.mem ((c.tc : Thread Cert.AdamFfnReferenceIdeal.nD Cert.AdamFfnReferenceIdeal.τ).loc Cert.AdamFfnReferenceIdeal.main_arg1) = m ((c.tc : Thread Cert.AdamFfnReferenceIdeal.nD Cert.AdamFfnReferenceIdeal.τ).loc Cert.AdamFfnReferenceIdeal.main_arg1)
      ∧ r.2.mem ((c.tc : Thread Cert.AdamFfnReferenceIdeal.nD Cert.AdamFfnReferenceIdeal.τ).loc Cert.AdamFfnReferenceIdeal.main_arg2) = m ((c.tc : Thread Cert.AdamFfnReferenceIdeal.nD Cert.AdamFfnReferenceIdeal.τ).loc Cert.AdamFfnReferenceIdeal.main_arg2)
      ∧ r.2.mem ((c.tc : Thread Cert.AdamFfnReferenceIdeal.nD Cert.AdamFfnReferenceIdeal.τ).loc Cert.AdamFfnReferenceIdeal.main_arg3) = m ((c.tc : Thread Cert.AdamFfnReferenceIdeal.nD Cert.AdamFfnReferenceIdeal.τ).loc Cert.AdamFfnReferenceIdeal.main_arg3))
      ∧ r.2.sem = fun _ => 0)

def quiescent_AdamFfnDown [hAdamFfnDown : Cert.AdamFfnDown.Facts] : Prop :=
  ∀ (m : (ℓ : Loc Cert.AdamFfnDown.nD Cert.AdamFfnDown.τ Cert.AdamFfnDown.sig) → Buf (Elt Bits) ℓ) (g : Dev Cert.AdamFfnDown.nD → PrngReg), Pre_AdamFfnDown m →
    θ_run (Cert.AdamFfnDown.defs (F := Bits)) (onTc (τ := Cert.AdamFfnDown.τ) (Cert.AdamFfnDown.main (F := Bits))) ⟨m, fun _ => 0, g⟩ (fun r => (∀ c : Dev Cert.AdamFfnDown.nD,
      r.2.mem ((c.tc : Thread Cert.AdamFfnDown.nD Cert.AdamFfnDown.τ).loc Cert.AdamFfnDown.main_arg0) = m ((c.tc : Thread Cert.AdamFfnDown.nD Cert.AdamFfnDown.τ).loc Cert.AdamFfnDown.main_arg0)
      ∧ r.2.mem ((c.tc : Thread Cert.AdamFfnDown.nD Cert.AdamFfnDown.τ).loc Cert.AdamFfnDown.main_arg1) = m ((c.tc : Thread Cert.AdamFfnDown.nD Cert.AdamFfnDown.τ).loc Cert.AdamFfnDown.main_arg1)
      ∧ r.2.mem ((c.tc : Thread Cert.AdamFfnDown.nD Cert.AdamFfnDown.τ).loc Cert.AdamFfnDown.main_arg2) = m ((c.tc : Thread Cert.AdamFfnDown.nD Cert.AdamFfnDown.τ).loc Cert.AdamFfnDown.main_arg2)
      ∧ r.2.mem ((c.tc : Thread Cert.AdamFfnDown.nD Cert.AdamFfnDown.τ).loc Cert.AdamFfnDown.main_arg3) = m ((c.tc : Thread Cert.AdamFfnDown.nD Cert.AdamFfnDown.τ).loc Cert.AdamFfnDown.main_arg3))
      ∧ r.2.sem = fun _ => 0)

def quiescent_AdamFfnDownIdeal [hAdamFfnDownIdeal : Cert.AdamFfnDownIdeal.Facts] : Prop :=
  ∀ (m : (ℓ : Loc Cert.AdamFfnDownIdeal.nD Cert.AdamFfnDownIdeal.τ Cert.AdamFfnDownIdeal.sig) → Buf (Elt Ideal) ℓ) (g : Dev Cert.AdamFfnDownIdeal.nD → PrngReg), Pre_AdamFfnDownIdeal m →
    θ_run (Cert.AdamFfnDownIdeal.defs (F := Ideal)) (onTc (τ := Cert.AdamFfnDownIdeal.τ) (Cert.AdamFfnDownIdeal.main (F := Ideal))) ⟨m, fun _ => 0, g⟩ (fun r => (∀ c : Dev Cert.AdamFfnDownIdeal.nD,
      r.2.mem ((c.tc : Thread Cert.AdamFfnDownIdeal.nD Cert.AdamFfnDownIdeal.τ).loc Cert.AdamFfnDownIdeal.main_arg0) = m ((c.tc : Thread Cert.AdamFfnDownIdeal.nD Cert.AdamFfnDownIdeal.τ).loc Cert.AdamFfnDownIdeal.main_arg0)
      ∧ r.2.mem ((c.tc : Thread Cert.AdamFfnDownIdeal.nD Cert.AdamFfnDownIdeal.τ).loc Cert.AdamFfnDownIdeal.main_arg1) = m ((c.tc : Thread Cert.AdamFfnDownIdeal.nD Cert.AdamFfnDownIdeal.τ).loc Cert.AdamFfnDownIdeal.main_arg1)
      ∧ r.2.mem ((c.tc : Thread Cert.AdamFfnDownIdeal.nD Cert.AdamFfnDownIdeal.τ).loc Cert.AdamFfnDownIdeal.main_arg2) = m ((c.tc : Thread Cert.AdamFfnDownIdeal.nD Cert.AdamFfnDownIdeal.τ).loc Cert.AdamFfnDownIdeal.main_arg2)
      ∧ r.2.mem ((c.tc : Thread Cert.AdamFfnDownIdeal.nD Cert.AdamFfnDownIdeal.τ).loc Cert.AdamFfnDownIdeal.main_arg3) = m ((c.tc : Thread Cert.AdamFfnDownIdeal.nD Cert.AdamFfnDownIdeal.τ).loc Cert.AdamFfnDownIdeal.main_arg3))
      ∧ r.2.sem = fun _ => 0)

def quiescent_AdamFfnDownReferenceIdeal [hAdamFfnDownReferenceIdeal : Cert.AdamFfnDownReferenceIdeal.Facts] : Prop :=
  ∀ (m : (ℓ : Loc Cert.AdamFfnDownReferenceIdeal.nD Cert.AdamFfnDownReferenceIdeal.τ Cert.AdamFfnDownReferenceIdeal.sig) → Buf (Elt Ideal) ℓ) (g : Dev Cert.AdamFfnDownReferenceIdeal.nD → PrngReg), Pre_AdamFfnDownReferenceIdeal m →
    θ_run (Cert.AdamFfnDownReferenceIdeal.defs (F := Ideal)) (onTc (τ := Cert.AdamFfnDownReferenceIdeal.τ) (Cert.AdamFfnDownReferenceIdeal.main (F := Ideal))) ⟨m, fun _ => 0, g⟩ (fun r => (∀ c : Dev Cert.AdamFfnDownReferenceIdeal.nD,
      r.2.mem ((c.tc : Thread Cert.AdamFfnDownReferenceIdeal.nD Cert.AdamFfnDownReferenceIdeal.τ).loc Cert.AdamFfnDownReferenceIdeal.main_arg0) = m ((c.tc : Thread Cert.AdamFfnDownReferenceIdeal.nD Cert.AdamFfnDownReferenceIdeal.τ).loc Cert.AdamFfnDownReferenceIdeal.main_arg0)
      ∧ r.2.mem ((c.tc : Thread Cert.AdamFfnDownReferenceIdeal.nD Cert.AdamFfnDownReferenceIdeal.τ).loc Cert.AdamFfnDownReferenceIdeal.main_arg1) = m ((c.tc : Thread Cert.AdamFfnDownReferenceIdeal.nD Cert.AdamFfnDownReferenceIdeal.τ).loc Cert.AdamFfnDownReferenceIdeal.main_arg1)
      ∧ r.2.mem ((c.tc : Thread Cert.AdamFfnDownReferenceIdeal.nD Cert.AdamFfnDownReferenceIdeal.τ).loc Cert.AdamFfnDownReferenceIdeal.main_arg2) = m ((c.tc : Thread Cert.AdamFfnDownReferenceIdeal.nD Cert.AdamFfnDownReferenceIdeal.τ).loc Cert.AdamFfnDownReferenceIdeal.main_arg2)
      ∧ r.2.mem ((c.tc : Thread Cert.AdamFfnDownReferenceIdeal.nD Cert.AdamFfnDownReferenceIdeal.τ).loc Cert.AdamFfnDownReferenceIdeal.main_arg3) = m ((c.tc : Thread Cert.AdamFfnDownReferenceIdeal.nD Cert.AdamFfnDownReferenceIdeal.τ).loc Cert.AdamFfnDownReferenceIdeal.main_arg3))
      ∧ r.2.sem = fun _ => 0)

def quiescent_AdamDilQkv [hAdamDilQkv : Cert.AdamDilQkv.Facts] : Prop :=
  ∀ (m : (ℓ : Loc Cert.AdamDilQkv.nD Cert.AdamDilQkv.τ Cert.AdamDilQkv.sig) → Buf (Elt Bits) ℓ) (g : Dev Cert.AdamDilQkv.nD → PrngReg), Pre_AdamDilQkv m →
    θ_run (Cert.AdamDilQkv.defs (F := Bits)) (onTc (τ := Cert.AdamDilQkv.τ) (Cert.AdamDilQkv.main (F := Bits))) ⟨m, fun _ => 0, g⟩ (fun r => (∀ c : Dev Cert.AdamDilQkv.nD,
      r.2.mem ((c.tc : Thread Cert.AdamDilQkv.nD Cert.AdamDilQkv.τ).loc Cert.AdamDilQkv.main_arg0) = m ((c.tc : Thread Cert.AdamDilQkv.nD Cert.AdamDilQkv.τ).loc Cert.AdamDilQkv.main_arg0)
      ∧ r.2.mem ((c.tc : Thread Cert.AdamDilQkv.nD Cert.AdamDilQkv.τ).loc Cert.AdamDilQkv.main_arg1) = m ((c.tc : Thread Cert.AdamDilQkv.nD Cert.AdamDilQkv.τ).loc Cert.AdamDilQkv.main_arg1)
      ∧ r.2.mem ((c.tc : Thread Cert.AdamDilQkv.nD Cert.AdamDilQkv.τ).loc Cert.AdamDilQkv.main_arg2) = m ((c.tc : Thread Cert.AdamDilQkv.nD Cert.AdamDilQkv.τ).loc Cert.AdamDilQkv.main_arg2)
      ∧ r.2.mem ((c.tc : Thread Cert.AdamDilQkv.nD Cert.AdamDilQkv.τ).loc Cert.AdamDilQkv.main_arg3) = m ((c.tc : Thread Cert.AdamDilQkv.nD Cert.AdamDilQkv.τ).loc Cert.AdamDilQkv.main_arg3))
      ∧ r.2.sem = fun _ => 0)

def quiescent_AdamDilQkvIdeal [hAdamDilQkvIdeal : Cert.AdamDilQkvIdeal.Facts] : Prop :=
  ∀ (m : (ℓ : Loc Cert.AdamDilQkvIdeal.nD Cert.AdamDilQkvIdeal.τ Cert.AdamDilQkvIdeal.sig) → Buf (Elt Ideal) ℓ) (g : Dev Cert.AdamDilQkvIdeal.nD → PrngReg), Pre_AdamDilQkvIdeal m →
    θ_run (Cert.AdamDilQkvIdeal.defs (F := Ideal)) (onTc (τ := Cert.AdamDilQkvIdeal.τ) (Cert.AdamDilQkvIdeal.main (F := Ideal))) ⟨m, fun _ => 0, g⟩ (fun r => (∀ c : Dev Cert.AdamDilQkvIdeal.nD,
      r.2.mem ((c.tc : Thread Cert.AdamDilQkvIdeal.nD Cert.AdamDilQkvIdeal.τ).loc Cert.AdamDilQkvIdeal.main_arg0) = m ((c.tc : Thread Cert.AdamDilQkvIdeal.nD Cert.AdamDilQkvIdeal.τ).loc Cert.AdamDilQkvIdeal.main_arg0)
      ∧ r.2.mem ((c.tc : Thread Cert.AdamDilQkvIdeal.nD Cert.AdamDilQkvIdeal.τ).loc Cert.AdamDilQkvIdeal.main_arg1) = m ((c.tc : Thread Cert.AdamDilQkvIdeal.nD Cert.AdamDilQkvIdeal.τ).loc Cert.AdamDilQkvIdeal.main_arg1)
      ∧ r.2.mem ((c.tc : Thread Cert.AdamDilQkvIdeal.nD Cert.AdamDilQkvIdeal.τ).loc Cert.AdamDilQkvIdeal.main_arg2) = m ((c.tc : Thread Cert.AdamDilQkvIdeal.nD Cert.AdamDilQkvIdeal.τ).loc Cert.AdamDilQkvIdeal.main_arg2)
      ∧ r.2.mem ((c.tc : Thread Cert.AdamDilQkvIdeal.nD Cert.AdamDilQkvIdeal.τ).loc Cert.AdamDilQkvIdeal.main_arg3) = m ((c.tc : Thread Cert.AdamDilQkvIdeal.nD Cert.AdamDilQkvIdeal.τ).loc Cert.AdamDilQkvIdeal.main_arg3))
      ∧ r.2.sem = fun _ => 0)

def quiescent_AdamDilQkvReferenceIdeal [hAdamDilQkvReferenceIdeal : Cert.AdamDilQkvReferenceIdeal.Facts] : Prop :=
  ∀ (m : (ℓ : Loc Cert.AdamDilQkvReferenceIdeal.nD Cert.AdamDilQkvReferenceIdeal.τ Cert.AdamDilQkvReferenceIdeal.sig) → Buf (Elt Ideal) ℓ) (g : Dev Cert.AdamDilQkvReferenceIdeal.nD → PrngReg), Pre_AdamDilQkvReferenceIdeal m →
    θ_run (Cert.AdamDilQkvReferenceIdeal.defs (F := Ideal)) (onTc (τ := Cert.AdamDilQkvReferenceIdeal.τ) (Cert.AdamDilQkvReferenceIdeal.main (F := Ideal))) ⟨m, fun _ => 0, g⟩ (fun r => (∀ c : Dev Cert.AdamDilQkvReferenceIdeal.nD,
      r.2.mem ((c.tc : Thread Cert.AdamDilQkvReferenceIdeal.nD Cert.AdamDilQkvReferenceIdeal.τ).loc Cert.AdamDilQkvReferenceIdeal.main_arg0) = m ((c.tc : Thread Cert.AdamDilQkvReferenceIdeal.nD Cert.AdamDilQkvReferenceIdeal.τ).loc Cert.AdamDilQkvReferenceIdeal.main_arg0)
      ∧ r.2.mem ((c.tc : Thread Cert.AdamDilQkvReferenceIdeal.nD Cert.AdamDilQkvReferenceIdeal.τ).loc Cert.AdamDilQkvReferenceIdeal.main_arg1) = m ((c.tc : Thread Cert.AdamDilQkvReferenceIdeal.nD Cert.AdamDilQkvReferenceIdeal.τ).loc Cert.AdamDilQkvReferenceIdeal.main_arg1)
      ∧ r.2.mem ((c.tc : Thread Cert.AdamDilQkvReferenceIdeal.nD Cert.AdamDilQkvReferenceIdeal.τ).loc Cert.AdamDilQkvReferenceIdeal.main_arg2) = m ((c.tc : Thread Cert.AdamDilQkvReferenceIdeal.nD Cert.AdamDilQkvReferenceIdeal.τ).loc Cert.AdamDilQkvReferenceIdeal.main_arg2)
      ∧ r.2.mem ((c.tc : Thread Cert.AdamDilQkvReferenceIdeal.nD Cert.AdamDilQkvReferenceIdeal.τ).loc Cert.AdamDilQkvReferenceIdeal.main_arg3) = m ((c.tc : Thread Cert.AdamDilQkvReferenceIdeal.nD Cert.AdamDilQkvReferenceIdeal.τ).loc Cert.AdamDilQkvReferenceIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallReferenceIdeal [hAdamSmallReferenceIdeal : Cert.AdamSmallReferenceIdeal.Facts] : Prop :=
  ∀ (m : (ℓ : Loc Cert.AdamSmallReferenceIdeal.nD Cert.AdamSmallReferenceIdeal.τ Cert.AdamSmallReferenceIdeal.sig) → Buf (Elt Ideal) ℓ) (g : Dev Cert.AdamSmallReferenceIdeal.nD → PrngReg), Pre_AdamSmallReferenceIdeal m →
    θ_run (Cert.AdamSmallReferenceIdeal.defs (F := Ideal)) (onTc (τ := Cert.AdamSmallReferenceIdeal.τ) (Cert.AdamSmallReferenceIdeal.main (F := Ideal))) ⟨m, fun _ => 0, g⟩ (fun r => (∀ c : Dev Cert.AdamSmallReferenceIdeal.nD,
      r.2.mem ((c.tc : Thread Cert.AdamSmallReferenceIdeal.nD Cert.AdamSmallReferenceIdeal.τ).loc Cert.AdamSmallReferenceIdeal.main_arg0) = m ((c.tc : Thread Cert.AdamSmallReferenceIdeal.nD Cert.AdamSmallReferenceIdeal.τ).loc Cert.AdamSmallReferenceIdeal.main_arg0)
      ∧ r.2.mem ((c.tc : Thread Cert.AdamSmallReferenceIdeal.nD Cert.AdamSmallReferenceIdeal.τ).loc Cert.AdamSmallReferenceIdeal.main_arg1) = m ((c.tc : Thread Cert.AdamSmallReferenceIdeal.nD Cert.AdamSmallReferenceIdeal.τ).loc Cert.AdamSmallReferenceIdeal.main_arg1)
      ∧ r.2.mem ((c.tc : Thread Cert.AdamSmallReferenceIdeal.nD Cert.AdamSmallReferenceIdeal.τ).loc Cert.AdamSmallReferenceIdeal.main_arg2) = m ((c.tc : Thread Cert.AdamSmallReferenceIdeal.nD Cert.AdamSmallReferenceIdeal.τ).loc Cert.AdamSmallReferenceIdeal.main_arg2)
      ∧ r.2.mem ((c.tc : Thread Cert.AdamSmallReferenceIdeal.nD Cert.AdamSmallReferenceIdeal.τ).loc Cert.AdamSmallReferenceIdeal.main_arg3) = m ((c.tc : Thread Cert.AdamSmallReferenceIdeal.nD Cert.AdamSmallReferenceIdeal.τ).loc Cert.AdamSmallReferenceIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1))
      ∧ r.2.sem = fun _ => 0)

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ r.2.sem = fun _ => 0)

def quiescent_RmsReferenceIdeal [hRmsReferenceIdeal : Cert.RmsReferenceIdeal.Facts] : Prop :=
  ∀ (m : (ℓ : Loc Cert.RmsReferenceIdeal.nD Cert.RmsReferenceIdeal.τ Cert.RmsReferenceIdeal.sig) → Buf (Elt Ideal) ℓ) (g : Dev Cert.RmsReferenceIdeal.nD → PrngReg), Pre_RmsReferenceIdeal m →
    θ_run (Cert.RmsReferenceIdeal.defs (F := Ideal)) (onTc (τ := Cert.RmsReferenceIdeal.τ) (Cert.RmsReferenceIdeal.main (F := Ideal))) ⟨m, fun _ => 0, g⟩ (fun r => (∀ c : Dev Cert.RmsReferenceIdeal.nD,
      r.2.mem ((c.tc : Thread Cert.RmsReferenceIdeal.nD Cert.RmsReferenceIdeal.τ).loc Cert.RmsReferenceIdeal.main_arg0) = m ((c.tc : Thread Cert.RmsReferenceIdeal.nD Cert.RmsReferenceIdeal.τ).loc Cert.RmsReferenceIdeal.main_arg0)
      ∧ r.2.mem ((c.tc : Thread Cert.RmsReferenceIdeal.nD Cert.RmsReferenceIdeal.τ).loc Cert.RmsReferenceIdeal.main_arg1) = m ((c.tc : Thread Cert.RmsReferenceIdeal.nD Cert.RmsReferenceIdeal.τ).loc Cert.RmsReferenceIdeal.main_arg1))
      ∧ r.2.sem = fun _ => 0)

def quiescent_Resid [hResid : Cert.Resid.Facts] : Prop :=
  ∀ (m : (ℓ : Loc Cert.Resid.nD Cert.Resid.τ Cert.Resid.sig) → Buf (Elt Bits) ℓ) (g : Dev Cert.Resid.nD → PrngReg), Pre_Resid m →
    θ_run (Cert.Resid.defs (F := Bits)) (onTc (τ := Cert.Resid.τ) (Cert.Resid.main (F := Bits))) ⟨m, fun _ => 0, g⟩ (fun r => (∀ c : Dev Cert.Resid.nD,
      r.2.mem ((c.tc : Thread Cert.Resid.nD Cert.Resid.τ).loc Cert.Resid.main_arg0) = m ((c.tc : Thread Cert.Resid.nD Cert.Resid.τ).loc Cert.Resid.main_arg0)
      ∧ r.2.mem ((c.tc : Thread Cert.Resid.nD Cert.Resid.τ).loc Cert.Resid.main_arg1) = m ((c.tc : Thread Cert.Resid.nD Cert.Resid.τ).loc Cert.Resid.main_arg1)
      ∧ r.2.mem ((c.tc : Thread Cert.Resid.nD Cert.Resid.τ).loc Cert.Resid.main_arg2) = m ((c.tc : Thread Cert.Resid.nD Cert.Resid.τ).loc Cert.Resid.main_arg2))
      ∧ r.2.sem = fun _ => 0)

def quiescent_ResidIdeal [hResidIdeal : Cert.ResidIdeal.Facts] : Prop :=
  ∀ (m : (ℓ : Loc Cert.ResidIdeal.nD Cert.ResidIdeal.τ Cert.ResidIdeal.sig) → Buf (Elt Ideal) ℓ) (g : Dev Cert.ResidIdeal.nD → PrngReg), Pre_ResidIdeal m →
    θ_run (Cert.ResidIdeal.defs (F := Ideal)) (onTc (τ := Cert.ResidIdeal.τ) (Cert.ResidIdeal.main (F := Ideal))) ⟨m, fun _ => 0, g⟩ (fun r => (∀ c : Dev Cert.ResidIdeal.nD,
      r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
      ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
      ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2))
      ∧ r.2.sem = fun _ => 0)

def quiescent_ResidReferenceIdeal [hResidReferenceIdeal : Cert.ResidReferenceIdeal.Facts] : Prop :=
  ∀ (m : (ℓ : Loc Cert.ResidReferenceIdeal.nD Cert.ResidReferenceIdeal.τ Cert.ResidReferenceIdeal.sig) → Buf (Elt Ideal) ℓ) (g : Dev Cert.ResidReferenceIdeal.nD → PrngReg), Pre_ResidReferenceIdeal m →
    θ_run (Cert.ResidReferenceIdeal.defs (F := Ideal)) (onTc (τ := Cert.ResidReferenceIdeal.τ) (Cert.ResidReferenceIdeal.main (F := Ideal))) ⟨m, fun _ => 0, g⟩ (fun r => (∀ c : Dev Cert.ResidReferenceIdeal.nD,
      r.2.mem ((c.tc : Thread Cert.ResidReferenceIdeal.nD Cert.ResidReferenceIdeal.τ).loc Cert.ResidReferenceIdeal.main_arg0) = m ((c.tc : Thread Cert.ResidReferenceIdeal.nD Cert.ResidReferenceIdeal.τ).loc Cert.ResidReferenceIdeal.main_arg0)
      ∧ r.2.mem ((c.tc : Thread Cert.ResidReferenceIdeal.nD Cert.ResidReferenceIdeal.τ).loc Cert.ResidReferenceIdeal.main_arg1) = m ((c.tc : Thread Cert.ResidReferenceIdeal.nD Cert.ResidReferenceIdeal.τ).loc Cert.ResidReferenceIdeal.main_arg1)
      ∧ r.2.mem ((c.tc : Thread Cert.ResidReferenceIdeal.nD Cert.ResidReferenceIdeal.τ).loc Cert.ResidReferenceIdeal.main_arg2) = m ((c.tc : Thread Cert.ResidReferenceIdeal.nD Cert.ResidReferenceIdeal.τ).loc Cert.ResidReferenceIdeal.main_arg2))
      ∧ r.2.sem = fun _ => 0)

def quiescent_NormPost [hNormPost : Cert.NormPost.Facts] : Prop :=
  ∀ (m : (ℓ : Loc Cert.NormPost.nD Cert.NormPost.τ Cert.NormPost.sig) → Buf (Elt Bits) ℓ) (g : Dev Cert.NormPost.nD → PrngReg), Pre_NormPost m →
    θ_run (Cert.NormPost.defs (F := Bits)) (onTc (τ := Cert.NormPost.τ) (Cert.NormPost.main (F := Bits))) ⟨m, fun _ => 0, g⟩ (fun r => (∀ c : Dev Cert.NormPost.nD,
      r.2.mem ((c.tc : Thread Cert.NormPost.nD Cert.NormPost.τ).loc Cert.NormPost.main_arg0) = m ((c.tc : Thread Cert.NormPost.nD Cert.NormPost.τ).loc Cert.NormPost.main_arg0)
      ∧ r.2.mem ((c.tc : Thread Cert.NormPost.nD Cert.NormPost.τ).loc Cert.NormPost.main_arg1) = m ((c.tc : Thread Cert.NormPost.nD Cert.NormPost.τ).loc Cert.NormPost.main_arg1)
      ∧ r.2.mem ((c.tc : Thread Cert.NormPost.nD Cert.NormPost.τ).loc Cert.NormPost.main_arg2) = m ((c.tc : Thread Cert.NormPost.nD Cert.NormPost.τ).loc Cert.NormPost.main_arg2))
      ∧ r.2.sem = fun _ => 0)

def quiescent_NormPostIdeal [hNormPostIdeal : Cert.NormPostIdeal.Facts] : Prop :=
  ∀ (m : (ℓ : Loc Cert.NormPostIdeal.nD Cert.NormPostIdeal.τ Cert.NormPostIdeal.sig) → Buf (Elt Ideal) ℓ) (g : Dev Cert.NormPostIdeal.nD → PrngReg), Pre_NormPostIdeal m →
    θ_run (Cert.NormPostIdeal.defs (F := Ideal)) (onTc (τ := Cert.NormPostIdeal.τ) (Cert.NormPostIdeal.main (F := Ideal))) ⟨m, fun _ => 0, g⟩ (fun r => (∀ c : Dev Cert.NormPostIdeal.nD,
      r.2.mem ((c.tc : Thread Cert.NormPostIdeal.nD Cert.NormPostIdeal.τ).loc Cert.NormPostIdeal.main_arg0) = m ((c.tc : Thread Cert.NormPostIdeal.nD Cert.NormPostIdeal.τ).loc Cert.NormPostIdeal.main_arg0)
      ∧ r.2.mem ((c.tc : Thread Cert.NormPostIdeal.nD Cert.NormPostIdeal.τ).loc Cert.NormPostIdeal.main_arg1) = m ((c.tc : Thread Cert.NormPostIdeal.nD Cert.NormPostIdeal.τ).loc Cert.NormPostIdeal.main_arg1)
      ∧ r.2.mem ((c.tc : Thread Cert.NormPostIdeal.nD Cert.NormPostIdeal.τ).loc Cert.NormPostIdeal.main_arg2) = m ((c.tc : Thread Cert.NormPostIdeal.nD Cert.NormPostIdeal.τ).loc Cert.NormPostIdeal.main_arg2))
      ∧ r.2.sem = fun _ => 0)

def quiescent_NormPostReferenceIdeal [hNormPostReferenceIdeal : Cert.NormPostReferenceIdeal.Facts] : Prop :=
  ∀ (m : (ℓ : Loc Cert.NormPostReferenceIdeal.nD Cert.NormPostReferenceIdeal.τ Cert.NormPostReferenceIdeal.sig) → Buf (Elt Ideal) ℓ) (g : Dev Cert.NormPostReferenceIdeal.nD → PrngReg), Pre_NormPostReferenceIdeal m →
    θ_run (Cert.NormPostReferenceIdeal.defs (F := Ideal)) (onTc (τ := Cert.NormPostReferenceIdeal.τ) (Cert.NormPostReferenceIdeal.main (F := Ideal))) ⟨m, fun _ => 0, g⟩ (fun r => (∀ c : Dev Cert.NormPostReferenceIdeal.nD,
      r.2.mem ((c.tc : Thread Cert.NormPostReferenceIdeal.nD Cert.NormPostReferenceIdeal.τ).loc Cert.NormPostReferenceIdeal.main_arg0) = m ((c.tc : Thread Cert.NormPostReferenceIdeal.nD Cert.NormPostReferenceIdeal.τ).loc Cert.NormPostReferenceIdeal.main_arg0)
      ∧ r.2.mem ((c.tc : Thread Cert.NormPostReferenceIdeal.nD Cert.NormPostReferenceIdeal.τ).loc Cert.NormPostReferenceIdeal.main_arg1) = m ((c.tc : Thread Cert.NormPostReferenceIdeal.nD Cert.NormPostReferenceIdeal.τ).loc Cert.NormPostReferenceIdeal.main_arg1)
      ∧ r.2.mem ((c.tc : Thread Cert.NormPostReferenceIdeal.nD Cert.NormPostReferenceIdeal.τ).loc Cert.NormPostReferenceIdeal.main_arg2) = m ((c.tc : Thread Cert.NormPostReferenceIdeal.nD Cert.NormPostReferenceIdeal.τ).loc Cert.NormPostReferenceIdeal.main_arg2))
      ∧ r.2.sem = fun _ => 0)

def quiescent_NormPre [hNormPre : Cert.NormPre.Facts] : Prop :=
  ∀ (m : (ℓ : Loc Cert.NormPre.nD Cert.NormPre.τ Cert.NormPre.sig) → Buf (Elt Bits) ℓ) (g : Dev Cert.NormPre.nD → PrngReg), Pre_NormPre m →
    θ_run (Cert.NormPre.defs (F := Bits)) (onTc (τ := Cert.NormPre.τ) (Cert.NormPre.main (F := Bits))) ⟨m, fun _ => 0, g⟩ (fun r => (∀ c : Dev Cert.NormPre.nD,
      r.2.mem ((c.tc : Thread Cert.NormPre.nD Cert.NormPre.τ).loc Cert.NormPre.main_arg0) = m ((c.tc : Thread Cert.NormPre.nD Cert.NormPre.τ).loc Cert.NormPre.main_arg0)
      ∧ r.2.mem ((c.tc : Thread Cert.NormPre.nD Cert.NormPre.τ).loc Cert.NormPre.main_arg1) = m ((c.tc : Thread Cert.NormPre.nD Cert.NormPre.τ).loc Cert.NormPre.main_arg1)
      ∧ r.2.mem ((c.tc : Thread Cert.NormPre.nD Cert.NormPre.τ).loc Cert.NormPre.main_arg2) = m ((c.tc : Thread Cert.NormPre.nD Cert.NormPre.τ).loc Cert.NormPre.main_arg2)
      ∧ r.2.mem ((c.tc : Thread Cert.NormPre.nD Cert.NormPre.τ).loc Cert.NormPre.main_arg3) = m ((c.tc : Thread Cert.NormPre.nD Cert.NormPre.τ).loc Cert.NormPre.main_arg3))
      ∧ r.2.sem = fun _ => 0)

def quiescent_NormPreIdeal [hNormPreIdeal : Cert.NormPreIdeal.Facts] : Prop :=
  ∀ (m : (ℓ : Loc Cert.NormPreIdeal.nD Cert.NormPreIdeal.τ Cert.NormPreIdeal.sig) → Buf (Elt Ideal) ℓ) (g : Dev Cert.NormPreIdeal.nD → PrngReg), Pre_NormPreIdeal m →
    θ_run (Cert.NormPreIdeal.defs (F := Ideal)) (onTc (τ := Cert.NormPreIdeal.τ) (Cert.NormPreIdeal.main (F := Ideal))) ⟨m, fun _ => 0, g⟩ (fun r => (∀ c : Dev Cert.NormPreIdeal.nD,
      r.2.mem ((c.tc : Thread Cert.NormPreIdeal.nD Cert.NormPreIdeal.τ).loc Cert.NormPreIdeal.main_arg0) = m ((c.tc : Thread Cert.NormPreIdeal.nD Cert.NormPreIdeal.τ).loc Cert.NormPreIdeal.main_arg0)
      ∧ r.2.mem ((c.tc : Thread Cert.NormPreIdeal.nD Cert.NormPreIdeal.τ).loc Cert.NormPreIdeal.main_arg1) = m ((c.tc : Thread Cert.NormPreIdeal.nD Cert.NormPreIdeal.τ).loc Cert.NormPreIdeal.main_arg1)
      ∧ r.2.mem ((c.tc : Thread Cert.NormPreIdeal.nD Cert.NormPreIdeal.τ).loc Cert.NormPreIdeal.main_arg2) = m ((c.tc : Thread Cert.NormPreIdeal.nD Cert.NormPreIdeal.τ).loc Cert.NormPreIdeal.main_arg2)
      ∧ r.2.mem ((c.tc : Thread Cert.NormPreIdeal.nD Cert.NormPreIdeal.τ).loc Cert.NormPreIdeal.main_arg3) = m ((c.tc : Thread Cert.NormPreIdeal.nD Cert.NormPreIdeal.τ).loc Cert.NormPreIdeal.main_arg3))
      ∧ r.2.sem = fun _ => 0)

def quiescent_NormPreReferenceIdeal [hNormPreReferenceIdeal : Cert.NormPreReferenceIdeal.Facts] : Prop :=
  ∀ (m : (ℓ : Loc Cert.NormPreReferenceIdeal.nD Cert.NormPreReferenceIdeal.τ Cert.NormPreReferenceIdeal.sig) → Buf (Elt Ideal) ℓ) (g : Dev Cert.NormPreReferenceIdeal.nD → PrngReg), Pre_NormPreReferenceIdeal m →
    θ_run (Cert.NormPreReferenceIdeal.defs (F := Ideal)) (onTc (τ := Cert.NormPreReferenceIdeal.τ) (Cert.NormPreReferenceIdeal.main (F := Ideal))) ⟨m, fun _ => 0, g⟩ (fun r => (∀ c : Dev Cert.NormPreReferenceIdeal.nD,
      r.2.mem ((c.tc : Thread Cert.NormPreReferenceIdeal.nD Cert.NormPreReferenceIdeal.τ).loc Cert.NormPreReferenceIdeal.main_arg0) = m ((c.tc : Thread Cert.NormPreReferenceIdeal.nD Cert.NormPreReferenceIdeal.τ).loc Cert.NormPreReferenceIdeal.main_arg0)
      ∧ r.2.mem ((c.tc : Thread Cert.NormPreReferenceIdeal.nD Cert.NormPreReferenceIdeal.τ).loc Cert.NormPreReferenceIdeal.main_arg1) = m ((c.tc : Thread Cert.NormPreReferenceIdeal.nD Cert.NormPreReferenceIdeal.τ).loc Cert.NormPreReferenceIdeal.main_arg1)
      ∧ r.2.mem ((c.tc : Thread Cert.NormPreReferenceIdeal.nD Cert.NormPreReferenceIdeal.τ).loc Cert.NormPreReferenceIdeal.main_arg2) = m ((c.tc : Thread Cert.NormPreReferenceIdeal.nD Cert.NormPreReferenceIdeal.τ).loc Cert.NormPreReferenceIdeal.main_arg2)
      ∧ r.2.mem ((c.tc : Thread Cert.NormPreReferenceIdeal.nD Cert.NormPreReferenceIdeal.τ).loc Cert.NormPreReferenceIdeal.main_arg3) = m ((c.tc : Thread Cert.NormPreReferenceIdeal.nD Cert.NormPreReferenceIdeal.τ).loc Cert.NormPreReferenceIdeal.main_arg3))
      ∧ r.2.sem = fun _ => 0)

def quiescent_NormPre3 [hNormPre3 : Cert.NormPre3.Facts] : Prop :=
  ∀ (m : (ℓ : Loc Cert.NormPre3.nD Cert.NormPre3.τ Cert.NormPre3.sig) → Buf (Elt Bits) ℓ) (g : Dev Cert.NormPre3.nD → PrngReg), Pre_NormPre3 m →
    θ_run (Cert.NormPre3.defs (F := Bits)) (onTc (τ := Cert.NormPre3.τ) (Cert.NormPre3.main (F := Bits))) ⟨m, fun _ => 0, g⟩ (fun r => (∀ c : Dev Cert.NormPre3.nD,
      r.2.mem ((c.tc : Thread Cert.NormPre3.nD Cert.NormPre3.τ).loc Cert.NormPre3.main_arg0) = m ((c.tc : Thread Cert.NormPre3.nD Cert.NormPre3.τ).loc Cert.NormPre3.main_arg0)
      ∧ r.2.mem ((c.tc : Thread Cert.NormPre3.nD Cert.NormPre3.τ).loc Cert.NormPre3.main_arg1) = m ((c.tc : Thread Cert.NormPre3.nD Cert.NormPre3.τ).loc Cert.NormPre3.main_arg1)
      ∧ r.2.mem ((c.tc : Thread Cert.NormPre3.nD Cert.NormPre3.τ).loc Cert.NormPre3.main_arg2) = m ((c.tc : Thread Cert.NormPre3.nD Cert.NormPre3.τ).loc Cert.NormPre3.main_arg2)
      ∧ r.2.mem ((c.tc : Thread Cert.NormPre3.nD Cert.NormPre3.τ).loc Cert.NormPre3.main_arg3) = m ((c.tc : Thread Cert.NormPre3.nD Cert.NormPre3.τ).loc Cert.NormPre3.main_arg3)
      ∧ r.2.mem ((c.tc : Thread Cert.NormPre3.nD Cert.NormPre3.τ).loc Cert.NormPre3.main_arg4) = m ((c.tc : Thread Cert.NormPre3.nD Cert.NormPre3.τ).loc Cert.NormPre3.main_arg4)
      ∧ r.2.mem ((c.tc : Thread Cert.NormPre3.nD Cert.NormPre3.τ).loc Cert.NormPre3.main_arg5) = m ((c.tc : Thread Cert.NormPre3.nD Cert.NormPre3.τ).loc Cert.NormPre3.main_arg5))
      ∧ r.2.sem = fun _ => 0)

def quiescent_NormPre3Ideal [hNormPre3Ideal : Cert.NormPre3Ideal.Facts] : Prop :=
  ∀ (m : (ℓ : Loc Cert.NormPre3Ideal.nD Cert.NormPre3Ideal.τ Cert.NormPre3Ideal.sig) → Buf (Elt Ideal) ℓ) (g : Dev Cert.NormPre3Ideal.nD → PrngReg), Pre_NormPre3Ideal m →
    θ_run (Cert.NormPre3Ideal.defs (F := Ideal)) (onTc (τ := Cert.NormPre3Ideal.τ) (Cert.NormPre3Ideal.main (F := Ideal))) ⟨m, fun _ => 0, g⟩ (fun r => (∀ c : Dev Cert.NormPre3Ideal.nD,
      r.2.mem ((c.tc : Thread Cert.NormPre3Ideal.nD Cert.NormPre3Ideal.τ).loc Cert.NormPre3Ideal.main_arg0) = m ((c.tc : Thread Cert.NormPre3Ideal.nD Cert.NormPre3Ideal.τ).loc Cert.NormPre3Ideal.main_arg0)
      ∧ r.2.mem ((c.tc : Thread Cert.NormPre3Ideal.nD Cert.NormPre3Ideal.τ).loc Cert.NormPre3Ideal.main_arg1) = m ((c.tc : Thread Cert.NormPre3Ideal.nD Cert.NormPre3Ideal.τ).loc Cert.NormPre3Ideal.main_arg1)
      ∧ r.2.mem ((c.tc : Thread Cert.NormPre3Ideal.nD Cert.NormPre3Ideal.τ).loc Cert.NormPre3Ideal.main_arg2) = m ((c.tc : Thread Cert.NormPre3Ideal.nD Cert.NormPre3Ideal.τ).loc Cert.NormPre3Ideal.main_arg2)
      ∧ r.2.mem ((c.tc : Thread Cert.NormPre3Ideal.nD Cert.NormPre3Ideal.τ).loc Cert.NormPre3Ideal.main_arg3) = m ((c.tc : Thread Cert.NormPre3Ideal.nD Cert.NormPre3Ideal.τ).loc Cert.NormPre3Ideal.main_arg3)
      ∧ r.2.mem ((c.tc : Thread Cert.NormPre3Ideal.nD Cert.NormPre3Ideal.τ).loc Cert.NormPre3Ideal.main_arg4) = m ((c.tc : Thread Cert.NormPre3Ideal.nD Cert.NormPre3Ideal.τ).loc Cert.NormPre3Ideal.main_arg4)
      ∧ r.2.mem ((c.tc : Thread Cert.NormPre3Ideal.nD Cert.NormPre3Ideal.τ).loc Cert.NormPre3Ideal.main_arg5) = m ((c.tc : Thread Cert.NormPre3Ideal.nD Cert.NormPre3Ideal.τ).loc Cert.NormPre3Ideal.main_arg5))
      ∧ r.2.sem = fun _ => 0)

def quiescent_NormPre3ReferenceIdeal [hNormPre3ReferenceIdeal : Cert.NormPre3ReferenceIdeal.Facts] : Prop :=
  ∀ (m : (ℓ : Loc Cert.NormPre3ReferenceIdeal.nD Cert.NormPre3ReferenceIdeal.τ Cert.NormPre3ReferenceIdeal.sig) → Buf (Elt Ideal) ℓ) (g : Dev Cert.NormPre3ReferenceIdeal.nD → PrngReg), Pre_NormPre3ReferenceIdeal m →
    θ_run (Cert.NormPre3ReferenceIdeal.defs (F := Ideal)) (onTc (τ := Cert.NormPre3ReferenceIdeal.τ) (Cert.NormPre3ReferenceIdeal.main (F := Ideal))) ⟨m, fun _ => 0, g⟩ (fun r => (∀ c : Dev Cert.NormPre3ReferenceIdeal.nD,
      r.2.mem ((c.tc : Thread Cert.NormPre3ReferenceIdeal.nD Cert.NormPre3ReferenceIdeal.τ).loc Cert.NormPre3ReferenceIdeal.main_arg0) = m ((c.tc : Thread Cert.NormPre3ReferenceIdeal.nD Cert.NormPre3ReferenceIdeal.τ).loc Cert.NormPre3ReferenceIdeal.main_arg0)
      ∧ r.2.mem ((c.tc : Thread Cert.NormPre3ReferenceIdeal.nD Cert.NormPre3ReferenceIdeal.τ).loc Cert.NormPre3ReferenceIdeal.main_arg1) = m ((c.tc : Thread Cert.NormPre3ReferenceIdeal.nD Cert.NormPre3ReferenceIdeal.τ).loc Cert.NormPre3ReferenceIdeal.main_arg1)
      ∧ r.2.mem ((c.tc : Thread Cert.NormPre3ReferenceIdeal.nD Cert.NormPre3ReferenceIdeal.τ).loc Cert.NormPre3ReferenceIdeal.main_arg2) = m ((c.tc : Thread Cert.NormPre3ReferenceIdeal.nD Cert.NormPre3ReferenceIdeal.τ).loc Cert.NormPre3ReferenceIdeal.main_arg2)
      ∧ r.2.mem ((c.tc : Thread Cert.NormPre3ReferenceIdeal.nD Cert.NormPre3ReferenceIdeal.τ).loc Cert.NormPre3ReferenceIdeal.main_arg3) = m ((c.tc : Thread Cert.NormPre3ReferenceIdeal.nD Cert.NormPre3ReferenceIdeal.τ).loc Cert.NormPre3ReferenceIdeal.main_arg3)
      ∧ r.2.mem ((c.tc : Thread Cert.NormPre3ReferenceIdeal.nD Cert.NormPre3ReferenceIdeal.τ).loc Cert.NormPre3ReferenceIdeal.main_arg4) = m ((c.tc : Thread Cert.NormPre3ReferenceIdeal.nD Cert.NormPre3ReferenceIdeal.τ).loc Cert.NormPre3ReferenceIdeal.main_arg4)
      ∧ r.2.mem ((c.tc : Thread Cert.NormPre3ReferenceIdeal.nD Cert.NormPre3ReferenceIdeal.τ).loc Cert.NormPre3ReferenceIdeal.main_arg5) = m ((c.tc : Thread Cert.NormPre3ReferenceIdeal.nD Cert.NormPre3ReferenceIdeal.τ).loc Cert.NormPre3ReferenceIdeal.main_arg5))
      ∧ r.2.sem = fun _ => 0)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0)
      ∧ r.2.mem ((c.tc : Thread Cert.Swiglu.nD Cert.Swiglu.τ).loc Cert.Swiglu.main_arg1) = m ((c.tc : Thread Cert.Swiglu.nD Cert.Swiglu.τ).loc Cert.Swiglu.main_arg1))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1))
      ∧ r.2.sem = fun _ => 0)

def quiescent_SwigluReferenceIdeal [hSwigluReferenceIdeal : Cert.SwigluReferenceIdeal.Facts] : Prop :=
  ∀ (m : (ℓ : Loc Cert.SwigluReferenceIdeal.nD Cert.SwigluReferenceIdeal.τ Cert.SwigluReferenceIdeal.sig) → Buf (Elt Ideal) ℓ) (g : Dev Cert.SwigluReferenceIdeal.nD → PrngReg), Pre_SwigluReferenceIdeal m →
    θ_run (Cert.SwigluReferenceIdeal.defs (F := Ideal)) (onTc (τ := Cert.SwigluReferenceIdeal.τ) (Cert.SwigluReferenceIdeal.main (F := Ideal))) ⟨m, fun _ => 0, g⟩ (fun r => (∀ c : Dev Cert.SwigluReferenceIdeal.nD,
      r.2.mem ((c.tc : Thread Cert.SwigluReferenceIdeal.nD Cert.SwigluReferenceIdeal.τ).loc Cert.SwigluReferenceIdeal.main_arg0) = m ((c.tc : Thread Cert.SwigluReferenceIdeal.nD Cert.SwigluReferenceIdeal.τ).loc Cert.SwigluReferenceIdeal.main_arg0)
      ∧ r.2.mem ((c.tc : Thread Cert.SwigluReferenceIdeal.nD Cert.SwigluReferenceIdeal.τ).loc Cert.SwigluReferenceIdeal.main_arg1) = m ((c.tc : Thread Cert.SwigluReferenceIdeal.nD Cert.SwigluReferenceIdeal.τ).loc Cert.SwigluReferenceIdeal.main_arg1))
      ∧ r.2.sem = fun _ => 0)

def quiescent_SwigluBwd [hSwigluBwd : Cert.SwigluBwd.Facts] : Prop :=
  ∀ (m : (ℓ : Loc Cert.SwigluBwd.nD Cert.SwigluBwd.τ Cert.SwigluBwd.sig) → Buf (Elt Bits) ℓ) (g : Dev Cert.SwigluBwd.nD → PrngReg), Pre_SwigluBwd m →
    θ_run (Cert.SwigluBwd.defs (F := Bits)) (onTc (τ := Cert.SwigluBwd.τ) (Cert.SwigluBwd.main (F := Bits))) ⟨m, fun _ => 0, g⟩ (fun r => (∀ c : Dev Cert.SwigluBwd.nD,
      r.2.mem ((c.tc : Thread Cert.SwigluBwd.nD Cert.SwigluBwd.τ).loc Cert.SwigluBwd.main_arg0) = m ((c.tc : Thread Cert.SwigluBwd.nD Cert.SwigluBwd.τ).loc Cert.SwigluBwd.main_arg0)
      ∧ r.2.mem ((c.tc : Thread Cert.SwigluBwd.nD Cert.SwigluBwd.τ).loc Cert.SwigluBwd.main_arg1) = m ((c.tc : Thread Cert.SwigluBwd.nD Cert.SwigluBwd.τ).loc Cert.SwigluBwd.main_arg1)
      ∧ r.2.mem ((c.tc : Thread Cert.SwigluBwd.nD Cert.SwigluBwd.τ).loc Cert.SwigluBwd.main_arg2) = m ((c.tc : Thread Cert.SwigluBwd.nD Cert.SwigluBwd.τ).loc Cert.SwigluBwd.main_arg2))
      ∧ r.2.sem = fun _ => 0)

def quiescent_SwigluBwdIdeal [hSwigluBwdIdeal : Cert.SwigluBwdIdeal.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg), Pre_SwigluBwdIdeal m →
    θ_run (Cert.SwigluBwdIdeal.defs (F := Ideal)) (onTc (τ := Cert.SwigluBwdIdeal.τ) (Cert.SwigluBwdIdeal.main (F := Ideal))) ⟨m, fun _ => 0, g⟩ (fun r => (∀ c : Dev Cert.SwigluBwdIdeal.nD,
      r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
      ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1)
      ∧ r.2.mem ((c.tc : Thread Cert.SwigluBwdIdeal.nD Cert.SwigluBwdIdeal.τ).loc Cert.SwigluBwdIdeal.main_arg2) = m ((c.tc : Thread Cert.SwigluBwdIdeal.nD Cert.SwigluBwdIdeal.τ).loc Cert.SwigluBwdIdeal.main_arg2))
      ∧ r.2.sem = fun _ => 0)

def quiescent_SwigluBwdReferenceIdeal [hSwigluBwdReferenceIdeal : Cert.SwigluBwdReferenceIdeal.Facts] : Prop :=
  ∀ (m : (ℓ : Loc Cert.SwigluBwdReferenceIdeal.nD Cert.SwigluBwdReferenceIdeal.τ Cert.SwigluBwdReferenceIdeal.sig) → Buf (Elt Ideal) ℓ) (g : Dev Cert.SwigluBwdReferenceIdeal.nD → PrngReg), Pre_SwigluBwdReferenceIdeal m →
    θ_run (Cert.SwigluBwdReferenceIdeal.defs (F := Ideal)) (onTc (τ := Cert.SwigluBwdReferenceIdeal.τ) (Cert.SwigluBwdReferenceIdeal.main (F := Ideal))) ⟨m, fun _ => 0, g⟩ (fun r => (∀ c : Dev Cert.SwigluBwdReferenceIdeal.nD,
      r.2.mem ((c.tc : Thread Cert.SwigluBwdReferenceIdeal.nD Cert.SwigluBwdReferenceIdeal.τ).loc Cert.SwigluBwdReferenceIdeal.main_arg0) = m ((c.tc : Thread Cert.SwigluBwdReferenceIdeal.nD Cert.SwigluBwdReferenceIdeal.τ).loc Cert.SwigluBwdReferenceIdeal.main_arg0)
      ∧ r.2.mem ((c.tc : Thread Cert.SwigluBwdReferenceIdeal.nD Cert.SwigluBwdReferenceIdeal.τ).loc Cert.SwigluBwdReferenceIdeal.main_arg1) = m ((c.tc : Thread Cert.SwigluBwdReferenceIdeal.nD Cert.SwigluBwdReferenceIdeal.τ).loc Cert.SwigluBwdReferenceIdeal.main_arg1)
      ∧ r.2.mem ((c.tc : Thread Cert.SwigluBwdReferenceIdeal.nD Cert.SwigluBwdReferenceIdeal.τ).loc Cert.SwigluBwdReferenceIdeal.main_arg2) = m ((c.tc : Thread Cert.SwigluBwdReferenceIdeal.nD Cert.SwigluBwdReferenceIdeal.τ).loc Cert.SwigluBwdReferenceIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0)

def quiescent_ProjDo [hProjDo : Cert.ProjDo.Facts] : Prop :=
  ∀ (m : (ℓ : Loc Cert.ProjDo.nD Cert.ProjDo.τ Cert.ProjDo.sig) → Buf (Elt Bits) ℓ) (g : Dev Cert.ProjDo.nD → PrngReg), Pre_ProjDo m →
    θ_run (Cert.ProjDo.defs (F := Bits)) (onTc (τ := Cert.ProjDo.τ) (Cert.ProjDo.main (F := Bits))) ⟨m, fun _ => 0, g⟩ (fun r => (∀ c : Dev Cert.ProjDo.nD,
      r.2.mem ((c.tc : Thread Cert.ProjDo.nD Cert.ProjDo.τ).loc Cert.ProjDo.main_arg0) = m ((c.tc : Thread Cert.ProjDo.nD Cert.ProjDo.τ).loc Cert.ProjDo.main_arg0)
      ∧ r.2.mem ((c.tc : Thread Cert.ProjDo.nD Cert.ProjDo.τ).loc Cert.ProjDo.main_arg1) = m ((c.tc : Thread Cert.ProjDo.nD Cert.ProjDo.τ).loc Cert.ProjDo.main_arg1))
      ∧ r.2.sem = fun _ => 0)

def quiescent_ProjDoIdeal [hProjDoIdeal : Cert.ProjDoIdeal.Facts] : Prop :=
  ∀ (m : (ℓ : Loc Cert.ProjDoIdeal.nD Cert.ProjDoIdeal.τ Cert.ProjDoIdeal.sig) → Buf (Elt Ideal) ℓ) (g : Dev Cert.ProjDoIdeal.nD → PrngReg), Pre_ProjDoIdeal m →
    θ_run (Cert.ProjDoIdeal.defs (F := Ideal)) (onTc (τ := Cert.ProjDoIdeal.τ) (Cert.ProjDoIdeal.main (F := Ideal))) ⟨m, fun _ => 0, g⟩ (fun r => (∀ c : Dev Cert.ProjDoIdeal.nD,
      r.2.mem ((c.tc : Thread Cert.ProjDoIdeal.nD Cert.ProjDoIdeal.τ).loc Cert.ProjDoIdeal.main_arg0) = m ((c.tc : Thread Cert.ProjDoIdeal.nD Cert.ProjDoIdeal.τ).loc Cert.ProjDoIdeal.main_arg0)
      ∧ r.2.mem ((c.tc : Thread Cert.ProjDoIdeal.nD Cert.ProjDoIdeal.τ).loc Cert.ProjDoIdeal.main_arg1) = m ((c.tc : Thread Cert.ProjDoIdeal.nD Cert.ProjDoIdeal.τ).loc Cert.ProjDoIdeal.main_arg1))
      ∧ r.2.sem = fun _ => 0)

def quiescent_ProjDoReferenceIdeal [hProjDoReferenceIdeal : Cert.ProjDoReferenceIdeal.Facts] : Prop :=
  ∀ (m : (ℓ : Loc Cert.ProjDoReferenceIdeal.nD Cert.ProjDoReferenceIdeal.τ Cert.ProjDoReferenceIdeal.sig) → Buf (Elt Ideal) ℓ) (g : Dev Cert.ProjDoReferenceIdeal.nD → PrngReg), Pre_ProjDoReferenceIdeal m →
    θ_run (Cert.ProjDoReferenceIdeal.defs (F := Ideal)) (onTc (τ := Cert.ProjDoReferenceIdeal.τ) (Cert.ProjDoReferenceIdeal.main (F := Ideal))) ⟨m, fun _ => 0, g⟩ (fun r => (∀ c : Dev Cert.ProjDoReferenceIdeal.nD,
      r.2.mem ((c.tc : Thread Cert.ProjDoReferenceIdeal.nD Cert.ProjDoReferenceIdeal.τ).loc Cert.ProjDoReferenceIdeal.main_arg0) = m ((c.tc : Thread Cert.ProjDoReferenceIdeal.nD Cert.ProjDoReferenceIdeal.τ).loc Cert.ProjDoReferenceIdeal.main_arg0)
      ∧ r.2.mem ((c.tc : Thread Cert.ProjDoReferenceIdeal.nD Cert.ProjDoReferenceIdeal.τ).loc Cert.ProjDoReferenceIdeal.main_arg1) = m ((c.tc : Thread Cert.ProjDoReferenceIdeal.nD Cert.ProjDoReferenceIdeal.τ).loc Cert.ProjDoReferenceIdeal.main_arg1))
      ∧ r.2.sem = fun _ => 0)

def quiescent_ProjDw [hProjDw : Cert.ProjDw.Facts] : Prop :=
  ∀ (m : (ℓ : Loc Cert.ProjDw.nD Cert.ProjDw.τ Cert.ProjDw.sig) → Buf (Elt Bits) ℓ) (g : Dev Cert.ProjDw.nD → PrngReg), Pre_ProjDw m →
    θ_run (Cert.ProjDw.defs (F := Bits)) (onTc (τ := Cert.ProjDw.τ) (Cert.ProjDw.main (F := Bits))) ⟨m, fun _ => 0, g⟩ (fun r => (∀ c : Dev Cert.ProjDw.nD,
      r.2.mem ((c.tc : Thread Cert.ProjDw.nD Cert.ProjDw.τ).loc Cert.ProjDw.main_arg0) = m ((c.tc : Thread Cert.ProjDw.nD Cert.ProjDw.τ).loc Cert.ProjDw.main_arg0)
      ∧ r.2.mem ((c.tc : Thread Cert.ProjDw.nD Cert.ProjDw.τ).loc Cert.ProjDw.main_arg1) = m ((c.tc : Thread Cert.ProjDw.nD Cert.ProjDw.τ).loc Cert.ProjDw.main_arg1))
      ∧ r.2.sem = fun _ => 0)

def quiescent_ProjDwIdeal [hProjDwIdeal : Cert.ProjDwIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg), Pre_ProjDwIdeal m →
    θ_run (Cert.ProjDwIdeal.defs (F := Ideal)) (onTc (τ := Cert.ProjDwIdeal.τ) (Cert.ProjDwIdeal.main (F := Ideal))) ⟨m, fun _ => 0, g⟩ (fun r => (∀ c : Dev Cert.ProjDwIdeal.nD,
      r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
      ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ r.2.sem = fun _ => 0)

def quiescent_ProjDwReferenceIdeal [hProjDwReferenceIdeal : Cert.ProjDwReferenceIdeal.Facts] : Prop :=
  ∀ (m : (ℓ : Loc Cert.ProjDwReferenceIdeal.nD Cert.ProjDwReferenceIdeal.τ Cert.ProjDwReferenceIdeal.sig) → Buf (Elt Ideal) ℓ) (g : Dev Cert.ProjDwReferenceIdeal.nD → PrngReg), Pre_ProjDwReferenceIdeal m →
    θ_run (Cert.ProjDwReferenceIdeal.defs (F := Ideal)) (onTc (τ := Cert.ProjDwReferenceIdeal.τ) (Cert.ProjDwReferenceIdeal.main (F := Ideal))) ⟨m, fun _ => 0, g⟩ (fun r => (∀ c : Dev Cert.ProjDwReferenceIdeal.nD,
      r.2.mem ((c.tc : Thread Cert.ProjDwReferenceIdeal.nD Cert.ProjDwReferenceIdeal.τ).loc Cert.ProjDwReferenceIdeal.main_arg0) = m ((c.tc : Thread Cert.ProjDwReferenceIdeal.nD Cert.ProjDwReferenceIdeal.τ).loc Cert.ProjDwReferenceIdeal.main_arg0)
      ∧ r.2.mem ((c.tc : Thread Cert.ProjDwReferenceIdeal.nD Cert.ProjDwReferenceIdeal.τ).loc Cert.ProjDwReferenceIdeal.main_arg1) = m ((c.tc : Thread Cert.ProjDwReferenceIdeal.nD Cert.ProjDwReferenceIdeal.τ).loc Cert.ProjDwReferenceIdeal.main_arg1))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ r.2.sem = fun _ => 0)

def quiescent_FfnInReferenceIdeal [hFfnInReferenceIdeal : Cert.FfnInReferenceIdeal.Facts] : Prop :=
  ∀ (m : (ℓ : Loc Cert.FfnInReferenceIdeal.nD Cert.FfnInReferenceIdeal.τ Cert.FfnInReferenceIdeal.sig) → Buf (Elt Ideal) ℓ) (g : Dev Cert.FfnInReferenceIdeal.nD → PrngReg), Pre_FfnInReferenceIdeal m →
    θ_run (Cert.FfnInReferenceIdeal.defs (F := Ideal)) (onTc (τ := Cert.FfnInReferenceIdeal.τ) (Cert.FfnInReferenceIdeal.main (F := Ideal))) ⟨m, fun _ => 0, g⟩ (fun r => (∀ c : Dev Cert.FfnInReferenceIdeal.nD,
      r.2.mem ((c.tc : Thread Cert.FfnInReferenceIdeal.nD Cert.FfnInReferenceIdeal.τ).loc Cert.FfnInReferenceIdeal.main_arg0) = m ((c.tc : Thread Cert.FfnInReferenceIdeal.nD Cert.FfnInReferenceIdeal.τ).loc Cert.FfnInReferenceIdeal.main_arg0)
      ∧ r.2.mem ((c.tc : Thread Cert.FfnInReferenceIdeal.nD Cert.FfnInReferenceIdeal.τ).loc Cert.FfnInReferenceIdeal.main_arg1) = m ((c.tc : Thread Cert.FfnInReferenceIdeal.nD Cert.FfnInReferenceIdeal.τ).loc Cert.FfnInReferenceIdeal.main_arg1))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1))
      ∧ r.2.sem = fun _ => 0)

def quiescent_FfnOutReferenceIdeal [hFfnOutReferenceIdeal : Cert.FfnOutReferenceIdeal.Facts] : Prop :=
  ∀ (m : (ℓ : Loc Cert.FfnOutReferenceIdeal.nD Cert.FfnOutReferenceIdeal.τ Cert.FfnOutReferenceIdeal.sig) → Buf (Elt Ideal) ℓ) (g : Dev Cert.FfnOutReferenceIdeal.nD → PrngReg), Pre_FfnOutReferenceIdeal m →
    θ_run (Cert.FfnOutReferenceIdeal.defs (F := Ideal)) (onTc (τ := Cert.FfnOutReferenceIdeal.τ) (Cert.FfnOutReferenceIdeal.main (F := Ideal))) ⟨m, fun _ => 0, g⟩ (fun r => (∀ c : Dev Cert.FfnOutReferenceIdeal.nD,
      r.2.mem ((c.tc : Thread Cert.FfnOutReferenceIdeal.nD Cert.FfnOutReferenceIdeal.τ).loc Cert.FfnOutReferenceIdeal.main_arg0) = m ((c.tc : Thread Cert.FfnOutReferenceIdeal.nD Cert.FfnOutReferenceIdeal.τ).loc Cert.FfnOutReferenceIdeal.main_arg0)
      ∧ r.2.mem ((c.tc : Thread Cert.FfnOutReferenceIdeal.nD Cert.FfnOutReferenceIdeal.τ).loc Cert.FfnOutReferenceIdeal.main_arg1) = m ((c.tc : Thread Cert.FfnOutReferenceIdeal.nD Cert.FfnOutReferenceIdeal.τ).loc Cert.FfnOutReferenceIdeal.main_arg1))
      ∧ r.2.sem = fun _ => 0)

def quiescent_FfnDact [hFfnDact : Cert.FfnDact.Facts] : Prop :=
  ∀ (m : (ℓ : Loc Cert.FfnDact.nD Cert.FfnDact.τ Cert.FfnDact.sig) → Buf (Elt Bits) ℓ) (g : Dev Cert.FfnDact.nD → PrngReg), Pre_FfnDact m →
    θ_run (Cert.FfnDact.defs (F := Bits)) (onTc (τ := Cert.FfnDact.τ) (Cert.FfnDact.main (F := Bits))) ⟨m, fun _ => 0, g⟩ (fun r => (∀ c : Dev Cert.FfnDact.nD,
      r.2.mem ((c.tc : Thread Cert.FfnDact.nD Cert.FfnDact.τ).loc Cert.FfnDact.main_arg0) = m ((c.tc : Thread Cert.FfnDact.nD Cert.FfnDact.τ).loc Cert.FfnDact.main_arg0)
      ∧ r.2.mem ((c.tc : Thread Cert.FfnDact.nD Cert.FfnDact.τ).loc Cert.FfnDact.main_arg1) = m ((c.tc : Thread Cert.FfnDact.nD Cert.FfnDact.τ).loc Cert.FfnDact.main_arg1))
      ∧ r.2.sem = fun _ => 0)

def quiescent_FfnDactIdeal [hFfnDactIdeal : Cert.FfnDactIdeal.Facts] : Prop :=
  ∀ (m : (ℓ : Loc Cert.FfnDactIdeal.nD Cert.FfnDactIdeal.τ Cert.FfnDactIdeal.sig) → Buf (Elt Ideal) ℓ) (g : Dev Cert.FfnDactIdeal.nD → PrngReg), Pre_FfnDactIdeal m →
    θ_run (Cert.FfnDactIdeal.defs (F := Ideal)) (onTc (τ := Cert.FfnDactIdeal.τ) (Cert.FfnDactIdeal.main (F := Ideal))) ⟨m, fun _ => 0, g⟩ (fun r => (∀ c : Dev Cert.FfnDactIdeal.nD,
      r.2.mem ((c.tc : Thread Cert.FfnDactIdeal.nD Cert.FfnDactIdeal.τ).loc Cert.FfnDactIdeal.main_arg0) = m ((c.tc : Thread Cert.FfnDactIdeal.nD Cert.FfnDactIdeal.τ).loc Cert.FfnDactIdeal.main_arg0)
      ∧ r.2.mem ((c.tc : Thread Cert.FfnDactIdeal.nD Cert.FfnDactIdeal.τ).loc Cert.FfnDactIdeal.main_arg1) = m ((c.tc : Thread Cert.FfnDactIdeal.nD Cert.FfnDactIdeal.τ).loc Cert.FfnDactIdeal.main_arg1))
      ∧ r.2.sem = fun _ => 0)

def quiescent_FfnDactReferenceIdeal [hFfnDactReferenceIdeal : Cert.FfnDactReferenceIdeal.Facts] : Prop :=
  ∀ (m : (ℓ : Loc Cert.FfnDactReferenceIdeal.nD Cert.FfnDactReferenceIdeal.τ Cert.FfnDactReferenceIdeal.sig) → Buf (Elt Ideal) ℓ) (g : Dev Cert.FfnDactReferenceIdeal.nD → PrngReg), Pre_FfnDactReferenceIdeal m →
    θ_run (Cert.FfnDactReferenceIdeal.defs (F := Ideal)) (onTc (τ := Cert.FfnDactReferenceIdeal.τ) (Cert.FfnDactReferenceIdeal.main (F := Ideal))) ⟨m, fun _ => 0, g⟩ (fun r => (∀ c : Dev Cert.FfnDactReferenceIdeal.nD,
      r.2.mem ((c.tc : Thread Cert.FfnDactReferenceIdeal.nD Cert.FfnDactReferenceIdeal.τ).loc Cert.FfnDactReferenceIdeal.main_arg0) = m ((c.tc : Thread Cert.FfnDactReferenceIdeal.nD Cert.FfnDactReferenceIdeal.τ).loc Cert.FfnDactReferenceIdeal.main_arg0)
      ∧ r.2.mem ((c.tc : Thread Cert.FfnDactReferenceIdeal.nD Cert.FfnDactReferenceIdeal.τ).loc Cert.FfnDactReferenceIdeal.main_arg1) = m ((c.tc : Thread Cert.FfnDactReferenceIdeal.nD Cert.FfnDactReferenceIdeal.τ).loc Cert.FfnDactReferenceIdeal.main_arg1))
      ∧ r.2.sem = fun _ => 0)

def quiescent_FfnDwDown [hFfnDwDown : Cert.FfnDwDown.Facts] : Prop :=
  ∀ (m : (ℓ : Loc Cert.FfnDwDown.nD Cert.FfnDwDown.τ Cert.FfnDwDown.sig) → Buf (Elt Bits) ℓ) (g : Dev Cert.FfnDwDown.nD → PrngReg), Pre_FfnDwDown m →
    θ_run (Cert.FfnDwDown.defs (F := Bits)) (onTc (τ := Cert.FfnDwDown.τ) (Cert.FfnDwDown.main (F := Bits))) ⟨m, fun _ => 0, g⟩ (fun r => (∀ c : Dev Cert.FfnDwDown.nD,
      r.2.mem ((c.tc : Thread Cert.FfnDwDown.nD Cert.FfnDwDown.τ).loc Cert.FfnDwDown.main_arg0) = m ((c.tc : Thread Cert.FfnDwDown.nD Cert.FfnDwDown.τ).loc Cert.FfnDwDown.main_arg0)
      ∧ r.2.mem ((c.tc : Thread Cert.FfnDwDown.nD Cert.FfnDwDown.τ).loc Cert.FfnDwDown.main_arg1) = m ((c.tc : Thread Cert.FfnDwDown.nD Cert.FfnDwDown.τ).loc Cert.FfnDwDown.main_arg1))
      ∧ r.2.sem = fun _ => 0)

def quiescent_FfnDwDownIdeal [hFfnDwDownIdeal : Cert.FfnDwDownIdeal.Facts] : Prop :=
  ∀ (m : (ℓ : Loc Cert.FfnDwDownIdeal.nD Cert.FfnDwDownIdeal.τ Cert.FfnDwDownIdeal.sig) → Buf (Elt Ideal) ℓ) (g : Dev Cert.FfnDwDownIdeal.nD → PrngReg), Pre_FfnDwDownIdeal m →
    θ_run (Cert.FfnDwDownIdeal.defs (F := Ideal)) (onTc (τ := Cert.FfnDwDownIdeal.τ) (Cert.FfnDwDownIdeal.main (F := Ideal))) ⟨m, fun _ => 0, g⟩ (fun r => (∀ c : Dev Cert.FfnDwDownIdeal.nD,
      r.2.mem ((c.tc : Thread Cert.FfnDwDownIdeal.nD Cert.FfnDwDownIdeal.τ).loc Cert.FfnDwDownIdeal.main_arg0) = m ((c.tc : Thread Cert.FfnDwDownIdeal.nD Cert.FfnDwDownIdeal.τ).loc Cert.FfnDwDownIdeal.main_arg0)
      ∧ r.2.mem ((c.tc : Thread Cert.FfnDwDownIdeal.nD Cert.FfnDwDownIdeal.τ).loc Cert.FfnDwDownIdeal.main_arg1) = m ((c.tc : Thread Cert.FfnDwDownIdeal.nD Cert.FfnDwDownIdeal.τ).loc Cert.FfnDwDownIdeal.main_arg1))
      ∧ r.2.sem = fun _ => 0)

def quiescent_FfnDwDownReferenceIdeal [hFfnDwDownReferenceIdeal : Cert.FfnDwDownReferenceIdeal.Facts] : Prop :=
  ∀ (m : (ℓ : Loc Cert.FfnDwDownReferenceIdeal.nD Cert.FfnDwDownReferenceIdeal.τ Cert.FfnDwDownReferenceIdeal.sig) → Buf (Elt Ideal) ℓ) (g : Dev Cert.FfnDwDownReferenceIdeal.nD → PrngReg), Pre_FfnDwDownReferenceIdeal m →
    θ_run (Cert.FfnDwDownReferenceIdeal.defs (F := Ideal)) (onTc (τ := Cert.FfnDwDownReferenceIdeal.τ) (Cert.FfnDwDownReferenceIdeal.main (F := Ideal))) ⟨m, fun _ => 0, g⟩ (fun r => (∀ c : Dev Cert.FfnDwDownReferenceIdeal.nD,
      r.2.mem ((c.tc : Thread Cert.FfnDwDownReferenceIdeal.nD Cert.FfnDwDownReferenceIdeal.τ).loc Cert.FfnDwDownReferenceIdeal.main_arg0) = m ((c.tc : Thread Cert.FfnDwDownReferenceIdeal.nD Cert.FfnDwDownReferenceIdeal.τ).loc Cert.FfnDwDownReferenceIdeal.main_arg0)
      ∧ r.2.mem ((c.tc : Thread Cert.FfnDwDownReferenceIdeal.nD Cert.FfnDwDownReferenceIdeal.τ).loc Cert.FfnDwDownReferenceIdeal.main_arg1) = m ((c.tc : Thread Cert.FfnDwDownReferenceIdeal.nD Cert.FfnDwDownReferenceIdeal.τ).loc Cert.FfnDwDownReferenceIdeal.main_arg1))
      ∧ r.2.sem = fun _ => 0)

def quiescent_FfnDh [hFfnDh : Cert.FfnDh.Facts] : Prop :=
  ∀ (m : (ℓ : Loc Cert.FfnDh.nD Cert.FfnDh.τ Cert.FfnDh.sig) → Buf (Elt Bits) ℓ) (g : Dev Cert.FfnDh.nD → PrngReg), Pre_FfnDh m →
    θ_run (Cert.FfnDh.defs (F := Bits)) (onTc (τ := Cert.FfnDh.τ) (Cert.FfnDh.main (F := Bits))) ⟨m, fun _ => 0, g⟩ (fun r => (∀ c : Dev Cert.FfnDh.nD,
      r.2.mem ((c.tc : Thread Cert.FfnDh.nD Cert.FfnDh.τ).loc Cert.FfnDh.main_arg0) = m ((c.tc : Thread Cert.FfnDh.nD Cert.FfnDh.τ).loc Cert.FfnDh.main_arg0)
      ∧ r.2.mem ((c.tc : Thread Cert.FfnDh.nD Cert.FfnDh.τ).loc Cert.FfnDh.main_arg1) = m ((c.tc : Thread Cert.FfnDh.nD Cert.FfnDh.τ).loc Cert.FfnDh.main_arg1)
      ∧ r.2.mem ((c.tc : Thread Cert.FfnDh.nD Cert.FfnDh.τ).loc Cert.FfnDh.main_arg2) = m ((c.tc : Thread Cert.FfnDh.nD Cert.FfnDh.τ).loc Cert.FfnDh.main_arg2)
      ∧ r.2.mem ((c.tc : Thread Cert.FfnDh.nD Cert.FfnDh.τ).loc Cert.FfnDh.main_arg3) = m ((c.tc : Thread Cert.FfnDh.nD Cert.FfnDh.τ).loc Cert.FfnDh.main_arg3))
      ∧ r.2.sem = fun _ => 0)

def quiescent_FfnDhIdeal [hFfnDhIdeal : Cert.FfnDhIdeal.Facts] : Prop :=
  ∀ (m : (ℓ : Loc Cert.FfnDhIdeal.nD Cert.FfnDhIdeal.τ Cert.FfnDhIdeal.sig) → Buf (Elt Ideal) ℓ) (g : Dev Cert.FfnDhIdeal.nD → PrngReg), Pre_FfnDhIdeal m →
    θ_run (Cert.FfnDhIdeal.defs (F := Ideal)) (onTc (τ := Cert.FfnDhIdeal.τ) (Cert.FfnDhIdeal.main (F := Ideal))) ⟨m, fun _ => 0, g⟩ (fun r => (∀ c : Dev Cert.FfnDhIdeal.nD,
      r.2.mem ((c.tc : Thread Cert.FfnDhIdeal.nD Cert.FfnDhIdeal.τ).loc Cert.FfnDhIdeal.main_arg0) = m ((c.tc : Thread Cert.FfnDhIdeal.nD Cert.FfnDhIdeal.τ).loc Cert.FfnDhIdeal.main_arg0)
      ∧ r.2.mem ((c.tc : Thread Cert.FfnDhIdeal.nD Cert.FfnDhIdeal.τ).loc Cert.FfnDhIdeal.main_arg1) = m ((c.tc : Thread Cert.FfnDhIdeal.nD Cert.FfnDhIdeal.τ).loc Cert.FfnDhIdeal.main_arg1)
      ∧ r.2.mem ((c.tc : Thread Cert.FfnDhIdeal.nD Cert.FfnDhIdeal.τ).loc Cert.FfnDhIdeal.main_arg2) = m ((c.tc : Thread Cert.FfnDhIdeal.nD Cert.FfnDhIdeal.τ).loc Cert.FfnDhIdeal.main_arg2)
      ∧ r.2.mem ((c.tc : Thread Cert.FfnDhIdeal.nD Cert.FfnDhIdeal.τ).loc Cert.FfnDhIdeal.main_arg3) = m ((c.tc : Thread Cert.FfnDhIdeal.nD Cert.FfnDhIdeal.τ).loc Cert.FfnDhIdeal.main_arg3))
      ∧ r.2.sem = fun _ => 0)

def quiescent_FfnDhReferenceIdeal [hFfnDhReferenceIdeal : Cert.FfnDhReferenceIdeal.Facts] : Prop :=
  ∀ (m : (ℓ : Loc Cert.FfnDhReferenceIdeal.nD Cert.FfnDhReferenceIdeal.τ Cert.FfnDhReferenceIdeal.sig) → Buf (Elt Ideal) ℓ) (g : Dev Cert.FfnDhReferenceIdeal.nD → PrngReg), Pre_FfnDhReferenceIdeal m →
    θ_run (Cert.FfnDhReferenceIdeal.defs (F := Ideal)) (onTc (τ := Cert.FfnDhReferenceIdeal.τ) (Cert.FfnDhReferenceIdeal.main (F := Ideal))) ⟨m, fun _ => 0, g⟩ (fun r => (∀ c : Dev Cert.FfnDhReferenceIdeal.nD,
      r.2.mem ((c.tc : Thread Cert.FfnDhReferenceIdeal.nD Cert.FfnDhReferenceIdeal.τ).loc Cert.FfnDhReferenceIdeal.main_arg0) = m ((c.tc : Thread Cert.FfnDhReferenceIdeal.nD Cert.FfnDhReferenceIdeal.τ).loc Cert.FfnDhReferenceIdeal.main_arg0)
      ∧ r.2.mem ((c.tc : Thread Cert.FfnDhReferenceIdeal.nD Cert.FfnDhReferenceIdeal.τ).loc Cert.FfnDhReferenceIdeal.main_arg1) = m ((c.tc : Thread Cert.FfnDhReferenceIdeal.nD Cert.FfnDhReferenceIdeal.τ).loc Cert.FfnDhReferenceIdeal.main_arg1)
      ∧ r.2.mem ((c.tc : Thread Cert.FfnDhReferenceIdeal.nD Cert.FfnDhReferenceIdeal.τ).loc Cert.FfnDhReferenceIdeal.main_arg2) = m ((c.tc : Thread Cert.FfnDhReferenceIdeal.nD Cert.FfnDhReferenceIdeal.τ).loc Cert.FfnDhReferenceIdeal.main_arg2)
      ∧ r.2.mem ((c.tc : Thread Cert.FfnDhReferenceIdeal.nD Cert.FfnDhReferenceIdeal.τ).loc Cert.FfnDhReferenceIdeal.main_arg3) = m ((c.tc : Thread Cert.FfnDhReferenceIdeal.nD Cert.FfnDhReferenceIdeal.τ).loc Cert.FfnDhReferenceIdeal.main_arg3))
      ∧ r.2.sem = fun _ => 0)

def quiescent_FfnDwIn [hFfnDwIn : Cert.FfnDwIn.Facts] : Prop :=
  ∀ (m : (ℓ : Loc Cert.FfnDwIn.nD Cert.FfnDwIn.τ Cert.FfnDwIn.sig) → Buf (Elt Bits) ℓ) (g : Dev Cert.FfnDwIn.nD → PrngReg), Pre_FfnDwIn m →
    θ_run (Cert.FfnDwIn.defs (F := Bits)) (onTc (τ := Cert.FfnDwIn.τ) (Cert.FfnDwIn.main (F := Bits))) ⟨m, fun _ => 0, g⟩ (fun r => (∀ c : Dev Cert.FfnDwIn.nD,
      r.2.mem ((c.tc : Thread Cert.FfnDwIn.nD Cert.FfnDwIn.τ).loc Cert.FfnDwIn.main_arg0) = m ((c.tc : Thread Cert.FfnDwIn.nD Cert.FfnDwIn.τ).loc Cert.FfnDwIn.main_arg0)
      ∧ r.2.mem ((c.tc : Thread Cert.FfnDwIn.nD Cert.FfnDwIn.τ).loc Cert.FfnDwIn.main_arg1) = m ((c.tc : Thread Cert.FfnDwIn.nD Cert.FfnDwIn.τ).loc Cert.FfnDwIn.main_arg1))
      ∧ r.2.sem = fun _ => 0)

def quiescent_FfnDwInIdeal [hFfnDwInIdeal : Cert.FfnDwInIdeal.Facts] : Prop :=
  ∀ (m : (ℓ : Loc Cert.FfnDwInIdeal.nD Cert.FfnDwInIdeal.τ Cert.FfnDwInIdeal.sig) → Buf (Elt Ideal) ℓ) (g : Dev Cert.FfnDwInIdeal.nD → PrngReg), Pre_FfnDwInIdeal m →
    θ_run (Cert.FfnDwInIdeal.defs (F := Ideal)) (onTc (τ := Cert.FfnDwInIdeal.τ) (Cert.FfnDwInIdeal.main (F := Ideal))) ⟨m, fun _ => 0, g⟩ (fun r => (∀ c : Dev Cert.FfnDwInIdeal.nD,
      r.2.mem ((c.tc : Thread Cert.FfnDwInIdeal.nD Cert.FfnDwInIdeal.τ).loc Cert.FfnDwInIdeal.main_arg0) = m ((c.tc : Thread Cert.FfnDwInIdeal.nD Cert.FfnDwInIdeal.τ).loc Cert.FfnDwInIdeal.main_arg0)
      ∧ r.2.mem ((c.tc : Thread Cert.FfnDwInIdeal.nD Cert.FfnDwInIdeal.τ).loc Cert.FfnDwInIdeal.main_arg1) = m ((c.tc : Thread Cert.FfnDwInIdeal.nD Cert.FfnDwInIdeal.τ).loc Cert.FfnDwInIdeal.main_arg1))
      ∧ r.2.sem = fun _ => 0)

def quiescent_FfnDwInReferenceIdeal [hFfnDwInReferenceIdeal : Cert.FfnDwInReferenceIdeal.Facts] : Prop :=
  ∀ (m : (ℓ : Loc Cert.FfnDwInReferenceIdeal.nD Cert.FfnDwInReferenceIdeal.τ Cert.FfnDwInReferenceIdeal.sig) → Buf (Elt Ideal) ℓ) (g : Dev Cert.FfnDwInReferenceIdeal.nD → PrngReg), Pre_FfnDwInReferenceIdeal m →
    θ_run (Cert.FfnDwInReferenceIdeal.defs (F := Ideal)) (onTc (τ := Cert.FfnDwInReferenceIdeal.τ) (Cert.FfnDwInReferenceIdeal.main (F := Ideal))) ⟨m, fun _ => 0, g⟩ (fun r => (∀ c : Dev Cert.FfnDwInReferenceIdeal.nD,
      r.2.mem ((c.tc : Thread Cert.FfnDwInReferenceIdeal.nD Cert.FfnDwInReferenceIdeal.τ).loc Cert.FfnDwInReferenceIdeal.main_arg0) = m ((c.tc : Thread Cert.FfnDwInReferenceIdeal.nD Cert.FfnDwInReferenceIdeal.τ).loc Cert.FfnDwInReferenceIdeal.main_arg0)
      ∧ r.2.mem ((c.tc : Thread Cert.FfnDwInReferenceIdeal.nD Cert.FfnDwInReferenceIdeal.τ).loc Cert.FfnDwInReferenceIdeal.main_arg1) = m ((c.tc : Thread Cert.FfnDwInReferenceIdeal.nD Cert.FfnDwInReferenceIdeal.τ).loc Cert.FfnDwInReferenceIdeal.main_arg1))
      ∧ r.2.sem = fun _ => 0)

def quiescent_NaQkv [hNaQkv : Cert.NaQkv.Facts] : Prop :=
  ∀ (m : (ℓ : Loc Cert.NaQkv.nD Cert.NaQkv.τ Cert.NaQkv.sig) → Buf (Elt Bits) ℓ) (g : Dev Cert.NaQkv.nD → PrngReg), Pre_NaQkv m →
    θ_run (Cert.NaQkv.defs (F := Bits)) (onTc (τ := Cert.NaQkv.τ) (Cert.NaQkv.main (F := Bits))) ⟨m, fun _ => 0, g⟩ (fun r => (∀ c : Dev Cert.NaQkv.nD,
      r.2.mem ((c.tc : Thread Cert.NaQkv.nD Cert.NaQkv.τ).loc Cert.NaQkv.main_arg0) = m ((c.tc : Thread Cert.NaQkv.nD Cert.NaQkv.τ).loc Cert.NaQkv.main_arg0)
      ∧ r.2.mem ((c.tc : Thread Cert.NaQkv.nD Cert.NaQkv.τ).loc Cert.NaQkv.main_arg1) = m ((c.tc : Thread Cert.NaQkv.nD Cert.NaQkv.τ).loc Cert.NaQkv.main_arg1))
      ∧ r.2.sem = fun _ => 0)

def quiescent_NaQkvIdeal [hNaQkvIdeal : Cert.NaQkvIdeal.Facts] : Prop :=
  ∀ (m : (ℓ : Loc Cert.NaQkvIdeal.nD Cert.NaQkvIdeal.τ Cert.NaQkvIdeal.sig) → Buf (Elt Ideal) ℓ) (g : Dev Cert.NaQkvIdeal.nD → PrngReg), Pre_NaQkvIdeal m →
    θ_run (Cert.NaQkvIdeal.defs (F := Ideal)) (onTc (τ := Cert.NaQkvIdeal.τ) (Cert.NaQkvIdeal.main (F := Ideal))) ⟨m, fun _ => 0, g⟩ (fun r => (∀ c : Dev Cert.NaQkvIdeal.nD,
      r.2.mem ((c.tc : Thread Cert.NaQkvIdeal.nD Cert.NaQkvIdeal.τ).loc Cert.NaQkvIdeal.main_arg0) = m ((c.tc : Thread Cert.NaQkvIdeal.nD Cert.NaQkvIdeal.τ).loc Cert.NaQkvIdeal.main_arg0)
      ∧ r.2.mem ((c.tc : Thread Cert.NaQkvIdeal.nD Cert.NaQkvIdeal.τ).loc Cert.NaQkvIdeal.main_arg1) = m ((c.tc : Thread Cert.NaQkvIdeal.nD Cert.NaQkvIdeal.τ).loc Cert.NaQkvIdeal.main_arg1))
      ∧ r.2.sem = fun _ => 0)

def quiescent_NaQkvReferenceIdeal [hNaQkvReferenceIdeal : Cert.NaQkvReferenceIdeal.Facts] : Prop :=
  ∀ (m : (ℓ : Loc Cert.NaQkvReferenceIdeal.nD Cert.NaQkvReferenceIdeal.τ Cert.NaQkvReferenceIdeal.sig) → Buf (Elt Ideal) ℓ) (g : Dev Cert.NaQkvReferenceIdeal.nD → PrngReg), Pre_NaQkvReferenceIdeal m →
    θ_run (Cert.NaQkvReferenceIdeal.defs (F := Ideal)) (onTc (τ := Cert.NaQkvReferenceIdeal.τ) (Cert.NaQkvReferenceIdeal.main (F := Ideal))) ⟨m, fun _ => 0, g⟩ (fun r => (∀ c : Dev Cert.NaQkvReferenceIdeal.nD,
      r.2.mem ((c.tc : Thread Cert.NaQkvReferenceIdeal.nD Cert.NaQkvReferenceIdeal.τ).loc Cert.NaQkvReferenceIdeal.main_arg0) = m ((c.tc : Thread Cert.NaQkvReferenceIdeal.nD Cert.NaQkvReferenceIdeal.τ).loc Cert.NaQkvReferenceIdeal.main_arg0)
      ∧ r.2.mem ((c.tc : Thread Cert.NaQkvReferenceIdeal.nD Cert.NaQkvReferenceIdeal.τ).loc Cert.NaQkvReferenceIdeal.main_arg1) = m ((c.tc : Thread Cert.NaQkvReferenceIdeal.nD Cert.NaQkvReferenceIdeal.τ).loc Cert.NaQkvReferenceIdeal.main_arg1))
      ∧ r.2.sem = fun _ => 0)

def quiescent_DilQkv [hDilQkv : Cert.DilQkv.Facts] : Prop :=
  ∀ (m : (ℓ : Loc Cert.DilQkv.nD Cert.DilQkv.τ Cert.DilQkv.sig) → Buf (Elt Bits) ℓ) (g : Dev Cert.DilQkv.nD → PrngReg), Pre_DilQkv m →
    θ_run (Cert.DilQkv.defs (F := Bits)) (onTc (τ := Cert.DilQkv.τ) (Cert.DilQkv.main (F := Bits))) ⟨m, fun _ => 0, g⟩ (fun r => (∀ c : Dev Cert.DilQkv.nD,
      r.2.mem ((c.tc : Thread Cert.DilQkv.nD Cert.DilQkv.τ).loc Cert.DilQkv.main_arg0) = m ((c.tc : Thread Cert.DilQkv.nD Cert.DilQkv.τ).loc Cert.DilQkv.main_arg0)
      ∧ r.2.mem ((c.tc : Thread Cert.DilQkv.nD Cert.DilQkv.τ).loc Cert.DilQkv.main_arg1) = m ((c.tc : Thread Cert.DilQkv.nD Cert.DilQkv.τ).loc Cert.DilQkv.main_arg1))
      ∧ r.2.sem = fun _ => 0)

def quiescent_DilQkvIdeal [hDilQkvIdeal : Cert.DilQkvIdeal.Facts] : Prop :=
  ∀ (m : (ℓ : Loc Cert.DilQkvIdeal.nD Cert.DilQkvIdeal.τ Cert.DilQkvIdeal.sig) → Buf (Elt Ideal) ℓ) (g : Dev Cert.DilQkvIdeal.nD → PrngReg), Pre_DilQkvIdeal m →
    θ_run (Cert.DilQkvIdeal.defs (F := Ideal)) (onTc (τ := Cert.DilQkvIdeal.τ) (Cert.DilQkvIdeal.main (F := Ideal))) ⟨m, fun _ => 0, g⟩ (fun r => (∀ c : Dev Cert.DilQkvIdeal.nD,
      r.2.mem ((c.tc : Thread Cert.DilQkvIdeal.nD Cert.DilQkvIdeal.τ).loc Cert.DilQkvIdeal.main_arg0) = m ((c.tc : Thread Cert.DilQkvIdeal.nD Cert.DilQkvIdeal.τ).loc Cert.DilQkvIdeal.main_arg0)
      ∧ r.2.mem ((c.tc : Thread Cert.DilQkvIdeal.nD Cert.DilQkvIdeal.τ).loc Cert.DilQkvIdeal.main_arg1) = m ((c.tc : Thread Cert.DilQkvIdeal.nD Cert.DilQkvIdeal.τ).loc Cert.DilQkvIdeal.main_arg1))
      ∧ r.2.sem = fun _ => 0)

def quiescent_DilQkvReferenceIdeal [hDilQkvReferenceIdeal : Cert.DilQkvReferenceIdeal.Facts] : Prop :=
  ∀ (m : (ℓ : Loc Cert.DilQkvReferenceIdeal.nD Cert.DilQkvReferenceIdeal.τ Cert.DilQkvReferenceIdeal.sig) → Buf (Elt Ideal) ℓ) (g : Dev Cert.DilQkvReferenceIdeal.nD → PrngReg), Pre_DilQkvReferenceIdeal m →
    θ_run (Cert.DilQkvReferenceIdeal.defs (F := Ideal)) (onTc (τ := Cert.DilQkvReferenceIdeal.τ) (Cert.DilQkvReferenceIdeal.main (F := Ideal))) ⟨m, fun _ => 0, g⟩ (fun r => (∀ c : Dev Cert.DilQkvReferenceIdeal.nD,
      r.2.mem ((c.tc : Thread Cert.DilQkvReferenceIdeal.nD Cert.DilQkvReferenceIdeal.τ).loc Cert.DilQkvReferenceIdeal.main_arg0) = m ((c.tc : Thread Cert.DilQkvReferenceIdeal.nD Cert.DilQkvReferenceIdeal.τ).loc Cert.DilQkvReferenceIdeal.main_arg0)
      ∧ r.2.mem ((c.tc : Thread Cert.DilQkvReferenceIdeal.nD Cert.DilQkvReferenceIdeal.τ).loc Cert.DilQkvReferenceIdeal.main_arg1) = m ((c.tc : Thread Cert.DilQkvReferenceIdeal.nD Cert.DilQkvReferenceIdeal.τ).loc Cert.DilQkvReferenceIdeal.main_arg1))
      ∧ r.2.sem = fun _ => 0)

def quiescent_NaQkvDh [hNaQkvDh : Cert.NaQkvDh.Facts] : Prop :=
  ∀ (m : (ℓ : Loc Cert.NaQkvDh.nD Cert.NaQkvDh.τ Cert.NaQkvDh.sig) → Buf (Elt Bits) ℓ) (g : Dev Cert.NaQkvDh.nD → PrngReg), Pre_NaQkvDh m →
    θ_run (Cert.NaQkvDh.defs (F := Bits)) (onTc (τ := Cert.NaQkvDh.τ) (Cert.NaQkvDh.main (F := Bits))) ⟨m, fun _ => 0, g⟩ (fun r => (∀ c : Dev Cert.NaQkvDh.nD,
      r.2.mem ((c.tc : Thread Cert.NaQkvDh.nD Cert.NaQkvDh.τ).loc Cert.NaQkvDh.main_arg0) = m ((c.tc : Thread Cert.NaQkvDh.nD Cert.NaQkvDh.τ).loc Cert.NaQkvDh.main_arg0)
      ∧ r.2.mem ((c.tc : Thread Cert.NaQkvDh.nD Cert.NaQkvDh.τ).loc Cert.NaQkvDh.main_arg1) = m ((c.tc : Thread Cert.NaQkvDh.nD Cert.NaQkvDh.τ).loc Cert.NaQkvDh.main_arg1))
      ∧ r.2.sem = fun _ => 0)

def quiescent_NaQkvDhIdeal [hNaQkvDhIdeal : Cert.NaQkvDhIdeal.Facts] : Prop :=
  ∀ (m : (ℓ : Loc Cert.NaQkvDhIdeal.nD Cert.NaQkvDhIdeal.τ Cert.NaQkvDhIdeal.sig) → Buf (Elt Ideal) ℓ) (g : Dev Cert.NaQkvDhIdeal.nD → PrngReg), Pre_NaQkvDhIdeal m →
    θ_run (Cert.NaQkvDhIdeal.defs (F := Ideal)) (onTc (τ := Cert.NaQkvDhIdeal.τ) (Cert.NaQkvDhIdeal.main (F := Ideal))) ⟨m, fun _ => 0, g⟩ (fun r => (∀ c : Dev Cert.NaQkvDhIdeal.nD,
      r.2.mem ((c.tc : Thread Cert.NaQkvDhIdeal.nD Cert.NaQkvDhIdeal.τ).loc Cert.NaQkvDhIdeal.main_arg0) = m ((c.tc : Thread Cert.NaQkvDhIdeal.nD Cert.NaQkvDhIdeal.τ).loc Cert.NaQkvDhIdeal.main_arg0)
      ∧ r.2.mem ((c.tc : Thread Cert.NaQkvDhIdeal.nD Cert.NaQkvDhIdeal.τ).loc Cert.NaQkvDhIdeal.main_arg1) = m ((c.tc : Thread Cert.NaQkvDhIdeal.nD Cert.NaQkvDhIdeal.τ).loc Cert.NaQkvDhIdeal.main_arg1))
      ∧ r.2.sem = fun _ => 0)

def quiescent_NaQkvDhReferenceIdeal [hNaQkvDhReferenceIdeal : Cert.NaQkvDhReferenceIdeal.Facts] : Prop :=
  ∀ (m : (ℓ : Loc Cert.NaQkvDhReferenceIdeal.nD Cert.NaQkvDhReferenceIdeal.τ Cert.NaQkvDhReferenceIdeal.sig) → Buf (Elt Ideal) ℓ) (g : Dev Cert.NaQkvDhReferenceIdeal.nD → PrngReg), Pre_NaQkvDhReferenceIdeal m →
    θ_run (Cert.NaQkvDhReferenceIdeal.defs (F := Ideal)) (onTc (τ := Cert.NaQkvDhReferenceIdeal.τ) (Cert.NaQkvDhReferenceIdeal.main (F := Ideal))) ⟨m, fun _ => 0, g⟩ (fun r => (∀ c : Dev Cert.NaQkvDhReferenceIdeal.nD,
      r.2.mem ((c.tc : Thread Cert.NaQkvDhReferenceIdeal.nD Cert.NaQkvDhReferenceIdeal.τ).loc Cert.NaQkvDhReferenceIdeal.main_arg0) = m ((c.tc : Thread Cert.NaQkvDhReferenceIdeal.nD Cert.NaQkvDhReferenceIdeal.τ).loc Cert.NaQkvDhReferenceIdeal.main_arg0)
      ∧ r.2.mem ((c.tc : Thread Cert.NaQkvDhReferenceIdeal.nD Cert.NaQkvDhReferenceIdeal.τ).loc Cert.NaQkvDhReferenceIdeal.main_arg1) = m ((c.tc : Thread Cert.NaQkvDhReferenceIdeal.nD Cert.NaQkvDhReferenceIdeal.τ).loc Cert.NaQkvDhReferenceIdeal.main_arg1))
      ∧ r.2.sem = fun _ => 0)

def quiescent_DilQkvDh [hDilQkvDh : Cert.DilQkvDh.Facts] : Prop :=
  ∀ (m : (ℓ : Loc Cert.DilQkvDh.nD Cert.DilQkvDh.τ Cert.DilQkvDh.sig) → Buf (Elt Bits) ℓ) (g : Dev Cert.DilQkvDh.nD → PrngReg), Pre_DilQkvDh m →
    θ_run (Cert.DilQkvDh.defs (F := Bits)) (onTc (τ := Cert.DilQkvDh.τ) (Cert.DilQkvDh.main (F := Bits))) ⟨m, fun _ => 0, g⟩ (fun r => (∀ c : Dev Cert.DilQkvDh.nD,
      r.2.mem ((c.tc : Thread Cert.DilQkvDh.nD Cert.DilQkvDh.τ).loc Cert.DilQkvDh.main_arg0) = m ((c.tc : Thread Cert.DilQkvDh.nD Cert.DilQkvDh.τ).loc Cert.DilQkvDh.main_arg0)
      ∧ r.2.mem ((c.tc : Thread Cert.DilQkvDh.nD Cert.DilQkvDh.τ).loc Cert.DilQkvDh.main_arg1) = m ((c.tc : Thread Cert.DilQkvDh.nD Cert.DilQkvDh.τ).loc Cert.DilQkvDh.main_arg1))
      ∧ r.2.sem = fun _ => 0)

def quiescent_DilQkvDhIdeal [hDilQkvDhIdeal : Cert.DilQkvDhIdeal.Facts] : Prop :=
  ∀ (m : (ℓ : Loc Cert.DilQkvDhIdeal.nD Cert.DilQkvDhIdeal.τ Cert.DilQkvDhIdeal.sig) → Buf (Elt Ideal) ℓ) (g : Dev Cert.DilQkvDhIdeal.nD → PrngReg), Pre_DilQkvDhIdeal m →
    θ_run (Cert.DilQkvDhIdeal.defs (F := Ideal)) (onTc (τ := Cert.DilQkvDhIdeal.τ) (Cert.DilQkvDhIdeal.main (F := Ideal))) ⟨m, fun _ => 0, g⟩ (fun r => (∀ c : Dev Cert.DilQkvDhIdeal.nD,
      r.2.mem ((c.tc : Thread Cert.DilQkvDhIdeal.nD Cert.DilQkvDhIdeal.τ).loc Cert.DilQkvDhIdeal.main_arg0) = m ((c.tc : Thread Cert.DilQkvDhIdeal.nD Cert.DilQkvDhIdeal.τ).loc Cert.DilQkvDhIdeal.main_arg0)
      ∧ r.2.mem ((c.tc : Thread Cert.DilQkvDhIdeal.nD Cert.DilQkvDhIdeal.τ).loc Cert.DilQkvDhIdeal.main_arg1) = m ((c.tc : Thread Cert.DilQkvDhIdeal.nD Cert.DilQkvDhIdeal.τ).loc Cert.DilQkvDhIdeal.main_arg1))
      ∧ r.2.sem = fun _ => 0)

def quiescent_DilQkvDhReferenceIdeal [hDilQkvDhReferenceIdeal : Cert.DilQkvDhReferenceIdeal.Facts] : Prop :=
  ∀ (m : (ℓ : Loc Cert.DilQkvDhReferenceIdeal.nD Cert.DilQkvDhReferenceIdeal.τ Cert.DilQkvDhReferenceIdeal.sig) → Buf (Elt Ideal) ℓ) (g : Dev Cert.DilQkvDhReferenceIdeal.nD → PrngReg), Pre_DilQkvDhReferenceIdeal m →
    θ_run (Cert.DilQkvDhReferenceIdeal.defs (F := Ideal)) (onTc (τ := Cert.DilQkvDhReferenceIdeal.τ) (Cert.DilQkvDhReferenceIdeal.main (F := Ideal))) ⟨m, fun _ => 0, g⟩ (fun r => (∀ c : Dev Cert.DilQkvDhReferenceIdeal.nD,
      r.2.mem ((c.tc : Thread Cert.DilQkvDhReferenceIdeal.nD Cert.DilQkvDhReferenceIdeal.τ).loc Cert.DilQkvDhReferenceIdeal.main_arg0) = m ((c.tc : Thread Cert.DilQkvDhReferenceIdeal.nD Cert.DilQkvDhReferenceIdeal.τ).loc Cert.DilQkvDhReferenceIdeal.main_arg0)
      ∧ r.2.mem ((c.tc : Thread Cert.DilQkvDhReferenceIdeal.nD Cert.DilQkvDhReferenceIdeal.τ).loc Cert.DilQkvDhReferenceIdeal.main_arg1) = m ((c.tc : Thread Cert.DilQkvDhReferenceIdeal.nD Cert.DilQkvDhReferenceIdeal.τ).loc Cert.DilQkvDhReferenceIdeal.main_arg1))
      ∧ r.2.sem = fun _ => 0)

def quiescent_NaQkvDw [hNaQkvDw : Cert.NaQkvDw.Facts] : Prop :=
  ∀ (m : (ℓ : Loc Cert.NaQkvDw.nD Cert.NaQkvDw.τ Cert.NaQkvDw.sig) → Buf (Elt Bits) ℓ) (g : Dev Cert.NaQkvDw.nD → PrngReg), Pre_NaQkvDw m →
    θ_run (Cert.NaQkvDw.defs (F := Bits)) (onTc (τ := Cert.NaQkvDw.τ) (Cert.NaQkvDw.main (F := Bits))) ⟨m, fun _ => 0, g⟩ (fun r => (∀ c : Dev Cert.NaQkvDw.nD,
      r.2.mem ((c.tc : Thread Cert.NaQkvDw.nD Cert.NaQkvDw.τ).loc Cert.NaQkvDw.main_arg0) = m ((c.tc : Thread Cert.NaQkvDw.nD Cert.NaQkvDw.τ).loc Cert.NaQkvDw.main_arg0)
      ∧ r.2.mem ((c.tc : Thread Cert.NaQkvDw.nD Cert.NaQkvDw.τ).loc Cert.NaQkvDw.main_arg1) = m ((c.tc : Thread Cert.NaQkvDw.nD Cert.NaQkvDw.τ).loc Cert.NaQkvDw.main_arg1))
      ∧ r.2.sem = fun _ => 0)

def quiescent_NaQkvDwIdeal [hNaQkvDwIdeal : Cert.NaQkvDwIdeal.Facts] : Prop :=
  ∀ (m : (ℓ : Loc Cert.NaQkvDwIdeal.nD Cert.NaQkvDwIdeal.τ Cert.NaQkvDwIdeal.sig) → Buf (Elt Ideal) ℓ) (g : Dev Cert.NaQkvDwIdeal.nD → PrngReg), Pre_NaQkvDwIdeal m →
    θ_run (Cert.NaQkvDwIdeal.defs (F := Ideal)) (onTc (τ := Cert.NaQkvDwIdeal.τ) (Cert.NaQkvDwIdeal.main (F := Ideal))) ⟨m, fun _ => 0, g⟩ (fun r => (∀ c : Dev Cert.NaQkvDwIdeal.nD,
      r.2.mem ((c.tc : Thread Cert.NaQkvDwIdeal.nD Cert.NaQkvDwIdeal.τ).loc Cert.NaQkvDwIdeal.main_arg0) = m ((c.tc : Thread Cert.NaQkvDwIdeal.nD Cert.NaQkvDwIdeal.τ).loc Cert.NaQkvDwIdeal.main_arg0)
      ∧ r.2.mem ((c.tc : Thread Cert.NaQkvDwIdeal.nD Cert.NaQkvDwIdeal.τ).loc Cert.NaQkvDwIdeal.main_arg1) = m ((c.tc : Thread Cert.NaQkvDwIdeal.nD Cert.NaQkvDwIdeal.τ).loc Cert.NaQkvDwIdeal.main_arg1))
      ∧ r.2.sem = fun _ => 0)

def quiescent_NaQkvDwReferenceIdeal [hNaQkvDwReferenceIdeal : Cert.NaQkvDwReferenceIdeal.Facts] : Prop :=
  ∀ (m : (ℓ : Loc Cert.NaQkvDwReferenceIdeal.nD Cert.NaQkvDwReferenceIdeal.τ Cert.NaQkvDwReferenceIdeal.sig) → Buf (Elt Ideal) ℓ) (g : Dev Cert.NaQkvDwReferenceIdeal.nD → PrngReg), Pre_NaQkvDwReferenceIdeal m →
    θ_run (Cert.NaQkvDwReferenceIdeal.defs (F := Ideal)) (onTc (τ := Cert.NaQkvDwReferenceIdeal.τ) (Cert.NaQkvDwReferenceIdeal.main (F := Ideal))) ⟨m, fun _ => 0, g⟩ (fun r => (∀ c : Dev Cert.NaQkvDwReferenceIdeal.nD,
      r.2.mem ((c.tc : Thread Cert.NaQkvDwReferenceIdeal.nD Cert.NaQkvDwReferenceIdeal.τ).loc Cert.NaQkvDwReferenceIdeal.main_arg0) = m ((c.tc : Thread Cert.NaQkvDwReferenceIdeal.nD Cert.NaQkvDwReferenceIdeal.τ).loc Cert.NaQkvDwReferenceIdeal.main_arg0)
      ∧ r.2.mem ((c.tc : Thread Cert.NaQkvDwReferenceIdeal.nD Cert.NaQkvDwReferenceIdeal.τ).loc Cert.NaQkvDwReferenceIdeal.main_arg1) = m ((c.tc : Thread Cert.NaQkvDwReferenceIdeal.nD Cert.NaQkvDwReferenceIdeal.τ).loc Cert.NaQkvDwReferenceIdeal.main_arg1))
      ∧ r.2.sem = fun _ => 0)

def quiescent_DilQkvDw [hDilQkvDw : Cert.DilQkvDw.Facts] : Prop :=
  ∀ (m : (ℓ : Loc Cert.DilQkvDw.nD Cert.DilQkvDw.τ Cert.DilQkvDw.sig) → Buf (Elt Bits) ℓ) (g : Dev Cert.DilQkvDw.nD → PrngReg), Pre_DilQkvDw m →
    θ_run (Cert.DilQkvDw.defs (F := Bits)) (onTc (τ := Cert.DilQkvDw.τ) (Cert.DilQkvDw.main (F := Bits))) ⟨m, fun _ => 0, g⟩ (fun r => (∀ c : Dev Cert.DilQkvDw.nD,
      r.2.mem ((c.tc : Thread Cert.DilQkvDw.nD Cert.DilQkvDw.τ).loc Cert.DilQkvDw.main_arg0) = m ((c.tc : Thread Cert.DilQkvDw.nD Cert.DilQkvDw.τ).loc Cert.DilQkvDw.main_arg0)
      ∧ r.2.mem ((c.tc : Thread Cert.DilQkvDw.nD Cert.DilQkvDw.τ).loc Cert.DilQkvDw.main_arg1) = m ((c.tc : Thread Cert.DilQkvDw.nD Cert.DilQkvDw.τ).loc Cert.DilQkvDw.main_arg1))
      ∧ r.2.sem = fun _ => 0)

def quiescent_DilQkvDwIdeal [hDilQkvDwIdeal : Cert.DilQkvDwIdeal.Facts] : Prop :=
  ∀ (m : (ℓ : Loc Cert.DilQkvDwIdeal.nD Cert.DilQkvDwIdeal.τ Cert.DilQkvDwIdeal.sig) → Buf (Elt Ideal) ℓ) (g : Dev Cert.DilQkvDwIdeal.nD → PrngReg), Pre_DilQkvDwIdeal m →
    θ_run (Cert.DilQkvDwIdeal.defs (F := Ideal)) (onTc (τ := Cert.DilQkvDwIdeal.τ) (Cert.DilQkvDwIdeal.main (F := Ideal))) ⟨m, fun _ => 0, g⟩ (fun r => (∀ c : Dev Cert.DilQkvDwIdeal.nD,
      r.2.mem ((c.tc : Thread Cert.DilQkvDwIdeal.nD Cert.DilQkvDwIdeal.τ).loc Cert.DilQkvDwIdeal.main_arg0) = m ((c.tc : Thread Cert.DilQkvDwIdeal.nD Cert.DilQkvDwIdeal.τ).loc Cert.DilQkvDwIdeal.main_arg0)
      ∧ r.2.mem ((c.tc : Thread Cert.DilQkvDwIdeal.nD Cert.DilQkvDwIdeal.τ).loc Cert.DilQkvDwIdeal.main_arg1) = m ((c.tc : Thread Cert.DilQkvDwIdeal.nD Cert.DilQkvDwIdeal.τ).loc Cert.DilQkvDwIdeal.main_arg1))
      ∧ r.2.sem = fun _ => 0)

def quiescent_DilQkvDwReferenceIdeal [hDilQkvDwReferenceIdeal : Cert.DilQkvDwReferenceIdeal.Facts] : Prop :=
  ∀ (m : (ℓ : Loc Cert.DilQkvDwReferenceIdeal.nD Cert.DilQkvDwReferenceIdeal.τ Cert.DilQkvDwReferenceIdeal.sig) → Buf (Elt Ideal) ℓ) (g : Dev Cert.DilQkvDwReferenceIdeal.nD → PrngReg), Pre_DilQkvDwReferenceIdeal m →
    θ_run (Cert.DilQkvDwReferenceIdeal.defs (F := Ideal)) (onTc (τ := Cert.DilQkvDwReferenceIdeal.τ) (Cert.DilQkvDwReferenceIdeal.main (F := Ideal))) ⟨m, fun _ => 0, g⟩ (fun r => (∀ c : Dev Cert.DilQkvDwReferenceIdeal.nD,
      r.2.mem ((c.tc : Thread Cert.DilQkvDwReferenceIdeal.nD Cert.DilQkvDwReferenceIdeal.τ).loc Cert.DilQkvDwReferenceIdeal.main_arg0) = m ((c.tc : Thread Cert.DilQkvDwReferenceIdeal.nD Cert.DilQkvDwReferenceIdeal.τ).loc Cert.DilQkvDwReferenceIdeal.main_arg0)
      ∧ r.2.mem ((c.tc : Thread Cert.DilQkvDwReferenceIdeal.nD Cert.DilQkvDwReferenceIdeal.τ).loc Cert.DilQkvDwReferenceIdeal.main_arg1) = m ((c.tc : Thread Cert.DilQkvDwReferenceIdeal.nD Cert.DilQkvDwReferenceIdeal.τ).loc Cert.DilQkvDwReferenceIdeal.main_arg1))
      ∧ r.2.sem = fun _ => 0)

def quiescent_NaFwd [hNaFwd : Cert.NaFwd.Facts] : Prop :=
  ∀ (m : (ℓ : Loc Cert.NaFwd.nD Cert.NaFwd.τ Cert.NaFwd.sig) → Buf (Elt Bits) ℓ) (g : Dev Cert.NaFwd.nD → PrngReg), Pre_NaFwd m →
    θ_run (Cert.NaFwd.defs (F := Bits)) (onTc (τ := Cert.NaFwd.τ) (Cert.NaFwd.main (F := Bits))) ⟨m, fun _ => 0, g⟩ (fun r => (∀ c : Dev Cert.NaFwd.nD,
      r.2.mem ((c.tc : Thread Cert.NaFwd.nD Cert.NaFwd.τ).loc Cert.NaFwd.main_arg0) = m ((c.tc : Thread Cert.NaFwd.nD Cert.NaFwd.τ).loc Cert.NaFwd.main_arg0)
      ∧ r.2.mem ((c.tc : Thread Cert.NaFwd.nD Cert.NaFwd.τ).loc Cert.NaFwd.main_arg1) = m ((c.tc : Thread Cert.NaFwd.nD Cert.NaFwd.τ).loc Cert.NaFwd.main_arg1))
      ∧ r.2.sem = fun _ => 0)

def quiescent_NaFwdIdeal [hNaFwdIdeal : Cert.NaFwdIdeal.Facts] : Prop :=
  ∀ (m : (ℓ : Loc Cert.NaFwdIdeal.nD Cert.NaFwdIdeal.τ Cert.NaFwdIdeal.sig) → Buf (Elt Ideal) ℓ) (g : Dev Cert.NaFwdIdeal.nD → PrngReg), Pre_NaFwdIdeal m →
    θ_run (Cert.NaFwdIdeal.defs (F := Ideal)) (onTc (τ := Cert.NaFwdIdeal.τ) (Cert.NaFwdIdeal.main (F := Ideal))) ⟨m, fun _ => 0, g⟩ (fun r => (∀ c : Dev Cert.NaFwdIdeal.nD,
      r.2.mem ((c.tc : Thread Cert.NaFwdIdeal.nD Cert.NaFwdIdeal.τ).loc Cert.NaFwdIdeal.main_arg0) = m ((c.tc : Thread Cert.NaFwdIdeal.nD Cert.NaFwdIdeal.τ).loc Cert.NaFwdIdeal.main_arg0)
      ∧ r.2.mem ((c.tc : Thread Cert.NaFwdIdeal.nD Cert.NaFwdIdeal.τ).loc Cert.NaFwdIdeal.main_arg1) = m ((c.tc : Thread Cert.NaFwdIdeal.nD Cert.NaFwdIdeal.τ).loc Cert.NaFwdIdeal.main_arg1))
      ∧ r.2.sem = fun _ => 0)

def quiescent_NaFwdReferenceIdeal [hNaFwdReferenceIdeal : Cert.NaFwdReferenceIdeal.Facts] : Prop :=
  ∀ (m : (ℓ : Loc Cert.NaFwdReferenceIdeal.nD Cert.NaFwdReferenceIdeal.τ Cert.NaFwdReferenceIdeal.sig) → Buf (Elt Ideal) ℓ) (g : Dev Cert.NaFwdReferenceIdeal.nD → PrngReg), Pre_NaFwdReferenceIdeal m →
    θ_run (Cert.NaFwdReferenceIdeal.defs (F := Ideal)) (onTc (τ := Cert.NaFwdReferenceIdeal.τ) (Cert.NaFwdReferenceIdeal.main (F := Ideal))) ⟨m, fun _ => 0, g⟩ (fun r => (∀ c : Dev Cert.NaFwdReferenceIdeal.nD,
      r.2.mem ((c.tc : Thread Cert.NaFwdReferenceIdeal.nD Cert.NaFwdReferenceIdeal.τ).loc Cert.NaFwdReferenceIdeal.main_arg0) = m ((c.tc : Thread Cert.NaFwdReferenceIdeal.nD Cert.NaFwdReferenceIdeal.τ).loc Cert.NaFwdReferenceIdeal.main_arg0)
      ∧ r.2.mem ((c.tc : Thread Cert.NaFwdReferenceIdeal.nD Cert.NaFwdReferenceIdeal.τ).loc Cert.NaFwdReferenceIdeal.main_arg1) = m ((c.tc : Thread Cert.NaFwdReferenceIdeal.nD Cert.NaFwdReferenceIdeal.τ).loc Cert.NaFwdReferenceIdeal.main_arg1))
      ∧ r.2.sem = fun _ => 0)

def quiescent_DilMerge [hDilMerge : Cert.DilMerge.Facts] : Prop :=
  ∀ (m : (ℓ : Loc Cert.DilMerge.nD Cert.DilMerge.τ Cert.DilMerge.sig) → Buf (Elt Bits) ℓ) (g : Dev Cert.DilMerge.nD → PrngReg), Pre_DilMerge m →
    θ_run (Cert.DilMerge.defs (F := Bits)) (onTc (τ := Cert.DilMerge.τ) (Cert.DilMerge.main (F := Bits))) ⟨m, fun _ => 0, g⟩ (fun r => (∀ c : Dev Cert.DilMerge.nD,
      r.2.mem ((c.tc : Thread Cert.DilMerge.nD Cert.DilMerge.τ).loc Cert.DilMerge.main_arg0) = m ((c.tc : Thread Cert.DilMerge.nD Cert.DilMerge.τ).loc Cert.DilMerge.main_arg0)
      ∧ r.2.mem ((c.tc : Thread Cert.DilMerge.nD Cert.DilMerge.τ).loc Cert.DilMerge.main_arg1) = m ((c.tc : Thread Cert.DilMerge.nD Cert.DilMerge.τ).loc Cert.DilMerge.main_arg1))
      ∧ r.2.sem = fun _ => 0)

def quiescent_DilMergeIdeal [hDilMergeIdeal : Cert.DilMergeIdeal.Facts] : Prop :=
  ∀ (m : (ℓ : Loc Cert.DilMergeIdeal.nD Cert.DilMergeIdeal.τ Cert.DilMergeIdeal.sig) → Buf (Elt Ideal) ℓ) (g : Dev Cert.DilMergeIdeal.nD → PrngReg), Pre_DilMergeIdeal m →
    θ_run (Cert.DilMergeIdeal.defs (F := Ideal)) (onTc (τ := Cert.DilMergeIdeal.τ) (Cert.DilMergeIdeal.main (F := Ideal))) ⟨m, fun _ => 0, g⟩ (fun r => (∀ c : Dev Cert.DilMergeIdeal.nD,
      r.2.mem ((c.tc : Thread Cert.DilMergeIdeal.nD Cert.DilMergeIdeal.τ).loc Cert.DilMergeIdeal.main_arg0) = m ((c.tc : Thread Cert.DilMergeIdeal.nD Cert.DilMergeIdeal.τ).loc Cert.DilMergeIdeal.main_arg0)
      ∧ r.2.mem ((c.tc : Thread Cert.DilMergeIdeal.nD Cert.DilMergeIdeal.τ).loc Cert.DilMergeIdeal.main_arg1) = m ((c.tc : Thread Cert.DilMergeIdeal.nD Cert.DilMergeIdeal.τ).loc Cert.DilMergeIdeal.main_arg1))
      ∧ r.2.sem = fun _ => 0)

def quiescent_DilMergeReferenceIdeal [hDilMergeReferenceIdeal : Cert.DilMergeReferenceIdeal.Facts] : Prop :=
  ∀ (m : (ℓ : Loc Cert.DilMergeReferenceIdeal.nD Cert.DilMergeReferenceIdeal.τ Cert.DilMergeReferenceIdeal.sig) → Buf (Elt Ideal) ℓ) (g : Dev Cert.DilMergeReferenceIdeal.nD → PrngReg), Pre_DilMergeReferenceIdeal m →
    θ_run (Cert.DilMergeReferenceIdeal.defs (F := Ideal)) (onTc (τ := Cert.DilMergeReferenceIdeal.τ) (Cert.DilMergeReferenceIdeal.main (F := Ideal))) ⟨m, fun _ => 0, g⟩ (fun r => (∀ c : Dev Cert.DilMergeReferenceIdeal.nD,
      r.2.mem ((c.tc : Thread Cert.DilMergeReferenceIdeal.nD Cert.DilMergeReferenceIdeal.τ).loc Cert.DilMergeReferenceIdeal.main_arg0) = m ((c.tc : Thread Cert.DilMergeReferenceIdeal.nD Cert.DilMergeReferenceIdeal.τ).loc Cert.DilMergeReferenceIdeal.main_arg0)
      ∧ r.2.mem ((c.tc : Thread Cert.DilMergeReferenceIdeal.nD Cert.DilMergeReferenceIdeal.τ).loc Cert.DilMergeReferenceIdeal.main_arg1) = m ((c.tc : Thread Cert.DilMergeReferenceIdeal.nD Cert.DilMergeReferenceIdeal.τ).loc Cert.DilMergeReferenceIdeal.main_arg1))
      ∧ r.2.sem = fun _ => 0)

def quiescent_Rowdot [hRowdot : Cert.Rowdot.Facts] : Prop :=
  ∀ (m : (ℓ : Loc Cert.Rowdot.nD Cert.Rowdot.τ Cert.Rowdot.sig) → Buf (Elt Bits) ℓ) (g : Dev Cert.Rowdot.nD → PrngReg), Pre_Rowdot m →
    θ_run (Cert.Rowdot.defs (F := Bits)) (onTc (τ := Cert.Rowdot.τ) (Cert.Rowdot.main (F := Bits))) ⟨m, fun _ => 0, g⟩ (fun r => (∀ c : Dev Cert.Rowdot.nD,
      r.2.mem ((c.tc : Thread Cert.Rowdot.nD Cert.Rowdot.τ).loc Cert.Rowdot.main_arg0) = m ((c.tc : Thread Cert.Rowdot.nD Cert.Rowdot.τ).loc Cert.Rowdot.main_arg0)
      ∧ r.2.mem ((c.tc : Thread Cert.Rowdot.nD Cert.Rowdot.τ).loc Cert.Rowdot.main_arg1) = m ((c.tc : Thread Cert.Rowdot.nD Cert.Rowdot.τ).loc Cert.Rowdot.main_arg1))
      ∧ r.2.sem = fun _ => 0)

def quiescent_RowdotIdeal [hRowdotIdeal : Cert.RowdotIdeal.Facts] : Prop :=
  ∀ (m : (ℓ : Loc Cert.RowdotIdeal.nD Cert.RowdotIdeal.τ Cert.RowdotIdeal.sig) → Buf (Elt Ideal) ℓ) (g : Dev Cert.RowdotIdeal.nD → PrngReg), Pre_RowdotIdeal m →
    θ_run (Cert.RowdotIdeal.defs (F := Ideal)) (onTc (τ := Cert.RowdotIdeal.τ) (Cert.RowdotIdeal.main (F := Ideal))) ⟨m, fun _ => 0, g⟩ (fun r => (∀ c : Dev Cert.RowdotIdeal.nD,
      r.2.mem ((c.tc : Thread Cert.RowdotIdeal.nD Cert.RowdotIdeal.τ).loc Cert.RowdotIdeal.main_arg0) = m ((c.tc : Thread Cert.RowdotIdeal.nD Cert.RowdotIdeal.τ).loc Cert.RowdotIdeal.main_arg0)
      ∧ r.2.mem ((c.tc : Thread Cert.RowdotIdeal.nD Cert.RowdotIdeal.τ).loc Cert.RowdotIdeal.main_arg1) = m ((c.tc : Thread Cert.RowdotIdeal.nD Cert.RowdotIdeal.τ).loc Cert.RowdotIdeal.main_arg1))
      ∧ r.2.sem = fun _ => 0)

def quiescent_RowdotReferenceIdeal [hRowdotReferenceIdeal : Cert.RowdotReferenceIdeal.Facts] : Prop :=
  ∀ (m : (ℓ : Loc Cert.RowdotReferenceIdeal.nD Cert.RowdotReferenceIdeal.τ Cert.RowdotReferenceIdeal.sig) → Buf (Elt Ideal) ℓ) (g : Dev Cert.RowdotReferenceIdeal.nD → PrngReg), Pre_RowdotReferenceIdeal m →
    θ_run (Cert.RowdotReferenceIdeal.defs (F := Ideal)) (onTc (τ := Cert.RowdotReferenceIdeal.τ) (Cert.RowdotReferenceIdeal.main (F := Ideal))) ⟨m, fun _ => 0, g⟩ (fun r => (∀ c : Dev Cert.RowdotReferenceIdeal.nD,
      r.2.mem ((c.tc : Thread Cert.RowdotReferenceIdeal.nD Cert.RowdotReferenceIdeal.τ).loc Cert.RowdotReferenceIdeal.main_arg0) = m ((c.tc : Thread Cert.RowdotReferenceIdeal.nD Cert.RowdotReferenceIdeal.τ).loc Cert.RowdotReferenceIdeal.main_arg0)
      ∧ r.2.mem ((c.tc : Thread Cert.RowdotReferenceIdeal.nD Cert.RowdotReferenceIdeal.τ).loc Cert.RowdotReferenceIdeal.main_arg1) = m ((c.tc : Thread Cert.RowdotReferenceIdeal.nD Cert.RowdotReferenceIdeal.τ).loc Cert.RowdotReferenceIdeal.main_arg1))
      ∧ r.2.sem = fun _ => 0)

def quiescent_RpbGrad [hRpbGrad : Cert.RpbGrad.Facts] : Prop :=
  ∀ (m : (ℓ : Loc Cert.RpbGrad.nD Cert.RpbGrad.τ Cert.RpbGrad.sig) → Buf (Elt Bits) ℓ) (g : Dev Cert.RpbGrad.nD → PrngReg), Pre_RpbGrad m →
    θ_run (Cert.RpbGrad.defs (F := Bits)) (onTc (τ := Cert.RpbGrad.τ) (Cert.RpbGrad.main (F := Bits))) ⟨m, fun _ => 0, g⟩ (fun r => (∀ c : Dev Cert.RpbGrad.nD,
      r.2.mem ((c.tc : Thread Cert.RpbGrad.nD Cert.RpbGrad.τ).loc Cert.RpbGrad.main_arg0) = m ((c.tc : Thread Cert.RpbGrad.nD Cert.RpbGrad.τ).loc Cert.RpbGrad.main_arg0)
      ∧ r.2.mem ((c.tc : Thread Cert.RpbGrad.nD Cert.RpbGrad.τ).loc Cert.RpbGrad.main_arg1) = m ((c.tc : Thread Cert.RpbGrad.nD Cert.RpbGrad.τ).loc Cert.RpbGrad.main_arg1))
      ∧ r.2.sem = fun _ => 0)

def quiescent_RpbGradIdeal [hRpbGradIdeal : Cert.RpbGradIdeal.Facts] : Prop :=
  ∀ (m : (ℓ : Loc Cert.RpbGradIdeal.nD Cert.RpbGradIdeal.τ Cert.RpbGradIdeal.sig) → Buf (Elt Ideal) ℓ) (g : Dev Cert.RpbGradIdeal.nD → PrngReg), Pre_RpbGradIdeal m →
    θ_run (Cert.RpbGradIdeal.defs (F := Ideal)) (onTc (τ := Cert.RpbGradIdeal.τ) (Cert.RpbGradIdeal.main (F := Ideal))) ⟨m, fun _ => 0, g⟩ (fun r => (∀ c : Dev Cert.RpbGradIdeal.nD,
      r.2.mem ((c.tc : Thread Cert.RpbGradIdeal.nD Cert.RpbGradIdeal.τ).loc Cert.RpbGradIdeal.main_arg0) = m ((c.tc : Thread Cert.RpbGradIdeal.nD Cert.RpbGradIdeal.τ).loc Cert.RpbGradIdeal.main_arg0)
      ∧ r.2.mem ((c.tc : Thread Cert.RpbGradIdeal.nD Cert.RpbGradIdeal.τ).loc Cert.RpbGradIdeal.main_arg1) = m ((c.tc : Thread Cert.RpbGradIdeal.nD Cert.RpbGradIdeal.τ).loc Cert.RpbGradIdeal.main_arg1))
      ∧ r.2.sem = fun _ => 0)

def quiescent_RpbGradReferenceIdeal [hRpbGradReferenceIdeal : Cert.RpbGradReferenceIdeal.Facts] : Prop :=
  ∀ (m : (ℓ : Loc Cert.RpbGradReferenceIdeal.nD Cert.RpbGradReferenceIdeal.τ Cert.RpbGradReferenceIdeal.sig) → Buf (Elt Ideal) ℓ) (g : Dev Cert.RpbGradReferenceIdeal.nD → PrngReg), Pre_RpbGradReferenceIdeal m →
    θ_run (Cert.RpbGradReferenceIdeal.defs (F := Ideal)) (onTc (τ := Cert.RpbGradReferenceIdeal.τ) (Cert.RpbGradReferenceIdeal.main (F := Ideal))) ⟨m, fun _ => 0, g⟩ (fun r => (∀ c : Dev Cert.RpbGradReferenceIdeal.nD,
      r.2.mem ((c.tc : Thread Cert.RpbGradReferenceIdeal.nD Cert.RpbGradReferenceIdeal.τ).loc Cert.RpbGradReferenceIdeal.main_arg0) = m ((c.tc : Thread Cert.RpbGradReferenceIdeal.nD Cert.RpbGradReferenceIdeal.τ).loc Cert.RpbGradReferenceIdeal.main_arg0)
      ∧ r.2.mem ((c.tc : Thread Cert.RpbGradReferenceIdeal.nD Cert.RpbGradReferenceIdeal.τ).loc Cert.RpbGradReferenceIdeal.main_arg1) = m ((c.tc : Thread Cert.RpbGradReferenceIdeal.nD Cert.RpbGradReferenceIdeal.τ).loc Cert.RpbGradReferenceIdeal.main_arg1))
      ∧ r.2.sem = fun _ => 0)

def preserves_Gather_GatherIdeal : Prop :=
  True

def algebraic_GatherIdeal_GatherReferenceIdeal [hGatherIdeal : Cert.GatherIdeal.Facts] [hGatherReferenceIdeal : Cert.GatherReferenceIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherReferenceIdeal.nD Cert.GatherReferenceIdeal.τ Cert.GatherReferenceIdeal.sig) → Buf (Elt Ideal) ℓ) (g' : Dev Cert.GatherReferenceIdeal.nD → PrngReg), Pre_GatherIdeal m →
    (∀ c : Dev Cert.GatherIdeal.nD,
      m ((c.tc : Thread Cert.GatherIdeal.nD Cert.GatherIdeal.τ).loc Cert.GatherIdeal.main_arg0) = Layout.blockN ⟨3, ![2, 512, 768]⟩ ⟨3, ![8, 512, 768]⟩ (Layout.meshBlock [2, 2, 2] ![[0, 1], [], []] c) (m' (((0 : Dev Cert.GatherReferenceIdeal.nD).tc : Thread Cert.GatherReferenceIdeal.nD Cert.GatherReferenceIdeal.τ).loc Cert.GatherReferenceIdeal.main_arg0))
      ∧ m ((c.tc : Thread Cert.GatherIdeal.nD Cert.GatherIdeal.τ).loc Cert.GatherIdeal.main_arg1) = Layout.blockN ⟨3, ![2, 128, 1024]⟩ ⟨3, ![8, 128, 1024]⟩ (Layout.meshBlock [2, 2, 2] ![[0, 1], [], []] c) (m' (((0 : Dev Cert.GatherReferenceIdeal.nD).tc : Thread Cert.GatherReferenceIdeal.nD Cert.GatherReferenceIdeal.τ).loc Cert.GatherReferenceIdeal.main_arg1))
      ∧ m ((c.tc : Thread Cert.GatherIdeal.nD Cert.GatherIdeal.τ).loc Cert.GatherIdeal.main_arg2) = Layout.blockN ⟨3, ![2, 1024, 704]⟩ ⟨3, ![8, 1024, 704]⟩ (Layout.meshBlock [2, 2, 2] ![[0, 1], [], []] c) (m' (((0 : Dev Cert.GatherReferenceIdeal.nD).tc : Thread Cert.GatherReferenceIdeal.nD Cert.GatherReferenceIdeal.τ).loc Cert.GatherReferenceIdeal.main_arg2))
      ∧ m ((c.tc : Thread Cert.GatherIdeal.nD Cert.GatherIdeal.τ).loc Cert.GatherIdeal.main_arg3) = Layout.blockN ⟨3, ![2, 1024, 704]⟩ ⟨3, ![8, 1024, 704]⟩ (Layout.meshBlock [2, 2, 2] ![[0, 1], [], []] c) (m' (((0 : Dev Cert.GatherReferenceIdeal.nD).tc : Thread Cert.GatherReferenceIdeal.nD Cert.GatherReferenceIdeal.τ).loc Cert.GatherReferenceIdeal.main_arg3))
      ∧ m ((c.tc : Thread Cert.GatherIdeal.nD Cert.GatherIdeal.τ).loc Cert.GatherIdeal.main_arg4) = Layout.blockN ⟨3, ![2, 704, 1024]⟩ ⟨3, ![8, 704, 1024]⟩ (Layout.meshBlock [2, 2, 2] ![[0, 1], [], []] c) (m' (((0 : Dev Cert.GatherReferenceIdeal.nD).tc : Thread Cert.GatherReferenceIdeal.nD Cert.GatherReferenceIdeal.τ).loc Cert.GatherReferenceIdeal.main_arg4))
      ∧ m ((c.tc : Thread Cert.GatherIdeal.nD Cert.GatherIdeal.τ).loc Cert.GatherIdeal.main_arg5) = Layout.blockN ⟨3, ![2, 512, 2304]⟩ ⟨3, ![8, 512, 2304]⟩ (Layout.meshBlock [2, 2, 2] ![[0, 1], [], []] c) (m' (((0 : Dev Cert.GatherReferenceIdeal.nD).tc : Thread Cert.GatherReferenceIdeal.nD Cert.GatherReferenceIdeal.τ).loc Cert.GatherReferenceIdeal.main_arg5))
      ∧ m ((c.tc : Thread Cert.GatherIdeal.nD Cert.GatherIdeal.τ).loc Cert.GatherIdeal.main_arg6) = Layout.blockN ⟨3, ![2, 128, 1024]⟩ ⟨3, ![8, 128, 1024]⟩ (Layout.meshBlock [2, 2, 2] ![[0, 1], [], []] c) (m' (((0 : Dev Cert.GatherReferenceIdeal.nD).tc : Thread Cert.GatherReferenceIdeal.nD Cert.GatherReferenceIdeal.τ).loc Cert.GatherReferenceIdeal.main_arg6))) →
    ∃ (v0 : Buf (Elt Ideal) (((0 : Dev Cert.GatherReferenceIdeal.nD).tc : Thread Cert.GatherReferenceIdeal.nD Cert.GatherReferenceIdeal.τ).loc Cert.GatherReferenceIdeal.main_v0)) (v1 : Buf (Elt Ideal) (((0 : Dev Cert.GatherReferenceIdeal.nD).tc : Thread Cert.GatherReferenceIdeal.nD Cert.GatherReferenceIdeal.τ).loc Cert.GatherReferenceIdeal.main_v1)) (v2 : Buf (Elt Ideal) (((0 : Dev Cert.GatherReferenceIdeal.nD).tc : Thread Cert.GatherReferenceIdeal.nD Cert.GatherReferenceIdeal.τ).loc Cert.GatherReferenceIdeal.main_v2)) (v3 : Buf (Elt Ideal) (((0 : Dev Cert.GatherReferenceIdeal.nD).tc : Thread Cert.GatherReferenceIdeal.nD Cert.GatherReferenceIdeal.τ).loc Cert.GatherReferenceIdeal.main_v3)) (v4 : Buf (Elt Ideal) (((0 : Dev Cert.GatherReferenceIdeal.nD).tc : Thread Cert.GatherReferenceIdeal.nD Cert.GatherReferenceIdeal.τ).loc Cert.GatherReferenceIdeal.main_v4)) (v5 : Buf (Elt Ideal) (((0 : Dev Cert.GatherReferenceIdeal.nD).tc : Thread Cert.GatherReferenceIdeal.nD Cert.GatherReferenceIdeal.τ).loc Cert.GatherReferenceIdeal.main_v5)) (v6 : Buf (Elt Ideal) (((0 : Dev Cert.GatherReferenceIdeal.nD).tc : Thread Cert.GatherReferenceIdeal.nD Cert.GatherReferenceIdeal.τ).loc Cert.GatherReferenceIdeal.main_v6)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1_0) = v0
          ∧ r.2.mem ((c.tc : Thread Cert.GatherIdeal.nD Cert.GatherIdeal.τ).loc Cert.GatherIdeal.main_v1_1) = v1
          ∧ r.2.mem ((c.tc : Thread Cert.GatherIdeal.nD Cert.GatherIdeal.τ).loc Cert.GatherIdeal.main_v1_2) = v2
          ∧ r.2.mem ((c.tc : Thread Cert.GatherIdeal.nD Cert.GatherIdeal.τ).loc Cert.GatherIdeal.main_v1_3) = v3
          ∧ r.2.mem ((c.tc : Thread Cert.GatherIdeal.nD Cert.GatherIdeal.τ).loc Cert.GatherIdeal.main_v1_4) = v4
          ∧ r.2.mem ((c.tc : Thread Cert.GatherIdeal.nD Cert.GatherIdeal.τ).loc Cert.GatherIdeal.main_v1_5) = v5
          ∧ r.2.mem ((c.tc : Thread Cert.GatherIdeal.nD Cert.GatherIdeal.τ).loc Cert.GatherIdeal.main_v1_6) = v6
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
          ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
          ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3)
          ∧ r.2.mem ((c.tc : Thread Cert.GatherIdeal.nD Cert.GatherIdeal.τ).loc Cert.GatherIdeal.main_arg4) = m ((c.tc : Thread Cert.GatherIdeal.nD Cert.GatherIdeal.τ).loc Cert.GatherIdeal.main_arg4)
          ∧ r.2.mem ((c.tc : Thread Cert.GatherIdeal.nD Cert.GatherIdeal.τ).loc Cert.GatherIdeal.main_arg5) = m ((c.tc : Thread Cert.GatherIdeal.nD Cert.GatherIdeal.τ).loc Cert.GatherIdeal.main_arg5)
          ∧ r.2.mem ((c.tc : Thread Cert.GatherIdeal.nD Cert.GatherIdeal.τ).loc Cert.GatherIdeal.main_arg6) = m ((c.tc : Thread Cert.GatherIdeal.nD Cert.GatherIdeal.τ).loc Cert.GatherIdeal.main_arg6))
      ∧ θ_run (Cert.GatherReferenceIdeal.defs (F := Ideal)) (onTc (τ := Cert.GatherReferenceIdeal.τ) (Cert.GatherReferenceIdeal.main (F := Ideal))) ⟨m', fun _ => 0, g'⟩ (fun r =>
          r.2.mem (((0 : Dev Cert.GatherReferenceIdeal.nD).tc : Thread Cert.GatherReferenceIdeal.nD Cert.GatherReferenceIdeal.τ).loc Cert.GatherReferenceIdeal.main_v0) = v0
          ∧ r.2.mem (((0 : Dev Cert.GatherReferenceIdeal.nD).tc : Thread Cert.GatherReferenceIdeal.nD Cert.GatherReferenceIdeal.τ).loc Cert.GatherReferenceIdeal.main_v1) = v1
          ∧ r.2.mem (((0 : Dev Cert.GatherReferenceIdeal.nD).tc : Thread Cert.GatherReferenceIdeal.nD Cert.GatherReferenceIdeal.τ).loc Cert.GatherReferenceIdeal.main_v2) = v2
          ∧ r.2.mem (((0 : Dev Cert.GatherReferenceIdeal.nD).tc : Thread Cert.GatherReferenceIdeal.nD Cert.GatherReferenceIdeal.τ).loc Cert.GatherReferenceIdeal.main_v3) = v3
          ∧ r.2.mem (((0 : Dev Cert.GatherReferenceIdeal.nD).tc : Thread Cert.GatherReferenceIdeal.nD Cert.GatherReferenceIdeal.τ).loc Cert.GatherReferenceIdeal.main_v4) = v4
          ∧ r.2.mem (((0 : Dev Cert.GatherReferenceIdeal.nD).tc : Thread Cert.GatherReferenceIdeal.nD Cert.GatherReferenceIdeal.τ).loc Cert.GatherReferenceIdeal.main_v5) = v5
          ∧ r.2.mem (((0 : Dev Cert.GatherReferenceIdeal.nD).tc : Thread Cert.GatherReferenceIdeal.nD Cert.GatherReferenceIdeal.τ).loc Cert.GatherReferenceIdeal.main_v6) = v6
          ∧ r.2.mem (((0 : Dev Cert.GatherReferenceIdeal.nD).tc : Thread Cert.GatherReferenceIdeal.nD Cert.GatherReferenceIdeal.τ).loc Cert.GatherReferenceIdeal.main_arg0) = m' (((0 : Dev Cert.GatherReferenceIdeal.nD).tc : Thread Cert.GatherReferenceIdeal.nD Cert.GatherReferenceIdeal.τ).loc Cert.GatherReferenceIdeal.main_arg0)
          ∧ r.2.mem (((0 : Dev Cert.GatherReferenceIdeal.nD).tc : Thread Cert.GatherReferenceIdeal.nD Cert.GatherReferenceIdeal.τ).loc Cert.GatherReferenceIdeal.main_arg1) = m' (((0 : Dev Cert.GatherReferenceIdeal.nD).tc : Thread Cert.GatherReferenceIdeal.nD Cert.GatherReferenceIdeal.τ).loc Cert.GatherReferenceIdeal.main_arg1)
          ∧ r.2.mem (((0 : Dev Cert.GatherReferenceIdeal.nD).tc : Thread Cert.GatherReferenceIdeal.nD Cert.GatherReferenceIdeal.τ).loc Cert.GatherReferenceIdeal.main_arg2) = m' (((0 : Dev Cert.GatherReferenceIdeal.nD).tc : Thread Cert.GatherReferenceIdeal.nD Cert.GatherReferenceIdeal.τ).loc Cert.GatherReferenceIdeal.main_arg2)
          ∧ r.2.mem (((0 : Dev Cert.GatherReferenceIdeal.nD).tc : Thread Cert.GatherReferenceIdeal.nD Cert.GatherReferenceIdeal.τ).loc Cert.GatherReferenceIdeal.main_arg3) = m' (((0 : Dev Cert.GatherReferenceIdeal.nD).tc : Thread Cert.GatherReferenceIdeal.nD Cert.GatherReferenceIdeal.τ).loc Cert.GatherReferenceIdeal.main_arg3)
          ∧ r.2.mem (((0 : Dev Cert.GatherReferenceIdeal.nD).tc : Thread Cert.GatherReferenceIdeal.nD Cert.GatherReferenceIdeal.τ).loc Cert.GatherReferenceIdeal.main_arg4) = m' (((0 : Dev Cert.GatherReferenceIdeal.nD).tc : Thread Cert.GatherReferenceIdeal.nD Cert.GatherReferenceIdeal.τ).loc Cert.GatherReferenceIdeal.main_arg4)
          ∧ r.2.mem (((0 : Dev Cert.GatherReferenceIdeal.nD).tc : Thread Cert.GatherReferenceIdeal.nD Cert.GatherReferenceIdeal.τ).loc Cert.GatherReferenceIdeal.main_arg5) = m' (((0 : Dev Cert.GatherReferenceIdeal.nD).tc : Thread Cert.GatherReferenceIdeal.nD Cert.GatherReferenceIdeal.τ).loc Cert.GatherReferenceIdeal.main_arg5)
          ∧ r.2.mem (((0 : Dev Cert.GatherReferenceIdeal.nD).tc : Thread Cert.GatherReferenceIdeal.nD Cert.GatherReferenceIdeal.τ).loc Cert.GatherReferenceIdeal.main_arg6) = m' (((0 : Dev Cert.GatherReferenceIdeal.nD).tc : Thread Cert.GatherReferenceIdeal.nD Cert.GatherReferenceIdeal.τ).loc Cert.GatherReferenceIdeal.main_arg6))

def bitexact_Gather_GatherReference [hGather : Cert.Gather.Facts] [hGatherReference : Cert.GatherReference.Facts] : Prop :=
  ∀ (m : (ℓ : Loc Cert.Gather.nD Cert.Gather.τ Cert.Gather.sig) → Buf (Elt Bits) ℓ) (g : Dev Cert.Gather.nD → PrngReg)
    (m' : (ℓ : Loc Cert.GatherReference.nD Cert.GatherReference.τ Cert.GatherReference.sig) → Buf (Elt Bits) ℓ) (g' : Dev Cert.GatherReference.nD → PrngReg), Pre_Gather m →
    (∀ c : Dev Cert.Gather.nD,
      m ((c.tc : Thread Cert.Gather.nD Cert.Gather.τ).loc Cert.Gather.main_arg0) = Layout.blockN ⟨3, ![2, 512, 768]⟩ ⟨3, ![8, 512, 768]⟩ (Layout.meshBlock [2, 2, 2] ![[0, 1], [], []] c) (m' (((0 : Dev Cert.GatherReference.nD).tc : Thread Cert.GatherReference.nD Cert.GatherReference.τ).loc Cert.GatherReference.main_arg0))
      ∧ m ((c.tc : Thread Cert.Gather.nD Cert.Gather.τ).loc Cert.Gather.main_arg1) = Layout.blockN ⟨3, ![2, 128, 1024]⟩ ⟨3, ![8, 128, 1024]⟩ (Layout.meshBlock [2, 2, 2] ![[0, 1], [], []] c) (m' (((0 : Dev Cert.GatherReference.nD).tc : Thread Cert.GatherReference.nD Cert.GatherReference.τ).loc Cert.GatherReference.main_arg1))
      ∧ m ((c.tc : Thread Cert.Gather.nD Cert.Gather.τ).loc Cert.Gather.main_arg2) = Layout.blockN ⟨3, ![2, 1024, 704]⟩ ⟨3, ![8, 1024, 704]⟩ (Layout.meshBlock [2, 2, 2] ![[0, 1], [], []] c) (m' (((0 : Dev Cert.GatherReference.nD).tc : Thread Cert.GatherReference.nD Cert.GatherReference.τ).loc Cert.GatherReference.main_arg2))
      ∧ m ((c.tc : Thread Cert.Gather.nD Cert.Gather.τ).loc Cert.Gather.main_arg3) = Layout.blockN ⟨3, ![2, 1024, 704]⟩ ⟨3, ![8, 1024, 704]⟩ (Layout.meshBlock [2, 2, 2] ![[0, 1], [], []] c) (m' (((0 : Dev Cert.GatherReference.nD).tc : Thread Cert.GatherReference.nD Cert.GatherReference.τ).loc Cert.GatherReference.main_arg3))
      ∧ m ((c.tc : Thread Cert.Gather.nD Cert.Gather.τ).loc Cert.Gather.main_arg4) = Layout.blockN ⟨3, ![2, 704, 1024]⟩ ⟨3, ![8, 704, 1024]⟩ (Layout.meshBlock [2, 2, 2] ![[0, 1], [], []] c) (m' (((0 : Dev Cert.GatherReference.nD).tc : Thread Cert.GatherReference.nD Cert.GatherReference.τ).loc Cert.GatherReference.main_arg4))
      ∧ m ((c.tc : Thread Cert.Gather.nD Cert.Gather.τ).loc Cert.Gather.main_arg5) = Layout.blockN ⟨3, ![2, 512, 2304]⟩ ⟨3, ![8, 512, 2304]⟩ (Layout.meshBlock [2, 2, 2] ![[0, 1], [], []] c) (m' (((0 : Dev Cert.GatherReference.nD).tc : Thread Cert.GatherReference.nD Cert.GatherReference.τ).loc Cert.GatherReference.main_arg5))
      ∧ m ((c.tc : Thread Cert.Gather.nD Cert.Gather.τ).loc Cert.Gather.main_arg6) = Layout.blockN ⟨3, ![2, 128, 1024]⟩ ⟨3, ![8, 128, 1024]⟩ (Layout.meshBlock [2, 2, 2] ![[0, 1], [], []] c) (m' (((0 : Dev Cert.GatherReference.nD).tc : Thread Cert.GatherReference.nD Cert.GatherReference.τ).loc Cert.GatherReference.main_arg6))) →
    ∃ (v0 : Buf (Elt Bits) (((0 : Dev Cert.GatherReference.nD).tc : Thread Cert.GatherReference.nD Cert.GatherReference.τ).loc Cert.GatherReference.main_v0)) (v1 : Buf (Elt Bits) (((0 : Dev Cert.GatherReference.nD).tc : Thread Cert.GatherReference.nD Cert.GatherReference.τ).loc Cert.GatherReference.main_v1)) (v2 : Buf (Elt Bits) (((0 : Dev Cert.GatherReference.nD).tc : Thread Cert.GatherReference.nD Cert.GatherReference.τ).loc Cert.GatherReference.main_v2)) (v3 : Buf (Elt Bits) (((0 : Dev Cert.GatherReference.nD).tc : Thread Cert.GatherReference.nD Cert.GatherReference.τ).loc Cert.GatherReference.main_v3)) (v4 : Buf (Elt Bits) (((0 : Dev Cert.GatherReference.nD).tc : Thread Cert.GatherReference.nD Cert.GatherReference.τ).loc Cert.GatherReference.main_v4)) (v5 : Buf (Elt Bits) (((0 : Dev Cert.GatherReference.nD).tc : Thread Cert.GatherReference.nD Cert.GatherReference.τ).loc Cert.GatherReference.main_v5)) (v6 : Buf (Elt Bits) (((0 : Dev Cert.GatherReference.nD).tc : Thread Cert.GatherReference.nD Cert.GatherReference.τ).loc Cert.GatherReference.main_v6)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v1_0) = v0
          ∧ r.2.mem ((c.tc : Thread Cert.Gather.nD Cert.Gather.τ).loc Cert.Gather.main_v1_1) = v1
          ∧ r.2.mem ((c.tc : Thread Cert.Gather.nD Cert.Gather.τ).loc Cert.Gather.main_v1_2) = v2
          ∧ r.2.mem ((c.tc : Thread Cert.Gather.nD Cert.Gather.τ).loc Cert.Gather.main_v1_3) = v3
          ∧ r.2.mem ((c.tc : Thread Cert.Gather.nD Cert.Gather.τ).loc Cert.Gather.main_v1_4) = v4
          ∧ r.2.mem ((c.tc : Thread Cert.Gather.nD Cert.Gather.τ).loc Cert.Gather.main_v1_5) = v5
          ∧ r.2.mem ((c.tc : Thread Cert.Gather.nD Cert.Gather.τ).loc Cert.Gather.main_v1_6) = v6
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1)
          ∧ r.2.mem ((c.tc : Thread Cert.Gather.nD Cert.Gather.τ).loc Cert.Gather.main_arg2) = m ((c.tc : Thread Cert.Gather.nD Cert.Gather.τ).loc Cert.Gather.main_arg2)
          ∧ r.2.mem ((c.tc : Thread Cert.Gather.nD Cert.Gather.τ).loc Cert.Gather.main_arg3) = m ((c.tc : Thread Cert.Gather.nD Cert.Gather.τ).loc Cert.Gather.main_arg3)
          ∧ r.2.mem ((c.tc : Thread Cert.Gather.nD Cert.Gather.τ).loc Cert.Gather.main_arg4) = m ((c.tc : Thread Cert.Gather.nD Cert.Gather.τ).loc Cert.Gather.main_arg4)
          ∧ r.2.mem ((c.tc : Thread Cert.Gather.nD Cert.Gather.τ).loc Cert.Gather.main_arg5) = m ((c.tc : Thread Cert.Gather.nD Cert.Gather.τ).loc Cert.Gather.main_arg5)
          ∧ r.2.mem ((c.tc : Thread Cert.Gather.nD Cert.Gather.τ).loc Cert.Gather.main_arg6) = m ((c.tc : Thread Cert.Gather.nD Cert.Gather.τ).loc Cert.Gather.main_arg6))
      ∧ θ_run (Cert.GatherReference.defs (F := Bits)) (onTc (τ := Cert.GatherReference.τ) (Cert.GatherReference.main (F := Bits))) ⟨m', fun _ => 0, g'⟩ (fun r =>
          r.2.mem (((0 : Dev Cert.GatherReference.nD).tc : Thread Cert.GatherReference.nD Cert.GatherReference.τ).loc Cert.GatherReference.main_v0) = v0
          ∧ r.2.mem (((0 : Dev Cert.GatherReference.nD).tc : Thread Cert.GatherReference.nD Cert.GatherReference.τ).loc Cert.GatherReference.main_v1) = v1
          ∧ r.2.mem (((0 : Dev Cert.GatherReference.nD).tc : Thread Cert.GatherReference.nD Cert.GatherReference.τ).loc Cert.GatherReference.main_v2) = v2
          ∧ r.2.mem (((0 : Dev Cert.GatherReference.nD).tc : Thread Cert.GatherReference.nD Cert.GatherReference.τ).loc Cert.GatherReference.main_v3) = v3
          ∧ r.2.mem (((0 : Dev Cert.GatherReference.nD).tc : Thread Cert.GatherReference.nD Cert.GatherReference.τ).loc Cert.GatherReference.main_v4) = v4
          ∧ r.2.mem (((0 : Dev Cert.GatherReference.nD).tc : Thread Cert.GatherReference.nD Cert.GatherReference.τ).loc Cert.GatherReference.main_v5) = v5
          ∧ r.2.mem (((0 : Dev Cert.GatherReference.nD).tc : Thread Cert.GatherReference.nD Cert.GatherReference.τ).loc Cert.GatherReference.main_v6) = v6
          ∧ r.2.mem (((0 : Dev Cert.GatherReference.nD).tc : Thread Cert.GatherReference.nD Cert.GatherReference.τ).loc Cert.GatherReference.main_arg0) = m' (((0 : Dev Cert.GatherReference.nD).tc : Thread Cert.GatherReference.nD Cert.GatherReference.τ).loc Cert.GatherReference.main_arg0)
          ∧ r.2.mem (((0 : Dev Cert.GatherReference.nD).tc : Thread Cert.GatherReference.nD Cert.GatherReference.τ).loc Cert.GatherReference.main_arg1) = m' (((0 : Dev Cert.GatherReference.nD).tc : Thread Cert.GatherReference.nD Cert.GatherReference.τ).loc Cert.GatherReference.main_arg1)
          ∧ r.2.mem (((0 : Dev Cert.GatherReference.nD).tc : Thread Cert.GatherReference.nD Cert.GatherReference.τ).loc Cert.GatherReference.main_arg2) = m' (((0 : Dev Cert.GatherReference.nD).tc : Thread Cert.GatherReference.nD Cert.GatherReference.τ).loc Cert.GatherReference.main_arg2)
          ∧ r.2.mem (((0 : Dev Cert.GatherReference.nD).tc : Thread Cert.GatherReference.nD Cert.GatherReference.τ).loc Cert.GatherReference.main_arg3) = m' (((0 : Dev Cert.GatherReference.nD).tc : Thread Cert.GatherReference.nD Cert.GatherReference.τ).loc Cert.GatherReference.main_arg3)
          ∧ r.2.mem (((0 : Dev Cert.GatherReference.nD).tc : Thread Cert.GatherReference.nD Cert.GatherReference.τ).loc Cert.GatherReference.main_arg4) = m' (((0 : Dev Cert.GatherReference.nD).tc : Thread Cert.GatherReference.nD Cert.GatherReference.τ).loc Cert.GatherReference.main_arg4)
          ∧ r.2.mem (((0 : Dev Cert.GatherReference.nD).tc : Thread Cert.GatherReference.nD Cert.GatherReference.τ).loc Cert.GatherReference.main_arg5) = m' (((0 : Dev Cert.GatherReference.nD).tc : Thread Cert.GatherReference.nD Cert.GatherReference.τ).loc Cert.GatherReference.main_arg5)
          ∧ r.2.mem (((0 : Dev Cert.GatherReference.nD).tc : Thread Cert.GatherReference.nD Cert.GatherReference.τ).loc Cert.GatherReference.main_arg6) = m' (((0 : Dev Cert.GatherReference.nD).tc : Thread Cert.GatherReference.nD Cert.GatherReference.τ).loc Cert.GatherReference.main_arg6))

def preserves_PairExchange_PairExchangeIdeal : Prop :=
  True

def algebraic_PairExchangeIdeal_PairExchangeReferenceIdeal [hPairExchangeIdeal : Cert.PairExchangeIdeal.Facts] [hPairExchangeReferenceIdeal : Cert.PairExchangeReferenceIdeal.Facts] : Prop :=
  ∀ (m : (ℓ : Loc Cert.PairExchangeIdeal.nD Cert.PairExchangeIdeal.τ Cert.PairExchangeIdeal.sig) → Buf (Elt Ideal) ℓ) (g : Dev Cert.PairExchangeIdeal.nD → PrngReg)
    (m' : (ℓ : Loc Cert.PairExchangeReferenceIdeal.nD Cert.PairExchangeReferenceIdeal.τ Cert.PairExchangeReferenceIdeal.sig) → Buf (Elt Ideal) ℓ) (g' : Dev Cert.PairExchangeReferenceIdeal.nD → PrngReg), Pre_PairExchangeIdeal m →
    (∀ c : Dev Cert.PairExchangeIdeal.nD,
      m ((c.tc : Thread Cert.PairExchangeIdeal.nD Cert.PairExchangeIdeal.τ).loc Cert.PairExchangeIdeal.main_arg0) = Layout.block ⟨4, ![4, 2, 512, 768]⟩ ⟨4, ![32, 2, 512, 768]⟩ 0 8 c (m' (((0 : Dev Cert.PairExchangeReferenceIdeal.nD).tc : Thread Cert.PairExchangeReferenceIdeal.nD Cert.PairExchangeReferenceIdeal.τ).loc Cert.PairExchangeReferenceIdeal.main_arg0))
      ∧ m ((c.tc : Thread Cert.PairExchangeIdeal.nD Cert.PairExchangeIdeal.τ).loc Cert.PairExchangeIdeal.main_arg1) = Layout.block ⟨4, ![4, 2, 128, 1024]⟩ ⟨4, ![32, 2, 128, 1024]⟩ 0 8 c (m' (((0 : Dev Cert.PairExchangeReferenceIdeal.nD).tc : Thread Cert.PairExchangeReferenceIdeal.nD Cert.PairExchangeReferenceIdeal.τ).loc Cert.PairExchangeReferenceIdeal.main_arg1))
      ∧ m ((c.tc : Thread Cert.PairExchangeIdeal.nD Cert.PairExchangeIdeal.τ).loc Cert.PairExchangeIdeal.main_arg2) = Layout.block ⟨4, ![4, 2, 1024, 704]⟩ ⟨4, ![32, 2, 1024, 704]⟩ 0 8 c (m' (((0 : Dev Cert.PairExchangeReferenceIdeal.nD).tc : Thread Cert.PairExchangeReferenceIdeal.nD Cert.PairExchangeReferenceIdeal.τ).loc Cert.PairExchangeReferenceIdeal.main_arg2))
      ∧ m ((c.tc : Thread Cert.PairExchangeIdeal.nD Cert.PairExchangeIdeal.τ).loc Cert.PairExchangeIdeal.main_arg3) = Layout.block ⟨4, ![4, 2, 1024, 704]⟩ ⟨4, ![32, 2, 1024, 704]⟩ 0 8 c (m' (((0 : Dev Cert.PairExchangeReferenceIdeal.nD).tc : Thread Cert.PairExchangeReferenceIdeal.nD Cert.PairExchangeReferenceIdeal.τ).loc Cert.PairExchangeReferenceIdeal.main_arg3))
      ∧ m ((c.tc : Thread Cert.PairExchangeIdeal.nD Cert.PairExchangeIdeal.τ).loc Cert.PairExchangeIdeal.main_arg4) = Layout.block ⟨4, ![4, 2, 704, 1024]⟩ ⟨4, ![32, 2, 704, 1024]⟩ 0 8 c (m' (((0 : Dev Cert.PairExchangeReferenceIdeal.nD).tc : Thread Cert.PairExchangeReferenceIdeal.nD Cert.PairExchangeReferenceIdeal.τ).loc Cert.PairExchangeReferenceIdeal.main_arg4))
      ∧ m ((c.tc : Thread Cert.PairExchangeIdeal.nD Cert.PairExchangeIdeal.τ).loc Cert.PairExchangeIdeal.main_arg5) = Layout.block ⟨4, ![4, 2, 512, 2304]⟩ ⟨4, ![32, 2, 512, 2304]⟩ 0 8 c (m' (((0 : Dev Cert.PairExchangeReferenceIdeal.nD).tc : Thread Cert.PairExchangeReferenceIdeal.nD Cert.PairExchangeReferenceIdeal.τ).loc Cert.PairExchangeReferenceIdeal.main_arg5))
      ∧ m ((c.tc : Thread Cert.PairExchangeIdeal.nD Cert.PairExchangeIdeal.τ).loc Cert.PairExchangeIdeal.main_arg6) = Layout.block ⟨4, ![4, 2, 128, 1024]⟩ ⟨4, ![32, 2, 128, 1024]⟩ 0 8 c (m' (((0 : Dev Cert.PairExchangeReferenceIdeal.nD).tc : Thread Cert.PairExchangeReferenceIdeal.nD Cert.PairExchangeReferenceIdeal.τ).loc Cert.PairExchangeReferenceIdeal.main_arg6))) →
    ∃ (v0 : Buf (Elt Ideal) (((0 : Dev Cert.PairExchangeReferenceIdeal.nD).tc : Thread Cert.PairExchangeReferenceIdeal.nD Cert.PairExchangeReferenceIdeal.τ).loc Cert.PairExchangeReferenceIdeal.main_v8)) (v1 : Buf (Elt Ideal) (((0 : Dev Cert.PairExchangeReferenceIdeal.nD).tc : Thread Cert.PairExchangeReferenceIdeal.nD Cert.PairExchangeReferenceIdeal.τ).loc Cert.PairExchangeReferenceIdeal.main_v17)) (v2 : Buf (Elt Ideal) (((0 : Dev Cert.PairExchangeReferenceIdeal.nD).tc : Thread Cert.PairExchangeReferenceIdeal.nD Cert.PairExchangeReferenceIdeal.τ).loc Cert.PairExchangeReferenceIdeal.main_v26)) (v3 : Buf (Elt Ideal) (((0 : Dev Cert.PairExchangeReferenceIdeal.nD).tc : Thread Cert.PairExchangeReferenceIdeal.nD Cert.PairExchangeReferenceIdeal.τ).loc Cert.PairExchangeReferenceIdeal.main_v35)) (v4 : Buf (Elt Ideal) (((0 : Dev Cert.PairExchangeReferenceIdeal.nD).tc : Thread Cert.PairExchangeReferenceIdeal.nD Cert.PairExchangeReferenceIdeal.τ).loc Cert.PairExchangeReferenceIdeal.main_v44)) (v5 : Buf (Elt Ideal) (((0 : Dev Cert.PairExchangeReferenceIdeal.nD).tc : Thread Cert.PairExchangeReferenceIdeal.nD Cert.PairExchangeReferenceIdeal.τ).loc Cert.PairExchangeReferenceIdeal.main_v53)) (v6 : Buf (Elt Ideal) (((0 : Dev Cert.PairExchangeReferenceIdeal.nD).tc : Thread Cert.PairExchangeReferenceIdeal.nD Cert.PairExchangeReferenceIdeal.τ).loc Cert.PairExchangeReferenceIdeal.main_v62)) (v7 : Buf (Elt Ideal) (((0 : Dev Cert.PairExchangeReferenceIdeal.nD).tc : Thread Cert.PairExchangeReferenceIdeal.nD Cert.PairExchangeReferenceIdeal.τ).loc Cert.PairExchangeReferenceIdeal.main_v71)) (v8 : Buf (Elt Ideal) (((0 : Dev Cert.PairExchangeReferenceIdeal.nD).tc : Thread Cert.PairExchangeReferenceIdeal.nD Cert.PairExchangeReferenceIdeal.τ).loc Cert.PairExchangeReferenceIdeal.main_v80)) (v9 : Buf (Elt Ideal) (((0 : Dev Cert.PairExchangeReferenceIdeal.nD).tc : Thread Cert.PairExchangeReferenceIdeal.nD Cert.PairExchangeReferenceIdeal.τ).loc Cert.PairExchangeReferenceIdeal.main_v89)) (v10 : Buf (Elt Ideal) (((0 : Dev Cert.PairExchangeReferenceIdeal.nD).tc : Thread Cert.PairExchangeReferenceIdeal.nD Cert.PairExchangeReferenceIdeal.τ).loc Cert.PairExchangeReferenceIdeal.main_v98)) (v11 : Buf (Elt Ideal) (((0 : Dev Cert.PairExchangeReferenceIdeal.nD).tc : Thread Cert.PairExchangeReferenceIdeal.nD Cert.PairExchangeReferenceIdeal.τ).loc Cert.PairExchangeReferenceIdeal.main_v107)) (v12 : Buf (Elt Ideal) (((0 : Dev Cert.PairExchangeReferenceIdeal.nD).tc : Thread Cert.PairExchangeReferenceIdeal.nD Cert.PairExchangeReferenceIdeal.τ).loc Cert.PairExchangeReferenceIdeal.main_v116)) (v13 : Buf (Elt Ideal) (((0 : Dev Cert.PairExchangeReferenceIdeal.nD).tc : Thread Cert.PairExchangeReferenceIdeal.nD Cert.PairExchangeReferenceIdeal.τ).loc Cert.PairExchangeReferenceIdeal.main_v125)),
      θ_run (Cert.PairExchangeIdeal.defs (F := Ideal)) (onTc (τ := Cert.PairExchangeIdeal.τ) (Cert.PairExchangeIdeal.main (F := Ideal))) ⟨m, fun _ => 0, g⟩ (fun r => ∀ c : Dev Cert.PairExchangeIdeal.nD,
          r.2.mem ((c.tc : Thread Cert.PairExchangeIdeal.nD Cert.PairExchangeIdeal.τ).loc Cert.PairExchangeIdeal.main_v1_0) = Layout.block ⟨3, ![4, 512, 768]⟩ ⟨3, ![32, 512, 768]⟩ 0 8 c v0
          ∧ r.2.mem ((c.tc : Thread Cert.PairExchangeIdeal.nD Cert.PairExchangeIdeal.τ).loc Cert.PairExchangeIdeal.main_v1_1) = Layout.block ⟨3, ![4, 128, 1024]⟩ ⟨3, ![32, 128, 1024]⟩ 0 8 c v1
          ∧ r.2.mem ((c.tc : Thread Cert.PairExchangeIdeal.nD Cert.PairExchangeIdeal.τ).loc Cert.PairExchangeIdeal.main_v1_2) = Layout.block ⟨3, ![4, 1024, 704]⟩ ⟨3, ![32, 1024, 704]⟩ 0 8 c v2
          ∧ r.2.mem ((c.tc : Thread Cert.PairExchangeIdeal.nD Cert.PairExchangeIdeal.τ).loc Cert.PairExchangeIdeal.main_v1_3) = Layout.block ⟨3, ![4, 1024, 704]⟩ ⟨3, ![32, 1024, 704]⟩ 0 8 c v3
          ∧ r.2.mem ((c.tc : Thread Cert.PairExchangeIdeal.nD Cert.PairExchangeIdeal.τ).loc Cert.PairExchangeIdeal.main_v1_4) = Layout.block ⟨3, ![4, 704, 1024]⟩ ⟨3, ![32, 704, 1024]⟩ 0 8 c v4
          ∧ r.2.mem ((c.tc : Thread Cert.PairExchangeIdeal.nD Cert.PairExchangeIdeal.τ).loc Cert.PairExchangeIdeal.main_v1_5) = Layout.block ⟨3, ![4, 512, 2304]⟩ ⟨3, ![32, 512, 2304]⟩ 0 8 c v5
          ∧ r.2.mem ((c.tc : Thread Cert.PairExchangeIdeal.nD Cert.PairExchangeIdeal.τ).loc Cert.PairExchangeIdeal.main_v1_6) = Layout.block ⟨3, ![4, 128, 1024]⟩ ⟨3, ![32, 128, 1024]⟩ 0 8 c v6
          ∧ r.2.mem ((c.tc : Thread Cert.PairExchangeIdeal.nD Cert.PairExchangeIdeal.τ).loc Cert.PairExchangeIdeal.main_v1_7) = Layout.block ⟨3, ![4, 512, 768]⟩ ⟨3, ![32, 512, 768]⟩ 0 8 c v7
          ∧ r.2.mem ((c.tc : Thread Cert.PairExchangeIdeal.nD Cert.PairExchangeIdeal.τ).loc Cert.PairExchangeIdeal.main_v1_8) = Layout.block ⟨3, ![4, 128, 1024]⟩ ⟨3, ![32, 128, 1024]⟩ 0 8 c v8
          ∧ r.2.mem ((c.tc : Thread Cert.PairExchangeIdeal.nD Cert.PairExchangeIdeal.τ).loc Cert.PairExchangeIdeal.main_v1_9) = Layout.block ⟨3, ![4, 1024, 704]⟩ ⟨3, ![32, 1024, 704]⟩ 0 8 c v9
          ∧ r.2.mem ((c.tc : Thread Cert.PairExchangeIdeal.nD Cert.PairExchangeIdeal.τ).loc Cert.PairExchangeIdeal.main_v1_10) = Layout.block ⟨3, ![4, 1024, 704]⟩ ⟨3, ![32, 1024, 704]⟩ 0 8 c v10
          ∧ r.2.mem ((c.tc : Thread Cert.PairExchangeIdeal.nD Cert.PairExchangeIdeal.τ).loc Cert.PairExchangeIdeal.main_v1_11) = Layout.block ⟨3, ![4, 704, 1024]⟩ ⟨3, ![32, 704, 1024]⟩ 0 8 c v11
          ∧ r.2.mem ((c.tc : Thread Cert.PairExchangeIdeal.nD Cert.PairExchangeIdeal.τ).loc Cert.PairExchangeIdeal.main_v1_12) = Layout.block ⟨3, ![4, 512, 2304]⟩ ⟨3, ![32, 512, 2304]⟩ 0 8 c v12
          ∧ r.2.mem ((c.tc : Thread Cert.PairExchangeIdeal.nD Cert.PairExchangeIdeal.τ).loc Cert.PairExchangeIdeal.main_v1_13) = Layout.block ⟨3, ![4, 128, 1024]⟩ ⟨3, ![32, 128, 1024]⟩ 0 8 c v13
          ∧ r.2.mem ((c.tc : Thread Cert.PairExchangeIdeal.nD Cert.PairExchangeIdeal.τ).loc Cert.PairExchangeIdeal.main_arg0) = m ((c.tc : Thread Cert.PairExchangeIdeal.nD Cert.PairExchangeIdeal.τ).loc Cert.PairExchangeIdeal.main_arg0)
          ∧ r.2.mem ((c.tc : Thread Cert.PairExchangeIdeal.nD Cert.PairExchangeIdeal.τ).loc Cert.PairExchangeIdeal.main_arg1) = m ((c.tc : Thread Cert.PairExchangeIdeal.nD Cert.PairExchangeIdeal.τ).loc Cert.PairExchangeIdeal.main_arg1)
          ∧ r.2.mem ((c.tc : Thread Cert.PairExchangeIdeal.nD Cert.PairExchangeIdeal.τ).loc Cert.PairExchangeIdeal.main_arg2) = m ((c.tc : Thread Cert.PairExchangeIdeal.nD Cert.PairExchangeIdeal.τ).loc Cert.PairExchangeIdeal.main_arg2)
          ∧ r.2.mem ((c.tc : Thread Cert.PairExchangeIdeal.nD Cert.PairExchangeIdeal.τ).loc Cert.PairExchangeIdeal.main_arg3) = m ((c.tc : Thread Cert.PairExchangeIdeal.nD Cert.PairExchangeIdeal.τ).loc Cert.PairExchangeIdeal.main_arg3)
          ∧ r.2.mem ((c.tc : Thread Cert.PairExchangeIdeal.nD Cert.PairExchangeIdeal.τ).loc Cert.PairExchangeIdeal.main_arg4) = m ((c.tc : Thread Cert.PairExchangeIdeal.nD Cert.PairExchangeIdeal.τ).loc Cert.PairExchangeIdeal.main_arg4)
          ∧ r.2.mem ((c.tc : Thread Cert.PairExchangeIdeal.nD Cert.PairExchangeIdeal.τ).loc Cert.PairExchangeIdeal.main_arg5) = m ((c.tc : Thread Cert.PairExchangeIdeal.nD Cert.PairExchangeIdeal.τ).loc Cert.PairExchangeIdeal.main_arg5)
          ∧ r.2.mem ((c.tc : Thread Cert.PairExchangeIdeal.nD Cert.PairExchangeIdeal.τ).loc Cert.PairExchangeIdeal.main_arg6) = m ((c.tc : Thread Cert.PairExchangeIdeal.nD Cert.PairExchangeIdeal.τ).loc Cert.PairExchangeIdeal.main_arg6))
      ∧ θ_run (Cert.PairExchangeReferenceIdeal.defs (F := Ideal)) (onTc (τ := Cert.PairExchangeReferenceIdeal.τ) (Cert.PairExchangeReferenceIdeal.main (F := Ideal))) ⟨m', fun _ => 0, g'⟩ (fun r =>
          r.2.mem (((0 : Dev Cert.PairExchangeReferenceIdeal.nD).tc : Thread Cert.PairExchangeReferenceIdeal.nD Cert.PairExchangeReferenceIdeal.τ).loc Cert.PairExchangeReferenceIdeal.main_v8) = v0
          ∧ r.2.mem (((0 : Dev Cert.PairExchangeReferenceIdeal.nD).tc : Thread Cert.PairExchangeReferenceIdeal.nD Cert.PairExchangeReferenceIdeal.τ).loc Cert.PairExchangeReferenceIdeal.main_v17) = v1
          ∧ r.2.mem (((0 : Dev Cert.PairExchangeReferenceIdeal.nD).tc : Thread Cert.PairExchangeReferenceIdeal.nD Cert.PairExchangeReferenceIdeal.τ).loc Cert.PairExchangeReferenceIdeal.main_v26) = v2
          ∧ r.2.mem (((0 : Dev Cert.PairExchangeReferenceIdeal.nD).tc : Thread Cert.PairExchangeReferenceIdeal.nD Cert.PairExchangeReferenceIdeal.τ).loc Cert.PairExchangeReferenceIdeal.main_v35) = v3
          ∧ r.2.mem (((0 : Dev Cert.PairExchangeReferenceIdeal.nD).tc : Thread Cert.PairExchangeReferenceIdeal.nD Cert.PairExchangeReferenceIdeal.τ).loc Cert.PairExchangeReferenceIdeal.main_v44) = v4
          ∧ r.2.mem (((0 : Dev Cert.PairExchangeReferenceIdeal.nD).tc : Thread Cert.PairExchangeReferenceIdeal.nD Cert.PairExchangeReferenceIdeal.τ).loc Cert.PairExchangeReferenceIdeal.main_v53) = v5
          ∧ r.2.mem (((0 : Dev Cert.PairExchangeReferenceIdeal.nD).tc : Thread Cert.PairExchangeReferenceIdeal.nD Cert.PairExchangeReferenceIdeal.τ).loc Cert.PairExchangeReferenceIdeal.main_v62) = v6
          ∧ r.2.mem (((0 : Dev Cert.PairExchangeReferenceIdeal.nD).tc : Thread Cert.PairExchangeReferenceIdeal.nD Cert.PairExchangeReferenceIdeal.τ).loc Cert.PairExchangeReferenceIdeal.main_v71) = v7
          ∧ r.2.mem (((0 : Dev Cert.PairExchangeReferenceIdeal.nD).tc : Thread Cert.PairExchangeReferenceIdeal.nD Cert.PairExchangeReferenceIdeal.τ).loc Cert.PairExchangeReferenceIdeal.main_v80) = v8
          ∧ r.2.mem (((0 : Dev Cert.PairExchangeReferenceIdeal.nD).tc : Thread Cert.PairExchangeReferenceIdeal.nD Cert.PairExchangeReferenceIdeal.τ).loc Cert.PairExchangeReferenceIdeal.main_v89) = v9
          ∧ r.2.mem (((0 : Dev Cert.PairExchangeReferenceIdeal.nD).tc : Thread Cert.PairExchangeReferenceIdeal.nD Cert.PairExchangeReferenceIdeal.τ).loc Cert.PairExchangeReferenceIdeal.main_v98) = v10
          ∧ r.2.mem (((0 : Dev Cert.PairExchangeReferenceIdeal.nD).tc : Thread Cert.PairExchangeReferenceIdeal.nD Cert.PairExchangeReferenceIdeal.τ).loc Cert.PairExchangeReferenceIdeal.main_v107) = v11
          ∧ r.2.mem (((0 : Dev Cert.PairExchangeReferenceIdeal.nD).tc : Thread Cert.PairExchangeReferenceIdeal.nD Cert.PairExchangeReferenceIdeal.τ).loc Cert.PairExchangeReferenceIdeal.main_v116) = v12
          ∧ r.2.mem (((0 : Dev Cert.PairExchangeReferenceIdeal.nD).tc : Thread Cert.PairExchangeReferenceIdeal.nD Cert.PairExchangeReferenceIdeal.τ).loc Cert.PairExchangeReferenceIdeal.main_v125) = v13
          ∧ r.2.mem (((0 : Dev Cert.PairExchangeReferenceIdeal.nD).tc : Thread Cert.PairExchangeReferenceIdeal.nD Cert.PairExchangeReferenceIdeal.τ).loc Cert.PairExchangeReferenceIdeal.main_arg0) = m' (((0 : Dev Cert.PairExchangeReferenceIdeal.nD).tc : Thread Cert.PairExchangeReferenceIdeal.nD Cert.PairExchangeReferenceIdeal.τ).loc Cert.PairExchangeReferenceIdeal.main_arg0)
          ∧ r.2.mem (((0 : Dev Cert.PairExchangeReferenceIdeal.nD).tc : Thread Cert.PairExchangeReferenceIdeal.nD Cert.PairExchangeReferenceIdeal.τ).loc Cert.PairExchangeReferenceIdeal.main_arg1) = m' (((0 : Dev Cert.PairExchangeReferenceIdeal.nD).tc : Thread Cert.PairExchangeReferenceIdeal.nD Cert.PairExchangeReferenceIdeal.τ).loc Cert.PairExchangeReferenceIdeal.main_arg1)
          ∧ r.2.mem (((0 : Dev Cert.PairExchangeReferenceIdeal.nD).tc : Thread Cert.PairExchangeReferenceIdeal.nD Cert.PairExchangeReferenceIdeal.τ).loc Cert.PairExchangeReferenceIdeal.main_arg2) = m' (((0 : Dev Cert.PairExchangeReferenceIdeal.nD).tc : Thread Cert.PairExchangeReferenceIdeal.nD Cert.PairExchangeReferenceIdeal.τ).loc Cert.PairExchangeReferenceIdeal.main_arg2)
          ∧ r.2.mem (((0 : Dev Cert.PairExchangeReferenceIdeal.nD).tc : Thread Cert.PairExchangeReferenceIdeal.nD Cert.PairExchangeReferenceIdeal.τ).loc Cert.PairExchangeReferenceIdeal.main_arg3) = m' (((0 : Dev Cert.PairExchangeReferenceIdeal.nD).tc : Thread Cert.PairExchangeReferenceIdeal.nD Cert.PairExchangeReferenceIdeal.τ).loc Cert.PairExchangeReferenceIdeal.main_arg3)
          ∧ r.2.mem (((0 : Dev Cert.PairExchangeReferenceIdeal.nD).tc : Thread Cert.PairExchangeReferenceIdeal.nD Cert.PairExchangeReferenceIdeal.τ).loc Cert.PairExchangeReferenceIdeal.main_arg4) = m' (((0 : Dev Cert.PairExchangeReferenceIdeal.nD).tc : Thread Cert.PairExchangeReferenceIdeal.nD Cert.PairExchangeReferenceIdeal.τ).loc Cert.PairExchangeReferenceIdeal.main_arg4)
          ∧ r.2.mem (((0 : Dev Cert.PairExchangeReferenceIdeal.nD).tc : Thread Cert.PairExchangeReferenceIdeal.nD Cert.PairExchangeReferenceIdeal.τ).loc Cert.PairExchangeReferenceIdeal.main_arg5) = m' (((0 : Dev Cert.PairExchangeReferenceIdeal.nD).tc : Thread Cert.PairExchangeReferenceIdeal.nD Cert.PairExchangeReferenceIdeal.τ).loc Cert.PairExchangeReferenceIdeal.main_arg5)
          ∧ r.2.mem (((0 : Dev Cert.PairExchangeReferenceIdeal.nD).tc : Thread Cert.PairExchangeReferenceIdeal.nD Cert.PairExchangeReferenceIdeal.τ).loc Cert.PairExchangeReferenceIdeal.main_arg6) = m' (((0 : Dev Cert.PairExchangeReferenceIdeal.nD).tc : Thread Cert.PairExchangeReferenceIdeal.nD Cert.PairExchangeReferenceIdeal.τ).loc Cert.PairExchangeReferenceIdeal.main_arg6))

def bitexact_PairExchange_PairExchangeReference [hPairExchange : Cert.PairExchange.Facts] [hPairExchangeReference : Cert.PairExchangeReference.Facts] : Prop :=
  ∀ (m : (ℓ : Loc Cert.PairExchange.nD Cert.PairExchange.τ Cert.PairExchange.sig) → Buf (Elt Bits) ℓ) (g : Dev Cert.PairExchange.nD → PrngReg)
    (m' : (ℓ : Loc Cert.PairExchangeReference.nD Cert.PairExchangeReference.τ Cert.PairExchangeReference.sig) → Buf (Elt Bits) ℓ) (g' : Dev Cert.PairExchangeReference.nD → PrngReg), Pre_PairExchange m →
    (∀ c : Dev Cert.PairExchange.nD,
      m ((c.tc : Thread Cert.PairExchange.nD Cert.PairExchange.τ).loc Cert.PairExchange.main_arg0) = Layout.block ⟨4, ![4, 2, 512, 768]⟩ ⟨4, ![32, 2, 512, 768]⟩ 0 8 c (m' (((0 : Dev Cert.PairExchangeReference.nD).tc : Thread Cert.PairExchangeReference.nD Cert.PairExchangeReference.τ).loc Cert.PairExchangeReference.main_arg0))
      ∧ m ((c.tc : Thread Cert.PairExchange.nD Cert.PairExchange.τ).loc Cert.PairExchange.main_arg1) = Layout.block ⟨4, ![4, 2, 128, 1024]⟩ ⟨4, ![32, 2, 128, 1024]⟩ 0 8 c (m' (((0 : Dev Cert.PairExchangeReference.nD).tc : Thread Cert.PairExchangeReference.nD Cert.PairExchangeReference.τ).loc Cert.PairExchangeReference.main_arg1))
      ∧ m ((c.tc : Thread Cert.PairExchange.nD Cert.PairExchange.τ).loc Cert.PairExchange.main_arg2) = Layout.block ⟨4, ![4, 2, 1024, 704]⟩ ⟨4, ![32, 2, 1024, 704]⟩ 0 8 c (m' (((0 : Dev Cert.PairExchangeReference.nD).tc : Thread Cert.PairExchangeReference.nD Cert.PairExchangeReference.τ).loc Cert.PairExchangeReference.main_arg2))
      ∧ m ((c.tc : Thread Cert.PairExchange.nD Cert.PairExchange.τ).loc Cert.PairExchange.main_arg3) = Layout.block ⟨4, ![4, 2, 1024, 704]⟩ ⟨4, ![32, 2, 1024, 704]⟩ 0 8 c (m' (((0 : Dev Cert.PairExchangeReference.nD).tc : Thread Cert.PairExchangeReference.nD Cert.PairExchangeReference.τ).loc Cert.PairExchangeReference.main_arg3))
      ∧ m ((c.tc : Thread Cert.PairExchange.nD Cert.PairExchange.τ).loc Cert.PairExchange.main_arg4) = Layout.block ⟨4, ![4, 2, 704, 1024]⟩ ⟨4, ![32, 2, 704, 1024]⟩ 0 8 c (m' (((0 : Dev Cert.PairExchangeReference.nD).tc : Thread Cert.PairExchangeReference.nD Cert.PairExchangeReference.τ).loc Cert.PairExchangeReference.main_arg4))
      ∧ m ((c.tc : Thread Cert.PairExchange.nD Cert.PairExchange.τ).loc Cert.PairExchange.main_arg5) = Layout.block ⟨4, ![4, 2, 512, 2304]⟩ ⟨4, ![32, 2, 512, 2304]⟩ 0 8 c (m' (((0 : Dev Cert.PairExchangeReference.nD).tc : Thread Cert.PairExchangeReference.nD Cert.PairExchangeReference.τ).loc Cert.PairExchangeReference.main_arg5))
      ∧ m ((c.tc : Thread Cert.PairExchange.nD Cert.PairExchange.τ).loc Cert.PairExchange.main_arg6) = Layout.block ⟨4, ![4, 2, 128, 1024]⟩ ⟨4, ![32, 2, 128, 1024]⟩ 0 8 c (m' (((0 : Dev Cert.PairExchangeReference.nD).tc : Thread Cert.PairExchangeReference.nD Cert.PairExchangeReference.τ).loc Cert.PairExchangeReference.main_arg6))) →
    ∃ (v0 : Buf (Elt Bits) (((0 : Dev Cert.PairExchangeReference.nD).tc : Thread Cert.PairExchangeReference.nD Cert.PairExchangeReference.τ).loc Cert.PairExchangeReference.main_v8)) (v1 : Buf (Elt Bits) (((0 : Dev Cert.PairExchangeReference.nD).tc : Thread Cert.PairExchangeReference.nD Cert.PairExchangeReference.τ).loc Cert.PairExchangeReference.main_v17)) (v2 : Buf (Elt Bits) (((0 : Dev Cert.PairExchangeReference.nD).tc : Thread Cert.PairExchangeReference.nD Cert.PairExchangeReference.τ).loc Cert.PairExchangeReference.main_v26)) (v3 : Buf (Elt Bits) (((0 : Dev Cert.PairExchangeReference.nD).tc : Thread Cert.PairExchangeReference.nD Cert.PairExchangeReference.τ).loc Cert.PairExchangeReference.main_v35)) (v4 : Buf (Elt Bits) (((0 : Dev Cert.PairExchangeReference.nD).tc : Thread Cert.PairExchangeReference.nD Cert.PairExchangeReference.τ).loc Cert.PairExchangeReference.main_v44)) (v5 : Buf (Elt Bits) (((0 : Dev Cert.PairExchangeReference.nD).tc : Thread Cert.PairExchangeReference.nD Cert.PairExchangeReference.τ).loc Cert.PairExchangeReference.main_v53)) (v6 : Buf (Elt Bits) (((0 : Dev Cert.PairExchangeReference.nD).tc : Thread Cert.PairExchangeReference.nD Cert.PairExchangeReference.τ).loc Cert.PairExchangeReference.main_v62)) (v7 : Buf (Elt Bits) (((0 : Dev Cert.PairExchangeReference.nD).tc : Thread Cert.PairExchangeReference.nD Cert.PairExchangeReference.τ).loc Cert.PairExchangeReference.main_v71)) (v8 : Buf (Elt Bits) (((0 : Dev Cert.PairExchangeReference.nD).tc : Thread Cert.PairExchangeReference.nD Cert.PairExchangeReference.τ).loc Cert.PairExchangeReference.main_v80)) (v9 : Buf (Elt Bits) (((0 : Dev Cert.PairExchangeReference.nD).tc : Thread Cert.PairExchangeReference.nD Cert.PairExchangeReference.τ).loc Cert.PairExchangeReference.main_v89)) (v10 : Buf (Elt Bits) (((0 : Dev Cert.PairExchangeReference.nD).tc : Thread Cert.PairExchangeReference.nD Cert.PairExchangeReference.τ).loc Cert.PairExchangeReference.main_v98)) (v11 : Buf (Elt Bits) (((0 : Dev Cert.PairExchangeReference.nD).tc : Thread Cert.PairExchangeReference.nD Cert.PairExchangeReference.τ).loc Cert.PairExchangeReference.main_v107)) (v12 : Buf (Elt Bits) (((0 : Dev Cert.PairExchangeReference.nD).tc : Thread Cert.PairExchangeReference.nD Cert.PairExchangeReference.τ).loc Cert.PairExchangeReference.main_v116)) (v13 : Buf (Elt Bits) (((0 : Dev Cert.PairExchangeReference.nD).tc : Thread Cert.PairExchangeReference.nD Cert.PairExchangeReference.τ).loc Cert.PairExchangeReference.main_v125)),
      θ_run (Cert.PairExchange.defs (F := Bits)) (onTc (τ := Cert.PairExchange.τ) (Cert.PairExchange.main (F := Bits))) ⟨m, fun _ => 0, g⟩ (fun r => ∀ c : Dev Cert.PairExchange.nD,
          r.2.mem ((c.tc : Thread Cert.PairExchange.nD Cert.PairExchange.τ).loc Cert.PairExchange.main_v1_0) = Layout.block ⟨3, ![4, 512, 768]⟩ ⟨3, ![32, 512, 768]⟩ 0 8 c v0
          ∧ r.2.mem ((c.tc : Thread Cert.PairExchange.nD Cert.PairExchange.τ).loc Cert.PairExchange.main_v1_1) = Layout.block ⟨3, ![4, 128, 1024]⟩ ⟨3, ![32, 128, 1024]⟩ 0 8 c v1
          ∧ r.2.mem ((c.tc : Thread Cert.PairExchange.nD Cert.PairExchange.τ).loc Cert.PairExchange.main_v1_2) = Layout.block ⟨3, ![4, 1024, 704]⟩ ⟨3, ![32, 1024, 704]⟩ 0 8 c v2
          ∧ r.2.mem ((c.tc : Thread Cert.PairExchange.nD Cert.PairExchange.τ).loc Cert.PairExchange.main_v1_3) = Layout.block ⟨3, ![4, 1024, 704]⟩ ⟨3, ![32, 1024, 704]⟩ 0 8 c v3
          ∧ r.2.mem ((c.tc : Thread Cert.PairExchange.nD Cert.PairExchange.τ).loc Cert.PairExchange.main_v1_4) = Layout.block ⟨3, ![4, 704, 1024]⟩ ⟨3, ![32, 704, 1024]⟩ 0 8 c v4
          ∧ r.2.mem ((c.tc : Thread Cert.PairExchange.nD Cert.PairExchange.τ).loc Cert.PairExchange.main_v1_5) = Layout.block ⟨3, ![4, 512, 2304]⟩ ⟨3, ![32, 512, 2304]⟩ 0 8 c v5
          ∧ r.2.mem ((c.tc : Thread Cert.PairExchange.nD Cert.PairExchange.τ).loc Cert.PairExchange.main_v1_6) = Layout.block ⟨3, ![4, 128, 1024]⟩ ⟨3, ![32, 128, 1024]⟩ 0 8 c v6
          ∧ r.2.mem ((c.tc : Thread Cert.PairExchange.nD Cert.PairExchange.τ).loc Cert.PairExchange.main_v1_7) = Layout.block ⟨3, ![4, 512, 768]⟩ ⟨3, ![32, 512, 768]⟩ 0 8 c v7
          ∧ r.2.mem ((c.tc : Thread Cert.PairExchange.nD Cert.PairExchange.τ).loc Cert.PairExchange.main_v1_8) = Layout.block ⟨3, ![4, 128, 1024]⟩ ⟨3, ![32, 128, 1024]⟩ 0 8 c v8
          ∧ r.2.mem ((c.tc : Thread Cert.PairExchange.nD Cert.PairExchange.τ).loc Cert.PairExchange.main_v1_9) = Layout.block ⟨3, ![4, 1024, 704]⟩ ⟨3, ![32, 1024, 704]⟩ 0 8 c v9
          ∧ r.2.mem ((c.tc : Thread Cert.PairExchange.nD Cert.PairExchange.τ).loc Cert.PairExchange.main_v1_10) = Layout.block ⟨3, ![4, 1024, 704]⟩ ⟨3, ![32, 1024, 704]⟩ 0 8 c v10
          ∧ r.2.mem ((c.tc : Thread Cert.PairExchange.nD Cert.PairExchange.τ).loc Cert.PairExchange.main_v1_11) = Layout.block ⟨3, ![4, 704, 1024]⟩ ⟨3, ![32, 704, 1024]⟩ 0 8 c v11
          ∧ r.2.mem ((c.tc : Thread Cert.PairExchange.nD Cert.PairExchange.τ).loc Cert.PairExchange.main_v1_12) = Layout.block ⟨3, ![4, 512, 2304]⟩ ⟨3, ![32, 512, 2304]⟩ 0 8 c v12
          ∧ r.2.mem ((c.tc : Thread Cert.PairExchange.nD Cert.PairExchange.τ).loc Cert.PairExchange.main_v1_13) = Layout.block ⟨3, ![4, 128, 1024]⟩ ⟨3, ![32, 128, 1024]⟩ 0 8 c v13
          ∧ r.2.mem ((c.tc : Thread Cert.PairExchange.nD Cert.PairExchange.τ).loc Cert.PairExchange.main_arg0) = m ((c.tc : Thread Cert.PairExchange.nD Cert.PairExchange.τ).loc Cert.PairExchange.main_arg0)
          ∧ r.2.mem ((c.tc : Thread Cert.PairExchange.nD Cert.PairExchange.τ).loc Cert.PairExchange.main_arg1) = m ((c.tc : Thread Cert.PairExchange.nD Cert.PairExchange.τ).loc Cert.PairExchange.main_arg1)
          ∧ r.2.mem ((c.tc : Thread Cert.PairExchange.nD Cert.PairExchange.τ).loc Cert.PairExchange.main_arg2) = m ((c.tc : Thread Cert.PairExchange.nD Cert.PairExchange.τ).loc Cert.PairExchange.main_arg2)
          ∧ r.2.mem ((c.tc : Thread Cert.PairExchange.nD Cert.PairExchange.τ).loc Cert.PairExchange.main_arg3) = m ((c.tc : Thread Cert.PairExchange.nD Cert.PairExchange.τ).loc Cert.PairExchange.main_arg3)
          ∧ r.2.mem ((c.tc : Thread Cert.PairExchange.nD Cert.PairExchange.τ).loc Cert.PairExchange.main_arg4) = m ((c.tc : Thread Cert.PairExchange.nD Cert.PairExchange.τ).loc Cert.PairExchange.main_arg4)
          ∧ r.2.mem ((c.tc : Thread Cert.PairExchange.nD Cert.PairExchange.τ).loc Cert.PairExchange.main_arg5) = m ((c.tc : Thread Cert.PairExchange.nD Cert.PairExchange.τ).loc Cert.PairExchange.main_arg5)
          ∧ r.2.mem ((c.tc : Thread Cert.PairExchange.nD Cert.PairExchange.τ).loc Cert.PairExchange.main_arg6) = m ((c.tc : Thread Cert.PairExchange.nD Cert.PairExchange.τ).loc Cert.PairExchange.main_arg6))
      ∧ θ_run (Cert.PairExchangeReference.defs (F := Bits)) (onTc (τ := Cert.PairExchangeReference.τ) (Cert.PairExchangeReference.main (F := Bits))) ⟨m', fun _ => 0, g'⟩ (fun r =>
          r.2.mem (((0 : Dev Cert.PairExchangeReference.nD).tc : Thread Cert.PairExchangeReference.nD Cert.PairExchangeReference.τ).loc Cert.PairExchangeReference.main_v8) = v0
          ∧ r.2.mem (((0 : Dev Cert.PairExchangeReference.nD).tc : Thread Cert.PairExchangeReference.nD Cert.PairExchangeReference.τ).loc Cert.PairExchangeReference.main_v17) = v1
          ∧ r.2.mem (((0 : Dev Cert.PairExchangeReference.nD).tc : Thread Cert.PairExchangeReference.nD Cert.PairExchangeReference.τ).loc Cert.PairExchangeReference.main_v26) = v2
          ∧ r.2.mem (((0 : Dev Cert.PairExchangeReference.nD).tc : Thread Cert.PairExchangeReference.nD Cert.PairExchangeReference.τ).loc Cert.PairExchangeReference.main_v35) = v3
          ∧ r.2.mem (((0 : Dev Cert.PairExchangeReference.nD).tc : Thread Cert.PairExchangeReference.nD Cert.PairExchangeReference.τ).loc Cert.PairExchangeReference.main_v44) = v4
          ∧ r.2.mem (((0 : Dev Cert.PairExchangeReference.nD).tc : Thread Cert.PairExchangeReference.nD Cert.PairExchangeReference.τ).loc Cert.PairExchangeReference.main_v53) = v5
          ∧ r.2.mem (((0 : Dev Cert.PairExchangeReference.nD).tc : Thread Cert.PairExchangeReference.nD Cert.PairExchangeReference.τ).loc Cert.PairExchangeReference.main_v62) = v6
          ∧ r.2.mem (((0 : Dev Cert.PairExchangeReference.nD).tc : Thread Cert.PairExchangeReference.nD Cert.PairExchangeReference.τ).loc Cert.PairExchangeReference.main_v71) = v7
          ∧ r.2.mem (((0 : Dev Cert.PairExchangeReference.nD).tc : Thread Cert.PairExchangeReference.nD Cert.PairExchangeReference.τ).loc Cert.PairExchangeReference.main_v80) = v8
          ∧ r.2.mem (((0 : Dev Cert.PairExchangeReference.nD).tc : Thread Cert.PairExchangeReference.nD Cert.PairExchangeReference.τ).loc Cert.PairExchangeReference.main_v89) = v9
          ∧ r.2.mem (((0 : Dev Cert.PairExchangeReference.nD).tc : Thread Cert.PairExchangeReference.nD Cert.PairExchangeReference.τ).loc Cert.PairExchangeReference.main_v98) = v10
          ∧ r.2.mem (((0 : Dev Cert.PairExchangeReference.nD).tc : Thread Cert.PairExchangeReference.nD Cert.PairExchangeReference.τ).loc Cert.PairExchangeReference.main_v107) = v11
          ∧ r.2.mem (((0 : Dev Cert.PairExchangeReference.nD).tc : Thread Cert.PairExchangeReference.nD Cert.PairExchangeReference.τ).loc Cert.PairExchangeReference.main_v116) = v12
          ∧ r.2.mem (((0 : Dev Cert.PairExchangeReference.nD).tc : Thread Cert.PairExchangeReference.nD Cert.PairExchangeReference.τ).loc Cert.PairExchangeReference.main_v125) = v13
          ∧ r.2.mem (((0 : Dev Cert.PairExchangeReference.nD).tc : Thread Cert.PairExchangeReference.nD Cert.PairExchangeReference.τ).loc Cert.PairExchangeReference.main_arg0) = m' (((0 : Dev Cert.PairExchangeReference.nD).tc : Thread Cert.PairExchangeReference.nD Cert.PairExchangeReference.τ).loc Cert.PairExchangeReference.main_arg0)
          ∧ r.2.mem (((0 : Dev Cert.PairExchangeReference.nD).tc : Thread Cert.PairExchangeReference.nD Cert.PairExchangeReference.τ).loc Cert.PairExchangeReference.main_arg1) = m' (((0 : Dev Cert.PairExchangeReference.nD).tc : Thread Cert.PairExchangeReference.nD Cert.PairExchangeReference.τ).loc Cert.PairExchangeReference.main_arg1)
          ∧ r.2.mem (((0 : Dev Cert.PairExchangeReference.nD).tc : Thread Cert.PairExchangeReference.nD Cert.PairExchangeReference.τ).loc Cert.PairExchangeReference.main_arg2) = m' (((0 : Dev Cert.PairExchangeReference.nD).tc : Thread Cert.PairExchangeReference.nD Cert.PairExchangeReference.τ).loc Cert.PairExchangeReference.main_arg2)
          ∧ r.2.mem (((0 : Dev Cert.PairExchangeReference.nD).tc : Thread Cert.PairExchangeReference.nD Cert.PairExchangeReference.τ).loc Cert.PairExchangeReference.main_arg3) = m' (((0 : Dev Cert.PairExchangeReference.nD).tc : Thread Cert.PairExchangeReference.nD Cert.PairExchangeReference.τ).loc Cert.PairExchangeReference.main_arg3)
          ∧ r.2.mem (((0 : Dev Cert.PairExchangeReference.nD).tc : Thread Cert.PairExchangeReference.nD Cert.PairExchangeReference.τ).loc Cert.PairExchangeReference.main_arg4) = m' (((0 : Dev Cert.PairExchangeReference.nD).tc : Thread Cert.PairExchangeReference.nD Cert.PairExchangeReference.τ).loc Cert.PairExchangeReference.main_arg4)
          ∧ r.2.mem (((0 : Dev Cert.PairExchangeReference.nD).tc : Thread Cert.PairExchangeReference.nD Cert.PairExchangeReference.τ).loc Cert.PairExchangeReference.main_arg5) = m' (((0 : Dev Cert.PairExchangeReference.nD).tc : Thread Cert.PairExchangeReference.nD Cert.PairExchangeReference.τ).loc Cert.PairExchangeReference.main_arg5)
          ∧ r.2.mem (((0 : Dev Cert.PairExchangeReference.nD).tc : Thread Cert.PairExchangeReference.nD Cert.PairExchangeReference.τ).loc Cert.PairExchangeReference.main_arg6) = m' (((0 : Dev Cert.PairExchangeReference.nD).tc : Thread Cert.PairExchangeReference.nD Cert.PairExchangeReference.τ).loc Cert.PairExchangeReference.main_arg6))

def preserves_ChipExchange_ChipExchangeIdeal : Prop :=
  True

def algebraic_ChipExchangeIdeal_ChipExchangeReferenceIdeal [hChipExchangeIdeal : Cert.ChipExchangeIdeal.Facts] [hChipExchangeReferenceIdeal : Cert.ChipExchangeReferenceIdeal.Facts] : Prop :=
  ∀ (m : (ℓ : Loc Cert.ChipExchangeIdeal.nD Cert.ChipExchangeIdeal.τ Cert.ChipExchangeIdeal.sig) → Buf (Elt Ideal) ℓ) (g : Dev Cert.ChipExchangeIdeal.nD → PrngReg)
    (m' : (ℓ : Loc Cert.ChipExchangeReferenceIdeal.nD Cert.ChipExchangeReferenceIdeal.τ Cert.ChipExchangeReferenceIdeal.sig) → Buf (Elt Ideal) ℓ) (g' : Dev Cert.ChipExchangeReferenceIdeal.nD → PrngReg), Pre_ChipExchangeIdeal m →
    (∀ c : Dev Cert.ChipExchangeIdeal.nD,
      m ((c.tc : Thread Cert.ChipExchangeIdeal.nD Cert.ChipExchangeIdeal.τ).loc Cert.ChipExchangeIdeal.main_arg0) = Layout.block ⟨3, ![4, 512, 768]⟩ ⟨3, ![32, 512, 768]⟩ 0 8 c (m' (((0 : Dev Cert.ChipExchangeReferenceIdeal.nD).tc : Thread Cert.ChipExchangeReferenceIdeal.nD Cert.ChipExchangeReferenceIdeal.τ).loc Cert.ChipExchangeReferenceIdeal.main_arg0))
      ∧ m ((c.tc : Thread Cert.ChipExchangeIdeal.nD Cert.ChipExchangeIdeal.τ).loc Cert.ChipExchangeIdeal.main_arg1) = Layout.block ⟨3, ![4, 128, 1024]⟩ ⟨3, ![32, 128, 1024]⟩ 0 8 c (m' (((0 : Dev Cert.ChipExchangeReferenceIdeal.nD).tc : Thread Cert.ChipExchangeReferenceIdeal.nD Cert.ChipExchangeReferenceIdeal.τ).loc Cert.ChipExchangeReferenceIdeal.main_arg1))
      ∧ m ((c.tc : Thread Cert.ChipExchangeIdeal.nD Cert.ChipExchangeIdeal.τ).loc Cert.ChipExchangeIdeal.main_arg2) = Layout.block ⟨3, ![4, 1024, 704]⟩ ⟨3, ![32, 1024, 704]⟩ 0 8 c (m' (((0 : Dev Cert.ChipExchangeReferenceIdeal.nD).tc : Thread Cert.ChipExchangeReferenceIdeal.nD Cert.ChipExchangeReferenceIdeal.τ).loc Cert.ChipExchangeReferenceIdeal.main_arg2))
      ∧ m ((c.tc : Thread Cert.ChipExchangeIdeal.nD Cert.ChipExchangeIdeal.τ).loc Cert.ChipExchangeIdeal.main_arg3) = Layout.block ⟨3, ![4, 1024, 704]⟩ ⟨3, ![32, 1024, 704]⟩ 0 8 c (m' (((0 : Dev Cert.ChipExchangeReferenceIdeal.nD).tc : Thread Cert.ChipExchangeReferenceIdeal.nD Cert.ChipExchangeReferenceIdeal.τ).loc Cert.ChipExchangeReferenceIdeal.main_arg3))
      ∧ m ((c.tc : Thread Cert.ChipExchangeIdeal.nD Cert.ChipExchangeIdeal.τ).loc Cert.ChipExchangeIdeal.main_arg4) = Layout.block ⟨3, ![4, 704, 1024]⟩ ⟨3, ![32, 704, 1024]⟩ 0 8 c (m' (((0 : Dev Cert.ChipExchangeReferenceIdeal.nD).tc : Thread Cert.ChipExchangeReferenceIdeal.nD Cert.ChipExchangeReferenceIdeal.τ).loc Cert.ChipExchangeReferenceIdeal.main_arg4))
      ∧ m ((c.tc : Thread Cert.ChipExchangeIdeal.nD Cert.ChipExchangeIdeal.τ).loc Cert.ChipExchangeIdeal.main_arg5) = Layout.block ⟨3, ![4, 512, 2304]⟩ ⟨3, ![32, 512, 2304]⟩ 0 8 c (m' (((0 : Dev Cert.ChipExchangeReferenceIdeal.nD).tc : Thread Cert.ChipExchangeReferenceIdeal.nD Cert.ChipExchangeReferenceIdeal.τ).loc Cert.ChipExchangeReferenceIdeal.main_arg5))
      ∧ m ((c.tc : Thread Cert.ChipExchangeIdeal.nD Cert.ChipExchangeIdeal.τ).loc Cert.ChipExchangeIdeal.main_arg6) = Layout.block ⟨3, ![4, 128, 1024]⟩ ⟨3, ![32, 128, 1024]⟩ 0 8 c (m' (((0 : Dev Cert.ChipExchangeReferenceIdeal.nD).tc : Thread Cert.ChipExchangeReferenceIdeal.nD Cert.ChipExchangeReferenceIdeal.τ).loc Cert.ChipExchangeReferenceIdeal.main_arg6))) →
    ∃ (v0 : Buf (Elt Ideal) (((0 : Dev Cert.ChipExchangeReferenceIdeal.nD).tc : Thread Cert.ChipExchangeReferenceIdeal.nD Cert.ChipExchangeReferenceIdeal.τ).loc Cert.ChipExchangeReferenceIdeal.main_v2)) (v1 : Buf (Elt Ideal) (((0 : Dev Cert.ChipExchangeReferenceIdeal.nD).tc : Thread Cert.ChipExchangeReferenceIdeal.nD Cert.ChipExchangeReferenceIdeal.τ).loc Cert.ChipExchangeReferenceIdeal.main_v5)) (v2 : Buf (Elt Ideal) (((0 : Dev Cert.ChipExchangeReferenceIdeal.nD).tc : Thread Cert.ChipExchangeReferenceIdeal.nD Cert.ChipExchangeReferenceIdeal.τ).loc Cert.ChipExchangeReferenceIdeal.main_v8)) (v3 : Buf (Elt Ideal) (((0 : Dev Cert.ChipExchangeReferenceIdeal.nD).tc : Thread Cert.ChipExchangeReferenceIdeal.nD Cert.ChipExchangeReferenceIdeal.τ).loc Cert.ChipExchangeReferenceIdeal.main_v11)) (v4 : Buf (Elt Ideal) (((0 : Dev Cert.ChipExchangeReferenceIdeal.nD).tc : Thread Cert.ChipExchangeReferenceIdeal.nD Cert.ChipExchangeReferenceIdeal.τ).loc Cert.ChipExchangeReferenceIdeal.main_v14)) (v5 : Buf (Elt Ideal) (((0 : Dev Cert.ChipExchangeReferenceIdeal.nD).tc : Thread Cert.ChipExchangeReferenceIdeal.nD Cert.ChipExchangeReferenceIdeal.τ).loc Cert.ChipExchangeReferenceIdeal.main_v17)) (v6 : Buf (Elt Ideal) (((0 : Dev Cert.ChipExchangeReferenceIdeal.nD).tc : Thread Cert.ChipExchangeReferenceIdeal.nD Cert.ChipExchangeReferenceIdeal.τ).loc Cert.ChipExchangeReferenceIdeal.main_v20)),
      θ_run (Cert.ChipExchangeIdeal.defs (F := Ideal)) (onTc (τ := Cert.ChipExchangeIdeal.τ) (Cert.ChipExchangeIdeal.main (F := Ideal))) ⟨m, fun _ => 0, g⟩ (fun r => ∀ c : Dev Cert.ChipExchangeIdeal.nD,
          r.2.mem ((c.tc : Thread Cert.ChipExchangeIdeal.nD Cert.ChipExchangeIdeal.τ).loc Cert.ChipExchangeIdeal.main_v1_0) = Layout.block ⟨3, ![4, 512, 768]⟩ ⟨3, ![32, 512, 768]⟩ 0 8 c v0
          ∧ r.2.mem ((c.tc : Thread Cert.ChipExchangeIdeal.nD Cert.ChipExchangeIdeal.τ).loc Cert.ChipExchangeIdeal.main_v1_1) = Layout.block ⟨3, ![4, 128, 1024]⟩ ⟨3, ![32, 128, 1024]⟩ 0 8 c v1
          ∧ r.2.mem ((c.tc : Thread Cert.ChipExchangeIdeal.nD Cert.ChipExchangeIdeal.τ).loc Cert.ChipExchangeIdeal.main_v1_2) = Layout.block ⟨3, ![4, 1024, 704]⟩ ⟨3, ![32, 1024, 704]⟩ 0 8 c v2
          ∧ r.2.mem ((c.tc : Thread Cert.ChipExchangeIdeal.nD Cert.ChipExchangeIdeal.τ).loc Cert.ChipExchangeIdeal.main_v1_3) = Layout.block ⟨3, ![4, 1024, 704]⟩ ⟨3, ![32, 1024, 704]⟩ 0 8 c v3
          ∧ r.2.mem ((c.tc : Thread Cert.ChipExchangeIdeal.nD Cert.ChipExchangeIdeal.τ).loc Cert.ChipExchangeIdeal.main_v1_4) = Layout.block ⟨3, ![4, 704, 1024]⟩ ⟨3, ![32, 704, 1024]⟩ 0 8 c v4
          ∧ r.2.mem ((c.tc : Thread Cert.ChipExchangeIdeal.nD Cert.ChipExchangeIdeal.τ).loc Cert.ChipExchangeIdeal.main_v1_5) = Layout.block ⟨3, ![4, 512, 2304]⟩ ⟨3, ![32, 512, 2304]⟩ 0 8 c v5
          ∧ r.2.mem ((c.tc : Thread Cert.ChipExchangeIdeal.nD Cert.ChipExchangeIdeal.τ).loc Cert.ChipExchangeIdeal.main_v1_6) = Layout.block ⟨3, ![4, 128, 1024]⟩ ⟨3, ![32, 128, 1024]⟩ 0 8 c v6
          ∧ r.2.mem ((c.tc : Thread Cert.ChipExchangeIdeal.nD Cert.ChipExchangeIdeal.τ).loc Cert.ChipExchangeIdeal.main_arg0) = m ((c.tc : Thread Cert.ChipExchangeIdeal.nD Cert.ChipExchangeIdeal.τ).loc Cert.ChipExchangeIdeal.main_arg0)
          ∧ r.2.mem ((c.tc : Thread Cert.ChipExchangeIdeal.nD Cert.ChipExchangeIdeal.τ).loc Cert.ChipExchangeIdeal.main_arg1) = m ((c.tc : Thread Cert.ChipExchangeIdeal.nD Cert.ChipExchangeIdeal.τ).loc Cert.ChipExchangeIdeal.main_arg1)
          ∧ r.2.mem ((c.tc : Thread Cert.ChipExchangeIdeal.nD Cert.ChipExchangeIdeal.τ).loc Cert.ChipExchangeIdeal.main_arg2) = m ((c.tc : Thread Cert.ChipExchangeIdeal.nD Cert.ChipExchangeIdeal.τ).loc Cert.ChipExchangeIdeal.main_arg2)
          ∧ r.2.mem ((c.tc : Thread Cert.ChipExchangeIdeal.nD Cert.ChipExchangeIdeal.τ).loc Cert.ChipExchangeIdeal.main_arg3) = m ((c.tc : Thread Cert.ChipExchangeIdeal.nD Cert.ChipExchangeIdeal.τ).loc Cert.ChipExchangeIdeal.main_arg3)
          ∧ r.2.mem ((c.tc : Thread Cert.ChipExchangeIdeal.nD Cert.ChipExchangeIdeal.τ).loc Cert.ChipExchangeIdeal.main_arg4) = m ((c.tc : Thread Cert.ChipExchangeIdeal.nD Cert.ChipExchangeIdeal.τ).loc Cert.ChipExchangeIdeal.main_arg4)
          ∧ r.2.mem ((c.tc : Thread Cert.ChipExchangeIdeal.nD Cert.ChipExchangeIdeal.τ).loc Cert.ChipExchangeIdeal.main_arg5) = m ((c.tc : Thread Cert.ChipExchangeIdeal.nD Cert.ChipExchangeIdeal.τ).loc Cert.ChipExchangeIdeal.main_arg5)
          ∧ r.2.mem ((c.tc : Thread Cert.ChipExchangeIdeal.nD Cert.ChipExchangeIdeal.τ).loc Cert.ChipExchangeIdeal.main_arg6) = m ((c.tc : Thread Cert.ChipExchangeIdeal.nD Cert.ChipExchangeIdeal.τ).loc Cert.ChipExchangeIdeal.main_arg6))
      ∧ θ_run (Cert.ChipExchangeReferenceIdeal.defs (F := Ideal)) (onTc (τ := Cert.ChipExchangeReferenceIdeal.τ) (Cert.ChipExchangeReferenceIdeal.main (F := Ideal))) ⟨m', fun _ => 0, g'⟩ (fun r =>
          r.2.mem (((0 : Dev Cert.ChipExchangeReferenceIdeal.nD).tc : Thread Cert.ChipExchangeReferenceIdeal.nD Cert.ChipExchangeReferenceIdeal.τ).loc Cert.ChipExchangeReferenceIdeal.main_v2) = v0
          ∧ r.2.mem (((0 : Dev Cert.ChipExchangeReferenceIdeal.nD).tc : Thread Cert.ChipExchangeReferenceIdeal.nD Cert.ChipExchangeReferenceIdeal.τ).loc Cert.ChipExchangeReferenceIdeal.main_v5) = v1
          ∧ r.2.mem (((0 : Dev Cert.ChipExchangeReferenceIdeal.nD).tc : Thread Cert.ChipExchangeReferenceIdeal.nD Cert.ChipExchangeReferenceIdeal.τ).loc Cert.ChipExchangeReferenceIdeal.main_v8) = v2
          ∧ r.2.mem (((0 : Dev Cert.ChipExchangeReferenceIdeal.nD).tc : Thread Cert.ChipExchangeReferenceIdeal.nD Cert.ChipExchangeReferenceIdeal.τ).loc Cert.ChipExchangeReferenceIdeal.main_v11) = v3
          ∧ r.2.mem (((0 : Dev Cert.ChipExchangeReferenceIdeal.nD).tc : Thread Cert.ChipExchangeReferenceIdeal.nD Cert.ChipExchangeReferenceIdeal.τ).loc Cert.ChipExchangeReferenceIdeal.main_v14) = v4
          ∧ r.2.mem (((0 : Dev Cert.ChipExchangeReferenceIdeal.nD).tc : Thread Cert.ChipExchangeReferenceIdeal.nD Cert.ChipExchangeReferenceIdeal.τ).loc Cert.ChipExchangeReferenceIdeal.main_v17) = v5
          ∧ r.2.mem (((0 : Dev Cert.ChipExchangeReferenceIdeal.nD).tc : Thread Cert.ChipExchangeReferenceIdeal.nD Cert.ChipExchangeReferenceIdeal.τ).loc Cert.ChipExchangeReferenceIdeal.main_v20) = v6
          ∧ r.2.mem (((0 : Dev Cert.ChipExchangeReferenceIdeal.nD).tc : Thread Cert.ChipExchangeReferenceIdeal.nD Cert.ChipExchangeReferenceIdeal.τ).loc Cert.ChipExchangeReferenceIdeal.main_arg0) = m' (((0 : Dev Cert.ChipExchangeReferenceIdeal.nD).tc : Thread Cert.ChipExchangeReferenceIdeal.nD Cert.ChipExchangeReferenceIdeal.τ).loc Cert.ChipExchangeReferenceIdeal.main_arg0)
          ∧ r.2.mem (((0 : Dev Cert.ChipExchangeReferenceIdeal.nD).tc : Thread Cert.ChipExchangeReferenceIdeal.nD Cert.ChipExchangeReferenceIdeal.τ).loc Cert.ChipExchangeReferenceIdeal.main_arg1) = m' (((0 : Dev Cert.ChipExchangeReferenceIdeal.nD).tc : Thread Cert.ChipExchangeReferenceIdeal.nD Cert.ChipExchangeReferenceIdeal.τ).loc Cert.ChipExchangeReferenceIdeal.main_arg1)
          ∧ r.2.mem (((0 : Dev Cert.ChipExchangeReferenceIdeal.nD).tc : Thread Cert.ChipExchangeReferenceIdeal.nD Cert.ChipExchangeReferenceIdeal.τ).loc Cert.ChipExchangeReferenceIdeal.main_arg2) = m' (((0 : Dev Cert.ChipExchangeReferenceIdeal.nD).tc : Thread Cert.ChipExchangeReferenceIdeal.nD Cert.ChipExchangeReferenceIdeal.τ).loc Cert.ChipExchangeReferenceIdeal.main_arg2)
          ∧ r.2.mem (((0 : Dev Cert.ChipExchangeReferenceIdeal.nD).tc : Thread Cert.ChipExchangeReferenceIdeal.nD Cert.ChipExchangeReferenceIdeal.τ).loc Cert.ChipExchangeReferenceIdeal.main_arg3) = m' (((0 : Dev Cert.ChipExchangeReferenceIdeal.nD).tc : Thread Cert.ChipExchangeReferenceIdeal.nD Cert.ChipExchangeReferenceIdeal.τ).loc Cert.ChipExchangeReferenceIdeal.main_arg3)
          ∧ r.2.mem (((0 : Dev Cert.ChipExchangeReferenceIdeal.nD).tc : Thread Cert.ChipExchangeReferenceIdeal.nD Cert.ChipExchangeReferenceIdeal.τ).loc Cert.ChipExchangeReferenceIdeal.main_arg4) = m' (((0 : Dev Cert.ChipExchangeReferenceIdeal.nD).tc : Thread Cert.ChipExchangeReferenceIdeal.nD Cert.ChipExchangeReferenceIdeal.τ).loc Cert.ChipExchangeReferenceIdeal.main_arg4)
          ∧ r.2.mem (((0 : Dev Cert.ChipExchangeReferenceIdeal.nD).tc : Thread Cert.ChipExchangeReferenceIdeal.nD Cert.ChipExchangeReferenceIdeal.τ).loc Cert.ChipExchangeReferenceIdeal.main_arg5) = m' (((0 : Dev Cert.ChipExchangeReferenceIdeal.nD).tc : Thread Cert.ChipExchangeReferenceIdeal.nD Cert.ChipExchangeReferenceIdeal.τ).loc Cert.ChipExchangeReferenceIdeal.main_arg5)
          ∧ r.2.mem (((0 : Dev Cert.ChipExchangeReferenceIdeal.nD).tc : Thread Cert.ChipExchangeReferenceIdeal.nD Cert.ChipExchangeReferenceIdeal.τ).loc Cert.ChipExchangeReferenceIdeal.main_arg6) = m' (((0 : Dev Cert.ChipExchangeReferenceIdeal.nD).tc : Thread Cert.ChipExchangeReferenceIdeal.nD Cert.ChipExchangeReferenceIdeal.τ).loc Cert.ChipExchangeReferenceIdeal.main_arg6))

def bitexact_ChipExchange_ChipExchangeReference [hChipExchange : Cert.ChipExchange.Facts] [hChipExchangeReference : Cert.ChipExchangeReference.Facts] : Prop :=
  ∀ (m : (ℓ : Loc Cert.ChipExchange.nD Cert.ChipExchange.τ Cert.ChipExchange.sig) → Buf (Elt Bits) ℓ) (g : Dev Cert.ChipExchange.nD → PrngReg)
    (m' : (ℓ : Loc Cert.ChipExchangeReference.nD Cert.ChipExchangeReference.τ Cert.ChipExchangeReference.sig) → Buf (Elt Bits) ℓ) (g' : Dev Cert.ChipExchangeReference.nD → PrngReg), Pre_ChipExchange m →
    (∀ c : Dev Cert.ChipExchange.nD,
      m ((c.tc : Thread Cert.ChipExchange.nD Cert.ChipExchange.τ).loc Cert.ChipExchange.main_arg0) = Layout.block ⟨3, ![4, 512, 768]⟩ ⟨3, ![32, 512, 768]⟩ 0 8 c (m' (((0 : Dev Cert.ChipExchangeReference.nD).tc : Thread Cert.ChipExchangeReference.nD Cert.ChipExchangeReference.τ).loc Cert.ChipExchangeReference.main_arg0))
      ∧ m ((c.tc : Thread Cert.ChipExchange.nD Cert.ChipExchange.τ).loc Cert.ChipExchange.main_arg1) = Layout.block ⟨3, ![4, 128, 1024]⟩ ⟨3, ![32, 128, 1024]⟩ 0 8 c (m' (((0 : Dev Cert.ChipExchangeReference.nD).tc : Thread Cert.ChipExchangeReference.nD Cert.ChipExchangeReference.τ).loc Cert.ChipExchangeReference.main_arg1))
      ∧ m ((c.tc : Thread Cert.ChipExchange.nD Cert.ChipExchange.τ).loc Cert.ChipExchange.main_arg2) = Layout.block ⟨3, ![4, 1024, 704]⟩ ⟨3, ![32, 1024, 704]⟩ 0 8 c (m' (((0 : Dev Cert.ChipExchangeReference.nD).tc : Thread Cert.ChipExchangeReference.nD Cert.ChipExchangeReference.τ).loc Cert.ChipExchangeReference.main_arg2))
      ∧ m ((c.tc : Thread Cert.ChipExchange.nD Cert.ChipExchange.τ).loc Cert.ChipExchange.main_arg3) = Layout.block ⟨3, ![4, 1024, 704]⟩ ⟨3, ![32, 1024, 704]⟩ 0 8 c (m' (((0 : Dev Cert.ChipExchangeReference.nD).tc : Thread Cert.ChipExchangeReference.nD Cert.ChipExchangeReference.τ).loc Cert.ChipExchangeReference.main_arg3))
      ∧ m ((c.tc : Thread Cert.ChipExchange.nD Cert.ChipExchange.τ).loc Cert.ChipExchange.main_arg4) = Layout.block ⟨3, ![4, 704, 1024]⟩ ⟨3, ![32, 704, 1024]⟩ 0 8 c (m' (((0 : Dev Cert.ChipExchangeReference.nD).tc : Thread Cert.ChipExchangeReference.nD Cert.ChipExchangeReference.τ).loc Cert.ChipExchangeReference.main_arg4))
      ∧ m ((c.tc : Thread Cert.ChipExchange.nD Cert.ChipExchange.τ).loc Cert.ChipExchange.main_arg5) = Layout.block ⟨3, ![4, 512, 2304]⟩ ⟨3, ![32, 512, 2304]⟩ 0 8 c (m' (((0 : Dev Cert.ChipExchangeReference.nD).tc : Thread Cert.ChipExchangeReference.nD Cert.ChipExchangeReference.τ).loc Cert.ChipExchangeReference.main_arg5))
      ∧ m ((c.tc : Thread Cert.ChipExchange.nD Cert.ChipExchange.τ).loc Cert.ChipExchange.main_arg6) = Layout.block ⟨3, ![4, 128, 1024]⟩ ⟨3, ![32, 128, 1024]⟩ 0 8 c (m' (((0 : Dev Cert.ChipExchangeReference.nD).tc : Thread Cert.ChipExchangeReference.nD Cert.ChipExchangeReference.τ).loc Cert.ChipExchangeReference.main_arg6))) →
    ∃ (v0 : Buf (Elt Bits) (((0 : Dev Cert.ChipExchangeReference.nD).tc : Thread Cert.ChipExchangeReference.nD Cert.ChipExchangeReference.τ).loc Cert.ChipExchangeReference.main_v2)) (v1 : Buf (Elt Bits) (((0 : Dev Cert.ChipExchangeReference.nD).tc : Thread Cert.ChipExchangeReference.nD Cert.ChipExchangeReference.τ).loc Cert.ChipExchangeReference.main_v5)) (v2 : Buf (Elt Bits) (((0 : Dev Cert.ChipExchangeReference.nD).tc : Thread Cert.ChipExchangeReference.nD Cert.ChipExchangeReference.τ).loc Cert.ChipExchangeReference.main_v8)) (v3 : Buf (Elt Bits) (((0 : Dev Cert.ChipExchangeReference.nD).tc : Thread Cert.ChipExchangeReference.nD Cert.ChipExchangeReference.τ).loc Cert.ChipExchangeReference.main_v11)) (v4 : Buf (Elt Bits) (((0 : Dev Cert.ChipExchangeReference.nD).tc : Thread Cert.ChipExchangeReference.nD Cert.ChipExchangeReference.τ).loc Cert.ChipExchangeReference.main_v14)) (v5 : Buf (Elt Bits) (((0 : Dev Cert.ChipExchangeReference.nD).tc : Thread Cert.ChipExchangeReference.nD Cert.ChipExchangeReference.τ).loc Cert.ChipExchangeReference.main_v17)) (v6 : Buf (Elt Bits) (((0 : Dev Cert.ChipExchangeReference.nD).tc : Thread Cert.ChipExchangeReference.nD Cert.ChipExchangeReference.τ).loc Cert.ChipExchangeReference.main_v20)),
      θ_run (Cert.ChipExchange.defs (F := Bits)) (onTc (τ := Cert.ChipExchange.τ) (Cert.ChipExchange.main (F := Bits))) ⟨m, fun _ => 0, g⟩ (fun r => ∀ c : Dev Cert.ChipExchange.nD,
          r.2.mem ((c.tc : Thread Cert.ChipExchange.nD Cert.ChipExchange.τ).loc Cert.ChipExchange.main_v1_0) = Layout.block ⟨3, ![4, 512, 768]⟩ ⟨3, ![32, 512, 768]⟩ 0 8 c v0
          ∧ r.2.mem ((c.tc : Thread Cert.ChipExchange.nD Cert.ChipExchange.τ).loc Cert.ChipExchange.main_v1_1) = Layout.block ⟨3, ![4, 128, 1024]⟩ ⟨3, ![32, 128, 1024]⟩ 0 8 c v1
          ∧ r.2.mem ((c.tc : Thread Cert.ChipExchange.nD Cert.ChipExchange.τ).loc Cert.ChipExchange.main_v1_2) = Layout.block ⟨3, ![4, 1024, 704]⟩ ⟨3, ![32, 1024, 704]⟩ 0 8 c v2
          ∧ r.2.mem ((c.tc : Thread Cert.ChipExchange.nD Cert.ChipExchange.τ).loc Cert.ChipExchange.main_v1_3) = Layout.block ⟨3, ![4, 1024, 704]⟩ ⟨3, ![32, 1024, 704]⟩ 0 8 c v3
          ∧ r.2.mem ((c.tc : Thread Cert.ChipExchange.nD Cert.ChipExchange.τ).loc Cert.ChipExchange.main_v1_4) = Layout.block ⟨3, ![4, 704, 1024]⟩ ⟨3, ![32, 704, 1024]⟩ 0 8 c v4
          ∧ r.2.mem ((c.tc : Thread Cert.ChipExchange.nD Cert.ChipExchange.τ).loc Cert.ChipExchange.main_v1_5) = Layout.block ⟨3, ![4, 512, 2304]⟩ ⟨3, ![32, 512, 2304]⟩ 0 8 c v5
          ∧ r.2.mem ((c.tc : Thread Cert.ChipExchange.nD Cert.ChipExchange.τ).loc Cert.ChipExchange.main_v1_6) = Layout.block ⟨3, ![4, 128, 1024]⟩ ⟨3, ![32, 128, 1024]⟩ 0 8 c v6
          ∧ r.2.mem ((c.tc : Thread Cert.ChipExchange.nD Cert.ChipExchange.τ).loc Cert.ChipExchange.main_arg0) = m ((c.tc : Thread Cert.ChipExchange.nD Cert.ChipExchange.τ).loc Cert.ChipExchange.main_arg0)
          ∧ r.2.mem ((c.tc : Thread Cert.ChipExchange.nD Cert.ChipExchange.τ).loc Cert.ChipExchange.main_arg1) = m ((c.tc : Thread Cert.ChipExchange.nD Cert.ChipExchange.τ).loc Cert.ChipExchange.main_arg1)
          ∧ r.2.mem ((c.tc : Thread Cert.ChipExchange.nD Cert.ChipExchange.τ).loc Cert.ChipExchange.main_arg2) = m ((c.tc : Thread Cert.ChipExchange.nD Cert.ChipExchange.τ).loc Cert.ChipExchange.main_arg2)
          ∧ r.2.mem ((c.tc : Thread Cert.ChipExchange.nD Cert.ChipExchange.τ).loc Cert.ChipExchange.main_arg3) = m ((c.tc : Thread Cert.ChipExchange.nD Cert.ChipExchange.τ).loc Cert.ChipExchange.main_arg3)
          ∧ r.2.mem ((c.tc : Thread Cert.ChipExchange.nD Cert.ChipExchange.τ).loc Cert.ChipExchange.main_arg4) = m ((c.tc : Thread Cert.ChipExchange.nD Cert.ChipExchange.τ).loc Cert.ChipExchange.main_arg4)
          ∧ r.2.mem ((c.tc : Thread Cert.ChipExchange.nD Cert.ChipExchange.τ).loc Cert.ChipExchange.main_arg5) = m ((c.tc : Thread Cert.ChipExchange.nD Cert.ChipExchange.τ).loc Cert.ChipExchange.main_arg5)
          ∧ r.2.mem ((c.tc : Thread Cert.ChipExchange.nD Cert.ChipExchange.τ).loc Cert.ChipExchange.main_arg6) = m ((c.tc : Thread Cert.ChipExchange.nD Cert.ChipExchange.τ).loc Cert.ChipExchange.main_arg6))
      ∧ θ_run (Cert.ChipExchangeReference.defs (F := Bits)) (onTc (τ := Cert.ChipExchangeReference.τ) (Cert.ChipExchangeReference.main (F := Bits))) ⟨m', fun _ => 0, g'⟩ (fun r =>
          r.2.mem (((0 : Dev Cert.ChipExchangeReference.nD).tc : Thread Cert.ChipExchangeReference.nD Cert.ChipExchangeReference.τ).loc Cert.ChipExchangeReference.main_v2) = v0
          ∧ r.2.mem (((0 : Dev Cert.ChipExchangeReference.nD).tc : Thread Cert.ChipExchangeReference.nD Cert.ChipExchangeReference.τ).loc Cert.ChipExchangeReference.main_v5) = v1
          ∧ r.2.mem (((0 : Dev Cert.ChipExchangeReference.nD).tc : Thread Cert.ChipExchangeReference.nD Cert.ChipExchangeReference.τ).loc Cert.ChipExchangeReference.main_v8) = v2
          ∧ r.2.mem (((0 : Dev Cert.ChipExchangeReference.nD).tc : Thread Cert.ChipExchangeReference.nD Cert.ChipExchangeReference.τ).loc Cert.ChipExchangeReference.main_v11) = v3
          ∧ r.2.mem (((0 : Dev Cert.ChipExchangeReference.nD).tc : Thread Cert.ChipExchangeReference.nD Cert.ChipExchangeReference.τ).loc Cert.ChipExchangeReference.main_v14) = v4
          ∧ r.2.mem (((0 : Dev Cert.ChipExchangeReference.nD).tc : Thread Cert.ChipExchangeReference.nD Cert.ChipExchangeReference.τ).loc Cert.ChipExchangeReference.main_v17) = v5
          ∧ r.2.mem (((0 : Dev Cert.ChipExchangeReference.nD).tc : Thread Cert.ChipExchangeReference.nD Cert.ChipExchangeReference.τ).loc Cert.ChipExchangeReference.main_v20) = v6
          ∧ r.2.mem (((0 : Dev Cert.ChipExchangeReference.nD).tc : Thread Cert.ChipExchangeReference.nD Cert.ChipExchangeReference.τ).loc Cert.ChipExchangeReference.main_arg0) = m' (((0 : Dev Cert.ChipExchangeReference.nD).tc : Thread Cert.ChipExchangeReference.nD Cert.ChipExchangeReference.τ).loc Cert.ChipExchangeReference.main_arg0)
          ∧ r.2.mem (((0 : Dev Cert.ChipExchangeReference.nD).tc : Thread Cert.ChipExchangeReference.nD Cert.ChipExchangeReference.τ).loc Cert.ChipExchangeReference.main_arg1) = m' (((0 : Dev Cert.ChipExchangeReference.nD).tc : Thread Cert.ChipExchangeReference.nD Cert.ChipExchangeReference.τ).loc Cert.ChipExchangeReference.main_arg1)
          ∧ r.2.mem (((0 : Dev Cert.ChipExchangeReference.nD).tc : Thread Cert.ChipExchangeReference.nD Cert.ChipExchangeReference.τ).loc Cert.ChipExchangeReference.main_arg2) = m' (((0 : Dev Cert.ChipExchangeReference.nD).tc : Thread Cert.ChipExchangeReference.nD Cert.ChipExchangeReference.τ).loc Cert.ChipExchangeReference.main_arg2)
          ∧ r.2.mem (((0 : Dev Cert.ChipExchangeReference.nD).tc : Thread Cert.ChipExchangeReference.nD Cert.ChipExchangeReference.τ).loc Cert.ChipExchangeReference.main_arg3) = m' (((0 : Dev Cert.ChipExchangeReference.nD).tc : Thread Cert.ChipExchangeReference.nD Cert.ChipExchangeReference.τ).loc Cert.ChipExchangeReference.main_arg3)
          ∧ r.2.mem (((0 : Dev Cert.ChipExchangeReference.nD).tc : Thread Cert.ChipExchangeReference.nD Cert.ChipExchangeReference.τ).loc Cert.ChipExchangeReference.main_arg4) = m' (((0 : Dev Cert.ChipExchangeReference.nD).tc : Thread Cert.ChipExchangeReference.nD Cert.ChipExchangeReference.τ).loc Cert.ChipExchangeReference.main_arg4)
          ∧ r.2.mem (((0 : Dev Cert.ChipExchangeReference.nD).tc : Thread Cert.ChipExchangeReference.nD Cert.ChipExchangeReference.τ).loc Cert.ChipExchangeReference.main_arg5) = m' (((0 : Dev Cert.ChipExchangeReference.nD).tc : Thread Cert.ChipExchangeReference.nD Cert.ChipExchangeReference.τ).loc Cert.ChipExchangeReference.main_arg5)
          ∧ r.2.mem (((0 : Dev Cert.ChipExchangeReference.nD).tc : Thread Cert.ChipExchangeReference.nD Cert.ChipExchangeReference.τ).loc Cert.ChipExchangeReference.main_arg6) = m' (((0 : Dev Cert.ChipExchangeReference.nD).tc : Thread Cert.ChipExchangeReference.nD Cert.ChipExchangeReference.τ).loc Cert.ChipExchangeReference.main_arg6))

def preserves_PairShare_PairShareIdeal : Prop :=
  True

def algebraic_PairShareIdeal_PairShareReferenceIdeal [hPairShareIdeal : Cert.PairShareIdeal.Facts] [hPairShareReferenceIdeal : Cert.PairShareReferenceIdeal.Facts] : Prop :=
  ∀ (m : (ℓ : Loc Cert.PairShareIdeal.nD Cert.PairShareIdeal.τ Cert.PairShareIdeal.sig) → Buf (Elt Ideal) ℓ) (g : Dev Cert.PairShareIdeal.nD → PrngReg)
    (m' : (ℓ : Loc Cert.PairShareReferenceIdeal.nD Cert.PairShareReferenceIdeal.τ Cert.PairShareReferenceIdeal.sig) → Buf (Elt Ideal) ℓ) (g' : Dev Cert.PairShareReferenceIdeal.nD → PrngReg), Pre_PairShareIdeal m →
    (∀ c : Dev Cert.PairShareIdeal.nD,
      m ((c.tc : Thread Cert.PairShareIdeal.nD Cert.PairShareIdeal.τ).loc Cert.PairShareIdeal.main_arg0) = Layout.block ⟨2, ![512, 768]⟩ ⟨2, ![4096, 768]⟩ 0 8 c (m' (((0 : Dev Cert.PairShareReferenceIdeal.nD).tc : Thread Cert.PairShareReferenceIdeal.nD Cert.PairShareReferenceIdeal.τ).loc Cert.PairShareReferenceIdeal.main_arg0))
      ∧ m ((c.tc : Thread Cert.PairShareIdeal.nD Cert.PairShareIdeal.τ).loc Cert.PairShareIdeal.main_arg1) = Layout.block ⟨2, ![128, 1024]⟩ ⟨2, ![1024, 1024]⟩ 0 8 c (m' (((0 : Dev Cert.PairShareReferenceIdeal.nD).tc : Thread Cert.PairShareReferenceIdeal.nD Cert.PairShareReferenceIdeal.τ).loc Cert.PairShareReferenceIdeal.main_arg1))
      ∧ m ((c.tc : Thread Cert.PairShareIdeal.nD Cert.PairShareIdeal.τ).loc Cert.PairShareIdeal.main_arg2) = Layout.block ⟨2, ![1024, 704]⟩ ⟨2, ![8192, 704]⟩ 0 8 c (m' (((0 : Dev Cert.PairShareReferenceIdeal.nD).tc : Thread Cert.PairShareReferenceIdeal.nD Cert.PairShareReferenceIdeal.τ).loc Cert.PairShareReferenceIdeal.main_arg2))
      ∧ m ((c.tc : Thread Cert.PairShareIdeal.nD Cert.PairShareIdeal.τ).loc Cert.PairShareIdeal.main_arg3) = Layout.block ⟨2, ![1024, 704]⟩ ⟨2, ![8192, 704]⟩ 0 8 c (m' (((0 : Dev Cert.PairShareReferenceIdeal.nD).tc : Thread Cert.PairShareReferenceIdeal.nD Cert.PairShareReferenceIdeal.τ).loc Cert.PairShareReferenceIdeal.main_arg3))
      ∧ m ((c.tc : Thread Cert.PairShareIdeal.nD Cert.PairShareIdeal.τ).loc Cert.PairShareIdeal.main_arg4) = Layout.block ⟨2, ![704, 1024]⟩ ⟨2, ![5632, 1024]⟩ 0 8 c (m' (((0 : Dev Cert.PairShareReferenceIdeal.nD).tc : Thread Cert.PairShareReferenceIdeal.nD Cert.PairShareReferenceIdeal.τ).loc Cert.PairShareReferenceIdeal.main_arg4))
      ∧ m ((c.tc : Thread Cert.PairShareIdeal.nD Cert.PairShareIdeal.τ).loc Cert.PairShareIdeal.main_arg5) = Layout.block ⟨2, ![512, 2304]⟩ ⟨2, ![4096, 2304]⟩ 0 8 c (m' (((0 : Dev Cert.PairShareReferenceIdeal.nD).tc : Thread Cert.PairShareReferenceIdeal.nD Cert.PairShareReferenceIdeal.τ).loc Cert.PairShareReferenceIdeal.main_arg5))
      ∧ m ((c.tc : Thread Cert.PairShareIdeal.nD Cert.PairShareIdeal.τ).loc Cert.PairShareIdeal.main_arg6) = Layout.block ⟨2, ![128, 1024]⟩ ⟨2, ![1024, 1024]⟩ 0 8 c (m' (((0 : Dev Cert.PairShareReferenceIdeal.nD).tc : Thread Cert.PairShareReferenceIdeal.nD Cert.PairShareReferenceIdeal.τ).loc Cert.PairShareReferenceIdeal.main_arg6))) →
    ∃ (v0 : Buf (Elt Ideal) (((0 : Dev Cert.PairShareReferenceIdeal.nD).tc : Thread Cert.PairShareReferenceIdeal.nD Cert.PairShareReferenceIdeal.τ).loc Cert.PairShareReferenceIdeal.main_v0)) (v1 : Buf (Elt Ideal) (((0 : Dev Cert.PairShareReferenceIdeal.nD).tc : Thread Cert.PairShareReferenceIdeal.nD Cert.PairShareReferenceIdeal.τ).loc Cert.PairShareReferenceIdeal.main_v1)) (v2 : Buf (Elt Ideal) (((0 : Dev Cert.PairShareReferenceIdeal.nD).tc : Thread Cert.PairShareReferenceIdeal.nD Cert.PairShareReferenceIdeal.τ).loc Cert.PairShareReferenceIdeal.main_v2)) (v3 : Buf (Elt Ideal) (((0 : Dev Cert.PairShareReferenceIdeal.nD).tc : Thread Cert.PairShareReferenceIdeal.nD Cert.PairShareReferenceIdeal.τ).loc Cert.PairShareReferenceIdeal.main_v3)) (v4 : Buf (Elt Ideal) (((0 : Dev Cert.PairShareReferenceIdeal.nD).tc : Thread Cert.PairShareReferenceIdeal.nD Cert.PairShareReferenceIdeal.τ).loc Cert.PairShareReferenceIdeal.main_v4)) (v5 : Buf (Elt Ideal) (((0 : Dev Cert.PairShareReferenceIdeal.nD).tc : Thread Cert.PairShareReferenceIdeal.nD Cert.PairShareReferenceIdeal.τ).loc Cert.PairShareReferenceIdeal.main_v5)) (v6 : Buf (Elt Ideal) (((0 : Dev Cert.PairShareReferenceIdeal.nD).tc : Thread Cert.PairShareReferenceIdeal.nD Cert.PairShareReferenceIdeal.τ).loc Cert.PairShareReferenceIdeal.main_v6)),
      θ_run (Cert.PairShareIdeal.defs (F := Ideal)) (onTc (τ := Cert.PairShareIdeal.τ) (Cert.PairShareIdeal.main (F := Ideal))) ⟨m, fun _ => 0, g⟩ (fun r => ∀ c : Dev Cert.PairShareIdeal.nD,
          r.2.mem ((c.tc : Thread Cert.PairShareIdeal.nD Cert.PairShareIdeal.τ).loc Cert.PairShareIdeal.main_v1_0) = Layout.blockN ⟨3, ![2, 512, 768]⟩ ⟨3, ![8, 512, 768]⟩ (Layout.meshBlock [2, 2, 2] ![[0, 1], [], []] c) v0
          ∧ r.2.mem ((c.tc : Thread Cert.PairShareIdeal.nD Cert.PairShareIdeal.τ).loc Cert.PairShareIdeal.main_v1_1) = Layout.blockN ⟨3, ![2, 128, 1024]⟩ ⟨3, ![8, 128, 1024]⟩ (Layout.meshBlock [2, 2, 2] ![[0, 1], [], []] c) v1
          ∧ r.2.mem ((c.tc : Thread Cert.PairShareIdeal.nD Cert.PairShareIdeal.τ).loc Cert.PairShareIdeal.main_v1_2) = Layout.blockN ⟨3, ![2, 1024, 704]⟩ ⟨3, ![8, 1024, 704]⟩ (Layout.meshBlock [2, 2, 2] ![[0, 1], [], []] c) v2
          ∧ r.2.mem ((c.tc : Thread Cert.PairShareIdeal.nD Cert.PairShareIdeal.τ).loc Cert.PairShareIdeal.main_v1_3) = Layout.blockN ⟨3, ![2, 1024, 704]⟩ ⟨3, ![8, 1024, 704]⟩ (Layout.meshBlock [2, 2, 2] ![[0, 1], [], []] c) v3
          ∧ r.2.mem ((c.tc : Thread Cert.PairShareIdeal.nD Cert.PairShareIdeal.τ).loc Cert.PairShareIdeal.main_v1_4) = Layout.blockN ⟨3, ![2, 704, 1024]⟩ ⟨3, ![8, 704, 1024]⟩ (Layout.meshBlock [2, 2, 2] ![[0, 1], [], []] c) v4
          ∧ r.2.mem ((c.tc : Thread Cert.PairShareIdeal.nD Cert.PairShareIdeal.τ).loc Cert.PairShareIdeal.main_v1_5) = Layout.blockN ⟨3, ![2, 512, 2304]⟩ ⟨3, ![8, 512, 2304]⟩ (Layout.meshBlock [2, 2, 2] ![[0, 1], [], []] c) v5
          ∧ r.2.mem ((c.tc : Thread Cert.PairShareIdeal.nD Cert.PairShareIdeal.τ).loc Cert.PairShareIdeal.main_v1_6) = Layout.blockN ⟨3, ![2, 128, 1024]⟩ ⟨3, ![8, 128, 1024]⟩ (Layout.meshBlock [2, 2, 2] ![[0, 1], [], []] c) v6
          ∧ r.2.mem ((c.tc : Thread Cert.PairShareIdeal.nD Cert.PairShareIdeal.τ).loc Cert.PairShareIdeal.main_arg0) = m ((c.tc : Thread Cert.PairShareIdeal.nD Cert.PairShareIdeal.τ).loc Cert.PairShareIdeal.main_arg0)
          ∧ r.2.mem ((c.tc : Thread Cert.PairShareIdeal.nD Cert.PairShareIdeal.τ).loc Cert.PairShareIdeal.main_arg1) = m ((c.tc : Thread Cert.PairShareIdeal.nD Cert.PairShareIdeal.τ).loc Cert.PairShareIdeal.main_arg1)
          ∧ r.2.mem ((c.tc : Thread Cert.PairShareIdeal.nD Cert.PairShareIdeal.τ).loc Cert.PairShareIdeal.main_arg2) = m ((c.tc : Thread Cert.PairShareIdeal.nD Cert.PairShareIdeal.τ).loc Cert.PairShareIdeal.main_arg2)
          ∧ r.2.mem ((c.tc : Thread Cert.PairShareIdeal.nD Cert.PairShareIdeal.τ).loc Cert.PairShareIdeal.main_arg3) = m ((c.tc : Thread Cert.PairShareIdeal.nD Cert.PairShareIdeal.τ).loc Cert.PairShareIdeal.main_arg3)
          ∧ r.2.mem ((c.tc : Thread Cert.PairShareIdeal.nD Cert.PairShareIdeal.τ).loc Cert.PairShareIdeal.main_arg4) = m ((c.tc : Thread Cert.PairShareIdeal.nD Cert.PairShareIdeal.τ).loc Cert.PairShareIdeal.main_arg4)
          ∧ r.2.mem ((c.tc : Thread Cert.PairShareIdeal.nD Cert.PairShareIdeal.τ).loc Cert.PairShareIdeal.main_arg5) = m ((c.tc : Thread Cert.PairShareIdeal.nD Cert.PairShareIdeal.τ).loc Cert.PairShareIdeal.main_arg5)
          ∧ r.2.mem ((c.tc : Thread Cert.PairShareIdeal.nD Cert.PairShareIdeal.τ).loc Cert.PairShareIdeal.main_arg6) = m ((c.tc : Thread Cert.PairShareIdeal.nD Cert.PairShareIdeal.τ).loc Cert.PairShareIdeal.main_arg6))
      ∧ θ_run (Cert.PairShareReferenceIdeal.defs (F := Ideal)) (onTc (τ := Cert.PairShareReferenceIdeal.τ) (Cert.PairShareReferenceIdeal.main (F := Ideal))) ⟨m', fun _ => 0, g'⟩ (fun r =>
          r.2.mem (((0 : Dev Cert.PairShareReferenceIdeal.nD).tc : Thread Cert.PairShareReferenceIdeal.nD Cert.PairShareReferenceIdeal.τ).loc Cert.PairShareReferenceIdeal.main_v0) = v0
          ∧ r.2.mem (((0 : Dev Cert.PairShareReferenceIdeal.nD).tc : Thread Cert.PairShareReferenceIdeal.nD Cert.PairShareReferenceIdeal.τ).loc Cert.PairShareReferenceIdeal.main_v1) = v1
          ∧ r.2.mem (((0 : Dev Cert.PairShareReferenceIdeal.nD).tc : Thread Cert.PairShareReferenceIdeal.nD Cert.PairShareReferenceIdeal.τ).loc Cert.PairShareReferenceIdeal.main_v2) = v2
          ∧ r.2.mem (((0 : Dev Cert.PairShareReferenceIdeal.nD).tc : Thread Cert.PairShareReferenceIdeal.nD Cert.PairShareReferenceIdeal.τ).loc Cert.PairShareReferenceIdeal.main_v3) = v3
          ∧ r.2.mem (((0 : Dev Cert.PairShareReferenceIdeal.nD).tc : Thread Cert.PairShareReferenceIdeal.nD Cert.PairShareReferenceIdeal.τ).loc Cert.PairShareReferenceIdeal.main_v4) = v4
          ∧ r.2.mem (((0 : Dev Cert.PairShareReferenceIdeal.nD).tc : Thread Cert.PairShareReferenceIdeal.nD Cert.PairShareReferenceIdeal.τ).loc Cert.PairShareReferenceIdeal.main_v5) = v5
          ∧ r.2.mem (((0 : Dev Cert.PairShareReferenceIdeal.nD).tc : Thread Cert.PairShareReferenceIdeal.nD Cert.PairShareReferenceIdeal.τ).loc Cert.PairShareReferenceIdeal.main_v6) = v6
          ∧ r.2.mem (((0 : Dev Cert.PairShareReferenceIdeal.nD).tc : Thread Cert.PairShareReferenceIdeal.nD Cert.PairShareReferenceIdeal.τ).loc Cert.PairShareReferenceIdeal.main_arg0) = m' (((0 : Dev Cert.PairShareReferenceIdeal.nD).tc : Thread Cert.PairShareReferenceIdeal.nD Cert.PairShareReferenceIdeal.τ).loc Cert.PairShareReferenceIdeal.main_arg0)
          ∧ r.2.mem (((0 : Dev Cert.PairShareReferenceIdeal.nD).tc : Thread Cert.PairShareReferenceIdeal.nD Cert.PairShareReferenceIdeal.τ).loc Cert.PairShareReferenceIdeal.main_arg1) = m' (((0 : Dev Cert.PairShareReferenceIdeal.nD).tc : Thread Cert.PairShareReferenceIdeal.nD Cert.PairShareReferenceIdeal.τ).loc Cert.PairShareReferenceIdeal.main_arg1)
          ∧ r.2.mem (((0 : Dev Cert.PairShareReferenceIdeal.nD).tc : Thread Cert.PairShareReferenceIdeal.nD Cert.PairShareReferenceIdeal.τ).loc Cert.PairShareReferenceIdeal.main_arg2) = m' (((0 : Dev Cert.PairShareReferenceIdeal.nD).tc : Thread Cert.PairShareReferenceIdeal.nD Cert.PairShareReferenceIdeal.τ).loc Cert.PairShareReferenceIdeal.main_arg2)
          ∧ r.2.mem (((0 : Dev Cert.PairShareReferenceIdeal.nD).tc : Thread Cert.PairShareReferenceIdeal.nD Cert.PairShareReferenceIdeal.τ).loc Cert.PairShareReferenceIdeal.main_arg3) = m' (((0 : Dev Cert.PairShareReferenceIdeal.nD).tc : Thread Cert.PairShareReferenceIdeal.nD Cert.PairShareReferenceIdeal.τ).loc Cert.PairShareReferenceIdeal.main_arg3)
          ∧ r.2.mem (((0 : Dev Cert.PairShareReferenceIdeal.nD).tc : Thread Cert.PairShareReferenceIdeal.nD Cert.PairShareReferenceIdeal.τ).loc Cert.PairShareReferenceIdeal.main_arg4) = m' (((0 : Dev Cert.PairShareReferenceIdeal.nD).tc : Thread Cert.PairShareReferenceIdeal.nD Cert.PairShareReferenceIdeal.τ).loc Cert.PairShareReferenceIdeal.main_arg4)
          ∧ r.2.mem (((0 : Dev Cert.PairShareReferenceIdeal.nD).tc : Thread Cert.PairShareReferenceIdeal.nD Cert.PairShareReferenceIdeal.τ).loc Cert.PairShareReferenceIdeal.main_arg5) = m' (((0 : Dev Cert.PairShareReferenceIdeal.nD).tc : Thread Cert.PairShareReferenceIdeal.nD Cert.PairShareReferenceIdeal.τ).loc Cert.PairShareReferenceIdeal.main_arg5)
          ∧ r.2.mem (((0 : Dev Cert.PairShareReferenceIdeal.nD).tc : Thread Cert.PairShareReferenceIdeal.nD Cert.PairShareReferenceIdeal.τ).loc Cert.PairShareReferenceIdeal.main_arg6) = m' (((0 : Dev Cert.PairShareReferenceIdeal.nD).tc : Thread Cert.PairShareReferenceIdeal.nD Cert.PairShareReferenceIdeal.τ).loc Cert.PairShareReferenceIdeal.main_arg6))

def bitexact_PairShare_PairShareReference [hPairShare : Cert.PairShare.Facts] [hPairShareReference : Cert.PairShareReference.Facts] : Prop :=
  ∀ (m : (ℓ : Loc Cert.PairShare.nD Cert.PairShare.τ Cert.PairShare.sig) → Buf (Elt Bits) ℓ) (g : Dev Cert.PairShare.nD → PrngReg)
    (m' : (ℓ : Loc Cert.PairShareReference.nD Cert.PairShareReference.τ Cert.PairShareReference.sig) → Buf (Elt Bits) ℓ) (g' : Dev Cert.PairShareReference.nD → PrngReg), Pre_PairShare m →
    (∀ c : Dev Cert.PairShare.nD,
      m ((c.tc : Thread Cert.PairShare.nD Cert.PairShare.τ).loc Cert.PairShare.main_arg0) = Layout.block ⟨2, ![512, 768]⟩ ⟨2, ![4096, 768]⟩ 0 8 c (m' (((0 : Dev Cert.PairShareReference.nD).tc : Thread Cert.PairShareReference.nD Cert.PairShareReference.τ).loc Cert.PairShareReference.main_arg0))
      ∧ m ((c.tc : Thread Cert.PairShare.nD Cert.PairShare.τ).loc Cert.PairShare.main_arg1) = Layout.block ⟨2, ![128, 1024]⟩ ⟨2, ![1024, 1024]⟩ 0 8 c (m' (((0 : Dev Cert.PairShareReference.nD).tc : Thread Cert.PairShareReference.nD Cert.PairShareReference.τ).loc Cert.PairShareReference.main_arg1))
      ∧ m ((c.tc : Thread Cert.PairShare.nD Cert.PairShare.τ).loc Cert.PairShare.main_arg2) = Layout.block ⟨2, ![1024, 704]⟩ ⟨2, ![8192, 704]⟩ 0 8 c (m' (((0 : Dev Cert.PairShareReference.nD).tc : Thread Cert.PairShareReference.nD Cert.PairShareReference.τ).loc Cert.PairShareReference.main_arg2))
      ∧ m ((c.tc : Thread Cert.PairShare.nD Cert.PairShare.τ).loc Cert.PairShare.main_arg3) = Layout.block ⟨2, ![1024, 704]⟩ ⟨2, ![8192, 704]⟩ 0 8 c (m' (((0 : Dev Cert.PairShareReference.nD).tc : Thread Cert.PairShareReference.nD Cert.PairShareReference.τ).loc Cert.PairShareReference.main_arg3))
      ∧ m ((c.tc : Thread Cert.PairShare.nD Cert.PairShare.τ).loc Cert.PairShare.main_arg4) = Layout.block ⟨2, ![704, 1024]⟩ ⟨2, ![5632, 1024]⟩ 0 8 c (m' (((0 : Dev Cert.PairShareReference.nD).tc : Thread Cert.PairShareReference.nD Cert.PairShareReference.τ).loc Cert.PairShareReference.main_arg4))
      ∧ m ((c.tc : Thread Cert.PairShare.nD Cert.PairShare.τ).loc Cert.PairShare.main_arg5) = Layout.block ⟨2, ![512, 2304]⟩ ⟨2, ![4096, 2304]⟩ 0 8 c (m' (((0 : Dev Cert.PairShareReference.nD).tc : Thread Cert.PairShareReference.nD Cert.PairShareReference.τ).loc Cert.PairShareReference.main_arg5))
      ∧ m ((c.tc : Thread Cert.PairShare.nD Cert.PairShare.τ).loc Cert.PairShare.main_arg6) = Layout.block ⟨2, ![128, 1024]⟩ ⟨2, ![1024, 1024]⟩ 0 8 c (m' (((0 : Dev Cert.PairShareReference.nD).tc : Thread Cert.PairShareReference.nD Cert.PairShareReference.τ).loc Cert.PairShareReference.main_arg6))) →
    ∃ (v0 : Buf (Elt Bits) (((0 : Dev Cert.PairShareReference.nD).tc : Thread Cert.PairShareReference.nD Cert.PairShareReference.τ).loc Cert.PairShareReference.main_v0)) (v1 : Buf (Elt Bits) (((0 : Dev Cert.PairShareReference.nD).tc : Thread Cert.PairShareReference.nD Cert.PairShareReference.τ).loc Cert.PairShareReference.main_v1)) (v2 : Buf (Elt Bits) (((0 : Dev Cert.PairShareReference.nD).tc : Thread Cert.PairShareReference.nD Cert.PairShareReference.τ).loc Cert.PairShareReference.main_v2)) (v3 : Buf (Elt Bits) (((0 : Dev Cert.PairShareReference.nD).tc : Thread Cert.PairShareReference.nD Cert.PairShareReference.τ).loc Cert.PairShareReference.main_v3)) (v4 : Buf (Elt Bits) (((0 : Dev Cert.PairShareReference.nD).tc : Thread Cert.PairShareReference.nD Cert.PairShareReference.τ).loc Cert.PairShareReference.main_v4)) (v5 : Buf (Elt Bits) (((0 : Dev Cert.PairShareReference.nD).tc : Thread Cert.PairShareReference.nD Cert.PairShareReference.τ).loc Cert.PairShareReference.main_v5)) (v6 : Buf (Elt Bits) (((0 : Dev Cert.PairShareReference.nD).tc : Thread Cert.PairShareReference.nD Cert.PairShareReference.τ).loc Cert.PairShareReference.main_v6)),
      θ_run (Cert.PairShare.defs (F := Bits)) (onTc (τ := Cert.PairShare.τ) (Cert.PairShare.main (F := Bits))) ⟨m, fun _ => 0, g⟩ (fun r => ∀ c : Dev Cert.PairShare.nD,
          r.2.mem ((c.tc : Thread Cert.PairShare.nD Cert.PairShare.τ).loc Cert.PairShare.main_v1_0) = Layout.blockN ⟨3, ![2, 512, 768]⟩ ⟨3, ![8, 512, 768]⟩ (Layout.meshBlock [2, 2, 2] ![[0, 1], [], []] c) v0
          ∧ r.2.mem ((c.tc : Thread Cert.PairShare.nD Cert.PairShare.τ).loc Cert.PairShare.main_v1_1) = Layout.blockN ⟨3, ![2, 128, 1024]⟩ ⟨3, ![8, 128, 1024]⟩ (Layout.meshBlock [2, 2, 2] ![[0, 1], [], []] c) v1
          ∧ r.2.mem ((c.tc : Thread Cert.PairShare.nD Cert.PairShare.τ).loc Cert.PairShare.main_v1_2) = Layout.blockN ⟨3, ![2, 1024, 704]⟩ ⟨3, ![8, 1024, 704]⟩ (Layout.meshBlock [2, 2, 2] ![[0, 1], [], []] c) v2
          ∧ r.2.mem ((c.tc : Thread Cert.PairShare.nD Cert.PairShare.τ).loc Cert.PairShare.main_v1_3) = Layout.blockN ⟨3, ![2, 1024, 704]⟩ ⟨3, ![8, 1024, 704]⟩ (Layout.meshBlock [2, 2, 2] ![[0, 1], [], []] c) v3
          ∧ r.2.mem ((c.tc : Thread Cert.PairShare.nD Cert.PairShare.τ).loc Cert.PairShare.main_v1_4) = Layout.blockN ⟨3, ![2, 704, 1024]⟩ ⟨3, ![8, 704, 1024]⟩ (Layout.meshBlock [2, 2, 2] ![[0, 1], [], []] c) v4
          ∧ r.2.mem ((c.tc : Thread Cert.PairShare.nD Cert.PairShare.τ).loc Cert.PairShare.main_v1_5) = Layout.blockN ⟨3, ![2, 512, 2304]⟩ ⟨3, ![8, 512, 2304]⟩ (Layout.meshBlock [2, 2, 2] ![[0, 1], [], []] c) v5
          ∧ r.2.mem ((c.tc : Thread Cert.PairShare.nD Cert.PairShare.τ).loc Cert.PairShare.main_v1_6) = Layout.blockN ⟨3, ![2, 128, 1024]⟩ ⟨3, ![8, 128, 1024]⟩ (Layout.meshBlock [2, 2, 2] ![[0, 1], [], []] c) v6
          ∧ r.2.mem ((c.tc : Thread Cert.PairShare.nD Cert.PairShare.τ).loc Cert.PairShare.main_arg0) = m ((c.tc : Thread Cert.PairShare.nD Cert.PairShare.τ).loc Cert.PairShare.main_arg0)
          ∧ r.2.mem ((c.tc : Thread Cert.PairShare.nD Cert.PairShare.τ).loc Cert.PairShare.main_arg1) = m ((c.tc : Thread Cert.PairShare.nD Cert.PairShare.τ).loc Cert.PairShare.main_arg1)
          ∧ r.2.mem ((c.tc : Thread Cert.PairShare.nD Cert.PairShare.τ).loc Cert.PairShare.main_arg2) = m ((c.tc : Thread Cert.PairShare.nD Cert.PairShare.τ).loc Cert.PairShare.main_arg2)
          ∧ r.2.mem ((c.tc : Thread Cert.PairShare.nD Cert.PairShare.τ).loc Cert.PairShare.main_arg3) = m ((c.tc : Thread Cert.PairShare.nD Cert.PairShare.τ).loc Cert.PairShare.main_arg3)
          ∧ r.2.mem ((c.tc : Thread Cert.PairShare.nD Cert.PairShare.τ).loc Cert.PairShare.main_arg4) = m ((c.tc : Thread Cert.PairShare.nD Cert.PairShare.τ).loc Cert.PairShare.main_arg4)
          ∧ r.2.mem ((c.tc : Thread Cert.PairShare.nD Cert.PairShare.τ).loc Cert.PairShare.main_arg5) = m ((c.tc : Thread Cert.PairShare.nD Cert.PairShare.τ).loc Cert.PairShare.main_arg5)
          ∧ r.2.mem ((c.tc : Thread Cert.PairShare.nD Cert.PairShare.τ).loc Cert.PairShare.main_arg6) = m ((c.tc : Thread Cert.PairShare.nD Cert.PairShare.τ).loc Cert.PairShare.main_arg6))
      ∧ θ_run (Cert.PairShareReference.defs (F := Bits)) (onTc (τ := Cert.PairShareReference.τ) (Cert.PairShareReference.main (F := Bits))) ⟨m', fun _ => 0, g'⟩ (fun r =>
          r.2.mem (((0 : Dev Cert.PairShareReference.nD).tc : Thread Cert.PairShareReference.nD Cert.PairShareReference.τ).loc Cert.PairShareReference.main_v0) = v0
          ∧ r.2.mem (((0 : Dev Cert.PairShareReference.nD).tc : Thread Cert.PairShareReference.nD Cert.PairShareReference.τ).loc Cert.PairShareReference.main_v1) = v1
          ∧ r.2.mem (((0 : Dev Cert.PairShareReference.nD).tc : Thread Cert.PairShareReference.nD Cert.PairShareReference.τ).loc Cert.PairShareReference.main_v2) = v2
          ∧ r.2.mem (((0 : Dev Cert.PairShareReference.nD).tc : Thread Cert.PairShareReference.nD Cert.PairShareReference.τ).loc Cert.PairShareReference.main_v3) = v3
          ∧ r.2.mem (((0 : Dev Cert.PairShareReference.nD).tc : Thread Cert.PairShareReference.nD Cert.PairShareReference.τ).loc Cert.PairShareReference.main_v4) = v4
          ∧ r.2.mem (((0 : Dev Cert.PairShareReference.nD).tc : Thread Cert.PairShareReference.nD Cert.PairShareReference.τ).loc Cert.PairShareReference.main_v5) = v5
          ∧ r.2.mem (((0 : Dev Cert.PairShareReference.nD).tc : Thread Cert.PairShareReference.nD Cert.PairShareReference.τ).loc Cert.PairShareReference.main_v6) = v6
          ∧ r.2.mem (((0 : Dev Cert.PairShareReference.nD).tc : Thread Cert.PairShareReference.nD Cert.PairShareReference.τ).loc Cert.PairShareReference.main_arg0) = m' (((0 : Dev Cert.PairShareReference.nD).tc : Thread Cert.PairShareReference.nD Cert.PairShareReference.τ).loc Cert.PairShareReference.main_arg0)
          ∧ r.2.mem (((0 : Dev Cert.PairShareReference.nD).tc : Thread Cert.PairShareReference.nD Cert.PairShareReference.τ).loc Cert.PairShareReference.main_arg1) = m' (((0 : Dev Cert.PairShareReference.nD).tc : Thread Cert.PairShareReference.nD Cert.PairShareReference.τ).loc Cert.PairShareReference.main_arg1)
          ∧ r.2.mem (((0 : Dev Cert.PairShareReference.nD).tc : Thread Cert.PairShareReference.nD Cert.PairShareReference.τ).loc Cert.PairShareReference.main_arg2) = m' (((0 : Dev Cert.PairShareReference.nD).tc : Thread Cert.PairShareReference.nD Cert.PairShareReference.τ).loc Cert.PairShareReference.main_arg2)
          ∧ r.2.mem (((0 : Dev Cert.PairShareReference.nD).tc : Thread Cert.PairShareReference.nD Cert.PairShareReference.τ).loc Cert.PairShareReference.main_arg3) = m' (((0 : Dev Cert.PairShareReference.nD).tc : Thread Cert.PairShareReference.nD Cert.PairShareReference.τ).loc Cert.PairShareReference.main_arg3)
          ∧ r.2.mem (((0 : Dev Cert.PairShareReference.nD).tc : Thread Cert.PairShareReference.nD Cert.PairShareReference.τ).loc Cert.PairShareReference.main_arg4) = m' (((0 : Dev Cert.PairShareReference.nD).tc : Thread Cert.PairShareReference.nD Cert.PairShareReference.τ).loc Cert.PairShareReference.main_arg4)
          ∧ r.2.mem (((0 : Dev Cert.PairShareReference.nD).tc : Thread Cert.PairShareReference.nD Cert.PairShareReference.τ).loc Cert.PairShareReference.main_arg5) = m' (((0 : Dev Cert.PairShareReference.nD).tc : Thread Cert.PairShareReference.nD Cert.PairShareReference.τ).loc Cert.PairShareReference.main_arg5)
          ∧ r.2.mem (((0 : Dev Cert.PairShareReference.nD).tc : Thread Cert.PairShareReference.nD Cert.PairShareReference.τ).loc Cert.PairShareReference.main_arg6) = m' (((0 : Dev Cert.PairShareReference.nD).tc : Thread Cert.PairShareReference.nD Cert.PairShareReference.τ).loc Cert.PairShareReference.main_arg6))

def preserves_PairSumNaQkv_PairSumNaQkvIdeal : Prop :=
  True

def algebraic_PairSumNaQkvIdeal_PairSumNaQkvReferenceIdeal [hPairSumNaQkvIdeal : Cert.PairSumNaQkvIdeal.Facts] [hPairSumNaQkvReferenceIdeal : Cert.PairSumNaQkvReferenceIdeal.Facts] : Prop :=
  ∀ (m : (ℓ : Loc Cert.PairSumNaQkvIdeal.nD Cert.PairSumNaQkvIdeal.τ Cert.PairSumNaQkvIdeal.sig) → Buf (Elt Ideal) ℓ) (g : Dev Cert.PairSumNaQkvIdeal.nD → PrngReg)
    (m' : (ℓ : Loc Cert.PairSumNaQkvReferenceIdeal.nD Cert.PairSumNaQkvReferenceIdeal.τ Cert.PairSumNaQkvReferenceIdeal.sig) → Buf (Elt Ideal) ℓ) (g' : Dev Cert.PairSumNaQkvReferenceIdeal.nD → PrngReg), Pre_PairSumNaQkvIdeal m →
    (∀ c : Dev Cert.PairSumNaQkvIdeal.nD,
      m' ((c.tc : Thread Cert.PairSumNaQkvReferenceIdeal.nD Cert.PairSumNaQkvReferenceIdeal.τ).loc Cert.PairSumNaQkvReferenceIdeal.main_arg0) = m ((c.tc : Thread Cert.PairSumNaQkvIdeal.nD Cert.PairSumNaQkvIdeal.τ).loc Cert.PairSumNaQkvIdeal.main_arg0)
      ∧ m' ((c.tc : Thread Cert.PairSumNaQkvReferenceIdeal.nD Cert.PairSumNaQkvReferenceIdeal.τ).loc Cert.PairSumNaQkvReferenceIdeal.main_arg1) = m ((c.tc : Thread Cert.PairSumNaQkvIdeal.nD Cert.PairSumNaQkvIdeal.τ).loc Cert.PairSumNaQkvIdeal.main_arg1)) →
    ∃ (v0 : (c : Dev Cert.PairSumNaQkvIdeal.nD) → Buf (Elt Ideal) ((c.tc : Thread Cert.PairSumNaQkvIdeal.nD Cert.PairSumNaQkvIdeal.τ).loc Cert.PairSumNaQkvIdeal.main_v0)),
      θ_run (Cert.PairSumNaQkvIdeal.defs (F := Ideal)) (onTc (τ := Cert.PairSumNaQkvIdeal.τ) (Cert.PairSumNaQkvIdeal.main (F := Ideal))) ⟨m, fun _ => 0, g⟩ (fun r => ∀ c : Dev Cert.PairSumNaQkvIdeal.nD,
          r.2.mem ((c.tc : Thread Cert.PairSumNaQkvIdeal.nD Cert.PairSumNaQkvIdeal.τ).loc Cert.PairSumNaQkvIdeal.main_v0) = v0 c
          ∧ r.2.mem ((c.tc : Thread Cert.PairSumNaQkvIdeal.nD Cert.PairSumNaQkvIdeal.τ).loc Cert.PairSumNaQkvIdeal.main_arg0) = m ((c.tc : Thread Cert.PairSumNaQkvIdeal.nD Cert.PairSumNaQkvIdeal.τ).loc Cert.PairSumNaQkvIdeal.main_arg0)
          ∧ r.2.mem ((c.tc : Thread Cert.PairSumNaQkvIdeal.nD Cert.PairSumNaQkvIdeal.τ).loc Cert.PairSumNaQkvIdeal.main_arg1) = m ((c.tc : Thread Cert.PairSumNaQkvIdeal.nD Cert.PairSumNaQkvIdeal.τ).loc Cert.PairSumNaQkvIdeal.main_arg1))
      ∧ θ_run (Cert.PairSumNaQkvReferenceIdeal.defs (F := Ideal)) (onTc (τ := Cert.PairSumNaQkvReferenceIdeal.τ) (Cert.PairSumNaQkvReferenceIdeal.main (F := Ideal))) ⟨m', fun _ => 0, g'⟩ (fun r => ∀ c : Dev Cert.PairSumNaQkvReferenceIdeal.nD,
          r.2.mem ((c.tc : Thread Cert.PairSumNaQkvReferenceIdeal.nD Cert.PairSumNaQkvReferenceIdeal.τ).loc Cert.PairSumNaQkvReferenceIdeal.main_v3) = v0 c
          ∧ r.2.mem ((c.tc : Thread Cert.PairSumNaQkvReferenceIdeal.nD Cert.PairSumNaQkvReferenceIdeal.τ).loc Cert.PairSumNaQkvReferenceIdeal.main_arg0) = m' ((c.tc : Thread Cert.PairSumNaQkvReferenceIdeal.nD Cert.PairSumNaQkvReferenceIdeal.τ).loc Cert.PairSumNaQkvReferenceIdeal.main_arg0)
          ∧ r.2.mem ((c.tc : Thread Cert.PairSumNaQkvReferenceIdeal.nD Cert.PairSumNaQkvReferenceIdeal.τ).loc Cert.PairSumNaQkvReferenceIdeal.main_arg1) = m' ((c.tc : Thread Cert.PairSumNaQkvReferenceIdeal.nD Cert.PairSumNaQkvReferenceIdeal.τ).loc Cert.PairSumNaQkvReferenceIdeal.main_arg1))

def bitexact_PairSumNaQkv_PairSumNaQkvReference [hPairSumNaQkv : Cert.PairSumNaQkv.Facts] [hPairSumNaQkvReference : Cert.PairSumNaQkvReference.Facts] : Prop :=
  ∀ (m : (ℓ : Loc Cert.PairSumNaQkv.nD Cert.PairSumNaQkv.τ Cert.PairSumNaQkv.sig) → Buf (Elt Bits) ℓ) (g : Dev Cert.PairSumNaQkv.nD → PrngReg)
    (m' : (ℓ : Loc Cert.PairSumNaQkvReference.nD Cert.PairSumNaQkvReference.τ Cert.PairSumNaQkvReference.sig) → Buf (Elt Bits) ℓ) (g' : Dev Cert.PairSumNaQkvReference.nD → PrngReg), Pre_PairSumNaQkv m →
    (∀ c : Dev Cert.PairSumNaQkv.nD,
      m' ((c.tc : Thread Cert.PairSumNaQkvReference.nD Cert.PairSumNaQkvReference.τ).loc Cert.PairSumNaQkvReference.main_arg0) = m ((c.tc : Thread Cert.PairSumNaQkv.nD Cert.PairSumNaQkv.τ).loc Cert.PairSumNaQkv.main_arg0)
      ∧ m' ((c.tc : Thread Cert.PairSumNaQkvReference.nD Cert.PairSumNaQkvReference.τ).loc Cert.PairSumNaQkvReference.main_arg1) = m ((c.tc : Thread Cert.PairSumNaQkv.nD Cert.PairSumNaQkv.τ).loc Cert.PairSumNaQkv.main_arg1)) →
    ∃ (v0 : (c : Dev Cert.PairSumNaQkv.nD) → Buf (Elt Bits) ((c.tc : Thread Cert.PairSumNaQkv.nD Cert.PairSumNaQkv.τ).loc Cert.PairSumNaQkv.main_v0)),
      θ_run (Cert.PairSumNaQkv.defs (F := Bits)) (onTc (τ := Cert.PairSumNaQkv.τ) (Cert.PairSumNaQkv.main (F := Bits))) ⟨m, fun _ => 0, g⟩ (fun r => ∀ c : Dev Cert.PairSumNaQkv.nD,
          r.2.mem ((c.tc : Thread Cert.PairSumNaQkv.nD Cert.PairSumNaQkv.τ).loc Cert.PairSumNaQkv.main_v0) = v0 c
          ∧ r.2.mem ((c.tc : Thread Cert.PairSumNaQkv.nD Cert.PairSumNaQkv.τ).loc Cert.PairSumNaQkv.main_arg0) = m ((c.tc : Thread Cert.PairSumNaQkv.nD Cert.PairSumNaQkv.τ).loc Cert.PairSumNaQkv.main_arg0)
          ∧ r.2.mem ((c.tc : Thread Cert.PairSumNaQkv.nD Cert.PairSumNaQkv.τ).loc Cert.PairSumNaQkv.main_arg1) = m ((c.tc : Thread Cert.PairSumNaQkv.nD Cert.PairSumNaQkv.τ).loc Cert.PairSumNaQkv.main_arg1))
      ∧ θ_run (Cert.PairSumNaQkvReference.defs (F := Bits)) (onTc (τ := Cert.PairSumNaQkvReference.τ) (Cert.PairSumNaQkvReference.main (F := Bits))) ⟨m', fun _ => 0, g'⟩ (fun r => ∀ c : Dev Cert.PairSumNaQkvReference.nD,
          r.2.mem ((c.tc : Thread Cert.PairSumNaQkvReference.nD Cert.PairSumNaQkvReference.τ).loc Cert.PairSumNaQkvReference.main_v3) = v0 c
          ∧ r.2.mem ((c.tc : Thread Cert.PairSumNaQkvReference.nD Cert.PairSumNaQkvReference.τ).loc Cert.PairSumNaQkvReference.main_arg0) = m' ((c.tc : Thread Cert.PairSumNaQkvReference.nD Cert.PairSumNaQkvReference.τ).loc Cert.PairSumNaQkvReference.main_arg0)
          ∧ r.2.mem ((c.tc : Thread Cert.PairSumNaQkvReference.nD Cert.PairSumNaQkvReference.τ).loc Cert.PairSumNaQkvReference.main_arg1) = m' ((c.tc : Thread Cert.PairSumNaQkvReference.nD Cert.PairSumNaQkvReference.τ).loc Cert.PairSumNaQkvReference.main_arg1))

def preserves_PairSumOut_PairSumOutIdeal : Prop :=
  True

def algebraic_PairSumOutIdeal_PairSumOutReferenceIdeal [hPairSumOutIdeal : Cert.PairSumOutIdeal.Facts] [hPairSumOutReferenceIdeal : Cert.PairSumOutReferenceIdeal.Facts] : Prop :=
  ∀ (m : (ℓ : Loc Cert.PairSumOutIdeal.nD Cert.PairSumOutIdeal.τ Cert.PairSumOutIdeal.sig) → Buf (Elt Ideal) ℓ) (g : Dev Cert.PairSumOutIdeal.nD → PrngReg)
    (m' : (ℓ : Loc Cert.PairSumOutReferenceIdeal.nD Cert.PairSumOutReferenceIdeal.τ Cert.PairSumOutReferenceIdeal.sig) → Buf (Elt Ideal) ℓ) (g' : Dev Cert.PairSumOutReferenceIdeal.nD → PrngReg), Pre_PairSumOutIdeal m →
    (∀ c : Dev Cert.PairSumOutIdeal.nD,
      m' ((c.tc : Thread Cert.PairSumOutReferenceIdeal.nD Cert.PairSumOutReferenceIdeal.τ).loc Cert.PairSumOutReferenceIdeal.main_arg0) = m ((c.tc : Thread Cert.PairSumOutIdeal.nD Cert.PairSumOutIdeal.τ).loc Cert.PairSumOutIdeal.main_arg0)
      ∧ m' ((c.tc : Thread Cert.PairSumOutReferenceIdeal.nD Cert.PairSumOutReferenceIdeal.τ).loc Cert.PairSumOutReferenceIdeal.main_arg1) = m ((c.tc : Thread Cert.PairSumOutIdeal.nD Cert.PairSumOutIdeal.τ).loc Cert.PairSumOutIdeal.main_arg1)) →
    ∃ (v0 : (c : Dev Cert.PairSumOutIdeal.nD) → Buf (Elt Ideal) ((c.tc : Thread Cert.PairSumOutIdeal.nD Cert.PairSumOutIdeal.τ).loc Cert.PairSumOutIdeal.main_v0)),
      θ_run (Cert.PairSumOutIdeal.defs (F := Ideal)) (onTc (τ := Cert.PairSumOutIdeal.τ) (Cert.PairSumOutIdeal.main (F := Ideal))) ⟨m, fun _ => 0, g⟩ (fun r => ∀ c : Dev Cert.PairSumOutIdeal.nD,
          r.2.mem ((c.tc : Thread Cert.PairSumOutIdeal.nD Cert.PairSumOutIdeal.τ).loc Cert.PairSumOutIdeal.main_v0) = v0 c
          ∧ r.2.mem ((c.tc : Thread Cert.PairSumOutIdeal.nD Cert.PairSumOutIdeal.τ).loc Cert.PairSumOutIdeal.main_arg0) = m ((c.tc : Thread Cert.PairSumOutIdeal.nD Cert.PairSumOutIdeal.τ).loc Cert.PairSumOutIdeal.main_arg0)
          ∧ r.2.mem ((c.tc : Thread Cert.PairSumOutIdeal.nD Cert.PairSumOutIdeal.τ).loc Cert.PairSumOutIdeal.main_arg1) = m ((c.tc : Thread Cert.PairSumOutIdeal.nD Cert.PairSumOutIdeal.τ).loc Cert.PairSumOutIdeal.main_arg1))
      ∧ θ_run (Cert.PairSumOutReferenceIdeal.defs (F := Ideal)) (onTc (τ := Cert.PairSumOutReferenceIdeal.τ) (Cert.PairSumOutReferenceIdeal.main (F := Ideal))) ⟨m', fun _ => 0, g'⟩ (fun r => ∀ c : Dev Cert.PairSumOutReferenceIdeal.nD,
          r.2.mem ((c.tc : Thread Cert.PairSumOutReferenceIdeal.nD Cert.PairSumOutReferenceIdeal.τ).loc Cert.PairSumOutReferenceIdeal.main_v3) = v0 c
          ∧ r.2.mem ((c.tc : Thread Cert.PairSumOutReferenceIdeal.nD Cert.PairSumOutReferenceIdeal.τ).loc Cert.PairSumOutReferenceIdeal.main_arg0) = m' ((c.tc : Thread Cert.PairSumOutReferenceIdeal.nD Cert.PairSumOutReferenceIdeal.τ).loc Cert.PairSumOutReferenceIdeal.main_arg0)
          ∧ r.2.mem ((c.tc : Thread Cert.PairSumOutReferenceIdeal.nD Cert.PairSumOutReferenceIdeal.τ).loc Cert.PairSumOutReferenceIdeal.main_arg1) = m' ((c.tc : Thread Cert.PairSumOutReferenceIdeal.nD Cert.PairSumOutReferenceIdeal.τ).loc Cert.PairSumOutReferenceIdeal.main_arg1))

def bitexact_PairSumOut_PairSumOutReference [hPairSumOut : Cert.PairSumOut.Facts] [hPairSumOutReference : Cert.PairSumOutReference.Facts] : Prop :=
  ∀ (m : (ℓ : Loc Cert.PairSumOut.nD Cert.PairSumOut.τ Cert.PairSumOut.sig) → Buf (Elt Bits) ℓ) (g : Dev Cert.PairSumOut.nD → PrngReg)
    (m' : (ℓ : Loc Cert.PairSumOutReference.nD Cert.PairSumOutReference.τ Cert.PairSumOutReference.sig) → Buf (Elt Bits) ℓ) (g' : Dev Cert.PairSumOutReference.nD → PrngReg), Pre_PairSumOut m →
    (∀ c : Dev Cert.PairSumOut.nD,
      m' ((c.tc : Thread Cert.PairSumOutReference.nD Cert.PairSumOutReference.τ).loc Cert.PairSumOutReference.main_arg0) = m ((c.tc : Thread Cert.PairSumOut.nD Cert.PairSumOut.τ).loc Cert.PairSumOut.main_arg0)
      ∧ m' ((c.tc : Thread Cert.PairSumOutReference.nD Cert.PairSumOutReference.τ).loc Cert.PairSumOutReference.main_arg1) = m ((c.tc : Thread Cert.PairSumOut.nD Cert.PairSumOut.τ).loc Cert.PairSumOut.main_arg1)) →
    ∃ (v0 : (c : Dev Cert.PairSumOut.nD) → Buf (Elt Bits) ((c.tc : Thread Cert.PairSumOut.nD Cert.PairSumOut.τ).loc Cert.PairSumOut.main_v0)),
      θ_run (Cert.PairSumOut.defs (F := Bits)) (onTc (τ := Cert.PairSumOut.τ) (Cert.PairSumOut.main (F := Bits))) ⟨m, fun _ => 0, g⟩ (fun r => ∀ c : Dev Cert.PairSumOut.nD,
          r.2.mem ((c.tc : Thread Cert.PairSumOut.nD Cert.PairSumOut.τ).loc Cert.PairSumOut.main_v0) = v0 c
          ∧ r.2.mem ((c.tc : Thread Cert.PairSumOut.nD Cert.PairSumOut.τ).loc Cert.PairSumOut.main_arg0) = m ((c.tc : Thread Cert.PairSumOut.nD Cert.PairSumOut.τ).loc Cert.PairSumOut.main_arg0)
          ∧ r.2.mem ((c.tc : Thread Cert.PairSumOut.nD Cert.PairSumOut.τ).loc Cert.PairSumOut.main_arg1) = m ((c.tc : Thread Cert.PairSumOut.nD Cert.PairSumOut.τ).loc Cert.PairSumOut.main_arg1))
      ∧ θ_run (Cert.PairSumOutReference.defs (F := Bits)) (onTc (τ := Cert.PairSumOutReference.τ) (Cert.PairSumOutReference.main (F := Bits))) ⟨m', fun _ => 0, g'⟩ (fun r => ∀ c : Dev Cert.PairSumOutReference.nD,
          r.2.mem ((c.tc : Thread Cert.PairSumOutReference.nD Cert.PairSumOutReference.τ).loc Cert.PairSumOutReference.main_v3) = v0 c
          ∧ r.2.mem ((c.tc : Thread Cert.PairSumOutReference.nD Cert.PairSumOutReference.τ).loc Cert.PairSumOutReference.main_arg0) = m' ((c.tc : Thread Cert.PairSumOutReference.nD Cert.PairSumOutReference.τ).loc Cert.PairSumOutReference.main_arg0)
          ∧ r.2.mem ((c.tc : Thread Cert.PairSumOutReference.nD Cert.PairSumOutReference.τ).loc Cert.PairSumOutReference.main_arg1) = m' ((c.tc : Thread Cert.PairSumOutReference.nD Cert.PairSumOutReference.τ).loc Cert.PairSumOutReference.main_arg1))

def preserves_PairSumFfn_PairSumFfnIdeal : Prop :=
  True

def algebraic_PairSumFfnIdeal_PairSumFfnReferenceIdeal [hPairSumFfnIdeal : Cert.PairSumFfnIdeal.Facts] [hPairSumFfnReferenceIdeal : Cert.PairSumFfnReferenceIdeal.Facts] : Prop :=
  ∀ (m : (ℓ : Loc Cert.PairSumFfnIdeal.nD Cert.PairSumFfnIdeal.τ Cert.PairSumFfnIdeal.sig) → Buf (Elt Ideal) ℓ) (g : Dev Cert.PairSumFfnIdeal.nD → PrngReg)
    (m' : (ℓ : Loc Cert.PairSumFfnReferenceIdeal.nD Cert.PairSumFfnReferenceIdeal.τ Cert.PairSumFfnReferenceIdeal.sig) → Buf (Elt Ideal) ℓ) (g' : Dev Cert.PairSumFfnReferenceIdeal.nD → PrngReg), Pre_PairSumFfnIdeal m →
    (∀ c : Dev Cert.PairSumFfnIdeal.nD,
      m' ((c.tc : Thread Cert.PairSumFfnReferenceIdeal.nD Cert.PairSumFfnReferenceIdeal.τ).loc Cert.PairSumFfnReferenceIdeal.main_arg0) = m ((c.tc : Thread Cert.PairSumFfnIdeal.nD Cert.PairSumFfnIdeal.τ).loc Cert.PairSumFfnIdeal.main_arg0)
      ∧ m' ((c.tc : Thread Cert.PairSumFfnReferenceIdeal.nD Cert.PairSumFfnReferenceIdeal.τ).loc Cert.PairSumFfnReferenceIdeal.main_arg1) = m ((c.tc : Thread Cert.PairSumFfnIdeal.nD Cert.PairSumFfnIdeal.τ).loc Cert.PairSumFfnIdeal.main_arg1)) →
    ∃ (v0 : (c : Dev Cert.PairSumFfnIdeal.nD) → Buf (Elt Ideal) ((c.tc : Thread Cert.PairSumFfnIdeal.nD Cert.PairSumFfnIdeal.τ).loc Cert.PairSumFfnIdeal.main_v0)),
      θ_run (Cert.PairSumFfnIdeal.defs (F := Ideal)) (onTc (τ := Cert.PairSumFfnIdeal.τ) (Cert.PairSumFfnIdeal.main (F := Ideal))) ⟨m, fun _ => 0, g⟩ (fun r => ∀ c : Dev Cert.PairSumFfnIdeal.nD,
          r.2.mem ((c.tc : Thread Cert.PairSumFfnIdeal.nD Cert.PairSumFfnIdeal.τ).loc Cert.PairSumFfnIdeal.main_v0) = v0 c
          ∧ r.2.mem ((c.tc : Thread Cert.PairSumFfnIdeal.nD Cert.PairSumFfnIdeal.τ).loc Cert.PairSumFfnIdeal.main_arg0) = m ((c.tc : Thread Cert.PairSumFfnIdeal.nD Cert.PairSumFfnIdeal.τ).loc Cert.PairSumFfnIdeal.main_arg0)
          ∧ r.2.mem ((c.tc : Thread Cert.PairSumFfnIdeal.nD Cert.PairSumFfnIdeal.τ).loc Cert.PairSumFfnIdeal.main_arg1) = m ((c.tc : Thread Cert.PairSumFfnIdeal.nD Cert.PairSumFfnIdeal.τ).loc Cert.PairSumFfnIdeal.main_arg1))
      ∧ θ_run (Cert.PairSumFfnReferenceIdeal.defs (F := Ideal)) (onTc (τ := Cert.PairSumFfnReferenceIdeal.τ) (Cert.PairSumFfnReferenceIdeal.main (F := Ideal))) ⟨m', fun _ => 0, g'⟩ (fun r => ∀ c : Dev Cert.PairSumFfnReferenceIdeal.nD,
          r.2.mem ((c.tc : Thread Cert.PairSumFfnReferenceIdeal.nD Cert.PairSumFfnReferenceIdeal.τ).loc Cert.PairSumFfnReferenceIdeal.main_v3) = v0 c
          ∧ r.2.mem ((c.tc : Thread Cert.PairSumFfnReferenceIdeal.nD Cert.PairSumFfnReferenceIdeal.τ).loc Cert.PairSumFfnReferenceIdeal.main_arg0) = m' ((c.tc : Thread Cert.PairSumFfnReferenceIdeal.nD Cert.PairSumFfnReferenceIdeal.τ).loc Cert.PairSumFfnReferenceIdeal.main_arg0)
          ∧ r.2.mem ((c.tc : Thread Cert.PairSumFfnReferenceIdeal.nD Cert.PairSumFfnReferenceIdeal.τ).loc Cert.PairSumFfnReferenceIdeal.main_arg1) = m' ((c.tc : Thread Cert.PairSumFfnReferenceIdeal.nD Cert.PairSumFfnReferenceIdeal.τ).loc Cert.PairSumFfnReferenceIdeal.main_arg1))

def bitexact_PairSumFfn_PairSumFfnReference [hPairSumFfn : Cert.PairSumFfn.Facts] [hPairSumFfnReference : Cert.PairSumFfnReference.Facts] : Prop :=
  ∀ (m : (ℓ : Loc Cert.PairSumFfn.nD Cert.PairSumFfn.τ Cert.PairSumFfn.sig) → Buf (Elt Bits) ℓ) (g : Dev Cert.PairSumFfn.nD → PrngReg)
    (m' : (ℓ : Loc Cert.PairSumFfnReference.nD Cert.PairSumFfnReference.τ Cert.PairSumFfnReference.sig) → Buf (Elt Bits) ℓ) (g' : Dev Cert.PairSumFfnReference.nD → PrngReg), Pre_PairSumFfn m →
    (∀ c : Dev Cert.PairSumFfn.nD,
      m' ((c.tc : Thread Cert.PairSumFfnReference.nD Cert.PairSumFfnReference.τ).loc Cert.PairSumFfnReference.main_arg0) = m ((c.tc : Thread Cert.PairSumFfn.nD Cert.PairSumFfn.τ).loc Cert.PairSumFfn.main_arg0)
      ∧ m' ((c.tc : Thread Cert.PairSumFfnReference.nD Cert.PairSumFfnReference.τ).loc Cert.PairSumFfnReference.main_arg1) = m ((c.tc : Thread Cert.PairSumFfn.nD Cert.PairSumFfn.τ).loc Cert.PairSumFfn.main_arg1)) →
    ∃ (v0 : (c : Dev Cert.PairSumFfn.nD) → Buf (Elt Bits) ((c.tc : Thread Cert.PairSumFfn.nD Cert.PairSumFfn.τ).loc Cert.PairSumFfn.main_v0)),
      θ_run (Cert.PairSumFfn.defs (F := Bits)) (onTc (τ := Cert.PairSumFfn.τ) (Cert.PairSumFfn.main (F := Bits))) ⟨m, fun _ => 0, g⟩ (fun r => ∀ c : Dev Cert.PairSumFfn.nD,
          r.2.mem ((c.tc : Thread Cert.PairSumFfn.nD Cert.PairSumFfn.τ).loc Cert.PairSumFfn.main_v0) = v0 c
          ∧ r.2.mem ((c.tc : Thread Cert.PairSumFfn.nD Cert.PairSumFfn.τ).loc Cert.PairSumFfn.main_arg0) = m ((c.tc : Thread Cert.PairSumFfn.nD Cert.PairSumFfn.τ).loc Cert.PairSumFfn.main_arg0)
          ∧ r.2.mem ((c.tc : Thread Cert.PairSumFfn.nD Cert.PairSumFfn.τ).loc Cert.PairSumFfn.main_arg1) = m ((c.tc : Thread Cert.PairSumFfn.nD Cert.PairSumFfn.τ).loc Cert.PairSumFfn.main_arg1))
      ∧ θ_run (Cert.PairSumFfnReference.defs (F := Bits)) (onTc (τ := Cert.PairSumFfnReference.τ) (Cert.PairSumFfnReference.main (F := Bits))) ⟨m', fun _ => 0, g'⟩ (fun r => ∀ c : Dev Cert.PairSumFfnReference.nD,
          r.2.mem ((c.tc : Thread Cert.PairSumFfnReference.nD Cert.PairSumFfnReference.τ).loc Cert.PairSumFfnReference.main_v3) = v0 c
          ∧ r.2.mem ((c.tc : Thread Cert.PairSumFfnReference.nD Cert.PairSumFfnReference.τ).loc Cert.PairSumFfnReference.main_arg0) = m' ((c.tc : Thread Cert.PairSumFfnReference.nD Cert.PairSumFfnReference.τ).loc Cert.PairSumFfnReference.main_arg0)
          ∧ r.2.mem ((c.tc : Thread Cert.PairSumFfnReference.nD Cert.PairSumFfnReference.τ).loc Cert.PairSumFfnReference.main_arg1) = m' ((c.tc : Thread Cert.PairSumFfnReference.nD Cert.PairSumFfnReference.τ).loc Cert.PairSumFfnReference.main_arg1))

def preserves_PairSumFfnDown_PairSumFfnDownIdeal : Prop :=
  True

def algebraic_PairSumFfnDownIdeal_PairSumFfnDownReferenceIdeal [hPairSumFfnDownIdeal : Cert.PairSumFfnDownIdeal.Facts] [hPairSumFfnDownReferenceIdeal : Cert.PairSumFfnDownReferenceIdeal.Facts] : Prop :=
  ∀ (m : (ℓ : Loc Cert.PairSumFfnDownIdeal.nD Cert.PairSumFfnDownIdeal.τ Cert.PairSumFfnDownIdeal.sig) → Buf (Elt Ideal) ℓ) (g : Dev Cert.PairSumFfnDownIdeal.nD → PrngReg)
    (m' : (ℓ : Loc Cert.PairSumFfnDownReferenceIdeal.nD Cert.PairSumFfnDownReferenceIdeal.τ Cert.PairSumFfnDownReferenceIdeal.sig) → Buf (Elt Ideal) ℓ) (g' : Dev Cert.PairSumFfnDownReferenceIdeal.nD → PrngReg), Pre_PairSumFfnDownIdeal m →
    (∀ c : Dev Cert.PairSumFfnDownIdeal.nD,
      m' ((c.tc : Thread Cert.PairSumFfnDownReferenceIdeal.nD Cert.PairSumFfnDownReferenceIdeal.τ).loc Cert.PairSumFfnDownReferenceIdeal.main_arg0) = m ((c.tc : Thread Cert.PairSumFfnDownIdeal.nD Cert.PairSumFfnDownIdeal.τ).loc Cert.PairSumFfnDownIdeal.main_arg0)
      ∧ m' ((c.tc : Thread Cert.PairSumFfnDownReferenceIdeal.nD Cert.PairSumFfnDownReferenceIdeal.τ).loc Cert.PairSumFfnDownReferenceIdeal.main_arg1) = m ((c.tc : Thread Cert.PairSumFfnDownIdeal.nD Cert.PairSumFfnDownIdeal.τ).loc Cert.PairSumFfnDownIdeal.main_arg1)) →
    ∃ (v0 : (c : Dev Cert.PairSumFfnDownIdeal.nD) → Buf (Elt Ideal) ((c.tc : Thread Cert.PairSumFfnDownIdeal.nD Cert.PairSumFfnDownIdeal.τ).loc Cert.PairSumFfnDownIdeal.main_v0)),
      θ_run (Cert.PairSumFfnDownIdeal.defs (F := Ideal)) (onTc (τ := Cert.PairSumFfnDownIdeal.τ) (Cert.PairSumFfnDownIdeal.main (F := Ideal))) ⟨m, fun _ => 0, g⟩ (fun r => ∀ c : Dev Cert.PairSumFfnDownIdeal.nD,
          r.2.mem ((c.tc : Thread Cert.PairSumFfnDownIdeal.nD Cert.PairSumFfnDownIdeal.τ).loc Cert.PairSumFfnDownIdeal.main_v0) = v0 c
          ∧ r.2.mem ((c.tc : Thread Cert.PairSumFfnDownIdeal.nD Cert.PairSumFfnDownIdeal.τ).loc Cert.PairSumFfnDownIdeal.main_arg0) = m ((c.tc : Thread Cert.PairSumFfnDownIdeal.nD Cert.PairSumFfnDownIdeal.τ).loc Cert.PairSumFfnDownIdeal.main_arg0)
          ∧ r.2.mem ((c.tc : Thread Cert.PairSumFfnDownIdeal.nD Cert.PairSumFfnDownIdeal.τ).loc Cert.PairSumFfnDownIdeal.main_arg1) = m ((c.tc : Thread Cert.PairSumFfnDownIdeal.nD Cert.PairSumFfnDownIdeal.τ).loc Cert.PairSumFfnDownIdeal.main_arg1))
      ∧ θ_run (Cert.PairSumFfnDownReferenceIdeal.defs (F := Ideal)) (onTc (τ := Cert.PairSumFfnDownReferenceIdeal.τ) (Cert.PairSumFfnDownReferenceIdeal.main (F := Ideal))) ⟨m', fun _ => 0, g'⟩ (fun r => ∀ c : Dev Cert.PairSumFfnDownReferenceIdeal.nD,
          r.2.mem ((c.tc : Thread Cert.PairSumFfnDownReferenceIdeal.nD Cert.PairSumFfnDownReferenceIdeal.τ).loc Cert.PairSumFfnDownReferenceIdeal.main_v3) = v0 c
          ∧ r.2.mem ((c.tc : Thread Cert.PairSumFfnDownReferenceIdeal.nD Cert.PairSumFfnDownReferenceIdeal.τ).loc Cert.PairSumFfnDownReferenceIdeal.main_arg0) = m' ((c.tc : Thread Cert.PairSumFfnDownReferenceIdeal.nD Cert.PairSumFfnDownReferenceIdeal.τ).loc Cert.PairSumFfnDownReferenceIdeal.main_arg0)
          ∧ r.2.mem ((c.tc : Thread Cert.PairSumFfnDownReferenceIdeal.nD Cert.PairSumFfnDownReferenceIdeal.τ).loc Cert.PairSumFfnDownReferenceIdeal.main_arg1) = m' ((c.tc : Thread Cert.PairSumFfnDownReferenceIdeal.nD Cert.PairSumFfnDownReferenceIdeal.τ).loc Cert.PairSumFfnDownReferenceIdeal.main_arg1))

def bitexact_PairSumFfnDown_PairSumFfnDownReference [hPairSumFfnDown : Cert.PairSumFfnDown.Facts] [hPairSumFfnDownReference : Cert.PairSumFfnDownReference.Facts] : Prop :=
  ∀ (m : (ℓ : Loc Cert.PairSumFfnDown.nD Cert.PairSumFfnDown.τ Cert.PairSumFfnDown.sig) → Buf (Elt Bits) ℓ) (g : Dev Cert.PairSumFfnDown.nD → PrngReg)
    (m' : (ℓ : Loc Cert.PairSumFfnDownReference.nD Cert.PairSumFfnDownReference.τ Cert.PairSumFfnDownReference.sig) → Buf (Elt Bits) ℓ) (g' : Dev Cert.PairSumFfnDownReference.nD → PrngReg), Pre_PairSumFfnDown m →
    (∀ c : Dev Cert.PairSumFfnDown.nD,
      m' ((c.tc : Thread Cert.PairSumFfnDownReference.nD Cert.PairSumFfnDownReference.τ).loc Cert.PairSumFfnDownReference.main_arg0) = m ((c.tc : Thread Cert.PairSumFfnDown.nD Cert.PairSumFfnDown.τ).loc Cert.PairSumFfnDown.main_arg0)
      ∧ m' ((c.tc : Thread Cert.PairSumFfnDownReference.nD Cert.PairSumFfnDownReference.τ).loc Cert.PairSumFfnDownReference.main_arg1) = m ((c.tc : Thread Cert.PairSumFfnDown.nD Cert.PairSumFfnDown.τ).loc Cert.PairSumFfnDown.main_arg1)) →
    ∃ (v0 : (c : Dev Cert.PairSumFfnDown.nD) → Buf (Elt Bits) ((c.tc : Thread Cert.PairSumFfnDown.nD Cert.PairSumFfnDown.τ).loc Cert.PairSumFfnDown.main_v0)),
      θ_run (Cert.PairSumFfnDown.defs (F := Bits)) (onTc (τ := Cert.PairSumFfnDown.τ) (Cert.PairSumFfnDown.main (F := Bits))) ⟨m, fun _ => 0, g⟩ (fun r => ∀ c : Dev Cert.PairSumFfnDown.nD,
          r.2.mem ((c.tc : Thread Cert.PairSumFfnDown.nD Cert.PairSumFfnDown.τ).loc Cert.PairSumFfnDown.main_v0) = v0 c
          ∧ r.2.mem ((c.tc : Thread Cert.PairSumFfnDown.nD Cert.PairSumFfnDown.τ).loc Cert.PairSumFfnDown.main_arg0) = m ((c.tc : Thread Cert.PairSumFfnDown.nD Cert.PairSumFfnDown.τ).loc Cert.PairSumFfnDown.main_arg0)
          ∧ r.2.mem ((c.tc : Thread Cert.PairSumFfnDown.nD Cert.PairSumFfnDown.τ).loc Cert.PairSumFfnDown.main_arg1) = m ((c.tc : Thread Cert.PairSumFfnDown.nD Cert.PairSumFfnDown.τ).loc Cert.PairSumFfnDown.main_arg1))
      ∧ θ_run (Cert.PairSumFfnDownReference.defs (F := Bits)) (onTc (τ := Cert.PairSumFfnDownReference.τ) (Cert.PairSumFfnDownReference.main (F := Bits))) ⟨m', fun _ => 0, g'⟩ (fun r => ∀ c : Dev Cert.PairSumFfnDownReference.nD,
          r.2.mem ((c.tc : Thread Cert.PairSumFfnDownReference.nD Cert.PairSumFfnDownReference.τ).loc Cert.PairSumFfnDownReference.main_v3) = v0 c
          ∧ r.2.mem ((c.tc : Thread Cert.PairSumFfnDownReference.nD Cert.PairSumFfnDownReference.τ).loc Cert.PairSumFfnDownReference.main_arg0) = m' ((c.tc : Thread Cert.PairSumFfnDownReference.nD Cert.PairSumFfnDownReference.τ).loc Cert.PairSumFfnDownReference.main_arg0)
          ∧ r.2.mem ((c.tc : Thread Cert.PairSumFfnDownReference.nD Cert.PairSumFfnDownReference.τ).loc Cert.PairSumFfnDownReference.main_arg1) = m' ((c.tc : Thread Cert.PairSumFfnDownReference.nD Cert.PairSumFfnDownReference.τ).loc Cert.PairSumFfnDownReference.main_arg1))

def preserves_PairSumDilQkv_PairSumDilQkvIdeal : Prop :=
  True

def algebraic_PairSumDilQkvIdeal_PairSumDilQkvReferenceIdeal [hPairSumDilQkvIdeal : Cert.PairSumDilQkvIdeal.Facts] [hPairSumDilQkvReferenceIdeal : Cert.PairSumDilQkvReferenceIdeal.Facts] : Prop :=
  ∀ (m : (ℓ : Loc Cert.PairSumDilQkvIdeal.nD Cert.PairSumDilQkvIdeal.τ Cert.PairSumDilQkvIdeal.sig) → Buf (Elt Ideal) ℓ) (g : Dev Cert.PairSumDilQkvIdeal.nD → PrngReg)
    (m' : (ℓ : Loc Cert.PairSumDilQkvReferenceIdeal.nD Cert.PairSumDilQkvReferenceIdeal.τ Cert.PairSumDilQkvReferenceIdeal.sig) → Buf (Elt Ideal) ℓ) (g' : Dev Cert.PairSumDilQkvReferenceIdeal.nD → PrngReg), Pre_PairSumDilQkvIdeal m →
    (∀ c : Dev Cert.PairSumDilQkvIdeal.nD,
      m' ((c.tc : Thread Cert.PairSumDilQkvReferenceIdeal.nD Cert.PairSumDilQkvReferenceIdeal.τ).loc Cert.PairSumDilQkvReferenceIdeal.main_arg0) = m ((c.tc : Thread Cert.PairSumDilQkvIdeal.nD Cert.PairSumDilQkvIdeal.τ).loc Cert.PairSumDilQkvIdeal.main_arg0)
      ∧ m' ((c.tc : Thread Cert.PairSumDilQkvReferenceIdeal.nD Cert.PairSumDilQkvReferenceIdeal.τ).loc Cert.PairSumDilQkvReferenceIdeal.main_arg1) = m ((c.tc : Thread Cert.PairSumDilQkvIdeal.nD Cert.PairSumDilQkvIdeal.τ).loc Cert.PairSumDilQkvIdeal.main_arg1)) →
    ∃ (v0 : (c : Dev Cert.PairSumDilQkvIdeal.nD) → Buf (Elt Ideal) ((c.tc : Thread Cert.PairSumDilQkvIdeal.nD Cert.PairSumDilQkvIdeal.τ).loc Cert.PairSumDilQkvIdeal.main_v0)),
      θ_run (Cert.PairSumDilQkvIdeal.defs (F := Ideal)) (onTc (τ := Cert.PairSumDilQkvIdeal.τ) (Cert.PairSumDilQkvIdeal.main (F := Ideal))) ⟨m, fun _ => 0, g⟩ (fun r => ∀ c : Dev Cert.PairSumDilQkvIdeal.nD,
          r.2.mem ((c.tc : Thread Cert.PairSumDilQkvIdeal.nD Cert.PairSumDilQkvIdeal.τ).loc Cert.PairSumDilQkvIdeal.main_v0) = v0 c
          ∧ r.2.mem ((c.tc : Thread Cert.PairSumDilQkvIdeal.nD Cert.PairSumDilQkvIdeal.τ).loc Cert.PairSumDilQkvIdeal.main_arg0) = m ((c.tc : Thread Cert.PairSumDilQkvIdeal.nD Cert.PairSumDilQkvIdeal.τ).loc Cert.PairSumDilQkvIdeal.main_arg0)
          ∧ r.2.mem ((c.tc : Thread Cert.PairSumDilQkvIdeal.nD Cert.PairSumDilQkvIdeal.τ).loc Cert.PairSumDilQkvIdeal.main_arg1) = m ((c.tc : Thread Cert.PairSumDilQkvIdeal.nD Cert.PairSumDilQkvIdeal.τ).loc Cert.PairSumDilQkvIdeal.main_arg1))
      ∧ θ_run (Cert.PairSumDilQkvReferenceIdeal.defs (F := Ideal)) (onTc (τ := Cert.PairSumDilQkvReferenceIdeal.τ) (Cert.PairSumDilQkvReferenceIdeal.main (F := Ideal))) ⟨m', fun _ => 0, g'⟩ (fun r => ∀ c : Dev Cert.PairSumDilQkvReferenceIdeal.nD,
          r.2.mem ((c.tc : Thread Cert.PairSumDilQkvReferenceIdeal.nD Cert.PairSumDilQkvReferenceIdeal.τ).loc Cert.PairSumDilQkvReferenceIdeal.main_v3) = v0 c
          ∧ r.2.mem ((c.tc : Thread Cert.PairSumDilQkvReferenceIdeal.nD Cert.PairSumDilQkvReferenceIdeal.τ).loc Cert.PairSumDilQkvReferenceIdeal.main_arg0) = m' ((c.tc : Thread Cert.PairSumDilQkvReferenceIdeal.nD Cert.PairSumDilQkvReferenceIdeal.τ).loc Cert.PairSumDilQkvReferenceIdeal.main_arg0)
          ∧ r.2.mem ((c.tc : Thread Cert.PairSumDilQkvReferenceIdeal.nD Cert.PairSumDilQkvReferenceIdeal.τ).loc Cert.PairSumDilQkvReferenceIdeal.main_arg1) = m' ((c.tc : Thread Cert.PairSumDilQkvReferenceIdeal.nD Cert.PairSumDilQkvReferenceIdeal.τ).loc Cert.PairSumDilQkvReferenceIdeal.main_arg1))

def bitexact_PairSumDilQkv_PairSumDilQkvReference [hPairSumDilQkv : Cert.PairSumDilQkv.Facts] [hPairSumDilQkvReference : Cert.PairSumDilQkvReference.Facts] : Prop :=
  ∀ (m : (ℓ : Loc Cert.PairSumDilQkv.nD Cert.PairSumDilQkv.τ Cert.PairSumDilQkv.sig) → Buf (Elt Bits) ℓ) (g : Dev Cert.PairSumDilQkv.nD → PrngReg)
    (m' : (ℓ : Loc Cert.PairSumDilQkvReference.nD Cert.PairSumDilQkvReference.τ Cert.PairSumDilQkvReference.sig) → Buf (Elt Bits) ℓ) (g' : Dev Cert.PairSumDilQkvReference.nD → PrngReg), Pre_PairSumDilQkv m →
    (∀ c : Dev Cert.PairSumDilQkv.nD,
      m' ((c.tc : Thread Cert.PairSumDilQkvReference.nD Cert.PairSumDilQkvReference.τ).loc Cert.PairSumDilQkvReference.main_arg0) = m ((c.tc : Thread Cert.PairSumDilQkv.nD Cert.PairSumDilQkv.τ).loc Cert.PairSumDilQkv.main_arg0)
      ∧ m' ((c.tc : Thread Cert.PairSumDilQkvReference.nD Cert.PairSumDilQkvReference.τ).loc Cert.PairSumDilQkvReference.main_arg1) = m ((c.tc : Thread Cert.PairSumDilQkv.nD Cert.PairSumDilQkv.τ).loc Cert.PairSumDilQkv.main_arg1)) →
    ∃ (v0 : (c : Dev Cert.PairSumDilQkv.nD) → Buf (Elt Bits) ((c.tc : Thread Cert.PairSumDilQkv.nD Cert.PairSumDilQkv.τ).loc Cert.PairSumDilQkv.main_v0)),
      θ_run (Cert.PairSumDilQkv.defs (F := Bits)) (onTc (τ := Cert.PairSumDilQkv.τ) (Cert.PairSumDilQkv.main (F := Bits))) ⟨m, fun _ => 0, g⟩ (fun r => ∀ c : Dev Cert.PairSumDilQkv.nD,
          r.2.mem ((c.tc : Thread Cert.PairSumDilQkv.nD Cert.PairSumDilQkv.τ).loc Cert.PairSumDilQkv.main_v0) = v0 c
          ∧ r.2.mem ((c.tc : Thread Cert.PairSumDilQkv.nD Cert.PairSumDilQkv.τ).loc Cert.PairSumDilQkv.main_arg0) = m ((c.tc : Thread Cert.PairSumDilQkv.nD Cert.PairSumDilQkv.τ).loc Cert.PairSumDilQkv.main_arg0)
          ∧ r.2.mem ((c.tc : Thread Cert.PairSumDilQkv.nD Cert.PairSumDilQkv.τ).loc Cert.PairSumDilQkv.main_arg1) = m ((c.tc : Thread Cert.PairSumDilQkv.nD Cert.PairSumDilQkv.τ).loc Cert.PairSumDilQkv.main_arg1))
      ∧ θ_run (Cert.PairSumDilQkvReference.defs (F := Bits)) (onTc (τ := Cert.PairSumDilQkvReference.τ) (Cert.PairSumDilQkvReference.main (F := Bits))) ⟨m', fun _ => 0, g'⟩ (fun r => ∀ c : Dev Cert.PairSumDilQkvReference.nD,
          r.2.mem ((c.tc : Thread Cert.PairSumDilQkvReference.nD Cert.PairSumDilQkvReference.τ).loc Cert.PairSumDilQkvReference.main_v3) = v0 c
          ∧ r.2.mem ((c.tc : Thread Cert.PairSumDilQkvReference.nD Cert.PairSumDilQkvReference.τ).loc Cert.PairSumDilQkvReference.main_arg0) = m' ((c.tc : Thread Cert.PairSumDilQkvReference.nD Cert.PairSumDilQkvReference.τ).loc Cert.PairSumDilQkvReference.main_arg0)
          ∧ r.2.mem ((c.tc : Thread Cert.PairSumDilQkvReference.nD Cert.PairSumDilQkvReference.τ).loc Cert.PairSumDilQkvReference.main_arg1) = m' ((c.tc : Thread Cert.PairSumDilQkvReference.nD Cert.PairSumDilQkvReference.τ).loc Cert.PairSumDilQkvReference.main_arg1))

def preserves_ChipSumNaQkv_ChipSumNaQkvIdeal : Prop :=
  True

def algebraic_ChipSumNaQkvIdeal_ChipSumNaQkvReferenceIdeal [hChipSumNaQkvIdeal : Cert.ChipSumNaQkvIdeal.Facts] [hChipSumNaQkvReferenceIdeal : Cert.ChipSumNaQkvReferenceIdeal.Facts] : Prop :=
  ∀ (m : (ℓ : Loc Cert.ChipSumNaQkvIdeal.nD Cert.ChipSumNaQkvIdeal.τ Cert.ChipSumNaQkvIdeal.sig) → Buf (Elt Ideal) ℓ) (g : Dev Cert.ChipSumNaQkvIdeal.nD → PrngReg)
    (m' : (ℓ : Loc Cert.ChipSumNaQkvReferenceIdeal.nD Cert.ChipSumNaQkvReferenceIdeal.τ Cert.ChipSumNaQkvReferenceIdeal.sig) → Buf (Elt Ideal) ℓ) (g' : Dev Cert.ChipSumNaQkvReferenceIdeal.nD → PrngReg), Pre_ChipSumNaQkvIdeal m →
    (∀ c : Dev Cert.ChipSumNaQkvIdeal.nD,
      m' ((c.tc : Thread Cert.ChipSumNaQkvReferenceIdeal.nD Cert.ChipSumNaQkvReferenceIdeal.τ).loc Cert.ChipSumNaQkvReferenceIdeal.main_arg0) = m ((c.tc : Thread Cert.ChipSumNaQkvIdeal.nD Cert.ChipSumNaQkvIdeal.τ).loc Cert.ChipSumNaQkvIdeal.main_arg0)) →
    ∃ (v0 : (c : Dev Cert.ChipSumNaQkvIdeal.nD) → Buf (Elt Ideal) ((c.tc : Thread Cert.ChipSumNaQkvIdeal.nD Cert.ChipSumNaQkvIdeal.τ).loc Cert.ChipSumNaQkvIdeal.main_v0)),
      θ_run (Cert.ChipSumNaQkvIdeal.defs (F := Ideal)) (onTc (τ := Cert.ChipSumNaQkvIdeal.τ) (Cert.ChipSumNaQkvIdeal.main (F := Ideal))) ⟨m, fun _ => 0, g⟩ (fun r => ∀ c : Dev Cert.ChipSumNaQkvIdeal.nD,
          r.2.mem ((c.tc : Thread Cert.ChipSumNaQkvIdeal.nD Cert.ChipSumNaQkvIdeal.τ).loc Cert.ChipSumNaQkvIdeal.main_v0) = v0 c
          ∧ r.2.mem ((c.tc : Thread Cert.ChipSumNaQkvIdeal.nD Cert.ChipSumNaQkvIdeal.τ).loc Cert.ChipSumNaQkvIdeal.main_arg0) = m ((c.tc : Thread Cert.ChipSumNaQkvIdeal.nD Cert.ChipSumNaQkvIdeal.τ).loc Cert.ChipSumNaQkvIdeal.main_arg0))
      ∧ θ_run (Cert.ChipSumNaQkvReferenceIdeal.defs (F := Ideal)) (onTc (τ := Cert.ChipSumNaQkvReferenceIdeal.τ) (Cert.ChipSumNaQkvReferenceIdeal.main (F := Ideal))) ⟨m', fun _ => 0, g'⟩ (fun r => ∀ c : Dev Cert.ChipSumNaQkvReferenceIdeal.nD,
          r.2.mem ((c.tc : Thread Cert.ChipSumNaQkvReferenceIdeal.nD Cert.ChipSumNaQkvReferenceIdeal.τ).loc Cert.ChipSumNaQkvReferenceIdeal.main_v11) = v0 c
          ∧ r.2.mem ((c.tc : Thread Cert.ChipSumNaQkvReferenceIdeal.nD Cert.ChipSumNaQkvReferenceIdeal.τ).loc Cert.ChipSumNaQkvReferenceIdeal.main_arg0) = m' ((c.tc : Thread Cert.ChipSumNaQkvReferenceIdeal.nD Cert.ChipSumNaQkvReferenceIdeal.τ).loc Cert.ChipSumNaQkvReferenceIdeal.main_arg0))

def bitexact_ChipSumNaQkv_ChipSumNaQkvReference [hChipSumNaQkv : Cert.ChipSumNaQkv.Facts] [hChipSumNaQkvReference : Cert.ChipSumNaQkvReference.Facts] : Prop :=
  ∀ (m : (ℓ : Loc Cert.ChipSumNaQkv.nD Cert.ChipSumNaQkv.τ Cert.ChipSumNaQkv.sig) → Buf (Elt Bits) ℓ) (g : Dev Cert.ChipSumNaQkv.nD → PrngReg)
    (m' : (ℓ : Loc Cert.ChipSumNaQkvReference.nD Cert.ChipSumNaQkvReference.τ Cert.ChipSumNaQkvReference.sig) → Buf (Elt Bits) ℓ) (g' : Dev Cert.ChipSumNaQkvReference.nD → PrngReg), Pre_ChipSumNaQkv m →
    (∀ c : Dev Cert.ChipSumNaQkv.nD,
      m' ((c.tc : Thread Cert.ChipSumNaQkvReference.nD Cert.ChipSumNaQkvReference.τ).loc Cert.ChipSumNaQkvReference.main_arg0) = m ((c.tc : Thread Cert.ChipSumNaQkv.nD Cert.ChipSumNaQkv.τ).loc Cert.ChipSumNaQkv.main_arg0)) →
    ∃ (v0 : (c : Dev Cert.ChipSumNaQkv.nD) → Buf (Elt Bits) ((c.tc : Thread Cert.ChipSumNaQkv.nD Cert.ChipSumNaQkv.τ).loc Cert.ChipSumNaQkv.main_v0)),
      θ_run (Cert.ChipSumNaQkv.defs (F := Bits)) (onTc (τ := Cert.ChipSumNaQkv.τ) (Cert.ChipSumNaQkv.main (F := Bits))) ⟨m, fun _ => 0, g⟩ (fun r => ∀ c : Dev Cert.ChipSumNaQkv.nD,
          r.2.mem ((c.tc : Thread Cert.ChipSumNaQkv.nD Cert.ChipSumNaQkv.τ).loc Cert.ChipSumNaQkv.main_v0) = v0 c
          ∧ r.2.mem ((c.tc : Thread Cert.ChipSumNaQkv.nD Cert.ChipSumNaQkv.τ).loc Cert.ChipSumNaQkv.main_arg0) = m ((c.tc : Thread Cert.ChipSumNaQkv.nD Cert.ChipSumNaQkv.τ).loc Cert.ChipSumNaQkv.main_arg0))
      ∧ θ_run (Cert.ChipSumNaQkvReference.defs (F := Bits)) (onTc (τ := Cert.ChipSumNaQkvReference.τ) (Cert.ChipSumNaQkvReference.main (F := Bits))) ⟨m', fun _ => 0, g'⟩ (fun r => ∀ c : Dev Cert.ChipSumNaQkvReference.nD,
          r.2.mem ((c.tc : Thread Cert.ChipSumNaQkvReference.nD Cert.ChipSumNaQkvReference.τ).loc Cert.ChipSumNaQkvReference.main_v11) = v0 c
          ∧ r.2.mem ((c.tc : Thread Cert.ChipSumNaQkvReference.nD Cert.ChipSumNaQkvReference.τ).loc Cert.ChipSumNaQkvReference.main_arg0) = m' ((c.tc : Thread Cert.ChipSumNaQkvReference.nD Cert.ChipSumNaQkvReference.τ).loc Cert.ChipSumNaQkvReference.main_arg0))

def preserves_ChipSumOut_ChipSumOutIdeal : Prop :=
  True

def algebraic_ChipSumOutIdeal_ChipSumOutReferenceIdeal [hChipSumOutIdeal : Cert.ChipSumOutIdeal.Facts] [hChipSumOutReferenceIdeal : Cert.ChipSumOutReferenceIdeal.Facts] : Prop :=
  ∀ (m : (ℓ : Loc Cert.ChipSumOutIdeal.nD Cert.ChipSumOutIdeal.τ Cert.ChipSumOutIdeal.sig) → Buf (Elt Ideal) ℓ) (g : Dev Cert.ChipSumOutIdeal.nD → PrngReg)
    (m' : (ℓ : Loc Cert.ChipSumOutReferenceIdeal.nD Cert.ChipSumOutReferenceIdeal.τ Cert.ChipSumOutReferenceIdeal.sig) → Buf (Elt Ideal) ℓ) (g' : Dev Cert.ChipSumOutReferenceIdeal.nD → PrngReg), Pre_ChipSumOutIdeal m →
    (∀ c : Dev Cert.ChipSumOutIdeal.nD,
      m' ((c.tc : Thread Cert.ChipSumOutReferenceIdeal.nD Cert.ChipSumOutReferenceIdeal.τ).loc Cert.ChipSumOutReferenceIdeal.main_arg0) = m ((c.tc : Thread Cert.ChipSumOutIdeal.nD Cert.ChipSumOutIdeal.τ).loc Cert.ChipSumOutIdeal.main_arg0)) →
    ∃ (v0 : (c : Dev Cert.ChipSumOutIdeal.nD) → Buf (Elt Ideal) ((c.tc : Thread Cert.ChipSumOutIdeal.nD Cert.ChipSumOutIdeal.τ).loc Cert.ChipSumOutIdeal.main_v0)),
      θ_run (Cert.ChipSumOutIdeal.defs (F := Ideal)) (onTc (τ := Cert.ChipSumOutIdeal.τ) (Cert.ChipSumOutIdeal.main (F := Ideal))) ⟨m, fun _ => 0, g⟩ (fun r => ∀ c : Dev Cert.ChipSumOutIdeal.nD,
          r.2.mem ((c.tc : Thread Cert.ChipSumOutIdeal.nD Cert.ChipSumOutIdeal.τ).loc Cert.ChipSumOutIdeal.main_v0) = v0 c
          ∧ r.2.mem ((c.tc : Thread Cert.ChipSumOutIdeal.nD Cert.ChipSumOutIdeal.τ).loc Cert.ChipSumOutIdeal.main_arg0) = m ((c.tc : Thread Cert.ChipSumOutIdeal.nD Cert.ChipSumOutIdeal.τ).loc Cert.ChipSumOutIdeal.main_arg0))
      ∧ θ_run (Cert.ChipSumOutReferenceIdeal.defs (F := Ideal)) (onTc (τ := Cert.ChipSumOutReferenceIdeal.τ) (Cert.ChipSumOutReferenceIdeal.main (F := Ideal))) ⟨m', fun _ => 0, g'⟩ (fun r => ∀ c : Dev Cert.ChipSumOutReferenceIdeal.nD,
          r.2.mem ((c.tc : Thread Cert.ChipSumOutReferenceIdeal.nD Cert.ChipSumOutReferenceIdeal.τ).loc Cert.ChipSumOutReferenceIdeal.main_v11) = v0 c
          ∧ r.2.mem ((c.tc : Thread Cert.ChipSumOutReferenceIdeal.nD Cert.ChipSumOutReferenceIdeal.τ).loc Cert.ChipSumOutReferenceIdeal.main_arg0) = m' ((c.tc : Thread Cert.ChipSumOutReferenceIdeal.nD Cert.ChipSumOutReferenceIdeal.τ).loc Cert.ChipSumOutReferenceIdeal.main_arg0))

def bitexact_ChipSumOut_ChipSumOutReference [hChipSumOut : Cert.ChipSumOut.Facts] [hChipSumOutReference : Cert.ChipSumOutReference.Facts] : Prop :=
  ∀ (m : (ℓ : Loc Cert.ChipSumOut.nD Cert.ChipSumOut.τ Cert.ChipSumOut.sig) → Buf (Elt Bits) ℓ) (g : Dev Cert.ChipSumOut.nD → PrngReg)
    (m' : (ℓ : Loc Cert.ChipSumOutReference.nD Cert.ChipSumOutReference.τ Cert.ChipSumOutReference.sig) → Buf (Elt Bits) ℓ) (g' : Dev Cert.ChipSumOutReference.nD → PrngReg), Pre_ChipSumOut m →
    (∀ c : Dev Cert.ChipSumOut.nD,
      m' ((c.tc : Thread Cert.ChipSumOutReference.nD Cert.ChipSumOutReference.τ).loc Cert.ChipSumOutReference.main_arg0) = m ((c.tc : Thread Cert.ChipSumOut.nD Cert.ChipSumOut.τ).loc Cert.ChipSumOut.main_arg0)) →
    ∃ (v0 : (c : Dev Cert.ChipSumOut.nD) → Buf (Elt Bits) ((c.tc : Thread Cert.ChipSumOut.nD Cert.ChipSumOut.τ).loc Cert.ChipSumOut.main_v0)),
      θ_run (Cert.ChipSumOut.defs (F := Bits)) (onTc (τ := Cert.ChipSumOut.τ) (Cert.ChipSumOut.main (F := Bits))) ⟨m, fun _ => 0, g⟩ (fun r => ∀ c : Dev Cert.ChipSumOut.nD,
          r.2.mem ((c.tc : Thread Cert.ChipSumOut.nD Cert.ChipSumOut.τ).loc Cert.ChipSumOut.main_v0) = v0 c
          ∧ r.2.mem ((c.tc : Thread Cert.ChipSumOut.nD Cert.ChipSumOut.τ).loc Cert.ChipSumOut.main_arg0) = m ((c.tc : Thread Cert.ChipSumOut.nD Cert.ChipSumOut.τ).loc Cert.ChipSumOut.main_arg0))
      ∧ θ_run (Cert.ChipSumOutReference.defs (F := Bits)) (onTc (τ := Cert.ChipSumOutReference.τ) (Cert.ChipSumOutReference.main (F := Bits))) ⟨m', fun _ => 0, g'⟩ (fun r => ∀ c : Dev Cert.ChipSumOutReference.nD,
          r.2.mem ((c.tc : Thread Cert.ChipSumOutReference.nD Cert.ChipSumOutReference.τ).loc Cert.ChipSumOutReference.main_v11) = v0 c
          ∧ r.2.mem ((c.tc : Thread Cert.ChipSumOutReference.nD Cert.ChipSumOutReference.τ).loc Cert.ChipSumOutReference.main_arg0) = m' ((c.tc : Thread Cert.ChipSumOutReference.nD Cert.ChipSumOutReference.τ).loc Cert.ChipSumOutReference.main_arg0))

def preserves_ChipSumFfn_ChipSumFfnIdeal : Prop :=
  True

def algebraic_ChipSumFfnIdeal_ChipSumFfnReferenceIdeal [hChipSumFfnIdeal : Cert.ChipSumFfnIdeal.Facts] [hChipSumFfnReferenceIdeal : Cert.ChipSumFfnReferenceIdeal.Facts] : Prop :=
  ∀ (m : (ℓ : Loc Cert.ChipSumFfnIdeal.nD Cert.ChipSumFfnIdeal.τ Cert.ChipSumFfnIdeal.sig) → Buf (Elt Ideal) ℓ) (g : Dev Cert.ChipSumFfnIdeal.nD → PrngReg)
    (m' : (ℓ : Loc Cert.ChipSumFfnReferenceIdeal.nD Cert.ChipSumFfnReferenceIdeal.τ Cert.ChipSumFfnReferenceIdeal.sig) → Buf (Elt Ideal) ℓ) (g' : Dev Cert.ChipSumFfnReferenceIdeal.nD → PrngReg), Pre_ChipSumFfnIdeal m →
    (∀ c : Dev Cert.ChipSumFfnIdeal.nD,
      m' ((c.tc : Thread Cert.ChipSumFfnReferenceIdeal.nD Cert.ChipSumFfnReferenceIdeal.τ).loc Cert.ChipSumFfnReferenceIdeal.main_arg0) = m ((c.tc : Thread Cert.ChipSumFfnIdeal.nD Cert.ChipSumFfnIdeal.τ).loc Cert.ChipSumFfnIdeal.main_arg0)) →
    ∃ (v0 : (c : Dev Cert.ChipSumFfnIdeal.nD) → Buf (Elt Ideal) ((c.tc : Thread Cert.ChipSumFfnIdeal.nD Cert.ChipSumFfnIdeal.τ).loc Cert.ChipSumFfnIdeal.main_v0)),
      θ_run (Cert.ChipSumFfnIdeal.defs (F := Ideal)) (onTc (τ := Cert.ChipSumFfnIdeal.τ) (Cert.ChipSumFfnIdeal.main (F := Ideal))) ⟨m, fun _ => 0, g⟩ (fun r => ∀ c : Dev Cert.ChipSumFfnIdeal.nD,
          r.2.mem ((c.tc : Thread Cert.ChipSumFfnIdeal.nD Cert.ChipSumFfnIdeal.τ).loc Cert.ChipSumFfnIdeal.main_v0) = v0 c
          ∧ r.2.mem ((c.tc : Thread Cert.ChipSumFfnIdeal.nD Cert.ChipSumFfnIdeal.τ).loc Cert.ChipSumFfnIdeal.main_arg0) = m ((c.tc : Thread Cert.ChipSumFfnIdeal.nD Cert.ChipSumFfnIdeal.τ).loc Cert.ChipSumFfnIdeal.main_arg0))
      ∧ θ_run (Cert.ChipSumFfnReferenceIdeal.defs (F := Ideal)) (onTc (τ := Cert.ChipSumFfnReferenceIdeal.τ) (Cert.ChipSumFfnReferenceIdeal.main (F := Ideal))) ⟨m', fun _ => 0, g'⟩ (fun r => ∀ c : Dev Cert.ChipSumFfnReferenceIdeal.nD,
          r.2.mem ((c.tc : Thread Cert.ChipSumFfnReferenceIdeal.nD Cert.ChipSumFfnReferenceIdeal.τ).loc Cert.ChipSumFfnReferenceIdeal.main_v11) = v0 c
          ∧ r.2.mem ((c.tc : Thread Cert.ChipSumFfnReferenceIdeal.nD Cert.ChipSumFfnReferenceIdeal.τ).loc Cert.ChipSumFfnReferenceIdeal.main_arg0) = m' ((c.tc : Thread Cert.ChipSumFfnReferenceIdeal.nD Cert.ChipSumFfnReferenceIdeal.τ).loc Cert.ChipSumFfnReferenceIdeal.main_arg0))

def bitexact_ChipSumFfn_ChipSumFfnReference [hChipSumFfn : Cert.ChipSumFfn.Facts] [hChipSumFfnReference : Cert.ChipSumFfnReference.Facts] : Prop :=
  ∀ (m : (ℓ : Loc Cert.ChipSumFfn.nD Cert.ChipSumFfn.τ Cert.ChipSumFfn.sig) → Buf (Elt Bits) ℓ) (g : Dev Cert.ChipSumFfn.nD → PrngReg)
    (m' : (ℓ : Loc Cert.ChipSumFfnReference.nD Cert.ChipSumFfnReference.τ Cert.ChipSumFfnReference.sig) → Buf (Elt Bits) ℓ) (g' : Dev Cert.ChipSumFfnReference.nD → PrngReg), Pre_ChipSumFfn m →
    (∀ c : Dev Cert.ChipSumFfn.nD,
      m' ((c.tc : Thread Cert.ChipSumFfnReference.nD Cert.ChipSumFfnReference.τ).loc Cert.ChipSumFfnReference.main_arg0) = m ((c.tc : Thread Cert.ChipSumFfn.nD Cert.ChipSumFfn.τ).loc Cert.ChipSumFfn.main_arg0)) →
    ∃ (v0 : (c : Dev Cert.ChipSumFfn.nD) → Buf (Elt Bits) ((c.tc : Thread Cert.ChipSumFfn.nD Cert.ChipSumFfn.τ).loc Cert.ChipSumFfn.main_v0)),
      θ_run (Cert.ChipSumFfn.defs (F := Bits)) (onTc (τ := Cert.ChipSumFfn.τ) (Cert.ChipSumFfn.main (F := Bits))) ⟨m, fun _ => 0, g⟩ (fun r => ∀ c : Dev Cert.ChipSumFfn.nD,
          r.2.mem ((c.tc : Thread Cert.ChipSumFfn.nD Cert.ChipSumFfn.τ).loc Cert.ChipSumFfn.main_v0) = v0 c
          ∧ r.2.mem ((c.tc : Thread Cert.ChipSumFfn.nD Cert.ChipSumFfn.τ).loc Cert.ChipSumFfn.main_arg0) = m ((c.tc : Thread Cert.ChipSumFfn.nD Cert.ChipSumFfn.τ).loc Cert.ChipSumFfn.main_arg0))
      ∧ θ_run (Cert.ChipSumFfnReference.defs (F := Bits)) (onTc (τ := Cert.ChipSumFfnReference.τ) (Cert.ChipSumFfnReference.main (F := Bits))) ⟨m', fun _ => 0, g'⟩ (fun r => ∀ c : Dev Cert.ChipSumFfnReference.nD,
          r.2.mem ((c.tc : Thread Cert.ChipSumFfnReference.nD Cert.ChipSumFfnReference.τ).loc Cert.ChipSumFfnReference.main_v11) = v0 c
          ∧ r.2.mem ((c.tc : Thread Cert.ChipSumFfnReference.nD Cert.ChipSumFfnReference.τ).loc Cert.ChipSumFfnReference.main_arg0) = m' ((c.tc : Thread Cert.ChipSumFfnReference.nD Cert.ChipSumFfnReference.τ).loc Cert.ChipSumFfnReference.main_arg0))

def preserves_ChipSumFfnDown_ChipSumFfnDownIdeal : Prop :=
  True

def algebraic_ChipSumFfnDownIdeal_ChipSumFfnDownReferenceIdeal [hChipSumFfnDownIdeal : Cert.ChipSumFfnDownIdeal.Facts] [hChipSumFfnDownReferenceIdeal : Cert.ChipSumFfnDownReferenceIdeal.Facts] : Prop :=
  ∀ (m : (ℓ : Loc Cert.ChipSumFfnDownIdeal.nD Cert.ChipSumFfnDownIdeal.τ Cert.ChipSumFfnDownIdeal.sig) → Buf (Elt Ideal) ℓ) (g : Dev Cert.ChipSumFfnDownIdeal.nD → PrngReg)
    (m' : (ℓ : Loc Cert.ChipSumFfnDownReferenceIdeal.nD Cert.ChipSumFfnDownReferenceIdeal.τ Cert.ChipSumFfnDownReferenceIdeal.sig) → Buf (Elt Ideal) ℓ) (g' : Dev Cert.ChipSumFfnDownReferenceIdeal.nD → PrngReg), Pre_ChipSumFfnDownIdeal m →
    (∀ c : Dev Cert.ChipSumFfnDownIdeal.nD,
      m' ((c.tc : Thread Cert.ChipSumFfnDownReferenceIdeal.nD Cert.ChipSumFfnDownReferenceIdeal.τ).loc Cert.ChipSumFfnDownReferenceIdeal.main_arg0) = m ((c.tc : Thread Cert.ChipSumFfnDownIdeal.nD Cert.ChipSumFfnDownIdeal.τ).loc Cert.ChipSumFfnDownIdeal.main_arg0)) →
    ∃ (v0 : (c : Dev Cert.ChipSumFfnDownIdeal.nD) → Buf (Elt Ideal) ((c.tc : Thread Cert.ChipSumFfnDownIdeal.nD Cert.ChipSumFfnDownIdeal.τ).loc Cert.ChipSumFfnDownIdeal.main_v0)),
      θ_run (Cert.ChipSumFfnDownIdeal.defs (F := Ideal)) (onTc (τ := Cert.ChipSumFfnDownIdeal.τ) (Cert.ChipSumFfnDownIdeal.main (F := Ideal))) ⟨m, fun _ => 0, g⟩ (fun r => ∀ c : Dev Cert.ChipSumFfnDownIdeal.nD,
          r.2.mem ((c.tc : Thread Cert.ChipSumFfnDownIdeal.nD Cert.ChipSumFfnDownIdeal.τ).loc Cert.ChipSumFfnDownIdeal.main_v0) = v0 c
          ∧ r.2.mem ((c.tc : Thread Cert.ChipSumFfnDownIdeal.nD Cert.ChipSumFfnDownIdeal.τ).loc Cert.ChipSumFfnDownIdeal.main_arg0) = m ((c.tc : Thread Cert.ChipSumFfnDownIdeal.nD Cert.ChipSumFfnDownIdeal.τ).loc Cert.ChipSumFfnDownIdeal.main_arg0))
      ∧ θ_run (Cert.ChipSumFfnDownReferenceIdeal.defs (F := Ideal)) (onTc (τ := Cert.ChipSumFfnDownReferenceIdeal.τ) (Cert.ChipSumFfnDownReferenceIdeal.main (F := Ideal))) ⟨m', fun _ => 0, g'⟩ (fun r => ∀ c : Dev Cert.ChipSumFfnDownReferenceIdeal.nD,
          r.2.mem ((c.tc : Thread Cert.ChipSumFfnDownReferenceIdeal.nD Cert.ChipSumFfnDownReferenceIdeal.τ).loc Cert.ChipSumFfnDownReferenceIdeal.main_v11) = v0 c
          ∧ r.2.mem ((c.tc : Thread Cert.ChipSumFfnDownReferenceIdeal.nD Cert.ChipSumFfnDownReferenceIdeal.τ).loc Cert.ChipSumFfnDownReferenceIdeal.main_arg0) = m' ((c.tc : Thread Cert.ChipSumFfnDownReferenceIdeal.nD Cert.ChipSumFfnDownReferenceIdeal.τ).loc Cert.ChipSumFfnDownReferenceIdeal.main_arg0))

def bitexact_ChipSumFfnDown_ChipSumFfnDownReference [hChipSumFfnDown : Cert.ChipSumFfnDown.Facts] [hChipSumFfnDownReference : Cert.ChipSumFfnDownReference.Facts] : Prop :=
  ∀ (m : (ℓ : Loc Cert.ChipSumFfnDown.nD Cert.ChipSumFfnDown.τ Cert.ChipSumFfnDown.sig) → Buf (Elt Bits) ℓ) (g : Dev Cert.ChipSumFfnDown.nD → PrngReg)
    (m' : (ℓ : Loc Cert.ChipSumFfnDownReference.nD Cert.ChipSumFfnDownReference.τ Cert.ChipSumFfnDownReference.sig) → Buf (Elt Bits) ℓ) (g' : Dev Cert.ChipSumFfnDownReference.nD → PrngReg), Pre_ChipSumFfnDown m →
    (∀ c : Dev Cert.ChipSumFfnDown.nD,
      m' ((c.tc : Thread Cert.ChipSumFfnDownReference.nD Cert.ChipSumFfnDownReference.τ).loc Cert.ChipSumFfnDownReference.main_arg0) = m ((c.tc : Thread Cert.ChipSumFfnDown.nD Cert.ChipSumFfnDown.τ).loc Cert.ChipSumFfnDown.main_arg0)) →
    ∃ (v0 : (c : Dev Cert.ChipSumFfnDown.nD) → Buf (Elt Bits) ((c.tc : Thread Cert.ChipSumFfnDown.nD Cert.ChipSumFfnDown.τ).loc Cert.ChipSumFfnDown.main_v0)),
      θ_run (Cert.ChipSumFfnDown.defs (F := Bits)) (onTc (τ := Cert.ChipSumFfnDown.τ) (Cert.ChipSumFfnDown.main (F := Bits))) ⟨m, fun _ => 0, g⟩ (fun r => ∀ c : Dev Cert.ChipSumFfnDown.nD,
          r.2.mem ((c.tc : Thread Cert.ChipSumFfnDown.nD Cert.ChipSumFfnDown.τ).loc Cert.ChipSumFfnDown.main_v0) = v0 c
          ∧ r.2.mem ((c.tc : Thread Cert.ChipSumFfnDown.nD Cert.ChipSumFfnDown.τ).loc Cert.ChipSumFfnDown.main_arg0) = m ((c.tc : Thread Cert.ChipSumFfnDown.nD Cert.ChipSumFfnDown.τ).loc Cert.ChipSumFfnDown.main_arg0))
      ∧ θ_run (Cert.ChipSumFfnDownReference.defs (F := Bits)) (onTc (τ := Cert.ChipSumFfnDownReference.τ) (Cert.ChipSumFfnDownReference.main (F := Bits))) ⟨m', fun _ => 0, g'⟩ (fun r => ∀ c : Dev Cert.ChipSumFfnDownReference.nD,
          r.2.mem ((c.tc : Thread Cert.ChipSumFfnDownReference.nD Cert.ChipSumFfnDownReference.τ).loc Cert.ChipSumFfnDownReference.main_v11) = v0 c
          ∧ r.2.mem ((c.tc : Thread Cert.ChipSumFfnDownReference.nD Cert.ChipSumFfnDownReference.τ).loc Cert.ChipSumFfnDownReference.main_arg0) = m' ((c.tc : Thread Cert.ChipSumFfnDownReference.nD Cert.ChipSumFfnDownReference.τ).loc Cert.ChipSumFfnDownReference.main_arg0))

def preserves_ChipSumDilQkv_ChipSumDilQkvIdeal : Prop :=
  True

def algebraic_ChipSumDilQkvIdeal_ChipSumDilQkvReferenceIdeal [hChipSumDilQkvIdeal : Cert.ChipSumDilQkvIdeal.Facts] [hChipSumDilQkvReferenceIdeal : Cert.ChipSumDilQkvReferenceIdeal.Facts] : Prop :=
  ∀ (m : (ℓ : Loc Cert.ChipSumDilQkvIdeal.nD Cert.ChipSumDilQkvIdeal.τ Cert.ChipSumDilQkvIdeal.sig) → Buf (Elt Ideal) ℓ) (g : Dev Cert.ChipSumDilQkvIdeal.nD → PrngReg)
    (m' : (ℓ : Loc Cert.ChipSumDilQkvReferenceIdeal.nD Cert.ChipSumDilQkvReferenceIdeal.τ Cert.ChipSumDilQkvReferenceIdeal.sig) → Buf (Elt Ideal) ℓ) (g' : Dev Cert.ChipSumDilQkvReferenceIdeal.nD → PrngReg), Pre_ChipSumDilQkvIdeal m →
    (∀ c : Dev Cert.ChipSumDilQkvIdeal.nD,
      m' ((c.tc : Thread Cert.ChipSumDilQkvReferenceIdeal.nD Cert.ChipSumDilQkvReferenceIdeal.τ).loc Cert.ChipSumDilQkvReferenceIdeal.main_arg0) = m ((c.tc : Thread Cert.ChipSumDilQkvIdeal.nD Cert.ChipSumDilQkvIdeal.τ).loc Cert.ChipSumDilQkvIdeal.main_arg0)) →
    ∃ (v0 : (c : Dev Cert.ChipSumDilQkvIdeal.nD) → Buf (Elt Ideal) ((c.tc : Thread Cert.ChipSumDilQkvIdeal.nD Cert.ChipSumDilQkvIdeal.τ).loc Cert.ChipSumDilQkvIdeal.main_v0)),
      θ_run (Cert.ChipSumDilQkvIdeal.defs (F := Ideal)) (onTc (τ := Cert.ChipSumDilQkvIdeal.τ) (Cert.ChipSumDilQkvIdeal.main (F := Ideal))) ⟨m, fun _ => 0, g⟩ (fun r => ∀ c : Dev Cert.ChipSumDilQkvIdeal.nD,
          r.2.mem ((c.tc : Thread Cert.ChipSumDilQkvIdeal.nD Cert.ChipSumDilQkvIdeal.τ).loc Cert.ChipSumDilQkvIdeal.main_v0) = v0 c
          ∧ r.2.mem ((c.tc : Thread Cert.ChipSumDilQkvIdeal.nD Cert.ChipSumDilQkvIdeal.τ).loc Cert.ChipSumDilQkvIdeal.main_arg0) = m ((c.tc : Thread Cert.ChipSumDilQkvIdeal.nD Cert.ChipSumDilQkvIdeal.τ).loc Cert.ChipSumDilQkvIdeal.main_arg0))
      ∧ θ_run (Cert.ChipSumDilQkvReferenceIdeal.defs (F := Ideal)) (onTc (τ := Cert.ChipSumDilQkvReferenceIdeal.τ) (Cert.ChipSumDilQkvReferenceIdeal.main (F := Ideal))) ⟨m', fun _ => 0, g'⟩ (fun r => ∀ c : Dev Cert.ChipSumDilQkvReferenceIdeal.nD,
          r.2.mem ((c.tc : Thread Cert.ChipSumDilQkvReferenceIdeal.nD Cert.ChipSumDilQkvReferenceIdeal.τ).loc Cert.ChipSumDilQkvReferenceIdeal.main_v11) = v0 c
          ∧ r.2.mem ((c.tc : Thread Cert.ChipSumDilQkvReferenceIdeal.nD Cert.ChipSumDilQkvReferenceIdeal.τ).loc Cert.ChipSumDilQkvReferenceIdeal.main_arg0) = m' ((c.tc : Thread Cert.ChipSumDilQkvReferenceIdeal.nD Cert.ChipSumDilQkvReferenceIdeal.τ).loc Cert.ChipSumDilQkvReferenceIdeal.main_arg0))

def bitexact_ChipSumDilQkv_ChipSumDilQkvReference [hChipSumDilQkv : Cert.ChipSumDilQkv.Facts] [hChipSumDilQkvReference : Cert.ChipSumDilQkvReference.Facts] : Prop :=
  ∀ (m : (ℓ : Loc Cert.ChipSumDilQkv.nD Cert.ChipSumDilQkv.τ Cert.ChipSumDilQkv.sig) → Buf (Elt Bits) ℓ) (g : Dev Cert.ChipSumDilQkv.nD → PrngReg)
    (m' : (ℓ : Loc Cert.ChipSumDilQkvReference.nD Cert.ChipSumDilQkvReference.τ Cert.ChipSumDilQkvReference.sig) → Buf (Elt Bits) ℓ) (g' : Dev Cert.ChipSumDilQkvReference.nD → PrngReg), Pre_ChipSumDilQkv m →
    (∀ c : Dev Cert.ChipSumDilQkv.nD,
      m' ((c.tc : Thread Cert.ChipSumDilQkvReference.nD Cert.ChipSumDilQkvReference.τ).loc Cert.ChipSumDilQkvReference.main_arg0) = m ((c.tc : Thread Cert.ChipSumDilQkv.nD Cert.ChipSumDilQkv.τ).loc Cert.ChipSumDilQkv.main_arg0)) →
    ∃ (v0 : (c : Dev Cert.ChipSumDilQkv.nD) → Buf (Elt Bits) ((c.tc : Thread Cert.ChipSumDilQkv.nD Cert.ChipSumDilQkv.τ).loc Cert.ChipSumDilQkv.main_v0)),
      θ_run (Cert.ChipSumDilQkv.defs (F := Bits)) (onTc (τ := Cert.ChipSumDilQkv.τ) (Cert.ChipSumDilQkv.main (F := Bits))) ⟨m, fun _ => 0, g⟩ (fun r => ∀ c : Dev Cert.ChipSumDilQkv.nD,
          r.2.mem ((c.tc : Thread Cert.ChipSumDilQkv.nD Cert.ChipSumDilQkv.τ).loc Cert.ChipSumDilQkv.main_v0) = v0 c
          ∧ r.2.mem ((c.tc : Thread Cert.ChipSumDilQkv.nD Cert.ChipSumDilQkv.τ).loc Cert.ChipSumDilQkv.main_arg0) = m ((c.tc : Thread Cert.ChipSumDilQkv.nD Cert.ChipSumDilQkv.τ).loc Cert.ChipSumDilQkv.main_arg0))
      ∧ θ_run (Cert.ChipSumDilQkvReference.defs (F := Bits)) (onTc (τ := Cert.ChipSumDilQkvReference.τ) (Cert.ChipSumDilQkvReference.main (F := Bits))) ⟨m', fun _ => 0, g'⟩ (fun r => ∀ c : Dev Cert.ChipSumDilQkvReference.nD,
          r.2.mem ((c.tc : Thread Cert.ChipSumDilQkvReference.nD Cert.ChipSumDilQkvReference.τ).loc Cert.ChipSumDilQkvReference.main_v11) = v0 c
          ∧ r.2.mem ((c.tc : Thread Cert.ChipSumDilQkvReference.nD Cert.ChipSumDilQkvReference.τ).loc Cert.ChipSumDilQkvReference.main_arg0) = m' ((c.tc : Thread Cert.ChipSumDilQkvReference.nD Cert.ChipSumDilQkvReference.τ).loc Cert.ChipSumDilQkvReference.main_arg0))

def preserves_AdamNaQkv_AdamNaQkvIdeal : Prop :=
  True

def algebraic_AdamNaQkvIdeal_AdamNaQkvReferenceIdeal [hAdamNaQkvIdeal : Cert.AdamNaQkvIdeal.Facts] [hAdamNaQkvReferenceIdeal : Cert.AdamNaQkvReferenceIdeal.Facts] : Prop :=
  ∀ (m : (ℓ : Loc Cert.AdamNaQkvIdeal.nD Cert.AdamNaQkvIdeal.τ Cert.AdamNaQkvIdeal.sig) → Buf (Elt Ideal) ℓ) (g : Dev Cert.AdamNaQkvIdeal.nD → PrngReg)
    (m' : (ℓ : Loc Cert.AdamNaQkvReferenceIdeal.nD Cert.AdamNaQkvReferenceIdeal.τ Cert.AdamNaQkvReferenceIdeal.sig) → Buf (Elt Ideal) ℓ) (g' : Dev Cert.AdamNaQkvReferenceIdeal.nD → PrngReg), Pre_AdamNaQkvIdeal m →
    (∀ c : Dev Cert.AdamNaQkvIdeal.nD,
      m' ((c.tc : Thread Cert.AdamNaQkvReferenceIdeal.nD Cert.AdamNaQkvReferenceIdeal.τ).loc Cert.AdamNaQkvReferenceIdeal.main_arg0) = m ((c.tc : Thread Cert.AdamNaQkvIdeal.nD Cert.AdamNaQkvIdeal.τ).loc Cert.AdamNaQkvIdeal.main_arg0)
      ∧ m' ((c.tc : Thread Cert.AdamNaQkvReferenceIdeal.nD Cert.AdamNaQkvReferenceIdeal.τ).loc Cert.AdamNaQkvReferenceIdeal.main_arg1) = m ((c.tc : Thread Cert.AdamNaQkvIdeal.nD Cert.AdamNaQkvIdeal.τ).loc Cert.AdamNaQkvIdeal.main_arg1)
      ∧ m' ((c.tc : Thread Cert.AdamNaQkvReferenceIdeal.nD Cert.AdamNaQkvReferenceIdeal.τ).loc Cert.AdamNaQkvReferenceIdeal.main_arg2) = m ((c.tc : Thread Cert.AdamNaQkvIdeal.nD Cert.AdamNaQkvIdeal.τ).loc Cert.AdamNaQkvIdeal.main_arg2)
      ∧ m' ((c.tc : Thread Cert.AdamNaQkvReferenceIdeal.nD Cert.AdamNaQkvReferenceIdeal.τ).loc Cert.AdamNaQkvReferenceIdeal.main_arg3) = m ((c.tc : Thread Cert.AdamNaQkvIdeal.nD Cert.AdamNaQkvIdeal.τ).loc Cert.AdamNaQkvIdeal.main_arg3)) →
    ∃ (v0 : (c : Dev Cert.AdamNaQkvIdeal.nD) → Buf (Elt Ideal) ((c.tc : Thread Cert.AdamNaQkvIdeal.nD Cert.AdamNaQkvIdeal.τ).loc Cert.AdamNaQkvIdeal.main_v0_0)) (v1 : (c : Dev Cert.AdamNaQkvIdeal.nD) → Buf (Elt Ideal) ((c.tc : Thread Cert.AdamNaQkvIdeal.nD Cert.AdamNaQkvIdeal.τ).loc Cert.AdamNaQkvIdeal.main_v0_1)) (v2 : (c : Dev Cert.AdamNaQkvIdeal.nD) → Buf (Elt Ideal) ((c.tc : Thread Cert.AdamNaQkvIdeal.nD Cert.AdamNaQkvIdeal.τ).loc Cert.AdamNaQkvIdeal.main_v0_2)) (v3 : (c : Dev Cert.AdamNaQkvIdeal.nD) → Buf (Elt Ideal) ((c.tc : Thread Cert.AdamNaQkvIdeal.nD Cert.AdamNaQkvIdeal.τ).loc Cert.AdamNaQkvIdeal.main_v0_3)),
      θ_run (Cert.AdamNaQkvIdeal.defs (F := Ideal)) (onTc (τ := Cert.AdamNaQkvIdeal.τ) (Cert.AdamNaQkvIdeal.main (F := Ideal))) ⟨m, fun _ => 0, g⟩ (fun r => ∀ c : Dev Cert.AdamNaQkvIdeal.nD,
          r.2.mem ((c.tc : Thread Cert.AdamNaQkvIdeal.nD Cert.AdamNaQkvIdeal.τ).loc Cert.AdamNaQkvIdeal.main_v0_0) = v0 c
          ∧ r.2.mem ((c.tc : Thread Cert.AdamNaQkvIdeal.nD Cert.AdamNaQkvIdeal.τ).loc Cert.AdamNaQkvIdeal.main_v0_1) = v1 c
          ∧ r.2.mem ((c.tc : Thread Cert.AdamNaQkvIdeal.nD Cert.AdamNaQkvIdeal.τ).loc Cert.AdamNaQkvIdeal.main_v0_2) = v2 c
          ∧ r.2.mem ((c.tc : Thread Cert.AdamNaQkvIdeal.nD Cert.AdamNaQkvIdeal.τ).loc Cert.AdamNaQkvIdeal.main_v0_3) = v3 c
          ∧ r.2.mem ((c.tc : Thread Cert.AdamNaQkvIdeal.nD Cert.AdamNaQkvIdeal.τ).loc Cert.AdamNaQkvIdeal.main_arg0) = m ((c.tc : Thread Cert.AdamNaQkvIdeal.nD Cert.AdamNaQkvIdeal.τ).loc Cert.AdamNaQkvIdeal.main_arg0)
          ∧ r.2.mem ((c.tc : Thread Cert.AdamNaQkvIdeal.nD Cert.AdamNaQkvIdeal.τ).loc Cert.AdamNaQkvIdeal.main_arg1) = m ((c.tc : Thread Cert.AdamNaQkvIdeal.nD Cert.AdamNaQkvIdeal.τ).loc Cert.AdamNaQkvIdeal.main_arg1)
          ∧ r.2.mem ((c.tc : Thread Cert.AdamNaQkvIdeal.nD Cert.AdamNaQkvIdeal.τ).loc Cert.AdamNaQkvIdeal.main_arg2) = m ((c.tc : Thread Cert.AdamNaQkvIdeal.nD Cert.AdamNaQkvIdeal.τ).loc Cert.AdamNaQkvIdeal.main_arg2)
          ∧ r.2.mem ((c.tc : Thread Cert.AdamNaQkvIdeal.nD Cert.AdamNaQkvIdeal.τ).loc Cert.AdamNaQkvIdeal.main_arg3) = m ((c.tc : Thread Cert.AdamNaQkvIdeal.nD Cert.AdamNaQkvIdeal.τ).loc Cert.AdamNaQkvIdeal.main_arg3))
      ∧ θ_run (Cert.AdamNaQkvReferenceIdeal.defs (F := Ideal)) (onTc (τ := Cert.AdamNaQkvReferenceIdeal.τ) (Cert.AdamNaQkvReferenceIdeal.main (F := Ideal))) ⟨m', fun _ => 0, g'⟩ (fun r => ∀ c : Dev Cert.AdamNaQkvReferenceIdeal.nD,
          r.2.mem ((c.tc : Thread Cert.AdamNaQkvReferenceIdeal.nD Cert.AdamNaQkvReferenceIdeal.τ).loc Cert.AdamNaQkvReferenceIdeal.main_arg1) = v0 c
          ∧ r.2.mem ((c.tc : Thread Cert.AdamNaQkvReferenceIdeal.nD Cert.AdamNaQkvReferenceIdeal.τ).loc Cert.AdamNaQkvReferenceIdeal.main_v23) = v1 c
          ∧ r.2.mem ((c.tc : Thread Cert.AdamNaQkvReferenceIdeal.nD Cert.AdamNaQkvReferenceIdeal.τ).loc Cert.AdamNaQkvReferenceIdeal.main_v4) = v2 c
          ∧ r.2.mem ((c.tc : Thread Cert.AdamNaQkvReferenceIdeal.nD Cert.AdamNaQkvReferenceIdeal.τ).loc Cert.AdamNaQkvReferenceIdeal.main_v10) = v3 c
          ∧ r.2.mem ((c.tc : Thread Cert.AdamNaQkvReferenceIdeal.nD Cert.AdamNaQkvReferenceIdeal.τ).loc Cert.AdamNaQkvReferenceIdeal.main_arg0) = m' ((c.tc : Thread Cert.AdamNaQkvReferenceIdeal.nD Cert.AdamNaQkvReferenceIdeal.τ).loc Cert.AdamNaQkvReferenceIdeal.main_arg0)
          ∧ r.2.mem ((c.tc : Thread Cert.AdamNaQkvReferenceIdeal.nD Cert.AdamNaQkvReferenceIdeal.τ).loc Cert.AdamNaQkvReferenceIdeal.main_arg1) = m' ((c.tc : Thread Cert.AdamNaQkvReferenceIdeal.nD Cert.AdamNaQkvReferenceIdeal.τ).loc Cert.AdamNaQkvReferenceIdeal.main_arg1)
          ∧ r.2.mem ((c.tc : Thread Cert.AdamNaQkvReferenceIdeal.nD Cert.AdamNaQkvReferenceIdeal.τ).loc Cert.AdamNaQkvReferenceIdeal.main_arg2) = m' ((c.tc : Thread Cert.AdamNaQkvReferenceIdeal.nD Cert.AdamNaQkvReferenceIdeal.τ).loc Cert.AdamNaQkvReferenceIdeal.main_arg2)
          ∧ r.2.mem ((c.tc : Thread Cert.AdamNaQkvReferenceIdeal.nD Cert.AdamNaQkvReferenceIdeal.τ).loc Cert.AdamNaQkvReferenceIdeal.main_arg3) = m' ((c.tc : Thread Cert.AdamNaQkvReferenceIdeal.nD Cert.AdamNaQkvReferenceIdeal.τ).loc Cert.AdamNaQkvReferenceIdeal.main_arg3))

def preserves_AdamOut_AdamOutIdeal : Prop :=
  True

def algebraic_AdamOutIdeal_AdamOutReferenceIdeal [hAdamOutIdeal : Cert.AdamOutIdeal.Facts] [hAdamOutReferenceIdeal : Cert.AdamOutReferenceIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutReferenceIdeal.nD Cert.AdamOutReferenceIdeal.τ Cert.AdamOutReferenceIdeal.sig) → Buf (Elt Ideal) ℓ) (g' : Dev Cert.AdamOutReferenceIdeal.nD → PrngReg), Pre_AdamOutIdeal m →
    (∀ c : Dev Cert.AdamOutIdeal.nD,
      m' ((c.tc : Thread Cert.AdamOutReferenceIdeal.nD Cert.AdamOutReferenceIdeal.τ).loc Cert.AdamOutReferenceIdeal.main_arg0) = m ((c.tc : Thread Cert.AdamOutIdeal.nD Cert.AdamOutIdeal.τ).loc Cert.AdamOutIdeal.main_arg0)
      ∧ m' ((c.tc : Thread Cert.AdamOutReferenceIdeal.nD Cert.AdamOutReferenceIdeal.τ).loc Cert.AdamOutReferenceIdeal.main_arg1) = m ((c.tc : Thread Cert.AdamOutIdeal.nD Cert.AdamOutIdeal.τ).loc Cert.AdamOutIdeal.main_arg1)
      ∧ m' ((c.tc : Thread Cert.AdamOutReferenceIdeal.nD Cert.AdamOutReferenceIdeal.τ).loc Cert.AdamOutReferenceIdeal.main_arg2) = m ((c.tc : Thread Cert.AdamOutIdeal.nD Cert.AdamOutIdeal.τ).loc Cert.AdamOutIdeal.main_arg2)
      ∧ m' ((c.tc : Thread Cert.AdamOutReferenceIdeal.nD Cert.AdamOutReferenceIdeal.τ).loc Cert.AdamOutReferenceIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutReferenceIdeal.defs (F := Ideal)) (onTc (τ := Cert.AdamOutReferenceIdeal.τ) (Cert.AdamOutReferenceIdeal.main (F := Ideal))) ⟨m', fun _ => 0, g'⟩ (fun r => ∀ c : Dev Cert.AdamOutReferenceIdeal.nD,
          r.2.mem ((c.tc : Thread Cert.AdamOutReferenceIdeal.nD Cert.AdamOutReferenceIdeal.τ).loc Cert.AdamOutReferenceIdeal.main_arg1) = v0 c
          ∧ r.2.mem ((c.tc : Thread Cert.AdamOutReferenceIdeal.nD Cert.AdamOutReferenceIdeal.τ).loc Cert.AdamOutReferenceIdeal.main_v23) = v1 c
          ∧ r.2.mem ((c.tc : Thread Cert.AdamOutReferenceIdeal.nD Cert.AdamOutReferenceIdeal.τ).loc Cert.AdamOutReferenceIdeal.main_v4) = v2 c
          ∧ r.2.mem ((c.tc : Thread Cert.AdamOutReferenceIdeal.nD Cert.AdamOutReferenceIdeal.τ).loc Cert.AdamOutReferenceIdeal.main_v10) = v3 c
          ∧ r.2.mem ((c.tc : Thread Cert.AdamOutReferenceIdeal.nD Cert.AdamOutReferenceIdeal.τ).loc Cert.AdamOutReferenceIdeal.main_arg0) = m' ((c.tc : Thread Cert.AdamOutReferenceIdeal.nD Cert.AdamOutReferenceIdeal.τ).loc Cert.AdamOutReferenceIdeal.main_arg0)
          ∧ r.2.mem ((c.tc : Thread Cert.AdamOutReferenceIdeal.nD Cert.AdamOutReferenceIdeal.τ).loc Cert.AdamOutReferenceIdeal.main_arg1) = m' ((c.tc : Thread Cert.AdamOutReferenceIdeal.nD Cert.AdamOutReferenceIdeal.τ).loc Cert.AdamOutReferenceIdeal.main_arg1)
          ∧ r.2.mem ((c.tc : Thread Cert.AdamOutReferenceIdeal.nD Cert.AdamOutReferenceIdeal.τ).loc Cert.AdamOutReferenceIdeal.main_arg2) = m' ((c.tc : Thread Cert.AdamOutReferenceIdeal.nD Cert.AdamOutReferenceIdeal.τ).loc Cert.AdamOutReferenceIdeal.main_arg2)
          ∧ r.2.mem ((c.tc : Thread Cert.AdamOutReferenceIdeal.nD Cert.AdamOutReferenceIdeal.τ).loc Cert.AdamOutReferenceIdeal.main_arg3) = m' ((c.tc : Thread Cert.AdamOutReferenceIdeal.nD Cert.AdamOutReferenceIdeal.τ).loc Cert.AdamOutReferenceIdeal.main_arg3))

def preserves_AdamFfn_AdamFfnIdeal : Prop :=
  True

def algebraic_AdamFfnIdeal_AdamFfnReferenceIdeal [hAdamFfnIdeal : Cert.AdamFfnIdeal.Facts] [hAdamFfnReferenceIdeal : Cert.AdamFfnReferenceIdeal.Facts] : Prop :=
  ∀ (m : (ℓ : Loc Cert.AdamFfnIdeal.nD Cert.AdamFfnIdeal.τ Cert.AdamFfnIdeal.sig) → Buf (Elt Ideal) ℓ) (g : Dev Cert.AdamFfnIdeal.nD → PrngReg)
    (m' : (ℓ : Loc Cert.AdamFfnReferenceIdeal.nD Cert.AdamFfnReferenceIdeal.τ Cert.AdamFfnReferenceIdeal.sig) → Buf (Elt Ideal) ℓ) (g' : Dev Cert.AdamFfnReferenceIdeal.nD → PrngReg), Pre_AdamFfnIdeal m →
    (∀ c : Dev Cert.AdamFfnIdeal.nD,
      m' ((c.tc : Thread Cert.AdamFfnReferenceIdeal.nD Cert.AdamFfnReferenceIdeal.τ).loc Cert.AdamFfnReferenceIdeal.main_arg0) = m ((c.tc : Thread Cert.AdamFfnIdeal.nD Cert.AdamFfnIdeal.τ).loc Cert.AdamFfnIdeal.main_arg0)
      ∧ m' ((c.tc : Thread Cert.AdamFfnReferenceIdeal.nD Cert.AdamFfnReferenceIdeal.τ).loc Cert.AdamFfnReferenceIdeal.main_arg1) = m ((c.tc : Thread Cert.AdamFfnIdeal.nD Cert.AdamFfnIdeal.τ).loc Cert.AdamFfnIdeal.main_arg1)
      ∧ m' ((c.tc : Thread Cert.AdamFfnReferenceIdeal.nD Cert.AdamFfnReferenceIdeal.τ).loc Cert.AdamFfnReferenceIdeal.main_arg2) = m ((c.tc : Thread Cert.AdamFfnIdeal.nD Cert.AdamFfnIdeal.τ).loc Cert.AdamFfnIdeal.main_arg2)
      ∧ m' ((c.tc : Thread Cert.AdamFfnReferenceIdeal.nD Cert.AdamFfnReferenceIdeal.τ).loc Cert.AdamFfnReferenceIdeal.main_arg3) = m ((c.tc : Thread Cert.AdamFfnIdeal.nD Cert.AdamFfnIdeal.τ).loc Cert.AdamFfnIdeal.main_arg3)) →
    ∃ (v0 : (c : Dev Cert.AdamFfnIdeal.nD) → Buf (Elt Ideal) ((c.tc : Thread Cert.AdamFfnIdeal.nD Cert.AdamFfnIdeal.τ).loc Cert.AdamFfnIdeal.main_v0_0)) (v1 : (c : Dev Cert.AdamFfnIdeal.nD) → Buf (Elt Ideal) ((c.tc : Thread Cert.AdamFfnIdeal.nD Cert.AdamFfnIdeal.τ).loc Cert.AdamFfnIdeal.main_v0_1)) (v2 : (c : Dev Cert.AdamFfnIdeal.nD) → Buf (Elt Ideal) ((c.tc : Thread Cert.AdamFfnIdeal.nD Cert.AdamFfnIdeal.τ).loc Cert.AdamFfnIdeal.main_v0_2)) (v3 : (c : Dev Cert.AdamFfnIdeal.nD) → Buf (Elt Ideal) ((c.tc : Thread Cert.AdamFfnIdeal.nD Cert.AdamFfnIdeal.τ).loc Cert.AdamFfnIdeal.main_v0_3)),
      θ_run (Cert.AdamFfnIdeal.defs (F := Ideal)) (onTc (τ := Cert.AdamFfnIdeal.τ) (Cert.AdamFfnIdeal.main (F := Ideal))) ⟨m, fun _ => 0, g⟩ (fun r => ∀ c : Dev Cert.AdamFfnIdeal.nD,
          r.2.mem ((c.tc : Thread Cert.AdamFfnIdeal.nD Cert.AdamFfnIdeal.τ).loc Cert.AdamFfnIdeal.main_v0_0) = v0 c
          ∧ r.2.mem ((c.tc : Thread Cert.AdamFfnIdeal.nD Cert.AdamFfnIdeal.τ).loc Cert.AdamFfnIdeal.main_v0_1) = v1 c
          ∧ r.2.mem ((c.tc : Thread Cert.AdamFfnIdeal.nD Cert.AdamFfnIdeal.τ).loc Cert.AdamFfnIdeal.main_v0_2) = v2 c
          ∧ r.2.mem ((c.tc : Thread Cert.AdamFfnIdeal.nD Cert.AdamFfnIdeal.τ).loc Cert.AdamFfnIdeal.main_v0_3) = v3 c
          ∧ r.2.mem ((c.tc : Thread Cert.AdamFfnIdeal.nD Cert.AdamFfnIdeal.τ).loc Cert.AdamFfnIdeal.main_arg0) = m ((c.tc : Thread Cert.AdamFfnIdeal.nD Cert.AdamFfnIdeal.τ).loc Cert.AdamFfnIdeal.main_arg0)
          ∧ r.2.mem ((c.tc : Thread Cert.AdamFfnIdeal.nD Cert.AdamFfnIdeal.τ).loc Cert.AdamFfnIdeal.main_arg1) = m ((c.tc : Thread Cert.AdamFfnIdeal.nD Cert.AdamFfnIdeal.τ).loc Cert.AdamFfnIdeal.main_arg1)
          ∧ r.2.mem ((c.tc : Thread Cert.AdamFfnIdeal.nD Cert.AdamFfnIdeal.τ).loc Cert.AdamFfnIdeal.main_arg2) = m ((c.tc : Thread Cert.AdamFfnIdeal.nD Cert.AdamFfnIdeal.τ).loc Cert.AdamFfnIdeal.main_arg2)
          ∧ r.2.mem ((c.tc : Thread Cert.AdamFfnIdeal.nD Cert.AdamFfnIdeal.τ).loc Cert.AdamFfnIdeal.main_arg3) = m ((c.tc : Thread Cert.AdamFfnIdeal.nD Cert.AdamFfnIdeal.τ).loc Cert.AdamFfnIdeal.main_arg3))
      ∧ θ_run (Cert.AdamFfnReferenceIdeal.defs (F := Ideal)) (onTc (τ := Cert.AdamFfnReferenceIdeal.τ) (Cert.AdamFfnReferenceIdeal.main (F := Ideal))) ⟨m', fun _ => 0, g'⟩ (fun r => ∀ c : Dev Cert.AdamFfnReferenceIdeal.nD,
          r.2.mem ((c.tc : Thread Cert.AdamFfnReferenceIdeal.nD Cert.AdamFfnReferenceIdeal.τ).loc Cert.AdamFfnReferenceIdeal.main_arg1) = v0 c
          ∧ r.2.mem ((c.tc : Thread Cert.AdamFfnReferenceIdeal.nD Cert.AdamFfnReferenceIdeal.τ).loc Cert.AdamFfnReferenceIdeal.main_v23) = v1 c
          ∧ r.2.mem ((c.tc : Thread Cert.AdamFfnReferenceIdeal.nD Cert.AdamFfnReferenceIdeal.τ).loc Cert.AdamFfnReferenceIdeal.main_v4) = v2 c
          ∧ r.2.mem ((c.tc : Thread Cert.AdamFfnReferenceIdeal.nD Cert.AdamFfnReferenceIdeal.τ).loc Cert.AdamFfnReferenceIdeal.main_v10) = v3 c
          ∧ r.2.mem ((c.tc : Thread Cert.AdamFfnReferenceIdeal.nD Cert.AdamFfnReferenceIdeal.τ).loc Cert.AdamFfnReferenceIdeal.main_arg0) = m' ((c.tc : Thread Cert.AdamFfnReferenceIdeal.nD Cert.AdamFfnReferenceIdeal.τ).loc Cert.AdamFfnReferenceIdeal.main_arg0)
          ∧ r.2.mem ((c.tc : Thread Cert.AdamFfnReferenceIdeal.nD Cert.AdamFfnReferenceIdeal.τ).loc Cert.AdamFfnReferenceIdeal.main_arg1) = m' ((c.tc : Thread Cert.AdamFfnReferenceIdeal.nD Cert.AdamFfnReferenceIdeal.τ).loc Cert.AdamFfnReferenceIdeal.main_arg1)
          ∧ r.2.mem ((c.tc : Thread Cert.AdamFfnReferenceIdeal.nD Cert.AdamFfnReferenceIdeal.τ).loc Cert.AdamFfnReferenceIdeal.main_arg2) = m' ((c.tc : Thread Cert.AdamFfnReferenceIdeal.nD Cert.AdamFfnReferenceIdeal.τ).loc Cert.AdamFfnReferenceIdeal.main_arg2)
          ∧ r.2.mem ((c.tc : Thread Cert.AdamFfnReferenceIdeal.nD Cert.AdamFfnReferenceIdeal.τ).loc Cert.AdamFfnReferenceIdeal.main_arg3) = m' ((c.tc : Thread Cert.AdamFfnReferenceIdeal.nD Cert.AdamFfnReferenceIdeal.τ).loc Cert.AdamFfnReferenceIdeal.main_arg3))

def preserves_AdamFfnDown_AdamFfnDownIdeal : Prop :=
  True

def algebraic_AdamFfnDownIdeal_AdamFfnDownReferenceIdeal [hAdamFfnDownIdeal : Cert.AdamFfnDownIdeal.Facts] [hAdamFfnDownReferenceIdeal : Cert.AdamFfnDownReferenceIdeal.Facts] : Prop :=
  ∀ (m : (ℓ : Loc Cert.AdamFfnDownIdeal.nD Cert.AdamFfnDownIdeal.τ Cert.AdamFfnDownIdeal.sig) → Buf (Elt Ideal) ℓ) (g : Dev Cert.AdamFfnDownIdeal.nD → PrngReg)
    (m' : (ℓ : Loc Cert.AdamFfnDownReferenceIdeal.nD Cert.AdamFfnDownReferenceIdeal.τ Cert.AdamFfnDownReferenceIdeal.sig) → Buf (Elt Ideal) ℓ) (g' : Dev Cert.AdamFfnDownReferenceIdeal.nD → PrngReg), Pre_AdamFfnDownIdeal m →
    (∀ c : Dev Cert.AdamFfnDownIdeal.nD,
      m' ((c.tc : Thread Cert.AdamFfnDownReferenceIdeal.nD Cert.AdamFfnDownReferenceIdeal.τ).loc Cert.AdamFfnDownReferenceIdeal.main_arg0) = m ((c.tc : Thread Cert.AdamFfnDownIdeal.nD Cert.AdamFfnDownIdeal.τ).loc Cert.AdamFfnDownIdeal.main_arg0)
      ∧ m' ((c.tc : Thread Cert.AdamFfnDownReferenceIdeal.nD Cert.AdamFfnDownReferenceIdeal.τ).loc Cert.AdamFfnDownReferenceIdeal.main_arg1) = m ((c.tc : Thread Cert.AdamFfnDownIdeal.nD Cert.AdamFfnDownIdeal.τ).loc Cert.AdamFfnDownIdeal.main_arg1)
      ∧ m' ((c.tc : Thread Cert.AdamFfnDownReferenceIdeal.nD Cert.AdamFfnDownReferenceIdeal.τ).loc Cert.AdamFfnDownReferenceIdeal.main_arg2) = m ((c.tc : Thread Cert.AdamFfnDownIdeal.nD Cert.AdamFfnDownIdeal.τ).loc Cert.AdamFfnDownIdeal.main_arg2)
      ∧ m' ((c.tc : Thread Cert.AdamFfnDownReferenceIdeal.nD Cert.AdamFfnDownReferenceIdeal.τ).loc Cert.AdamFfnDownReferenceIdeal.main_arg3) = m ((c.tc : Thread Cert.AdamFfnDownIdeal.nD Cert.AdamFfnDownIdeal.τ).loc Cert.AdamFfnDownIdeal.main_arg3)) →
    ∃ (v0 : (c : Dev Cert.AdamFfnDownIdeal.nD) → Buf (Elt Ideal) ((c.tc : Thread Cert.AdamFfnDownIdeal.nD Cert.AdamFfnDownIdeal.τ).loc Cert.AdamFfnDownIdeal.main_v0_0)) (v1 : (c : Dev Cert.AdamFfnDownIdeal.nD) → Buf (Elt Ideal) ((c.tc : Thread Cert.AdamFfnDownIdeal.nD Cert.AdamFfnDownIdeal.τ).loc Cert.AdamFfnDownIdeal.main_v0_1)) (v2 : (c : Dev Cert.AdamFfnDownIdeal.nD) → Buf (Elt Ideal) ((c.tc : Thread Cert.AdamFfnDownIdeal.nD Cert.AdamFfnDownIdeal.τ).loc Cert.AdamFfnDownIdeal.main_v0_2)) (v3 : (c : Dev Cert.AdamFfnDownIdeal.nD) → Buf (Elt Ideal) ((c.tc : Thread Cert.AdamFfnDownIdeal.nD Cert.AdamFfnDownIdeal.τ).loc Cert.AdamFfnDownIdeal.main_v0_3)),
      θ_run (Cert.AdamFfnDownIdeal.defs (F := Ideal)) (onTc (τ := Cert.AdamFfnDownIdeal.τ) (Cert.AdamFfnDownIdeal.main (F := Ideal))) ⟨m, fun _ => 0, g⟩ (fun r => ∀ c : Dev Cert.AdamFfnDownIdeal.nD,
          r.2.mem ((c.tc : Thread Cert.AdamFfnDownIdeal.nD Cert.AdamFfnDownIdeal.τ).loc Cert.AdamFfnDownIdeal.main_v0_0) = v0 c
          ∧ r.2.mem ((c.tc : Thread Cert.AdamFfnDownIdeal.nD Cert.AdamFfnDownIdeal.τ).loc Cert.AdamFfnDownIdeal.main_v0_1) = v1 c
          ∧ r.2.mem ((c.tc : Thread Cert.AdamFfnDownIdeal.nD Cert.AdamFfnDownIdeal.τ).loc Cert.AdamFfnDownIdeal.main_v0_2) = v2 c
          ∧ r.2.mem ((c.tc : Thread Cert.AdamFfnDownIdeal.nD Cert.AdamFfnDownIdeal.τ).loc Cert.AdamFfnDownIdeal.main_v0_3) = v3 c
          ∧ r.2.mem ((c.tc : Thread Cert.AdamFfnDownIdeal.nD Cert.AdamFfnDownIdeal.τ).loc Cert.AdamFfnDownIdeal.main_arg0) = m ((c.tc : Thread Cert.AdamFfnDownIdeal.nD Cert.AdamFfnDownIdeal.τ).loc Cert.AdamFfnDownIdeal.main_arg0)
          ∧ r.2.mem ((c.tc : Thread Cert.AdamFfnDownIdeal.nD Cert.AdamFfnDownIdeal.τ).loc Cert.AdamFfnDownIdeal.main_arg1) = m ((c.tc : Thread Cert.AdamFfnDownIdeal.nD Cert.AdamFfnDownIdeal.τ).loc Cert.AdamFfnDownIdeal.main_arg1)
          ∧ r.2.mem ((c.tc : Thread Cert.AdamFfnDownIdeal.nD Cert.AdamFfnDownIdeal.τ).loc Cert.AdamFfnDownIdeal.main_arg2) = m ((c.tc : Thread Cert.AdamFfnDownIdeal.nD Cert.AdamFfnDownIdeal.τ).loc Cert.AdamFfnDownIdeal.main_arg2)
          ∧ r.2.mem ((c.tc : Thread Cert.AdamFfnDownIdeal.nD Cert.AdamFfnDownIdeal.τ).loc Cert.AdamFfnDownIdeal.main_arg3) = m ((c.tc : Thread Cert.AdamFfnDownIdeal.nD Cert.AdamFfnDownIdeal.τ).loc Cert.AdamFfnDownIdeal.main_arg3))
      ∧ θ_run (Cert.AdamFfnDownReferenceIdeal.defs (F := Ideal)) (onTc (τ := Cert.AdamFfnDownReferenceIdeal.τ) (Cert.AdamFfnDownReferenceIdeal.main (F := Ideal))) ⟨m', fun _ => 0, g'⟩ (fun r => ∀ c : Dev Cert.AdamFfnDownReferenceIdeal.nD,
          r.2.mem ((c.tc : Thread Cert.AdamFfnDownReferenceIdeal.nD Cert.AdamFfnDownReferenceIdeal.τ).loc Cert.AdamFfnDownReferenceIdeal.main_arg1) = v0 c
          ∧ r.2.mem ((c.tc : Thread Cert.AdamFfnDownReferenceIdeal.nD Cert.AdamFfnDownReferenceIdeal.τ).loc Cert.AdamFfnDownReferenceIdeal.main_v23) = v1 c
          ∧ r.2.mem ((c.tc : Thread Cert.AdamFfnDownReferenceIdeal.nD Cert.AdamFfnDownReferenceIdeal.τ).loc Cert.AdamFfnDownReferenceIdeal.main_v4) = v2 c
          ∧ r.2.mem ((c.tc : Thread Cert.AdamFfnDownReferenceIdeal.nD Cert.AdamFfnDownReferenceIdeal.τ).loc Cert.AdamFfnDownReferenceIdeal.main_v10) = v3 c
          ∧ r.2.mem ((c.tc : Thread Cert.AdamFfnDownReferenceIdeal.nD Cert.AdamFfnDownReferenceIdeal.τ).loc Cert.AdamFfnDownReferenceIdeal.main_arg0) = m' ((c.tc : Thread Cert.AdamFfnDownReferenceIdeal.nD Cert.AdamFfnDownReferenceIdeal.τ).loc Cert.AdamFfnDownReferenceIdeal.main_arg0)
          ∧ r.2.mem ((c.tc : Thread Cert.AdamFfnDownReferenceIdeal.nD Cert.AdamFfnDownReferenceIdeal.τ).loc Cert.AdamFfnDownReferenceIdeal.main_arg1) = m' ((c.tc : Thread Cert.AdamFfnDownReferenceIdeal.nD Cert.AdamFfnDownReferenceIdeal.τ).loc Cert.AdamFfnDownReferenceIdeal.main_arg1)
          ∧ r.2.mem ((c.tc : Thread Cert.AdamFfnDownReferenceIdeal.nD Cert.AdamFfnDownReferenceIdeal.τ).loc Cert.AdamFfnDownReferenceIdeal.main_arg2) = m' ((c.tc : Thread Cert.AdamFfnDownReferenceIdeal.nD Cert.AdamFfnDownReferenceIdeal.τ).loc Cert.AdamFfnDownReferenceIdeal.main_arg2)
          ∧ r.2.mem ((c.tc : Thread Cert.AdamFfnDownReferenceIdeal.nD Cert.AdamFfnDownReferenceIdeal.τ).loc Cert.AdamFfnDownReferenceIdeal.main_arg3) = m' ((c.tc : Thread Cert.AdamFfnDownReferenceIdeal.nD Cert.AdamFfnDownReferenceIdeal.τ).loc Cert.AdamFfnDownReferenceIdeal.main_arg3))

def preserves_AdamDilQkv_AdamDilQkvIdeal : Prop :=
  True

def algebraic_AdamDilQkvIdeal_AdamDilQkvReferenceIdeal [hAdamDilQkvIdeal : Cert.AdamDilQkvIdeal.Facts] [hAdamDilQkvReferenceIdeal : Cert.AdamDilQkvReferenceIdeal.Facts] : Prop :=
  ∀ (m : (ℓ : Loc Cert.AdamDilQkvIdeal.nD Cert.AdamDilQkvIdeal.τ Cert.AdamDilQkvIdeal.sig) → Buf (Elt Ideal) ℓ) (g : Dev Cert.AdamDilQkvIdeal.nD → PrngReg)
    (m' : (ℓ : Loc Cert.AdamDilQkvReferenceIdeal.nD Cert.AdamDilQkvReferenceIdeal.τ Cert.AdamDilQkvReferenceIdeal.sig) → Buf (Elt Ideal) ℓ) (g' : Dev Cert.AdamDilQkvReferenceIdeal.nD → PrngReg), Pre_AdamDilQkvIdeal m →
    (∀ c : Dev Cert.AdamDilQkvIdeal.nD,
      m' ((c.tc : Thread Cert.AdamDilQkvReferenceIdeal.nD Cert.AdamDilQkvReferenceIdeal.τ).loc Cert.AdamDilQkvReferenceIdeal.main_arg0) = m ((c.tc : Thread Cert.AdamDilQkvIdeal.nD Cert.AdamDilQkvIdeal.τ).loc Cert.AdamDilQkvIdeal.main_arg0)
      ∧ m' ((c.tc : Thread Cert.AdamDilQkvReferenceIdeal.nD Cert.AdamDilQkvReferenceIdeal.τ).loc Cert.AdamDilQkvReferenceIdeal.main_arg1) = m ((c.tc : Thread Cert.AdamDilQkvIdeal.nD Cert.AdamDilQkvIdeal.τ).loc Cert.AdamDilQkvIdeal.main_arg1)
      ∧ m' ((c.tc : Thread Cert.AdamDilQkvReferenceIdeal.nD Cert.AdamDilQkvReferenceIdeal.τ).loc Cert.AdamDilQkvReferenceIdeal.main_arg2) = m ((c.tc : Thread Cert.AdamDilQkvIdeal.nD Cert.AdamDilQkvIdeal.τ).loc Cert.AdamDilQkvIdeal.main_arg2)
      ∧ m' ((c.tc : Thread Cert.AdamDilQkvReferenceIdeal.nD Cert.AdamDilQkvReferenceIdeal.τ).loc Cert.AdamDilQkvReferenceIdeal.main_arg3) = m ((c.tc : Thread Cert.AdamDilQkvIdeal.nD Cert.AdamDilQkvIdeal.τ).loc Cert.AdamDilQkvIdeal.main_arg3)) →
    ∃ (v0 : (c : Dev Cert.AdamDilQkvIdeal.nD) → Buf (Elt Ideal) ((c.tc : Thread Cert.AdamDilQkvIdeal.nD Cert.AdamDilQkvIdeal.τ).loc Cert.AdamDilQkvIdeal.main_v0_0)) (v1 : (c : Dev Cert.AdamDilQkvIdeal.nD) → Buf (Elt Ideal) ((c.tc : Thread Cert.AdamDilQkvIdeal.nD Cert.AdamDilQkvIdeal.τ).loc Cert.AdamDilQkvIdeal.main_v0_1)) (v2 : (c : Dev Cert.AdamDilQkvIdeal.nD) → Buf (Elt Ideal) ((c.tc : Thread Cert.AdamDilQkvIdeal.nD Cert.AdamDilQkvIdeal.τ).loc Cert.AdamDilQkvIdeal.main_v0_2)) (v3 : (c : Dev Cert.AdamDilQkvIdeal.nD) → Buf (Elt Ideal) ((c.tc : Thread Cert.AdamDilQkvIdeal.nD Cert.AdamDilQkvIdeal.τ).loc Cert.AdamDilQkvIdeal.main_v0_3)),
      θ_run (Cert.AdamDilQkvIdeal.defs (F := Ideal)) (onTc (τ := Cert.AdamDilQkvIdeal.τ) (Cert.AdamDilQkvIdeal.main (F := Ideal))) ⟨m, fun _ => 0, g⟩ (fun r => ∀ c : Dev Cert.AdamDilQkvIdeal.nD,
          r.2.mem ((c.tc : Thread Cert.AdamDilQkvIdeal.nD Cert.AdamDilQkvIdeal.τ).loc Cert.AdamDilQkvIdeal.main_v0_0) = v0 c
          ∧ r.2.mem ((c.tc : Thread Cert.AdamDilQkvIdeal.nD Cert.AdamDilQkvIdeal.τ).loc Cert.AdamDilQkvIdeal.main_v0_1) = v1 c
          ∧ r.2.mem ((c.tc : Thread Cert.AdamDilQkvIdeal.nD Cert.AdamDilQkvIdeal.τ).loc Cert.AdamDilQkvIdeal.main_v0_2) = v2 c
          ∧ r.2.mem ((c.tc : Thread Cert.AdamDilQkvIdeal.nD Cert.AdamDilQkvIdeal.τ).loc Cert.AdamDilQkvIdeal.main_v0_3) = v3 c
          ∧ r.2.mem ((c.tc : Thread Cert.AdamDilQkvIdeal.nD Cert.AdamDilQkvIdeal.τ).loc Cert.AdamDilQkvIdeal.main_arg0) = m ((c.tc : Thread Cert.AdamDilQkvIdeal.nD Cert.AdamDilQkvIdeal.τ).loc Cert.AdamDilQkvIdeal.main_arg0)
          ∧ r.2.mem ((c.tc : Thread Cert.AdamDilQkvIdeal.nD Cert.AdamDilQkvIdeal.τ).loc Cert.AdamDilQkvIdeal.main_arg1) = m ((c.tc : Thread Cert.AdamDilQkvIdeal.nD Cert.AdamDilQkvIdeal.τ).loc Cert.AdamDilQkvIdeal.main_arg1)
          ∧ r.2.mem ((c.tc : Thread Cert.AdamDilQkvIdeal.nD Cert.AdamDilQkvIdeal.τ).loc Cert.AdamDilQkvIdeal.main_arg2) = m ((c.tc : Thread Cert.AdamDilQkvIdeal.nD Cert.AdamDilQkvIdeal.τ).loc Cert.AdamDilQkvIdeal.main_arg2)
          ∧ r.2.mem ((c.tc : Thread Cert.AdamDilQkvIdeal.nD Cert.AdamDilQkvIdeal.τ).loc Cert.AdamDilQkvIdeal.main_arg3) = m ((c.tc : Thread Cert.AdamDilQkvIdeal.nD Cert.AdamDilQkvIdeal.τ).loc Cert.AdamDilQkvIdeal.main_arg3))
      ∧ θ_run (Cert.AdamDilQkvReferenceIdeal.defs (F := Ideal)) (onTc (τ := Cert.AdamDilQkvReferenceIdeal.τ) (Cert.AdamDilQkvReferenceIdeal.main (F := Ideal))) ⟨m', fun _ => 0, g'⟩ (fun r => ∀ c : Dev Cert.AdamDilQkvReferenceIdeal.nD,
          r.2.mem ((c.tc : Thread Cert.AdamDilQkvReferenceIdeal.nD Cert.AdamDilQkvReferenceIdeal.τ).loc Cert.AdamDilQkvReferenceIdeal.main_arg1) = v0 c
          ∧ r.2.mem ((c.tc : Thread Cert.AdamDilQkvReferenceIdeal.nD Cert.AdamDilQkvReferenceIdeal.τ).loc Cert.AdamDilQkvReferenceIdeal.main_v23) = v1 c
          ∧ r.2.mem ((c.tc : Thread Cert.AdamDilQkvReferenceIdeal.nD Cert.AdamDilQkvReferenceIdeal.τ).loc Cert.AdamDilQkvReferenceIdeal.main_v4) = v2 c
          ∧ r.2.mem ((c.tc : Thread Cert.AdamDilQkvReferenceIdeal.nD Cert.AdamDilQkvReferenceIdeal.τ).loc Cert.AdamDilQkvReferenceIdeal.main_v10) = v3 c
          ∧ r.2.mem ((c.tc : Thread Cert.AdamDilQkvReferenceIdeal.nD Cert.AdamDilQkvReferenceIdeal.τ).loc Cert.AdamDilQkvReferenceIdeal.main_arg0) = m' ((c.tc : Thread Cert.AdamDilQkvReferenceIdeal.nD Cert.AdamDilQkvReferenceIdeal.τ).loc Cert.AdamDilQkvReferenceIdeal.main_arg0)
          ∧ r.2.mem ((c.tc : Thread Cert.AdamDilQkvReferenceIdeal.nD Cert.AdamDilQkvReferenceIdeal.τ).loc Cert.AdamDilQkvReferenceIdeal.main_arg1) = m' ((c.tc : Thread Cert.AdamDilQkvReferenceIdeal.nD Cert.AdamDilQkvReferenceIdeal.τ).loc Cert.AdamDilQkvReferenceIdeal.main_arg1)
          ∧ r.2.mem ((c.tc : Thread Cert.AdamDilQkvReferenceIdeal.nD Cert.AdamDilQkvReferenceIdeal.τ).loc Cert.AdamDilQkvReferenceIdeal.main_arg2) = m' ((c.tc : Thread Cert.AdamDilQkvReferenceIdeal.nD Cert.AdamDilQkvReferenceIdeal.τ).loc Cert.AdamDilQkvReferenceIdeal.main_arg2)
          ∧ r.2.mem ((c.tc : Thread Cert.AdamDilQkvReferenceIdeal.nD Cert.AdamDilQkvReferenceIdeal.τ).loc Cert.AdamDilQkvReferenceIdeal.main_arg3) = m' ((c.tc : Thread Cert.AdamDilQkvReferenceIdeal.nD Cert.AdamDilQkvReferenceIdeal.τ).loc Cert.AdamDilQkvReferenceIdeal.main_arg3))

def preserves_AdamSmall_AdamSmallIdeal : Prop :=
  True

def algebraic_AdamSmallIdeal_AdamSmallReferenceIdeal [hAdamSmallIdeal : Cert.AdamSmallIdeal.Facts] [hAdamSmallReferenceIdeal : Cert.AdamSmallReferenceIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallReferenceIdeal.nD Cert.AdamSmallReferenceIdeal.τ Cert.AdamSmallReferenceIdeal.sig) → Buf (Elt Ideal) ℓ) (g' : Dev Cert.AdamSmallReferenceIdeal.nD → PrngReg), Pre_AdamSmallIdeal m →
    (∀ c : Dev Cert.AdamSmallIdeal.nD,
      m' ((c.tc : Thread Cert.AdamSmallReferenceIdeal.nD Cert.AdamSmallReferenceIdeal.τ).loc Cert.AdamSmallReferenceIdeal.main_arg0) = m ((c.tc : Thread Cert.AdamSmallIdeal.nD Cert.AdamSmallIdeal.τ).loc Cert.AdamSmallIdeal.main_arg0)
      ∧ m' ((c.tc : Thread Cert.AdamSmallReferenceIdeal.nD Cert.AdamSmallReferenceIdeal.τ).loc Cert.AdamSmallReferenceIdeal.main_arg1) = m ((c.tc : Thread Cert.AdamSmallIdeal.nD Cert.AdamSmallIdeal.τ).loc Cert.AdamSmallIdeal.main_arg1)
      ∧ m' ((c.tc : Thread Cert.AdamSmallReferenceIdeal.nD Cert.AdamSmallReferenceIdeal.τ).loc Cert.AdamSmallReferenceIdeal.main_arg2) = m ((c.tc : Thread Cert.AdamSmallIdeal.nD Cert.AdamSmallIdeal.τ).loc Cert.AdamSmallIdeal.main_arg2)
      ∧ m' ((c.tc : Thread Cert.AdamSmallReferenceIdeal.nD Cert.AdamSmallReferenceIdeal.τ).loc Cert.AdamSmallReferenceIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallReferenceIdeal.defs (F := Ideal)) (onTc (τ := Cert.AdamSmallReferenceIdeal.τ) (Cert.AdamSmallReferenceIdeal.main (F := Ideal))) ⟨m', fun _ => 0, g'⟩ (fun r => ∀ c : Dev Cert.AdamSmallReferenceIdeal.nD,
          r.2.mem ((c.tc : Thread Cert.AdamSmallReferenceIdeal.nD Cert.AdamSmallReferenceIdeal.τ).loc Cert.AdamSmallReferenceIdeal.main_arg1) = v0 c
          ∧ r.2.mem ((c.tc : Thread Cert.AdamSmallReferenceIdeal.nD Cert.AdamSmallReferenceIdeal.τ).loc Cert.AdamSmallReferenceIdeal.main_v23) = v1 c
          ∧ r.2.mem ((c.tc : Thread Cert.AdamSmallReferenceIdeal.nD Cert.AdamSmallReferenceIdeal.τ).loc Cert.AdamSmallReferenceIdeal.main_v4) = v2 c
          ∧ r.2.mem ((c.tc : Thread Cert.AdamSmallReferenceIdeal.nD Cert.AdamSmallReferenceIdeal.τ).loc Cert.AdamSmallReferenceIdeal.main_v10) = v3 c
          ∧ r.2.mem ((c.tc : Thread Cert.AdamSmallReferenceIdeal.nD Cert.AdamSmallReferenceIdeal.τ).loc Cert.AdamSmallReferenceIdeal.main_arg0) = m' ((c.tc : Thread Cert.AdamSmallReferenceIdeal.nD Cert.AdamSmallReferenceIdeal.τ).loc Cert.AdamSmallReferenceIdeal.main_arg0)
          ∧ r.2.mem ((c.tc : Thread Cert.AdamSmallReferenceIdeal.nD Cert.AdamSmallReferenceIdeal.τ).loc Cert.AdamSmallReferenceIdeal.main_arg1) = m' ((c.tc : Thread Cert.AdamSmallReferenceIdeal.nD Cert.AdamSmallReferenceIdeal.τ).loc Cert.AdamSmallReferenceIdeal.main_arg1)
          ∧ r.2.mem ((c.tc : Thread Cert.AdamSmallReferenceIdeal.nD Cert.AdamSmallReferenceIdeal.τ).loc Cert.AdamSmallReferenceIdeal.main_arg2) = m' ((c.tc : Thread Cert.AdamSmallReferenceIdeal.nD Cert.AdamSmallReferenceIdeal.τ).loc Cert.AdamSmallReferenceIdeal.main_arg2)
          ∧ r.2.mem ((c.tc : Thread Cert.AdamSmallReferenceIdeal.nD Cert.AdamSmallReferenceIdeal.τ).loc Cert.AdamSmallReferenceIdeal.main_arg3) = m' ((c.tc : Thread Cert.AdamSmallReferenceIdeal.nD Cert.AdamSmallReferenceIdeal.τ).loc Cert.AdamSmallReferenceIdeal.main_arg3))

def preserves_Loss_LossIdeal : Prop :=
  True

def algebraic_LossIdeal_LossReferenceIdeal [hLossIdeal : Cert.LossIdeal.Facts] [hLossReferenceIdeal : Cert.LossReferenceIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossIdeal m →
    (∀ c : Dev Cert.LossIdeal.nD,
      m' ((c.tc : Thread Cert.LossReferenceIdeal.nD Cert.LossReferenceIdeal.τ).loc Cert.LossReferenceIdeal.main_arg0) = m ((c.tc : Thread Cert.LossIdeal.nD Cert.LossIdeal.τ).loc Cert.LossIdeal.main_arg0)
      ∧ m' ((c.tc : Thread Cert.LossReferenceIdeal.nD Cert.LossReferenceIdeal.τ).loc Cert.LossReferenceIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v2) = v0 c
          ∧ r.2.mem ((c.tc : Thread Cert.LossReferenceIdeal.nD Cert.LossReferenceIdeal.τ).loc Cert.LossReferenceIdeal.main_v9) = v1 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1))

def preserves_Rms_RmsIdeal : Prop :=
  True

def algebraic_RmsIdeal_RmsReferenceIdeal [hRmsIdeal : Cert.RmsIdeal.Facts] [hRmsReferenceIdeal : Cert.RmsReferenceIdeal.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RmsReferenceIdeal.nD Cert.RmsReferenceIdeal.τ Cert.RmsReferenceIdeal.sig) → Buf (Elt Ideal) ℓ) (g' : Dev Cert.RmsReferenceIdeal.nD → PrngReg), Pre_RmsIdeal m →
    (∀ c : Dev Cert.RmsIdeal.nD,
      m' ((c.tc : Thread Cert.RmsReferenceIdeal.nD Cert.RmsReferenceIdeal.τ).loc Cert.RmsReferenceIdeal.main_arg0) = m ((c.tc : Thread Cert.RmsIdeal.nD Cert.RmsIdeal.τ).loc Cert.RmsIdeal.main_arg0)
      ∧ m' ((c.tc : Thread Cert.RmsReferenceIdeal.nD Cert.RmsReferenceIdeal.τ).loc Cert.RmsReferenceIdeal.main_arg1) = m ((c.tc : Thread Cert.RmsIdeal.nD Cert.RmsIdeal.τ).loc Cert.RmsIdeal.main_arg1)) →
    ∃ (v0 : (c : Dev Cert.RmsIdeal.nD) → Buf (Elt Ideal) ((c.tc : Thread Cert.RmsIdeal.nD Cert.RmsIdeal.τ).loc Cert.RmsIdeal.main_v0)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v0) = v0 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ θ_run (Cert.RmsReferenceIdeal.defs (F := Ideal)) (onTc (τ := Cert.RmsReferenceIdeal.τ) (Cert.RmsReferenceIdeal.main (F := Ideal))) ⟨m', fun _ => 0, g'⟩ (fun r => ∀ c : Dev Cert.RmsReferenceIdeal.nD,
          r.2.mem ((c.tc : Thread Cert.RmsReferenceIdeal.nD Cert.RmsReferenceIdeal.τ).loc Cert.RmsReferenceIdeal.main_v12) = v0 c
          ∧ r.2.mem ((c.tc : Thread Cert.RmsReferenceIdeal.nD Cert.RmsReferenceIdeal.τ).loc Cert.RmsReferenceIdeal.main_arg0) = m' ((c.tc : Thread Cert.RmsReferenceIdeal.nD Cert.RmsReferenceIdeal.τ).loc Cert.RmsReferenceIdeal.main_arg0)
          ∧ r.2.mem ((c.tc : Thread Cert.RmsReferenceIdeal.nD Cert.RmsReferenceIdeal.τ).loc Cert.RmsReferenceIdeal.main_arg1) = m' ((c.tc : Thread Cert.RmsReferenceIdeal.nD Cert.RmsReferenceIdeal.τ).loc Cert.RmsReferenceIdeal.main_arg1))

def preserves_Resid_ResidIdeal : Prop :=
  True

def algebraic_ResidIdeal_ResidReferenceIdeal [hResidIdeal : Cert.ResidIdeal.Facts] [hResidReferenceIdeal : Cert.ResidReferenceIdeal.Facts] : Prop :=
  ∀ (m : (ℓ : Loc Cert.ResidIdeal.nD Cert.ResidIdeal.τ Cert.ResidIdeal.sig) → Buf (Elt Ideal) ℓ) (g : Dev Cert.ResidIdeal.nD → PrngReg)
    (m' : (ℓ : Loc Cert.ResidReferenceIdeal.nD Cert.ResidReferenceIdeal.τ Cert.ResidReferenceIdeal.sig) → Buf (Elt Ideal) ℓ) (g' : Dev Cert.ResidReferenceIdeal.nD → PrngReg), Pre_ResidIdeal m →
    (∀ c : Dev Cert.ResidIdeal.nD,
      m' ((c.tc : Thread Cert.ResidReferenceIdeal.nD Cert.ResidReferenceIdeal.τ).loc Cert.ResidReferenceIdeal.main_arg0) = m ((c.tc : Thread Cert.ResidIdeal.nD Cert.ResidIdeal.τ).loc Cert.ResidIdeal.main_arg0)
      ∧ m' ((c.tc : Thread Cert.ResidReferenceIdeal.nD Cert.ResidReferenceIdeal.τ).loc Cert.ResidReferenceIdeal.main_arg1) = m ((c.tc : Thread Cert.ResidIdeal.nD Cert.ResidIdeal.τ).loc Cert.ResidIdeal.main_arg1)
      ∧ m' ((c.tc : Thread Cert.ResidReferenceIdeal.nD Cert.ResidReferenceIdeal.τ).loc Cert.ResidReferenceIdeal.main_arg2) = m ((c.tc : Thread Cert.ResidIdeal.nD Cert.ResidIdeal.τ).loc Cert.ResidIdeal.main_arg2)) →
    ∃ (v0 : (c : Dev Cert.ResidIdeal.nD) → Buf (Elt Ideal) ((c.tc : Thread Cert.ResidIdeal.nD Cert.ResidIdeal.τ).loc Cert.ResidIdeal.main_v0)),
      θ_run (Cert.ResidIdeal.defs (F := Ideal)) (onTc (τ := Cert.ResidIdeal.τ) (Cert.ResidIdeal.main (F := Ideal))) ⟨m, fun _ => 0, g⟩ (fun r => ∀ c : Dev Cert.ResidIdeal.nD,
          r.2.mem ((c.tc : Thread Cert.ResidIdeal.nD Cert.ResidIdeal.τ).loc Cert.ResidIdeal.main_v0) = v0 c
          ∧ r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
          ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
          ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2))
      ∧ θ_run (Cert.ResidReferenceIdeal.defs (F := Ideal)) (onTc (τ := Cert.ResidReferenceIdeal.τ) (Cert.ResidReferenceIdeal.main (F := Ideal))) ⟨m', fun _ => 0, g'⟩ (fun r => ∀ c : Dev Cert.ResidReferenceIdeal.nD,
          r.2.mem ((c.tc : Thread Cert.ResidReferenceIdeal.nD Cert.ResidReferenceIdeal.τ).loc Cert.ResidReferenceIdeal.main_v12) = v0 c
          ∧ r.2.mem ((c.tc : Thread Cert.ResidReferenceIdeal.nD Cert.ResidReferenceIdeal.τ).loc Cert.ResidReferenceIdeal.main_arg0) = m' ((c.tc : Thread Cert.ResidReferenceIdeal.nD Cert.ResidReferenceIdeal.τ).loc Cert.ResidReferenceIdeal.main_arg0)
          ∧ r.2.mem ((c.tc : Thread Cert.ResidReferenceIdeal.nD Cert.ResidReferenceIdeal.τ).loc Cert.ResidReferenceIdeal.main_arg1) = m' ((c.tc : Thread Cert.ResidReferenceIdeal.nD Cert.ResidReferenceIdeal.τ).loc Cert.ResidReferenceIdeal.main_arg1)
          ∧ r.2.mem ((c.tc : Thread Cert.ResidReferenceIdeal.nD Cert.ResidReferenceIdeal.τ).loc Cert.ResidReferenceIdeal.main_arg2) = m' ((c.tc : Thread Cert.ResidReferenceIdeal.nD Cert.ResidReferenceIdeal.τ).loc Cert.ResidReferenceIdeal.main_arg2))

def preserves_NormPost_NormPostIdeal : Prop :=
  True

def algebraic_NormPostIdeal_NormPostReferenceIdeal [hNormPostIdeal : Cert.NormPostIdeal.Facts] [hNormPostReferenceIdeal : Cert.NormPostReferenceIdeal.Facts] : Prop :=
  ∀ (m : (ℓ : Loc Cert.NormPostIdeal.nD Cert.NormPostIdeal.τ Cert.NormPostIdeal.sig) → Buf (Elt Ideal) ℓ) (g : Dev Cert.NormPostIdeal.nD → PrngReg)
    (m' : (ℓ : Loc Cert.NormPostReferenceIdeal.nD Cert.NormPostReferenceIdeal.τ Cert.NormPostReferenceIdeal.sig) → Buf (Elt Ideal) ℓ) (g' : Dev Cert.NormPostReferenceIdeal.nD → PrngReg), Pre_NormPostIdeal m →
    (∀ c : Dev Cert.NormPostIdeal.nD,
      m' ((c.tc : Thread Cert.NormPostReferenceIdeal.nD Cert.NormPostReferenceIdeal.τ).loc Cert.NormPostReferenceIdeal.main_arg0) = m ((c.tc : Thread Cert.NormPostIdeal.nD Cert.NormPostIdeal.τ).loc Cert.NormPostIdeal.main_arg0)
      ∧ m' ((c.tc : Thread Cert.NormPostReferenceIdeal.nD Cert.NormPostReferenceIdeal.τ).loc Cert.NormPostReferenceIdeal.main_arg1) = m ((c.tc : Thread Cert.NormPostIdeal.nD Cert.NormPostIdeal.τ).loc Cert.NormPostIdeal.main_arg1)
      ∧ m' ((c.tc : Thread Cert.NormPostReferenceIdeal.nD Cert.NormPostReferenceIdeal.τ).loc Cert.NormPostReferenceIdeal.main_arg2) = m ((c.tc : Thread Cert.NormPostIdeal.nD Cert.NormPostIdeal.τ).loc Cert.NormPostIdeal.main_arg2)) →
    ∃ (v0 : (c : Dev Cert.NormPostIdeal.nD) → Buf (Elt Ideal) ((c.tc : Thread Cert.NormPostIdeal.nD Cert.NormPostIdeal.τ).loc Cert.NormPostIdeal.main_v0_0)) (v1 : (c : Dev Cert.NormPostIdeal.nD) → Buf (Elt Ideal) ((c.tc : Thread Cert.NormPostIdeal.nD Cert.NormPostIdeal.τ).loc Cert.NormPostIdeal.main_v0_1)),
      θ_run (Cert.NormPostIdeal.defs (F := Ideal)) (onTc (τ := Cert.NormPostIdeal.τ) (Cert.NormPostIdeal.main (F := Ideal))) ⟨m, fun _ => 0, g⟩ (fun r => ∀ c : Dev Cert.NormPostIdeal.nD,
          r.2.mem ((c.tc : Thread Cert.NormPostIdeal.nD Cert.NormPostIdeal.τ).loc Cert.NormPostIdeal.main_v0_0) = v0 c
          ∧ r.2.mem ((c.tc : Thread Cert.NormPostIdeal.nD Cert.NormPostIdeal.τ).loc Cert.NormPostIdeal.main_v0_1) = v1 c
          ∧ r.2.mem ((c.tc : Thread Cert.NormPostIdeal.nD Cert.NormPostIdeal.τ).loc Cert.NormPostIdeal.main_arg0) = m ((c.tc : Thread Cert.NormPostIdeal.nD Cert.NormPostIdeal.τ).loc Cert.NormPostIdeal.main_arg0)
          ∧ r.2.mem ((c.tc : Thread Cert.NormPostIdeal.nD Cert.NormPostIdeal.τ).loc Cert.NormPostIdeal.main_arg1) = m ((c.tc : Thread Cert.NormPostIdeal.nD Cert.NormPostIdeal.τ).loc Cert.NormPostIdeal.main_arg1)
          ∧ r.2.mem ((c.tc : Thread Cert.NormPostIdeal.nD Cert.NormPostIdeal.τ).loc Cert.NormPostIdeal.main_arg2) = m ((c.tc : Thread Cert.NormPostIdeal.nD Cert.NormPostIdeal.τ).loc Cert.NormPostIdeal.main_arg2))
      ∧ θ_run (Cert.NormPostReferenceIdeal.defs (F := Ideal)) (onTc (τ := Cert.NormPostReferenceIdeal.τ) (Cert.NormPostReferenceIdeal.main (F := Ideal))) ⟨m', fun _ => 0, g'⟩ (fun r => ∀ c : Dev Cert.NormPostReferenceIdeal.nD,
          r.2.mem ((c.tc : Thread Cert.NormPostReferenceIdeal.nD Cert.NormPostReferenceIdeal.τ).loc Cert.NormPostReferenceIdeal.main_v33) = v0 c
          ∧ r.2.mem ((c.tc : Thread Cert.NormPostReferenceIdeal.nD Cert.NormPostReferenceIdeal.τ).loc Cert.NormPostReferenceIdeal.main_v17) = v1 c
          ∧ r.2.mem ((c.tc : Thread Cert.NormPostReferenceIdeal.nD Cert.NormPostReferenceIdeal.τ).loc Cert.NormPostReferenceIdeal.main_arg0) = m' ((c.tc : Thread Cert.NormPostReferenceIdeal.nD Cert.NormPostReferenceIdeal.τ).loc Cert.NormPostReferenceIdeal.main_arg0)
          ∧ r.2.mem ((c.tc : Thread Cert.NormPostReferenceIdeal.nD Cert.NormPostReferenceIdeal.τ).loc Cert.NormPostReferenceIdeal.main_arg1) = m' ((c.tc : Thread Cert.NormPostReferenceIdeal.nD Cert.NormPostReferenceIdeal.τ).loc Cert.NormPostReferenceIdeal.main_arg1)
          ∧ r.2.mem ((c.tc : Thread Cert.NormPostReferenceIdeal.nD Cert.NormPostReferenceIdeal.τ).loc Cert.NormPostReferenceIdeal.main_arg2) = m' ((c.tc : Thread Cert.NormPostReferenceIdeal.nD Cert.NormPostReferenceIdeal.τ).loc Cert.NormPostReferenceIdeal.main_arg2))

def preserves_NormPre_NormPreIdeal : Prop :=
  True

def algebraic_NormPreIdeal_NormPreReferenceIdeal [hNormPreIdeal : Cert.NormPreIdeal.Facts] [hNormPreReferenceIdeal : Cert.NormPreReferenceIdeal.Facts] : Prop :=
  ∀ (m : (ℓ : Loc Cert.NormPreIdeal.nD Cert.NormPreIdeal.τ Cert.NormPreIdeal.sig) → Buf (Elt Ideal) ℓ) (g : Dev Cert.NormPreIdeal.nD → PrngReg)
    (m' : (ℓ : Loc Cert.NormPreReferenceIdeal.nD Cert.NormPreReferenceIdeal.τ Cert.NormPreReferenceIdeal.sig) → Buf (Elt Ideal) ℓ) (g' : Dev Cert.NormPreReferenceIdeal.nD → PrngReg), Pre_NormPreIdeal m →
    (∀ c : Dev Cert.NormPreIdeal.nD,
      m' ((c.tc : Thread Cert.NormPreReferenceIdeal.nD Cert.NormPreReferenceIdeal.τ).loc Cert.NormPreReferenceIdeal.main_arg0) = m ((c.tc : Thread Cert.NormPreIdeal.nD Cert.NormPreIdeal.τ).loc Cert.NormPreIdeal.main_arg0)
      ∧ m' ((c.tc : Thread Cert.NormPreReferenceIdeal.nD Cert.NormPreReferenceIdeal.τ).loc Cert.NormPreReferenceIdeal.main_arg1) = m ((c.tc : Thread Cert.NormPreIdeal.nD Cert.NormPreIdeal.τ).loc Cert.NormPreIdeal.main_arg1)
      ∧ m' ((c.tc : Thread Cert.NormPreReferenceIdeal.nD Cert.NormPreReferenceIdeal.τ).loc Cert.NormPreReferenceIdeal.main_arg2) = m ((c.tc : Thread Cert.NormPreIdeal.nD Cert.NormPreIdeal.τ).loc Cert.NormPreIdeal.main_arg2)
      ∧ m' ((c.tc : Thread Cert.NormPreReferenceIdeal.nD Cert.NormPreReferenceIdeal.τ).loc Cert.NormPreReferenceIdeal.main_arg3) = m ((c.tc : Thread Cert.NormPreIdeal.nD Cert.NormPreIdeal.τ).loc Cert.NormPreIdeal.main_arg3)) →
    ∃ (v0 : (c : Dev Cert.NormPreIdeal.nD) → Buf (Elt Ideal) ((c.tc : Thread Cert.NormPreIdeal.nD Cert.NormPreIdeal.τ).loc Cert.NormPreIdeal.main_v0_0)) (v1 : (c : Dev Cert.NormPreIdeal.nD) → Buf (Elt Ideal) ((c.tc : Thread Cert.NormPreIdeal.nD Cert.NormPreIdeal.τ).loc Cert.NormPreIdeal.main_v0_1)),
      θ_run (Cert.NormPreIdeal.defs (F := Ideal)) (onTc (τ := Cert.NormPreIdeal.τ) (Cert.NormPreIdeal.main (F := Ideal))) ⟨m, fun _ => 0, g⟩ (fun r => ∀ c : Dev Cert.NormPreIdeal.nD,
          r.2.mem ((c.tc : Thread Cert.NormPreIdeal.nD Cert.NormPreIdeal.τ).loc Cert.NormPreIdeal.main_v0_0) = v0 c
          ∧ r.2.mem ((c.tc : Thread Cert.NormPreIdeal.nD Cert.NormPreIdeal.τ).loc Cert.NormPreIdeal.main_v0_1) = v1 c
          ∧ r.2.mem ((c.tc : Thread Cert.NormPreIdeal.nD Cert.NormPreIdeal.τ).loc Cert.NormPreIdeal.main_arg0) = m ((c.tc : Thread Cert.NormPreIdeal.nD Cert.NormPreIdeal.τ).loc Cert.NormPreIdeal.main_arg0)
          ∧ r.2.mem ((c.tc : Thread Cert.NormPreIdeal.nD Cert.NormPreIdeal.τ).loc Cert.NormPreIdeal.main_arg1) = m ((c.tc : Thread Cert.NormPreIdeal.nD Cert.NormPreIdeal.τ).loc Cert.NormPreIdeal.main_arg1)
          ∧ r.2.mem ((c.tc : Thread Cert.NormPreIdeal.nD Cert.NormPreIdeal.τ).loc Cert.NormPreIdeal.main_arg2) = m ((c.tc : Thread Cert.NormPreIdeal.nD Cert.NormPreIdeal.τ).loc Cert.NormPreIdeal.main_arg2)
          ∧ r.2.mem ((c.tc : Thread Cert.NormPreIdeal.nD Cert.NormPreIdeal.τ).loc Cert.NormPreIdeal.main_arg3) = m ((c.tc : Thread Cert.NormPreIdeal.nD Cert.NormPreIdeal.τ).loc Cert.NormPreIdeal.main_arg3))
      ∧ θ_run (Cert.NormPreReferenceIdeal.defs (F := Ideal)) (onTc (τ := Cert.NormPreReferenceIdeal.τ) (Cert.NormPreReferenceIdeal.main (F := Ideal))) ⟨m', fun _ => 0, g'⟩ (fun r => ∀ c : Dev Cert.NormPreReferenceIdeal.nD,
          r.2.mem ((c.tc : Thread Cert.NormPreReferenceIdeal.nD Cert.NormPreReferenceIdeal.τ).loc Cert.NormPreReferenceIdeal.main_v34) = v0 c
          ∧ r.2.mem ((c.tc : Thread Cert.NormPreReferenceIdeal.nD Cert.NormPreReferenceIdeal.τ).loc Cert.NormPreReferenceIdeal.main_v17) = v1 c
          ∧ r.2.mem ((c.tc : Thread Cert.NormPreReferenceIdeal.nD Cert.NormPreReferenceIdeal.τ).loc Cert.NormPreReferenceIdeal.main_arg0) = m' ((c.tc : Thread Cert.NormPreReferenceIdeal.nD Cert.NormPreReferenceIdeal.τ).loc Cert.NormPreReferenceIdeal.main_arg0)
          ∧ r.2.mem ((c.tc : Thread Cert.NormPreReferenceIdeal.nD Cert.NormPreReferenceIdeal.τ).loc Cert.NormPreReferenceIdeal.main_arg1) = m' ((c.tc : Thread Cert.NormPreReferenceIdeal.nD Cert.NormPreReferenceIdeal.τ).loc Cert.NormPreReferenceIdeal.main_arg1)
          ∧ r.2.mem ((c.tc : Thread Cert.NormPreReferenceIdeal.nD Cert.NormPreReferenceIdeal.τ).loc Cert.NormPreReferenceIdeal.main_arg2) = m' ((c.tc : Thread Cert.NormPreReferenceIdeal.nD Cert.NormPreReferenceIdeal.τ).loc Cert.NormPreReferenceIdeal.main_arg2)
          ∧ r.2.mem ((c.tc : Thread Cert.NormPreReferenceIdeal.nD Cert.NormPreReferenceIdeal.τ).loc Cert.NormPreReferenceIdeal.main_arg3) = m' ((c.tc : Thread Cert.NormPreReferenceIdeal.nD Cert.NormPreReferenceIdeal.τ).loc Cert.NormPreReferenceIdeal.main_arg3))

def preserves_NormPre3_NormPre3Ideal : Prop :=
  True

def algebraic_NormPre3Ideal_NormPre3ReferenceIdeal [hNormPre3Ideal : Cert.NormPre3Ideal.Facts] [hNormPre3ReferenceIdeal : Cert.NormPre3ReferenceIdeal.Facts] : Prop :=
  ∀ (m : (ℓ : Loc Cert.NormPre3Ideal.nD Cert.NormPre3Ideal.τ Cert.NormPre3Ideal.sig) → Buf (Elt Ideal) ℓ) (g : Dev Cert.NormPre3Ideal.nD → PrngReg)
    (m' : (ℓ : Loc Cert.NormPre3ReferenceIdeal.nD Cert.NormPre3ReferenceIdeal.τ Cert.NormPre3ReferenceIdeal.sig) → Buf (Elt Ideal) ℓ) (g' : Dev Cert.NormPre3ReferenceIdeal.nD → PrngReg), Pre_NormPre3Ideal m →
    (∀ c : Dev Cert.NormPre3Ideal.nD,
      m' ((c.tc : Thread Cert.NormPre3ReferenceIdeal.nD Cert.NormPre3ReferenceIdeal.τ).loc Cert.NormPre3ReferenceIdeal.main_arg0) = m ((c.tc : Thread Cert.NormPre3Ideal.nD Cert.NormPre3Ideal.τ).loc Cert.NormPre3Ideal.main_arg0)
      ∧ m' ((c.tc : Thread Cert.NormPre3ReferenceIdeal.nD Cert.NormPre3ReferenceIdeal.τ).loc Cert.NormPre3ReferenceIdeal.main_arg1) = m ((c.tc : Thread Cert.NormPre3Ideal.nD Cert.NormPre3Ideal.τ).loc Cert.NormPre3Ideal.main_arg1)
      ∧ m' ((c.tc : Thread Cert.NormPre3ReferenceIdeal.nD Cert.NormPre3ReferenceIdeal.τ).loc Cert.NormPre3ReferenceIdeal.main_arg2) = m ((c.tc : Thread Cert.NormPre3Ideal.nD Cert.NormPre3Ideal.τ).loc Cert.NormPre3Ideal.main_arg2)
      ∧ m' ((c.tc : Thread Cert.NormPre3ReferenceIdeal.nD Cert.NormPre3ReferenceIdeal.τ).loc Cert.NormPre3ReferenceIdeal.main_arg3) = m ((c.tc : Thread Cert.NormPre3Ideal.nD Cert.NormPre3Ideal.τ).loc Cert.NormPre3Ideal.main_arg3)
      ∧ m' ((c.tc : Thread Cert.NormPre3ReferenceIdeal.nD Cert.NormPre3ReferenceIdeal.τ).loc Cert.NormPre3ReferenceIdeal.main_arg4) = m ((c.tc : Thread Cert.NormPre3Ideal.nD Cert.NormPre3Ideal.τ).loc Cert.NormPre3Ideal.main_arg4)
      ∧ m' ((c.tc : Thread Cert.NormPre3ReferenceIdeal.nD Cert.NormPre3ReferenceIdeal.τ).loc Cert.NormPre3ReferenceIdeal.main_arg5) = m ((c.tc : Thread Cert.NormPre3Ideal.nD Cert.NormPre3Ideal.τ).loc Cert.NormPre3Ideal.main_arg5)) →
    ∃ (v0 : (c : Dev Cert.NormPre3Ideal.nD) → Buf (Elt Ideal) ((c.tc : Thread Cert.NormPre3Ideal.nD Cert.NormPre3Ideal.τ).loc Cert.NormPre3Ideal.main_v0_0)) (v1 : (c : Dev Cert.NormPre3Ideal.nD) → Buf (Elt Ideal) ((c.tc : Thread Cert.NormPre3Ideal.nD Cert.NormPre3Ideal.τ).loc Cert.NormPre3Ideal.main_v0_1)),
      θ_run (Cert.NormPre3Ideal.defs (F := Ideal)) (onTc (τ := Cert.NormPre3Ideal.τ) (Cert.NormPre3Ideal.main (F := Ideal))) ⟨m, fun _ => 0, g⟩ (fun r => ∀ c : Dev Cert.NormPre3Ideal.nD,
          r.2.mem ((c.tc : Thread Cert.NormPre3Ideal.nD Cert.NormPre3Ideal.τ).loc Cert.NormPre3Ideal.main_v0_0) = v0 c
          ∧ r.2.mem ((c.tc : Thread Cert.NormPre3Ideal.nD Cert.NormPre3Ideal.τ).loc Cert.NormPre3Ideal.main_v0_1) = v1 c
          ∧ r.2.mem ((c.tc : Thread Cert.NormPre3Ideal.nD Cert.NormPre3Ideal.τ).loc Cert.NormPre3Ideal.main_arg0) = m ((c.tc : Thread Cert.NormPre3Ideal.nD Cert.NormPre3Ideal.τ).loc Cert.NormPre3Ideal.main_arg0)
          ∧ r.2.mem ((c.tc : Thread Cert.NormPre3Ideal.nD Cert.NormPre3Ideal.τ).loc Cert.NormPre3Ideal.main_arg1) = m ((c.tc : Thread Cert.NormPre3Ideal.nD Cert.NormPre3Ideal.τ).loc Cert.NormPre3Ideal.main_arg1)
          ∧ r.2.mem ((c.tc : Thread Cert.NormPre3Ideal.nD Cert.NormPre3Ideal.τ).loc Cert.NormPre3Ideal.main_arg2) = m ((c.tc : Thread Cert.NormPre3Ideal.nD Cert.NormPre3Ideal.τ).loc Cert.NormPre3Ideal.main_arg2)
          ∧ r.2.mem ((c.tc : Thread Cert.NormPre3Ideal.nD Cert.NormPre3Ideal.τ).loc Cert.NormPre3Ideal.main_arg3) = m ((c.tc : Thread Cert.NormPre3Ideal.nD Cert.NormPre3Ideal.τ).loc Cert.NormPre3Ideal.main_arg3)
          ∧ r.2.mem ((c.tc : Thread Cert.NormPre3Ideal.nD Cert.NormPre3Ideal.τ).loc Cert.NormPre3Ideal.main_arg4) = m ((c.tc : Thread Cert.NormPre3Ideal.nD Cert.NormPre3Ideal.τ).loc Cert.NormPre3Ideal.main_arg4)
          ∧ r.2.mem ((c.tc : Thread Cert.NormPre3Ideal.nD Cert.NormPre3Ideal.τ).loc Cert.NormPre3Ideal.main_arg5) = m ((c.tc : Thread Cert.NormPre3Ideal.nD Cert.NormPre3Ideal.τ).loc Cert.NormPre3Ideal.main_arg5))
      ∧ θ_run (Cert.NormPre3ReferenceIdeal.defs (F := Ideal)) (onTc (τ := Cert.NormPre3ReferenceIdeal.τ) (Cert.NormPre3ReferenceIdeal.main (F := Ideal))) ⟨m', fun _ => 0, g'⟩ (fun r => ∀ c : Dev Cert.NormPre3ReferenceIdeal.nD,
          r.2.mem ((c.tc : Thread Cert.NormPre3ReferenceIdeal.nD Cert.NormPre3ReferenceIdeal.τ).loc Cert.NormPre3ReferenceIdeal.main_v36) = v0 c
          ∧ r.2.mem ((c.tc : Thread Cert.NormPre3ReferenceIdeal.nD Cert.NormPre3ReferenceIdeal.τ).loc Cert.NormPre3ReferenceIdeal.main_v19) = v1 c
          ∧ r.2.mem ((c.tc : Thread Cert.NormPre3ReferenceIdeal.nD Cert.NormPre3ReferenceIdeal.τ).loc Cert.NormPre3ReferenceIdeal.main_arg0) = m' ((c.tc : Thread Cert.NormPre3ReferenceIdeal.nD Cert.NormPre3ReferenceIdeal.τ).loc Cert.NormPre3ReferenceIdeal.main_arg0)
          ∧ r.2.mem ((c.tc : Thread Cert.NormPre3ReferenceIdeal.nD Cert.NormPre3ReferenceIdeal.τ).loc Cert.NormPre3ReferenceIdeal.main_arg1) = m' ((c.tc : Thread Cert.NormPre3ReferenceIdeal.nD Cert.NormPre3ReferenceIdeal.τ).loc Cert.NormPre3ReferenceIdeal.main_arg1)
          ∧ r.2.mem ((c.tc : Thread Cert.NormPre3ReferenceIdeal.nD Cert.NormPre3ReferenceIdeal.τ).loc Cert.NormPre3ReferenceIdeal.main_arg2) = m' ((c.tc : Thread Cert.NormPre3ReferenceIdeal.nD Cert.NormPre3ReferenceIdeal.τ).loc Cert.NormPre3ReferenceIdeal.main_arg2)
          ∧ r.2.mem ((c.tc : Thread Cert.NormPre3ReferenceIdeal.nD Cert.NormPre3ReferenceIdeal.τ).loc Cert.NormPre3ReferenceIdeal.main_arg3) = m' ((c.tc : Thread Cert.NormPre3ReferenceIdeal.nD Cert.NormPre3ReferenceIdeal.τ).loc Cert.NormPre3ReferenceIdeal.main_arg3)
          ∧ r.2.mem ((c.tc : Thread Cert.NormPre3ReferenceIdeal.nD Cert.NormPre3ReferenceIdeal.τ).loc Cert.NormPre3ReferenceIdeal.main_arg4) = m' ((c.tc : Thread Cert.NormPre3ReferenceIdeal.nD Cert.NormPre3ReferenceIdeal.τ).loc Cert.NormPre3ReferenceIdeal.main_arg4)
          ∧ r.2.mem ((c.tc : Thread Cert.NormPre3ReferenceIdeal.nD Cert.NormPre3ReferenceIdeal.τ).loc Cert.NormPre3ReferenceIdeal.main_arg5) = m' ((c.tc : Thread Cert.NormPre3ReferenceIdeal.nD Cert.NormPre3ReferenceIdeal.τ).loc Cert.NormPre3ReferenceIdeal.main_arg5))

def preserves_Swiglu_SwigluIdeal : Prop :=
  True

def algebraic_SwigluIdeal_SwigluReferenceIdeal [hSwigluIdeal : Cert.SwigluIdeal.Facts] [hSwigluReferenceIdeal : Cert.SwigluReferenceIdeal.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluReferenceIdeal.nD Cert.SwigluReferenceIdeal.τ Cert.SwigluReferenceIdeal.sig) → Buf (Elt Ideal) ℓ) (g' : Dev Cert.SwigluReferenceIdeal.nD → PrngReg), Pre_SwigluIdeal m →
    (∀ c : Dev Cert.SwigluIdeal.nD,
      m' ((c.tc : Thread Cert.SwigluReferenceIdeal.nD Cert.SwigluReferenceIdeal.τ).loc Cert.SwigluReferenceIdeal.main_arg0) = m ((c.tc : Thread Cert.SwigluIdeal.nD Cert.SwigluIdeal.τ).loc Cert.SwigluIdeal.main_arg0)
      ∧ m' ((c.tc : Thread Cert.SwigluReferenceIdeal.nD Cert.SwigluReferenceIdeal.τ).loc Cert.SwigluReferenceIdeal.main_arg1) = m ((c.tc : Thread Cert.SwigluIdeal.nD Cert.SwigluIdeal.τ).loc Cert.SwigluIdeal.main_arg1)) →
    ∃ (v0 : (c : Dev Cert.SwigluIdeal.nD) → Buf (Elt Ideal) ((c.tc : Thread Cert.SwigluIdeal.nD Cert.SwigluIdeal.τ).loc Cert.SwigluIdeal.main_v0)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v0) = v0 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
          ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1))
      ∧ θ_run (Cert.SwigluReferenceIdeal.defs (F := Ideal)) (onTc (τ := Cert.SwigluReferenceIdeal.τ) (Cert.SwigluReferenceIdeal.main (F := Ideal))) ⟨m', fun _ => 0, g'⟩ (fun r => ∀ c : Dev Cert.SwigluReferenceIdeal.nD,
          r.2.mem ((c.tc : Thread Cert.SwigluReferenceIdeal.nD Cert.SwigluReferenceIdeal.τ).loc Cert.SwigluReferenceIdeal.main_v10) = v0 c
          ∧ r.2.mem ((c.tc : Thread Cert.SwigluReferenceIdeal.nD Cert.SwigluReferenceIdeal.τ).loc Cert.SwigluReferenceIdeal.main_arg0) = m' ((c.tc : Thread Cert.SwigluReferenceIdeal.nD Cert.SwigluReferenceIdeal.τ).loc Cert.SwigluReferenceIdeal.main_arg0)
          ∧ r.2.mem ((c.tc : Thread Cert.SwigluReferenceIdeal.nD Cert.SwigluReferenceIdeal.τ).loc Cert.SwigluReferenceIdeal.main_arg1) = m' ((c.tc : Thread Cert.SwigluReferenceIdeal.nD Cert.SwigluReferenceIdeal.τ).loc Cert.SwigluReferenceIdeal.main_arg1))

def preserves_SwigluBwd_SwigluBwdIdeal : Prop :=
  True

def algebraic_SwigluBwdIdeal_SwigluBwdReferenceIdeal [hSwigluBwdIdeal : Cert.SwigluBwdIdeal.Facts] [hSwigluBwdReferenceIdeal : Cert.SwigluBwdReferenceIdeal.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg)
    (m' : (ℓ : Loc Cert.SwigluBwdReferenceIdeal.nD Cert.SwigluBwdReferenceIdeal.τ Cert.SwigluBwdReferenceIdeal.sig) → Buf (Elt Ideal) ℓ) (g' : Dev Cert.SwigluBwdReferenceIdeal.nD → PrngReg), Pre_SwigluBwdIdeal m →
    (∀ c : Dev Cert.SwigluBwdIdeal.nD,
      m' ((c.tc : Thread Cert.SwigluBwdReferenceIdeal.nD Cert.SwigluBwdReferenceIdeal.τ).loc Cert.SwigluBwdReferenceIdeal.main_arg0) = m ((c.tc : Thread Cert.SwigluBwdIdeal.nD Cert.SwigluBwdIdeal.τ).loc Cert.SwigluBwdIdeal.main_arg0)
      ∧ m' ((c.tc : Thread Cert.SwigluBwdReferenceIdeal.nD Cert.SwigluBwdReferenceIdeal.τ).loc Cert.SwigluBwdReferenceIdeal.main_arg1) = m ((c.tc : Thread Cert.SwigluBwdIdeal.nD Cert.SwigluBwdIdeal.τ).loc Cert.SwigluBwdIdeal.main_arg1)
      ∧ m' ((c.tc : Thread Cert.SwigluBwdReferenceIdeal.nD Cert.SwigluBwdReferenceIdeal.τ).loc Cert.SwigluBwdReferenceIdeal.main_arg2) = m ((c.tc : Thread Cert.SwigluBwdIdeal.nD Cert.SwigluBwdIdeal.τ).loc Cert.SwigluBwdIdeal.main_arg2)) →
    ∃ (v0 : (c : Dev Cert.SwigluBwdIdeal.nD) → Buf (Elt Ideal) ((c.tc : Thread Cert.SwigluBwdIdeal.nD Cert.SwigluBwdIdeal.τ).loc Cert.SwigluBwdIdeal.main_v0_0)) (v1 : (c : Dev Cert.SwigluBwdIdeal.nD) → Buf (Elt Ideal) ((c.tc : Thread Cert.SwigluBwdIdeal.nD Cert.SwigluBwdIdeal.τ).loc Cert.SwigluBwdIdeal.main_v0_1)),
      θ_run (Cert.SwigluBwdIdeal.defs (F := Ideal)) (onTc (τ := Cert.SwigluBwdIdeal.τ) (Cert.SwigluBwdIdeal.main (F := Ideal))) ⟨m, fun _ => 0, g⟩ (fun r => ∀ c : Dev Cert.SwigluBwdIdeal.nD,
          r.2.mem ((c.tc : Thread Cert.SwigluBwdIdeal.nD Cert.SwigluBwdIdeal.τ).loc Cert.SwigluBwdIdeal.main_v0_0) = v0 c
          ∧ r.2.mem ((c.tc : Thread Cert.SwigluBwdIdeal.nD Cert.SwigluBwdIdeal.τ).loc Cert.SwigluBwdIdeal.main_v0_1) = v1 c
          ∧ r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
          ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1)
          ∧ r.2.mem ((c.tc : Thread Cert.SwigluBwdIdeal.nD Cert.SwigluBwdIdeal.τ).loc Cert.SwigluBwdIdeal.main_arg2) = m ((c.tc : Thread Cert.SwigluBwdIdeal.nD Cert.SwigluBwdIdeal.τ).loc Cert.SwigluBwdIdeal.main_arg2))
      ∧ θ_run (Cert.SwigluBwdReferenceIdeal.defs (F := Ideal)) (onTc (τ := Cert.SwigluBwdReferenceIdeal.τ) (Cert.SwigluBwdReferenceIdeal.main (F := Ideal))) ⟨m', fun _ => 0, g'⟩ (fun r => ∀ c : Dev Cert.SwigluBwdReferenceIdeal.nD,
          r.2.mem ((c.tc : Thread Cert.SwigluBwdReferenceIdeal.nD Cert.SwigluBwdReferenceIdeal.τ).loc Cert.SwigluBwdReferenceIdeal.main_v17) = v0 c
          ∧ r.2.mem ((c.tc : Thread Cert.SwigluBwdReferenceIdeal.nD Cert.SwigluBwdReferenceIdeal.τ).loc Cert.SwigluBwdReferenceIdeal.main_v26) = v1 c
          ∧ r.2.mem ((c.tc : Thread Cert.SwigluBwdReferenceIdeal.nD Cert.SwigluBwdReferenceIdeal.τ).loc Cert.SwigluBwdReferenceIdeal.main_arg0) = m' ((c.tc : Thread Cert.SwigluBwdReferenceIdeal.nD Cert.SwigluBwdReferenceIdeal.τ).loc Cert.SwigluBwdReferenceIdeal.main_arg0)
          ∧ r.2.mem ((c.tc : Thread Cert.SwigluBwdReferenceIdeal.nD Cert.SwigluBwdReferenceIdeal.τ).loc Cert.SwigluBwdReferenceIdeal.main_arg1) = m' ((c.tc : Thread Cert.SwigluBwdReferenceIdeal.nD Cert.SwigluBwdReferenceIdeal.τ).loc Cert.SwigluBwdReferenceIdeal.main_arg1)
          ∧ r.2.mem ((c.tc : Thread Cert.SwigluBwdReferenceIdeal.nD Cert.SwigluBwdReferenceIdeal.τ).loc Cert.SwigluBwdReferenceIdeal.main_arg2) = m' ((c.tc : Thread Cert.SwigluBwdReferenceIdeal.nD Cert.SwigluBwdReferenceIdeal.τ).loc Cert.SwigluBwdReferenceIdeal.main_arg2))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v2) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1))

def preserves_ProjDo_ProjDoIdeal : Prop :=
  True

def algebraic_ProjDoIdeal_ProjDoReferenceIdeal [hProjDoIdeal : Cert.ProjDoIdeal.Facts] [hProjDoReferenceIdeal : Cert.ProjDoReferenceIdeal.Facts] : Prop :=
  ∀ (m : (ℓ : Loc Cert.ProjDoIdeal.nD Cert.ProjDoIdeal.τ Cert.ProjDoIdeal.sig) → Buf (Elt Ideal) ℓ) (g : Dev Cert.ProjDoIdeal.nD → PrngReg)
    (m' : (ℓ : Loc Cert.ProjDoReferenceIdeal.nD Cert.ProjDoReferenceIdeal.τ Cert.ProjDoReferenceIdeal.sig) → Buf (Elt Ideal) ℓ) (g' : Dev Cert.ProjDoReferenceIdeal.nD → PrngReg), Pre_ProjDoIdeal m →
    (∀ c : Dev Cert.ProjDoIdeal.nD,
      m' ((c.tc : Thread Cert.ProjDoReferenceIdeal.nD Cert.ProjDoReferenceIdeal.τ).loc Cert.ProjDoReferenceIdeal.main_arg0) = m ((c.tc : Thread Cert.ProjDoIdeal.nD Cert.ProjDoIdeal.τ).loc Cert.ProjDoIdeal.main_arg0)
      ∧ m' ((c.tc : Thread Cert.ProjDoReferenceIdeal.nD Cert.ProjDoReferenceIdeal.τ).loc Cert.ProjDoReferenceIdeal.main_arg1) = m ((c.tc : Thread Cert.ProjDoIdeal.nD Cert.ProjDoIdeal.τ).loc Cert.ProjDoIdeal.main_arg1)) →
    ∃ (v0 : (c : Dev Cert.ProjDoIdeal.nD) → Buf (Elt Ideal) ((c.tc : Thread Cert.ProjDoIdeal.nD Cert.ProjDoIdeal.τ).loc Cert.ProjDoIdeal.main_v0)),
      θ_run (Cert.ProjDoIdeal.defs (F := Ideal)) (onTc (τ := Cert.ProjDoIdeal.τ) (Cert.ProjDoIdeal.main (F := Ideal))) ⟨m, fun _ => 0, g⟩ (fun r => ∀ c : Dev Cert.ProjDoIdeal.nD,
          r.2.mem ((c.tc : Thread Cert.ProjDoIdeal.nD Cert.ProjDoIdeal.τ).loc Cert.ProjDoIdeal.main_v0) = v0 c
          ∧ r.2.mem ((c.tc : Thread Cert.ProjDoIdeal.nD Cert.ProjDoIdeal.τ).loc Cert.ProjDoIdeal.main_arg0) = m ((c.tc : Thread Cert.ProjDoIdeal.nD Cert.ProjDoIdeal.τ).loc Cert.ProjDoIdeal.main_arg0)
          ∧ r.2.mem ((c.tc : Thread Cert.ProjDoIdeal.nD Cert.ProjDoIdeal.τ).loc Cert.ProjDoIdeal.main_arg1) = m ((c.tc : Thread Cert.ProjDoIdeal.nD Cert.ProjDoIdeal.τ).loc Cert.ProjDoIdeal.main_arg1))
      ∧ θ_run (Cert.ProjDoReferenceIdeal.defs (F := Ideal)) (onTc (τ := Cert.ProjDoReferenceIdeal.τ) (Cert.ProjDoReferenceIdeal.main (F := Ideal))) ⟨m', fun _ => 0, g'⟩ (fun r => ∀ c : Dev Cert.ProjDoReferenceIdeal.nD,
          r.2.mem ((c.tc : Thread Cert.ProjDoReferenceIdeal.nD Cert.ProjDoReferenceIdeal.τ).loc Cert.ProjDoReferenceIdeal.main_v2) = v0 c
          ∧ r.2.mem ((c.tc : Thread Cert.ProjDoReferenceIdeal.nD Cert.ProjDoReferenceIdeal.τ).loc Cert.ProjDoReferenceIdeal.main_arg0) = m' ((c.tc : Thread Cert.ProjDoReferenceIdeal.nD Cert.ProjDoReferenceIdeal.τ).loc Cert.ProjDoReferenceIdeal.main_arg0)
          ∧ r.2.mem ((c.tc : Thread Cert.ProjDoReferenceIdeal.nD Cert.ProjDoReferenceIdeal.τ).loc Cert.ProjDoReferenceIdeal.main_arg1) = m' ((c.tc : Thread Cert.ProjDoReferenceIdeal.nD Cert.ProjDoReferenceIdeal.τ).loc Cert.ProjDoReferenceIdeal.main_arg1))

def preserves_ProjDw_ProjDwIdeal : Prop :=
  True

def algebraic_ProjDwIdeal_ProjDwReferenceIdeal [hProjDwIdeal : Cert.ProjDwIdeal.Facts] [hProjDwReferenceIdeal : Cert.ProjDwReferenceIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg)
    (m' : (ℓ : Loc Cert.ProjDwReferenceIdeal.nD Cert.ProjDwReferenceIdeal.τ Cert.ProjDwReferenceIdeal.sig) → Buf (Elt Ideal) ℓ) (g' : Dev Cert.ProjDwReferenceIdeal.nD → PrngReg), Pre_ProjDwIdeal m →
    (∀ c : Dev Cert.ProjDwIdeal.nD,
      m' ((c.tc : Thread Cert.ProjDwReferenceIdeal.nD Cert.ProjDwReferenceIdeal.τ).loc Cert.ProjDwReferenceIdeal.main_arg0) = m ((c.tc : Thread Cert.ProjDwIdeal.nD Cert.ProjDwIdeal.τ).loc Cert.ProjDwIdeal.main_arg0)
      ∧ m' ((c.tc : Thread Cert.ProjDwReferenceIdeal.nD Cert.ProjDwReferenceIdeal.τ).loc Cert.ProjDwReferenceIdeal.main_arg1) = m ((c.tc : Thread Cert.ProjDwIdeal.nD Cert.ProjDwIdeal.τ).loc Cert.ProjDwIdeal.main_arg1)) →
    ∃ (v0 : (c : Dev Cert.ProjDwIdeal.nD) → Buf (Elt Ideal) ((c.tc : Thread Cert.ProjDwIdeal.nD Cert.ProjDwIdeal.τ).loc Cert.ProjDwIdeal.main_v0)),
      θ_run (Cert.ProjDwIdeal.defs (F := Ideal)) (onTc (τ := Cert.ProjDwIdeal.τ) (Cert.ProjDwIdeal.main (F := Ideal))) ⟨m, fun _ => 0, g⟩ (fun r => ∀ c : Dev Cert.ProjDwIdeal.nD,
          r.2.mem ((c.tc : Thread Cert.ProjDwIdeal.nD Cert.ProjDwIdeal.τ).loc Cert.ProjDwIdeal.main_v0) = v0 c
          ∧ r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
          ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ θ_run (Cert.ProjDwReferenceIdeal.defs (F := Ideal)) (onTc (τ := Cert.ProjDwReferenceIdeal.τ) (Cert.ProjDwReferenceIdeal.main (F := Ideal))) ⟨m', fun _ => 0, g'⟩ (fun r => ∀ c : Dev Cert.ProjDwReferenceIdeal.nD,
          r.2.mem ((c.tc : Thread Cert.ProjDwReferenceIdeal.nD Cert.ProjDwReferenceIdeal.τ).loc Cert.ProjDwReferenceIdeal.main_v2) = v0 c
          ∧ r.2.mem ((c.tc : Thread Cert.ProjDwReferenceIdeal.nD Cert.ProjDwReferenceIdeal.τ).loc Cert.ProjDwReferenceIdeal.main_arg0) = m' ((c.tc : Thread Cert.ProjDwReferenceIdeal.nD Cert.ProjDwReferenceIdeal.τ).loc Cert.ProjDwReferenceIdeal.main_arg0)
          ∧ r.2.mem ((c.tc : Thread Cert.ProjDwReferenceIdeal.nD Cert.ProjDwReferenceIdeal.τ).loc Cert.ProjDwReferenceIdeal.main_arg1) = m' ((c.tc : Thread Cert.ProjDwReferenceIdeal.nD Cert.ProjDwReferenceIdeal.τ).loc Cert.ProjDwReferenceIdeal.main_arg1))

def preserves_FfnIn_FfnInIdeal : Prop :=
  True

def algebraic_FfnInIdeal_FfnInReferenceIdeal [hFfnInIdeal : Cert.FfnInIdeal.Facts] [hFfnInReferenceIdeal : Cert.FfnInReferenceIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInReferenceIdeal.nD Cert.FfnInReferenceIdeal.τ Cert.FfnInReferenceIdeal.sig) → Buf (Elt Ideal) ℓ) (g' : Dev Cert.FfnInReferenceIdeal.nD → PrngReg), Pre_FfnInIdeal m →
    (∀ c : Dev Cert.FfnInIdeal.nD,
      m' ((c.tc : Thread Cert.FfnInReferenceIdeal.nD Cert.FfnInReferenceIdeal.τ).loc Cert.FfnInReferenceIdeal.main_arg0) = m ((c.tc : Thread Cert.FfnInIdeal.nD Cert.FfnInIdeal.τ).loc Cert.FfnInIdeal.main_arg0)
      ∧ m' ((c.tc : Thread Cert.FfnInReferenceIdeal.nD Cert.FfnInReferenceIdeal.τ).loc Cert.FfnInReferenceIdeal.main_arg1) = m ((c.tc : Thread Cert.FfnInIdeal.nD Cert.FfnInIdeal.τ).loc Cert.FfnInIdeal.main_arg1)) →
    ∃ (v0 : (c : Dev Cert.FfnInIdeal.nD) → Buf (Elt Ideal) ((c.tc : Thread Cert.FfnInIdeal.nD Cert.FfnInIdeal.τ).loc Cert.FfnInIdeal.main_v0)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v0) = v0 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ θ_run (Cert.FfnInReferenceIdeal.defs (F := Ideal)) (onTc (τ := Cert.FfnInReferenceIdeal.τ) (Cert.FfnInReferenceIdeal.main (F := Ideal))) ⟨m', fun _ => 0, g'⟩ (fun r => ∀ c : Dev Cert.FfnInReferenceIdeal.nD,
          r.2.mem ((c.tc : Thread Cert.FfnInReferenceIdeal.nD Cert.FfnInReferenceIdeal.τ).loc Cert.FfnInReferenceIdeal.main_v4) = v0 c
          ∧ r.2.mem ((c.tc : Thread Cert.FfnInReferenceIdeal.nD Cert.FfnInReferenceIdeal.τ).loc Cert.FfnInReferenceIdeal.main_arg0) = m' ((c.tc : Thread Cert.FfnInReferenceIdeal.nD Cert.FfnInReferenceIdeal.τ).loc Cert.FfnInReferenceIdeal.main_arg0)
          ∧ r.2.mem ((c.tc : Thread Cert.FfnInReferenceIdeal.nD Cert.FfnInReferenceIdeal.τ).loc Cert.FfnInReferenceIdeal.main_arg1) = m' ((c.tc : Thread Cert.FfnInReferenceIdeal.nD Cert.FfnInReferenceIdeal.τ).loc Cert.FfnInReferenceIdeal.main_arg1))

def preserves_FfnOut_FfnOutIdeal : Prop :=
  True

def algebraic_FfnOutIdeal_FfnOutReferenceIdeal [hFfnOutIdeal : Cert.FfnOutIdeal.Facts] [hFfnOutReferenceIdeal : Cert.FfnOutReferenceIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutReferenceIdeal.nD Cert.FfnOutReferenceIdeal.τ Cert.FfnOutReferenceIdeal.sig) → Buf (Elt Ideal) ℓ) (g' : Dev Cert.FfnOutReferenceIdeal.nD → PrngReg), Pre_FfnOutIdeal m →
    (∀ c : Dev Cert.FfnOutIdeal.nD,
      m' ((c.tc : Thread Cert.FfnOutReferenceIdeal.nD Cert.FfnOutReferenceIdeal.τ).loc Cert.FfnOutReferenceIdeal.main_arg0) = m ((c.tc : Thread Cert.FfnOutIdeal.nD Cert.FfnOutIdeal.τ).loc Cert.FfnOutIdeal.main_arg0)
      ∧ m' ((c.tc : Thread Cert.FfnOutReferenceIdeal.nD Cert.FfnOutReferenceIdeal.τ).loc Cert.FfnOutReferenceIdeal.main_arg1) = m ((c.tc : Thread Cert.FfnOutIdeal.nD Cert.FfnOutIdeal.τ).loc Cert.FfnOutIdeal.main_arg1)) →
    ∃ (v0 : (c : Dev Cert.FfnOutIdeal.nD) → Buf (Elt Ideal) ((c.tc : Thread Cert.FfnOutIdeal.nD Cert.FfnOutIdeal.τ).loc Cert.FfnOutIdeal.main_v0)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v0) = v0 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1))
      ∧ θ_run (Cert.FfnOutReferenceIdeal.defs (F := Ideal)) (onTc (τ := Cert.FfnOutReferenceIdeal.τ) (Cert.FfnOutReferenceIdeal.main (F := Ideal))) ⟨m', fun _ => 0, g'⟩ (fun r => ∀ c : Dev Cert.FfnOutReferenceIdeal.nD,
          r.2.mem ((c.tc : Thread Cert.FfnOutReferenceIdeal.nD Cert.FfnOutReferenceIdeal.τ).loc Cert.FfnOutReferenceIdeal.main_v2) = v0 c
          ∧ r.2.mem ((c.tc : Thread Cert.FfnOutReferenceIdeal.nD Cert.FfnOutReferenceIdeal.τ).loc Cert.FfnOutReferenceIdeal.main_arg0) = m' ((c.tc : Thread Cert.FfnOutReferenceIdeal.nD Cert.FfnOutReferenceIdeal.τ).loc Cert.FfnOutReferenceIdeal.main_arg0)
          ∧ r.2.mem ((c.tc : Thread Cert.FfnOutReferenceIdeal.nD Cert.FfnOutReferenceIdeal.τ).loc Cert.FfnOutReferenceIdeal.main_arg1) = m' ((c.tc : Thread Cert.FfnOutReferenceIdeal.nD Cert.FfnOutReferenceIdeal.τ).loc Cert.FfnOutReferenceIdeal.main_arg1))

def preserves_FfnDact_FfnDactIdeal : Prop :=
  True

def algebraic_FfnDactIdeal_FfnDactReferenceIdeal [hFfnDactIdeal : Cert.FfnDactIdeal.Facts] [hFfnDactReferenceIdeal : Cert.FfnDactReferenceIdeal.Facts] : Prop :=
  ∀ (m : (ℓ : Loc Cert.FfnDactIdeal.nD Cert.FfnDactIdeal.τ Cert.FfnDactIdeal.sig) → Buf (Elt Ideal) ℓ) (g : Dev Cert.FfnDactIdeal.nD → PrngReg)
    (m' : (ℓ : Loc Cert.FfnDactReferenceIdeal.nD Cert.FfnDactReferenceIdeal.τ Cert.FfnDactReferenceIdeal.sig) → Buf (Elt Ideal) ℓ) (g' : Dev Cert.FfnDactReferenceIdeal.nD → PrngReg), Pre_FfnDactIdeal m →
    (∀ c : Dev Cert.FfnDactIdeal.nD,
      m' ((c.tc : Thread Cert.FfnDactReferenceIdeal.nD Cert.FfnDactReferenceIdeal.τ).loc Cert.FfnDactReferenceIdeal.main_arg0) = m ((c.tc : Thread Cert.FfnDactIdeal.nD Cert.FfnDactIdeal.τ).loc Cert.FfnDactIdeal.main_arg0)
      ∧ m' ((c.tc : Thread Cert.FfnDactReferenceIdeal.nD Cert.FfnDactReferenceIdeal.τ).loc Cert.FfnDactReferenceIdeal.main_arg1) = m ((c.tc : Thread Cert.FfnDactIdeal.nD Cert.FfnDactIdeal.τ).loc Cert.FfnDactIdeal.main_arg1)) →
    ∃ (v0 : (c : Dev Cert.FfnDactIdeal.nD) → Buf (Elt Ideal) ((c.tc : Thread Cert.FfnDactIdeal.nD Cert.FfnDactIdeal.τ).loc Cert.FfnDactIdeal.main_v0)),
      θ_run (Cert.FfnDactIdeal.defs (F := Ideal)) (onTc (τ := Cert.FfnDactIdeal.τ) (Cert.FfnDactIdeal.main (F := Ideal))) ⟨m, fun _ => 0, g⟩ (fun r => ∀ c : Dev Cert.FfnDactIdeal.nD,
          r.2.mem ((c.tc : Thread Cert.FfnDactIdeal.nD Cert.FfnDactIdeal.τ).loc Cert.FfnDactIdeal.main_v0) = v0 c
          ∧ r.2.mem ((c.tc : Thread Cert.FfnDactIdeal.nD Cert.FfnDactIdeal.τ).loc Cert.FfnDactIdeal.main_arg0) = m ((c.tc : Thread Cert.FfnDactIdeal.nD Cert.FfnDactIdeal.τ).loc Cert.FfnDactIdeal.main_arg0)
          ∧ r.2.mem ((c.tc : Thread Cert.FfnDactIdeal.nD Cert.FfnDactIdeal.τ).loc Cert.FfnDactIdeal.main_arg1) = m ((c.tc : Thread Cert.FfnDactIdeal.nD Cert.FfnDactIdeal.τ).loc Cert.FfnDactIdeal.main_arg1))
      ∧ θ_run (Cert.FfnDactReferenceIdeal.defs (F := Ideal)) (onTc (τ := Cert.FfnDactReferenceIdeal.τ) (Cert.FfnDactReferenceIdeal.main (F := Ideal))) ⟨m', fun _ => 0, g'⟩ (fun r => ∀ c : Dev Cert.FfnDactReferenceIdeal.nD,
          r.2.mem ((c.tc : Thread Cert.FfnDactReferenceIdeal.nD Cert.FfnDactReferenceIdeal.τ).loc Cert.FfnDactReferenceIdeal.main_v3) = v0 c
          ∧ r.2.mem ((c.tc : Thread Cert.FfnDactReferenceIdeal.nD Cert.FfnDactReferenceIdeal.τ).loc Cert.FfnDactReferenceIdeal.main_arg0) = m' ((c.tc : Thread Cert.FfnDactReferenceIdeal.nD Cert.FfnDactReferenceIdeal.τ).loc Cert.FfnDactReferenceIdeal.main_arg0)
          ∧ r.2.mem ((c.tc : Thread Cert.FfnDactReferenceIdeal.nD Cert.FfnDactReferenceIdeal.τ).loc Cert.FfnDactReferenceIdeal.main_arg1) = m' ((c.tc : Thread Cert.FfnDactReferenceIdeal.nD Cert.FfnDactReferenceIdeal.τ).loc Cert.FfnDactReferenceIdeal.main_arg1))

def preserves_FfnDwDown_FfnDwDownIdeal : Prop :=
  True

def algebraic_FfnDwDownIdeal_FfnDwDownReferenceIdeal [hFfnDwDownIdeal : Cert.FfnDwDownIdeal.Facts] [hFfnDwDownReferenceIdeal : Cert.FfnDwDownReferenceIdeal.Facts] : Prop :=
  ∀ (m : (ℓ : Loc Cert.FfnDwDownIdeal.nD Cert.FfnDwDownIdeal.τ Cert.FfnDwDownIdeal.sig) → Buf (Elt Ideal) ℓ) (g : Dev Cert.FfnDwDownIdeal.nD → PrngReg)
    (m' : (ℓ : Loc Cert.FfnDwDownReferenceIdeal.nD Cert.FfnDwDownReferenceIdeal.τ Cert.FfnDwDownReferenceIdeal.sig) → Buf (Elt Ideal) ℓ) (g' : Dev Cert.FfnDwDownReferenceIdeal.nD → PrngReg), Pre_FfnDwDownIdeal m →
    (∀ c : Dev Cert.FfnDwDownIdeal.nD,
      m' ((c.tc : Thread Cert.FfnDwDownReferenceIdeal.nD Cert.FfnDwDownReferenceIdeal.τ).loc Cert.FfnDwDownReferenceIdeal.main_arg0) = m ((c.tc : Thread Cert.FfnDwDownIdeal.nD Cert.FfnDwDownIdeal.τ).loc Cert.FfnDwDownIdeal.main_arg0)
      ∧ m' ((c.tc : Thread Cert.FfnDwDownReferenceIdeal.nD Cert.FfnDwDownReferenceIdeal.τ).loc Cert.FfnDwDownReferenceIdeal.main_arg1) = m ((c.tc : Thread Cert.FfnDwDownIdeal.nD Cert.FfnDwDownIdeal.τ).loc Cert.FfnDwDownIdeal.main_arg1)) →
    ∃ (v0 : (c : Dev Cert.FfnDwDownIdeal.nD) → Buf (Elt Ideal) ((c.tc : Thread Cert.FfnDwDownIdeal.nD Cert.FfnDwDownIdeal.τ).loc Cert.FfnDwDownIdeal.main_v0)),
      θ_run (Cert.FfnDwDownIdeal.defs (F := Ideal)) (onTc (τ := Cert.FfnDwDownIdeal.τ) (Cert.FfnDwDownIdeal.main (F := Ideal))) ⟨m, fun _ => 0, g⟩ (fun r => ∀ c : Dev Cert.FfnDwDownIdeal.nD,
          r.2.mem ((c.tc : Thread Cert.FfnDwDownIdeal.nD Cert.FfnDwDownIdeal.τ).loc Cert.FfnDwDownIdeal.main_v0) = v0 c
          ∧ r.2.mem ((c.tc : Thread Cert.FfnDwDownIdeal.nD Cert.FfnDwDownIdeal.τ).loc Cert.FfnDwDownIdeal.main_arg0) = m ((c.tc : Thread Cert.FfnDwDownIdeal.nD Cert.FfnDwDownIdeal.τ).loc Cert.FfnDwDownIdeal.main_arg0)
          ∧ r.2.mem ((c.tc : Thread Cert.FfnDwDownIdeal.nD Cert.FfnDwDownIdeal.τ).loc Cert.FfnDwDownIdeal.main_arg1) = m ((c.tc : Thread Cert.FfnDwDownIdeal.nD Cert.FfnDwDownIdeal.τ).loc Cert.FfnDwDownIdeal.main_arg1))
      ∧ θ_run (Cert.FfnDwDownReferenceIdeal.defs (F := Ideal)) (onTc (τ := Cert.FfnDwDownReferenceIdeal.τ) (Cert.FfnDwDownReferenceIdeal.main (F := Ideal))) ⟨m', fun _ => 0, g'⟩ (fun r => ∀ c : Dev Cert.FfnDwDownReferenceIdeal.nD,
          r.2.mem ((c.tc : Thread Cert.FfnDwDownReferenceIdeal.nD Cert.FfnDwDownReferenceIdeal.τ).loc Cert.FfnDwDownReferenceIdeal.main_v2) = v0 c
          ∧ r.2.mem ((c.tc : Thread Cert.FfnDwDownReferenceIdeal.nD Cert.FfnDwDownReferenceIdeal.τ).loc Cert.FfnDwDownReferenceIdeal.main_arg0) = m' ((c.tc : Thread Cert.FfnDwDownReferenceIdeal.nD Cert.FfnDwDownReferenceIdeal.τ).loc Cert.FfnDwDownReferenceIdeal.main_arg0)
          ∧ r.2.mem ((c.tc : Thread Cert.FfnDwDownReferenceIdeal.nD Cert.FfnDwDownReferenceIdeal.τ).loc Cert.FfnDwDownReferenceIdeal.main_arg1) = m' ((c.tc : Thread Cert.FfnDwDownReferenceIdeal.nD Cert.FfnDwDownReferenceIdeal.τ).loc Cert.FfnDwDownReferenceIdeal.main_arg1))

def preserves_FfnDh_FfnDhIdeal : Prop :=
  True

def algebraic_FfnDhIdeal_FfnDhReferenceIdeal [hFfnDhIdeal : Cert.FfnDhIdeal.Facts] [hFfnDhReferenceIdeal : Cert.FfnDhReferenceIdeal.Facts] : Prop :=
  ∀ (m : (ℓ : Loc Cert.FfnDhIdeal.nD Cert.FfnDhIdeal.τ Cert.FfnDhIdeal.sig) → Buf (Elt Ideal) ℓ) (g : Dev Cert.FfnDhIdeal.nD → PrngReg)
    (m' : (ℓ : Loc Cert.FfnDhReferenceIdeal.nD Cert.FfnDhReferenceIdeal.τ Cert.FfnDhReferenceIdeal.sig) → Buf (Elt Ideal) ℓ) (g' : Dev Cert.FfnDhReferenceIdeal.nD → PrngReg), Pre_FfnDhIdeal m →
    (∀ c : Dev Cert.FfnDhIdeal.nD,
      m' ((c.tc : Thread Cert.FfnDhReferenceIdeal.nD Cert.FfnDhReferenceIdeal.τ).loc Cert.FfnDhReferenceIdeal.main_arg0) = m ((c.tc : Thread Cert.FfnDhIdeal.nD Cert.FfnDhIdeal.τ).loc Cert.FfnDhIdeal.main_arg0)
      ∧ m' ((c.tc : Thread Cert.FfnDhReferenceIdeal.nD Cert.FfnDhReferenceIdeal.τ).loc Cert.FfnDhReferenceIdeal.main_arg1) = m ((c.tc : Thread Cert.FfnDhIdeal.nD Cert.FfnDhIdeal.τ).loc Cert.FfnDhIdeal.main_arg1)
      ∧ m' ((c.tc : Thread Cert.FfnDhReferenceIdeal.nD Cert.FfnDhReferenceIdeal.τ).loc Cert.FfnDhReferenceIdeal.main_arg2) = m ((c.tc : Thread Cert.FfnDhIdeal.nD Cert.FfnDhIdeal.τ).loc Cert.FfnDhIdeal.main_arg2)
      ∧ m' ((c.tc : Thread Cert.FfnDhReferenceIdeal.nD Cert.FfnDhReferenceIdeal.τ).loc Cert.FfnDhReferenceIdeal.main_arg3) = m ((c.tc : Thread Cert.FfnDhIdeal.nD Cert.FfnDhIdeal.τ).loc Cert.FfnDhIdeal.main_arg3)) →
    ∃ (v0 : (c : Dev Cert.FfnDhIdeal.nD) → Buf (Elt Ideal) ((c.tc : Thread Cert.FfnDhIdeal.nD Cert.FfnDhIdeal.τ).loc Cert.FfnDhIdeal.main_v0)),
      θ_run (Cert.FfnDhIdeal.defs (F := Ideal)) (onTc (τ := Cert.FfnDhIdeal.τ) (Cert.FfnDhIdeal.main (F := Ideal))) ⟨m, fun _ => 0, g⟩ (fun r => ∀ c : Dev Cert.FfnDhIdeal.nD,
          r.2.mem ((c.tc : Thread Cert.FfnDhIdeal.nD Cert.FfnDhIdeal.τ).loc Cert.FfnDhIdeal.main_v0) = v0 c
          ∧ r.2.mem ((c.tc : Thread Cert.FfnDhIdeal.nD Cert.FfnDhIdeal.τ).loc Cert.FfnDhIdeal.main_arg0) = m ((c.tc : Thread Cert.FfnDhIdeal.nD Cert.FfnDhIdeal.τ).loc Cert.FfnDhIdeal.main_arg0)
          ∧ r.2.mem ((c.tc : Thread Cert.FfnDhIdeal.nD Cert.FfnDhIdeal.τ).loc Cert.FfnDhIdeal.main_arg1) = m ((c.tc : Thread Cert.FfnDhIdeal.nD Cert.FfnDhIdeal.τ).loc Cert.FfnDhIdeal.main_arg1)
          ∧ r.2.mem ((c.tc : Thread Cert.FfnDhIdeal.nD Cert.FfnDhIdeal.τ).loc Cert.FfnDhIdeal.main_arg2) = m ((c.tc : Thread Cert.FfnDhIdeal.nD Cert.FfnDhIdeal.τ).loc Cert.FfnDhIdeal.main_arg2)
          ∧ r.2.mem ((c.tc : Thread Cert.FfnDhIdeal.nD Cert.FfnDhIdeal.τ).loc Cert.FfnDhIdeal.main_arg3) = m ((c.tc : Thread Cert.FfnDhIdeal.nD Cert.FfnDhIdeal.τ).loc Cert.FfnDhIdeal.main_arg3))
      ∧ θ_run (Cert.FfnDhReferenceIdeal.defs (F := Ideal)) (onTc (τ := Cert.FfnDhReferenceIdeal.τ) (Cert.FfnDhReferenceIdeal.main (F := Ideal))) ⟨m', fun _ => 0, g'⟩ (fun r => ∀ c : Dev Cert.FfnDhReferenceIdeal.nD,
          r.2.mem ((c.tc : Thread Cert.FfnDhReferenceIdeal.nD Cert.FfnDhReferenceIdeal.τ).loc Cert.FfnDhReferenceIdeal.main_v6) = v0 c
          ∧ r.2.mem ((c.tc : Thread Cert.FfnDhReferenceIdeal.nD Cert.FfnDhReferenceIdeal.τ).loc Cert.FfnDhReferenceIdeal.main_arg0) = m' ((c.tc : Thread Cert.FfnDhReferenceIdeal.nD Cert.FfnDhReferenceIdeal.τ).loc Cert.FfnDhReferenceIdeal.main_arg0)
          ∧ r.2.mem ((c.tc : Thread Cert.FfnDhReferenceIdeal.nD Cert.FfnDhReferenceIdeal.τ).loc Cert.FfnDhReferenceIdeal.main_arg1) = m' ((c.tc : Thread Cert.FfnDhReferenceIdeal.nD Cert.FfnDhReferenceIdeal.τ).loc Cert.FfnDhReferenceIdeal.main_arg1)
          ∧ r.2.mem ((c.tc : Thread Cert.FfnDhReferenceIdeal.nD Cert.FfnDhReferenceIdeal.τ).loc Cert.FfnDhReferenceIdeal.main_arg2) = m' ((c.tc : Thread Cert.FfnDhReferenceIdeal.nD Cert.FfnDhReferenceIdeal.τ).loc Cert.FfnDhReferenceIdeal.main_arg2)
          ∧ r.2.mem ((c.tc : Thread Cert.FfnDhReferenceIdeal.nD Cert.FfnDhReferenceIdeal.τ).loc Cert.FfnDhReferenceIdeal.main_arg3) = m' ((c.tc : Thread Cert.FfnDhReferenceIdeal.nD Cert.FfnDhReferenceIdeal.τ).loc Cert.FfnDhReferenceIdeal.main_arg3))

def preserves_FfnDwIn_FfnDwInIdeal : Prop :=
  True

def algebraic_FfnDwInIdeal_FfnDwInReferenceIdeal [hFfnDwInIdeal : Cert.FfnDwInIdeal.Facts] [hFfnDwInReferenceIdeal : Cert.FfnDwInReferenceIdeal.Facts] : Prop :=
  ∀ (m : (ℓ : Loc Cert.FfnDwInIdeal.nD Cert.FfnDwInIdeal.τ Cert.FfnDwInIdeal.sig) → Buf (Elt Ideal) ℓ) (g : Dev Cert.FfnDwInIdeal.nD → PrngReg)
    (m' : (ℓ : Loc Cert.FfnDwInReferenceIdeal.nD Cert.FfnDwInReferenceIdeal.τ Cert.FfnDwInReferenceIdeal.sig) → Buf (Elt Ideal) ℓ) (g' : Dev Cert.FfnDwInReferenceIdeal.nD → PrngReg), Pre_FfnDwInIdeal m →
    (∀ c : Dev Cert.FfnDwInIdeal.nD,
      m' ((c.tc : Thread Cert.FfnDwInReferenceIdeal.nD Cert.FfnDwInReferenceIdeal.τ).loc Cert.FfnDwInReferenceIdeal.main_arg0) = m ((c.tc : Thread Cert.FfnDwInIdeal.nD Cert.FfnDwInIdeal.τ).loc Cert.FfnDwInIdeal.main_arg0)
      ∧ m' ((c.tc : Thread Cert.FfnDwInReferenceIdeal.nD Cert.FfnDwInReferenceIdeal.τ).loc Cert.FfnDwInReferenceIdeal.main_arg1) = m ((c.tc : Thread Cert.FfnDwInIdeal.nD Cert.FfnDwInIdeal.τ).loc Cert.FfnDwInIdeal.main_arg1)) →
    ∃ (v0 : (c : Dev Cert.FfnDwInIdeal.nD) → Buf (Elt Ideal) ((c.tc : Thread Cert.FfnDwInIdeal.nD Cert.FfnDwInIdeal.τ).loc Cert.FfnDwInIdeal.main_v0)),
      θ_run (Cert.FfnDwInIdeal.defs (F := Ideal)) (onTc (τ := Cert.FfnDwInIdeal.τ) (Cert.FfnDwInIdeal.main (F := Ideal))) ⟨m, fun _ => 0, g⟩ (fun r => ∀ c : Dev Cert.FfnDwInIdeal.nD,
          r.2.mem ((c.tc : Thread Cert.FfnDwInIdeal.nD Cert.FfnDwInIdeal.τ).loc Cert.FfnDwInIdeal.main_v0) = v0 c
          ∧ r.2.mem ((c.tc : Thread Cert.FfnDwInIdeal.nD Cert.FfnDwInIdeal.τ).loc Cert.FfnDwInIdeal.main_arg0) = m ((c.tc : Thread Cert.FfnDwInIdeal.nD Cert.FfnDwInIdeal.τ).loc Cert.FfnDwInIdeal.main_arg0)
          ∧ r.2.mem ((c.tc : Thread Cert.FfnDwInIdeal.nD Cert.FfnDwInIdeal.τ).loc Cert.FfnDwInIdeal.main_arg1) = m ((c.tc : Thread Cert.FfnDwInIdeal.nD Cert.FfnDwInIdeal.τ).loc Cert.FfnDwInIdeal.main_arg1))
      ∧ θ_run (Cert.FfnDwInReferenceIdeal.defs (F := Ideal)) (onTc (τ := Cert.FfnDwInReferenceIdeal.τ) (Cert.FfnDwInReferenceIdeal.main (F := Ideal))) ⟨m', fun _ => 0, g'⟩ (fun r => ∀ c : Dev Cert.FfnDwInReferenceIdeal.nD,
          r.2.mem ((c.tc : Thread Cert.FfnDwInReferenceIdeal.nD Cert.FfnDwInReferenceIdeal.τ).loc Cert.FfnDwInReferenceIdeal.main_v4) = v0 c
          ∧ r.2.mem ((c.tc : Thread Cert.FfnDwInReferenceIdeal.nD Cert.FfnDwInReferenceIdeal.τ).loc Cert.FfnDwInReferenceIdeal.main_arg0) = m' ((c.tc : Thread Cert.FfnDwInReferenceIdeal.nD Cert.FfnDwInReferenceIdeal.τ).loc Cert.FfnDwInReferenceIdeal.main_arg0)
          ∧ r.2.mem ((c.tc : Thread Cert.FfnDwInReferenceIdeal.nD Cert.FfnDwInReferenceIdeal.τ).loc Cert.FfnDwInReferenceIdeal.main_arg1) = m' ((c.tc : Thread Cert.FfnDwInReferenceIdeal.nD Cert.FfnDwInReferenceIdeal.τ).loc Cert.FfnDwInReferenceIdeal.main_arg1))

def preserves_NaQkv_NaQkvIdeal : Prop :=
  True

def algebraic_NaQkvIdeal_NaQkvReferenceIdeal [hNaQkvIdeal : Cert.NaQkvIdeal.Facts] [hNaQkvReferenceIdeal : Cert.NaQkvReferenceIdeal.Facts] : Prop :=
  ∀ (m : (ℓ : Loc Cert.NaQkvIdeal.nD Cert.NaQkvIdeal.τ Cert.NaQkvIdeal.sig) → Buf (Elt Ideal) ℓ) (g : Dev Cert.NaQkvIdeal.nD → PrngReg)
    (m' : (ℓ : Loc Cert.NaQkvReferenceIdeal.nD Cert.NaQkvReferenceIdeal.τ Cert.NaQkvReferenceIdeal.sig) → Buf (Elt Ideal) ℓ) (g' : Dev Cert.NaQkvReferenceIdeal.nD → PrngReg), Pre_NaQkvIdeal m →
    (∀ c : Dev Cert.NaQkvIdeal.nD,
      m' ((c.tc : Thread Cert.NaQkvReferenceIdeal.nD Cert.NaQkvReferenceIdeal.τ).loc Cert.NaQkvReferenceIdeal.main_arg0) = m ((c.tc : Thread Cert.NaQkvIdeal.nD Cert.NaQkvIdeal.τ).loc Cert.NaQkvIdeal.main_arg0)
      ∧ m' ((c.tc : Thread Cert.NaQkvReferenceIdeal.nD Cert.NaQkvReferenceIdeal.τ).loc Cert.NaQkvReferenceIdeal.main_arg1) = m ((c.tc : Thread Cert.NaQkvIdeal.nD Cert.NaQkvIdeal.τ).loc Cert.NaQkvIdeal.main_arg1)) →
    ∃ (v0 : (c : Dev Cert.NaQkvIdeal.nD) → Buf (Elt Ideal) ((c.tc : Thread Cert.NaQkvIdeal.nD Cert.NaQkvIdeal.τ).loc Cert.NaQkvIdeal.main_v0)),
      θ_run (Cert.NaQkvIdeal.defs (F := Ideal)) (onTc (τ := Cert.NaQkvIdeal.τ) (Cert.NaQkvIdeal.main (F := Ideal))) ⟨m, fun _ => 0, g⟩ (fun r => ∀ c : Dev Cert.NaQkvIdeal.nD,
          r.2.mem ((c.tc : Thread Cert.NaQkvIdeal.nD Cert.NaQkvIdeal.τ).loc Cert.NaQkvIdeal.main_v0) = v0 c
          ∧ r.2.mem ((c.tc : Thread Cert.NaQkvIdeal.nD Cert.NaQkvIdeal.τ).loc Cert.NaQkvIdeal.main_arg0) = m ((c.tc : Thread Cert.NaQkvIdeal.nD Cert.NaQkvIdeal.τ).loc Cert.NaQkvIdeal.main_arg0)
          ∧ r.2.mem ((c.tc : Thread Cert.NaQkvIdeal.nD Cert.NaQkvIdeal.τ).loc Cert.NaQkvIdeal.main_arg1) = m ((c.tc : Thread Cert.NaQkvIdeal.nD Cert.NaQkvIdeal.τ).loc Cert.NaQkvIdeal.main_arg1))
      ∧ θ_run (Cert.NaQkvReferenceIdeal.defs (F := Ideal)) (onTc (τ := Cert.NaQkvReferenceIdeal.τ) (Cert.NaQkvReferenceIdeal.main (F := Ideal))) ⟨m', fun _ => 0, g'⟩ (fun r => ∀ c : Dev Cert.NaQkvReferenceIdeal.nD,
          r.2.mem ((c.tc : Thread Cert.NaQkvReferenceIdeal.nD Cert.NaQkvReferenceIdeal.τ).loc Cert.NaQkvReferenceIdeal.main_v6) = v0 c
          ∧ r.2.mem ((c.tc : Thread Cert.NaQkvReferenceIdeal.nD Cert.NaQkvReferenceIdeal.τ).loc Cert.NaQkvReferenceIdeal.main_arg0) = m' ((c.tc : Thread Cert.NaQkvReferenceIdeal.nD Cert.NaQkvReferenceIdeal.τ).loc Cert.NaQkvReferenceIdeal.main_arg0)
          ∧ r.2.mem ((c.tc : Thread Cert.NaQkvReferenceIdeal.nD Cert.NaQkvReferenceIdeal.τ).loc Cert.NaQkvReferenceIdeal.main_arg1) = m' ((c.tc : Thread Cert.NaQkvReferenceIdeal.nD Cert.NaQkvReferenceIdeal.τ).loc Cert.NaQkvReferenceIdeal.main_arg1))

def preserves_DilQkv_DilQkvIdeal : Prop :=
  True

def algebraic_DilQkvIdeal_DilQkvReferenceIdeal [hDilQkvIdeal : Cert.DilQkvIdeal.Facts] [hDilQkvReferenceIdeal : Cert.DilQkvReferenceIdeal.Facts] : Prop :=
  ∀ (m : (ℓ : Loc Cert.DilQkvIdeal.nD Cert.DilQkvIdeal.τ Cert.DilQkvIdeal.sig) → Buf (Elt Ideal) ℓ) (g : Dev Cert.DilQkvIdeal.nD → PrngReg)
    (m' : (ℓ : Loc Cert.DilQkvReferenceIdeal.nD Cert.DilQkvReferenceIdeal.τ Cert.DilQkvReferenceIdeal.sig) → Buf (Elt Ideal) ℓ) (g' : Dev Cert.DilQkvReferenceIdeal.nD → PrngReg), Pre_DilQkvIdeal m →
    (∀ c : Dev Cert.DilQkvIdeal.nD,
      m' ((c.tc : Thread Cert.DilQkvReferenceIdeal.nD Cert.DilQkvReferenceIdeal.τ).loc Cert.DilQkvReferenceIdeal.main_arg0) = m ((c.tc : Thread Cert.DilQkvIdeal.nD Cert.DilQkvIdeal.τ).loc Cert.DilQkvIdeal.main_arg0)
      ∧ m' ((c.tc : Thread Cert.DilQkvReferenceIdeal.nD Cert.DilQkvReferenceIdeal.τ).loc Cert.DilQkvReferenceIdeal.main_arg1) = m ((c.tc : Thread Cert.DilQkvIdeal.nD Cert.DilQkvIdeal.τ).loc Cert.DilQkvIdeal.main_arg1)) →
    ∃ (v0 : (c : Dev Cert.DilQkvIdeal.nD) → Buf (Elt Ideal) ((c.tc : Thread Cert.DilQkvIdeal.nD Cert.DilQkvIdeal.τ).loc Cert.DilQkvIdeal.main_v0)),
      θ_run (Cert.DilQkvIdeal.defs (F := Ideal)) (onTc (τ := Cert.DilQkvIdeal.τ) (Cert.DilQkvIdeal.main (F := Ideal))) ⟨m, fun _ => 0, g⟩ (fun r => ∀ c : Dev Cert.DilQkvIdeal.nD,
          r.2.mem ((c.tc : Thread Cert.DilQkvIdeal.nD Cert.DilQkvIdeal.τ).loc Cert.DilQkvIdeal.main_v0) = v0 c
          ∧ r.2.mem ((c.tc : Thread Cert.DilQkvIdeal.nD Cert.DilQkvIdeal.τ).loc Cert.DilQkvIdeal.main_arg0) = m ((c.tc : Thread Cert.DilQkvIdeal.nD Cert.DilQkvIdeal.τ).loc Cert.DilQkvIdeal.main_arg0)
          ∧ r.2.mem ((c.tc : Thread Cert.DilQkvIdeal.nD Cert.DilQkvIdeal.τ).loc Cert.DilQkvIdeal.main_arg1) = m ((c.tc : Thread Cert.DilQkvIdeal.nD Cert.DilQkvIdeal.τ).loc Cert.DilQkvIdeal.main_arg1))
      ∧ θ_run (Cert.DilQkvReferenceIdeal.defs (F := Ideal)) (onTc (τ := Cert.DilQkvReferenceIdeal.τ) (Cert.DilQkvReferenceIdeal.main (F := Ideal))) ⟨m', fun _ => 0, g'⟩ (fun r => ∀ c : Dev Cert.DilQkvReferenceIdeal.nD,
          r.2.mem ((c.tc : Thread Cert.DilQkvReferenceIdeal.nD Cert.DilQkvReferenceIdeal.τ).loc Cert.DilQkvReferenceIdeal.main_v6) = v0 c
          ∧ r.2.mem ((c.tc : Thread Cert.DilQkvReferenceIdeal.nD Cert.DilQkvReferenceIdeal.τ).loc Cert.DilQkvReferenceIdeal.main_arg0) = m' ((c.tc : Thread Cert.DilQkvReferenceIdeal.nD Cert.DilQkvReferenceIdeal.τ).loc Cert.DilQkvReferenceIdeal.main_arg0)
          ∧ r.2.mem ((c.tc : Thread Cert.DilQkvReferenceIdeal.nD Cert.DilQkvReferenceIdeal.τ).loc Cert.DilQkvReferenceIdeal.main_arg1) = m' ((c.tc : Thread Cert.DilQkvReferenceIdeal.nD Cert.DilQkvReferenceIdeal.τ).loc Cert.DilQkvReferenceIdeal.main_arg1))

def preserves_NaQkvDh_NaQkvDhIdeal : Prop :=
  True

def algebraic_NaQkvDhIdeal_NaQkvDhReferenceIdeal [hNaQkvDhIdeal : Cert.NaQkvDhIdeal.Facts] [hNaQkvDhReferenceIdeal : Cert.NaQkvDhReferenceIdeal.Facts] : Prop :=
  ∀ (m : (ℓ : Loc Cert.NaQkvDhIdeal.nD Cert.NaQkvDhIdeal.τ Cert.NaQkvDhIdeal.sig) → Buf (Elt Ideal) ℓ) (g : Dev Cert.NaQkvDhIdeal.nD → PrngReg)
    (m' : (ℓ : Loc Cert.NaQkvDhReferenceIdeal.nD Cert.NaQkvDhReferenceIdeal.τ Cert.NaQkvDhReferenceIdeal.sig) → Buf (Elt Ideal) ℓ) (g' : Dev Cert.NaQkvDhReferenceIdeal.nD → PrngReg), Pre_NaQkvDhIdeal m →
    (∀ c : Dev Cert.NaQkvDhIdeal.nD,
      m' ((c.tc : Thread Cert.NaQkvDhReferenceIdeal.nD Cert.NaQkvDhReferenceIdeal.τ).loc Cert.NaQkvDhReferenceIdeal.main_arg0) = m ((c.tc : Thread Cert.NaQkvDhIdeal.nD Cert.NaQkvDhIdeal.τ).loc Cert.NaQkvDhIdeal.main_arg0)
      ∧ m' ((c.tc : Thread Cert.NaQkvDhReferenceIdeal.nD Cert.NaQkvDhReferenceIdeal.τ).loc Cert.NaQkvDhReferenceIdeal.main_arg1) = m ((c.tc : Thread Cert.NaQkvDhIdeal.nD Cert.NaQkvDhIdeal.τ).loc Cert.NaQkvDhIdeal.main_arg1)) →
    ∃ (v0 : (c : Dev Cert.NaQkvDhIdeal.nD) → Buf (Elt Ideal) ((c.tc : Thread Cert.NaQkvDhIdeal.nD Cert.NaQkvDhIdeal.τ).loc Cert.NaQkvDhIdeal.main_v0)),
      θ_run (Cert.NaQkvDhIdeal.defs (F := Ideal)) (onTc (τ := Cert.NaQkvDhIdeal.τ) (Cert.NaQkvDhIdeal.main (F := Ideal))) ⟨m, fun _ => 0, g⟩ (fun r => ∀ c : Dev Cert.NaQkvDhIdeal.nD,
          r.2.mem ((c.tc : Thread Cert.NaQkvDhIdeal.nD Cert.NaQkvDhIdeal.τ).loc Cert.NaQkvDhIdeal.main_v0) = v0 c
          ∧ r.2.mem ((c.tc : Thread Cert.NaQkvDhIdeal.nD Cert.NaQkvDhIdeal.τ).loc Cert.NaQkvDhIdeal.main_arg0) = m ((c.tc : Thread Cert.NaQkvDhIdeal.nD Cert.NaQkvDhIdeal.τ).loc Cert.NaQkvDhIdeal.main_arg0)
          ∧ r.2.mem ((c.tc : Thread Cert.NaQkvDhIdeal.nD Cert.NaQkvDhIdeal.τ).loc Cert.NaQkvDhIdeal.main_arg1) = m ((c.tc : Thread Cert.NaQkvDhIdeal.nD Cert.NaQkvDhIdeal.τ).loc Cert.NaQkvDhIdeal.main_arg1))
      ∧ θ_run (Cert.NaQkvDhReferenceIdeal.defs (F := Ideal)) (onTc (τ := Cert.NaQkvDhReferenceIdeal.τ) (Cert.NaQkvDhReferenceIdeal.main (F := Ideal))) ⟨m', fun _ => 0, g'⟩ (fun r => ∀ c : Dev Cert.NaQkvDhReferenceIdeal.nD,
          r.2.mem ((c.tc : Thread Cert.NaQkvDhReferenceIdeal.nD Cert.NaQkvDhReferenceIdeal.τ).loc Cert.NaQkvDhReferenceIdeal.main_v5) = v0 c
          ∧ r.2.mem ((c.tc : Thread Cert.NaQkvDhReferenceIdeal.nD Cert.NaQkvDhReferenceIdeal.τ).loc Cert.NaQkvDhReferenceIdeal.main_arg0) = m' ((c.tc : Thread Cert.NaQkvDhReferenceIdeal.nD Cert.NaQkvDhReferenceIdeal.τ).loc Cert.NaQkvDhReferenceIdeal.main_arg0)
          ∧ r.2.mem ((c.tc : Thread Cert.NaQkvDhReferenceIdeal.nD Cert.NaQkvDhReferenceIdeal.τ).loc Cert.NaQkvDhReferenceIdeal.main_arg1) = m' ((c.tc : Thread Cert.NaQkvDhReferenceIdeal.nD Cert.NaQkvDhReferenceIdeal.τ).loc Cert.NaQkvDhReferenceIdeal.main_arg1))

def preserves_DilQkvDh_DilQkvDhIdeal : Prop :=
  True

def algebraic_DilQkvDhIdeal_DilQkvDhReferenceIdeal [hDilQkvDhIdeal : Cert.DilQkvDhIdeal.Facts] [hDilQkvDhReferenceIdeal : Cert.DilQkvDhReferenceIdeal.Facts] : Prop :=
  ∀ (m : (ℓ : Loc Cert.DilQkvDhIdeal.nD Cert.DilQkvDhIdeal.τ Cert.DilQkvDhIdeal.sig) → Buf (Elt Ideal) ℓ) (g : Dev Cert.DilQkvDhIdeal.nD → PrngReg)
    (m' : (ℓ : Loc Cert.DilQkvDhReferenceIdeal.nD Cert.DilQkvDhReferenceIdeal.τ Cert.DilQkvDhReferenceIdeal.sig) → Buf (Elt Ideal) ℓ) (g' : Dev Cert.DilQkvDhReferenceIdeal.nD → PrngReg), Pre_DilQkvDhIdeal m →
    (∀ c : Dev Cert.DilQkvDhIdeal.nD,
      m' ((c.tc : Thread Cert.DilQkvDhReferenceIdeal.nD Cert.DilQkvDhReferenceIdeal.τ).loc Cert.DilQkvDhReferenceIdeal.main_arg0) = m ((c.tc : Thread Cert.DilQkvDhIdeal.nD Cert.DilQkvDhIdeal.τ).loc Cert.DilQkvDhIdeal.main_arg0)
      ∧ m' ((c.tc : Thread Cert.DilQkvDhReferenceIdeal.nD Cert.DilQkvDhReferenceIdeal.τ).loc Cert.DilQkvDhReferenceIdeal.main_arg1) = m ((c.tc : Thread Cert.DilQkvDhIdeal.nD Cert.DilQkvDhIdeal.τ).loc Cert.DilQkvDhIdeal.main_arg1)) →
    ∃ (v0 : (c : Dev Cert.DilQkvDhIdeal.nD) → Buf (Elt Ideal) ((c.tc : Thread Cert.DilQkvDhIdeal.nD Cert.DilQkvDhIdeal.τ).loc Cert.DilQkvDhIdeal.main_v0)),
      θ_run (Cert.DilQkvDhIdeal.defs (F := Ideal)) (onTc (τ := Cert.DilQkvDhIdeal.τ) (Cert.DilQkvDhIdeal.main (F := Ideal))) ⟨m, fun _ => 0, g⟩ (fun r => ∀ c : Dev Cert.DilQkvDhIdeal.nD,
          r.2.mem ((c.tc : Thread Cert.DilQkvDhIdeal.nD Cert.DilQkvDhIdeal.τ).loc Cert.DilQkvDhIdeal.main_v0) = v0 c
          ∧ r.2.mem ((c.tc : Thread Cert.DilQkvDhIdeal.nD Cert.DilQkvDhIdeal.τ).loc Cert.DilQkvDhIdeal.main_arg0) = m ((c.tc : Thread Cert.DilQkvDhIdeal.nD Cert.DilQkvDhIdeal.τ).loc Cert.DilQkvDhIdeal.main_arg0)
          ∧ r.2.mem ((c.tc : Thread Cert.DilQkvDhIdeal.nD Cert.DilQkvDhIdeal.τ).loc Cert.DilQkvDhIdeal.main_arg1) = m ((c.tc : Thread Cert.DilQkvDhIdeal.nD Cert.DilQkvDhIdeal.τ).loc Cert.DilQkvDhIdeal.main_arg1))
      ∧ θ_run (Cert.DilQkvDhReferenceIdeal.defs (F := Ideal)) (onTc (τ := Cert.DilQkvDhReferenceIdeal.τ) (Cert.DilQkvDhReferenceIdeal.main (F := Ideal))) ⟨m', fun _ => 0, g'⟩ (fun r => ∀ c : Dev Cert.DilQkvDhReferenceIdeal.nD,
          r.2.mem ((c.tc : Thread Cert.DilQkvDhReferenceIdeal.nD Cert.DilQkvDhReferenceIdeal.τ).loc Cert.DilQkvDhReferenceIdeal.main_v5) = v0 c
          ∧ r.2.mem ((c.tc : Thread Cert.DilQkvDhReferenceIdeal.nD Cert.DilQkvDhReferenceIdeal.τ).loc Cert.DilQkvDhReferenceIdeal.main_arg0) = m' ((c.tc : Thread Cert.DilQkvDhReferenceIdeal.nD Cert.DilQkvDhReferenceIdeal.τ).loc Cert.DilQkvDhReferenceIdeal.main_arg0)
          ∧ r.2.mem ((c.tc : Thread Cert.DilQkvDhReferenceIdeal.nD Cert.DilQkvDhReferenceIdeal.τ).loc Cert.DilQkvDhReferenceIdeal.main_arg1) = m' ((c.tc : Thread Cert.DilQkvDhReferenceIdeal.nD Cert.DilQkvDhReferenceIdeal.τ).loc Cert.DilQkvDhReferenceIdeal.main_arg1))

def preserves_NaQkvDw_NaQkvDwIdeal : Prop :=
  True

def algebraic_NaQkvDwIdeal_NaQkvDwReferenceIdeal [hNaQkvDwIdeal : Cert.NaQkvDwIdeal.Facts] [hNaQkvDwReferenceIdeal : Cert.NaQkvDwReferenceIdeal.Facts] : Prop :=
  ∀ (m : (ℓ : Loc Cert.NaQkvDwIdeal.nD Cert.NaQkvDwIdeal.τ Cert.NaQkvDwIdeal.sig) → Buf (Elt Ideal) ℓ) (g : Dev Cert.NaQkvDwIdeal.nD → PrngReg)
    (m' : (ℓ : Loc Cert.NaQkvDwReferenceIdeal.nD Cert.NaQkvDwReferenceIdeal.τ Cert.NaQkvDwReferenceIdeal.sig) → Buf (Elt Ideal) ℓ) (g' : Dev Cert.NaQkvDwReferenceIdeal.nD → PrngReg), Pre_NaQkvDwIdeal m →
    (∀ c : Dev Cert.NaQkvDwIdeal.nD,
      m' ((c.tc : Thread Cert.NaQkvDwReferenceIdeal.nD Cert.NaQkvDwReferenceIdeal.τ).loc Cert.NaQkvDwReferenceIdeal.main_arg0) = m ((c.tc : Thread Cert.NaQkvDwIdeal.nD Cert.NaQkvDwIdeal.τ).loc Cert.NaQkvDwIdeal.main_arg0)
      ∧ m' ((c.tc : Thread Cert.NaQkvDwReferenceIdeal.nD Cert.NaQkvDwReferenceIdeal.τ).loc Cert.NaQkvDwReferenceIdeal.main_arg1) = m ((c.tc : Thread Cert.NaQkvDwIdeal.nD Cert.NaQkvDwIdeal.τ).loc Cert.NaQkvDwIdeal.main_arg1)) →
    ∃ (v0 : (c : Dev Cert.NaQkvDwIdeal.nD) → Buf (Elt Ideal) ((c.tc : Thread Cert.NaQkvDwIdeal.nD Cert.NaQkvDwIdeal.τ).loc Cert.NaQkvDwIdeal.main_v0)),
      θ_run (Cert.NaQkvDwIdeal.defs (F := Ideal)) (onTc (τ := Cert.NaQkvDwIdeal.τ) (Cert.NaQkvDwIdeal.main (F := Ideal))) ⟨m, fun _ => 0, g⟩ (fun r => ∀ c : Dev Cert.NaQkvDwIdeal.nD,
          r.2.mem ((c.tc : Thread Cert.NaQkvDwIdeal.nD Cert.NaQkvDwIdeal.τ).loc Cert.NaQkvDwIdeal.main_v0) = v0 c
          ∧ r.2.mem ((c.tc : Thread Cert.NaQkvDwIdeal.nD Cert.NaQkvDwIdeal.τ).loc Cert.NaQkvDwIdeal.main_arg0) = m ((c.tc : Thread Cert.NaQkvDwIdeal.nD Cert.NaQkvDwIdeal.τ).loc Cert.NaQkvDwIdeal.main_arg0)
          ∧ r.2.mem ((c.tc : Thread Cert.NaQkvDwIdeal.nD Cert.NaQkvDwIdeal.τ).loc Cert.NaQkvDwIdeal.main_arg1) = m ((c.tc : Thread Cert.NaQkvDwIdeal.nD Cert.NaQkvDwIdeal.τ).loc Cert.NaQkvDwIdeal.main_arg1))
      ∧ θ_run (Cert.NaQkvDwReferenceIdeal.defs (F := Ideal)) (onTc (τ := Cert.NaQkvDwReferenceIdeal.τ) (Cert.NaQkvDwReferenceIdeal.main (F := Ideal))) ⟨m', fun _ => 0, g'⟩ (fun r => ∀ c : Dev Cert.NaQkvDwReferenceIdeal.nD,
          r.2.mem ((c.tc : Thread Cert.NaQkvDwReferenceIdeal.nD Cert.NaQkvDwReferenceIdeal.τ).loc Cert.NaQkvDwReferenceIdeal.main_v6) = v0 c
          ∧ r.2.mem ((c.tc : Thread Cert.NaQkvDwReferenceIdeal.nD Cert.NaQkvDwReferenceIdeal.τ).loc Cert.NaQkvDwReferenceIdeal.main_arg0) = m' ((c.tc : Thread Cert.NaQkvDwReferenceIdeal.nD Cert.NaQkvDwReferenceIdeal.τ).loc Cert.NaQkvDwReferenceIdeal.main_arg0)
          ∧ r.2.mem ((c.tc : Thread Cert.NaQkvDwReferenceIdeal.nD Cert.NaQkvDwReferenceIdeal.τ).loc Cert.NaQkvDwReferenceIdeal.main_arg1) = m' ((c.tc : Thread Cert.NaQkvDwReferenceIdeal.nD Cert.NaQkvDwReferenceIdeal.τ).loc Cert.NaQkvDwReferenceIdeal.main_arg1))

def preserves_DilQkvDw_DilQkvDwIdeal : Prop :=
  True

def algebraic_DilQkvDwIdeal_DilQkvDwReferenceIdeal [hDilQkvDwIdeal : Cert.DilQkvDwIdeal.Facts] [hDilQkvDwReferenceIdeal : Cert.DilQkvDwReferenceIdeal.Facts] : Prop :=
  ∀ (m : (ℓ : Loc Cert.DilQkvDwIdeal.nD Cert.DilQkvDwIdeal.τ Cert.DilQkvDwIdeal.sig) → Buf (Elt Ideal) ℓ) (g : Dev Cert.DilQkvDwIdeal.nD → PrngReg)
    (m' : (ℓ : Loc Cert.DilQkvDwReferenceIdeal.nD Cert.DilQkvDwReferenceIdeal.τ Cert.DilQkvDwReferenceIdeal.sig) → Buf (Elt Ideal) ℓ) (g' : Dev Cert.DilQkvDwReferenceIdeal.nD → PrngReg), Pre_DilQkvDwIdeal m →
    (∀ c : Dev Cert.DilQkvDwIdeal.nD,
      m' ((c.tc : Thread Cert.DilQkvDwReferenceIdeal.nD Cert.DilQkvDwReferenceIdeal.τ).loc Cert.DilQkvDwReferenceIdeal.main_arg0) = m ((c.tc : Thread Cert.DilQkvDwIdeal.nD Cert.DilQkvDwIdeal.τ).loc Cert.DilQkvDwIdeal.main_arg0)
      ∧ m' ((c.tc : Thread Cert.DilQkvDwReferenceIdeal.nD Cert.DilQkvDwReferenceIdeal.τ).loc Cert.DilQkvDwReferenceIdeal.main_arg1) = m ((c.tc : Thread Cert.DilQkvDwIdeal.nD Cert.DilQkvDwIdeal.τ).loc Cert.DilQkvDwIdeal.main_arg1)) →
    ∃ (v0 : (c : Dev Cert.DilQkvDwIdeal.nD) → Buf (Elt Ideal) ((c.tc : Thread Cert.DilQkvDwIdeal.nD Cert.DilQkvDwIdeal.τ).loc Cert.DilQkvDwIdeal.main_v0)),
      θ_run (Cert.DilQkvDwIdeal.defs (F := Ideal)) (onTc (τ := Cert.DilQkvDwIdeal.τ) (Cert.DilQkvDwIdeal.main (F := Ideal))) ⟨m, fun _ => 0, g⟩ (fun r => ∀ c : Dev Cert.DilQkvDwIdeal.nD,
          r.2.mem ((c.tc : Thread Cert.DilQkvDwIdeal.nD Cert.DilQkvDwIdeal.τ).loc Cert.DilQkvDwIdeal.main_v0) = v0 c
          ∧ r.2.mem ((c.tc : Thread Cert.DilQkvDwIdeal.nD Cert.DilQkvDwIdeal.τ).loc Cert.DilQkvDwIdeal.main_arg0) = m ((c.tc : Thread Cert.DilQkvDwIdeal.nD Cert.DilQkvDwIdeal.τ).loc Cert.DilQkvDwIdeal.main_arg0)
          ∧ r.2.mem ((c.tc : Thread Cert.DilQkvDwIdeal.nD Cert.DilQkvDwIdeal.τ).loc Cert.DilQkvDwIdeal.main_arg1) = m ((c.tc : Thread Cert.DilQkvDwIdeal.nD Cert.DilQkvDwIdeal.τ).loc Cert.DilQkvDwIdeal.main_arg1))
      ∧ θ_run (Cert.DilQkvDwReferenceIdeal.defs (F := Ideal)) (onTc (τ := Cert.DilQkvDwReferenceIdeal.τ) (Cert.DilQkvDwReferenceIdeal.main (F := Ideal))) ⟨m', fun _ => 0, g'⟩ (fun r => ∀ c : Dev Cert.DilQkvDwReferenceIdeal.nD,
          r.2.mem ((c.tc : Thread Cert.DilQkvDwReferenceIdeal.nD Cert.DilQkvDwReferenceIdeal.τ).loc Cert.DilQkvDwReferenceIdeal.main_v6) = v0 c
          ∧ r.2.mem ((c.tc : Thread Cert.DilQkvDwReferenceIdeal.nD Cert.DilQkvDwReferenceIdeal.τ).loc Cert.DilQkvDwReferenceIdeal.main_arg0) = m' ((c.tc : Thread Cert.DilQkvDwReferenceIdeal.nD Cert.DilQkvDwReferenceIdeal.τ).loc Cert.DilQkvDwReferenceIdeal.main_arg0)
          ∧ r.2.mem ((c.tc : Thread Cert.DilQkvDwReferenceIdeal.nD Cert.DilQkvDwReferenceIdeal.τ).loc Cert.DilQkvDwReferenceIdeal.main_arg1) = m' ((c.tc : Thread Cert.DilQkvDwReferenceIdeal.nD Cert.DilQkvDwReferenceIdeal.τ).loc Cert.DilQkvDwReferenceIdeal.main_arg1))

def preserves_NaFwd_NaFwdIdeal : Prop :=
  True

def algebraic_NaFwdIdeal_NaFwdReferenceIdeal [hNaFwdIdeal : Cert.NaFwdIdeal.Facts] [hNaFwdReferenceIdeal : Cert.NaFwdReferenceIdeal.Facts] : Prop :=
  ∀ (m : (ℓ : Loc Cert.NaFwdIdeal.nD Cert.NaFwdIdeal.τ Cert.NaFwdIdeal.sig) → Buf (Elt Ideal) ℓ) (g : Dev Cert.NaFwdIdeal.nD → PrngReg)
    (m' : (ℓ : Loc Cert.NaFwdReferenceIdeal.nD Cert.NaFwdReferenceIdeal.τ Cert.NaFwdReferenceIdeal.sig) → Buf (Elt Ideal) ℓ) (g' : Dev Cert.NaFwdReferenceIdeal.nD → PrngReg), Pre_NaFwdIdeal m →
    (∀ c : Dev Cert.NaFwdIdeal.nD,
      m' ((c.tc : Thread Cert.NaFwdReferenceIdeal.nD Cert.NaFwdReferenceIdeal.τ).loc Cert.NaFwdReferenceIdeal.main_arg0) = m ((c.tc : Thread Cert.NaFwdIdeal.nD Cert.NaFwdIdeal.τ).loc Cert.NaFwdIdeal.main_arg0)
      ∧ m' ((c.tc : Thread Cert.NaFwdReferenceIdeal.nD Cert.NaFwdReferenceIdeal.τ).loc Cert.NaFwdReferenceIdeal.main_arg1) = m ((c.tc : Thread Cert.NaFwdIdeal.nD Cert.NaFwdIdeal.τ).loc Cert.NaFwdIdeal.main_arg1)) →
    ∃ (v0 : (c : Dev Cert.NaFwdIdeal.nD) → Buf (Elt Ideal) ((c.tc : Thread Cert.NaFwdIdeal.nD Cert.NaFwdIdeal.τ).loc Cert.NaFwdIdeal.main_v0)),
      θ_run (Cert.NaFwdIdeal.defs (F := Ideal)) (onTc (τ := Cert.NaFwdIdeal.τ) (Cert.NaFwdIdeal.main (F := Ideal))) ⟨m, fun _ => 0, g⟩ (fun r => ∀ c : Dev Cert.NaFwdIdeal.nD,
          r.2.mem ((c.tc : Thread Cert.NaFwdIdeal.nD Cert.NaFwdIdeal.τ).loc Cert.NaFwdIdeal.main_v0) = v0 c
          ∧ r.2.mem ((c.tc : Thread Cert.NaFwdIdeal.nD Cert.NaFwdIdeal.τ).loc Cert.NaFwdIdeal.main_arg0) = m ((c.tc : Thread Cert.NaFwdIdeal.nD Cert.NaFwdIdeal.τ).loc Cert.NaFwdIdeal.main_arg0)
          ∧ r.2.mem ((c.tc : Thread Cert.NaFwdIdeal.nD Cert.NaFwdIdeal.τ).loc Cert.NaFwdIdeal.main_arg1) = m ((c.tc : Thread Cert.NaFwdIdeal.nD Cert.NaFwdIdeal.τ).loc Cert.NaFwdIdeal.main_arg1))
      ∧ θ_run (Cert.NaFwdReferenceIdeal.defs (F := Ideal)) (onTc (τ := Cert.NaFwdReferenceIdeal.τ) (Cert.NaFwdReferenceIdeal.main (F := Ideal))) ⟨m', fun _ => 0, g'⟩ (fun r => ∀ c : Dev Cert.NaFwdReferenceIdeal.nD,
          r.2.mem ((c.tc : Thread Cert.NaFwdReferenceIdeal.nD Cert.NaFwdReferenceIdeal.τ).loc Cert.NaFwdReferenceIdeal.main_v85) = v0 c
          ∧ r.2.mem ((c.tc : Thread Cert.NaFwdReferenceIdeal.nD Cert.NaFwdReferenceIdeal.τ).loc Cert.NaFwdReferenceIdeal.main_arg0) = m' ((c.tc : Thread Cert.NaFwdReferenceIdeal.nD Cert.NaFwdReferenceIdeal.τ).loc Cert.NaFwdReferenceIdeal.main_arg0)
          ∧ r.2.mem ((c.tc : Thread Cert.NaFwdReferenceIdeal.nD Cert.NaFwdReferenceIdeal.τ).loc Cert.NaFwdReferenceIdeal.main_arg1) = m' ((c.tc : Thread Cert.NaFwdReferenceIdeal.nD Cert.NaFwdReferenceIdeal.τ).loc Cert.NaFwdReferenceIdeal.main_arg1))

def preserves_DilMerge_DilMergeIdeal : Prop :=
  True

def algebraic_DilMergeIdeal_DilMergeReferenceIdeal [hDilMergeIdeal : Cert.DilMergeIdeal.Facts] [hDilMergeReferenceIdeal : Cert.DilMergeReferenceIdeal.Facts] : Prop :=
  ∀ (m : (ℓ : Loc Cert.DilMergeIdeal.nD Cert.DilMergeIdeal.τ Cert.DilMergeIdeal.sig) → Buf (Elt Ideal) ℓ) (g : Dev Cert.DilMergeIdeal.nD → PrngReg)
    (m' : (ℓ : Loc Cert.DilMergeReferenceIdeal.nD Cert.DilMergeReferenceIdeal.τ Cert.DilMergeReferenceIdeal.sig) → Buf (Elt Ideal) ℓ) (g' : Dev Cert.DilMergeReferenceIdeal.nD → PrngReg), Pre_DilMergeIdeal m →
    (∀ c : Dev Cert.DilMergeIdeal.nD,
      m' ((c.tc : Thread Cert.DilMergeReferenceIdeal.nD Cert.DilMergeReferenceIdeal.τ).loc Cert.DilMergeReferenceIdeal.main_arg0) = m ((c.tc : Thread Cert.DilMergeIdeal.nD Cert.DilMergeIdeal.τ).loc Cert.DilMergeIdeal.main_arg0)
      ∧ m' ((c.tc : Thread Cert.DilMergeReferenceIdeal.nD Cert.DilMergeReferenceIdeal.τ).loc Cert.DilMergeReferenceIdeal.main_arg1) = m ((c.tc : Thread Cert.DilMergeIdeal.nD Cert.DilMergeIdeal.τ).loc Cert.DilMergeIdeal.main_arg1)) →
    ∃ (v0 : (c : Dev Cert.DilMergeIdeal.nD) → Buf (Elt Ideal) ((c.tc : Thread Cert.DilMergeIdeal.nD Cert.DilMergeIdeal.τ).loc Cert.DilMergeIdeal.main_v0_0)) (v1 : (c : Dev Cert.DilMergeIdeal.nD) → Buf (Elt Ideal) ((c.tc : Thread Cert.DilMergeIdeal.nD Cert.DilMergeIdeal.τ).loc Cert.DilMergeIdeal.main_v0_1)),
      θ_run (Cert.DilMergeIdeal.defs (F := Ideal)) (onTc (τ := Cert.DilMergeIdeal.τ) (Cert.DilMergeIdeal.main (F := Ideal))) ⟨m, fun _ => 0, g⟩ (fun r => ∀ c : Dev Cert.DilMergeIdeal.nD,
          r.2.mem ((c.tc : Thread Cert.DilMergeIdeal.nD Cert.DilMergeIdeal.τ).loc Cert.DilMergeIdeal.main_v0_0) = v0 c
          ∧ r.2.mem ((c.tc : Thread Cert.DilMergeIdeal.nD Cert.DilMergeIdeal.τ).loc Cert.DilMergeIdeal.main_v0_1) = v1 c
          ∧ r.2.mem ((c.tc : Thread Cert.DilMergeIdeal.nD Cert.DilMergeIdeal.τ).loc Cert.DilMergeIdeal.main_arg0) = m ((c.tc : Thread Cert.DilMergeIdeal.nD Cert.DilMergeIdeal.τ).loc Cert.DilMergeIdeal.main_arg0)
          ∧ r.2.mem ((c.tc : Thread Cert.DilMergeIdeal.nD Cert.DilMergeIdeal.τ).loc Cert.DilMergeIdeal.main_arg1) = m ((c.tc : Thread Cert.DilMergeIdeal.nD Cert.DilMergeIdeal.τ).loc Cert.DilMergeIdeal.main_arg1))
      ∧ θ_run (Cert.DilMergeReferenceIdeal.defs (F := Ideal)) (onTc (τ := Cert.DilMergeReferenceIdeal.τ) (Cert.DilMergeReferenceIdeal.main (F := Ideal))) ⟨m', fun _ => 0, g'⟩ (fun r => ∀ c : Dev Cert.DilMergeReferenceIdeal.nD,
          r.2.mem ((c.tc : Thread Cert.DilMergeReferenceIdeal.nD Cert.DilMergeReferenceIdeal.τ).loc Cert.DilMergeReferenceIdeal.main_v9) = v0 c
          ∧ r.2.mem ((c.tc : Thread Cert.DilMergeReferenceIdeal.nD Cert.DilMergeReferenceIdeal.τ).loc Cert.DilMergeReferenceIdeal.main_v12) = v1 c
          ∧ r.2.mem ((c.tc : Thread Cert.DilMergeReferenceIdeal.nD Cert.DilMergeReferenceIdeal.τ).loc Cert.DilMergeReferenceIdeal.main_arg0) = m' ((c.tc : Thread Cert.DilMergeReferenceIdeal.nD Cert.DilMergeReferenceIdeal.τ).loc Cert.DilMergeReferenceIdeal.main_arg0)
          ∧ r.2.mem ((c.tc : Thread Cert.DilMergeReferenceIdeal.nD Cert.DilMergeReferenceIdeal.τ).loc Cert.DilMergeReferenceIdeal.main_arg1) = m' ((c.tc : Thread Cert.DilMergeReferenceIdeal.nD Cert.DilMergeReferenceIdeal.τ).loc Cert.DilMergeReferenceIdeal.main_arg1))

def preserves_Rowdot_RowdotIdeal : Prop :=
  True

def algebraic_RowdotIdeal_RowdotReferenceIdeal [hRowdotIdeal : Cert.RowdotIdeal.Facts] [hRowdotReferenceIdeal : Cert.RowdotReferenceIdeal.Facts] : Prop :=
  ∀ (m : (ℓ : Loc Cert.RowdotIdeal.nD Cert.RowdotIdeal.τ Cert.RowdotIdeal.sig) → Buf (Elt Ideal) ℓ) (g : Dev Cert.RowdotIdeal.nD → PrngReg)
    (m' : (ℓ : Loc Cert.RowdotReferenceIdeal.nD Cert.RowdotReferenceIdeal.τ Cert.RowdotReferenceIdeal.sig) → Buf (Elt Ideal) ℓ) (g' : Dev Cert.RowdotReferenceIdeal.nD → PrngReg), Pre_RowdotIdeal m →
    (∀ c : Dev Cert.RowdotIdeal.nD,
      m' ((c.tc : Thread Cert.RowdotReferenceIdeal.nD Cert.RowdotReferenceIdeal.τ).loc Cert.RowdotReferenceIdeal.main_arg0) = m ((c.tc : Thread Cert.RowdotIdeal.nD Cert.RowdotIdeal.τ).loc Cert.RowdotIdeal.main_arg0)
      ∧ m' ((c.tc : Thread Cert.RowdotReferenceIdeal.nD Cert.RowdotReferenceIdeal.τ).loc Cert.RowdotReferenceIdeal.main_arg1) = m ((c.tc : Thread Cert.RowdotIdeal.nD Cert.RowdotIdeal.τ).loc Cert.RowdotIdeal.main_arg1)) →
    ∃ (v0 : (c : Dev Cert.RowdotIdeal.nD) → Buf (Elt Ideal) ((c.tc : Thread Cert.RowdotIdeal.nD Cert.RowdotIdeal.τ).loc Cert.RowdotIdeal.main_v0)),
      θ_run (Cert.RowdotIdeal.defs (F := Ideal)) (onTc (τ := Cert.RowdotIdeal.τ) (Cert.RowdotIdeal.main (F := Ideal))) ⟨m, fun _ => 0, g⟩ (fun r => ∀ c : Dev Cert.RowdotIdeal.nD,
          r.2.mem ((c.tc : Thread Cert.RowdotIdeal.nD Cert.RowdotIdeal.τ).loc Cert.RowdotIdeal.main_v0) = v0 c
          ∧ r.2.mem ((c.tc : Thread Cert.RowdotIdeal.nD Cert.RowdotIdeal.τ).loc Cert.RowdotIdeal.main_arg0) = m ((c.tc : Thread Cert.RowdotIdeal.nD Cert.RowdotIdeal.τ).loc Cert.RowdotIdeal.main_arg0)
          ∧ r.2.mem ((c.tc : Thread Cert.RowdotIdeal.nD Cert.RowdotIdeal.τ).loc Cert.RowdotIdeal.main_arg1) = m ((c.tc : Thread Cert.RowdotIdeal.nD Cert.RowdotIdeal.τ).loc Cert.RowdotIdeal.main_arg1))
      ∧ θ_run (Cert.RowdotReferenceIdeal.defs (F := Ideal)) (onTc (τ := Cert.RowdotReferenceIdeal.τ) (Cert.RowdotReferenceIdeal.main (F := Ideal))) ⟨m', fun _ => 0, g'⟩ (fun r => ∀ c : Dev Cert.RowdotReferenceIdeal.nD,
          r.2.mem ((c.tc : Thread Cert.RowdotReferenceIdeal.nD Cert.RowdotReferenceIdeal.τ).loc Cert.RowdotReferenceIdeal.main_v6) = v0 c
          ∧ r.2.mem ((c.tc : Thread Cert.RowdotReferenceIdeal.nD Cert.RowdotReferenceIdeal.τ).loc Cert.RowdotReferenceIdeal.main_arg0) = m' ((c.tc : Thread Cert.RowdotReferenceIdeal.nD Cert.RowdotReferenceIdeal.τ).loc Cert.RowdotReferenceIdeal.main_arg0)
          ∧ r.2.mem ((c.tc : Thread Cert.RowdotReferenceIdeal.nD Cert.RowdotReferenceIdeal.τ).loc Cert.RowdotReferenceIdeal.main_arg1) = m' ((c.tc : Thread Cert.RowdotReferenceIdeal.nD Cert.RowdotReferenceIdeal.τ).loc Cert.RowdotReferenceIdeal.main_arg1))

def preserves_RpbGrad_RpbGradIdeal : Prop :=
  True

def algebraic_RpbGradIdeal_RpbGradReferenceIdeal [hRpbGradIdeal : Cert.RpbGradIdeal.Facts] [hRpbGradReferenceIdeal : Cert.RpbGradReferenceIdeal.Facts] : Prop :=
  ∀ (m : (ℓ : Loc Cert.RpbGradIdeal.nD Cert.RpbGradIdeal.τ Cert.RpbGradIdeal.sig) → Buf (Elt Ideal) ℓ) (g : Dev Cert.RpbGradIdeal.nD → PrngReg)
    (m' : (ℓ : Loc Cert.RpbGradReferenceIdeal.nD Cert.RpbGradReferenceIdeal.τ Cert.RpbGradReferenceIdeal.sig) → Buf (Elt Ideal) ℓ) (g' : Dev Cert.RpbGradReferenceIdeal.nD → PrngReg), Pre_RpbGradIdeal m →
    (∀ c : Dev Cert.RpbGradIdeal.nD,
      m' ((c.tc : Thread Cert.RpbGradReferenceIdeal.nD Cert.RpbGradReferenceIdeal.τ).loc Cert.RpbGradReferenceIdeal.main_arg0) = m ((c.tc : Thread Cert.RpbGradIdeal.nD Cert.RpbGradIdeal.τ).loc Cert.RpbGradIdeal.main_arg0)
      ∧ m' ((c.tc : Thread Cert.RpbGradReferenceIdeal.nD Cert.RpbGradReferenceIdeal.τ).loc Cert.RpbGradReferenceIdeal.main_arg1) = m ((c.tc : Thread Cert.RpbGradIdeal.nD Cert.RpbGradIdeal.τ).loc Cert.RpbGradIdeal.main_arg1)) →
    ∃ (v0 : (c : Dev Cert.RpbGradIdeal.nD) → Buf (Elt Ideal) ((c.tc : Thread Cert.RpbGradIdeal.nD Cert.RpbGradIdeal.τ).loc Cert.RpbGradIdeal.main_v0)),
      θ_run (Cert.RpbGradIdeal.defs (F := Ideal)) (onTc (τ := Cert.RpbGradIdeal.τ) (Cert.RpbGradIdeal.main (F := Ideal))) ⟨m, fun _ => 0, g⟩ (fun r => ∀ c : Dev Cert.RpbGradIdeal.nD,
          r.2.mem ((c.tc : Thread Cert.RpbGradIdeal.nD Cert.RpbGradIdeal.τ).loc Cert.RpbGradIdeal.main_v0) = v0 c
          ∧ r.2.mem ((c.tc : Thread Cert.RpbGradIdeal.nD Cert.RpbGradIdeal.τ).loc Cert.RpbGradIdeal.main_arg0) = m ((c.tc : Thread Cert.RpbGradIdeal.nD Cert.RpbGradIdeal.τ).loc Cert.RpbGradIdeal.main_arg0)
          ∧ r.2.mem ((c.tc : Thread Cert.RpbGradIdeal.nD Cert.RpbGradIdeal.τ).loc Cert.RpbGradIdeal.main_arg1) = m ((c.tc : Thread Cert.RpbGradIdeal.nD Cert.RpbGradIdeal.τ).loc Cert.RpbGradIdeal.main_arg1))
      ∧ θ_run (Cert.RpbGradReferenceIdeal.defs (F := Ideal)) (onTc (τ := Cert.RpbGradReferenceIdeal.τ) (Cert.RpbGradReferenceIdeal.main (F := Ideal))) ⟨m', fun _ => 0, g'⟩ (fun r => ∀ c : Dev Cert.RpbGradReferenceIdeal.nD,
          r.2.mem ((c.tc : Thread Cert.RpbGradReferenceIdeal.nD Cert.RpbGradReferenceIdeal.τ).loc Cert.RpbGradReferenceIdeal.main_v0) = v0 c
          ∧ r.2.mem ((c.tc : Thread Cert.RpbGradReferenceIdeal.nD Cert.RpbGradReferenceIdeal.τ).loc Cert.RpbGradReferenceIdeal.main_arg0) = m' ((c.tc : Thread Cert.RpbGradReferenceIdeal.nD Cert.RpbGradReferenceIdeal.τ).loc Cert.RpbGradReferenceIdeal.main_arg0)
          ∧ r.2.mem ((c.tc : Thread Cert.RpbGradReferenceIdeal.nD Cert.RpbGradReferenceIdeal.τ).loc Cert.RpbGradReferenceIdeal.main_arg1) = m' ((c.tc : Thread Cert.RpbGradReferenceIdeal.nD Cert.RpbGradReferenceIdeal.τ).loc Cert.RpbGradReferenceIdeal.main_arg1))

def Claim : Prop :=
  ∃ (hGather : Cert.Gather.Facts) (hGatherIdeal : Cert.GatherIdeal.Facts) (hGatherReferenceIdeal : Cert.GatherReferenceIdeal.Facts) (hGatherReference : Cert.GatherReference.Facts) (hPairExchange : Cert.PairExchange.Facts) (hPairExchangeIdeal : Cert.PairExchangeIdeal.Facts) (hPairExchangeReferenceIdeal : Cert.PairExchangeReferenceIdeal.Facts) (hPairExchangeReference : Cert.PairExchangeReference.Facts) (hChipExchange : Cert.ChipExchange.Facts) (hChipExchangeIdeal : Cert.ChipExchangeIdeal.Facts) (hChipExchangeReferenceIdeal : Cert.ChipExchangeReferenceIdeal.Facts) (hChipExchangeReference : Cert.ChipExchangeReference.Facts) (hPairShare : Cert.PairShare.Facts) (hPairShareIdeal : Cert.PairShareIdeal.Facts) (hPairShareReferenceIdeal : Cert.PairShareReferenceIdeal.Facts) (hPairShareReference : Cert.PairShareReference.Facts) (hPairSumNaQkv : Cert.PairSumNaQkv.Facts) (hPairSumNaQkvIdeal : Cert.PairSumNaQkvIdeal.Facts) (hPairSumNaQkvReferenceIdeal : Cert.PairSumNaQkvReferenceIdeal.Facts) (hPairSumNaQkvReference : Cert.PairSumNaQkvReference.Facts) (hPairSumOut : Cert.PairSumOut.Facts) (hPairSumOutIdeal : Cert.PairSumOutIdeal.Facts) (hPairSumOutReferenceIdeal : Cert.PairSumOutReferenceIdeal.Facts) (hPairSumOutReference : Cert.PairSumOutReference.Facts) (hPairSumFfn : Cert.PairSumFfn.Facts) (hPairSumFfnIdeal : Cert.PairSumFfnIdeal.Facts) (hPairSumFfnReferenceIdeal : Cert.PairSumFfnReferenceIdeal.Facts) (hPairSumFfnReference : Cert.PairSumFfnReference.Facts) (hPairSumFfnDown : Cert.PairSumFfnDown.Facts) (hPairSumFfnDownIdeal : Cert.PairSumFfnDownIdeal.Facts) (hPairSumFfnDownReferenceIdeal : Cert.PairSumFfnDownReferenceIdeal.Facts) (hPairSumFfnDownReference : Cert.PairSumFfnDownReference.Facts) (hPairSumDilQkv : Cert.PairSumDilQkv.Facts) (hPairSumDilQkvIdeal : Cert.PairSumDilQkvIdeal.Facts) (hPairSumDilQkvReferenceIdeal : Cert.PairSumDilQkvReferenceIdeal.Facts) (hPairSumDilQkvReference : Cert.PairSumDilQkvReference.Facts) (hChipSumNaQkv : Cert.ChipSumNaQkv.Facts) (hChipSumNaQkvIdeal : Cert.ChipSumNaQkvIdeal.Facts) (hChipSumNaQkvReferenceIdeal : Cert.ChipSumNaQkvReferenceIdeal.Facts) (hChipSumNaQkvReference : Cert.ChipSumNaQkvReference.Facts) (hChipSumOut : Cert.ChipSumOut.Facts) (hChipSumOutIdeal : Cert.ChipSumOutIdeal.Facts) (hChipSumOutReferenceIdeal : Cert.ChipSumOutReferenceIdeal.Facts) (hChipSumOutReference : Cert.ChipSumOutReference.Facts) (hChipSumFfn : Cert.ChipSumFfn.Facts) (hChipSumFfnIdeal : Cert.ChipSumFfnIdeal.Facts) (hChipSumFfnReferenceIdeal : Cert.ChipSumFfnReferenceIdeal.Facts) (hChipSumFfnReference : Cert.ChipSumFfnReference.Facts) (hChipSumFfnDown : Cert.ChipSumFfnDown.Facts) (hChipSumFfnDownIdeal : Cert.ChipSumFfnDownIdeal.Facts) (hChipSumFfnDownReferenceIdeal : Cert.ChipSumFfnDownReferenceIdeal.Facts) (hChipSumFfnDownReference : Cert.ChipSumFfnDownReference.Facts) (hChipSumDilQkv : Cert.ChipSumDilQkv.Facts) (hChipSumDilQkvIdeal : Cert.ChipSumDilQkvIdeal.Facts) (hChipSumDilQkvReferenceIdeal : Cert.ChipSumDilQkvReferenceIdeal.Facts) (hChipSumDilQkvReference : Cert.ChipSumDilQkvReference.Facts) (hAdamNaQkv : Cert.AdamNaQkv.Facts) (hAdamNaQkvIdeal : Cert.AdamNaQkvIdeal.Facts) (hAdamNaQkvReferenceIdeal : Cert.AdamNaQkvReferenceIdeal.Facts) (hAdamOut : Cert.AdamOut.Facts) (hAdamOutIdeal : Cert.AdamOutIdeal.Facts) (hAdamOutReferenceIdeal : Cert.AdamOutReferenceIdeal.Facts) (hAdamFfn : Cert.AdamFfn.Facts) (hAdamFfnIdeal : Cert.AdamFfnIdeal.Facts) (hAdamFfnReferenceIdeal : Cert.AdamFfnReferenceIdeal.Facts) (hAdamFfnDown : Cert.AdamFfnDown.Facts) (hAdamFfnDownIdeal : Cert.AdamFfnDownIdeal.Facts) (hAdamFfnDownReferenceIdeal : Cert.AdamFfnDownReferenceIdeal.Facts) (hAdamDilQkv : Cert.AdamDilQkv.Facts) (hAdamDilQkvIdeal : Cert.AdamDilQkvIdeal.Facts) (hAdamDilQkvReferenceIdeal : Cert.AdamDilQkvReferenceIdeal.Facts) (hAdamSmall : Cert.AdamSmall.Facts) (hAdamSmallIdeal : Cert.AdamSmallIdeal.Facts) (hAdamSmallReferenceIdeal : Cert.AdamSmallReferenceIdeal.Facts) (hLoss : Cert.Loss.Facts) (hLossIdeal : Cert.LossIdeal.Facts) (hLossReferenceIdeal : Cert.LossReferenceIdeal.Facts) (hRms : Cert.Rms.Facts) (hRmsIdeal : Cert.RmsIdeal.Facts) (hRmsReferenceIdeal : Cert.RmsReferenceIdeal.Facts) (hResid : Cert.Resid.Facts) (hResidIdeal : Cert.ResidIdeal.Facts) (hResidReferenceIdeal : Cert.ResidReferenceIdeal.Facts) (hNormPost : Cert.NormPost.Facts) (hNormPostIdeal : Cert.NormPostIdeal.Facts) (hNormPostReferenceIdeal : Cert.NormPostReferenceIdeal.Facts) (hNormPre : Cert.NormPre.Facts) (hNormPreIdeal : Cert.NormPreIdeal.Facts) (hNormPreReferenceIdeal : Cert.NormPreReferenceIdeal.Facts) (hNormPre3 : Cert.NormPre3.Facts) (hNormPre3Ideal : Cert.NormPre3Ideal.Facts) (hNormPre3ReferenceIdeal : Cert.NormPre3ReferenceIdeal.Facts) (hSwiglu : Cert.Swiglu.Facts) (hSwigluIdeal : Cert.SwigluIdeal.Facts) (hSwigluReferenceIdeal : Cert.SwigluReferenceIdeal.Facts) (hSwigluBwd : Cert.SwigluBwd.Facts) (hSwigluBwdIdeal : Cert.SwigluBwdIdeal.Facts) (hSwigluBwdReferenceIdeal : Cert.SwigluBwdReferenceIdeal.Facts) (hProj : Cert.Proj.Facts) (hProjIdeal : Cert.ProjIdeal.Facts) (hProjReferenceIdeal : Cert.ProjReferenceIdeal.Facts) (hProjDo : Cert.ProjDo.Facts) (hProjDoIdeal : Cert.ProjDoIdeal.Facts) (hProjDoReferenceIdeal : Cert.ProjDoReferenceIdeal.Facts) (hProjDw : Cert.ProjDw.Facts) (hProjDwIdeal : Cert.ProjDwIdeal.Facts) (hProjDwReferenceIdeal : Cert.ProjDwReferenceIdeal.Facts) (hFfnIn : Cert.FfnIn.Facts) (hFfnInIdeal : Cert.FfnInIdeal.Facts) (hFfnInReferenceIdeal : Cert.FfnInReferenceIdeal.Facts) (hFfnOut : Cert.FfnOut.Facts) (hFfnOutIdeal : Cert.FfnOutIdeal.Facts) (hFfnOutReferenceIdeal : Cert.FfnOutReferenceIdeal.Facts) (hFfnDact : Cert.FfnDact.Facts) (hFfnDactIdeal : Cert.FfnDactIdeal.Facts) (hFfnDactReferenceIdeal : Cert.FfnDactReferenceIdeal.Facts) (hFfnDwDown : Cert.FfnDwDown.Facts) (hFfnDwDownIdeal : Cert.FfnDwDownIdeal.Facts) (hFfnDwDownReferenceIdeal : Cert.FfnDwDownReferenceIdeal.Facts) (hFfnDh : Cert.FfnDh.Facts) (hFfnDhIdeal : Cert.FfnDhIdeal.Facts) (hFfnDhReferenceIdeal : Cert.FfnDhReferenceIdeal.Facts) (hFfnDwIn : Cert.FfnDwIn.Facts) (hFfnDwInIdeal : Cert.FfnDwInIdeal.Facts) (hFfnDwInReferenceIdeal : Cert.FfnDwInReferenceIdeal.Facts) (hNaQkv : Cert.NaQkv.Facts) (hNaQkvIdeal : Cert.NaQkvIdeal.Facts) (hNaQkvReferenceIdeal : Cert.NaQkvReferenceIdeal.Facts) (hDilQkv : Cert.DilQkv.Facts) (hDilQkvIdeal : Cert.DilQkvIdeal.Facts) (hDilQkvReferenceIdeal : Cert.DilQkvReferenceIdeal.Facts) (hNaQkvDh : Cert.NaQkvDh.Facts) (hNaQkvDhIdeal : Cert.NaQkvDhIdeal.Facts) (hNaQkvDhReferenceIdeal : Cert.NaQkvDhReferenceIdeal.Facts) (hDilQkvDh : Cert.DilQkvDh.Facts) (hDilQkvDhIdeal : Cert.DilQkvDhIdeal.Facts) (hDilQkvDhReferenceIdeal : Cert.DilQkvDhReferenceIdeal.Facts) (hNaQkvDw : Cert.NaQkvDw.Facts) (hNaQkvDwIdeal : Cert.NaQkvDwIdeal.Facts) (hNaQkvDwReferenceIdeal : Cert.NaQkvDwReferenceIdeal.Facts) (hDilQkvDw : Cert.DilQkvDw.Facts) (hDilQkvDwIdeal : Cert.DilQkvDwIdeal.Facts) (hDilQkvDwReferenceIdeal : Cert.DilQkvDwReferenceIdeal.Facts) (hNaFwd : Cert.NaFwd.Facts) (hNaFwdIdeal : Cert.NaFwdIdeal.Facts) (hNaFwdReferenceIdeal : Cert.NaFwdReferenceIdeal.Facts) (hDilMerge : Cert.DilMerge.Facts) (hDilMergeIdeal : Cert.DilMergeIdeal.Facts) (hDilMergeReferenceIdeal : Cert.DilMergeReferenceIdeal.Facts) (hRowdot : Cert.Rowdot.Facts) (hRowdotIdeal : Cert.RowdotIdeal.Facts) (hRowdotReferenceIdeal : Cert.RowdotReferenceIdeal.Facts) (hRpbGrad : Cert.RpbGrad.Facts) (hRpbGradIdeal : Cert.RpbGradIdeal.Facts) (hRpbGradReferenceIdeal : Cert.RpbGradReferenceIdeal.Facts),
    quiescent_Gather (hGather := hGather)
    ∧ quiescent_GatherIdeal (hGatherIdeal := hGatherIdeal)
    ∧ quiescent_GatherReferenceIdeal (hGatherReferenceIdeal := hGatherReferenceIdeal)
    ∧ quiescent_GatherReference (hGatherReference := hGatherReference)
    ∧ quiescent_PairExchange (hPairExchange := hPairExchange)
    ∧ quiescent_PairExchangeIdeal (hPairExchangeIdeal := hPairExchangeIdeal)
    ∧ quiescent_PairExchangeReferenceIdeal (hPairExchangeReferenceIdeal := hPairExchangeReferenceIdeal)
    ∧ quiescent_PairExchangeReference (hPairExchangeReference := hPairExchangeReference)
    ∧ quiescent_ChipExchange (hChipExchange := hChipExchange)
    ∧ quiescent_ChipExchangeIdeal (hChipExchangeIdeal := hChipExchangeIdeal)
    ∧ quiescent_ChipExchangeReferenceIdeal (hChipExchangeReferenceIdeal := hChipExchangeReferenceIdeal)
    ∧ quiescent_ChipExchangeReference (hChipExchangeReference := hChipExchangeReference)
    ∧ quiescent_PairShare (hPairShare := hPairShare)
    ∧ quiescent_PairShareIdeal (hPairShareIdeal := hPairShareIdeal)
    ∧ quiescent_PairShareReferenceIdeal (hPairShareReferenceIdeal := hPairShareReferenceIdeal)
    ∧ quiescent_PairShareReference (hPairShareReference := hPairShareReference)
    ∧ quiescent_PairSumNaQkv (hPairSumNaQkv := hPairSumNaQkv)
    ∧ quiescent_PairSumNaQkvIdeal (hPairSumNaQkvIdeal := hPairSumNaQkvIdeal)
    ∧ quiescent_PairSumNaQkvReferenceIdeal (hPairSumNaQkvReferenceIdeal := hPairSumNaQkvReferenceIdeal)
    ∧ quiescent_PairSumNaQkvReference (hPairSumNaQkvReference := hPairSumNaQkvReference)
    ∧ quiescent_PairSumOut (hPairSumOut := hPairSumOut)
    ∧ quiescent_PairSumOutIdeal (hPairSumOutIdeal := hPairSumOutIdeal)
    ∧ quiescent_PairSumOutReferenceIdeal (hPairSumOutReferenceIdeal := hPairSumOutReferenceIdeal)
    ∧ quiescent_PairSumOutReference (hPairSumOutReference := hPairSumOutReference)
    ∧ quiescent_PairSumFfn (hPairSumFfn := hPairSumFfn)
    ∧ quiescent_PairSumFfnIdeal (hPairSumFfnIdeal := hPairSumFfnIdeal)
    ∧ quiescent_PairSumFfnReferenceIdeal (hPairSumFfnReferenceIdeal := hPairSumFfnReferenceIdeal)
    ∧ quiescent_PairSumFfnReference (hPairSumFfnReference := hPairSumFfnReference)
    ∧ quiescent_PairSumFfnDown (hPairSumFfnDown := hPairSumFfnDown)
    ∧ quiescent_PairSumFfnDownIdeal (hPairSumFfnDownIdeal := hPairSumFfnDownIdeal)
    ∧ quiescent_PairSumFfnDownReferenceIdeal (hPairSumFfnDownReferenceIdeal := hPairSumFfnDownReferenceIdeal)
    ∧ quiescent_PairSumFfnDownReference (hPairSumFfnDownReference := hPairSumFfnDownReference)
    ∧ quiescent_PairSumDilQkv (hPairSumDilQkv := hPairSumDilQkv)
    ∧ quiescent_PairSumDilQkvIdeal (hPairSumDilQkvIdeal := hPairSumDilQkvIdeal)
    ∧ quiescent_PairSumDilQkvReferenceIdeal (hPairSumDilQkvReferenceIdeal := hPairSumDilQkvReferenceIdeal)
    ∧ quiescent_PairSumDilQkvReference (hPairSumDilQkvReference := hPairSumDilQkvReference)
    ∧ quiescent_ChipSumNaQkv (hChipSumNaQkv := hChipSumNaQkv)
    ∧ quiescent_ChipSumNaQkvIdeal (hChipSumNaQkvIdeal := hChipSumNaQkvIdeal)
    ∧ quiescent_ChipSumNaQkvReferenceIdeal (hChipSumNaQkvReferenceIdeal := hChipSumNaQkvReferenceIdeal)
    ∧ quiescent_ChipSumNaQkvReference (hChipSumNaQkvReference := hChipSumNaQkvReference)
    ∧ quiescent_ChipSumOut (hChipSumOut := hChipSumOut)
    ∧ quiescent_ChipSumOutIdeal (hChipSumOutIdeal := hChipSumOutIdeal)
    ∧ quiescent_ChipSumOutReferenceIdeal (hChipSumOutReferenceIdeal := hChipSumOutReferenceIdeal)
    ∧ quiescent_ChipSumOutReference (hChipSumOutReference := hChipSumOutReference)
    ∧ quiescent_ChipSumFfn (hChipSumFfn := hChipSumFfn)
    ∧ quiescent_ChipSumFfnIdeal (hChipSumFfnIdeal := hChipSumFfnIdeal)
    ∧ quiescent_ChipSumFfnReferenceIdeal (hChipSumFfnReferenceIdeal := hChipSumFfnReferenceIdeal)
    ∧ quiescent_ChipSumFfnReference (hChipSumFfnReference := hChipSumFfnReference)
    ∧ quiescent_ChipSumFfnDown (hChipSumFfnDown := hChipSumFfnDown)
    ∧ quiescent_ChipSumFfnDownIdeal (hChipSumFfnDownIdeal := hChipSumFfnDownIdeal)
    ∧ quiescent_ChipSumFfnDownReferenceIdeal (hChipSumFfnDownReferenceIdeal := hChipSumFfnDownReferenceIdeal)
    ∧ quiescent_ChipSumFfnDownReference (hChipSumFfnDownReference := hChipSumFfnDownReference)
    ∧ quiescent_ChipSumDilQkv (hChipSumDilQkv := hChipSumDilQkv)
    ∧ quiescent_ChipSumDilQkvIdeal (hChipSumDilQkvIdeal := hChipSumDilQkvIdeal)
    ∧ quiescent_ChipSumDilQkvReferenceIdeal (hChipSumDilQkvReferenceIdeal := hChipSumDilQkvReferenceIdeal)
    ∧ quiescent_ChipSumDilQkvReference (hChipSumDilQkvReference := hChipSumDilQkvReference)
    ∧ quiescent_AdamNaQkv (hAdamNaQkv := hAdamNaQkv)
    ∧ quiescent_AdamNaQkvIdeal (hAdamNaQkvIdeal := hAdamNaQkvIdeal)
    ∧ quiescent_AdamNaQkvReferenceIdeal (hAdamNaQkvReferenceIdeal := hAdamNaQkvReferenceIdeal)
    ∧ quiescent_AdamOut (hAdamOut := hAdamOut)
    ∧ quiescent_AdamOutIdeal (hAdamOutIdeal := hAdamOutIdeal)
    ∧ quiescent_AdamOutReferenceIdeal (hAdamOutReferenceIdeal := hAdamOutReferenceIdeal)
    ∧ quiescent_AdamFfn (hAdamFfn := hAdamFfn)
    ∧ quiescent_AdamFfnIdeal (hAdamFfnIdeal := hAdamFfnIdeal)
    ∧ quiescent_AdamFfnReferenceIdeal (hAdamFfnReferenceIdeal := hAdamFfnReferenceIdeal)
    ∧ quiescent_AdamFfnDown (hAdamFfnDown := hAdamFfnDown)
    ∧ quiescent_AdamFfnDownIdeal (hAdamFfnDownIdeal := hAdamFfnDownIdeal)
    ∧ quiescent_AdamFfnDownReferenceIdeal (hAdamFfnDownReferenceIdeal := hAdamFfnDownReferenceIdeal)
    ∧ quiescent_AdamDilQkv (hAdamDilQkv := hAdamDilQkv)
    ∧ quiescent_AdamDilQkvIdeal (hAdamDilQkvIdeal := hAdamDilQkvIdeal)
    ∧ quiescent_AdamDilQkvReferenceIdeal (hAdamDilQkvReferenceIdeal := hAdamDilQkvReferenceIdeal)
    ∧ quiescent_AdamSmall (hAdamSmall := hAdamSmall)
    ∧ quiescent_AdamSmallIdeal (hAdamSmallIdeal := hAdamSmallIdeal)
    ∧ quiescent_AdamSmallReferenceIdeal (hAdamSmallReferenceIdeal := hAdamSmallReferenceIdeal)
    ∧ quiescent_Loss (hLoss := hLoss)
    ∧ quiescent_LossIdeal (hLossIdeal := hLossIdeal)
    ∧ quiescent_LossReferenceIdeal (hLossReferenceIdeal := hLossReferenceIdeal)
    ∧ quiescent_Rms (hRms := hRms)
    ∧ quiescent_RmsIdeal (hRmsIdeal := hRmsIdeal)
    ∧ quiescent_RmsReferenceIdeal (hRmsReferenceIdeal := hRmsReferenceIdeal)
    ∧ quiescent_Resid (hResid := hResid)
    ∧ quiescent_ResidIdeal (hResidIdeal := hResidIdeal)
    ∧ quiescent_ResidReferenceIdeal (hResidReferenceIdeal := hResidReferenceIdeal)
    ∧ quiescent_NormPost (hNormPost := hNormPost)
    ∧ quiescent_NormPostIdeal (hNormPostIdeal := hNormPostIdeal)
    ∧ quiescent_NormPostReferenceIdeal (hNormPostReferenceIdeal := hNormPostReferenceIdeal)
    ∧ quiescent_NormPre (hNormPre := hNormPre)
    ∧ quiescent_NormPreIdeal (hNormPreIdeal := hNormPreIdeal)
    ∧ quiescent_NormPreReferenceIdeal (hNormPreReferenceIdeal := hNormPreReferenceIdeal)
    ∧ quiescent_NormPre3 (hNormPre3 := hNormPre3)
    ∧ quiescent_NormPre3Ideal (hNormPre3Ideal := hNormPre3Ideal)
    ∧ quiescent_NormPre3ReferenceIdeal (hNormPre3ReferenceIdeal := hNormPre3ReferenceIdeal)
    ∧ quiescent_Swiglu (hSwiglu := hSwiglu)
    ∧ quiescent_SwigluIdeal (hSwigluIdeal := hSwigluIdeal)
    ∧ quiescent_SwigluReferenceIdeal (hSwigluReferenceIdeal := hSwigluReferenceIdeal)
    ∧ quiescent_SwigluBwd (hSwigluBwd := hSwigluBwd)
    ∧ quiescent_SwigluBwdIdeal (hSwigluBwdIdeal := hSwigluBwdIdeal)
    ∧ quiescent_SwigluBwdReferenceIdeal (hSwigluBwdReferenceIdeal := hSwigluBwdReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_ProjDo (hProjDo := hProjDo)
    ∧ quiescent_ProjDoIdeal (hProjDoIdeal := hProjDoIdeal)
    ∧ quiescent_ProjDoReferenceIdeal (hProjDoReferenceIdeal := hProjDoReferenceIdeal)
    ∧ quiescent_ProjDw (hProjDw := hProjDw)
    ∧ quiescent_ProjDwIdeal (hProjDwIdeal := hProjDwIdeal)
    ∧ quiescent_ProjDwReferenceIdeal (hProjDwReferenceIdeal := hProjDwReferenceIdeal)
    ∧ quiescent_FfnIn (hFfnIn := hFfnIn)
    ∧ quiescent_FfnInIdeal (hFfnInIdeal := hFfnInIdeal)
    ∧ quiescent_FfnInReferenceIdeal (hFfnInReferenceIdeal := hFfnInReferenceIdeal)
    ∧ quiescent_FfnOut (hFfnOut := hFfnOut)
    ∧ quiescent_FfnOutIdeal (hFfnOutIdeal := hFfnOutIdeal)
    ∧ quiescent_FfnOutReferenceIdeal (hFfnOutReferenceIdeal := hFfnOutReferenceIdeal)
    ∧ quiescent_FfnDact (hFfnDact := hFfnDact)
    ∧ quiescent_FfnDactIdeal (hFfnDactIdeal := hFfnDactIdeal)
    ∧ quiescent_FfnDactReferenceIdeal (hFfnDactReferenceIdeal := hFfnDactReferenceIdeal)
    ∧ quiescent_FfnDwDown (hFfnDwDown := hFfnDwDown)
    ∧ quiescent_FfnDwDownIdeal (hFfnDwDownIdeal := hFfnDwDownIdeal)
    ∧ quiescent_FfnDwDownReferenceIdeal (hFfnDwDownReferenceIdeal := hFfnDwDownReferenceIdeal)
    ∧ quiescent_FfnDh (hFfnDh := hFfnDh)
    ∧ quiescent_FfnDhIdeal (hFfnDhIdeal := hFfnDhIdeal)
    ∧ quiescent_FfnDhReferenceIdeal (hFfnDhReferenceIdeal := hFfnDhReferenceIdeal)
    ∧ quiescent_FfnDwIn (hFfnDwIn := hFfnDwIn)
    ∧ quiescent_FfnDwInIdeal (hFfnDwInIdeal := hFfnDwInIdeal)
    ∧ quiescent_FfnDwInReferenceIdeal (hFfnDwInReferenceIdeal := hFfnDwInReferenceIdeal)
    ∧ quiescent_NaQkv (hNaQkv := hNaQkv)
    ∧ quiescent_NaQkvIdeal (hNaQkvIdeal := hNaQkvIdeal)
    ∧ quiescent_NaQkvReferenceIdeal (hNaQkvReferenceIdeal := hNaQkvReferenceIdeal)
    ∧ quiescent_DilQkv (hDilQkv := hDilQkv)
    ∧ quiescent_DilQkvIdeal (hDilQkvIdeal := hDilQkvIdeal)
    ∧ quiescent_DilQkvReferenceIdeal (hDilQkvReferenceIdeal := hDilQkvReferenceIdeal)
    ∧ quiescent_NaQkvDh (hNaQkvDh := hNaQkvDh)
    ∧ quiescent_NaQkvDhIdeal (hNaQkvDhIdeal := hNaQkvDhIdeal)
    ∧ quiescent_NaQkvDhReferenceIdeal (hNaQkvDhReferenceIdeal := hNaQkvDhReferenceIdeal)
    ∧ quiescent_DilQkvDh (hDilQkvDh := hDilQkvDh)
    ∧ quiescent_DilQkvDhIdeal (hDilQkvDhIdeal := hDilQkvDhIdeal)
    ∧ quiescent_DilQkvDhReferenceIdeal (hDilQkvDhReferenceIdeal := hDilQkvDhReferenceIdeal)
    ∧ quiescent_NaQkvDw (hNaQkvDw := hNaQkvDw)
    ∧ quiescent_NaQkvDwIdeal (hNaQkvDwIdeal := hNaQkvDwIdeal)
    ∧ quiescent_NaQkvDwReferenceIdeal (hNaQkvDwReferenceIdeal := hNaQkvDwReferenceIdeal)
    ∧ quiescent_DilQkvDw (hDilQkvDw := hDilQkvDw)
    ∧ quiescent_DilQkvDwIdeal (hDilQkvDwIdeal := hDilQkvDwIdeal)
    ∧ quiescent_DilQkvDwReferenceIdeal (hDilQkvDwReferenceIdeal := hDilQkvDwReferenceIdeal)
    ∧ quiescent_NaFwd (hNaFwd := hNaFwd)
    ∧ quiescent_NaFwdIdeal (hNaFwdIdeal := hNaFwdIdeal)
    ∧ quiescent_NaFwdReferenceIdeal (hNaFwdReferenceIdeal := hNaFwdReferenceIdeal)
    ∧ quiescent_DilMerge (hDilMerge := hDilMerge)
    ∧ quiescent_DilMergeIdeal (hDilMergeIdeal := hDilMergeIdeal)
    ∧ quiescent_DilMergeReferenceIdeal (hDilMergeReferenceIdeal := hDilMergeReferenceIdeal)
    ∧ quiescent_Rowdot (hRowdot := hRowdot)
    ∧ quiescent_RowdotIdeal (hRowdotIdeal := hRowdotIdeal)
    ∧ quiescent_RowdotReferenceIdeal (hRowdotReferenceIdeal := hRowdotReferenceIdeal)
    ∧ quiescent_RpbGrad (hRpbGrad := hRpbGrad)
    ∧ quiescent_RpbGradIdeal (hRpbGradIdeal := hRpbGradIdeal)
    ∧ quiescent_RpbGradReferenceIdeal (hRpbGradReferenceIdeal := hRpbGradReferenceIdeal)
    ∧ preserves_Gather_GatherIdeal
    ∧ algebraic_GatherIdeal_GatherReferenceIdeal (hGatherIdeal := hGatherIdeal) (hGatherReferenceIdeal := hGatherReferenceIdeal)
    ∧ bitexact_Gather_GatherReference (hGather := hGather) (hGatherReference := hGatherReference)
    ∧ preserves_PairExchange_PairExchangeIdeal
    ∧ algebraic_PairExchangeIdeal_PairExchangeReferenceIdeal (hPairExchangeIdeal := hPairExchangeIdeal) (hPairExchangeReferenceIdeal := hPairExchangeReferenceIdeal)
    ∧ bitexact_PairExchange_PairExchangeReference (hPairExchange := hPairExchange) (hPairExchangeReference := hPairExchangeReference)
    ∧ preserves_ChipExchange_ChipExchangeIdeal
    ∧ algebraic_ChipExchangeIdeal_ChipExchangeReferenceIdeal (hChipExchangeIdeal := hChipExchangeIdeal) (hChipExchangeReferenceIdeal := hChipExchangeReferenceIdeal)
    ∧ bitexact_ChipExchange_ChipExchangeReference (hChipExchange := hChipExchange) (hChipExchangeReference := hChipExchangeReference)
    ∧ preserves_PairShare_PairShareIdeal
    ∧ algebraic_PairShareIdeal_PairShareReferenceIdeal (hPairShareIdeal := hPairShareIdeal) (hPairShareReferenceIdeal := hPairShareReferenceIdeal)
    ∧ bitexact_PairShare_PairShareReference (hPairShare := hPairShare) (hPairShareReference := hPairShareReference)
    ∧ preserves_PairSumNaQkv_PairSumNaQkvIdeal
    ∧ algebraic_PairSumNaQkvIdeal_PairSumNaQkvReferenceIdeal (hPairSumNaQkvIdeal := hPairSumNaQkvIdeal) (hPairSumNaQkvReferenceIdeal := hPairSumNaQkvReferenceIdeal)
    ∧ bitexact_PairSumNaQkv_PairSumNaQkvReference (hPairSumNaQkv := hPairSumNaQkv) (hPairSumNaQkvReference := hPairSumNaQkvReference)
    ∧ preserves_PairSumOut_PairSumOutIdeal
    ∧ algebraic_PairSumOutIdeal_PairSumOutReferenceIdeal (hPairSumOutIdeal := hPairSumOutIdeal) (hPairSumOutReferenceIdeal := hPairSumOutReferenceIdeal)
    ∧ bitexact_PairSumOut_PairSumOutReference (hPairSumOut := hPairSumOut) (hPairSumOutReference := hPairSumOutReference)
    ∧ preserves_PairSumFfn_PairSumFfnIdeal
    ∧ algebraic_PairSumFfnIdeal_PairSumFfnReferenceIdeal (hPairSumFfnIdeal := hPairSumFfnIdeal) (hPairSumFfnReferenceIdeal := hPairSumFfnReferenceIdeal)
    ∧ bitexact_PairSumFfn_PairSumFfnReference (hPairSumFfn := hPairSumFfn) (hPairSumFfnReference := hPairSumFfnReference)
    ∧ preserves_PairSumFfnDown_PairSumFfnDownIdeal
    ∧ algebraic_PairSumFfnDownIdeal_PairSumFfnDownReferenceIdeal (hPairSumFfnDownIdeal := hPairSumFfnDownIdeal) (hPairSumFfnDownReferenceIdeal := hPairSumFfnDownReferenceIdeal)
    ∧ bitexact_PairSumFfnDown_PairSumFfnDownReference (hPairSumFfnDown := hPairSumFfnDown) (hPairSumFfnDownReference := hPairSumFfnDownReference)
    ∧ preserves_PairSumDilQkv_PairSumDilQkvIdeal
    ∧ algebraic_PairSumDilQkvIdeal_PairSumDilQkvReferenceIdeal (hPairSumDilQkvIdeal := hPairSumDilQkvIdeal) (hPairSumDilQkvReferenceIdeal := hPairSumDilQkvReferenceIdeal)
    ∧ bitexact_PairSumDilQkv_PairSumDilQkvReference (hPairSumDilQkv := hPairSumDilQkv) (hPairSumDilQkvReference := hPairSumDilQkvReference)
    ∧ preserves_ChipSumNaQkv_ChipSumNaQkvIdeal
    ∧ algebraic_ChipSumNaQkvIdeal_ChipSumNaQkvReferenceIdeal (hChipSumNaQkvIdeal := hChipSumNaQkvIdeal) (hChipSumNaQkvReferenceIdeal := hChipSumNaQkvReferenceIdeal)
    ∧ bitexact_ChipSumNaQkv_ChipSumNaQkvReference (hChipSumNaQkv := hChipSumNaQkv) (hChipSumNaQkvReference := hChipSumNaQkvReference)
    ∧ preserves_ChipSumOut_ChipSumOutIdeal
    ∧ algebraic_ChipSumOutIdeal_ChipSumOutReferenceIdeal (hChipSumOutIdeal := hChipSumOutIdeal) (hChipSumOutReferenceIdeal := hChipSumOutReferenceIdeal)
    ∧ bitexact_ChipSumOut_ChipSumOutReference (hChipSumOut := hChipSumOut) (hChipSumOutReference := hChipSumOutReference)
    ∧ preserves_ChipSumFfn_ChipSumFfnIdeal
    ∧ algebraic_ChipSumFfnIdeal_ChipSumFfnReferenceIdeal (hChipSumFfnIdeal := hChipSumFfnIdeal) (hChipSumFfnReferenceIdeal := hChipSumFfnReferenceIdeal)
    ∧ bitexact_ChipSumFfn_ChipSumFfnReference (hChipSumFfn := hChipSumFfn) (hChipSumFfnReference := hChipSumFfnReference)
    ∧ preserves_ChipSumFfnDown_ChipSumFfnDownIdeal
    ∧ algebraic_ChipSumFfnDownIdeal_ChipSumFfnDownReferenceIdeal (hChipSumFfnDownIdeal := hChipSumFfnDownIdeal) (hChipSumFfnDownReferenceIdeal := hChipSumFfnDownReferenceIdeal)
    ∧ bitexact_ChipSumFfnDown_ChipSumFfnDownReference (hChipSumFfnDown := hChipSumFfnDown) (hChipSumFfnDownReference := hChipSumFfnDownReference)
    ∧ preserves_ChipSumDilQkv_ChipSumDilQkvIdeal
    ∧ algebraic_ChipSumDilQkvIdeal_ChipSumDilQkvReferenceIdeal (hChipSumDilQkvIdeal := hChipSumDilQkvIdeal) (hChipSumDilQkvReferenceIdeal := hChipSumDilQkvReferenceIdeal)
    ∧ bitexact_ChipSumDilQkv_ChipSumDilQkvReference (hChipSumDilQkv := hChipSumDilQkv) (hChipSumDilQkvReference := hChipSumDilQkvReference)
    ∧ preserves_AdamNaQkv_AdamNaQkvIdeal
    ∧ algebraic_AdamNaQkvIdeal_AdamNaQkvReferenceIdeal (hAdamNaQkvIdeal := hAdamNaQkvIdeal) (hAdamNaQkvReferenceIdeal := hAdamNaQkvReferenceIdeal)
    ∧ preserves_AdamOut_AdamOutIdeal
    ∧ algebraic_AdamOutIdeal_AdamOutReferenceIdeal (hAdamOutIdeal := hAdamOutIdeal) (hAdamOutReferenceIdeal := hAdamOutReferenceIdeal)
    ∧ preserves_AdamFfn_AdamFfnIdeal
    ∧ algebraic_AdamFfnIdeal_AdamFfnReferenceIdeal (hAdamFfnIdeal := hAdamFfnIdeal) (hAdamFfnReferenceIdeal := hAdamFfnReferenceIdeal)
    ∧ preserves_AdamFfnDown_AdamFfnDownIdeal
    ∧ algebraic_AdamFfnDownIdeal_AdamFfnDownReferenceIdeal (hAdamFfnDownIdeal := hAdamFfnDownIdeal) (hAdamFfnDownReferenceIdeal := hAdamFfnDownReferenceIdeal)
    ∧ preserves_AdamDilQkv_AdamDilQkvIdeal
    ∧ algebraic_AdamDilQkvIdeal_AdamDilQkvReferenceIdeal (hAdamDilQkvIdeal := hAdamDilQkvIdeal) (hAdamDilQkvReferenceIdeal := hAdamDilQkvReferenceIdeal)
    ∧ preserves_AdamSmall_AdamSmallIdeal
    ∧ algebraic_AdamSmallIdeal_AdamSmallReferenceIdeal (hAdamSmallIdeal := hAdamSmallIdeal) (hAdamSmallReferenceIdeal := hAdamSmallReferenceIdeal)
    ∧ preserves_Loss_LossIdeal
    ∧ algebraic_LossIdeal_LossReferenceIdeal (hLossIdeal := hLossIdeal) (hLossReferenceIdeal := hLossReferenceIdeal)
    ∧ preserves_Rms_RmsIdeal
    ∧ algebraic_RmsIdeal_RmsReferenceIdeal (hRmsIdeal := hRmsIdeal) (hRmsReferenceIdeal := hRmsReferenceIdeal)
    ∧ preserves_Resid_ResidIdeal
    ∧ algebraic_ResidIdeal_ResidReferenceIdeal (hResidIdeal := hResidIdeal) (hResidReferenceIdeal := hResidReferenceIdeal)
    ∧ preserves_NormPost_NormPostIdeal
    ∧ algebraic_NormPostIdeal_NormPostReferenceIdeal (hNormPostIdeal := hNormPostIdeal) (hNormPostReferenceIdeal := hNormPostReferenceIdeal)
    ∧ preserves_NormPre_NormPreIdeal
    ∧ algebraic_NormPreIdeal_NormPreReferenceIdeal (hNormPreIdeal := hNormPreIdeal) (hNormPreReferenceIdeal := hNormPreReferenceIdeal)
    ∧ preserves_NormPre3_NormPre3Ideal
    ∧ algebraic_NormPre3Ideal_NormPre3ReferenceIdeal (hNormPre3Ideal := hNormPre3Ideal) (hNormPre3ReferenceIdeal := hNormPre3ReferenceIdeal)
    ∧ preserves_Swiglu_SwigluIdeal
    ∧ algebraic_SwigluIdeal_SwigluReferenceIdeal (hSwigluIdeal := hSwigluIdeal) (hSwigluReferenceIdeal := hSwigluReferenceIdeal)
    ∧ preserves_SwigluBwd_SwigluBwdIdeal
    ∧ algebraic_SwigluBwdIdeal_SwigluBwdReferenceIdeal (hSwigluBwdIdeal := hSwigluBwdIdeal) (hSwigluBwdReferenceIdeal := hSwigluBwdReferenceIdeal)
    ∧ preserves_Proj_ProjIdeal
    ∧ algebraic_ProjIdeal_ProjReferenceIdeal (hProjIdeal := hProjIdeal) (hProjReferenceIdeal := hProjReferenceIdeal)
    ∧ preserves_ProjDo_ProjDoIdeal
    ∧ algebraic_ProjDoIdeal_ProjDoReferenceIdeal (hProjDoIdeal := hProjDoIdeal) (hProjDoReferenceIdeal := hProjDoReferenceIdeal)
    ∧ preserves_ProjDw_ProjDwIdeal
    ∧ algebraic_ProjDwIdeal_ProjDwReferenceIdeal (hProjDwIdeal := hProjDwIdeal) (hProjDwReferenceIdeal := hProjDwReferenceIdeal)
    ∧ preserves_FfnIn_FfnInIdeal
    ∧ algebraic_FfnInIdeal_FfnInReferenceIdeal (hFfnInIdeal := hFfnInIdeal) (hFfnInReferenceIdeal := hFfnInReferenceIdeal)
    ∧ preserves_FfnOut_FfnOutIdeal
    ∧ algebraic_FfnOutIdeal_FfnOutReferenceIdeal (hFfnOutIdeal := hFfnOutIdeal) (hFfnOutReferenceIdeal := hFfnOutReferenceIdeal)
    ∧ preserves_FfnDact_FfnDactIdeal
    ∧ algebraic_FfnDactIdeal_FfnDactReferenceIdeal (hFfnDactIdeal := hFfnDactIdeal) (hFfnDactReferenceIdeal := hFfnDactReferenceIdeal)
    ∧ preserves_FfnDwDown_FfnDwDownIdeal
    ∧ algebraic_FfnDwDownIdeal_FfnDwDownReferenceIdeal (hFfnDwDownIdeal := hFfnDwDownIdeal) (hFfnDwDownReferenceIdeal := hFfnDwDownReferenceIdeal)
    ∧ preserves_FfnDh_FfnDhIdeal
    ∧ algebraic_FfnDhIdeal_FfnDhReferenceIdeal (hFfnDhIdeal := hFfnDhIdeal) (hFfnDhReferenceIdeal := hFfnDhReferenceIdeal)
    ∧ preserves_FfnDwIn_FfnDwInIdeal
    ∧ algebraic_FfnDwInIdeal_FfnDwInReferenceIdeal (hFfnDwInIdeal := hFfnDwInIdeal) (hFfnDwInReferenceIdeal := hFfnDwInReferenceIdeal)
    ∧ preserves_NaQkv_NaQkvIdeal
    ∧ algebraic_NaQkvIdeal_NaQkvReferenceIdeal (hNaQkvIdeal := hNaQkvIdeal) (hNaQkvReferenceIdeal := hNaQkvReferenceIdeal)
    ∧ preserves_DilQkv_DilQkvIdeal
    ∧ algebraic_DilQkvIdeal_DilQkvReferenceIdeal (hDilQkvIdeal := hDilQkvIdeal) (hDilQkvReferenceIdeal := hDilQkvReferenceIdeal)
    ∧ preserves_NaQkvDh_NaQkvDhIdeal
    ∧ algebraic_NaQkvDhIdeal_NaQkvDhReferenceIdeal (hNaQkvDhIdeal := hNaQkvDhIdeal) (hNaQkvDhReferenceIdeal := hNaQkvDhReferenceIdeal)
    ∧ preserves_DilQkvDh_DilQkvDhIdeal
    ∧ algebraic_DilQkvDhIdeal_DilQkvDhReferenceIdeal (hDilQkvDhIdeal := hDilQkvDhIdeal) (hDilQkvDhReferenceIdeal := hDilQkvDhReferenceIdeal)
    ∧ preserves_NaQkvDw_NaQkvDwIdeal
    ∧ algebraic_NaQkvDwIdeal_NaQkvDwReferenceIdeal (hNaQkvDwIdeal := hNaQkvDwIdeal) (hNaQkvDwReferenceIdeal := hNaQkvDwReferenceIdeal)
    ∧ preserves_DilQkvDw_DilQkvDwIdeal
    ∧ algebraic_DilQkvDwIdeal_DilQkvDwReferenceIdeal (hDilQkvDwIdeal := hDilQkvDwIdeal) (hDilQkvDwReferenceIdeal := hDilQkvDwReferenceIdeal)
    ∧ preserves_NaFwd_NaFwdIdeal
    ∧ algebraic_NaFwdIdeal_NaFwdReferenceIdeal (hNaFwdIdeal := hNaFwdIdeal) (hNaFwdReferenceIdeal := hNaFwdReferenceIdeal)
    ∧ preserves_DilMerge_DilMergeIdeal
    ∧ algebraic_DilMergeIdeal_DilMergeReferenceIdeal (hDilMergeIdeal := hDilMergeIdeal) (hDilMergeReferenceIdeal := hDilMergeReferenceIdeal)
    ∧ preserves_Rowdot_RowdotIdeal
    ∧ algebraic_RowdotIdeal_RowdotReferenceIdeal (hRowdotIdeal := hRowdotIdeal) (hRowdotReferenceIdeal := hRowdotReferenceIdeal)
    ∧ preserves_RpbGrad_RpbGradIdeal
    ∧ algebraic_RpbGradIdeal_RpbGradReferenceIdeal (hRpbGradIdeal := hRpbGradIdeal) (hRpbGradReferenceIdeal := hRpbGradReferenceIdeal)
-- ==== Gather.lean ====
abbrev S2x512x768 : Shape := ⟨3, ![2, 512, 768]⟩
abbrev S2x128x1024 : Shape := ⟨3, ![2, 128, 1024]⟩
abbrev S2x1024x704 : Shape := ⟨3, ![2, 1024, 704]⟩
abbrev S2x704x1024 : Shape := ⟨3, ![2, 704, 1024]⟩
abbrev S2x512x2304 : Shape := ⟨3, ![2, 512, 2304]⟩
abbrev S4x2x512x768 : Shape := ⟨4, ![4, 2, 512, 768]⟩
abbrev S4x2x128x1024 : Shape := ⟨4, ![4, 2, 128, 1024]⟩
abbrev S4x2x1024x704 : Shape := ⟨4, ![4, 2, 1024, 704]⟩
abbrev S4x2x704x1024 : Shape := ⟨4, ![4, 2, 704, 1024]⟩
abbrev S4x2x512x2304 : Shape := ⟨4, ![4, 2, 512, 2304]⟩
abbrev S42 : Shape := ⟨1, ![42]⟩
abbrev S7 : Shape := ⟨1, ![7]⟩
abbrev S1 : Shape := ⟨1, ![1]⟩
abbrev S_ : Shape := ⟨0, ![]⟩
abbrev S1x2x512x768 : Shape := ⟨4, ![1, 2, 512, 768]⟩
abbrev S1x2x128x1024 : Shape := ⟨4, ![1, 2, 128, 1024]⟩
abbrev S1x2x1024x704 : Shape := ⟨4, ![1, 2, 1024, 704]⟩
abbrev S1x2x704x1024 : Shape := ⟨4, ![1, 2, 704, 1024]⟩
abbrev S1x2x512x2304 : Shape := ⟨4, ![1, 2, 512, 2304]⟩
abbrev S1x1x512x768 : Shape := ⟨4, ![1, 1, 512, 768]⟩
abbrev S512x768 : Shape := ⟨2, ![512, 768]⟩
abbrev S1x512x768 : Shape := ⟨3, ![1, 512, 768]⟩
abbrev S1x1x128x1024 : Shape := ⟨4, ![1, 1, 128, 1024]⟩
abbrev S128x1024 : Shape := ⟨2, ![128, 1024]⟩
abbrev S1x128x1024 : Shape := ⟨3, ![1, 128, 1024]⟩
abbrev S1x1x1024x704 : Shape := ⟨4, ![1, 1, 1024, 704]⟩
abbrev S1024x704 : Shape := ⟨2, ![1024, 704]⟩
abbrev S1x1024x704 : Shape := ⟨3, ![1, 1024, 704]⟩
abbrev S1x1x704x1024 : Shape := ⟨4, ![1, 1, 704, 1024]⟩
abbrev S704x1024 : Shape := ⟨2, ![704, 1024]⟩
abbrev S1x704x1024 : Shape := ⟨3, ![1, 704, 1024]⟩
abbrev S1x1x512x2304 : Shape := ⟨4, ![1, 1, 512, 2304]⟩
abbrev S512x2304 : Shape := ⟨2, ![512, 2304]⟩
abbrev S1x512x2304 : Shape := ⟨3, ![1, 512, 2304]⟩

abbrev nBuf : Space → Nat
  | .hbm => 14
  | .vmem => 0
  | .smem => 0
  | _ => 0

abbrev bufTy : (tb : Table) → Fin (tcTables nBuf tb) → BufTy
  | .hbm, ⟨0, _⟩ => ⟨S2x512x768, .bf16⟩
  | .hbm, ⟨1, _⟩ => ⟨S2x128x1024, .bf16⟩
  | .hbm, ⟨2, _⟩ => ⟨S2x1024x704, .bf16⟩
  | .hbm, ⟨3, _⟩ => ⟨S2x1024x704, .bf16⟩
  | .hbm, ⟨4, _⟩ => ⟨S2x704x1024, .bf16⟩
  | .hbm, ⟨5, _⟩ => ⟨S2x512x2304, .bf16⟩
  | .hbm, ⟨6, _⟩ => ⟨S2x128x1024, .bf16⟩
  | .hbm, ⟨7, _⟩ => ⟨S4x2x512x768, .bf16⟩
  | .hbm, ⟨8, _⟩ => ⟨S4x2x128x1024, .bf16⟩
  | .hbm, ⟨9, _⟩ => ⟨S4x2x1024x704, .bf16⟩
  | .hbm, ⟨10, _⟩ => ⟨S4x2x1024x704, .bf16⟩
  | .hbm, ⟨11, _⟩ => ⟨S4x2x704x1024, .bf16⟩
  | .hbm, ⟨12, _⟩ => ⟨S4x2x512x2304, .bf16⟩
  | .hbm, ⟨13, _⟩ => ⟨S4x2x128x1024, .bf16⟩
  | _, _ => ⟨S2x512x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 91 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | _ => false

abbrev sig : RefSig :=
  ofTc nBuf bufTy 0 91 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev main_v1_5 : Ref sig .tc := ⟨.hbm, 12, rfl⟩
abbrev main_v1_6 : Ref sig .tc := ⟨.hbm, 13, rfl⟩

abbrev nD : Nat := 8
abbrev τ : Topo := Topo.v7x

variable {F : FTy → Type} [FloatOps F]

abbrev grid0 : Pipeline.Grid := .none

def k0_off1 (d0 : Dev nD) : Fin 4 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_9 : BitVec 32 := 0#32
  let c0_i32_10 : BitVec 32 := 0#32
  let c0_i32_11 : BitVec 32 := 0#32
  ![v14.toNat, 0, 0, 0]
def k0_off2 (d0 : Dev nD) : Fin 4 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_13 : BitVec 32 := 0#32
  let c0_i32_14 : BitVec 32 := 0#32
  let c0_i32_15 : BitVec 32 := 0#32
  ![v14.toNat, 0, 0, 0]
def k0_off3 (d0 : Dev nD) : Fin 4 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_17 : BitVec 32 := 0#32
  let c0_i32_18 : BitVec 32 := 0#32
  let c0_i32_19 : BitVec 32 := 0#32
  ![v14.toNat, 0, 0, 0]
def k0_off4 (d0 : Dev nD) : Fin 4 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_24 : BitVec 32 := 0#32
  let c0_i32_25 : BitVec 32 := 0#32
  let c0_i32_26 : BitVec 32 := 0#32
  ![v14.toNat, 0, 0, 0]
def k0_off5 (d0 : Dev nD) : Fin 4 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_27 : BitVec 32 := 0#32
  let c0_i32_28 : BitVec 32 := 0#32
  let c0_i32_29 : BitVec 32 := 0#32
  ![v14.toNat, 0, 0, 0]
def k0_off6 (d0 : Dev nD) : Fin 4 → Nat :=
  let c2_i32_33 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v44 : BitVec 32 := Scalar.muli c2_i32_33 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v45 : BitVec 32 := Scalar.addi v44 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_60 : BitVec 32 := 0#32
  let c0_i32_61 : BitVec 32 := 0#32
  ![v45.toNat, v8.toNat, 0, 0]
def k0_off7 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_62 : BitVec 32 := 0#32
  let c0_i32_63 : BitVec 32 := 0#32
  ![v8.toNat, 0, 0]
def k0_dev1 (d0 : Dev nD) : Nat :=
  let c0_i32_57 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_56 : BitVec 32 := 4#32
  let v86 : BitVec 32 := Scalar.muli v9 c4_i32_56
  let v87 : BitVec 32 := Scalar.addi c0_i32_57 v86
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_58 : BitVec 32 := 2#32
  let v88 : BitVec 32 := Scalar.muli v5 c2_i32_58
  let v89 : BitVec 32 := Scalar.addi v87 v88
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_59 : BitVec 32 := 1#32
  let v90 : BitVec 32 := Scalar.muli v8 c1_i32_59
  let v91 : BitVec 32 := Scalar.addi v89 v90
  v91.toNat
def k0_dev2 (d0 : Dev nD) : Nat :=
  let c0_i32_67 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_66 : BitVec 32 := 4#32
  let v100 : BitVec 32 := Scalar.muli v2 c4_i32_66
  let v101 : BitVec 32 := Scalar.addi c0_i32_67 v100
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_68 : BitVec 32 := 2#32
  let v102 : BitVec 32 := Scalar.muli v10 c2_i32_68
  let v103 : BitVec 32 := Scalar.addi v101 v102
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_69 : BitVec 32 := 1#32
  let v104 : BitVec 32 := Scalar.muli v8 c1_i32_69
  let v105 : BitVec 32 := Scalar.addi v103 v104
  v105.toNat
def k0_dev3 (d0 : Dev nD) : Nat :=
  let c0_i32_77 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_76 : BitVec 32 := 4#32
  let v114 : BitVec 32 := Scalar.muli v11 c4_i32_76
  let v115 : BitVec 32 := Scalar.addi c0_i32_77 v114
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_78 : BitVec 32 := 2#32
  let v116 : BitVec 32 := Scalar.muli v12 c2_i32_78
  let v117 : BitVec 32 := Scalar.addi v115 v116
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_79 : BitVec 32 := 1#32
  let v118 : BitVec 32 := Scalar.muli v8 c1_i32_79
  let v119 : BitVec 32 := Scalar.addi v117 v118
  v119.toNat
def k0_off8 (d0 : Dev nD) : Fin 4 → Nat :=
  let c2_i32_36 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v50 : BitVec 32 := Scalar.muli c2_i32_36 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v51 : BitVec 32 := Scalar.addi v50 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_90 : BitVec 32 := 0#32
  let c0_i32_91 : BitVec 32 := 0#32
  ![v51.toNat, v8.toNat, 0, 0]
def k0_off9 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_92 : BitVec 32 := 0#32
  let c0_i32_93 : BitVec 32 := 0#32
  ![v8.toNat, 0, 0]
def k0_dev4 (d0 : Dev nD) : Nat :=
  let c0_i32_87 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_86 : BitVec 32 := 4#32
  let v128 : BitVec 32 := Scalar.muli v9 c4_i32_86
  let v129 : BitVec 32 := Scalar.addi c0_i32_87 v128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_88 : BitVec 32 := 2#32
  let v130 : BitVec 32 := Scalar.muli v5 c2_i32_88
  let v131 : BitVec 32 := Scalar.addi v129 v130
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_89 : BitVec 32 := 1#32
  let v132 : BitVec 32 := Scalar.muli v8 c1_i32_89
  let v133 : BitVec 32 := Scalar.addi v131 v132
  v133.toNat
def k0_dev5 (d0 : Dev nD) : Nat :=
  let c0_i32_96 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_95 : BitVec 32 := 4#32
  let v142 : BitVec 32 := Scalar.muli v2 c4_i32_95
  let v143 : BitVec 32 := Scalar.addi c0_i32_96 v142
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_97 : BitVec 32 := 2#32
  let v144 : BitVec 32 := Scalar.muli v10 c2_i32_97
  let v145 : BitVec 32 := Scalar.addi v143 v144
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_98 : BitVec 32 := 1#32
  let v146 : BitVec 32 := Scalar.muli v8 c1_i32_98
  let v147 : BitVec 32 := Scalar.addi v145 v146
  v147.toNat
def k0_dev6 (d0 : Dev nD) : Nat :=
  let c0_i32_105 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_104 : BitVec 32 := 4#32
  let v156 : BitVec 32 := Scalar.muli v11 c4_i32_104
  let v157 : BitVec 32 := Scalar.addi c0_i32_105 v156
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_106 : BitVec 32 := 2#32
  let v158 : BitVec 32 := Scalar.muli v12 c2_i32_106
  let v159 : BitVec 32 := Scalar.addi v157 v158
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_107 : BitVec 32 := 1#32
  let v160 : BitVec 32 := Scalar.muli v8 c1_i32_107
  let v161 : BitVec 32 := Scalar.addi v159 v160
  v161.toNat
def k0_off10 (d0 : Dev nD) : Fin 4 → Nat :=
  let c2_i32_39 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v56 : BitVec 32 := Scalar.muli c2_i32_39 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v57 : BitVec 32 := Scalar.addi v56 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_117 : BitVec 32 := 0#32
  let c0_i32_118 : BitVec 32 := 0#32
  ![v57.toNat, v8.toNat, 0, 0]
def k0_off11 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_119 : BitVec 32 := 0#32
  let c0_i32_120 : BitVec 32 := 0#32
  ![v8.toNat, 0, 0]
def k0_dev7 (d0 : Dev nD) : Nat :=
  let c0_i32_114 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_113 : BitVec 32 := 4#32
  let v170 : BitVec 32 := Scalar.muli v9 c4_i32_113
  let v171 : BitVec 32 := Scalar.addi c0_i32_114 v170
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_115 : BitVec 32 := 2#32
  let v172 : BitVec 32 := Scalar.muli v5 c2_i32_115
  let v173 : BitVec 32 := Scalar.addi v171 v172
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_116 : BitVec 32 := 1#32
  let v174 : BitVec 32 := Scalar.muli v8 c1_i32_116
  let v175 : BitVec 32 := Scalar.addi v173 v174
  v175.toNat
def k0_dev8 (d0 : Dev nD) : Nat :=
  let c0_i32_123 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_122 : BitVec 32 := 4#32
  let v184 : BitVec 32 := Scalar.muli v2 c4_i32_122
  let v185 : BitVec 32 := Scalar.addi c0_i32_123 v184
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_124 : BitVec 32 := 2#32
  let v186 : BitVec 32 := Scalar.muli v10 c2_i32_124
  let v187 : BitVec 32 := Scalar.addi v185 v186
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_125 : BitVec 32 := 1#32
  let v188 : BitVec 32 := Scalar.muli v8 c1_i32_125
  let v189 : BitVec 32 := Scalar.addi v187 v188
  v189.toNat
def k0_dev9 (d0 : Dev nD) : Nat :=
  let c0_i32_132 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_131 : BitVec 32 := 4#32
  let v198 : BitVec 32 := Scalar.muli v11 c4_i32_131
  let v199 : BitVec 32 := Scalar.addi c0_i32_132 v198
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_133 : BitVec 32 := 2#32
  let v200 : BitVec 32 := Scalar.muli v12 c2_i32_133
  let v201 : BitVec 32 := Scalar.addi v199 v200
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_134 : BitVec 32 := 1#32
  let v202 : BitVec 32 := Scalar.muli v8 c1_i32_134
  let v203 : BitVec 32 := Scalar.addi v201 v202
  v203.toNat
def k0_dev10 (d0 : Dev nD) : Nat :=
  let c0_i32_141 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_140 : BitVec 32 := 4#32
  let v212 : BitVec 32 := Scalar.muli v9 c4_i32_140
  let v213 : BitVec 32 := Scalar.addi c0_i32_141 v212
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_142 : BitVec 32 := 2#32
  let v214 : BitVec 32 := Scalar.muli v5 c2_i32_142
  let v215 : BitVec 32 := Scalar.addi v213 v214
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_143 : BitVec 32 := 1#32
  let v216 : BitVec 32 := Scalar.muli v8 c1_i32_143
  let v217 : BitVec 32 := Scalar.addi v215 v216
  v217.toNat
def k0_dev11 (d0 : Dev nD) : Nat :=
  let c0_i32_150 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_149 : BitVec 32 := 4#32
  let v226 : BitVec 32 := Scalar.muli v2 c4_i32_149
  let v227 : BitVec 32 := Scalar.addi c0_i32_150 v226
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_151 : BitVec 32 := 2#32
  let v228 : BitVec 32 := Scalar.muli v10 c2_i32_151
  let v229 : BitVec 32 := Scalar.addi v227 v228
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_152 : BitVec 32 := 1#32
  let v230 : BitVec 32 := Scalar.muli v8 c1_i32_152
  let v231 : BitVec 32 := Scalar.addi v229 v230
  v231.toNat
def k0_dev12 (d0 : Dev nD) : Nat :=
  let c0_i32_159 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_158 : BitVec 32 := 4#32
  let v240 : BitVec 32 := Scalar.muli v11 c4_i32_158
  let v241 : BitVec 32 := Scalar.addi c0_i32_159 v240
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_160 : BitVec 32 := 2#32
  let v242 : BitVec 32 := Scalar.muli v12 c2_i32_160
  let v243 : BitVec 32 := Scalar.addi v241 v242
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_161 : BitVec 32 := 1#32
  let v244 : BitVec 32 := Scalar.muli v8 c1_i32_161
  let v245 : BitVec 32 := Scalar.addi v243 v244
  v245.toNat
def k0_off12 (d0 : Dev nD) : Fin 4 → Nat :=
  let c2_i32_45 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v68 : BitVec 32 := Scalar.muli c2_i32_45 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v69 : BitVec 32 := Scalar.addi v68 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_171 : BitVec 32 := 0#32
  let c0_i32_172 : BitVec 32 := 0#32
  ![v69.toNat, v8.toNat, 0, 0]
def k0_off13 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_173 : BitVec 32 := 0#32
  let c0_i32_174 : BitVec 32 := 0#32
  ![v8.toNat, 0, 0]
def k0_dev13 (d0 : Dev nD) : Nat :=
  let c0_i32_168 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_167 : BitVec 32 := 4#32
  let v254 : BitVec 32 := Scalar.muli v9 c4_i32_167
  let v255 : BitVec 32 := Scalar.addi c0_i32_168 v254
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_169 : BitVec 32 := 2#32
  let v256 : BitVec 32 := Scalar.muli v5 c2_i32_169
  let v257 : BitVec 32 := Scalar.addi v255 v256
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_170 : BitVec 32 := 1#32
  let v258 : BitVec 32 := Scalar.muli v8 c1_i32_170
  let v259 : BitVec 32 := Scalar.addi v257 v258
  v259.toNat
def k0_dev14 (d0 : Dev nD) : Nat :=
  let c0_i32_177 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_176 : BitVec 32 := 4#32
  let v268 : BitVec 32 := Scalar.muli v2 c4_i32_176
  let v269 : BitVec 32 := Scalar.addi c0_i32_177 v268
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_178 : BitVec 32 := 2#32
  let v270 : BitVec 32 := Scalar.muli v10 c2_i32_178
  let v271 : BitVec 32 := Scalar.addi v269 v270
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_179 : BitVec 32 := 1#32
  let v272 : BitVec 32 := Scalar.muli v8 c1_i32_179
  let v273 : BitVec 32 := Scalar.addi v271 v272
  v273.toNat
def k0_dev15 (d0 : Dev nD) : Nat :=
  let c0_i32_186 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_185 : BitVec 32 := 4#32
  let v282 : BitVec 32 := Scalar.muli v11 c4_i32_185
  let v283 : BitVec 32 := Scalar.addi c0_i32_186 v282
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_187 : BitVec 32 := 2#32
  let v284 : BitVec 32 := Scalar.muli v12 c2_i32_187
  let v285 : BitVec 32 := Scalar.addi v283 v284
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_188 : BitVec 32 := 1#32
  let v286 : BitVec 32 := Scalar.muli v8 c1_i32_188
  let v287 : BitVec 32 := Scalar.addi v285 v286
  v287.toNat
def k0_off14 (d0 : Dev nD) : Fin 4 → Nat :=
  let c2_i32_48 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v74 : BitVec 32 := Scalar.muli c2_i32_48 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v75 : BitVec 32 := Scalar.addi v74 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_198 : BitVec 32 := 0#32
  let c0_i32_199 : BitVec 32 := 0#32
  ![v75.toNat, v8.toNat, 0, 0]
def k0_off15 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_200 : BitVec 32 := 0#32
  let c0_i32_201 : BitVec 32 := 0#32
  ![v8.toNat, 0, 0]
def k0_dev16 (d0 : Dev nD) : Nat :=
  let c0_i32_195 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_194 : BitVec 32 := 4#32
  let v296 : BitVec 32 := Scalar.muli v9 c4_i32_194
  let v297 : BitVec 32 := Scalar.addi c0_i32_195 v296
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_196 : BitVec 32 := 2#32
  let v298 : BitVec 32 := Scalar.muli v5 c2_i32_196
  let v299 : BitVec 32 := Scalar.addi v297 v298
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_197 : BitVec 32 := 1#32
  let v300 : BitVec 32 := Scalar.muli v8 c1_i32_197
  let v301 : BitVec 32 := Scalar.addi v299 v300
  v301.toNat
def k0_dev17 (d0 : Dev nD) : Nat :=
  let c0_i32_204 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_203 : BitVec 32 := 4#32
  let v310 : BitVec 32 := Scalar.muli v2 c4_i32_203
  let v311 : BitVec 32 := Scalar.addi c0_i32_204 v310
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_205 : BitVec 32 := 2#32
  let v312 : BitVec 32 := Scalar.muli v10 c2_i32_205
  let v313 : BitVec 32 := Scalar.addi v311 v312
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_206 : BitVec 32 := 1#32
  let v314 : BitVec 32 := Scalar.muli v8 c1_i32_206
  let v315 : BitVec 32 := Scalar.addi v313 v314
  v315.toNat
def k0_dev18 (d0 : Dev nD) : Nat :=
  let c0_i32_213 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_212 : BitVec 32 := 4#32
  let v324 : BitVec 32 := Scalar.muli v11 c4_i32_212
  let v325 : BitVec 32 := Scalar.addi c0_i32_213 v324
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_214 : BitVec 32 := 2#32
  let v326 : BitVec 32 := Scalar.muli v12 c2_i32_214
  let v327 : BitVec 32 := Scalar.addi v325 v326
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_215 : BitVec 32 := 1#32
  let v328 : BitVec 32 := Scalar.muli v8 c1_i32_215
  let v329 : BitVec 32 := Scalar.addi v327 v328
  v329.toNat
def k0_dev19 (d0 : Dev nD) : Nat :=
  let c0_i32_222 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_221 : BitVec 32 := 4#32
  let v338 : BitVec 32 := Scalar.muli v9 c4_i32_221
  let v339 : BitVec 32 := Scalar.addi c0_i32_222 v338
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_223 : BitVec 32 := 2#32
  let v340 : BitVec 32 := Scalar.muli v5 c2_i32_223
  let v341 : BitVec 32 := Scalar.addi v339 v340
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_224 : BitVec 32 := 1#32
  let v342 : BitVec 32 := Scalar.muli v8 c1_i32_224
  let v343 : BitVec 32 := Scalar.addi v341 v342
  v343.toNat
def k0_dev20 (d0 : Dev nD) : Nat :=
  let c0_i32_231 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_230 : BitVec 32 := 4#32
  let v352 : BitVec 32 := Scalar.muli v2 c4_i32_230
  let v353 : BitVec 32 := Scalar.addi c0_i32_231 v352
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_232 : BitVec 32 := 2#32
  let v354 : BitVec 32 := Scalar.muli v10 c2_i32_232
  let v355 : BitVec 32 := Scalar.addi v353 v354
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_233 : BitVec 32 := 1#32
  let v356 : BitVec 32 := Scalar.muli v8 c1_i32_233
  let v357 : BitVec 32 := Scalar.addi v355 v356
  v357.toNat
def k0_dev21 (d0 : Dev nD) : Nat :=
  let c0_i32_240 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_239 : BitVec 32 := 4#32
  let v366 : BitVec 32 := Scalar.muli v11 c4_i32_239
  let v367 : BitVec 32 := Scalar.addi c0_i32_240 v366
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_241 : BitVec 32 := 2#32
  let v368 : BitVec 32 := Scalar.muli v12 c2_i32_241
  let v369 : BitVec 32 := Scalar.addi v367 v368
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_242 : BitVec 32 := 1#32
  let v370 : BitVec 32 := Scalar.muli v8 c1_i32_242
  let v371 : BitVec 32 := Scalar.addi v369 v370
  v371.toNat
def k0_off16 (d0 : Dev nD) : Fin 4 → Nat :=
  let c2_i32_247 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v380 : BitVec 32 := Scalar.muli c2_i32_247 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v381 : BitVec 32 := Scalar.addi v380 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_254 : BitVec 32 := 0#32
  let c0_i32_255 : BitVec 32 := 0#32
  ![v381.toNat, v8.toNat, 0, 0]
def k0_dev22 (d0 : Dev nD) : Nat :=
  let c0_i32_262 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_261 : BitVec 32 := 4#32
  let v396 : BitVec 32 := Scalar.muli v2 c4_i32_261
  let v397 : BitVec 32 := Scalar.addi c0_i32_262 v396
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_263 : BitVec 32 := 2#32
  let v398 : BitVec 32 := Scalar.muli v5 c2_i32_263
  let v399 : BitVec 32 := Scalar.addi v397 v398
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_264 : BitVec 32 := 1#32
  let v400 : BitVec 32 := Scalar.muli v15 c1_i32_264
  let v401 : BitVec 32 := Scalar.addi v399 v400
  v401.toNat
def k0_off17 (d0 : Dev nD) : Fin 4 → Nat :=
  let c2_i32_269 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v410 : BitVec 32 := Scalar.muli c2_i32_269 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v411 : BitVec 32 := Scalar.addi v410 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_276 : BitVec 32 := 0#32
  let c0_i32_277 : BitVec 32 := 0#32
  ![v411.toNat, v8.toNat, 0, 0]
def k0_dev23 (d0 : Dev nD) : Nat :=
  let c0_i32_284 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_283 : BitVec 32 := 4#32
  let v426 : BitVec 32 := Scalar.muli v2 c4_i32_283
  let v427 : BitVec 32 := Scalar.addi c0_i32_284 v426
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_285 : BitVec 32 := 2#32
  let v428 : BitVec 32 := Scalar.muli v5 c2_i32_285
  let v429 : BitVec 32 := Scalar.addi v427 v428
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_286 : BitVec 32 := 1#32
  let v430 : BitVec 32 := Scalar.muli v15 c1_i32_286
  let v431 : BitVec 32 := Scalar.addi v429 v430
  v431.toNat
def k0_off18 (d0 : Dev nD) : Fin 4 → Nat :=
  let c2_i32_291 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v440 : BitVec 32 := Scalar.muli c2_i32_291 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v441 : BitVec 32 := Scalar.addi v440 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_298 : BitVec 32 := 0#32
  let c0_i32_299 : BitVec 32 := 0#32
  ![v441.toNat, v8.toNat, 0, 0]
def k0_dev24 (d0 : Dev nD) : Nat :=
  let c0_i32_306 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_305 : BitVec 32 := 4#32
  let v456 : BitVec 32 := Scalar.muli v2 c4_i32_305
  let v457 : BitVec 32 := Scalar.addi c0_i32_306 v456
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_307 : BitVec 32 := 2#32
  let v458 : BitVec 32 := Scalar.muli v5 c2_i32_307
  let v459 : BitVec 32 := Scalar.addi v457 v458
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_308 : BitVec 32 := 1#32
  let v460 : BitVec 32 := Scalar.muli v15 c1_i32_308
  let v461 : BitVec 32 := Scalar.addi v459 v460
  v461.toNat
def k0_off19 (d0 : Dev nD) : Fin 4 → Nat :=
  let c2_i32_313 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v470 : BitVec 32 := Scalar.muli c2_i32_313 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v471 : BitVec 32 := Scalar.addi v470 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_320 : BitVec 32 := 0#32
  let c0_i32_321 : BitVec 32 := 0#32
  ![v471.toNat, v8.toNat, 0, 0]
def k0_dev25 (d0 : Dev nD) : Nat :=
  let c0_i32_327 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_326 : BitVec 32 := 4#32
  let v486 : BitVec 32 := Scalar.muli v2 c4_i32_326
  let v487 : BitVec 32 := Scalar.addi c0_i32_327 v486
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_328 : BitVec 32 := 2#32
  let v488 : BitVec 32 := Scalar.muli v5 c2_i32_328
  let v489 : BitVec 32 := Scalar.addi v487 v488
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_329 : BitVec 32 := 1#32
  let v490 : BitVec 32 := Scalar.muli v15 c1_i32_329
  let v491 : BitVec 32 := Scalar.addi v489 v490
  v491.toNat
def k0_off20 (d0 : Dev nD) : Fin 4 → Nat :=
  let c2_i32_334 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v500 : BitVec 32 := Scalar.muli c2_i32_334 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v501 : BitVec 32 := Scalar.addi v500 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_341 : BitVec 32 := 0#32
  let c0_i32_342 : BitVec 32 := 0#32
  ![v501.toNat, v8.toNat, 0, 0]
def k0_dev26 (d0 : Dev nD) : Nat :=
  let c0_i32_348 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_347 : BitVec 32 := 4#32
  let v516 : BitVec 32 := Scalar.muli v2 c4_i32_347
  let v517 : BitVec 32 := Scalar.addi c0_i32_348 v516
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_349 : BitVec 32 := 2#32
  let v518 : BitVec 32 := Scalar.muli v5 c2_i32_349
  let v519 : BitVec 32 := Scalar.addi v517 v518
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_350 : BitVec 32 := 1#32
  let v520 : BitVec 32 := Scalar.muli v15 c1_i32_350
  let v521 : BitVec 32 := Scalar.addi v519 v520
  v521.toNat
def k0_off21 (d0 : Dev nD) : Fin 4 → Nat :=
  let c2_i32_355 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v530 : BitVec 32 := Scalar.muli c2_i32_355 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v531 : BitVec 32 := Scalar.addi v530 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_362 : BitVec 32 := 0#32
  let c0_i32_363 : BitVec 32 := 0#32
  ![v531.toNat, v8.toNat, 0, 0]
def k0_dev27 (d0 : Dev nD) : Nat :=
  let c0_i32_369 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_368 : BitVec 32 := 4#32
  let v546 : BitVec 32 := Scalar.muli v2 c4_i32_368
  let v547 : BitVec 32 := Scalar.addi c0_i32_369 v546
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_370 : BitVec 32 := 2#32
  let v548 : BitVec 32 := Scalar.muli v5 c2_i32_370
  let v549 : BitVec 32 := Scalar.addi v547 v548
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_371 : BitVec 32 := 1#32
  let v550 : BitVec 32 := Scalar.muli v15 c1_i32_371
  let v551 : BitVec 32 := Scalar.addi v549 v550
  v551.toNat
def k0_off22 (d0 : Dev nD) : Fin 4 → Nat :=
  let c2_i32_376 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v560 : BitVec 32 := Scalar.muli c2_i32_376 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v561 : BitVec 32 := Scalar.addi v560 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_383 : BitVec 32 := 0#32
  let c0_i32_384 : BitVec 32 := 0#32
  ![v561.toNat, v8.toNat, 0, 0]
def k0_dev28 (d0 : Dev nD) : Nat :=
  let c0_i32_390 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_389 : BitVec 32 := 4#32
  let v576 : BitVec 32 := Scalar.muli v2 c4_i32_389
  let v577 : BitVec 32 := Scalar.addi c0_i32_390 v576
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_391 : BitVec 32 := 2#32
  let v578 : BitVec 32 := Scalar.muli v5 c2_i32_391
  let v579 : BitVec 32 := Scalar.addi v577 v578
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_392 : BitVec 32 := 1#32
  let v580 : BitVec 32 := Scalar.muli v15 c1_i32_392
  let v581 : BitVec 32 := Scalar.addi v579 v580
  v581.toNat
def k0_off23 (d0 : Dev nD) : Fin 4 → Nat :=
  let c2_i32_397 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v590 : BitVec 32 := Scalar.muli c2_i32_397 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v591 : BitVec 32 := Scalar.addi v590 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_404 : BitVec 32 := 0#32
  let c0_i32_405 : BitVec 32 := 0#32
  ![v591.toNat, v8.toNat, 0, 0]
def k0_dev29 (d0 : Dev nD) : Nat :=
  let c0_i32_411 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_410 : BitVec 32 := 4#32
  let v606 : BitVec 32 := Scalar.muli v2 c4_i32_410
  let v607 : BitVec 32 := Scalar.addi c0_i32_411 v606
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_412 : BitVec 32 := 2#32
  let v608 : BitVec 32 := Scalar.muli v5 c2_i32_412
  let v609 : BitVec 32 := Scalar.addi v607 v608
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_413 : BitVec 32 := 1#32
  let v610 : BitVec 32 := Scalar.muli v15 c1_i32_413
  let v611 : BitVec 32 := Scalar.addi v609 v610
  v611.toNat
def k0_off24 (d0 : Dev nD) : Fin 4 → Nat :=
  let c2_i32_418 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v620 : BitVec 32 := Scalar.muli c2_i32_418 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v621 : BitVec 32 := Scalar.addi v620 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_425 : BitVec 32 := 0#32
  let c0_i32_426 : BitVec 32 := 0#32
  ![v621.toNat, v8.toNat, 0, 0]
def k0_dev30 (d0 : Dev nD) : Nat :=
  let c0_i32_432 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_431 : BitVec 32 := 4#32
  let v636 : BitVec 32 := Scalar.muli v2 c4_i32_431
  let v637 : BitVec 32 := Scalar.addi c0_i32_432 v636
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_433 : BitVec 32 := 2#32
  let v638 : BitVec 32 := Scalar.muli v5 c2_i32_433
  let v639 : BitVec 32 := Scalar.addi v637 v638
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_434 : BitVec 32 := 1#32
  let v640 : BitVec 32 := Scalar.muli v15 c1_i32_434
  let v641 : BitVec 32 := Scalar.addi v639 v640
  v641.toNat
def k0_dev31 (d0 : Dev nD) : Nat :=
  let c0_i32_453 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_452 : BitVec 32 := 4#32
  let v666 : BitVec 32 := Scalar.muli v2 c4_i32_452
  let v667 : BitVec 32 := Scalar.addi c0_i32_453 v666
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_454 : BitVec 32 := 2#32
  let v668 : BitVec 32 := Scalar.muli v5 c2_i32_454
  let v669 : BitVec 32 := Scalar.addi v667 v668
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_455 : BitVec 32 := 1#32
  let v670 : BitVec 32 := Scalar.muli v15 c1_i32_455
  let v671 : BitVec 32 := Scalar.addi v669 v670
  v671.toNat
def k0_dev32 (d0 : Dev nD) : Nat :=
  let c0_i32_474 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_473 : BitVec 32 := 4#32
  let v696 : BitVec 32 := Scalar.muli v2 c4_i32_473
  let v697 : BitVec 32 := Scalar.addi c0_i32_474 v696
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_475 : BitVec 32 := 2#32
  let v698 : BitVec 32 := Scalar.muli v5 c2_i32_475
  let v699 : BitVec 32 := Scalar.addi v697 v698
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_476 : BitVec 32 := 1#32
  let v700 : BitVec 32 := Scalar.muli v15 c1_i32_476
  let v701 : BitVec 32 := Scalar.addi v699 v700
  v701.toNat
def k0_dev33 (d0 : Dev nD) : Nat :=
  let c0_i32_495 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_494 : BitVec 32 := 4#32
  let v726 : BitVec 32 := Scalar.muli v2 c4_i32_494
  let v727 : BitVec 32 := Scalar.addi c0_i32_495 v726
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_496 : BitVec 32 := 2#32
  let v728 : BitVec 32 := Scalar.muli v5 c2_i32_496
  let v729 : BitVec 32 := Scalar.addi v727 v728
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_497 : BitVec 32 := 1#32
  let v730 : BitVec 32 := Scalar.muli v15 c1_i32_497
  let v731 : BitVec 32 := Scalar.addi v729 v730
  v731.toNat
def k0_off25 (d0 : Dev nD) : Fin 4 → Nat :=
  let c2_i32_502 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v740 : BitVec 32 := Scalar.muli c2_i32_502 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v741 : BitVec 32 := Scalar.addi v740 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_509 : BitVec 32 := 0#32
  let c0_i32_510 : BitVec 32 := 0#32
  ![v741.toNat, v8.toNat, 0, 0]
def k0_dev34 (d0 : Dev nD) : Nat :=
  let c0_i32_516 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_515 : BitVec 32 := 4#32
  let v756 : BitVec 32 := Scalar.muli v2 c4_i32_515
  let v757 : BitVec 32 := Scalar.addi c0_i32_516 v756
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_517 : BitVec 32 := 2#32
  let v758 : BitVec 32 := Scalar.muli v5 c2_i32_517
  let v759 : BitVec 32 := Scalar.addi v757 v758
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_518 : BitVec 32 := 1#32
  let v760 : BitVec 32 := Scalar.muli v15 c1_i32_518
  let v761 : BitVec 32 := Scalar.addi v759 v760
  v761.toNat
def k0_off26 (d0 : Dev nD) : Fin 4 → Nat :=
  let c2_i32_523 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v770 : BitVec 32 := Scalar.muli c2_i32_523 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v771 : BitVec 32 := Scalar.addi v770 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_530 : BitVec 32 := 0#32
  let c0_i32_531 : BitVec 32 := 0#32
  ![v771.toNat, v8.toNat, 0, 0]
def k0_dev35 (d0 : Dev nD) : Nat :=
  let c0_i32_537 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_536 : BitVec 32 := 4#32
  let v786 : BitVec 32 := Scalar.muli v2 c4_i32_536
  let v787 : BitVec 32 := Scalar.addi c0_i32_537 v786
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_538 : BitVec 32 := 2#32
  let v788 : BitVec 32 := Scalar.muli v5 c2_i32_538
  let v789 : BitVec 32 := Scalar.addi v787 v788
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_539 : BitVec 32 := 1#32
  let v790 : BitVec 32 := Scalar.muli v15 c1_i32_539
  let v791 : BitVec 32 := Scalar.addi v789 v790
  v791.toNat
def k0_off27 (d0 : Dev nD) : Fin 4 → Nat :=
  let c2_i32_544 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v800 : BitVec 32 := Scalar.muli c2_i32_544 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v801 : BitVec 32 := Scalar.addi v800 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_551 : BitVec 32 := 0#32
  let c0_i32_552 : BitVec 32 := 0#32
  ![v801.toNat, v8.toNat, 0, 0]
def k0_dev36 (d0 : Dev nD) : Nat :=
  let c0_i32_558 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_557 : BitVec 32 := 4#32
  let v816 : BitVec 32 := Scalar.muli v2 c4_i32_557
  let v817 : BitVec 32 := Scalar.addi c0_i32_558 v816
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_559 : BitVec 32 := 2#32
  let v818 : BitVec 32 := Scalar.muli v5 c2_i32_559
  let v819 : BitVec 32 := Scalar.addi v817 v818
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_560 : BitVec 32 := 1#32
  let v820 : BitVec 32 := Scalar.muli v15 c1_i32_560
  let v821 : BitVec 32 := Scalar.addi v819 v820
  v821.toNat
def k0_off28 (d0 : Dev nD) : Fin 4 → Nat :=
  let c2_i32_565 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v830 : BitVec 32 := Scalar.muli c2_i32_565 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v831 : BitVec 32 := Scalar.addi v830 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_572 : BitVec 32 := 0#32
  let c0_i32_573 : BitVec 32 := 0#32
  ![v831.toNat, v8.toNat, 0, 0]
def k0_dev37 (d0 : Dev nD) : Nat :=
  let c0_i32_579 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_578 : BitVec 32 := 4#32
  let v846 : BitVec 32 := Scalar.muli v2 c4_i32_578
  let v847 : BitVec 32 := Scalar.addi c0_i32_579 v846
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_580 : BitVec 32 := 2#32
  let v848 : BitVec 32 := Scalar.muli v5 c2_i32_580
  let v849 : BitVec 32 := Scalar.addi v847 v848
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_581 : BitVec 32 := 1#32
  let v850 : BitVec 32 := Scalar.muli v15 c1_i32_581
  let v851 : BitVec 32 := Scalar.addi v849 v850
  v851.toNat
def k0_off29 (d0 : Dev nD) : Fin 4 → Nat :=
  let c2_i32_586 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v860 : BitVec 32 := Scalar.muli c2_i32_586 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v861 : BitVec 32 := Scalar.addi v860 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_593 : BitVec 32 := 0#32
  let c0_i32_594 : BitVec 32 := 0#32
  ![v861.toNat, v8.toNat, 0, 0]
def k0_dev38 (d0 : Dev nD) : Nat :=
  let c0_i32_600 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_599 : BitVec 32 := 4#32
  let v876 : BitVec 32 := Scalar.muli v2 c4_i32_599
  let v877 : BitVec 32 := Scalar.addi c0_i32_600 v876
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_601 : BitVec 32 := 2#32
  let v878 : BitVec 32 := Scalar.muli v5 c2_i32_601
  let v879 : BitVec 32 := Scalar.addi v877 v878
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_602 : BitVec 32 := 1#32
  let v880 : BitVec 32 := Scalar.muli v15 c1_i32_602
  let v881 : BitVec 32 := Scalar.addi v879 v880
  v881.toNat
def k0_off30 (d0 : Dev nD) : Fin 4 → Nat :=
  let c2_i32_607 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v890 : BitVec 32 := Scalar.muli c2_i32_607 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v891 : BitVec 32 := Scalar.addi v890 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_614 : BitVec 32 := 0#32
  let c0_i32_615 : BitVec 32 := 0#32
  ![v891.toNat, v8.toNat, 0, 0]
def k0_dev39 (d0 : Dev nD) : Nat :=
  let c0_i32_621 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_620 : BitVec 32 := 4#32
  let v906 : BitVec 32 := Scalar.muli v2 c4_i32_620
  let v907 : BitVec 32 := Scalar.addi c0_i32_621 v906
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_622 : BitVec 32 := 2#32
  let v908 : BitVec 32 := Scalar.muli v5 c2_i32_622
  let v909 : BitVec 32 := Scalar.addi v907 v908
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_623 : BitVec 32 := 1#32
  let v910 : BitVec 32 := Scalar.muli v15 c1_i32_623
  let v911 : BitVec 32 := Scalar.addi v909 v910
  v911.toNat
def k0_dev40 (d0 : Dev nD) : Nat :=
  let c0_i32_642 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_641 : BitVec 32 := 4#32
  let v936 : BitVec 32 := Scalar.muli v2 c4_i32_641
  let v937 : BitVec 32 := Scalar.addi c0_i32_642 v936
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_643 : BitVec 32 := 2#32
  let v938 : BitVec 32 := Scalar.muli v5 c2_i32_643
  let v939 : BitVec 32 := Scalar.addi v937 v938
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_644 : BitVec 32 := 1#32
  let v940 : BitVec 32 := Scalar.muli v15 c1_i32_644
  let v941 : BitVec 32 := Scalar.addi v939 v940
  v941.toNat
def k0_dev41 (d0 : Dev nD) : Nat :=
  let c0_i32_663 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_662 : BitVec 32 := 4#32
  let v966 : BitVec 32 := Scalar.muli v2 c4_i32_662
  let v967 : BitVec 32 := Scalar.addi c0_i32_663 v966
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_664 : BitVec 32 := 2#32
  let v968 : BitVec 32 := Scalar.muli v5 c2_i32_664
  let v969 : BitVec 32 := Scalar.addi v967 v968
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_665 : BitVec 32 := 1#32
  let v970 : BitVec 32 := Scalar.muli v15 c1_i32_665
  let v971 : BitVec 32 := Scalar.addi v969 v970
  v971.toNat
def k0_dev42 (d0 : Dev nD) : Nat :=
  let c0_i32_684 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_683 : BitVec 32 := 4#32
  let v996 : BitVec 32 := Scalar.muli v2 c4_i32_683
  let v997 : BitVec 32 := Scalar.addi c0_i32_684 v996
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_685 : BitVec 32 := 2#32
  let v998 : BitVec 32 := Scalar.muli v5 c2_i32_685
  let v999 : BitVec 32 := Scalar.addi v997 v998
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_686 : BitVec 32 := 1#32
  let v1000 : BitVec 32 := Scalar.muli v15 c1_i32_686
  let v1001 : BitVec 32 := Scalar.addi v999 v1000
  v1001.toNat
def k0_off31 (d0 : Dev nD) : Fin 4 → Nat :=
  let c2_i32_692 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1011 : BitVec 32 := Scalar.muli c2_i32_692 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1012 : BitVec 32 := Scalar.addi v1011 v5
  let c1_i32_691 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1010 : BitVec 32 := Scalar.subi c1_i32_691 v8
  let c0_i32_699 : BitVec 32 := 0#32
  let c0_i32_700 : BitVec 32 := 0#32
  ![v1012.toNat, v1010.toNat, 0, 0]
def k0_off32 (d0 : Dev nD) : Fin 4 → Nat :=
  let c2_i32_704 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1026 : BitVec 32 := Scalar.muli c2_i32_704 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1027 : BitVec 32 := Scalar.addi v1026 v10
  let c1_i32_703 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1025 : BitVec 32 := Scalar.subi c1_i32_703 v8
  let c0_i32_711 : BitVec 32 := 0#32
  let c0_i32_712 : BitVec 32 := 0#32
  ![v1027.toNat, v1025.toNat, 0, 0]
def k0_off33 (d0 : Dev nD) : Fin 4 → Nat :=
  let c2_i32_716 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1041 : BitVec 32 := Scalar.muli c2_i32_716 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1042 : BitVec 32 := Scalar.addi v1041 v12
  let c1_i32_715 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1040 : BitVec 32 := Scalar.subi c1_i32_715 v8
  let c0_i32_723 : BitVec 32 := 0#32
  let c0_i32_724 : BitVec 32 := 0#32
  ![v1042.toNat, v1040.toNat, 0, 0]
def k0_off34 (d0 : Dev nD) : Fin 4 → Nat :=
  let c2_i32_728 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1056 : BitVec 32 := Scalar.muli c2_i32_728 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1057 : BitVec 32 := Scalar.addi v1056 v5
  let c1_i32_727 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1055 : BitVec 32 := Scalar.subi c1_i32_727 v8
  let c0_i32_735 : BitVec 32 := 0#32
  let c0_i32_736 : BitVec 32 := 0#32
  ![v1057.toNat, v1055.toNat, 0, 0]
def k0_off35 (d0 : Dev nD) : Fin 4 → Nat :=
  let c2_i32_740 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1071 : BitVec 32 := Scalar.muli c2_i32_740 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1072 : BitVec 32 := Scalar.addi v1071 v10
  let c1_i32_739 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1070 : BitVec 32 := Scalar.subi c1_i32_739 v8
  let c0_i32_747 : BitVec 32 := 0#32
  let c0_i32_748 : BitVec 32 := 0#32
  ![v1072.toNat, v1070.toNat, 0, 0]
def k0_off36 (d0 : Dev nD) : Fin 4 → Nat :=
  let c2_i32_752 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1086 : BitVec 32 := Scalar.muli c2_i32_752 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1087 : BitVec 32 := Scalar.addi v1086 v12
  let c1_i32_751 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1085 : BitVec 32 := Scalar.subi c1_i32_751 v8
  let c0_i32_759 : BitVec 32 := 0#32
  let c0_i32_760 : BitVec 32 := 0#32
  ![v1087.toNat, v1085.toNat, 0, 0]
def k0_off37 (d0 : Dev nD) : Fin 4 → Nat :=
  let c2_i32_764 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1101 : BitVec 32 := Scalar.muli c2_i32_764 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1102 : BitVec 32 := Scalar.addi v1101 v5
  let c1_i32_763 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1100 : BitVec 32 := Scalar.subi c1_i32_763 v8
  let c0_i32_771 : BitVec 32 := 0#32
  let c0_i32_772 : BitVec 32 := 0#32
  ![v1102.toNat, v1100.toNat, 0, 0]
def k0_off38 (d0 : Dev nD) : Fin 4 → Nat :=
  let c2_i32_776 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1116 : BitVec 32 := Scalar.muli c2_i32_776 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1117 : BitVec 32 := Scalar.addi v1116 v10
  let c1_i32_775 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1115 : BitVec 32 := Scalar.subi c1_i32_775 v8
  let c0_i32_783 : BitVec 32 := 0#32
  let c0_i32_784 : BitVec 32 := 0#32
  ![v1117.toNat, v1115.toNat, 0, 0]
def k0_off39 (d0 : Dev nD) : Fin 4 → Nat :=
  let c2_i32_788 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1131 : BitVec 32 := Scalar.muli c2_i32_788 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1132 : BitVec 32 := Scalar.addi v1131 v12
  let c1_i32_787 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1130 : BitVec 32 := Scalar.subi c1_i32_787 v8
  let c0_i32_795 : BitVec 32 := 0#32
  let c0_i32_796 : BitVec 32 := 0#32
  ![v1132.toNat, v1130.toNat, 0, 0]
def k0_off40 (d0 : Dev nD) : Fin 4 → Nat :=
  let c2_i32_836 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1191 : BitVec 32 := Scalar.muli c2_i32_836 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1192 : BitVec 32 := Scalar.addi v1191 v5
  let c1_i32_835 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1190 : BitVec 32 := Scalar.subi c1_i32_835 v8
  let c0_i32_843 : BitVec 32 := 0#32
  let c0_i32_844 : BitVec 32 := 0#32
  ![v1192.toNat, v1190.toNat, 0, 0]
def k0_off41 (d0 : Dev nD) : Fin 4 → Nat :=
  let c2_i32_848 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1206 : BitVec 32 := Scalar.muli c2_i32_848 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1207 : BitVec 32 := Scalar.addi v1206 v10
  let c1_i32_847 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1205 : BitVec 32 := Scalar.subi c1_i32_847 v8
  let c0_i32_855 : BitVec 32 := 0#32
  let c0_i32_856 : BitVec 32 := 0#32
  ![v1207.toNat, v1205.toNat, 0, 0]
def k0_off42 (d0 : Dev nD) : Fin 4 → Nat :=
  let c2_i32_860 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1221 : BitVec 32 := Scalar.muli c2_i32_860 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1222 : BitVec 32 := Scalar.addi v1221 v12
  let c1_i32_859 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1220 : BitVec 32 := Scalar.subi c1_i32_859 v8
  let c0_i32_867 : BitVec 32 := 0#32
  let c0_i32_868 : BitVec 32 := 0#32
  ![v1222.toNat, v1220.toNat, 0, 0]
def k0_off43 (d0 : Dev nD) : Fin 4 → Nat :=
  let c2_i32_872 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1236 : BitVec 32 := Scalar.muli c2_i32_872 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1237 : BitVec 32 := Scalar.addi v1236 v5
  let c1_i32_871 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1235 : BitVec 32 := Scalar.subi c1_i32_871 v8
  let c0_i32_879 : BitVec 32 := 0#32
  let c0_i32_880 : BitVec 32 := 0#32
  ![v1237.toNat, v1235.toNat, 0, 0]
def k0_off44 (d0 : Dev nD) : Fin 4 → Nat :=
  let c2_i32_884 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1251 : BitVec 32 := Scalar.muli c2_i32_884 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1252 : BitVec 32 := Scalar.addi v1251 v10
  let c1_i32_883 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1250 : BitVec 32 := Scalar.subi c1_i32_883 v8
  let c0_i32_891 : BitVec 32 := 0#32
  let c0_i32_892 : BitVec 32 := 0#32
  ![v1252.toNat, v1250.toNat, 0, 0]
def k0_off45 (d0 : Dev nD) : Fin 4 → Nat :=
  let c2_i32_896 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1266 : BitVec 32 := Scalar.muli c2_i32_896 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1267 : BitVec 32 := Scalar.addi v1266 v12
  let c1_i32_895 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1265 : BitVec 32 := Scalar.subi c1_i32_895 v8
  let c0_i32_903 : BitVec 32 := 0#32
  let c0_i32_904 : BitVec 32 := 0#32
  ![v1267.toNat, v1265.toNat, 0, 0]
-- ==== GatherIdeal.lean ====
abbrev S2x512x768 : Shape := ⟨3, ![2, 512, 768]⟩
abbrev S2x128x1024 : Shape := ⟨3, ![2, 128, 1024]⟩
abbrev S2x1024x704 : Shape := ⟨3, ![2, 1024, 704]⟩
abbrev S2x704x1024 : Shape := ⟨3, ![2, 704, 1024]⟩
abbrev S2x512x2304 : Shape := ⟨3, ![2, 512, 2304]⟩
abbrev S4x2x512x768 : Shape := ⟨4, ![4, 2, 512, 768]⟩
abbrev S4x2x128x1024 : Shape := ⟨4, ![4, 2, 128, 1024]⟩
abbrev S4x2x1024x704 : Shape := ⟨4, ![4, 2, 1024, 704]⟩
abbrev S4x2x704x1024 : Shape := ⟨4, ![4, 2, 704, 1024]⟩
abbrev S4x2x512x2304 : Shape := ⟨4, ![4, 2, 512, 2304]⟩
abbrev S42 : Shape := ⟨1, ![42]⟩
abbrev S7 : Shape := ⟨1, ![7]⟩
abbrev S1 : Shape := ⟨1, ![1]⟩
abbrev S_ : Shape := ⟨0, ![]⟩
abbrev S1x2x512x768 : Shape := ⟨4, ![1, 2, 512, 768]⟩
abbrev S1x2x128x1024 : Shape := ⟨4, ![1, 2, 128, 1024]⟩
abbrev S1x2x1024x704 : Shape := ⟨4, ![1, 2, 1024, 704]⟩
abbrev S1x2x704x1024 : Shape := ⟨4, ![1, 2, 704, 1024]⟩
abbrev S1x2x512x2304 : Shape := ⟨4, ![1, 2, 512, 2304]⟩
abbrev S1x1x512x768 : Shape := ⟨4, ![1, 1, 512, 768]⟩
abbrev S512x768 : Shape := ⟨2, ![512, 768]⟩
abbrev S1x512x768 : Shape := ⟨3, ![1, 512, 768]⟩
abbrev S1x1x128x1024 : Shape := ⟨4, ![1, 1, 128, 1024]⟩
abbrev S128x1024 : Shape := ⟨2, ![128, 1024]⟩
abbrev S1x128x1024 : Shape := ⟨3, ![1, 128, 1024]⟩
abbrev S1x1x1024x704 : Shape := ⟨4, ![1, 1, 1024, 704]⟩
abbrev S1024x704 : Shape := ⟨2, ![1024, 704]⟩
abbrev S1x1024x704 : Shape := ⟨3, ![1, 1024, 704]⟩
abbrev S1x1x704x1024 : Shape := ⟨4, ![1, 1, 704, 1024]⟩
abbrev S704x1024 : Shape := ⟨2, ![704, 1024]⟩
abbrev S1x704x1024 : Shape := ⟨3, ![1, 704, 1024]⟩
abbrev S1x1x512x2304 : Shape := ⟨4, ![1, 1, 512, 2304]⟩
abbrev S512x2304 : Shape := ⟨2, ![512, 2304]⟩
abbrev S1x512x2304 : Shape := ⟨3, ![1, 512, 2304]⟩

abbrev nBuf : Space → Nat
  | .hbm => 14
  | .vmem => 0
  | .smem => 0
  | _ => 0

abbrev bufTy : (tb : Table) → Fin (tcTables nBuf tb) → BufTy
  | .hbm, ⟨0, _⟩ => ⟨S2x512x768, .bf16⟩
  | .hbm, ⟨1, _⟩ => ⟨S2x128x1024, .bf16⟩
  | .hbm, ⟨2, _⟩ => ⟨S2x1024x704, .bf16⟩
  | .hbm, ⟨3, _⟩ => ⟨S2x1024x704, .bf16⟩
  | .hbm, ⟨4, _⟩ => ⟨S2x704x1024, .bf16⟩
  | .hbm, ⟨5, _⟩ => ⟨S2x512x2304, .bf16⟩
  | .hbm, ⟨6, _⟩ => ⟨S2x128x1024, .bf16⟩
  | .hbm, ⟨7, _⟩ => ⟨S4x2x512x768, .bf16⟩
  | .hbm, ⟨8, _⟩ => ⟨S4x2x128x1024, .bf16⟩
  | .hbm, ⟨9, _⟩ => ⟨S4x2x1024x704, .bf16⟩
  | .hbm, ⟨10, _⟩ => ⟨S4x2x1024x704, .bf16⟩
  | .hbm, ⟨11, _⟩ => ⟨S4x2x704x1024, .bf16⟩
  | .hbm, ⟨12, _⟩ => ⟨S4x2x512x2304, .bf16⟩
  | .hbm, ⟨13, _⟩ => ⟨S4x2x128x1024, .bf16⟩
  | _, _ => ⟨S2x512x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 91 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | _ => false

abbrev sig : RefSig :=
  ofTc nBuf bufTy 0 91 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev main_v1_5 : Ref sig .tc := ⟨.hbm, 12, rfl⟩
abbrev main_v1_6 : Ref sig .tc := ⟨.hbm, 13, rfl⟩

abbrev nD : Nat := 8
abbrev τ : Topo := Topo.v7x

variable {F : FTy → Type} [FloatOps F]

abbrev grid0 : Pipeline.Grid := .none

def k0_off1 (d0 : Dev nD) : Fin 4 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_9 : BitVec 32 := 0#32
  let c0_i32_10 : BitVec 32 := 0#32
  let c0_i32_11 : BitVec 32 := 0#32
  ![v14.toNat, 0, 0, 0]
def k0_off2 (d0 : Dev nD) : Fin 4 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_13 : BitVec 32 := 0#32
  let c0_i32_14 : BitVec 32 := 0#32
  let c0_i32_15 : BitVec 32 := 0#32
  ![v14.toNat, 0, 0, 0]
def k0_off3 (d0 : Dev nD) : Fin 4 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_17 : BitVec 32 := 0#32
  let c0_i32_18 : BitVec 32 := 0#32
  let c0_i32_19 : BitVec 32 := 0#32
  ![v14.toNat, 0, 0, 0]
def k0_off4 (d0 : Dev nD) : Fin 4 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_24 : BitVec 32 := 0#32
  let c0_i32_25 : BitVec 32 := 0#32
  let c0_i32_26 : BitVec 32 := 0#32
  ![v14.toNat, 0, 0, 0]
def k0_off5 (d0 : Dev nD) : Fin 4 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_27 : BitVec 32 := 0#32
  let c0_i32_28 : BitVec 32 := 0#32
  let c0_i32_29 : BitVec 32 := 0#32
  ![v14.toNat, 0, 0, 0]
def k0_off6 (d0 : Dev nD) : Fin 4 → Nat :=
  let c2_i32_33 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v44 : BitVec 32 := Scalar.muli c2_i32_33 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v45 : BitVec 32 := Scalar.addi v44 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_60 : BitVec 32 := 0#32
  let c0_i32_61 : BitVec 32 := 0#32
  ![v45.toNat, v8.toNat, 0, 0]
def k0_off7 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_62 : BitVec 32 := 0#32
  let c0_i32_63 : BitVec 32 := 0#32
  ![v8.toNat, 0, 0]
def k0_dev1 (d0 : Dev nD) : Nat :=
  let c0_i32_57 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_56 : BitVec 32 := 4#32
  let v86 : BitVec 32 := Scalar.muli v9 c4_i32_56
  let v87 : BitVec 32 := Scalar.addi c0_i32_57 v86
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_58 : BitVec 32 := 2#32
  let v88 : BitVec 32 := Scalar.muli v5 c2_i32_58
  let v89 : BitVec 32 := Scalar.addi v87 v88
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_59 : BitVec 32 := 1#32
  let v90 : BitVec 32 := Scalar.muli v8 c1_i32_59
  let v91 : BitVec 32 := Scalar.addi v89 v90
  v91.toNat
def k0_dev2 (d0 : Dev nD) : Nat :=
  let c0_i32_67 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_66 : BitVec 32 := 4#32
  let v100 : BitVec 32 := Scalar.muli v2 c4_i32_66
  let v101 : BitVec 32 := Scalar.addi c0_i32_67 v100
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_68 : BitVec 32 := 2#32
  let v102 : BitVec 32 := Scalar.muli v10 c2_i32_68
  let v103 : BitVec 32 := Scalar.addi v101 v102
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_69 : BitVec 32 := 1#32
  let v104 : BitVec 32 := Scalar.muli v8 c1_i32_69
  let v105 : BitVec 32 := Scalar.addi v103 v104
  v105.toNat
def k0_dev3 (d0 : Dev nD) : Nat :=
  let c0_i32_77 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_76 : BitVec 32 := 4#32
  let v114 : BitVec 32 := Scalar.muli v11 c4_i32_76
  let v115 : BitVec 32 := Scalar.addi c0_i32_77 v114
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_78 : BitVec 32 := 2#32
  let v116 : BitVec 32 := Scalar.muli v12 c2_i32_78
  let v117 : BitVec 32 := Scalar.addi v115 v116
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_79 : BitVec 32 := 1#32
  let v118 : BitVec 32 := Scalar.muli v8 c1_i32_79
  let v119 : BitVec 32 := Scalar.addi v117 v118
  v119.toNat
def k0_off8 (d0 : Dev nD) : Fin 4 → Nat :=
  let c2_i32_36 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v50 : BitVec 32 := Scalar.muli c2_i32_36 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v51 : BitVec 32 := Scalar.addi v50 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_90 : BitVec 32 := 0#32
  let c0_i32_91 : BitVec 32 := 0#32
  ![v51.toNat, v8.toNat, 0, 0]
def k0_off9 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_92 : BitVec 32 := 0#32
  let c0_i32_93 : BitVec 32 := 0#32
  ![v8.toNat, 0, 0]
def k0_dev4 (d0 : Dev nD) : Nat :=
  let c0_i32_87 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_86 : BitVec 32 := 4#32
  let v128 : BitVec 32 := Scalar.muli v9 c4_i32_86
  let v129 : BitVec 32 := Scalar.addi c0_i32_87 v128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_88 : BitVec 32 := 2#32
  let v130 : BitVec 32 := Scalar.muli v5 c2_i32_88
  let v131 : BitVec 32 := Scalar.addi v129 v130
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_89 : BitVec 32 := 1#32
  let v132 : BitVec 32 := Scalar.muli v8 c1_i32_89
  let v133 : BitVec 32 := Scalar.addi v131 v132
  v133.toNat
def k0_dev5 (d0 : Dev nD) : Nat :=
  let c0_i32_96 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_95 : BitVec 32 := 4#32
  let v142 : BitVec 32 := Scalar.muli v2 c4_i32_95
  let v143 : BitVec 32 := Scalar.addi c0_i32_96 v142
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_97 : BitVec 32 := 2#32
  let v144 : BitVec 32 := Scalar.muli v10 c2_i32_97
  let v145 : BitVec 32 := Scalar.addi v143 v144
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_98 : BitVec 32 := 1#32
  let v146 : BitVec 32 := Scalar.muli v8 c1_i32_98
  let v147 : BitVec 32 := Scalar.addi v145 v146
  v147.toNat
def k0_dev6 (d0 : Dev nD) : Nat :=
  let c0_i32_105 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_104 : BitVec 32 := 4#32
  let v156 : BitVec 32 := Scalar.muli v11 c4_i32_104
  let v157 : BitVec 32 := Scalar.addi c0_i32_105 v156
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_106 : BitVec 32 := 2#32
  let v158 : BitVec 32 := Scalar.muli v12 c2_i32_106
  let v159 : BitVec 32 := Scalar.addi v157 v158
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_107 : BitVec 32 := 1#32
  let v160 : BitVec 32 := Scalar.muli v8 c1_i32_107
  let v161 : BitVec 32 := Scalar.addi v159 v160
  v161.toNat
def k0_off10 (d0 : Dev nD) : Fin 4 → Nat :=
  let c2_i32_39 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v56 : BitVec 32 := Scalar.muli c2_i32_39 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v57 : BitVec 32 := Scalar.addi v56 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_117 : BitVec 32 := 0#32
  let c0_i32_118 : BitVec 32 := 0#32
  ![v57.toNat, v8.toNat, 0, 0]
def k0_off11 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_119 : BitVec 32 := 0#32
  let c0_i32_120 : BitVec 32 := 0#32
  ![v8.toNat, 0, 0]
def k0_dev7 (d0 : Dev nD) : Nat :=
  let c0_i32_114 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_113 : BitVec 32 := 4#32
  let v170 : BitVec 32 := Scalar.muli v9 c4_i32_113
  let v171 : BitVec 32 := Scalar.addi c0_i32_114 v170
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_115 : BitVec 32 := 2#32
  let v172 : BitVec 32 := Scalar.muli v5 c2_i32_115
  let v173 : BitVec 32 := Scalar.addi v171 v172
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_116 : BitVec 32 := 1#32
  let v174 : BitVec 32 := Scalar.muli v8 c1_i32_116
  let v175 : BitVec 32 := Scalar.addi v173 v174
  v175.toNat
def k0_dev8 (d0 : Dev nD) : Nat :=
  let c0_i32_123 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_122 : BitVec 32 := 4#32
  let v184 : BitVec 32 := Scalar.muli v2 c4_i32_122
  let v185 : BitVec 32 := Scalar.addi c0_i32_123 v184
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_124 : BitVec 32 := 2#32
  let v186 : BitVec 32 := Scalar.muli v10 c2_i32_124
  let v187 : BitVec 32 := Scalar.addi v185 v186
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_125 : BitVec 32 := 1#32
  let v188 : BitVec 32 := Scalar.muli v8 c1_i32_125
  let v189 : BitVec 32 := Scalar.addi v187 v188
  v189.toNat
def k0_dev9 (d0 : Dev nD) : Nat :=
  let c0_i32_132 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_131 : BitVec 32 := 4#32
  let v198 : BitVec 32 := Scalar.muli v11 c4_i32_131
  let v199 : BitVec 32 := Scalar.addi c0_i32_132 v198
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_133 : BitVec 32 := 2#32
  let v200 : BitVec 32 := Scalar.muli v12 c2_i32_133
  let v201 : BitVec 32 := Scalar.addi v199 v200
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_134 : BitVec 32 := 1#32
  let v202 : BitVec 32 := Scalar.muli v8 c1_i32_134
  let v203 : BitVec 32 := Scalar.addi v201 v202
  v203.toNat
def k0_dev10 (d0 : Dev nD) : Nat :=
  let c0_i32_141 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_140 : BitVec 32 := 4#32
  let v212 : BitVec 32 := Scalar.muli v9 c4_i32_140
  let v213 : BitVec 32 := Scalar.addi c0_i32_141 v212
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_142 : BitVec 32 := 2#32
  let v214 : BitVec 32 := Scalar.muli v5 c2_i32_142
  let v215 : BitVec 32 := Scalar.addi v213 v214
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_143 : BitVec 32 := 1#32
  let v216 : BitVec 32 := Scalar.muli v8 c1_i32_143
  let v217 : BitVec 32 := Scalar.addi v215 v216
  v217.toNat
def k0_dev11 (d0 : Dev nD) : Nat :=
  let c0_i32_150 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_149 : BitVec 32 := 4#32
  let v226 : BitVec 32 := Scalar.muli v2 c4_i32_149
  let v227 : BitVec 32 := Scalar.addi c0_i32_150 v226
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_151 : BitVec 32 := 2#32
  let v228 : BitVec 32 := Scalar.muli v10 c2_i32_151
  let v229 : BitVec 32 := Scalar.addi v227 v228
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_152 : BitVec 32 := 1#32
  let v230 : BitVec 32 := Scalar.muli v8 c1_i32_152
  let v231 : BitVec 32 := Scalar.addi v229 v230
  v231.toNat
def k0_dev12 (d0 : Dev nD) : Nat :=
  let c0_i32_159 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_158 : BitVec 32 := 4#32
  let v240 : BitVec 32 := Scalar.muli v11 c4_i32_158
  let v241 : BitVec 32 := Scalar.addi c0_i32_159 v240
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_160 : BitVec 32 := 2#32
  let v242 : BitVec 32 := Scalar.muli v12 c2_i32_160
  let v243 : BitVec 32 := Scalar.addi v241 v242
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_161 : BitVec 32 := 1#32
  let v244 : BitVec 32 := Scalar.muli v8 c1_i32_161
  let v245 : BitVec 32 := Scalar.addi v243 v244
  v245.toNat
def k0_off12 (d0 : Dev nD) : Fin 4 → Nat :=
  let c2_i32_45 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v68 : BitVec 32 := Scalar.muli c2_i32_45 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v69 : BitVec 32 := Scalar.addi v68 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_171 : BitVec 32 := 0#32
  let c0_i32_172 : BitVec 32 := 0#32
  ![v69.toNat, v8.toNat, 0, 0]
def k0_off13 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_173 : BitVec 32 := 0#32
  let c0_i32_174 : BitVec 32 := 0#32
  ![v8.toNat, 0, 0]
def k0_dev13 (d0 : Dev nD) : Nat :=
  let c0_i32_168 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_167 : BitVec 32 := 4#32
  let v254 : BitVec 32 := Scalar.muli v9 c4_i32_167
  let v255 : BitVec 32 := Scalar.addi c0_i32_168 v254
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_169 : BitVec 32 := 2#32
  let v256 : BitVec 32 := Scalar.muli v5 c2_i32_169
  let v257 : BitVec 32 := Scalar.addi v255 v256
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_170 : BitVec 32 := 1#32
  let v258 : BitVec 32 := Scalar.muli v8 c1_i32_170
  let v259 : BitVec 32 := Scalar.addi v257 v258
  v259.toNat
def k0_dev14 (d0 : Dev nD) : Nat :=
  let c0_i32_177 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_176 : BitVec 32 := 4#32
  let v268 : BitVec 32 := Scalar.muli v2 c4_i32_176
  let v269 : BitVec 32 := Scalar.addi c0_i32_177 v268
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_178 : BitVec 32 := 2#32
  let v270 : BitVec 32 := Scalar.muli v10 c2_i32_178
  let v271 : BitVec 32 := Scalar.addi v269 v270
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_179 : BitVec 32 := 1#32
  let v272 : BitVec 32 := Scalar.muli v8 c1_i32_179
  let v273 : BitVec 32 := Scalar.addi v271 v272
  v273.toNat
def k0_dev15 (d0 : Dev nD) : Nat :=
  let c0_i32_186 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_185 : BitVec 32 := 4#32
  let v282 : BitVec 32 := Scalar.muli v11 c4_i32_185
  let v283 : BitVec 32 := Scalar.addi c0_i32_186 v282
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_187 : BitVec 32 := 2#32
  let v284 : BitVec 32 := Scalar.muli v12 c2_i32_187
  let v285 : BitVec 32 := Scalar.addi v283 v284
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_188 : BitVec 32 := 1#32
  let v286 : BitVec 32 := Scalar.muli v8 c1_i32_188
  let v287 : BitVec 32 := Scalar.addi v285 v286
  v287.toNat
def k0_off14 (d0 : Dev nD) : Fin 4 → Nat :=
  let c2_i32_48 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v74 : BitVec 32 := Scalar.muli c2_i32_48 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v75 : BitVec 32 := Scalar.addi v74 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_198 : BitVec 32 := 0#32
  let c0_i32_199 : BitVec 32 := 0#32
  ![v75.toNat, v8.toNat, 0, 0]
def k0_off15 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_200 : BitVec 32 := 0#32
  let c0_i32_201 : BitVec 32 := 0#32
  ![v8.toNat, 0, 0]
def k0_dev16 (d0 : Dev nD) : Nat :=
  let c0_i32_195 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_194 : BitVec 32 := 4#32
  let v296 : BitVec 32 := Scalar.muli v9 c4_i32_194
  let v297 : BitVec 32 := Scalar.addi c0_i32_195 v296
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_196 : BitVec 32 := 2#32
  let v298 : BitVec 32 := Scalar.muli v5 c2_i32_196
  let v299 : BitVec 32 := Scalar.addi v297 v298
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_197 : BitVec 32 := 1#32
  let v300 : BitVec 32 := Scalar.muli v8 c1_i32_197
  let v301 : BitVec 32 := Scalar.addi v299 v300
  v301.toNat
def k0_dev17 (d0 : Dev nD) : Nat :=
  let c0_i32_204 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_203 : BitVec 32 := 4#32
  let v310 : BitVec 32 := Scalar.muli v2 c4_i32_203
  let v311 : BitVec 32 := Scalar.addi c0_i32_204 v310
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_205 : BitVec 32 := 2#32
  let v312 : BitVec 32 := Scalar.muli v10 c2_i32_205
  let v313 : BitVec 32 := Scalar.addi v311 v312
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_206 : BitVec 32 := 1#32
  let v314 : BitVec 32 := Scalar.muli v8 c1_i32_206
  let v315 : BitVec 32 := Scalar.addi v313 v314
  v315.toNat
def k0_dev18 (d0 : Dev nD) : Nat :=
  let c0_i32_213 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_212 : BitVec 32 := 4#32
  let v324 : BitVec 32 := Scalar.muli v11 c4_i32_212
  let v325 : BitVec 32 := Scalar.addi c0_i32_213 v324
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_214 : BitVec 32 := 2#32
  let v326 : BitVec 32 := Scalar.muli v12 c2_i32_214
  let v327 : BitVec 32 := Scalar.addi v325 v326
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_215 : BitVec 32 := 1#32
  let v328 : BitVec 32 := Scalar.muli v8 c1_i32_215
  let v329 : BitVec 32 := Scalar.addi v327 v328
  v329.toNat
def k0_dev19 (d0 : Dev nD) : Nat :=
  let c0_i32_222 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_221 : BitVec 32 := 4#32
  let v338 : BitVec 32 := Scalar.muli v9 c4_i32_221
  let v339 : BitVec 32 := Scalar.addi c0_i32_222 v338
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_223 : BitVec 32 := 2#32
  let v340 : BitVec 32 := Scalar.muli v5 c2_i32_223
  let v341 : BitVec 32 := Scalar.addi v339 v340
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_224 : BitVec 32 := 1#32
  let v342 : BitVec 32 := Scalar.muli v8 c1_i32_224
  let v343 : BitVec 32 := Scalar.addi v341 v342
  v343.toNat
def k0_dev20 (d0 : Dev nD) : Nat :=
  let c0_i32_231 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_230 : BitVec 32 := 4#32
  let v352 : BitVec 32 := Scalar.muli v2 c4_i32_230
  let v353 : BitVec 32 := Scalar.addi c0_i32_231 v352
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_232 : BitVec 32 := 2#32
  let v354 : BitVec 32 := Scalar.muli v10 c2_i32_232
  let v355 : BitVec 32 := Scalar.addi v353 v354
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_233 : BitVec 32 := 1#32
  let v356 : BitVec 32 := Scalar.muli v8 c1_i32_233
  let v357 : BitVec 32 := Scalar.addi v355 v356
  v357.toNat
def k0_dev21 (d0 : Dev nD) : Nat :=
  let c0_i32_240 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_239 : BitVec 32 := 4#32
  let v366 : BitVec 32 := Scalar.muli v11 c4_i32_239
  let v367 : BitVec 32 := Scalar.addi c0_i32_240 v366
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_241 : BitVec 32 := 2#32
  let v368 : BitVec 32 := Scalar.muli v12 c2_i32_241
  let v369 : BitVec 32 := Scalar.addi v367 v368
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_242 : BitVec 32 := 1#32
  let v370 : BitVec 32 := Scalar.muli v8 c1_i32_242
  let v371 : BitVec 32 := Scalar.addi v369 v370
  v371.toNat
def k0_off16 (d0 : Dev nD) : Fin 4 → Nat :=
  let c2_i32_247 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v380 : BitVec 32 := Scalar.muli c2_i32_247 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v381 : BitVec 32 := Scalar.addi v380 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_254 : BitVec 32 := 0#32
  let c0_i32_255 : BitVec 32 := 0#32
  ![v381.toNat, v8.toNat, 0, 0]
def k0_dev22 (d0 : Dev nD) : Nat :=
  let c0_i32_262 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_261 : BitVec 32 := 4#32
  let v396 : BitVec 32 := Scalar.muli v2 c4_i32_261
  let v397 : BitVec 32 := Scalar.addi c0_i32_262 v396
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_263 : BitVec 32 := 2#32
  let v398 : BitVec 32 := Scalar.muli v5 c2_i32_263
  let v399 : BitVec 32 := Scalar.addi v397 v398
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_264 : BitVec 32 := 1#32
  let v400 : BitVec 32 := Scalar.muli v15 c1_i32_264
  let v401 : BitVec 32 := Scalar.addi v399 v400
  v401.toNat
def k0_off17 (d0 : Dev nD) : Fin 4 → Nat :=
  let c2_i32_269 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v410 : BitVec 32 := Scalar.muli c2_i32_269 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v411 : BitVec 32 := Scalar.addi v410 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_276 : BitVec 32 := 0#32
  let c0_i32_277 : BitVec 32 := 0#32
  ![v411.toNat, v8.toNat, 0, 0]
def k0_dev23 (d0 : Dev nD) : Nat :=
  let c0_i32_284 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_283 : BitVec 32 := 4#32
  let v426 : BitVec 32 := Scalar.muli v2 c4_i32_283
  let v427 : BitVec 32 := Scalar.addi c0_i32_284 v426
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_285 : BitVec 32 := 2#32
  let v428 : BitVec 32 := Scalar.muli v5 c2_i32_285
  let v429 : BitVec 32 := Scalar.addi v427 v428
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_286 : BitVec 32 := 1#32
  let v430 : BitVec 32 := Scalar.muli v15 c1_i32_286
  let v431 : BitVec 32 := Scalar.addi v429 v430
  v431.toNat
def k0_off18 (d0 : Dev nD) : Fin 4 → Nat :=
  let c2_i32_291 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v440 : BitVec 32 := Scalar.muli c2_i32_291 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v441 : BitVec 32 := Scalar.addi v440 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_298 : BitVec 32 := 0#32
  let c0_i32_299 : BitVec 32 := 0#32
  ![v441.toNat, v8.toNat, 0, 0]
def k0_dev24 (d0 : Dev nD) : Nat :=
  let c0_i32_306 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_305 : BitVec 32 := 4#32
  let v456 : BitVec 32 := Scalar.muli v2 c4_i32_305
  let v457 : BitVec 32 := Scalar.addi c0_i32_306 v456
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_307 : BitVec 32 := 2#32
  let v458 : BitVec 32 := Scalar.muli v5 c2_i32_307
  let v459 : BitVec 32 := Scalar.addi v457 v458
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_308 : BitVec 32 := 1#32
  let v460 : BitVec 32 := Scalar.muli v15 c1_i32_308
  let v461 : BitVec 32 := Scalar.addi v459 v460
  v461.toNat
def k0_off19 (d0 : Dev nD) : Fin 4 → Nat :=
  let c2_i32_313 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v470 : BitVec 32 := Scalar.muli c2_i32_313 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v471 : BitVec 32 := Scalar.addi v470 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_320 : BitVec 32 := 0#32
  let c0_i32_321 : BitVec 32 := 0#32
  ![v471.toNat, v8.toNat, 0, 0]
def k0_dev25 (d0 : Dev nD) : Nat :=
  let c0_i32_327 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_326 : BitVec 32 := 4#32
  let v486 : BitVec 32 := Scalar.muli v2 c4_i32_326
  let v487 : BitVec 32 := Scalar.addi c0_i32_327 v486
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_328 : BitVec 32 := 2#32
  let v488 : BitVec 32 := Scalar.muli v5 c2_i32_328
  let v489 : BitVec 32 := Scalar.addi v487 v488
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_329 : BitVec 32 := 1#32
  let v490 : BitVec 32 := Scalar.muli v15 c1_i32_329
  let v491 : BitVec 32 := Scalar.addi v489 v490
  v491.toNat
def k0_off20 (d0 : Dev nD) : Fin 4 → Nat :=
  let c2_i32_334 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v500 : BitVec 32 := Scalar.muli c2_i32_334 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v501 : BitVec 32 := Scalar.addi v500 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_341 : BitVec 32 := 0#32
  let c0_i32_342 : BitVec 32 := 0#32
  ![v501.toNat, v8.toNat, 0, 0]
def k0_dev26 (d0 : Dev nD) : Nat :=
  let c0_i32_348 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_347 : BitVec 32 := 4#32
  let v516 : BitVec 32 := Scalar.muli v2 c4_i32_347
  let v517 : BitVec 32 := Scalar.addi c0_i32_348 v516
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_349 : BitVec 32 := 2#32
  let v518 : BitVec 32 := Scalar.muli v5 c2_i32_349
  let v519 : BitVec 32 := Scalar.addi v517 v518
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_350 : BitVec 32 := 1#32
  let v520 : BitVec 32 := Scalar.muli v15 c1_i32_350
  let v521 : BitVec 32 := Scalar.addi v519 v520
  v521.toNat
def k0_off21 (d0 : Dev nD) : Fin 4 → Nat :=
  let c2_i32_355 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v530 : BitVec 32 := Scalar.muli c2_i32_355 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v531 : BitVec 32 := Scalar.addi v530 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_362 : BitVec 32 := 0#32
  let c0_i32_363 : BitVec 32 := 0#32
  ![v531.toNat, v8.toNat, 0, 0]
def k0_dev27 (d0 : Dev nD) : Nat :=
  let c0_i32_369 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_368 : BitVec 32 := 4#32
  let v546 : BitVec 32 := Scalar.muli v2 c4_i32_368
  let v547 : BitVec 32 := Scalar.addi c0_i32_369 v546
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_370 : BitVec 32 := 2#32
  let v548 : BitVec 32 := Scalar.muli v5 c2_i32_370
  let v549 : BitVec 32 := Scalar.addi v547 v548
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_371 : BitVec 32 := 1#32
  let v550 : BitVec 32 := Scalar.muli v15 c1_i32_371
  let v551 : BitVec 32 := Scalar.addi v549 v550
  v551.toNat
def k0_off22 (d0 : Dev nD) : Fin 4 → Nat :=
  let c2_i32_376 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v560 : BitVec 32 := Scalar.muli c2_i32_376 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v561 : BitVec 32 := Scalar.addi v560 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_383 : BitVec 32 := 0#32
  let c0_i32_384 : BitVec 32 := 0#32
  ![v561.toNat, v8.toNat, 0, 0]
def k0_dev28 (d0 : Dev nD) : Nat :=
  let c0_i32_390 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_389 : BitVec 32 := 4#32
  let v576 : BitVec 32 := Scalar.muli v2 c4_i32_389
  let v577 : BitVec 32 := Scalar.addi c0_i32_390 v576
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_391 : BitVec 32 := 2#32
  let v578 : BitVec 32 := Scalar.muli v5 c2_i32_391
  let v579 : BitVec 32 := Scalar.addi v577 v578
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_392 : BitVec 32 := 1#32
  let v580 : BitVec 32 := Scalar.muli v15 c1_i32_392
  let v581 : BitVec 32 := Scalar.addi v579 v580
  v581.toNat
def k0_off23 (d0 : Dev nD) : Fin 4 → Nat :=
  let c2_i32_397 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v590 : BitVec 32 := Scalar.muli c2_i32_397 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v591 : BitVec 32 := Scalar.addi v590 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_404 : BitVec 32 := 0#32
  let c0_i32_405 : BitVec 32 := 0#32
  ![v591.toNat, v8.toNat, 0, 0]
def k0_dev29 (d0 : Dev nD) : Nat :=
  let c0_i32_411 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_410 : BitVec 32 := 4#32
  let v606 : BitVec 32 := Scalar.muli v2 c4_i32_410
  let v607 : BitVec 32 := Scalar.addi c0_i32_411 v606
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_412 : BitVec 32 := 2#32
  let v608 : BitVec 32 := Scalar.muli v5 c2_i32_412
  let v609 : BitVec 32 := Scalar.addi v607 v608
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_413 : BitVec 32 := 1#32
  let v610 : BitVec 32 := Scalar.muli v15 c1_i32_413
  let v611 : BitVec 32 := Scalar.addi v609 v610
  v611.toNat
def k0_off24 (d0 : Dev nD) : Fin 4 → Nat :=
  let c2_i32_418 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v620 : BitVec 32 := Scalar.muli c2_i32_418 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v621 : BitVec 32 := Scalar.addi v620 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_425 : BitVec 32 := 0#32
  let c0_i32_426 : BitVec 32 := 0#32
  ![v621.toNat, v8.toNat, 0, 0]
def k0_dev30 (d0 : Dev nD) : Nat :=
  let c0_i32_432 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_431 : BitVec 32 := 4#32
  let v636 : BitVec 32 := Scalar.muli v2 c4_i32_431
  let v637 : BitVec 32 := Scalar.addi c0_i32_432 v636
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_433 : BitVec 32 := 2#32
  let v638 : BitVec 32 := Scalar.muli v5 c2_i32_433
  let v639 : BitVec 32 := Scalar.addi v637 v638
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_434 : BitVec 32 := 1#32
  let v640 : BitVec 32 := Scalar.muli v15 c1_i32_434
  let v641 : BitVec 32 := Scalar.addi v639 v640
  v641.toNat
def k0_dev31 (d0 : Dev nD) : Nat :=
  let c0_i32_453 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_452 : BitVec 32 := 4#32
  let v666 : BitVec 32 := Scalar.muli v2 c4_i32_452
  let v667 : BitVec 32 := Scalar.addi c0_i32_453 v666
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_454 : BitVec 32 := 2#32
  let v668 : BitVec 32 := Scalar.muli v5 c2_i32_454
  let v669 : BitVec 32 := Scalar.addi v667 v668
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_455 : BitVec 32 := 1#32
  let v670 : BitVec 32 := Scalar.muli v15 c1_i32_455
  let v671 : BitVec 32 := Scalar.addi v669 v670
  v671.toNat
def k0_dev32 (d0 : Dev nD) : Nat :=
  let c0_i32_474 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_473 : BitVec 32 := 4#32
  let v696 : BitVec 32 := Scalar.muli v2 c4_i32_473
  let v697 : BitVec 32 := Scalar.addi c0_i32_474 v696
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_475 : BitVec 32 := 2#32
  let v698 : BitVec 32 := Scalar.muli v5 c2_i32_475
  let v699 : BitVec 32 := Scalar.addi v697 v698
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_476 : BitVec 32 := 1#32
  let v700 : BitVec 32 := Scalar.muli v15 c1_i32_476
  let v701 : BitVec 32 := Scalar.addi v699 v700
  v701.toNat
def k0_dev33 (d0 : Dev nD) : Nat :=
  let c0_i32_495 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_494 : BitVec 32 := 4#32
  let v726 : BitVec 32 := Scalar.muli v2 c4_i32_494
  let v727 : BitVec 32 := Scalar.addi c0_i32_495 v726
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_496 : BitVec 32 := 2#32
  let v728 : BitVec 32 := Scalar.muli v5 c2_i32_496
  let v729 : BitVec 32 := Scalar.addi v727 v728
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_497 : BitVec 32 := 1#32
  let v730 : BitVec 32 := Scalar.muli v15 c1_i32_497
  let v731 : BitVec 32 := Scalar.addi v729 v730
  v731.toNat
def k0_off25 (d0 : Dev nD) : Fin 4 → Nat :=
  let c2_i32_502 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v740 : BitVec 32 := Scalar.muli c2_i32_502 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v741 : BitVec 32 := Scalar.addi v740 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_509 : BitVec 32 := 0#32
  let c0_i32_510 : BitVec 32 := 0#32
  ![v741.toNat, v8.toNat, 0, 0]
def k0_dev34 (d0 : Dev nD) : Nat :=
  let c0_i32_516 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_515 : BitVec 32 := 4#32
  let v756 : BitVec 32 := Scalar.muli v2 c4_i32_515
  let v757 : BitVec 32 := Scalar.addi c0_i32_516 v756
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_517 : BitVec 32 := 2#32
  let v758 : BitVec 32 := Scalar.muli v5 c2_i32_517
  let v759 : BitVec 32 := Scalar.addi v757 v758
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_518 : BitVec 32 := 1#32
  let v760 : BitVec 32 := Scalar.muli v15 c1_i32_518
  let v761 : BitVec 32 := Scalar.addi v759 v760
  v761.toNat
def k0_off26 (d0 : Dev nD) : Fin 4 → Nat :=
  let c2_i32_523 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v770 : BitVec 32 := Scalar.muli c2_i32_523 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v771 : BitVec 32 := Scalar.addi v770 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_530 : BitVec 32 := 0#32
  let c0_i32_531 : BitVec 32 := 0#32
  ![v771.toNat, v8.toNat, 0, 0]
def k0_dev35 (d0 : Dev nD) : Nat :=
  let c0_i32_537 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_536 : BitVec 32 := 4#32
  let v786 : BitVec 32 := Scalar.muli v2 c4_i32_536
  let v787 : BitVec 32 := Scalar.addi c0_i32_537 v786
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_538 : BitVec 32 := 2#32
  let v788 : BitVec 32 := Scalar.muli v5 c2_i32_538
  let v789 : BitVec 32 := Scalar.addi v787 v788
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_539 : BitVec 32 := 1#32
  let v790 : BitVec 32 := Scalar.muli v15 c1_i32_539
  let v791 : BitVec 32 := Scalar.addi v789 v790
  v791.toNat
def k0_off27 (d0 : Dev nD) : Fin 4 → Nat :=
  let c2_i32_544 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v800 : BitVec 32 := Scalar.muli c2_i32_544 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v801 : BitVec 32 := Scalar.addi v800 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_551 : BitVec 32 := 0#32
  let c0_i32_552 : BitVec 32 := 0#32
  ![v801.toNat, v8.toNat, 0, 0]
def k0_dev36 (d0 : Dev nD) : Nat :=
  let c0_i32_558 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_557 : BitVec 32 := 4#32
  let v816 : BitVec 32 := Scalar.muli v2 c4_i32_557
  let v817 : BitVec 32 := Scalar.addi c0_i32_558 v816
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_559 : BitVec 32 := 2#32
  let v818 : BitVec 32 := Scalar.muli v5 c2_i32_559
  let v819 : BitVec 32 := Scalar.addi v817 v818
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_560 : BitVec 32 := 1#32
  let v820 : BitVec 32 := Scalar.muli v15 c1_i32_560
  let v821 : BitVec 32 := Scalar.addi v819 v820
  v821.toNat
def k0_off28 (d0 : Dev nD) : Fin 4 → Nat :=
  let c2_i32_565 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v830 : BitVec 32 := Scalar.muli c2_i32_565 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v831 : BitVec 32 := Scalar.addi v830 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_572 : BitVec 32 := 0#32
  let c0_i32_573 : BitVec 32 := 0#32
  ![v831.toNat, v8.toNat, 0, 0]
def k0_dev37 (d0 : Dev nD) : Nat :=
  let c0_i32_579 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_578 : BitVec 32 := 4#32
  let v846 : BitVec 32 := Scalar.muli v2 c4_i32_578
  let v847 : BitVec 32 := Scalar.addi c0_i32_579 v846
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_580 : BitVec 32 := 2#32
  let v848 : BitVec 32 := Scalar.muli v5 c2_i32_580
  let v849 : BitVec 32 := Scalar.addi v847 v848
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_581 : BitVec 32 := 1#32
  let v850 : BitVec 32 := Scalar.muli v15 c1_i32_581
  let v851 : BitVec 32 := Scalar.addi v849 v850
  v851.toNat
def k0_off29 (d0 : Dev nD) : Fin 4 → Nat :=
  let c2_i32_586 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v860 : BitVec 32 := Scalar.muli c2_i32_586 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v861 : BitVec 32 := Scalar.addi v860 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_593 : BitVec 32 := 0#32
  let c0_i32_594 : BitVec 32 := 0#32
  ![v861.toNat, v8.toNat, 0, 0]
def k0_dev38 (d0 : Dev nD) : Nat :=
  let c0_i32_600 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_599 : BitVec 32 := 4#32
  let v876 : BitVec 32 := Scalar.muli v2 c4_i32_599
  let v877 : BitVec 32 := Scalar.addi c0_i32_600 v876
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_601 : BitVec 32 := 2#32
  let v878 : BitVec 32 := Scalar.muli v5 c2_i32_601
  let v879 : BitVec 32 := Scalar.addi v877 v878
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_602 : BitVec 32 := 1#32
  let v880 : BitVec 32 := Scalar.muli v15 c1_i32_602
  let v881 : BitVec 32 := Scalar.addi v879 v880
  v881.toNat
def k0_off30 (d0 : Dev nD) : Fin 4 → Nat :=
  let c2_i32_607 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v890 : BitVec 32 := Scalar.muli c2_i32_607 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v891 : BitVec 32 := Scalar.addi v890 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_614 : BitVec 32 := 0#32
  let c0_i32_615 : BitVec 32 := 0#32
  ![v891.toNat, v8.toNat, 0, 0]
def k0_dev39 (d0 : Dev nD) : Nat :=
  let c0_i32_621 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_620 : BitVec 32 := 4#32
  let v906 : BitVec 32 := Scalar.muli v2 c4_i32_620
  let v907 : BitVec 32 := Scalar.addi c0_i32_621 v906
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_622 : BitVec 32 := 2#32
  let v908 : BitVec 32 := Scalar.muli v5 c2_i32_622
  let v909 : BitVec 32 := Scalar.addi v907 v908
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_623 : BitVec 32 := 1#32
  let v910 : BitVec 32 := Scalar.muli v15 c1_i32_623
  let v911 : BitVec 32 := Scalar.addi v909 v910
  v911.toNat
def k0_dev40 (d0 : Dev nD) : Nat :=
  let c0_i32_642 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_641 : BitVec 32 := 4#32
  let v936 : BitVec 32 := Scalar.muli v2 c4_i32_641
  let v937 : BitVec 32 := Scalar.addi c0_i32_642 v936
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_643 : BitVec 32 := 2#32
  let v938 : BitVec 32 := Scalar.muli v5 c2_i32_643
  let v939 : BitVec 32 := Scalar.addi v937 v938
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_644 : BitVec 32 := 1#32
  let v940 : BitVec 32 := Scalar.muli v15 c1_i32_644
  let v941 : BitVec 32 := Scalar.addi v939 v940
  v941.toNat
def k0_dev41 (d0 : Dev nD) : Nat :=
  let c0_i32_663 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_662 : BitVec 32 := 4#32
  let v966 : BitVec 32 := Scalar.muli v2 c4_i32_662
  let v967 : BitVec 32 := Scalar.addi c0_i32_663 v966
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_664 : BitVec 32 := 2#32
  let v968 : BitVec 32 := Scalar.muli v5 c2_i32_664
  let v969 : BitVec 32 := Scalar.addi v967 v968
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_665 : BitVec 32 := 1#32
  let v970 : BitVec 32 := Scalar.muli v15 c1_i32_665
  let v971 : BitVec 32 := Scalar.addi v969 v970
  v971.toNat
def k0_dev42 (d0 : Dev nD) : Nat :=
  let c0_i32_684 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_683 : BitVec 32 := 4#32
  let v996 : BitVec 32 := Scalar.muli v2 c4_i32_683
  let v997 : BitVec 32 := Scalar.addi c0_i32_684 v996
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_685 : BitVec 32 := 2#32
  let v998 : BitVec 32 := Scalar.muli v5 c2_i32_685
  let v999 : BitVec 32 := Scalar.addi v997 v998
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_686 : BitVec 32 := 1#32
  let v1000 : BitVec 32 := Scalar.muli v15 c1_i32_686
  let v1001 : BitVec 32 := Scalar.addi v999 v1000
  v1001.toNat
def k0_off31 (d0 : Dev nD) : Fin 4 → Nat :=
  let c2_i32_692 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1011 : BitVec 32 := Scalar.muli c2_i32_692 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1012 : BitVec 32 := Scalar.addi v1011 v5
  let c1_i32_691 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1010 : BitVec 32 := Scalar.subi c1_i32_691 v8
  let c0_i32_699 : BitVec 32 := 0#32
  let c0_i32_700 : BitVec 32 := 0#32
  ![v1012.toNat, v1010.toNat, 0, 0]
def k0_off32 (d0 : Dev nD) : Fin 4 → Nat :=
  let c2_i32_704 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1026 : BitVec 32 := Scalar.muli c2_i32_704 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1027 : BitVec 32 := Scalar.addi v1026 v10
  let c1_i32_703 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1025 : BitVec 32 := Scalar.subi c1_i32_703 v8
  let c0_i32_711 : BitVec 32 := 0#32
  let c0_i32_712 : BitVec 32 := 0#32
  ![v1027.toNat, v1025.toNat, 0, 0]
def k0_off33 (d0 : Dev nD) : Fin 4 → Nat :=
  let c2_i32_716 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1041 : BitVec 32 := Scalar.muli c2_i32_716 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1042 : BitVec 32 := Scalar.addi v1041 v12
  let c1_i32_715 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1040 : BitVec 32 := Scalar.subi c1_i32_715 v8
  let c0_i32_723 : BitVec 32 := 0#32
  let c0_i32_724 : BitVec 32 := 0#32
  ![v1042.toNat, v1040.toNat, 0, 0]
def k0_off34 (d0 : Dev nD) : Fin 4 → Nat :=
  let c2_i32_728 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1056 : BitVec 32 := Scalar.muli c2_i32_728 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1057 : BitVec 32 := Scalar.addi v1056 v5
  let c1_i32_727 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1055 : BitVec 32 := Scalar.subi c1_i32_727 v8
  let c0_i32_735 : BitVec 32 := 0#32
  let c0_i32_736 : BitVec 32 := 0#32
  ![v1057.toNat, v1055.toNat, 0, 0]
def k0_off35 (d0 : Dev nD) : Fin 4 → Nat :=
  let c2_i32_740 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1071 : BitVec 32 := Scalar.muli c2_i32_740 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1072 : BitVec 32 := Scalar.addi v1071 v10
  let c1_i32_739 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1070 : BitVec 32 := Scalar.subi c1_i32_739 v8
  let c0_i32_747 : BitVec 32 := 0#32
  let c0_i32_748 : BitVec 32 := 0#32
  ![v1072.toNat, v1070.toNat, 0, 0]
def k0_off36 (d0 : Dev nD) : Fin 4 → Nat :=
  let c2_i32_752 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1086 : BitVec 32 := Scalar.muli c2_i32_752 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1087 : BitVec 32 := Scalar.addi v1086 v12
  let c1_i32_751 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1085 : BitVec 32 := Scalar.subi c1_i32_751 v8
  let c0_i32_759 : BitVec 32 := 0#32
  let c0_i32_760 : BitVec 32 := 0#32
  ![v1087.toNat, v1085.toNat, 0, 0]
def k0_off37 (d0 : Dev nD) : Fin 4 → Nat :=
  let c2_i32_764 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1101 : BitVec 32 := Scalar.muli c2_i32_764 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1102 : BitVec 32 := Scalar.addi v1101 v5
  let c1_i32_763 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1100 : BitVec 32 := Scalar.subi c1_i32_763 v8
  let c0_i32_771 : BitVec 32 := 0#32
  let c0_i32_772 : BitVec 32 := 0#32
  ![v1102.toNat, v1100.toNat, 0, 0]
def k0_off38 (d0 : Dev nD) : Fin 4 → Nat :=
  let c2_i32_776 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1116 : BitVec 32 := Scalar.muli c2_i32_776 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1117 : BitVec 32 := Scalar.addi v1116 v10
  let c1_i32_775 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1115 : BitVec 32 := Scalar.subi c1_i32_775 v8
  let c0_i32_783 : BitVec 32 := 0#32
  let c0_i32_784 : BitVec 32 := 0#32
  ![v1117.toNat, v1115.toNat, 0, 0]
def k0_off39 (d0 : Dev nD) : Fin 4 → Nat :=
  let c2_i32_788 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1131 : BitVec 32 := Scalar.muli c2_i32_788 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1132 : BitVec 32 := Scalar.addi v1131 v12
  let c1_i32_787 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1130 : BitVec 32 := Scalar.subi c1_i32_787 v8
  let c0_i32_795 : BitVec 32 := 0#32
  let c0_i32_796 : BitVec 32 := 0#32
  ![v1132.toNat, v1130.toNat, 0, 0]
def k0_off40 (d0 : Dev nD) : Fin 4 → Nat :=
  let c2_i32_836 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1191 : BitVec 32 := Scalar.muli c2_i32_836 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1192 : BitVec 32 := Scalar.addi v1191 v5
  let c1_i32_835 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1190 : BitVec 32 := Scalar.subi c1_i32_835 v8
  let c0_i32_843 : BitVec 32 := 0#32
  let c0_i32_844 : BitVec 32 := 0#32
  ![v1192.toNat, v1190.toNat, 0, 0]
def k0_off41 (d0 : Dev nD) : Fin 4 → Nat :=
  let c2_i32_848 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1206 : BitVec 32 := Scalar.muli c2_i32_848 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1207 : BitVec 32 := Scalar.addi v1206 v10
  let c1_i32_847 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1205 : BitVec 32 := Scalar.subi c1_i32_847 v8
  let c0_i32_855 : BitVec 32 := 0#32
  let c0_i32_856 : BitVec 32 := 0#32
  ![v1207.toNat, v1205.toNat, 0, 0]
def k0_off42 (d0 : Dev nD) : Fin 4 → Nat :=
  let c2_i32_860 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1221 : BitVec 32 := Scalar.muli c2_i32_860 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1222 : BitVec 32 := Scalar.addi v1221 v12
  let c1_i32_859 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1220 : BitVec 32 := Scalar.subi c1_i32_859 v8
  let c0_i32_867 : BitVec 32 := 0#32
  let c0_i32_868 : BitVec 32 := 0#32
  ![v1222.toNat, v1220.toNat, 0, 0]
def k0_off43 (d0 : Dev nD) : Fin 4 → Nat :=
  let c2_i32_872 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1236 : BitVec 32 := Scalar.muli c2_i32_872 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1237 : BitVec 32 := Scalar.addi v1236 v5
  let c1_i32_871 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1235 : BitVec 32 := Scalar.subi c1_i32_871 v8
  let c0_i32_879 : BitVec 32 := 0#32
  let c0_i32_880 : BitVec 32 := 0#32
  ![v1237.toNat, v1235.toNat, 0, 0]
def k0_off44 (d0 : Dev nD) : Fin 4 → Nat :=
  let c2_i32_884 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1251 : BitVec 32 := Scalar.muli c2_i32_884 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1252 : BitVec 32 := Scalar.addi v1251 v10
  let c1_i32_883 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1250 : BitVec 32 := Scalar.subi c1_i32_883 v8
  let c0_i32_891 : BitVec 32 := 0#32
  let c0_i32_892 : BitVec 32 := 0#32
  ![v1252.toNat, v1250.toNat, 0, 0]
def k0_off45 (d0 : Dev nD) : Fin 4 → Nat :=
  let c2_i32_896 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1266 : BitVec 32 := Scalar.muli c2_i32_896 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1267 : BitVec 32 := Scalar.addi v1266 v12
  let c1_i32_895 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1265 : BitVec 32 := Scalar.subi c1_i32_895 v8
  let c0_i32_903 : BitVec 32 := 0#32
  let c0_i32_904 : BitVec 32 := 0#32
  ![v1267.toNat, v1265.toNat, 0, 0]
-- ==== GatherReference.lean ====
abbrev S8x512x768 : Shape := ⟨3, ![8, 512, 768]⟩
abbrev S8x128x1024 : Shape := ⟨3, ![8, 128, 1024]⟩
abbrev S8x1024x704 : Shape := ⟨3, ![8, 1024, 704]⟩
abbrev S8x704x1024 : Shape := ⟨3, ![8, 704, 1024]⟩
abbrev S8x512x2304 : Shape := ⟨3, ![8, 512, 2304]⟩
abbrev S4x2x512x768 : Shape := ⟨4, ![4, 2, 512, 768]⟩
abbrev S4x2x128x1024 : Shape := ⟨4, ![4, 2, 128, 1024]⟩
abbrev S4x2x1024x704 : Shape := ⟨4, ![4, 2, 1024, 704]⟩
abbrev S4x2x704x1024 : Shape := ⟨4, ![4, 2, 704, 1024]⟩
abbrev S4x2x512x2304 : Shape := ⟨4, ![4, 2, 512, 2304]⟩

abbrev nBuf : Space → Nat
  | .hbm => 14
  | .vmem => 0
  | .smem => 0
  | _ => 0

abbrev bufTy : (tb : Table) → Fin (tcTables nBuf tb) → BufTy
  | .hbm, ⟨0, _⟩ => ⟨S8x512x768, .bf16⟩
  | .hbm, ⟨1, _⟩ => ⟨S8x128x1024, .bf16⟩
  | .hbm, ⟨2, _⟩ => ⟨S8x1024x704, .bf16⟩
  | .hbm, ⟨3, _⟩ => ⟨S8x1024x704, .bf16⟩
  | .hbm, ⟨4, _⟩ => ⟨S8x704x1024, .bf16⟩
  | .hbm, ⟨5, _⟩ => ⟨S8x512x2304, .bf16⟩
  | .hbm, ⟨6, _⟩ => ⟨S8x128x1024, .bf16⟩
  | .hbm, ⟨7, _⟩ => ⟨S4x2x512x768, .bf16⟩
  | .hbm, ⟨8, _⟩ => ⟨S4x2x128x1024, .bf16⟩
  | .hbm, ⟨9, _⟩ => ⟨S4x2x1024x704, .bf16⟩
  | .hbm, ⟨10, _⟩ => ⟨S4x2x1024x704, .bf16⟩
  | .hbm, ⟨11, _⟩ => ⟨S4x2x704x1024, .bf16⟩
  | .hbm, ⟨12, _⟩ => ⟨S4x2x512x2304, .bf16⟩
  | .hbm, ⟨13, _⟩ => ⟨S4x2x128x1024, .bf16⟩
  | _, _ => ⟨S8x512x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩

abbrev nD : Nat := 1
abbrev τ : Topo := Topo.v7x

variable {F : FTy → Type} [FloatOps F]
-- ==== PairExchange.lean ====
abbrev S4x2x512x768 : Shape := ⟨4, ![4, 2, 512, 768]⟩
abbrev S4x2x128x1024 : Shape := ⟨4, ![4, 2, 128, 1024]⟩
abbrev S4x2x1024x704 : Shape := ⟨4, ![4, 2, 1024, 704]⟩
abbrev S4x2x704x1024 : Shape := ⟨4, ![4, 2, 704, 1024]⟩
abbrev S4x2x512x2304 : Shape := ⟨4, ![4, 2, 512, 2304]⟩
abbrev S4x512x768 : Shape := ⟨3, ![4, 512, 768]⟩
abbrev S4x128x1024 : Shape := ⟨3, ![4, 128, 1024]⟩
abbrev S4x1024x704 : Shape := ⟨3, ![4, 1024, 704]⟩
abbrev S4x704x1024 : Shape := ⟨3, ![4, 704, 1024]⟩
abbrev S4x512x2304 : Shape := ⟨3, ![4, 512, 2304]⟩
abbrev S7 : Shape := ⟨1, ![7]⟩
abbrev S1 : Shape := ⟨1, ![1]⟩
abbrev S_ : Shape := ⟨0, ![]⟩
abbrev S4x1x512x768 : Shape := ⟨4, ![4, 1, 512, 768]⟩
abbrev S4x1x128x1024 : Shape := ⟨4, ![4, 1, 128, 1024]⟩
abbrev S4x1x1024x704 : Shape := ⟨4, ![4, 1, 1024, 704]⟩
abbrev S4x1x704x1024 : Shape := ⟨4, ![4, 1, 704, 1024]⟩
abbrev S4x1x512x2304 : Shape := ⟨4, ![4, 1, 512, 2304]⟩

abbrev nBuf : Space → Nat
  | .hbm => 21
  | .vmem => 0
  | .smem => 0
  | _ => 0

abbrev bufTy : (tb : Table) → Fin (tcTables nBuf tb) → BufTy
  | .hbm, ⟨0, _⟩ => ⟨S4x2x512x768, .bf16⟩
  | .hbm, ⟨1, _⟩ => ⟨S4x2x128x1024, .bf16⟩
  | .hbm, ⟨2, _⟩ => ⟨S4x2x1024x704, .bf16⟩
  | .hbm, ⟨3, _⟩ => ⟨S4x2x1024x704, .bf16⟩
  | .hbm, ⟨4, _⟩ => ⟨S4x2x704x1024, .bf16⟩
  | .hbm, ⟨5, _⟩ => ⟨S4x2x512x2304, .bf16⟩
  | .hbm, ⟨6, _⟩ => ⟨S4x2x128x1024, .bf16⟩
  | .hbm, ⟨7, _⟩ => ⟨S4x512x768, .bf16⟩
  | .hbm, ⟨8, _⟩ => ⟨S4x128x1024, .bf16⟩
  | .hbm, ⟨9, _⟩ => ⟨S4x1024x704, .bf16⟩
  | .hbm, ⟨10, _⟩ => ⟨S4x1024x704, .bf16⟩
  | .hbm, ⟨11, _⟩ => ⟨S4x704x1024, .bf16⟩
  | .hbm, ⟨12, _⟩ => ⟨S4x512x2304, .bf16⟩
  | .hbm, ⟨13, _⟩ => ⟨S4x128x1024, .bf16⟩
  | .hbm, ⟨14, _⟩ => ⟨S4x512x768, .bf16⟩
  | .hbm, ⟨15, _⟩ => ⟨S4x128x1024, .bf16⟩
  | .hbm, ⟨16, _⟩ => ⟨S4x1024x704, .bf16⟩
  | .hbm, ⟨17, _⟩ => ⟨S4x1024x704, .bf16⟩
  | .hbm, ⟨18, _⟩ => ⟨S4x704x1024, .bf16⟩
  | .hbm, ⟨19, _⟩ => ⟨S4x512x2304, .bf16⟩
  | .hbm, ⟨20, _⟩ => ⟨S4x128x1024, .bf16⟩
  | _, _ => ⟨S4x2x512x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev main_v1_5 : Ref sig .tc := ⟨.hbm, 12, rfl⟩
abbrev main_v1_6 : Ref sig .tc := ⟨.hbm, 13, rfl⟩
abbrev main_v1_7 : Ref sig .tc := ⟨.hbm, 14, rfl⟩
abbrev main_v1_8 : Ref sig .tc := ⟨.hbm, 15, rfl⟩
abbrev main_v1_9 : Ref sig .tc := ⟨.hbm, 16, rfl⟩
abbrev main_v1_10 : Ref sig .tc := ⟨.hbm, 17, rfl⟩
abbrev main_v1_11 : Ref sig .tc := ⟨.hbm, 18, rfl⟩
abbrev main_v1_12 : Ref sig .tc := ⟨.hbm, 19, rfl⟩
abbrev main_v1_13 : Ref sig .tc := ⟨.hbm, 20, rfl⟩

abbrev nD : Nat := 8
abbrev τ : Topo := Topo.v7x

variable {F : FTy → Type} [FloatOps F]

abbrev grid0 : Pipeline.Grid := .none

def k0_off1 (d0 : Dev nD) : Fin 4 → Nat :=
  let c0_i32_22 : BitVec 32 := 0#32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c0_i32_23 : BitVec 32 := 0#32
  let c0_i32_24 : BitVec 32 := 0#32
  ![0, v9.toNat, 0, 0]
def k0_dev1 (d0 : Dev nD) : Nat :=
  let c0_i32_19 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_18 : BitVec 32 := 4#32
  let v23 : BitVec 32 := Scalar.muli v2 c4_i32_18
  let v24 : BitVec 32 := Scalar.addi c0_i32_19 v23
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_20 : BitVec 32 := 2#32
  let v25 : BitVec 32 := Scalar.muli v5 c2_i32_20
  let v26 : BitVec 32 := Scalar.addi v24 v25
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_21 : BitVec 32 := 1#32
  let v27 : BitVec 32 := Scalar.muli v10 c1_i32_21
  let v28 : BitVec 32 := Scalar.addi v26 v27
  v28.toNat
def k0_off2 (d0 : Dev nD) : Fin 4 → Nat :=
  let c0_i32_31 : BitVec 32 := 0#32
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c0_i32_32 : BitVec 32 := 0#32
  let c0_i32_33 : BitVec 32 := 0#32
  ![0, v11.toNat, 0, 0]
def k0_dev2 (d0 : Dev nD) : Nat :=
  let c0_i32_28 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_27 : BitVec 32 := 4#32
  let v35 : BitVec 32 := Scalar.muli v2 c4_i32_27
  let v36 : BitVec 32 := Scalar.addi c0_i32_28 v35
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_29 : BitVec 32 := 2#32
  let v37 : BitVec 32 := Scalar.muli v5 c2_i32_29
  let v38 : BitVec 32 := Scalar.addi v36 v37
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_6 v8
  let c1_i32_30 : BitVec 32 := 1#32
  let v39 : BitVec 32 := Scalar.muli v12 c1_i32_30
  let v40 : BitVec 32 := Scalar.addi v38 v39
  v40.toNat
def k0_off3 (d0 : Dev nD) : Fin 4 → Nat :=
  let c0_i32_40 : BitVec 32 := 0#32
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c0_i32_41 : BitVec 32 := 0#32
  let c0_i32_42 : BitVec 32 := 0#32
  ![0, v13.toNat, 0, 0]
def k0_dev3 (d0 : Dev nD) : Nat :=
  let c0_i32_37 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_36 : BitVec 32 := 4#32
  let v47 : BitVec 32 := Scalar.muli v2 c4_i32_36
  let v48 : BitVec 32 := Scalar.addi c0_i32_37 v47
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_38 : BitVec 32 := 2#32
  let v49 : BitVec 32 := Scalar.muli v5 c2_i32_38
  let v50 : BitVec 32 := Scalar.addi v48 v49
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_8 v8
  let c1_i32_39 : BitVec 32 := 1#32
  let v51 : BitVec 32 := Scalar.muli v14 c1_i32_39
  let v52 : BitVec 32 := Scalar.addi v50 v51
  v52.toNat
def k0_dev4 (d0 : Dev nD) : Nat :=
  let c0_i32_45 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_44 : BitVec 32 := 4#32
  let v59 : BitVec 32 := Scalar.muli v2 c4_i32_44
  let v60 : BitVec 32 := Scalar.addi c0_i32_45 v59
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_46 : BitVec 32 := 2#32
  let v61 : BitVec 32 := Scalar.muli v5 c2_i32_46
  let v62 : BitVec 32 := Scalar.addi v60 v61
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.subi c1_i32_10 v8
  let c1_i32_47 : BitVec 32 := 1#32
  let v63 : BitVec 32 := Scalar.muli v16 c1_i32_47
  let v64 : BitVec 32 := Scalar.addi v62 v63
  v64.toNat
def k0_off4 (d0 : Dev nD) : Fin 4 → Nat :=
  let c0_i32_57 : BitVec 32 := 0#32
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_11 v8
  let c0_i32_58 : BitVec 32 := 0#32
  let c0_i32_59 : BitVec 32 := 0#32
  ![0, v17.toNat, 0, 0]
def k0_dev5 (d0 : Dev nD) : Nat :=
  let c0_i32_54 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_53 : BitVec 32 := 4#32
  let v71 : BitVec 32 := Scalar.muli v2 c4_i32_53
  let v72 : BitVec 32 := Scalar.addi c0_i32_54 v71
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_55 : BitVec 32 := 2#32
  let v73 : BitVec 32 := Scalar.muli v5 c2_i32_55
  let v74 : BitVec 32 := Scalar.addi v72 v73
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_12 v8
  let c1_i32_56 : BitVec 32 := 1#32
  let v75 : BitVec 32 := Scalar.muli v18 c1_i32_56
  let v76 : BitVec 32 := Scalar.addi v74 v75
  v76.toNat
def k0_off5 (d0 : Dev nD) : Fin 4 → Nat :=
  let c0_i32_65 : BitVec 32 := 0#32
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_13 v8
  let c0_i32_66 : BitVec 32 := 0#32
  let c0_i32_67 : BitVec 32 := 0#32
  ![0, v19.toNat, 0, 0]
def k0_dev6 (d0 : Dev nD) : Nat :=
  let c0_i32_62 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_61 : BitVec 32 := 4#32
  let v83 : BitVec 32 := Scalar.muli v2 c4_i32_61
  let v84 : BitVec 32 := Scalar.addi c0_i32_62 v83
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_63 : BitVec 32 := 2#32
  let v85 : BitVec 32 := Scalar.muli v5 c2_i32_63
  let v86 : BitVec 32 := Scalar.addi v84 v85
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_14 v8
  let c1_i32_64 : BitVec 32 := 1#32
  let v87 : BitVec 32 := Scalar.muli v20 c1_i32_64
  let v88 : BitVec 32 := Scalar.addi v86 v87
  v88.toNat
def k0_dev7 (d0 : Dev nD) : Nat :=
  let c0_i32_70 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_69 : BitVec 32 := 4#32
  let v95 : BitVec 32 := Scalar.muli v2 c4_i32_69
  let v96 : BitVec 32 := Scalar.addi c0_i32_70 v95
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_71 : BitVec 32 := 2#32
  let v97 : BitVec 32 := Scalar.muli v5 c2_i32_71
  let v98 : BitVec 32 := Scalar.addi v96 v97
  let c1_i32_16 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_16 v8
  let c1_i32_72 : BitVec 32 := 1#32
  let v99 : BitVec 32 := Scalar.muli v22 c1_i32_72
  let v100 : BitVec 32 := Scalar.addi v98 v99
  v100.toNat
def k0_off6 (d0 : Dev nD) : Fin 4 → Nat :=
  let c0_i32_77 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_78 : BitVec 32 := 0#32
  let c0_i32_79 : BitVec 32 := 0#32
  ![0, v8.toNat, 0, 0]
def k0_off7 (d0 : Dev nD) : Fin 4 → Nat :=
  let c0_i32_81 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_82 : BitVec 32 := 0#32
  let c0_i32_83 : BitVec 32 := 0#32
  ![0, v8.toNat, 0, 0]
def k0_off8 (d0 : Dev nD) : Fin 4 → Nat :=
  let c0_i32_85 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_86 : BitVec 32 := 0#32
  let c0_i32_87 : BitVec 32 := 0#32
  ![0, v8.toNat, 0, 0]
def k0_off9 (d0 : Dev nD) : Fin 4 → Nat :=
  let c0_i32_93 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_94 : BitVec 32 := 0#32
  let c0_i32_95 : BitVec 32 := 0#32
  ![0, v8.toNat, 0, 0]
def k0_off10 (d0 : Dev nD) : Fin 4 → Nat :=
  let c0_i32_97 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_98 : BitVec 32 := 0#32
  let c0_i32_99 : BitVec 32 := 0#32
  ![0, v8.toNat, 0, 0]
-- ==== PairExchangeIdeal.lean ====
abbrev S4x2x512x768 : Shape := ⟨4, ![4, 2, 512, 768]⟩
abbrev S4x2x128x1024 : Shape := ⟨4, ![4, 2, 128, 1024]⟩
abbrev S4x2x1024x704 : Shape := ⟨4, ![4, 2, 1024, 704]⟩
abbrev S4x2x704x1024 : Shape := ⟨4, ![4, 2, 704, 1024]⟩
abbrev S4x2x512x2304 : Shape := ⟨4, ![4, 2, 512, 2304]⟩
abbrev S4x512x768 : Shape := ⟨3, ![4, 512, 768]⟩
abbrev S4x128x1024 : Shape := ⟨3, ![4, 128, 1024]⟩
abbrev S4x1024x704 : Shape := ⟨3, ![4, 1024, 704]⟩
abbrev S4x704x1024 : Shape := ⟨3, ![4, 704, 1024]⟩
abbrev S4x512x2304 : Shape := ⟨3, ![4, 512, 2304]⟩
abbrev S7 : Shape := ⟨1, ![7]⟩
abbrev S1 : Shape := ⟨1, ![1]⟩
abbrev S_ : Shape := ⟨0, ![]⟩
abbrev S4x1x512x768 : Shape := ⟨4, ![4, 1, 512, 768]⟩
abbrev S4x1x128x1024 : Shape := ⟨4, ![4, 1, 128, 1024]⟩
abbrev S4x1x1024x704 : Shape := ⟨4, ![4, 1, 1024, 704]⟩
abbrev S4x1x704x1024 : Shape := ⟨4, ![4, 1, 704, 1024]⟩
abbrev S4x1x512x2304 : Shape := ⟨4, ![4, 1, 512, 2304]⟩

abbrev nBuf : Space → Nat
  | .hbm => 21
  | .vmem => 0
  | .smem => 0
  | _ => 0

abbrev bufTy : (tb : Table) → Fin (tcTables nBuf tb) → BufTy
  | .hbm, ⟨0, _⟩ => ⟨S4x2x512x768, .bf16⟩
  | .hbm, ⟨1, _⟩ => ⟨S4x2x128x1024, .bf16⟩
  | .hbm, ⟨2, _⟩ => ⟨S4x2x1024x704, .bf16⟩
  | .hbm, ⟨3, _⟩ => ⟨S4x2x1024x704, .bf16⟩
  | .hbm, ⟨4, _⟩ => ⟨S4x2x704x1024, .bf16⟩
  | .hbm, ⟨5, _⟩ => ⟨S4x2x512x2304, .bf16⟩
  | .hbm, ⟨6, _⟩ => ⟨S4x2x128x1024, .bf16⟩
  | .hbm, ⟨7, _⟩ => ⟨S4x512x768, .bf16⟩
  | .hbm, ⟨8, _⟩ => ⟨S4x128x1024, .bf16⟩
  | .hbm, ⟨9, _⟩ => ⟨S4x1024x704, .bf16⟩
  | .hbm, ⟨10, _⟩ => ⟨S4x1024x704, .bf16⟩
  | .hbm, ⟨11, _⟩ => ⟨S4x704x1024, .bf16⟩
  | .hbm, ⟨12, _⟩ => ⟨S4x512x2304, .bf16⟩
  | .hbm, ⟨13, _⟩ => ⟨S4x128x1024, .bf16⟩
  | .hbm, ⟨14, _⟩ => ⟨S4x512x768, .bf16⟩
  | .hbm, ⟨15, _⟩ => ⟨S4x128x1024, .bf16⟩
  | .hbm, ⟨16, _⟩ => ⟨S4x1024x704, .bf16⟩
  | .hbm, ⟨17, _⟩ => ⟨S4x1024x704, .bf16⟩
  | .hbm, ⟨18, _⟩ => ⟨S4x704x1024, .bf16⟩
  | .hbm, ⟨19, _⟩ => ⟨S4x512x2304, .bf16⟩
  | .hbm, ⟨20, _⟩ => ⟨S4x128x1024, .bf16⟩
  | _, _ => ⟨S4x2x512x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev main_v1_5 : Ref sig .tc := ⟨.hbm, 12, rfl⟩
abbrev main_v1_6 : Ref sig .tc := ⟨.hbm, 13, rfl⟩
abbrev main_v1_7 : Ref sig .tc := ⟨.hbm, 14, rfl⟩
abbrev main_v1_8 : Ref sig .tc := ⟨.hbm, 15, rfl⟩
abbrev main_v1_9 : Ref sig .tc := ⟨.hbm, 16, rfl⟩
abbrev main_v1_10 : Ref sig .tc := ⟨.hbm, 17, rfl⟩
abbrev main_v1_11 : Ref sig .tc := ⟨.hbm, 18, rfl⟩
abbrev main_v1_12 : Ref sig .tc := ⟨.hbm, 19, rfl⟩
abbrev main_v1_13 : Ref sig .tc := ⟨.hbm, 20, rfl⟩

abbrev nD : Nat := 8
abbrev τ : Topo := Topo.v7x

variable {F : FTy → Type} [FloatOps F]

abbrev grid0 : Pipeline.Grid := .none

def k0_off1 (d0 : Dev nD) : Fin 4 → Nat :=
  let c0_i32_22 : BitVec 32 := 0#32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c0_i32_23 : BitVec 32 := 0#32
  let c0_i32_24 : BitVec 32 := 0#32
  ![0, v9.toNat, 0, 0]
def k0_dev1 (d0 : Dev nD) : Nat :=
  let c0_i32_19 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_18 : BitVec 32 := 4#32
  let v23 : BitVec 32 := Scalar.muli v2 c4_i32_18
  let v24 : BitVec 32 := Scalar.addi c0_i32_19 v23
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_20 : BitVec 32 := 2#32
  let v25 : BitVec 32 := Scalar.muli v5 c2_i32_20
  let v26 : BitVec 32 := Scalar.addi v24 v25
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_21 : BitVec 32 := 1#32
  let v27 : BitVec 32 := Scalar.muli v10 c1_i32_21
  let v28 : BitVec 32 := Scalar.addi v26 v27
  v28.toNat
def k0_off2 (d0 : Dev nD) : Fin 4 → Nat :=
  let c0_i32_31 : BitVec 32 := 0#32
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c0_i32_32 : BitVec 32 := 0#32
  let c0_i32_33 : BitVec 32 := 0#32
  ![0, v11.toNat, 0, 0]
def k0_dev2 (d0 : Dev nD) : Nat :=
  let c0_i32_28 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_27 : BitVec 32 := 4#32
  let v35 : BitVec 32 := Scalar.muli v2 c4_i32_27
  let v36 : BitVec 32 := Scalar.addi c0_i32_28 v35
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_29 : BitVec 32 := 2#32
  let v37 : BitVec 32 := Scalar.muli v5 c2_i32_29
  let v38 : BitVec 32 := Scalar.addi v36 v37
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_6 v8
  let c1_i32_30 : BitVec 32 := 1#32
  let v39 : BitVec 32 := Scalar.muli v12 c1_i32_30
  let v40 : BitVec 32 := Scalar.addi v38 v39
  v40.toNat
def k0_off3 (d0 : Dev nD) : Fin 4 → Nat :=
  let c0_i32_40 : BitVec 32 := 0#32
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c0_i32_41 : BitVec 32 := 0#32
  let c0_i32_42 : BitVec 32 := 0#32
  ![0, v13.toNat, 0, 0]
def k0_dev3 (d0 : Dev nD) : Nat :=
  let c0_i32_37 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_36 : BitVec 32 := 4#32
  let v47 : BitVec 32 := Scalar.muli v2 c4_i32_36
  let v48 : BitVec 32 := Scalar.addi c0_i32_37 v47
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_38 : BitVec 32 := 2#32
  let v49 : BitVec 32 := Scalar.muli v5 c2_i32_38
  let v50 : BitVec 32 := Scalar.addi v48 v49
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_8 v8
  let c1_i32_39 : BitVec 32 := 1#32
  let v51 : BitVec 32 := Scalar.muli v14 c1_i32_39
  let v52 : BitVec 32 := Scalar.addi v50 v51
  v52.toNat
def k0_dev4 (d0 : Dev nD) : Nat :=
  let c0_i32_45 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_44 : BitVec 32 := 4#32
  let v59 : BitVec 32 := Scalar.muli v2 c4_i32_44
  let v60 : BitVec 32 := Scalar.addi c0_i32_45 v59
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_46 : BitVec 32 := 2#32
  let v61 : BitVec 32 := Scalar.muli v5 c2_i32_46
  let v62 : BitVec 32 := Scalar.addi v60 v61
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.subi c1_i32_10 v8
  let c1_i32_47 : BitVec 32 := 1#32
  let v63 : BitVec 32 := Scalar.muli v16 c1_i32_47
  let v64 : BitVec 32 := Scalar.addi v62 v63
  v64.toNat
def k0_off4 (d0 : Dev nD) : Fin 4 → Nat :=
  let c0_i32_57 : BitVec 32 := 0#32
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_11 v8
  let c0_i32_58 : BitVec 32 := 0#32
  let c0_i32_59 : BitVec 32 := 0#32
  ![0, v17.toNat, 0, 0]
def k0_dev5 (d0 : Dev nD) : Nat :=
  let c0_i32_54 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_53 : BitVec 32 := 4#32
  let v71 : BitVec 32 := Scalar.muli v2 c4_i32_53
  let v72 : BitVec 32 := Scalar.addi c0_i32_54 v71
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_55 : BitVec 32 := 2#32
  let v73 : BitVec 32 := Scalar.muli v5 c2_i32_55
  let v74 : BitVec 32 := Scalar.addi v72 v73
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_12 v8
  let c1_i32_56 : BitVec 32 := 1#32
  let v75 : BitVec 32 := Scalar.muli v18 c1_i32_56
  let v76 : BitVec 32 := Scalar.addi v74 v75
  v76.toNat
def k0_off5 (d0 : Dev nD) : Fin 4 → Nat :=
  let c0_i32_65 : BitVec 32 := 0#32
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_13 v8
  let c0_i32_66 : BitVec 32 := 0#32
  let c0_i32_67 : BitVec 32 := 0#32
  ![0, v19.toNat, 0, 0]
def k0_dev6 (d0 : Dev nD) : Nat :=
  let c0_i32_62 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_61 : BitVec 32 := 4#32
  let v83 : BitVec 32 := Scalar.muli v2 c4_i32_61
  let v84 : BitVec 32 := Scalar.addi c0_i32_62 v83
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_63 : BitVec 32 := 2#32
  let v85 : BitVec 32 := Scalar.muli v5 c2_i32_63
  let v86 : BitVec 32 := Scalar.addi v84 v85
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_14 v8
  let c1_i32_64 : BitVec 32 := 1#32
  let v87 : BitVec 32 := Scalar.muli v20 c1_i32_64
  let v88 : BitVec 32 := Scalar.addi v86 v87
  v88.toNat
def k0_dev7 (d0 : Dev nD) : Nat :=
  let c0_i32_70 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_69 : BitVec 32 := 4#32
  let v95 : BitVec 32 := Scalar.muli v2 c4_i32_69
  let v96 : BitVec 32 := Scalar.addi c0_i32_70 v95
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_71 : BitVec 32 := 2#32
  let v97 : BitVec 32 := Scalar.muli v5 c2_i32_71
  let v98 : BitVec 32 := Scalar.addi v96 v97
  let c1_i32_16 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_16 v8
  let c1_i32_72 : BitVec 32 := 1#32
  let v99 : BitVec 32 := Scalar.muli v22 c1_i32_72
  let v100 : BitVec 32 := Scalar.addi v98 v99
  v100.toNat
def k0_off6 (d0 : Dev nD) : Fin 4 → Nat :=
  let c0_i32_77 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_78 : BitVec 32 := 0#32
  let c0_i32_79 : BitVec 32 := 0#32
  ![0, v8.toNat, 0, 0]
def k0_off7 (d0 : Dev nD) : Fin 4 → Nat :=
  let c0_i32_81 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_82 : BitVec 32 := 0#32
  let c0_i32_83 : BitVec 32 := 0#32
  ![0, v8.toNat, 0, 0]
def k0_off8 (d0 : Dev nD) : Fin 4 → Nat :=
  let c0_i32_85 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_86 : BitVec 32 := 0#32
  let c0_i32_87 : BitVec 32 := 0#32
  ![0, v8.toNat, 0, 0]
def k0_off9 (d0 : Dev nD) : Fin 4 → Nat :=
  let c0_i32_93 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_94 : BitVec 32 := 0#32
  let c0_i32_95 : BitVec 32 := 0#32
  ![0, v8.toNat, 0, 0]
def k0_off10 (d0 : Dev nD) : Fin 4 → Nat :=
  let c0_i32_97 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_98 : BitVec 32 := 0#32
  let c0_i32_99 : BitVec 32 := 0#32
  ![0, v8.toNat, 0, 0]
-- ==== PairExchangeReference.lean ====
abbrev S32x2x512x768 : Shape := ⟨4, ![32, 2, 512, 768]⟩
abbrev S32x2x128x1024 : Shape := ⟨4, ![32, 2, 128, 1024]⟩
abbrev S32x2x1024x704 : Shape := ⟨4, ![32, 2, 1024, 704]⟩
abbrev S32x2x704x1024 : Shape := ⟨4, ![32, 2, 704, 1024]⟩
abbrev S32x2x512x2304 : Shape := ⟨4, ![32, 2, 512, 2304]⟩
abbrev S4x2x4x2x512x768 : Shape := ⟨6, ![4, 2, 4, 2, 512, 768]⟩
abbrev S4x1x4x1x512x768 : Shape := ⟨6, ![4, 1, 4, 1, 512, 768]⟩
abbrev S4x4x512x768 : Shape := ⟨4, ![4, 4, 512, 768]⟩
abbrev S4x1x4x512x768 : Shape := ⟨5, ![4, 1, 4, 512, 768]⟩
abbrev S4x2x4x512x768 : Shape := ⟨5, ![4, 2, 4, 512, 768]⟩
abbrev S32x512x768 : Shape := ⟨3, ![32, 512, 768]⟩
abbrev S4x2x4x2x128x1024 : Shape := ⟨6, ![4, 2, 4, 2, 128, 1024]⟩
abbrev S4x1x4x1x128x1024 : Shape := ⟨6, ![4, 1, 4, 1, 128, 1024]⟩
abbrev S4x4x128x1024 : Shape := ⟨4, ![4, 4, 128, 1024]⟩
abbrev S4x1x4x128x1024 : Shape := ⟨5, ![4, 1, 4, 128, 1024]⟩
abbrev S4x2x4x128x1024 : Shape := ⟨5, ![4, 2, 4, 128, 1024]⟩
abbrev S32x128x1024 : Shape := ⟨3, ![32, 128, 1024]⟩
abbrev S4x2x4x2x1024x704 : Shape := ⟨6, ![4, 2, 4, 2, 1024, 704]⟩
abbrev S4x1x4x1x1024x704 : Shape := ⟨6, ![4, 1, 4, 1, 1024, 704]⟩
abbrev S4x4x1024x704 : Shape := ⟨4, ![4, 4, 1024, 704]⟩
abbrev S4x1x4x1024x704 : Shape := ⟨5, ![4, 1, 4, 1024, 704]⟩
abbrev S4x2x4x1024x704 : Shape := ⟨5, ![4, 2, 4, 1024, 704]⟩
abbrev S32x1024x704 : Shape := ⟨3, ![32, 1024, 704]⟩
abbrev S4x2x4x2x704x1024 : Shape := ⟨6, ![4, 2, 4, 2, 704, 1024]⟩
abbrev S4x1x4x1x704x1024 : Shape := ⟨6, ![4, 1, 4, 1, 704, 1024]⟩
abbrev S4x4x704x1024 : Shape := ⟨4, ![4, 4, 704, 1024]⟩
abbrev S4x1x4x704x1024 : Shape := ⟨5, ![4, 1, 4, 704, 1024]⟩
abbrev S4x2x4x704x1024 : Shape := ⟨5, ![4, 2, 4, 704, 1024]⟩
abbrev S32x704x1024 : Shape := ⟨3, ![32, 704, 1024]⟩
abbrev S4x2x4x2x512x2304 : Shape := ⟨6, ![4, 2, 4, 2, 512, 2304]⟩
abbrev S4x1x4x1x512x2304 : Shape := ⟨6, ![4, 1, 4, 1, 512, 2304]⟩
abbrev S4x4x512x2304 : Shape := ⟨4, ![4, 4, 512, 2304]⟩
abbrev S4x1x4x512x2304 : Shape := ⟨5, ![4, 1, 4, 512, 2304]⟩
abbrev S4x2x4x512x2304 : Shape := ⟨5, ![4, 2, 4, 512, 2304]⟩
abbrev S32x512x2304 : Shape := ⟨3, ![32, 512, 2304]⟩

abbrev nBuf : Space → Nat
  | .hbm => 133
  | .vmem => 0
  | .smem => 0
  | _ => 0

abbrev hbmTy0_0 (i : Nat) : BufTy := match i % 128 with
  | 0 => ⟨S32x2x512x768, .bf16⟩
  | 1 => ⟨S32x2x128x1024, .bf16⟩
  | 2 => ⟨S32x2x1024x704, .bf16⟩
  | 3 => ⟨S32x2x1024x704, .bf16⟩
  | 4 => ⟨S32x2x704x1024, .bf16⟩
  | 5 => ⟨S32x2x512x2304, .bf16⟩
  | 6 => ⟨S32x2x128x1024, .bf16⟩
  | 7 => ⟨S4x2x4x2x512x768, .bf16⟩
  | 8 => ⟨S4x1x4x1x512x768, .bf16⟩
  | 9 => ⟨S4x4x512x768, .bf16⟩
  | 10 => ⟨S4x1x4x1x512x768, .bf16⟩
  | 11 => ⟨S4x4x512x768, .bf16⟩
  | 12 => ⟨S4x1x4x512x768, .bf16⟩
  | 13 => ⟨S4x1x4x512x768, .bf16⟩
  | 14 => ⟨S4x2x4x512x768, .bf16⟩
  | 15 => ⟨S32x512x768, .bf16⟩
  | 16 => ⟨S4x2x4x2x128x1024, .bf16⟩
  | 17 => ⟨S4x1x4x1x128x1024, .bf16⟩
  | 18 => ⟨S4x4x128x1024, .bf16⟩
  | 19 => ⟨S4x1x4x1x128x1024, .bf16⟩
  | 20 => ⟨S4x4x128x1024, .bf16⟩
  | 21 => ⟨S4x1x4x128x1024, .bf16⟩
  | 22 => ⟨S4x1x4x128x1024, .bf16⟩
  | 23 => ⟨S4x2x4x128x1024, .bf16⟩
  | 24 => ⟨S32x128x1024, .bf16⟩
  | 25 => ⟨S4x2x4x2x1024x704, .bf16⟩
  | 26 => ⟨S4x1x4x1x1024x704, .bf16⟩
  | 27 => ⟨S4x4x1024x704, .bf16⟩
  | 28 => ⟨S4x1x4x1x1024x704, .bf16⟩
  | 29 => ⟨S4x4x1024x704, .bf16⟩
  | 30 => ⟨S4x1x4x1024x704, .bf16⟩
  | 31 => ⟨S4x1x4x1024x704, .bf16⟩
  | 32 => ⟨S4x2x4x1024x704, .bf16⟩
  | 33 => ⟨S32x1024x704, .bf16⟩
  | 34 => ⟨S4x2x4x2x1024x704, .bf16⟩
  | 35 => ⟨S4x1x4x1x1024x704, .bf16⟩
  | 36 => ⟨S4x4x1024x704, .bf16⟩
  | 37 => ⟨S4x1x4x1x1024x704, .bf16⟩
  | 38 => ⟨S4x4x1024x704, .bf16⟩
  | 39 => ⟨S4x1x4x1024x704, .bf16⟩
  | 40 => ⟨S4x1x4x1024x704, .bf16⟩
  | 41 => ⟨S4x2x4x1024x704, .bf16⟩
  | 42 => ⟨S32x1024x704, .bf16⟩
  | 43 => ⟨S4x2x4x2x704x1024, .bf16⟩
  | 44 => ⟨S4x1x4x1x704x1024, .bf16⟩
  | 45 => ⟨S4x4x704x1024, .bf16⟩
  | 46 => ⟨S4x1x4x1x704x1024, .bf16⟩
  | 47 => ⟨S4x4x704x1024, .bf16⟩
  | 48 => ⟨S4x1x4x704x1024, .bf16⟩
  | 49 => ⟨S4x1x4x704x1024, .bf16⟩
  | 50 => ⟨S4x2x4x704x1024, .bf16⟩
  | 51 => ⟨S32x704x1024, .bf16⟩
  | 52 => ⟨S4x2x4x2x512x2304, .bf16⟩
  | 53 => ⟨S4x1x4x1x512x2304, .bf16⟩
  | 54 => ⟨S4x4x512x2304, .bf16⟩
  | 55 => ⟨S4x1x4x1x512x2304, .bf16⟩
  | 56 => ⟨S4x4x512x2304, .bf16⟩
  | 57 => ⟨S4x1x4x512x2304, .bf16⟩
  | 58 => ⟨S4x1x4x512x2304, .bf16⟩
  | 59 => ⟨S4x2x4x512x2304, .bf16⟩
  | 60 => ⟨S32x512x2304, .bf16⟩
  | 61 => ⟨S4x2x4x2x128x1024, .bf16⟩
  | 62 => ⟨S4x1x4x1x128x1024, .bf16⟩
  | 63 => ⟨S4x4x128x1024, .bf16⟩
  | 64 => ⟨S4x1x4x1x128x1024, .bf16⟩
  | 65 => ⟨S4x4x128x1024, .bf16⟩
  | 66 => ⟨S4x1x4x128x1024, .bf16⟩
  | 67 => ⟨S4x1x4x128x1024, .bf16⟩
  | 68 => ⟨S4x2x4x128x1024, .bf16⟩
  | 69 => ⟨S32x128x1024, .bf16⟩
  | 70 => ⟨S4x2x4x2x512x768, .bf16⟩
  | 71 => ⟨S4x1x4x1x512x768, .bf16⟩
  | 72 => ⟨S4x4x512x768, .bf16⟩
  | 73 => ⟨S4x1x4x1x512x768, .bf16⟩
  | 74 => ⟨S4x4x512x768, .bf16⟩
  | 75 => ⟨S4x1x4x512x768, .bf16⟩
  | 76 => ⟨S4x1x4x512x768, .bf16⟩
  | 77 => ⟨S4x2x4x512x768, .bf16⟩
  | 78 => ⟨S32x512x768, .bf16⟩
  | 79 => ⟨S4x2x4x2x128x1024, .bf16⟩
  | 80 => ⟨S4x1x4x1x128x1024, .bf16⟩
  | 81 => ⟨S4x4x128x1024, .bf16⟩
  | 82 => ⟨S4x1x4x1x128x1024, .bf16⟩
  | 83 => ⟨S4x4x128x1024, .bf16⟩
  | 84 => ⟨S4x1x4x128x1024, .bf16⟩
  | 85 => ⟨S4x1x4x128x1024, .bf16⟩
  | 86 => ⟨S4x2x4x128x1024, .bf16⟩
  | 87 => ⟨S32x128x1024, .bf16⟩
  | 88 => ⟨S4x2x4x2x1024x704, .bf16⟩
  | 89 => ⟨S4x1x4x1x1024x704, .bf16⟩
  | 90 => ⟨S4x4x1024x704, .bf16⟩
  | 91 => ⟨S4x1x4x1x1024x704, .bf16⟩
  | 92 => ⟨S4x4x1024x704, .bf16⟩
  | 93 => ⟨S4x1x4x1024x704, .bf16⟩
  | 94 => ⟨S4x1x4x1024x704, .bf16⟩
  | 95 => ⟨S4x2x4x1024x704, .bf16⟩
  | 96 => ⟨S32x1024x704, .bf16⟩
  | 97 => ⟨S4x2x4x2x1024x704, .bf16⟩
  | 98 => ⟨S4x1x4x1x1024x704, .bf16⟩
  | 99 => ⟨S4x4x1024x704, .bf16⟩
  | 100 => ⟨S4x1x4x1x1024x704, .bf16⟩
  | 101 => ⟨S4x4x1024x704, .bf16⟩
  | 102 => ⟨S4x1x4x1024x704, .bf16⟩
  | 103 => ⟨S4x1x4x1024x704, .bf16⟩
  | 104 => ⟨S4x2x4x1024x704, .bf16⟩
  | 105 => ⟨S32x1024x704, .bf16⟩
  | 106 => ⟨S4x2x4x2x704x1024, .bf16⟩
  | 107 => ⟨S4x1x4x1x704x1024, .bf16⟩
  | 108 => ⟨S4x4x704x1024, .bf16⟩
  | 109 => ⟨S4x1x4x1x704x1024, .bf16⟩
  | 110 => ⟨S4x4x704x1024, .bf16⟩
  | 111 => ⟨S4x1x4x704x1024, .bf16⟩
  | 112 => ⟨S4x1x4x704x1024, .bf16⟩
  | 113 => ⟨S4x2x4x704x1024, .bf16⟩
  | 114 => ⟨S32x704x1024, .bf16⟩
  | 115 => ⟨S4x2x4x2x512x2304, .bf16⟩
  | 116 => ⟨S4x1x4x1x512x2304, .bf16⟩
  | 117 => ⟨S4x4x512x2304, .bf16⟩
  | 118 => ⟨S4x1x4x1x512x2304, .bf16⟩
  | 119 => ⟨S4x4x512x2304, .bf16⟩
  | 120 => ⟨S4x1x4x512x2304, .bf16⟩
  | 121 => ⟨S4x1x4x512x2304, .bf16⟩
  | 122 => ⟨S4x2x4x512x2304, .bf16⟩
  | 123 => ⟨S32x512x2304, .bf16⟩
  | 124 => ⟨S4x2x4x2x128x1024, .bf16⟩
  | 125 => ⟨S4x1x4x1x128x1024, .bf16⟩
  | 126 => ⟨S4x4x128x1024, .bf16⟩
  | 127 => ⟨S4x1x4x1x128x1024, .bf16⟩
  | _ => ⟨S32x2x512x768, .bf16⟩

abbrev hbmTy0_1 (i : Nat) : BufTy := match i % 128 with
  | 0 => ⟨S4x4x128x1024, .bf16⟩
  | 1 => ⟨S4x1x4x128x1024, .bf16⟩
  | 2 => ⟨S4x1x4x128x1024, .bf16⟩
  | 3 => ⟨S4x2x4x128x1024, .bf16⟩
  | 4 => ⟨S32x128x1024, .bf16⟩
  | _ => ⟨S32x2x512x768, .bf16⟩

abbrev hbmTy (i : Nat) : BufTy := match i / 128 with
  | 0 => hbmTy0_0 i
  | 1 => hbmTy0_1 i
  | _ => ⟨S32x2x512x768, .bf16⟩

abbrev bufTy : (tb : Table) → Fin (tcTables nBuf tb) → BufTy
  | .hbm, ⟨i, _⟩ => hbmTy i
  | _, _ => ⟨S32x2x512x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩

abbrev nD : Nat := 1
abbrev τ : Topo := Topo.v7x

variable {F : FTy → Type} [FloatOps F]
-- ==== ChipExchange.lean ====
abbrev S4x512x768 : Shape := ⟨3, ![4, 512, 768]⟩
abbrev S4x128x1024 : Shape := ⟨3, ![4, 128, 1024]⟩
abbrev S4x1024x704 : Shape := ⟨3, ![4, 1024, 704]⟩
abbrev S4x704x1024 : Shape := ⟨3, ![4, 704, 1024]⟩
abbrev S4x512x2304 : Shape := ⟨3, ![4, 512, 2304]⟩
abbrev S21 : Shape := ⟨1, ![21]⟩
abbrev S7 : Shape := ⟨1, ![7]⟩
abbrev S1 : Shape := ⟨1, ![1]⟩
abbrev S_ : Shape := ⟨0, ![]⟩
abbrev S1x512x768 : Shape := ⟨3, ![1, 512, 768]⟩
abbrev S512x768 : Shape := ⟨2, ![512, 768]⟩
abbrev S1x128x1024 : Shape := ⟨3, ![1, 128, 1024]⟩
abbrev S128x1024 : Shape := ⟨2, ![128, 1024]⟩
abbrev S1x1024x704 : Shape := ⟨3, ![1, 1024, 704]⟩
abbrev S1024x704 : Shape := ⟨2, ![1024, 704]⟩
abbrev S1x704x1024 : Shape := ⟨3, ![1, 704, 1024]⟩
abbrev S704x1024 : Shape := ⟨2, ![704, 1024]⟩
abbrev S1x512x2304 : Shape := ⟨3, ![1, 512, 2304]⟩
abbrev S512x2304 : Shape := ⟨2, ![512, 2304]⟩

abbrev nBuf : Space → Nat
  | .hbm => 14
  | .vmem => 0
  | .smem => 0
  | _ => 0

abbrev bufTy : (tb : Table) → Fin (tcTables nBuf tb) → BufTy
  | .hbm, ⟨0, _⟩ => ⟨S4x512x768, .bf16⟩
  | .hbm, ⟨1, _⟩ => ⟨S4x128x1024, .bf16⟩
  | .hbm, ⟨2, _⟩ => ⟨S4x1024x704, .bf16⟩
  | .hbm, ⟨3, _⟩ => ⟨S4x1024x704, .bf16⟩
  | .hbm, ⟨4, _⟩ => ⟨S4x704x1024, .bf16⟩
  | .hbm, ⟨5, _⟩ => ⟨S4x512x2304, .bf16⟩
  | .hbm, ⟨6, _⟩ => ⟨S4x128x1024, .bf16⟩
  | .hbm, ⟨7, _⟩ => ⟨S4x512x768, .bf16⟩
  | .hbm, ⟨8, _⟩ => ⟨S4x128x1024, .bf16⟩
  | .hbm, ⟨9, _⟩ => ⟨S4x1024x704, .bf16⟩
  | .hbm, ⟨10, _⟩ => ⟨S4x1024x704, .bf16⟩
  | .hbm, ⟨11, _⟩ => ⟨S4x704x1024, .bf16⟩
  | .hbm, ⟨12, _⟩ => ⟨S4x512x2304, .bf16⟩
  | .hbm, ⟨13, _⟩ => ⟨S4x128x1024, .bf16⟩
  | _, _ => ⟨S4x512x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev main_v1_5 : Ref sig .tc := ⟨.hbm, 12, rfl⟩
abbrev main_v1_6 : Ref sig .tc := ⟨.hbm, 13, rfl⟩

abbrev nD : Nat := 8
abbrev τ : Topo := Topo.v7x

variable {F : FTy → Type} [FloatOps F]

abbrev grid0 : Pipeline.Grid := .none

def k0_off1 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_34 : BitVec 32 := 0#32
  let c0_i32_35 : BitVec 32 := 0#32
  ![v14.toNat, 0, 0]
def k0_off2 (d0 : Dev nD) : Fin 3 → Nat :=
  let c2_i32_8 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v15 : BitVec 32 := Scalar.muli c2_i32_8 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let c0_i32_36 : BitVec 32 := 0#32
  let c0_i32_37 : BitVec 32 := 0#32
  ![v16.toNat, 0, 0]
def k0_dev1 (d0 : Dev nD) : Nat :=
  let c0_i32_31 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_30 : BitVec 32 := 4#32
  let v57 : BitVec 32 := Scalar.muli v9 c4_i32_30
  let v58 : BitVec 32 := Scalar.addi c0_i32_31 v57
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_32 : BitVec 32 := 2#32
  let v59 : BitVec 32 := Scalar.muli v5 c2_i32_32
  let v60 : BitVec 32 := Scalar.addi v58 v59
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_33 : BitVec 32 := 1#32
  let v61 : BitVec 32 := Scalar.muli v8 c1_i32_33
  let v62 : BitVec 32 := Scalar.addi v60 v61
  v62.toNat
def k0_off3 (d0 : Dev nD) : Fin 3 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v18 : BitVec 32 := Scalar.addi v17 v10
  let c0_i32_46 : BitVec 32 := 0#32
  let c0_i32_47 : BitVec 32 := 0#32
  ![v18.toNat, 0, 0]
def k0_dev2 (d0 : Dev nD) : Nat :=
  let c0_i32_41 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_40 : BitVec 32 := 4#32
  let v71 : BitVec 32 := Scalar.muli v2 c4_i32_40
  let v72 : BitVec 32 := Scalar.addi c0_i32_41 v71
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_42 : BitVec 32 := 2#32
  let v73 : BitVec 32 := Scalar.muli v10 c2_i32_42
  let v74 : BitVec 32 := Scalar.addi v72 v73
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_43 : BitVec 32 := 1#32
  let v75 : BitVec 32 := Scalar.muli v8 c1_i32_43
  let v76 : BitVec 32 := Scalar.addi v74 v75
  v76.toNat
def k0_off4 (d0 : Dev nD) : Fin 3 → Nat :=
  let c2_i32_10 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v19 : BitVec 32 := Scalar.muli c2_i32_10 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v20 : BitVec 32 := Scalar.addi v19 v12
  let c0_i32_56 : BitVec 32 := 0#32
  let c0_i32_57 : BitVec 32 := 0#32
  ![v20.toNat, 0, 0]
def k0_dev3 (d0 : Dev nD) : Nat :=
  let c0_i32_51 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_50 : BitVec 32 := 4#32
  let v85 : BitVec 32 := Scalar.muli v11 c4_i32_50
  let v86 : BitVec 32 := Scalar.addi c0_i32_51 v85
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_52 : BitVec 32 := 2#32
  let v87 : BitVec 32 := Scalar.muli v12 c2_i32_52
  let v88 : BitVec 32 := Scalar.addi v86 v87
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_53 : BitVec 32 := 1#32
  let v89 : BitVec 32 := Scalar.muli v8 c1_i32_53
  let v90 : BitVec 32 := Scalar.addi v88 v89
  v90.toNat
def k0_off5 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_63 : BitVec 32 := 0#32
  let c0_i32_64 : BitVec 32 := 0#32
  ![v14.toNat, 0, 0]
def k0_off6 (d0 : Dev nD) : Fin 3 → Nat :=
  let c2_i32_11 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v21 : BitVec 32 := Scalar.muli c2_i32_11 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.addi v21 v5
  let c0_i32_65 : BitVec 32 := 0#32
  let c0_i32_66 : BitVec 32 := 0#32
  ![v22.toNat, 0, 0]
def k0_dev4 (d0 : Dev nD) : Nat :=
  let c0_i32_60 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_59 : BitVec 32 := 4#32
  let v99 : BitVec 32 := Scalar.muli v9 c4_i32_59
  let v100 : BitVec 32 := Scalar.addi c0_i32_60 v99
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_61 : BitVec 32 := 2#32
  let v101 : BitVec 32 := Scalar.muli v5 c2_i32_61
  let v102 : BitVec 32 := Scalar.addi v100 v101
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_62 : BitVec 32 := 1#32
  let v103 : BitVec 32 := Scalar.muli v8 c1_i32_62
  let v104 : BitVec 32 := Scalar.addi v102 v103
  v104.toNat
def k0_off7 (d0 : Dev nD) : Fin 3 → Nat :=
  let c2_i32_12 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v23 : BitVec 32 := Scalar.muli c2_i32_12 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v24 : BitVec 32 := Scalar.addi v23 v10
  let c0_i32_75 : BitVec 32 := 0#32
  let c0_i32_76 : BitVec 32 := 0#32
  ![v24.toNat, 0, 0]
def k0_dev5 (d0 : Dev nD) : Nat :=
  let c0_i32_70 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_69 : BitVec 32 := 4#32
  let v113 : BitVec 32 := Scalar.muli v2 c4_i32_69
  let v114 : BitVec 32 := Scalar.addi c0_i32_70 v113
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_71 : BitVec 32 := 2#32
  let v115 : BitVec 32 := Scalar.muli v10 c2_i32_71
  let v116 : BitVec 32 := Scalar.addi v114 v115
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_72 : BitVec 32 := 1#32
  let v117 : BitVec 32 := Scalar.muli v8 c1_i32_72
  let v118 : BitVec 32 := Scalar.addi v116 v117
  v118.toNat
def k0_off8 (d0 : Dev nD) : Fin 3 → Nat :=
  let c2_i32_13 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v25 : BitVec 32 := Scalar.muli c2_i32_13 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v26 : BitVec 32 := Scalar.addi v25 v12
  let c0_i32_84 : BitVec 32 := 0#32
  let c0_i32_85 : BitVec 32 := 0#32
  ![v26.toNat, 0, 0]
def k0_dev6 (d0 : Dev nD) : Nat :=
  let c0_i32_79 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_78 : BitVec 32 := 4#32
  let v127 : BitVec 32 := Scalar.muli v11 c4_i32_78
  let v128 : BitVec 32 := Scalar.addi c0_i32_79 v127
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_80 : BitVec 32 := 2#32
  let v129 : BitVec 32 := Scalar.muli v12 c2_i32_80
  let v130 : BitVec 32 := Scalar.addi v128 v129
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_81 : BitVec 32 := 1#32
  let v131 : BitVec 32 := Scalar.muli v8 c1_i32_81
  let v132 : BitVec 32 := Scalar.addi v130 v131
  v132.toNat
def k0_off9 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_91 : BitVec 32 := 0#32
  let c0_i32_92 : BitVec 32 := 0#32
  ![v14.toNat, 0, 0]
def k0_off10 (d0 : Dev nD) : Fin 3 → Nat :=
  let c2_i32_14 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v27 : BitVec 32 := Scalar.muli c2_i32_14 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v28 : BitVec 32 := Scalar.addi v27 v5
  let c0_i32_93 : BitVec 32 := 0#32
  let c0_i32_94 : BitVec 32 := 0#32
  ![v28.toNat, 0, 0]
def k0_dev7 (d0 : Dev nD) : Nat :=
  let c0_i32_88 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_87 : BitVec 32 := 4#32
  let v141 : BitVec 32 := Scalar.muli v9 c4_i32_87
  let v142 : BitVec 32 := Scalar.addi c0_i32_88 v141
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_89 : BitVec 32 := 2#32
  let v143 : BitVec 32 := Scalar.muli v5 c2_i32_89
  let v144 : BitVec 32 := Scalar.addi v142 v143
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_90 : BitVec 32 := 1#32
  let v145 : BitVec 32 := Scalar.muli v8 c1_i32_90
  let v146 : BitVec 32 := Scalar.addi v144 v145
  v146.toNat
def k0_off11 (d0 : Dev nD) : Fin 3 → Nat :=
  let c2_i32_15 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v29 : BitVec 32 := Scalar.muli c2_i32_15 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v30 : BitVec 32 := Scalar.addi v29 v10
  let c0_i32_102 : BitVec 32 := 0#32
  let c0_i32_103 : BitVec 32 := 0#32
  ![v30.toNat, 0, 0]
def k0_dev8 (d0 : Dev nD) : Nat :=
  let c0_i32_97 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_96 : BitVec 32 := 4#32
  let v155 : BitVec 32 := Scalar.muli v2 c4_i32_96
  let v156 : BitVec 32 := Scalar.addi c0_i32_97 v155
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_98 : BitVec 32 := 2#32
  let v157 : BitVec 32 := Scalar.muli v10 c2_i32_98
  let v158 : BitVec 32 := Scalar.addi v156 v157
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_99 : BitVec 32 := 1#32
  let v159 : BitVec 32 := Scalar.muli v8 c1_i32_99
  let v160 : BitVec 32 := Scalar.addi v158 v159
  v160.toNat
def k0_off12 (d0 : Dev nD) : Fin 3 → Nat :=
  let c2_i32_16 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v31 : BitVec 32 := Scalar.muli c2_i32_16 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v32 : BitVec 32 := Scalar.addi v31 v12
  let c0_i32_111 : BitVec 32 := 0#32
  let c0_i32_112 : BitVec 32 := 0#32
  ![v32.toNat, 0, 0]
def k0_dev9 (d0 : Dev nD) : Nat :=
  let c0_i32_106 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_105 : BitVec 32 := 4#32
  let v169 : BitVec 32 := Scalar.muli v11 c4_i32_105
  let v170 : BitVec 32 := Scalar.addi c0_i32_106 v169
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_107 : BitVec 32 := 2#32
  let v171 : BitVec 32 := Scalar.muli v12 c2_i32_107
  let v172 : BitVec 32 := Scalar.addi v170 v171
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_108 : BitVec 32 := 1#32
  let v173 : BitVec 32 := Scalar.muli v8 c1_i32_108
  let v174 : BitVec 32 := Scalar.addi v172 v173
  v174.toNat
def k0_dev10 (d0 : Dev nD) : Nat :=
  let c0_i32_115 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_114 : BitVec 32 := 4#32
  let v183 : BitVec 32 := Scalar.muli v9 c4_i32_114
  let v184 : BitVec 32 := Scalar.addi c0_i32_115 v183
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_116 : BitVec 32 := 2#32
  let v185 : BitVec 32 := Scalar.muli v5 c2_i32_116
  let v186 : BitVec 32 := Scalar.addi v184 v185
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_117 : BitVec 32 := 1#32
  let v187 : BitVec 32 := Scalar.muli v8 c1_i32_117
  let v188 : BitVec 32 := Scalar.addi v186 v187
  v188.toNat
def k0_dev11 (d0 : Dev nD) : Nat :=
  let c0_i32_124 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_123 : BitVec 32 := 4#32
  let v197 : BitVec 32 := Scalar.muli v2 c4_i32_123
  let v198 : BitVec 32 := Scalar.addi c0_i32_124 v197
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_125 : BitVec 32 := 2#32
  let v199 : BitVec 32 := Scalar.muli v10 c2_i32_125
  let v200 : BitVec 32 := Scalar.addi v198 v199
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_126 : BitVec 32 := 1#32
  let v201 : BitVec 32 := Scalar.muli v8 c1_i32_126
  let v202 : BitVec 32 := Scalar.addi v200 v201
  v202.toNat
def k0_dev12 (d0 : Dev nD) : Nat :=
  let c0_i32_133 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_132 : BitVec 32 := 4#32
  let v211 : BitVec 32 := Scalar.muli v11 c4_i32_132
  let v212 : BitVec 32 := Scalar.addi c0_i32_133 v211
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_134 : BitVec 32 := 2#32
  let v213 : BitVec 32 := Scalar.muli v12 c2_i32_134
  let v214 : BitVec 32 := Scalar.addi v212 v213
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_135 : BitVec 32 := 1#32
  let v215 : BitVec 32 := Scalar.muli v8 c1_i32_135
  let v216 : BitVec 32 := Scalar.addi v214 v215
  v216.toNat
def k0_off13 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_145 : BitVec 32 := 0#32
  let c0_i32_146 : BitVec 32 := 0#32
  ![v14.toNat, 0, 0]
def k0_off14 (d0 : Dev nD) : Fin 3 → Nat :=
  let c2_i32_20 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v39 : BitVec 32 := Scalar.muli c2_i32_20 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v40 : BitVec 32 := Scalar.addi v39 v5
  let c0_i32_147 : BitVec 32 := 0#32
  let c0_i32_148 : BitVec 32 := 0#32
  ![v40.toNat, 0, 0]
def k0_dev13 (d0 : Dev nD) : Nat :=
  let c0_i32_142 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_141 : BitVec 32 := 4#32
  let v225 : BitVec 32 := Scalar.muli v9 c4_i32_141
  let v226 : BitVec 32 := Scalar.addi c0_i32_142 v225
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_143 : BitVec 32 := 2#32
  let v227 : BitVec 32 := Scalar.muli v5 c2_i32_143
  let v228 : BitVec 32 := Scalar.addi v226 v227
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_144 : BitVec 32 := 1#32
  let v229 : BitVec 32 := Scalar.muli v8 c1_i32_144
  let v230 : BitVec 32 := Scalar.addi v228 v229
  v230.toNat
def k0_off15 (d0 : Dev nD) : Fin 3 → Nat :=
  let c2_i32_21 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v41 : BitVec 32 := Scalar.muli c2_i32_21 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v42 : BitVec 32 := Scalar.addi v41 v10
  let c0_i32_156 : BitVec 32 := 0#32
  let c0_i32_157 : BitVec 32 := 0#32
  ![v42.toNat, 0, 0]
def k0_dev14 (d0 : Dev nD) : Nat :=
  let c0_i32_151 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_150 : BitVec 32 := 4#32
  let v239 : BitVec 32 := Scalar.muli v2 c4_i32_150
  let v240 : BitVec 32 := Scalar.addi c0_i32_151 v239
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_152 : BitVec 32 := 2#32
  let v241 : BitVec 32 := Scalar.muli v10 c2_i32_152
  let v242 : BitVec 32 := Scalar.addi v240 v241
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_153 : BitVec 32 := 1#32
  let v243 : BitVec 32 := Scalar.muli v8 c1_i32_153
  let v244 : BitVec 32 := Scalar.addi v242 v243
  v244.toNat
def k0_off16 (d0 : Dev nD) : Fin 3 → Nat :=
  let c2_i32_22 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v43 : BitVec 32 := Scalar.muli c2_i32_22 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v44 : BitVec 32 := Scalar.addi v43 v12
  let c0_i32_165 : BitVec 32 := 0#32
  let c0_i32_166 : BitVec 32 := 0#32
  ![v44.toNat, 0, 0]
def k0_dev15 (d0 : Dev nD) : Nat :=
  let c0_i32_160 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_159 : BitVec 32 := 4#32
  let v253 : BitVec 32 := Scalar.muli v11 c4_i32_159
  let v254 : BitVec 32 := Scalar.addi c0_i32_160 v253
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_161 : BitVec 32 := 2#32
  let v255 : BitVec 32 := Scalar.muli v12 c2_i32_161
  let v256 : BitVec 32 := Scalar.addi v254 v255
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_162 : BitVec 32 := 1#32
  let v257 : BitVec 32 := Scalar.muli v8 c1_i32_162
  let v258 : BitVec 32 := Scalar.addi v256 v257
  v258.toNat
def k0_off17 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_172 : BitVec 32 := 0#32
  let c0_i32_173 : BitVec 32 := 0#32
  ![v14.toNat, 0, 0]
def k0_off18 (d0 : Dev nD) : Fin 3 → Nat :=
  let c2_i32_23 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v45 : BitVec 32 := Scalar.muli c2_i32_23 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v46 : BitVec 32 := Scalar.addi v45 v5
  let c0_i32_174 : BitVec 32 := 0#32
  let c0_i32_175 : BitVec 32 := 0#32
  ![v46.toNat, 0, 0]
def k0_dev16 (d0 : Dev nD) : Nat :=
  let c0_i32_169 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_168 : BitVec 32 := 4#32
  let v267 : BitVec 32 := Scalar.muli v9 c4_i32_168
  let v268 : BitVec 32 := Scalar.addi c0_i32_169 v267
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_170 : BitVec 32 := 2#32
  let v269 : BitVec 32 := Scalar.muli v5 c2_i32_170
  let v270 : BitVec 32 := Scalar.addi v268 v269
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_171 : BitVec 32 := 1#32
  let v271 : BitVec 32 := Scalar.muli v8 c1_i32_171
  let v272 : BitVec 32 := Scalar.addi v270 v271
  v272.toNat
def k0_off19 (d0 : Dev nD) : Fin 3 → Nat :=
  let c2_i32_24 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v47 : BitVec 32 := Scalar.muli c2_i32_24 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v48 : BitVec 32 := Scalar.addi v47 v10
  let c0_i32_183 : BitVec 32 := 0#32
  let c0_i32_184 : BitVec 32 := 0#32
  ![v48.toNat, 0, 0]
def k0_dev17 (d0 : Dev nD) : Nat :=
  let c0_i32_178 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_177 : BitVec 32 := 4#32
  let v281 : BitVec 32 := Scalar.muli v2 c4_i32_177
  let v282 : BitVec 32 := Scalar.addi c0_i32_178 v281
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_179 : BitVec 32 := 2#32
  let v283 : BitVec 32 := Scalar.muli v10 c2_i32_179
  let v284 : BitVec 32 := Scalar.addi v282 v283
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_180 : BitVec 32 := 1#32
  let v285 : BitVec 32 := Scalar.muli v8 c1_i32_180
  let v286 : BitVec 32 := Scalar.addi v284 v285
  v286.toNat
def k0_off20 (d0 : Dev nD) : Fin 3 → Nat :=
  let c2_i32_25 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v49 : BitVec 32 := Scalar.muli c2_i32_25 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v50 : BitVec 32 := Scalar.addi v49 v12
  let c0_i32_192 : BitVec 32 := 0#32
  let c0_i32_193 : BitVec 32 := 0#32
  ![v50.toNat, 0, 0]
def k0_dev18 (d0 : Dev nD) : Nat :=
  let c0_i32_187 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_186 : BitVec 32 := 4#32
  let v295 : BitVec 32 := Scalar.muli v11 c4_i32_186
  let v296 : BitVec 32 := Scalar.addi c0_i32_187 v295
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_188 : BitVec 32 := 2#32
  let v297 : BitVec 32 := Scalar.muli v12 c2_i32_188
  let v298 : BitVec 32 := Scalar.addi v296 v297
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_189 : BitVec 32 := 1#32
  let v299 : BitVec 32 := Scalar.muli v8 c1_i32_189
  let v300 : BitVec 32 := Scalar.addi v298 v299
  v300.toNat
def k0_dev19 (d0 : Dev nD) : Nat :=
  let c0_i32_196 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_195 : BitVec 32 := 4#32
  let v309 : BitVec 32 := Scalar.muli v9 c4_i32_195
  let v310 : BitVec 32 := Scalar.addi c0_i32_196 v309
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_197 : BitVec 32 := 2#32
  let v311 : BitVec 32 := Scalar.muli v5 c2_i32_197
  let v312 : BitVec 32 := Scalar.addi v310 v311
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_198 : BitVec 32 := 1#32
  let v313 : BitVec 32 := Scalar.muli v8 c1_i32_198
  let v314 : BitVec 32 := Scalar.addi v312 v313
  v314.toNat
def k0_dev20 (d0 : Dev nD) : Nat :=
  let c0_i32_205 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_204 : BitVec 32 := 4#32
  let v323 : BitVec 32 := Scalar.muli v2 c4_i32_204
  let v324 : BitVec 32 := Scalar.addi c0_i32_205 v323
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_206 : BitVec 32 := 2#32
  let v325 : BitVec 32 := Scalar.muli v10 c2_i32_206
  let v326 : BitVec 32 := Scalar.addi v324 v325
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_207 : BitVec 32 := 1#32
  let v327 : BitVec 32 := Scalar.muli v8 c1_i32_207
  let v328 : BitVec 32 := Scalar.addi v326 v327
  v328.toNat
def k0_dev21 (d0 : Dev nD) : Nat :=
  let c0_i32_214 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_213 : BitVec 32 := 4#32
  let v337 : BitVec 32 := Scalar.muli v11 c4_i32_213
  let v338 : BitVec 32 := Scalar.addi c0_i32_214 v337
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_215 : BitVec 32 := 2#32
  let v339 : BitVec 32 := Scalar.muli v12 c2_i32_215
  let v340 : BitVec 32 := Scalar.addi v338 v339
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_216 : BitVec 32 := 1#32
  let v341 : BitVec 32 := Scalar.muli v8 c1_i32_216
  let v342 : BitVec 32 := Scalar.addi v340 v341
  v342.toNat
-- ==== ChipExchangeIdeal.lean ====
abbrev S4x512x768 : Shape := ⟨3, ![4, 512, 768]⟩
abbrev S4x128x1024 : Shape := ⟨3, ![4, 128, 1024]⟩
abbrev S4x1024x704 : Shape := ⟨3, ![4, 1024, 704]⟩
abbrev S4x704x1024 : Shape := ⟨3, ![4, 704, 1024]⟩
abbrev S4x512x2304 : Shape := ⟨3, ![4, 512, 2304]⟩
abbrev S21 : Shape := ⟨1, ![21]⟩
abbrev S7 : Shape := ⟨1, ![7]⟩
abbrev S1 : Shape := ⟨1, ![1]⟩
abbrev S_ : Shape := ⟨0, ![]⟩
abbrev S1x512x768 : Shape := ⟨3, ![1, 512, 768]⟩
abbrev S512x768 : Shape := ⟨2, ![512, 768]⟩
abbrev S1x128x1024 : Shape := ⟨3, ![1, 128, 1024]⟩
abbrev S128x1024 : Shape := ⟨2, ![128, 1024]⟩
abbrev S1x1024x704 : Shape := ⟨3, ![1, 1024, 704]⟩
abbrev S1024x704 : Shape := ⟨2, ![1024, 704]⟩
abbrev S1x704x1024 : Shape := ⟨3, ![1, 704, 1024]⟩
abbrev S704x1024 : Shape := ⟨2, ![704, 1024]⟩
abbrev S1x512x2304 : Shape := ⟨3, ![1, 512, 2304]⟩
abbrev S512x2304 : Shape := ⟨2, ![512, 2304]⟩

abbrev nBuf : Space → Nat
  | .hbm => 14
  | .vmem => 0
  | .smem => 0
  | _ => 0

abbrev bufTy : (tb : Table) → Fin (tcTables nBuf tb) → BufTy
  | .hbm, ⟨0, _⟩ => ⟨S4x512x768, .bf16⟩
  | .hbm, ⟨1, _⟩ => ⟨S4x128x1024, .bf16⟩
  | .hbm, ⟨2, _⟩ => ⟨S4x1024x704, .bf16⟩
  | .hbm, ⟨3, _⟩ => ⟨S4x1024x704, .bf16⟩
  | .hbm, ⟨4, _⟩ => ⟨S4x704x1024, .bf16⟩
  | .hbm, ⟨5, _⟩ => ⟨S4x512x2304, .bf16⟩
  | .hbm, ⟨6, _⟩ => ⟨S4x128x1024, .bf16⟩
  | .hbm, ⟨7, _⟩ => ⟨S4x512x768, .bf16⟩
  | .hbm, ⟨8, _⟩ => ⟨S4x128x1024, .bf16⟩
  | .hbm, ⟨9, _⟩ => ⟨S4x1024x704, .bf16⟩
  | .hbm, ⟨10, _⟩ => ⟨S4x1024x704, .bf16⟩
  | .hbm, ⟨11, _⟩ => ⟨S4x704x1024, .bf16⟩
  | .hbm, ⟨12, _⟩ => ⟨S4x512x2304, .bf16⟩
  | .hbm, ⟨13, _⟩ => ⟨S4x128x1024, .bf16⟩
  | _, _ => ⟨S4x512x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev main_v1_5 : Ref sig .tc := ⟨.hbm, 12, rfl⟩
abbrev main_v1_6 : Ref sig .tc := ⟨.hbm, 13, rfl⟩

abbrev nD : Nat := 8
abbrev τ : Topo := Topo.v7x

variable {F : FTy → Type} [FloatOps F]

abbrev grid0 : Pipeline.Grid := .none

def k0_off1 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_34 : BitVec 32 := 0#32
  let c0_i32_35 : BitVec 32 := 0#32
  ![v14.toNat, 0, 0]
def k0_off2 (d0 : Dev nD) : Fin 3 → Nat :=
  let c2_i32_8 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v15 : BitVec 32 := Scalar.muli c2_i32_8 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let c0_i32_36 : BitVec 32 := 0#32
  let c0_i32_37 : BitVec 32 := 0#32
  ![v16.toNat, 0, 0]
def k0_dev1 (d0 : Dev nD) : Nat :=
  let c0_i32_31 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_30 : BitVec 32 := 4#32
  let v57 : BitVec 32 := Scalar.muli v9 c4_i32_30
  let v58 : BitVec 32 := Scalar.addi c0_i32_31 v57
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_32 : BitVec 32 := 2#32
  let v59 : BitVec 32 := Scalar.muli v5 c2_i32_32
  let v60 : BitVec 32 := Scalar.addi v58 v59
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_33 : BitVec 32 := 1#32
  let v61 : BitVec 32 := Scalar.muli v8 c1_i32_33
  let v62 : BitVec 32 := Scalar.addi v60 v61
  v62.toNat
def k0_off3 (d0 : Dev nD) : Fin 3 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v18 : BitVec 32 := Scalar.addi v17 v10
  let c0_i32_46 : BitVec 32 := 0#32
  let c0_i32_47 : BitVec 32 := 0#32
  ![v18.toNat, 0, 0]
def k0_dev2 (d0 : Dev nD) : Nat :=
  let c0_i32_41 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_40 : BitVec 32 := 4#32
  let v71 : BitVec 32 := Scalar.muli v2 c4_i32_40
  let v72 : BitVec 32 := Scalar.addi c0_i32_41 v71
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_42 : BitVec 32 := 2#32
  let v73 : BitVec 32 := Scalar.muli v10 c2_i32_42
  let v74 : BitVec 32 := Scalar.addi v72 v73
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_43 : BitVec 32 := 1#32
  let v75 : BitVec 32 := Scalar.muli v8 c1_i32_43
  let v76 : BitVec 32 := Scalar.addi v74 v75
  v76.toNat
def k0_off4 (d0 : Dev nD) : Fin 3 → Nat :=
  let c2_i32_10 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v19 : BitVec 32 := Scalar.muli c2_i32_10 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v20 : BitVec 32 := Scalar.addi v19 v12
  let c0_i32_56 : BitVec 32 := 0#32
  let c0_i32_57 : BitVec 32 := 0#32
  ![v20.toNat, 0, 0]
def k0_dev3 (d0 : Dev nD) : Nat :=
  let c0_i32_51 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_50 : BitVec 32 := 4#32
  let v85 : BitVec 32 := Scalar.muli v11 c4_i32_50
  let v86 : BitVec 32 := Scalar.addi c0_i32_51 v85
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_52 : BitVec 32 := 2#32
  let v87 : BitVec 32 := Scalar.muli v12 c2_i32_52
  let v88 : BitVec 32 := Scalar.addi v86 v87
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_53 : BitVec 32 := 1#32
  let v89 : BitVec 32 := Scalar.muli v8 c1_i32_53
  let v90 : BitVec 32 := Scalar.addi v88 v89
  v90.toNat
def k0_off5 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_63 : BitVec 32 := 0#32
  let c0_i32_64 : BitVec 32 := 0#32
  ![v14.toNat, 0, 0]
def k0_off6 (d0 : Dev nD) : Fin 3 → Nat :=
  let c2_i32_11 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v21 : BitVec 32 := Scalar.muli c2_i32_11 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.addi v21 v5
  let c0_i32_65 : BitVec 32 := 0#32
  let c0_i32_66 : BitVec 32 := 0#32
  ![v22.toNat, 0, 0]
def k0_dev4 (d0 : Dev nD) : Nat :=
  let c0_i32_60 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_59 : BitVec 32 := 4#32
  let v99 : BitVec 32 := Scalar.muli v9 c4_i32_59
  let v100 : BitVec 32 := Scalar.addi c0_i32_60 v99
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_61 : BitVec 32 := 2#32
  let v101 : BitVec 32 := Scalar.muli v5 c2_i32_61
  let v102 : BitVec 32 := Scalar.addi v100 v101
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_62 : BitVec 32 := 1#32
  let v103 : BitVec 32 := Scalar.muli v8 c1_i32_62
  let v104 : BitVec 32 := Scalar.addi v102 v103
  v104.toNat
def k0_off7 (d0 : Dev nD) : Fin 3 → Nat :=
  let c2_i32_12 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v23 : BitVec 32 := Scalar.muli c2_i32_12 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v24 : BitVec 32 := Scalar.addi v23 v10
  let c0_i32_75 : BitVec 32 := 0#32
  let c0_i32_76 : BitVec 32 := 0#32
  ![v24.toNat, 0, 0]
def k0_dev5 (d0 : Dev nD) : Nat :=
  let c0_i32_70 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_69 : BitVec 32 := 4#32
  let v113 : BitVec 32 := Scalar.muli v2 c4_i32_69
  let v114 : BitVec 32 := Scalar.addi c0_i32_70 v113
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_71 : BitVec 32 := 2#32
  let v115 : BitVec 32 := Scalar.muli v10 c2_i32_71
  let v116 : BitVec 32 := Scalar.addi v114 v115
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_72 : BitVec 32 := 1#32
  let v117 : BitVec 32 := Scalar.muli v8 c1_i32_72
  let v118 : BitVec 32 := Scalar.addi v116 v117
  v118.toNat
def k0_off8 (d0 : Dev nD) : Fin 3 → Nat :=
  let c2_i32_13 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v25 : BitVec 32 := Scalar.muli c2_i32_13 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v26 : BitVec 32 := Scalar.addi v25 v12
  let c0_i32_84 : BitVec 32 := 0#32
  let c0_i32_85 : BitVec 32 := 0#32
  ![v26.toNat, 0, 0]
def k0_dev6 (d0 : Dev nD) : Nat :=
  let c0_i32_79 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_78 : BitVec 32 := 4#32
  let v127 : BitVec 32 := Scalar.muli v11 c4_i32_78
  let v128 : BitVec 32 := Scalar.addi c0_i32_79 v127
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_80 : BitVec 32 := 2#32
  let v129 : BitVec 32 := Scalar.muli v12 c2_i32_80
  let v130 : BitVec 32 := Scalar.addi v128 v129
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_81 : BitVec 32 := 1#32
  let v131 : BitVec 32 := Scalar.muli v8 c1_i32_81
  let v132 : BitVec 32 := Scalar.addi v130 v131
  v132.toNat
def k0_off9 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_91 : BitVec 32 := 0#32
  let c0_i32_92 : BitVec 32 := 0#32
  ![v14.toNat, 0, 0]
def k0_off10 (d0 : Dev nD) : Fin 3 → Nat :=
  let c2_i32_14 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v27 : BitVec 32 := Scalar.muli c2_i32_14 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v28 : BitVec 32 := Scalar.addi v27 v5
  let c0_i32_93 : BitVec 32 := 0#32
  let c0_i32_94 : BitVec 32 := 0#32
  ![v28.toNat, 0, 0]
def k0_dev7 (d0 : Dev nD) : Nat :=
  let c0_i32_88 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_87 : BitVec 32 := 4#32
  let v141 : BitVec 32 := Scalar.muli v9 c4_i32_87
  let v142 : BitVec 32 := Scalar.addi c0_i32_88 v141
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_89 : BitVec 32 := 2#32
  let v143 : BitVec 32 := Scalar.muli v5 c2_i32_89
  let v144 : BitVec 32 := Scalar.addi v142 v143
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_90 : BitVec 32 := 1#32
  let v145 : BitVec 32 := Scalar.muli v8 c1_i32_90
  let v146 : BitVec 32 := Scalar.addi v144 v145
  v146.toNat
def k0_off11 (d0 : Dev nD) : Fin 3 → Nat :=
  let c2_i32_15 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v29 : BitVec 32 := Scalar.muli c2_i32_15 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v30 : BitVec 32 := Scalar.addi v29 v10
  let c0_i32_102 : BitVec 32 := 0#32
  let c0_i32_103 : BitVec 32 := 0#32
  ![v30.toNat, 0, 0]
def k0_dev8 (d0 : Dev nD) : Nat :=
  let c0_i32_97 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_96 : BitVec 32 := 4#32
  let v155 : BitVec 32 := Scalar.muli v2 c4_i32_96
  let v156 : BitVec 32 := Scalar.addi c0_i32_97 v155
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_98 : BitVec 32 := 2#32
  let v157 : BitVec 32 := Scalar.muli v10 c2_i32_98
  let v158 : BitVec 32 := Scalar.addi v156 v157
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_99 : BitVec 32 := 1#32
  let v159 : BitVec 32 := Scalar.muli v8 c1_i32_99
  let v160 : BitVec 32 := Scalar.addi v158 v159
  v160.toNat
def k0_off12 (d0 : Dev nD) : Fin 3 → Nat :=
  let c2_i32_16 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v31 : BitVec 32 := Scalar.muli c2_i32_16 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v32 : BitVec 32 := Scalar.addi v31 v12
  let c0_i32_111 : BitVec 32 := 0#32
  let c0_i32_112 : BitVec 32 := 0#32
  ![v32.toNat, 0, 0]
def k0_dev9 (d0 : Dev nD) : Nat :=
  let c0_i32_106 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_105 : BitVec 32 := 4#32
  let v169 : BitVec 32 := Scalar.muli v11 c4_i32_105
  let v170 : BitVec 32 := Scalar.addi c0_i32_106 v169
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_107 : BitVec 32 := 2#32
  let v171 : BitVec 32 := Scalar.muli v12 c2_i32_107
  let v172 : BitVec 32 := Scalar.addi v170 v171
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_108 : BitVec 32 := 1#32
  let v173 : BitVec 32 := Scalar.muli v8 c1_i32_108
  let v174 : BitVec 32 := Scalar.addi v172 v173
  v174.toNat
def k0_dev10 (d0 : Dev nD) : Nat :=
  let c0_i32_115 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_114 : BitVec 32 := 4#32
  let v183 : BitVec 32 := Scalar.muli v9 c4_i32_114
  let v184 : BitVec 32 := Scalar.addi c0_i32_115 v183
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_116 : BitVec 32 := 2#32
  let v185 : BitVec 32 := Scalar.muli v5 c2_i32_116
  let v186 : BitVec 32 := Scalar.addi v184 v185
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_117 : BitVec 32 := 1#32
  let v187 : BitVec 32 := Scalar.muli v8 c1_i32_117
  let v188 : BitVec 32 := Scalar.addi v186 v187
  v188.toNat
def k0_dev11 (d0 : Dev nD) : Nat :=
  let c0_i32_124 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_123 : BitVec 32 := 4#32
  let v197 : BitVec 32 := Scalar.muli v2 c4_i32_123
  let v198 : BitVec 32 := Scalar.addi c0_i32_124 v197
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_125 : BitVec 32 := 2#32
  let v199 : BitVec 32 := Scalar.muli v10 c2_i32_125
  let v200 : BitVec 32 := Scalar.addi v198 v199
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_126 : BitVec 32 := 1#32
  let v201 : BitVec 32 := Scalar.muli v8 c1_i32_126
  let v202 : BitVec 32 := Scalar.addi v200 v201
  v202.toNat
def k0_dev12 (d0 : Dev nD) : Nat :=
  let c0_i32_133 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_132 : BitVec 32 := 4#32
  let v211 : BitVec 32 := Scalar.muli v11 c4_i32_132
  let v212 : BitVec 32 := Scalar.addi c0_i32_133 v211
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_134 : BitVec 32 := 2#32
  let v213 : BitVec 32 := Scalar.muli v12 c2_i32_134
  let v214 : BitVec 32 := Scalar.addi v212 v213
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_135 : BitVec 32 := 1#32
  let v215 : BitVec 32 := Scalar.muli v8 c1_i32_135
  let v216 : BitVec 32 := Scalar.addi v214 v215
  v216.toNat
def k0_off13 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_145 : BitVec 32 := 0#32
  let c0_i32_146 : BitVec 32 := 0#32
  ![v14.toNat, 0, 0]
def k0_off14 (d0 : Dev nD) : Fin 3 → Nat :=
  let c2_i32_20 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v39 : BitVec 32 := Scalar.muli c2_i32_20 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v40 : BitVec 32 := Scalar.addi v39 v5
  let c0_i32_147 : BitVec 32 := 0#32
  let c0_i32_148 : BitVec 32 := 0#32
  ![v40.toNat, 0, 0]
def k0_dev13 (d0 : Dev nD) : Nat :=
  let c0_i32_142 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_141 : BitVec 32 := 4#32
  let v225 : BitVec 32 := Scalar.muli v9 c4_i32_141
  let v226 : BitVec 32 := Scalar.addi c0_i32_142 v225
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_143 : BitVec 32 := 2#32
  let v227 : BitVec 32 := Scalar.muli v5 c2_i32_143
  let v228 : BitVec 32 := Scalar.addi v226 v227
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_144 : BitVec 32 := 1#32
  let v229 : BitVec 32 := Scalar.muli v8 c1_i32_144
  let v230 : BitVec 32 := Scalar.addi v228 v229
  v230.toNat
def k0_off15 (d0 : Dev nD) : Fin 3 → Nat :=
  let c2_i32_21 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v41 : BitVec 32 := Scalar.muli c2_i32_21 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v42 : BitVec 32 := Scalar.addi v41 v10
  let c0_i32_156 : BitVec 32 := 0#32
  let c0_i32_157 : BitVec 32 := 0#32
  ![v42.toNat, 0, 0]
def k0_dev14 (d0 : Dev nD) : Nat :=
  let c0_i32_151 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_150 : BitVec 32 := 4#32
  let v239 : BitVec 32 := Scalar.muli v2 c4_i32_150
  let v240 : BitVec 32 := Scalar.addi c0_i32_151 v239
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_152 : BitVec 32 := 2#32
  let v241 : BitVec 32 := Scalar.muli v10 c2_i32_152
  let v242 : BitVec 32 := Scalar.addi v240 v241
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_153 : BitVec 32 := 1#32
  let v243 : BitVec 32 := Scalar.muli v8 c1_i32_153
  let v244 : BitVec 32 := Scalar.addi v242 v243
  v244.toNat
def k0_off16 (d0 : Dev nD) : Fin 3 → Nat :=
  let c2_i32_22 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v43 : BitVec 32 := Scalar.muli c2_i32_22 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v44 : BitVec 32 := Scalar.addi v43 v12
  let c0_i32_165 : BitVec 32 := 0#32
  let c0_i32_166 : BitVec 32 := 0#32
  ![v44.toNat, 0, 0]
def k0_dev15 (d0 : Dev nD) : Nat :=
  let c0_i32_160 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_159 : BitVec 32 := 4#32
  let v253 : BitVec 32 := Scalar.muli v11 c4_i32_159
  let v254 : BitVec 32 := Scalar.addi c0_i32_160 v253
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_161 : BitVec 32 := 2#32
  let v255 : BitVec 32 := Scalar.muli v12 c2_i32_161
  let v256 : BitVec 32 := Scalar.addi v254 v255
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_162 : BitVec 32 := 1#32
  let v257 : BitVec 32 := Scalar.muli v8 c1_i32_162
  let v258 : BitVec 32 := Scalar.addi v256 v257
  v258.toNat
def k0_off17 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_172 : BitVec 32 := 0#32
  let c0_i32_173 : BitVec 32 := 0#32
  ![v14.toNat, 0, 0]
def k0_off18 (d0 : Dev nD) : Fin 3 → Nat :=
  let c2_i32_23 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v45 : BitVec 32 := Scalar.muli c2_i32_23 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v46 : BitVec 32 := Scalar.addi v45 v5
  let c0_i32_174 : BitVec 32 := 0#32
  let c0_i32_175 : BitVec 32 := 0#32
  ![v46.toNat, 0, 0]
def k0_dev16 (d0 : Dev nD) : Nat :=
  let c0_i32_169 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_168 : BitVec 32 := 4#32
  let v267 : BitVec 32 := Scalar.muli v9 c4_i32_168
  let v268 : BitVec 32 := Scalar.addi c0_i32_169 v267
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_170 : BitVec 32 := 2#32
  let v269 : BitVec 32 := Scalar.muli v5 c2_i32_170
  let v270 : BitVec 32 := Scalar.addi v268 v269
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_171 : BitVec 32 := 1#32
  let v271 : BitVec 32 := Scalar.muli v8 c1_i32_171
  let v272 : BitVec 32 := Scalar.addi v270 v271
  v272.toNat
def k0_off19 (d0 : Dev nD) : Fin 3 → Nat :=
  let c2_i32_24 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v47 : BitVec 32 := Scalar.muli c2_i32_24 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v48 : BitVec 32 := Scalar.addi v47 v10
  let c0_i32_183 : BitVec 32 := 0#32
  let c0_i32_184 : BitVec 32 := 0#32
  ![v48.toNat, 0, 0]
def k0_dev17 (d0 : Dev nD) : Nat :=
  let c0_i32_178 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_177 : BitVec 32 := 4#32
  let v281 : BitVec 32 := Scalar.muli v2 c4_i32_177
  let v282 : BitVec 32 := Scalar.addi c0_i32_178 v281
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_179 : BitVec 32 := 2#32
  let v283 : BitVec 32 := Scalar.muli v10 c2_i32_179
  let v284 : BitVec 32 := Scalar.addi v282 v283
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_180 : BitVec 32 := 1#32
  let v285 : BitVec 32 := Scalar.muli v8 c1_i32_180
  let v286 : BitVec 32 := Scalar.addi v284 v285
  v286.toNat
def k0_off20 (d0 : Dev nD) : Fin 3 → Nat :=
  let c2_i32_25 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v49 : BitVec 32 := Scalar.muli c2_i32_25 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v50 : BitVec 32 := Scalar.addi v49 v12
  let c0_i32_192 : BitVec 32 := 0#32
  let c0_i32_193 : BitVec 32 := 0#32
  ![v50.toNat, 0, 0]
def k0_dev18 (d0 : Dev nD) : Nat :=
  let c0_i32_187 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_186 : BitVec 32 := 4#32
  let v295 : BitVec 32 := Scalar.muli v11 c4_i32_186
  let v296 : BitVec 32 := Scalar.addi c0_i32_187 v295
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_188 : BitVec 32 := 2#32
  let v297 : BitVec 32 := Scalar.muli v12 c2_i32_188
  let v298 : BitVec 32 := Scalar.addi v296 v297
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_189 : BitVec 32 := 1#32
  let v299 : BitVec 32 := Scalar.muli v8 c1_i32_189
  let v300 : BitVec 32 := Scalar.addi v298 v299
  v300.toNat
def k0_dev19 (d0 : Dev nD) : Nat :=
  let c0_i32_196 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_195 : BitVec 32 := 4#32
  let v309 : BitVec 32 := Scalar.muli v9 c4_i32_195
  let v310 : BitVec 32 := Scalar.addi c0_i32_196 v309
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_197 : BitVec 32 := 2#32
  let v311 : BitVec 32 := Scalar.muli v5 c2_i32_197
  let v312 : BitVec 32 := Scalar.addi v310 v311
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_198 : BitVec 32 := 1#32
  let v313 : BitVec 32 := Scalar.muli v8 c1_i32_198
  let v314 : BitVec 32 := Scalar.addi v312 v313
  v314.toNat
def k0_dev20 (d0 : Dev nD) : Nat :=
  let c0_i32_205 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_204 : BitVec 32 := 4#32
  let v323 : BitVec 32 := Scalar.muli v2 c4_i32_204
  let v324 : BitVec 32 := Scalar.addi c0_i32_205 v323
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_206 : BitVec 32 := 2#32
  let v325 : BitVec 32 := Scalar.muli v10 c2_i32_206
  let v326 : BitVec 32 := Scalar.addi v324 v325
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_207 : BitVec 32 := 1#32
  let v327 : BitVec 32 := Scalar.muli v8 c1_i32_207
  let v328 : BitVec 32 := Scalar.addi v326 v327
  v328.toNat
def k0_dev21 (d0 : Dev nD) : Nat :=
  let c0_i32_214 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_213 : BitVec 32 := 4#32
  let v337 : BitVec 32 := Scalar.muli v11 c4_i32_213
  let v338 : BitVec 32 := Scalar.addi c0_i32_214 v337
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_215 : BitVec 32 := 2#32
  let v339 : BitVec 32 := Scalar.muli v12 c2_i32_215
  let v340 : BitVec 32 := Scalar.addi v338 v339
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_216 : BitVec 32 := 1#32
  let v341 : BitVec 32 := Scalar.muli v8 c1_i32_216
  let v342 : BitVec 32 := Scalar.addi v340 v341
  v342.toNat
-- ==== ChipExchangeReference.lean ====
abbrev S32x512x768 : Shape := ⟨3, ![32, 512, 768]⟩
abbrev S32x128x1024 : Shape := ⟨3, ![32, 128, 1024]⟩
abbrev S32x1024x704 : Shape := ⟨3, ![32, 1024, 704]⟩
abbrev S32x704x1024 : Shape := ⟨3, ![32, 704, 1024]⟩
abbrev S32x512x2304 : Shape := ⟨3, ![32, 512, 2304]⟩
abbrev S4x2x4x512x768 : Shape := ⟨5, ![4, 2, 4, 512, 768]⟩
abbrev S4x2x4x128x1024 : Shape := ⟨5, ![4, 2, 4, 128, 1024]⟩
abbrev S4x2x4x1024x704 : Shape := ⟨5, ![4, 2, 4, 1024, 704]⟩
abbrev S4x2x4x704x1024 : Shape := ⟨5, ![4, 2, 4, 704, 1024]⟩
abbrev S4x2x4x512x2304 : Shape := ⟨5, ![4, 2, 4, 512, 2304]⟩

abbrev nBuf : Space → Nat
  | .hbm => 28
  | .vmem => 0
  | .smem => 0
  | _ => 0

abbrev bufTy : (tb : Table) → Fin (tcTables nBuf tb) → BufTy
  | .hbm, ⟨0, _⟩ => ⟨S32x512x768, .bf16⟩
  | .hbm, ⟨1, _⟩ => ⟨S32x128x1024, .bf16⟩
  | .hbm, ⟨2, _⟩ => ⟨S32x1024x704, .bf16⟩
  | .hbm, ⟨3, _⟩ => ⟨S32x1024x704, .bf16⟩
  | .hbm, ⟨4, _⟩ => ⟨S32x704x1024, .bf16⟩
  | .hbm, ⟨5, _⟩ => ⟨S32x512x2304, .bf16⟩
  | .hbm, ⟨6, _⟩ => ⟨S32x128x1024, .bf16⟩
  | .hbm, ⟨7, _⟩ => ⟨S4x2x4x512x768, .bf16⟩
  | .hbm, ⟨8, _⟩ => ⟨S4x2x4x512x768, .bf16⟩
  | .hbm, ⟨9, _⟩ => ⟨S32x512x768, .bf16⟩
  | .hbm, ⟨10, _⟩ => ⟨S4x2x4x128x1024, .bf16⟩
  | .hbm, ⟨11, _⟩ => ⟨S4x2x4x128x1024, .bf16⟩
  | .hbm, ⟨12, _⟩ => ⟨S32x128x1024, .bf16⟩
  | .hbm, ⟨13, _⟩ => ⟨S4x2x4x1024x704, .bf16⟩
  | .hbm, ⟨14, _⟩ => ⟨S4x2x4x1024x704, .bf16⟩
  | .hbm, ⟨15, _⟩ => ⟨S32x1024x704, .bf16⟩
  | .hbm, ⟨16, _⟩ => ⟨S4x2x4x1024x704, .bf16⟩
  | .hbm, ⟨17, _⟩ => ⟨S4x2x4x1024x704, .bf16⟩
  | .hbm, ⟨18, _⟩ => ⟨S32x1024x704, .bf16⟩
  | .hbm, ⟨19, _⟩ => ⟨S4x2x4x704x1024, .bf16⟩
  | .hbm, ⟨20, _⟩ => ⟨S4x2x4x704x1024, .bf16⟩
  | .hbm, ⟨21, _⟩ => ⟨S32x704x1024, .bf16⟩
  | .hbm, ⟨22, _⟩ => ⟨S4x2x4x512x2304, .bf16⟩
  | .hbm, ⟨23, _⟩ => ⟨S4x2x4x512x2304, .bf16⟩
  | .hbm, ⟨24, _⟩ => ⟨S32x512x2304, .bf16⟩
  | .hbm, ⟨25, _⟩ => ⟨S4x2x4x128x1024, .bf16⟩
  | .hbm, ⟨26, _⟩ => ⟨S4x2x4x128x1024, .bf16⟩
  | .hbm, ⟨27, _⟩ => ⟨S32x128x1024, .bf16⟩
  | _, _ => ⟨S32x512x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== PairShare.lean ====
abbrev S512x768 : Shape := ⟨2, ![512, 768]⟩
abbrev S128x1024 : Shape := ⟨2, ![128, 1024]⟩
abbrev S1024x704 : Shape := ⟨2, ![1024, 704]⟩
abbrev S704x1024 : Shape := ⟨2, ![704, 1024]⟩
abbrev S512x2304 : Shape := ⟨2, ![512, 2304]⟩
abbrev S2x512x768 : Shape := ⟨3, ![2, 512, 768]⟩
abbrev S2x128x1024 : Shape := ⟨3, ![2, 128, 1024]⟩
abbrev S2x1024x704 : Shape := ⟨3, ![2, 1024, 704]⟩
abbrev S2x704x1024 : Shape := ⟨3, ![2, 704, 1024]⟩
abbrev S2x512x2304 : Shape := ⟨3, ![2, 512, 2304]⟩
abbrev S7 : Shape := ⟨1, ![7]⟩
abbrev S1 : Shape := ⟨1, ![1]⟩
abbrev S_ : Shape := ⟨0, ![]⟩
abbrev S1x512x768 : Shape := ⟨3, ![1, 512, 768]⟩
abbrev S1x128x1024 : Shape := ⟨3, ![1, 128, 1024]⟩
abbrev S1x1024x704 : Shape := ⟨3, ![1, 1024, 704]⟩
abbrev S1x704x1024 : Shape := ⟨3, ![1, 704, 1024]⟩
abbrev S1x512x2304 : Shape := ⟨3, ![1, 512, 2304]⟩

abbrev nBuf : Space → Nat
  | .hbm => 14
  | .vmem => 0
  | .smem => 0
  | _ => 0

abbrev bufTy : (tb : Table) → Fin (tcTables nBuf tb) → BufTy
  | .hbm, ⟨0, _⟩ => ⟨S512x768, .f32⟩
  | .hbm, ⟨1, _⟩ => ⟨S128x1024, .f32⟩
  | .hbm, ⟨2, _⟩ => ⟨S1024x704, .f32⟩
  | .hbm, ⟨3, _⟩ => ⟨S1024x704, .f32⟩
  | .hbm, ⟨4, _⟩ => ⟨S704x1024, .f32⟩
  | .hbm, ⟨5, _⟩ => ⟨S512x2304, .f32⟩
  | .hbm, ⟨6, _⟩ => ⟨S128x1024, .f32⟩
  | .hbm, ⟨7, _⟩ => ⟨S2x512x768, .f32⟩
  | .hbm, ⟨8, _⟩ => ⟨S2x128x1024, .f32⟩
  | .hbm, ⟨9, _⟩ => ⟨S2x1024x704, .f32⟩
  | .hbm, ⟨10, _⟩ => ⟨S2x1024x704, .f32⟩
  | .hbm, ⟨11, _⟩ => ⟨S2x704x1024, .f32⟩
  | .hbm, ⟨12, _⟩ => ⟨S2x512x2304, .f32⟩
  | .hbm, ⟨13, _⟩ => ⟨S2x128x1024, .f32⟩
  | _, _ => ⟨S512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev main_v1_5 : Ref sig .tc := ⟨.hbm, 12, rfl⟩
abbrev main_v1_6 : Ref sig .tc := ⟨.hbm, 13, rfl⟩

abbrev nD : Nat := 8
abbrev τ : Topo := Topo.v7x

variable {F : FTy → Type} [FloatOps F]

abbrev grid0 : Pipeline.Grid := .none

def k0_off1 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_15 : BitVec 32 := 0#32
  let c0_i32_16 : BitVec 32 := 0#32
  ![v8.toNat, 0, 0]
def k0_dev1 (d0 : Dev nD) : Nat :=
  let c0_i32_12 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_11 : BitVec 32 := 4#32
  let v16 : BitVec 32 := Scalar.muli v2 c4_i32_11
  let v17 : BitVec 32 := Scalar.addi c0_i32_12 v16
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_13 : BitVec 32 := 2#32
  let v18 : BitVec 32 := Scalar.muli v5 c2_i32_13
  let v19 : BitVec 32 := Scalar.addi v17 v18
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_14 : BitVec 32 := 1#32
  let v20 : BitVec 32 := Scalar.muli v9 c1_i32_14
  let v21 : BitVec 32 := Scalar.addi v19 v20
  v21.toNat
def k0_off2 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_23 : BitVec 32 := 0#32
  let c0_i32_24 : BitVec 32 := 0#32
  ![v8.toNat, 0, 0]
def k0_dev2 (d0 : Dev nD) : Nat :=
  let c0_i32_20 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_19 : BitVec 32 := 4#32
  let v28 : BitVec 32 := Scalar.muli v2 c4_i32_19
  let v29 : BitVec 32 := Scalar.addi c0_i32_20 v28
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_21 : BitVec 32 := 2#32
  let v30 : BitVec 32 := Scalar.muli v5 c2_i32_21
  let v31 : BitVec 32 := Scalar.addi v29 v30
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_22 : BitVec 32 := 1#32
  let v32 : BitVec 32 := Scalar.muli v10 c1_i32_22
  let v33 : BitVec 32 := Scalar.addi v31 v32
  v33.toNat
def k0_off3 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_31 : BitVec 32 := 0#32
  let c0_i32_32 : BitVec 32 := 0#32
  ![v8.toNat, 0, 0]
def k0_dev3 (d0 : Dev nD) : Nat :=
  let c0_i32_28 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_27 : BitVec 32 := 4#32
  let v40 : BitVec 32 := Scalar.muli v2 c4_i32_27
  let v41 : BitVec 32 := Scalar.addi c0_i32_28 v40
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_29 : BitVec 32 := 2#32
  let v42 : BitVec 32 := Scalar.muli v5 c2_i32_29
  let v43 : BitVec 32 := Scalar.addi v41 v42
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_30 : BitVec 32 := 1#32
  let v44 : BitVec 32 := Scalar.muli v11 c1_i32_30
  let v45 : BitVec 32 := Scalar.addi v43 v44
  v45.toNat
def k0_dev4 (d0 : Dev nD) : Nat :=
  let c0_i32_35 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_34 : BitVec 32 := 4#32
  let v52 : BitVec 32 := Scalar.muli v2 c4_i32_34
  let v53 : BitVec 32 := Scalar.addi c0_i32_35 v52
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_36 : BitVec 32 := 2#32
  let v54 : BitVec 32 := Scalar.muli v5 c2_i32_36
  let v55 : BitVec 32 := Scalar.addi v53 v54
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_6 v8
  let c1_i32_37 : BitVec 32 := 1#32
  let v56 : BitVec 32 := Scalar.muli v12 c1_i32_37
  let v57 : BitVec 32 := Scalar.addi v55 v56
  v57.toNat
def k0_off4 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_46 : BitVec 32 := 0#32
  let c0_i32_47 : BitVec 32 := 0#32
  ![v8.toNat, 0, 0]
def k0_dev5 (d0 : Dev nD) : Nat :=
  let c0_i32_43 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_42 : BitVec 32 := 4#32
  let v64 : BitVec 32 := Scalar.muli v2 c4_i32_42
  let v65 : BitVec 32 := Scalar.addi c0_i32_43 v64
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_44 : BitVec 32 := 2#32
  let v66 : BitVec 32 := Scalar.muli v5 c2_i32_44
  let v67 : BitVec 32 := Scalar.addi v65 v66
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c1_i32_45 : BitVec 32 := 1#32
  let v68 : BitVec 32 := Scalar.muli v13 c1_i32_45
  let v69 : BitVec 32 := Scalar.addi v67 v68
  v69.toNat
def k0_off5 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_53 : BitVec 32 := 0#32
  let c0_i32_54 : BitVec 32 := 0#32
  ![v8.toNat, 0, 0]
def k0_dev6 (d0 : Dev nD) : Nat :=
  let c0_i32_50 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_49 : BitVec 32 := 4#32
  let v76 : BitVec 32 := Scalar.muli v2 c4_i32_49
  let v77 : BitVec 32 := Scalar.addi c0_i32_50 v76
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_51 : BitVec 32 := 2#32
  let v78 : BitVec 32 := Scalar.muli v5 c2_i32_51
  let v79 : BitVec 32 := Scalar.addi v77 v78
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_8 v8
  let c1_i32_52 : BitVec 32 := 1#32
  let v80 : BitVec 32 := Scalar.muli v14 c1_i32_52
  let v81 : BitVec 32 := Scalar.addi v79 v80
  v81.toNat
def k0_dev7 (d0 : Dev nD) : Nat :=
  let c0_i32_57 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_56 : BitVec 32 := 4#32
  let v88 : BitVec 32 := Scalar.muli v2 c4_i32_56
  let v89 : BitVec 32 := Scalar.addi c0_i32_57 v88
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_58 : BitVec 32 := 2#32
  let v90 : BitVec 32 := Scalar.muli v5 c2_i32_58
  let v91 : BitVec 32 := Scalar.addi v89 v90
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_9 v8
  let c1_i32_59 : BitVec 32 := 1#32
  let v92 : BitVec 32 := Scalar.muli v15 c1_i32_59
  let v93 : BitVec 32 := Scalar.addi v91 v92
  v93.toNat
def k0_off6 (d0 : Dev nD) : Fin 3 → Nat :=
  let c1_i32_83 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v128 : BitVec 32 := Scalar.subi c1_i32_83 v8
  let c0_i32_91 : BitVec 32 := 0#32
  let c0_i32_92 : BitVec 32 := 0#32
  ![v128.toNat, 0, 0]
def k0_off7 (d0 : Dev nD) : Fin 3 → Nat :=
  let c1_i32_93 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v140 : BitVec 32 := Scalar.subi c1_i32_93 v8
  let c0_i32_101 : BitVec 32 := 0#32
  let c0_i32_102 : BitVec 32 := 0#32
  ![v140.toNat, 0, 0]
def k0_off8 (d0 : Dev nD) : Fin 3 → Nat :=
  let c1_i32_103 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v152 : BitVec 32 := Scalar.subi c1_i32_103 v8
  let c0_i32_111 : BitVec 32 := 0#32
  let c0_i32_112 : BitVec 32 := 0#32
  ![v152.toNat, 0, 0]
def k0_off9 (d0 : Dev nD) : Fin 3 → Nat :=
  let c1_i32_123 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v176 : BitVec 32 := Scalar.subi c1_i32_123 v8
  let c0_i32_131 : BitVec 32 := 0#32
  let c0_i32_132 : BitVec 32 := 0#32
  ![v176.toNat, 0, 0]
def k0_off10 (d0 : Dev nD) : Fin 3 → Nat :=
  let c1_i32_133 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v188 : BitVec 32 := Scalar.subi c1_i32_133 v8
  let c0_i32_141 : BitVec 32 := 0#32
  let c0_i32_142 : BitVec 32 := 0#32
  ![v188.toNat, 0, 0]
-- ==== PairShareReference.lean ====
abbrev S4096x768 : Shape := ⟨2, ![4096, 768]⟩
abbrev S1024x1024 : Shape := ⟨2, ![1024, 1024]⟩
abbrev S8192x704 : Shape := ⟨2, ![8192, 704]⟩
abbrev S5632x1024 : Shape := ⟨2, ![5632, 1024]⟩
abbrev S4096x2304 : Shape := ⟨2, ![4096, 2304]⟩
abbrev S8x512x768 : Shape := ⟨3, ![8, 512, 768]⟩
abbrev S8x128x1024 : Shape := ⟨3, ![8, 128, 1024]⟩
abbrev S8x1024x704 : Shape := ⟨3, ![8, 1024, 704]⟩
abbrev S8x704x1024 : Shape := ⟨3, ![8, 704, 1024]⟩
abbrev S8x512x2304 : Shape := ⟨3, ![8, 512, 2304]⟩

abbrev nBuf : Space → Nat
  | .hbm => 14
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S1024x1024, .f32⟩
  | .hbm, ⟨2, _⟩ => ⟨S8192x704, .f32⟩
  | .hbm, ⟨3, _⟩ => ⟨S8192x704, .f32⟩
  | .hbm, ⟨4, _⟩ => ⟨S5632x1024, .f32⟩
  | .hbm, ⟨5, _⟩ => ⟨S4096x2304, .f32⟩
  | .hbm, ⟨6, _⟩ => ⟨S1024x1024, .f32⟩
  | .hbm, ⟨7, _⟩ => ⟨S8x512x768, .f32⟩
  | .hbm, ⟨8, _⟩ => ⟨S8x128x1024, .f32⟩
  | .hbm, ⟨9, _⟩ => ⟨S8x1024x704, .f32⟩
  | .hbm, ⟨10, _⟩ => ⟨S8x1024x704, .f32⟩
  | .hbm, ⟨11, _⟩ => ⟨S8x704x1024, .f32⟩
  | .hbm, ⟨12, _⟩ => ⟨S8x512x2304, .f32⟩
  | .hbm, ⟨13, _⟩ => ⟨S8x128x1024, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩

abbrev nD : Nat := 1
abbrev τ : Topo := Topo.v7x

variable {F : FTy → Type} [FloatOps F]
-- ==== PairSumNaQkv.lean ====
abbrev S4x512x768 : Shape := ⟨3, ![4, 512, 768]⟩
abbrev S1x256x768 : Shape := ⟨3, ![1, 256, 768]⟩
abbrev S256x768 : Shape := ⟨2, ![256, 768]⟩

abbrev nBuf : Space → Nat
  | .hbm => 3
  | .vmem => 6
  | .smem => 0
  | _ => 0

abbrev bufTy : (tb : Table) → Fin (tcTables nBuf tb) → BufTy
  | .hbm, ⟨0, _⟩ => ⟨S4x512x768, .bf16⟩
  | .hbm, ⟨1, _⟩ => ⟨S4x512x768, .bf16⟩
  | .hbm, ⟨2, _⟩ => ⟨S4x512x768, .bf16⟩
  | .local _ .vmem, ⟨0, _⟩ => ⟨S1x256x768, .bf16⟩
  | .local _ .vmem, ⟨1, _⟩ => ⟨S1x256x768, .bf16⟩
  | .local _ .vmem, ⟨2, _⟩ => ⟨S1x256x768, .bf16⟩
  | .local _ .vmem, ⟨3, _⟩ => ⟨S1x256x768, .bf16⟩
  | .local _ .vmem, ⟨4, _⟩ => ⟨S1x256x768, .bf16⟩
  | .local _ .vmem, ⟨5, _⟩ => ⟨S1x256x768, .bf16⟩
  | _, _ => ⟨S4x512x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairSumNaQkvIdeal.lean ====
abbrev S4x512x768 : Shape := ⟨3, ![4, 512, 768]⟩
abbrev S1x256x768 : Shape := ⟨3, ![1, 256, 768]⟩
abbrev S256x768 : Shape := ⟨2, ![256, 768]⟩

abbrev nBuf : Space → Nat
  | .hbm => 3
  | .vmem => 6
  | .smem => 0
  | _ => 0

abbrev bufTy : (tb : Table) → Fin (tcTables nBuf tb) → BufTy
  | .hbm, ⟨0, _⟩ => ⟨S4x512x768, .bf16⟩
  | .hbm, ⟨1, _⟩ => ⟨S4x512x768, .bf16⟩
  | .hbm, ⟨2, _⟩ => ⟨S4x512x768, .bf16⟩
  | .local _ .vmem, ⟨0, _⟩ => ⟨S1x256x768, .bf16⟩
  | .local _ .vmem, ⟨1, _⟩ => ⟨S1x256x768, .bf16⟩
  | .local _ .vmem, ⟨2, _⟩ => ⟨S1x256x768, .bf16⟩
  | .local _ .vmem, ⟨3, _⟩ => ⟨S1x256x768, .bf16⟩
  | .local _ .vmem, ⟨4, _⟩ => ⟨S1x256x768, .bf16⟩
  | .local _ .vmem, ⟨5, _⟩ => ⟨S1x256x768, .bf16⟩
  | _, _ => ⟨S4x512x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairSumNaQkvReferenceIdeal.lean ====
abbrev S4x512x768 : Shape := ⟨3, ![4, 512, 768]⟩

abbrev nBuf : Space → Nat
  | .hbm => 6
  | .vmem => 0
  | .smem => 0
  | _ => 0

abbrev bufTy : (tb : Table) → Fin (tcTables nBuf tb) → BufTy
  | .hbm, ⟨0, _⟩ => ⟨S4x512x768, .bf16⟩
  | .hbm, ⟨1, _⟩ => ⟨S4x512x768, .bf16⟩
  | .hbm, ⟨2, _⟩ => ⟨S4x512x768, .f32⟩
  | .hbm, ⟨3, _⟩ => ⟨S4x512x768, .f32⟩
  | .hbm, ⟨4, _⟩ => ⟨S4x512x768, .f32⟩
  | .hbm, ⟨5, _⟩ => ⟨S4x512x768, .bf16⟩
  | _, _ => ⟨S4x512x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== PairSumNaQkvReference.lean ====
abbrev S4x512x768 : Shape := ⟨3, ![4, 512, 768]⟩

abbrev nBuf : Space → Nat
  | .hbm => 6
  | .vmem => 0
  | .smem => 0
  | _ => 0

abbrev bufTy : (tb : Table) → Fin (tcTables nBuf tb) → BufTy
  | .hbm, ⟨0, _⟩ => ⟨S4x512x768, .bf16⟩
  | .hbm, ⟨1, _⟩ => ⟨S4x512x768, .bf16⟩
  | .hbm, ⟨2, _⟩ => ⟨S4x512x768, .f32⟩
  | .hbm, ⟨3, _⟩ => ⟨S4x512x768, .f32⟩
  | .hbm, ⟨4, _⟩ => ⟨S4x512x768, .f32⟩
  | .hbm, ⟨5, _⟩ => ⟨S4x512x768, .bf16⟩
  | _, _ => ⟨S4x512x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== PairSumOut.lean ====
abbrev S4x128x1024 : Shape := ⟨3, ![4, 128, 1024]⟩
abbrev S1x128x1024 : Shape := ⟨3, ![1, 128, 1024]⟩
abbrev S128x1024 : Shape := ⟨2, ![128, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x128x1024, .bf16⟩
  | .hbm, ⟨1, _⟩ => ⟨S4x128x1024, .bf16⟩
  | .hbm, ⟨2, _⟩ => ⟨S4x128x1024, .bf16⟩
  | .local _ .vmem, ⟨0, _⟩ => ⟨S1x128x1024, .bf16⟩
  | .local _ .vmem, ⟨1, _⟩ => ⟨S1x128x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S1x128x1024, .bf16⟩
  | .local _ .vmem, ⟨5, _⟩ => ⟨S1x128x1024, .bf16⟩
  | _, _ => ⟨S4x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairSumOutIdeal.lean ====
abbrev S4x128x1024 : Shape := ⟨3, ![4, 128, 1024]⟩
abbrev S1x128x1024 : Shape := ⟨3, ![1, 128, 1024]⟩
abbrev S128x1024 : Shape := ⟨2, ![128, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x128x1024, .bf16⟩
  | .hbm, ⟨1, _⟩ => ⟨S4x128x1024, .bf16⟩
  | .hbm, ⟨2, _⟩ => ⟨S4x128x1024, .bf16⟩
  | .local _ .vmem, ⟨0, _⟩ => ⟨S1x128x1024, .bf16⟩
  | .local _ .vmem, ⟨1, _⟩ => ⟨S1x128x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S1x128x1024, .bf16⟩
  | .local _ .vmem, ⟨5, _⟩ => ⟨S1x128x1024, .bf16⟩
  | _, _ => ⟨S4x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairSumOutReferenceIdeal.lean ====
abbrev S4x128x1024 : Shape := ⟨3, ![4, 128, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4x128x1024, .bf16⟩
  | .hbm, ⟨1, _⟩ => ⟨S4x128x1024, .bf16⟩
  | .hbm, ⟨2, _⟩ => ⟨S4x128x1024, .f32⟩
  | .hbm, ⟨3, _⟩ => ⟨S4x128x1024, .f32⟩
  | .hbm, ⟨4, _⟩ => ⟨S4x128x1024, .f32⟩
  | .hbm, ⟨5, _⟩ => ⟨S4x128x1024, .bf16⟩
  | _, _ => ⟨S4x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== PairSumOutReference.lean ====
abbrev S4x128x1024 : Shape := ⟨3, ![4, 128, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4x128x1024, .bf16⟩
  | .hbm, ⟨1, _⟩ => ⟨S4x128x1024, .bf16⟩
  | .hbm, ⟨2, _⟩ => ⟨S4x128x1024, .f32⟩
  | .hbm, ⟨3, _⟩ => ⟨S4x128x1024, .f32⟩
  | .hbm, ⟨4, _⟩ => ⟨S4x128x1024, .f32⟩
  | .hbm, ⟨5, _⟩ => ⟨S4x128x1024, .bf16⟩
  | _, _ => ⟨S4x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== PairSumFfn.lean ====
abbrev S4x1024x704 : Shape := ⟨3, ![4, 1024, 704]⟩
abbrev S1x256x704 : Shape := ⟨3, ![1, 256, 704]⟩
abbrev S256x704 : Shape := ⟨2, ![256, 704]⟩

abbrev nBuf : Space → Nat
  | .hbm => 3
  | .vmem => 6
  | .smem => 0
  | _ => 0

abbrev bufTy : (tb : Table) → Fin (tcTables nBuf tb) → BufTy
  | .hbm, ⟨0, _⟩ => ⟨S4x1024x704, .bf16⟩
  | .hbm, ⟨1, _⟩ => ⟨S4x1024x704, .bf16⟩
  | .hbm, ⟨2, _⟩ => ⟨S4x1024x704, .bf16⟩
  | .local _ .vmem, ⟨0, _⟩ => ⟨S1x256x704, .bf16⟩
  | .local _ .vmem, ⟨1, _⟩ => ⟨S1x256x704, .bf16⟩
  | .local _ .vmem, ⟨2, _⟩ => ⟨S1x256x704, .bf16⟩
  | .local _ .vmem, ⟨3, _⟩ => ⟨S1x256x704, .bf16⟩
  | .local _ .vmem, ⟨4, _⟩ => ⟨S1x256x704, .bf16⟩
  | .local _ .vmem, ⟨5, _⟩ => ⟨S1x256x704, .bf16⟩
  | _, _ => ⟨S4x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairSumFfnIdeal.lean ====
abbrev S4x1024x704 : Shape := ⟨3, ![4, 1024, 704]⟩
abbrev S1x256x704 : Shape := ⟨3, ![1, 256, 704]⟩
abbrev S256x704 : Shape := ⟨2, ![256, 704]⟩

abbrev nBuf : Space → Nat
  | .hbm => 3
  | .vmem => 6
  | .smem => 0
  | _ => 0

abbrev bufTy : (tb : Table) → Fin (tcTables nBuf tb) → BufTy
  | .hbm, ⟨0, _⟩ => ⟨S4x1024x704, .bf16⟩
  | .hbm, ⟨1, _⟩ => ⟨S4x1024x704, .bf16⟩
  | .hbm, ⟨2, _⟩ => ⟨S4x1024x704, .bf16⟩
  | .local _ .vmem, ⟨0, _⟩ => ⟨S1x256x704, .bf16⟩
  | .local _ .vmem, ⟨1, _⟩ => ⟨S1x256x704, .bf16⟩
  | .local _ .vmem, ⟨2, _⟩ => ⟨S1x256x704, .bf16⟩
  | .local _ .vmem, ⟨3, _⟩ => ⟨S1x256x704, .bf16⟩
  | .local _ .vmem, ⟨4, _⟩ => ⟨S1x256x704, .bf16⟩
  | .local _ .vmem, ⟨5, _⟩ => ⟨S1x256x704, .bf16⟩
  | _, _ => ⟨S4x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairSumFfnReferenceIdeal.lean ====
abbrev S4x1024x704 : Shape := ⟨3, ![4, 1024, 704]⟩

abbrev nBuf : Space → Nat
  | .hbm => 6
  | .vmem => 0
  | .smem => 0
  | _ => 0

abbrev bufTy : (tb : Table) → Fin (tcTables nBuf tb) → BufTy
  | .hbm, ⟨0, _⟩ => ⟨S4x1024x704, .bf16⟩
  | .hbm, ⟨1, _⟩ => ⟨S4x1024x704, .bf16⟩
  | .hbm, ⟨2, _⟩ => ⟨S4x1024x704, .f32⟩
  | .hbm, ⟨3, _⟩ => ⟨S4x1024x704, .f32⟩
  | .hbm, ⟨4, _⟩ => ⟨S4x1024x704, .f32⟩
  | .hbm, ⟨5, _⟩ => ⟨S4x1024x704, .bf16⟩
  | _, _ => ⟨S4x1024x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== PairSumFfnReference.lean ====
abbrev S4x1024x704 : Shape := ⟨3, ![4, 1024, 704]⟩

abbrev nBuf : Space → Nat
  | .hbm => 6
  | .vmem => 0
  | .smem => 0
  | _ => 0

abbrev bufTy : (tb : Table) → Fin (tcTables nBuf tb) → BufTy
  | .hbm, ⟨0, _⟩ => ⟨S4x1024x704, .bf16⟩
  | .hbm, ⟨1, _⟩ => ⟨S4x1024x704, .bf16⟩
  | .hbm, ⟨2, _⟩ => ⟨S4x1024x704, .f32⟩
  | .hbm, ⟨3, _⟩ => ⟨S4x1024x704, .f32⟩
  | .hbm, ⟨4, _⟩ => ⟨S4x1024x704, .f32⟩
  | .hbm, ⟨5, _⟩ => ⟨S4x1024x704, .bf16⟩
  | _, _ => ⟨S4x1024x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== PairSumFfnDown.lean ====
abbrev S4x704x1024 : Shape := ⟨3, ![4, 704, 1024]⟩
abbrev S1x176x1024 : Shape := ⟨3, ![1, 176, 1024]⟩
abbrev S176x1024 : Shape := ⟨2, ![176, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x704x1024, .bf16⟩
  | .hbm, ⟨1, _⟩ => ⟨S4x704x1024, .bf16⟩
  | .hbm, ⟨2, _⟩ => ⟨S4x704x1024, .bf16⟩
  | .local _ .vmem, ⟨0, _⟩ => ⟨S1x176x1024, .bf16⟩
  | .local _ .vmem, ⟨1, _⟩ => ⟨S1x176x1024, .bf16⟩
  | .local _ .vmem, ⟨2, _⟩ => ⟨S1x176x1024, .bf16⟩
  | .local _ .vmem, ⟨3, _⟩ => ⟨S1x176x1024, .bf16⟩
  | .local _ .vmem, ⟨4, _⟩ => ⟨S1x176x1024, .bf16⟩
  | .local _ .vmem, ⟨5, _⟩ => ⟨S1x176x1024, .bf16⟩
  | _, _ => ⟨S4x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairSumFfnDownIdeal.lean ====
abbrev S4x704x1024 : Shape := ⟨3, ![4, 704, 1024]⟩
abbrev S1x176x1024 : Shape := ⟨3, ![1, 176, 1024]⟩
abbrev S176x1024 : Shape := ⟨2, ![176, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x704x1024, .bf16⟩
  | .hbm, ⟨1, _⟩ => ⟨S4x704x1024, .bf16⟩
  | .hbm, ⟨2, _⟩ => ⟨S4x704x1024, .bf16⟩
  | .local _ .vmem, ⟨0, _⟩ => ⟨S1x176x1024, .bf16⟩
  | .local _ .vmem, ⟨1, _⟩ => ⟨S1x176x1024, .bf16⟩
  | .local _ .vmem, ⟨2, _⟩ => ⟨S1x176x1024, .bf16⟩
  | .local _ .vmem, ⟨3, _⟩ => ⟨S1x176x1024, .bf16⟩
  | .local _ .vmem, ⟨4, _⟩ => ⟨S1x176x1024, .bf16⟩
  | .local _ .vmem, ⟨5, _⟩ => ⟨S1x176x1024, .bf16⟩
  | _, _ => ⟨S4x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairSumFfnDownReferenceIdeal.lean ====
abbrev S4x704x1024 : Shape := ⟨3, ![4, 704, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4x704x1024, .bf16⟩
  | .hbm, ⟨1, _⟩ => ⟨S4x704x1024, .bf16⟩
  | .hbm, ⟨2, _⟩ => ⟨S4x704x1024, .f32⟩
  | .hbm, ⟨3, _⟩ => ⟨S4x704x1024, .f32⟩
  | .hbm, ⟨4, _⟩ => ⟨S4x704x1024, .f32⟩
  | .hbm, ⟨5, _⟩ => ⟨S4x704x1024, .bf16⟩
  | _, _ => ⟨S4x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== PairSumFfnDownReference.lean ====
abbrev S4x704x1024 : Shape := ⟨3, ![4, 704, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4x704x1024, .bf16⟩
  | .hbm, ⟨1, _⟩ => ⟨S4x704x1024, .bf16⟩
  | .hbm, ⟨2, _⟩ => ⟨S4x704x1024, .f32⟩
  | .hbm, ⟨3, _⟩ => ⟨S4x704x1024, .f32⟩
  | .hbm, ⟨4, _⟩ => ⟨S4x704x1024, .f32⟩
  | .hbm, ⟨5, _⟩ => ⟨S4x704x1024, .bf16⟩
  | _, _ => ⟨S4x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== PairSumDilQkv.lean ====
abbrev S4x512x2304 : Shape := ⟨3, ![4, 512, 2304]⟩
abbrev S1x64x2304 : Shape := ⟨3, ![1, 64, 2304]⟩
abbrev S64x2304 : Shape := ⟨2, ![64, 2304]⟩

abbrev nBuf : Space → Nat
  | .hbm => 3
  | .vmem => 6
  | .smem => 0
  | _ => 0

abbrev bufTy : (tb : Table) → Fin (tcTables nBuf tb) → BufTy
  | .hbm, ⟨0, _⟩ => ⟨S4x512x2304, .bf16⟩
  | .hbm, ⟨1, _⟩ => ⟨S4x512x2304, .bf16⟩
  | .hbm, ⟨2, _⟩ => ⟨S4x512x2304, .bf16⟩
  | .local _ .vmem, ⟨0, _⟩ => ⟨S1x64x2304, .bf16⟩
  | .local _ .vmem, ⟨1, _⟩ => ⟨S1x64x2304, .bf16⟩
  | .local _ .vmem, ⟨2, _⟩ => ⟨S1x64x2304, .bf16⟩
  | .local _ .vmem, ⟨3, _⟩ => ⟨S1x64x2304, .bf16⟩
  | .local _ .vmem, ⟨4, _⟩ => ⟨S1x64x2304, .bf16⟩
  | .local _ .vmem, ⟨5, _⟩ => ⟨S1x64x2304, .bf16⟩
  | _, _ => ⟨S4x512x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairSumDilQkvIdeal.lean ====
abbrev S4x512x2304 : Shape := ⟨3, ![4, 512, 2304]⟩
abbrev S1x64x2304 : Shape := ⟨3, ![1, 64, 2304]⟩
abbrev S64x2304 : Shape := ⟨2, ![64, 2304]⟩

abbrev nBuf : Space → Nat
  | .hbm => 3
  | .vmem => 6
  | .smem => 0
  | _ => 0

abbrev bufTy : (tb : Table) → Fin (tcTables nBuf tb) → BufTy
  | .hbm, ⟨0, _⟩ => ⟨S4x512x2304, .bf16⟩
  | .hbm, ⟨1, _⟩ => ⟨S4x512x2304, .bf16⟩
  | .hbm, ⟨2, _⟩ => ⟨S4x512x2304, .bf16⟩
  | .local _ .vmem, ⟨0, _⟩ => ⟨S1x64x2304, .bf16⟩
  | .local _ .vmem, ⟨1, _⟩ => ⟨S1x64x2304, .bf16⟩
  | .local _ .vmem, ⟨2, _⟩ => ⟨S1x64x2304, .bf16⟩
  | .local _ .vmem, ⟨3, _⟩ => ⟨S1x64x2304, .bf16⟩
  | .local _ .vmem, ⟨4, _⟩ => ⟨S1x64x2304, .bf16⟩
  | .local _ .vmem, ⟨5, _⟩ => ⟨S1x64x2304, .bf16⟩
  | _, _ => ⟨S4x512x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairSumDilQkvReference.lean ====
abbrev S4x512x2304 : Shape := ⟨3, ![4, 512, 2304]⟩

abbrev nBuf : Space → Nat
  | .hbm => 6
  | .vmem => 0
  | .smem => 0
  | _ => 0

abbrev bufTy : (tb : Table) → Fin (tcTables nBuf tb) → BufTy
  | .hbm, ⟨0, _⟩ => ⟨S4x512x2304, .bf16⟩
  | .hbm, ⟨1, _⟩ => ⟨S4x512x2304, .bf16⟩
  | .hbm, ⟨2, _⟩ => ⟨S4x512x2304, .f32⟩
  | .hbm, ⟨3, _⟩ => ⟨S4x512x2304, .f32⟩
  | .hbm, ⟨4, _⟩ => ⟨S4x512x2304, .f32⟩
  | .hbm, ⟨5, _⟩ => ⟨S4x512x2304, .bf16⟩
  | _, _ => ⟨S4x512x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ChipSumNaQkv.lean ====
abbrev S4x512x768 : Shape := ⟨3, ![4, 512, 768]⟩
abbrev S512x768 : Shape := ⟨2, ![512, 768]⟩
abbrev S4x256x768 : Shape := ⟨3, ![4, 256, 768]⟩
abbrev S256x768 : Shape := ⟨2, ![256, 768]⟩
abbrev S1x256x768 : Shape := ⟨3, ![1, 256, 768]⟩

abbrev nBuf : Space → Nat
  | .hbm => 2
  | .vmem => 4
  | .smem => 0
  | _ => 0

abbrev bufTy : (tb : Table) → Fin (tcTables nBuf tb) → BufTy
  | .hbm, ⟨0, _⟩ => ⟨S4x512x768, .bf16⟩
  | .hbm, ⟨1, _⟩ => ⟨S512x768, .f32⟩
  | .local _ .vmem, ⟨0, _⟩ => ⟨S4x256x768, .bf16⟩
  | .local _ .vmem, ⟨1, _⟩ => ⟨S4x256x768, .bf16⟩
  | .local _ .vmem, ⟨2, _⟩ => ⟨S256x768, .f32⟩
  | .local _ .vmem, ⟨3, _⟩ => ⟨S256x768, .f32⟩
  | _, _ => ⟨S4x512x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ChipSumNaQkvIdeal.lean ====
abbrev S4x512x768 : Shape := ⟨3, ![4, 512, 768]⟩
abbrev S512x768 : Shape := ⟨2, ![512, 768]⟩
abbrev S4x256x768 : Shape := ⟨3, ![4, 256, 768]⟩
abbrev S256x768 : Shape := ⟨2, ![256, 768]⟩
abbrev S1x256x768 : Shape := ⟨3, ![1, 256, 768]⟩

abbrev nBuf : Space → Nat
  | .hbm => 2
  | .vmem => 4
  | .smem => 0
  | _ => 0

abbrev bufTy : (tb : Table) → Fin (tcTables nBuf tb) → BufTy
  | .hbm, ⟨0, _⟩ => ⟨S4x512x768, .bf16⟩
  | .hbm, ⟨1, _⟩ => ⟨S512x768, .f32⟩
  | .local _ .vmem, ⟨0, _⟩ => ⟨S4x256x768, .bf16⟩
  | .local _ .vmem, ⟨1, _⟩ => ⟨S4x256x768, .bf16⟩
  | .local _ .vmem, ⟨2, _⟩ => ⟨S256x768, .f32⟩
  | .local _ .vmem, ⟨3, _⟩ => ⟨S256x768, .f32⟩
  | _, _ => ⟨S4x512x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ChipSumNaQkvReferenceIdeal.lean ====
abbrev S4x512x768 : Shape := ⟨3, ![4, 512, 768]⟩
abbrev S1x512x768 : Shape := ⟨3, ![1, 512, 768]⟩
abbrev S512x768 : Shape := ⟨2, ![512, 768]⟩

abbrev nBuf : Space → Nat
  | .hbm => 13
  | .vmem => 0
  | .smem => 0
  | _ => 0

abbrev bufTy : (tb : Table) → Fin (tcTables nBuf tb) → BufTy
  | .hbm, ⟨0, _⟩ => ⟨S4x512x768, .bf16⟩
  | .hbm, ⟨1, _⟩ => ⟨S4x512x768, .f32⟩
  | .hbm, ⟨2, _⟩ => ⟨S1x512x768, .f32⟩
  | .hbm, ⟨3, _⟩ => ⟨S512x768, .f32⟩
  | .hbm, ⟨4, _⟩ => ⟨S1x512x768, .f32⟩
  | .hbm, ⟨5, _⟩ => ⟨S512x768, .f32⟩
  | .hbm, ⟨6, _⟩ => ⟨S512x768, .f32⟩
  | .hbm, ⟨7, _⟩ => ⟨S1x512x768, .f32⟩
  | .hbm, ⟨8, _⟩ => ⟨S512x768, .f32⟩
  | .hbm, ⟨9, _⟩ => ⟨S512x768, .f32⟩
  | .hbm, ⟨10, _⟩ => ⟨S1x512x768, .f32⟩
  | .hbm, ⟨11, _⟩ => ⟨S512x768, .f32⟩
  | .hbm, ⟨12, _⟩ => ⟨S512x768, .f32⟩
  | _, _ => ⟨S4x512x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩

abbrev nD : Nat := 1
abbrev τ : Topo := Topo.v7x

variable {F : FTy → Type} [FloatOps F]
-- ==== ChipSumNaQkvReference.lean ====
abbrev S4x512x768 : Shape := ⟨3, ![4, 512, 768]⟩
abbrev S1x512x768 : Shape := ⟨3, ![1, 512, 768]⟩
abbrev S512x768 : Shape := ⟨2, ![512, 768]⟩

abbrev nBuf : Space → Nat
  | .hbm => 13
  | .vmem => 0
  | .smem => 0
  | _ => 0

abbrev bufTy : (tb : Table) → Fin (tcTables nBuf tb) → BufTy
  | .hbm, ⟨0, _⟩ => ⟨S4x512x768, .bf16⟩
  | .hbm, ⟨1, _⟩ => ⟨S4x512x768, .f32⟩
  | .hbm, ⟨2, _⟩ => ⟨S1x512x768, .f32⟩
  | .hbm, ⟨3, _⟩ => ⟨S512x768, .f32⟩
  | .hbm, ⟨4, _⟩ => ⟨S1x512x768, .f32⟩
  | .hbm, ⟨5, _⟩ => ⟨S512x768, .f32⟩
  | .hbm, ⟨6, _⟩ => ⟨S512x768, .f32⟩
  | .hbm, ⟨7, _⟩ => ⟨S1x512x768, .f32⟩
  | .hbm, ⟨8, _⟩ => ⟨S512x768, .f32⟩
  | .hbm, ⟨9, _⟩ => ⟨S512x768, .f32⟩
  | .hbm, ⟨10, _⟩ => ⟨S1x512x768, .f32⟩
  | .hbm, ⟨11, _⟩ => ⟨S512x768, .f32⟩
  | .hbm, ⟨12, _⟩ => ⟨S512x768, .f32⟩
  | _, _ => ⟨S4x512x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩

abbrev nD : Nat := 1
abbrev τ : Topo := Topo.v7x

variable {F : FTy → Type} [FloatOps F]
-- ==== ChipSumOut.lean ====
abbrev S4x128x1024 : Shape := ⟨3, ![4, 128, 1024]⟩
abbrev S128x1024 : Shape := ⟨2, ![128, 1024]⟩
abbrev S1x128x1024 : Shape := ⟨3, ![1, 128, 1024]⟩

abbrev nBuf : Space → Nat
  | .hbm => 2
  | .vmem => 2
  | .smem => 0
  | _ => 0

abbrev bufTy : (tb : Table) → Fin (tcTables nBuf tb) → BufTy
  | .hbm, ⟨0, _⟩ => ⟨S4x128x1024, .bf16⟩
  | .hbm, ⟨1, _⟩ => ⟨S128x1024, .f32⟩
  | .local _ .vmem, ⟨0, _⟩ => ⟨S4x128x1024, .bf16⟩
  | .local _ .vmem, ⟨1, _⟩ => ⟨S128x1024, .f32⟩
  | _, _ => ⟨S4x128x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== ChipSumOutIdeal.lean ====
abbrev S4x128x1024 : Shape := ⟨3, ![4, 128, 1024]⟩
abbrev S128x1024 : Shape := ⟨2, ![128, 1024]⟩
abbrev S1x128x1024 : Shape := ⟨3, ![1, 128, 1024]⟩

abbrev nBuf : Space → Nat
  | .hbm => 2
  | .vmem => 2
  | .smem => 0
  | _ => 0

abbrev bufTy : (tb : Table) → Fin (tcTables nBuf tb) → BufTy
  | .hbm, ⟨0, _⟩ => ⟨S4x128x1024, .bf16⟩
  | .hbm, ⟨1, _⟩ => ⟨S128x1024, .f32⟩
  | .local _ .vmem, ⟨0, _⟩ => ⟨S4x128x1024, .bf16⟩
  | .local _ .vmem, ⟨1, _⟩ => ⟨S128x1024, .f32⟩
  | _, _ => ⟨S4x128x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== ChipSumOutReferenceIdeal.lean ====
abbrev S4x128x1024 : Shape := ⟨3, ![4, 128, 1024]⟩
abbrev S1x128x1024 : Shape := ⟨3, ![1, 128, 1024]⟩
abbrev S128x1024 : Shape := ⟨2, ![128, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4x128x1024, .bf16⟩
  | .hbm, ⟨1, _⟩ => ⟨S4x128x1024, .f32⟩
  | .hbm, ⟨2, _⟩ => ⟨S1x128x1024, .f32⟩
  | .hbm, ⟨3, _⟩ => ⟨S128x1024, .f32⟩
  | .hbm, ⟨4, _⟩ => ⟨S1x128x1024, .f32⟩
  | .hbm, ⟨5, _⟩ => ⟨S128x1024, .f32⟩
  | .hbm, ⟨6, _⟩ => ⟨S128x1024, .f32⟩
  | .hbm, ⟨7, _⟩ => ⟨S1x128x1024, .f32⟩
  | .hbm, ⟨8, _⟩ => ⟨S128x1024, .f32⟩
  | .hbm, ⟨9, _⟩ => ⟨S128x1024, .f32⟩
  | .hbm, ⟨10, _⟩ => ⟨S1x128x1024, .f32⟩
  | .hbm, ⟨11, _⟩ => ⟨S128x1024, .f32⟩
  | .hbm, ⟨12, _⟩ => ⟨S128x1024, .f32⟩
  | _, _ => ⟨S4x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩

abbrev nD : Nat := 1
abbrev τ : Topo := Topo.v7x

variable {F : FTy → Type} [FloatOps F]
-- ==== ChipSumOutReference.lean ====
abbrev S4x128x1024 : Shape := ⟨3, ![4, 128, 1024]⟩
abbrev S1x128x1024 : Shape := ⟨3, ![1, 128, 1024]⟩
abbrev S128x1024 : Shape := ⟨2, ![128, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4x128x1024, .bf16⟩
  | .hbm, ⟨1, _⟩ => ⟨S4x128x1024, .f32⟩
  | .hbm, ⟨2, _⟩ => ⟨S1x128x1024, .f32⟩
  | .hbm, ⟨3, _⟩ => ⟨S128x1024, .f32⟩
  | .hbm, ⟨4, _⟩ => ⟨S1x128x1024, .f32⟩
  | .hbm, ⟨5, _⟩ => ⟨S128x1024, .f32⟩
  | .hbm, ⟨6, _⟩ => ⟨S128x1024, .f32⟩
  | .hbm, ⟨7, _⟩ => ⟨S1x128x1024, .f32⟩
  | .hbm, ⟨8, _⟩ => ⟨S128x1024, .f32⟩
  | .hbm, ⟨9, _⟩ => ⟨S128x1024, .f32⟩
  | .hbm, ⟨10, _⟩ => ⟨S1x128x1024, .f32⟩
  | .hbm, ⟨11, _⟩ => ⟨S128x1024, .f32⟩
  | .hbm, ⟨12, _⟩ => ⟨S128x1024, .f32⟩
  | _, _ => ⟨S4x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩

abbrev nD : Nat := 1
abbrev τ : Topo := Topo.v7x

variable {F : FTy → Type} [FloatOps F]
-- ==== ChipSumFfn.lean ====
abbrev S4x1024x704 : Shape := ⟨3, ![4, 1024, 704]⟩
abbrev S1024x704 : Shape := ⟨2, ![1024, 704]⟩
abbrev S4x256x704 : Shape := ⟨3, ![4, 256, 704]⟩
abbrev S256x704 : Shape := ⟨2, ![256, 704]⟩
abbrev S1x256x704 : Shape := ⟨3, ![1, 256, 704]⟩

abbrev nBuf : Space → Nat
  | .hbm => 2
  | .vmem => 4
  | .smem => 0
  | _ => 0

abbrev bufTy : (tb : Table) → Fin (tcTables nBuf tb) → BufTy
  | .hbm, ⟨0, _⟩ => ⟨S4x1024x704, .bf16⟩
  | .hbm, ⟨1, _⟩ => ⟨S1024x704, .f32⟩
  | .local _ .vmem, ⟨0, _⟩ => ⟨S4x256x704, .bf16⟩
  | .local _ .vmem, ⟨1, _⟩ => ⟨S4x256x704, .bf16⟩
  | .local _ .vmem, ⟨2, _⟩ => ⟨S256x704, .f32⟩
  | .local _ .vmem, ⟨3, _⟩ => ⟨S256x704, .f32⟩
  | _, _ => ⟨S4x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ChipSumFfnIdeal.lean ====
abbrev S4x1024x704 : Shape := ⟨3, ![4, 1024, 704]⟩
abbrev S1024x704 : Shape := ⟨2, ![1024, 704]⟩
abbrev S4x256x704 : Shape := ⟨3, ![4, 256, 704]⟩
abbrev S256x704 : Shape := ⟨2, ![256, 704]⟩
abbrev S1x256x704 : Shape := ⟨3, ![1, 256, 704]⟩

abbrev nBuf : Space → Nat
  | .hbm => 2
  | .vmem => 4
  | .smem => 0
  | _ => 0

abbrev bufTy : (tb : Table) → Fin (tcTables nBuf tb) → BufTy
  | .hbm, ⟨0, _⟩ => ⟨S4x1024x704, .bf16⟩
  | .hbm, ⟨1, _⟩ => ⟨S1024x704, .f32⟩
  | .local _ .vmem, ⟨0, _⟩ => ⟨S4x256x704, .bf16⟩
  | .local _ .vmem, ⟨1, _⟩ => ⟨S4x256x704, .bf16⟩
  | .local _ .vmem, ⟨2, _⟩ => ⟨S256x704, .f32⟩
  | .local _ .vmem, ⟨3, _⟩ => ⟨S256x704, .f32⟩
  | _, _ => ⟨S4x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ChipSumFfnReferenceIdeal.lean ====
abbrev S4x1024x704 : Shape := ⟨3, ![4, 1024, 704]⟩
abbrev S1x1024x704 : Shape := ⟨3, ![1, 1024, 704]⟩
abbrev S1024x704 : Shape := ⟨2, ![1024, 704]⟩

abbrev nBuf : Space → Nat
  | .hbm => 13
  | .vmem => 0
  | .smem => 0
  | _ => 0

abbrev bufTy : (tb : Table) → Fin (tcTables nBuf tb) → BufTy
  | .hbm, ⟨0, _⟩ => ⟨S4x1024x704, .bf16⟩
  | .hbm, ⟨1, _⟩ => ⟨S4x1024x704, .f32⟩
  | .hbm, ⟨2, _⟩ => ⟨S1x1024x704, .f32⟩
  | .hbm, ⟨3, _⟩ => ⟨S1024x704, .f32⟩
  | .hbm, ⟨4, _⟩ => ⟨S1x1024x704, .f32⟩
  | .hbm, ⟨5, _⟩ => ⟨S1024x704, .f32⟩
  | .hbm, ⟨6, _⟩ => ⟨S1024x704, .f32⟩
  | .hbm, ⟨7, _⟩ => ⟨S1x1024x704, .f32⟩
  | .hbm, ⟨8, _⟩ => ⟨S1024x704, .f32⟩
  | .hbm, ⟨9, _⟩ => ⟨S1024x704, .f32⟩
  | .hbm, ⟨10, _⟩ => ⟨S1x1024x704, .f32⟩
  | .hbm, ⟨11, _⟩ => ⟨S1024x704, .f32⟩
  | .hbm, ⟨12, _⟩ => ⟨S1024x704, .f32⟩
  | _, _ => ⟨S4x1024x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩

abbrev nD : Nat := 1
abbrev τ : Topo := Topo.v7x

variable {F : FTy → Type} [FloatOps F]
-- ==== ChipSumFfnReference.lean ====
abbrev S4x1024x704 : Shape := ⟨3, ![4, 1024, 704]⟩
abbrev S1x1024x704 : Shape := ⟨3, ![1, 1024, 704]⟩
abbrev S1024x704 : Shape := ⟨2, ![1024, 704]⟩

abbrev nBuf : Space → Nat
  | .hbm => 13
  | .vmem => 0
  | .smem => 0
  | _ => 0

abbrev bufTy : (tb : Table) → Fin (tcTables nBuf tb) → BufTy
  | .hbm, ⟨0, _⟩ => ⟨S4x1024x704, .bf16⟩
  | .hbm, ⟨1, _⟩ => ⟨S4x1024x704, .f32⟩
  | .hbm, ⟨2, _⟩ => ⟨S1x1024x704, .f32⟩
  | .hbm, ⟨3, _⟩ => ⟨S1024x704, .f32⟩
  | .hbm, ⟨4, _⟩ => ⟨S1x1024x704, .f32⟩
  | .hbm, ⟨5, _⟩ => ⟨S1024x704, .f32⟩
  | .hbm, ⟨6, _⟩ => ⟨S1024x704, .f32⟩
  | .hbm, ⟨7, _⟩ => ⟨S1x1024x704, .f32⟩
  | .hbm, ⟨8, _⟩ => ⟨S1024x704, .f32⟩
  | .hbm, ⟨9, _⟩ => ⟨S1024x704, .f32⟩
  | .hbm, ⟨10, _⟩ => ⟨S1x1024x704, .f32⟩
  | .hbm, ⟨11, _⟩ => ⟨S1024x704, .f32⟩
  | .hbm, ⟨12, _⟩ => ⟨S1024x704, .f32⟩
  | _, _ => ⟨S4x1024x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩

abbrev nD : Nat := 1
abbrev τ : Topo := Topo.v7x

variable {F : FTy → Type} [FloatOps F]
-- ==== ChipSumFfnDown.lean ====
abbrev S4x704x1024 : Shape := ⟨3, ![4, 704, 1024]⟩
abbrev S704x1024 : Shape := ⟨2, ![704, 1024]⟩
abbrev S4x176x1024 : Shape := ⟨3, ![4, 176, 1024]⟩
abbrev S176x1024 : Shape := ⟨2, ![176, 1024]⟩
abbrev S1x176x1024 : Shape := ⟨3, ![1, 176, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4x704x1024, .bf16⟩
  | .hbm, ⟨1, _⟩ => ⟨S704x1024, .f32⟩
  | .local _ .vmem, ⟨0, _⟩ => ⟨S4x176x1024, .bf16⟩
  | .local _ .vmem, ⟨1, _⟩ => ⟨S4x176x1024, .bf16⟩
  | .local _ .vmem, ⟨2, _⟩ => ⟨S176x1024, .f32⟩
  | .local _ .vmem, ⟨3, _⟩ => ⟨S176x1024, .f32⟩
  | _, _ => ⟨S4x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ChipSumFfnDownIdeal.lean ====
abbrev S4x704x1024 : Shape := ⟨3, ![4, 704, 1024]⟩
abbrev S704x1024 : Shape := ⟨2, ![704, 1024]⟩
abbrev S4x176x1024 : Shape := ⟨3, ![4, 176, 1024]⟩
abbrev S176x1024 : Shape := ⟨2, ![176, 1024]⟩
abbrev S1x176x1024 : Shape := ⟨3, ![1, 176, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4x704x1024, .bf16⟩
  | .hbm, ⟨1, _⟩ => ⟨S704x1024, .f32⟩
  | .local _ .vmem, ⟨0, _⟩ => ⟨S4x176x1024, .bf16⟩
  | .local _ .vmem, ⟨1, _⟩ => ⟨S4x176x1024, .bf16⟩
  | .local _ .vmem, ⟨2, _⟩ => ⟨S176x1024, .f32⟩
  | .local _ .vmem, ⟨3, _⟩ => ⟨S176x1024, .f32⟩
  | _, _ => ⟨S4x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ChipSumFfnDownReferenceIdeal.lean ====
abbrev S4x704x1024 : Shape := ⟨3, ![4, 704, 1024]⟩
abbrev S1x704x1024 : Shape := ⟨3, ![1, 704, 1024]⟩
abbrev S704x1024 : Shape := ⟨2, ![704, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4x704x1024, .bf16⟩
  | .hbm, ⟨1, _⟩ => ⟨S4x704x1024, .f32⟩
  | .hbm, ⟨2, _⟩ => ⟨S1x704x1024, .f32⟩
  | .hbm, ⟨3, _⟩ => ⟨S704x1024, .f32⟩
  | .hbm, ⟨4, _⟩ => ⟨S1x704x1024, .f32⟩
  | .hbm, ⟨5, _⟩ => ⟨S704x1024, .f32⟩
  | .hbm, ⟨6, _⟩ => ⟨S704x1024, .f32⟩
  | .hbm, ⟨7, _⟩ => ⟨S1x704x1024, .f32⟩
  | .hbm, ⟨8, _⟩ => ⟨S704x1024, .f32⟩
  | .hbm, ⟨9, _⟩ => ⟨S704x1024, .f32⟩
  | .hbm, ⟨10, _⟩ => ⟨S1x704x1024, .f32⟩
  | .hbm, ⟨11, _⟩ => ⟨S704x1024, .f32⟩
  | .hbm, ⟨12, _⟩ => ⟨S704x1024, .f32⟩
  | _, _ => ⟨S4x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩

abbrev nD : Nat := 1
abbrev τ : Topo := Topo.v7x

variable {F : FTy → Type} [FloatOps F]
-- ==== ChipSumFfnDownReference.lean ====
abbrev S4x704x1024 : Shape := ⟨3, ![4, 704, 1024]⟩
abbrev S1x704x1024 : Shape := ⟨3, ![1, 704, 1024]⟩
abbrev S704x1024 : Shape := ⟨2, ![704, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4x704x1024, .bf16⟩
  | .hbm, ⟨1, _⟩ => ⟨S4x704x1024, .f32⟩
  | .hbm, ⟨2, _⟩ => ⟨S1x704x1024, .f32⟩
  | .hbm, ⟨3, _⟩ => ⟨S704x1024, .f32⟩
  | .hbm, ⟨4, _⟩ => ⟨S1x704x1024, .f32⟩
  | .hbm, ⟨5, _⟩ => ⟨S704x1024, .f32⟩
  | .hbm, ⟨6, _⟩ => ⟨S704x1024, .f32⟩
  | .hbm, ⟨7, _⟩ => ⟨S1x704x1024, .f32⟩
  | .hbm, ⟨8, _⟩ => ⟨S704x1024, .f32⟩
  | .hbm, ⟨9, _⟩ => ⟨S704x1024, .f32⟩
  | .hbm, ⟨10, _⟩ => ⟨S1x704x1024, .f32⟩
  | .hbm, ⟨11, _⟩ => ⟨S704x1024, .f32⟩
  | .hbm, ⟨12, _⟩ => ⟨S704x1024, .f32⟩
  | _, _ => ⟨S4x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩

abbrev nD : Nat := 1
abbrev τ : Topo := Topo.v7x

variable {F : FTy → Type} [FloatOps F]
-- ==== ChipSumDilQkv.lean ====
abbrev S4x512x2304 : Shape := ⟨3, ![4, 512, 2304]⟩
abbrev S512x2304 : Shape := ⟨2, ![512, 2304]⟩
abbrev S4x64x2304 : Shape := ⟨3, ![4, 64, 2304]⟩
abbrev S64x2304 : Shape := ⟨2, ![64, 2304]⟩
abbrev S1x64x2304 : Shape := ⟨3, ![1, 64, 2304]⟩

abbrev nBuf : Space → Nat
  | .hbm => 2
  | .vmem => 4
  | .smem => 0
  | _ => 0

abbrev bufTy : (tb : Table) → Fin (tcTables nBuf tb) → BufTy
  | .hbm, ⟨0, _⟩ => ⟨S4x512x2304, .bf16⟩
  | .hbm, ⟨1, _⟩ => ⟨S512x2304, .f32⟩
  | .local _ .vmem, ⟨0, _⟩ => ⟨S4x64x2304, .bf16⟩
  | .local _ .vmem, ⟨1, _⟩ => ⟨S4x64x2304, .bf16⟩
  | .local _ .vmem, ⟨2, _⟩ => ⟨S64x2304, .f32⟩
  | .local _ .vmem, ⟨3, _⟩ => ⟨S64x2304, .f32⟩
  | _, _ => ⟨S4x512x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x64x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ChipSumDilQkvIdeal.lean ====
abbrev S4x512x2304 : Shape := ⟨3, ![4, 512, 2304]⟩
abbrev S512x2304 : Shape := ⟨2, ![512, 2304]⟩
abbrev S4x64x2304 : Shape := ⟨3, ![4, 64, 2304]⟩
abbrev S64x2304 : Shape := ⟨2, ![64, 2304]⟩
abbrev S1x64x2304 : Shape := ⟨3, ![1, 64, 2304]⟩

abbrev nBuf : Space → Nat
  | .hbm => 2
  | .vmem => 4
  | .smem => 0
  | _ => 0

abbrev bufTy : (tb : Table) → Fin (tcTables nBuf tb) → BufTy
  | .hbm, ⟨0, _⟩ => ⟨S4x512x2304, .bf16⟩
  | .hbm, ⟨1, _⟩ => ⟨S512x2304, .f32⟩
  | .local _ .vmem, ⟨0, _⟩ => ⟨S4x64x2304, .bf16⟩
  | .local _ .vmem, ⟨1, _⟩ => ⟨S4x64x2304, .bf16⟩
  | .local _ .vmem, ⟨2, _⟩ => ⟨S64x2304, .f32⟩
  | .local _ .vmem, ⟨3, _⟩ => ⟨S64x2304, .f32⟩
  | _, _ => ⟨S4x512x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x64x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ChipSumDilQkvReference.lean ====
abbrev S4x512x2304 : Shape := ⟨3, ![4, 512, 2304]⟩
abbrev S1x512x2304 : Shape := ⟨3, ![1, 512, 2304]⟩
abbrev S512x2304 : Shape := ⟨2, ![512, 2304]⟩

abbrev nBuf : Space → Nat
  | .hbm => 13
  | .vmem => 0
  | .smem => 0
  | _ => 0

abbrev bufTy : (tb : Table) → Fin (tcTables nBuf tb) → BufTy
  | .hbm, ⟨0, _⟩ => ⟨S4x512x2304, .bf16⟩
  | .hbm, ⟨1, _⟩ => ⟨S4x512x2304, .f32⟩
  | .hbm, ⟨2, _⟩ => ⟨S1x512x2304, .f32⟩
  | .hbm, ⟨3, _⟩ => ⟨S512x2304, .f32⟩
  | .hbm, ⟨4, _⟩ => ⟨S1x512x2304, .f32⟩
  | .hbm, ⟨5, _⟩ => ⟨S512x2304, .f32⟩
  | .hbm, ⟨6, _⟩ => ⟨S512x2304, .f32⟩
  | .hbm, ⟨7, _⟩ => ⟨S1x512x2304, .f32⟩
  | .hbm, ⟨8, _⟩ => ⟨S512x2304, .f32⟩
  | .hbm, ⟨9, _⟩ => ⟨S512x2304, .f32⟩
  | .hbm, ⟨10, _⟩ => ⟨S1x512x2304, .f32⟩
  | .hbm, ⟨11, _⟩ => ⟨S512x2304, .f32⟩
  | .hbm, ⟨12, _⟩ => ⟨S512x2304, .f32⟩
  | _, _ => ⟨S4x512x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩

abbrev nD : Nat := 1
abbrev τ : Topo := Topo.v7x

variable {F : FTy → Type} [FloatOps F]
-- ==== AdamNaQkv.lean ====
abbrev S1024x768 : Shape := ⟨2, ![1024, 768]⟩
abbrev S256x768 : Shape := ⟨2, ![256, 768]⟩

abbrev nBuf : Space → Nat
  | .hbm => 8
  | .vmem => 16
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .hbm, ⟨7, _⟩ => ⟨S1024x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | _, _ => ⟨S1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamNaQkvIdeal.lean ====
abbrev S1024x768 : Shape := ⟨2, ![1024, 768]⟩
abbrev S256x768 : Shape := ⟨2, ![256, 768]⟩

abbrev nBuf : Space → Nat
  | .hbm => 8
  | .vmem => 16
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .hbm, ⟨7, _⟩ => ⟨S1024x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | _, _ => ⟨S1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamNaQkvReferenceIdeal.lean ====
abbrev S1024x768 : Shape := ⟨2, ![1024, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S_, .f32⟩
  | .hbm, ⟨5, _⟩ => ⟨S1024x768, .f32⟩
  | .hbm, ⟨6, _⟩ => ⟨S1024x768, .f32⟩
  | .hbm, ⟨7, _⟩ => ⟨S_, .f32⟩
  | .hbm, ⟨8, _⟩ => ⟨S1024x768, .f32⟩
  | .hbm, ⟨9, _⟩ => ⟨S1024x768, .f32⟩
  | .hbm, ⟨10, _⟩ => ⟨S1024x768, .f32⟩
  | .hbm, ⟨11, _⟩ => ⟨S_, .f32⟩
  | .hbm, ⟨12, _⟩ => ⟨S1024x768, .f32⟩
  | .hbm, ⟨13, _⟩ => ⟨S1024x768, .f32⟩
  | .hbm, ⟨14, _⟩ => ⟨S1024x768, .f32⟩
  | .hbm, ⟨15, _⟩ => ⟨S_, .f32⟩
  | .hbm, ⟨16, _⟩ => ⟨S1024x768, .f32⟩
  | .hbm, ⟨17, _⟩ => ⟨S1024x768, .f32⟩
  | .hbm, ⟨18, _⟩ => ⟨S1024x768, .f32⟩
  | .hbm, ⟨19, _⟩ => ⟨S_, .f32⟩
  | .hbm, ⟨20, _⟩ => ⟨S1024x768, .f32⟩
  | .hbm, ⟨21, _⟩ => ⟨S1024x768, .f32⟩
  | .hbm, ⟨22, _⟩ => ⟨S_, .f32⟩
  | .hbm, ⟨23, _⟩ => ⟨S1024x768, .f32⟩
  | .hbm, ⟨24, _⟩ => ⟨S1024x768, .f32⟩
  | .hbm, ⟨25, _⟩ => ⟨S1024x768, .f32⟩
  | .hbm, ⟨26, _⟩ => ⟨S_, .f32⟩
  | .hbm, ⟨27, _⟩ => ⟨S1024x768, .f32⟩
  | .hbm, ⟨28, _⟩ => ⟨S1024x768, .f32⟩
  | .hbm, ⟨29, _⟩ => ⟨S1024x768, .f32⟩
  | .hbm, ⟨30, _⟩ => ⟨S_, .f32⟩
  | .hbm, ⟨31, _⟩ => ⟨S1024x768, .f32⟩
  | .hbm, ⟨32, _⟩ => ⟨S1024x768, .f32⟩
  | .hbm, ⟨33, _⟩ => ⟨S1024x768, .f32⟩
  | .hbm, ⟨34, _⟩ => ⟨S_, .f32⟩
  | .hbm, ⟨35, _⟩ => ⟨S1024x768, .f32⟩
  | .hbm, ⟨36, _⟩ => ⟨S1024x768, .f32⟩
  | _, _ => ⟨S1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S256x1024 : Shape := ⟨2, ![256, 1024]⟩
abbrev S128x1024 : Shape := ⟨2, ![128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutIdeal.lean ====
abbrev S256x1024 : Shape := ⟨2, ![256, 1024]⟩
abbrev S128x1024 : Shape := ⟨2, ![128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutReferenceIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFfn.lean ====
abbrev S2048x704 : Shape := ⟨2, ![2048, 704]⟩
abbrev S256x704 : Shape := ⟨2, ![256, 704]⟩

abbrev nBuf : Space → Nat
  | .hbm => 8
  | .vmem => 16
  | .smem => 0
  | _ => 0

abbrev bufTy : (tb : Table) → Fin (tcTables nBuf tb) → BufTy
  | .hbm, ⟨0, _⟩ => ⟨S2048x704, .f32⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S2048x704, .f32⟩
  | .hbm, ⟨5, _⟩ => ⟨S2048x704, .f32⟩
  | .hbm, ⟨6, _⟩ => ⟨S2048x704, .f32⟩
  | .hbm, ⟨7, _⟩ => ⟨S2048x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | _, _ => ⟨S2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamFfnIdeal.lean ====
abbrev S2048x704 : Shape := ⟨2, ![2048, 704]⟩
abbrev S256x704 : Shape := ⟨2, ![256, 704]⟩

abbrev nBuf : Space → Nat
  | .hbm => 8
  | .vmem => 16
  | .smem => 0
  | _ => 0

abbrev bufTy : (tb : Table) → Fin (tcTables nBuf tb) → BufTy
  | .hbm, ⟨0, _⟩ => ⟨S2048x704, .f32⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S2048x704, .f32⟩
  | .hbm, ⟨5, _⟩ => ⟨S2048x704, .f32⟩
  | .hbm, ⟨6, _⟩ => ⟨S2048x704, .f32⟩
  | .hbm, ⟨7, _⟩ => ⟨S2048x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | _, _ => ⟨S2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamFfnReferenceIdeal.lean ====
abbrev S2048x704 : Shape := ⟨2, ![2048, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x704, .f32⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S_, .f32⟩
  | .hbm, ⟨5, _⟩ => ⟨S2048x704, .f32⟩
  | .hbm, ⟨6, _⟩ => ⟨S2048x704, .f32⟩
  | .hbm, ⟨7, _⟩ => ⟨S_, .f32⟩
  | .hbm, ⟨8, _⟩ => ⟨S2048x704, .f32⟩
  | .hbm, ⟨9, _⟩ => ⟨S2048x704, .f32⟩
  | .hbm, ⟨10, _⟩ => ⟨S2048x704, .f32⟩
  | .hbm, ⟨11, _⟩ => ⟨S_, .f32⟩
  | .hbm, ⟨12, _⟩ => ⟨S2048x704, .f32⟩
  | .hbm, ⟨13, _⟩ => ⟨S2048x704, .f32⟩
  | .hbm, ⟨14, _⟩ => ⟨S2048x704, .f32⟩
  | .hbm, ⟨15, _⟩ => ⟨S_, .f32⟩
  | .hbm, ⟨16, _⟩ => ⟨S2048x704, .f32⟩
  | .hbm, ⟨17, _⟩ => ⟨S2048x704, .f32⟩
  | .hbm, ⟨18, _⟩ => ⟨S2048x704, .f32⟩
  | .hbm, ⟨19, _⟩ => ⟨S_, .f32⟩
  | .hbm, ⟨20, _⟩ => ⟨S2048x704, .f32⟩
  | .hbm, ⟨21, _⟩ => ⟨S2048x704, .f32⟩
  | .hbm, ⟨22, _⟩ => ⟨S_, .f32⟩
  | .hbm, ⟨23, _⟩ => ⟨S2048x704, .f32⟩
  | .hbm, ⟨24, _⟩ => ⟨S2048x704, .f32⟩
  | .hbm, ⟨25, _⟩ => ⟨S2048x704, .f32⟩
  | .hbm, ⟨26, _⟩ => ⟨S_, .f32⟩
  | .hbm, ⟨27, _⟩ => ⟨S2048x704, .f32⟩
  | .hbm, ⟨28, _⟩ => ⟨S2048x704, .f32⟩
  | .hbm, ⟨29, _⟩ => ⟨S2048x704, .f32⟩
  | .hbm, ⟨30, _⟩ => ⟨S_, .f32⟩
  | .hbm, ⟨31, _⟩ => ⟨S2048x704, .f32⟩
  | .hbm, ⟨32, _⟩ => ⟨S2048x704, .f32⟩
  | .hbm, ⟨33, _⟩ => ⟨S2048x704, .f32⟩
  | .hbm, ⟨34, _⟩ => ⟨S_, .f32⟩
  | .hbm, ⟨35, _⟩ => ⟨S2048x704, .f32⟩
  | .hbm, ⟨36, _⟩ => ⟨S2048x704, .f32⟩
  | _, _ => ⟨S2048x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFfnDown.lean ====
abbrev S1408x1024 : Shape := ⟨2, ![1408, 1024]⟩
abbrev S176x1024 : Shape := ⟨2, ![176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamFfnDownIdeal.lean ====
abbrev S1408x1024 : Shape := ⟨2, ![1408, 1024]⟩
abbrev S176x1024 : Shape := ⟨2, ![176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamFfnDownReferenceIdeal.lean ====
abbrev S1408x1024 : Shape := ⟨2, ![1408, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S_, .f32⟩
  | .hbm, ⟨5, _⟩ => ⟨S1408x1024, .f32⟩
  | .hbm, ⟨6, _⟩ => ⟨S1408x1024, .f32⟩
  | .hbm, ⟨7, _⟩ => ⟨S_, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S_, .f32⟩
  | .hbm, ⟨12, _⟩ => ⟨S1408x1024, .f32⟩
  | .hbm, ⟨13, _⟩ => ⟨S1408x1024, .f32⟩
  | .hbm, ⟨14, _⟩ => ⟨S1408x1024, .f32⟩
  | .hbm, ⟨15, _⟩ => ⟨S_, .f32⟩
  | .hbm, ⟨16, _⟩ => ⟨S1408x1024, .f32⟩
  | .hbm, ⟨17, _⟩ => ⟨S1408x1024, .f32⟩
  | .hbm, ⟨18, _⟩ => ⟨S1408x1024, .f32⟩
  | .hbm, ⟨19, _⟩ => ⟨S_, .f32⟩
  | .hbm, ⟨20, _⟩ => ⟨S1408x1024, .f32⟩
  | .hbm, ⟨21, _⟩ => ⟨S1408x1024, .f32⟩
  | .hbm, ⟨22, _⟩ => ⟨S_, .f32⟩
  | .hbm, ⟨23, _⟩ => ⟨S1408x1024, .f32⟩
  | .hbm, ⟨24, _⟩ => ⟨S1408x1024, .f32⟩
  | .hbm, ⟨25, _⟩ => ⟨S1408x1024, .f32⟩
  | .hbm, ⟨26, _⟩ => ⟨S_, .f32⟩
  | .hbm, ⟨27, _⟩ => ⟨S1408x1024, .f32⟩
  | .hbm, ⟨28, _⟩ => ⟨S1408x1024, .f32⟩
  | .hbm, ⟨29, _⟩ => ⟨S1408x1024, .f32⟩
  | .hbm, ⟨30, _⟩ => ⟨S_, .f32⟩
  | .hbm, ⟨31, _⟩ => ⟨S1408x1024, .f32⟩
  | .hbm, ⟨32, _⟩ => ⟨S1408x1024, .f32⟩
  | .hbm, ⟨33, _⟩ => ⟨S1408x1024, .f32⟩
  | .hbm, ⟨34, _⟩ => ⟨S_, .f32⟩
  | .hbm, ⟨35, _⟩ => ⟨S1408x1024, .f32⟩
  | .hbm, ⟨36, _⟩ => ⟨S1408x1024, .f32⟩
  | _, _ => ⟨S1408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDilQkv.lean ====
abbrev S1024x2304 : Shape := ⟨2, ![1024, 2304]⟩
abbrev S64x2304 : Shape := ⟨2, ![64, 2304]⟩

abbrev nBuf : Space → Nat
  | .hbm => 8
  | .vmem => 16
  | .smem => 0
  | _ => 0

abbrev bufTy : (tb : Table) → Fin (tcTables nBuf tb) → BufTy
  | .hbm, ⟨0, _⟩ => ⟨S1024x2304, .f32⟩
  | .hbm, ⟨1, _⟩ => ⟨S1024x2304, .f32⟩
  | .hbm, ⟨2, _⟩ => ⟨S1024x2304, .f32⟩
  | .hbm, ⟨3, _⟩ => ⟨S1024x2304, .f32⟩
  | .hbm, ⟨4, _⟩ => ⟨S1024x2304, .f32⟩
  | .hbm, ⟨5, _⟩ => ⟨S1024x2304, .f32⟩
  | .hbm, ⟨6, _⟩ => ⟨S1024x2304, .f32⟩
  | .hbm, ⟨7, _⟩ => ⟨S1024x2304, .f32⟩
  | .local _ .vmem, ⟨0, _⟩ => ⟨S64x2304, .f32⟩
  | .local _ .vmem, ⟨1, _⟩ => ⟨S64x2304, .f32⟩
  | .local _ .vmem, ⟨2, _⟩ => ⟨S64x2304, .f32⟩
  | .local _ .vmem, ⟨3, _⟩ => ⟨S64x2304, .f32⟩
  | .local _ .vmem, ⟨4, _⟩ => ⟨S64x2304, .f32⟩
  | .local _ .vmem, ⟨5, _⟩ => ⟨S64x2304, .f32⟩
  | .local _ .vmem, ⟨6, _⟩ => ⟨S64x2304, .f32⟩
  | .local _ .vmem, ⟨7, _⟩ => ⟨S64x2304, .f32⟩
  | .local _ .vmem, ⟨8, _⟩ => ⟨S64x2304, .f32⟩
  | .local _ .vmem, ⟨9, _⟩ => ⟨S64x2304, .f32⟩
  | .local _ .vmem, ⟨10, _⟩ => ⟨S64x2304, .f32⟩
  | .local _ .vmem, ⟨11, _⟩ => ⟨S64x2304, .f32⟩
  | .local _ .vmem, ⟨12, _⟩ => ⟨S64x2304, .f32⟩
  | .local _ .vmem, ⟨13, _⟩ => ⟨S64x2304, .f32⟩
  | .local _ .vmem, ⟨14, _⟩ => ⟨S64x2304, .f32⟩
  | .local _ .vmem, ⟨15, _⟩ => ⟨S64x2304, .f32⟩
  | _, _ => ⟨S1024x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2304 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDilQkvIdeal.lean ====
abbrev S1024x2304 : Shape := ⟨2, ![1024, 2304]⟩
abbrev S64x2304 : Shape := ⟨2, ![64, 2304]⟩

abbrev nBuf : Space → Nat
  | .hbm => 8
  | .vmem => 16
  | .smem => 0
  | _ => 0

abbrev bufTy : (tb : Table) → Fin (tcTables nBuf tb) → BufTy
  | .hbm, ⟨0, _⟩ => ⟨S1024x2304, .f32⟩
  | .hbm, ⟨1, _⟩ => ⟨S1024x2304, .f32⟩
  | .hbm, ⟨2, _⟩ => ⟨S1024x2304, .f32⟩
  | .hbm, ⟨3, _⟩ => ⟨S1024x2304, .f32⟩
  | .hbm, ⟨4, _⟩ => ⟨S1024x2304, .f32⟩
  | .hbm, ⟨5, _⟩ => ⟨S1024x2304, .f32⟩
  | .hbm, ⟨6, _⟩ => ⟨S1024x2304, .f32⟩
  | .hbm, ⟨7, _⟩ => ⟨S1024x2304, .f32⟩
  | .local _ .vmem, ⟨0, _⟩ => ⟨S64x2304, .f32⟩
  | .local _ .vmem, ⟨1, _⟩ => ⟨S64x2304, .f32⟩
  | .local _ .vmem, ⟨2, _⟩ => ⟨S64x2304, .f32⟩
  | .local _ .vmem, ⟨3, _⟩ => ⟨S64x2304, .f32⟩
  | .local _ .vmem, ⟨4, _⟩ => ⟨S64x2304, .f32⟩
  | .local _ .vmem, ⟨5, _⟩ => ⟨S64x2304, .f32⟩
  | .local _ .vmem, ⟨6, _⟩ => ⟨S64x2304, .f32⟩
  | .local _ .vmem, ⟨7, _⟩ => ⟨S64x2304, .f32⟩
  | .local _ .vmem, ⟨8, _⟩ => ⟨S64x2304, .f32⟩
  | .local _ .vmem, ⟨9, _⟩ => ⟨S64x2304, .f32⟩
  | .local _ .vmem, ⟨10, _⟩ => ⟨S64x2304, .f32⟩
  | .local _ .vmem, ⟨11, _⟩ => ⟨S64x2304, .f32⟩
  | .local _ .vmem, ⟨12, _⟩ => ⟨S64x2304, .f32⟩
  | .local _ .vmem, ⟨13, _⟩ => ⟨S64x2304, .f32⟩
  | .local _ .vmem, ⟨14, _⟩ => ⟨S64x2304, .f32⟩
  | .local _ .vmem, ⟨15, _⟩ => ⟨S64x2304, .f32⟩
  | _, _ => ⟨S1024x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2304 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDilQkvReferenceIdeal.lean ====
abbrev S1024x2304 : Shape := ⟨2, ![1024, 2304]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x2304, .f32⟩
  | .hbm, ⟨1, _⟩ => ⟨S1024x2304, .f32⟩
  | .hbm, ⟨2, _⟩ => ⟨S1024x2304, .f32⟩
  | .hbm, ⟨3, _⟩ => ⟨S1024x2304, .f32⟩
  | .hbm, ⟨4, _⟩ => ⟨S_, .f32⟩
  | .hbm, ⟨5, _⟩ => ⟨S1024x2304, .f32⟩
  | .hbm, ⟨6, _⟩ => ⟨S1024x2304, .f32⟩
  | .hbm, ⟨7, _⟩ => ⟨S_, .f32⟩
  | .hbm, ⟨8, _⟩ => ⟨S1024x2304, .f32⟩
  | .hbm, ⟨9, _⟩ => ⟨S1024x2304, .f32⟩
  | .hbm, ⟨10, _⟩ => ⟨S1024x2304, .f32⟩
  | .hbm, ⟨11, _⟩ => ⟨S_, .f32⟩
  | .hbm, ⟨12, _⟩ => ⟨S1024x2304, .f32⟩
  | .hbm, ⟨13, _⟩ => ⟨S1024x2304, .f32⟩
  | .hbm, ⟨14, _⟩ => ⟨S1024x2304, .f32⟩
  | .hbm, ⟨15, _⟩ => ⟨S_, .f32⟩
  | .hbm, ⟨16, _⟩ => ⟨S1024x2304, .f32⟩
  | .hbm, ⟨17, _⟩ => ⟨S1024x2304, .f32⟩
  | .hbm, ⟨18, _⟩ => ⟨S1024x2304, .f32⟩
  | .hbm, ⟨19, _⟩ => ⟨S_, .f32⟩
  | .hbm, ⟨20, _⟩ => ⟨S1024x2304, .f32⟩
  | .hbm, ⟨21, _⟩ => ⟨S1024x2304, .f32⟩
  | .hbm, ⟨22, _⟩ => ⟨S_, .f32⟩
  | .hbm, ⟨23, _⟩ => ⟨S1024x2304, .f32⟩
  | .hbm, ⟨24, _⟩ => ⟨S1024x2304, .f32⟩
  | .hbm, ⟨25, _⟩ => ⟨S1024x2304, .f32⟩
  | .hbm, ⟨26, _⟩ => ⟨S_, .f32⟩
  | .hbm, ⟨27, _⟩ => ⟨S1024x2304, .f32⟩
  | .hbm, ⟨28, _⟩ => ⟨S1024x2304, .f32⟩
  | .hbm, ⟨29, _⟩ => ⟨S1024x2304, .f32⟩
  | .hbm, ⟨30, _⟩ => ⟨S_, .f32⟩
  | .hbm, ⟨31, _⟩ => ⟨S1024x2304, .f32⟩
  | .hbm, ⟨32, _⟩ => ⟨S1024x2304, .f32⟩
  | .hbm, ⟨33, _⟩ => ⟨S1024x2304, .f32⟩
  | .hbm, ⟨34, _⟩ => ⟨S_, .f32⟩
  | .hbm, ⟨35, _⟩ => ⟨S1024x2304, .f32⟩
  | .hbm, ⟨36, _⟩ => ⟨S1024x2304, .f32⟩
  | _, _ => ⟨S1024x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S128x128 : Shape := ⟨2, ![128, 128]⟩

abbrev nBuf : Space → Nat
  | .hbm => 8
  | .vmem => 8
  | .smem => 0
  | _ => 0

abbrev bufTy : (tb : Table) → Fin (tcTables nBuf tb) → BufTy
  | .hbm, ⟨0, _⟩ => ⟨S128x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | _, _ => ⟨S128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSmallIdeal.lean ====
abbrev S128x128 : Shape := ⟨2, ![128, 128]⟩

abbrev nBuf : Space → Nat
  | .hbm => 8
  | .vmem => 8
  | .smem => 0
  | _ => 0

abbrev bufTy : (tb : Table) → Fin (tcTables nBuf tb) → BufTy
  | .hbm, ⟨0, _⟩ => ⟨S128x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | _, _ => ⟨S128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSmallReferenceIdeal.lean ====
abbrev S128x128 : Shape := ⟨2, ![128, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S128x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S_, .f32⟩
  | .hbm, ⟨5, _⟩ => ⟨S128x128, .f32⟩
  | .hbm, ⟨6, _⟩ => ⟨S128x128, .f32⟩
  | .hbm, ⟨7, _⟩ => ⟨S_, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S_, .f32⟩
  | .hbm, ⟨12, _⟩ => ⟨S128x128, .f32⟩
  | .hbm, ⟨13, _⟩ => ⟨S128x128, .f32⟩
  | .hbm, ⟨14, _⟩ => ⟨S128x128, .f32⟩
  | .hbm, ⟨15, _⟩ => ⟨S_, .f32⟩
  | .hbm, ⟨16, _⟩ => ⟨S128x128, .f32⟩
  | .hbm, ⟨17, _⟩ => ⟨S128x128, .f32⟩
  | .hbm, ⟨18, _⟩ => ⟨S128x128, .f32⟩
  | .hbm, ⟨19, _⟩ => ⟨S_, .f32⟩
  | .hbm, ⟨20, _⟩ => ⟨S128x128, .f32⟩
  | .hbm, ⟨21, _⟩ => ⟨S128x128, .f32⟩
  | .hbm, ⟨22, _⟩ => ⟨S_, .f32⟩
  | .hbm, ⟨23, _⟩ => ⟨S128x128, .f32⟩
  | .hbm, ⟨24, _⟩ => ⟨S128x128, .f32⟩
  | .hbm, ⟨25, _⟩ => ⟨S128x128, .f32⟩
  | .hbm, ⟨26, _⟩ => ⟨S_, .f32⟩
  | .hbm, ⟨27, _⟩ => ⟨S128x128, .f32⟩
  | .hbm, ⟨28, _⟩ => ⟨S128x128, .f32⟩
  | .hbm, ⟨29, _⟩ => ⟨S128x128, .f32⟩
  | .hbm, ⟨30, _⟩ => ⟨S_, .f32⟩
  | .hbm, ⟨31, _⟩ => ⟨S128x128, .f32⟩
  | .hbm, ⟨32, _⟩ => ⟨S128x128, .f32⟩
  | .hbm, ⟨33, _⟩ => ⟨S128x128, .f32⟩
  | .hbm, ⟨34, _⟩ => ⟨S_, .f32⟩
  | .hbm, ⟨35, _⟩ => ⟨S128x128, .f32⟩
  | .hbm, ⟨36, _⟩ => ⟨S128x128, .f32⟩
  | _, _ => ⟨S128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Loss.lean ====
abbrev S2048x1024 : Shape := ⟨2, ![2048, 1024]⟩
abbrev S1x128 : Shape := ⟨2, ![1, 128]⟩
abbrev S256x1024 : Shape := ⟨2, ![256, 1024]⟩
abbrev S1x256x1024 : Shape := ⟨3, ![1, 256, 1024]⟩
abbrev S1 : Shape := ⟨1, ![1]⟩
abbrev S1x1x1 : Shape := ⟨3, ![1, 1, 1]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossIdeal.lean ====
abbrev S2048x1024 : Shape := ⟨2, ![2048, 1024]⟩
abbrev S1x128 : Shape := ⟨2, ![1, 128]⟩
abbrev S256x1024 : Shape := ⟨2, ![256, 1024]⟩
abbrev S1x256x1024 : Shape := ⟨3, ![1, 256, 1024]⟩
abbrev S1 : Shape := ⟨1, ![1]⟩
abbrev S1x1x1 : Shape := ⟨3, ![1, 1, 1]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossReferenceIdeal.lean ====
abbrev S2048x1024 : Shape := ⟨2, ![2048, 1024]⟩
abbrev S_ : Shape := ⟨0, ![]⟩
abbrev S2048 : Shape := ⟨1, ![2048]⟩
abbrev S1x128 : Shape := ⟨2, ![1, 128]⟩

abbrev nBuf : Space → Nat
  | .hbm => 17
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S_, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== Rms.lean ====
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsIdeal.lean ====
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsReferenceIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Resid.lean ====
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ResidIdeal.lean ====
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ResidReferenceIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 19
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== NormPost.lean ====
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 5
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .f32⟩
  | .hbm, ⟨4, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== NormPostIdeal.lean ====
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 5
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .f32⟩
  | .hbm, ⟨4, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== NormPostReferenceIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 45
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S1024, .f32⟩
  | .hbm, ⟨25, _⟩ => ⟨S1x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048, .f32⟩
  | .hbm, ⟨31, _⟩ => ⟨S2048x1, .f32⟩
  | .hbm, ⟨32, _⟩ => ⟨S2048x1024, .f32⟩
  | .hbm, ⟨33, _⟩ => ⟨S2048x1024, .f32⟩
  | .hbm, ⟨34, _⟩ => ⟨S2048x1, .f32⟩
  | .hbm, ⟨35, _⟩ => ⟨S_, .f32⟩
  | .hbm, ⟨36, _⟩ => ⟨S2048x1, .f32⟩
  | .hbm, ⟨37, _⟩ => ⟨S2048x1, .f32⟩
  | .hbm, ⟨38, _⟩ => ⟨S_, .f32⟩
  | .hbm, ⟨39, _⟩ => ⟨S2048, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== NormPre.lean ====
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .f32⟩
  | .hbm, ⟨4, _⟩ => ⟨S2048x1024, .f32⟩
  | .hbm, ⟨5, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormPreIdeal.lean ====
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .f32⟩
  | .hbm, ⟨4, _⟩ => ⟨S2048x1024, .f32⟩
  | .hbm, ⟨5, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormPreReferenceIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x1024, .f32⟩
  | .hbm, ⟨34, _⟩ => ⟨S2048x1024, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== NormPre3.lean ====
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 8
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S2048x1024, .f32⟩
  | .hbm, ⟨7, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== NormPre3Ideal.lean ====
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 8
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S2048x1024, .f32⟩
  | .hbm, ⟨7, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== NormPre3ReferenceIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 51
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048, .f32⟩
  | .hbm, ⟨36, _⟩ => ⟨S2048x1, .f32⟩
  | .hbm, ⟨37, _⟩ => ⟨S2048x1024, .f32⟩
  | .hbm, ⟨38, _⟩ => ⟨S2048x1024, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]
-- ==== Swiglu.lean ====
abbrev S4x2048x704 : Shape := ⟨3, ![4, 2048, 704]⟩
abbrev S1x512x704 : Shape := ⟨3, ![1, 512, 704]⟩
abbrev S512x704 : Shape := ⟨2, ![512, 704]⟩

abbrev nBuf : Space → Nat
  | .hbm => 3
  | .vmem => 6
  | .smem => 0
  | _ => 0

abbrev bufTy : (tb : Table) → Fin (tcTables nBuf tb) → BufTy
  | .hbm, ⟨0, _⟩ => ⟨S4x2048x704, .bf16⟩
  | .hbm, ⟨1, _⟩ => ⟨S4x2048x704, .bf16⟩
  | .hbm, ⟨2, _⟩ => ⟨S4x2048x704, .bf16⟩
  | .local _ .vmem, ⟨0, _⟩ => ⟨S1x512x704, .bf16⟩
  | .local _ .vmem, ⟨1, _⟩ => ⟨S1x512x704, .bf16⟩
  | .local _ .vmem, ⟨2, _⟩ => ⟨S1x512x704, .bf16⟩
  | .local _ .vmem, ⟨3, _⟩ => ⟨S1x512x704, .bf16⟩
  | .local _ .vmem, ⟨4, _⟩ => ⟨S1x512x704, .bf16⟩
  | .local _ .vmem, ⟨5, _⟩ => ⟨S1x512x704, .bf16⟩
  | _, _ => ⟨S4x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SwigluIdeal.lean ====
abbrev S4x2048x704 : Shape := ⟨3, ![4, 2048, 704]⟩
abbrev S1x512x704 : Shape := ⟨3, ![1, 512, 704]⟩
abbrev S512x704 : Shape := ⟨2, ![512, 704]⟩

abbrev nBuf : Space → Nat
  | .hbm => 3
  | .vmem => 6
  | .smem => 0
  | _ => 0

abbrev bufTy : (tb : Table) → Fin (tcTables nBuf tb) → BufTy
  | .hbm, ⟨0, _⟩ => ⟨S4x2048x704, .bf16⟩
  | .hbm, ⟨1, _⟩ => ⟨S4x2048x704, .bf16⟩
  | .hbm, ⟨2, _⟩ => ⟨S4x2048x704, .bf16⟩
  | .local _ .vmem, ⟨0, _⟩ => ⟨S1x512x704, .bf16⟩
  | .local _ .vmem, ⟨1, _⟩ => ⟨S1x512x704, .bf16⟩
  | .local _ .vmem, ⟨2, _⟩ => ⟨S1x512x704, .bf16⟩
  | .local _ .vmem, ⟨3, _⟩ => ⟨S1x512x704, .bf16⟩
  | .local _ .vmem, ⟨4, _⟩ => ⟨S1x512x704, .bf16⟩
  | .local _ .vmem, ⟨5, _⟩ => ⟨S1x512x704, .bf16⟩
  | _, _ => ⟨S4x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SwigluReferenceIdeal.lean ====
abbrev S4x2048x704 : Shape := ⟨3, ![4, 2048, 704]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4x2048x704, .bf16⟩
  | .hbm, ⟨1, _⟩ => ⟨S4x2048x704, .bf16⟩
  | .hbm, ⟨2, _⟩ => ⟨S4x2048x704, .f32⟩
  | .hbm, ⟨3, _⟩ => ⟨S4x2048x704, .f32⟩
  | .hbm, ⟨4, _⟩ => ⟨S4x2048x704, .f32⟩
  | .hbm, ⟨5, _⟩ => ⟨S_, .f32⟩
  | .hbm, ⟨6, _⟩ => ⟨S4x2048x704, .f32⟩
  | .hbm, ⟨7, _⟩ => ⟨S4x2048x704, .f32⟩
  | .hbm, ⟨8, _⟩ => ⟨S_, .f32⟩
  | .hbm, ⟨9, _⟩ => ⟨S4x2048x704, .f32⟩
  | .hbm, ⟨10, _⟩ => ⟨S4x2048x704, .f32⟩
  | .hbm, ⟨11, _⟩ => ⟨S4x2048x704, .f32⟩
  | .hbm, ⟨12, _⟩ => ⟨S4x2048x704, .f32⟩
  | .hbm, ⟨13, _⟩ => ⟨S4x2048x704, .f32⟩
  | .hbm, ⟨14, _⟩ => ⟨S4x2048x704, .bf16⟩
  | _, _ => ⟨S4x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== SwigluBwd.lean ====
abbrev S4x2048x704 : Shape := ⟨3, ![4, 2048, 704]⟩
abbrev S1x512x704 : Shape := ⟨3, ![1, 512, 704]⟩
abbrev S512x704 : Shape := ⟨2, ![512, 704]⟩

abbrev nBuf : Space → Nat
  | .hbm => 5
  | .vmem => 10
  | .smem => 0
  | _ => 0

abbrev bufTy : (tb : Table) → Fin (tcTables nBuf tb) → BufTy
  | .hbm, ⟨0, _⟩ => ⟨S4x2048x704, .bf16⟩
  | .hbm, ⟨1, _⟩ => ⟨S4x2048x704, .bf16⟩
  | .hbm, ⟨2, _⟩ => ⟨S4x2048x704, .bf16⟩
  | .hbm, ⟨3, _⟩ => ⟨S4x2048x704, .bf16⟩
  | .hbm, ⟨4, _⟩ => ⟨S4x2048x704, .bf16⟩
  | .local _ .vmem, ⟨0, _⟩ => ⟨S1x512x704, .bf16⟩
  | .local _ .vmem, ⟨1, _⟩ => ⟨S1x512x704, .bf16⟩
  | .local _ .vmem, ⟨2, _⟩ => ⟨S1x512x704, .bf16⟩
  | .local _ .vmem, ⟨3, _⟩ => ⟨S1x512x704, .bf16⟩
  | .local _ .vmem, ⟨4, _⟩ => ⟨S1x512x704, .bf16⟩
  | .local _ .vmem, ⟨5, _⟩ => ⟨S1x512x704, .bf16⟩
  | .local _ .vmem, ⟨6, _⟩ => ⟨S1x512x704, .bf16⟩
  | .local _ .vmem, ⟨7, _⟩ => ⟨S1x512x704, .bf16⟩
  | .local _ .vmem, ⟨8, _⟩ => ⟨S1x512x704, .bf16⟩
  | .local _ .vmem, ⟨9, _⟩ => ⟨S1x512x704, .bf16⟩
  | _, _ => ⟨S4x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SwigluBwdIdeal.lean ====
abbrev S4x2048x704 : Shape := ⟨3, ![4, 2048, 704]⟩
abbrev S1x512x704 : Shape := ⟨3, ![1, 512, 704]⟩
abbrev S512x704 : Shape := ⟨2, ![512, 704]⟩

abbrev nBuf : Space → Nat
  | .hbm => 5
  | .vmem => 10
  | .smem => 0
  | _ => 0

abbrev bufTy : (tb : Table) → Fin (tcTables nBuf tb) → BufTy
  | .hbm, ⟨0, _⟩ => ⟨S4x2048x704, .bf16⟩
  | .hbm, ⟨1, _⟩ => ⟨S4x2048x704, .bf16⟩
  | .hbm, ⟨2, _⟩ => ⟨S4x2048x704, .bf16⟩
  | .hbm, ⟨3, _⟩ => ⟨S4x2048x704, .bf16⟩
  | .hbm, ⟨4, _⟩ => ⟨S4x2048x704, .bf16⟩
  | .local _ .vmem, ⟨0, _⟩ => ⟨S1x512x704, .bf16⟩
  | .local _ .vmem, ⟨1, _⟩ => ⟨S1x512x704, .bf16⟩
  | .local _ .vmem, ⟨2, _⟩ => ⟨S1x512x704, .bf16⟩
  | .local _ .vmem, ⟨3, _⟩ => ⟨S1x512x704, .bf16⟩
  | .local _ .vmem, ⟨4, _⟩ => ⟨S1x512x704, .bf16⟩
  | .local _ .vmem, ⟨5, _⟩ => ⟨S1x512x704, .bf16⟩
  | .local _ .vmem, ⟨6, _⟩ => ⟨S1x512x704, .bf16⟩
  | .local _ .vmem, ⟨7, _⟩ => ⟨S1x512x704, .bf16⟩
  | .local _ .vmem, ⟨8, _⟩ => ⟨S1x512x704, .bf16⟩
  | .local _ .vmem, ⟨9, _⟩ => ⟨S1x512x704, .bf16⟩
  | _, _ => ⟨S4x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SwigluBwdReferenceIdeal.lean ====
abbrev S4x2048x704 : Shape := ⟨3, ![4, 2048, 704]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S4x2048x704, .bf16⟩
  | .hbm, ⟨1, _⟩ => ⟨S4x2048x704, .bf16⟩
  | .hbm, ⟨2, _⟩ => ⟨S4x2048x704, .bf16⟩
  | .hbm, ⟨3, _⟩ => ⟨S4x2048x704, .f32⟩
  | .hbm, ⟨4, _⟩ => ⟨S4x2048x704, .f32⟩
  | .hbm, ⟨5, _⟩ => ⟨S4x2048x704, .f32⟩
  | .hbm, ⟨6, _⟩ => ⟨S4x2048x704, .f32⟩
  | .hbm, ⟨7, _⟩ => ⟨S4x2048x704, .f32⟩
  | .hbm, ⟨8, _⟩ => ⟨S4x2048x704, .f32⟩
  | .hbm, ⟨9, _⟩ => ⟨S_, .f32⟩
  | .hbm, ⟨10, _⟩ => ⟨S4x2048x704, .f32⟩
  | .hbm, ⟨11, _⟩ => ⟨S4x2048x704, .f32⟩
  | .hbm, ⟨12, _⟩ => ⟨S_, .f32⟩
  | .hbm, ⟨13, _⟩ => ⟨S4x2048x704, .f32⟩
  | .hbm, ⟨14, _⟩ => ⟨S4x2048x704, .f32⟩
  | .hbm, ⟨15, _⟩ => ⟨S_, .f32⟩
  | .hbm, ⟨16, _⟩ => ⟨S4x2048x704, .f32⟩
  | .hbm, ⟨17, _⟩ => ⟨S4x2048x704, .f32⟩
  | .hbm, ⟨18, _⟩ => ⟨S4x2048x704, .f32⟩
  | .hbm, ⟨19, _⟩ => ⟨S_, .f32⟩
  | .hbm, ⟨20, _⟩ => ⟨S4x2048x704, .f32⟩
  | .hbm, ⟨21, _⟩ => ⟨S4x2048x704, .f32⟩
  | .hbm, ⟨22, _⟩ => ⟨S4x2048x704, .f32⟩
  | .hbm, ⟨23, _⟩ => ⟨S4x2048x704, .f32⟩
  | .hbm, ⟨24, _⟩ => ⟨S4x2048x704, .bf16⟩
  | .hbm, ⟨25, _⟩ => ⟨S4x2048x704, .f32⟩
  | .hbm, ⟨26, _⟩ => ⟨S4x2048x704, .f32⟩
  | .hbm, ⟨27, _⟩ => ⟨S_, .f32⟩
  | .hbm, ⟨28, _⟩ => ⟨S4x2048x704, .f32⟩
  | .hbm, ⟨29, _⟩ => ⟨S4x2048x704, .f32⟩
  | .hbm, ⟨30, _⟩ => ⟨S_, .f32⟩
  | .hbm, ⟨31, _⟩ => ⟨S4x2048x704, .f32⟩
  | .hbm, ⟨32, _⟩ => ⟨S4x2048x704, .f32⟩
  | .hbm, ⟨33, _⟩ => ⟨S4x2048x704, .f32⟩
  | .hbm, ⟨34, _⟩ => ⟨S4x2048x704, .f32⟩
  | .hbm, ⟨35, _⟩ => ⟨S4x2048x704, .bf16⟩
  | _, _ => ⟨S4x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Proj.lean ====
abbrev S2048x1024 : Shape := ⟨2, ![2048, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ProjIdeal.lean ====
abbrev S2048x1024 : Shape := ⟨2, ![2048, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ProjReferenceIdeal.lean ====
abbrev S2048x1024 : Shape := ⟨2, ![2048, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1024x1024, .f32⟩
  | .hbm, ⟨4, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjDo.lean ====
abbrev S2048x1024 : Shape := ⟨2, ![2048, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ProjDoIdeal.lean ====
abbrev S2048x1024 : Shape := ⟨2, ![2048, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ProjDoReferenceIdeal.lean ====
abbrev S2048x1024 : Shape := ⟨2, ![2048, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S1024x1024, .f32⟩
  | .hbm, ⟨3, _⟩ => ⟨S2048x1024, .f32⟩
  | .hbm, ⟨4, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjDw.lean ====
abbrev S2048x1024 : Shape := ⟨2, ![2048, 1024]⟩
abbrev S1024x1024 : Shape := ⟨2, ![1024, 1024]⟩
abbrev S512x1024 : Shape := ⟨2, ![512, 1024]⟩
abbrev S512x512 : Shape := ⟨2, ![512, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S1024x1024, .bf16⟩
  | .local _ .vmem, ⟨0, _⟩ => ⟨S512x1024, .bf16⟩
  | .local _ .vmem, ⟨1, _⟩ => ⟨S512x1024, .bf16⟩
  | .local _ .vmem, ⟨2, _⟩ => ⟨S512x512, .f32⟩
  | .local _ .vmem, ⟨3, _⟩ => ⟨S512x512, .f32⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond3 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ProjDwIdeal.lean ====
abbrev S2048x1024 : Shape := ⟨2, ![2048, 1024]⟩
abbrev S1024x1024 : Shape := ⟨2, ![1024, 1024]⟩
abbrev S512x1024 : Shape := ⟨2, ![512, 1024]⟩
abbrev S512x512 : Shape := ⟨2, ![512, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S1024x1024, .bf16⟩
  | .local _ .vmem, ⟨0, _⟩ => ⟨S512x1024, .bf16⟩
  | .local _ .vmem, ⟨1, _⟩ => ⟨S512x1024, .bf16⟩
  | .local _ .vmem, ⟨2, _⟩ => ⟨S512x512, .f32⟩
  | .local _ .vmem, ⟨3, _⟩ => ⟨S512x512, .f32⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond3 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ProjDwReferenceIdeal.lean ====
abbrev S2048x1024 : Shape := ⟨2, ![2048, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S2048x1024, .f32⟩
  | .hbm, ⟨3, _⟩ => ⟨S1024x1024, .f32⟩
  | .hbm, ⟨4, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FfnIn.lean ====
abbrev S2048x1024 : Shape := ⟨2, ![2048, 1024]⟩
abbrev S4x1024x704 : Shape := ⟨3, ![4, 1024, 704]⟩
abbrev S4x2048x704 : Shape := ⟨3, ![4, 2048, 704]⟩
abbrev S1024x1024 : Shape := ⟨2, ![1024, 1024]⟩
abbrev S1x1024x704 : Shape := ⟨3, ![1, 1024, 704]⟩
abbrev S1024x704 : Shape := ⟨2, ![1024, 704]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S4x1024x704, .bf16⟩
  | .hbm, ⟨2, _⟩ => ⟨S4x2048x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInIdeal.lean ====
abbrev S2048x1024 : Shape := ⟨2, ![2048, 1024]⟩
abbrev S4x1024x704 : Shape := ⟨3, ![4, 1024, 704]⟩
abbrev S4x2048x704 : Shape := ⟨3, ![4, 2048, 704]⟩
abbrev S1024x1024 : Shape := ⟨2, ![1024, 1024]⟩
abbrev S1x1024x704 : Shape := ⟨3, ![1, 1024, 704]⟩
abbrev S1024x704 : Shape := ⟨2, ![1024, 704]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S4x1024x704, .bf16⟩
  | .hbm, ⟨2, _⟩ => ⟨S4x2048x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInReferenceIdeal.lean ====
abbrev S2048x1024 : Shape := ⟨2, ![2048, 1024]⟩
abbrev S4x1024x704 : Shape := ⟨3, ![4, 1024, 704]⟩
abbrev S4x704x2048 : Shape := ⟨3, ![4, 704, 2048]⟩
abbrev S4x2048x704 : Shape := ⟨3, ![4, 2048, 704]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4x1024x704, .bf16⟩
  | .hbm, ⟨2, _⟩ => ⟨S2048x1024, .f32⟩
  | .hbm, ⟨3, _⟩ => ⟨S4x1024x704, .f32⟩
  | .hbm, ⟨4, _⟩ => ⟨S4x704x2048, .f32⟩
  | .hbm, ⟨5, _⟩ => ⟨S4x2048x704, .f32⟩
  | .hbm, ⟨6, _⟩ => ⟨S4x2048x704, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== FfnOut.lean ====
abbrev S4x2048x704 : Shape := ⟨3, ![4, 2048, 704]⟩
abbrev S4x704x1024 : Shape := ⟨3, ![4, 704, 1024]⟩
abbrev S2048x1024 : Shape := ⟨2, ![2048, 1024]⟩
abbrev S1x1024x704 : Shape := ⟨3, ![1, 1024, 704]⟩
abbrev S1x704x1024 : Shape := ⟨3, ![1, 704, 1024]⟩
abbrev S1024x1024 : Shape := ⟨2, ![1024, 1024]⟩
abbrev S1024x704 : Shape := ⟨2, ![1024, 704]⟩
abbrev S704x1024 : Shape := ⟨2, ![704, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4x2048x704, .bf16⟩
  | .hbm, ⟨1, _⟩ => ⟨S4x704x1024, .bf16⟩
  | .hbm, ⟨2, _⟩ => ⟨S2048x1024, .f32⟩
  | .local _ .vmem, ⟨0, _⟩ => ⟨S1x1024x704, .bf16⟩
  | .local _ .vmem, ⟨1, _⟩ => ⟨S1x1024x704, .bf16⟩
  | .local _ .vmem, ⟨2, _⟩ => ⟨S1x704x1024, .bf16⟩
  | .local _ .vmem, ⟨3, _⟩ => ⟨S1x704x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond3 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== FfnOutIdeal.lean ====
abbrev S4x2048x704 : Shape := ⟨3, ![4, 2048, 704]⟩
abbrev S4x704x1024 : Shape := ⟨3, ![4, 704, 1024]⟩
abbrev S2048x1024 : Shape := ⟨2, ![2048, 1024]⟩
abbrev S1x1024x704 : Shape := ⟨3, ![1, 1024, 704]⟩
abbrev S1x704x1024 : Shape := ⟨3, ![1, 704, 1024]⟩
abbrev S1024x1024 : Shape := ⟨2, ![1024, 1024]⟩
abbrev S1024x704 : Shape := ⟨2, ![1024, 704]⟩
abbrev S704x1024 : Shape := ⟨2, ![704, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4x2048x704, .bf16⟩
  | .hbm, ⟨1, _⟩ => ⟨S4x704x1024, .bf16⟩
  | .hbm, ⟨2, _⟩ => ⟨S2048x1024, .f32⟩
  | .local _ .vmem, ⟨0, _⟩ => ⟨S1x1024x704, .bf16⟩
  | .local _ .vmem, ⟨1, _⟩ => ⟨S1x1024x704, .bf16⟩
  | .local _ .vmem, ⟨2, _⟩ => ⟨S1x704x1024, .bf16⟩
  | .local _ .vmem, ⟨3, _⟩ => ⟨S1x704x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond3 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== FfnOutReferenceIdeal.lean ====
abbrev S4x2048x704 : Shape := ⟨3, ![4, 2048, 704]⟩
abbrev S4x704x1024 : Shape := ⟨3, ![4, 704, 1024]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4x2048x704, .bf16⟩
  | .hbm, ⟨1, _⟩ => ⟨S4x704x1024, .bf16⟩
  | .hbm, ⟨2, _⟩ => ⟨S4x2048x704, .f32⟩
  | .hbm, ⟨3, _⟩ => ⟨S4x704x1024, .f32⟩
  | .hbm, ⟨4, _⟩ => ⟨S2048x1024, .f32⟩
  | _, _ => ⟨S4x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FfnDact.lean ====
abbrev S2048x1024 : Shape := ⟨2, ![2048, 1024]⟩
abbrev S4x704x1024 : Shape := ⟨3, ![4, 704, 1024]⟩
abbrev S4x2048x704 : Shape := ⟨3, ![4, 2048, 704]⟩
abbrev S1024x1024 : Shape := ⟨2, ![1024, 1024]⟩
abbrev S1x704x1024 : Shape := ⟨3, ![1, 704, 1024]⟩
abbrev S1x1024x704 : Shape := ⟨3, ![1, 1024, 704]⟩
abbrev S704x1024 : Shape := ⟨2, ![704, 1024]⟩
abbrev S1024x704 : Shape := ⟨2, ![1024, 704]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S4x704x1024, .bf16⟩
  | .hbm, ⟨2, _⟩ => ⟨S4x2048x704, .bf16⟩
  | .local _ .vmem, ⟨0, _⟩ => ⟨S1024x1024, .f32⟩
  | .local _ .vmem, ⟨1, _⟩ => ⟨S1024x1024, .f32⟩
  | .local _ .vmem, ⟨2, _⟩ => ⟨S1x704x1024, .bf16⟩
  | .local _ .vmem, ⟨3, _⟩ => ⟨S1x704x1024, .bf16⟩
  | .local _ .vmem, ⟨4, _⟩ => ⟨S1x1024x704, .bf16⟩
  | .local _ .vmem, ⟨5, _⟩ => ⟨S1x1024x704, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDactIdeal.lean ====
abbrev S2048x1024 : Shape := ⟨2, ![2048, 1024]⟩
abbrev S4x704x1024 : Shape := ⟨3, ![4, 704, 1024]⟩
abbrev S4x2048x704 : Shape := ⟨3, ![4, 2048, 704]⟩
abbrev S1024x1024 : Shape := ⟨2, ![1024, 1024]⟩
abbrev S1x704x1024 : Shape := ⟨3, ![1, 704, 1024]⟩
abbrev S1x1024x704 : Shape := ⟨3, ![1, 1024, 704]⟩
abbrev S704x1024 : Shape := ⟨2, ![704, 1024]⟩
abbrev S1024x704 : Shape := ⟨2, ![1024, 704]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S4x704x1024, .bf16⟩
  | .hbm, ⟨2, _⟩ => ⟨S4x2048x704, .bf16⟩
  | .local _ .vmem, ⟨0, _⟩ => ⟨S1024x1024, .f32⟩
  | .local _ .vmem, ⟨1, _⟩ => ⟨S1024x1024, .f32⟩
  | .local _ .vmem, ⟨2, _⟩ => ⟨S1x704x1024, .bf16⟩
  | .local _ .vmem, ⟨3, _⟩ => ⟨S1x704x1024, .bf16⟩
  | .local _ .vmem, ⟨4, _⟩ => ⟨S1x1024x704, .bf16⟩
  | .local _ .vmem, ⟨5, _⟩ => ⟨S1x1024x704, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDactReferenceIdeal.lean ====
abbrev S2048x1024 : Shape := ⟨2, ![2048, 1024]⟩
abbrev S4x704x1024 : Shape := ⟨3, ![4, 704, 1024]⟩
abbrev S4x704x2048 : Shape := ⟨3, ![4, 704, 2048]⟩
abbrev S4x2048x704 : Shape := ⟨3, ![4, 2048, 704]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S4x704x1024, .bf16⟩
  | .hbm, ⟨2, _⟩ => ⟨S4x704x1024, .f32⟩
  | .hbm, ⟨3, _⟩ => ⟨S4x704x2048, .f32⟩
  | .hbm, ⟨4, _⟩ => ⟨S4x2048x704, .f32⟩
  | .hbm, ⟨5, _⟩ => ⟨S4x2048x704, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FfnDwDown.lean ====
abbrev S4x2048x704 : Shape := ⟨3, ![4, 2048, 704]⟩
abbrev S2048x1024 : Shape := ⟨2, ![2048, 1024]⟩
abbrev S4x704x1024 : Shape := ⟨3, ![4, 704, 1024]⟩
abbrev S1x512x704 : Shape := ⟨3, ![1, 512, 704]⟩
abbrev S512x1024 : Shape := ⟨2, ![512, 1024]⟩
abbrev S1x704x1024 : Shape := ⟨3, ![1, 704, 1024]⟩
abbrev S704x1024 : Shape := ⟨2, ![704, 1024]⟩
abbrev S512x704 : Shape := ⟨2, ![512, 704]⟩

abbrev nBuf : Space → Nat
  | .hbm => 3
  | .vmem => 7
  | .smem => 0
  | _ => 0

abbrev bufTy : (tb : Table) → Fin (tcTables nBuf tb) → BufTy
  | .hbm, ⟨0, _⟩ => ⟨S4x2048x704, .bf16⟩
  | .hbm, ⟨1, _⟩ => ⟨S2048x1024, .f32⟩
  | .hbm, ⟨2, _⟩ => ⟨S4x704x1024, .bf16⟩
  | .local _ .vmem, ⟨0, _⟩ => ⟨S1x512x704, .bf16⟩
  | .local _ .vmem, ⟨1, _⟩ => ⟨S1x512x704, .bf16⟩
  | .local _ .vmem, ⟨2, _⟩ => ⟨S512x1024, .f32⟩
  | .local _ .vmem, ⟨3, _⟩ => ⟨S512x1024, .f32⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S4x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_7 : BitVec 32 := 0#32
  let v13 : BitVec 1 := Scalar.cmpi .ne v12 c0_i32_7
  v13

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== FfnDwDownIdeal.lean ====
abbrev S4x2048x704 : Shape := ⟨3, ![4, 2048, 704]⟩
abbrev S2048x1024 : Shape := ⟨2, ![2048, 1024]⟩
abbrev S4x704x1024 : Shape := ⟨3, ![4, 704, 1024]⟩
abbrev S1x512x704 : Shape := ⟨3, ![1, 512, 704]⟩
abbrev S512x1024 : Shape := ⟨2, ![512, 1024]⟩
abbrev S1x704x1024 : Shape := ⟨3, ![1, 704, 1024]⟩
abbrev S704x1024 : Shape := ⟨2, ![704, 1024]⟩
abbrev S512x704 : Shape := ⟨2, ![512, 704]⟩

abbrev nBuf : Space → Nat
  | .hbm => 3
  | .vmem => 7
  | .smem => 0
  | _ => 0

abbrev bufTy : (tb : Table) → Fin (tcTables nBuf tb) → BufTy
  | .hbm, ⟨0, _⟩ => ⟨S4x2048x704, .bf16⟩
  | .hbm, ⟨1, _⟩ => ⟨S2048x1024, .f32⟩
  | .hbm, ⟨2, _⟩ => ⟨S4x704x1024, .bf16⟩
  | .local _ .vmem, ⟨0, _⟩ => ⟨S1x512x704, .bf16⟩
  | .local _ .vmem, ⟨1, _⟩ => ⟨S1x512x704, .bf16⟩
  | .local _ .vmem, ⟨2, _⟩ => ⟨S512x1024, .f32⟩
  | .local _ .vmem, ⟨3, _⟩ => ⟨S512x1024, .f32⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S4x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_7 : BitVec 32 := 0#32
  let v13 : BitVec 1 := Scalar.cmpi .ne v12 c0_i32_7
  v13

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== FfnDwDownReferenceIdeal.lean ====
abbrev S4x2048x704 : Shape := ⟨3, ![4, 2048, 704]⟩
abbrev S2048x1024 : Shape := ⟨2, ![2048, 1024]⟩
abbrev S4x704x1024 : Shape := ⟨3, ![4, 704, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4x2048x704, .bf16⟩
  | .hbm, ⟨1, _⟩ => ⟨S2048x1024, .f32⟩
  | .hbm, ⟨2, _⟩ => ⟨S4x2048x704, .f32⟩
  | .hbm, ⟨3, _⟩ => ⟨S4x704x1024, .f32⟩
  | .hbm, ⟨4, _⟩ => ⟨S4x704x1024, .bf16⟩
  | _, _ => ⟨S4x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FfnDh.lean ====
abbrev S4x2048x704 : Shape := ⟨3, ![4, 2048, 704]⟩
abbrev S4x1024x704 : Shape := ⟨3, ![4, 1024, 704]⟩
abbrev S2048x1024 : Shape := ⟨2, ![2048, 1024]⟩
abbrev S1x1024x704 : Shape := ⟨3, ![1, 1024, 704]⟩
abbrev S1024x1024 : Shape := ⟨2, ![1024, 1024]⟩
abbrev S1024x704 : Shape := ⟨2, ![1024, 704]⟩

abbrev nBuf : Space → Nat
  | .hbm => 5
  | .vmem => 11
  | .smem => 0
  | _ => 0

abbrev bufTy : (tb : Table) → Fin (tcTables nBuf tb) → BufTy
  | .hbm, ⟨0, _⟩ => ⟨S4x2048x704, .bf16⟩
  | .hbm, ⟨1, _⟩ => ⟨S4x1024x704, .bf16⟩
  | .hbm, ⟨2, _⟩ => ⟨S4x2048x704, .bf16⟩
  | .hbm, ⟨3, _⟩ => ⟨S4x1024x704, .bf16⟩
  | .hbm, ⟨4, _⟩ => ⟨S2048x1024, .f32⟩
  | .local _ .vmem, ⟨0, _⟩ => ⟨S1x1024x704, .bf16⟩
  | .local _ .vmem, ⟨1, _⟩ => ⟨S1x1024x704, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S4x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def k0_cond3 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_15 : BitVec 32 := 0#32
  let v19 : BitVec 1 := Scalar.cmpi .ne v18 c0_i32_15
  v19

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== FfnDhIdeal.lean ====
abbrev S4x2048x704 : Shape := ⟨3, ![4, 2048, 704]⟩
abbrev S4x1024x704 : Shape := ⟨3, ![4, 1024, 704]⟩
abbrev S2048x1024 : Shape := ⟨2, ![2048, 1024]⟩
abbrev S1x1024x704 : Shape := ⟨3, ![1, 1024, 704]⟩
abbrev S1024x1024 : Shape := ⟨2, ![1024, 1024]⟩
abbrev S1024x704 : Shape := ⟨2, ![1024, 704]⟩

abbrev nBuf : Space → Nat
  | .hbm => 5
  | .vmem => 11
  | .smem => 0
  | _ => 0

abbrev bufTy : (tb : Table) → Fin (tcTables nBuf tb) → BufTy
  | .hbm, ⟨0, _⟩ => ⟨S4x2048x704, .bf16⟩
  | .hbm, ⟨1, _⟩ => ⟨S4x1024x704, .bf16⟩
  | .hbm, ⟨2, _⟩ => ⟨S4x2048x704, .bf16⟩
  | .hbm, ⟨3, _⟩ => ⟨S4x1024x704, .bf16⟩
  | .hbm, ⟨4, _⟩ => ⟨S2048x1024, .f32⟩
  | .local _ .vmem, ⟨0, _⟩ => ⟨S1x1024x704, .bf16⟩
  | .local _ .vmem, ⟨1, _⟩ => ⟨S1x1024x704, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S4x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def k0_cond3 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_15 : BitVec 32 := 0#32
  let v19 : BitVec 1 := Scalar.cmpi .ne v18 c0_i32_15
  v19

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== FfnDhReferenceIdeal.lean ====
abbrev S4x2048x704 : Shape := ⟨3, ![4, 2048, 704]⟩
abbrev S4x1024x704 : Shape := ⟨3, ![4, 1024, 704]⟩
abbrev S2048x1024 : Shape := ⟨2, ![2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4x2048x704, .bf16⟩
  | .hbm, ⟨1, _⟩ => ⟨S4x1024x704, .bf16⟩
  | .hbm, ⟨2, _⟩ => ⟨S4x2048x704, .bf16⟩
  | .hbm, ⟨3, _⟩ => ⟨S4x1024x704, .bf16⟩
  | .hbm, ⟨4, _⟩ => ⟨S4x2048x704, .f32⟩
  | .hbm, ⟨5, _⟩ => ⟨S4x1024x704, .f32⟩
  | .hbm, ⟨6, _⟩ => ⟨S2048x1024, .f32⟩
  | .hbm, ⟨7, _⟩ => ⟨S4x2048x704, .f32⟩
  | .hbm, ⟨8, _⟩ => ⟨S4x1024x704, .f32⟩
  | .hbm, ⟨9, _⟩ => ⟨S2048x1024, .f32⟩
  | .hbm, ⟨10, _⟩ => ⟨S2048x1024, .f32⟩
  | _, _ => ⟨S4x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== FfnDwIn.lean ====
abbrev S2048x1024 : Shape := ⟨2, ![2048, 1024]⟩
abbrev S4x2048x704 : Shape := ⟨3, ![4, 2048, 704]⟩
abbrev S4x1024x704 : Shape := ⟨3, ![4, 1024, 704]⟩
abbrev S512x1024 : Shape := ⟨2, ![512, 1024]⟩
abbrev S1x512x704 : Shape := ⟨3, ![1, 512, 704]⟩
abbrev S1x1024x704 : Shape := ⟨3, ![1, 1024, 704]⟩
abbrev S1024x704 : Shape := ⟨2, ![1024, 704]⟩
abbrev S512x704 : Shape := ⟨2, ![512, 704]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S4x2048x704, .bf16⟩
  | .hbm, ⟨2, _⟩ => ⟨S4x1024x704, .bf16⟩
  | .local _ .vmem, ⟨0, _⟩ => ⟨S512x1024, .bf16⟩
  | .local _ .vmem, ⟨1, _⟩ => ⟨S512x1024, .bf16⟩
  | .local _ .vmem, ⟨2, _⟩ => ⟨S1x512x704, .bf16⟩
  | .local _ .vmem, ⟨3, _⟩ => ⟨S1x512x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1024x704, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== FfnDwInIdeal.lean ====
abbrev S2048x1024 : Shape := ⟨2, ![2048, 1024]⟩
abbrev S4x2048x704 : Shape := ⟨3, ![4, 2048, 704]⟩
abbrev S4x1024x704 : Shape := ⟨3, ![4, 1024, 704]⟩
abbrev S512x1024 : Shape := ⟨2, ![512, 1024]⟩
abbrev S1x512x704 : Shape := ⟨3, ![1, 512, 704]⟩
abbrev S1x1024x704 : Shape := ⟨3, ![1, 1024, 704]⟩
abbrev S1024x704 : Shape := ⟨2, ![1024, 704]⟩
abbrev S512x704 : Shape := ⟨2, ![512, 704]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S4x2048x704, .bf16⟩
  | .hbm, ⟨2, _⟩ => ⟨S4x1024x704, .bf16⟩
  | .local _ .vmem, ⟨0, _⟩ => ⟨S512x1024, .bf16⟩
  | .local _ .vmem, ⟨1, _⟩ => ⟨S512x1024, .bf16⟩
  | .local _ .vmem, ⟨2, _⟩ => ⟨S1x512x704, .bf16⟩
  | .local _ .vmem, ⟨3, _⟩ => ⟨S1x512x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1024x704, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== FfnDwInReferenceIdeal.lean ====
abbrev S2048x1024 : Shape := ⟨2, ![2048, 1024]⟩
abbrev S4x2048x704 : Shape := ⟨3, ![4, 2048, 704]⟩
abbrev S4x704x1024 : Shape := ⟨3, ![4, 704, 1024]⟩
abbrev S4x1024x704 : Shape := ⟨3, ![4, 1024, 704]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4x2048x704, .bf16⟩
  | .hbm, ⟨2, _⟩ => ⟨S2048x1024, .f32⟩
  | .hbm, ⟨3, _⟩ => ⟨S4x2048x704, .f32⟩
  | .hbm, ⟨4, _⟩ => ⟨S4x704x1024, .f32⟩
  | .hbm, ⟨5, _⟩ => ⟨S4x1024x704, .f32⟩
  | .hbm, ⟨6, _⟩ => ⟨S4x1024x704, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== NaQkv.lean ====
abbrev S1x2048x1024 : Shape := ⟨3, ![1, 2048, 1024]⟩
abbrev S4x1024x768 : Shape := ⟨3, ![4, 1024, 768]⟩
abbrev S1x2048x3072 : Shape := ⟨3, ![1, 2048, 3072]⟩
abbrev S1x1024x256 : Shape := ⟨3, ![1, 1024, 256]⟩
abbrev S1x2048x256 : Shape := ⟨3, ![1, 2048, 256]⟩
abbrev S2048x1024 : Shape := ⟨2, ![2048, 1024]⟩
abbrev S1024x256 : Shape := ⟨2, ![1024, 256]⟩
abbrev S2048x256 : Shape := ⟨2, ![2048, 256]⟩

abbrev nBuf : Space → Nat
  | .hbm => 3
  | .vmem => 5
  | .smem => 0
  | _ => 0

abbrev bufTy : (tb : Table) → Fin (tcTables nBuf tb) → BufTy
  | .hbm, ⟨0, _⟩ => ⟨S1x2048x1024, .bf16⟩
  | .hbm, ⟨1, _⟩ => ⟨S4x1024x768, .bf16⟩
  | .hbm, ⟨2, _⟩ => ⟨S1x2048x3072, .bf16⟩
  | .local _ .vmem, ⟨0, _⟩ => ⟨S1x2048x1024, .bf16⟩
  | .local _ .vmem, ⟨1, _⟩ => ⟨S1x1024x256, .bf16⟩
  | .local _ .vmem, ⟨2, _⟩ => ⟨S1x1024x256, .bf16⟩
  | .local _ .vmem, ⟨3, _⟩ => ⟨S1x2048x256, .bf16⟩
  | .local _ .vmem, ⟨4, _⟩ => ⟨S1x2048x256, .bf16⟩
  | _, _ => ⟨S1x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 12, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.muli arg0 c12_i32
  let v1 : BitVec 32 := Scalar.addi v0 arg1
  let c3_i32 : BitVec 32 := 3#32
  let v2 : BitVec 32 := Scalar.divsi v1 c3_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c3_i32 c0_i32_1
  let v9 : BitVec 32 := Scalar.extui v8
  let c0_i32_2 : BitVec 32 := 0#32
  let v10 : BitVec 1 := Scalar.cmpi .slt c3_i32 c0_i32_2
  let v11 : BitVec 32 := Scalar.extui v10
  let v12 : BitVec 32 := Scalar.subi v9 v11
  let v13 : BitVec 1 := Scalar.cmpi .ne v7 v12
  let v14 : BitVec 32 := Scalar.remsi v1 c3_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c12_i32_4 : BitVec 32 := 12#32
  let v19 : BitVec 32 := Scalar.muli arg0 c12_i32_4
  let v20 : BitVec 32 := Scalar.addi v19 arg1
  let c3_i32_5 : BitVec 32 := 3#32
  let c0_i32_6 : BitVec 32 := 0#32
  let v21 : BitVec 1 := Scalar.cmpi .eq c3_i32_5 c0_i32_6
  let c1_i32_7 : BitVec 32 := 1#32
  let v22 : BitVec 32 := Scalar.select v21 c1_i32_7 c3_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, c0_i32_11.toNat, v30.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 1 → Memref sig .tc .vmem S1x2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== NaQkvIdeal.lean ====
abbrev S1x2048x1024 : Shape := ⟨3, ![1, 2048, 1024]⟩
abbrev S4x1024x768 : Shape := ⟨3, ![4, 1024, 768]⟩
abbrev S1x2048x3072 : Shape := ⟨3, ![1, 2048, 3072]⟩
abbrev S1x1024x256 : Shape := ⟨3, ![1, 1024, 256]⟩
abbrev S1x2048x256 : Shape := ⟨3, ![1, 2048, 256]⟩
abbrev S2048x1024 : Shape := ⟨2, ![2048, 1024]⟩
abbrev S1024x256 : Shape := ⟨2, ![1024, 256]⟩
abbrev S2048x256 : Shape := ⟨2, ![2048, 256]⟩

abbrev nBuf : Space → Nat
  | .hbm => 3
  | .vmem => 5
  | .smem => 0
  | _ => 0

abbrev bufTy : (tb : Table) → Fin (tcTables nBuf tb) → BufTy
  | .hbm, ⟨0, _⟩ => ⟨S1x2048x1024, .bf16⟩
  | .hbm, ⟨1, _⟩ => ⟨S4x1024x768, .bf16⟩
  | .hbm, ⟨2, _⟩ => ⟨S1x2048x3072, .bf16⟩
  | .local _ .vmem, ⟨0, _⟩ => ⟨S1x2048x1024, .bf16⟩
  | .local _ .vmem, ⟨1, _⟩ => ⟨S1x1024x256, .bf16⟩
  | .local _ .vmem, ⟨2, _⟩ => ⟨S1x1024x256, .bf16⟩
  | .local _ .vmem, ⟨3, _⟩ => ⟨S1x2048x256, .bf16⟩
  | .local _ .vmem, ⟨4, _⟩ => ⟨S1x2048x256, .bf16⟩
  | _, _ => ⟨S1x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 12, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.muli arg0 c12_i32
  let v1 : BitVec 32 := Scalar.addi v0 arg1
  let c3_i32 : BitVec 32 := 3#32
  let v2 : BitVec 32 := Scalar.divsi v1 c3_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c3_i32 c0_i32_1
  let v9 : BitVec 32 := Scalar.extui v8
  let c0_i32_2 : BitVec 32 := 0#32
  let v10 : BitVec 1 := Scalar.cmpi .slt c3_i32 c0_i32_2
  let v11 : BitVec 32 := Scalar.extui v10
  let v12 : BitVec 32 := Scalar.subi v9 v11
  let v13 : BitVec 1 := Scalar.cmpi .ne v7 v12
  let v14 : BitVec 32 := Scalar.remsi v1 c3_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c12_i32_4 : BitVec 32 := 12#32
  let v19 : BitVec 32 := Scalar.muli arg0 c12_i32_4
  let v20 : BitVec 32 := Scalar.addi v19 arg1
  let c3_i32_5 : BitVec 32 := 3#32
  let c0_i32_6 : BitVec 32 := 0#32
  let v21 : BitVec 1 := Scalar.cmpi .eq c3_i32_5 c0_i32_6
  let c1_i32_7 : BitVec 32 := 1#32
  let v22 : BitVec 32 := Scalar.select v21 c1_i32_7 c3_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, c0_i32_11.toNat, v30.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 1 → Memref sig .tc .vmem S1x2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== NaQkvReferenceIdeal.lean ====
abbrev S1x2048x1024 : Shape := ⟨3, ![1, 2048, 1024]⟩
abbrev S4x1024x768 : Shape := ⟨3, ![4, 1024, 768]⟩
abbrev S1024x4x768 : Shape := ⟨3, ![1024, 4, 768]⟩
abbrev S1024x3072 : Shape := ⟨2, ![1024, 3072]⟩
abbrev S1024x1x3072 : Shape := ⟨3, ![1024, 1, 3072]⟩
abbrev S1x2048x3072 : Shape := ⟨3, ![1, 2048, 3072]⟩

abbrev nBuf : Space → Nat
  | .hbm => 9
  | .vmem => 0
  | .smem => 0
  | _ => 0

abbrev bufTy : (tb : Table) → Fin (tcTables nBuf tb) → BufTy
  | .hbm, ⟨0, _⟩ => ⟨S1x2048x1024, .bf16⟩
  | .hbm, ⟨1, _⟩ => ⟨S4x1024x768, .bf16⟩
  | .hbm, ⟨2, _⟩ => ⟨S4x1024x768, .f32⟩
  | .hbm, ⟨3, _⟩ => ⟨S1024x4x768, .f32⟩
  | .hbm, ⟨4, _⟩ => ⟨S1024x3072, .f32⟩
  | .hbm, ⟨5, _⟩ => ⟨S1024x1x3072, .f32⟩
  | .hbm, ⟨6, _⟩ => ⟨S1x2048x1024, .f32⟩
  | .hbm, ⟨7, _⟩ => ⟨S1x2048x3072, .f32⟩
  | .hbm, ⟨8, _⟩ => ⟨S1x2048x3072, .bf16⟩
  | _, _ => ⟨S1x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== DilQkv.lean ====
abbrev S3x2048x1024 : Shape := ⟨3, ![3, 2048, 1024]⟩
abbrev S4x1024x2304 : Shape := ⟨3, ![4, 1024, 2304]⟩
abbrev S3x2048x3072 : Shape := ⟨3, ![3, 2048, 3072]⟩
abbrev S1x2048x1024 : Shape := ⟨3, ![1, 2048, 1024]⟩
abbrev S1x1024x256 : Shape := ⟨3, ![1, 1024, 256]⟩
abbrev S1x2048x256 : Shape := ⟨3, ![1, 2048, 256]⟩
abbrev S2048x1024 : Shape := ⟨2, ![2048, 1024]⟩
abbrev S1024x256 : Shape := ⟨2, ![1024, 256]⟩
abbrev S2048x256 : Shape := ⟨2, ![2048, 256]⟩

abbrev nBuf : Space → Nat
  | .hbm => 3
  | .vmem => 6
  | .smem => 0
  | _ => 0

abbrev bufTy : (tb : Table) → Fin (tcTables nBuf tb) → BufTy
  | .hbm, ⟨0, _⟩ => ⟨S3x2048x1024, .bf16⟩
  | .hbm, ⟨1, _⟩ => ⟨S4x1024x2304, .bf16⟩
  | .hbm, ⟨2, _⟩ => ⟨S3x2048x3072, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x2048x256, .bf16⟩
  | .local _ .vmem, ⟨5, _⟩ => ⟨S1x2048x256, .bf16⟩
  | _, _ => ⟨S3x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 12, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.muli arg0 c12_i32
  let v1 : BitVec 32 := Scalar.addi v0 arg1
  let c9_i32 : BitVec 32 := 9#32
  let v2 : BitVec 32 := Scalar.divsi v1 c9_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c9_i32 c0_i32_1
  let v9 : BitVec 32 := Scalar.extui v8
  let c0_i32_2 : BitVec 32 := 0#32
  let v10 : BitVec 1 := Scalar.cmpi .slt c9_i32 c0_i32_2
  let v11 : BitVec 32 := Scalar.extui v10
  let v12 : BitVec 32 := Scalar.subi v9 v11
  let v13 : BitVec 1 := Scalar.cmpi .ne v7 v12
  let v14 : BitVec 32 := Scalar.remsi v1 c9_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c12_i32_4 : BitVec 32 := 12#32
  let v19 : BitVec 32 := Scalar.muli arg0 c12_i32_4
  let v20 : BitVec 32 := Scalar.addi v19 arg1
  let c9_i32_5 : BitVec 32 := 9#32
  let c0_i32_6 : BitVec 32 := 0#32
  let v21 : BitVec 1 := Scalar.cmpi .eq c9_i32_5 c0_i32_6
  let c1_i32_7 : BitVec 32 := 1#32
  let v22 : BitVec 32 := Scalar.select v21 c1_i32_7 c9_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, c0_i32_11.toNat, v30.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DilQkvIdeal.lean ====
abbrev S3x2048x1024 : Shape := ⟨3, ![3, 2048, 1024]⟩
abbrev S4x1024x2304 : Shape := ⟨3, ![4, 1024, 2304]⟩
abbrev S3x2048x3072 : Shape := ⟨3, ![3, 2048, 3072]⟩
abbrev S1x2048x1024 : Shape := ⟨3, ![1, 2048, 1024]⟩
abbrev S1x1024x256 : Shape := ⟨3, ![1, 1024, 256]⟩
abbrev S1x2048x256 : Shape := ⟨3, ![1, 2048, 256]⟩
abbrev S2048x1024 : Shape := ⟨2, ![2048, 1024]⟩
abbrev S1024x256 : Shape := ⟨2, ![1024, 256]⟩
abbrev S2048x256 : Shape := ⟨2, ![2048, 256]⟩

abbrev nBuf : Space → Nat
  | .hbm => 3
  | .vmem => 6
  | .smem => 0
  | _ => 0

abbrev bufTy : (tb : Table) → Fin (tcTables nBuf tb) → BufTy
  | .hbm, ⟨0, _⟩ => ⟨S3x2048x1024, .bf16⟩
  | .hbm, ⟨1, _⟩ => ⟨S4x1024x2304, .bf16⟩
  | .hbm, ⟨2, _⟩ => ⟨S3x2048x3072, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x2048x256, .bf16⟩
  | .local _ .vmem, ⟨5, _⟩ => ⟨S1x2048x256, .bf16⟩
  | _, _ => ⟨S3x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 12, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.muli arg0 c12_i32
  let v1 : BitVec 32 := Scalar.addi v0 arg1
  let c9_i32 : BitVec 32 := 9#32
  let v2 : BitVec 32 := Scalar.divsi v1 c9_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c9_i32 c0_i32_1
  let v9 : BitVec 32 := Scalar.extui v8
  let c0_i32_2 : BitVec 32 := 0#32
  let v10 : BitVec 1 := Scalar.cmpi .slt c9_i32 c0_i32_2
  let v11 : BitVec 32 := Scalar.extui v10
  let v12 : BitVec 32 := Scalar.subi v9 v11
  let v13 : BitVec 1 := Scalar.cmpi .ne v7 v12
  let v14 : BitVec 32 := Scalar.remsi v1 c9_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c12_i32_4 : BitVec 32 := 12#32
  let v19 : BitVec 32 := Scalar.muli arg0 c12_i32_4
  let v20 : BitVec 32 := Scalar.addi v19 arg1
  let c9_i32_5 : BitVec 32 := 9#32
  let c0_i32_6 : BitVec 32 := 0#32
  let v21 : BitVec 1 := Scalar.cmpi .eq c9_i32_5 c0_i32_6
  let c1_i32_7 : BitVec 32 := 1#32
  let v22 : BitVec 32 := Scalar.select v21 c1_i32_7 c9_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, c0_i32_11.toNat, v30.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DilQkvReferenceIdeal.lean ====
abbrev S3x2048x1024 : Shape := ⟨3, ![3, 2048, 1024]⟩
abbrev S4x1024x2304 : Shape := ⟨3, ![4, 1024, 2304]⟩
abbrev S1024x4x2304 : Shape := ⟨3, ![1024, 4, 2304]⟩
abbrev S1024x9216 : Shape := ⟨2, ![1024, 9216]⟩
abbrev S1024x3x3072 : Shape := ⟨3, ![1024, 3, 3072]⟩
abbrev S3x2048x3072 : Shape := ⟨3, ![3, 2048, 3072]⟩

abbrev nBuf : Space → Nat
  | .hbm => 9
  | .vmem => 0
  | .smem => 0
  | _ => 0

abbrev bufTy : (tb : Table) → Fin (tcTables nBuf tb) → BufTy
  | .hbm, ⟨0, _⟩ => ⟨S3x2048x1024, .bf16⟩
  | .hbm, ⟨1, _⟩ => ⟨S4x1024x2304, .bf16⟩
  | .hbm, ⟨2, _⟩ => ⟨S4x1024x2304, .f32⟩
  | .hbm, ⟨3, _⟩ => ⟨S1024x4x2304, .f32⟩
  | .hbm, ⟨4, _⟩ => ⟨S1024x9216, .f32⟩
  | .hbm, ⟨5, _⟩ => ⟨S1024x3x3072, .f32⟩
  | .hbm, ⟨6, _⟩ => ⟨S3x2048x1024, .f32⟩
  | .hbm, ⟨7, _⟩ => ⟨S3x2048x3072, .f32⟩
  | .hbm, ⟨8, _⟩ => ⟨S3x2048x3072, .bf16⟩
  | _, _ => ⟨S3x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== NaQkvDh.lean ====
abbrev S1x3x2048x1024 : Shape := ⟨4, ![1, 3, 2048, 1024]⟩
abbrev S4x1024x768 : Shape := ⟨3, ![4, 1024, 768]⟩
abbrev S1x2048x1024 : Shape := ⟨3, ![1, 2048, 1024]⟩
abbrev S1x1x1024x256 : Shape := ⟨4, ![1, 1, 1024, 256]⟩
abbrev S1x1024x256 : Shape := ⟨3, ![1, 1024, 256]⟩
abbrev S1x1024x1024 : Shape := ⟨3, ![1, 1024, 1024]⟩
abbrev S1024x1024 : Shape := ⟨2, ![1024, 1024]⟩
abbrev S1024x256 : Shape := ⟨2, ![1024, 256]⟩

abbrev nBuf : Space → Nat
  | .hbm => 3
  | .vmem => 7
  | .smem => 0
  | _ => 0

abbrev bufTy : (tb : Table) → Fin (tcTables nBuf tb) → BufTy
  | .hbm, ⟨0, _⟩ => ⟨S1x3x2048x1024, .bf16⟩
  | .hbm, ⟨1, _⟩ => ⟨S4x1024x768, .bf16⟩
  | .hbm, ⟨2, _⟩ => ⟨S1x2048x1024, .f32⟩
  | .local _ .vmem, ⟨0, _⟩ => ⟨S1x1x1024x256, .bf16⟩
  | .local _ .vmem, ⟨1, _⟩ => ⟨S1x1x1024x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S1x3x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 12], ![false, false, false]⟩

def k0_cond3 (i : grid0.Coords) : BitVec 1 :=
  let arg2 : BitVec 32 := BitVec.ofNat 32 (i 2).val
  let c11_i32 : BitVec 32 := 11#32
  let v11 : BitVec 1 := Scalar.cmpi .eq arg2 c11_i32
  let v12 : BitVec 32 := Scalar.extui v11
  let c0_i32_9 : BitVec 32 := 0#32
  let v13 : BitVec 1 := Scalar.cmpi .ne v12 c0_i32_9
  v13

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![arg0.toNat, v16.toNat, arg1.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.muli arg0 c12_i32
  let v1 : BitVec 32 := Scalar.addi v0 arg2
  let c3_i32 : BitVec 32 := 3#32
  let v2 : BitVec 32 := Scalar.divsi v1 c3_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c3_i32 c0_i32_1
  let v9 : BitVec 32 := Scalar.extui v8
  let c0_i32_2 : BitVec 32 := 0#32
  let v10 : BitVec 1 := Scalar.cmpi .slt c3_i32 c0_i32_2
  let v11 : BitVec 32 := Scalar.extui v10
  let v12 : BitVec 32 := Scalar.subi v9 v11
  let v13 : BitVec 1 := Scalar.cmpi .ne v7 v12
  let v14 : BitVec 32 := Scalar.remsi v1 c3_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c12_i32_4 : BitVec 32 := 12#32
  let v19 : BitVec 32 := Scalar.muli arg0 c12_i32_4
  let v20 : BitVec 32 := Scalar.addi v19 arg2
  let c3_i32_5 : BitVec 32 := 3#32
  let c0_i32_6 : BitVec 32 := 0#32
  let v21 : BitVec 1 := Scalar.cmpi .eq c3_i32_5 c0_i32_6
  let c1_i32_7 : BitVec 32 := 1#32
  let v22 : BitVec 32 := Scalar.select v21 c1_i32_7 c3_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, c0_i32_11.toNat, v30.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== NaQkvDhIdeal.lean ====
abbrev S1x3x2048x1024 : Shape := ⟨4, ![1, 3, 2048, 1024]⟩
abbrev S4x1024x768 : Shape := ⟨3, ![4, 1024, 768]⟩
abbrev S1x2048x1024 : Shape := ⟨3, ![1, 2048, 1024]⟩
abbrev S1x1x1024x256 : Shape := ⟨4, ![1, 1, 1024, 256]⟩
abbrev S1x1024x256 : Shape := ⟨3, ![1, 1024, 256]⟩
abbrev S1x1024x1024 : Shape := ⟨3, ![1, 1024, 1024]⟩
abbrev S1024x1024 : Shape := ⟨2, ![1024, 1024]⟩
abbrev S1024x256 : Shape := ⟨2, ![1024, 256]⟩

abbrev nBuf : Space → Nat
  | .hbm => 3
  | .vmem => 7
  | .smem => 0
  | _ => 0

abbrev bufTy : (tb : Table) → Fin (tcTables nBuf tb) → BufTy
  | .hbm, ⟨0, _⟩ => ⟨S1x3x2048x1024, .bf16⟩
  | .hbm, ⟨1, _⟩ => ⟨S4x1024x768, .bf16⟩
  | .hbm, ⟨2, _⟩ => ⟨S1x2048x1024, .f32⟩
  | .local _ .vmem, ⟨0, _⟩ => ⟨S1x1x1024x256, .bf16⟩
  | .local _ .vmem, ⟨1, _⟩ => ⟨S1x1x1024x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S1x3x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 12], ![false, false, false]⟩

def k0_cond3 (i : grid0.Coords) : BitVec 1 :=
  let arg2 : BitVec 32 := BitVec.ofNat 32 (i 2).val
  let c11_i32 : BitVec 32 := 11#32
  let v11 : BitVec 1 := Scalar.cmpi .eq arg2 c11_i32
  let v12 : BitVec 32 := Scalar.extui v11
  let c0_i32_9 : BitVec 32 := 0#32
  let v13 : BitVec 1 := Scalar.cmpi .ne v12 c0_i32_9
  v13

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![arg0.toNat, v16.toNat, arg1.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.muli arg0 c12_i32
  let v1 : BitVec 32 := Scalar.addi v0 arg2
  let c3_i32 : BitVec 32 := 3#32
  let v2 : BitVec 32 := Scalar.divsi v1 c3_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c3_i32 c0_i32_1
  let v9 : BitVec 32 := Scalar.extui v8
  let c0_i32_2 : BitVec 32 := 0#32
  let v10 : BitVec 1 := Scalar.cmpi .slt c3_i32 c0_i32_2
  let v11 : BitVec 32 := Scalar.extui v10
  let v12 : BitVec 32 := Scalar.subi v9 v11
  let v13 : BitVec 1 := Scalar.cmpi .ne v7 v12
  let v14 : BitVec 32 := Scalar.remsi v1 c3_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c12_i32_4 : BitVec 32 := 12#32
  let v19 : BitVec 32 := Scalar.muli arg0 c12_i32_4
  let v20 : BitVec 32 := Scalar.addi v19 arg2
  let c3_i32_5 : BitVec 32 := 3#32
  let c0_i32_6 : BitVec 32 := 0#32
  let v21 : BitVec 1 := Scalar.cmpi .eq c3_i32_5 c0_i32_6
  let c1_i32_7 : BitVec 32 := 1#32
  let v22 : BitVec 32 := Scalar.select v21 c1_i32_7 c3_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, c0_i32_11.toNat, v30.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== NaQkvDhReferenceIdeal.lean ====
abbrev S1x3x2048x1024 : Shape := ⟨4, ![1, 3, 2048, 1024]⟩
abbrev S4x1024x768 : Shape := ⟨3, ![4, 1024, 768]⟩
abbrev S1024x4x768 : Shape := ⟨3, ![1024, 4, 768]⟩
abbrev S1024x3072 : Shape := ⟨2, ![1024, 3072]⟩
abbrev S1024x1x3x1024 : Shape := ⟨4, ![1024, 1, 3, 1024]⟩
abbrev S1x2048x1024 : Shape := ⟨3, ![1, 2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1x3x2048x1024, .bf16⟩
  | .hbm, ⟨1, _⟩ => ⟨S4x1024x768, .bf16⟩
  | .hbm, ⟨2, _⟩ => ⟨S4x1024x768, .f32⟩
  | .hbm, ⟨3, _⟩ => ⟨S1024x4x768, .f32⟩
  | .hbm, ⟨4, _⟩ => ⟨S1024x3072, .f32⟩
  | .hbm, ⟨5, _⟩ => ⟨S1024x1x3x1024, .f32⟩
  | .hbm, ⟨6, _⟩ => ⟨S1x3x2048x1024, .f32⟩
  | .hbm, ⟨7, _⟩ => ⟨S1x2048x1024, .f32⟩
  | _, _ => ⟨S1x3x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== DilQkvDh.lean ====
abbrev S3x3x2048x1024 : Shape := ⟨4, ![3, 3, 2048, 1024]⟩
abbrev S4x1024x2304 : Shape := ⟨3, ![4, 1024, 2304]⟩
abbrev S3x2048x1024 : Shape := ⟨3, ![3, 2048, 1024]⟩
abbrev S1x1x1024x256 : Shape := ⟨4, ![1, 1, 1024, 256]⟩
abbrev S1x1024x256 : Shape := ⟨3, ![1, 1024, 256]⟩
abbrev S1x1024x1024 : Shape := ⟨3, ![1, 1024, 1024]⟩
abbrev S1024x1024 : Shape := ⟨2, ![1024, 1024]⟩
abbrev S1024x256 : Shape := ⟨2, ![1024, 256]⟩

abbrev nBuf : Space → Nat
  | .hbm => 3
  | .vmem => 7
  | .smem => 0
  | _ => 0

abbrev bufTy : (tb : Table) → Fin (tcTables nBuf tb) → BufTy
  | .hbm, ⟨0, _⟩ => ⟨S3x3x2048x1024, .bf16⟩
  | .hbm, ⟨1, _⟩ => ⟨S4x1024x2304, .bf16⟩
  | .hbm, ⟨2, _⟩ => ⟨S3x2048x1024, .f32⟩
  | .local _ .vmem, ⟨0, _⟩ => ⟨S1x1x1024x256, .bf16⟩
  | .local _ .vmem, ⟨1, _⟩ => ⟨S1x1x1024x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S3x3x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 12], ![false, false, false]⟩

def k0_cond3 (i : grid0.Coords) : BitVec 1 :=
  let arg2 : BitVec 32 := BitVec.ofNat 32 (i 2).val
  let c11_i32 : BitVec 32 := 11#32
  let v11 : BitVec 1 := Scalar.cmpi .eq arg2 c11_i32
  let v12 : BitVec 32 := Scalar.extui v11
  let c0_i32_9 : BitVec 32 := 0#32
  let v13 : BitVec 1 := Scalar.cmpi .ne v12 c0_i32_9
  v13

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![arg0.toNat, v16.toNat, arg1.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.muli arg0 c12_i32
  let v1 : BitVec 32 := Scalar.addi v0 arg2
  let c9_i32 : BitVec 32 := 9#32
  let v2 : BitVec 32 := Scalar.divsi v1 c9_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c9_i32 c0_i32_1
  let v9 : BitVec 32 := Scalar.extui v8
  let c0_i32_2 : BitVec 32 := 0#32
  let v10 : BitVec 1 := Scalar.cmpi .slt c9_i32 c0_i32_2
  let v11 : BitVec 32 := Scalar.extui v10
  let v12 : BitVec 32 := Scalar.subi v9 v11
  let v13 : BitVec 1 := Scalar.cmpi .ne v7 v12
  let v14 : BitVec 32 := Scalar.remsi v1 c9_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c12_i32_4 : BitVec 32 := 12#32
  let v19 : BitVec 32 := Scalar.muli arg0 c12_i32_4
  let v20 : BitVec 32 := Scalar.addi v19 arg2
  let c9_i32_5 : BitVec 32 := 9#32
  let c0_i32_6 : BitVec 32 := 0#32
  let v21 : BitVec 1 := Scalar.cmpi .eq c9_i32_5 c0_i32_6
  let c1_i32_7 : BitVec 32 := 1#32
  let v22 : BitVec 32 := Scalar.select v21 c1_i32_7 c9_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, c0_i32_11.toNat, v30.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DilQkvDhIdeal.lean ====
abbrev S3x3x2048x1024 : Shape := ⟨4, ![3, 3, 2048, 1024]⟩
abbrev S4x1024x2304 : Shape := ⟨3, ![4, 1024, 2304]⟩
abbrev S3x2048x1024 : Shape := ⟨3, ![3, 2048, 1024]⟩
abbrev S1x1x1024x256 : Shape := ⟨4, ![1, 1, 1024, 256]⟩
abbrev S1x1024x256 : Shape := ⟨3, ![1, 1024, 256]⟩
abbrev S1x1024x1024 : Shape := ⟨3, ![1, 1024, 1024]⟩
abbrev S1024x1024 : Shape := ⟨2, ![1024, 1024]⟩
abbrev S1024x256 : Shape := ⟨2, ![1024, 256]⟩

abbrev nBuf : Space → Nat
  | .hbm => 3
  | .vmem => 7
  | .smem => 0
  | _ => 0

abbrev bufTy : (tb : Table) → Fin (tcTables nBuf tb) → BufTy
  | .hbm, ⟨0, _⟩ => ⟨S3x3x2048x1024, .bf16⟩
  | .hbm, ⟨1, _⟩ => ⟨S4x1024x2304, .bf16⟩
  | .hbm, ⟨2, _⟩ => ⟨S3x2048x1024, .f32⟩
  | .local _ .vmem, ⟨0, _⟩ => ⟨S1x1x1024x256, .bf16⟩
  | .local _ .vmem, ⟨1, _⟩ => ⟨S1x1x1024x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S3x3x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 12], ![false, false, false]⟩

def k0_cond3 (i : grid0.Coords) : BitVec 1 :=
  let arg2 : BitVec 32 := BitVec.ofNat 32 (i 2).val
  let c11_i32 : BitVec 32 := 11#32
  let v11 : BitVec 1 := Scalar.cmpi .eq arg2 c11_i32
  let v12 : BitVec 32 := Scalar.extui v11
  let c0_i32_9 : BitVec 32 := 0#32
  let v13 : BitVec 1 := Scalar.cmpi .ne v12 c0_i32_9
  v13

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![arg0.toNat, v16.toNat, arg1.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.muli arg0 c12_i32
  let v1 : BitVec 32 := Scalar.addi v0 arg2
  let c9_i32 : BitVec 32 := 9#32
  let v2 : BitVec 32 := Scalar.divsi v1 c9_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c9_i32 c0_i32_1
  let v9 : BitVec 32 := Scalar.extui v8
  let c0_i32_2 : BitVec 32 := 0#32
  let v10 : BitVec 1 := Scalar.cmpi .slt c9_i32 c0_i32_2
  let v11 : BitVec 32 := Scalar.extui v10
  let v12 : BitVec 32 := Scalar.subi v9 v11
  let v13 : BitVec 1 := Scalar.cmpi .ne v7 v12
  let v14 : BitVec 32 := Scalar.remsi v1 c9_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c12_i32_4 : BitVec 32 := 12#32
  let v19 : BitVec 32 := Scalar.muli arg0 c12_i32_4
  let v20 : BitVec 32 := Scalar.addi v19 arg2
  let c9_i32_5 : BitVec 32 := 9#32
  let c0_i32_6 : BitVec 32 := 0#32
  let v21 : BitVec 1 := Scalar.cmpi .eq c9_i32_5 c0_i32_6
  let c1_i32_7 : BitVec 32 := 1#32
  let v22 : BitVec 32 := Scalar.select v21 c1_i32_7 c9_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, c0_i32_11.toNat, v30.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DilQkvDhReferenceIdeal.lean ====
abbrev S3x3x2048x1024 : Shape := ⟨4, ![3, 3, 2048, 1024]⟩
abbrev S4x1024x2304 : Shape := ⟨3, ![4, 1024, 2304]⟩
abbrev S1024x4x2304 : Shape := ⟨3, ![1024, 4, 2304]⟩
abbrev S1024x9216 : Shape := ⟨2, ![1024, 9216]⟩
abbrev S1024x3x3x1024 : Shape := ⟨4, ![1024, 3, 3, 1024]⟩
abbrev S3x2048x1024 : Shape := ⟨3, ![3, 2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S3x3x2048x1024, .bf16⟩
  | .hbm, ⟨1, _⟩ => ⟨S4x1024x2304, .bf16⟩
  | .hbm, ⟨2, _⟩ => ⟨S4x1024x2304, .f32⟩
  | .hbm, ⟨3, _⟩ => ⟨S1024x4x2304, .f32⟩
  | .hbm, ⟨4, _⟩ => ⟨S1024x9216, .f32⟩
  | .hbm, ⟨5, _⟩ => ⟨S1024x3x3x1024, .f32⟩
  | .hbm, ⟨6, _⟩ => ⟨S3x3x2048x1024, .f32⟩
  | .hbm, ⟨7, _⟩ => ⟨S3x2048x1024, .f32⟩
  | _, _ => ⟨S3x3x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== NaQkvDw.lean ====
abbrev S1x2048x1024 : Shape := ⟨3, ![1, 2048, 1024]⟩
abbrev S1x3x2048x1024 : Shape := ⟨4, ![1, 3, 2048, 1024]⟩
abbrev S4x1024x768 : Shape := ⟨3, ![4, 1024, 768]⟩
abbrev S1x512x1024 : Shape := ⟨3, ![1, 512, 1024]⟩
abbrev S1x1x512x256 : Shape := ⟨4, ![1, 1, 512, 256]⟩
abbrev S1x1024x256 : Shape := ⟨3, ![1, 1024, 256]⟩
abbrev S1024x256 : Shape := ⟨2, ![1024, 256]⟩
abbrev S512x1024 : Shape := ⟨2, ![512, 1024]⟩
abbrev S512x256 : Shape := ⟨2, ![512, 256]⟩

abbrev nBuf : Space → Nat
  | .hbm => 3
  | .vmem => 7
  | .smem => 0
  | _ => 0

abbrev bufTy : (tb : Table) → Fin (tcTables nBuf tb) → BufTy
  | .hbm, ⟨0, _⟩ => ⟨S1x2048x1024, .bf16⟩
  | .hbm, ⟨1, _⟩ => ⟨S1x3x2048x1024, .bf16⟩
  | .hbm, ⟨2, _⟩ => ⟨S4x1024x768, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x1x512x256, .bf16⟩
  | .local _ .vmem, ⟨3, _⟩ => ⟨S1x1x512x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1024x256, .f32⟩
  | _, _ => ⟨S1x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![12, 4], ![false, false]⟩

def k0_cond3 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_9 : BitVec 32 := 0#32
  let v13 : BitVec 1 := Scalar.cmpi .ne v12 c0_i32_9
  v13

def cc0_transform_0 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.divsi arg0 c12_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c12_i32 c0_i32_1
  let v7 : BitVec 32 := Scalar.extui v6
  let c0_i32_2 : BitVec 32 := 0#32
  let v8 : BitVec 1 := Scalar.cmpi .slt c12_i32 c0_i32_2
  let v9 : BitVec 32 := Scalar.extui v8
  let v10 : BitVec 32 := Scalar.subi v7 v9
  let v11 : BitVec 1 := Scalar.cmpi .ne v5 v10
  let v12 : BitVec 32 := Scalar.remsi arg0 c12_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, arg1.toNat, c0_i32_4.toNat]

def cc0_transform_1 (i : grid0.Coords) : Fin 4 → Nat :=
  let arg0 : BitVec 32 := BitVec.ofNat 32 (i 0).val
  let arg1 : BitVec 32 := BitVec.ofNat 32 (i 1).val
  let c12_i32 : BitVec 32 := 12#32
  let v0 : BitVec 32 := Scalar.divsi arg0 c12_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c12_i32 c0_i32_1
  let v7 : BitVec 32 := Scalar.extui v6
  let c0_i32_2 : BitVec 32 := 0#32
  let v8 : BitVec 1 := Scalar.cmpi .slt c12_i32 c0_i32_2
  let v9 : BitVec 32 := Scalar.extui v8
  let v10 : BitVec 32 := Scalar.subi v7 v9
  let v11 : BitVec 1 := Scalar.cmpi .ne v5 v10
  let v12 : BitVec 32 := Scalar.remsi arg0 c12_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c12_i32_4 : BitVec 32 := 12#32
  let c0_i32_5 : BitVec 32 := 0#32
  let v17 : BitVec 1 := Scalar.cmpi .eq c12_i32_4 c0_i32_5
  let c1_i32_6 : BitVec 32 := 1#32
  let v18 : BitVec 32 := Scalar.select v17 c1_i32_6 c12_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c4_i32 : BitVec 32 := 4#32
  let v27 : BitVec 32 := Scalar.divsi v26 c4_i32
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c0_i32_12 : BitVec 32 := 0#32
  let v33 : BitVec 1 := Scalar.cmpi .sgt c4_i32 c0_i32_12
  let v34 : BitVec 32 := Scalar.extui v33
  let c0_i32_13 : BitVec 32 := 0#32
  let v35 : BitVec 1 := Scalar.cmpi .slt c4_i32 c0_i32_13
  let v36 : BitVec 32 := Scalar.extui v35
  let v37 : BitVec 32 := Scalar.subi v34 v36
  let v38 : BitVec 1 := Scalar.cmpi .ne v32 v37
  let v39 : BitVec 32 := Scalar.remsi v26 c4_i32
  let c0_i32_14 : BitVec 32 := 0#32
  let v40 : BitVec 1 := Scalar.cmpi .ne v39 c0_i32_14
  let v41 : BitVec 1 := Scalar.andi v38 v40
  let c1_i32_15 : BitVec 32 := 1#32
  let v42 : BitVec 32 := Scalar.subi v27 c1_i32_15
  let v43 : BitVec 32 := Scalar.select v41 v42 v27
  let c4_i32_16 : BitVec 32 := 4#32
  let c0_i32_17 : BitVec 32 := 0#32
  let v44 : BitVec 1 := Scalar.cmpi .eq c4_i32_16 c0_i32_17
  let c1_i32_18 : BitVec 32 := 1#32
  let v45 : BitVec 32 := Scalar.select v44 c1_i32_18 c4_i32_16
  let v46 : BitVec 32 := Scalar.remsi arg0 v45
  let c0_i32_19 : BitVec 32 := 0#32
  let v47 : BitVec 1 := Scalar.cmpi .ne v46 c0_i32_19
  let c0_i32_20 : BitVec 32 := 0#32
  let v48 : BitVec 1 := Scalar.cmpi .slt v46 c0_i32_20
  let c0_i32_21 : BitVec 32 := 0#32
  let v49 : BitVec 1 := Scalar.cmpi .slt v45 c0_i32_21
  let v50 : BitVec 1 := Scalar.xori v48 v49
  let v51 : BitVec 1 := Scalar.andi v50 v47
  let v52 : BitVec 32 := Scalar.addi v46 v45
  let v53 : BitVec 32 := Scalar.select v51 v52 v46
  let c0_i32_22 : BitVec 32 := 0#32
  ![v16.toNat, v43.toNat, arg1.toNat, v53.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== NaQkvDwIdeal.lean ====
abbrev S1x2048x1024 : Shape := ⟨3, ![1, 2048, 1024]⟩
abbrev S1x3x2048x1024 : Shape := ⟨4, ![1, 3, 2048, 1024]⟩
abbrev S4x1024x768 : Shape := ⟨3, ![4, 1024, 768]⟩
abbrev S1x512x1024 : Shape := ⟨3, ![1, 512, 1024]⟩
abbrev S1x1x512x256 : Shape := ⟨4, ![1, 1, 512, 256]⟩
abbrev S1x1024x256 : Shape := ⟨3, ![1, 1024, 256]⟩
abbrev S1024x256 : Shape := ⟨2, ![1024, 256]⟩
abbrev S512x1024 : Shape := ⟨2, ![512, 1024]⟩
abbrev S512x256 : Shape := ⟨2, ![512, 256]⟩

abbrev nBuf : Space → Nat
  | .hbm => 3
  | .vmem => 7
  | .smem => 0
  | _ => 0

abbrev bufTy : (tb : Table) → Fin (tcTables nBuf tb) → BufTy
  | .hbm, ⟨0, _⟩ => ⟨S1x2048x1024, .bf16⟩
  | .hbm, ⟨1, _⟩ => ⟨S1x3x2048x1024, .bf16⟩
  | .hbm, ⟨2, _⟩ => ⟨S4x1024x768, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x1x512x256, .bf16⟩
  | .local _ .vmem, ⟨3, _⟩ => ⟨S1x1x512x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1024x256, .f32⟩
  | _, _ => ⟨S1x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![12, 4], ![false, false]⟩

def k0_cond3 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_9 : BitVec 32 := 0#32
  let v13 : BitVec 1 := Scalar.cmpi .ne v12 c0_i32_9
  v13

def cc0_transform_0 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.divsi arg0 c12_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c12_i32 c0_i32_1
  let v7 : BitVec 32 := Scalar.extui v6
  let c0_i32_2 : BitVec 32 := 0#32
  let v8 : BitVec 1 := Scalar.cmpi .slt c12_i32 c0_i32_2
  let v9 : BitVec 32 := Scalar.extui v8
  let v10 : BitVec 32 := Scalar.subi v7 v9
  let v11 : BitVec 1 := Scalar.cmpi .ne v5 v10
  let v12 : BitVec 32 := Scalar.remsi arg0 c12_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, arg1.toNat, c0_i32_4.toNat]

def cc0_transform_1 (i : grid0.Coords) : Fin 4 → Nat :=
  let arg0 : BitVec 32 := BitVec.ofNat 32 (i 0).val
  let arg1 : BitVec 32 := BitVec.ofNat 32 (i 1).val
  let c12_i32 : BitVec 32 := 12#32
  let v0 : BitVec 32 := Scalar.divsi arg0 c12_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c12_i32 c0_i32_1
  let v7 : BitVec 32 := Scalar.extui v6
  let c0_i32_2 : BitVec 32 := 0#32
  let v8 : BitVec 1 := Scalar.cmpi .slt c12_i32 c0_i32_2
  let v9 : BitVec 32 := Scalar.extui v8
  let v10 : BitVec 32 := Scalar.subi v7 v9
  let v11 : BitVec 1 := Scalar.cmpi .ne v5 v10
  let v12 : BitVec 32 := Scalar.remsi arg0 c12_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c12_i32_4 : BitVec 32 := 12#32
  let c0_i32_5 : BitVec 32 := 0#32
  let v17 : BitVec 1 := Scalar.cmpi .eq c12_i32_4 c0_i32_5
  let c1_i32_6 : BitVec 32 := 1#32
  let v18 : BitVec 32 := Scalar.select v17 c1_i32_6 c12_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c4_i32 : BitVec 32 := 4#32
  let v27 : BitVec 32 := Scalar.divsi v26 c4_i32
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c0_i32_12 : BitVec 32 := 0#32
  let v33 : BitVec 1 := Scalar.cmpi .sgt c4_i32 c0_i32_12
  let v34 : BitVec 32 := Scalar.extui v33
  let c0_i32_13 : BitVec 32 := 0#32
  let v35 : BitVec 1 := Scalar.cmpi .slt c4_i32 c0_i32_13
  let v36 : BitVec 32 := Scalar.extui v35
  let v37 : BitVec 32 := Scalar.subi v34 v36
  let v38 : BitVec 1 := Scalar.cmpi .ne v32 v37
  let v39 : BitVec 32 := Scalar.remsi v26 c4_i32
  let c0_i32_14 : BitVec 32 := 0#32
  let v40 : BitVec 1 := Scalar.cmpi .ne v39 c0_i32_14
  let v41 : BitVec 1 := Scalar.andi v38 v40
  let c1_i32_15 : BitVec 32 := 1#32
  let v42 : BitVec 32 := Scalar.subi v27 c1_i32_15
  let v43 : BitVec 32 := Scalar.select v41 v42 v27
  let c4_i32_16 : BitVec 32 := 4#32
  let c0_i32_17 : BitVec 32 := 0#32
  let v44 : BitVec 1 := Scalar.cmpi .eq c4_i32_16 c0_i32_17
  let c1_i32_18 : BitVec 32 := 1#32
  let v45 : BitVec 32 := Scalar.select v44 c1_i32_18 c4_i32_16
  let v46 : BitVec 32 := Scalar.remsi arg0 v45
  let c0_i32_19 : BitVec 32 := 0#32
  let v47 : BitVec 1 := Scalar.cmpi .ne v46 c0_i32_19
  let c0_i32_20 : BitVec 32 := 0#32
  let v48 : BitVec 1 := Scalar.cmpi .slt v46 c0_i32_20
  let c0_i32_21 : BitVec 32 := 0#32
  let v49 : BitVec 1 := Scalar.cmpi .slt v45 c0_i32_21
  let v50 : BitVec 1 := Scalar.xori v48 v49
  let v51 : BitVec 1 := Scalar.andi v50 v47
  let v52 : BitVec 32 := Scalar.addi v46 v45
  let v53 : BitVec 32 := Scalar.select v51 v52 v46
  let c0_i32_22 : BitVec 32 := 0#32
  ![v16.toNat, v43.toNat, arg1.toNat, v53.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== NaQkvDwReferenceIdeal.lean ====
abbrev S1x2048x1024 : Shape := ⟨3, ![1, 2048, 1024]⟩
abbrev S1x3x2048x1024 : Shape := ⟨4, ![1, 3, 2048, 1024]⟩
abbrev S1x3x1024x1024 : Shape := ⟨4, ![1, 3, 1024, 1024]⟩
abbrev S1024x1x3x1024 : Shape := ⟨4, ![1024, 1, 3, 1024]⟩
abbrev S1024x4x768 : Shape := ⟨3, ![1024, 4, 768]⟩
abbrev S4x1024x768 : Shape := ⟨3, ![4, 1024, 768]⟩

abbrev nBuf : Space → Nat
  | .hbm => 9
  | .vmem => 0
  | .smem => 0
  | _ => 0

abbrev bufTy : (tb : Table) → Fin (tcTables nBuf tb) → BufTy
  | .hbm, ⟨0, _⟩ => ⟨S1x2048x1024, .bf16⟩
  | .hbm, ⟨1, _⟩ => ⟨S1x3x2048x1024, .bf16⟩
  | .hbm, ⟨2, _⟩ => ⟨S1x2048x1024, .f32⟩
  | .hbm, ⟨3, _⟩ => ⟨S1x3x2048x1024, .f32⟩
  | .hbm, ⟨4, _⟩ => ⟨S1x3x1024x1024, .f32⟩
  | .hbm, ⟨5, _⟩ => ⟨S1024x1x3x1024, .f32⟩
  | .hbm, ⟨6, _⟩ => ⟨S1024x4x768, .f32⟩
  | .hbm, ⟨7, _⟩ => ⟨S4x1024x768, .f32⟩
  | .hbm, ⟨8, _⟩ => ⟨S4x1024x768, .bf16⟩
  | _, _ => ⟨S1x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== DilQkvDw.lean ====
abbrev S3x2048x1024 : Shape := ⟨3, ![3, 2048, 1024]⟩
abbrev S3x3x2048x1024 : Shape := ⟨4, ![3, 3, 2048, 1024]⟩
abbrev S4x1024x2304 : Shape := ⟨3, ![4, 1024, 2304]⟩
abbrev S1x512x1024 : Shape := ⟨3, ![1, 512, 1024]⟩
abbrev S1x1x512x256 : Shape := ⟨4, ![1, 1, 512, 256]⟩
abbrev S1x1024x256 : Shape := ⟨3, ![1, 1024, 256]⟩
abbrev S1024x256 : Shape := ⟨2, ![1024, 256]⟩
abbrev S512x1024 : Shape := ⟨2, ![512, 1024]⟩
abbrev S512x256 : Shape := ⟨2, ![512, 256]⟩

abbrev nBuf : Space → Nat
  | .hbm => 3
  | .vmem => 7
  | .smem => 0
  | _ => 0

abbrev bufTy : (tb : Table) → Fin (tcTables nBuf tb) → BufTy
  | .hbm, ⟨0, _⟩ => ⟨S3x2048x1024, .bf16⟩
  | .hbm, ⟨1, _⟩ => ⟨S3x3x2048x1024, .bf16⟩
  | .hbm, ⟨2, _⟩ => ⟨S4x1024x2304, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x1x512x256, .bf16⟩
  | .local _ .vmem, ⟨3, _⟩ => ⟨S1x1x512x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1024x256, .f32⟩
  | _, _ => ⟨S3x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![36, 4], ![false, false]⟩

def k0_cond3 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_9 : BitVec 32 := 0#32
  let v13 : BitVec 1 := Scalar.cmpi .ne v12 c0_i32_9
  v13

def cc0_transform_0 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.divsi arg0 c12_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c12_i32 c0_i32_1
  let v7 : BitVec 32 := Scalar.extui v6
  let c0_i32_2 : BitVec 32 := 0#32
  let v8 : BitVec 1 := Scalar.cmpi .slt c12_i32 c0_i32_2
  let v9 : BitVec 32 := Scalar.extui v8
  let v10 : BitVec 32 := Scalar.subi v7 v9
  let v11 : BitVec 1 := Scalar.cmpi .ne v5 v10
  let v12 : BitVec 32 := Scalar.remsi arg0 c12_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, arg1.toNat, c0_i32_4.toNat]

def cc0_transform_1 (i : grid0.Coords) : Fin 4 → Nat :=
  let arg0 : BitVec 32 := BitVec.ofNat 32 (i 0).val
  let arg1 : BitVec 32 := BitVec.ofNat 32 (i 1).val
  let c12_i32 : BitVec 32 := 12#32
  let v0 : BitVec 32 := Scalar.divsi arg0 c12_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c12_i32 c0_i32_1
  let v7 : BitVec 32 := Scalar.extui v6
  let c0_i32_2 : BitVec 32 := 0#32
  let v8 : BitVec 1 := Scalar.cmpi .slt c12_i32 c0_i32_2
  let v9 : BitVec 32 := Scalar.extui v8
  let v10 : BitVec 32 := Scalar.subi v7 v9
  let v11 : BitVec 1 := Scalar.cmpi .ne v5 v10
  let v12 : BitVec 32 := Scalar.remsi arg0 c12_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c12_i32_4 : BitVec 32 := 12#32
  let c0_i32_5 : BitVec 32 := 0#32
  let v17 : BitVec 1 := Scalar.cmpi .eq c12_i32_4 c0_i32_5
  let c1_i32_6 : BitVec 32 := 1#32
  let v18 : BitVec 32 := Scalar.select v17 c1_i32_6 c12_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c4_i32 : BitVec 32 := 4#32
  let v27 : BitVec 32 := Scalar.divsi v26 c4_i32
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c0_i32_12 : BitVec 32 := 0#32
  let v33 : BitVec 1 := Scalar.cmpi .sgt c4_i32 c0_i32_12
  let v34 : BitVec 32 := Scalar.extui v33
  let c0_i32_13 : BitVec 32 := 0#32
  let v35 : BitVec 1 := Scalar.cmpi .slt c4_i32 c0_i32_13
  let v36 : BitVec 32 := Scalar.extui v35
  let v37 : BitVec 32 := Scalar.subi v34 v36
  let v38 : BitVec 1 := Scalar.cmpi .ne v32 v37
  let v39 : BitVec 32 := Scalar.remsi v26 c4_i32
  let c0_i32_14 : BitVec 32 := 0#32
  let v40 : BitVec 1 := Scalar.cmpi .ne v39 c0_i32_14
  let v41 : BitVec 1 := Scalar.andi v38 v40
  let c1_i32_15 : BitVec 32 := 1#32
  let v42 : BitVec 32 := Scalar.subi v27 c1_i32_15
  let v43 : BitVec 32 := Scalar.select v41 v42 v27
  let c4_i32_16 : BitVec 32 := 4#32
  let c0_i32_17 : BitVec 32 := 0#32
  let v44 : BitVec 1 := Scalar.cmpi .eq c4_i32_16 c0_i32_17
  let c1_i32_18 : BitVec 32 := 1#32
  let v45 : BitVec 32 := Scalar.select v44 c1_i32_18 c4_i32_16
  let v46 : BitVec 32 := Scalar.remsi arg0 v45
  let c0_i32_19 : BitVec 32 := 0#32
  let v47 : BitVec 1 := Scalar.cmpi .ne v46 c0_i32_19
  let c0_i32_20 : BitVec 32 := 0#32
  let v48 : BitVec 1 := Scalar.cmpi .slt v46 c0_i32_20
  let c0_i32_21 : BitVec 32 := 0#32
  let v49 : BitVec 1 := Scalar.cmpi .slt v45 c0_i32_21
  let v50 : BitVec 1 := Scalar.xori v48 v49
  let v51 : BitVec 1 := Scalar.andi v50 v47
  let v52 : BitVec 32 := Scalar.addi v46 v45
  let v53 : BitVec 32 := Scalar.select v51 v52 v46
  let c0_i32_22 : BitVec 32 := 0#32
  ![v16.toNat, v43.toNat, arg1.toNat, v53.toNat]

def cc0_transform_2 (i : grid0.Coords) : Fin 3 → Nat :=
  let arg0 : BitVec 32 := BitVec.ofNat 32 (i 0).val
  let arg1 : BitVec 32 := BitVec.ofNat 32 (i 1).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c9_i32_4 : BitVec 32 := 9#32
  let c0_i32_5 : BitVec 32 := 0#32
  let v17 : BitVec 1 := Scalar.cmpi .eq c9_i32_4 c0_i32_5
  let c1_i32_6 : BitVec 32 := 1#32
  let v18 : BitVec 32 := Scalar.select v17 c1_i32_6 c9_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DilQkvDwIdeal.lean ====
abbrev S3x2048x1024 : Shape := ⟨3, ![3, 2048, 1024]⟩
abbrev S3x3x2048x1024 : Shape := ⟨4, ![3, 3, 2048, 1024]⟩
abbrev S4x1024x2304 : Shape := ⟨3, ![4, 1024, 2304]⟩
abbrev S1x512x1024 : Shape := ⟨3, ![1, 512, 1024]⟩
abbrev S1x1x512x256 : Shape := ⟨4, ![1, 1, 512, 256]⟩
abbrev S1x1024x256 : Shape := ⟨3, ![1, 1024, 256]⟩
abbrev S1024x256 : Shape := ⟨2, ![1024, 256]⟩
abbrev S512x1024 : Shape := ⟨2, ![512, 1024]⟩
abbrev S512x256 : Shape := ⟨2, ![512, 256]⟩

abbrev nBuf : Space → Nat
  | .hbm => 3
  | .vmem => 7
  | .smem => 0
  | _ => 0

abbrev bufTy : (tb : Table) → Fin (tcTables nBuf tb) → BufTy
  | .hbm, ⟨0, _⟩ => ⟨S3x2048x1024, .bf16⟩
  | .hbm, ⟨1, _⟩ => ⟨S3x3x2048x1024, .bf16⟩
  | .hbm, ⟨2, _⟩ => ⟨S4x1024x2304, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x1x512x256, .bf16⟩
  | .local _ .vmem, ⟨3, _⟩ => ⟨S1x1x512x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1024x256, .f32⟩
  | _, _ => ⟨S3x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![36, 4], ![false, false]⟩

def k0_cond3 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_9 : BitVec 32 := 0#32
  let v13 : BitVec 1 := Scalar.cmpi .ne v12 c0_i32_9
  v13

def cc0_transform_0 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.divsi arg0 c12_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c12_i32 c0_i32_1
  let v7 : BitVec 32 := Scalar.extui v6
  let c0_i32_2 : BitVec 32 := 0#32
  let v8 : BitVec 1 := Scalar.cmpi .slt c12_i32 c0_i32_2
  let v9 : BitVec 32 := Scalar.extui v8
  let v10 : BitVec 32 := Scalar.subi v7 v9
  let v11 : BitVec 1 := Scalar.cmpi .ne v5 v10
  let v12 : BitVec 32 := Scalar.remsi arg0 c12_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, arg1.toNat, c0_i32_4.toNat]

def cc0_transform_1 (i : grid0.Coords) : Fin 4 → Nat :=
  let arg0 : BitVec 32 := BitVec.ofNat 32 (i 0).val
  let arg1 : BitVec 32 := BitVec.ofNat 32 (i 1).val
  let c12_i32 : BitVec 32 := 12#32
  let v0 : BitVec 32 := Scalar.divsi arg0 c12_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c12_i32 c0_i32_1
  let v7 : BitVec 32 := Scalar.extui v6
  let c0_i32_2 : BitVec 32 := 0#32
  let v8 : BitVec 1 := Scalar.cmpi .slt c12_i32 c0_i32_2
  let v9 : BitVec 32 := Scalar.extui v8
  let v10 : BitVec 32 := Scalar.subi v7 v9
  let v11 : BitVec 1 := Scalar.cmpi .ne v5 v10
  let v12 : BitVec 32 := Scalar.remsi arg0 c12_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c12_i32_4 : BitVec 32 := 12#32
  let c0_i32_5 : BitVec 32 := 0#32
  let v17 : BitVec 1 := Scalar.cmpi .eq c12_i32_4 c0_i32_5
  let c1_i32_6 : BitVec 32 := 1#32
  let v18 : BitVec 32 := Scalar.select v17 c1_i32_6 c12_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c4_i32 : BitVec 32 := 4#32
  let v27 : BitVec 32 := Scalar.divsi v26 c4_i32
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c0_i32_12 : BitVec 32 := 0#32
  let v33 : BitVec 1 := Scalar.cmpi .sgt c4_i32 c0_i32_12
  let v34 : BitVec 32 := Scalar.extui v33
  let c0_i32_13 : BitVec 32 := 0#32
  let v35 : BitVec 1 := Scalar.cmpi .slt c4_i32 c0_i32_13
  let v36 : BitVec 32 := Scalar.extui v35
  let v37 : BitVec 32 := Scalar.subi v34 v36
  let v38 : BitVec 1 := Scalar.cmpi .ne v32 v37
  let v39 : BitVec 32 := Scalar.remsi v26 c4_i32
  let c0_i32_14 : BitVec 32 := 0#32
  let v40 : BitVec 1 := Scalar.cmpi .ne v39 c0_i32_14
  let v41 : BitVec 1 := Scalar.andi v38 v40
  let c1_i32_15 : BitVec 32 := 1#32
  let v42 : BitVec 32 := Scalar.subi v27 c1_i32_15
  let v43 : BitVec 32 := Scalar.select v41 v42 v27
  let c4_i32_16 : BitVec 32 := 4#32
  let c0_i32_17 : BitVec 32 := 0#32
  let v44 : BitVec 1 := Scalar.cmpi .eq c4_i32_16 c0_i32_17
  let c1_i32_18 : BitVec 32 := 1#32
  let v45 : BitVec 32 := Scalar.select v44 c1_i32_18 c4_i32_16
  let v46 : BitVec 32 := Scalar.remsi arg0 v45
  let c0_i32_19 : BitVec 32 := 0#32
  let v47 : BitVec 1 := Scalar.cmpi .ne v46 c0_i32_19
  let c0_i32_20 : BitVec 32 := 0#32
  let v48 : BitVec 1 := Scalar.cmpi .slt v46 c0_i32_20
  let c0_i32_21 : BitVec 32 := 0#32
  let v49 : BitVec 1 := Scalar.cmpi .slt v45 c0_i32_21
  let v50 : BitVec 1 := Scalar.xori v48 v49
  let v51 : BitVec 1 := Scalar.andi v50 v47
  let v52 : BitVec 32 := Scalar.addi v46 v45
  let v53 : BitVec 32 := Scalar.select v51 v52 v46
  let c0_i32_22 : BitVec 32 := 0#32
  ![v16.toNat, v43.toNat, arg1.toNat, v53.toNat]

def cc0_transform_2 (i : grid0.Coords) : Fin 3 → Nat :=
  let arg0 : BitVec 32 := BitVec.ofNat 32 (i 0).val
  let arg1 : BitVec 32 := BitVec.ofNat 32 (i 1).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c9_i32_4 : BitVec 32 := 9#32
  let c0_i32_5 : BitVec 32 := 0#32
  let v17 : BitVec 1 := Scalar.cmpi .eq c9_i32_4 c0_i32_5
  let c1_i32_6 : BitVec 32 := 1#32
  let v18 : BitVec 32 := Scalar.select v17 c1_i32_6 c9_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DilQkvDwReferenceIdeal.lean ====
abbrev S3x2048x1024 : Shape := ⟨3, ![3, 2048, 1024]⟩
abbrev S3x3x2048x1024 : Shape := ⟨4, ![3, 3, 2048, 1024]⟩
abbrev S3x3x1024x1024 : Shape := ⟨4, ![3, 3, 1024, 1024]⟩
abbrev S1024x3x3x1024 : Shape := ⟨4, ![1024, 3, 3, 1024]⟩
abbrev S1024x4x2304 : Shape := ⟨3, ![1024, 4, 2304]⟩
abbrev S4x1024x2304 : Shape := ⟨3, ![4, 1024, 2304]⟩

abbrev nBuf : Space → Nat
  | .hbm => 9
  | .vmem => 0
  | .smem => 0
  | _ => 0

abbrev bufTy : (tb : Table) → Fin (tcTables nBuf tb) → BufTy
  | .hbm, ⟨0, _⟩ => ⟨S3x2048x1024, .bf16⟩
  | .hbm, ⟨1, _⟩ => ⟨S3x3x2048x1024, .bf16⟩
  | .hbm, ⟨2, _⟩ => ⟨S3x2048x1024, .f32⟩
  | .hbm, ⟨3, _⟩ => ⟨S3x3x2048x1024, .f32⟩
  | .hbm, ⟨4, _⟩ => ⟨S3x3x1024x1024, .f32⟩
  | .hbm, ⟨5, _⟩ => ⟨S1024x3x3x1024, .f32⟩
  | .hbm, ⟨6, _⟩ => ⟨S1024x4x2304, .f32⟩
  | .hbm, ⟨7, _⟩ => ⟨S4x1024x2304, .f32⟩
  | .hbm, ⟨8, _⟩ => ⟨S4x1024x2304, .bf16⟩
  | _, _ => ⟨S3x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== NaFwd.lean ====
abbrev S2048x3072 : Shape := ⟨2, ![2048, 3072]⟩
abbrev S3x16x256x768 : Shape := ⟨4, ![3, 16, 256, 768]⟩
abbrev S2048x1024 : Shape := ⟨2, ![2048, 1024]⟩
abbrev S256x128 : Shape := ⟨2, ![256, 128]⟩
abbrev S2048x128 : Shape := ⟨2, ![2048, 128]⟩
abbrev S1x2x256x768 : Shape := ⟨4, ![1, 2, 256, 768]⟩
abbrev S768x128 : Shape := ⟨2, ![768, 128]⟩
abbrev S256x64 : Shape := ⟨2, ![256, 64]⟩
abbrev S768x64 : Shape := ⟨2, ![768, 64]⟩
abbrev S256x768 : Shape := ⟨2, ![256, 768]⟩
abbrev S1x1x256x768 : Shape := ⟨4, ![1, 1, 256, 768]⟩
abbrev S256 : Shape := ⟨1, ![256]⟩
abbrev S256x1 : Shape := ⟨2, ![256, 1]⟩

abbrev nBuf : Space → Nat
  | .hbm => 3
  | .vmem => 10
  | .smem => 0
  | _ => 0

abbrev bufTy : (tb : Table) → Fin (tcTables nBuf tb) → BufTy
  | .hbm, ⟨0, _⟩ => ⟨S2048x3072, .bf16⟩
  | .hbm, ⟨1, _⟩ => ⟨S3x16x256x768, .f32⟩
  | .hbm, ⟨2, _⟩ => ⟨S2048x1024, .bf16⟩
  | .local _ .vmem, ⟨0, _⟩ => ⟨S256x128, .bf16⟩
  | .local _ .vmem, ⟨1, _⟩ => ⟨S256x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S1x2x256x768, .f32⟩
  | .local _ .vmem, ⟨7, _⟩ => ⟨S1x2x256x768, .f32⟩
  | .local _ .vmem, ⟨8, _⟩ => ⟨S256x128, .bf16⟩
  | .local _ .vmem, ⟨9, _⟩ => ⟨S256x128, .bf16⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let c20_i32 : BitVec 32 := 20#32
  let c0_i32 : BitVec 32 := 0#32
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.subi v0 c4_i32_0
  let v2 : BitVec 32 := Scalar.maxsi c0_i32 v1
  let v3 : BitVec 32 := Scalar.minsi c20_i32 v2
  let c64_i32 : BitVec 32 := 64#32
  let v4 : BitVec 32 := Scalar.muli v3 c64_i32
  v4
def k0_off1 (i : grid0.Coords) : Fin 2 → Nat :=
  let c20_i32 : BitVec 32 := 20#32
  let c0_i32 : BitVec 32 := 0#32
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.subi v0 c4_i32_0
  let v2 : BitVec 32 := Scalar.maxsi c0_i32 v1
  let v3 : BitVec 32 := Scalar.minsi c20_i32 v2
  let c64_i32 : BitVec 32 := 64#32
  let v4 : BitVec 32 := Scalar.muli v3 c64_i32
  let v5 : BitVec 32 := v4
  let v7 : Index := Scalar.indexCast v5
  let c0_2 : Index := 0#32
  ![v7.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c7_i32 : BitVec 32 := 7#32
  let v1 : BitVec 1 := Scalar.cmpi .eq arg1 c7_i32
  let c2_i32 : BitVec 32 := 2#32
  let c1_i32 : BitVec 32 := 1#32
  let v2 : BitVec 32 := Scalar.select v1 c2_i32 c1_i32
  let c0_i32_0 : BitVec 32 := 0#32
  let v3 : BitVec 32 := Scalar.select v0 c0_i32_0 v2
  let c0_i32_1 : BitVec 32 := 0#32
  let c0_i32_2 : BitVec 32 := 0#32
  let c0_i32_3 : BitVec 32 := 0#32
  ![v3.toNat, arg0.toNat, c0_i32_1.toNat, c0_i32_2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== NaFwdIdeal.lean ====
abbrev S2048x3072 : Shape := ⟨2, ![2048, 3072]⟩
abbrev S3x16x256x768 : Shape := ⟨4, ![3, 16, 256, 768]⟩
abbrev S2048x1024 : Shape := ⟨2, ![2048, 1024]⟩
abbrev S256x128 : Shape := ⟨2, ![256, 128]⟩
abbrev S2048x128 : Shape := ⟨2, ![2048, 128]⟩
abbrev S1x2x256x768 : Shape := ⟨4, ![1, 2, 256, 768]⟩
abbrev S768x128 : Shape := ⟨2, ![768, 128]⟩
abbrev S256x64 : Shape := ⟨2, ![256, 64]⟩
abbrev S768x64 : Shape := ⟨2, ![768, 64]⟩
abbrev S256x768 : Shape := ⟨2, ![256, 768]⟩
abbrev S1x1x256x768 : Shape := ⟨4, ![1, 1, 256, 768]⟩
abbrev S256 : Shape := ⟨1, ![256]⟩
abbrev S256x1 : Shape := ⟨2, ![256, 1]⟩

abbrev nBuf : Space → Nat
  | .hbm => 3
  | .vmem => 10
  | .smem => 0
  | _ => 0

abbrev bufTy : (tb : Table) → Fin (tcTables nBuf tb) → BufTy
  | .hbm, ⟨0, _⟩ => ⟨S2048x3072, .bf16⟩
  | .hbm, ⟨1, _⟩ => ⟨S3x16x256x768, .f32⟩
  | .hbm, ⟨2, _⟩ => ⟨S2048x1024, .bf16⟩
  | .local _ .vmem, ⟨0, _⟩ => ⟨S256x128, .bf16⟩
  | .local _ .vmem, ⟨1, _⟩ => ⟨S256x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S1x2x256x768, .f32⟩
  | .local _ .vmem, ⟨7, _⟩ => ⟨S1x2x256x768, .f32⟩
  | .local _ .vmem, ⟨8, _⟩ => ⟨S256x128, .bf16⟩
  | .local _ .vmem, ⟨9, _⟩ => ⟨S256x128, .bf16⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let c20_i32 : BitVec 32 := 20#32
  let c0_i32 : BitVec 32 := 0#32
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.subi v0 c4_i32_0
  let v2 : BitVec 32 := Scalar.maxsi c0_i32 v1
  let v3 : BitVec 32 := Scalar.minsi c20_i32 v2
  let c64_i32 : BitVec 32 := 64#32
  let v4 : BitVec 32 := Scalar.muli v3 c64_i32
  v4
def k0_off1 (i : grid0.Coords) : Fin 2 → Nat :=
  let c20_i32 : BitVec 32 := 20#32
  let c0_i32 : BitVec 32 := 0#32
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.subi v0 c4_i32_0
  let v2 : BitVec 32 := Scalar.maxsi c0_i32 v1
  let v3 : BitVec 32 := Scalar.minsi c20_i32 v2
  let c64_i32 : BitVec 32 := 64#32
  let v4 : BitVec 32 := Scalar.muli v3 c64_i32
  let v5 : BitVec 32 := v4
  let v7 : Index := Scalar.indexCast v5
  let c0_2 : Index := 0#32
  ![v7.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c7_i32 : BitVec 32 := 7#32
  let v1 : BitVec 1 := Scalar.cmpi .eq arg1 c7_i32
  let c2_i32 : BitVec 32 := 2#32
  let c1_i32 : BitVec 32 := 1#32
  let v2 : BitVec 32 := Scalar.select v1 c2_i32 c1_i32
  let c0_i32_0 : BitVec 32 := 0#32
  let v3 : BitVec 32 := Scalar.select v0 c0_i32_0 v2
  let c0_i32_1 : BitVec 32 := 0#32
  let c0_i32_2 : BitVec 32 := 0#32
  let c0_i32_3 : BitVec 32 := 0#32
  ![v3.toNat, arg0.toNat, c0_i32_1.toNat, c0_i32_2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== NaFwdReferenceIdeal.lean ====
abbrev S2048x3072 : Shape := ⟨2, ![2048, 3072]⟩
abbrev S3x16x256x768 : Shape := ⟨4, ![3, 16, 256, 768]⟩
abbrev S2048x1024 : Shape := ⟨2, ![2048, 1024]⟩
abbrev S2048x16x64 : Shape := ⟨3, ![2048, 16, 64]⟩
abbrev S8x256x16x64 : Shape := ⟨4, ![8, 256, 16, 64]⟩
abbrev S_ : Shape := ⟨0, ![]⟩
abbrev S768x16x64 : Shape := ⟨3, ![768, 16, 64]⟩
abbrev S1x768x16x64 : Shape := ⟨4, ![1, 768, 16, 64]⟩
abbrev S8x768x16x64 : Shape := ⟨4, ![8, 768, 16, 64]⟩
abbrev S8x16x256x768 : Shape := ⟨4, ![8, 16, 256, 768]⟩
abbrev S1x16x256x768 : Shape := ⟨4, ![1, 16, 256, 768]⟩
abbrev S16x256x768 : Shape := ⟨3, ![16, 256, 768]⟩
abbrev S8x16x256 : Shape := ⟨3, ![8, 16, 256]⟩
abbrev S8x16x256x1 : Shape := ⟨4, ![8, 16, 256, 1]⟩
abbrev S8x16x256x64 : Shape := ⟨4, ![8, 16, 256, 64]⟩

abbrev nBuf : Space → Nat
  | .hbm => 91
  | .vmem => 0
  | .smem => 0
  | _ => 0

abbrev bufTy : (tb : Table) → Fin (tcTables nBuf tb) → BufTy
  | .hbm, ⟨0, _⟩ => ⟨S2048x3072, .bf16⟩
  | .hbm, ⟨1, _⟩ => ⟨S3x16x256x768, .f32⟩
  | .hbm, ⟨2, _⟩ => ⟨S2048x3072, .f32⟩
  | .hbm, ⟨3, _⟩ => ⟨S2048x1024, .f32⟩
  | .hbm, ⟨4, _⟩ => ⟨S2048x16x64, .f32⟩
  | .hbm, ⟨5, _⟩ => ⟨S2048x3072, .f32⟩
  | .hbm, ⟨6, _⟩ => ⟨S2048x1024, .f32⟩
  | .hbm, ⟨7, _⟩ => ⟨S2048x16x64, .f32⟩
  | .hbm, ⟨8, _⟩ => ⟨S2048x3072, .f32⟩
  | .hbm, ⟨9, _⟩ => ⟨S2048x1024, .f32⟩
  | .hbm, ⟨10, _⟩ => ⟨S2048x16x64, .f32⟩
  | .hbm, ⟨11, _⟩ => ⟨S8x256x16x64, .f32⟩
  | .hbm, ⟨12, _⟩ => ⟨S_, .f32⟩
  | .hbm, ⟨13, _⟩ => ⟨S8x256x16x64, .f32⟩
  | .hbm, ⟨14, _⟩ => ⟨S8x256x16x64, .f32⟩
  | .hbm, ⟨15, _⟩ => ⟨S768x16x64, .f32⟩
  | .hbm, ⟨16, _⟩ => ⟨S768x16x64, .f32⟩
  | .hbm, ⟨17, _⟩ => ⟨S768x16x64, .f32⟩
  | .hbm, ⟨18, _⟩ => ⟨S768x16x64, .f32⟩
  | .hbm, ⟨19, _⟩ => ⟨S768x16x64, .f32⟩
  | .hbm, ⟨20, _⟩ => ⟨S768x16x64, .f32⟩
  | .hbm, ⟨21, _⟩ => ⟨S768x16x64, .f32⟩
  | .hbm, ⟨22, _⟩ => ⟨S768x16x64, .f32⟩
  | .hbm, ⟨23, _⟩ => ⟨S1x768x16x64, .f32⟩
  | .hbm, ⟨24, _⟩ => ⟨S1x768x16x64, .f32⟩
  | .hbm, ⟨25, _⟩ => ⟨S1x768x16x64, .f32⟩
  | .hbm, ⟨26, _⟩ => ⟨S1x768x16x64, .f32⟩
  | .hbm, ⟨27, _⟩ => ⟨S1x768x16x64, .f32⟩
  | .hbm, ⟨28, _⟩ => ⟨S1x768x16x64, .f32⟩
  | .hbm, ⟨29, _⟩ => ⟨S1x768x16x64, .f32⟩
  | .hbm, ⟨30, _⟩ => ⟨S1x768x16x64, .f32⟩
  | .hbm, ⟨31, _⟩ => ⟨S8x768x16x64, .f32⟩
  | .hbm, ⟨32, _⟩ => ⟨S8x16x256x768, .f32⟩
  | .hbm, ⟨33, _⟩ => ⟨S1x16x256x768, .f32⟩
  | .hbm, ⟨34, _⟩ => ⟨S16x256x768, .f32⟩
  | .hbm, ⟨35, _⟩ => ⟨S1x16x256x768, .f32⟩
  | .hbm, ⟨36, _⟩ => ⟨S16x256x768, .f32⟩
  | .hbm, ⟨37, _⟩ => ⟨S1x16x256x768, .f32⟩
  | .hbm, ⟨38, _⟩ => ⟨S16x256x768, .f32⟩
  | .hbm, ⟨39, _⟩ => ⟨S1x16x256x768, .f32⟩
  | .hbm, ⟨40, _⟩ => ⟨S16x256x768, .f32⟩
  | .hbm, ⟨41, _⟩ => ⟨S1x16x256x768, .f32⟩
  | .hbm, ⟨42, _⟩ => ⟨S16x256x768, .f32⟩
  | .hbm, ⟨43, _⟩ => ⟨S1x16x256x768, .f32⟩
  | .hbm, ⟨44, _⟩ => ⟨S16x256x768, .f32⟩
  | .hbm, ⟨45, _⟩ => ⟨S1x16x256x768, .f32⟩
  | .hbm, ⟨46, _⟩ => ⟨S16x256x768, .f32⟩
  | .hbm, ⟨47, _⟩ => ⟨S1x16x256x768, .f32⟩
  | .hbm, ⟨48, _⟩ => ⟨S16x256x768, .f32⟩
  | .hbm, ⟨49, _⟩ => ⟨S1x16x256x768, .f32⟩
  | .hbm, ⟨50, _⟩ => ⟨S1x16x256x768, .f32⟩
  | .hbm, ⟨51, _⟩ => ⟨S1x16x256x768, .f32⟩
  | .hbm, ⟨52, _⟩ => ⟨S1x16x256x768, .f32⟩
  | .hbm, ⟨53, _⟩ => ⟨S1x16x256x768, .f32⟩
  | .hbm, ⟨54, _⟩ => ⟨S1x16x256x768, .f32⟩
  | .hbm, ⟨55, _⟩ => ⟨S1x16x256x768, .f32⟩
  | .hbm, ⟨56, _⟩ => ⟨S1x16x256x768, .f32⟩
  | .hbm, ⟨57, _⟩ => ⟨S8x16x256x768, .f32⟩
  | .hbm, ⟨58, _⟩ => ⟨S8x16x256x768, .f32⟩
  | .hbm, ⟨59, _⟩ => ⟨S_, .f32⟩
  | .hbm, ⟨60, _⟩ => ⟨S8x16x256, .f32⟩
  | .hbm, ⟨61, _⟩ => ⟨S8x16x256x1, .f32⟩
  | .hbm, ⟨62, _⟩ => ⟨S8x16x256x768, .f32⟩
  | .hbm, ⟨63, _⟩ => ⟨S8x16x256x768, .f32⟩
  | .hbm, ⟨64, _⟩ => ⟨S8x16x256x768, .f32⟩
  | .hbm, ⟨65, _⟩ => ⟨S768x16x64, .f32⟩
  | .hbm, ⟨66, _⟩ => ⟨S768x16x64, .f32⟩
  | .hbm, ⟨67, _⟩ => ⟨S768x16x64, .f32⟩
  | .hbm, ⟨68, _⟩ => ⟨S768x16x64, .f32⟩
  | .hbm, ⟨69, _⟩ => ⟨S768x16x64, .f32⟩
  | .hbm, ⟨70, _⟩ => ⟨S768x16x64, .f32⟩
  | .hbm, ⟨71, _⟩ => ⟨S768x16x64, .f32⟩
  | .hbm, ⟨72, _⟩ => ⟨S768x16x64, .f32⟩
  | .hbm, ⟨73, _⟩ => ⟨S1x768x16x64, .f32⟩
  | .hbm, ⟨74, _⟩ => ⟨S1x768x16x64, .f32⟩
  | .hbm, ⟨75, _⟩ => ⟨S1x768x16x64, .f32⟩
  | .hbm, ⟨76, _⟩ => ⟨S1x768x16x64, .f32⟩
  | .hbm, ⟨77, _⟩ => ⟨S1x768x16x64, .f32⟩
  | .hbm, ⟨78, _⟩ => ⟨S1x768x16x64, .f32⟩
  | .hbm, ⟨79, _⟩ => ⟨S1x768x16x64, .f32⟩
  | .hbm, ⟨80, _⟩ => ⟨S1x768x16x64, .f32⟩
  | .hbm, ⟨81, _⟩ => ⟨S8x768x16x64, .f32⟩
  | .hbm, ⟨82, _⟩ => ⟨S8x16x256x64, .f32⟩
  | .hbm, ⟨83, _⟩ => ⟨S_, .f32⟩
  | .hbm, ⟨84, _⟩ => ⟨S8x16x256, .f32⟩
  | .hbm, ⟨85, _⟩ => ⟨S8x16x256x1, .f32⟩
  | .hbm, ⟨86, _⟩ => ⟨S8x16x256x64, .f32⟩
  | .hbm, ⟨87, _⟩ => ⟨S8x16x256x64, .f32⟩
  | .hbm, ⟨88, _⟩ => ⟨S8x256x16x64, .f32⟩
  | .hbm, ⟨89, _⟩ => ⟨S2048x1024, .f32⟩
  | .hbm, ⟨90, _⟩ => ⟨S2048x1024, .bf16⟩
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_cst_0 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩
abbrev main_v64 : Ref sig .tc := ⟨.hbm, 68, rfl⟩
abbrev main_v65 : Ref sig .tc := ⟨.hbm, 69, rfl⟩
abbrev main_v66 : Ref sig .tc := ⟨.hbm, 70, rfl⟩
abbrev main_v67 : Ref sig .tc := ⟨.hbm, 71, rfl⟩
abbrev main_v68 : Ref sig .tc := ⟨.hbm, 72, rfl⟩
abbrev main_v69 : Ref sig .tc := ⟨.hbm, 73, rfl⟩
abbrev main_v70 : Ref sig .tc := ⟨.hbm, 74, rfl⟩
abbrev main_v71 : Ref sig .tc := ⟨.hbm, 75, rfl⟩
abbrev main_v72 : Ref sig .tc := ⟨.hbm, 76, rfl⟩
abbrev main_v73 : Ref sig .tc := ⟨.hbm, 77, rfl⟩
abbrev main_v74 : Ref sig .tc := ⟨.hbm, 78, rfl⟩
abbrev main_v75 : Ref sig .tc := ⟨.hbm, 79, rfl⟩
abbrev main_v76 : Ref sig .tc := ⟨.hbm, 80, rfl⟩
abbrev main_v77 : Ref sig .tc := ⟨.hbm, 81, rfl⟩
abbrev main_v78 : Ref sig .tc := ⟨.hbm, 82, rfl⟩
abbrev main_cst_1 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩

abbrev nD : Nat := 1
abbrev τ : Topo := Topo.v7x

variable {F : FTy → Type} [FloatOps F]
-- ==== DilMerge.lean ====
abbrev S3x2048x1024 : Shape := ⟨3, ![3, 2048, 1024]⟩
abbrev S2048x1024 : Shape := ⟨2, ![2048, 1024]⟩
abbrev S3x256x1024 : Shape := ⟨3, ![3, 256, 1024]⟩
abbrev S256x1024 : Shape := ⟨2, ![256, 1024]⟩
abbrev S1x256x1024 : Shape := ⟨3, ![1, 256, 1024]⟩

abbrev nBuf : Space → Nat
  | .hbm => 4
  | .vmem => 8
  | .smem => 0
  | _ => 0

abbrev bufTy : (tb : Table) → Fin (tcTables nBuf tb) → BufTy
  | .hbm, ⟨0, _⟩ => ⟨S3x2048x1024, .f32⟩
  | .hbm, ⟨1, _⟩ => ⟨S3x2048x1024, .f32⟩
  | .hbm, ⟨2, _⟩ => ⟨S2048x1024, .bf16⟩
  | .hbm, ⟨3, _⟩ => ⟨S2048x1024, .f32⟩
  | .local _ .vmem, ⟨0, _⟩ => ⟨S3x256x1024, .f32⟩
  | .local _ .vmem, ⟨1, _⟩ => ⟨S3x256x1024, .f32⟩
  | .local _ .vmem, ⟨2, _⟩ => ⟨S3x256x1024, .f32⟩
  | .local _ .vmem, ⟨3, _⟩ => ⟨S3x256x1024, .f32⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | _, _ => ⟨S3x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DilMergeIdeal.lean ====
abbrev S3x2048x1024 : Shape := ⟨3, ![3, 2048, 1024]⟩
abbrev S2048x1024 : Shape := ⟨2, ![2048, 1024]⟩
abbrev S3x256x1024 : Shape := ⟨3, ![3, 256, 1024]⟩
abbrev S256x1024 : Shape := ⟨2, ![256, 1024]⟩
abbrev S1x256x1024 : Shape := ⟨3, ![1, 256, 1024]⟩

abbrev nBuf : Space → Nat
  | .hbm => 4
  | .vmem => 8
  | .smem => 0
  | _ => 0

abbrev bufTy : (tb : Table) → Fin (tcTables nBuf tb) → BufTy
  | .hbm, ⟨0, _⟩ => ⟨S3x2048x1024, .f32⟩
  | .hbm, ⟨1, _⟩ => ⟨S3x2048x1024, .f32⟩
  | .hbm, ⟨2, _⟩ => ⟨S2048x1024, .bf16⟩
  | .hbm, ⟨3, _⟩ => ⟨S2048x1024, .f32⟩
  | .local _ .vmem, ⟨0, _⟩ => ⟨S3x256x1024, .f32⟩
  | .local _ .vmem, ⟨1, _⟩ => ⟨S3x256x1024, .f32⟩
  | .local _ .vmem, ⟨2, _⟩ => ⟨S3x256x1024, .f32⟩
  | .local _ .vmem, ⟨3, _⟩ => ⟨S3x256x1024, .f32⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | _, _ => ⟨S3x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DilMergeReferenceIdeal.lean ====
abbrev S3x2048x1024 : Shape := ⟨3, ![3, 2048, 1024]⟩
abbrev S_ : Shape := ⟨0, ![]⟩
abbrev S2048x1024 : Shape := ⟨2, ![2048, 1024]⟩
abbrev S1x2048x1024 : Shape := ⟨3, ![1, 2048, 1024]⟩

abbrev nBuf : Space → Nat
  | .hbm => 19
  | .vmem => 0
  | .smem => 0
  | _ => 0

abbrev bufTy : (tb : Table) → Fin (tcTables nBuf tb) → BufTy
  | .hbm, ⟨0, _⟩ => ⟨S3x2048x1024, .f32⟩
  | .hbm, ⟨1, _⟩ => ⟨S3x2048x1024, .f32⟩
  | .hbm, ⟨2, _⟩ => ⟨S_, .f32⟩
  | .hbm, ⟨3, _⟩ => ⟨S2048x1024, .f32⟩
  | .hbm, ⟨4, _⟩ => ⟨S1x2048x1024, .f32⟩
  | .hbm, ⟨5, _⟩ => ⟨S3x2048x1024, .f32⟩
  | .hbm, ⟨6, _⟩ => ⟨S3x2048x1024, .f32⟩
  | .hbm, ⟨7, _⟩ => ⟨S3x2048x1024, .f32⟩
  | .hbm, ⟨8, _⟩ => ⟨S3x2048x1024, .f32⟩
  | .hbm, ⟨9, _⟩ => ⟨S_, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .bf16⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | _, _ => ⟨S3x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Rowdot.lean ====
abbrev S2048x1024 : Shape := ⟨2, ![2048, 1024]⟩
abbrev S256x1024 : Shape := ⟨2, ![256, 1024]⟩
abbrev S256x64 : Shape := ⟨2, ![256, 64]⟩
abbrev S256 : Shape := ⟨1, ![256]⟩
abbrev S256x1 : Shape := ⟨2, ![256, 1]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RowdotIdeal.lean ====
abbrev S2048x1024 : Shape := ⟨2, ![2048, 1024]⟩
abbrev S256x1024 : Shape := ⟨2, ![256, 1024]⟩
abbrev S256x64 : Shape := ⟨2, ![256, 64]⟩
abbrev S256 : Shape := ⟨1, ![256]⟩
abbrev S256x1 : Shape := ⟨2, ![256, 1]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RowdotReferenceIdeal.lean ====
abbrev S2048x1024 : Shape := ⟨2, ![2048, 1024]⟩
abbrev S2048x16x64 : Shape := ⟨3, ![2048, 16, 64]⟩
abbrev S2048x16 : Shape := ⟨2, ![2048, 16]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .f32⟩
  | .hbm, ⟨3, _⟩ => ⟨S2048x16x64, .f32⟩
  | .hbm, ⟨4, _⟩ => ⟨S2048x1024, .f32⟩
  | .hbm, ⟨5, _⟩ => ⟨S2048x16x64, .f32⟩
  | .hbm, ⟨6, _⟩ => ⟨S2048x16, .f32⟩
  | .hbm, ⟨7, _⟩ => ⟨S2048x16x64, .f32⟩
  | .hbm, ⟨8, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== RpbGrad.lean ====
abbrev S240x4096 : Shape := ⟨2, ![240, 4096]⟩
abbrev S4096x128 : Shape := ⟨2, ![4096, 128]⟩
abbrev S240x128 : Shape := ⟨2, ![240, 128]⟩

abbrev nBuf : Space → Nat
  | .hbm => 3
  | .vmem => 3
  | .smem => 0
  | _ => 0

abbrev bufTy : (tb : Table) → Fin (tcTables nBuf tb) → BufTy
  | .hbm, ⟨0, _⟩ => ⟨S240x4096, .f32⟩
  | .hbm, ⟨1, _⟩ => ⟨S4096x128, .f32⟩
  | .hbm, ⟨2, _⟩ => ⟨S240x128, .f32⟩
  | .local _ .vmem, ⟨0, _⟩ => ⟨S240x4096, .f32⟩
  | .local _ .vmem, ⟨1, _⟩ => ⟨S4096x128, .f32⟩
  | .local _ .vmem, ⟨2, _⟩ => ⟨S240x128, .f32⟩
  | _, _ => ⟨S240x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S240x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S240x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== RpbGradReferenceIdeal.lean ====
abbrev S240x4096 : Shape := ⟨2, ![240, 4096]⟩
abbrev S4096x128 : Shape := ⟨2, ![4096, 128]⟩
abbrev S240x128 : Shape := ⟨2, ![240, 128]⟩

abbrev nBuf : Space → Nat
  | .hbm => 3
  | .vmem => 0
  | .smem => 0
  | _ => 0

abbrev bufTy : (tb : Table) → Fin (tcTables nBuf tb) → BufTy
  | .hbm, ⟨0, _⟩ => ⟨S240x4096, .f32⟩
  | .hbm, ⟨1, _⟩ => ⟨S4096x128, .f32⟩
  | .hbm, ⟨2, _⟩ => ⟨S240x128, .f32⟩
  | _, _ => ⟨S240x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Deal.lean ====
/-
  The launch of a program of several devices whose only step is one kernel region, with the memory dealt among the
  devices before the region starts.

  A device of such a program may write a result array of another device with no word from it first. So what a device
  needs at its first step lies in the memory of the others, and only a step that sees all the devices at once can hand it
  over. `run_dealt` is the launch with such a step: it takes every device's arrays, own semaphores and credit, and gives
  each device what it starts with.
-/
module

public import Idealize.ShloMosaic.Lib.Pipeline.Launch
public import Idealize.ShloMosaic.Lib.Pipeline.Kit
public import Idealize.ShloMosaic.Lib.Tactic

@[expose] public section

set_option Elab.async false

noncomputable section

namespace Cert.Deal

open Idealize Idealize.ShloMosaic Idealize.SL
open Idealize.SL.BI (sProp bigSep bigSep_sep' bigSep_mono bigSep_congr bigSep_univ_prod)
open scoped Idealize.SL.BI
open Idealize.SL.BI.BIBase Idealize.SL.BI.Laws Idealize.SL.Sem Idealize.SL.ProofMode
open Idealize.SL.RA
open TcCoe PCS Pipeline Idealize.ShloMosaic.Rounds

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

/-- The rights to assign levels, of every device's cells, turned into the levels `lv`, when only cells of the devices'
    main threads are given any. -/
theorem levels_assigned [Preorder Lvl] (L : GSem nD τ sig → Finset Ix) (lv : GSem nD τ sig → Ix → Lvl)
    (hL : ∀ g : GSem nD τ sig, g.1.2 ≠ .tc → L g = ∅) :
    (bigSep Finset.univ fun c : Dev nD => levels0 (Ix := Ix) (Val := Val) (Name := Name) (U := U) (Lvl := Lvl) (τ := τ) (sig := sig) c)
      ⊢ (|==> levAts L lv : sProp 𝕄) := by
  classical
  have hother (d : Dev nD) (p : Proc τ) (hp : p ∈ Finset.univ.erase Proc.tc) :
      (coreLevAts ((d, p) : Thread nD τ) L lv : sProp 𝕄) = BI.emp := by
    unfold coreLevAts
    refine (bigSep_congr fun sm _ => ?_).trans (BI.bigSep_emp_const _)
    rw [hL (((d, p) : Thread nD τ), sm) (Finset.ne_of_mem_erase hp), BI.bigSep_empty]
  have hall : (levAts L lv : sProp 𝕄) = bigSep Finset.univ fun c : Thread nD τ => coreLevAts c L lv :=
    bigSep_univ_prod fun g : GSem nD τ sig => bigSep (L g) fun ι => levAt g ι (lv g ι)
  have hemp : (bigSep Finset.univ fun d : Dev nD => bigSep (Finset.univ.erase Proc.tc) fun p => (coreLevAts ((d, p) : Thread nD τ) L lv : sProp 𝕄))
      = BI.emp := by
    refine (bigSep_congr fun d _ => ?_).trans (BI.bigSep_emp_const _)
    exact (bigSep_congr (hother d)).trans (BI.bigSep_emp_const _)
  have hstep : (bigSep Finset.univ fun c : Dev nD =>
        iprop((bigSep Finset.univ fun sm : SemLoc sig => levels ((c.tc : Thread nD τ), sm) (L ((c.tc : Thread nD τ), sm))) ∗ coreLevAts (c.tc : Thread nD τ) L lv))
      ⊢ (levAts L lv : sProp 𝕄) := by
    rw [hall, bigSep_threads (fun c : Thread nD τ => coreLevAts c L lv), hemp, bigSep_sep']
    iintro ⟨-, H⟩
    isplitl [H]; · iexact H
    iempintro
  exact (bigSep_mono fun c _ => lev_assign_cells (c.tc : Thread nD τ) L lv).trans ((BI.bigSep_bupd _ _).trans (BI.bupd_mono hstep))

section Run

variable {Λ₀ : SL.Sem.Labels} {P : Type} [Fintype P] [DecidableEq P] [Preorder Lvl] [∀ e, Nonempty (Val e)] [Infinite Name]
  (pcs : P → PCfg sig Λ₀ Val) (a : (p : P) → (pcs p).Adm)
  (dats : (p : P) → (c : Dev nD) → Dat τ Val Ix Name U Lvl (pin pcs a p) c) (ι : Ix)
  (hinj : Function.Injective (cellOf (nD := nD) (pin pcs a))) (p : P)
  {K : Type} [Fintype K] {osem : K → SemLoc sig} (hw : WinFacts₀ (pcs p).spec) (ho : OwnSemFacts (pcs p).spec osem)
  (EP : Emb (URounds (GSem nD τ sig) Unit) (MT nD τ sig Ix Val Name U Lvl))
  (defs₀ : Defs nD τ sig Val Λ₀) (𝒱₀ : Variants)

local notation "𝔻" => Pipeline.defs pcs defs₀
local notation "𝕍" => Variants.lift 𝒱₀

include hinj hw ho in
/-- A region with no window and no table. The step `hdeal` sees all the devices at once: from their own semaphores, their
    arrays as the run finds them, the credit of what is owed to them and the protocol's own ghost state, it gives each
    device `X`, which the body starts from; from what the body leaves, `Y`, the final memory is read. -/
theorem run_dealt [EP.LandsIn (upEmb : UEmb _ 𝕄)] (hW : IsEmpty (Fin (pin pcs a p).W)) (hK : IsEmpty (Fin (pcs p).pre.K))
    (m : (ℓ : Loc nD τ sig) → Buf Val ℓ) (g : Dev nD → PrngReg)
    (main : Dev nD → Prog (TpuEff nD τ sig Val (Sig Λ₀ P fun p => (pcs p).Adm) .tc) PUnit)
    (hmain : ∀ c, main c = .op (.customCall (entry p) ()) fun _ => .ret ⟨⟩)
    (hbody : ∀ c, BodyObligationLoose (dats p c) defs₀ 𝒱₀ ι Set.univ)
    (O₀ : Dev nD → CellTallies nD τ sig Ix) (howed₀ : ∀ c, (dats p c).owed 0 = O₀ c) (howedN : ∀ c, (dats p c).owed (Fin.last _) = 0)
    (L : GSem nD τ sig → Finset Ix) (lv : GSem nD τ sig → Ix → Lvl) (hL : ∀ g : GSem nD τ sig, g.1.2 ≠ .tc → L g = ∅)
    (G X Y : Dev nD → sProp 𝕄) (u₀ : U)
    (hu₀ : (ownU u₀ : sProp 𝕄)
      ⊢ |={Set.univ}=> iprop(BI.own (EP (initOf (cells (pin pcs a) hinj) (launchToks (pin pcs a) hinj))) ∗ bigSep Finset.univ G))
    (hdeal : iprop((bigSep Finset.univ fun c => ownSems0 osem c) ∗ (bigSep Finset.univ fun c => unscopedBufs c fun b => m ((c.tc : Thread nD τ).loc b))
        ∗ (bigSep Finset.univ fun c => launchCred O₀ c) ∗ bigSep Finset.univ G)
      ⊢ (|={Set.univ}=> bigSep Finset.univ X : sProp 𝕄))
    (hin : ∀ c, iprop(levAts L lv ∗ X c ∗ scopedRest (pin pcs a p).spec c) ⊢ (dats p c).Φ 0)
    (hout : ∀ c, (dats p c).Φ (Fin.last (pin pcs a p).N) ⊢ iprop(Y c ∗ ownSems0 osem c ∗ scopedRest (pin pcs a p).spec c))
    (QY : Dev nD → MemSt nD τ sig Val → Prop)
    (hY : ∀ c (s' : Phys nD τ sig Val), iprop(Y c ∗ SI s') ⊢ |={Set.univ}=> iprop(⌜QY c s'.mem⌝ ∗ SI s'))
    {Q : PUnit × MemSt nD τ sig Val → Prop}
    (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run 𝔻 (onTc main) ⟨m, fun _ => 0, g⟩ Q := by
  classical
  have hsems := fun c : Dev nD => scopedSems0_split (pin pcs a) hinj p hw ho (Ix := Ix) (Val := Val) (Name := Name) (U := U) (Lvl := Lvl) c
  have hbufs := fun c : Dev nD => scopedBufs_split (pin pcs a) p hw.stage_scoped hw.stage_inj (fun w => hW.elim w) (nD := nD) (τ := τ)
    (Ix := Ix) (Val := Val) (Name := Name) (U := U) (Lvl := Lvl) c
  let start : Dev nD → sProp 𝕄 := fun c => iprop(scopedBufs (c.tc : Thread nD τ) ∗ cellsSems0 (pin pcs a) p c ∗ idleSems0 (pin pcs a) hinj p ho c
    ∗ owes (c.tc : Thread nD τ) (O₀ c) ∅ ∗ levAts L lv ∗ cellsGhost (pin pcs a) EP p c ∗ toksInit (pin pcs a) EP p c ∗ X c)
  let done : Dev nD → sProp 𝕄 := fun c => iprop(Y c ∗ scopedSems0 (c.tc : Thread nD τ))
  refine (θ_run 𝔻 _ _).mono (Q := fun r => (∀ c : Dev nD, QY c r.2 ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu 𝔻 _ _ _
    (reflect_intro_fupd_tc_sems (X := Unit) 𝕍 (owing O₀) 0 (noBookings fun _ => le_rfl) (owing_of_ne O₀) u₀ (fun _ => start) (fun _ => done)
      (fun _ => iprop(emp)) Set.univ ?_ (fun _ c => ?_) fun _ => ?_))
  · have hcore (c : Dev nD) :
        coreInit (Ix := Ix) (Name := Name) (U := U) (Lvl := Lvl) (owing O₀) 0 (⟨m, fun _ => 0, g⟩ : MemSt nD τ sig Val) (c.tc : Thread nD τ)
          ⊢ iprop((scopedBufs (c.tc : Thread nD τ) ∗ cellsSems0 (pin pcs a) p c ∗ idleSems0 (pin pcs a) hinj p ho c ∗ owes (c.tc : Thread nD τ) (O₀ c) ∅)
              ∗ ownSems0 osem c ∗ unscopedBufs c (fun b => m ((c.tc : Thread nD τ).loc b)) ∗ levels0 c ∗ launchCred O₀ c) := by
      refine (coreInit_boundary_owing O₀ m g c).trans ?_
      unfold boundary
      rw [hsems c]
      iintro ⟨⟨Hbufs, ⟨⟨Hcells, Hown⟩, Hidle⟩, -⟩, Harr, -, Howes, Hlev, -, Hcred⟩
      isplitl [Hbufs Hcells Hidle Howes]
      · isplitl [Hbufs]; · iexact Hbufs
        isplitl [Hcells]; · iexact Hcells
        isplitl [Hidle] <;> iassumption
      isplitl [Hown]; · iexact Hown
      isplitl [Harr]; · iexact Harr
      isplitl [Hlev] <;> iassumption
    have hcores : (bigSep Finset.univ fun c : Dev nD =>
          coreInit (Ix := Ix) (Name := Name) (U := U) (Lvl := Lvl) (owing O₀) 0 (⟨m, fun _ => 0, g⟩ : MemSt nD τ sig Val) (c.tc : Thread nD τ))
        ⊢ _ := bigSep_mono fun c _ => hcore c
    simp only [bigSep_sep'] at hcores
    have hone (Φ : P → Dev nD → sProp 𝕄) :
        (bigSep Finset.univ fun c : Dev nD => bigSep Finset.univ fun p' => Φ p' c) ⊢ bigSep Finset.univ fun c : Dev nD => Φ p c :=
      bigSep_mono fun c _ => BI.bigSep_elim (Finset.mem_univ p)
    iintro ⟨Hcores, Hu⟩
    ihave Hc := hcores $$ Hcores
    icases Hc with ⟨⟨Hbufs, Hcells, Hidle, Howes⟩, Hown, Harr, Hlev, Hcred⟩
    imod (levels_assigned L lv hL) $$ Hlev with Hlev
    imod hu₀ $$ Hu with ⟨HP, HG⟩
    imod (fund_ghost (pin pcs a) EP hinj) $$ HP with ⟨Hghost, Htoks⟩
    imod hdeal $$ [Hown Harr Hcred HG] with HX
    · isplitl [Hown]; · iexact Hown
      isplitl [Harr]; · iexact Harr
      isplitl [Hcred] <;> iassumption
    imodintro
    iexists ()
    isplitr []
    · simp only [start, bigSep_sep']
      isplitl [Hbufs]; · iexact Hbufs
      isplitl [Hcells]; · iexact Hcells
      isplitl [Hidle]; · iexact Hidle
      isplitl [Howes]; · iexact Howes
      isplitl [Hlev]; · iapply (BI.bigSep_intro_persistent (S := Finset.univ) fun (c : Dev nD) _ => (BI.Entails.refl (levAts L lv : sProp 𝕄))); iexact Hlev
      isplitl [Hghost]; · iapply (hone fun p' c => cellsGhost (pin pcs a) EP p' c); iexact Hghost
      isplitl [Htoks]; · iapply (hone fun p' c => toksInit (pin pcs a) EP p' c); iexact Htoks
      iexact HX
    · iempintro
  · have hemp (Φ : Fin (pin pcs a p).W → sProp 𝕄) : bigSep Finset.univ Φ = BI.emp := by
      rw [Finset.univ_eq_empty, BI.bigSep_empty]
    have hpref : (prefHeld (pcs p).pre c (fun _ => fullShare) (a p).1 : sProp 𝕄) = BI.emp := by
      unfold prefHeld
      rw [Finset.univ_eq_empty, BI.bigSep_empty]
    have hleave : iprop((dats p c).Φ (Fin.last (pin pcs a p).N) ∗ cellsSems0 (pin pcs a) p c ∗ Dat.staging (pin pcs a p) c ∗ idleSems0 (pin pcs a) hinj p ho c)
        ⊢ iprop(Y c ∗ scopedSems0 (c.tc : Thread nD τ) ∗ scopedBufs (c.tc : Thread nD τ)) := by
      rw [hsems c, hbufs c]
      iintro ⟨HΦ, Hcells, Hst, Hidle⟩
      ihave H := (hout c) $$ HΦ
      icases H with ⟨HY, Hown, Hrest⟩
      isplitl [HY]; · iexact HY
      isplitl [Hcells Hown Hidle]
      · isplitl [Hcells Hown]; · isplitl [Hcells] <;> iassumption
        iexact Hidle
      isplitl [Hst] <;> iassumption
    simp only [start]
    rw [hmain c]
    iintro ⟨Hbufs, Hcells, Hidle, Howes, #Hlev, Hghost, Htoks, HX⟩
    iapply (fupd_wp frame (wpE 𝔻 𝕍 (c.tc : Thread nD τ) none) Set.univ _ _)
    imod (cellsInit_alloc (pin pcs a) dats EP hinj p c) $$ [Hcells Hghost] with ⟨%κ, -, Hinit⟩
    · isplitl [Hcells] <;> iassumption
    imodintro
    iapply (wp_customCall_entry_frame pcs a dats ι EP κ hinj p defs₀ 𝒱₀ (fun _ => fullShare) c Set.univ (fun _ _ => Set.mem_univ _)
        (hbody c) (fun w => hW.elim w) none (fun u h => nomatch h) (X := iprop(levAts L lv ∗ X c)) (Y := Y c) (R := scopedRest (pin pcs a p).spec c)
        (I := idleSems0 (pin pcs a) hinj p ho c) (Entails.of_eq (hbufs c))
        (by
          rw [hpref]
          iintro ⟨⟨Hl, HX⟩, -, HR⟩
          iapply (hin c)
          isplitl [Hl]; · iexact Hl
          isplitl [HX] <;> iassumption)
        hleave (k := fun _ => .ret ⟨⟩) (Q := fun _ => post (liftTc done BI.emp) (c.tc : Thread nD τ))) $$ [Howes Hinit Htoks HX Hidle Hbufs]
    · isplitl [Howes Hinit Htoks]
      · unfold EntryPre PerCore.EntryPre Dat.arrays Dat.owesAt owesWithin PerCore.cellsWaits PerCore.RDat.cellsWaits
        rw [howed₀ c, hemp, hemp]
        isplitr; · iempintro
        isplitl [Howes]
        · iexists ∅; isplitr; · ipureintro; rw [Finset.coe_empty]; exact Set.empty_subset _
          iexact Howes
        isplitr; · iempintro
        isplitl [Hinit] <;> iassumption
      isplitr; · rw [hpref]; iempintro
      isplitl [HX]; · isplitr; · iexact Hlev
                      iexact HX
      isplitl [Hidle] <;> iassumption
    iintro ⟨Hpost, HY, Hsc, -⟩
    rw [wp_ret]; imodintro
    unfold post; simp only [liftTc_tc, done]
    unfold EntryPost PerCore.EntryPost Dat.owesAt owesWithin
    rw [howedN c]
    icases Hpost with ⟨-, ⟨%W, -, HW⟩⟩
    isplitr [HW]
    · isplitl [HY] <;> iassumption
    · iexists W; iexact HW
  · have hread (c : Dev nD) (s' : Phys nD τ sig Val) : iprop(done c ∗ SI s') ⊢ |={Set.univ}=>
        iprop(⌜QY c s'.mem ∧ ∀ sm : SemLoc sig, sm.isScoped .tc = true → s'.mem.sem ((c.tc : Thread nD τ), sm) = 0⌝ ∗ SI s') := by
      simp only [done]
      iintro ⟨⟨HY, Hsc⟩, HSI⟩
      ihave %hz := (tcScoped_read_pers c s') $$ [Hsc HSI]
      · isplitl [Hsc] <;> iassumption
      imod (hY c s') $$ [HY HSI] with ⟨%hy, HSI⟩
      · isplitl [HY] <;> iassumption
      imodintro
      isplitr
      · ipureintro; exact ⟨hy, hz⟩
      · iexact HSI
    iintro ⟨H, -, Hsc⟩ %s' HSI
    ihave %hsc := (scSems_read_zero m g s') $$ [Hsc HSI]
    · isplitl [Hsc] <;> iassumption
    imod (posts_fupd Finset.univ hread s') $$ [H HSI] with %h
    · isplitl [H] <;> iassumption
    imodintro
    ipureintro
    exact ⟨fun c => h c (Finset.mem_univ c), hsc⟩

end Run

end Cert.Deal
-- ==== Proof.Copies.lean ====
/-
  Programs of several devices that do nothing but copy: each device starts copies inside its own memory and copies into
  other devices' memory, and waits for all of them.

  A program is described by a `Plan`: its copies, the semaphore each end of a copy raises, the device each remote copy goes
  to, and the share of its source a copy reads. Every semaphore is raised by one copy only and waited for once, so one round
  of one duty describes it: the local copy's semaphore gives back the source and the filled destination, the sender's gives
  back the source, the receiver's gives the filled destination.

  `body_sound` is the one proof of a device's run: copies started first; then, maybe, waits for an arrival each followed by
  a copy that passes the arrived piece on; then the waits for everything else.
-/
module

public import proofs.«01_k».proof.Proof.Deal
public import Idealize.ShloMosaic.Lib.Pipeline.BigSepL

@[expose] public section

set_option Elab.async false

noncomputable section

namespace Cert.Copies

open Idealize Idealize.ShloMosaic Idealize.SL
open Idealize.SL.BI (sProp bigSep bigSepL bigSepL_cons bigSepL_cons' bigSepL_append bigSepL_map bigSepL_mono bigSep_sep' bigSep_mono bigSep_congr bigSep_univ_prod bigSep_univ_eq_bigSepL)
open scoped Idealize.SL.BI
open Idealize.SL.BI.BIBase Idealize.SL.BI.Laws Idealize.SL.Sem Idealize.SL.ProofMode
open Idealize.SL.RA
open TcCoe PCS Pipeline Idealize.ShloMosaic.Rounds

/-- One copy: what it reads and what it writes, two pieces of one shape, in the large memory. -/
structure Leg (sig : RefSig) where
  {sh : Shape}
  {e : EltTy}
  src : Memref sig .tc .hbm sh e
  dst : Memref sig .tc .hbm sh e
  hs : src.view.WordExact
  hd : dst.view.WordExact
  hsc : dst.view.ref.isScScratch = false

/-- The piece a wait names; only its size counts. -/
structure Spot (sig : RefSig) where
  {sh : Shape}
  {e : EltTy}
  piece : Memref sig .tc .hbm sh e

/-- The cells of a program with `a` local and `b` remote copies: a local copy's, a sender's, a receiver's. -/
abbrev Cell (a b : ℕ) : Type := Fin a ⊕ Fin b ⊕ Fin b

/-- The copies of a program. -/
structure Plan (nD : ℕ) (sig : RefSig) (a b : ℕ) where
  /-- The semaphore of each cell. -/
  sem : Cell a b → DmaSem sig
  /-- The local copies of each device. -/
  keep : Fin a → Dev nD → Leg sig
  /-- The remote copies each device starts; the destination is a piece of the receiver's memory. -/
  move : Fin b → Dev nD → Leg sig
  /-- The device a remote copy goes to. -/
  peer : Fin b → Dev nD ≃ Dev nD
  /-- What each wait names. -/
  spot : Cell a b → Dev nD → Spot sig
  /-- The share of its source a copy reads. -/
  qk : Fin a → PosShare TreeShare
  qm : Fin b → PosShare TreeShare
  /-- What a copy raises its semaphores by. -/
  amt : Cell a b → ℕ

variable {nD : ℕ} {τ : Topo} {sig : RefSig} {Val : EltTy → Type} {a b : ℕ}

/-- The semaphores are different, and every copy and every wait is of the amount its cell is raised by. -/
structure Plan.Fits (P : Plan nD sig a b) : Prop where
  sem_inj : Function.Injective P.sem
  amt_pos : ∀ q, 0 < P.amt q
  keep_amt : ∀ j c, (P.keep j c).dst.view.dmaCredit = P.amt (.inl j)
  send_amt : ∀ i c, (P.move i c).dst.view.dmaCredit = P.amt (.inr (.inl i))
  recv_amt : ∀ i c, (P.move i c).dst.view.dmaCredit = P.amt (.inr (.inr i))
  spot_amt : ∀ q c, (P.spot q c).piece.view.dmaCredit = P.amt q

/-! ## The program -/

section Program
variable {Λ : SL.Sem.Labels} (P : Plan nD sig a b)

/-- The local copy `j` of device `c`. -/
abbrev startKeep (j : Fin a) (c : Dev nD) : TpuEff nD τ sig Val Λ .tc PUnit :=
  .enqueueDma (P.keep j c).src (.here (P.keep j c).dst) (.dma (P.sem (.inl j))) (P.keep j c).hs (P.keep j c).hd ⟨Or.inl rfl, trivial⟩

/-- The remote copy `i` of device `c`. -/
abbrev startMove (i : Fin b) (c : Dev nD) : TpuEff nD τ sig Val Λ .tc PUnit :=
  .enqueueDma (P.move i c).src (.remote (Dev.tc (P.peer i c)) (P.move i c).dst (.dma (P.sem (.inr (.inl i)))) (P.move i c).hsc) (.dma (P.sem (.inr (.inr i))))
    (P.move i c).hs (P.move i c).hd ⟨⟨rfl, Or.inl rfl⟩, trivial⟩

/-- The start of a copy. -/
abbrev start (c : Dev nD) : Fin a ⊕ Fin b → TpuEff nD τ sig Val Λ .tc PUnit
  | .inl j => startKeep P j c
  | .inr i => startMove P i c

/-- The wait of device `c` on cell `q`. -/
abbrev await (c : Dev nD) (q : Cell a b) : TpuEff nD τ sig Val Λ .tc PUnit :=
  .waitDma (P.sem q) (P.spot q c).piece.view.ref (P.spot q c).sh (P.spot q c).e (.inr (P.spot q c).piece.hasMemref)

/-- Effects one after another, then a program. -/
def run : List (TpuEff nD τ sig Val Λ .tc PUnit) → Prog (TpuEff nD τ sig Val Λ .tc) PUnit → Prog (TpuEff nD τ sig Val Λ .tc) PUnit
  | [], k => k
  | e :: l, k => .op e fun _ => run l k

theorem run_append (l l' : List (TpuEff nD τ sig Val Λ .tc PUnit)) (k : Prog (TpuEff nD τ sig Val Λ .tc) PUnit) :
    run (l ++ l') k = run l (run l' k) := by
  induction l with
  | nil => rfl
  | cons e l ih => simp only [List.cons_append, run, ih]

/-- The effects of device `c`: the copies `first`, then for each pair of `mid` the wait for the arrival of the one and the
    start of the other, then the waits `rest`. -/
def effects (c : Dev nD) (first : List (Fin a ⊕ Fin b)) (mid : List (Fin b × Fin b)) (rest : List (Cell a b)) :
    List (TpuEff nD τ sig Val Λ .tc PUnit) :=
  first.map (start P c) ++ (mid.flatMap fun p => [await P c (.inr (.inr p.1)), startMove P p.2 c]) ++ rest.map (await P c)

end Program

/-! ## The schedule -/

abbrev UU (nD : ℕ) (τ : Topo) (sig : RefSig) : Type := UR sig nD τ × UR sig nD τ

local notation "𝕄" => MT nD τ sig Unit Val ℕ (UU nD τ sig) ℕ

abbrev EP : Emb (UR sig nD τ) (MT nD τ sig Unit Val ℕ (UU nD τ sig) ℕ) := embL
abbrev ER : Emb (UR sig nD τ) (MT nD τ sig Unit Val ℕ (UU nD τ sig) ℕ) := embR

section Sched

variable (P : Plan nD sig a b) (kx : (j : Fin a) → (c : Dev nD) → (P.keep j c).sh.Idx → Val (P.keep j c).e)
  (mx : (i : Fin b) → (c : Dev nD) → (P.move i c).sh.Idx → Val (P.move i c).e)

/-- A cell of device `c`, and of all the devices. -/
abbrev cell (c : Dev nD) (q : Cell a b) : GSem nD τ sig := ((c.tc : Thread nD τ), .dma (P.sem q))

/-- The source of a copy, at the share it reads. -/
def source (c : Dev nD) : Fin a ⊕ Fin b → sProp 𝕄
  | .inl j => owns (c.tc : Thread nD τ) (P.keep j c).src (P.qk j) (kx j c)
  | .inr i => owns (c.tc : Thread nD τ) (P.move i c).src (P.qm i) (mx i c)

/-- What the remote copy `i` brings to device `c`. -/
def arrival (c : Dev nD) (i : Fin b) : sProp 𝕄 :=
  owns (c.tc : Thread nD τ) (P.move i ((P.peer i).symm c)).dst fullShare (mx i ((P.peer i).symm c))

/-- What device `c` gets by its wait on a cell. -/
def pay (c : Dev nD) : Cell a b → sProp 𝕄
  | .inl j => iprop(owns (c.tc : Thread nD τ) (P.keep j c).dst fullShare (kx j c) ∗ source P kx mx c (.inl j))
  | .inr (.inl i) => source P kx mx c (.inr i)
  | .inr (.inr i) => arrival P mx c i

instance pay_storable (c : Dev nD) (q : Cell a b) : BI.Storable (upEmb : UEmb _ 𝕄) (pay P kx mx c q) := by
  rcases q with j | i | i <;> simp only [pay, source, arrival] <;> unfold owns <;> infer_instance

open Classical in
/-- One round of one duty on every cell. -/
def sched (hP : P.Fits) : Rounds.Schedule (GSem nD τ sig) Unit 𝕄 where
  duties g r := if r = 0 ∧ g.1.2 = .tc ∧ ∃ q, g.2 = .dma (P.sem q) then {()} else ∅
  unitless _ := False
  amount g _ _ := if h : ∃ q, g.2 = .dma (P.sem q) then P.amt h.choose else 1
  payload g _ _ := if h : ∃ q, g.2 = .dma (P.sem q) then pay P kx mx g.1.1 h.choose else iprop(emp)
  amount_pos g _ _ _ := by
    split
    · exact hP.amt_pos _
    · exact Nat.one_pos

instance sched_storable (hP : P.Fits) (g : GSem nD τ sig) (r : ℕ) (d : Unit) :
    BI.Storable (upEmb : UEmb _ 𝕄) ((sched (τ := τ) (Val := Val) P kx mx hP).payload g r d) := by
  unfold sched; dsimp only; split <;> infer_instance

variable (hP : P.Fits)

local notation "ℛ" => sched (τ := τ) (Val := Val) P kx mx hP

include hP in
theorem choose_sem (q : Cell a b) (h : ∃ q', (SemLoc.dma (P.sem q) : SemLoc sig) = .dma (P.sem q')) : h.choose = q :=
  (hP.sem_inj (SemLoc.dma.inj h.choose_spec)).symm

theorem duties_cell (c : Dev nD) (q : Cell a b) : (ℛ).duties (cell P c q) 0 = {()} := by
  dsimp only [sched]; exact if_pos ⟨rfl, rfl, q, rfl⟩

theorem mem_duties (c : Dev nD) (q : Cell a b) : () ∈ (ℛ).duties (cell P c q) 0 := by
  rw [duties_cell]; exact Finset.mem_singleton_self _

theorem duties_later (g : GSem nD τ sig) : ∀ r, 0 + 1 ≤ r → (ℛ).duties g r = ∅ :=
  fun r hr => by dsimp only [sched]; exact if_neg fun h => by omega

theorem amount_cell (c : Dev nD) (q : Cell a b) (u : Unit) : (ℛ).amount (cell P c q) 0 u = P.amt q := by
  dsimp only [sched]
  rw [dif_pos ⟨q, rfl⟩, choose_sem P hP]

theorem expect_cell (c : Dev nD) (q : Cell a b) : (ℛ).expect (cell P c q) 0 = P.amt q := by
  unfold Schedule.expect Schedule.amountOf
  rw [duties_cell, Finset.sum_singleton, amount_cell]

theorem payload_cell (c : Dev nD) (q : Cell a b) (u : Unit) : (ℛ).payload (cell P c q) 0 u = pay P kx mx c q := by
  dsimp only [sched]
  rw [dif_pos ⟨q, rfl⟩, choose_sem P hP]

theorem rest_cell (c : Dev nD) (q : Cell a b) :
    bigSep ((ℛ).duties (cell P c q) 0 \ ∅) (fun u => (ℛ).payload (cell P c q) 0 u) = pay P kx mx c q := by
  rw [duties_cell, Finset.sdiff_empty, BI.bigSep_singleton, payload_cell]

end Sched

/-! ## One step -/

section Steps

variable [∀ e, Nonempty (Val e)] {Λ : SL.Sem.Labels} (P : Plan nD sig a b) (kx : (j : Fin a) → (c : Dev nD) → (P.keep j c).sh.Idx → Val (P.keep j c).e)
  (mx : (i : Fin b) → (c : Dev nD) → (P.move i c).sh.Idx → Val (P.move i c).e) (hP : P.Fits)
  (defs : Defs nD τ sig Val Λ) (𝒱 : Variants)

local notation "ℛ" => sched (τ := τ) (Val := Val) P kx mx hP

/-- Every cell's invariant, and that its round is open. -/
def records (K : Dev nD × Cell a b → ℕ) : sProp 𝕄 :=
  iprop((bigSep Finset.univ fun cq : Dev nD × Cell a b => cellInv ER (ℛ) (K cq) (cell P cq.1 cq.2))
    ∗ bigSep Finset.univ fun cq : Dev nD × Cell a b => reached ER (cell P cq.1 cq.2) 0)

instance records_persistent (K : Dev nD × Cell a b → ℕ) : BI.Persistent (records (τ := τ) P kx mx hP K) := by
  unfold records; infer_instance

theorem inv_of (K : Dev nD × Cell a b → ℕ) (c : Dev nD) (q : Cell a b) :
    records (τ := τ) P kx mx hP K ⊢ cellInv ER (ℛ) (K (c, q)) (cell P c q) := by
  unfold records
  exact sep_elim_left.trans (BI.bigSep_elim (Finset.mem_univ (c, q)))

theorem reached_of (K : Dev nD × Cell a b → ℕ) (c : Dev nD) (q : Cell a b) :
    records (τ := τ) P kx mx hP K ⊢ reached ER (cell P c q) 0 := by
  unfold records
  exact sep_elim_right.trans (BI.bigSep_elim (Finset.mem_univ (c, q)))

/-- The credit of a cell. -/
def credit (c : Dev nD) (q : Cell a b) : sProp 𝕄 := cred (tallyAt (cell P c q) () (P.amt q))

/-- The right to raise a cell. -/
def right (c : Dev nD) (q : Cell a b) : sProp 𝕄 := dutyTok ER (cell P c q) 0 ()

/-- The turn of a cell's owner. -/
def turn (c : Dev nD) (q : Cell a b) : sProp 𝕄 := atPos ER (cell P c q) 0 ∅ 0

/-- A local copy's destination, whatever it holds; a remote copy's, on the device it goes to. -/
def room (c : Dev nD) : Fin a ⊕ Fin b → sProp 𝕄
  | .inl j => iprop(∃ f, (P.keep j c).dst.view.loc (c.tc : Thread nD τ) ↦[(P.keep j c).dst.view.set]{fullShare} f)
  | .inr i => iprop(∃ f, (P.move i c).dst.view.loc ((P.peer i c).tc : Thread nD τ) ↦[(P.move i c).dst.view.set]{fullShare} f)

/-- The rights a copy uses up. -/
def rights (c : Dev nD) : Fin a ⊕ Fin b → sProp 𝕄
  | .inl j => right P c (.inl j)
  | .inr i => iprop(right P c (.inr (.inl i)) ∗ right P (P.peer i c) (.inr (.inr i)))

/-- What device `c` owes to others for a copy it is to start. -/
def due (c : Dev nD) : Fin a ⊕ Fin b → CellTallies nD τ sig Unit
  | .inl _ => 0
  | .inr i => tallyAt (cell P (P.peer i c) (.inr (.inr i))) () (P.amt (.inr (.inr i)))

/-- The cell of the device's own that a copy it starts raises. -/
def own : Fin a ⊕ Fin b → Cell a b
  | .inl j => .inl j
  | .inr i => .inr (.inl i)

theorem start_sound (hroute : ∀ c d : Dev nD, τ.routes (c.tc : Thread nD τ) (d.tc : Thread nD τ) = true)
    (K : Dev nD × Cell a b → ℕ) (c : Dev nD) (s : Fin a ⊕ Fin b) (O : CellTallies nD τ sig Unit)
    (W : Waits sig Unit) (k : Prog (TpuEff nD τ sig Val Λ .tc) PUnit) (Q : PUnit → sProp 𝕄) :
    iprop(records (τ := τ) P kx mx hP K ∗ (source P kx mx c s ∗ room P c s ∗ rights P c s) ∗ owes (c.tc : Thread nD τ) (due P c s + O) W)
      ⊢ iprop(((credit P c (own s) ∗ owes (c.tc : Thread nD τ) O W) -∗ wp frame (wpE defs 𝒱 (c.tc : Thread nD τ) none) Set.univ k Q)
        -∗ wp frame (wpE defs 𝒱 (c.tc : Thread nD τ) none) Set.univ (.op (start P c s) fun _ => k) Q) := by
  rcases s with j | i
  · simp only [source, room, rights, due, own, right, credit, zero_add]
    unfold owns
    iintro ⟨#HR, ⟨⟨%fs, %hfs, Hs⟩, ⟨%fd, Hd⟩, Ht⟩, HO⟩ Hk
    iapply (Rounds.wp_copy_pointsTo 𝒱 ER (ℛ) (c.tc : Thread nD τ) none (src := (P.keep j c).src) (dst := (P.keep j c).dst) (q := P.qk j)
      (r := 0) (d := ()) (κ := K (c, .inl j)) (fs := fs) (fd := fd)
      (mem_duties P kx mx hP c (.inl j)) () (P.amt (.inl j)) (hP.keep_amt j c) (amount_cell P kx mx hP c (.inl j) ())
      (by
        rw [payload_cell P kx mx hP c (.inl j)]
        simp only [pay, source]
        iintro ⟨H1, H2⟩
        isplitl [H1]
        · ihave H := (owns_intro (c.tc : Thread nD τ) (P.keep j c).dst fullShare _) $$ H1
          rw [View.read_write_univ, hfs]
          iexact H
        · ihave H := (owns_intro (c.tc : Thread nD τ) (P.keep j c).src (P.qk j) fs) $$ H2
          rw [hfs]
          iexact H)) $$ [Hs Hd Ht]
    · isplitr; · iapply (inv_of P kx mx hP K c (.inl j)); iexact HR
      isplitl [Hs]; · iexact Hs
      isplitl [Hd]; · iexact Hd
      isplitl [Ht]; · iexact Ht
      iapply (reached_of P kx mx hP K c (.inl j)); iexact HR
    iintro Hc
    iapply Hk
    isplitl [Hc]; · iexact Hc
    iexact HO
  · simp only [source, room, rights, due, own, right, credit]
    unfold owns
    iintro ⟨#HR, ⟨⟨%fs, %hfs, Hs⟩, ⟨%fd, Hd⟩, Ht, Ht'⟩, HO⟩ Hk
    iapply (Rounds.wp_send_pointsTo 𝒱 ER (ℛ) (c.tc : Thread nD τ) none (c' := ((P.peer i c).tc : Thread nD τ)) (κ₁ := K (c, .inr (.inl i)))
      (src := (P.move i c).src) (dst := (P.move i c).dst) (q := P.qm i)
      (κ₂ := K (P.peer i c, .inr (.inr i))) (r₁ := 0) (r₂ := 0) (d₁ := ()) (d₂ := ()) (fs := fs) (fd := fd)
      (mem_duties P kx mx hP c (.inr (.inl i))) (mem_duties P kx mx hP (P.peer i c) (.inr (.inr i))) () () (P.amt (.inr (.inr i))) (hP.recv_amt i c)
      ((amount_cell P kx mx hP c (.inr (.inl i)) ()).trans ((hP.send_amt i c).symm.trans (hP.recv_amt i c)))
      (amount_cell P kx mx hP (P.peer i c) (.inr (.inr i)) ())
      O (add_comm _ _) (W := W)
      (by
        rw [payload_cell P kx mx hP c (.inr (.inl i))]
        simp only [pay, source]
        iintro H
        ihave H := (owns_intro (c.tc : Thread nD τ) (P.move i c).src (P.qm i) fs) $$ H
        rw [hfs]
        iexact H)
      (by
        rw [payload_cell P kx mx hP (P.peer i c) (.inr (.inr i))]
        simp only [pay, arrival]
        rw [Equiv.symm_apply_apply]
        iintro H
        ihave H := (owns_intro ((P.peer i c).tc : Thread nD τ) (P.move i c).dst fullShare _) $$ H
        rw [View.read_write_univ, hfs]
        iexact H) (hr := hroute _ _)) $$ [Hs Hd Ht Ht' HO]
    · isplitr; · iapply (inv_of P kx mx hP K c (.inr (.inl i))); iexact HR
      isplitr; · iapply (inv_of P kx mx hP K (P.peer i c) (.inr (.inr i))); iexact HR
      isplitl [Hs]; · iexact Hs
      isplitl [Hd]; · iexact Hd
      isplitl [HO]; · iexact HO
      isplitl [Ht]; · iexact Ht
      isplitr; · iapply (reached_of P kx mx hP K c (.inr (.inl i))); iexact HR
      isplitl [Ht']; · iexact Ht'
      iapply (reached_of P kx mx hP K (P.peer i c) (.inr (.inr i))); iexact HR
    rw [(hP.recv_amt i c).symm.trans (hP.send_amt i c)]
    iintro H
    iapply Hk
    iexact H

theorem await_sound (K : Dev nD × Cell a b → ℕ) (c : Dev nD) (q : Cell a b) (O : CellTallies nD τ sig Unit)
    (W : Waits sig Unit) (k : Prog (TpuEff nD τ sig Val Λ .tc) PUnit) (Q : PUnit → sProp 𝕄) :
    iprop(records (τ := τ) P kx mx hP K ∗ (credit P c q ∗ turn P c q) ∗ MayWait (c.tc : Thread nD τ) (.dma (P.sem q)) () O
        ∗ owes (c.tc : Thread nD τ) O W)
      ⊢ iprop((((pay P kx mx c q ∗ semVal (cell P c q) 0) ∗ ∃ W, owes (c.tc : Thread nD τ) O W)
          -∗ wp frame (wpE defs 𝒱 (c.tc : Thread nD τ) none) Set.univ k Q)
        -∗ wp frame (wpE defs 𝒱 (c.tc : Thread nD τ) none) Set.univ (.op (await P c q) fun _ => k) Q) := by
  unfold credit turn
  iintro ⟨#HR, ⟨Hc, Ha⟩, Hm, HO⟩ Hk
  rw [← hP.spot_amt q c]
  iapply (Rounds.wp_wait_rest_token 𝒱 ER (ℛ) (c.tc : Thread nD τ) none (κ := K (c, q))
    (wpE_waitDma_eq 𝒱 (c.tc : Thread nD τ) none Set.univ) (Set.mem_univ _) () (O := O) (W := W) (R := 0) (m := 0) (T := ∅)
    (by rw [Nat.zero_add, expect_cell P kx mx hP c q]; exact hP.spot_amt q c)) $$ [Hc Ha Hm HO]
  · isplitr; · iapply (inv_of P kx mx hP K c q); iexact HR
    isplitl [Hc]; · iexact Hc
    isplitl [HO]; · iexact HO
    isplitl [Hm]; · iexact Hm
    iexact Ha
  iintro ⟨HO, Ha, -, Hp⟩
  ihave Hp := (Entails.of_eq (rest_cell P kx mx hP c q)) $$ Hp
  imod (Rounds.cell_close ER (ℛ) (Set.mem_univ (K (c, q))) (fun h => h) (R := 0 + 1) (duties_later P kx mx hP (cell P c q))) $$ [Ha] with Hz
  · isplitr; · iapply (inv_of P kx mx hP K c q); iexact HR
    iexact Ha
  iapply Hk
  isplitr [HO]
  · isplitl [Hp] <;> iassumption
  · iexists _; iexact HO

end Steps

/-! ## Chains over lists -/

section Chains

variable {M : Type} [URA M] {ι : Type}

theorem sep_swap (A B C : sProp M) : iprop(A ∗ B ∗ C) ⊢ iprop(B ∗ A ∗ C) := by
  iintro ⟨H1, H2, H3⟩
  isplitl [H2]; · iexact H2
  isplitl [H1] <;> iassumption

theorem sep_pairs (A B C D : sProp M) : iprop((A ∗ B) ∗ C ∗ D) ⊢ iprop((A ∗ C) ∗ B ∗ D) := by
  iintro ⟨⟨H1, H2⟩, H3, H4⟩
  isplitl [H1 H3]
  · isplitl [H1] <;> iassumption
  · isplitl [H2] <;> iassumption

theorem sep_assoc_mp (A B C : sProp M) : iprop((A ∗ B) ∗ C) ⊢ iprop(A ∗ B ∗ C) := by
  iintro ⟨⟨H1, H2⟩, H3⟩
  isplitl [H1]; · iexact H1
  isplitl [H2] <;> iassumption

theorem sep_assoc_mpr (A B C : sProp M) : iprop(A ∗ B ∗ C) ⊢ iprop((A ∗ B) ∗ C) := by
  iintro ⟨H1, H2, H3⟩
  isplitr [H3]
  · isplitl [H1] <;> iassumption
  · iexact H3

theorem sep_turn_mp (A B C D : sProp M) : iprop(A ∗ B ∗ C ∗ D) ⊢ iprop(((A ∗ B) ∗ D) ∗ C) := by
  iintro ⟨H1, H2, H3, H4⟩
  isplitr [H3]
  · isplitr [H4]
    · isplitl [H1] <;> iassumption
    · iexact H4
  · iexact H3

theorem sep_turn_mpr (A B C D : sProp M) : iprop(((A ∗ B) ∗ D) ∗ C) ⊢ iprop(A ∗ B ∗ C ∗ D) := by
  iintro ⟨⟨⟨H1, H2⟩, H4⟩, H3⟩
  isplitl [H1]; · iexact H1
  isplitl [H2]; · iexact H2
  isplitl [H3] <;> iassumption

/-- A chain's order does not matter. -/
theorem chain_perm {l l' : List ι} (h : l.Perm l') (Φ : ι → sProp M) : bigSepL l Φ = bigSepL l' Φ := by
  induction h with
  | nil => rfl
  | cons x _ ih => rw [bigSepL_cons', bigSepL_cons', ih]
  | swap x y l =>
    simp only [bigSepL_cons']
    exact BI.Entails.antisymm (sep_swap _ _ _) (sep_swap _ _ _)
  | trans _ _ ih₁ ih₂ => exact ih₁.trans ih₂

theorem chain_sep (l : List ι) (Φ Ψ : ι → sProp M) : bigSepL l (fun i => iprop(Φ i ∗ Ψ i)) = iprop(bigSepL l Φ ∗ bigSepL l Ψ) := by
  induction l with
  | nil => exact BI.Entails.antisymm (emp_sep (PROP := sProp M)).2 (emp_sep (PROP := sProp M)).1
  | cons x l ih =>
    simp only [bigSepL_cons', ih]
    exact BI.Entails.antisymm (sep_pairs _ _ _ _) (sep_pairs _ _ _ _)

/-- The copies of a program, and its cells, listed. -/
def starts (a b : ℕ) : List (Fin a ⊕ Fin b) := (List.finRange a).map .inl ++ (List.finRange b).map .inr
def cells (a b : ℕ) : List (Cell a b) :=
  (List.finRange a).map .inl ++ ((List.finRange b).map (.inr ∘ .inl) ++ (List.finRange b).map (.inr ∘ .inr))

theorem chain_fin (n : ℕ) (Φ : Fin n → sProp M) : bigSep Finset.univ Φ = bigSepL (List.finRange n) Φ :=
  bigSep_univ_eq_bigSepL _ (by ext; simp) (List.nodup_finRange n) Φ

theorem nodup_sum {α β : Type} {l : List α} {l' : List β} (h : l.Nodup) (h' : l'.Nodup) : (l.map Sum.inl ++ l'.map (Sum.inr : β → α ⊕ β)).Nodup := by
  refine List.nodup_append.mpr ⟨h.map Sum.inl_injective, h'.map Sum.inr_injective, fun x hx y hy => ?_⟩
  obtain ⟨_, _, rfl⟩ := List.mem_map.mp hx
  obtain ⟨_, _, rfl⟩ := List.mem_map.mp hy
  exact Sum.inl_ne_inr

theorem chain_starts (a b : ℕ) (Φ : Fin a ⊕ Fin b → sProp M) : bigSep Finset.univ Φ = bigSepL (starts a b) Φ :=
  bigSep_univ_eq_bigSepL _ (by ext x; rcases x with x | x <;> simp [starts]) (nodup_sum (List.nodup_finRange a) (List.nodup_finRange b)) Φ

theorem chain_cells (a b : ℕ) (Φ : Cell a b → sProp M) : bigSep Finset.univ Φ = bigSepL (cells a b) Φ :=
  bigSep_univ_eq_bigSepL _ (by ext x; rcases x with x | x | x <;> simp [cells])
    (by
      have h := nodup_sum (List.nodup_finRange a) (nodup_sum (List.nodup_finRange b) (List.nodup_finRange b))
      simpa only [cells, List.map_append, List.map_map] using h) Φ

end Chains

/-! ## A device's run -/

section Body

variable [∀ e, Nonempty (Val e)] {Λ : SL.Sem.Labels} (P : Plan nD sig a b) (kx : (j : Fin a) → (c : Dev nD) → (P.keep j c).sh.Idx → Val (P.keep j c).e)
  (mx : (i : Fin b) → (c : Dev nD) → (P.move i c).sh.Idx → Val (P.move i c).e) (hP : P.Fits)
  (defs : Defs nD τ sig Val Λ) (𝒱 : Variants)

/-- Steps one after another: each takes its own resources and pays its own debt. The debts that may remain (`good`) let
    every step wait. -/
theorem steps_sound {ι : Type} (c : Dev nD) (R : sProp 𝕄) [BI.Persistent R] (A B : ι → sProp 𝕄) (eff : ι → List (TpuEff nD τ sig Val Λ .tc PUnit))
    (D : ι → CellTallies nD τ sig Unit) (good : CellTallies nD τ sig Unit → Prop) (Q : PUnit → sProp 𝕄) (l : List ι)
    (hgood : ∀ i ∈ l, ∀ O, good O → good (D i + O))
    (step : ∀ i ∈ l, ∀ O W k, good O → iprop(R ∗ A i ∗ owes (c.tc : Thread nD τ) (D i + O) W)
      ⊢ iprop(((B i ∗ ∃ W, owes (c.tc : Thread nD τ) O W) -∗ wp frame (wpE defs 𝒱 (c.tc : Thread nD τ) none) Set.univ k Q)
        -∗ wp frame (wpE defs 𝒱 (c.tc : Thread nD τ) none) Set.univ (run (eff i) k) Q))
    (O : CellTallies nD τ sig Unit) (hO : good O) (k : Prog (TpuEff nD τ sig Val Λ .tc) PUnit) :
    iprop(R ∗ bigSepL l A ∗ ∃ W, owes (c.tc : Thread nD τ) ((l.map D).sum + O) W)
      ⊢ iprop(((bigSepL l B ∗ ∃ W, owes (c.tc : Thread nD τ) O W) -∗ wp frame (wpE defs 𝒱 (c.tc : Thread nD τ) none) Set.univ k Q)
        -∗ wp frame (wpE defs 𝒱 (c.tc : Thread nD τ) none) Set.univ (run (l.flatMap eff) k) Q) := by
  induction l with
  | nil =>
    simp only [List.map_nil, List.sum_nil, zero_add, List.flatMap_nil, run]
    iintro ⟨#HR, HA, HO⟩ Hk
    iapply Hk
    isplitl [HA]; · iexact HA
    iexact HO
  | cons i l ih =>
    have hsum : good ((l.map D).sum + O) := by
      clear ih step
      induction l with
      | nil => simpa using hO
      | cons j l ih =>
        rw [List.map_cons, List.sum_cons, add_assoc]
        exact hgood j (by simp) _ (ih fun i' hi' => hgood i' (by
          rcases List.mem_cons.mp hi' with h | h
          · simp [h]
          · simp [h]))
    rw [List.map_cons, List.sum_cons, add_assoc, List.flatMap_cons, run_append, bigSepL_cons', bigSepL_cons']
    iintro ⟨#HR, ⟨HA, HAs⟩, ⟨%W, HO⟩⟩ Hk
    iapply (step i List.mem_cons_self _ W (run (l.flatMap eff) k) hsum) $$ [HA HO]
    · isplitr; · iexact HR
      isplitl [HA] <;> iassumption
    iintro ⟨HB, HO⟩
    iapply (ih (fun i hi => hgood i (List.mem_cons_of_mem _ hi)) fun i hi => step i (List.mem_cons_of_mem _ hi)) $$ [HAs HO]
    · isplitr; · iexact HR
      isplitl [HAs] <;> iassumption
    iintro ⟨HBs, HO⟩
    iapply Hk
    isplitr [HO]
    · isplitl [HB] <;> iassumption
    · iexact HO

/-- The order of a device's steps: every copy is started once, every cell waited for once, and a copy started in the middle
    is none whose arrival is waited for in the middle. -/
structure Order (first : List (Fin a ⊕ Fin b)) (mid : List (Fin b × Fin b)) (late : List (Fin b)) (rest : List (Cell a b)) : Prop where
  starts : (first ++ mid.map fun p : Fin b × Fin b => Sum.inr p.2).Perm (starts a b)
  arrivals : (mid.map (·.1) ++ late).Perm (List.finRange b)
  waits : rest.Perm ((List.finRange a).map .inl ++ ((List.finRange b).map (.inr ∘ .inl) ++ late.map (.inr ∘ .inr)))
  apart : ∀ p ∈ mid, p.1 ∉ mid.map (·.2)

/-- The cells whose credit lets a device wait: those of its main thread. -/
def L (g : GSem nD τ sig) : Finset Unit := if g.1.2 = .tc then {()} else ∅

open Classical in
/-- The level of a cell: a cell raised by a copy of the middle is above the others. -/
def lv (mid : List (Fin b × Fin b)) (g : GSem nD τ sig) (_ : Unit) : ℕ :=
  if ∃ p ∈ mid, g.2 = .dma (P.sem (.inr (.inr p.2))) then 1 else 0

theorem tally_pos {g g' : GSem nD τ sig} {ι ι' : Unit} {k : ℕ} (h : 0 < (tallyAt g ι k : CellTallies nD τ sig Unit) g' ι') : g' = g := by
  rw [tallyAt_apply] at h
  by_contra hc
  rw [if_neg (fun h' => hc h'.1)] at h
  exact Nat.lt_irrefl 0 h

/-- Debts to cells of level one only. -/
def High (mid : List (Fin b × Fin b)) (O : CellTallies nD τ sig Unit) : Prop :=
  ∀ (g : GSem nD τ sig) (i : Unit), 0 < O g i → g.1.2 = .tc ∧ lv P mid g i = 1

theorem high_add (mid : List (Fin b × Fin b)) (c : Dev nD) (p : Fin b × Fin b) (hp : p ∈ mid) (O : CellTallies nD τ sig Unit) (hO : High P mid O) :
    High P mid (due P c (.inr p.2) + O) := by
  intro g i h
  rw [Pi.add_apply, Finsupp.add_apply] at h
  rcases Nat.eq_zero_or_pos (due P c (.inr p.2) g i) with h0 | h0
  · rw [h0, Nat.zero_add] at h
    exact hO g i h
  · unfold due at h0
    obtain rfl := tally_pos h0
    exact ⟨rfl, if_pos ⟨p, hp, rfl⟩⟩

include hP in
theorem may_wait {first : List (Fin a ⊕ Fin b)} {mid : List (Fin b × Fin b)} {late : List (Fin b)} {rest : List (Cell a b)}
    (ho : Order first mid late rest) (c : Dev nD) (p : Fin b × Fin b) (hp : p ∈ mid) (O : CellTallies nD τ sig Unit) (hO : High P mid O) :
    (levAts L (lv P mid) : sProp 𝕄) ⊢ MayWait (c.tc : Thread nD τ) (.dma (P.sem (.inr (.inr p.1)))) () O := by
  refine mayWait_of_levAts (by unfold L; rw [if_pos rfl]; exact Finset.mem_singleton_self _) fun g i h => ?_
  obtain ⟨h1, h2⟩ := hO g i h
  refine ⟨by unfold L; rw [if_pos h1]; exact Finset.mem_singleton_self _, ?_⟩
  rw [h2]
  unfold lv
  rw [if_neg]
  · exact Nat.one_pos
  rintro ⟨p', hp', h'⟩
  have := hP.sem_inj (SemLoc.dma.inj h')
  exact ho.apart p hp (List.mem_map.mpr ⟨p', hp', (Sum.inr.inj (Sum.inr.inj this)).symm⟩)

theorem map_eq_flatMap {α β : Type} (f : α → β) (l : List α) : l.map f = l.flatMap fun x => [f x] := by
  induction l with
  | nil => rfl
  | cons x l ih => rw [List.map_cons, List.flatMap_cons, ih]; rfl

set_option maxHeartbeats 1600000 in
/-- A device's run: from the sources of the copies it starts first, the destinations of all its copies and the rights to
    raise their cells, the turns of its own cells and the credit for the arrivals, to what every last wait brings and every
    counter back at zero. A copy started in the middle reads what has just arrived (`hlink`). -/
theorem run_sound {first : List (Fin a ⊕ Fin b)} {mid : List (Fin b × Fin b)} {late : List (Fin b)} {rest : List (Cell a b)}
    (ho : Order first mid late rest) (hroute : ∀ c d : Dev nD, τ.routes (c.tc : Thread nD τ) (d.tc : Thread nD τ) = true)
    (hlink : ∀ p ∈ mid, ∀ c, (arrival (τ := τ) P mx c p.1 : sProp 𝕄) ⊢ source P kx mx c (.inr p.2))
    (K : Dev nD × Cell a b → ℕ) (c : Dev nD) :
    iprop((levAts L (lv P mid) ∗ records (τ := τ) P kx mx hP K)
        ∗ (bigSepL first (source P kx mx c) ∗ bigSepL (starts a b) (room P c) ∗ bigSepL (starts a b) (rights P c))
        ∗ (bigSepL (cells a b) (turn P c) ∗ bigSepL (List.finRange b) fun i => credit P c (.inr (.inr i)))
        ∗ ∃ W, owes (c.tc : Thread nD τ) (((starts a b).map (due P c)).sum) W)
      ⊢ wp frame (wpE defs 𝒱 (c.tc : Thread nD τ) none) Set.univ (run (effects P c first mid rest) (.ret ⟨⟩)) fun _ =>
          (iprop(bigSepL rest (pay P kx mx c) ∗ (bigSepL (cells a b) fun q => semVal (cell P c q) 0) ∗ ∃ W, owes (c.tc : Thread nD τ) 0 W) : sProp 𝕄) := by
  have hstarts (Φ : Fin a ⊕ Fin b → sProp 𝕄) : bigSepL (starts a b) Φ = iprop(bigSepL first Φ ∗ bigSepL mid fun p => Φ (.inr p.2)) := by
    rw [← chain_perm ho.starts, bigSepL_append, bigSepL_map]
  have hrecv (Φ : Fin b → sProp 𝕄) : bigSepL (List.finRange b) Φ = iprop((bigSepL mid fun p => Φ p.1) ∗ bigSepL late Φ) := by
    rw [← chain_perm ho.arrivals, bigSepL_append, bigSepL_map]
  have hrest (Φ : Cell a b → sProp 𝕄) : bigSepL rest Φ = iprop((bigSepL (starts a b) fun s => Φ (own s)) ∗ bigSepL late fun i => Φ (.inr (.inr i))) := by
    rw [chain_perm ho.waits, bigSepL_append, bigSepL_append, starts, bigSepL_append]
    simp only [bigSepL_map, own, Function.comp_apply]
    exact BI.Entails.antisymm (sep_assoc_mpr _ _ _) (sep_assoc_mp _ _ _)
  have hcells (Φ : Cell a b → sProp 𝕄) : bigSepL (cells a b) Φ = iprop(bigSepL rest Φ ∗ bigSepL mid fun p => Φ (.inr (.inr p.1))) := by
    rw [hrest, cells, starts, bigSepL_append, bigSepL_append, bigSepL_append]
    simp only [bigSepL_map, own, Function.comp_apply]
    rw [hrecv fun i => Φ (.inr (.inr i))]
    exact BI.Entails.antisymm (sep_turn_mp _ _ _ _) (sep_turn_mpr _ _ _ _)
  have hdue : ((starts a b).map (due P c)).sum = (first.map (due (τ := τ) P c)).sum + ((mid.map fun p => due P c (.inr p.2)).sum + 0) := by
    rw [← (ho.starts.map (due P c)).sum_eq, List.map_append, List.sum_append, List.map_map, add_zero]
    rfl
  have hlist : first.map (start P c) = first.flatMap fun s => [start (τ := τ) (Val := Val) (Λ := Λ) P c s] :=
    map_eq_flatMap _ _
  have hlist' : rest.map (await P c) = rest.flatMap fun q => [await (τ := τ) (Val := Val) (Λ := Λ) P c q] :=
    map_eq_flatMap _ _
  rw [effects, hlist, hlist', run_append, run_append, hdue, hstarts, hstarts, hcells, hrecv, hcells]
  iintro ⟨#HR, ⟨Hs, ⟨Hr, Hr'⟩, ⟨Ht, Ht'⟩⟩, ⟨⟨Ha, Ha'⟩, ⟨Hc', Hc⟩⟩, HO⟩
  iapply (steps_sound defs 𝒱 c iprop(levAts L (lv P mid) ∗ records (τ := τ) P kx mx hP K) (fun s => iprop(source P kx mx c s ∗ room P c s ∗ rights P c s))
    (fun s => credit P c (own s)) (fun s => [start P c s]) (due P c) (fun _ => True) _ first (fun _ _ _ _ => trivial)
    (fun s _ O W k _ => by
      simp only [run]
      iintro ⟨⟨-, #HR⟩, HA, HO⟩ Hk
      iapply (start_sound P kx mx hP defs 𝒱 hroute K c s O W k _) $$ [HA HO]
      · isplitr; · iexact HR
        isplitl [HA] <;> iassumption
      iintro ⟨H1, H2⟩
      iapply Hk
      isplitl [H1]; · iexact H1
      iexists W; iexact H2) _ trivial _) $$ [Hs Hr Ht HO]
  · isplitr; · iexact HR
    isplitr [HO]
    · rw [chain_sep, chain_sep]
      isplitl [Hs]; · iexact Hs
      isplitl [Hr] <;> iassumption
    · iexact HO
  iintro ⟨Hcs, HO⟩
  iapply (steps_sound defs 𝒱 c iprop(levAts L (lv P mid) ∗ records (τ := τ) P kx mx hP K)
    (fun p => iprop((credit P c (.inr (.inr p.1)) ∗ turn P c (.inr (.inr p.1))) ∗ room P c (.inr p.2) ∗ rights P c (.inr p.2)))
    (fun p => iprop(semVal (cell P c (.inr (.inr p.1))) 0 ∗ credit P c (own (.inr p.2)))) (fun p => [await P c (.inr (.inr p.1)), startMove P p.2 c])
    (fun p => due P c (.inr p.2)) (High P mid) _ mid (fun p hp O hO => high_add P mid c p hp O hO)
    (fun p hp O W k hO => by
      simp only [run]
      iintro ⟨⟨#HL, #HR⟩, ⟨HA, HB⟩, HO⟩ Hk
      iapply (await_sound P kx mx hP defs 𝒱 K c (.inr (.inr p.1)) _ W _ _) $$ [HA HO]
      · isplitr; · iexact HR
        isplitl [HA]; · iexact HA
        isplitr; · iapply (may_wait P hP ho c p hp _ (high_add P mid c p hp O hO)); iexact HL
        iexact HO
      iintro ⟨⟨Hp, Hz⟩, ⟨%W', HO⟩⟩
      ihave Hs := (show pay P kx mx c (.inr (.inr p.1)) ⊢ source P kx mx c (.inr p.2) from hlink p hp c) $$ Hp
      iapply (start_sound P kx mx hP defs 𝒱 hroute K c (.inr p.2) O W' k _) $$ [Hs HB HO]
      · isplitr; · iexact HR
        isplitr [HO]
        · isplitl [Hs] <;> iassumption
        · iexact HO
      iintro ⟨H1, H2⟩
      iapply Hk
      isplitr [H2]
      · isplitl [Hz] <;> iassumption
      · iexists W'; iexact H2) 0 (fun g i h => absurd h (Nat.lt_irrefl 0)) _) $$ [Hc' Ha' Hr' Ht' HO]
  · isplitr; · iexact HR
    isplitr [HO]
    · rw [chain_sep, chain_sep, chain_sep]
      isplitl [Hc' Ha']
      · isplitl [Hc'] <;> iassumption
      · isplitl [Hr'] <;> iassumption
    · iexact HO
  rw [chain_sep]
  iintro ⟨⟨Hz', Hcs'⟩, HO⟩
  iapply (steps_sound defs 𝒱 c iprop(levAts L (lv P mid) ∗ records (τ := τ) P kx mx hP K) (fun q => iprop(credit P c q ∗ turn P c q))
    (fun q => iprop(pay P kx mx c q ∗ semVal (cell P c q) 0)) (fun q => [await P c q]) (fun _ => 0) (· = 0) _ rest
    (fun _ _ O hO => by rw [hO, add_zero])
    (fun q _ O W k hO => by
      simp only [run]
      subst hO
      rw [add_zero]
      iintro ⟨⟨-, #HR⟩, HA, HO⟩ Hk
      iapply (await_sound P kx mx hP defs 𝒱 K c q 0 W k _) $$ [HA HO]
      · isplitr; · iexact HR
        isplitl [HA]; · iexact HA
        isplitr; · rw [MayWait_zero]; iempintro
        iexact HO
      iintro H
      iapply Hk
      iexact H) 0 rfl _) $$ [Hcs Hcs' Hc Ha HO]
  · isplitr; · iexact HR
    isplitr [HO]
    · rw [chain_sep]
      isplitr [Ha]
      · rw [hrest, hstarts]
        isplitr [Hc]
        · isplitl [Hcs] <;> iassumption
        · iexact Hc
      · iexact Ha
    · rw [show (rest.map fun _ : Cell a b => (0 : CellTallies nD τ sig Unit)).sum + 0 = 0 by simp]
      iexact HO
  rw [chain_sep]
  iintro ⟨⟨Hp, Hz⟩, HO⟩
  rw [wp_ret]
  imodintro
  isplitl [Hp]; · iexact Hp
  isplitr [HO]
  · isplitl [Hz] <;> iassumption
  · iexact HO

end Body

end Cert.Copies

end
-- ==== Proof.Whole.lean ====
/-
  The run of a whole program of copies: from any memory, on every device, to the memory its last waits show.
-/
module

public import proofs.«01_k».proof.Proof.Copies

@[expose] public section

set_option Elab.async false

noncomputable section

namespace Cert.Copies

open Idealize Idealize.ShloMosaic Idealize.SL
open Idealize.SL.BI (sProp bigSep bigSepL bigSepL_cons bigSepL_cons' bigSepL_append bigSepL_map bigSepL_mono bigSep_sep' bigSep_mono bigSep_congr bigSep_map bigSep_univ_prod bigSep_univ_sum bigSep_univ_equiv bigSep_fupd bigSep_univ_eq_bigSepL)
open scoped Idealize.SL.BI
open Idealize.SL.BI.BIBase Idealize.SL.BI.Laws Idealize.SL.Sem Idealize.SL.ProofMode
open Idealize.SL.RA
open TcCoe PCS Pipeline Idealize.ShloMosaic.Rounds

variable {nD : ℕ} {τ : Topo} {sig : RefSig} {Val : EltTy → Type} {a b : ℕ}

local notation "𝕄" => MT nD τ sig Unit Val ℕ (UU nD τ sig) ℕ

section Launch

variable [∀ e, Nonempty (Val e)] (P : Plan nD sig a b) (kx : (j : Fin a) → (c : Dev nD) → (P.keep j c).sh.Idx → Val (P.keep j c).e)
  (mx : (i : Fin b) → (c : Dev nD) → (P.move i c).sh.Idx → Val (P.move i c).e) (hP : P.Fits)

local notation "ℛ" => sched (τ := τ) (Val := Val) P kx mx hP

/-! ## The ghost state, dealt -/

include hP in
theorem cell_injective : Function.Injective fun cq : Dev nD × Cell a b => (cell P cq.1 cq.2 : GSem nD τ sig) := by
  rintro ⟨c, q⟩ ⟨c', q'⟩ h
  have h1 : c = c' := congrArg (fun g : GSem nD τ sig => g.1.1) h
  have h2 : q = q' := hP.sem_inj (SemLoc.dma.inj (congrArg Prod.snd h))
  rw [h1, h2]

/-- The cells of all the devices, and one right for each. -/
def allCells : Finset (GSem nD τ sig) := Finset.univ.map ⟨fun cq : Dev nD × Cell a b => cell P cq.1 cq.2, cell_injective P hP⟩
def allRights : Finset (GSem nD τ sig × ℕ × Unit) :=
  Finset.univ.map ⟨fun cq : Dev nD × Cell a b => (cell P cq.1 cq.2, 0, ()), fun _ _ h => cell_injective P hP (congrArg Prod.fst h)⟩

/-- What device `c` is given of the ghost state. -/
def fresh (c : Dev nD) : sProp 𝕄 :=
  iprop((bigSep Finset.univ fun q => roundState ER (ℛ) (cell P c q) 0) ∗ (bigSep Finset.univ fun q => reached ER (cell P c q) 0)
    ∗ (bigSep Finset.univ (turn P c)) ∗ bigSep Finset.univ (right P c))

theorem fresh_funded : BI.own (ER (initOf (allCells (τ := τ) P hP) (allRights P hP))) ⊢ (|==> bigSep Finset.univ (fresh P kx mx hP) : sProp 𝕄) := by
  have hX (Φ : GSem nD τ sig → sProp 𝕄) :
      bigSep (allCells P hP) Φ = bigSep Finset.univ fun c : Dev nD => bigSep Finset.univ fun q : Cell a b => Φ (cell P c q) := by
    unfold allCells; rw [bigSep_map, bigSep_univ_prod]; rfl
  have hT : bigSep (allRights P hP) (fun x => (dutyTok ER x.1 x.2.1 x.2.2 : sProp 𝕄)) = bigSep Finset.univ fun c : Dev nD => bigSep Finset.univ (right P c) := by
    unfold allRights; rw [bigSep_map, bigSep_univ_prod]; rfl
  have h := Rounds.fund (ER (Val := Val)) (ℛ) (allCells P hP) (allRights P hP)
  rw [hX, hX, hX, hT] at h
  refine h.trans (BI.bupd_mono ?_)
  unfold fresh turn
  rw [bigSep_sep', bigSep_sep', bigSep_sep']
  exact BI.Entails.refl _

/-- The destination of the remote copy `i` that arrives at device `c`, whatever it holds. -/
def hall (c : Dev nD) (i : Fin b) : sProp 𝕄 :=
  iprop(∃ f, (P.move i ((P.peer i).symm c)).dst.view.loc (c.tc : Thread nD τ) ↦[(P.move i ((P.peer i).symm c)).dst.view.set]{fullShare} f)

/-- What device `c`'s own memory is to give, before the destinations change hands. -/
def stock (first : List (Fin a ⊕ Fin b)) (c : Dev nD) : sProp 𝕄 :=
  iprop(bigSepL first (source P kx mx c) ∗ (bigSep Finset.univ fun j => room P c (.inl j)) ∗ bigSep Finset.univ (hall P c))

/-- What device `c` starts with. -/
def opening (first : List (Fin a ⊕ Fin b)) (c : Dev nD) : sProp 𝕄 :=
  iprop(∃ K, records (τ := τ) P kx mx hP K
    ∗ (bigSepL first (source P kx mx c) ∗ bigSep Finset.univ (room P c) ∗ bigSep Finset.univ (rights P c))
    ∗ bigSep Finset.univ (turn P c) ∗ bigSep Finset.univ fun i => credit P c (.inr (.inr i)))

/-- What device `c` owes when it starts. -/
def owed₀ (c : Dev nD) : CellTallies nD τ sig Unit := ((starts a b).map (due P c)).sum

theorem owed₀_eq (c : Dev nD) : owed₀ (τ := τ) P c = ∑ i : Fin b, due P c (.inr i) := by
  unfold owed₀ starts
  rw [List.map_append, List.sum_append, List.map_map, List.map_map, Fin.sum_univ_def]
  have h : ((List.finRange a).map (due (τ := τ) P c ∘ Sum.inl)).sum = 0 := by
    refine List.sum_eq_zero fun x hx => ?_
    obtain ⟨j, -, rfl⟩ := List.mem_map.mp hx
    rfl
  rw [h, zero_add]
  rfl

/-- The credit that comes with what the other devices owe. -/
theorem credits (c : Dev nD) : (launchCred (owed₀ P) c : sProp 𝕄) ⊢ bigSep Finset.univ fun i => credit P c (.inr (.inr i)) := by
  rw [show owed₀ (τ := τ) P = fun d => ∑ i : Fin b, due P d (.inr i) from funext fun d => owed₀_eq P d, launchCred_sum]
  refine bigSep_mono fun i _ => ?_
  exact launchCred_tallyAt (.dma (P.sem (.inr (.inr i)))) (P.peer i) (P.peer i).symm (fun c => (P.peer i).apply_symm_apply c)
    (fun d => (P.peer i).symm_apply_apply d) () (P.amt (.inr (.inr i))) c

theorem exchanged (Φ : Dev nD → Fin b → sProp 𝕄) :
    (bigSep Finset.univ fun c => bigSep Finset.univ fun i => Φ c i) = bigSep Finset.univ fun i => bigSep Finset.univ fun c => Φ c i := by
  rw [← bigSep_univ_prod fun x : Dev nD × Fin b => Φ x.1 x.2, ← bigSep_univ_prod fun x : Fin b × Dev nD => Φ x.2 x.1]
  exact bigSep_univ_equiv (Equiv.prodComm _ _) fun x : Dev nD × Fin b => Φ x.1 x.2

/-- A family over the devices and the remote copies, each member at the device its copy goes to. -/
theorem passed (Φ : Dev nD → Fin b → sProp 𝕄) :
    (bigSep Finset.univ fun c => bigSep Finset.univ fun i => Φ c i) = bigSep Finset.univ fun c => bigSep Finset.univ fun i => Φ (P.peer i c) i := by
  rw [exchanged, exchanged fun c i => Φ (P.peer i c) i]
  exact bigSep_congr fun i _ => bigSep_univ_equiv (P.peer i) fun c => Φ c i

theorem rooms_dealt (first : List (Fin a ⊕ Fin b)) :
    bigSep Finset.univ (stock P kx mx first)
      ⊢ iprop((bigSep Finset.univ fun c : Dev nD => bigSepL first (source (τ := τ) P kx mx c)) ∗ bigSep Finset.univ fun c => bigSep Finset.univ (room P c)) := by
  have hroom : (bigSep Finset.univ fun c => bigSep Finset.univ (room (τ := τ) (Val := Val) P c))
      = iprop((bigSep Finset.univ fun c => bigSep Finset.univ fun j => room P c (.inl j)) ∗ bigSep Finset.univ fun c => bigSep Finset.univ fun i => hall P c i) := by
    rw [passed P (hall P), ← bigSep_sep']
    refine bigSep_congr fun c _ => ?_
    rw [bigSep_univ_sum]
    refine congrArg _ (bigSep_congr fun i _ => ?_)
    unfold hall
    rw [Equiv.symm_apply_apply]
    rfl
  rw [hroom]
  unfold stock
  rw [bigSep_sep', bigSep_sep']

theorem rights_dealt :
    (bigSep Finset.univ fun c : Dev nD => bigSep Finset.univ (right (τ := τ) (Val := Val) P c)) ⊢ bigSep Finset.univ fun c => bigSep Finset.univ (rights P c) := by
  have h1 (c : Dev nD) : bigSep Finset.univ (rights (τ := τ) (Val := Val) P c)
      = iprop((bigSep Finset.univ fun j => right P c (.inl j)) ∗ (bigSep Finset.univ fun i => right P c (.inr (.inl i)))
          ∗ bigSep Finset.univ fun i => right P (P.peer i c) (.inr (.inr i))) := by
    rw [bigSep_univ_sum, ← bigSep_sep']; rfl
  have h2 (c : Dev nD) : bigSep Finset.univ (right (τ := τ) (Val := Val) P c)
      = iprop((bigSep Finset.univ fun j => right P c (.inl j)) ∗ (bigSep Finset.univ fun i => right P c (.inr (.inl i)))
          ∗ bigSep Finset.univ fun i => right P c (.inr (.inr i))) := by
    rw [bigSep_univ_sum, bigSep_univ_sum]; rfl
  simp only [h1, h2, bigSep_sep']
  rw [passed P fun c i => right P c (.inr (.inr i))]

theorem with_persistent {ι : Type} [DecidableEq ι] {S : Finset ι} {R : sProp 𝕄} [BI.Persistent R] {Φ Ψ : ι → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- From the counters at zero, the memory and the ghost state, every device's opening. -/
theorem dealt (first : List (Fin a ⊕ Fin b)) :
    iprop((bigSep Finset.univ fun c : Dev nD => bigSep Finset.univ fun q => semVal (cell P c q) 0) ∗ bigSep Finset.univ (stock P kx mx first)
        ∗ (bigSep Finset.univ fun c => launchCred (owed₀ P) c) ∗ bigSep Finset.univ (fresh P kx mx hP))
      ⊢ (|={Set.univ}=> bigSep Finset.univ (opening P kx mx hP first) : sProp 𝕄) := by
  have hinv : iprop((bigSep Finset.univ fun c : Dev nD => bigSep Finset.univ fun q => semVal (cell P c q) 0)
        ∗ bigSep Finset.univ fun c : Dev nD => bigSep Finset.univ fun q => roundState ER (ℛ) (cell P c q) 0)
      ⊢ (|={Set.univ}=> ∃ K : Dev nD × Cell a b → ℕ, bigSep Finset.univ fun cq : Dev nD × Cell a b => cellInv ER (ℛ) (K cq) (cell P cq.1 cq.2) : sProp 𝕄) := by
    rw [← bigSep_univ_prod fun cq : Dev nD × Cell a b => semVal (cell P cq.1 cq.2) 0,
      ← bigSep_univ_prod fun cq : Dev nD × Cell a b => roundState ER (ℛ) (cell P cq.1 cq.2) 0, ← bigSep_sep']
    refine (bigSep_mono (Ψ := fun cq : Dev nD × Cell a b => iprop(|={Set.univ}=> ∃ κ : ℕ, cellInv ER (ℛ) κ (cell P cq.1 cq.2)))
      fun cq _ => (Rounds.body_intro ER (ℛ) (cell P cq.1 cq.2)).trans inv_alloc).trans ?_
    exact (bigSep_fupd _ _).trans (BI.fupd_mono (BI.bigSep_exists_pi Finset.univ fun (cq : Dev nD × Cell a b) (κ : ℕ) => cellInv ER (ℛ) κ (cell P cq.1 cq.2)))
  have hfresh : bigSep Finset.univ (fresh (τ := τ) P kx mx hP)
      = iprop((bigSep Finset.univ fun c : Dev nD => bigSep Finset.univ fun q => roundState ER (ℛ) (cell P c q) 0)
        ∗ (bigSep Finset.univ fun cq : Dev nD × Cell a b => reached ER (cell P cq.1 cq.2) 0)
        ∗ (bigSep Finset.univ fun c => bigSep Finset.univ (turn P c)) ∗ bigSep Finset.univ fun c => bigSep Finset.univ (right P c)) := by
    rw [bigSep_univ_prod]
    unfold fresh
    rw [bigSep_sep', bigSep_sep', bigSep_sep']
  have hcred : (bigSep Finset.univ fun c => launchCred (owed₀ (τ := τ) P) c : sProp 𝕄) ⊢ bigSep Finset.univ fun c => bigSep Finset.univ fun i => credit P c (.inr (.inr i)) :=
    bigSep_mono fun c _ => credits P c
  rw [hfresh]
  iintro ⟨Hz, Hm, Hc, Hst, #Hr, Ht, Hd⟩
  imod hinv $$ [Hz Hst] with ⟨%K, #Hi⟩
  · isplitl [Hz] <;> iassumption
  imodintro
  ihave Hm := (rooms_dealt P kx mx first) $$ Hm
  icases Hm with ⟨Hs, Hm⟩
  ihave Hd := (rights_dealt P) $$ Hd
  ihave Hc := hcred $$ Hc
  iapply (with_persistent (R := records (τ := τ) P kx mx hP K)
    (Φ := fun c => iprop((bigSepL first (source P kx mx c) ∗ bigSep Finset.univ (room P c) ∗ bigSep Finset.univ (rights P c))
      ∗ bigSep Finset.univ (turn P c) ∗ bigSep Finset.univ fun i => credit P c (.inr (.inr i)))) fun c _ => by
    unfold opening
    iintro ⟨#HR, H⟩
    iexists K
    isplitr; · iexact HR
    iexact H)
  rw [bigSep_sep', bigSep_sep', bigSep_sep', bigSep_sep']
  isplitr
  · unfold records
    isplitr; · iexact Hi
    iexact Hr
  isplitl [Hs Hm Hd]
  · isplitl [Hs]; · iexact Hs
    isplitl [Hm] <;> iassumption
  isplitl [Ht] <;> iassumption

/-! ## What the last waits show -/

/-- What the final memory says of a cell that was waited for last. -/
def shown (mem : (ℓ : Loc nD τ sig) → Buf Val ℓ) (c : Dev nD) : Cell a b → Prop
  | .inl j => (P.keep j c).dst.view.read Val (mem ((P.keep j c).dst.view.loc (c.tc : Thread nD τ))) = kx j c
      ∧ (P.keep j c).src.view.read Val (mem ((P.keep j c).src.view.loc (c.tc : Thread nD τ))) = kx j c
  | .inr (.inl i) => (P.move i c).src.view.read Val (mem ((P.move i c).src.view.loc (c.tc : Thread nD τ))) = mx i c
  | .inr (.inr i) => (P.move i ((P.peer i).symm c)).dst.view.read Val (mem ((P.move i ((P.peer i).symm c)).dst.view.loc (c.tc : Thread nD τ)))
      = mx i ((P.peer i).symm c)

theorem owns_shown (c : Dev nD) {sp : Space} {sh : Shape} {e : EltTy} (M : Memref sig .tc sp sh e) (q : PosShare TreeShare) (X : sh.Idx → Val e)
    (s : Phys nD τ sig Val) :
    iprop(SI s ∗ owns (c.tc : Thread nD τ) M q X) ⊢ (⌜M.view.read Val (s.mem.mem (M.view.loc (c.tc : Thread nD τ))) = X⌝ : sProp 𝕄) := by
  unfold owns
  iintro ⟨HS, ⟨%f, %hf, H⟩⟩
  ihave %h := SI_pointsTo_agree $$ [HS H]
  · isplitl [HS] <;> iassumption
  ipureintro
  rw [← hf]
  funext x
  rw [View.read_apply, View.read_apply]
  exact congrArg _ (h _ (View.emb_mem_set _ _))

theorem pay_shown (c : Dev nD) (q : Cell a b) (s : Phys nD τ sig Val) :
    iprop(SI s ∗ pay (τ := τ) P kx mx c q) ⊢ (⌜shown P kx mx s.mem.mem c q⌝ : sProp 𝕄) := by
  rcases q with j | i | i
  · simp only [pay, source, shown]
    iintro ⟨HS, H1, H2⟩
    ihave %h1 := (owns_shown c (P.keep j c).dst _ _ s) $$ [HS H1]
    · isplitl [HS] <;> iassumption
    ihave %h2 := (owns_shown c (P.keep j c).src _ _ s) $$ [HS H2]
    · isplitl [HS] <;> iassumption
    ipureintro
    exact ⟨h1, h2⟩
  · exact owns_shown c (P.move i c).src _ _ s
  · exact owns_shown c (P.move i ((P.peer i).symm c)).dst _ _ s

theorem rest_shown (c : Dev nD) (rest : List (Cell a b)) (s : Phys nD τ sig Val) :
    iprop(SI s ∗ bigSepL rest (pay (τ := τ) P kx mx c)) ⊢ (⌜∀ q ∈ rest, shown P kx mx s.mem.mem c q⌝ : sProp 𝕄) := by
  induction rest with
  | nil => iintro -; ipureintro; simp
  | cons q rest ih =>
    rw [bigSepL_cons']
    iintro ⟨HS, H1, H2⟩
    ihave %h1 := (pay_shown P kx mx c q s) $$ [HS H1]
    · isplitl [HS] <;> iassumption
    ihave %h2 := ih $$ [HS H2]
    · isplitl [HS] <;> iassumption
    ipureintro
    intro q' hq
    rcases List.mem_cons.mp hq with rfl | h
    · exact h1
    · exact h2 q' h

end Launch

/-! ## The run -/

section Run

variable [∀ e, Nonempty (Val e)] {Λ₀ : SL.Sem.Labels} (P : Plan nD sig a b)
  (kx : (j : Fin a) → (c : Dev nD) → (P.keep j c).sh.Idx → Val (P.keep j c).e)
  (mx : (i : Fin b) → (c : Dev nD) → (P.move i c).sh.Idx → Val (P.move i c).e) (hP : P.Fits)
  (cfg : Cfg sig Λ₀)

/-- What holds before the kernel's only grid point, and after it. -/
def dats (first : List (Fin a ⊕ Fin b)) (mid : List (Fin b × Fin b)) (rest : List (Cell a b)) (hW : IsEmpty (Fin cfg.W)) (_ : Fin 1) (c : Dev nD) :
    Dat τ Val Unit ℕ (UU nD τ sig) ℕ cfg c where
  A w := hW.elim w
  after w := hW.elim w
  Φ t := if t.val = 0 then iprop(levAts L (lv P mid) ∗ opening P kx mx hP first c)
    else iprop(bigSepL rest (pay P kx mx c) ∗ bigSep Finset.univ fun q => semVal (cell P c q) 0)
  q _ := fullShare
  owed t := if t.val = 0 then owed₀ P c else 0

theorem dats_before {first : List (Fin a ⊕ Fin b)} {mid : List (Fin b × Fin b)} {rest : List (Cell a b)} (hW : IsEmpty (Fin cfg.W)) (c : Dev nD)
    {t : Fin (cfg.N + 1)} (h : t.val = 0) :
    (dats (τ := τ) P kx mx hP cfg first mid rest hW 0 c).Φ t = iprop(levAts L (lv P mid) ∗ opening P kx mx hP first c)
      ∧ (dats (τ := τ) P kx mx hP cfg first mid rest hW 0 c).owed t = owed₀ P c := ⟨if_pos h, if_pos h⟩

theorem dats_after {first : List (Fin a ⊕ Fin b)} {mid : List (Fin b × Fin b)} {rest : List (Cell a b)} (hW : IsEmpty (Fin cfg.W)) (c : Dev nD)
    {t : Fin (cfg.N + 1)} (h : ¬ t.val = 0) :
    (dats (τ := τ) P kx mx hP cfg first mid rest hW 0 c).Φ t = iprop(bigSepL rest (pay P kx mx c) ∗ ownSems0 (fun q => SemLoc.dma (P.sem q)) c)
      ∧ (dats (τ := τ) P kx mx hP cfg first mid rest hW 0 c).owed t = 0 := ⟨if_neg h, if_neg h⟩

include hP in
/-- A program whose one kernel runs, on each device, the effects of a plan: from any memory it terminates, and the final
    memory is what the last waits show. The device's memory must split into the sources and destinations of the copies. -/
theorem whole {first : List (Fin a ⊕ Fin b)} {mid : List (Fin b × Fin b)} {late : List (Fin b)} {rest : List (Cell a b)}
    (ho : Order first mid late rest) (hroute : ∀ c d : Dev nD, τ.routes (c.tc : Thread nD τ) (d.tc : Thread nD τ) = true)
    (hlink : ∀ p ∈ mid, ∀ c, (arrival (τ := τ) P mx c p.1 : sProp 𝕄) ⊢ source P kx mx c (.inr p.2))
    (hW : IsEmpty (Fin cfg.W)) (hN : cfg.N = 1) (hK : IsEmpty (Fin (cfg.toPCfg (Val := Val)).pre.K))
    (hinj : Function.Injective (cellOf (nD := nD) (τ := τ) fun _ : Fin 1 => cfg))
    (hw : WinFacts cfg.spec) (hs : OwnSemFacts cfg.spec fun q => SemLoc.dma (P.sem q))
    (hscr : ∀ c : Dev nD, (scopedRest cfg.spec c : sProp 𝕄) = BI.emp)
    (defs₀ : Defs nD τ sig Val Λ₀)
    (hbody : ∀ (t : Fin cfg.N) s (c : Dev nD) (Q : sProp 𝕄),
      wp frame (wpE defs₀ Variants.none (c.tc : Thread nD τ) none) Set.univ (.op .deviceId fun d => run (effects P d first mid rest) (.ret ⟨⟩)) (fun _ => Q)
        ⊢ wp frame (wpE defs₀ Variants.none (c.tc : Thread nD τ) none) Set.univ (defs₀ .tc cfg.body (cfg.bodyArgs t s)) fun _ => Q)
    (m : (ℓ : Loc nD τ sig) → Buf Val ℓ) (g : Dev nD → PrngReg)
    (main : Dev nD → Prog (TpuEff nD τ sig Val (Sig Λ₀ (Fin 1) fun _ => (cfg.toPCfg (Val := Val)).Adm) .tc) PUnit)
    (hmain : ∀ c, main c = .op (.customCall (entry 0) ()) fun _ => .ret ⟨⟩)
    (hmem : ∀ c : Dev nD, (unscopedBufs c fun r => m ((c.tc : Thread nD τ).loc r)) ⊢ (stock P kx mx first c : sProp 𝕄)) :
    θ_run (Pipeline.defs (fun _ : Fin 1 => cfg.toPCfg) defs₀) (onTc main) ⟨m, fun _ => 0, g⟩ fun r =>
      (∀ c : Dev nD, ∀ q ∈ rest, shown P kx mx r.2.mem c q)
        ∧ ∀ g' : GSem nD τ sig, (g'.1.2 ≠ .tc ∨ g'.2.isScoped .tc = true) → r.2.sem g' = 0 := by
  have hemp (Φ : Fin cfg.W → sProp 𝕄) : bigSep Finset.univ Φ = BI.emp := by
    rw [Finset.univ_eq_empty, BI.bigSep_empty]
  refine Deal.run_dealt (fun _ : Fin 1 => cfg.toPCfg) (fun _ => cfg.toPCfg_adm) (dats P kx mx hP cfg first mid rest hW) () hinj (0 : Fin 1) hw.to₀ hs EP defs₀ Variants.none
    hW hK m g main hmain (hbody := fun c => BodyObligation.loose _ fun t => ?_) (O₀ := owed₀ P) (howed₀ := fun c => rfl)
    (howedN := fun c => if_neg (by rw [Fin.val_last]; show ¬ cfg.N = 0; omega)) (L := L) (lv := lv P mid)
    (hL := fun g hg => if_neg hg) (G := fresh P kx mx hP) (X := opening P kx mx hP first) (Y := fun c => bigSepL rest (pay P kx mx c))
    (u₀ := (initOf (Pipeline.cells (fun _ : Fin 1 => cfg) hinj) (Pipeline.launchToks (fun _ : Fin 1 => cfg) hinj), initOf (allCells P hP) (allRights P hP)))
    (hu₀ := ?_) (hdeal := ?_) (hin := fun c => ?_) (hout := fun c => ?_)
    (QY := fun c s => ∀ q ∈ rest, shown P kx mx s.mem c q) (hY := fun c s => ?_) (hQ := fun s h1 h2 => ⟨h1, h2⟩)
  · have ht : t.val = 0 := by have h : t.val < cfg.N := t.isLt; omega
    refine Entails.trans (show _ ⊢ _ from ?_) (hbody t _ c _)
    rw [hemp, hemp, wp_deviceId]
    unfold Dat.owesAt owesWithin
    obtain ⟨e1, e2⟩ := dats_before (τ := τ) P kx mx hP cfg (first := first) (mid := mid) (rest := rest) hW c (t := t.castSucc) ht
    obtain ⟨e3, e4⟩ := dats_after (τ := τ) P kx mx hP cfg (first := first) (mid := mid) (rest := rest) hW c (t := t.succ) (Nat.succ_ne_zero _)
    rw [e1, e2, e3, e4]
    have hown : (ownSems0 (fun q => SemLoc.dma (P.sem q)) c : sProp 𝕄) = bigSep Finset.univ fun q => semVal (cell P c q) 0 := rfl
    rw [hown]
    unfold opening
    simp only [chain_starts, chain_cells, chain_fin]
    iintro ⟨⟨#HL, ⟨%K, #HR, Hm, Hg⟩⟩, ⟨%W, -, HO⟩, -⟩
    have hrun := run_sound P kx mx hP defs₀ Variants.none ho hroute hlink K c
    iapply (wp_mono _ _ _ fun _ => show iprop(bigSepL rest (pay P kx mx c) ∗ (bigSepL (cells a b) fun q => semVal (cell P c q) 0)
        ∗ ∃ W, owes (c.tc : Thread nD τ) 0 W) ⊢ _ from by
      iintro ⟨H1, H2, ⟨%W', H3⟩⟩
      isplitl [H1 H2]
      · isplitl [H1] <;> iassumption
      isplitl [H3]
      · iexists W'
        isplitr; · ipureintro; exact fun _ _ => Or.inl trivial
        iexact H3
      iempintro)
    iapply hrun
    isplitr
    · isplitr; · iexact HL
      iexact HR
    isplitl [Hm]; · iexact Hm
    isplitl [Hg]; · iexact Hg
    iexists W
    iexact HO
  · iintro Hu
    ihave H := (ownU_pair _ _) $$ Hu
    icases H with ⟨HP, HX⟩
    imod (fresh_funded P kx mx hP) $$ HX with HG
    imodintro
    isplitl [HP] <;> iassumption
  · refine Entails.trans (show _ ⊢ _ from ?_) (dealt P kx mx hP first)
    iintro ⟨H1, H2, H3⟩
    isplitl [H1]; · iexact H1
    isplitl [H2]; · iapply (show _ ⊢ _ from bigSep_mono fun c _ => hmem c); iexact H2
    iexact H3
  · iintro ⟨HL, HX, -⟩
    rw [show (dats P kx mx hP cfg first mid rest hW 0 c).Φ 0 = iprop(levAts L (lv P mid) ∗ opening (τ := τ) P kx mx hP first c) from rfl]
    isplitl [HL] <;> iassumption
  · have hc := (dats_after (τ := τ) P kx mx hP cfg (first := first) (mid := mid) (rest := rest) hW c (t := Fin.last cfg.N) (by rw [Fin.val_last]; omega)).1
    rw [show (scopedRest ((pin (fun _ : Fin 1 => cfg.toPCfg) (fun _ => cfg.toPCfg_adm) (0 : Fin 1)).spec) c : sProp 𝕄) = BI.emp from hscr c]
    refine (Entails.of_eq hc).trans ?_
    iintro ⟨H1, H2⟩
    isplitl [H1]; · iexact H1
    isplitl [H2]; · iexact H2
    iempintro
  · iintro ⟨HY, HS⟩
    ihave %h := (rest_shown P kx mx c rest s) $$ [HY HS]
    · isplitl [HS] <;> iassumption
    imodintro
    isplitr; · ipureintro; exact h
    iexact HS

end Run

end Cert.Copies

end
-- ==== Proof.Boxes.lean ====
/-
  Pieces of arrays: a box of an array with its axes of size one dropped, as the kernels name what they copy.
-/
module

public import proofs.«01_k».proof.Proof.Whole
public import Idealize.ShloMosaic.Lib.MemrefSat

@[expose] public section

set_option Elab.async false

noncomputable section

namespace Cert.Copies

open Idealize Idealize.ShloMosaic Idealize.SL
open Idealize.SL.BI (sProp bigSep bigSepL bigSepL_cons' bigSep_mono bigSep_congr bigSep_subset bigSep_univ_eq_bigSepL bigSep_insert bigSep_sep')
open scoped Idealize.SL.BI
open Idealize.SL.BI.BIBase Idealize.SL.BI.Laws Idealize.SL.Sem Idealize.SL.ProofMode
open Idealize.SL.RA
open TcCoe PCS Pipeline

variable {nD : ℕ} {τ : Topo} {sig : RefSig} {Val : EltTy → Type}

local notation "𝕄" => MT nD τ sig Unit Val ℕ (UU nD τ sig) ℕ

/-- The box of `A` at offset `off`, of the sizes of `one`, read as `t`. -/
abbrev box {s t : Shape} {e : EltTy} (A : Memref sig .tc .hbm s e) (off sz : Fin s.rank → ℕ) (inb : ∀ a, off a + sz a ≤ s.size a)
    (sq : Shape.Squeezes ⟨s.rank, sz⟩ t) : Memref sig .tc .hbm t e :=
  (A.slice (Rect.unit (s := s) off sz inb) (fun _ => rfl)).squeeze t sq

section
variable {s t : Shape} {e : EltTy} (A : Memref sig .tc .hbm s e) {off sz : Fin s.rank → ℕ} {inb : ∀ a, off a + sz a ≤ s.size a}
  {sq : Shape.Squeezes ⟨s.rank, sz⟩ t}

theorem box_read (f : A.view.ty.Contents Val) (x : t.Idx) :
    (box A off sz inb sq).view.read Val f x = A.view.read Val f ((Rect.unit (s := s) off sz inb).emb (Shape.reshapeEquiv sq.numel_eq x)) := rfl

/-- The element of a box that is element `i` of the array: `y` is its place in the box before the axes of size one are dropped. -/
theorem box_at (f : A.view.ty.Contents Val) (x : t.Idx) (y : Shape.Idx ⟨s.rank, sz⟩) (hy : (Shape.rowMajor _ y).val = (Shape.rowMajor _ x).val)
    (i : s.Idx) (hi : ∀ a, (i a).val = off a + (y a).val) : (box A off sz inb sq).view.read Val f x = A.view.read Val f i := by
  rw [box_read, Shape.reshapeEquiv_eq_of_rowMajor sq.numel_eq hy]
  refine congrArg _ (funext fun a => Fin.ext ?_)
  rw [hi a]
  show off a + 1 * (y a).val = _
  rw [one_mul]

theorem box_set : (box A off sz inb sq).view.set = (Rect.unit (s := s) off sz inb).set.map A.view.emb :=
  (View.set_reshape _ _).trans (View.set_slice _ _)

/-- Two boxes that an axis parts share no element. -/
theorem box_disjoint {t' : Shape} {off' sz' : Fin s.rank → ℕ} {inb' : ∀ a, off' a + sz' a ≤ s.size a} {sq' : Shape.Squeezes ⟨s.rank, sz'⟩ t'}
    (a : Fin s.rank) (h : off a + sz a ≤ off' a ∨ off' a + sz' a ≤ off a) :
    Disjoint (box A off sz inb sq).view.set (box A off' sz' inb' sq').view.set := by
  rw [box_set A, box_set A]
  exact (Finset.disjoint_map _).mpr (Rect.unit_disjoint a h)

end

/-- An index of two coordinates, of three, of four. -/
def at2 {p q : ℕ} (a : Fin p) (b : Fin q) : Shape.Idx ⟨2, ![p, q]⟩ := fun | 0 => a | 1 => b
def at3 {p q r : ℕ} (a : Fin p) (b : Fin q) (c : Fin r) : Shape.Idx ⟨3, ![p, q, r]⟩ := fun | 0 => a | 1 => b | 2 => c
def at4 {p q r s : ℕ} (a : Fin p) (b : Fin q) (c : Fin r) (d : Fin s) : Shape.Idx ⟨4, ![p, q, r, s]⟩ := fun | 0 => a | 1 => b | 2 => c | 3 => d

/-- One slab of an array of slabs, read. -/
theorem slab_at {n p q : ℕ} {e : EltTy} (A : Memref sig .tc .hbm ⟨3, ![n, p, q]⟩ e) {off : Fin 3 → ℕ}
    {inb : ∀ a, off a + (![1, p, q] : Fin 3 → ℕ) a ≤ (![n, p, q] : Fin 3 → ℕ) a} {sq : Shape.Squeezes ⟨3, ![1, p, q]⟩ ⟨2, ![p, q]⟩} {k : ℕ}
    (ho : off = ![k, 0, 0]) (f : A.view.ty.Contents Val) (x : Shape.Idx ⟨2, ![p, q]⟩) (i : Shape.Idx ⟨3, ![n, p, q]⟩)
    (h0 : (i 0).val = k) (h1 : (i 1).val = (x 0).val) (h2 : (i 2).val = (x 1).val) :
    (box A off ![1, p, q] inb sq).view.read Val f x = A.view.read Val f i := by
  subst ho
  refine box_at A f x (at3 (0 : Fin 1) (x 0) (x 1)) ?_ i fun a => ?_
  · rw [Shape.rowMajor_val_three, Shape.rowMajor_val_two]
    show (0 * p + (x 0).val) * q + (x 1).val = (x 0).val * q + (x 1).val
    rw [Nat.zero_mul, Nat.zero_add]
  · match a with
    | 0 => exact h0
    | 1 => exact h1.trans (Nat.zero_add _).symm
    | 2 => exact h2.trans (Nat.zero_add _).symm

/-- One of the two columns of slabs, read. -/
theorem column_at {n k' p q : ℕ} {e : EltTy} (A : Memref sig .tc .hbm ⟨4, ![n, k', p, q]⟩ e) {off : Fin 4 → ℕ}
    {inb : ∀ a, off a + (![n, 1, p, q] : Fin 4 → ℕ) a ≤ (![n, k', p, q] : Fin 4 → ℕ) a} {sq : Shape.Squeezes ⟨4, ![n, 1, p, q]⟩ ⟨3, ![n, p, q]⟩} {k : ℕ}
    (ho : off = ![0, k, 0, 0]) (f : A.view.ty.Contents Val) (x : Shape.Idx ⟨3, ![n, p, q]⟩) (i : Shape.Idx ⟨4, ![n, k', p, q]⟩)
    (h0 : (i 0).val = (x 0).val) (h1 : (i 1).val = k) (h2 : (i 2).val = (x 1).val) (h3 : (i 3).val = (x 2).val) :
    (box A off ![n, 1, p, q] inb sq).view.read Val f x = A.view.read Val f i := by
  subst ho
  refine box_at A f x (at4 (x 0) (0 : Fin 1) (x 1) (x 2)) ?_ i fun a => ?_
  · rw [Shape.rowMajor_val_four, Shape.rowMajor_val_three]
    show ((((x 0).val * 1 + 0) * p + (x 1).val) * q + (x 2).val) = ((x 0).val * p + (x 1).val) * q + (x 2).val
    rw [Nat.mul_one, Nat.add_zero]
  · match a with
    | 0 => exact h0.trans (Nat.zero_add _).symm
    | 1 => exact h1
    | 2 => exact h2.trans (Nat.zero_add _).symm
    | 3 => exact h3.trans (Nat.zero_add _).symm

/-- Disjoint sets of elements of one array, dealt out. -/
theorem scatter {T : Type} [Fintype T] {ℓ : Loc nD τ sig} {S : Finset (Idx ℓ)} {q : PosShare TreeShare} {f : Buf Val ℓ} (K : T → Finset (Idx ℓ))
    (hK : ∀ k, K k ⊆ S) (hd : ∀ k k', k ≠ k' → Disjoint (K k) (K k')) :
    (ℓ ↦[S]{q} f) ⊢ (bigSep Finset.univ fun k => ℓ ↦[K k]{q} f : sProp 𝕄) := by
  classical
  rw [← pointsTo_biUnion Finset.univ K fun k _ k' _ h => hd k k' h]
  refine (pointsTo_split_subset (I := Finset.univ.biUnion K) (by
    intro x hx
    obtain ⟨k, -, h⟩ := Finset.mem_biUnion.mp hx
    exact hK k h)).1.trans sep_elim_left

/-- Each piece in two parts, all of them: the first parts and the second parts. -/
theorem halves {T : Type} [Fintype T] {Φ Ψ Ψ' : T → sProp 𝕄} (h : ∀ t, Φ t ⊢ iprop(Ψ t ∗ Ψ' t)) :
    bigSep Finset.univ Φ ⊢ iprop(bigSep Finset.univ Ψ ∗ bigSep Finset.univ Ψ') := by
  rw [← bigSep_sep']
  exact show _ ⊢ _ from bigSep_mono fun t _ => h t

/-- A family over pairs, by the numbers the pairs have. -/
theorem by_pairs {ι A B : Type} [Fintype ι] [Fintype A] [Fintype B] (e : ι ≃ A × B) (Ψ : A → B → sProp 𝕄) :
    (bigSep Finset.univ fun a => bigSep Finset.univ (Ψ a)) ⊢ bigSep Finset.univ fun i => Ψ (e i).1 (e i).2 := by
  rw [← BI.bigSep_univ_prod fun x : A × B => Ψ x.1 x.2, BI.bigSep_univ_equiv e fun x : A × B => Ψ x.1 x.2]

/-- A family over one more thing than `B`. -/
theorem one_more {B : Type} [Fintype B] (Φ : Unit ⊕ B → sProp 𝕄) : bigSep Finset.univ Φ = iprop(Φ (.inl ()) ∗ bigSep Finset.univ fun b => Φ (.inr b)) := by
  rw [BI.bigSep_univ_sum]
  refine congrArg (fun x => iprop(x ∗ _)) ?_
  exact BI.bigSep_univ_eq_bigSepL [()] (by decide) (by decide) fun a => Φ (.inl a)

/-- A whole array at known contents, as what its memref reads. -/
theorem owns_array (c : Thread nD τ) {s : Shape} {e : EltTy} (A : Memref sig c.2.kind .hbm s e) (hA : A.IsWhole) (q : PosShare TreeShare)
    (f : Buf Val (A.view.loc c)) : (A.view.loc c ↦{q} f) ⊢ (owns c A q (A.view.read Val f) : sProp 𝕄) := by
  have h := owns_intro c A q f (nD := nD) (τ := τ) (Ix := Unit) (Name := ℕ) (U := UU nD τ sig) (Lvl := ℕ)
  rwa [hA.set_eq_univ] at h

/-- A whole array as a place to copy to. -/
theorem whole_place {s : Shape} {e : EltTy} (A : Memref sig .tc .hbm s e) (hA : A.IsWhole) (c : Dev nD)
    (f : Buf Val (A.view.loc (c.tc : Thread nD τ))) :
    (A.view.loc (c.tc : Thread nD τ) ↦{fullShare} f) ⊢ (iprop(∃ f, A.view.loc (c.tc : Thread nD τ) ↦[A.view.set]{fullShare} f) : sProp 𝕄) := by
  rw [hA.set_eq_univ]
  iintro H
  iexists f
  iexact H

/-- An array at known contents, as what several of its boxes read, no two sharing an element. -/
theorem boxes_owned {T : Type} [Fintype T] (c : Dev nD) {s t : Shape} {e : EltTy} (A : Memref sig .tc .hbm s e) {sz : Fin s.rank → ℕ}
    (off : T → Fin s.rank → ℕ) (inb : ∀ k a, off k a + sz a ≤ s.size a) (sq : Shape.Squeezes ⟨s.rank, sz⟩ t) (a : Fin s.rank)
    (hd : ∀ k k', k ≠ k' → off k a + sz a ≤ off k' a ∨ off k' a + sz a ≤ off k a) (q : PosShare TreeShare) (f : Buf Val (A.view.loc (c.tc : Thread nD τ))) :
    (A.view.loc (c.tc : Thread nD τ) ↦{q} f)
      ⊢ (bigSep Finset.univ fun k => owns (c.tc : Thread nD τ) (box A (off k) sz (inb k) sq) q ((box A (off k) sz (inb k) sq).view.read Val f) : sProp 𝕄) :=
  (scatter (nD := nD) (τ := τ) (ℓ := A.view.loc (c.tc : Thread nD τ)) (fun k => (box A (off k) sz (inb k) sq).view.set) (fun _ => Finset.subset_univ _)
    fun k k' h => box_disjoint A a (hd k k' h)).trans
    (show _ ⊢ _ from bigSep_mono fun k _ => owns_intro (c.tc : Thread nD τ) (box A (off k) sz (inb k) sq) q f)

/-- An array as several boxes to copy to. -/
theorem boxes_free {T : Type} [Fintype T] (c : Dev nD) {s t : Shape} {e : EltTy} (A : Memref sig .tc .hbm s e) {sz : Fin s.rank → ℕ}
    (off : T → Fin s.rank → ℕ) (inb : ∀ k a, off k a + sz a ≤ s.size a) (sq : Shape.Squeezes ⟨s.rank, sz⟩ t) (a : Fin s.rank)
    (hd : ∀ k k', k ≠ k' → off k a + sz a ≤ off k' a ∨ off k' a + sz a ≤ off k a) (f : Buf Val (A.view.loc (c.tc : Thread nD τ))) :
    (A.view.loc (c.tc : Thread nD τ) ↦{fullShare} f)
      ⊢ (bigSep Finset.univ fun k => iprop(∃ f, A.view.loc (c.tc : Thread nD τ) ↦[(box A (off k) sz (inb k) sq).view.set]{fullShare} f) : sProp 𝕄) := by
  have h (K : Finset (Idx (A.view.loc (c.tc : Thread nD τ)))) : (A.view.loc (c.tc : Thread nD τ) ↦[K]{fullShare} f)
      ⊢ (iprop(∃ f, A.view.loc (c.tc : Thread nD τ) ↦[K]{fullShare} f) : sProp 𝕄) := by
    iintro H
    iexists f
    iexact H
  exact (scatter (nD := nD) (τ := τ) (ℓ := A.view.loc (c.tc : Thread nD τ)) (fun k => (box A (off k) sz (inb k) sq).view.set) (fun _ => Finset.subset_univ _)
    fun k k' h => box_disjoint A a (hd k k' h)).trans (show _ ⊢ _ from bigSep_mono fun k _ => h _)

/-- The arrays of a program that are not scoped, listed. -/
theorem arrays_dealt (c : Dev nD) (V : (b : Ref sig .tc) → Buf Val ((c.tc : Thread nD τ).loc b)) (l : List (Ref sig .tc)) (hn : l.Nodup)
    (hl : ∀ b ∈ l, ¬ b.isScoped = true) :
    unscopedBufs c V ⊢ (bigSepL l fun b => ((c.tc : Thread nD τ).loc b) ↦{fullShare} V b : sProp 𝕄) := by
  classical
  unfold unscopedBufs
  refine (show _ ⊢ _ from bigSep_subset (t := l.toFinset) fun b hb => Finset.mem_filter.mpr ⟨Finset.mem_univ _, hl b (List.mem_toFinset.mp hb)⟩).trans ?_
  rw [show (bigSep l.toFinset fun b => ((c.tc : Thread nD τ).loc b) ↦{fullShare} V b : sProp 𝕄) = bigSepL l fun b => ((c.tc : Thread nD τ).loc b) ↦{fullShare} V b from ?_]
  clear hl
  induction l with
  | nil => rfl
  | cons b l ih =>
    rw [List.toFinset_cons, bigSep_insert (fun h => (List.nodup_cons.mp hn).1 (List.mem_toFinset.mp h)), ih (List.nodup_cons.mp hn).2, bigSepL_cons']
    rfl

theorem Order.mem_keep {a b : ℕ} {first : List (Fin a ⊕ Fin b)} {mid : List (Fin b × Fin b)} {late : List (Fin b)} {rest : List (Cell a b)}
    (h : Order first mid late rest) (j : Fin a) : (.inl j : Cell a b) ∈ rest := h.waits.mem_iff.mpr (by simp)

theorem Order.mem_send {a b : ℕ} {first : List (Fin a ⊕ Fin b)} {mid : List (Fin b × Fin b)} {late : List (Fin b)} {rest : List (Cell a b)}
    (h : Order first mid late rest) (i : Fin b) : (.inr (.inl i) : Cell a b) ∈ rest := h.waits.mem_iff.mpr (by simp)

theorem Order.mem_late {a b : ℕ} {first : List (Fin a ⊕ Fin b)} {mid : List (Fin b × Fin b)} {late : List (Fin b)} {rest : List (Cell a b)}
    (h : Order first mid late rest) {i : Fin b} (hi : i ∈ late) : (.inr (.inr i) : Cell a b) ∈ rest := h.waits.mem_iff.mpr (by simpa using hi)

/-- Semaphore `k` of an array of `n` that starts at number `base`, as the kernels name it. -/
abbrev semAt {n N base : ℕ} (h : base + Shape.numel ⟨1, ![n]⟩ ≤ N) (k : ℕ) (inb : ∀ a, (![k] : Fin 1 → ℕ) a + (![1] : Fin 1 → ℕ) a ≤ (![n] : Fin 1 → ℕ) a)
    (sq : Shape.Squeezes ⟨1, ![1]⟩ ⟨0, ![]⟩) : Fin N :=
  (((SemArray.consecutive base ⟨1, ![n]⟩ h).slice (Rect.unit (s := ⟨1, ![n]⟩) ![k] ![1] inb)).squeeze ⟨0, ![]⟩ sq).sem

theorem semAt_val {n N base : ℕ} (h : base + Shape.numel ⟨1, ![n]⟩ ≤ N) (k : ℕ) (inb : ∀ a, (![k] : Fin 1 → ℕ) a + (![1] : Fin 1 → ℕ) a ≤ (![n] : Fin 1 → ℕ) a)
    (sq : Shape.Squeezes ⟨1, ![1]⟩ ⟨0, ![]⟩) : (semAt h k inb sq).val = base + k := by
  have hr : ∀ x : Shape.Idx ⟨1, ![1]⟩, (x 0).val = 0 := fun x => by have := (x 0).isLt; simpa using this
  show base + _ = _
  rw [Shape.rowMajor_val_one]
  show base + (k + 1 * _) = _
  rw [hr]; rfl

end Cert.Copies

end
-- ==== Proof.Share.lean ====
/-
  The two halves of each summed gradient to both devices of a pair.
-/
module

public import proofs.«01_k».proof.Proof.Boxes
public import proofs.«01_k».proof.Proof.Gen.PairShareIdeal.Launch

@[expose] public section

set_option Elab.async false

noncomputable section

namespace Cert.PairShareIdeal

open Idealize Idealize.ShloMosaic Idealize.SL
open Idealize.SL.BI (sProp bigSep bigSepL bigSepL_append bigSepL_map bigSep_mono bigSep_congr bigSep_sep')
open scoped Idealize.SL.BI
open Idealize.SL.BI.BIBase Idealize.SL.BI.Laws Idealize.SL.Sem Idealize.SL.ProofMode
open Idealize.SL.RA
open TcCoe PCS Pipeline Cert.Copies Gen

variable {F : FTy → Type} [FloatOps F]

/-- One of the seven gradients: the half a device holds, the two halves it is to hold, and the place of its own half there. -/
structure Item where
  {p q : ℕ}
  arg : Memref sig .tc .hbm ⟨2, ![p, q]⟩ .f32
  res : Memref sig .tc .hbm ⟨3, ![2, p, q]⟩ .f32
  harg : arg.IsWhole
  hres : res.IsWhole
  off : Dev nD → Fin 3 → ℕ
  inb : ∀ c a, off c a + (![1, p, q] : Fin 3 → ℕ) a ≤ (![2, p, q] : Fin 3 → ℕ) a
  sq : Shape.Squeezes ⟨3, ![1, p, q]⟩ ⟨2, ![p, q]⟩
  hoff : ∀ c, off c = ![c.val % 2, 0, 0]
  off' : Dev nD → Fin 3 → ℕ
  inb' : ∀ c a, off' c a + (![1, p, q] : Fin 3 → ℕ) a ≤ (![2, p, q] : Fin 3 → ℕ) a
  peer : Dev nD → ℕ
  lt : ∀ c, peer c < nD
  hpeer : ∀ c : Dev nD, peer c = 2 * (c.val / 2) + (1 - c.val % 2)

/-- The seven gradients. -/
def item : Fin 7 → Item
  | 0 => ⟨Memref.whole main_arg0, Memref.whole main_v1_0, Memref.isWhole_whole _, Memref.isWhole_whole _, k0_off1, k0_off1_inb, squeezes_S1x512x768_S512x768, by decide, k0_off6, k0_off6_inb, k0_dev1, k0_dev1_lt, by decide⟩
  | 1 => ⟨Memref.whole main_arg1, Memref.whole main_v1_1, Memref.isWhole_whole _, Memref.isWhole_whole _, k0_off2, k0_off2_inb, squeezes_S1x128x1024_S128x1024, by decide, k0_off7, k0_off7_inb, k0_dev2, k0_dev2_lt, by decide⟩
  | 2 => ⟨Memref.whole main_arg2, Memref.whole main_v1_2, Memref.isWhole_whole _, Memref.isWhole_whole _, k0_off3, k0_off3_inb, squeezes_S1x1024x704_S1024x704, by decide, k0_off8, k0_off8_inb, k0_dev3, k0_dev3_lt, by decide⟩
  | 3 => ⟨Memref.whole main_arg3, Memref.whole main_v1_3, Memref.isWhole_whole _, Memref.isWhole_whole _, k0_off3, k0_off3_inb, squeezes_S1x1024x704_S1024x704, by decide, k0_off8, k0_off8_inb, k0_dev4, k0_dev4_lt, by decide⟩
  | 4 => ⟨Memref.whole main_arg4, Memref.whole main_v1_4, Memref.isWhole_whole _, Memref.isWhole_whole _, k0_off4, k0_off4_inb, squeezes_S1x704x1024_S704x1024, by decide, k0_off9, k0_off9_inb, k0_dev5, k0_dev5_lt, by decide⟩
  | 5 => ⟨Memref.whole main_arg5, Memref.whole main_v1_5, Memref.isWhole_whole _, Memref.isWhole_whole _, k0_off5, k0_off5_inb, squeezes_S1x512x2304_S512x2304, by decide, k0_off10, k0_off10_inb, k0_dev6, k0_dev6_lt, by decide⟩
  | 6 => ⟨Memref.whole main_arg6, Memref.whole main_v1_6, Memref.isWhole_whole _, Memref.isWhole_whole _, k0_off2, k0_off2_inb, squeezes_S1x128x1024_S128x1024, by decide, k0_off7, k0_off7_inb, k0_dev7, k0_dev7_lt, by decide⟩

/-- Where a device puts its own half, here and at its sibling's. -/
abbrev slot (t : Fin 7) (c : Dev nD) : Memref sig .tc .hbm ⟨2, ![(item t).p, (item t).q]⟩ .f32 :=
  box (item t).res ((item t).off c) ![1, (item t).p, (item t).q] ((item t).inb c) (item t).sq

/-- The other half's place, as a wait names it. -/
abbrev slot' (t : Fin 7) (c : Dev nD) : Memref sig .tc .hbm ⟨2, ![(item t).p, (item t).q]⟩ .f32 :=
  box (item t).res ((item t).off' c) ![1, (item t).p, (item t).q] ((item t).inb' c) (item t).sq

theorem one_in (t : Fin 7) : ∀ a, (![t.val] : Fin 1 → ℕ) a + (![1] : Fin 1 → ℕ) a ≤ (![7] : Fin 1 → ℕ) a := by
  revert t; decide

def leg (t : Fin 7) (c : Dev nD) : Leg sig :=
  ⟨(item t).arg, slot t c, (item t).harg.wordExact, (View.wordExact_bits rfl).reshape _ _, rfl⟩

def sems : Cell 7 7 → DmaSem sig
  | .inl t => semAt hcc0_scratch2 t.val (one_in t) squeezes_S1_S_
  | .inr (.inl t) => semAt hcc0_scratch0 t.val (one_in t) squeezes_S1_S_
  | .inr (.inr t) => semAt hcc0_scratch1 t.val (one_in t) squeezes_S1_S_

/-- The other device of the pair, as the kernel computes it for gradient `t`. -/
def peer (t : Fin 7) : Dev nD ≃ Dev nD :=
  have h : Function.Involutive fun c : Dev nD => (⟨(item t).peer c, (item t).lt c⟩ : Dev nD) := fun c => Fin.ext (by
    show (item t).peer _ = _
    rw [(item t).hpeer]
    show 2 * ((item t).peer c / 2) + (1 - (item t).peer c % 2) = c.val
    rw [(item t).hpeer]
    omega)
  ⟨fun c => ⟨(item t).peer c, (item t).lt c⟩, fun c => ⟨(item t).peer c, (item t).lt c⟩, h, h⟩

def plan : Plan nD sig 7 7 where
  sem := sems
  keep := leg
  move := leg
  peer := peer
  spot
    | .inl t, c => ⟨slot t c⟩
    | .inr (.inl t), c => ⟨(item t).arg⟩
    | .inr (.inr t), c => ⟨slot' t c⟩
  qk _ := fullShare.left
  qm _ := fullShare.right
  amt
    | .inl t => RefSig.tileCredit ⟨2, ![(item t).p, (item t).q]⟩ .f32
    | .inr (.inl t) => RefSig.tileCredit ⟨2, ![(item t).p, (item t).q]⟩ .f32
    | .inr (.inr t) => RefSig.tileCredit ⟨2, ![(item t).p, (item t).q]⟩ .f32

def first : List (Fin 7 ⊕ Fin 7) := [.inr 0, .inr 1, .inr 2, .inr 3, .inr 4, .inr 5, .inr 6, .inl 0, .inl 1, .inl 2, .inl 3, .inl 4, .inl 5, .inl 6]

def late : List (Fin 7) := [0, 1, 2, 3, 4, 5, 6]

def rest : List (Cell 7 7) := late.map (.inr ∘ .inr) ++ (late.map (.inr ∘ .inl) ++ late.map .inl)

set_option maxRecDepth 20000 in
theorem body_eq (t : Fin cfg0.N) (s : (w : Fin cfg0.W) → Fin (cfg0.win w).nbuf) :
    (defs₀ (F := F) .tc cfg0.body (cfg0.bodyArgs t s) : Prog (TpuEff nD τ sig (Elt F) Λ₀ .tc) PUnit)
      = .op .deviceId fun d => run (effects plan d first [] rest) (.ret ⟨⟩) := rfl

theorem fits : plan.Fits where
  sem_inj := by
    rintro (s | s | s) (t | t | t) h <;> have h := congrArg Fin.val h <;> simp only [plan, sems, semAt_val] at h <;>
      first
        | (obtain rfl : s = t := Fin.ext (by omega); rfl)
        | (exfalso; have := s.isLt; have := t.isLt; omega)
  amt_pos q := by rcases q with t | t | t <;> (revert t; decide)
  keep_amt _ _ := rfl
  send_amt _ _ := rfl
  recv_amt _ _ := rfl
  spot_amt q _ := by rcases q with t | t | t <;> rfl

theorem mem_late (t : Fin 7) : t ∈ late := by revert t; decide

theorem order : Order first [] late rest where
  starts := by decide
  arrivals := by decide
  waits := by decide
  apart := by decide

section Memory
variable {Val : EltTy → Type}

local notation "𝕄" => MT nD τ sig Unit Val ℕ (UU nD τ sig) ℕ

/-- The half of gradient `t` that device `c` holds. -/
def half (m : (ℓ : Loc nD τ sig) → Buf Val ℓ) (t : Fin 7) (c : Dev nD) : Shape.Idx ⟨2, ![(item t).p, (item t).q]⟩ → Val .f32 :=
  (item t).arg.view.read Val (m ((item t).arg.view.loc (c.tc : Thread nD τ)))

theorem sent (m : (ℓ : Loc nD τ sig) → Buf Val ℓ) (c : Dev nD) (t : Fin 7) :
    (((item t).arg.view.loc (c.tc : Thread nD τ)) ↦{fullShare} m ((item t).arg.view.loc (c.tc : Thread nD τ)))
      ⊢ (iprop(source plan (half m) (half m) c (.inl t) ∗ source plan (half m) (half m) c (.inr t)) : sProp 𝕄) :=
  (owns_array c.tc (item t).arg (item t).harg fullShare _).trans (owns_halves c.tc (item t).arg fullShare _).1

theorem off_ne (t : Fin 7) (c : Dev nD) :
    (item t).off c 0 + 1 ≤ (item t).off ((peer t).symm c) 0 ∨ (item t).off ((peer t).symm c) 0 + 1 ≤ (item t).off c 0 := by
  have h : ((peer t).symm c).val = 2 * (c.val / 2) + (1 - c.val % 2) := (item t).hpeer c
  rw [(item t).hoff, (item t).hoff, h]
  show c.val % 2 + 1 ≤ _ % 2 ∨ _ % 2 + 1 ≤ c.val % 2
  omega

theorem places (m : (ℓ : Loc nD τ sig) → Buf Val ℓ) (c : Dev nD) (t : Fin 7) :
    (((item t).res.view.loc (c.tc : Thread nD τ)) ↦{fullShare} m ((item t).res.view.loc (c.tc : Thread nD τ)))
      ⊢ (iprop(room plan c (.inl t) ∗ hall plan c t) : sProp 𝕄) := by
  have h := scatter (nD := nD) (τ := τ) (Val := Val) (T := Fin 2) (ℓ := (item t).res.view.loc (c.tc : Thread nD τ)) (S := Finset.univ) (q := fullShare)
    (f := m ((item t).res.view.loc (c.tc : Thread nD τ))) ![(slot t c).view.set, (slot t ((peer t).symm c)).view.set] (fun _ => Finset.subset_univ _)
    (by
      have hd : Disjoint (slot t c).view.set (slot t ((peer t).symm c)).view.set := box_disjoint (item t).res 0 (off_ne t c)
      intro k k' hk
      fin_cases k <;> fin_cases k'
      · exact absurd rfl hk
      · exact hd
      · exact hd.symm
      · exact absurd rfl hk)
  refine h.trans ?_
  rw [BI.bigSep_fin_two]
  show iprop((((item t).res.view.loc (c.tc : Thread nD τ)) ↦[(slot t c).view.set]{fullShare} m ((item t).res.view.loc (c.tc : Thread nD τ)))
    ∗ (((item t).res.view.loc (c.tc : Thread nD τ)) ↦[(slot t ((peer t).symm c)).view.set]{fullShare} m ((item t).res.view.loc (c.tc : Thread nD τ)))) ⊢ _
  iintro ⟨H1, H2⟩
  isplitl [H1]
  · unfold room
    iexists m ((item t).res.view.loc (c.tc : Thread nD τ))
    iexact H1
  · unfold hall
    iexists m ((item t).res.view.loc (c.tc : Thread nD τ))
    iexact H2

theorem split (m : (ℓ : Loc nD τ sig) → Buf Val ℓ) (c : Dev nD) :
    (unscopedBufs c fun r => m ((c.tc : Thread nD τ).loc r)) ⊢ (stock plan (half m) (half m) first c : sProp 𝕄) := by
  have hf : first = (List.finRange 7).map Sum.inr ++ (List.finRange 7).map Sum.inl := by decide
  refine (arrays_dealt c _ ((List.finRange 7).map (fun t => (item t).arg.view.ref) ++ (List.finRange 7).map fun t => (item t).res.view.ref)
    (by decide) (by decide)).trans ?_
  unfold stock
  rw [hf, bigSepL_append, bigSepL_append, bigSepL_map, bigSepL_map, bigSepL_map, bigSepL_map, ← chain_fin, ← chain_fin, ← chain_fin, ← chain_fin]
  iintro ⟨H1, H2⟩
  ihave H1 := (halves (sent m c)) $$ H1
  ihave H2 := (halves (places m c)) $$ H2
  icases H1 with ⟨Ha, Hb⟩
  icases H2 with ⟨Hc, Hd⟩
  isplitl [Ha Hb]
  · isplitl [Hb] <;> iassumption
  isplitl [Hc] <;> iassumption

end Memory

theorem defs_run (m : (ℓ : Loc nD τ sig) → Buf (Elt F) ℓ) (g : Dev nD → PrngReg) :
    θ_run (defs (F := F)) (onTc main) ⟨m, fun _ => 0, g⟩ fun r =>
      (∀ c : Dev nD, ∀ q ∈ rest, shown plan (half m) (half m) r.2.mem c q)
        ∧ ∀ g' : GSem nD τ sig, (g'.1.2 ≠ .tc ∨ g'.2.isScoped .tc = true) → r.2.sem g' = 0 :=
  whole plan (half m) (half m) fits cfg0 order (fun _ _ => Topo.routes_tc _ _) (by simp) (inferInstanceAs (IsEmpty (Fin 0))) N_0 (inferInstanceAs (IsEmpty (Fin 0))) cellOf_inj winFacts0
    ⟨by decide, fun _ _ h => fits.sem_inj (SemLoc.dma.inj h), by decide⟩ scopedRest0_eq defs₀ (fun t s c Q => by rw [body_eq t s]) m g main (fun _ => rfl) (split m)

/-- The device of `c`'s pair whose core number is `k`. -/
def member (c : Dev nD) (k : Fin 2) : Dev nD := ⟨2 * (c.val / 2) + k.val, by have : c.val < 8 := c.isLt; show _ < 8; omega⟩

theorem member_cases (t : Fin 7) (c : Dev nD) (k : Fin 2) : member c k = c ∨ member c k = (peer t).symm c := by
  have h : ((peer t).symm c).val = 2 * (c.val / 2) + (1 - c.val % 2) := (item t).hpeer c
  have hk := k.isLt
  by_cases e : k.val = c.val % 2
  · exact .inl (Fin.ext (by show 2 * (c.val / 2) + k.val = _; omega))
  · exact .inr (Fin.ext (by rw [h]; show 2 * (c.val / 2) + k.val = _; omega))

/-- From any memory the program terminates with every half where it was, and on every device both halves of each gradient, in order. -/
theorem shared (m : (ℓ : Loc nD τ sig) → Buf (Elt F) ℓ) (g : Dev nD → PrngReg) :
    θ_run (defs (F := F)) (onTc main) ⟨m, fun _ => 0, g⟩ fun r =>
      (∀ (c : Dev nD) (t : Fin 7), half r.2.mem t c = half m t c
        ∧ ∀ i, (item t).res.view.read (Elt F) (r.2.mem ((item t).res.view.loc (c.tc : Thread nD τ))) i = half m t (member c (i 0)) (at2 (i 1) (i 2)))
        ∧ r.2.sem = fun _ => 0 := by
  refine (θ_run _ _ _).mono (fun r h => ⟨fun c t => ?_, sem_eq_zero_of_scoped (by decide) h.2⟩) (defs_run m g)
  have hs : shown plan (half m) (half m) r.2.mem c (.inr (.inl t)) := h.1 c _ (order.mem_send t)
  have hk : shown plan (half m) (half m) r.2.mem c (.inl t) := h.1 c _ (order.mem_keep t)
  have hr : shown plan (half m) (half m) r.2.mem c (.inr (.inr t)) := h.1 c _ (order.mem_late (mem_late t))
  refine ⟨hs, fun i => ?_⟩
  have hm (d : Dev nD) (hd : d = member c (i 0)) : (i 0).val = d.val % 2 := by
    have h2 : (i 0).val < 2 := (i 0).isLt
    rw [hd]; show _ = (2 * (c.val / 2) + (i 0).val) % 2; omega
  have hat (d : Dev nD) (hd : d = member c (i 0)) : (slot t d).view.read (Elt F) (r.2.mem ((item t).res.view.loc (c.tc : Thread nD τ))) (at2 (i 1) (i 2))
      = (item t).res.view.read (Elt F) (r.2.mem ((item t).res.view.loc (c.tc : Thread nD τ))) i :=
    slab_at (item t).res ((item t).hoff d) _ _ i (hm d hd) rfl rfl
  rcases member_cases t c (i 0) with e | e
  · rw [e, ← hat c e.symm]
    exact congrFun hk.1 _
  · rw [e, ← hat _ e.symm]
    exact congrFun hr _

end Cert.PairShareIdeal

end
-- ==== Proof.ShareClaims.lean ====
/-
  The claims about the two halves of each summed gradient.
-/
module

public import proofs.«01_k».proof.Defs
public import proofs.«01_k».proof.Proof.Share
public import proofs.«01_k».proof.Proof.Gen.PairShare
public import proofs.«01_k».proof.Proof.Gen.PairShareReference.Run
public import proofs.«01_k».proof.Proof.Gen.PairShareReferenceIdeal.Run
public import Idealize.ShloMosaic.Lib.Layout
public import Idealize.ShloMosaic.Lib.Pipeline.Value

@[expose] public section

set_option Elab.async false

noncomputable section

namespace Cert.PairShareIdeal

open Idealize Idealize.ShloMosaic Idealize.SL Idealize.SL.Sem TcCoe Cert.Copies Gen

variable {F : FTy → Type} [FloatOps F]

/-- Eight halves laid one after another, seen as eight slabs: a chip's two slabs are its two devices' halves. -/
theorem stacked {α : Type} {p q n : ℕ} (X : Shape.Idx ⟨2, ![n, q]⟩ → α) (hT : Layout.Tiles ⟨2, ![p, q]⟩ ⟨2, ![n, q]⟩ 0 8)
    (hc : Shape.ShapeCasts ⟨2, ![n, q]⟩ ⟨3, ![8, p, q]⟩) (c : Dev nD) (R : Shape.Idx ⟨3, ![2, p, q]⟩ → α) (A : Dev nD → Shape.Idx ⟨2, ![p, q]⟩ → α)
    (hA : ∀ d, A d = Layout.block ⟨2, ![p, q]⟩ ⟨2, ![n, q]⟩ 0 8 d X hT) (hR : ∀ i, R i = A (member c (i 0)) (at2 (i 1) (i 2)))
    (hN : Layout.TilesN ⟨3, ![2, p, q]⟩ ⟨3, ![8, p, q]⟩ fun b => Layout.cutSize [2, 2, 2] ((![[0, 1], [], []] : Fin 3 → List ℕ) b)) :
    R = Layout.blockN ⟨3, ![2, p, q]⟩ ⟨3, ![8, p, q]⟩ (Layout.meshBlock [2, 2, 2] ![[0, 1], [], []] c) (shapeCast ⟨3, ![8, p, q]⟩ X hc) hN := by
  funext i
  rw [hR, hA, Layout.block_apply, Layout.blockN_apply]
  refine (shapeCast_apply X hc _ _ ?_).symm
  rw [Shape.rowMajor_val_two, Shape.rowMajor_val_three]
  have hc : c.val < 8 := c.isLt
  have h : (c.val / 4 % 2 * 2 + (c.val / 2 % 2 * 1 + 0)) * 2 = 2 * (c.val / 2) := by omega
  show ((2 * (c.val / 2) + (i 0).val) * p + (i 1).val) * q + (i 2).val
    = (((c.val / 4 % 2 * 2 + (c.val / 2 % 2 * 1 + 0)) * 2 + (i 0).val) * p + (0 * p + (i 1).val)) * q + (0 * q + (i 2).val)
  rw [h, Nat.zero_mul, Nat.zero_add, Nat.zero_mul, Nat.zero_add]

theorem tiles (t : Fin 7) : Layout.Tiles ⟨2, ![(item t).p, (item t).q]⟩ ⟨2, ![8 * (item t).p, (item t).q]⟩ 0 8 := by revert t; decide

theorem casts (t : Fin 7) : Shape.ShapeCasts ⟨2, ![8 * (item t).p, (item t).q]⟩ ⟨3, ![8, (item t).p, (item t).q]⟩ := by revert t; decide

theorem slabs (t : Fin 7) : Layout.TilesN ⟨3, ![2, (item t).p, (item t).q]⟩ ⟨3, ![8, (item t).p, (item t).q]⟩
    fun b => Layout.cutSize [2, 2, 2] ((![[0, 1], [], []] : Fin 3 → List ℕ) b) := by revert t; decide

/-- If the devices hold the blocks of whole arrays `X`, each ends with its block of the reshaped arrays. -/
theorem blocks (m : (ℓ : Loc nD τ sig) → Buf (Elt F) ℓ) (g : Dev nD → PrngReg)
    (X : (t : Fin 7) → Shape.Idx ⟨2, ![8 * (item t).p, (item t).q]⟩ → Elt F .f32)
    (hX : ∀ (c : Dev nD) (t : Fin 7), half m t c = Layout.block _ _ 0 8 c (X t) (tiles t)) :
    θ_run (defs (F := F)) (onTc main) ⟨m, fun _ => 0, g⟩ fun r => ∀ c : Dev nD,
      (∀ t, (item t).res.view.read (Elt F) (r.2.mem ((item t).res.view.loc (c.tc : Thread nD τ)))
        = Layout.blockN _ _ (Layout.meshBlock [2, 2, 2] ![[0, 1], [], []] c) (shapeCast _ (X t) (casts t)) (slabs t))
      ∧ ∀ t, half r.2.mem t c = half m t c :=
  (θ_run _ _ _).mono (fun r h c => ⟨fun t => stacked (X t) (tiles t) (casts t) c _ (half m t) (fun d => hX d t) (h.1 c t).2 (slabs t),
    fun t => (h.1 c t).1⟩) (shared m g)

/-- The whole arrays, as the reference holds them. -/
def wholes (m' : (ℓ : Loc PairShareReferenceIdeal.nD PairShareReferenceIdeal.τ PairShareReferenceIdeal.sig) → Buf (Elt F) ℓ) :
    (t : Fin 7) → Shape.Idx ⟨2, ![8 * (item t).p, (item t).q]⟩ → Elt F .f32
  | 0 => m' (((0 : Dev PairShareReferenceIdeal.nD).tc : Thread PairShareReferenceIdeal.nD PairShareReferenceIdeal.τ).loc PairShareReferenceIdeal.main_arg0)
  | 1 => m' (((0 : Dev PairShareReferenceIdeal.nD).tc : Thread PairShareReferenceIdeal.nD PairShareReferenceIdeal.τ).loc PairShareReferenceIdeal.main_arg1)
  | 2 => m' (((0 : Dev PairShareReferenceIdeal.nD).tc : Thread PairShareReferenceIdeal.nD PairShareReferenceIdeal.τ).loc PairShareReferenceIdeal.main_arg2)
  | 3 => m' (((0 : Dev PairShareReferenceIdeal.nD).tc : Thread PairShareReferenceIdeal.nD PairShareReferenceIdeal.τ).loc PairShareReferenceIdeal.main_arg3)
  | 4 => m' (((0 : Dev PairShareReferenceIdeal.nD).tc : Thread PairShareReferenceIdeal.nD PairShareReferenceIdeal.τ).loc PairShareReferenceIdeal.main_arg4)
  | 5 => m' (((0 : Dev PairShareReferenceIdeal.nD).tc : Thread PairShareReferenceIdeal.nD PairShareReferenceIdeal.τ).loc PairShareReferenceIdeal.main_arg5)
  | 6 => m' (((0 : Dev PairShareReferenceIdeal.nD).tc : Thread PairShareReferenceIdeal.nD PairShareReferenceIdeal.τ).loc PairShareReferenceIdeal.main_arg6)

/-- Seven facts, by number. -/
theorem of_seven {P : Fin 7 → Prop} (h : P 0 ∧ P 1 ∧ P 2 ∧ P 3 ∧ P 4 ∧ P 5 ∧ P 6) : ∀ t, P t
  | 0 => h.1
  | 1 => h.2.1
  | 2 => h.2.2.1
  | 3 => h.2.2.2.1
  | 4 => h.2.2.2.2.1
  | 5 => h.2.2.2.2.2.1
  | 6 => h.2.2.2.2.2.2

theorem to_seven {P : Fin 7 → Prop} (h : ∀ t, P t) : P 0 ∧ P 1 ∧ P 2 ∧ P 3 ∧ P 4 ∧ P 5 ∧ P 6 := ⟨h 0, h 1, h 2, h 3, h 4, h 5, h 6⟩

/-- What the program leaves of its own arrays and of its semaphores. -/
theorem kept (m : (ℓ : Loc nD τ sig) → Buf (Elt F) ℓ) (g : Dev nD → PrngReg) :
    θ_run (defs (F := F)) (onTc main) ⟨m, fun _ => 0, g⟩ fun r => (∀ c : Dev nD, ∀ t, half r.2.mem t c = half m t c) ∧ r.2.sem = fun _ => 0 :=
  (θ_run _ _ _).mono (fun r h => ⟨fun c t => (h.1 c t).1, h.2⟩) (shared m g)

theorem frame_bits : Cert.quiescent_PairShare := fun m g _ =>
  (θ_run Cert.PairShareIdeal.defs _ _).mono (fun r h => ⟨fun c => to_seven (h.1 c), h.2⟩) (kept (F := Bits) m g)

theorem frame_ideal : Cert.quiescent_PairShareIdeal := fun m g _ =>
  (θ_run _ _ _).mono (fun r h => ⟨fun c => to_seven (h.1 c), h.2⟩) (kept (F := Ideal) m g)

theorem frame_reference : Cert.quiescent_PairShareReferenceIdeal := fun m g _ =>
  (θ_run _ _ _).mono (fun r h => ⟨fun c => (h c).2.2.2.2.2.2.2, sem_eq_zero_of_no_sems rfl _⟩) (PairShareReferenceIdeal.Value.run (F := Ideal) m g)

theorem frame_reference_bits : Cert.quiescent_PairShareReference := fun m g _ =>
  (θ_run _ _ _).mono (fun r h => ⟨fun c => (h c).2.2.2.2.2.2.2, sem_eq_zero_of_no_sems rfl _⟩) (PairShareReference.Value.run (F := Bits) m g)

theorem algebraic : Cert.algebraic_PairShareIdeal_PairShareReferenceIdeal := fun m g m' g' _ h =>
  ⟨_, _, _, _, _, _, _, (θ_run _ _ _).mono (fun r hr c => ⟨(hr c).1 0, (hr c).1 1, (hr c).1 2, (hr c).1 3, (hr c).1 4, (hr c).1 5, (hr c).1 6,
      (hr c).2 0, (hr c).2 1, (hr c).2 2, (hr c).2 3, (hr c).2 4, (hr c).2 5, (hr c).2 6⟩)
    (blocks (F := Ideal) m g (wholes m') fun c => of_seven (h c)), (θ_run _ _ _).mono (fun r hr => hr 0) (PairShareReferenceIdeal.Value.run (F := Ideal) m' g')⟩

theorem bitexact : Cert.bitexact_PairShare_PairShareReference := fun m g m' g' _ h =>
  ⟨_, _, _, _, _, _, _, (θ_run _ _ _).mono (fun r hr c => ⟨(hr c).1 0, (hr c).1 1, (hr c).1 2, (hr c).1 3, (hr c).1 4, (hr c).1 5, (hr c).1 6,
      (hr c).2 0, (hr c).2 1, (hr c).2 2, (hr c).2 3, (hr c).2 4, (hr c).2 5, (hr c).2 6⟩)
    (blocks (F := Bits) m g (wholes m') fun c => of_seven (h c)), (θ_run _ _ _).mono (fun r hr => hr 0) (PairShareReferenceIdeal.Value.run (F := Bits) m' g')⟩

end Cert.PairShareIdeal

end
-- ==== Proof.Pair.lean ====
/-
  The two devices of a pair exchange the halves of their gradients.
-/
module

public import proofs.«01_k».proof.Proof.ShareClaims
public import proofs.«01_k».proof.Proof.Gen.PairExchangeIdeal.Launch

@[expose] public section

set_option Elab.async false

noncomputable section

namespace Cert.PairExchangeIdeal

open Idealize Idealize.ShloMosaic Idealize.SL
open Idealize.SL.BI (sProp bigSep bigSepL bigSepL_append bigSepL_map bigSep_mono bigSep_congr bigSep_sep')
open scoped Idealize.SL.BI
open Idealize.SL.BI.BIBase Idealize.SL.BI.Laws Idealize.SL.Sem Idealize.SL.ProofMode
open Idealize.SL.RA
open TcCoe PCS Pipeline Cert.Copies Gen

variable {F : FTy → Type} [FloatOps F]

/-- One of the seven gradients: both halves as a device computed them, the half it keeps, the half it is sent, and the
    places of its own half and of its sibling's. -/
structure Item where
  {p q : ℕ}
  arg : Memref sig .tc .hbm ⟨4, ![4, 2, p, q]⟩ .bf16
  mine : Memref sig .tc .hbm ⟨3, ![4, p, q]⟩ .bf16
  theirs : Memref sig .tc .hbm ⟨3, ![4, p, q]⟩ .bf16
  harg : arg.IsWhole
  hmine : mine.IsWhole
  htheirs : theirs.IsWhole
  own : Dev nD → Fin 4 → ℕ
  own_inb : ∀ c a, own c a + (![4, 1, p, q] : Fin 4 → ℕ) a ≤ (![4, 2, p, q] : Fin 4 → ℕ) a
  own_words : ∀ c, (Rect.unit (s := ⟨4, ![4, 2, p, q]⟩) (own c) ![4, 1, p, q] (own_inb c)).WholeWords (EltTy.packing .bf16)
  hown : ∀ c, own c = ![0, c.val % 2, 0, 0]
  off : Dev nD → Fin 4 → ℕ
  inb : ∀ c a, off c a + (![4, 1, p, q] : Fin 4 → ℕ) a ≤ (![4, 2, p, q] : Fin 4 → ℕ) a
  words : ∀ c, (Rect.unit (s := ⟨4, ![4, 2, p, q]⟩) (off c) ![4, 1, p, q] (inb c)).WholeWords (EltTy.packing .bf16)
  hoff : ∀ c, off c = ![0, 1 - c.val % 2, 0, 0]
  sq : Shape.Squeezes ⟨4, ![4, 1, p, q]⟩ ⟨3, ![4, p, q]⟩
  peer : Dev nD → ℕ
  lt : ∀ c, peer c < nD
  hpeer : ∀ c : Dev nD, peer c = 2 * (c.val / 2) + (1 - c.val % 2)

/-- The seven gradients. -/
def item : Fin 7 → Item
  | 0 => ⟨Memref.whole main_arg0, Memref.whole main_v1_0, Memref.whole main_v1_7, Memref.isWhole_whole _, Memref.isWhole_whole _, Memref.isWhole_whole _, k0_off6, k0_off6_inb, k0_off6_wordsbf16, by decide, k0_off1, k0_off1_inb, k0_off1_wordsbf16, by decide, squeezes_S4x1x512x768_S4x512x768, k0_dev1, k0_dev1_lt, by decide⟩
  | 1 => ⟨Memref.whole main_arg1, Memref.whole main_v1_1, Memref.whole main_v1_8, Memref.isWhole_whole _, Memref.isWhole_whole _, Memref.isWhole_whole _, k0_off7, k0_off7_inb, k0_off7_wordsbf16, by decide, k0_off2, k0_off2_inb, k0_off2_wordsbf16, by decide, squeezes_S4x1x128x1024_S4x128x1024, k0_dev2, k0_dev2_lt, by decide⟩
  | 2 => ⟨Memref.whole main_arg2, Memref.whole main_v1_2, Memref.whole main_v1_9, Memref.isWhole_whole _, Memref.isWhole_whole _, Memref.isWhole_whole _, k0_off8, k0_off8_inb, k0_off8_wordsbf16, by decide, k0_off3, k0_off3_inb, k0_off3_wordsbf16, by decide, squeezes_S4x1x1024x704_S4x1024x704, k0_dev3, k0_dev3_lt, by decide⟩
  | 3 => ⟨Memref.whole main_arg3, Memref.whole main_v1_3, Memref.whole main_v1_10, Memref.isWhole_whole _, Memref.isWhole_whole _, Memref.isWhole_whole _, k0_off8, k0_off8_inb, k0_off8_wordsbf16, by decide, k0_off3, k0_off3_inb, k0_off3_wordsbf16, by decide, squeezes_S4x1x1024x704_S4x1024x704, k0_dev4, k0_dev4_lt, by decide⟩
  | 4 => ⟨Memref.whole main_arg4, Memref.whole main_v1_4, Memref.whole main_v1_11, Memref.isWhole_whole _, Memref.isWhole_whole _, Memref.isWhole_whole _, k0_off9, k0_off9_inb, k0_off9_wordsbf16, by decide, k0_off4, k0_off4_inb, k0_off4_wordsbf16, by decide, squeezes_S4x1x704x1024_S4x704x1024, k0_dev5, k0_dev5_lt, by decide⟩
  | 5 => ⟨Memref.whole main_arg5, Memref.whole main_v1_5, Memref.whole main_v1_12, Memref.isWhole_whole _, Memref.isWhole_whole _, Memref.isWhole_whole _, k0_off10, k0_off10_inb, k0_off10_wordsbf16, by decide, k0_off5, k0_off5_inb, k0_off5_wordsbf16, by decide, squeezes_S4x1x512x2304_S4x512x2304, k0_dev6, k0_dev6_lt, by decide⟩
  | 6 => ⟨Memref.whole main_arg6, Memref.whole main_v1_6, Memref.whole main_v1_13, Memref.isWhole_whole _, Memref.isWhole_whole _, Memref.isWhole_whole _, k0_off7, k0_off7_inb, k0_off7_wordsbf16, by decide, k0_off2, k0_off2_inb, k0_off2_wordsbf16, by decide, squeezes_S4x1x128x1024_S4x128x1024, k0_dev7, k0_dev7_lt, by decide⟩

/-- The half a device keeps. -/
abbrev kept (t : Fin 7) (c : Dev nD) : Memref sig .tc .hbm ⟨3, ![4, (item t).p, (item t).q]⟩ .bf16 :=
  box (item t).arg ((item t).own c) ![4, 1, (item t).p, (item t).q] ((item t).own_inb c) (item t).sq

/-- The half a device sends. -/
abbrev gone (t : Fin 7) (c : Dev nD) : Memref sig .tc .hbm ⟨3, ![4, (item t).p, (item t).q]⟩ .bf16 :=
  box (item t).arg ((item t).off c) ![4, 1, (item t).p, (item t).q] ((item t).inb c) (item t).sq

theorem one_in (t : Fin 7) : ∀ a, (![t.val] : Fin 1 → ℕ) a + (![1] : Fin 1 → ℕ) a ≤ (![7] : Fin 1 → ℕ) a := by
  revert t; decide

def keep (t : Fin 7) (c : Dev nD) : Leg sig :=
  ⟨kept t c, (item t).mine, ((item t).harg.wordExact_slice rfl _ ((item t).own_words c)).reshape _ _, (item t).hmine.wordExact, rfl⟩

def move (t : Fin 7) (c : Dev nD) : Leg sig :=
  ⟨gone t c, (item t).theirs, ((item t).harg.wordExact_slice rfl _ ((item t).words c)).reshape _ _, (item t).htheirs.wordExact, rfl⟩

def sems : Cell 7 7 → DmaSem sig
  | .inl t => semAt hcc0_scratch2 t.val (one_in t) squeezes_S1_S_
  | .inr (.inl t) => semAt hcc0_scratch0 t.val (one_in t) squeezes_S1_S_
  | .inr (.inr t) => semAt hcc0_scratch1 t.val (one_in t) squeezes_S1_S_

/-- The other device of the pair, as the kernel computes it for gradient `t`. -/
def peer (t : Fin 7) : Dev nD ≃ Dev nD :=
  have h : Function.Involutive fun c : Dev nD => (⟨(item t).peer c, (item t).lt c⟩ : Dev nD) := fun c => Fin.ext (by
    show (item t).peer _ = _
    rw [(item t).hpeer]
    show 2 * ((item t).peer c / 2) + (1 - (item t).peer c % 2) = c.val
    rw [(item t).hpeer]
    omega)
  ⟨fun c => ⟨(item t).peer c, (item t).lt c⟩, fun c => ⟨(item t).peer c, (item t).lt c⟩, h, h⟩

def plan : Plan nD sig 7 7 where
  sem := sems
  keep := keep
  move := move
  peer := peer
  spot
    | .inl t, c => ⟨(item t).mine⟩
    | .inr (.inl t), c => ⟨gone t c⟩
    | .inr (.inr t), c => ⟨(item t).theirs⟩
  qk _ := fullShare
  qm _ := fullShare
  amt
    | .inl t => RefSig.tileCredit ⟨3, ![4, (item t).p, (item t).q]⟩ .bf16
    | .inr (.inl t) => RefSig.tileCredit ⟨3, ![4, (item t).p, (item t).q]⟩ .bf16
    | .inr (.inr t) => RefSig.tileCredit ⟨3, ![4, (item t).p, (item t).q]⟩ .bf16

def first : List (Fin 7 ⊕ Fin 7) := [.inr 0, .inr 1, .inr 2, .inr 3, .inr 4, .inr 5, .inr 6, .inl 0, .inl 1, .inl 2, .inl 3, .inl 4, .inl 5, .inl 6]

def late : List (Fin 7) := [0, 1, 2, 3, 4, 5, 6]

def rest : List (Cell 7 7) := (late.flatMap fun t => [.inr (.inl t), .inr (.inr t)]) ++ late.map .inl

set_option maxRecDepth 20000 in
theorem body_eq (t : Fin cfg0.N) (s : (w : Fin cfg0.W) → Fin (cfg0.win w).nbuf) :
    (defs₀ (F := F) .tc cfg0.body (cfg0.bodyArgs t s) : Prog (TpuEff nD τ sig (Elt F) Λ₀ .tc) PUnit)
      = .op .deviceId fun d => run (effects plan d first [] rest) (.ret ⟨⟩) := rfl

theorem fits : plan.Fits where
  sem_inj := by
    rintro (s | s | s) (t | t | t) h <;> have h := congrArg Fin.val h <;> simp only [plan, sems, semAt_val] at h <;>
      first
        | (obtain rfl : s = t := Fin.ext (by omega); rfl)
        | (exfalso; have := s.isLt; have := t.isLt; omega)
  amt_pos q := by rcases q with t | t | t <;> (revert t; decide)
  keep_amt _ _ := rfl
  send_amt _ _ := rfl
  recv_amt _ _ := rfl
  spot_amt q _ := by rcases q with t | t | t <;> rfl

theorem mem_late (t : Fin 7) : t ∈ late := by revert t; decide

theorem order : Order first [] late rest where
  starts := by decide
  arrivals := by decide
  waits := by decide
  apart := by decide

section Memory
variable {Val : EltTy → Type}

local notation "𝕄" => MT nD τ sig Unit Val ℕ (UU nD τ sig) ℕ

/-- Gradient `t` as device `c` holds it, and its two halves as the copies read them. -/
def whole_at (m : (ℓ : Loc nD τ sig) → Buf Val ℓ) (t : Fin 7) (c : Dev nD) : Shape.Idx ⟨4, ![4, 2, (item t).p, (item t).q]⟩ → Val .bf16 :=
  (item t).arg.view.read Val (m ((item t).arg.view.loc (c.tc : Thread nD τ)))

def kept_at (m : (ℓ : Loc nD τ sig) → Buf Val ℓ) (t : Fin 7) (c : Dev nD) : Shape.Idx ⟨3, ![4, (item t).p, (item t).q]⟩ → Val .bf16 :=
  (kept t c).view.read Val (m ((item t).arg.view.loc (c.tc : Thread nD τ)))

def gone_at (m : (ℓ : Loc nD τ sig) → Buf Val ℓ) (t : Fin 7) (c : Dev nD) : Shape.Idx ⟨3, ![4, (item t).p, (item t).q]⟩ → Val .bf16 :=
  (gone t c).view.read Val (m ((item t).arg.view.loc (c.tc : Thread nD τ)))

theorem sources (m : (ℓ : Loc nD τ sig) → Buf Val ℓ) (c : Dev nD) (t : Fin 7) :
    (((item t).arg.view.loc (c.tc : Thread nD τ)) ↦{fullShare} m ((item t).arg.view.loc (c.tc : Thread nD τ)))
      ⊢ (iprop(source plan (kept_at m) (gone_at m) c (.inl t) ∗ source plan (kept_at m) (gone_at m) c (.inr t)) : sProp 𝕄) := by
  have h := boxes_owned (τ := τ) (Val := Val) c (item t).arg (![(item t).own c, (item t).off c] : Fin 2 → _) (fun | 0 => (item t).own_inb c | 1 => (item t).inb c) (item t).sq 1
    (by
      have : c.val % 2 + 1 ≤ 1 - c.val % 2 ∨ 1 - c.val % 2 + 1 ≤ c.val % 2 := by omega
      rw [(item t).hown, (item t).hoff]
      intro k k' hk
      fin_cases k <;> fin_cases k'
      · exact absurd rfl hk
      · exact this
      · exact this.symm
      · exact absurd rfl hk) fullShare (m ((item t).arg.view.loc (c.tc : Thread nD τ)))
  rw [BI.bigSep_fin_two] at h
  exact h

theorem split (m : (ℓ : Loc nD τ sig) → Buf Val ℓ) (c : Dev nD) :
    (unscopedBufs c fun r => m ((c.tc : Thread nD τ).loc r)) ⊢ (stock plan (kept_at m) (gone_at m) first c : sProp 𝕄) := by
  have hf : first = (List.finRange 7).map Sum.inr ++ (List.finRange 7).map Sum.inl := by decide
  refine (arrays_dealt c _ ((List.finRange 7).map (fun t => (item t).arg.view.ref) ++ ((List.finRange 7).map (fun t => (item t).mine.view.ref)
    ++ (List.finRange 7).map fun t => (item t).theirs.view.ref)) (by decide) (by decide)).trans ?_
  unfold stock
  rw [hf, bigSepL_append, bigSepL_append, bigSepL_append, bigSepL_map, bigSepL_map, bigSepL_map, bigSepL_map, bigSepL_map,
    ← chain_fin, ← chain_fin, ← chain_fin, ← chain_fin, ← chain_fin]
  iintro ⟨H1, H2, H3⟩
  ihave H1 := (halves (sources m c)) $$ H1
  icases H1 with ⟨Ha, Hb⟩
  isplitl [Ha Hb]
  · isplitl [Hb] <;> iassumption
  isplitl [H2]
  · iapply (show _ ⊢ _ from bigSep_mono fun t _ => whole_place (item t).mine (item t).hmine c (m ((item t).mine.view.loc (c.tc : Thread nD τ))))
    iexact H2
  · iapply (show _ ⊢ _ from bigSep_mono fun t _ => whole_place (item t).theirs (item t).htheirs c (m ((item t).theirs.view.loc (c.tc : Thread nD τ))))
    iexact H3

end Memory

theorem defs_run (m : (ℓ : Loc nD τ sig) → Buf (Elt F) ℓ) (g : Dev nD → PrngReg) :
    θ_run (defs (F := F)) (onTc main) ⟨m, fun _ => 0, g⟩ fun r =>
      (∀ c : Dev nD, ∀ q ∈ rest, shown plan (kept_at m) (gone_at m) r.2.mem c q)
        ∧ ∀ g' : GSem nD τ sig, (g'.1.2 ≠ .tc ∨ g'.2.isScoped .tc = true) → r.2.sem g' = 0 :=
  whole plan (kept_at m) (gone_at m) fits cfg0 order (fun _ _ => Topo.routes_tc _ _) (by simp) (inferInstanceAs (IsEmpty (Fin 0))) N_0
    (inferInstanceAs (IsEmpty (Fin 0))) cellOf_inj winFacts0 ⟨by decide, fun _ _ h => fits.sem_inj (SemLoc.dma.inj h), by decide⟩ scopedRest0_eq defs₀
    (fun t s c Q => by rw [body_eq t s]) m g main (fun _ => rfl) (split m)

/-- The other device of the pair, and a device's core number. -/
def sibling (c : Dev nD) : Dev nD := ⟨2 * (c.val / 2) + (1 - c.val % 2), by have : c.val < 8 := c.isLt; show _ < 8; omega⟩

def core (c : Dev nD) : Fin 2 := ⟨c.val % 2, by omega⟩

/-- From any memory the program terminates with the gradients as they were, and on every device its own half of its own gradients and
    the same half of its sibling's. -/
theorem exchanged (m : (ℓ : Loc nD τ sig) → Buf (Elt F) ℓ) (g : Dev nD → PrngReg) :
    θ_run (defs (F := F)) (onTc main) ⟨m, fun _ => 0, g⟩ fun r =>
      (∀ (c : Dev nD) (t : Fin 7), whole_at r.2.mem t c = whole_at m t c
        ∧ (∀ i, (item t).mine.view.read (Elt F) (r.2.mem ((item t).mine.view.loc (c.tc : Thread nD τ))) i = whole_at m t c (at4 (i 0) (core c) (i 1) (i 2)))
        ∧ ∀ i, (item t).theirs.view.read (Elt F) (r.2.mem ((item t).theirs.view.loc (c.tc : Thread nD τ))) i
          = whole_at m t (sibling c) (at4 (i 0) (core c) (i 1) (i 2)))
        ∧ r.2.sem = fun _ => 0 := by
  refine (θ_run _ _ _).mono (fun r h => ⟨fun c t => ?_, sem_eq_zero_of_scoped (by decide) h.2⟩) (defs_run m g)
  have hs : shown plan (kept_at m) (gone_at m) r.2.mem c (.inr (.inl t)) := h.1 c _ (order.mem_send t)
  have hk : shown plan (kept_at m) (gone_at m) r.2.mem c (.inl t) := h.1 c _ (order.mem_keep t)
  have hr : shown plan (kept_at m) (gone_at m) r.2.mem c (.inr (.inr t)) := h.1 c _ (order.mem_late (mem_late t))
  have hK (d : Dev nD) (f) (x : Shape.Idx ⟨3, ![4, (item t).p, (item t).q]⟩) (i : Shape.Idx ⟨4, ![4, 2, (item t).p, (item t).q]⟩)
      (h0 : (i 0).val = (x 0).val) (h1 : (i 1).val = d.val % 2) (h2 : (i 2).val = (x 1).val) (h3 : (i 3).val = (x 2).val) :
      (kept t d).view.read (Elt F) f x = (item t).arg.view.read (Elt F) f i :=
    column_at (item t).arg ((item t).hown d) f x i h0 h1 h2 h3
  have hG (d : Dev nD) (f) (x : Shape.Idx ⟨3, ![4, (item t).p, (item t).q]⟩) (i : Shape.Idx ⟨4, ![4, 2, (item t).p, (item t).q]⟩)
      (h0 : (i 0).val = (x 0).val) (h1 : (i 1).val = 1 - d.val % 2) (h2 : (i 2).val = (x 1).val) (h3 : (i 3).val = (x 2).val) :
      (gone t d).view.read (Elt F) f x = (item t).arg.view.read (Elt F) f i :=
    column_at (item t).arg ((item t).hoff d) f x i h0 h1 h2 h3
  refine ⟨funext fun i => ?_, fun i => ?_, fun i => ?_⟩
  · have h2 : (i 1).val < 2 := (i 1).isLt
    unfold whole_at
    by_cases e : (i 1).val = c.val % 2
    · rw [← hK c _ (at3 (i 0) (i 2) (i 3)) i rfl e rfl rfl, ← hK c _ (at3 (i 0) (i 2) (i 3)) i rfl e rfl rfl]
      exact congrFun hk.2 _
    · have e : (i 1).val = 1 - c.val % 2 := by omega
      rw [← hG c _ (at3 (i 0) (i 2) (i 3)) i rfl e rfl rfl, ← hG c _ (at3 (i 0) (i 2) (i 3)) i rfl e rfl rfl]
      exact congrFun hs _
  · exact (congrFun hk.1 i).trans (hK c _ i _ rfl rfl rfl rfl)
  · have e : (peer t).symm c = sibling c := Fin.ext ((item t).hpeer c)
    refine (congrFun hr i).trans ?_
    show gone_at m t ((peer t).symm c) i = _
    rw [e]
    exact hG (sibling c) _ i _ rfl (by show c.val % 2 = 1 - (2 * (c.val / 2) + (1 - c.val % 2)) % 2; omega) rfl rfl

end Cert.PairExchangeIdeal

end
-- ==== Proof.PairClaims.lean ====
/-
  The claims about the exchange of the halves within a pair.
-/
module

public import proofs.«01_k».proof.Proof.Pair
public import proofs.«01_k».proof.Proof.Gen.PairExchange
public import proofs.«01_k».proof.Proof.Gen.PairExchangeReference.Run
public import proofs.«01_k».proof.Proof.Gen.PairExchangeReferenceIdeal.Run
public import Idealize.ShloMosaic.Lib.ValueIdxRank6

@[expose] public section

set_option Elab.async false

noncomputable section

namespace Cert.PairExchangeIdeal

open Idealize Idealize.ShloMosaic Idealize.SL Idealize.SL.Sem TcCoe Cert.Copies Gen
open ValueIdx (ix4 ix5 ix6)

variable {F : FTy → Type} [FloatOps F]

/-- One core's half `b` of the gradients of the cores numbered `a`, cut out of the whole array and given back its core axis. -/
theorem piece {α : Type} {p q a b : ℕ} (X : Shape.Idx ⟨4, ![32, 2, p, q]⟩ → α)
    (h₁ : Shape.ShapeCasts ⟨4, ![32, 2, p, q]⟩ ⟨6, ![4, 2, 4, 2, p, q]⟩)
    (h₂ : Shape.Slices ⟨6, ![4, 2, 4, 2, p, q]⟩ ![0, a, 0, b, 0, 0] ⟨6, ![4, 1, 4, 1, p, q]⟩)
    (h₃ : Shape.ShapeCasts ⟨6, ![4, 1, 4, 1, p, q]⟩ ⟨4, ![4, 4, p, q]⟩)
    (h₄ : Shape.BroadcastsInDim ⟨4, ![4, 4, p, q]⟩ ⟨5, ![4, 1, 4, p, q]⟩ ![0, 2, 3, 4])
    (ha : a < 2) (hb : b < 2) (j : Shape.Idx ⟨5, ![4, 1, 4, p, q]⟩) (i : Shape.Idx ⟨4, ![32, 2, p, q]⟩)
    (e₀ : (i 0).val = 8 * (j 0).val + 4 * a + (j 2).val) (e₁ : (i 1).val = b) (e₂ : (i 2).val = (j 3).val) (e₃ : (i 3).val = (j 4).val) :
    broadcastInDim ⟨5, ![4, 1, 4, p, q]⟩ ![0, 2, 3, 4] h₄ (shapeCast ⟨4, ![4, 4, p, q]⟩
      (extractStridedSlice ⟨6, ![4, 1, 4, 1, p, q]⟩ ![0, a, 0, b, 0, 0] (shapeCast ⟨6, ![4, 2, 4, 2, p, q]⟩ X h₁) h₂) h₃) j = X i := by
  refine (broadcastInDim_apply _ h₄ _ j (ix4 (j 0) (j 2) (j 3) (j 4)) ?_).trans ?_
  · intro d
    match d with
    | 0 => rfl
    | 1 => rfl
    | 2 =>
      show (j 3).val = if p = 1 then 0 else (j 3).val
      have : (j 3).val < p := (j 3).isLt
      split <;> omega
    | 3 =>
      show (j 4).val = if q = 1 then 0 else (j 4).val
      have : (j 4).val < q := (j 4).isLt
      split <;> omega
  refine (shapeCast_apply _ h₃ _ (ix6 (j 0) 0 (j 2) 0 (j 3) (j 4)) ?_).trans ?_
  · rw [Shape.rowMajor_val_six, Shape.rowMajor_val_four]
    show (((((j 0).val * 1 + 0) * 4 + (j 2).val) * 1 + 0) * p + (j 3).val) * q + (j 4).val = (((j 0).val * 4 + (j 2).val) * p + (j 3).val) * q + (j 4).val
    simp only [Nat.mul_one, Nat.add_zero]
  refine (extractStridedSlice_apply _ _ h₂ _ (ix6 (j 0) ⟨a, ha⟩ (j 2) ⟨b, hb⟩ (j 3) (j 4)) ?_).trans ?_
  · intro d
    match d with
    | 0 => exact (Nat.zero_add _).symm
    | 1 => rfl
    | 2 => exact (Nat.zero_add _).symm
    | 3 => rfl
    | 4 => exact (Nat.zero_add _).symm
    | 5 => exact (Nat.zero_add _).symm
  refine shapeCast_apply _ h₁ _ i ?_
  rw [Shape.rowMajor_val_six, Shape.rowMajor_val_four]
  show (((i 0).val * 2 + (i 1).val) * p + (i 2).val) * q + (i 3).val
    = (((((j 0).val * 2 + a) * 4 + (j 2).val) * 2 + b) * p + (j 3).val) * q + (j 4).val
  have h : (i 0).val * 2 + (i 1).val = (((j 0).val * 2 + a) * 4 + (j 2).val) * 2 + b := by omega
  rw [h, e₂, e₃]

/-- What the reference's two cores of a chip end with: core 0 half 0 of core `a₀`, core 1 half 1 of core `a₁`. -/
abbrev traded {α : Type} {p q : ℕ} (a₀ a₁ : ℕ) (X : Shape.Idx ⟨4, ![32, 2, p, q]⟩ → α)
    (h₁ : Shape.ShapeCasts ⟨4, ![32, 2, p, q]⟩ ⟨6, ![4, 2, 4, 2, p, q]⟩)
    (h₂ : Shape.Slices ⟨6, ![4, 2, 4, 2, p, q]⟩ ![0, a₀, 0, 0, 0, 0] ⟨6, ![4, 1, 4, 1, p, q]⟩)
    (h₂' : Shape.Slices ⟨6, ![4, 2, 4, 2, p, q]⟩ ![0, a₁, 0, 1, 0, 0] ⟨6, ![4, 1, 4, 1, p, q]⟩)
    (h₃ : Shape.ShapeCasts ⟨6, ![4, 1, 4, 1, p, q]⟩ ⟨4, ![4, 4, p, q]⟩)
    (h₄ : Shape.BroadcastsInDim ⟨4, ![4, 4, p, q]⟩ ⟨5, ![4, 1, 4, p, q]⟩ ![0, 2, 3, 4])
    (h₅ : Shape.Concatenates [⟨5, ![4, 1, 4, p, q]⟩, ⟨5, ![4, 1, 4, p, q]⟩] ⟨5, ![4, 2, 4, p, q]⟩ 1)
    (h₆ : Shape.ShapeCasts ⟨5, ![4, 2, 4, p, q]⟩ ⟨3, ![32, p, q]⟩) : Shape.Idx ⟨3, ![32, p, q]⟩ → α :=
  shapeCast ⟨3, ![32, p, q]⟩ (concatenate ⟨5, ![4, 2, 4, p, q]⟩ 1
    [⟨⟨5, ![4, 1, 4, p, q]⟩, broadcastInDim ⟨5, ![4, 1, 4, p, q]⟩ ![0, 2, 3, 4] h₄ (shapeCast ⟨4, ![4, 4, p, q]⟩
      (extractStridedSlice ⟨6, ![4, 1, 4, 1, p, q]⟩ ![0, a₀, 0, 0, 0, 0] (shapeCast ⟨6, ![4, 2, 4, 2, p, q]⟩ X h₁) h₂) h₃)⟩,
     ⟨⟨5, ![4, 1, 4, p, q]⟩, broadcastInDim ⟨5, ![4, 1, 4, p, q]⟩ ![0, 2, 3, 4] h₄ (shapeCast ⟨4, ![4, 4, p, q]⟩
      (extractStridedSlice ⟨6, ![4, 1, 4, 1, p, q]⟩ ![0, a₁, 0, 1, 0, 0] (shapeCast ⟨6, ![4, 2, 4, 2, p, q]⟩ X h₁) h₂') h₃)⟩] h₅) h₆

/-- A device that ends with half `core c` of the array of device `d`, where `d` is on the same chip and has the core number the
    reference takes that half from, ends with its block of the reference's array. -/
theorem traded_block {α : Type} {p q a₀ a₁ : ℕ} (X : Shape.Idx ⟨4, ![32, 2, p, q]⟩ → α) (h₁ h₂ h₂' h₃ h₄ h₅ h₆) (c d : Dev nD)
    (R : Shape.Idx ⟨3, ![4, p, q]⟩ → α) (A : Dev nD → Shape.Idx ⟨4, ![4, 2, p, q]⟩ → α)
    (hT : Layout.Tiles ⟨4, ![4, 2, p, q]⟩ ⟨4, ![32, 2, p, q]⟩ 0 8) (hT' : Layout.Tiles ⟨3, ![4, p, q]⟩ ⟨3, ![32, p, q]⟩ 0 8)
    (ha₀ : a₀ < 2) (ha₁ : a₁ < 2) (hd : d.val = 2 * (c.val / 2) + if c.val % 2 = 0 then a₀ else a₁)
    (hA : ∀ d, A d = Layout.block ⟨4, ![4, 2, p, q]⟩ ⟨4, ![32, 2, p, q]⟩ 0 8 d X hT)
    (hR : ∀ i, R i = A d (at4 (i 0) (core c) (i 1) (i 2))) :
    R = Layout.block ⟨3, ![4, p, q]⟩ ⟨3, ![32, p, q]⟩ 0 8 c (traded a₀ a₁ X h₁ h₂ h₂' h₃ h₄ h₅ h₆) hT' := by
  funext i
  have hc : c.val < 8 := c.isLt
  have hi : (i 0).val < 4 := (i 0).isLt
  rw [hR, hA, Layout.block_apply, Layout.block_apply]
  refine Eq.symm ((shapeCast_apply _ h₆ _ (ix5 (⟨c.val / 2, by omega⟩ : Fin 4) (core c) (i 0) (i 1) (i 2)) ?_).trans ?_)
  · rw [Shape.rowMajor_val_five, Shape.rowMajor_val_three]
    show (((c.val / 2 * 2 + c.val % 2) * 4 + (i 0).val) * p + (i 1).val) * q + (i 2).val
      = ((c.val * 4 + (i 0).val) * p + (i 1).val) * q + (i 2).val
    have h : c.val / 2 * 2 + c.val % 2 = c.val := by omega
    rw [h]
  · by_cases e : c.val % 2 = 0
    · rw [if_pos e] at hd
      refine (concatenate_pair_apply_left _ _ _ h₅ _ rfl (ix5 (⟨c.val / 2, by omega⟩ : Fin 4) (0 : Fin 1) (i 0) (i 1) (i 2)) ?_).trans ?_
      · intro b
        match b with
        | 0 => rfl
        | 1 => exact e.symm
        | 2 => rfl
        | 3 => rfl
        | 4 => rfl
      · refine piece X h₁ h₂ h₃ h₄ ha₀ (by omega) _ _ ?_ e rfl rfl
        show d.val * 4 + (i 0).val = 8 * (c.val / 2) + 4 * a₀ + (i 0).val
        omega
    · rw [if_neg e] at hd
      have e : c.val % 2 = 1 := by omega
      refine (concatenate_pair_apply_right _ _ _ h₅ _ rfl rfl (ix5 (⟨c.val / 2, by omega⟩ : Fin 4) (0 : Fin 1) (i 0) (i 1) (i 2)) ?_ ?_).trans ?_
      · intro b hb
        match b with
        | 0 => rfl
        | 1 => exact absurd rfl hb
        | 2 => rfl
        | 3 => rfl
        | 4 => rfl
      · show 0 + 1 = c.val % 2
        omega
      · refine piece X h₁ h₂' h₃ h₄ ha₁ (by omega) _ _ ?_ e rfl rfl
        show d.val * 4 + (i 0).val = 8 * (c.val / 2) + 4 * a₁ + (i 0).val
        omega

theorem tiles (t : Fin 7) : Layout.Tiles ⟨4, ![4, 2, (item t).p, (item t).q]⟩ ⟨4, ![32, 2, (item t).p, (item t).q]⟩ 0 8 := by revert t; decide

theorem halves_tile (t : Fin 7) : Layout.Tiles ⟨3, ![4, (item t).p, (item t).q]⟩ ⟨3, ![32, (item t).p, (item t).q]⟩ 0 8 := by revert t; decide

theorem unstacks (t : Fin 7) : Shape.ShapeCasts ⟨4, ![32, 2, (item t).p, (item t).q]⟩ ⟨6, ![4, 2, 4, 2, (item t).p, (item t).q]⟩ := by revert t; decide

theorem cuts (a b : Fin 2) (t : Fin 7) : Shape.Slices ⟨6, ![4, 2, 4, 2, (item t).p, (item t).q]⟩ ![0, a.val, 0, b.val, 0, 0] ⟨6, ![4, 1, 4, 1, (item t).p, (item t).q]⟩ := by
  revert t a b; decide

theorem squeezes (t : Fin 7) : Shape.ShapeCasts ⟨6, ![4, 1, 4, 1, (item t).p, (item t).q]⟩ ⟨4, ![4, 4, (item t).p, (item t).q]⟩ := by revert t; decide

theorem spreads (t : Fin 7) : Shape.BroadcastsInDim ⟨4, ![4, 4, (item t).p, (item t).q]⟩ ⟨5, ![4, 1, 4, (item t).p, (item t).q]⟩ ![0, 2, 3, 4] := by revert t; decide

theorem joins (t : Fin 7) : Shape.Concatenates [⟨5, ![4, 1, 4, (item t).p, (item t).q]⟩, ⟨5, ![4, 1, 4, (item t).p, (item t).q]⟩] ⟨5, ![4, 2, 4, (item t).p, (item t).q]⟩ 1 := by
  revert t; decide

theorem restacks (t : Fin 7) : Shape.ShapeCasts ⟨5, ![4, 2, 4, (item t).p, (item t).q]⟩ ⟨3, ![32, (item t).p, (item t).q]⟩ := by revert t; decide

/-- The reference's results: the halves the cores keep, and the halves they are sent. -/
abbrev result (X : (t : Fin 7) → Shape.Idx ⟨4, ![32, 2, (item t).p, (item t).q]⟩ → Elt F .bf16) (a₀ a₁ : Fin 2) (t : Fin 7) :
    Shape.Idx ⟨3, ![32, (item t).p, (item t).q]⟩ → Elt F .bf16 :=
  traded a₀.val a₁.val (X t) (unstacks t) (cuts a₀ 0 t) (cuts a₁ 1 t) (squeezes t) (spreads t) (joins t) (restacks t)

/-- If the devices hold the blocks of whole arrays `X`, each ends with its blocks of the reference's results. -/
theorem blocks (m : (ℓ : Loc nD τ sig) → Buf (Elt F) ℓ) (g : Dev nD → PrngReg)
    (X : (t : Fin 7) → Shape.Idx ⟨4, ![32, 2, (item t).p, (item t).q]⟩ → Elt F .bf16)
    (hX : ∀ (c : Dev nD) (t : Fin 7), whole_at m t c = Layout.block _ _ 0 8 c (X t) (tiles t)) :
    θ_run (defs (F := F)) (onTc main) ⟨m, fun _ => 0, g⟩ fun r => ∀ c : Dev nD,
      (∀ t, (item t).mine.view.read (Elt F) (r.2.mem ((item t).mine.view.loc (c.tc : Thread nD τ))) = Layout.block _ _ 0 8 c (result X 0 1 t) (halves_tile t))
      ∧ (∀ t, (item t).theirs.view.read (Elt F) (r.2.mem ((item t).theirs.view.loc (c.tc : Thread nD τ))) = Layout.block _ _ 0 8 c (result X 1 0 t) (halves_tile t))
      ∧ ∀ t, whole_at r.2.mem t c = whole_at m t c :=
  (θ_run _ _ _).mono (fun r h c =>
    ⟨fun t => traded_block (X t) _ _ _ _ _ _ _ c c _ (whole_at m t) (tiles t) _ (by decide) (by decide)
        (by show c.val = 2 * (c.val / 2) + if c.val % 2 = 0 then 0 else 1; split <;> omega) (fun d => hX d t) (h.1 c t).2.1,
      fun t => traded_block (X t) _ _ _ _ _ _ _ c (sibling c) _ (whole_at m t) (tiles t) _ (by decide) (by decide)
        (by show 2 * (c.val / 2) + (1 - c.val % 2) = 2 * (c.val / 2) + if c.val % 2 = 0 then 1 else 0; split <;> omega) (fun d => hX d t) (h.1 c t).2.2,
      fun t => (h.1 c t).1⟩) (exchanged m g)

/-- The whole arrays, as the reference holds them. -/
def wholes (m' : (ℓ : Loc PairExchangeReferenceIdeal.nD PairExchangeReferenceIdeal.τ PairExchangeReferenceIdeal.sig) → Buf (Elt F) ℓ) :
    (t : Fin 7) → Shape.Idx ⟨4, ![32, 2, (item t).p, (item t).q]⟩ → Elt F .bf16
  | 0 => m' (((0 : Dev PairExchangeReferenceIdeal.nD).tc : Thread PairExchangeReferenceIdeal.nD PairExchangeReferenceIdeal.τ).loc PairExchangeReferenceIdeal.main_arg0)
  | 1 => m' (((0 : Dev PairExchangeReferenceIdeal.nD).tc : Thread PairExchangeReferenceIdeal.nD PairExchangeReferenceIdeal.τ).loc PairExchangeReferenceIdeal.main_arg1)
  | 2 => m' (((0 : Dev PairExchangeReferenceIdeal.nD).tc : Thread PairExchangeReferenceIdeal.nD PairExchangeReferenceIdeal.τ).loc PairExchangeReferenceIdeal.main_arg2)
  | 3 => m' (((0 : Dev PairExchangeReferenceIdeal.nD).tc : Thread PairExchangeReferenceIdeal.nD PairExchangeReferenceIdeal.τ).loc PairExchangeReferenceIdeal.main_arg3)
  | 4 => m' (((0 : Dev PairExchangeReferenceIdeal.nD).tc : Thread PairExchangeReferenceIdeal.nD PairExchangeReferenceIdeal.τ).loc PairExchangeReferenceIdeal.main_arg4)
  | 5 => m' (((0 : Dev PairExchangeReferenceIdeal.nD).tc : Thread PairExchangeReferenceIdeal.nD PairExchangeReferenceIdeal.τ).loc PairExchangeReferenceIdeal.main_arg5)
  | 6 => m' (((0 : Dev PairExchangeReferenceIdeal.nD).tc : Thread PairExchangeReferenceIdeal.nD PairExchangeReferenceIdeal.τ).loc PairExchangeReferenceIdeal.main_arg6)

/-- What the program leaves of its own arrays and of its semaphores. -/
theorem unchanged (m : (ℓ : Loc nD τ sig) → Buf (Elt F) ℓ) (g : Dev nD → PrngReg) :
    θ_run (defs (F := F)) (onTc main) ⟨m, fun _ => 0, g⟩ fun r => (∀ c : Dev nD, ∀ t, whole_at r.2.mem t c = whole_at m t c) ∧ r.2.sem = fun _ => 0 :=
  (θ_run _ _ _).mono (fun r h => ⟨fun c t => (h.1 c t).1, h.2⟩) (exchanged m g)

theorem frame_bits : Cert.quiescent_PairExchange := fun m g _ =>
  (θ_run Cert.PairExchangeIdeal.defs _ _).mono (fun r h => ⟨fun c => PairShareIdeal.to_seven (h.1 c), h.2⟩) (unchanged (F := Bits) m g)

theorem frame_ideal : Cert.quiescent_PairExchangeIdeal := fun m g _ =>
  (θ_run _ _ _).mono (fun r h => ⟨fun c => PairShareIdeal.to_seven (h.1 c), h.2⟩) (unchanged (F := Ideal) m g)

theorem frame_reference : Cert.quiescent_PairExchangeReferenceIdeal := fun m g _ =>
  (θ_run _ _ _).mono (fun r h => ⟨fun c => (h c).2.2.2.2.2.2.2.2.2.2.2.2.2.2, sem_eq_zero_of_no_sems rfl _⟩) (PairExchangeReferenceIdeal.Value.run (F := Ideal) m g)

theorem frame_reference_bits : Cert.quiescent_PairExchangeReference := fun m g _ =>
  (θ_run _ _ _).mono (fun r h => ⟨fun c => (h c).2.2.2.2.2.2.2.2.2.2.2.2.2.2, sem_eq_zero_of_no_sems rfl _⟩) (PairExchangeReference.Value.run (F := Bits) m g)

theorem algebraic : Cert.algebraic_PairExchangeIdeal_PairExchangeReferenceIdeal := fun m g m' g' _ h =>
  ⟨_, _, _, _, _, _, _, _, _, _, _, _, _, _, (θ_run _ _ _).mono (fun r hr c => ⟨(hr c).1 0, (hr c).1 1, (hr c).1 2, (hr c).1 3, (hr c).1 4, (hr c).1 5, (hr c).1 6, (hr c).2.1 0, (hr c).2.1 1, (hr c).2.1 2, (hr c).2.1 3, (hr c).2.1 4, (hr c).2.1 5, (hr c).2.1 6, (hr c).2.2 0, (hr c).2.2 1, (hr c).2.2 2, (hr c).2.2 3, (hr c).2.2 4, (hr c).2.2 5, (hr c).2.2 6⟩)
    (blocks (F := Ideal) m g (wholes m') fun c => PairShareIdeal.of_seven (h c)),
    (θ_run _ _ _).mono (fun r hr => hr 0) (PairExchangeReferenceIdeal.Value.run (F := Ideal) m' g')⟩

theorem bitexact : Cert.bitexact_PairExchange_PairExchangeReference := fun m g m' g' _ h =>
  ⟨_, _, _, _, _, _, _, _, _, _, _, _, _, _, (θ_run _ _ _).mono (fun r hr c => ⟨(hr c).1 0, (hr c).1 1, (hr c).1 2, (hr c).1 3, (hr c).1 4, (hr c).1 5, (hr c).1 6, (hr c).2.1 0, (hr c).2.1 1, (hr c).2.1 2, (hr c).2.1 3, (hr c).2.1 4, (hr c).2.1 5, (hr c).2.1 6, (hr c).2.2 0, (hr c).2.2 1, (hr c).2.2 2, (hr c).2.2 3, (hr c).2.2 4, (hr c).2.2 5, (hr c).2.2 6⟩)
    (blocks (F := Bits) m g (wholes m') fun c => PairShareIdeal.of_seven (h c)),
    (θ_run _ _ _).mono (fun r hr => hr 0) (PairExchangeReferenceIdeal.Value.run (F := Bits) m' g')⟩

end Cert.PairExchangeIdeal

end
-- ==== Proof.Chip.lean ====
/-
  The four devices with one core number exchange their blocks between the chips.
-/
module

public import proofs.«01_k».proof.Proof.PairClaims
public import proofs.«01_k».proof.Proof.Gen.ChipExchangeIdeal.Launch

@[expose] public section

set_option Elab.async false

noncomputable section

namespace Cert.ChipExchangeIdeal

open Idealize Idealize.ShloMosaic Idealize.SL
open Idealize.SL.BI (sProp bigSep bigSepL bigSepL_append bigSepL_map bigSep_mono bigSep_congr bigSep_sep')
open scoped Idealize.SL.BI
open Idealize.SL.BI.BIBase Idealize.SL.BI.Laws Idealize.SL.Sem Idealize.SL.ProofMode
open Idealize.SL.RA
open TcCoe PCS Pipeline Cert.Copies Gen

variable {F : FTy → Type} [FloatOps F]

/-- The other three chips as a device counts them: across the first axis, across the second, across both. -/
def chip (j : Fin 3) (c : Dev nD) : ℕ :=
  match j with
  | 0 => (c.val / 2 + 2) % 4
  | 1 => 2 * (c.val / 4) + (1 - c.val / 2 % 2)
  | 2 => 3 - c.val / 2

/-- Where the blocks of one size lie: a device's own chip's, and those of the other chips. -/
structure Spots (p q : ℕ) where
  own : Dev nD → Fin 3 → ℕ
  own_inb : ∀ c a, own c a + (![1, p, q] : Fin 3 → ℕ) a ≤ (![4, p, q] : Fin 3 → ℕ) a
  own_words : ∀ c, (Rect.unit (s := ⟨3, ![4, p, q]⟩) (own c) ![1, p, q] (own_inb c)).WholeWords (EltTy.packing .bf16)
  hown : ∀ c, own c = ![c.val / 2, 0, 0]
  off : Fin 3 → Dev nD → Fin 3 → ℕ
  inb : ∀ j c a, off j c a + (![1, p, q] : Fin 3 → ℕ) a ≤ (![4, p, q] : Fin 3 → ℕ) a
  words : ∀ j c, (Rect.unit (s := ⟨3, ![4, p, q]⟩) (off j c) ![1, p, q] (inb j c)).WholeWords (EltTy.packing .bf16)
  hoff : ∀ j c, off j c = ![chip j c, 0, 0]
  sq : Shape.Squeezes ⟨3, ![1, p, q]⟩ ⟨2, ![p, q]⟩

def spots_512_768 : Spots 512 768 :=
  ⟨k0_off1, k0_off1_inb, k0_off1_wordsbf16, by decide, (fun | 0 => k0_off2 | 1 => k0_off3 | 2 => k0_off4), (fun | 0 => k0_off2_inb | 1 => k0_off3_inb | 2 => k0_off4_inb),
    (fun | 0 => k0_off2_wordsbf16 | 1 => k0_off3_wordsbf16 | 2 => k0_off4_wordsbf16), by decide, squeezes_S1x512x768_S512x768⟩

def spots_128_1024 : Spots 128 1024 :=
  ⟨k0_off5, k0_off5_inb, k0_off5_wordsbf16, by decide, (fun | 0 => k0_off6 | 1 => k0_off7 | 2 => k0_off8), (fun | 0 => k0_off6_inb | 1 => k0_off7_inb | 2 => k0_off8_inb),
    (fun | 0 => k0_off6_wordsbf16 | 1 => k0_off7_wordsbf16 | 2 => k0_off8_wordsbf16), by decide, squeezes_S1x128x1024_S128x1024⟩

def spots_1024_704 : Spots 1024 704 :=
  ⟨k0_off9, k0_off9_inb, k0_off9_wordsbf16, by decide, (fun | 0 => k0_off10 | 1 => k0_off11 | 2 => k0_off12), (fun | 0 => k0_off10_inb | 1 => k0_off11_inb | 2 => k0_off12_inb),
    (fun | 0 => k0_off10_wordsbf16 | 1 => k0_off11_wordsbf16 | 2 => k0_off12_wordsbf16), by decide, squeezes_S1x1024x704_S1024x704⟩

def spots_704_1024 : Spots 704 1024 :=
  ⟨k0_off13, k0_off13_inb, k0_off13_wordsbf16, by decide, (fun | 0 => k0_off14 | 1 => k0_off15 | 2 => k0_off16), (fun | 0 => k0_off14_inb | 1 => k0_off15_inb | 2 => k0_off16_inb),
    (fun | 0 => k0_off14_wordsbf16 | 1 => k0_off15_wordsbf16 | 2 => k0_off16_wordsbf16), by decide, squeezes_S1x704x1024_S704x1024⟩

def spots_512_2304 : Spots 512 2304 :=
  ⟨k0_off17, k0_off17_inb, k0_off17_wordsbf16, by decide, (fun | 0 => k0_off18 | 1 => k0_off19 | 2 => k0_off20), (fun | 0 => k0_off18_inb | 1 => k0_off19_inb | 2 => k0_off20_inb),
    (fun | 0 => k0_off18_wordsbf16 | 1 => k0_off19_wordsbf16 | 2 => k0_off20_wordsbf16), by decide, squeezes_S1x512x2304_S512x2304⟩

/-- One of the seven arrays: the blocks a device computed, the blocks it ends with, and the devices it sends to. -/
structure Item where
  {p q : ℕ}
  arg : Memref sig .tc .hbm ⟨3, ![4, p, q]⟩ .bf16
  res : Memref sig .tc .hbm ⟨3, ![4, p, q]⟩ .bf16
  harg : arg.IsWhole
  hres : res.IsWhole
  spots : Spots p q
  peer : Fin 3 → Dev nD → ℕ
  lt : ∀ j c, peer j c < nD
  hpeer : ∀ j (c : Dev nD), peer j c = 2 * chip j c + c.val % 2

/-- The seven arrays. -/
def item : Fin 7 → Item
  | 0 => ⟨Memref.whole main_arg0, Memref.whole main_v1_0, Memref.isWhole_whole _, Memref.isWhole_whole _, spots_512_768,
      (fun | 0 => k0_dev1 | 1 => k0_dev2 | 2 => k0_dev3), (fun | 0 => k0_dev1_lt | 1 => k0_dev2_lt | 2 => k0_dev3_lt), by decide⟩
  | 1 => ⟨Memref.whole main_arg1, Memref.whole main_v1_1, Memref.isWhole_whole _, Memref.isWhole_whole _, spots_128_1024,
      (fun | 0 => k0_dev4 | 1 => k0_dev5 | 2 => k0_dev6), (fun | 0 => k0_dev4_lt | 1 => k0_dev5_lt | 2 => k0_dev6_lt), by decide⟩
  | 2 => ⟨Memref.whole main_arg2, Memref.whole main_v1_2, Memref.isWhole_whole _, Memref.isWhole_whole _, spots_1024_704,
      (fun | 0 => k0_dev7 | 1 => k0_dev8 | 2 => k0_dev9), (fun | 0 => k0_dev7_lt | 1 => k0_dev8_lt | 2 => k0_dev9_lt), by decide⟩
  | 3 => ⟨Memref.whole main_arg3, Memref.whole main_v1_3, Memref.isWhole_whole _, Memref.isWhole_whole _, spots_1024_704,
      (fun | 0 => k0_dev10 | 1 => k0_dev11 | 2 => k0_dev12), (fun | 0 => k0_dev10_lt | 1 => k0_dev11_lt | 2 => k0_dev12_lt), by decide⟩
  | 4 => ⟨Memref.whole main_arg4, Memref.whole main_v1_4, Memref.isWhole_whole _, Memref.isWhole_whole _, spots_704_1024,
      (fun | 0 => k0_dev13 | 1 => k0_dev14 | 2 => k0_dev15), (fun | 0 => k0_dev13_lt | 1 => k0_dev14_lt | 2 => k0_dev15_lt), by decide⟩
  | 5 => ⟨Memref.whole main_arg5, Memref.whole main_v1_5, Memref.isWhole_whole _, Memref.isWhole_whole _, spots_512_2304,
      (fun | 0 => k0_dev16 | 1 => k0_dev17 | 2 => k0_dev18), (fun | 0 => k0_dev16_lt | 1 => k0_dev17_lt | 2 => k0_dev18_lt), by decide⟩
  | 6 => ⟨Memref.whole main_arg6, Memref.whole main_v1_6, Memref.isWhole_whole _, Memref.isWhole_whole _, spots_128_1024,
      (fun | 0 => k0_dev19 | 1 => k0_dev20 | 2 => k0_dev21), (fun | 0 => k0_dev19_lt | 1 => k0_dev20_lt | 2 => k0_dev21_lt), by decide⟩

/-- The block of array `t` that belongs at a device's own chip, in what it computed and in what it ends with. -/
abbrev mine (t : Fin 7) (c : Dev nD) : Memref sig .tc .hbm ⟨2, ![(item t).p, (item t).q]⟩ .bf16 :=
  box (item t).arg ((item t).spots.own c) ![1, (item t).p, (item t).q] ((item t).spots.own_inb c) (item t).spots.sq

abbrev home (t : Fin 7) (c : Dev nD) : Memref sig .tc .hbm ⟨2, ![(item t).p, (item t).q]⟩ .bf16 :=
  box (item t).res ((item t).spots.own c) ![1, (item t).p, (item t).q] ((item t).spots.own_inb c) (item t).spots.sq

/-- The blocks at another chip's place. -/
abbrev gone (t : Fin 7) (j : Fin 3) (c : Dev nD) : Memref sig .tc .hbm ⟨2, ![(item t).p, (item t).q]⟩ .bf16 :=
  box (item t).arg ((item t).spots.off j c) ![1, (item t).p, (item t).q] ((item t).spots.inb j c) (item t).spots.sq

abbrev come (t : Fin 7) (j : Fin 3) (c : Dev nD) : Memref sig .tc .hbm ⟨2, ![(item t).p, (item t).q]⟩ .bf16 :=
  box (item t).res ((item t).spots.off j c) ![1, (item t).p, (item t).q] ((item t).spots.inb j c) (item t).spots.sq

theorem one_in {n : ℕ} (t : Fin n) : ∀ a, (![t.val] : Fin 1 → ℕ) a + (![1] : Fin 1 → ℕ) a ≤ (![n] : Fin 1 → ℕ) a := by
  intro a
  match a with
  | 0 => exact t.isLt

/-- Remote copy `i` is copy `step i` of array `grad i`. -/
def grad (i : Fin 21) : Fin 7 := ⟨i.val / 3, by omega⟩

def step (i : Fin 21) : Fin 3 := ⟨i.val % 3, by omega⟩

def parts : Fin 21 ≃ Fin 7 × Fin 3 :=
  ⟨fun i => (grad i, step i), fun x => ⟨3 * x.1.val + x.2.val, by omega⟩, by decide, by decide⟩

def keep (t : Fin 7) (c : Dev nD) : Leg sig :=
  ⟨mine t c, home t c, ((item t).harg.wordExact_slice rfl _ ((item t).spots.own_words c)).reshape _ _,
    ((item t).hres.wordExact_slice rfl _ ((item t).spots.own_words c)).reshape _ _, rfl⟩

def send (t : Fin 7) (j : Fin 3) (c : Dev nD) : Leg sig :=
  ⟨gone t j c, home t c, ((item t).harg.wordExact_slice rfl _ ((item t).spots.words j c)).reshape _ _,
    ((item t).hres.wordExact_slice rfl _ ((item t).spots.own_words c)).reshape _ _, rfl⟩

def sems : Cell 7 21 → DmaSem sig
  | .inl t => semAt hcc0_scratch2 t.val (one_in t) squeezes_S1_S_
  | .inr (.inl i) => semAt hcc0_scratch0 i.val (one_in i) squeezes_S1_S_
  | .inr (.inr i) => semAt hcc0_scratch1 i.val (one_in i) squeezes_S1_S_

theorem chip_lt (j : Fin 3) (c : Dev nD) : chip j c < 4 := by revert j c; decide

theorem chip_back (j : Fin 3) (c d : Dev nD) (h : d.val = 2 * chip j c + c.val % 2) : chip j d = c.val / 2 := by revert j c d; decide

/-- The device of the same core number that copy `j` of array `t` goes to. -/
def peer (t : Fin 7) (j : Fin 3) : Dev nD ≃ Dev nD :=
  have h : Function.Involutive fun c : Dev nD => (⟨(item t).peer j c, (item t).lt j c⟩ : Dev nD) := fun c => Fin.ext (by
    show (item t).peer j ⟨(item t).peer j c, (item t).lt j c⟩ = _
    rw [(item t).hpeer, chip_back j c _ ((item t).hpeer j c)]
    show 2 * (c.val / 2) + (item t).peer j c % 2 = c.val
    rw [(item t).hpeer]
    omega)
  ⟨fun c => ⟨(item t).peer j c, (item t).lt j c⟩, fun c => ⟨(item t).peer j c, (item t).lt j c⟩, h, h⟩

def plan : Plan nD sig 7 21 where
  sem := sems
  keep := keep
  move i := send (grad i) (step i)
  peer i := peer (grad i) (step i)
  spot
    | .inl t, c => ⟨home t c⟩
    | .inr (.inl i), c => ⟨gone (grad i) (step i) c⟩
    | .inr (.inr i), c => ⟨come (grad i) (step i) c⟩
  qk _ := fullShare
  qm _ := fullShare
  amt
    | .inl t => RefSig.tileCredit ⟨2, ![(item t).p, (item t).q]⟩ .bf16
    | .inr (.inl i) => RefSig.tileCredit ⟨2, ![(item (grad i)).p, (item (grad i)).q]⟩ .bf16
    | .inr (.inr i) => RefSig.tileCredit ⟨2, ![(item (grad i)).p, (item (grad i)).q]⟩ .bf16

def late : List (Fin 21) := [0, 1, 2, 3, 4, 5, 6, 7, 8, 9, 10, 11, 12, 13, 14, 15, 16, 17, 18, 19, 20]

def kept : List (Fin 7) := [0, 1, 2, 3, 4, 5, 6]

def first : List (Fin 7 ⊕ Fin 21) := late.map .inr ++ kept.map .inl

def rest : List (Cell 7 21) := late.map (fun i => .inr (.inr i)) ++ (late.map (fun i => .inr (.inl i)) ++ kept.map .inl)

set_option maxRecDepth 40000 in
theorem body_eq (t : Fin cfg0.N) (s : (w : Fin cfg0.W) → Fin (cfg0.win w).nbuf) :
    (defs₀ (F := F) .tc cfg0.body (cfg0.bodyArgs t s) : Prog (TpuEff nD τ sig (Elt F) Λ₀ .tc) PUnit)
      = .op .deviceId fun d => run (effects plan d first [] rest) (.ret ⟨⟩) := rfl

theorem fits : plan.Fits where
  sem_inj := by
    rintro (s | s | s) (t | t | t) h <;> have h := congrArg Fin.val h <;> simp only [plan, sems, semAt_val] at h <;>
      first
        | (obtain rfl : s = t := Fin.ext (by omega); rfl)
        | (exfalso; have := s.isLt; have := t.isLt; omega)
  amt_pos q := by rcases q with t | t | t <;> (revert t; decide)
  keep_amt _ _ := rfl
  send_amt _ _ := rfl
  recv_amt _ _ := rfl
  spot_amt q _ := by rcases q with t | t | t <;> rfl

theorem mem_late (i : Fin 21) : i ∈ late := by revert i; decide

theorem order : Order first [] late rest where
  starts := by decide
  arrivals := by decide
  waits := by decide
  apart := by decide

section Memory
variable {Val : EltTy → Type}

local notation "𝕄" => MT nD τ sig Unit Val ℕ (UU nD τ sig) ℕ

/-- Array `t` as device `c` computed it, and its blocks as the copies read them. -/
def whole_at (m : (ℓ : Loc nD τ sig) → Buf Val ℓ) (t : Fin 7) (c : Dev nD) : Shape.Idx ⟨3, ![4, (item t).p, (item t).q]⟩ → Val .bf16 :=
  (item t).arg.view.read Val (m ((item t).arg.view.loc (c.tc : Thread nD τ)))

def kept_at (m : (ℓ : Loc nD τ sig) → Buf Val ℓ) (t : Fin 7) (c : Dev nD) : Shape.Idx ⟨2, ![(item t).p, (item t).q]⟩ → Val .bf16 :=
  (mine t c).view.read Val (m ((item t).arg.view.loc (c.tc : Thread nD τ)))

def sent_at (m : (ℓ : Loc nD τ sig) → Buf Val ℓ) (t : Fin 7) (j : Fin 3) (c : Dev nD) : Shape.Idx ⟨2, ![(item t).p, (item t).q]⟩ → Val .bf16 :=
  (gone t j c).view.read Val (m ((item t).arg.view.loc (c.tc : Thread nD τ)))

abbrev gone_at (m : (ℓ : Loc nD τ sig) → Buf Val ℓ) (i : Fin 21) (c : Dev nD) : Shape.Idx ⟨2, ![(item (grad i)).p, (item (grad i)).q]⟩ → Val .bf16 :=
  sent_at m (grad i) (step i) c

theorem apart (c : Dev nD) (j j' : Fin 3) (h : j ≠ j') : chip j c ≠ chip j' c := by revert c j j'; decide

theorem away (c : Dev nD) (j : Fin 3) : chip j c ≠ c.val / 2 := by revert c j; decide

/-- The four blocks of an array, cut at a device's own chip and at three other places that are the other chips, are apart. -/
theorem four_apart {p q : ℕ} (c : Dev nD) {off : Unit ⊕ Fin 3 → Fin 3 → ℕ} (h : off (.inl ()) = ![c.val / 2, 0, 0])
    (h' : ∀ j, off (.inr j) = ![chip j c, 0, 0]) (k k' : Unit ⊕ Fin 3) (hk : k ≠ k') :
    off k 0 + (![1, p, q] : Fin 3 → ℕ) 0 ≤ off k' 0 ∨ off k' 0 + (![1, p, q] : Fin 3 → ℕ) 0 ≤ off k 0 := by
  rcases k with ⟨⟩ | j <;> rcases k' with ⟨⟩ | j'
  · exact absurd rfl hk
  · rw [h, h']
    have := away c j'
    show c.val / 2 + 1 ≤ chip j' c ∨ chip j' c + 1 ≤ c.val / 2
    omega
  · rw [h, h']
    have := away c j
    show chip j c + 1 ≤ c.val / 2 ∨ c.val / 2 + 1 ≤ chip j c
    omega
  · rw [h', h']
    have := apart c j j' fun e => hk (congrArg _ e)
    show chip j c + 1 ≤ chip j' c ∨ chip j' c + 1 ≤ chip j c
    omega

theorem sources (m : (ℓ : Loc nD τ sig) → Buf Val ℓ) (c : Dev nD) (t : Fin 7) :
    (((item t).arg.view.loc (c.tc : Thread nD τ)) ↦{fullShare} m ((item t).arg.view.loc (c.tc : Thread nD τ)))
      ⊢ (iprop(source plan (kept_at m) (gone_at m) c (.inl t)
        ∗ bigSep Finset.univ fun j => owns (c.tc : Thread nD τ) (gone t j c) fullShare (sent_at m t j c)) : sProp 𝕄) := by
  have h := boxes_owned (τ := τ) (Val := Val) c (item t).arg (Sum.elim (fun _ : Unit => (item t).spots.own c) fun j => (item t).spots.off j c)
    (fun | .inl _ => (item t).spots.own_inb c | .inr j => (item t).spots.inb j c) (item t).spots.sq 0
    (four_apart c ((item t).spots.hown c) fun j => (item t).spots.hoff j c) fullShare (m ((item t).arg.view.loc (c.tc : Thread nD τ)))
  rw [one_more] at h
  exact h

theorem places (m : (ℓ : Loc nD τ sig) → Buf Val ℓ) (c : Dev nD) (t : Fin 7) :
    (((item t).res.view.loc (c.tc : Thread nD τ)) ↦{fullShare} m ((item t).res.view.loc (c.tc : Thread nD τ)))
      ⊢ (iprop(room plan c (.inl t) ∗ bigSep Finset.univ fun j => iprop(∃ f, (item t).res.view.loc (c.tc : Thread nD τ)
          ↦[(home t ((peer t j).symm c)).view.set]{fullShare} f)) : sProp 𝕄) := by
  have h := boxes_free (τ := τ) (Val := Val) c (item t).res
    (Sum.elim (fun _ : Unit => (item t).spots.own c) fun j => (item t).spots.own ((peer t j).symm c))
    (fun | .inl _ => (item t).spots.own_inb c | .inr j => (item t).spots.own_inb _) (item t).spots.sq 0
    (four_apart c ((item t).spots.hown c) fun j => ((item t).spots.hown _).trans (by
      show ![(item t).peer j c / 2, 0, 0] = _
      rw [(item t).hpeer]
      refine congrArg (fun x : ℕ => (![x, 0, 0] : Fin 3 → ℕ)) ?_
      omega)) (m ((item t).res.view.loc (c.tc : Thread nD τ)))
  rw [one_more] at h
  exact h

theorem split (m : (ℓ : Loc nD τ sig) → Buf Val ℓ) (c : Dev nD) :
    (unscopedBufs c fun r => m ((c.tc : Thread nD τ).loc r)) ⊢ (stock plan (kept_at m) (gone_at m) first c : sProp 𝕄) := by
  have hf : first = (List.finRange 21).map Sum.inr ++ (List.finRange 7).map Sum.inl := by decide
  refine (arrays_dealt c _ ((List.finRange 7).map (fun t => (item t).arg.view.ref) ++ (List.finRange 7).map fun t => (item t).res.view.ref)
    (by decide) (by decide)).trans ?_
  unfold stock
  rw [hf, bigSepL_append, bigSepL_append, bigSepL_map, bigSepL_map, bigSepL_map, bigSepL_map, ← chain_fin, ← chain_fin, ← chain_fin, ← chain_fin]
  iintro ⟨H1, H2⟩
  ihave H1 := (halves (sources m c)) $$ H1
  icases H1 with ⟨Ha, Hb⟩
  ihave H2 := (halves (places m c)) $$ H2
  icases H2 with ⟨Hc, Hd⟩
  isplitl [Ha Hb]
  · isplitl [Hb]
    · iapply (by_pairs parts fun t j => owns (c.tc : Thread nD τ) (gone t j c) fullShare (sent_at m t j c))
      iexact Hb
    · iexact Ha
  isplitl [Hc]
  · iexact Hc
  · iapply (by_pairs parts fun t j => iprop(∃ f, (item t).res.view.loc (c.tc : Thread nD τ)
          ↦[(home t ((peer t j).symm c)).view.set]{fullShare} f))
    iexact Hd

end Memory

theorem defs_run (m : (ℓ : Loc nD τ sig) → Buf (Elt F) ℓ) (g : Dev nD → PrngReg) :
    θ_run (defs (F := F)) (onTc main) ⟨m, fun _ => 0, g⟩ fun r =>
      (∀ c : Dev nD, ∀ q ∈ rest, shown plan (kept_at m) (gone_at m) r.2.mem c q)
        ∧ ∀ g' : GSem nD τ sig, (g'.1.2 ≠ .tc ∨ g'.2.isScoped .tc = true) → r.2.sem g' = 0 :=
  whole plan (kept_at m) (gone_at m) fits cfg0 order (fun _ _ => Topo.routes_tc _ _) (by simp) (inferInstanceAs (IsEmpty (Fin 0))) N_0
    (inferInstanceAs (IsEmpty (Fin 0))) cellOf_inj winFacts0 ⟨by decide, fun _ _ h => fits.sem_inj (SemLoc.dma.inj h), by decide⟩ scopedRest0_eq defs₀
    (fun t s c Q => by rw [body_eq t s]) m g main (fun _ => rfl) (split m)

/-- The device of chip `k` with the core number of device `c`. -/
def across (k : Fin 4) (c : Dev nD) : Dev nD := ⟨2 * k.val + c.val % 2, by show _ < 8; omega⟩

def own_chip (c : Dev nD) : Fin 4 := ⟨c.val / 2, by have : c.val < 8 := c.isLt; omega⟩

theorem on_chip (k : ℕ) (hk : k < 4) (c : Dev nD) : k = c.val / 2 ∨ ∃ j, k = chip j c := by revert k c; decide

/-- From any memory the program terminates with the arrays as they were, and on every device, in place `k`, the block its fellow on chip
    `k` computed for this chip. -/
theorem exchanged (m : (ℓ : Loc nD τ sig) → Buf (Elt F) ℓ) (g : Dev nD → PrngReg) :
    θ_run (defs (F := F)) (onTc main) ⟨m, fun _ => 0, g⟩ fun r =>
      (∀ (c : Dev nD) (t : Fin 7), whole_at r.2.mem t c = whole_at m t c
        ∧ ∀ i, (item t).res.view.read (Elt F) (r.2.mem ((item t).res.view.loc (c.tc : Thread nD τ))) i
          = whole_at m t (across (i 0) c) (at3 (own_chip c) (i 1) (i 2)))
        ∧ r.2.sem = fun _ => 0 := by
  refine (θ_run _ _ _).mono (fun r h => ⟨fun c t => ?_, sem_eq_zero_of_scoped (by decide) h.2⟩) (defs_run m g)
  have hk : shown plan (kept_at m) (gone_at m) r.2.mem c (.inl t) := h.1 c _ (order.mem_keep t)
  have hs (j : Fin 3) : (gone t j c).view.read (Elt F) (r.2.mem ((item t).arg.view.loc (c.tc : Thread nD τ))) = sent_at m t j c := by
    have e : (grad (parts.symm (t, j)), step (parts.symm (t, j))) = (t, j) := parts.apply_symm_apply (t, j)
    have h := h.1 c _ (order.mem_send (parts.symm (t, j)))
    have h : (fun x : Fin 7 × Fin 3 => (gone x.1 x.2 c).view.read (Elt F) (r.2.mem ((item x.1).arg.view.loc (c.tc : Thread nD τ))) = sent_at m x.1 x.2 c)
      (grad (parts.symm (t, j)), step (parts.symm (t, j))) := h
    rwa [e] at h
  have hr (j : Fin 3) : (home t ((peer t j).symm c)).view.read (Elt F) (r.2.mem ((item t).res.view.loc (c.tc : Thread nD τ)))
      = sent_at m t j ((peer t j).symm c) := by
    have e : (grad (parts.symm (t, j)), step (parts.symm (t, j))) = (t, j) := parts.apply_symm_apply (t, j)
    have h := h.1 c _ (order.mem_late (mem_late (parts.symm (t, j))))
    have h : (fun x : Fin 7 × Fin 3 => (home x.1 ((peer x.1 x.2).symm c)).view.read (Elt F) (r.2.mem ((item x.1).res.view.loc (c.tc : Thread nD τ)))
      = sent_at m x.1 x.2 ((peer x.1 x.2).symm c)) (grad (parts.symm (t, j)), step (parts.symm (t, j))) := h
    rwa [e] at h
  have hA (d : Dev nD) (f) (x : Shape.Idx ⟨2, ![(item t).p, (item t).q]⟩) (i : Shape.Idx ⟨3, ![4, (item t).p, (item t).q]⟩)
      (h0 : (i 0).val = d.val / 2) (h1 : (i 1).val = (x 0).val) (h2 : (i 2).val = (x 1).val) :
      (mine t d).view.read (Elt F) f x = (item t).arg.view.read (Elt F) f i := slab_at (item t).arg ((item t).spots.hown d) f x i h0 h1 h2
  have hB (d : Dev nD) (f) (x : Shape.Idx ⟨2, ![(item t).p, (item t).q]⟩) (i : Shape.Idx ⟨3, ![4, (item t).p, (item t).q]⟩)
      (h0 : (i 0).val = d.val / 2) (h1 : (i 1).val = (x 0).val) (h2 : (i 2).val = (x 1).val) :
      (home t d).view.read (Elt F) f x = (item t).res.view.read (Elt F) f i := slab_at (item t).res ((item t).spots.hown d) f x i h0 h1 h2
  have hG (j : Fin 3) (d : Dev nD) (f) (x : Shape.Idx ⟨2, ![(item t).p, (item t).q]⟩) (i : Shape.Idx ⟨3, ![4, (item t).p, (item t).q]⟩)
      (h0 : (i 0).val = chip j d) (h1 : (i 1).val = (x 0).val) (h2 : (i 2).val = (x 1).val) :
      (gone t j d).view.read (Elt F) f x = (item t).arg.view.read (Elt F) f i := slab_at (item t).arg ((item t).spots.hoff j d) f x i h0 h1 h2
  refine ⟨funext fun i => ?_, fun i => ?_⟩
  · rcases on_chip (i 0).val (i 0).isLt c with e | ⟨j, e⟩
    · exact (hA c _ (at2 (i 1) (i 2)) i e rfl rfl).symm.trans ((congrFun hk.2 _).trans (hA c _ (at2 (i 1) (i 2)) i e rfl rfl))
    · exact (hG j c _ (at2 (i 1) (i 2)) i e rfl rfl).symm.trans ((congrFun (hs j) _).trans (hG j c _ (at2 (i 1) (i 2)) i e rfl rfl))
  · rcases on_chip (i 0).val (i 0).isLt c with e | ⟨j, e⟩
    · have e' : across (i 0) c = c := Fin.ext (by show 2 * (i 0).val + c.val % 2 = c.val; omega)
      rw [e']
      exact (hB c _ (at2 (i 1) (i 2)) i e rfl rfl).symm.trans ((congrFun hk.1 _).trans (hA c _ _ _ rfl rfl rfl))
    · have hd : (peer t j).symm c = across (i 0) c := Fin.ext (by
        show (item t).peer j c = 2 * (i 0).val + c.val % 2
        rw [(item t).hpeer, e])
      have hr := hr j
      rw [hd] at hr
      exact (hB (across (i 0) c) _ (at2 (i 1) (i 2)) i (by show (i 0).val = (2 * (i 0).val + c.val % 2) / 2; omega) rfl rfl).symm.trans
        ((congrFun hr _).trans (hG j (across (i 0) c) _ _ _ (chip_back j c _ (by show 2 * (i 0).val + c.val % 2 = _; rw [e])).symm rfl rfl))

end Cert.ChipExchangeIdeal

end
-- ==== Proof.ChipClaims.lean ====
/-
  The claims about the exchange of the blocks between the chips.
-/
module

public import proofs.«01_k».proof.Proof.Chip
public import proofs.«01_k».proof.Proof.Gen.ChipExchange
public import proofs.«01_k».proof.Proof.Gen.ChipExchangeReference.Run
public import proofs.«01_k».proof.Proof.Gen.ChipExchangeReferenceIdeal.Run

@[expose] public section

set_option Elab.async false

noncomputable section

namespace Cert.ChipExchangeIdeal

open Idealize Idealize.ShloMosaic Idealize.SL Idealize.SL.Sem TcCoe Cert.Copies Gen
open ValueIdx (ix5)

variable {F : FTy → Type} [FloatOps F]

/-- The reference's array: chips and blocks have changed places. -/
abbrev swapped {α : Type} {p q : ℕ} (X : Shape.Idx ⟨3, ![32, p, q]⟩ → α) (h₁ : Shape.ShapeCasts ⟨3, ![32, p, q]⟩ ⟨5, ![4, 2, 4, p, q]⟩)
    (h₂ : Shape.Transposes ⟨5, ![4, 2, 4, p, q]⟩ [2, 1, 0, 3, 4] ⟨5, ![4, 2, 4, p, q]⟩)
    (h₃ : Shape.ShapeCasts ⟨5, ![4, 2, 4, p, q]⟩ ⟨3, ![32, p, q]⟩) : Shape.Idx ⟨3, ![32, p, q]⟩ → α :=
  shapeCast ⟨3, ![32, p, q]⟩ (transpose ⟨5, ![4, 2, 4, p, q]⟩ [2, 1, 0, 3, 4] (shapeCast ⟨5, ![4, 2, 4, p, q]⟩ X h₁) h₂) h₃

/-- A device that ends with its fellows' blocks for its chip, in the order of their chips, ends with its block of that array. -/
theorem swapped_block {α : Type} {p q : ℕ} (X : Shape.Idx ⟨3, ![32, p, q]⟩ → α) (h₁ h₂ h₃) (c : Dev nD)
    (R : Shape.Idx ⟨3, ![4, p, q]⟩ → α) (A : Dev nD → Shape.Idx ⟨3, ![4, p, q]⟩ → α)
    (hT : Layout.Tiles ⟨3, ![4, p, q]⟩ ⟨3, ![32, p, q]⟩ 0 8) (hA : ∀ d, A d = Layout.block ⟨3, ![4, p, q]⟩ ⟨3, ![32, p, q]⟩ 0 8 d X hT)
    (hR : ∀ i, R i = A (across (i 0) c) (at3 (own_chip c) (i 1) (i 2))) :
    R = Layout.block ⟨3, ![4, p, q]⟩ ⟨3, ![32, p, q]⟩ 0 8 c (swapped X h₁ h₂ h₃) hT := by
  funext i
  rw [hR, hA, Layout.block_apply, Layout.block_apply]
  refine Eq.symm ((shapeCast_apply _ h₃ _ (ix5 (own_chip c) (⟨c.val % 2, by omega⟩ : Fin 2) (i 0) (i 1) (i 2)) ?_).trans ?_)
  · rw [Shape.rowMajor_val_five, Shape.rowMajor_val_three]
    show (((c.val / 2 * 2 + c.val % 2) * 4 + (i 0).val) * p + (i 1).val) * q + (i 2).val
      = ((c.val * 4 + (i 0).val) * p + (i 1).val) * q + (i 2).val
    have h : c.val / 2 * 2 + c.val % 2 = c.val := by omega
    rw [h]
  refine (transpose_apply _ _ h₂ _ (ix5 (i 0) (⟨c.val % 2, by omega⟩ : Fin 2) (own_chip c) (i 1) (i 2)) ?_).trans ?_
  · intro b
    match b with
    | 0 => rfl
    | 1 => rfl
    | 2 => rfl
    | 3 => rfl
    | 4 => rfl
  refine shapeCast_apply X h₁ _ _ ?_
  rw [Shape.rowMajor_val_five, Shape.rowMajor_val_three]
  show (((2 * (i 0).val + c.val % 2) * 4 + c.val / 2) * p + (i 1).val) * q + (i 2).val
    = ((((i 0).val * 2 + c.val % 2) * 4 + c.val / 2) * p + (i 1).val) * q + (i 2).val
  rw [Nat.mul_comm 2]

theorem tiles (t : Fin 7) : Layout.Tiles ⟨3, ![4, (item t).p, (item t).q]⟩ ⟨3, ![32, (item t).p, (item t).q]⟩ 0 8 := by revert t; decide

theorem unstacks (t : Fin 7) : Shape.ShapeCasts ⟨3, ![32, (item t).p, (item t).q]⟩ ⟨5, ![4, 2, 4, (item t).p, (item t).q]⟩ := by revert t; decide

theorem swaps (t : Fin 7) : Shape.Transposes ⟨5, ![4, 2, 4, (item t).p, (item t).q]⟩ [2, 1, 0, 3, 4] ⟨5, ![4, 2, 4, (item t).p, (item t).q]⟩ := by
  revert t; decide

theorem restacks (t : Fin 7) : Shape.ShapeCasts ⟨5, ![4, 2, 4, (item t).p, (item t).q]⟩ ⟨3, ![32, (item t).p, (item t).q]⟩ := by revert t; decide

/-- If the devices hold the blocks of whole arrays `X`, each ends with its blocks of the reference's results. -/
theorem blocks (m : (ℓ : Loc nD τ sig) → Buf (Elt F) ℓ) (g : Dev nD → PrngReg)
    (X : (t : Fin 7) → Shape.Idx ⟨3, ![32, (item t).p, (item t).q]⟩ → Elt F .bf16)
    (hX : ∀ (c : Dev nD) (t : Fin 7), whole_at m t c = Layout.block _ _ 0 8 c (X t) (tiles t)) :
    θ_run (defs (F := F)) (onTc main) ⟨m, fun _ => 0, g⟩ fun r => ∀ c : Dev nD,
      (∀ t, (item t).res.view.read (Elt F) (r.2.mem ((item t).res.view.loc (c.tc : Thread nD τ)))
        = Layout.block _ _ 0 8 c (swapped (X t) (unstacks t) (swaps t) (restacks t)) (tiles t))
      ∧ ∀ t, whole_at r.2.mem t c = whole_at m t c :=
  (θ_run _ _ _).mono (fun r h c => ⟨fun t => swapped_block (X t) _ _ _ c _ (whole_at m t) (tiles t) (fun d => hX d t) (h.1 c t).2,
    fun t => (h.1 c t).1⟩) (exchanged m g)

/-- The whole arrays, as the reference holds them. -/
def wholes (m' : (ℓ : Loc ChipExchangeReferenceIdeal.nD ChipExchangeReferenceIdeal.τ ChipExchangeReferenceIdeal.sig) → Buf (Elt F) ℓ) :
    (t : Fin 7) → Shape.Idx ⟨3, ![32, (item t).p, (item t).q]⟩ → Elt F .bf16
  | 0 => m' (((0 : Dev ChipExchangeReferenceIdeal.nD).tc : Thread ChipExchangeReferenceIdeal.nD ChipExchangeReferenceIdeal.τ).loc ChipExchangeReferenceIdeal.main_arg0)
  | 1 => m' (((0 : Dev ChipExchangeReferenceIdeal.nD).tc : Thread ChipExchangeReferenceIdeal.nD ChipExchangeReferenceIdeal.τ).loc ChipExchangeReferenceIdeal.main_arg1)
  | 2 => m' (((0 : Dev ChipExchangeReferenceIdeal.nD).tc : Thread ChipExchangeReferenceIdeal.nD ChipExchangeReferenceIdeal.τ).loc ChipExchangeReferenceIdeal.main_arg2)
  | 3 => m' (((0 : Dev ChipExchangeReferenceIdeal.nD).tc : Thread ChipExchangeReferenceIdeal.nD ChipExchangeReferenceIdeal.τ).loc ChipExchangeReferenceIdeal.main_arg3)
  | 4 => m' (((0 : Dev ChipExchangeReferenceIdeal.nD).tc : Thread ChipExchangeReferenceIdeal.nD ChipExchangeReferenceIdeal.τ).loc ChipExchangeReferenceIdeal.main_arg4)
  | 5 => m' (((0 : Dev ChipExchangeReferenceIdeal.nD).tc : Thread ChipExchangeReferenceIdeal.nD ChipExchangeReferenceIdeal.τ).loc ChipExchangeReferenceIdeal.main_arg5)
  | 6 => m' (((0 : Dev ChipExchangeReferenceIdeal.nD).tc : Thread ChipExchangeReferenceIdeal.nD ChipExchangeReferenceIdeal.τ).loc ChipExchangeReferenceIdeal.main_arg6)

/-- What the program leaves of its own arrays and of its semaphores. -/
theorem unchanged (m : (ℓ : Loc nD τ sig) → Buf (Elt F) ℓ) (g : Dev nD → PrngReg) :
    θ_run (defs (F := F)) (onTc main) ⟨m, fun _ => 0, g⟩ fun r => (∀ c : Dev nD, ∀ t, whole_at r.2.mem t c = whole_at m t c) ∧ r.2.sem = fun _ => 0 :=
  (θ_run _ _ _).mono (fun r h => ⟨fun c t => (h.1 c t).1, h.2⟩) (exchanged m g)

theorem frame_bits : Cert.quiescent_ChipExchange := fun m g _ =>
  (θ_run Cert.ChipExchangeIdeal.defs _ _).mono (fun r h => ⟨fun c => PairShareIdeal.to_seven (h.1 c), h.2⟩) (unchanged (F := Bits) m g)

theorem frame_ideal : Cert.quiescent_ChipExchangeIdeal := fun m g _ =>
  (θ_run _ _ _).mono (fun r h => ⟨fun c => PairShareIdeal.to_seven (h.1 c), h.2⟩) (unchanged (F := Ideal) m g)

theorem frame_reference : Cert.quiescent_ChipExchangeReferenceIdeal := fun m g _ =>
  (θ_run _ _ _).mono (fun r h => ⟨fun c => (h c).2.2.2.2.2.2.2, sem_eq_zero_of_no_sems rfl _⟩) (ChipExchangeReferenceIdeal.Value.run (F := Ideal) m g)

theorem frame_reference_bits : Cert.quiescent_ChipExchangeReference := fun m g _ =>
  (θ_run _ _ _).mono (fun r h => ⟨fun c => (h c).2.2.2.2.2.2.2, sem_eq_zero_of_no_sems rfl _⟩) (ChipExchangeReference.Value.run (F := Bits) m g)

theorem algebraic : Cert.algebraic_ChipExchangeIdeal_ChipExchangeReferenceIdeal := fun m g m' g' _ h =>
  ⟨_, _, _, _, _, _, _, (θ_run _ _ _).mono (fun r hr c => ⟨(hr c).1 0, (hr c).1 1, (hr c).1 2, (hr c).1 3, (hr c).1 4, (hr c).1 5, (hr c).1 6, (hr c).2 0, (hr c).2 1, (hr c).2 2, (hr c).2 3, (hr c).2 4, (hr c).2 5, (hr c).2 6⟩)
    (blocks (F := Ideal) m g (wholes m') fun c => PairShareIdeal.of_seven (h c)),
    (θ_run _ _ _).mono (fun r hr => hr 0) (ChipExchangeReferenceIdeal.Value.run (F := Ideal) m' g')⟩

theorem bitexact : Cert.bitexact_ChipExchange_ChipExchangeReference := fun m g m' g' _ h =>
  ⟨_, _, _, _, _, _, _, (θ_run _ _ _).mono (fun r hr c => ⟨(hr c).1 0, (hr c).1 1, (hr c).1 2, (hr c).1 3, (hr c).1 4, (hr c).1 5, (hr c).1 6, (hr c).2 0, (hr c).2 1, (hr c).2 2, (hr c).2 3, (hr c).2 4, (hr c).2 5, (hr c).2 6⟩)
    (blocks (F := Bits) m g (wholes m') fun c => PairShareIdeal.of_seven (h c)),
    (θ_run _ _ _).mono (fun r hr => hr 0) (ChipExchangeReferenceIdeal.Value.run (F := Bits) m' g')⟩

end Cert.ChipExchangeIdeal

end
-- ==== Proof.Gather.lean ====
/-
  Every device gathers the halves of the weights that the four chips hold: the devices with one core number send theirs to each
  other, and each device passes what arrives on to its sibling on the same chip.
-/
module

public import proofs.«01_k».proof.Proof.ChipClaims
public import proofs.«01_k».proof.Proof.Gen.GatherIdeal.Launch

@[expose] public section

set_option Elab.async false

noncomputable section

namespace Cert.GatherIdeal

open Idealize Idealize.ShloMosaic Idealize.SL
open Idealize.SL.BI (sProp bigSep bigSepL bigSepL_append bigSepL_map bigSep_mono bigSep_congr bigSep_sep')
open scoped Idealize.SL.BI
open Idealize.SL.BI.BIBase Idealize.SL.BI.Laws Idealize.SL.Sem Idealize.SL.ProofMode
open Idealize.SL.RA
open TcCoe PCS Pipeline Cert.Copies Gen
open ChipExchangeIdeal (chip away on_chip one_in)

variable {F : FTy → Type} [FloatOps F]

/-- The six copies a device makes of one array: one to each other chip, and one of what each of them sent, to the sibling. -/
abbrev Way : Type := Fin 3 ⊕ Fin 3

/-- The chip whose piece a copy writes, and the core number of that piece, as the sender counts them. -/
def spotChip : Way → Dev nD → ℕ
  | .inl _, c => c.val / 2
  | .inr j, c => chip j c

/-- The device a copy goes to. -/
def far : Way → Dev nD → ℕ
  | .inl j, c => 2 * chip j c + c.val % 2
  | .inr _, c => 2 * (c.val / 2) + (1 - c.val % 2)

/-- The chip whose piece arrives by a copy, and the core number of that piece, as the receiver counts them. -/
def arm : Way → Fin 3
  | .inl j => j
  | .inr j => j

def core : Way → Dev nD → ℕ
  | .inl _, c => c.val % 2
  | .inr _, c => 1 - c.val % 2

/-- Where the pieces of one size lie. -/
structure Spots (p q : ℕ) where
  own : Dev nD → Fin 4 → ℕ
  own_inb : ∀ c a, own c a + (![1, 2, p, q] : Fin 4 → ℕ) a ≤ (![4, 2, p, q] : Fin 4 → ℕ) a
  own_words : ∀ c, (Rect.unit (s := ⟨4, ![4, 2, p, q]⟩) (own c) ![1, 2, p, q] (own_inb c)).WholeWords (EltTy.packing .bf16)
  hown : ∀ c, own c = ![c.val / 2, 0, 0, 0]
  src : Dev nD → Fin 3 → ℕ
  src_inb : ∀ c a, src c a + (![1, p, q] : Fin 3 → ℕ) a ≤ (![2, p, q] : Fin 3 → ℕ) a
  src_words : ∀ c, (Rect.unit (s := ⟨3, ![2, p, q]⟩) (src c) ![1, p, q] (src_inb c)).WholeWords (EltTy.packing .bf16)
  hsrc : ∀ c, src c = ![c.val % 2, 0, 0]
  dst : Way → Dev nD → Fin 4 → ℕ
  dst_inb : ∀ k c a, dst k c a + (![1, 1, p, q] : Fin 4 → ℕ) a ≤ (![4, 2, p, q] : Fin 4 → ℕ) a
  dst_words : ∀ k c, (Rect.unit (s := ⟨4, ![4, 2, p, q]⟩) (dst k c) ![1, 1, p, q] (dst_inb k c)).WholeWords (EltTy.packing .bf16)
  hdst : ∀ k c, dst k c = ![spotChip k c, c.val % 2, 0, 0]
  last : Fin 3 → Dev nD → Fin 4 → ℕ
  last_inb : ∀ j c a, last j c a + (![1, 1, p, q] : Fin 4 → ℕ) a ≤ (![4, 2, p, q] : Fin 4 → ℕ) a
  hlast : ∀ j c, last j c = ![chip j c, 1 - c.val % 2, 0, 0]
  sq4 : Shape.Squeezes ⟨4, ![1, 2, p, q]⟩ ⟨3, ![2, p, q]⟩
  sq3 : Shape.Squeezes ⟨3, ![1, p, q]⟩ ⟨2, ![p, q]⟩
  sq2 : Shape.Squeezes ⟨4, ![1, 1, p, q]⟩ ⟨2, ![p, q]⟩

def spots_512_768 : Spots 512 768 :=
  ⟨k0_off1, k0_off1_inb, k0_off1_wordsbf16, by decide, k0_off7, k0_off7_inb, k0_off7_wordsbf16, by decide,
    (fun | .inl _ => k0_off6 | .inr 0 => k0_off16 | .inr 1 => k0_off17 | .inr 2 => k0_off18),
    (fun | .inl _ => k0_off6_inb | .inr 0 => k0_off16_inb | .inr 1 => k0_off17_inb | .inr 2 => k0_off18_inb),
    (fun | .inl _ => k0_off6_wordsbf16 | .inr 0 => k0_off16_wordsbf16 | .inr 1 => k0_off17_wordsbf16 | .inr 2 => k0_off18_wordsbf16), by decide,
    (fun | 0 => k0_off31 | 1 => k0_off32 | 2 => k0_off33), (fun | 0 => k0_off31_inb | 1 => k0_off32_inb | 2 => k0_off33_inb), by decide,
    squeezes_S1x2x512x768_S2x512x768, squeezes_S1x512x768_S512x768, squeezes_S1x1x512x768_S512x768⟩

def spots_128_1024 : Spots 128 1024 :=
  ⟨k0_off2, k0_off2_inb, k0_off2_wordsbf16, by decide, k0_off9, k0_off9_inb, k0_off9_wordsbf16, by decide,
    (fun | .inl _ => k0_off8 | .inr 0 => k0_off19 | .inr 1 => k0_off20 | .inr 2 => k0_off21),
    (fun | .inl _ => k0_off8_inb | .inr 0 => k0_off19_inb | .inr 1 => k0_off20_inb | .inr 2 => k0_off21_inb),
    (fun | .inl _ => k0_off8_wordsbf16 | .inr 0 => k0_off19_wordsbf16 | .inr 1 => k0_off20_wordsbf16 | .inr 2 => k0_off21_wordsbf16), by decide,
    (fun | 0 => k0_off34 | 1 => k0_off35 | 2 => k0_off36), (fun | 0 => k0_off34_inb | 1 => k0_off35_inb | 2 => k0_off36_inb), by decide,
    squeezes_S1x2x128x1024_S2x128x1024, squeezes_S1x128x1024_S128x1024, squeezes_S1x1x128x1024_S128x1024⟩

def spots_1024_704 : Spots 1024 704 :=
  ⟨k0_off3, k0_off3_inb, k0_off3_wordsbf16, by decide, k0_off11, k0_off11_inb, k0_off11_wordsbf16, by decide,
    (fun | .inl _ => k0_off10 | .inr 0 => k0_off22 | .inr 1 => k0_off23 | .inr 2 => k0_off24),
    (fun | .inl _ => k0_off10_inb | .inr 0 => k0_off22_inb | .inr 1 => k0_off23_inb | .inr 2 => k0_off24_inb),
    (fun | .inl _ => k0_off10_wordsbf16 | .inr 0 => k0_off22_wordsbf16 | .inr 1 => k0_off23_wordsbf16 | .inr 2 => k0_off24_wordsbf16), by decide,
    (fun | 0 => k0_off37 | 1 => k0_off38 | 2 => k0_off39), (fun | 0 => k0_off37_inb | 1 => k0_off38_inb | 2 => k0_off39_inb), by decide,
    squeezes_S1x2x1024x704_S2x1024x704, squeezes_S1x1024x704_S1024x704, squeezes_S1x1x1024x704_S1024x704⟩

def spots_704_1024 : Spots 704 1024 :=
  ⟨k0_off4, k0_off4_inb, k0_off4_wordsbf16, by decide, k0_off13, k0_off13_inb, k0_off13_wordsbf16, by decide,
    (fun | .inl _ => k0_off12 | .inr 0 => k0_off25 | .inr 1 => k0_off26 | .inr 2 => k0_off27),
    (fun | .inl _ => k0_off12_inb | .inr 0 => k0_off25_inb | .inr 1 => k0_off26_inb | .inr 2 => k0_off27_inb),
    (fun | .inl _ => k0_off12_wordsbf16 | .inr 0 => k0_off25_wordsbf16 | .inr 1 => k0_off26_wordsbf16 | .inr 2 => k0_off27_wordsbf16), by decide,
    (fun | 0 => k0_off40 | 1 => k0_off41 | 2 => k0_off42), (fun | 0 => k0_off40_inb | 1 => k0_off41_inb | 2 => k0_off42_inb), by decide,
    squeezes_S1x2x704x1024_S2x704x1024, squeezes_S1x704x1024_S704x1024, squeezes_S1x1x704x1024_S704x1024⟩

def spots_512_2304 : Spots 512 2304 :=
  ⟨k0_off5, k0_off5_inb, k0_off5_wordsbf16, by decide, k0_off15, k0_off15_inb, k0_off15_wordsbf16, by decide,
    (fun | .inl _ => k0_off14 | .inr 0 => k0_off28 | .inr 1 => k0_off29 | .inr 2 => k0_off30),
    (fun | .inl _ => k0_off14_inb | .inr 0 => k0_off28_inb | .inr 1 => k0_off29_inb | .inr 2 => k0_off30_inb),
    (fun | .inl _ => k0_off14_wordsbf16 | .inr 0 => k0_off28_wordsbf16 | .inr 1 => k0_off29_wordsbf16 | .inr 2 => k0_off30_wordsbf16), by decide,
    (fun | 0 => k0_off43 | 1 => k0_off44 | 2 => k0_off45), (fun | 0 => k0_off43_inb | 1 => k0_off44_inb | 2 => k0_off45_inb), by decide,
    squeezes_S1x2x512x2304_S2x512x2304, squeezes_S1x512x2304_S512x2304, squeezes_S1x1x512x2304_S512x2304⟩

/-- One of the seven arrays: the halves a chip's devices hold, the four chips' halves a device ends with, and the devices it sends to. -/
structure Item where
  {p q : ℕ}
  arg : Memref sig .tc .hbm ⟨3, ![2, p, q]⟩ .bf16
  res : Memref sig .tc .hbm ⟨4, ![4, 2, p, q]⟩ .bf16
  harg : arg.IsWhole
  hres : res.IsWhole
  spots : Spots p q
  peer : Way → Dev nD → ℕ
  lt : ∀ k c, peer k c < nD
  hpeer : ∀ k (c : Dev nD), peer k c = far k c

/-- The seven arrays. -/
def item : Fin 7 → Item
  | 0 => ⟨Memref.whole main_arg0, Memref.whole main_v1_0, Memref.isWhole_whole _, Memref.isWhole_whole _, spots_512_768,
      (fun | .inl 0 => k0_dev1 | .inl 1 => k0_dev2 | .inl 2 => k0_dev3 | .inr 0 => k0_dev22 | .inr 1 => k0_dev23 | .inr 2 => k0_dev24),
      (fun | .inl 0 => k0_dev1_lt | .inl 1 => k0_dev2_lt | .inl 2 => k0_dev3_lt | .inr 0 => k0_dev22_lt | .inr 1 => k0_dev23_lt | .inr 2 => k0_dev24_lt), by decide⟩
  | 1 => ⟨Memref.whole main_arg1, Memref.whole main_v1_1, Memref.isWhole_whole _, Memref.isWhole_whole _, spots_128_1024,
      (fun | .inl 0 => k0_dev4 | .inl 1 => k0_dev5 | .inl 2 => k0_dev6 | .inr 0 => k0_dev25 | .inr 1 => k0_dev26 | .inr 2 => k0_dev27),
      (fun | .inl 0 => k0_dev4_lt | .inl 1 => k0_dev5_lt | .inl 2 => k0_dev6_lt | .inr 0 => k0_dev25_lt | .inr 1 => k0_dev26_lt | .inr 2 => k0_dev27_lt), by decide⟩
  | 2 => ⟨Memref.whole main_arg2, Memref.whole main_v1_2, Memref.isWhole_whole _, Memref.isWhole_whole _, spots_1024_704,
      (fun | .inl 0 => k0_dev7 | .inl 1 => k0_dev8 | .inl 2 => k0_dev9 | .inr 0 => k0_dev28 | .inr 1 => k0_dev29 | .inr 2 => k0_dev30),
      (fun | .inl 0 => k0_dev7_lt | .inl 1 => k0_dev8_lt | .inl 2 => k0_dev9_lt | .inr 0 => k0_dev28_lt | .inr 1 => k0_dev29_lt | .inr 2 => k0_dev30_lt), by decide⟩
  | 3 => ⟨Memref.whole main_arg3, Memref.whole main_v1_3, Memref.isWhole_whole _, Memref.isWhole_whole _, spots_1024_704,
      (fun | .inl 0 => k0_dev10 | .inl 1 => k0_dev11 | .inl 2 => k0_dev12 | .inr 0 => k0_dev31 | .inr 1 => k0_dev32 | .inr 2 => k0_dev33),
      (fun | .inl 0 => k0_dev10_lt | .inl 1 => k0_dev11_lt | .inl 2 => k0_dev12_lt | .inr 0 => k0_dev31_lt | .inr 1 => k0_dev32_lt | .inr 2 => k0_dev33_lt), by decide⟩
  | 4 => ⟨Memref.whole main_arg4, Memref.whole main_v1_4, Memref.isWhole_whole _, Memref.isWhole_whole _, spots_704_1024,
      (fun | .inl 0 => k0_dev13 | .inl 1 => k0_dev14 | .inl 2 => k0_dev15 | .inr 0 => k0_dev34 | .inr 1 => k0_dev35 | .inr 2 => k0_dev36),
      (fun | .inl 0 => k0_dev13_lt | .inl 1 => k0_dev14_lt | .inl 2 => k0_dev15_lt | .inr 0 => k0_dev34_lt | .inr 1 => k0_dev35_lt | .inr 2 => k0_dev36_lt), by decide⟩
  | 5 => ⟨Memref.whole main_arg5, Memref.whole main_v1_5, Memref.isWhole_whole _, Memref.isWhole_whole _, spots_512_2304,
      (fun | .inl 0 => k0_dev16 | .inl 1 => k0_dev17 | .inl 2 => k0_dev18 | .inr 0 => k0_dev37 | .inr 1 => k0_dev38 | .inr 2 => k0_dev39),
      (fun | .inl 0 => k0_dev16_lt | .inl 1 => k0_dev17_lt | .inl 2 => k0_dev18_lt | .inr 0 => k0_dev37_lt | .inr 1 => k0_dev38_lt | .inr 2 => k0_dev39_lt), by decide⟩
  | 6 => ⟨Memref.whole main_arg6, Memref.whole main_v1_6, Memref.isWhole_whole _, Memref.isWhole_whole _, spots_128_1024,
      (fun | .inl 0 => k0_dev19 | .inl 1 => k0_dev20 | .inl 2 => k0_dev21 | .inr 0 => k0_dev40 | .inr 1 => k0_dev41 | .inr 2 => k0_dev42),
      (fun | .inl 0 => k0_dev19_lt | .inl 1 => k0_dev20_lt | .inl 2 => k0_dev21_lt | .inr 0 => k0_dev40_lt | .inr 1 => k0_dev41_lt | .inr 2 => k0_dev42_lt), by decide⟩

/-- The place of array `t` for both pieces of a device's own chip. -/
abbrev home (t : Fin 7) (c : Dev nD) : Memref sig .tc .hbm ⟨3, ![2, (item t).p, (item t).q]⟩ .bf16 :=
  box (item t).res ((item t).spots.own c) ![1, 2, (item t).p, (item t).q] ((item t).spots.own_inb c) (item t).spots.sq4

/-- The piece of its own that a device sends. -/
abbrev piece (t : Fin 7) (c : Dev nD) : Memref sig .tc .hbm ⟨2, ![(item t).p, (item t).q]⟩ .bf16 :=
  box (item t).arg ((item t).spots.src c) ![1, (item t).p, (item t).q] ((item t).spots.src_inb c) (item t).spots.sq3

/-- The place that copy `k` of device `c` writes, on the device it goes to. -/
abbrev place (t : Fin 7) (k : Way) (c : Dev nD) : Memref sig .tc .hbm ⟨2, ![(item t).p, (item t).q]⟩ .bf16 :=
  box (item t).res ((item t).spots.dst k c) ![1, 1, (item t).p, (item t).q] ((item t).spots.dst_inb k c) (item t).spots.sq2

/-- What copy `k` reads. -/
def origin (t : Fin 7) (k : Way) (c : Dev nD) : Memref sig .tc .hbm ⟨2, ![(item t).p, (item t).q]⟩ .bf16 :=
  match k with
  | .inl _ => piece t c
  | .inr j => place t (.inr j) c

/-- What the wait for the arrival of copy `k` names. -/
def named (t : Fin 7) (k : Way) (c : Dev nD) : Memref sig .tc .hbm ⟨2, ![(item t).p, (item t).q]⟩ .bf16 :=
  match k with
  | .inl j => place t (.inr j) c
  | .inr j => box (item t).res ((item t).spots.last j c) ![1, 1, (item t).p, (item t).q] ((item t).spots.last_inb j c) (item t).spots.sq2

theorem place_exact (t : Fin 7) (k : Way) (c : Dev nD) : (place t k c).view.WordExact :=
  ((item t).hres.wordExact_slice rfl _ ((item t).spots.dst_words k c)).reshape _ _

theorem origin_exact (t : Fin 7) (k : Way) (c : Dev nD) : (origin t k c).view.WordExact :=
  match k with
  | .inl _ => ((item t).harg.wordExact_slice rfl _ ((item t).spots.src_words c)).reshape _ _
  | .inr j => place_exact t (.inr j) c

/-- Remote copy `i` is copy `step i` of array `grad i`. -/
def grad (i : Fin 42) : Fin 7 := ⟨i.val / 6, by omega⟩

def way : Fin 6 → Way
  | 0 => .inl 0
  | 1 => .inl 1
  | 2 => .inl 2
  | 3 => .inr 0
  | 4 => .inr 1
  | 5 => .inr 2

def rank : Way → ℕ
  | .inl j => j.val
  | .inr j => 3 + j.val

theorem rank_lt (k : Way) : rank k < 6 := by revert k; decide

def step (i : Fin 42) : Way := way ⟨i.val % 6, by omega⟩

def parts : Fin 42 ≃ Fin 7 × Way :=
  ⟨fun i => (grad i, step i), fun x => ⟨6 * x.1.val + rank x.2, by have := rank_lt x.2; omega⟩, by decide, by decide⟩

def keep (t : Fin 7) (c : Dev nD) : Leg sig :=
  ⟨(item t).arg, home t c, (item t).harg.wordExact, ((item t).hres.wordExact_slice rfl _ ((item t).spots.own_words c)).reshape _ _, rfl⟩

def send (t : Fin 7) (k : Way) (c : Dev nD) : Leg sig :=
  ⟨origin t k c, place t k c, origin_exact t k c, place_exact t k c, rfl⟩

def sems : Cell 7 42 → DmaSem sig
  | .inl t => semAt hcc0_scratch2 t.val (one_in t) squeezes_S1_S_
  | .inr (.inl i) => semAt hcc0_scratch0 i.val (one_in i) squeezes_S1_S_
  | .inr (.inr i) => semAt hcc0_scratch1 i.val (one_in i) squeezes_S1_S_

theorem far_back (k : Way) (c d : Dev nD) (h : d.val = far k c) : far k d = c.val := by revert k c d; decide

/-- What a copy wrote at a place, its receiver finds there. -/
theorem landing (k : Way) (c d : Dev nD) (h : d.val = far k c) : spotChip k d = chip (arm k) c ∧ d.val % 2 = core k c := by revert k c d; decide

theorem four_ways (c : Dev nD) (k k' : Way) (h : k ≠ k') : chip (arm k) c ≠ chip (arm k') c ∨ core k c ≠ core k' c := by revert c k k'; decide

/-- The device copy `k` of array `t` goes to. -/
def peer (t : Fin 7) (k : Way) : Dev nD ≃ Dev nD :=
  have h : Function.Involutive fun c : Dev nD => (⟨(item t).peer k c, (item t).lt k c⟩ : Dev nD) := fun c => Fin.ext (by
    show (item t).peer k ⟨(item t).peer k c, (item t).lt k c⟩ = _
    rw [(item t).hpeer, far_back k c _ ((item t).hpeer k c)])
  ⟨fun c => ⟨(item t).peer k c, (item t).lt k c⟩, fun c => ⟨(item t).peer k c, (item t).lt k c⟩, h, h⟩

theorem from_val (t : Fin 7) (k : Way) (c : Dev nD) : ((peer t k).symm c).val = far k c := (item t).hpeer k c

/-- The share of its source that a copy reads. -/
def share : Way → PosShare TreeShare
  | .inl 0 => fullShare.right.left
  | .inl 1 => fullShare.right.right.left
  | .inl 2 => fullShare.right.right.right
  | .inr _ => fullShare

def plan : Plan nD sig 7 42 where
  sem := sems
  keep := keep
  move i := send (grad i) (step i)
  peer i := peer (grad i) (step i)
  spot
    | .inl t, c => ⟨home t c⟩
    | .inr (.inl i), c => ⟨origin (grad i) (step i) c⟩
    | .inr (.inr i), c => ⟨named (grad i) (step i) c⟩
  qk _ := fullShare.left
  qm i := share (step i)
  amt
    | .inl t => RefSig.tileCredit ⟨3, ![2, (item t).p, (item t).q]⟩ .bf16
    | .inr (.inl i) => RefSig.tileCredit ⟨2, ![(item (grad i)).p, (item (grad i)).q]⟩ .bf16
    | .inr (.inr i) => RefSig.tileCredit ⟨2, ![(item (grad i)).p, (item (grad i)).q]⟩ .bf16

def kept : List (Fin 7) := [0, 1, 2, 3, 4, 5, 6]

/-- The copies to the other chips, and those to the sibling. -/
def sent : List (Fin 42) := [0, 1, 2, 6, 7, 8, 12, 13, 14, 18, 19, 20, 24, 25, 26, 30, 31, 32, 36, 37, 38]

def late : List (Fin 42) := [3, 4, 5, 9, 10, 11, 15, 16, 17, 21, 22, 23, 27, 28, 29, 33, 34, 35, 39, 40, 41]

def first : List (Fin 7 ⊕ Fin 42) := kept.map .inl ++ sent.map .inr

def mid : List (Fin 42 × Fin 42) := sent.zip late

def rest : List (Cell 7 42) :=
  late.map (fun i => .inr (.inr i)) ++ (sent.map (fun i => .inr (.inl i)) ++ (late.map (fun i => .inr (.inl i)) ++ kept.map .inl))

set_option maxRecDepth 40000 in
theorem body_eq (t : Fin cfg0.N) (s : (w : Fin cfg0.W) → Fin (cfg0.win w).nbuf) :
    (defs₀ (F := F) .tc cfg0.body (cfg0.bodyArgs t s) : Prog (TpuEff nD τ sig (Elt F) Λ₀ .tc) PUnit)
      = .op .deviceId fun d => run (effects plan d first mid rest) (.ret ⟨⟩) := rfl

theorem fits : plan.Fits where
  sem_inj := by
    rintro (s | s | s) (t | t | t) h <;> have h := congrArg Fin.val h <;> simp only [plan, sems, semAt_val] at h <;>
      first
        | (obtain rfl : s = t := Fin.ext (by omega); rfl)
        | (exfalso; have := s.isLt; have := t.isLt; omega)
  amt_pos q := by rcases q with t | t | t <;> (revert t; decide)
  keep_amt _ _ := rfl
  send_amt _ _ := rfl
  recv_amt _ _ := rfl
  spot_amt q _ := by rcases q with t | t | t <;> rfl

theorem mem_late (t : Fin 7) (j : Fin 3) : parts.symm (t, .inr j) ∈ late := by revert t j; decide

theorem of_mid (p : Fin 42 × Fin 42) (h : p ∈ mid) : ∃ t j, p = (parts.symm (t, .inl j), parts.symm (t, .inr j)) := by
  have e : mid = (List.finRange 21).map fun i => (parts.symm ((ChipExchangeIdeal.parts i).1, .inl (ChipExchangeIdeal.parts i).2),
    parts.symm ((ChipExchangeIdeal.parts i).1, .inr (ChipExchangeIdeal.parts i).2)) := by decide
  rw [e] at h
  obtain ⟨i, -, rfl⟩ := List.mem_map.mp h
  exact ⟨_, _, rfl⟩

set_option maxRecDepth 8000 in
theorem order : Order first mid late rest where
  starts := by decide
  arrivals := by decide
  waits := by decide
  apart := by decide

/-- Both pieces of one chip, read. -/
theorem pair_at {n p q : ℕ} {e : EltTy} (A : Memref sig .tc .hbm ⟨4, ![n, 2, p, q]⟩ e) {off : Fin 4 → ℕ}
    {inb : ∀ a, off a + (![1, 2, p, q] : Fin 4 → ℕ) a ≤ (![n, 2, p, q] : Fin 4 → ℕ) a} {sq : Shape.Squeezes ⟨4, ![1, 2, p, q]⟩ ⟨3, ![2, p, q]⟩} {k : ℕ}
    (ho : off = ![k, 0, 0, 0]) {Val : EltTy → Type} (f : A.view.ty.Contents Val) (x : Shape.Idx ⟨3, ![2, p, q]⟩) (i : Shape.Idx ⟨4, ![n, 2, p, q]⟩)
    (h0 : (i 0).val = k) (h1 : (i 1).val = (x 0).val) (h2 : (i 2).val = (x 1).val) (h3 : (i 3).val = (x 2).val) :
    (box A off ![1, 2, p, q] inb sq).view.read Val f x = A.view.read Val f i := by
  subst ho
  refine box_at A f x (at4 (0 : Fin 1) (x 0) (x 1) (x 2)) ?_ i fun a => ?_
  · rw [Shape.rowMajor_val_four, Shape.rowMajor_val_three]
    show ((0 * 2 + (x 0).val) * p + (x 1).val) * q + (x 2).val = ((x 0).val * p + (x 1).val) * q + (x 2).val
    rw [Nat.zero_mul, Nat.zero_add]
  · match a with
    | 0 => exact h0
    | 1 => exact h1.trans (Nat.zero_add _).symm
    | 2 => exact h2.trans (Nat.zero_add _).symm
    | 3 => exact h3.trans (Nat.zero_add _).symm

/-- One piece, read. -/
theorem piece_at {n n' p q : ℕ} {e : EltTy} (A : Memref sig .tc .hbm ⟨4, ![n, n', p, q]⟩ e) {off : Fin 4 → ℕ}
    {inb : ∀ a, off a + (![1, 1, p, q] : Fin 4 → ℕ) a ≤ (![n, n', p, q] : Fin 4 → ℕ) a} {sq : Shape.Squeezes ⟨4, ![1, 1, p, q]⟩ ⟨2, ![p, q]⟩} {k l : ℕ}
    (ho : off = ![k, l, 0, 0]) {Val : EltTy → Type} (f : A.view.ty.Contents Val) (x : Shape.Idx ⟨2, ![p, q]⟩) (i : Shape.Idx ⟨4, ![n, n', p, q]⟩)
    (h0 : (i 0).val = k) (h1 : (i 1).val = l) (h2 : (i 2).val = (x 0).val) (h3 : (i 3).val = (x 1).val) :
    (box A off ![1, 1, p, q] inb sq).view.read Val f x = A.view.read Val f i := by
  subst ho
  refine box_at A f x (at4 (0 : Fin 1) (0 : Fin 1) (x 0) (x 1)) ?_ i fun a => ?_
  · rw [Shape.rowMajor_val_four, Shape.rowMajor_val_two]
    show ((0 * 1 + 0) * p + (x 0).val) * q + (x 1).val = (x 0).val * q + (x 1).val
    rw [Nat.zero_mul, Nat.zero_add]
  · match a with
    | 0 => exact h0
    | 1 => exact h1
    | 2 => exact h2.trans (Nat.zero_add _).symm
    | 3 => exact h3.trans (Nat.zero_add _).symm

/-- A box depends on its offset only. -/
theorem box_congr {s t : Shape} {e : EltTy} (A : Memref sig .tc .hbm s e) {off off' sz : Fin s.rank → ℕ} {inb inb'} {sq : Shape.Squeezes ⟨s.rank, sz⟩ t}
    (h : off = off') : box A off sz inb sq = box A off' sz inb' sq := by
  subst h; rfl

section Memory
variable {Val : EltTy → Type}

local notation "𝕄" => MT nD τ sig Unit Val ℕ (UU nD τ sig) ℕ

/-- Array `t` as device `c` holds it, and the piece of it that the device sends. -/
def whole_at (m : (ℓ : Loc nD τ sig) → Buf Val ℓ) (t : Fin 7) (c : Dev nD) : Shape.Idx ⟨3, ![2, (item t).p, (item t).q]⟩ → Val .bf16 :=
  (item t).arg.view.read Val (m ((item t).arg.view.loc (c.tc : Thread nD τ)))

def piece_of (m : (ℓ : Loc nD τ sig) → Buf Val ℓ) (t : Fin 7) (c : Dev nD) : Shape.Idx ⟨2, ![(item t).p, (item t).q]⟩ → Val .bf16 :=
  (piece t c).view.read Val (m ((item t).arg.view.loc (c.tc : Thread nD τ)))

/-- What copy `k` brings: the sender's own piece, or the one it was sent before. -/
def brought (m : (ℓ : Loc nD τ sig) → Buf Val ℓ) (t : Fin 7) (k : Way) (c : Dev nD) : Shape.Idx ⟨2, ![(item t).p, (item t).q]⟩ → Val .bf16 :=
  match k with
  | .inl _ => piece_of m t c
  | .inr j => piece_of m t ((peer t (.inl j)).symm c)

abbrev brought_by (m : (ℓ : Loc nD τ sig) → Buf Val ℓ) (i : Fin 42) (c : Dev nD) : Shape.Idx ⟨2, ![(item (grad i)).p, (item (grad i)).q]⟩ → Val .bf16 :=
  brought m (grad i) (step i) c

theorem source_at (m : (ℓ : Loc nD τ sig) → Buf Val ℓ) (c : Dev nD) (t : Fin 7) (k : Way) (i : Fin 42) (h : parts i = (t, k)) :
    (source plan (whole_at m) (brought_by m) c (.inr i) : sProp 𝕄) = owns (c.tc : Thread nD τ) (origin t k c) (share k) (brought m t k c) := by
  have h : (grad i, step i) = (t, k) := h
  obtain ⟨rfl, rfl⟩ := Prod.mk.inj h
  rfl

theorem arrival_at (m : (ℓ : Loc nD τ sig) → Buf Val ℓ) (c : Dev nD) (t : Fin 7) (k : Way) (i : Fin 42) (h : parts i = (t, k)) :
    (arrival plan (brought_by m) c i : sProp 𝕄)
      = owns (c.tc : Thread nD τ) (place t k ((peer t k).symm c)) fullShare (brought m t k ((peer t k).symm c)) := by
  have h : (grad i, step i) = (t, k) := h
  obtain ⟨rfl, rfl⟩ := Prod.mk.inj h
  rfl

/-- Where the pieces that arrive lie. -/
theorem landed (t : Fin 7) (k : Way) (c : Dev nD) : (item t).spots.dst k ((peer t k).symm c) = ![chip (arm k) c, core k c, 0, 0] := by
  obtain ⟨h1, h2⟩ := landing k c _ (from_val t k c)
  rw [(item t).spots.hdst, h1, h2]

/-- What arrives from another chip is what is passed on. -/
theorem link (m : (ℓ : Loc nD τ sig) → Buf Val ℓ) (p : Fin 42 × Fin 42) (hp : p ∈ mid) (c : Dev nD) :
    (arrival plan (brought_by m) c p.1 : sProp 𝕄) ⊢ source plan (whole_at m) (brought_by m) c (.inr p.2) := by
  obtain ⟨t, j, rfl⟩ := of_mid p hp
  have e : place t (.inl j) ((peer t (.inl j)).symm c) = place t (.inr j) c :=
    box_congr (item t).res ((landed t (.inl j) c).trans ((item t).spots.hdst (.inr j) c).symm)
  have h := arrival_at m c t (.inl j) _ (parts.apply_symm_apply _)
  rw [e] at h
  show arrival plan (brought_by m) c (parts.symm (t, .inl j)) ⊢ source plan (whole_at m) (brought_by m) c (.inr (parts.symm (t, .inr j)))
  rw [h, source_at m c t (.inr j) _ (parts.apply_symm_apply _)]
  exact BI.Entails.refl _

theorem sources (m : (ℓ : Loc nD τ sig) → Buf Val ℓ) (c : Dev nD) (t : Fin 7) :
    (((item t).arg.view.loc (c.tc : Thread nD τ)) ↦{fullShare} m ((item t).arg.view.loc (c.tc : Thread nD τ)))
      ⊢ (iprop(source plan (whole_at m) (brought_by m) c (.inl t)
        ∗ bigSep Finset.univ fun j => source plan (whole_at m) (brought_by m) c (.inr (parts.symm (t, .inl j)))) : sProp 𝕄) := by
  have ha : (((item t).arg.view.loc (c.tc : Thread nD τ)) ↦{fullShare.left} m ((item t).arg.view.loc (c.tc : Thread nD τ)))
      ⊢ (source plan (whole_at m) (brought_by m) c (.inl t) : sProp 𝕄) := owns_array c.tc (item t).arg (item t).harg fullShare.left _
  have hb : (((item t).arg.view.loc (c.tc : Thread nD τ)) ↦{fullShare.right} m ((item t).arg.view.loc (c.tc : Thread nD τ)))
      ⊢ (owns (c.tc : Thread nD τ) (piece t c) fullShare.right (piece_of m t c) : sProp 𝕄) :=
    (pointsTo_split_subset (Finset.subset_univ (piece t c).view.set)).1.trans
      (sep_elim_left.trans (owns_intro (c.tc : Thread nD τ) (piece t c) fullShare.right (m ((item t).arg.view.loc (c.tc : Thread nD τ)))))
  rw [BI.bigSep_univ_eq_bigSepL [(0 : Fin 3), 1, 2] (by decide) (by decide)]
  show _ ⊢ iprop(_ ∗ (source plan (whole_at m) (brought_by m) c (.inr (parts.symm (t, .inl 0)))
    ∗ source plan (whole_at m) (brought_by m) c (.inr (parts.symm (t, .inl 1))) ∗ source plan (whole_at m) (brought_by m) c (.inr (parts.symm (t, .inl 2)))))
  rw [source_at m c t (.inl 0) _ (parts.apply_symm_apply _), source_at m c t (.inl 1) _ (parts.apply_symm_apply _),
    source_at m c t (.inl 2) _ (parts.apply_symm_apply _)]
  iintro H
  ihave H := (pointsTo_share (PosShare.mem_left_op_right fullShare)).1 $$ H
  icases H with ⟨Ha, Hb⟩
  isplitl [Ha]
  · ihave Ha := ha $$ Ha
    iexact Ha
  ihave Hb := hb $$ Hb
  ihave Hb := (owns_halves (c.tc : Thread nD τ) (piece t c) fullShare.right (piece_of m t c)).1 $$ Hb
  icases Hb with ⟨H0, Hb⟩
  ihave Hb := (owns_halves (c.tc : Thread nD τ) (piece t c) fullShare.right.right (piece_of m t c)).1 $$ Hb
  icases Hb with ⟨H1, H2⟩
  isplitl [H0]
  · iexact H0
  isplitl [H1]
  · iexact H1
  · iexact H2

theorem places (m : (ℓ : Loc nD τ sig) → Buf Val ℓ) (c : Dev nD) (t : Fin 7) :
    (((item t).res.view.loc (c.tc : Thread nD τ)) ↦{fullShare} m ((item t).res.view.loc (c.tc : Thread nD τ)))
      ⊢ (iprop(room plan c (.inl t) ∗ bigSep Finset.univ fun k => iprop(∃ f, (item t).res.view.loc (c.tc : Thread nD τ)
          ↦[(place t k ((peer t k).symm c)).view.set]{fullShare} f)) : sProp 𝕄) := by
  have hn (k : Way) : Disjoint (home t c).view.set (place t k ((peer t k).symm c)).view.set :=
    box_disjoint (item t).res 0 (by
      have h := away c (arm k)
      rw [(item t).spots.hown, landed]
      show c.val / 2 + 1 ≤ chip (arm k) c ∨ chip (arm k) c + 1 ≤ c.val / 2
      omega)
  have hp (k k' : Way) (hk : k ≠ k') : Disjoint (place t k ((peer t k).symm c)).view.set (place t k' ((peer t k').symm c)).view.set := by
    rcases four_ways c k k' hk with h | h
    · refine box_disjoint (item t).res 0 ?_
      rw [landed, landed]
      show chip (arm k) c + 1 ≤ chip (arm k') c ∨ chip (arm k') c + 1 ≤ chip (arm k) c
      omega
    · refine box_disjoint (item t).res 1 ?_
      rw [landed, landed]
      show core k c + 1 ≤ core k' c ∨ core k' c + 1 ≤ core k c
      omega
  have h := scatter (nD := nD) (τ := τ) (Val := Val) (T := Unit ⊕ Way) (ℓ := (item t).res.view.loc (c.tc : Thread nD τ)) (S := Finset.univ) (q := fullShare)
    (f := m ((item t).res.view.loc (c.tc : Thread nD τ)))
    (Sum.elim (fun _ => (home t c).view.set) fun k => (place t k ((peer t k).symm c)).view.set) (fun _ => Finset.subset_univ _)
    (by
      rintro (⟨⟩ | k) (⟨⟩ | k') hk
      · exact absurd rfl hk
      · exact hn k'
      · exact (hn k).symm
      · exact hp k k' fun e => hk (congrArg _ e))
  have hx (K : Finset (Idx ((item t).res.view.loc (c.tc : Thread nD τ)))) :
      (((item t).res.view.loc (c.tc : Thread nD τ)) ↦[K]{fullShare} m ((item t).res.view.loc (c.tc : Thread nD τ)))
        ⊢ (iprop(∃ f, (item t).res.view.loc (c.tc : Thread nD τ) ↦[K]{fullShare} f) : sProp 𝕄) := by
    iintro H
    iexists m ((item t).res.view.loc (c.tc : Thread nD τ))
    iexact H
  have h := h.trans (show _ ⊢ _ from bigSep_mono fun k _ => hx _)
  rw [one_more] at h
  exact h

theorem split (m : (ℓ : Loc nD τ sig) → Buf Val ℓ) (c : Dev nD) :
    (unscopedBufs c fun r => m ((c.tc : Thread nD τ).loc r)) ⊢ (stock plan (whole_at m) (brought_by m) first c : sProp 𝕄) := by
  have hf : first = (List.finRange 7).map Sum.inl
      ++ (List.finRange 21).map fun i => Sum.inr (parts.symm ((ChipExchangeIdeal.parts i).1, .inl (ChipExchangeIdeal.parts i).2)) := by decide
  refine (arrays_dealt c _ ((List.finRange 7).map (fun t => (item t).arg.view.ref) ++ (List.finRange 7).map fun t => (item t).res.view.ref)
    (by decide) (by decide)).trans ?_
  unfold stock
  rw [hf, bigSepL_append, bigSepL_append, bigSepL_map, bigSepL_map, bigSepL_map, bigSepL_map, ← chain_fin, ← chain_fin, ← chain_fin, ← chain_fin]
  iintro ⟨H1, H2⟩
  ihave H1 := (halves (sources m c)) $$ H1
  icases H1 with ⟨Ha, Hb⟩
  ihave H2 := (halves (places m c)) $$ H2
  icases H2 with ⟨Hc, Hd⟩
  isplitl [Ha Hb]
  · isplitl [Ha]
    · iexact Ha
    · iapply (by_pairs ChipExchangeIdeal.parts fun t j => source plan (whole_at m) (brought_by m) c (.inr (parts.symm (t, .inl j))))
      iexact Hb
  isplitl [Hc]
  · iexact Hc
  · iapply (by_pairs parts fun t k => iprop(∃ f, (item t).res.view.loc (c.tc : Thread nD τ)
          ↦[(place t k ((peer t k).symm c)).view.set]{fullShare} f))
    iexact Hd

end Memory

theorem defs_run (m : (ℓ : Loc nD τ sig) → Buf (Elt F) ℓ) (g : Dev nD → PrngReg) :
    θ_run (defs (F := F)) (onTc main) ⟨m, fun _ => 0, g⟩ fun r =>
      (∀ c : Dev nD, ∀ q ∈ rest, shown plan (whole_at m) (brought_by m) r.2.mem c q)
        ∧ ∀ g' : GSem nD τ sig, (g'.1.2 ≠ .tc ∨ g'.2.isScoped .tc = true) → r.2.sem g' = 0 :=
  whole plan (whole_at m) (brought_by m) fits cfg0 order (fun _ _ => Topo.routes_tc _ _) (link m) (inferInstanceAs (IsEmpty (Fin 0))) N_0
    (inferInstanceAs (IsEmpty (Fin 0))) cellOf_inj winFacts0 ⟨by decide, fun _ _ h => fits.sem_inj (SemLoc.dma.inj h), by decide⟩ scopedRest0_eq defs₀
    (fun t s c Q => by rw [body_eq t s]) m g main (fun _ => rfl) (split m)

/-- From any memory the program terminates with the arrays as they were, and every device ends, in place `k` and `l`, with piece `l` of a
    device of chip `k`. -/
theorem gathered (m : (ℓ : Loc nD τ sig) → Buf (Elt F) ℓ) (g : Dev nD → PrngReg) :
    θ_run (defs (F := F)) (onTc main) ⟨m, fun _ => 0, g⟩ fun r =>
      (∀ (c : Dev nD) (t : Fin 7), whole_at r.2.mem t c = whole_at m t c
        ∧ ∀ i, ∃ d : Dev nD, d.val / 2 = (i 0).val
          ∧ (item t).res.view.read (Elt F) (r.2.mem ((item t).res.view.loc (c.tc : Thread nD τ))) i = whole_at m t d (at3 (i 1) (i 2) (i 3)))
        ∧ r.2.sem = fun _ => 0 := by
  refine (θ_run _ _ _).mono (fun r h => ⟨fun c t => ?_, sem_eq_zero_of_scoped (by decide) h.2⟩) (defs_run m g)
  have hk : shown plan (whole_at m) (brought_by m) r.2.mem c (.inl t) := h.1 c _ (order.mem_keep t)
  have hs (j : Fin 3) : (place t (.inr j) c).view.read (Elt F) (r.2.mem ((item t).res.view.loc (c.tc : Thread nD τ)))
      = piece_of m t ((peer t (.inl j)).symm c) := by
    have e : (grad (parts.symm (t, .inr j)), step (parts.symm (t, .inr j))) = (t, .inr j) := parts.apply_symm_apply (t, .inr j)
    have h := h.1 c _ (order.mem_send (parts.symm (t, .inr j)))
    have h : (fun x : Fin 7 × Way => (origin x.1 x.2 c).view.read (Elt F) (r.2.mem ((origin x.1 x.2 c).view.loc (c.tc : Thread nD τ))) = brought m x.1 x.2 c)
      (grad (parts.symm (t, .inr j)), step (parts.symm (t, .inr j))) := h
    rw [e] at h
    exact h
  have hr (j : Fin 3) : (place t (.inr j) ((peer t (.inr j)).symm c)).view.read (Elt F) (r.2.mem ((item t).res.view.loc (c.tc : Thread nD τ)))
      = piece_of m t ((peer t (.inl j)).symm ((peer t (.inr j)).symm c)) := by
    have e : (grad (parts.symm (t, .inr j)), step (parts.symm (t, .inr j))) = (t, .inr j) := parts.apply_symm_apply (t, .inr j)
    have h := h.1 c _ (order.mem_late (mem_late t j))
    have h : (fun x : Fin 7 × Way => (place x.1 x.2 ((peer x.1 x.2).symm c)).view.read (Elt F) (r.2.mem ((item x.1).res.view.loc (c.tc : Thread nD τ)))
      = brought m x.1 x.2 ((peer x.1 x.2).symm c)) (grad (parts.symm (t, .inr j)), step (parts.symm (t, .inr j))) := h
    rw [e] at h
    exact h
  have hP (d : Dev nD) (x : Shape.Idx ⟨2, ![(item t).p, (item t).q]⟩) (i : Shape.Idx ⟨3, ![2, (item t).p, (item t).q]⟩)
      (h0 : (i 0).val = d.val % 2) (h1 : (i 1).val = (x 0).val) (h2 : (i 2).val = (x 1).val) :
      piece_of m t d x = whole_at m t d i := slab_at (item t).arg ((item t).spots.hsrc d) _ x i h0 h1 h2
  have hH (f) (x : Shape.Idx ⟨3, ![2, (item t).p, (item t).q]⟩) (i : Shape.Idx ⟨4, ![4, 2, (item t).p, (item t).q]⟩)
      (h0 : (i 0).val = c.val / 2) (h1 : (i 1).val = (x 0).val) (h2 : (i 2).val = (x 1).val) (h3 : (i 3).val = (x 2).val) :
      (home t c).view.read (Elt F) f x = (item t).res.view.read (Elt F) f i := pair_at (item t).res ((item t).spots.hown c) f x i h0 h1 h2 h3
  have hS (j : Fin 3) (f) (x : Shape.Idx ⟨2, ![(item t).p, (item t).q]⟩) (i : Shape.Idx ⟨4, ![4, 2, (item t).p, (item t).q]⟩)
      (h0 : (i 0).val = chip j c) (h1 : (i 1).val = c.val % 2) (h2 : (i 2).val = (x 0).val) (h3 : (i 3).val = (x 1).val) :
      (place t (.inr j) c).view.read (Elt F) f x = (item t).res.view.read (Elt F) f i :=
    piece_at (item t).res ((item t).spots.hdst (.inr j) c) f x i h0 h1 h2 h3
  have hR (j : Fin 3) (f) (x : Shape.Idx ⟨2, ![(item t).p, (item t).q]⟩) (i : Shape.Idx ⟨4, ![4, 2, (item t).p, (item t).q]⟩)
      (h0 : (i 0).val = chip j c) (h1 : (i 1).val = 1 - c.val % 2) (h2 : (i 2).val = (x 0).val) (h3 : (i 3).val = (x 1).val) :
      (place t (.inr j) ((peer t (.inr j)).symm c)).view.read (Elt F) f x = (item t).res.view.read (Elt F) f i :=
    piece_at (item t).res (landed t (.inr j) c) f x i h0 h1 h2 h3
  refine ⟨hk.2, fun i => ?_⟩
  rcases on_chip (i 0).val (i 0).isLt c with e | ⟨j, e⟩
  · exact ⟨c, e.symm, (hH _ (at3 (i 1) (i 2) (i 3)) i e rfl rfl rfl).symm.trans (congrFun hk.1 _)⟩
  have h2 : (i 1).val < 2 := (i 1).isLt
  have hc := ChipExchangeIdeal.chip_lt j c
  by_cases e1 : (i 1).val = c.val % 2
  · have hd : ((peer t (.inl j)).symm c).val = 2 * chip j c + c.val % 2 := from_val t (.inl j) c
    exact ⟨(peer t (.inl j)).symm c, by rw [hd, e]; omega, (hS j _ (at2 (i 2) (i 3)) i e e1 rfl rfl).symm.trans
      ((congrFun (hs j) _).trans (hP _ _ _ (by rw [hd]; show (i 1).val = _; omega) rfl rfl))⟩
  · have hd' : ((peer t (.inr j)).symm c).val = 2 * (c.val / 2) + (1 - c.val % 2) := from_val t (.inr j) c
    have hd : ((peer t (.inl j)).symm ((peer t (.inr j)).symm c)).val = 2 * chip j ((peer t (.inr j)).symm c) + ((peer t (.inr j)).symm c).val % 2 :=
      from_val t (.inl j) _
    have hj : chip j ((peer t (.inr j)).symm c) = chip j c := (landing (.inr j) c _ hd').1
    rw [hj, hd'] at hd
    exact ⟨(peer t (.inl j)).symm ((peer t (.inr j)).symm c), by rw [hd, e]; omega,
      (hR j _ (at2 (i 2) (i 3)) i e (by omega) rfl rfl).symm.trans
        ((congrFun (hr j) _).trans (hP _ _ _ (by rw [hd]; show (i 1).val = _; omega) rfl rfl))⟩

end Cert.GatherIdeal

end
-- ==== Proof.GatherClaims.lean ====
/-
  The claims about the gathering of the weights.
-/
module

public import proofs.«01_k».proof.Proof.Gather
public import proofs.«01_k».proof.Proof.Gen.Gather
public import proofs.«01_k».proof.Proof.Gen.GatherReference.Run
public import proofs.«01_k».proof.Proof.Gen.GatherReferenceIdeal.Run

@[expose] public section

set_option Elab.async false

noncomputable section

namespace Cert.GatherIdeal

open Idealize Idealize.ShloMosaic Idealize.SL Idealize.SL.Sem TcCoe Cert.Copies Gen

variable {F : FTy → Type} [FloatOps F]

/-- The chip of a device, and its place along the other two axes, as the blocks are numbered. -/
abbrev laid (c : Dev nD) : (b : Fin 3) → Fin (Layout.cutSize [2, 2, 2] ((![[0, 1], [], []] : Fin 3 → List ℕ) b)) :=
  Layout.meshBlock [2, 2, 2] ![[0, 1], [], []] c

theorem laid_chip (c : Dev nD) : (laid c 0).val = c.val / 2 ∧ (laid c 1).val = 0 ∧ (laid c 2).val = 0 := by revert c; decide

/-- A device that ends with the pieces of all the chips, in order, ends with the whole array cut into pieces. -/
theorem all_pieces {α : Type} {p q : ℕ} (X : Shape.Idx ⟨3, ![8, p, q]⟩ → α) (h : Shape.ShapeCasts ⟨3, ![8, p, q]⟩ ⟨4, ![4, 2, p, q]⟩)
    (R : Shape.Idx ⟨4, ![4, 2, p, q]⟩ → α) (A : Dev nD → Shape.Idx ⟨3, ![2, p, q]⟩ → α)
    (hT : Layout.TilesN ⟨3, ![2, p, q]⟩ ⟨3, ![8, p, q]⟩ fun b : Fin 3 => Layout.cutSize [2, 2, 2] ((![[0, 1], [], []] : Fin 3 → List ℕ) b))
    (hA : ∀ d, A d = Layout.blockN ⟨3, ![2, p, q]⟩ ⟨3, ![8, p, q]⟩ (laid d) X hT)
    (hR : ∀ i, ∃ d : Dev nD, d.val / 2 = (i 0).val ∧ R i = A d (at3 (i 1) (i 2) (i 3))) : R = shapeCast ⟨4, ![4, 2, p, q]⟩ X h := by
  funext i
  obtain ⟨d, hd, e⟩ := hR i
  obtain ⟨h0, h1, h2⟩ := laid_chip d
  rw [e, hA, Layout.blockN_apply]
  refine (shapeCast_apply X h i _ ?_).symm
  rw [Shape.rowMajor_val_four, Shape.rowMajor_val_three]
  show (((laid d 0).val * 2 + (i 1).val) * p + ((laid d 1).val * p + (i 2).val)) * q + ((laid d 2).val * q + (i 3).val)
    = (((i 0).val * 2 + (i 1).val) * p + (i 2).val) * q + (i 3).val
  rw [h0, h1, h2, hd, Nat.zero_mul, Nat.zero_mul, Nat.zero_add, Nat.zero_add]

theorem tiles (t : Fin 7) : Layout.TilesN ⟨3, ![2, (item t).p, (item t).q]⟩ ⟨3, ![8, (item t).p, (item t).q]⟩
    fun b : Fin 3 => Layout.cutSize [2, 2, 2] ((![[0, 1], [], []] : Fin 3 → List ℕ) b) := by revert t; decide

theorem cuts (t : Fin 7) : Shape.ShapeCasts ⟨3, ![8, (item t).p, (item t).q]⟩ ⟨4, ![4, 2, (item t).p, (item t).q]⟩ := by revert t; decide

/-- If the devices of each chip hold that chip's blocks of whole arrays `X`, each ends with the reference's results. -/
theorem results (m : (ℓ : Loc nD τ sig) → Buf (Elt F) ℓ) (g : Dev nD → PrngReg)
    (X : (t : Fin 7) → Shape.Idx ⟨3, ![8, (item t).p, (item t).q]⟩ → Elt F .bf16)
    (hX : ∀ (c : Dev nD) (t : Fin 7), whole_at m t c = Layout.blockN _ _ (laid c) (X t) (tiles t)) :
    θ_run (defs (F := F)) (onTc main) ⟨m, fun _ => 0, g⟩ fun r => ∀ c : Dev nD,
      (∀ t, (item t).res.view.read (Elt F) (r.2.mem ((item t).res.view.loc (c.tc : Thread nD τ))) = shapeCast _ (X t) (cuts t))
      ∧ ∀ t, whole_at r.2.mem t c = whole_at m t c :=
  (θ_run _ _ _).mono (fun r h c => ⟨fun t => all_pieces (X t) _ _ (whole_at m t) (tiles t) (fun d => hX d t) (h.1 c t).2,
    fun t => (h.1 c t).1⟩) (gathered m g)

/-- The whole arrays, as the reference holds them. -/
def wholes (m' : (ℓ : Loc GatherReferenceIdeal.nD GatherReferenceIdeal.τ GatherReferenceIdeal.sig) → Buf (Elt F) ℓ) :
    (t : Fin 7) → Shape.Idx ⟨3, ![8, (item t).p, (item t).q]⟩ → Elt F .bf16
  | 0 => m' (((0 : Dev GatherReferenceIdeal.nD).tc : Thread GatherReferenceIdeal.nD GatherReferenceIdeal.τ).loc GatherReferenceIdeal.main_arg0)
  | 1 => m' (((0 : Dev GatherReferenceIdeal.nD).tc : Thread GatherReferenceIdeal.nD GatherReferenceIdeal.τ).loc GatherReferenceIdeal.main_arg1)
  | 2 => m' (((0 : Dev GatherReferenceIdeal.nD).tc : Thread GatherReferenceIdeal.nD GatherReferenceIdeal.τ).loc GatherReferenceIdeal.main_arg2)
  | 3 => m' (((0 : Dev GatherReferenceIdeal.nD).tc : Thread GatherReferenceIdeal.nD GatherReferenceIdeal.τ).loc GatherReferenceIdeal.main_arg3)
  | 4 => m' (((0 : Dev GatherReferenceIdeal.nD).tc : Thread GatherReferenceIdeal.nD GatherReferenceIdeal.τ).loc GatherReferenceIdeal.main_arg4)
  | 5 => m' (((0 : Dev GatherReferenceIdeal.nD).tc : Thread GatherReferenceIdeal.nD GatherReferenceIdeal.τ).loc GatherReferenceIdeal.main_arg5)
  | 6 => m' (((0 : Dev GatherReferenceIdeal.nD).tc : Thread GatherReferenceIdeal.nD GatherReferenceIdeal.τ).loc GatherReferenceIdeal.main_arg6)

/-- What the program leaves of its own arrays and of its semaphores. -/
theorem unchanged (m : (ℓ : Loc nD τ sig) → Buf (Elt F) ℓ) (g : Dev nD → PrngReg) :
    θ_run (defs (F := F)) (onTc main) ⟨m, fun _ => 0, g⟩ fun r => (∀ c : Dev nD, ∀ t, whole_at r.2.mem t c = whole_at m t c) ∧ r.2.sem = fun _ => 0 :=
  (θ_run _ _ _).mono (fun r h => ⟨fun c t => (h.1 c t).1, h.2⟩) (gathered m g)

theorem frame_bits : Cert.quiescent_Gather := fun m g _ =>
  (θ_run Cert.GatherIdeal.defs _ _).mono (fun r h => ⟨fun c => PairShareIdeal.to_seven (h.1 c), h.2⟩) (unchanged (F := Bits) m g)

theorem frame_ideal : Cert.quiescent_GatherIdeal := fun m g _ =>
  (θ_run _ _ _).mono (fun r h => ⟨fun c => PairShareIdeal.to_seven (h.1 c), h.2⟩) (unchanged (F := Ideal) m g)

theorem frame_reference : Cert.quiescent_GatherReferenceIdeal := fun m g _ =>
  (θ_run _ _ _).mono (fun r h => ⟨fun c => (h c).2.2.2.2.2.2.2, sem_eq_zero_of_no_sems rfl _⟩) (GatherReferenceIdeal.Value.run (F := Ideal) m g)

theorem frame_reference_bits : Cert.quiescent_GatherReference := fun m g _ =>
  (θ_run _ _ _).mono (fun r h => ⟨fun c => (h c).2.2.2.2.2.2.2, sem_eq_zero_of_no_sems rfl _⟩) (GatherReference.Value.run (F := Bits) m g)

theorem algebraic : Cert.algebraic_GatherIdeal_GatherReferenceIdeal := fun m g m' g' _ h =>
  ⟨_, _, _, _, _, _, _, (θ_run _ _ _).mono (fun r hr c => ⟨(hr c).1 0, (hr c).1 1, (hr c).1 2, (hr c).1 3, (hr c).1 4, (hr c).1 5, (hr c).1 6, (hr c).2 0, (hr c).2 1, (hr c).2 2, (hr c).2 3, (hr c).2 4, (hr c).2 5, (hr c).2 6⟩)
    (results (F := Ideal) m g (wholes m') fun c => PairShareIdeal.of_seven (h c)),
    (θ_run _ _ _).mono (fun r hr => hr 0) (GatherReferenceIdeal.Value.run (F := Ideal) m' g')⟩

theorem bitexact : Cert.bitexact_Gather_GatherReference := fun m g m' g' _ h =>
  ⟨_, _, _, _, _, _, _, (θ_run _ _ _).mono (fun r hr c => ⟨(hr c).1 0, (hr c).1 1, (hr c).1 2, (hr c).1 3, (hr c).1 4, (hr c).1 5, (hr c).1 6, (hr c).2 0, (hr c).2 1, (hr c).2 2, (hr c).2 3, (hr c).2 4, (hr c).2 5, (hr c).2 6⟩)
    (results (F := Bits) m g (wholes m') fun c => PairShareIdeal.of_seven (h c)),
    (θ_run _ _ _).mono (fun r hr => hr 0) (GatherReferenceIdeal.Value.run (F := Bits) m' g')⟩

end Cert.GatherIdeal

end
-- ==== Proof.Rows.lean ====
/-
  Calls that walk over the rows of their arrays, a block of whole rows at each grid point, and treat every element
  by itself; and the sum of four slabs, read element by element.
-/
module

public import proofs.«01_k».proof.Proof.Boxes
public import Idealize.ShloMosaic.Lib.Pipeline.Value

@[expose] public section

noncomputable section

namespace Cert.Rows

open Idealize Idealize.ShloMosaic Cert.Copies

theorem flat : (![0, 0] : Fin 2 → Nat) = fun _ => 0 := by decide

theorem flat₃ : (![0, 0, 0] : Fin 3 → Nat) = fun _ => 0 := by decide

/-- If every block of `b` rows is the block of some point, every index lies in the block of some point. -/
theorem some_block {N n b R C : ℕ} (index : Fin N → Fin 2 → ℕ) (onto : ∀ q : Fin n, ∃ t, index t = ![q.val, 0]) (hR : R = n * b)
    (i : Shape.Idx ⟨2, ![R, C]⟩) : ∃ t, ∀ a, index t a * (![b, C] : Fin 2 → ℕ) a ≤ (i a).val
      ∧ (i a).val < index t a * (![b, C] : Fin 2 → ℕ) a + (![b, C] : Fin 2 → ℕ) a := by
  have h0 : (i 0).val < n * b := hR ▸ (i 0).isLt
  have h1 : (i 1).val < C := (i 1).isLt
  have hb : 0 < b := Nat.pos_of_ne_zero fun h => by rw [h, Nat.mul_zero] at h0; omega
  obtain ⟨t, ht⟩ := onto ⟨(i 0).val / b, Nat.div_lt_of_lt_mul (Nat.mul_comm n b ▸ h0)⟩
  refine ⟨t, fun a => ?_⟩
  rw [ht]
  match a with
  | ⟨0, _⟩ =>
    show (i 0).val / b * b ≤ (i 0).val ∧ (i 0).val < (i 0).val / b * b + b
    exact ⟨Nat.div_mul_le_self _ _, Nat.lt_div_mul_add hb⟩
  | ⟨1, _⟩ =>
    show 0 * C ≤ (i 1).val ∧ (i 1).val < 0 * C + C
    omega

variable {F : FTy → Type} [FloatOps F]

/-- The sum of two arrays element by element, in float32, and back in bfloat16. -/
def both {S : Shape} (X Y : S.Idx → F .bf16) : S.Idx → F .bf16 :=
  truncf .bf16 (addf (extf .f32 X (by decide)) (extf .f32 Y (by decide))) (by decide)

/-- The sum of the four slabs of `X` at `i`, in float32. -/
def four {R C : ℕ} (X : Shape.Idx ⟨3, ![4, R, C]⟩ → F .bf16) (i : Shape.Idx ⟨2, ![R, C]⟩) : F .f32 :=
  let slab (k : Fin 4) : F .f32 := FloatOps.extf .f32 (by decide) (X (at3 k (i 0) (i 1)))
  FloatOps.addf (FloatOps.addf (FloatOps.addf (slab 0) (slab 1)) (slab 2)) (slab 3)

/-- Four slabs that agree at one index with four others have their sum there. -/
theorem four_congr {R C R' C' : ℕ} {X : Shape.Idx ⟨3, ![4, R, C]⟩ → F .bf16} {Y : Shape.Idx ⟨3, ![4, R', C']⟩ → F .bf16}
    {i : Shape.Idx ⟨2, ![R, C]⟩} {j : Shape.Idx ⟨2, ![R', C']⟩} (h : ∀ k, Y (at3 k (j 0) (j 1)) = X (at3 k (i 0) (i 1))) :
    four Y j = four X i := by
  simp only [four, h]

/-- A slab cut out of a stack of four, as a matrix. -/
theorem slab {α : Type} {R C : ℕ} (k : Fin 4) (X : Shape.Idx ⟨3, ![4, R, C]⟩ → α) (hs : Shape.Slices ⟨3, ![4, R, C]⟩ ![k.val, 0, 0] ⟨3, ![1, R, C]⟩)
    (hc : Shape.ShapeCasts ⟨3, ![1, R, C]⟩ ⟨2, ![R, C]⟩) (i : Shape.Idx ⟨2, ![R, C]⟩) :
    shapeCast ⟨2, ![R, C]⟩ (extractStridedSlice ⟨3, ![1, R, C]⟩ ![k.val, 0, 0] X hs) hc i = X (at3 k (i 0) (i 1)) := by
  refine (shapeCast_apply _ hc i (at3 (0 : Fin 1) (i 0) (i 1)) ?_).trans (extractStridedSlice_apply _ _ _ _ _ fun a => ?_)
  · rw [Shape.rowMajor_val_three, Shape.rowMajor_val_two]
    show (0 * R + (i 0).val) * C + (i 1).val = (i 0).val * C + (i 1).val
    rw [Nat.zero_mul, Nat.zero_add]
  · match a with
    | ⟨0, _⟩ => rfl
    | ⟨1, _⟩ => exact (Nat.zero_add _).symm
    | ⟨2, _⟩ => exact (Nat.zero_add _).symm

/-- The sum of the four slabs, written with cuts of the stack. -/
theorem four_slabs {R C : ℕ} (X : Shape.Idx ⟨3, ![4, R, C]⟩ → F .bf16) (hw : FTy.bits .bf16 < FTy.bits .f32)
    (h0 : Shape.Slices ⟨3, ![4, R, C]⟩ ![0, 0, 0] ⟨3, ![1, R, C]⟩) (h1 : Shape.Slices ⟨3, ![4, R, C]⟩ ![1, 0, 0] ⟨3, ![1, R, C]⟩)
    (h2 : Shape.Slices ⟨3, ![4, R, C]⟩ ![2, 0, 0] ⟨3, ![1, R, C]⟩) (h3 : Shape.Slices ⟨3, ![4, R, C]⟩ ![3, 0, 0] ⟨3, ![1, R, C]⟩)
    (hc : Shape.ShapeCasts ⟨3, ![1, R, C]⟩ ⟨2, ![R, C]⟩) :
    addf (addf (addf (shapeCast ⟨2, ![R, C]⟩ (extractStridedSlice ⟨3, ![1, R, C]⟩ ![0, 0, 0] (extf .f32 X hw) h0) hc)
      (shapeCast ⟨2, ![R, C]⟩ (extractStridedSlice ⟨3, ![1, R, C]⟩ ![1, 0, 0] (extf .f32 X hw) h1) hc))
      (shapeCast ⟨2, ![R, C]⟩ (extractStridedSlice ⟨3, ![1, R, C]⟩ ![2, 0, 0] (extf .f32 X hw) h2) hc))
      (shapeCast ⟨2, ![R, C]⟩ (extractStridedSlice ⟨3, ![1, R, C]⟩ ![3, 0, 0] (extf .f32 X hw) h3) hc) = four X := by
  funext i
  exact congrArg₂ FloatOps.addf (congrArg₂ FloatOps.addf (congrArg₂ FloatOps.addf (slab 0 _ h0 hc i) (slab 1 _ h1 hc i))
    (slab 2 _ h2 hc i)) (slab 3 _ h3 hc i)

end Cert.Rows

end
-- ==== Proof.PairSums.lean ====
/-
  The sum of the two halves that a pair of devices has of a gradient, for the five sizes the gradients have.
-/
module

public import proofs.«01_k».proof.Defs
public import proofs.«01_k».proof.Proof.Rows
public import proofs.«01_k».proof.Proof.Gen.PairSumNaQkv
public import proofs.«01_k».proof.Proof.Gen.PairSumNaQkvIdeal.Value
public import proofs.«01_k».proof.Proof.Gen.PairSumNaQkvReference
public import proofs.«01_k».proof.Proof.Gen.PairSumNaQkvReferenceIdeal.Run
public import proofs.«01_k».proof.Proof.Gen.PairSumOut
public import proofs.«01_k».proof.Proof.Gen.PairSumOutIdeal.Value
public import proofs.«01_k».proof.Proof.Gen.PairSumOutReference
public import proofs.«01_k».proof.Proof.Gen.PairSumOutReferenceIdeal.Run
public import proofs.«01_k».proof.Proof.Gen.PairSumFfn
public import proofs.«01_k».proof.Proof.Gen.PairSumFfnIdeal.Value
public import proofs.«01_k».proof.Proof.Gen.PairSumFfnReference
public import proofs.«01_k».proof.Proof.Gen.PairSumFfnReferenceIdeal.Run
public import proofs.«01_k».proof.Proof.Gen.PairSumFfnDown
public import proofs.«01_k».proof.Proof.Gen.PairSumFfnDownIdeal.Value
public import proofs.«01_k».proof.Proof.Gen.PairSumFfnDownReference
public import proofs.«01_k».proof.Proof.Gen.PairSumFfnDownReferenceIdeal.Run
public import proofs.«01_k».proof.Proof.Gen.PairSumDilQkv
public import proofs.«01_k».proof.Proof.Gen.PairSumDilQkvIdeal.Value
public import proofs.«01_k».proof.Proof.Gen.PairSumDilQkvReference
public import proofs.«01_k».proof.Proof.Gen.PairSumDilQkvReferenceIdeal.Run

@[expose] public section

noncomputable section

open Idealize Idealize.ShloMosaic Idealize.SL Idealize.SL.Sem TcCoe Cert.Rows

namespace Cert.PairSumNaQkvIdeal

open Gen

variable {F : FTy → Type} [FloatOps F] (m : (ℓ : Loc nD τ sig) → Buf (Elt F) ℓ)

/-- The two printed programs are one. -/
theorem same : PairSumNaQkv.defs (F := F) = defs :=
  congrArg (Pipeline.defs pcfgs) (congrArg Defs.onTc (funext fun p => match p with | 0 => rfl))

theorem summed (g : Dev nD → PrngReg) : θ_run (defs (F := F)) (onTc main) ⟨m, fun _ => 0, g⟩ fun r => ∀ c : Dev nD,
    r.2.mem (c.tc.loc main_v0) = both (m (c.tc.loc main_arg0)) (m (c.tc.loc main_arg1))
    ∧ r.2.mem (c.tc.loc main_arg0) = m (c.tc.loc main_arg0) ∧ r.2.mem (c.tc.loc main_arg1) = m (c.tc.loc main_arg1) :=
  Value.run m g

theorem of_reference (m' : (ℓ : Loc PairSumNaQkvReferenceIdeal.nD PairSumNaQkvReferenceIdeal.τ PairSumNaQkvReferenceIdeal.sig) → Buf (Elt F) ℓ)
    (g' : Dev PairSumNaQkvReferenceIdeal.nD → PrngReg) (h : ∀ c : Dev nD, m' (c.tc.loc PairSumNaQkvReferenceIdeal.main_arg0) = m (c.tc.loc main_arg0)
      ∧ m' (c.tc.loc PairSumNaQkvReferenceIdeal.main_arg1) = m (c.tc.loc main_arg1)) :
    θ_run (PairSumNaQkvReferenceIdeal.defs (F := F)) (onTc PairSumNaQkvReferenceIdeal.main) ⟨m', fun _ => 0, g'⟩ fun r => ∀ c : Dev nD,
      r.2.mem (c.tc.loc PairSumNaQkvReferenceIdeal.main_v3) = both (m (c.tc.loc main_arg0)) (m (c.tc.loc main_arg1))
      ∧ r.2.mem (c.tc.loc PairSumNaQkvReferenceIdeal.main_arg0) = m' (c.tc.loc PairSumNaQkvReferenceIdeal.main_arg0)
      ∧ r.2.mem (c.tc.loc PairSumNaQkvReferenceIdeal.main_arg1) = m' (c.tc.loc PairSumNaQkvReferenceIdeal.main_arg1) :=
  (θ_run _ _ _).mono (fun r hr c => ⟨(hr c).1.trans (congrArg₂ both (h c).1 (h c).2), (hr c).2⟩)
    (PairSumNaQkvReferenceIdeal.Value.run m' g')

theorem frame_bits : Cert.quiescent_PairSumNaQkv := fun m g _ => by
  have h := Gen.frame (F := Bits) m g
  rw [← same] at h
  exact h

theorem frame_ideal : Cert.quiescent_PairSumNaQkvIdeal := fun m g _ => Gen.frame m g

theorem frame_reference : Cert.quiescent_PairSumNaQkvReferenceIdeal := fun m g _ =>
  (θ_run _ _ _).mono (fun r h => ⟨fun c => (h c).2, sem_eq_zero_of_no_sems rfl _⟩) (PairSumNaQkvReferenceIdeal.Value.run m g)

theorem frame_reference_bits : Cert.quiescent_PairSumNaQkvReference := fun m g _ =>
  (θ_run _ _ _).mono (fun r h => ⟨fun c => (h c).2, sem_eq_zero_of_no_sems rfl _⟩) (PairSumNaQkvReferenceIdeal.Value.run (F := Bits) m g)

theorem algebraic : Cert.algebraic_PairSumNaQkvIdeal_PairSumNaQkvReferenceIdeal := fun m g m' g' _ h =>
  ⟨_, summed m g, of_reference m m' g' h⟩

theorem bitexact : Cert.bitexact_PairSumNaQkv_PairSumNaQkvReference := fun m g m' g' _ h => by
  have hs := summed (F := Bits) m g
  rw [← same] at hs
  exact ⟨_, hs, of_reference m m' g' h⟩

end Cert.PairSumNaQkvIdeal

namespace Cert.PairSumOutIdeal

open Gen

variable {F : FTy → Type} [FloatOps F] (m : (ℓ : Loc nD τ sig) → Buf (Elt F) ℓ)

/-- The two printed programs are one. -/
theorem same : PairSumOut.defs (F := F) = defs :=
  congrArg (Pipeline.defs pcfgs) (congrArg Defs.onTc (funext fun p => match p with | 0 => rfl))

theorem summed (g : Dev nD → PrngReg) : θ_run (defs (F := F)) (onTc main) ⟨m, fun _ => 0, g⟩ fun r => ∀ c : Dev nD,
    r.2.mem (c.tc.loc main_v0) = both (m (c.tc.loc main_arg0)) (m (c.tc.loc main_arg1))
    ∧ r.2.mem (c.tc.loc main_arg0) = m (c.tc.loc main_arg0) ∧ r.2.mem (c.tc.loc main_arg1) = m (c.tc.loc main_arg1) :=
  Value.run m g

theorem of_reference (m' : (ℓ : Loc PairSumOutReferenceIdeal.nD PairSumOutReferenceIdeal.τ PairSumOutReferenceIdeal.sig) → Buf (Elt F) ℓ)
    (g' : Dev PairSumOutReferenceIdeal.nD → PrngReg) (h : ∀ c : Dev nD, m' (c.tc.loc PairSumOutReferenceIdeal.main_arg0) = m (c.tc.loc main_arg0)
      ∧ m' (c.tc.loc PairSumOutReferenceIdeal.main_arg1) = m (c.tc.loc main_arg1)) :
    θ_run (PairSumOutReferenceIdeal.defs (F := F)) (onTc PairSumOutReferenceIdeal.main) ⟨m', fun _ => 0, g'⟩ fun r => ∀ c : Dev nD,
      r.2.mem (c.tc.loc PairSumOutReferenceIdeal.main_v3) = both (m (c.tc.loc main_arg0)) (m (c.tc.loc main_arg1))
      ∧ r.2.mem (c.tc.loc PairSumOutReferenceIdeal.main_arg0) = m' (c.tc.loc PairSumOutReferenceIdeal.main_arg0)
      ∧ r.2.mem (c.tc.loc PairSumOutReferenceIdeal.main_arg1) = m' (c.tc.loc PairSumOutReferenceIdeal.main_arg1) :=
  (θ_run _ _ _).mono (fun r hr c => ⟨(hr c).1.trans (congrArg₂ both (h c).1 (h c).2), (hr c).2⟩)
    (PairSumOutReferenceIdeal.Value.run m' g')

theorem frame_bits : Cert.quiescent_PairSumOut := fun m g _ => by
  have h := Gen.frame (F := Bits) m g
  rw [← same] at h
  exact h

theorem frame_ideal : Cert.quiescent_PairSumOutIdeal := fun m g _ => Gen.frame m g

theorem frame_reference : Cert.quiescent_PairSumOutReferenceIdeal := fun m g _ =>
  (θ_run _ _ _).mono (fun r h => ⟨fun c => (h c).2, sem_eq_zero_of_no_sems rfl _⟩) (PairSumOutReferenceIdeal.Value.run m g)

theorem frame_reference_bits : Cert.quiescent_PairSumOutReference := fun m g _ =>
  (θ_run _ _ _).mono (fun r h => ⟨fun c => (h c).2, sem_eq_zero_of_no_sems rfl _⟩) (PairSumOutReferenceIdeal.Value.run (F := Bits) m g)

theorem algebraic : Cert.algebraic_PairSumOutIdeal_PairSumOutReferenceIdeal := fun m g m' g' _ h =>
  ⟨_, summed m g, of_reference m m' g' h⟩

theorem bitexact : Cert.bitexact_PairSumOut_PairSumOutReference := fun m g m' g' _ h => by
  have hs := summed (F := Bits) m g
  rw [← same] at hs
  exact ⟨_, hs, of_reference m m' g' h⟩

end Cert.PairSumOutIdeal

namespace Cert.PairSumFfnIdeal

open Gen

variable {F : FTy → Type} [FloatOps F] (m : (ℓ : Loc nD τ sig) → Buf (Elt F) ℓ)

/-- The two printed programs are one. -/
theorem same : PairSumFfn.defs (F := F) = defs :=
  congrArg (Pipeline.defs pcfgs) (congrArg Defs.onTc (funext fun p => match p with | 0 => rfl))

theorem summed (g : Dev nD → PrngReg) : θ_run (defs (F := F)) (onTc main) ⟨m, fun _ => 0, g⟩ fun r => ∀ c : Dev nD,
    r.2.mem (c.tc.loc main_v0) = both (m (c.tc.loc main_arg0)) (m (c.tc.loc main_arg1))
    ∧ r.2.mem (c.tc.loc main_arg0) = m (c.tc.loc main_arg0) ∧ r.2.mem (c.tc.loc main_arg1) = m (c.tc.loc main_arg1) :=
  Value.run m g

theorem of_reference (m' : (ℓ : Loc PairSumFfnReferenceIdeal.nD PairSumFfnReferenceIdeal.τ PairSumFfnReferenceIdeal.sig) → Buf (Elt F) ℓ)
    (g' : Dev PairSumFfnReferenceIdeal.nD → PrngReg) (h : ∀ c : Dev nD, m' (c.tc.loc PairSumFfnReferenceIdeal.main_arg0) = m (c.tc.loc main_arg0)
      ∧ m' (c.tc.loc PairSumFfnReferenceIdeal.main_arg1) = m (c.tc.loc main_arg1)) :
    θ_run (PairSumFfnReferenceIdeal.defs (F := F)) (onTc PairSumFfnReferenceIdeal.main) ⟨m', fun _ => 0, g'⟩ fun r => ∀ c : Dev nD,
      r.2.mem (c.tc.loc PairSumFfnReferenceIdeal.main_v3) = both (m (c.tc.loc main_arg0)) (m (c.tc.loc main_arg1))
      ∧ r.2.mem (c.tc.loc PairSumFfnReferenceIdeal.main_arg0) = m' (c.tc.loc PairSumFfnReferenceIdeal.main_arg0)
      ∧ r.2.mem (c.tc.loc PairSumFfnReferenceIdeal.main_arg1) = m' (c.tc.loc PairSumFfnReferenceIdeal.main_arg1) :=
  (θ_run _ _ _).mono (fun r hr c => ⟨(hr c).1.trans (congrArg₂ both (h c).1 (h c).2), (hr c).2⟩)
    (PairSumFfnReferenceIdeal.Value.run m' g')

theorem frame_bits : Cert.quiescent_PairSumFfn := fun m g _ => by
  have h := Gen.frame (F := Bits) m g
  rw [← same] at h
  exact h

theorem frame_ideal : Cert.quiescent_PairSumFfnIdeal := fun m g _ => Gen.frame m g

theorem frame_reference : Cert.quiescent_PairSumFfnReferenceIdeal := fun m g _ =>
  (θ_run _ _ _).mono (fun r h => ⟨fun c => (h c).2, sem_eq_zero_of_no_sems rfl _⟩) (PairSumFfnReferenceIdeal.Value.run m g)

theorem frame_reference_bits : Cert.quiescent_PairSumFfnReference := fun m g _ =>
  (θ_run _ _ _).mono (fun r h => ⟨fun c => (h c).2, sem_eq_zero_of_no_sems rfl _⟩) (PairSumFfnReferenceIdeal.Value.run (F := Bits) m g)

theorem algebraic : Cert.algebraic_PairSumFfnIdeal_PairSumFfnReferenceIdeal := fun m g m' g' _ h =>
  ⟨_, summed m g, of_reference m m' g' h⟩

theorem bitexact : Cert.bitexact_PairSumFfn_PairSumFfnReference := fun m g m' g' _ h => by
  have hs := summed (F := Bits) m g
  rw [← same] at hs
  exact ⟨_, hs, of_reference m m' g' h⟩

end Cert.PairSumFfnIdeal

namespace Cert.PairSumFfnDownIdeal

open Gen

variable {F : FTy → Type} [FloatOps F] (m : (ℓ : Loc nD τ sig) → Buf (Elt F) ℓ)

/-- The two printed programs are one. -/
theorem same : PairSumFfnDown.defs (F := F) = defs :=
  congrArg (Pipeline.defs pcfgs) (congrArg Defs.onTc (funext fun p => match p with | 0 => rfl))

theorem summed (g : Dev nD → PrngReg) : θ_run (defs (F := F)) (onTc main) ⟨m, fun _ => 0, g⟩ fun r => ∀ c : Dev nD,
    r.2.mem (c.tc.loc main_v0) = both (m (c.tc.loc main_arg0)) (m (c.tc.loc main_arg1))
    ∧ r.2.mem (c.tc.loc main_arg0) = m (c.tc.loc main_arg0) ∧ r.2.mem (c.tc.loc main_arg1) = m (c.tc.loc main_arg1) :=
  Value.run m g

theorem of_reference (m' : (ℓ : Loc PairSumFfnDownReferenceIdeal.nD PairSumFfnDownReferenceIdeal.τ PairSumFfnDownReferenceIdeal.sig) → Buf (Elt F) ℓ)
    (g' : Dev PairSumFfnDownReferenceIdeal.nD → PrngReg) (h : ∀ c : Dev nD, m' (c.tc.loc PairSumFfnDownReferenceIdeal.main_arg0) = m (c.tc.loc main_arg0)
      ∧ m' (c.tc.loc PairSumFfnDownReferenceIdeal.main_arg1) = m (c.tc.loc main_arg1)) :
    θ_run (PairSumFfnDownReferenceIdeal.defs (F := F)) (onTc PairSumFfnDownReferenceIdeal.main) ⟨m', fun _ => 0, g'⟩ fun r => ∀ c : Dev nD,
      r.2.mem (c.tc.loc PairSumFfnDownReferenceIdeal.main_v3) = both (m (c.tc.loc main_arg0)) (m (c.tc.loc main_arg1))
      ∧ r.2.mem (c.tc.loc PairSumFfnDownReferenceIdeal.main_arg0) = m' (c.tc.loc PairSumFfnDownReferenceIdeal.main_arg0)
      ∧ r.2.mem (c.tc.loc PairSumFfnDownReferenceIdeal.main_arg1) = m' (c.tc.loc PairSumFfnDownReferenceIdeal.main_arg1) :=
  (θ_run _ _ _).mono (fun r hr c => ⟨(hr c).1.trans (congrArg₂ both (h c).1 (h c).2), (hr c).2⟩)
    (PairSumFfnDownReferenceIdeal.Value.run m' g')

theorem frame_bits : Cert.quiescent_PairSumFfnDown := fun m g _ => by
  have h := Gen.frame (F := Bits) m g
  rw [← same] at h
  exact h

theorem frame_ideal : Cert.quiescent_PairSumFfnDownIdeal := fun m g _ => Gen.frame m g

theorem frame_reference : Cert.quiescent_PairSumFfnDownReferenceIdeal := fun m g _ =>
  (θ_run _ _ _).mono (fun r h => ⟨fun c => (h c).2, sem_eq_zero_of_no_sems rfl _⟩) (PairSumFfnDownReferenceIdeal.Value.run m g)

theorem frame_reference_bits : Cert.quiescent_PairSumFfnDownReference := fun m g _ =>
  (θ_run _ _ _).mono (fun r h => ⟨fun c => (h c).2, sem_eq_zero_of_no_sems rfl _⟩) (PairSumFfnDownReferenceIdeal.Value.run (F := Bits) m g)

theorem algebraic : Cert.algebraic_PairSumFfnDownIdeal_PairSumFfnDownReferenceIdeal := fun m g m' g' _ h =>
  ⟨_, summed m g, of_reference m m' g' h⟩

theorem bitexact : Cert.bitexact_PairSumFfnDown_PairSumFfnDownReference := fun m g m' g' _ h => by
  have hs := summed (F := Bits) m g
  rw [← same] at hs
  exact ⟨_, hs, of_reference m m' g' h⟩

end Cert.PairSumFfnDownIdeal

namespace Cert.PairSumDilQkvIdeal

open Gen

variable {F : FTy → Type} [FloatOps F] (m : (ℓ : Loc nD τ sig) → Buf (Elt F) ℓ)

/-- The two printed programs are one. -/
theorem same : PairSumDilQkv.defs (F := F) = defs :=
  congrArg (Pipeline.defs pcfgs) (congrArg Defs.onTc (funext fun p => match p with | 0 => rfl))

theorem summed (g : Dev nD → PrngReg) : θ_run (defs (F := F)) (onTc main) ⟨m, fun _ => 0, g⟩ fun r => ∀ c : Dev nD,
    r.2.mem (c.tc.loc main_v0) = both (m (c.tc.loc main_arg0)) (m (c.tc.loc main_arg1))
    ∧ r.2.mem (c.tc.loc main_arg0) = m (c.tc.loc main_arg0) ∧ r.2.mem (c.tc.loc main_arg1) = m (c.tc.loc main_arg1) :=
  Value.run m g

theorem of_reference (m' : (ℓ : Loc PairSumDilQkvReferenceIdeal.nD PairSumDilQkvReferenceIdeal.τ PairSumDilQkvReferenceIdeal.sig) → Buf (Elt F) ℓ)
    (g' : Dev PairSumDilQkvReferenceIdeal.nD → PrngReg) (h : ∀ c : Dev nD, m' (c.tc.loc PairSumDilQkvReferenceIdeal.main_arg0) = m (c.tc.loc main_arg0)
      ∧ m' (c.tc.loc PairSumDilQkvReferenceIdeal.main_arg1) = m (c.tc.loc main_arg1)) :
    θ_run (PairSumDilQkvReferenceIdeal.defs (F := F)) (onTc PairSumDilQkvReferenceIdeal.main) ⟨m', fun _ => 0, g'⟩ fun r => ∀ c : Dev nD,
      r.2.mem (c.tc.loc PairSumDilQkvReferenceIdeal.main_v3) = both (m (c.tc.loc main_arg0)) (m (c.tc.loc main_arg1))
      ∧ r.2.mem (c.tc.loc PairSumDilQkvReferenceIdeal.main_arg0) = m' (c.tc.loc PairSumDilQkvReferenceIdeal.main_arg0)
      ∧ r.2.mem (c.tc.loc PairSumDilQkvReferenceIdeal.main_arg1) = m' (c.tc.loc PairSumDilQkvReferenceIdeal.main_arg1) :=
  (θ_run _ _ _).mono (fun r hr c => ⟨(hr c).1.trans (congrArg₂ both (h c).1 (h c).2), (hr c).2⟩)
    (PairSumDilQkvReferenceIdeal.Value.run m' g')

theorem frame_bits : Cert.quiescent_PairSumDilQkv := fun m g _ => by
  have h := Gen.frame (F := Bits) m g
  rw [← same] at h
  exact h

theorem frame_ideal : Cert.quiescent_PairSumDilQkvIdeal := fun m g _ => Gen.frame m g

theorem frame_reference : Cert.quiescent_PairSumDilQkvReferenceIdeal := fun m g _ =>
  (θ_run _ _ _).mono (fun r h => ⟨fun c => (h c).2, sem_eq_zero_of_no_sems rfl _⟩) (PairSumDilQkvReferenceIdeal.Value.run m g)

theorem frame_reference_bits : Cert.quiescent_PairSumDilQkvReference := fun m g _ =>
  (θ_run _ _ _).mono (fun r h => ⟨fun c => (h c).2, sem_eq_zero_of_no_sems rfl _⟩) (PairSumDilQkvReferenceIdeal.Value.run (F := Bits) m g)

theorem algebraic : Cert.algebraic_PairSumDilQkvIdeal_PairSumDilQkvReferenceIdeal := fun m g m' g' _ h =>
  ⟨_, summed m g, of_reference m m' g' h⟩

theorem bitexact : Cert.bitexact_PairSumDilQkv_PairSumDilQkvReference := fun m g m' g' _ h => by
  have hs := summed (F := Bits) m g
  rw [← same] at hs
  exact ⟨_, hs, of_reference m m' g' h⟩

end Cert.PairSumDilQkvIdeal

end
-- ==== Proof.ChipSums.lean ====
/-
  The sum of the four chips' blocks of a gradient, for the five sizes the gradients have: the call goes over the rows
  of the blocks, and what each grid point leaves is the sum of its rows.
-/
module

public import proofs.«01_k».proof.Defs
public import proofs.«01_k».proof.Proof.Rows
public import proofs.«01_k».proof.Proof.Gen.ChipSumNaQkv
public import proofs.«01_k».proof.Proof.Gen.ChipSumNaQkvIdeal.Value
public import proofs.«01_k».proof.Proof.Gen.ChipSumNaQkvReference
public import proofs.«01_k».proof.Proof.Gen.ChipSumNaQkvReferenceIdeal.Run
public import proofs.«01_k».proof.Proof.Gen.ChipSumOut
public import proofs.«01_k».proof.Proof.Gen.ChipSumOutIdeal.Value
public import proofs.«01_k».proof.Proof.Gen.ChipSumOutReference
public import proofs.«01_k».proof.Proof.Gen.ChipSumOutReferenceIdeal.Run
public import proofs.«01_k».proof.Proof.Gen.ChipSumFfn
public import proofs.«01_k».proof.Proof.Gen.ChipSumFfnIdeal.Value
public import proofs.«01_k».proof.Proof.Gen.ChipSumFfnReference
public import proofs.«01_k».proof.Proof.Gen.ChipSumFfnReferenceIdeal.Run
public import proofs.«01_k».proof.Proof.Gen.ChipSumFfnDown
public import proofs.«01_k».proof.Proof.Gen.ChipSumFfnDownIdeal.Value
public import proofs.«01_k».proof.Proof.Gen.ChipSumFfnDownReference
public import proofs.«01_k».proof.Proof.Gen.ChipSumFfnDownReferenceIdeal.Run
public import proofs.«01_k».proof.Proof.Gen.ChipSumDilQkv
public import proofs.«01_k».proof.Proof.Gen.ChipSumDilQkvIdeal.Value
public import proofs.«01_k».proof.Proof.Gen.ChipSumDilQkvReference
public import proofs.«01_k».proof.Proof.Gen.ChipSumDilQkvReferenceIdeal.Run

@[expose] public section

noncomputable section

open Idealize Idealize.ShloMosaic Idealize.SL Idealize.SL.Sem TcCoe Cert.Rows

namespace Cert.ChipSumNaQkvIdeal

open Gen

variable {F : FTy → Type} [FloatOps F] (m : (ℓ : Loc nD τ sig) → Buf (Elt F) ℓ)

/-- The two printed programs are one. -/
theorem same : ChipSumNaQkv.defs (F := F) = defs :=
  congrArg (Pipeline.defs pcfgs) (congrArg Defs.onTc (funext fun p => match p with | 0 => rfl))

theorem covered (i : S512x768.Idx) : ∃ t : Fin cfg0.N, (cfg0.win 1).flush t = true ∧ i ∈ ((cfg0.win 1).blk t).view.set := by
  obtain ⟨t, ht⟩ := some_block (N := grid0.N) (n := 2) (b := 256) (R := 512) (C := 768) win0_1.index (by decide +kernel) rfl i
  refine ⟨t, flush0_1 t, ?_⟩
  show i ∈ ((View.whole main_v0).slice (win0_1.rect t)).set
  rw [View.set_slice_whole, Rect.mem_set_unit]
  exact ht

theorem left (c : Dev nD) : (dats m 0 c).arrAt 1 cfg0.N = four (m (c.tc.loc main_arg0)) := by
  refine (dats m 0 c).arrAt_eq_of_cover 1 _ (fun t _ => ?_) covered
  rw [Value.flushed1, out0_1, View.canon_unit_zero flat, View.ld_unit_zero (S := S4x256x768) flat₃]
  unfold k0_pay1
  dsimp only
  rw [four_slabs]
  funext j
  refine four_congr fun k => congrArg (m (c.tc.loc main_arg0)) (funext fun a => Fin.ext ?_)
  match a with
  | ⟨0, _⟩ => show 0 * 4 + 1 * k.val = k.val; omega
  | ⟨1, _⟩ => rfl
  | ⟨2, _⟩ => rfl

theorem summed (g : Dev nD → PrngReg) : θ_run (defs (F := F)) (onTc main) ⟨m, fun _ => 0, g⟩ fun r => ∀ c : Dev nD,
    r.2.mem (c.tc.loc main_v0) = four (m (c.tc.loc main_arg0)) ∧ r.2.mem (c.tc.loc main_arg0) = m (c.tc.loc main_arg0) :=
  (θ_run _ _ _).mono (fun r h c => ⟨(h c).1.trans (left m c), (h c).2⟩) (Value.run_blocks m g)

theorem of_reference (m' : (ℓ : Loc ChipSumNaQkvReferenceIdeal.nD ChipSumNaQkvReferenceIdeal.τ ChipSumNaQkvReferenceIdeal.sig) → Buf (Elt F) ℓ)
    (g' : Dev ChipSumNaQkvReferenceIdeal.nD → PrngReg) (h : ∀ c : Dev nD, m' (c.tc.loc ChipSumNaQkvReferenceIdeal.main_arg0) = m (c.tc.loc main_arg0)) :
    θ_run (ChipSumNaQkvReferenceIdeal.defs (F := F)) (onTc ChipSumNaQkvReferenceIdeal.main) ⟨m', fun _ => 0, g'⟩ fun r => ∀ c : Dev nD,
      r.2.mem (c.tc.loc ChipSumNaQkvReferenceIdeal.main_v11) = four (m (c.tc.loc main_arg0))
      ∧ r.2.mem (c.tc.loc ChipSumNaQkvReferenceIdeal.main_arg0) = m' (c.tc.loc ChipSumNaQkvReferenceIdeal.main_arg0) :=
  (θ_run _ _ _).mono (fun r hr c => ⟨(hr c).1.trans ((four_slabs _ _ _ _ _ _ _).trans (congrArg four (h c))), (hr c).2⟩)
    (ChipSumNaQkvReferenceIdeal.Value.run m' g')

theorem frame_bits : Cert.quiescent_ChipSumNaQkv := fun m g _ => by
  have h := Gen.frame (F := Bits) m g
  rw [← same] at h
  exact h

theorem frame_ideal : Cert.quiescent_ChipSumNaQkvIdeal := fun m g _ => Gen.frame m g

theorem frame_reference : Cert.quiescent_ChipSumNaQkvReferenceIdeal := fun m g _ =>
  (θ_run _ _ _).mono (fun r h => ⟨fun c => (h c).2, sem_eq_zero_of_no_sems rfl _⟩) (ChipSumNaQkvReferenceIdeal.Value.run m g)

theorem frame_reference_bits : Cert.quiescent_ChipSumNaQkvReference := fun m g _ =>
  (θ_run _ _ _).mono (fun r h => ⟨fun c => (h c).2, sem_eq_zero_of_no_sems rfl _⟩) (ChipSumNaQkvReferenceIdeal.Value.run (F := Bits) m g)

theorem algebraic : Cert.algebraic_ChipSumNaQkvIdeal_ChipSumNaQkvReferenceIdeal := fun m g m' g' _ h =>
  ⟨_, summed m g, of_reference m m' g' h⟩

theorem bitexact : Cert.bitexact_ChipSumNaQkv_ChipSumNaQkvReference := fun m g m' g' _ h => by
  have hs := summed (F := Bits) m g
  rw [← same] at hs
  exact ⟨_, hs, of_reference m m' g' h⟩

end Cert.ChipSumNaQkvIdeal

namespace Cert.ChipSumOutIdeal

open Gen

variable {F : FTy → Type} [FloatOps F] (m : (ℓ : Loc nD τ sig) → Buf (Elt F) ℓ)

/-- The two printed programs are one. -/
theorem same : ChipSumOut.defs (F := F) = defs :=
  congrArg (Pipeline.defs pcfgs) (congrArg Defs.onTc (funext fun p => match p with | 0 => rfl))

theorem covered (i : S128x1024.Idx) : ∃ t : Fin cfg0.N, (cfg0.win 1).flush t = true ∧ i ∈ ((cfg0.win 1).blk t).view.set := by
  obtain ⟨t, ht⟩ := some_block (N := grid0.N) (n := 1) (b := 128) (R := 128) (C := 1024) win0_1.index (by decide +kernel) rfl i
  refine ⟨t, flush0_1 t, ?_⟩
  show i ∈ ((View.whole main_v0).slice (win0_1.rect t)).set
  rw [View.set_slice_whole, Rect.mem_set_unit]
  exact ht

theorem left (c : Dev nD) : (dats m 0 c).arrAt 1 cfg0.N = four (m (c.tc.loc main_arg0)) := by
  refine (dats m 0 c).arrAt_eq_of_cover 1 _ (fun t _ => ?_) covered
  rw [Value.flushed1, out0_1, View.canon_unit_zero flat, View.ld_unit_zero (S := S4x128x1024) flat₃]
  unfold k0_pay1
  dsimp only
  rw [four_slabs]
  funext j
  refine four_congr fun k => congrArg (m (c.tc.loc main_arg0)) (funext fun a => Fin.ext ?_)
  match a with
  | ⟨0, _⟩ => show 0 * 4 + 1 * k.val = k.val; omega
  | ⟨1, _⟩ => rfl
  | ⟨2, _⟩ => rfl

theorem summed (g : Dev nD → PrngReg) : θ_run (defs (F := F)) (onTc main) ⟨m, fun _ => 0, g⟩ fun r => ∀ c : Dev nD,
    r.2.mem (c.tc.loc main_v0) = four (m (c.tc.loc main_arg0)) ∧ r.2.mem (c.tc.loc main_arg0) = m (c.tc.loc main_arg0) :=
  (θ_run _ _ _).mono (fun r h c => ⟨(h c).1.trans (left m c), (h c).2⟩) (Value.run_blocks m g)

theorem of_reference (m' : (ℓ : Loc ChipSumOutReferenceIdeal.nD ChipSumOutReferenceIdeal.τ ChipSumOutReferenceIdeal.sig) → Buf (Elt F) ℓ)
    (g' : Dev ChipSumOutReferenceIdeal.nD → PrngReg) (h : ∀ c : Dev nD, m' (c.tc.loc ChipSumOutReferenceIdeal.main_arg0) = m (c.tc.loc main_arg0)) :
    θ_run (ChipSumOutReferenceIdeal.defs (F := F)) (onTc ChipSumOutReferenceIdeal.main) ⟨m', fun _ => 0, g'⟩ fun r => ∀ c : Dev nD,
      r.2.mem (c.tc.loc ChipSumOutReferenceIdeal.main_v11) = four (m (c.tc.loc main_arg0))
      ∧ r.2.mem (c.tc.loc ChipSumOutReferenceIdeal.main_arg0) = m' (c.tc.loc ChipSumOutReferenceIdeal.main_arg0) :=
  (θ_run _ _ _).mono (fun r hr c => ⟨(hr c).1.trans ((four_slabs _ _ _ _ _ _ _).trans (congrArg four (h c))), (hr c).2⟩)
    (ChipSumOutReferenceIdeal.Value.run m' g')

theorem frame_bits : Cert.quiescent_ChipSumOut := fun m g _ => by
  have h := Gen.frame (F := Bits) m g
  rw [← same] at h
  exact h

theorem frame_ideal : Cert.quiescent_ChipSumOutIdeal := fun m g _ => Gen.frame m g

theorem frame_reference : Cert.quiescent_ChipSumOutReferenceIdeal := fun m g _ =>
  (θ_run _ _ _).mono (fun r h => ⟨fun c => (h c).2, sem_eq_zero_of_no_sems rfl _⟩) (ChipSumOutReferenceIdeal.Value.run m g)

theorem frame_reference_bits : Cert.quiescent_ChipSumOutReference := fun m g _ =>
  (θ_run _ _ _).mono (fun r h => ⟨fun c => (h c).2, sem_eq_zero_of_no_sems rfl _⟩) (ChipSumOutReferenceIdeal.Value.run (F := Bits) m g)

theorem algebraic : Cert.algebraic_ChipSumOutIdeal_ChipSumOutReferenceIdeal := fun m g m' g' _ h =>
  ⟨_, summed m g, of_reference m m' g' h⟩

theorem bitexact : Cert.bitexact_ChipSumOut_ChipSumOutReference := fun m g m' g' _ h => by
  have hs := summed (F := Bits) m g
  rw [← same] at hs
  exact ⟨_, hs, of_reference m m' g' h⟩

end Cert.ChipSumOutIdeal

namespace Cert.ChipSumFfnIdeal

open Gen

variable {F : FTy → Type} [FloatOps F] (m : (ℓ : Loc nD τ sig) → Buf (Elt F) ℓ)

/-- The two printed programs are one. -/
theorem same : ChipSumFfn.defs (F := F) = defs :=
  congrArg (Pipeline.defs pcfgs) (congrArg Defs.onTc (funext fun p => match p with | 0 => rfl))

theorem covered (i : S1024x704.Idx) : ∃ t : Fin cfg0.N, (cfg0.win 1).flush t = true ∧ i ∈ ((cfg0.win 1).blk t).view.set := by
  obtain ⟨t, ht⟩ := some_block (N := grid0.N) (n := 4) (b := 256) (R := 1024) (C := 704) win0_1.index (by decide +kernel) rfl i
  refine ⟨t, flush0_1 t, ?_⟩
  show i ∈ ((View.whole main_v0).slice (win0_1.rect t)).set
  rw [View.set_slice_whole, Rect.mem_set_unit]
  exact ht

theorem left (c : Dev nD) : (dats m 0 c).arrAt 1 cfg0.N = four (m (c.tc.loc main_arg0)) := by
  refine (dats m 0 c).arrAt_eq_of_cover 1 _ (fun t _ => ?_) covered
  rw [Value.flushed1, out0_1, View.canon_unit_zero flat, View.ld_unit_zero (S := S4x256x704) flat₃]
  unfold k0_pay1
  dsimp only
  rw [four_slabs]
  funext j
  refine four_congr fun k => congrArg (m (c.tc.loc main_arg0)) (funext fun a => Fin.ext ?_)
  match a with
  | ⟨0, _⟩ => show 0 * 4 + 1 * k.val = k.val; omega
  | ⟨1, _⟩ => rfl
  | ⟨2, _⟩ => rfl

theorem summed (g : Dev nD → PrngReg) : θ_run (defs (F := F)) (onTc main) ⟨m, fun _ => 0, g⟩ fun r => ∀ c : Dev nD,
    r.2.mem (c.tc.loc main_v0) = four (m (c.tc.loc main_arg0)) ∧ r.2.mem (c.tc.loc main_arg0) = m (c.tc.loc main_arg0) :=
  (θ_run _ _ _).mono (fun r h c => ⟨(h c).1.trans (left m c), (h c).2⟩) (Value.run_blocks m g)

theorem of_reference (m' : (ℓ : Loc ChipSumFfnReferenceIdeal.nD ChipSumFfnReferenceIdeal.τ ChipSumFfnReferenceIdeal.sig) → Buf (Elt F) ℓ)
    (g' : Dev ChipSumFfnReferenceIdeal.nD → PrngReg) (h : ∀ c : Dev nD, m' (c.tc.loc ChipSumFfnReferenceIdeal.main_arg0) = m (c.tc.loc main_arg0)) :
    θ_run (ChipSumFfnReferenceIdeal.defs (F := F)) (onTc ChipSumFfnReferenceIdeal.main) ⟨m', fun _ => 0, g'⟩ fun r => ∀ c : Dev nD,
      r.2.mem (c.tc.loc ChipSumFfnReferenceIdeal.main_v11) = four (m (c.tc.loc main_arg0))
      ∧ r.2.mem (c.tc.loc ChipSumFfnReferenceIdeal.main_arg0) = m' (c.tc.loc ChipSumFfnReferenceIdeal.main_arg0) :=
  (θ_run _ _ _).mono (fun r hr c => ⟨(hr c).1.trans ((four_slabs _ _ _ _ _ _ _).trans (congrArg four (h c))), (hr c).2⟩)
    (ChipSumFfnReferenceIdeal.Value.run m' g')

theorem frame_bits : Cert.quiescent_ChipSumFfn := fun m g _ => by
  have h := Gen.frame (F := Bits) m g
  rw [← same] at h
  exact h

theorem frame_ideal : Cert.quiescent_ChipSumFfnIdeal := fun m g _ => Gen.frame m g

theorem frame_reference : Cert.quiescent_ChipSumFfnReferenceIdeal := fun m g _ =>
  (θ_run _ _ _).mono (fun r h => ⟨fun c => (h c).2, sem_eq_zero_of_no_sems rfl _⟩) (ChipSumFfnReferenceIdeal.Value.run m g)

theorem frame_reference_bits : Cert.quiescent_ChipSumFfnReference := fun m g _ =>
  (θ_run _ _ _).mono (fun r h => ⟨fun c => (h c).2, sem_eq_zero_of_no_sems rfl _⟩) (ChipSumFfnReferenceIdeal.Value.run (F := Bits) m g)

theorem algebraic : Cert.algebraic_ChipSumFfnIdeal_ChipSumFfnReferenceIdeal := fun m g m' g' _ h =>
  ⟨_, summed m g, of_reference m m' g' h⟩

theorem bitexact : Cert.bitexact_ChipSumFfn_ChipSumFfnReference := fun m g m' g' _ h => by
  have hs := summed (F := Bits) m g
  rw [← same] at hs
  exact ⟨_, hs, of_reference m m' g' h⟩

end Cert.ChipSumFfnIdeal

namespace Cert.ChipSumFfnDownIdeal

open Gen

variable {F : FTy → Type} [FloatOps F] (m : (ℓ : Loc nD τ sig) → Buf (Elt F) ℓ)

/-- The two printed programs are one. -/
theorem same : ChipSumFfnDown.defs (F := F) = defs :=
  congrArg (Pipeline.defs pcfgs) (congrArg Defs.onTc (funext fun p => match p with | 0 => rfl))

theorem covered (i : S704x1024.Idx) : ∃ t : Fin cfg0.N, (cfg0.win 1).flush t = true ∧ i ∈ ((cfg0.win 1).blk t).view.set := by
  obtain ⟨t, ht⟩ := some_block (N := grid0.N) (n := 4) (b := 176) (R := 704) (C := 1024) win0_1.index (by decide +kernel) rfl i
  refine ⟨t, flush0_1 t, ?_⟩
  show i ∈ ((View.whole main_v0).slice (win0_1.rect t)).set
  rw [View.set_slice_whole, Rect.mem_set_unit]
  exact ht

theorem left (c : Dev nD) : (dats m 0 c).arrAt 1 cfg0.N = four (m (c.tc.loc main_arg0)) := by
  refine (dats m 0 c).arrAt_eq_of_cover 1 _ (fun t _ => ?_) covered
  rw [Value.flushed1, out0_1, View.canon_unit_zero flat, View.ld_unit_zero (S := S4x176x1024) flat₃]
  unfold k0_pay1
  dsimp only
  rw [four_slabs]
  funext j
  refine four_congr fun k => congrArg (m (c.tc.loc main_arg0)) (funext fun a => Fin.ext ?_)
  match a with
  | ⟨0, _⟩ => show 0 * 4 + 1 * k.val = k.val; omega
  | ⟨1, _⟩ => rfl
  | ⟨2, _⟩ => rfl

theorem summed (g : Dev nD → PrngReg) : θ_run (defs (F := F)) (onTc main) ⟨m, fun _ => 0, g⟩ fun r => ∀ c : Dev nD,
    r.2.mem (c.tc.loc main_v0) = four (m (c.tc.loc main_arg0)) ∧ r.2.mem (c.tc.loc main_arg0) = m (c.tc.loc main_arg0) :=
  (θ_run _ _ _).mono (fun r h c => ⟨(h c).1.trans (left m c), (h c).2⟩) (Value.run_blocks m g)

theorem of_reference (m' : (ℓ : Loc ChipSumFfnDownReferenceIdeal.nD ChipSumFfnDownReferenceIdeal.τ ChipSumFfnDownReferenceIdeal.sig) → Buf (Elt F) ℓ)
    (g' : Dev ChipSumFfnDownReferenceIdeal.nD → PrngReg) (h : ∀ c : Dev nD, m' (c.tc.loc ChipSumFfnDownReferenceIdeal.main_arg0) = m (c.tc.loc main_arg0)) :
    θ_run (ChipSumFfnDownReferenceIdeal.defs (F := F)) (onTc ChipSumFfnDownReferenceIdeal.main) ⟨m', fun _ => 0, g'⟩ fun r => ∀ c : Dev nD,
      r.2.mem (c.tc.loc ChipSumFfnDownReferenceIdeal.main_v11) = four (m (c.tc.loc main_arg0))
      ∧ r.2.mem (c.tc.loc ChipSumFfnDownReferenceIdeal.main_arg0) = m' (c.tc.loc ChipSumFfnDownReferenceIdeal.main_arg0) :=
  (θ_run _ _ _).mono (fun r hr c => ⟨(hr c).1.trans ((four_slabs _ _ _ _ _ _ _).trans (congrArg four (h c))), (hr c).2⟩)
    (ChipSumFfnDownReferenceIdeal.Value.run m' g')

theorem frame_bits : Cert.quiescent_ChipSumFfnDown := fun m g _ => by
  have h := Gen.frame (F := Bits) m g
  rw [← same] at h
  exact h

theorem frame_ideal : Cert.quiescent_ChipSumFfnDownIdeal := fun m g _ => Gen.frame m g

theorem frame_reference : Cert.quiescent_ChipSumFfnDownReferenceIdeal := fun m g _ =>
  (θ_run _ _ _).mono (fun r h => ⟨fun c => (h c).2, sem_eq_zero_of_no_sems rfl _⟩) (ChipSumFfnDownReferenceIdeal.Value.run m g)

theorem frame_reference_bits : Cert.quiescent_ChipSumFfnDownReference := fun m g _ =>
  (θ_run _ _ _).mono (fun r h => ⟨fun c => (h c).2, sem_eq_zero_of_no_sems rfl _⟩) (ChipSumFfnDownReferenceIdeal.Value.run (F := Bits) m g)

theorem algebraic : Cert.algebraic_ChipSumFfnDownIdeal_ChipSumFfnDownReferenceIdeal := fun m g m' g' _ h =>
  ⟨_, summed m g, of_reference m m' g' h⟩

theorem bitexact : Cert.bitexact_ChipSumFfnDown_ChipSumFfnDownReference := fun m g m' g' _ h => by
  have hs := summed (F := Bits) m g
  rw [← same] at hs
  exact ⟨_, hs, of_reference m m' g' h⟩

end Cert.ChipSumFfnDownIdeal

namespace Cert.ChipSumDilQkvIdeal

open Gen

variable {F : FTy → Type} [FloatOps F] (m : (ℓ : Loc nD τ sig) → Buf (Elt F) ℓ)

/-- The two printed programs are one. -/
theorem same : ChipSumDilQkv.defs (F := F) = defs :=
  congrArg (Pipeline.defs pcfgs) (congrArg Defs.onTc (funext fun p => match p with | 0 => rfl))

theorem covered (i : S512x2304.Idx) : ∃ t : Fin cfg0.N, (cfg0.win 1).flush t = true ∧ i ∈ ((cfg0.win 1).blk t).view.set := by
  obtain ⟨t, ht⟩ := some_block (N := grid0.N) (n := 8) (b := 64) (R := 512) (C := 2304) win0_1.index (by decide +kernel) rfl i
  refine ⟨t, flush0_1 t, ?_⟩
  show i ∈ ((View.whole main_v0).slice (win0_1.rect t)).set
  rw [View.set_slice_whole, Rect.mem_set_unit]
  exact ht

theorem left (c : Dev nD) : (dats m 0 c).arrAt 1 cfg0.N = four (m (c.tc.loc main_arg0)) := by
  refine (dats m 0 c).arrAt_eq_of_cover 1 _ (fun t _ => ?_) covered
  rw [Value.flushed1, out0_1, View.canon_unit_zero flat, View.ld_unit_zero (S := S4x64x2304) flat₃]
  unfold k0_pay1
  dsimp only
  rw [four_slabs]
  funext j
  refine four_congr fun k => congrArg (m (c.tc.loc main_arg0)) (funext fun a => Fin.ext ?_)
  match a with
  | ⟨0, _⟩ => show 0 * 4 + 1 * k.val = k.val; omega
  | ⟨1, _⟩ => rfl
  | ⟨2, _⟩ => rfl

theorem summed (g : Dev nD → PrngReg) : θ_run (defs (F := F)) (onTc main) ⟨m, fun _ => 0, g⟩ fun r => ∀ c : Dev nD,
    r.2.mem (c.tc.loc main_v0) = four (m (c.tc.loc main_arg0)) ∧ r.2.mem (c.tc.loc main_arg0) = m (c.tc.loc main_arg0) :=
  (θ_run _ _ _).mono (fun r h c => ⟨(h c).1.trans (left m c), (h c).2⟩) (Value.run_blocks m g)

theorem of_reference (m' : (ℓ : Loc ChipSumDilQkvReferenceIdeal.nD ChipSumDilQkvReferenceIdeal.τ ChipSumDilQkvReferenceIdeal.sig) → Buf (Elt F) ℓ)
    (g' : Dev ChipSumDilQkvReferenceIdeal.nD → PrngReg) (h : ∀ c : Dev nD, m' (c.tc.loc ChipSumDilQkvReferenceIdeal.main_arg0) = m (c.tc.loc main_arg0)) :
    θ_run (ChipSumDilQkvReferenceIdeal.defs (F := F)) (onTc ChipSumDilQkvReferenceIdeal.main) ⟨m', fun _ => 0, g'⟩ fun r => ∀ c : Dev nD,
      r.2.mem (c.tc.loc ChipSumDilQkvReferenceIdeal.main_v11) = four (m (c.tc.loc main_arg0))
      ∧ r.2.mem (c.tc.loc ChipSumDilQkvReferenceIdeal.main_arg0) = m' (c.tc.loc ChipSumDilQkvReferenceIdeal.main_arg0) :=
  (θ_run _ _ _).mono (fun r hr c => ⟨(hr c).1.trans ((four_slabs _ _ _ _ _ _ _).trans (congrArg four (h c))), (hr c).2⟩)
    (ChipSumDilQkvReferenceIdeal.Value.run m' g')

theorem frame_bits : Cert.quiescent_ChipSumDilQkv := fun m g _ => by
  have h := Gen.frame (F := Bits) m g
  rw [← same] at h
  exact h

theorem frame_ideal : Cert.quiescent_ChipSumDilQkvIdeal := fun m g _ => Gen.frame m g

theorem frame_reference : Cert.quiescent_ChipSumDilQkvReferenceIdeal := fun m g _ =>
  (θ_run _ _ _).mono (fun r h => ⟨fun c => (h c).2, sem_eq_zero_of_no_sems rfl _⟩) (ChipSumDilQkvReferenceIdeal.Value.run m g)

theorem frame_reference_bits : Cert.quiescent_ChipSumDilQkvReference := fun m g _ =>
  (θ_run _ _ _).mono (fun r h => ⟨fun c => (h c).2, sem_eq_zero_of_no_sems rfl _⟩) (ChipSumDilQkvReferenceIdeal.Value.run (F := Bits) m g)

theorem algebraic : Cert.algebraic_ChipSumDilQkvIdeal_ChipSumDilQkvReferenceIdeal := fun m g m' g' _ h =>
  ⟨_, summed m g, of_reference m m' g' h⟩

theorem bitexact : Cert.bitexact_ChipSumDilQkv_ChipSumDilQkvReference := fun m g m' g' _ h => by
  have hs := summed (F := Bits) m g
  rw [← same] at hs
  exact ⟨_, hs, of_reference m m' g' h⟩

end Cert.ChipSumDilQkvIdeal

end
-- ==== Proof.Step.lean ====
/-
  One AdamW step on one element: the new first and second moment and the change of the weight, with the constants of the
  training step in float32.
-/
module

public import Idealize.ShloMosaic.PureOps
public import Idealize.ShloMosaic.PureOps.Ideal

@[expose] public section

noncomputable section

namespace Cert.Step

open Idealize Idealize.ShloMosaic

variable {F : FTy → Type} [FloatOps F]

/-- The float32 number of a word. -/
abbrev lit (w : BitVec 32) : F .f32 := Scalar.ofBits .f32 w

/-- `0.9 m + 0.1 g`. -/
def first (g m : F .f32) : F .f32 := FloatOps.addf (FloatOps.mulf (lit 0x3F666666#32) m) (FloatOps.mulf (lit 0x3DCCCCCD#32) g)

/-- `0.999 v + 0.001 g²`. -/
def second (g v : F .f32) : F .f32 :=
  FloatOps.addf (FloatOps.mulf (lit 0x3F7FBE77#32) v) (FloatOps.mulf (lit 0x3A83126F#32) (FloatOps.mulf g g))

/-- `-0.001 ((m' / (1 - 0.9¹⁰)) / (√(v' / (1 - 0.999¹⁰)) + 1e-8) + 0.01 w)`. -/
def delta (w g m v : F .f32) : F .f32 :=
  FloatOps.mulf (lit 0xBA83126F#32)
    (FloatOps.addf
      (FloatOps.divf (FloatOps.divf (first g m) (lit 0x3F26BD02#32))
        (FloatOps.addf (FloatOps.sqrt (FloatOps.divf (second g v) (lit 0x3C231ACC#32))) (lit 0x322BCC77#32)))
      (FloatOps.mulf (lit 0x3C23D70A#32) w))

variable {S : Shape} (w g m v : S.Idx → F .f32)

/-- The new first moments, the new second moments and the changes of whole arrays. -/
def firsts : S.Idx → F .f32 := fun i => first (g i) (m i)
def seconds : S.Idx → F .f32 := fun i => second (g i) (v i)
def changes : S.Idx → F .f32 := fun i => delta (w i) (g i) (m i) (v i)

/-- A number at every element of an array, as the reference writes it. -/
abbrev every (hb : Shape.BroadcastsInDim ⟨0, ![]⟩ S ![]) (x : BitVec 32) : S.Idx → F .f32 := broadcastInDim S ![] hb (constant ⟨0, ![]⟩ .f32 x)

/-- On real numbers the division and the root of the reference are those of the kernel. -/
theorem changes_of_reference (hb : Shape.BroadcastsInDim ⟨0, ![]⟩ S ![]) (w g m v : S.Idx → Ideal .f32) :
    mulf (every hb 0xBA83126F#32)
      (addf
        (Host.divf
          (Host.divf (addf (mulf (every hb 0x3F666666#32) m) (mulf (every hb 0x3DCCCCCD#32) g)) (every hb 0x3F26BD02#32))
          (addf
            (Host.sqrt
              (Host.divf (addf (mulf (every hb 0x3F7FBE77#32) v) (mulf (every hb 0x3A83126F#32) (mulf g g))) (every hb 0x3C231ACC#32)))
            (every hb 0x322BCC77#32)))
        (mulf (every hb 0x3C23D70A#32) w)) = changes w g m v := by
  funext i
  simp only [changes, delta, first, second, mulf, addf, Host.divf, Host.sqrt, Ideal.divf_def, Ideal.hostDivf_def]
  rfl

end Cert.Step

end
-- ==== Proof.AdamSteps.lean ====
/-
  The AdamW step of a shard of a weight, for the five sizes the shards have, and of the small weights packed into one
  array: the call goes over the rows, and every element takes the step of Step by itself.
-/
module

public import proofs.«01_k».proof.Defs
public import proofs.«01_k».proof.Proof.Rows
public import proofs.«01_k».proof.Proof.Step
public import proofs.«01_k».proof.Proof.Gen.AdamNaQkv
public import proofs.«01_k».proof.Proof.Gen.AdamNaQkvIdeal.Value
public import proofs.«01_k».proof.Proof.Gen.AdamNaQkvReferenceIdeal.Run
public import proofs.«01_k».proof.Proof.Gen.AdamOut
public import proofs.«01_k».proof.Proof.Gen.AdamOutIdeal.Value
public import proofs.«01_k».proof.Proof.Gen.AdamOutReferenceIdeal.Run
public import proofs.«01_k».proof.Proof.Gen.AdamFfn
public import proofs.«01_k».proof.Proof.Gen.AdamFfnIdeal.Value
public import proofs.«01_k».proof.Proof.Gen.AdamFfnReferenceIdeal.Run
public import proofs.«01_k».proof.Proof.Gen.AdamFfnDown
public import proofs.«01_k».proof.Proof.Gen.AdamFfnDownIdeal.Value
public import proofs.«01_k».proof.Proof.Gen.AdamFfnDownReferenceIdeal.Run
public import proofs.«01_k».proof.Proof.Gen.AdamDilQkv
public import proofs.«01_k».proof.Proof.Gen.AdamDilQkvIdeal.Value
public import proofs.«01_k».proof.Proof.Gen.AdamDilQkvReferenceIdeal.Run
public import proofs.«01_k».proof.Proof.Gen.AdamSmall
public import proofs.«01_k».proof.Proof.Gen.AdamSmallIdeal.Value
public import proofs.«01_k».proof.Proof.Gen.AdamSmallReferenceIdeal.Run

@[expose] public section

noncomputable section

open Idealize Idealize.ShloMosaic Idealize.SL Idealize.SL.Sem TcCoe Cert.Rows Cert.Step

namespace Cert.AdamNaQkvIdeal

open Gen

/-- The two printed programs are one. -/
theorem same {F : FTy → Type} [FloatOps F] : AdamNaQkv.defs (F := F) = defs :=
  congrArg (Pipeline.defs pcfgs) (congrArg Defs.onTc (funext fun p => match p with | 0 => rfl))

theorem covered (i : S1024x768.Idx) : ∃ t : Fin cfg0.N, (cfg0.win 4).flush t = true ∧ i ∈ ((cfg0.win 4).blk t).view.set := by
  obtain ⟨t, ht⟩ := some_block (N := grid0.N) (n := 4) (b := 256) (R := 1024) (C := 768) win0_4.index (by decide +kernel) rfl i
  refine ⟨t, flush0_4 t, ?_⟩
  show i ∈ ((View.whole main_v0_0).slice (win0_4.rect t)).set
  rw [View.set_slice_whole, Rect.mem_set_unit]
  exact ht

variable (m : (ℓ : Loc nD τ sig) → Buf (Elt Ideal) ℓ)

/-- What a chip's weights change by, and its new moments. -/
abbrev change (c : Dev nD) : S1024x768.Idx → Ideal .f32 :=
  changes (m (c.tc.loc main_arg0)) (m (c.tc.loc main_arg1)) (m (c.tc.loc main_arg2)) (m (c.tc.loc main_arg3))
abbrev moment₁ (c : Dev nD) : S1024x768.Idx → Ideal .f32 := firsts (m (c.tc.loc main_arg1)) (m (c.tc.loc main_arg2))
abbrev moment₂ (c : Dev nD) : S1024x768.Idx → Ideal .f32 := seconds (m (c.tc.loc main_arg1)) (m (c.tc.loc main_arg3))

theorem left (c : Dev nD) : (dats m 0 c).arrAt 4 cfg0.N = m (c.tc.loc main_arg1) ∧ (dats m 0 c).arrAt 5 cfg0.N = change m c
    ∧ (dats m 0 c).arrAt 6 cfg0.N = moment₁ m c ∧ (dats m 0 c).arrAt 7 cfg0.N = moment₂ m c := by
  refine ⟨(dats m 0 c).arrAt_eq_of_cover 4 _ (fun t _ => ?_) covered, (dats m 0 c).arrAt_eq_of_cover 5 _ (fun t _ => ?_) covered,
    (dats m 0 c).arrAt_eq_of_cover 6 _ (fun t _ => ?_) covered, (dats m 0 c).arrAt_eq_of_cover 7 _ (fun t _ => ?_) covered⟩
  · rw [Value.flushed4, out0_4, View.canon_unit_zero flat, View.ld_unit_zero (S := S256x768) flat]
    rfl
  · rw [Value.flushed5, out0_5, View.canon_unit_zero flat]
    simp only [View.ld_unit_zero (S := S256x768) flat]
    rfl
  · rw [Value.flushed6, out0_6, View.canon_unit_zero flat]
    simp only [View.ld_unit_zero (S := S256x768) flat]
    rfl
  · rw [Value.flushed7, out0_7, View.canon_unit_zero flat]
    simp only [View.ld_unit_zero (S := S256x768) flat]
    rfl

theorem frame_bits : Cert.quiescent_AdamNaQkv := fun m g _ => by
  have h := Gen.frame (F := Bits) m g
  rw [← same] at h
  exact h

theorem frame_ideal : Cert.quiescent_AdamNaQkvIdeal := fun m g _ => Gen.frame m g

theorem frame_reference : Cert.quiescent_AdamNaQkvReferenceIdeal := fun m g _ =>
  (θ_run _ _ _).mono (fun r h => ⟨fun c => (h c).2.2.2.2, sem_eq_zero_of_no_sems rfl _⟩) (AdamNaQkvReferenceIdeal.Value.run m g)

theorem algebraic : Cert.algebraic_AdamNaQkvIdeal_AdamNaQkvReferenceIdeal := fun m g m' g' _ h =>
  ⟨fun c => m (c.tc.loc main_arg1), change m, moment₁ m, moment₂ m,
    (θ_run _ _ _).mono (fun r hr c => by
      obtain ⟨e4, e5, e6, e7⟩ := left m c
      obtain ⟨r4, r5, r6, r7, kept⟩ := hr c
      exact ⟨r4.trans e4, r5.trans e5, r6.trans e6, r7.trans e7, kept⟩) (Value.run_blocks m g),
    (θ_run _ _ _).mono (fun r hr c => by
      obtain ⟨h0, h1, h2, h3⟩ := h c
      unfold change moment₁ moment₂
      rw [← h0, ← h1, ← h2, ← h3]
      obtain ⟨r4, r5, r6, r7, kept⟩ := hr c
      exact ⟨r4.trans h1, r5.trans (changes_of_reference _ _ _ _ _), r6, r7, kept⟩) (AdamNaQkvReferenceIdeal.Value.run m' g')⟩

end Cert.AdamNaQkvIdeal

namespace Cert.AdamOutIdeal

open Gen

/-- The two printed programs are one. -/
theorem same {F : FTy → Type} [FloatOps F] : AdamOut.defs (F := F) = defs :=
  congrArg (Pipeline.defs pcfgs) (congrArg Defs.onTc (funext fun p => match p with | 0 => rfl))

theorem covered (i : S256x1024.Idx) : ∃ t : Fin cfg0.N, (cfg0.win 4).flush t = true ∧ i ∈ ((cfg0.win 4).blk t).view.set := by
  obtain ⟨t, ht⟩ := some_block (N := grid0.N) (n := 2) (b := 128) (R := 256) (C := 1024) win0_4.index (by decide +kernel) rfl i
  refine ⟨t, flush0_4 t, ?_⟩
  show i ∈ ((View.whole main_v0_0).slice (win0_4.rect t)).set
  rw [View.set_slice_whole, Rect.mem_set_unit]
  exact ht

variable (m : (ℓ : Loc nD τ sig) → Buf (Elt Ideal) ℓ)

/-- What a chip's weights change by, and its new moments. -/
abbrev change (c : Dev nD) : S256x1024.Idx → Ideal .f32 :=
  changes (m (c.tc.loc main_arg0)) (m (c.tc.loc main_arg1)) (m (c.tc.loc main_arg2)) (m (c.tc.loc main_arg3))
abbrev moment₁ (c : Dev nD) : S256x1024.Idx → Ideal .f32 := firsts (m (c.tc.loc main_arg1)) (m (c.tc.loc main_arg2))
abbrev moment₂ (c : Dev nD) : S256x1024.Idx → Ideal .f32 := seconds (m (c.tc.loc main_arg1)) (m (c.tc.loc main_arg3))

theorem left (c : Dev nD) : (dats m 0 c).arrAt 4 cfg0.N = m (c.tc.loc main_arg1) ∧ (dats m 0 c).arrAt 5 cfg0.N = change m c
    ∧ (dats m 0 c).arrAt 6 cfg0.N = moment₁ m c ∧ (dats m 0 c).arrAt 7 cfg0.N = moment₂ m c := by
  refine ⟨(dats m 0 c).arrAt_eq_of_cover 4 _ (fun t _ => ?_) covered, (dats m 0 c).arrAt_eq_of_cover 5 _ (fun t _ => ?_) covered,
    (dats m 0 c).arrAt_eq_of_cover 6 _ (fun t _ => ?_) covered, (dats m 0 c).arrAt_eq_of_cover 7 _ (fun t _ => ?_) covered⟩
  · rw [Value.flushed4, out0_4, View.canon_unit_zero flat, View.ld_unit_zero (S := S128x1024) flat]
    rfl
  · rw [Value.flushed5, out0_5, View.canon_unit_zero flat]
    simp only [View.ld_unit_zero (S := S128x1024) flat]
    rfl
  · rw [Value.flushed6, out0_6, View.canon_unit_zero flat]
    simp only [View.ld_unit_zero (S := S128x1024) flat]
    rfl
  · rw [Value.flushed7, out0_7, View.canon_unit_zero flat]
    simp only [View.ld_unit_zero (S := S128x1024) flat]
    rfl

theorem frame_bits : Cert.quiescent_AdamOut := fun m g _ => by
  have h := Gen.frame (F := Bits) m g
  rw [← same] at h
  exact h

theorem frame_ideal : Cert.quiescent_AdamOutIdeal := fun m g _ => Gen.frame m g

theorem frame_reference : Cert.quiescent_AdamOutReferenceIdeal := fun m g _ =>
  (θ_run _ _ _).mono (fun r h => ⟨fun c => (h c).2.2.2.2, sem_eq_zero_of_no_sems rfl _⟩) (AdamOutReferenceIdeal.Value.run m g)

theorem algebraic : Cert.algebraic_AdamOutIdeal_AdamOutReferenceIdeal := fun m g m' g' _ h =>
  ⟨fun c => m (c.tc.loc main_arg1), change m, moment₁ m, moment₂ m,
    (θ_run _ _ _).mono (fun r hr c => by
      obtain ⟨e4, e5, e6, e7⟩ := left m c
      obtain ⟨r4, r5, r6, r7, kept⟩ := hr c
      exact ⟨r4.trans e4, r5.trans e5, r6.trans e6, r7.trans e7, kept⟩) (Value.run_blocks m g),
    (θ_run _ _ _).mono (fun r hr c => by
      obtain ⟨h0, h1, h2, h3⟩ := h c
      unfold change moment₁ moment₂
      rw [← h0, ← h1, ← h2, ← h3]
      obtain ⟨r4, r5, r6, r7, kept⟩ := hr c
      exact ⟨r4.trans h1, r5.trans (changes_of_reference _ _ _ _ _), r6, r7, kept⟩) (AdamOutReferenceIdeal.Value.run m' g')⟩

end Cert.AdamOutIdeal

namespace Cert.AdamFfnIdeal

open Gen

/-- The two printed programs are one. -/
theorem same {F : FTy → Type} [FloatOps F] : AdamFfn.defs (F := F) = defs :=
  congrArg (Pipeline.defs pcfgs) (congrArg Defs.onTc (funext fun p => match p with | 0 => rfl))

theorem covered (i : S2048x704.Idx) : ∃ t : Fin cfg0.N, (cfg0.win 4).flush t = true ∧ i ∈ ((cfg0.win 4).blk t).view.set := by
  obtain ⟨t, ht⟩ := some_block (N := grid0.N) (n := 8) (b := 256) (R := 2048) (C := 704) win0_4.index (by decide +kernel) rfl i
  refine ⟨t, flush0_4 t, ?_⟩
  show i ∈ ((View.whole main_v0_0).slice (win0_4.rect t)).set
  rw [View.set_slice_whole, Rect.mem_set_unit]
  exact ht

variable (m : (ℓ : Loc nD τ sig) → Buf (Elt Ideal) ℓ)

/-- What a chip's weights change by, and its new moments. -/
abbrev change (c : Dev nD) : S2048x704.Idx → Ideal .f32 :=
  changes (m (c.tc.loc main_arg0)) (m (c.tc.loc main_arg1)) (m (c.tc.loc main_arg2)) (m (c.tc.loc main_arg3))
abbrev moment₁ (c : Dev nD) : S2048x704.Idx → Ideal .f32 := firsts (m (c.tc.loc main_arg1)) (m (c.tc.loc main_arg2))
abbrev moment₂ (c : Dev nD) : S2048x704.Idx → Ideal .f32 := seconds (m (c.tc.loc main_arg1)) (m (c.tc.loc main_arg3))

theorem left (c : Dev nD) : (dats m 0 c).arrAt 4 cfg0.N = m (c.tc.loc main_arg1) ∧ (dats m 0 c).arrAt 5 cfg0.N = change m c
    ∧ (dats m 0 c).arrAt 6 cfg0.N = moment₁ m c ∧ (dats m 0 c).arrAt 7 cfg0.N = moment₂ m c := by
  refine ⟨(dats m 0 c).arrAt_eq_of_cover 4 _ (fun t _ => ?_) covered, (dats m 0 c).arrAt_eq_of_cover 5 _ (fun t _ => ?_) covered,
    (dats m 0 c).arrAt_eq_of_cover 6 _ (fun t _ => ?_) covered, (dats m 0 c).arrAt_eq_of_cover 7 _ (fun t _ => ?_) covered⟩
  · rw [Value.flushed4, out0_4, View.canon_unit_zero flat, View.ld_unit_zero (S := S256x704) flat]
    rfl
  · rw [Value.flushed5, out0_5, View.canon_unit_zero flat]
    simp only [View.ld_unit_zero (S := S256x704) flat]
    rfl
  · rw [Value.flushed6, out0_6, View.canon_unit_zero flat]
    simp only [View.ld_unit_zero (S := S256x704) flat]
    rfl
  · rw [Value.flushed7, out0_7, View.canon_unit_zero flat]
    simp only [View.ld_unit_zero (S := S256x704) flat]
    rfl

theorem frame_bits : Cert.quiescent_AdamFfn := fun m g _ => by
  have h := Gen.frame (F := Bits) m g
  rw [← same] at h
  exact h

theorem frame_ideal : Cert.quiescent_AdamFfnIdeal := fun m g _ => Gen.frame m g

theorem frame_reference : Cert.quiescent_AdamFfnReferenceIdeal := fun m g _ =>
  (θ_run _ _ _).mono (fun r h => ⟨fun c => (h c).2.2.2.2, sem_eq_zero_of_no_sems rfl _⟩) (AdamFfnReferenceIdeal.Value.run m g)

theorem algebraic : Cert.algebraic_AdamFfnIdeal_AdamFfnReferenceIdeal := fun m g m' g' _ h =>
  ⟨fun c => m (c.tc.loc main_arg1), change m, moment₁ m, moment₂ m,
    (θ_run _ _ _).mono (fun r hr c => by
      obtain ⟨e4, e5, e6, e7⟩ := left m c
      obtain ⟨r4, r5, r6, r7, kept⟩ := hr c
      exact ⟨r4.trans e4, r5.trans e5, r6.trans e6, r7.trans e7, kept⟩) (Value.run_blocks m g),
    (θ_run _ _ _).mono (fun r hr c => by
      obtain ⟨h0, h1, h2, h3⟩ := h c
      unfold change moment₁ moment₂
      rw [← h0, ← h1, ← h2, ← h3]
      obtain ⟨r4, r5, r6, r7, kept⟩ := hr c
      exact ⟨r4.trans h1, r5.trans (changes_of_reference _ _ _ _ _), r6, r7, kept⟩) (AdamFfnReferenceIdeal.Value.run m' g')⟩

end Cert.AdamFfnIdeal

namespace Cert.AdamFfnDownIdeal

open Gen

/-- The two printed programs are one. -/
theorem same {F : FTy → Type} [FloatOps F] : AdamFfnDown.defs (F := F) = defs :=
  congrArg (Pipeline.defs pcfgs) (congrArg Defs.onTc (funext fun p => match p with | 0 => rfl))

theorem covered (i : S1408x1024.Idx) : ∃ t : Fin cfg0.N, (cfg0.win 4).flush t = true ∧ i ∈ ((cfg0.win 4).blk t).view.set := by
  obtain ⟨t, ht⟩ := some_block (N := grid0.N) (n := 8) (b := 176) (R := 1408) (C := 1024) win0_4.index (by decide +kernel) rfl i
  refine ⟨t, flush0_4 t, ?_⟩
  show i ∈ ((View.whole main_v0_0).slice (win0_4.rect t)).set
  rw [View.set_slice_whole, Rect.mem_set_unit]
  exact ht

variable (m : (ℓ : Loc nD τ sig) → Buf (Elt Ideal) ℓ)

/-- What a chip's weights change by, and its new moments. -/
abbrev change (c : Dev nD) : S1408x1024.Idx → Ideal .f32 :=
  changes (m (c.tc.loc main_arg0)) (m (c.tc.loc main_arg1)) (m (c.tc.loc main_arg2)) (m (c.tc.loc main_arg3))
abbrev moment₁ (c : Dev nD) : S1408x1024.Idx → Ideal .f32 := firsts (m (c.tc.loc main_arg1)) (m (c.tc.loc main_arg2))
abbrev moment₂ (c : Dev nD) : S1408x1024.Idx → Ideal .f32 := seconds (m (c.tc.loc main_arg1)) (m (c.tc.loc main_arg3))

theorem left (c : Dev nD) : (dats m 0 c).arrAt 4 cfg0.N = m (c.tc.loc main_arg1) ∧ (dats m 0 c).arrAt 5 cfg0.N = change m c
    ∧ (dats m 0 c).arrAt 6 cfg0.N = moment₁ m c ∧ (dats m 0 c).arrAt 7 cfg0.N = moment₂ m c := by
  refine ⟨(dats m 0 c).arrAt_eq_of_cover 4 _ (fun t _ => ?_) covered, (dats m 0 c).arrAt_eq_of_cover 5 _ (fun t _ => ?_) covered,
    (dats m 0 c).arrAt_eq_of_cover 6 _ (fun t _ => ?_) covered, (dats m 0 c).arrAt_eq_of_cover 7 _ (fun t _ => ?_) covered⟩
  · rw [Value.flushed4, out0_4, View.canon_unit_zero flat, View.ld_unit_zero (S := S176x1024) flat]
    rfl
  · rw [Value.flushed5, out0_5, View.canon_unit_zero flat]
    simp only [View.ld_unit_zero (S := S176x1024) flat]
    rfl
  · rw [Value.flushed6, out0_6, View.canon_unit_zero flat]
    simp only [View.ld_unit_zero (S := S176x1024) flat]
    rfl
  · rw [Value.flushed7, out0_7, View.canon_unit_zero flat]
    simp only [View.ld_unit_zero (S := S176x1024) flat]
    rfl

theorem frame_bits : Cert.quiescent_AdamFfnDown := fun m g _ => by
  have h := Gen.frame (F := Bits) m g
  rw [← same] at h
  exact h

theorem frame_ideal : Cert.quiescent_AdamFfnDownIdeal := fun m g _ => Gen.frame m g

theorem frame_reference : Cert.quiescent_AdamFfnDownReferenceIdeal := fun m g _ =>
  (θ_run _ _ _).mono (fun r h => ⟨fun c => (h c).2.2.2.2, sem_eq_zero_of_no_sems rfl _⟩) (AdamFfnDownReferenceIdeal.Value.run m g)

theorem algebraic : Cert.algebraic_AdamFfnDownIdeal_AdamFfnDownReferenceIdeal := fun m g m' g' _ h =>
  ⟨fun c => m (c.tc.loc main_arg1), change m, moment₁ m, moment₂ m,
    (θ_run _ _ _).mono (fun r hr c => by
      obtain ⟨e4, e5, e6, e7⟩ := left m c
      obtain ⟨r4, r5, r6, r7, kept⟩ := hr c
      exact ⟨r4.trans e4, r5.trans e5, r6.trans e6, r7.trans e7, kept⟩) (Value.run_blocks m g),
    (θ_run _ _ _).mono (fun r hr c => by
      obtain ⟨h0, h1, h2, h3⟩ := h c
      unfold change moment₁ moment₂
      rw [← h0, ← h1, ← h2, ← h3]
      obtain ⟨r4, r5, r6, r7, kept⟩ := hr c
      exact ⟨r4.trans h1, r5.trans (changes_of_reference _ _ _ _ _), r6, r7, kept⟩) (AdamFfnDownReferenceIdeal.Value.run m' g')⟩

end Cert.AdamFfnDownIdeal

namespace Cert.AdamDilQkvIdeal

open Gen

/-- The two printed programs are one. -/
theorem same {F : FTy → Type} [FloatOps F] : AdamDilQkv.defs (F := F) = defs :=
  congrArg (Pipeline.defs pcfgs) (congrArg Defs.onTc (funext fun p => match p with | 0 => rfl))

theorem covered (i : S1024x2304.Idx) : ∃ t : Fin cfg0.N, (cfg0.win 4).flush t = true ∧ i ∈ ((cfg0.win 4).blk t).view.set := by
  obtain ⟨t, ht⟩ := some_block (N := grid0.N) (n := 16) (b := 64) (R := 1024) (C := 2304) win0_4.index (by decide +kernel) rfl i
  refine ⟨t, flush0_4 t, ?_⟩
  show i ∈ ((View.whole main_v0_0).slice (win0_4.rect t)).set
  rw [View.set_slice_whole, Rect.mem_set_unit]
  exact ht

variable (m : (ℓ : Loc nD τ sig) → Buf (Elt Ideal) ℓ)

/-- What a chip's weights change by, and its new moments. -/
abbrev change (c : Dev nD) : S1024x2304.Idx → Ideal .f32 :=
  changes (m (c.tc.loc main_arg0)) (m (c.tc.loc main_arg1)) (m (c.tc.loc main_arg2)) (m (c.tc.loc main_arg3))
abbrev moment₁ (c : Dev nD) : S1024x2304.Idx → Ideal .f32 := firsts (m (c.tc.loc main_arg1)) (m (c.tc.loc main_arg2))
abbrev moment₂ (c : Dev nD) : S1024x2304.Idx → Ideal .f32 := seconds (m (c.tc.loc main_arg1)) (m (c.tc.loc main_arg3))

theorem left (c : Dev nD) : (dats m 0 c).arrAt 4 cfg0.N = m (c.tc.loc main_arg1) ∧ (dats m 0 c).arrAt 5 cfg0.N = change m c
    ∧ (dats m 0 c).arrAt 6 cfg0.N = moment₁ m c ∧ (dats m 0 c).arrAt 7 cfg0.N = moment₂ m c := by
  refine ⟨(dats m 0 c).arrAt_eq_of_cover 4 _ (fun t _ => ?_) covered, (dats m 0 c).arrAt_eq_of_cover 5 _ (fun t _ => ?_) covered,
    (dats m 0 c).arrAt_eq_of_cover 6 _ (fun t _ => ?_) covered, (dats m 0 c).arrAt_eq_of_cover 7 _ (fun t _ => ?_) covered⟩
  · rw [Value.flushed4, out0_4, View.canon_unit_zero flat, View.ld_unit_zero (S := S64x2304) flat]
    rfl
  · rw [Value.flushed5, out0_5, View.canon_unit_zero flat]
    simp only [View.ld_unit_zero (S := S64x2304) flat]
    rfl
  · rw [Value.flushed6, out0_6, View.canon_unit_zero flat]
    simp only [View.ld_unit_zero (S := S64x2304) flat]
    rfl
  · rw [Value.flushed7, out0_7, View.canon_unit_zero flat]
    simp only [View.ld_unit_zero (S := S64x2304) flat]
    rfl

theorem frame_bits : Cert.quiescent_AdamDilQkv := fun m g _ => by
  have h := Gen.frame (F := Bits) m g
  rw [← same] at h
  exact h

theorem frame_ideal : Cert.quiescent_AdamDilQkvIdeal := fun m g _ => Gen.frame m g

theorem frame_reference : Cert.quiescent_AdamDilQkvReferenceIdeal := fun m g _ =>
  (θ_run _ _ _).mono (fun r h => ⟨fun c => (h c).2.2.2.2, sem_eq_zero_of_no_sems rfl _⟩) (AdamDilQkvReferenceIdeal.Value.run m g)

theorem algebraic : Cert.algebraic_AdamDilQkvIdeal_AdamDilQkvReferenceIdeal := fun m g m' g' _ h =>
  ⟨fun c => m (c.tc.loc main_arg1), change m, moment₁ m, moment₂ m,
    (θ_run _ _ _).mono (fun r hr c => by
      obtain ⟨e4, e5, e6, e7⟩ := left m c
      obtain ⟨r4, r5, r6, r7, kept⟩ := hr c
      exact ⟨r4.trans e4, r5.trans e5, r6.trans e6, r7.trans e7, kept⟩) (Value.run_blocks m g),
    (θ_run _ _ _).mono (fun r hr c => by
      obtain ⟨h0, h1, h2, h3⟩ := h c
      unfold change moment₁ moment₂
      rw [← h0, ← h1, ← h2, ← h3]
      obtain ⟨r4, r5, r6, r7, kept⟩ := hr c
      exact ⟨r4.trans h1, r5.trans (changes_of_reference _ _ _ _ _), r6, r7, kept⟩) (AdamDilQkvReferenceIdeal.Value.run m' g')⟩

end Cert.AdamDilQkvIdeal

namespace Cert.AdamSmallIdeal

open Gen

/-- The two printed programs are one. -/
theorem same {F : FTy → Type} [FloatOps F] : AdamSmall.defs (F := F) = defs :=
  congrArg (Pipeline.defs pcfgs) (congrArg Defs.onTc (funext fun p => match p with | 0 => rfl))

theorem covered (i : S128x128.Idx) : ∃ t : Fin cfg0.N, (cfg0.win 4).flush t = true ∧ i ∈ ((cfg0.win 4).blk t).view.set := by
  obtain ⟨t, ht⟩ := some_block (N := grid0.N) (n := 1) (b := 128) (R := 128) (C := 128) win0_4.index (by decide +kernel) rfl i
  refine ⟨t, flush0_4 t, ?_⟩
  show i ∈ ((View.whole main_v0_0).slice (win0_4.rect t)).set
  rw [View.set_slice_whole, Rect.mem_set_unit]
  exact ht

variable (m : (ℓ : Loc nD τ sig) → Buf (Elt Ideal) ℓ)

/-- What a chip's weights change by, and its new moments. -/
abbrev change (c : Dev nD) : S128x128.Idx → Ideal .f32 :=
  changes (m (c.tc.loc main_arg0)) (m (c.tc.loc main_arg1)) (m (c.tc.loc main_arg2)) (m (c.tc.loc main_arg3))
abbrev moment₁ (c : Dev nD) : S128x128.Idx → Ideal .f32 := firsts (m (c.tc.loc main_arg1)) (m (c.tc.loc main_arg2))
abbrev moment₂ (c : Dev nD) : S128x128.Idx → Ideal .f32 := seconds (m (c.tc.loc main_arg1)) (m (c.tc.loc main_arg3))

theorem left (c : Dev nD) : (dats m 0 c).arrAt 4 cfg0.N = m (c.tc.loc main_arg1) ∧ (dats m 0 c).arrAt 5 cfg0.N = change m c
    ∧ (dats m 0 c).arrAt 6 cfg0.N = moment₁ m c ∧ (dats m 0 c).arrAt 7 cfg0.N = moment₂ m c := by
  refine ⟨(dats m 0 c).arrAt_eq_of_cover 4 _ (fun t _ => ?_) covered, (dats m 0 c).arrAt_eq_of_cover 5 _ (fun t _ => ?_) covered,
    (dats m 0 c).arrAt_eq_of_cover 6 _ (fun t _ => ?_) covered, (dats m 0 c).arrAt_eq_of_cover 7 _ (fun t _ => ?_) covered⟩
  · rw [Value.flushed4, out0_4, View.canon_unit_zero flat, View.ld_unit_zero (S := S128x128) flat]
    rfl
  · rw [Value.flushed5, out0_5, View.canon_unit_zero flat]
    simp only [View.ld_unit_zero (S := S128x128) flat]
    rfl
  · rw [Value.flushed6, out0_6, View.canon_unit_zero flat]
    simp only [View.ld_unit_zero (S := S128x128) flat]
    rfl
  · rw [Value.flushed7, out0_7, View.canon_unit_zero flat]
    simp only [View.ld_unit_zero (S := S128x128) flat]
    rfl

theorem frame_bits : Cert.quiescent_AdamSmall := fun m g _ => by
  have h := Gen.frame (F := Bits) m g
  rw [← same] at h
  exact h

theorem frame_ideal : Cert.quiescent_AdamSmallIdeal := fun m g _ => Gen.frame m g

theorem frame_reference : Cert.quiescent_AdamSmallReferenceIdeal := fun m g _ =>
  (θ_run _ _ _).mono (fun r h => ⟨fun c => (h c).2.2.2.2, sem_eq_zero_of_no_sems rfl _⟩) (AdamSmallReferenceIdeal.Value.run m g)

theorem algebraic : Cert.algebraic_AdamSmallIdeal_AdamSmallReferenceIdeal := fun m g m' g' _ h =>
  ⟨fun c => m (c.tc.loc main_arg1), change m, moment₁ m, moment₂ m,
    (θ_run _ _ _).mono (fun r hr c => by
      obtain ⟨e4, e5, e6, e7⟩ := left m c
      obtain ⟨r4, r5, r6, r7, kept⟩ := hr c
      exact ⟨r4.trans e4, r5.trans e5, r6.trans e6, r7.trans e7, kept⟩) (Value.run_blocks m g),
    (θ_run _ _ _).mono (fun r hr c => by
      obtain ⟨h0, h1, h2, h3⟩ := h c
      unfold change moment₁ moment₂
      rw [← h0, ← h1, ← h2, ← h3]
      obtain ⟨r4, r5, r6, r7, kept⟩ := hr c
      exact ⟨r4.trans h1, r5.trans (changes_of_reference _ _ _ _ _), r6, r7, kept⟩) (AdamSmallReferenceIdeal.Value.run m' g')⟩

end Cert.AdamSmallIdeal

end
-- ==== Proof.Reals.lean ====
/-
  Sums of extended reals, the constants of the step, and the derivative of a division by the root mean square.
-/
module

public import Idealize.ShloMosaic.PureOps.Ideal
public import Idealize.ShloMosaic.Lib.IdealHost

@[expose] public section

noncomputable section

namespace Cert.Reals

open Idealize Idealize.ShloMosaic

theorem lit_1024 : Ideal.ofBits .f32 0x44800000#32 = ((1024 : ℝ) : EReal) := by
  simp [Ideal.ofBits, Ideal.ieee, -EReal.coe_mul]; norm_num
theorem lit_inv_1024 : Ideal.ofBits .f32 0x3A800000#32 = (((1024 : ℝ)⁻¹ : ℝ) : EReal) := by
  simp [Ideal.ofBits, Ideal.ieee, -EReal.coe_mul]; norm_num
theorem lit_inv_2048 : Ideal.ofBits .f32 0x3A000000#32 = (((2048 : ℝ)⁻¹ : ℝ) : EReal) := by
  simp [Ideal.ofBits, Ideal.ieee, -EReal.coe_mul]; norm_num
theorem lit_half : Ideal.ofBits .f32 0x3F000000#32 = (((2 : ℝ)⁻¹ : ℝ) : EReal) := by
  simp [Ideal.ofBits, Ideal.ieee, -EReal.coe_mul]; norm_num

/-- A number divided by 1024. -/
theorem div_1024 (x : EReal) : Ideal.div x ((1024 : ℝ) : EReal) = x * (((1024 : ℝ)⁻¹ : ℝ) : EReal) := by
  unfold Ideal.div
  rw [if_neg (by norm_num), EReal.coe_inv]

/-- A square is not negative. -/
theorem sq_nonneg (x : EReal) : 0 ≤ x * x := by
  rcases le_total 0 x with h | h
  · exact mul_nonneg h h
  · exact EReal.mul_nonneg_iff.mpr (Or.inr ⟨h, h⟩)

/-- A sum of numbers that are not negative, times a number. -/
theorem sum_mul {ι : Type} (s : Finset ι) (f : ι → EReal) (hf : ∀ i, 0 ≤ f i) (k : EReal) : (∑ i ∈ s, f i) * k = ∑ i ∈ s, f i * k := by
  classical
  induction s using Finset.induction_on with
  | empty => rw [Finset.sum_empty, Finset.sum_empty, zero_mul]
  | insert a s ha ih =>
    rw [Finset.sum_insert ha, Finset.sum_insert ha, EReal.right_distrib_of_nonneg (hf a) (Finset.sum_nonneg fun i _ => hf i), ih]

theorem lit_neg_half : Ideal.ofBits .f32 0xBF000000#32 = ((-(2 : ℝ)⁻¹ : ℝ) : EReal) := by
  simp [Ideal.ofBits, Ideal.ieee, -EReal.coe_mul]; norm_num
theorem lit_eps : ∃ e : ℝ, 0 < e ∧ Ideal.ofBits .f32 0x358637BD#32 = (e : EReal) := by
  refine ⟨_, ?_, by simp [Ideal.ofBits, Ideal.ieee, -EReal.coe_mul]; rfl⟩
  norm_num

/-- A sum of any numbers, times a finite number that is not negative. -/
theorem sum_mul_real {ι : Type} (s : Finset ι) (f : ι → EReal) {k : ℝ} (hk : 0 ≤ k) : (∑ i ∈ s, f i) * (k : EReal) = ∑ i ∈ s, f i * (k : EReal) := by
  classical
  induction s using Finset.induction_on with
  | empty => rw [Finset.sum_empty, Finset.sum_empty, zero_mul]
  | insert a s ha ih =>
    rw [Finset.sum_insert ha, Finset.sum_insert ha, EReal.right_distrib_of_nonneg_of_ne_top (EReal.coe_nonneg.mpr hk) (EReal.coe_ne_top k), ih]

theorem twice (x : EReal) : x + x = ((2 : ℝ) : EReal) * x := by
  induction x with
  | bot => rw [EReal.coe_mul_bot_of_pos (by norm_num)]; rfl
  | top => rw [EReal.coe_mul_top_of_pos (by norm_num)]; rfl
  | coe x => rw [← EReal.coe_add, ← EReal.coe_mul, two_mul]

/-- One over the root of the mean of the squares that sum to `q`. -/
def scale (q : EReal) : EReal := Ideal.rsqrt (Ideal.div q (Ideal.ofBits .f32 0x44800000#32) + Ideal.ofBits .f32 0x358637BD#32)

/-- It is finite and not negative, and over the mean it is its own cube. -/
theorem scale_real {q : EReal} (hq : 0 ≤ q) : ∃ r : ℝ, 0 ≤ r ∧ scale q = (r : EReal)
    ∧ Ideal.div (scale q) (Ideal.div q (Ideal.ofBits .f32 0x44800000#32) + Ideal.ofBits .f32 0x358637BD#32) = ((r ^ 3 : ℝ) : EReal) := by
  obtain ⟨e, he, h⟩ := lit_eps
  unfold scale
  rw [h, lit_1024, div_1024]
  induction q with
  | bot => exact absurd hq (by simp)
  | top =>
    rw [EReal.top_mul_coe_of_pos (by norm_num), EReal.top_add_coe]
    refine ⟨0, le_refl _, rfl, ?_⟩
    show Ideal.div 0 ⊤ = _
    unfold Ideal.div
    rw [if_neg (by simp), zero_mul]
    norm_num
  | coe q =>
    rw [← EReal.coe_mul, ← EReal.coe_add]
    have hx : 0 < q * (1024 : ℝ)⁻¹ + e := by
      have := EReal.coe_nonneg.mp hq
      positivity
    generalize q * (1024 : ℝ)⁻¹ + e = x at hx
    have hr : Ideal.rsqrt (x : EReal) = (((Real.sqrt x)⁻¹ : ℝ) : EReal) := by
      show (if x < 0 then ⊥ else if x = 0 then ⊤ else (((Real.sqrt x)⁻¹ : ℝ) : EReal)) = _
      rw [if_neg (not_lt.mpr hx.le), if_neg hx.ne']
    refine ⟨(Real.sqrt x)⁻¹, by positivity, hr, ?_⟩
    rw [hr]
    unfold Ideal.div
    rw [if_neg (by exact_mod_cast hx.ne'), ← EReal.coe_inv, ← EReal.coe_mul]
    congr 1
    have : Real.sqrt x * Real.sqrt x = x := Real.mul_self_sqrt hx.le
    rw [show x⁻¹ = (Real.sqrt x)⁻¹ * (Real.sqrt x)⁻¹ by rw [← mul_inv, this]]
    ring

/-- The two ways of writing the gradient of a row over its root mean square. -/
theorem back {n : Nat} {q : EReal} (hq : 0 ≤ q) (t u : EReal) (T U : Fin n → EReal) :
    t * scale q + u * Ideal.div ((∑ k, U k * T k) * (Ideal.ofBits .f32 0xBF000000#32
        * Ideal.div (scale q) (Ideal.div q (Ideal.ofBits .f32 0x44800000#32) + Ideal.ofBits .f32 0x358637BD#32))) (Ideal.ofBits .f32 0x44800000#32)
      + Ideal.div ((∑ k, U k * T k) * (Ideal.ofBits .f32 0xBF000000#32
        * Ideal.div (scale q) (Ideal.div q (Ideal.ofBits .f32 0x44800000#32) + Ideal.ofBits .f32 0x358637BD#32))) (Ideal.ofBits .f32 0x44800000#32) * u
    = scale q * (t - u * scale q * Ideal.div (∑ k, T k * (U k * scale q)) (Ideal.ofBits .f32 0x44800000#32)) := by
  obtain ⟨r, hr, e, e3⟩ := scale_real hq
  rw [e3, e, lit_1024, lit_neg_half, div_1024, div_1024]
  have hs : ∑ k, T k * (U k * (r : EReal)) = (∑ k, U k * T k) * (r : EReal) := by
    rw [sum_mul_real _ _ hr]
    exact Finset.sum_congr rfl fun k _ => by rw [← mul_assoc, mul_comm (T k)]
  rw [hs]
  generalize ∑ k, U k * T k = S
  rw [add_assoc, mul_comm (S * _ * _) u, twice, sub_eq_add_neg, EReal.left_distrib_of_nonneg_of_ne_top (EReal.coe_nonneg.mpr hr) (EReal.coe_ne_top r), mul_comm t, mul_neg]
  congr 1
  have h1 : u * (S * (((-(2 : ℝ)⁻¹ : ℝ) : EReal) * ((r ^ 3 : ℝ) : EReal)) * (((1024 : ℝ)⁻¹ : ℝ) : EReal))
      = u * S * ((((-(2 : ℝ)⁻¹) * r ^ 3 * (1024 : ℝ)⁻¹ : ℝ)) : EReal) := by
    rw [EReal.coe_mul, EReal.coe_mul]
    ac_rfl
  have h2 : (r : EReal) * (u * (r : EReal) * (S * (r : EReal) * (((1024 : ℝ)⁻¹ : ℝ) : EReal)))
      = u * S * ((r ^ 3 * (1024 : ℝ)⁻¹ : ℝ) : EReal) := by
    rw [EReal.coe_mul, pow_succ, pow_two, EReal.coe_mul, EReal.coe_mul]
    ac_rfl
  rw [h1, h2, ← mul_neg, ← EReal.coe_neg, mul_left_comm, ← EReal.coe_mul]
  congr 2
  ring

end Cert.Reals

end
-- ==== Proof.Loss.lean ====
/-
  A device's part of the loss, and the gradient of it: the call adds up the squared errors of a block of rows at each
  grid point.
-/
module

public import proofs.«01_k».proof.Defs
public import proofs.«01_k».proof.Proof.Rows
public import proofs.«01_k».proof.Proof.Reals
public import proofs.«01_k».proof.Proof.Gen.Loss
public import proofs.«01_k».proof.Proof.Gen.LossIdeal.Value
public import proofs.«01_k».proof.Proof.Gen.LossReferenceIdeal.Run
public import Idealize.ShloMosaic.Lib.Pipeline.ValueKit
public import Idealize.ShloMosaic.Lib.Pointwise

@[expose] public section

noncomputable section

open Idealize Idealize.ShloMosaic Idealize.SL Idealize.SL.Sem TcCoe Cert.Rows Cert.Reals

namespace Cert.LossIdeal

open Gen

/-- The two printed programs are one. -/
theorem same {F : FTy → Type} [FloatOps F] : Loss.defs (F := F) = defs :=
  congrArg (Pipeline.defs pcfgs) (congrArg Defs.onTc (funext fun p => match p with | 0 => rfl))

/-- The errors' squares, summed over a row. -/
def row (Y T : S2048x1024.Idx → EReal) (r : Fin 2048) : EReal := ∑ k : Fin 1024, (Y (ix2 r k) - T (ix2 r k)) * (Y (ix2 r k) - T (ix2 r k))

theorem rows_lt (t : Fin cfg0.N) (x : Fin 256) : t.val * 256 + x.val < 2048 := by
  have ht : t.val < 8 := lt_of_lt_of_eq t.isLt N_0
  omega

/-- The gradient of the loss, and the loss. -/
def gradient (Y T : S2048x1024.Idx → EReal) (i : S2048x1024.Idx) : EReal := (Y i - T i) * (((1024 : ℝ)⁻¹ : ℝ) : EReal)
def loss (Y T : S2048x1024.Idx → EReal) (_ : S1x128.Idx) : EReal := ∑ r, row Y T r * (((2048 : ℝ)⁻¹ : ℝ) : EReal)

variable (m : (ℓ : Loc nD τ sig) → Buf (Elt Ideal) ℓ)

theorem covered (i : S2048x1024.Idx) : ∃ t : Fin cfg0.N, (cfg0.win 2).flush t = true ∧ i ∈ ((cfg0.win 2).blk t).view.set := by
  obtain ⟨t, ht⟩ := some_block (N := grid0.N) (n := 8) (b := 256) (R := 2048) (C := 1024) win0_2.index (by decide +kernel) rfl i
  refine ⟨t, flush0_2 t, ?_⟩
  show i ∈ ((View.whole main_v0_0).slice (win0_2.rect t)).set
  rw [View.set_slice_whole, Rect.mem_set_unit]
  exact ht

theorem outs (c : Dev nD) (t : Fin cfg0.N) : (outsAt0 m c t.val t.isLt).1 = k0_pay2 (iblk m c 0 t) (iblk m c 1 t) := by
  by_cases h : t.val % 8 = 0
  · rw [outsAt0_A m c t h]
    frame_out
  · rw [outsAt0_B m c t h]
    frame_out

theorem left_gradient (c : Dev nD) : (dats m 0 c).arrAt 2 cfg0.N = gradient (m (c.tc.loc main_arg0)) (m (c.tc.loc main_arg1)) :=
  (dats m 0 c).arrAt_eq_of_cover 2 _ (fun t _ => by
    rw [Value.flushed2, outs]
    funext j
    exact congrArg (_ * ·) lit_inv_1024) covered

/-- What one block adds to the loss. -/
def part (X Z : S256x1024.Idx → EReal) : EReal :=
  (∑ x, ∑ k, (X (ix2 x k) - Z (ix2 x k)) * (X (ix2 x k) - Z (ix2 x k))) * (((2048 : ℝ)⁻¹ : ℝ) : EReal)

theorem adds (X Z : Vec Ideal S256x1024 .f32) (acc : Vec Ideal S1x128 .f32) (j : S1x128.Idx) : k0_pay4 X Z acc j = acc j + part X Z := by
  unfold k0_pay4 k0_pay1 part
  rw [← lit_inv_2048]
  pointwise

theorem starts (j : S1x128.Idx) : k0_pay3 (F := Ideal) j = 0 := by
  unfold k0_pay3
  pointwise

theorem index_left : ∀ t : Fin cfg0.N, win0_0.index t = ![t.val, 0] := by decide +kernel
theorem index_right : ∀ t : Fin cfg0.N, win0_1.index t = ![t.val, 0] := by decide +kernel

theorem part_block (c : Dev nD) (t : Fin cfg0.N) : part (iblk m c 0 t) (iblk m c 1 t)
    = ∑ x : Fin 256, row (m (c.tc.loc main_arg0)) (m (c.tc.loc main_arg1)) ⟨t.val * 256 + x.val, rows_lt t x⟩ * (((2048 : ℝ)⁻¹ : ℝ) : EReal) := by
  unfold part
  rw [sum_mul _ _ fun x => Finset.sum_nonneg fun k _ => sq_nonneg _]
  refine Finset.sum_congr rfl fun x _ => congrArg (· * _) ?_
  refine Finset.sum_congr rfl fun k _ => ?_
  blk_point [iblk, V, index_left t, index_right t]

theorem last (c : Dev nD) (j : S1x128.Idx) :
    (outsAt0 m c t0_7.val t0_7.isLt).2 j = loss (m (c.tc.loc main_arg0)) (m (c.tc.loc main_arg1)) j := by
  refine (Pipeline.eq_sum_fin_of_reset_step_apply_last (fun n h => (outsAt0 m c n h).2) 8 (fun _ => 0) _
    (fun t h j => by rw [outsAt0_A m c t h]; frame_out; rw [adds, starts])
    (fun t h j => by rw [outsAt0_B m c t h]; frame_out; rw [adds]) (le_of_eq N_0) t0_7 rfl j).trans ?_
  refine (zero_add _).trans ((Finset.sum_congr rfl fun t _ => part_block m c t).trans ?_)
  exact Fin.sum_mul_add_fin (L := 2048) 8 256 fun r => row (m (c.tc.loc main_arg0)) (m (c.tc.loc main_arg1)) r * (((2048 : ℝ)⁻¹ : ℝ) : EReal)

theorem left_loss (c : Dev nD) : (dats m 0 c).arrAt 3 cfg0.N = loss (m (c.tc.loc main_arg0)) (m (c.tc.loc main_arg1)) :=
  (dats m 0 c).arrAt_eq_of_cover 3 _ (fun t hf => by
    obtain rfl : t = t0_7 := Fin.ext (by have := (flush0_3 t).mp hf; have := lt_of_lt_of_eq t.isLt N_0; show t.val = 7; omega)
    rw [Value.flushed3]
    funext j
    exact last m c _) fun i => ⟨t0_7, (flush0_3 t0_7).mpr (by decide), by
      show i ∈ ((View.whole main_v0_1).slice (win0_3.rect t0_7)).set
      rw [View.set_slice_whole, Rect.mem_set_unit]
      intro a
      match a with
      | ⟨0, _⟩ => exact ⟨Nat.zero_le _, (i 0).isLt⟩
      | ⟨1, _⟩ => exact ⟨Nat.zero_le _, (i 1).isLt⟩⟩

end Cert.LossIdeal

namespace Cert.LossReferenceIdeal

open Gen

/-- What the reference computes. -/
theorem gradient (Y T : FVec Ideal S2048x1024 .f32) :
    Host.divf (subf Y T) (broadcastInDim S2048x1024 ![] bcast_S_S2048x1024 (constant S_ .f32 0x44800000#32)) = LossIdeal.gradient Y T := by
  funext i
  exact (congrArg (Ideal.div _) lit_1024).trans (div_1024 _)

theorem loss (Y T : FVec Ideal S2048x1024 .f32) :
    broadcastInDim S1x128 ![] bcast_S_S1x128 (mulf (constant S_ .f32 0x3F000000#32) (Host.reduceAdd (Host.divf
      (Host.reduceAdd (mulf (subf Y T) (subf Y T)) (constant S_ .f32 0x00000000#32) reducesTo_S2048x1024_S2048_d1 h_S_)
      (broadcastInDim S2048 ![] bcast_S_S2048 (constant S_ .f32 0x44800000#32))) (constant S_ .f32 0x00000000#32) reducesTo_S2048_S_d0 h_S_))
      = LossIdeal.loss Y T := by
  funext i
  pointwise
  rw [lit_half, lit_1024, mul_comm, sum_mul _ _ fun r => ?_]
  · refine Finset.sum_congr rfl fun r _ => ?_
    rw [div_1024, mul_assoc, ← EReal.coe_mul]
    exact congrArg (fun k : ℝ => LossIdeal.row Y T r * (k : EReal)) (by norm_num)
  · rw [div_1024]
    exact mul_nonneg (Finset.sum_nonneg fun k _ => sq_nonneg _) (EReal.coe_nonneg.mpr (by norm_num))

end Cert.LossReferenceIdeal

namespace Cert.LossIdeal

open Gen

theorem frame_bits : Cert.quiescent_Loss := fun m g _ => by
  have h := Gen.frame (F := Bits) m g
  rw [← same] at h
  exact h

theorem frame_ideal : Cert.quiescent_LossIdeal := fun m g _ => Gen.frame m g

theorem frame_reference : Cert.quiescent_LossReferenceIdeal := fun m g _ =>
  (θ_run _ _ _).mono (fun r h => ⟨fun c => (h c).2.2, sem_eq_zero_of_no_sems rfl _⟩) (LossReferenceIdeal.Value.run m g)

theorem algebraic : Cert.algebraic_LossIdeal_LossReferenceIdeal := fun m g m' g' _ h =>
  ⟨fun c => gradient (m (c.tc.loc main_arg0)) (m (c.tc.loc main_arg1)), fun c => loss (m (c.tc.loc main_arg0)) (m (c.tc.loc main_arg1)),
    (θ_run _ _ _).mono (fun r hr c => by
      obtain ⟨e2, e3, kept⟩ := hr c
      exact ⟨e2.trans (left_gradient m c), e3.trans (left_loss m c), kept⟩) (Value.run_blocks m g),
    (θ_run _ _ _).mono (fun r hr c => by
      obtain ⟨h0, h1⟩ := h c
      obtain ⟨r2, r3, kept⟩ := hr c
      exact ⟨(r2.trans (LossReferenceIdeal.gradient _ _)).trans (congrArg₂ gradient h0 h1),
        (r3.trans (LossReferenceIdeal.loss _ _)).trans (congrArg₂ loss h0 h1), kept⟩) (LossReferenceIdeal.Value.run m' g')⟩

end Cert.LossIdeal

end
-- ==== Proof.Projections.lean ====
/-
  The products of one device with the weights of a projection, each over blocks of its arrays.
-/
module

public import proofs.«01_k».proof.Defs
public import proofs.«01_k».proof.Proof.Gen.Proj
public import proofs.«01_k».proof.Proof.Gen.ProjIdeal.Value
public import proofs.«01_k».proof.Proof.Gen.ProjReferenceIdeal.Run
public import proofs.«01_k».proof.Proof.Gen.ProjDo
public import proofs.«01_k».proof.Proof.Gen.ProjDoIdeal.Value
public import proofs.«01_k».proof.Proof.Gen.ProjDoReferenceIdeal.Run
public import proofs.«01_k».proof.Proof.Gen.ProjDw
public import proofs.«01_k».proof.Proof.Gen.ProjDwIdeal.Value
public import proofs.«01_k».proof.Proof.Gen.ProjDwReferenceIdeal.Run
public import Idealize.ShloMosaic.Lib.Pipeline.ValueKit
public import Idealize.ShloMosaic.Lib.Pointwise

@[expose] public section

set_option maxRecDepth 16384

noncomputable section

open Idealize Idealize.ShloMosaic Idealize.SL Idealize.SL.Sem TcCoe

namespace Cert.ProjIdeal

open Gen

/-- The two printed programs are one. -/
theorem same {F : FTy → Type} [FloatOps F] : Proj.defs (F := F) = defs :=
  congrArg (Pipeline.defs pcfgs) (congrArg Defs.onTc (funext fun p => match p with | 0 => rfl))

/-- The product of two arrays, summed over the axis they share. -/
def product (A : FVec Ideal S2048x1024 .bf16) (B : FVec Ideal S1024x1024 .bf16) : FVec Ideal S2048x1024 .f32 := fun i =>
  ∑ k : Fin 1024, A (ix2 (i 0) k) * B (ix2 k (i 1))

theorem index : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ)

theorem left (c : Dev nD) : (dats m 0 c).arrAt 2 cfg0.N = product (m (c.tc.loc main_arg0)) (m (c.tc.loc main_arg1)) := by
  refine (dats m 0 c).arrAt_eq_of_covers 2 _ (by decide +kernel) fun t _ y => ?_
  blk_simp
  rw [after0_2]
  frame_out
  pointwise [k0_pay1, product]
  blk_point [iblk, V, index t]

theorem frame_bits : Cert.quiescent_Proj := fun m g _ => by
  have h := Gen.frame (F := Bits) m g
  rw [← same] at h
  exact h

theorem frame_ideal : Cert.quiescent_ProjIdeal := fun m g _ => Gen.frame m g

theorem frame_reference : Cert.quiescent_ProjReferenceIdeal := fun m g _ =>
  (θ_run _ _ _).mono (fun r h => ⟨fun c => (h c).2, sem_eq_zero_of_no_sems rfl _⟩) (ProjReferenceIdeal.Value.run m g)

theorem algebraic : Cert.algebraic_ProjIdeal_ProjReferenceIdeal := fun m g m' g' _ h =>
  ⟨fun c => product (m (c.tc.loc main_arg0)) (m (c.tc.loc main_arg1)),
    (θ_run _ _ _).mono (fun r hr c => ⟨(hr c).1.trans (left m c), (hr c).2⟩) (Value.run_blocks m g),
    (θ_run _ _ _).mono (fun r hr c => by
      obtain ⟨h0, h1⟩ := h c
      refine ⟨((hr c).1.trans ?_).trans (congrArg₂ product h0 h1), (hr c).2⟩
      funext i
      pointwise! [product]) (ProjReferenceIdeal.Value.run m' g')⟩

end Cert.ProjIdeal

namespace Cert.ProjDoIdeal

open Gen

/-- The two printed programs are one. -/
theorem same {F : FTy → Type} [FloatOps F] : ProjDo.defs (F := F) = defs :=
  congrArg (Pipeline.defs pcfgs) (congrArg Defs.onTc (funext fun p => match p with | 0 => rfl))

/-- The product of an array with the transpose of another. -/
def product (A : FVec Ideal S2048x1024 .f32) (B : FVec Ideal S1024x1024 .bf16) : FVec Ideal S2048x1024 .bf16 := fun i =>
  ∑ k : Fin 1024, A (ix2 (i 0) k) * B (ix2 (i 1) k)

theorem index : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ)

theorem left (c : Dev nD) : (dats m 0 c).arrAt 2 cfg0.N = product (m (c.tc.loc main_arg0)) (m (c.tc.loc main_arg1)) := by
  refine (dats m 0 c).arrAt_eq_of_covers 2 _ (by decide +kernel) fun t _ y => ?_
  blk_simp
  rw [after0_2]
  frame_out
  pointwise [k0_pay1, product]
  blk_point [iblk, V, index t]

theorem frame_bits : Cert.quiescent_ProjDo := fun m g _ => by
  have h := Gen.frame (F := Bits) m g
  rw [← same] at h
  exact h

theorem frame_ideal : Cert.quiescent_ProjDoIdeal := fun m g _ => Gen.frame m g

theorem frame_reference : Cert.quiescent_ProjDoReferenceIdeal := fun m g _ =>
  (θ_run _ _ _).mono (fun r h => ⟨fun c => (h c).2, sem_eq_zero_of_no_sems rfl _⟩) (ProjDoReferenceIdeal.Value.run m g)

theorem algebraic : Cert.algebraic_ProjDoIdeal_ProjDoReferenceIdeal := fun m g m' g' _ h =>
  ⟨fun c => product (m (c.tc.loc main_arg0)) (m (c.tc.loc main_arg1)),
    (θ_run _ _ _).mono (fun r hr c => ⟨(hr c).1.trans (left m c), (hr c).2⟩) (Value.run_blocks m g),
    (θ_run _ _ _).mono (fun r hr c => by
      obtain ⟨h0, h1⟩ := h c
      refine ⟨((hr c).1.trans ?_).trans (congrArg₂ product h0 h1), (hr c).2⟩
      funext i
      pointwise! [product]) (ProjDoReferenceIdeal.Value.run m' g')⟩

end Cert.ProjDoIdeal

namespace Cert.ProjDwIdeal

open Gen

/-- The two printed programs are one. -/
theorem same {F : FTy → Type} [FloatOps F] : ProjDw.defs (F := F) = defs :=
  congrArg (Pipeline.defs pcfgs) (congrArg Defs.onTc (funext fun p => match p with | 0 => rfl))

/-- The product of the transpose of an array with another. -/
def product (A : FVec Ideal S2048x1024 .bf16) (B : FVec Ideal S2048x1024 .f32) : FVec Ideal S1024x1024 .bf16 := fun i =>
  ∑ k : Fin 2048, A (ix2 k (i 0)) * B (ix2 k (i 1))

theorem index : ∀ t : Fin cfg0.N, win0_0.index t = ![t.val % 4, 0] ∧ win0_1.index t = ![t.val % 4, t.val / 4] ∧ win0_2.index t = ![0, t.val / 4] :=
  (by decide +kernel : ∀ t : Fin grid0.N, _)

variable (m : (ℓ : Loc nD τ sig) → Buf (Elt Ideal) ℓ)

/-- What one point adds, of its blocks. -/
def part (X : FVec Ideal S512x1024 .bf16) (Y : FVec Ideal S512x512 .f32) : FVec Ideal S1024x512 .f32 := fun j =>
  ∑ k : Fin 512, X (ix2 k (j 0)) * Y (ix2 k (j 1))

theorem starts (X : FVec Ideal S512x1024 .bf16) (Y : FVec Ideal S512x512 .f32) (j : S1024x512.Idx) :
    (k0_pay2 (F := Ideal) X Y j : EReal) = part X Y j := by
  pointwise [k0_pay2, k0_pay1, part]

theorem adds (X : FVec Ideal S512x1024 .bf16) (Y : FVec Ideal S512x512 .f32) (acc : FVec Ideal S1024x512 .f32) (j : S1024x512.Idx) :
    (k0_pay3 (F := Ideal) X Y acc j : EReal) = acc j + part X Y j := by
  pointwise [k0_pay3, k0_pay1, part]

theorem total (c : Dev nD) (t : Fin cfg0.N) (h : t.val % 4 = 3) (j : S1024x512.Idx) : (outsAt0 m c t.val t.isLt).2 j
    = product (m (c.tc.loc main_arg0)) (m (c.tc.loc main_arg1)) (ix2 (j 0) (⟨t.val / 4 * 512 + (j 1).val, by have := lt_of_lt_of_eq t.isLt N_0; have := (j 1).isLt; change (j 1).val < 512 at this; omega⟩ : Fin 1024)) := by
  rw [Pipeline.eq_sum_fin_of_reset_step_apply_of_flush (fun n h => (outsAt0 m c n h).2) 4 (fun _ => 0)
    (fun t j => part (iblk m c 0 t) (iblk m c 1 t) j)
    (fun t h j => by rw [outsAt0_A m c t h (by omega) (by omega)]; frame_out; exact (starts _ _ j).trans (zero_add _).symm)
    (fun t h j => by
      by_cases h' : t.val % 4 = 3
      · rw [outsAt0_C m c t h (by omega) h']; frame_out; exact (adds _ _ _ j).trans (congrArg (· + _) (congrFun (Memref.IsWhole.read_unread _ _) j))
      · rw [outsAt0_B m c t h (by omega) h']; frame_out; exact (adds _ _ _ j).trans (congrArg (· + _) (congrFun (Memref.IsWhole.read_unread _ _) j))) t h _, zero_add]
  unfold product part
  refine Fin.sum_mul_add_congr fun s k hl => ?_
  blk_point [iblk, V, index ⟨_, Pipeline.run_point_lt_of_flush t h s⟩]

theorem out (c : Dev nD) (t : Fin cfg0.N) (h : t.val % 4 = 3) : (outsAt0 m c t.val t.isLt).1 = k0_pay4 (outsAt0 m c t.val t.isLt).2 := by
  rw [outsAt0_C m c t (by omega) (by omega) h]
  frame_out

theorem left (c : Dev nD) : (dats m 0 c).arrAt 2 cfg0.N = product (m (c.tc.loc main_arg0)) (m (c.tc.loc main_arg1)) := by
  refine (dats m 0 c).arrAt_eq_of_covers 2 _ (by decide +kernel) fun t hf y => ?_
  have h := (flush0_2 t).mp hf
  have e : ∀ j : S1024x512.Idx, _ := total m c t h
  blk_simp
  rw [after0_2, out m c t h]
  generalize (outsAt0 m c t.val t.isLt).2 = acc at e
  pointwise [k0_pay4]
  rw [e]
  refine congrArg (product _ _) ?_
  blk_ext [index t]

theorem frame_bits : Cert.quiescent_ProjDw := fun m g _ => by
  have h := Gen.frame (F := Bits) m g
  rw [← same] at h
  exact h

theorem frame_ideal : Cert.quiescent_ProjDwIdeal := fun m g _ => Gen.frame m g

theorem frame_reference : Cert.quiescent_ProjDwReferenceIdeal := fun m g _ =>
  (θ_run _ _ _).mono (fun r h => ⟨fun c => (h c).2, sem_eq_zero_of_no_sems rfl _⟩) (ProjDwReferenceIdeal.Value.run m g)

theorem algebraic : Cert.algebraic_ProjDwIdeal_ProjDwReferenceIdeal := fun m g m' g' _ h =>
  ⟨fun c => product (m (c.tc.loc main_arg0)) (m (c.tc.loc main_arg1)),
    (θ_run _ _ _).mono (fun r hr c => ⟨(hr c).1.trans (left m c), (hr c).2⟩) (Value.run_blocks m g),
    (θ_run _ _ _).mono (fun r hr c => by
      obtain ⟨h0, h1⟩ := h c
      refine ⟨((hr c).1.trans ?_).trans (congrArg₂ product h0 h1), (hr c).2⟩
      funext i
      pointwise! [product]) (ProjDwReferenceIdeal.Value.run m' g')⟩

end Cert.ProjDwIdeal

end
-- ==== Proof.Ffn.lean ====
/-
  The products of one device with the weights of the feed-forward layer, each over blocks of its arrays.
-/
module

public import proofs.«01_k».proof.Defs
public import proofs.«01_k».proof.Proof.Gen.FfnIn
public import proofs.«01_k».proof.Proof.Gen.FfnInIdeal.Value
public import proofs.«01_k».proof.Proof.Gen.FfnInReferenceIdeal.Run
public import proofs.«01_k».proof.Proof.Gen.FfnDact
public import proofs.«01_k».proof.Proof.Gen.FfnDactIdeal.Value
public import proofs.«01_k».proof.Proof.Gen.FfnDactReferenceIdeal.Run
public import proofs.«01_k».proof.Proof.Gen.FfnOut
public import proofs.«01_k».proof.Proof.Gen.FfnOutIdeal.Value
public import proofs.«01_k».proof.Proof.Gen.FfnOutReferenceIdeal.Run
public import proofs.«01_k».proof.Proof.Gen.FfnDwDown
public import proofs.«01_k».proof.Proof.Gen.FfnDwDownIdeal.Value
public import proofs.«01_k».proof.Proof.Gen.FfnDwDownReferenceIdeal.Run
public import proofs.«01_k».proof.Proof.Gen.FfnDwIn
public import proofs.«01_k».proof.Proof.Gen.FfnDwInIdeal.Value
public import proofs.«01_k».proof.Proof.Gen.FfnDwInReferenceIdeal.Run
public import proofs.«01_k».proof.Proof.Gen.FfnDh
public import proofs.«01_k».proof.Proof.Gen.FfnDhIdeal.Value
public import proofs.«01_k».proof.Proof.Gen.FfnDhReferenceIdeal.Run
public import Idealize.ShloMosaic.Lib.Pipeline.ValueKit
public import Idealize.ShloMosaic.Lib.Pointwise

@[expose] public section

set_option maxRecDepth 16384

noncomputable section

open Idealize Idealize.ShloMosaic Idealize.SL Idealize.SL.Sem TcCoe

namespace Cert.FfnInIdeal

open Gen

/-- The two printed programs are one. -/
theorem same {F : FTy → Type} [FloatOps F] : FfnIn.defs (F := F) = defs :=
  congrArg (Pipeline.defs pcfgs) (congrArg Defs.onTc (funext fun p => match p with | 0 => rfl))

/-- The product of two arrays, summed over the axis they share. -/
def product (A : FVec Ideal S2048x1024 .bf16) (B : FVec Ideal S4x1024x704 .bf16) : FVec Ideal S4x2048x704 .bf16 := fun i =>
  ∑ k : Fin 1024, A (ix2 (i 1) k) * B (ix3 (i 0) k (i 2))

theorem index : ∀ t : Fin cfg0.N, win0_0.index t = ![t.val / 4, 0] ∧ win0_1.index t = ![t.val % 4, 0, 0] ∧ win0_2.index t = ![t.val % 4, t.val / 4, 0] :=
  (by decide +kernel : ∀ t : Fin grid0.N, _)

variable (m : (ℓ : Loc nD τ sig) → Buf (Elt Ideal) ℓ)

theorem left (c : Dev nD) : (dats m 0 c).arrAt 2 cfg0.N = product (m (c.tc.loc main_arg0)) (m (c.tc.loc main_arg1)) := by
  refine (dats m 0 c).arrAt_eq_of_covers 2 _ (by decide +kernel) fun t _ y => ?_
  blk_simp
  rw [after0_2]
  frame_out
  pointwise [k0_pay1, product]
  blk_point [iblk, V, index t]

theorem frame_bits : Cert.quiescent_FfnIn := fun m g _ => by
  have h := Gen.frame (F := Bits) m g
  rw [← same] at h
  exact h

theorem frame_ideal : Cert.quiescent_FfnInIdeal := fun m g _ => Gen.frame m g

theorem frame_reference : Cert.quiescent_FfnInReferenceIdeal := fun m g _ =>
  (θ_run _ _ _).mono (fun r h => ⟨fun c => (h c).2, sem_eq_zero_of_no_sems rfl _⟩) (FfnInReferenceIdeal.Value.run m g)

theorem algebraic : Cert.algebraic_FfnInIdeal_FfnInReferenceIdeal := fun m g m' g' _ h =>
  ⟨fun c => product (m (c.tc.loc main_arg0)) (m (c.tc.loc main_arg1)),
    (θ_run _ _ _).mono (fun r hr c => ⟨(hr c).1.trans (left m c), (hr c).2⟩) (Value.run_blocks m g),
    (θ_run _ _ _).mono (fun r hr c => by
      obtain ⟨h0, h1⟩ := h c
      refine ⟨((hr c).1.trans ?_).trans (congrArg₂ product h0 h1), (hr c).2⟩
      funext i
      pointwise! [product]) (FfnInReferenceIdeal.Value.run m' g')⟩

end Cert.FfnInIdeal

namespace Cert.FfnDactIdeal

open Gen

/-- The two printed programs are one. -/
theorem same {F : FTy → Type} [FloatOps F] : FfnDact.defs (F := F) = defs :=
  congrArg (Pipeline.defs pcfgs) (congrArg Defs.onTc (funext fun p => match p with | 0 => rfl))

/-- The product of two arrays, summed over the axis they share. -/
def product (A : FVec Ideal S2048x1024 .f32) (B : FVec Ideal S4x704x1024 .bf16) : FVec Ideal S4x2048x704 .bf16 := fun i =>
  ∑ k : Fin 1024, A (ix2 (i 1) k) * B (ix3 (i 0) (i 2) k)

theorem index : ∀ t : Fin cfg0.N, win0_0.index t = ![t.val / 4, 0] ∧ win0_1.index t = ![t.val % 4, 0, 0] ∧ win0_2.index t = ![t.val % 4, t.val / 4, 0] :=
  (by decide +kernel : ∀ t : Fin grid0.N, _)

variable (m : (ℓ : Loc nD τ sig) → Buf (Elt Ideal) ℓ)

theorem left (c : Dev nD) : (dats m 0 c).arrAt 2 cfg0.N = product (m (c.tc.loc main_arg0)) (m (c.tc.loc main_arg1)) := by
  refine (dats m 0 c).arrAt_eq_of_covers 2 _ (by decide +kernel) fun t _ y => ?_
  blk_simp
  rw [after0_2]
  frame_out
  pointwise [k0_pay1, product]
  blk_point [iblk, V, index t]

theorem frame_bits : Cert.quiescent_FfnDact := fun m g _ => by
  have h := Gen.frame (F := Bits) m g
  rw [← same] at h
  exact h

theorem frame_ideal : Cert.quiescent_FfnDactIdeal := fun m g _ => Gen.frame m g

theorem frame_reference : Cert.quiescent_FfnDactReferenceIdeal := fun m g _ =>
  (θ_run _ _ _).mono (fun r h => ⟨fun c => (h c).2, sem_eq_zero_of_no_sems rfl _⟩) (FfnDactReferenceIdeal.Value.run m g)

theorem algebraic : Cert.algebraic_FfnDactIdeal_FfnDactReferenceIdeal := fun m g m' g' _ h =>
  ⟨fun c => product (m (c.tc.loc main_arg0)) (m (c.tc.loc main_arg1)),
    (θ_run _ _ _).mono (fun r hr c => ⟨(hr c).1.trans (left m c), (hr c).2⟩) (Value.run_blocks m g),
    (θ_run _ _ _).mono (fun r hr c => by
      obtain ⟨h0, h1⟩ := h c
      refine ⟨((hr c).1.trans ?_).trans (congrArg₂ product h0 h1), (hr c).2⟩
      funext i
      pointwise! [product]) (FfnDactReferenceIdeal.Value.run m' g')⟩

end Cert.FfnDactIdeal

namespace Cert.FfnOutIdeal

open Gen

/-- The two printed programs are one. -/
theorem same {F : FTy → Type} [FloatOps F] : FfnOut.defs (F := F) = defs :=
  congrArg (Pipeline.defs pcfgs) (congrArg Defs.onTc (funext fun p => match p with | 0 => rfl))

/-- The product of two arrays, summed over the two axes they share. -/
def product (A : FVec Ideal S4x2048x704 .bf16) (B : FVec Ideal S4x704x1024 .bf16) : FVec Ideal S2048x1024 .f32 := fun i =>
  ∑ s : Fin 4, ∑ k : Fin 704, A (ix3 s (i 0) k) * B (ix3 s k (i 1))

theorem index : ∀ t : Fin cfg0.N, win0_0.index t = ![t.val % 4, t.val / 4, 0] ∧ win0_1.index t = ![t.val % 4, 0, 0] ∧ win0_2.index t = ![t.val / 4, 0] :=
  (by decide +kernel : ∀ t : Fin grid0.N, _)

variable (m : (ℓ : Loc nD τ sig) → Buf (Elt Ideal) ℓ)

/-- What one point adds, of its blocks. -/
def part (X : FVec Ideal S1x1024x704 .bf16) (Y : FVec Ideal S1x704x1024 .bf16) : FVec Ideal S1024x1024 .f32 := fun j =>
  ∑ k : Fin 704, X (ix3 (0 : Fin 1) (j 0) k) * Y (ix3 (0 : Fin 1) k (j 1))

theorem starts (X : FVec Ideal S1x1024x704 .bf16) (Y : FVec Ideal S1x704x1024 .bf16) (j : S1024x1024.Idx) :
    (k0_pay2 (F := Ideal) X Y j : EReal) = part X Y j := by
  pointwise [k0_pay2, k0_pay1, part]

theorem adds (X : FVec Ideal S1x1024x704 .bf16) (Y : FVec Ideal S1x704x1024 .bf16) (acc : FVec Ideal S1024x1024 .f32) (j : S1024x1024.Idx) :
    (k0_pay3 (F := Ideal) X Y acc j : EReal) = acc j + part X Y j := by
  pointwise [k0_pay3, k0_pay1, part]

theorem total (c : Dev nD) (t : Fin cfg0.N) (h : t.val % 4 = 3) (j : S1024x1024.Idx) : (outsAt0 m c t.val t.isLt).2 j
    = product (m (c.tc.loc main_arg0)) (m (c.tc.loc main_arg1)) (ix2 (⟨t.val / 4 * 1024 + (j 0).val, by have := lt_of_lt_of_eq t.isLt N_0; have := (j 0).isLt; change (j 0).val < 1024 at this; omega⟩ : Fin 2048) (j 1)) := by
  rw [Pipeline.eq_sum_fin_of_reset_step_apply_of_flush (fun n h => (outsAt0 m c n h).2) 4 (fun _ => 0)
    (fun t j => part (iblk m c 0 t) (iblk m c 1 t) j)
    (fun t h j => by rw [outsAt0_A m c t h (by omega) (by omega)]; frame_out; exact (starts _ _ j).trans (zero_add _).symm)
    (fun t h j => by
      by_cases h' : t.val % 4 = 3
      · rw [outsAt0_C m c t h (by omega) h']; frame_out; exact (adds _ _ _ j).trans (congrArg (· + _) (congrFun (Memref.IsWhole.read_unread _ _) j))
      · rw [outsAt0_B m c t h (by omega) h']; frame_out; exact (adds _ _ _ j).trans (congrArg (· + _) (congrFun (Memref.IsWhole.read_unread _ _) j))) t h _, zero_add]
  unfold product part
  refine Finset.sum_congr rfl fun s _ => Finset.sum_congr rfl fun k _ => ?_
  blk_point [iblk, V, index ⟨_, Pipeline.run_point_lt_of_flush t h s⟩]

theorem out (c : Dev nD) (t : Fin cfg0.N) (h : t.val % 4 = 3) : (outsAt0 m c t.val t.isLt).1 = (outsAt0 m c t.val t.isLt).2 := by
  rw [outsAt0_C m c t (by omega) (by omega) h]
  frame_out

theorem left (c : Dev nD) : (dats m 0 c).arrAt 2 cfg0.N = product (m (c.tc.loc main_arg0)) (m (c.tc.loc main_arg1)) := by
  refine (dats m 0 c).arrAt_eq_of_covers 2 _ (by decide +kernel) fun t hf y => ?_
  have h := (flush0_2 t).mp hf
  have e : ∀ j : S1024x1024.Idx, _ := total m c t h
  blk_simp
  rw [after0_2, out m c t h]
  refine (e y).trans ?_
  refine congrArg (product _ _) ?_
  blk_ext [index t]

theorem frame_bits : Cert.quiescent_FfnOut := fun m g _ => by
  have h := Gen.frame (F := Bits) m g
  rw [← same] at h
  exact h

theorem frame_ideal : Cert.quiescent_FfnOutIdeal := fun m g _ => Gen.frame m g

theorem frame_reference : Cert.quiescent_FfnOutReferenceIdeal := fun m g _ =>
  (θ_run _ _ _).mono (fun r h => ⟨fun c => (h c).2, sem_eq_zero_of_no_sems rfl _⟩) (FfnOutReferenceIdeal.Value.run m g)

theorem algebraic : Cert.algebraic_FfnOutIdeal_FfnOutReferenceIdeal := fun m g m' g' _ h =>
  ⟨fun c => product (m (c.tc.loc main_arg0)) (m (c.tc.loc main_arg1)),
    (θ_run _ _ _).mono (fun r hr c => ⟨(hr c).1.trans (left m c), (hr c).2⟩) (Value.run_blocks m g),
    (θ_run _ _ _).mono (fun r hr c => by
      obtain ⟨h0, h1⟩ := h c
      refine ⟨((hr c).1.trans ?_).trans (congrArg₂ product h0 h1), (hr c).2⟩
      funext i
      pointwise [product]
      exact Finset.sum_comm) (FfnOutReferenceIdeal.Value.run m' g')⟩

end Cert.FfnOutIdeal

namespace Cert.FfnDwDownIdeal

open Gen

/-- The two printed programs are one. -/
theorem same {F : FTy → Type} [FloatOps F] : FfnDwDown.defs (F := F) = defs :=
  congrArg (Pipeline.defs pcfgs) (congrArg Defs.onTc (funext fun p => match p with | 0 => rfl))

/-- The product of two arrays, summed over the axis they share. -/
def product (A : FVec Ideal S4x2048x704 .bf16) (B : FVec Ideal S2048x1024 .f32) : FVec Ideal S4x704x1024 .bf16 := fun i =>
  ∑ k : Fin 2048, A (ix3 (i 0) k (i 1)) * B (ix2 k (i 2))

theorem index : ∀ t : Fin cfg0.N, win0_0.index t = ![t.val / 4, t.val % 4, 0] ∧ win0_1.index t = ![t.val % 4, 0] ∧ win0_2.index t = ![t.val / 4, 0, 0] :=
  (by decide +kernel : ∀ t : Fin grid0.N, _)

variable (m : (ℓ : Loc nD τ sig) → Buf (Elt Ideal) ℓ)

/-- What one point adds, of its blocks. -/
def part (X : FVec Ideal S1x512x704 .bf16) (Y : FVec Ideal S512x1024 .f32) : FVec Ideal S704x1024 .f32 := fun j =>
  ∑ k : Fin 512, X (ix3 (0 : Fin 1) k (j 0)) * Y (ix2 k (j 1))

theorem starts (X : FVec Ideal S1x512x704 .bf16) (Y : FVec Ideal S512x1024 .f32) (j : S704x1024.Idx) :
    (k0_pay2 (F := Ideal) X Y j : EReal) = part X Y j := by
  pointwise [k0_pay2, k0_pay1, part]

theorem adds (X : FVec Ideal S1x512x704 .bf16) (Y : FVec Ideal S512x1024 .f32) (acc : FVec Ideal S704x1024 .f32) (j : S704x1024.Idx) :
    (k0_pay3 (F := Ideal) X Y acc j : EReal) = acc j + part X Y j := by
  pointwise [k0_pay3, k0_pay1, part]

theorem total (c : Dev nD) (t : Fin cfg0.N) (h : t.val % 4 = 3) (j : S704x1024.Idx) : (outsAt0 m c t.val t.isLt).2 j
    = product (m (c.tc.loc main_arg0)) (m (c.tc.loc main_arg1)) (ix3 (⟨t.val / 4, by have := lt_of_lt_of_eq t.isLt N_0; omega⟩ : Fin 4) (j 0) (j 1)) := by
  rw [Pipeline.eq_sum_fin_of_reset_step_apply_of_flush (fun n h => (outsAt0 m c n h).2) 4 (fun _ => 0)
    (fun t j => part (iblk m c 0 t) (iblk m c 1 t) j)
    (fun t h j => by rw [outsAt0_A m c t h (by omega) (by omega)]; frame_out; exact (starts _ _ j).trans (zero_add _).symm)
    (fun t h j => by
      by_cases h' : t.val % 4 = 3
      · rw [outsAt0_C m c t h (by omega) h']; frame_out; exact (adds _ _ _ j).trans (congrArg (· + _) (congrFun (Memref.IsWhole.read_unread _ _) j))
      · rw [outsAt0_B m c t h (by omega) h']; frame_out; exact (adds _ _ _ j).trans (congrArg (· + _) (congrFun (Memref.IsWhole.read_unread _ _) j))) t h _, zero_add]
  unfold product part
  refine Fin.sum_mul_add_congr fun s k hl => ?_
  blk_point [iblk, V, index ⟨_, Pipeline.run_point_lt_of_flush t h s⟩]

theorem out (c : Dev nD) (t : Fin cfg0.N) (h : t.val % 4 = 3) : (outsAt0 m c t.val t.isLt).1 = k0_pay4 (outsAt0 m c t.val t.isLt).2 := by
  rw [outsAt0_C m c t (by omega) (by omega) h]
  frame_out

theorem left (c : Dev nD) : (dats m 0 c).arrAt 2 cfg0.N = product (m (c.tc.loc main_arg0)) (m (c.tc.loc main_arg1)) := by
  refine (dats m 0 c).arrAt_eq_of_covers 2 _ (by decide +kernel) fun t hf y => ?_
  have h := (flush0_2 t).mp hf
  have e : ∀ j : S704x1024.Idx, _ := total m c t h
  blk_simp
  rw [after0_2, out m c t h]
  generalize (outsAt0 m c t.val t.isLt).2 = acc at e
  pointwise [k0_pay4]
  rw [e]
  refine congrArg (product _ _) ?_
  blk_ext [index t]

theorem frame_bits : Cert.quiescent_FfnDwDown := fun m g _ => by
  have h := Gen.frame (F := Bits) m g
  rw [← same] at h
  exact h

theorem frame_ideal : Cert.quiescent_FfnDwDownIdeal := fun m g _ => Gen.frame m g

theorem frame_reference : Cert.quiescent_FfnDwDownReferenceIdeal := fun m g _ =>
  (θ_run _ _ _).mono (fun r h => ⟨fun c => (h c).2, sem_eq_zero_of_no_sems rfl _⟩) (FfnDwDownReferenceIdeal.Value.run m g)

theorem algebraic : Cert.algebraic_FfnDwDownIdeal_FfnDwDownReferenceIdeal := fun m g m' g' _ h =>
  ⟨fun c => product (m (c.tc.loc main_arg0)) (m (c.tc.loc main_arg1)),
    (θ_run _ _ _).mono (fun r hr c => ⟨(hr c).1.trans (left m c), (hr c).2⟩) (Value.run_blocks m g),
    (θ_run _ _ _).mono (fun r hr c => by
      obtain ⟨h0, h1⟩ := h c
      refine ⟨((hr c).1.trans ?_).trans (congrArg₂ product h0 h1), (hr c).2⟩
      funext i
      pointwise! [product]) (FfnDwDownReferenceIdeal.Value.run m' g')⟩

end Cert.FfnDwDownIdeal

namespace Cert.FfnDwInIdeal

open Gen

/-- The two printed programs are one. -/
theorem same {F : FTy → Type} [FloatOps F] : FfnDwIn.defs (F := F) = defs :=
  congrArg (Pipeline.defs pcfgs) (congrArg Defs.onTc (funext fun p => match p with | 0 => rfl))

/-- The product of two arrays, summed over the axis they share. -/
def product (A : FVec Ideal S2048x1024 .bf16) (B : FVec Ideal S4x2048x704 .bf16) : FVec Ideal S4x1024x704 .bf16 := fun i =>
  ∑ k : Fin 2048, A (ix2 k (i 1)) * B (ix3 (i 0) k (i 2))

theorem index : ∀ t : Fin cfg0.N, win0_0.index t = ![t.val % 4, 0] ∧ win0_1.index t = ![t.val / 4, t.val % 4, 0] ∧ win0_2.index t = ![t.val / 4, 0, 0] :=
  (by decide +kernel : ∀ t : Fin grid0.N, _)

variable (m : (ℓ : Loc nD τ sig) → Buf (Elt Ideal) ℓ)

/-- What one point adds, of its blocks. -/
def part (X : FVec Ideal S512x1024 .bf16) (Y : FVec Ideal S1x512x704 .bf16) : FVec Ideal S1024x704 .f32 := fun j =>
  ∑ k : Fin 512, X (ix2 k (j 0)) * Y (ix3 (0 : Fin 1) k (j 1))

theorem starts (X : FVec Ideal S512x1024 .bf16) (Y : FVec Ideal S1x512x704 .bf16) (j : S1024x704.Idx) :
    (k0_pay2 (F := Ideal) X Y j : EReal) = part X Y j := by
  pointwise [k0_pay2, k0_pay1, part]

theorem adds (X : FVec Ideal S512x1024 .bf16) (Y : FVec Ideal S1x512x704 .bf16) (acc : FVec Ideal S1024x704 .f32) (j : S1024x704.Idx) :
    (k0_pay3 (F := Ideal) X Y acc j : EReal) = acc j + part X Y j := by
  pointwise [k0_pay3, k0_pay1, part]

theorem total (c : Dev nD) (t : Fin cfg0.N) (h : t.val % 4 = 3) (j : S1024x704.Idx) : (outsAt0 m c t.val t.isLt).2 j
    = product (m (c.tc.loc main_arg0)) (m (c.tc.loc main_arg1)) (ix3 (⟨t.val / 4, by have := lt_of_lt_of_eq t.isLt N_0; omega⟩ : Fin 4) (j 0) (j 1)) := by
  rw [Pipeline.eq_sum_fin_of_reset_step_apply_of_flush (fun n h => (outsAt0 m c n h).2) 4 (fun _ => 0)
    (fun t j => part (iblk m c 0 t) (iblk m c 1 t) j)
    (fun t h j => by rw [outsAt0_A m c t h (by omega) (by omega)]; frame_out; exact (starts _ _ j).trans (zero_add _).symm)
    (fun t h j => by
      by_cases h' : t.val % 4 = 3
      · rw [outsAt0_C m c t h (by omega) h']; frame_out; exact (adds _ _ _ j).trans (congrArg (· + _) (congrFun (Memref.IsWhole.read_unread _ _) j))
      · rw [outsAt0_B m c t h (by omega) h']; frame_out; exact (adds _ _ _ j).trans (congrArg (· + _) (congrFun (Memref.IsWhole.read_unread _ _) j))) t h _, zero_add]
  unfold product part
  refine Fin.sum_mul_add_congr fun s k hl => ?_
  blk_point [iblk, V, index ⟨_, Pipeline.run_point_lt_of_flush t h s⟩]

theorem out (c : Dev nD) (t : Fin cfg0.N) (h : t.val % 4 = 3) : (outsAt0 m c t.val t.isLt).1 = k0_pay4 (outsAt0 m c t.val t.isLt).2 := by
  rw [outsAt0_C m c t (by omega) (by omega) h]
  frame_out

theorem left (c : Dev nD) : (dats m 0 c).arrAt 2 cfg0.N = product (m (c.tc.loc main_arg0)) (m (c.tc.loc main_arg1)) := by
  refine (dats m 0 c).arrAt_eq_of_covers 2 _ (by decide +kernel) fun t hf y => ?_
  have h := (flush0_2 t).mp hf
  have e : ∀ j : S1024x704.Idx, _ := total m c t h
  blk_simp
  rw [after0_2, out m c t h]
  generalize (outsAt0 m c t.val t.isLt).2 = acc at e
  pointwise [k0_pay4]
  rw [e]
  refine congrArg (product _ _) ?_
  blk_ext [index t]

theorem frame_bits : Cert.quiescent_FfnDwIn := fun m g _ => by
  have h := Gen.frame (F := Bits) m g
  rw [← same] at h
  exact h

theorem frame_ideal : Cert.quiescent_FfnDwInIdeal := fun m g _ => Gen.frame m g

theorem frame_reference : Cert.quiescent_FfnDwInReferenceIdeal := fun m g _ =>
  (θ_run _ _ _).mono (fun r h => ⟨fun c => (h c).2, sem_eq_zero_of_no_sems rfl _⟩) (FfnDwInReferenceIdeal.Value.run m g)

theorem algebraic : Cert.algebraic_FfnDwInIdeal_FfnDwInReferenceIdeal := fun m g m' g' _ h =>
  ⟨fun c => product (m (c.tc.loc main_arg0)) (m (c.tc.loc main_arg1)),
    (θ_run _ _ _).mono (fun r hr c => ⟨(hr c).1.trans (left m c), (hr c).2⟩) (Value.run_blocks m g),
    (θ_run _ _ _).mono (fun r hr c => by
      obtain ⟨h0, h1⟩ := h c
      refine ⟨((hr c).1.trans ?_).trans (congrArg₂ product h0 h1), (hr c).2⟩
      funext i
      pointwise! [product]) (FfnDwInReferenceIdeal.Value.run m' g')⟩

end Cert.FfnDwInIdeal

namespace Cert.FfnDhIdeal

open Gen

/-- The two printed programs are one. -/
theorem same {F : FTy → Type} [FloatOps F] : FfnDh.defs (F := F) = defs :=
  congrArg (Pipeline.defs pcfgs) (congrArg Defs.onTc (funext fun p => match p with | 0 => rfl))

/-- The sum of two products of arrays, each summed over the two axes they share. -/
def product (A : FVec Ideal S4x2048x704 .bf16) (B : FVec Ideal S4x1024x704 .bf16) (C : FVec Ideal S4x2048x704 .bf16) (D : FVec Ideal S4x1024x704 .bf16) : FVec Ideal S2048x1024 .f32 := fun i =>
  ∑ s : Fin 4, (∑ k : Fin 704, A (ix3 s (i 0) k) * B (ix3 s (i 1) k) + ∑ k : Fin 704, C (ix3 s (i 0) k) * D (ix3 s (i 1) k))

theorem index : ∀ t : Fin cfg0.N, win0_0.index t = ![t.val % 4, t.val / 4, 0] ∧ win0_1.index t = ![t.val % 4, 0, 0] ∧ win0_2.index t = ![t.val % 4, t.val / 4, 0] ∧ win0_3.index t = ![t.val % 4, 0, 0] ∧ win0_4.index t = ![t.val / 4, 0] :=
  (by decide +kernel : ∀ t : Fin grid0.N, _)

variable (m : (ℓ : Loc nD τ sig) → Buf (Elt Ideal) ℓ)

/-- What one point adds, of its blocks. -/
def part (X : FVec Ideal S1x1024x704 .bf16) (Y : FVec Ideal S1x1024x704 .bf16) (Z : FVec Ideal S1x1024x704 .bf16) (W : FVec Ideal S1x1024x704 .bf16) : FVec Ideal S1024x1024 .f32 := fun j =>
  ∑ k : Fin 704, X (ix3 (0 : Fin 1) (j 0) k) * Y (ix3 (0 : Fin 1) (j 1) k) + ∑ k : Fin 704, Z (ix3 (0 : Fin 1) (j 0) k) * W (ix3 (0 : Fin 1) (j 1) k)

theorem starts (X : FVec Ideal S1x1024x704 .bf16) (Y : FVec Ideal S1x1024x704 .bf16) (Z : FVec Ideal S1x1024x704 .bf16) (W : FVec Ideal S1x1024x704 .bf16) (j : S1024x1024.Idx) :
    (k0_pay2 (F := Ideal) X Y Z W j : EReal) = part X Y Z W j := by
  pointwise [k0_pay2, k0_pay1, part]

theorem adds (X : FVec Ideal S1x1024x704 .bf16) (Y : FVec Ideal S1x1024x704 .bf16) (Z : FVec Ideal S1x1024x704 .bf16) (W : FVec Ideal S1x1024x704 .bf16) (acc : FVec Ideal S1024x1024 .f32) (j : S1024x1024.Idx) :
    (k0_pay3 (F := Ideal) X Y Z W acc j : EReal) = acc j + part X Y Z W j := by
  pointwise [k0_pay3, k0_pay1, part]

theorem total (c : Dev nD) (t : Fin cfg0.N) (h : t.val % 4 = 3) (j : S1024x1024.Idx) : (outsAt0 m c t.val t.isLt).2 j
    = product (m (c.tc.loc main_arg0)) (m (c.tc.loc main_arg1)) (m (c.tc.loc main_arg2)) (m (c.tc.loc main_arg3)) (ix2 (⟨t.val / 4 * 1024 + (j 0).val, by have := lt_of_lt_of_eq t.isLt N_0; have := (j 0).isLt; change (j 0).val < 1024 at this; omega⟩ : Fin 2048) (j 1)) := by
  rw [Pipeline.eq_sum_fin_of_reset_step_apply_of_flush (fun n h => (outsAt0 m c n h).2) 4 (fun _ => 0)
    (fun t j => part (iblk m c 0 t) (iblk m c 1 t) (iblk m c 2 t) (iblk m c 3 t) j)
    (fun t h j => by rw [outsAt0_A m c t h (by omega) (by omega)]; frame_out; exact (starts _ _ _ _ j).trans (zero_add _).symm)
    (fun t h j => by
      by_cases h' : t.val % 4 = 3
      · rw [outsAt0_C m c t h (by omega) h']; frame_out; exact (adds _ _ _ _ _ j).trans (congrArg (· + _) (congrFun (Memref.IsWhole.read_unread _ _) j))
      · rw [outsAt0_B m c t h (by omega) h']; frame_out; exact (adds _ _ _ _ _ j).trans (congrArg (· + _) (congrFun (Memref.IsWhole.read_unread _ _) j))) t h _, zero_add]
  unfold product part
  refine Finset.sum_congr rfl fun s _ => congrArg₂ (· + ·) (Finset.sum_congr rfl fun k _ => ?_) (Finset.sum_congr rfl fun k _ => ?_) <;>
  blk_point [iblk, V, index ⟨_, Pipeline.run_point_lt_of_flush t h s⟩]

theorem out (c : Dev nD) (t : Fin cfg0.N) (h : t.val % 4 = 3) : (outsAt0 m c t.val t.isLt).1 = (outsAt0 m c t.val t.isLt).2 := by
  rw [outsAt0_C m c t (by omega) (by omega) h]
  frame_out

theorem left (c : Dev nD) : (dats m 0 c).arrAt 4 cfg0.N = product (m (c.tc.loc main_arg0)) (m (c.tc.loc main_arg1)) (m (c.tc.loc main_arg2)) (m (c.tc.loc main_arg3)) := by
  refine (dats m 0 c).arrAt_eq_of_covers 4 _ (by decide +kernel) fun t hf y => ?_
  have h := (flush0_4 t).mp hf
  have e : ∀ j : S1024x1024.Idx, _ := total m c t h
  blk_simp
  rw [after0_4, out m c t h]
  refine (e y).trans ?_
  refine congrArg (product _ _ _ _) ?_
  blk_ext [index t]

theorem frame_bits : Cert.quiescent_FfnDh := fun m g _ => by
  have h := Gen.frame (F := Bits) m g
  rw [← same] at h
  exact h

theorem frame_ideal : Cert.quiescent_FfnDhIdeal := fun m g _ => Gen.frame m g

theorem frame_reference : Cert.quiescent_FfnDhReferenceIdeal := fun m g _ =>
  (θ_run _ _ _).mono (fun r h => ⟨fun c => (h c).2, sem_eq_zero_of_no_sems rfl _⟩) (FfnDhReferenceIdeal.Value.run m g)

theorem algebraic : Cert.algebraic_FfnDhIdeal_FfnDhReferenceIdeal := fun m g m' g' _ h =>
  ⟨fun c => product (m (c.tc.loc main_arg0)) (m (c.tc.loc main_arg1)) (m (c.tc.loc main_arg2)) (m (c.tc.loc main_arg3)),
    (θ_run _ _ _).mono (fun r hr c => ⟨(hr c).1.trans (left m c), (hr c).2⟩) (Value.run_blocks m g),
    (θ_run _ _ _).mono (fun r hr c => by
      obtain ⟨h0, h1, h2, h3⟩ := h c
      refine ⟨((hr c).1.trans ?_).trans (congr (congr (congrArg₂ product h0 h1) h2) h3), (hr c).2⟩
      funext i
      pointwise [product]
      rw [Finset.sum_add_distrib]
      exact congrArg₂ (· + ·) Finset.sum_comm Finset.sum_comm) (FfnDhReferenceIdeal.Value.run m' g')⟩

end Cert.FfnDhIdeal

end
-- ==== Proof.Qkv.lean ====
/-
  The products of one device with the weights of the queries, keys and values, each over blocks of its arrays.
-/
module

public import proofs.«01_k».proof.Defs
public import proofs.«01_k».proof.Proof.Gen.NaQkv
public import proofs.«01_k».proof.Proof.Gen.NaQkvIdeal.Value
public import proofs.«01_k».proof.Proof.Gen.NaQkvReferenceIdeal.Run
public import proofs.«01_k».proof.Proof.Gen.DilQkv
public import proofs.«01_k».proof.Proof.Gen.DilQkvIdeal.Value
public import proofs.«01_k».proof.Proof.Gen.DilQkvReferenceIdeal.Run
public import Idealize.ShloMosaic.Lib.Pipeline.ValueKit
public import Idealize.ShloMosaic.Lib.Pointwise

@[expose] public section

set_option maxRecDepth 16384

noncomputable section

open Idealize Idealize.ShloMosaic Idealize.SL Idealize.SL.Sem TcCoe

namespace Cert.NaQkvIdeal

open Gen

/-- The two printed programs are one. -/
theorem same {F : FTy → Type} [FloatOps F] : NaQkv.defs (F := F) = defs :=
  congrArg (Pipeline.defs pcfgs) (congrArg Defs.onTc (funext fun p => match p with | 0 => rfl))

/-- The part that holds a column of the whole. -/
def holder (g : Fin 1) (f : Fin 3072) : Fin 4 := ⟨(g.val * 3072 + f.val) / 768, by omega⟩

/-- The place of a column in its part. -/
def column (g : Fin 1) (f : Fin 3072) : Fin 768 := ⟨(g.val * 3072 + f.val) % 768, by omega⟩

/-- The product with the four parts of an array laid side by side. -/
def product (A : FVec Ideal S1x2048x1024 .bf16) (B : FVec Ideal S4x1024x768 .bf16) : FVec Ideal S1x2048x3072 .bf16 := fun i =>
  ∑ k : Fin 1024, A (ix3 (i 0) (i 1) k) * B (ix3 (holder (i 0) (i 2)) k (column (i 0) (i 2)))

theorem index : ∀ t : Fin cfg0.N, win0_0.index t = ![t.val / 12, 0, 0] ∧ win0_1.index t = ![t.val / 3, 0, t.val % 3] ∧ win0_2.index t = ![t.val / 12, 0, t.val % 12] :=
  (by decide +kernel : ∀ t : Fin grid0.N, _)

variable (m : (ℓ : Loc nD τ sig) → Buf (Elt Ideal) ℓ)

theorem left (c : Dev nD) : (dats m 0 c).arrAt 2 cfg0.N = product (m (c.tc.loc main_arg0)) (m (c.tc.loc main_arg1)) := by
  refine (dats m 0 c).arrAt_eq_of_covers 2 _ (by decide +kernel) fun t _ y => ?_
  blk_simp
  rw [after0_2]
  frame_out
  pointwise [k0_pay1, product]
  refine Fin.sum_fin_congr fun k => congrArg₂ (· * ·) ?_ ?_
  · blk_point [iblk, V, index t]
  · blk_point [iblk, V, index t, holder, column]

theorem frame_bits : Cert.quiescent_NaQkv := fun m g _ => by
  have h := Gen.frame (F := Bits) m g
  rw [← same] at h
  exact h

theorem frame_ideal : Cert.quiescent_NaQkvIdeal := fun m g _ => Gen.frame m g

theorem frame_reference : Cert.quiescent_NaQkvReferenceIdeal := fun m g _ =>
  (θ_run _ _ _).mono (fun r h => ⟨fun c => (h c).2, sem_eq_zero_of_no_sems rfl _⟩) (NaQkvReferenceIdeal.Value.run m g)

theorem algebraic : Cert.algebraic_NaQkvIdeal_NaQkvReferenceIdeal := fun m g m' g' _ h =>
  ⟨fun c => product (m (c.tc.loc main_arg0)) (m (c.tc.loc main_arg1)),
    (θ_run _ _ _).mono (fun r hr c => ⟨(hr c).1.trans (left m c), (hr c).2⟩) (Value.run_blocks m g),
    (θ_run _ _ _).mono (fun r hr c => by
      obtain ⟨h0, h1⟩ := h c
      refine ⟨((hr c).1.trans ?_).trans (congrArg₂ product h0 h1), (hr c).2⟩
      funext i
      pointwise! [product, holder, column]) (NaQkvReferenceIdeal.Value.run m' g')⟩

end Cert.NaQkvIdeal

namespace Cert.DilQkvIdeal

open Gen

/-- The two printed programs are one. -/
theorem same {F : FTy → Type} [FloatOps F] : DilQkv.defs (F := F) = defs :=
  congrArg (Pipeline.defs pcfgs) (congrArg Defs.onTc (funext fun p => match p with | 0 => rfl))

/-- The part that holds a column of the whole. -/
def holder (g : Fin 3) (f : Fin 3072) : Fin 4 := ⟨(g.val * 3072 + f.val) / 2304, by omega⟩

/-- The place of a column in its part. -/
def column (g : Fin 3) (f : Fin 3072) : Fin 2304 := ⟨(g.val * 3072 + f.val) % 2304, by omega⟩

/-- The product with the four parts of an array laid side by side. -/
def product (A : FVec Ideal S3x2048x1024 .bf16) (B : FVec Ideal S4x1024x2304 .bf16) : FVec Ideal S3x2048x3072 .bf16 := fun i =>
  ∑ k : Fin 1024, A (ix3 (i 0) (i 1) k) * B (ix3 (holder (i 0) (i 2)) k (column (i 0) (i 2)))

theorem index : ∀ t : Fin cfg0.N, win0_0.index t = ![t.val / 12, 0, 0] ∧ win0_1.index t = ![t.val / 9, 0, t.val % 9] ∧ win0_2.index t = ![t.val / 12, 0, t.val % 12] :=
  (by decide +kernel : ∀ t : Fin grid0.N, _)

variable (m : (ℓ : Loc nD τ sig) → Buf (Elt Ideal) ℓ)

theorem left (c : Dev nD) : (dats m 0 c).arrAt 2 cfg0.N = product (m (c.tc.loc main_arg0)) (m (c.tc.loc main_arg1)) := by
  refine (dats m 0 c).arrAt_eq_of_covers 2 _ (by decide +kernel) fun t _ y => ?_
  blk_simp
  rw [after0_2]
  frame_out
  pointwise [k0_pay1, product]
  refine Fin.sum_fin_congr fun k => congrArg₂ (· * ·) ?_ ?_
  · blk_point [iblk, V, index t]
  · blk_point [iblk, V, index t, holder, column]

theorem frame_bits : Cert.quiescent_DilQkv := fun m g _ => by
  have h := Gen.frame (F := Bits) m g
  rw [← same] at h
  exact h

theorem frame_ideal : Cert.quiescent_DilQkvIdeal := fun m g _ => Gen.frame m g

theorem frame_reference : Cert.quiescent_DilQkvReferenceIdeal := fun m g _ =>
  (θ_run _ _ _).mono (fun r h => ⟨fun c => (h c).2, sem_eq_zero_of_no_sems rfl _⟩) (DilQkvReferenceIdeal.Value.run m g)

theorem algebraic : Cert.algebraic_DilQkvIdeal_DilQkvReferenceIdeal := fun m g m' g' _ h =>
  ⟨fun c => product (m (c.tc.loc main_arg0)) (m (c.tc.loc main_arg1)),
    (θ_run _ _ _).mono (fun r hr c => ⟨(hr c).1.trans (left m c), (hr c).2⟩) (Value.run_blocks m g),
    (θ_run _ _ _).mono (fun r hr c => by
      obtain ⟨h0, h1⟩ := h c
      refine ⟨((hr c).1.trans ?_).trans (congrArg₂ product h0 h1), (hr c).2⟩
      funext i
      pointwise [product, holder, column]
      have b0 := (i 0).isLt
      have b2 := (i 2).isLt
      simp only [Matrix.cons_val] at b0 b2
      refine Fin.sum_fin_congr fun k => congrArg₂ (· * ·) rfl (congrArg (m' _) (congrArg₂ (fun a b => ix3 a k b) (Fin.ext ?_) (Fin.ext ?_)))
      · dsimp only
        omega
      · dsimp only
        omega) (DilQkvReferenceIdeal.Value.run m' g')⟩

end Cert.DilQkvIdeal

end
-- ==== Proof.QkvDh.lean ====
/-
  The products of one device with the transposed weights of the queries, keys and values, each over blocks of its arrays.
-/
module

public import proofs.«01_k».proof.Defs
public import proofs.«01_k».proof.Proof.Gen.NaQkvDh
public import proofs.«01_k».proof.Proof.Gen.NaQkvDhIdeal.Value
public import proofs.«01_k».proof.Proof.Gen.NaQkvDhReferenceIdeal.Run
public import proofs.«01_k».proof.Proof.Gen.DilQkvDh
public import proofs.«01_k».proof.Proof.Gen.DilQkvDhIdeal.Value
public import proofs.«01_k».proof.Proof.Gen.DilQkvDhReferenceIdeal.Run
public import Idealize.ShloMosaic.Lib.Pipeline.ValueKit
public import Idealize.ShloMosaic.Lib.Pointwise

@[expose] public section

set_option maxRecDepth 16384

noncomputable section

open Idealize Idealize.ShloMosaic Idealize.SL Idealize.SL.Sem TcCoe

namespace Cert.NaQkvDhIdeal

open Gen

/-- The two printed programs are one. -/
theorem same {F : FTy → Type} [FloatOps F] : NaQkvDh.defs (F := F) = defs :=
  congrArg (Pipeline.defs pcfgs) (congrArg Defs.onTc (funext fun p => match p with | 0 => rfl))

/-- Which of the queries, keys and values a column lies in. -/
def third (f : Fin 3072) : Fin 3 := ⟨f.val / 1024, by omega⟩

/-- The place of a column among the queries, keys or values. -/
def within (f : Fin 3072) : Fin 1024 := ⟨f.val % 1024, by omega⟩

/-- The part that holds a column of the whole. -/
def holder (g : Fin 1) (f : Fin 3072) : Fin 4 := ⟨(g.val * 3072 + f.val) / 768, by omega⟩

/-- The place of a column in its part. -/
def column (g : Fin 1) (f : Fin 3072) : Fin 768 := ⟨(g.val * 3072 + f.val) % 768, by omega⟩

/-- The product with the transpose of the four parts of an array laid side by side. -/
def product (A : FVec Ideal S1x3x2048x1024 .bf16) (B : FVec Ideal S4x1024x768 .bf16) : FVec Ideal S1x2048x1024 .f32 := fun i =>
  ∑ k : Fin 3072, A (ix4 (i 0) (third k) (i 1) (within k)) * B (ix3 (holder (i 0) k) (i 2) (column (i 0) k))

theorem index : ∀ t : Fin cfg0.N, win0_0.index t = ![t.val / 24, t.val % 12 / 4, t.val / 12 % 2, t.val % 4] ∧ win0_1.index t = ![(t.val / 24 * 12 + t.val % 12) / 3, 0, (t.val / 24 * 12 + t.val % 12) % 3] ∧ win0_2.index t = ![t.val / 24, t.val / 12 % 2, 0] :=
  (by decide +kernel : ∀ t : Fin grid0.N, _)

variable (m : (ℓ : Loc nD τ sig) → Buf (Elt Ideal) ℓ)

/-- What one point adds, of its blocks. -/
def part (X : FVec Ideal S1x1x1024x256 .bf16) (Y : FVec Ideal S1x1024x256 .bf16) : FVec Ideal S1024x1024 .f32 := fun j =>
  ∑ k : Fin 256, X (ix4 (0 : Fin 1) (0 : Fin 1) (j 0) k) * Y (ix3 (0 : Fin 1) (j 1) k)

theorem starts (X : FVec Ideal S1x1x1024x256 .bf16) (Y : FVec Ideal S1x1024x256 .bf16) (j : S1024x1024.Idx) :
    (k0_pay2 (F := Ideal) X Y j : EReal) = part X Y j := by
  pointwise [k0_pay2, k0_pay1, part]

theorem adds (X : FVec Ideal S1x1x1024x256 .bf16) (Y : FVec Ideal S1x1024x256 .bf16) (acc : FVec Ideal S1024x1024 .f32) (j : S1024x1024.Idx) :
    (k0_pay3 (F := Ideal) X Y acc j : EReal) = acc j + part X Y j := by
  pointwise [k0_pay3, k0_pay1, part]

theorem total (c : Dev nD) (t : Fin cfg0.N) (h : t.val % 12 = 11) (j : S1024x1024.Idx) : (outsAt0 m c t.val t.isLt).2 j
    = product (m (c.tc.loc main_arg0)) (m (c.tc.loc main_arg1)) (ix3 (⟨t.val / 24, by have := lt_of_lt_of_eq t.isLt N_0; omega⟩ : Fin 1) (⟨t.val / 12 % 2 * 1024 + (j 0).val, by have := lt_of_lt_of_eq t.isLt N_0; have := (j 0).isLt; change (j 0).val < 1024 at this; omega⟩ : Fin 2048) (j 1)) := by
  rw [Pipeline.eq_sum_fin_of_reset_step_apply_of_flush (fun n h => (outsAt0 m c n h).2) 12 (fun _ => 0)
    (fun t j => part (iblk m c 0 t) (iblk m c 1 t) j)
    (fun t h j => by rw [outsAt0_A m c t h (by omega) (by omega)]; frame_out; exact (starts _ _ j).trans (zero_add _).symm)
    (fun t h j => by
      by_cases h' : t.val % 12 = 11
      · rw [outsAt0_C m c t h (by omega) h']; frame_out; exact (adds _ _ _ j).trans (congrArg (· + _) (congrFun (Memref.IsWhole.read_unread _ _) j))
      · rw [outsAt0_B m c t h (by omega) h']; frame_out; exact (adds _ _ _ j).trans (congrArg (· + _) (congrFun (Memref.IsWhole.read_unread _ _) j))) t h _, zero_add]
  unfold product part
  have e1 : ∀ s : Fin 12, (12 * (t.val / 12) + s.val) / 24 = t.val / 24 := fun s => by have := s.isLt; omega
  have e2 : ∀ s : Fin 12, (12 * (t.val / 12) + s.val) % 12 = s.val := fun s => by have := s.isLt; omega
  refine Fin.sum_mul_add_congr fun s k hl => congrArg₂ (· * ·) ?_ ?_
  · blk_point [iblk, V, index ⟨_, Pipeline.run_point_lt_of_flush t h s⟩, third, within]
  · blk_point [iblk, V, index ⟨_, Pipeline.run_point_lt_of_flush t h s⟩, holder, column]

theorem out (c : Dev nD) (t : Fin cfg0.N) (h : t.val % 12 = 11) : (outsAt0 m c t.val t.isLt).1 = k0_pay4 (outsAt0 m c t.val t.isLt).2 := by
  rw [outsAt0_C m c t (by omega) (by omega) h]
  frame_out

theorem left (c : Dev nD) : (dats m 0 c).arrAt 2 cfg0.N = product (m (c.tc.loc main_arg0)) (m (c.tc.loc main_arg1)) := by
  refine (dats m 0 c).arrAt_eq_of_covers 2 _ (by decide +kernel) fun t hf y => ?_
  have h := (flush0_2 t).mp hf
  have e : ∀ j : S1024x1024.Idx, _ := total m c t h
  blk_simp
  rw [after0_2, out m c t h]
  generalize (outsAt0 m c t.val t.isLt).2 = acc at e
  pointwise [k0_pay4]
  rw [e]
  refine congrArg (product _ _) ?_
  blk_ext [index t]

theorem frame_bits : Cert.quiescent_NaQkvDh := fun m g _ => by
  have h := Gen.frame (F := Bits) m g
  rw [← same] at h
  exact h

theorem frame_ideal : Cert.quiescent_NaQkvDhIdeal := fun m g _ => Gen.frame m g

theorem frame_reference : Cert.quiescent_NaQkvDhReferenceIdeal := fun m g _ =>
  (θ_run _ _ _).mono (fun r h => ⟨fun c => (h c).2, sem_eq_zero_of_no_sems rfl _⟩) (NaQkvDhReferenceIdeal.Value.run m g)

theorem algebraic : Cert.algebraic_NaQkvDhIdeal_NaQkvDhReferenceIdeal := fun m g m' g' _ h =>
  ⟨fun c => product (m (c.tc.loc main_arg0)) (m (c.tc.loc main_arg1)),
    (θ_run _ _ _).mono (fun r hr c => ⟨(hr c).1.trans (left m c), (hr c).2⟩) (Value.run_blocks m g),
    (θ_run _ _ _).mono (fun r hr c => by
      obtain ⟨h0, h1⟩ := h c
      refine ⟨((hr c).1.trans ?_).trans (congrArg₂ product h0 h1), (hr c).2⟩
      funext i
      pointwise [product, third, within, holder, column]
      have b0 := (i 0).isLt
      have b2 := (i 2).isLt
      simp only [Matrix.cons_val] at b0 b2
      refine Finset.sum_comm.trans (Fin.sum_mul_add_congr fun s k hl => congrArg₂ (· * ·)
        (congrArg (m' _) (congrArg₂ (fun a b => ix4 (i 0) a (i 1) b) (Fin.ext ?_) (Fin.ext ?_)))
        (congrArg (m' _) (congrArg₂ (fun a b => ix3 a (i 2) b) (Fin.ext ?_) (Fin.ext ?_))))
      all_goals
        dsimp only
        omega) (NaQkvDhReferenceIdeal.Value.run m' g')⟩

end Cert.NaQkvDhIdeal

namespace Cert.DilQkvDhIdeal

open Gen

/-- The two printed programs are one. -/
theorem same {F : FTy → Type} [FloatOps F] : DilQkvDh.defs (F := F) = defs :=
  congrArg (Pipeline.defs pcfgs) (congrArg Defs.onTc (funext fun p => match p with | 0 => rfl))

/-- Which of the queries, keys and values a column lies in. -/
def third (f : Fin 3072) : Fin 3 := ⟨f.val / 1024, by omega⟩

/-- The place of a column among the queries, keys or values. -/
def within (f : Fin 3072) : Fin 1024 := ⟨f.val % 1024, by omega⟩

/-- The part that holds a column of the whole. -/
def holder (g : Fin 3) (f : Fin 3072) : Fin 4 := ⟨(g.val * 3072 + f.val) / 2304, by omega⟩

/-- The place of a column in its part. -/
def column (g : Fin 3) (f : Fin 3072) : Fin 2304 := ⟨(g.val * 3072 + f.val) % 2304, by omega⟩

/-- The product with the transpose of the four parts of an array laid side by side. -/
def product (A : FVec Ideal S3x3x2048x1024 .bf16) (B : FVec Ideal S4x1024x2304 .bf16) : FVec Ideal S3x2048x1024 .f32 := fun i =>
  ∑ k : Fin 3072, A (ix4 (i 0) (third k) (i 1) (within k)) * B (ix3 (holder (i 0) k) (i 2) (column (i 0) k))

theorem index : ∀ t : Fin cfg0.N, win0_0.index t = ![t.val / 24, t.val % 12 / 4, t.val / 12 % 2, t.val % 4] ∧ win0_1.index t = ![(t.val / 24 * 12 + t.val % 12) / 9, 0, (t.val / 24 * 12 + t.val % 12) % 9] ∧ win0_2.index t = ![t.val / 24, t.val / 12 % 2, 0] :=
  (by decide +kernel : ∀ t : Fin grid0.N, _)

variable (m : (ℓ : Loc nD τ sig) → Buf (Elt Ideal) ℓ)

/-- What one point adds, of its blocks. -/
def part (X : FVec Ideal S1x1x1024x256 .bf16) (Y : FVec Ideal S1x1024x256 .bf16) : FVec Ideal S1024x1024 .f32 := fun j =>
  ∑ k : Fin 256, X (ix4 (0 : Fin 1) (0 : Fin 1) (j 0) k) * Y (ix3 (0 : Fin 1) (j 1) k)

theorem starts (X : FVec Ideal S1x1x1024x256 .bf16) (Y : FVec Ideal S1x1024x256 .bf16) (j : S1024x1024.Idx) :
    (k0_pay2 (F := Ideal) X Y j : EReal) = part X Y j := by
  pointwise [k0_pay2, k0_pay1, part]

theorem adds (X : FVec Ideal S1x1x1024x256 .bf16) (Y : FVec Ideal S1x1024x256 .bf16) (acc : FVec Ideal S1024x1024 .f32) (j : S1024x1024.Idx) :
    (k0_pay3 (F := Ideal) X Y acc j : EReal) = acc j + part X Y j := by
  pointwise [k0_pay3, k0_pay1, part]

theorem total (c : Dev nD) (t : Fin cfg0.N) (h : t.val % 12 = 11) (j : S1024x1024.Idx) : (outsAt0 m c t.val t.isLt).2 j
    = product (m (c.tc.loc main_arg0)) (m (c.tc.loc main_arg1)) (ix3 (⟨t.val / 24, by have := lt_of_lt_of_eq t.isLt N_0; omega⟩ : Fin 3) (⟨t.val / 12 % 2 * 1024 + (j 0).val, by have := lt_of_lt_of_eq t.isLt N_0; have := (j 0).isLt; change (j 0).val < 1024 at this; omega⟩ : Fin 2048) (j 1)) := by
  rw [Pipeline.eq_sum_fin_of_reset_step_apply_of_flush (fun n h => (outsAt0 m c n h).2) 12 (fun _ => 0)
    (fun t j => part (iblk m c 0 t) (iblk m c 1 t) j)
    (fun t h j => by rw [outsAt0_A m c t h (by omega) (by omega)]; frame_out; exact (starts _ _ j).trans (zero_add _).symm)
    (fun t h j => by
      by_cases h' : t.val % 12 = 11
      · rw [outsAt0_C m c t h (by omega) h']; frame_out; exact (adds _ _ _ j).trans (congrArg (· + _) (congrFun (Memref.IsWhole.read_unread _ _) j))
      · rw [outsAt0_B m c t h (by omega) h']; frame_out; exact (adds _ _ _ j).trans (congrArg (· + _) (congrFun (Memref.IsWhole.read_unread _ _) j))) t h _, zero_add]
  unfold product part
  have e1 : ∀ s : Fin 12, (12 * (t.val / 12) + s.val) / 24 = t.val / 24 := fun s => by have := s.isLt; omega
  have e2 : ∀ s : Fin 12, (12 * (t.val / 12) + s.val) % 12 = s.val := fun s => by have := s.isLt; omega
  refine Fin.sum_mul_add_congr fun s k hl => congrArg₂ (· * ·) ?_ ?_
  · blk_point [iblk, V, index ⟨_, Pipeline.run_point_lt_of_flush t h s⟩, third, within]
  · blk_point [iblk, V, index ⟨_, Pipeline.run_point_lt_of_flush t h s⟩, holder, column]
    rw [e1, e2]
    omega

theorem out (c : Dev nD) (t : Fin cfg0.N) (h : t.val % 12 = 11) : (outsAt0 m c t.val t.isLt).1 = k0_pay4 (outsAt0 m c t.val t.isLt).2 := by
  rw [outsAt0_C m c t (by omega) (by omega) h]
  frame_out

theorem left (c : Dev nD) : (dats m 0 c).arrAt 2 cfg0.N = product (m (c.tc.loc main_arg0)) (m (c.tc.loc main_arg1)) := by
  refine (dats m 0 c).arrAt_eq_of_covers 2 _ (by decide +kernel) fun t hf y => ?_
  have h := (flush0_2 t).mp hf
  have e : ∀ j : S1024x1024.Idx, _ := total m c t h
  blk_simp
  rw [after0_2, out m c t h]
  generalize (outsAt0 m c t.val t.isLt).2 = acc at e
  pointwise [k0_pay4]
  rw [e]
  refine congrArg (product _ _) ?_
  blk_ext [index t]

theorem frame_bits : Cert.quiescent_DilQkvDh := fun m g _ => by
  have h := Gen.frame (F := Bits) m g
  rw [← same] at h
  exact h

theorem frame_ideal : Cert.quiescent_DilQkvDhIdeal := fun m g _ => Gen.frame m g

theorem frame_reference : Cert.quiescent_DilQkvDhReferenceIdeal := fun m g _ =>
  (θ_run _ _ _).mono (fun r h => ⟨fun c => (h c).2, sem_eq_zero_of_no_sems rfl _⟩) (DilQkvDhReferenceIdeal.Value.run m g)

theorem algebraic : Cert.algebraic_DilQkvDhIdeal_DilQkvDhReferenceIdeal := fun m g m' g' _ h =>
  ⟨fun c => product (m (c.tc.loc main_arg0)) (m (c.tc.loc main_arg1)),
    (θ_run _ _ _).mono (fun r hr c => ⟨(hr c).1.trans (left m c), (hr c).2⟩) (Value.run_blocks m g),
    (θ_run _ _ _).mono (fun r hr c => by
      obtain ⟨h0, h1⟩ := h c
      refine ⟨((hr c).1.trans ?_).trans (congrArg₂ product h0 h1), (hr c).2⟩
      funext i
      pointwise [product, third, within, holder, column]
      have b0 := (i 0).isLt
      have b2 := (i 2).isLt
      simp only [Matrix.cons_val] at b0 b2
      refine Finset.sum_comm.trans (Fin.sum_mul_add_congr fun s k hl => congrArg₂ (· * ·)
        (congrArg (m' _) (congrArg₂ (fun a b => ix4 (i 0) a (i 1) b) (Fin.ext ?_) (Fin.ext ?_)))
        (congrArg (m' _) (congrArg₂ (fun a b => ix3 a (i 2) b) (Fin.ext ?_) (Fin.ext ?_))))
      all_goals
        dsimp only
        omega) (DilQkvDhReferenceIdeal.Value.run m' g')⟩

end Cert.DilQkvDhIdeal

end
-- ==== Proof.QkvDw.lean ====
/-
  The gradients of one device of the weights of the queries, keys and values, each over blocks of its arrays.
-/
module

public import proofs.«01_k».proof.Defs
public import proofs.«01_k».proof.Proof.Gen.NaQkvDw
public import proofs.«01_k».proof.Proof.Gen.NaQkvDwIdeal.Value
public import proofs.«01_k».proof.Proof.Gen.NaQkvDwReferenceIdeal.Run
public import proofs.«01_k».proof.Proof.Gen.DilQkvDw
public import proofs.«01_k».proof.Proof.Gen.DilQkvDwIdeal.Value
public import proofs.«01_k».proof.Proof.Gen.DilQkvDwReferenceIdeal.Run
public import Idealize.ShloMosaic.Lib.Pipeline.ValueKit
public import Idealize.ShloMosaic.Lib.Pointwise

@[expose] public section

set_option maxRecDepth 16384

noncomputable section

open Idealize Idealize.ShloMosaic Idealize.SL Idealize.SL.Sem TcCoe

namespace Cert.NaQkvDwIdeal

open Gen

/-- The two printed programs are one. -/
theorem same {F : FTy → Type} [FloatOps F] : NaQkvDw.defs (F := F) = defs :=
  congrArg (Pipeline.defs pcfgs) (congrArg Defs.onTc (funext fun p => match p with | 0 => rfl))

/-- The place of a column of one part in the whole, by its group. -/
def group (s : Fin 4) (f : Fin 768) : Fin 1 := ⟨(s.val * 768 + f.val) / 3072, by omega⟩

/-- Which of the queries, keys and values a column of one part lies in. -/
def third (s : Fin 4) (f : Fin 768) : Fin 3 := ⟨(s.val * 768 + f.val) % 3072 / 1024, by omega⟩

/-- The place of a column of one part among the queries, keys or values. -/
def within (s : Fin 4) (f : Fin 768) : Fin 1024 := ⟨(s.val * 768 + f.val) % 1024, by omega⟩

/-- The product of the transpose of an array with another, cut into four parts. -/
def product (A : FVec Ideal S1x2048x1024 .bf16) (B : FVec Ideal S1x3x2048x1024 .bf16) : FVec Ideal S4x1024x768 .bf16 := fun i =>
  ∑ k : Fin 2048, A (ix3 (group (i 0) (i 2)) k (i 1)) * B (ix4 (group (i 0) (i 2)) (third (i 0) (i 2)) k (within (i 0) (i 2)))

theorem index : ∀ t : Fin cfg0.N, win0_0.index t = ![t.val / 48, t.val % 4, 0] ∧ win0_1.index t = ![t.val / 48, t.val / 4 % 12 / 4, t.val % 4, t.val / 4 % 4] ∧ win0_2.index t = ![t.val / 4 / 3, 0, t.val / 4 % 3] :=
  (by decide +kernel : ∀ t : Fin grid0.N, _)

variable (m : (ℓ : Loc nD τ sig) → Buf (Elt Ideal) ℓ)

/-- What one point adds, of its blocks. -/
def part (X : FVec Ideal S1x512x1024 .bf16) (Y : FVec Ideal S1x1x512x256 .bf16) : FVec Ideal S1024x256 .f32 := fun j =>
  ∑ k : Fin 512, X (ix3 (0 : Fin 1) k (j 0)) * Y (ix4 (0 : Fin 1) (0 : Fin 1) k (j 1))

theorem starts (X : FVec Ideal S1x512x1024 .bf16) (Y : FVec Ideal S1x1x512x256 .bf16) (j : S1024x256.Idx) :
    (k0_pay2 (F := Ideal) X Y j : EReal) = part X Y j := by
  pointwise [k0_pay2, k0_pay1, part]

theorem adds (X : FVec Ideal S1x512x1024 .bf16) (Y : FVec Ideal S1x1x512x256 .bf16) (acc : FVec Ideal S1024x256 .f32) (j : S1024x256.Idx) :
    (k0_pay3 (F := Ideal) X Y acc j : EReal) = acc j + part X Y j := by
  pointwise [k0_pay3, k0_pay1, part]

theorem total (c : Dev nD) (t : Fin cfg0.N) (h : t.val % 4 = 3) (j : S1024x256.Idx) : (outsAt0 m c t.val t.isLt).2 j
    = product (m (c.tc.loc main_arg0)) (m (c.tc.loc main_arg1)) (ix3 (⟨t.val / 4 / 3, by have := lt_of_lt_of_eq t.isLt N_0; omega⟩ : Fin 4) (j 0) (⟨t.val / 4 % 3 * 256 + (j 1).val, by have := lt_of_lt_of_eq t.isLt N_0; have := (j 1).isLt; change (j 1).val < 256 at this; omega⟩ : Fin 768)) := by
  rw [Pipeline.eq_sum_fin_of_reset_step_apply_of_flush (fun n h => (outsAt0 m c n h).2) 4 (fun _ => 0)
    (fun t j => part (iblk m c 0 t) (iblk m c 1 t) j)
    (fun t h j => by rw [outsAt0_A m c t h (by omega) (by omega)]; frame_out; exact (starts _ _ j).trans (zero_add _).symm)
    (fun t h j => by
      by_cases h' : t.val % 4 = 3
      · rw [outsAt0_C m c t h (by omega) h']; frame_out; exact (adds _ _ _ j).trans (congrArg (· + _) (congrFun (Memref.IsWhole.read_unread _ _) j))
      · rw [outsAt0_B m c t h (by omega) h']; frame_out; exact (adds _ _ _ j).trans (congrArg (· + _) (congrFun (Memref.IsWhole.read_unread _ _) j))) t h _, zero_add]
  unfold product part
  refine Fin.sum_mul_add_congr fun s k hl => congrArg₂ (· * ·) ?_ ?_
  · blk_point [iblk, V, index ⟨_, Pipeline.run_point_lt_of_flush t h s⟩, group]
  · blk_point [iblk, V, index ⟨_, Pipeline.run_point_lt_of_flush t h s⟩, group, third, within]

theorem out (c : Dev nD) (t : Fin cfg0.N) (h : t.val % 4 = 3) : (outsAt0 m c t.val t.isLt).1 = k0_pay4 (outsAt0 m c t.val t.isLt).2 := by
  rw [outsAt0_C m c t (by omega) (by omega) h]
  frame_out

theorem left (c : Dev nD) : (dats m 0 c).arrAt 2 cfg0.N = product (m (c.tc.loc main_arg0)) (m (c.tc.loc main_arg1)) := by
  refine (dats m 0 c).arrAt_eq_of_covers 2 _ (by decide +kernel) fun t hf y => ?_
  have h := (flush0_2 t).mp hf
  have e : ∀ j : S1024x256.Idx, _ := total m c t h
  blk_simp
  rw [after0_2, out m c t h]
  generalize (outsAt0 m c t.val t.isLt).2 = acc at e
  pointwise [k0_pay4]
  rw [e]
  refine congrArg (product _ _) ?_
  blk_ext [index t]

theorem frame_bits : Cert.quiescent_NaQkvDw := fun m g _ => by
  have h := Gen.frame (F := Bits) m g
  rw [← same] at h
  exact h

theorem frame_ideal : Cert.quiescent_NaQkvDwIdeal := fun m g _ => Gen.frame m g

theorem frame_reference : Cert.quiescent_NaQkvDwReferenceIdeal := fun m g _ =>
  (θ_run _ _ _).mono (fun r h => ⟨fun c => (h c).2, sem_eq_zero_of_no_sems rfl _⟩) (NaQkvDwReferenceIdeal.Value.run m g)

theorem algebraic : Cert.algebraic_NaQkvDwIdeal_NaQkvDwReferenceIdeal := fun m g m' g' _ h =>
  ⟨fun c => product (m (c.tc.loc main_arg0)) (m (c.tc.loc main_arg1)),
    (θ_run _ _ _).mono (fun r hr c => ⟨(hr c).1.trans (left m c), (hr c).2⟩) (Value.run_blocks m g),
    (θ_run _ _ _).mono (fun r hr c => by
      obtain ⟨h0, h1⟩ := h c
      refine ⟨((hr c).1.trans ?_).trans (congrArg₂ product h0 h1), (hr c).2⟩
      funext i
      pointwise [product, group, third, within]
      have b0 := (i 0).isLt
      have b2 := (i 2).isLt
      simp only [Matrix.cons_val] at b0 b2
      refine Fin.sum_fin_congr fun k => (mul_comm _ _).trans (congrArg₂ (· * ·)
        (congrArg (m' _) (congrArg (fun a => ix3 a k (i 1)) (Subsingleton.elim _ _)))
        (congrArg (m' _) (congr (congrArg₂ (fun a b c => ix4 a b k c) (Subsingleton.elim _ _) (Fin.ext ?_)) (Fin.ext ?_))))
      all_goals
        dsimp only
        omega) (NaQkvDwReferenceIdeal.Value.run m' g')⟩

end Cert.NaQkvDwIdeal

namespace Cert.DilQkvDwIdeal

open Gen

/-- The two printed programs are one. -/
theorem same {F : FTy → Type} [FloatOps F] : DilQkvDw.defs (F := F) = defs :=
  congrArg (Pipeline.defs pcfgs) (congrArg Defs.onTc (funext fun p => match p with | 0 => rfl))

/-- The place of a column of one part in the whole, by its group. -/
def group (s : Fin 4) (f : Fin 2304) : Fin 3 := ⟨(s.val * 2304 + f.val) / 3072, by omega⟩

/-- Which of the queries, keys and values a column of one part lies in. -/
def third (s : Fin 4) (f : Fin 2304) : Fin 3 := ⟨(s.val * 2304 + f.val) % 3072 / 1024, by omega⟩

/-- The place of a column of one part among the queries, keys or values. -/
def within (s : Fin 4) (f : Fin 2304) : Fin 1024 := ⟨(s.val * 2304 + f.val) % 1024, by omega⟩

/-- Where a place of the four parts lies among the groups of queries, keys and values. -/
theorem matched (h : DilQkvDwReferenceIdeal.S1024x4x2304.numel = DilQkvDwReferenceIdeal.S1024x3x3x1024.numel) (a : Fin 1024) (s : Fin 4) (f : Fin 2304) :
    Shape.reshapeEquiv h (ix3 a s f) = ix4 a (group s f) (third s f) (within s f) :=
  Shape.reshapeEquiv_eq_of_vals h _ _ _ _ (rowMajor_val4 _ 9216 3072 1024 rfl rfl rfl) (rowMajor_val3 _ 9216 2304 rfl rfl) (by
    show a.val * 9216 + (s.val * 2304 + f.val) / 3072 * 3072 + (s.val * 2304 + f.val) % 3072 / 1024 * 1024 + (s.val * 2304 + f.val) % 1024
      = a.val * 9216 + s.val * 2304 + f.val
    omega)

/-- The product of the transpose of an array with another, cut into four parts. -/
def product (A : FVec Ideal S3x2048x1024 .bf16) (B : FVec Ideal S3x3x2048x1024 .bf16) : FVec Ideal S4x1024x2304 .bf16 := fun i =>
  ∑ k : Fin 2048, A (ix3 (group (i 0) (i 2)) k (i 1)) * B (ix4 (group (i 0) (i 2)) (third (i 0) (i 2)) k (within (i 0) (i 2)))

theorem index : ∀ t : Fin cfg0.N, win0_0.index t = ![t.val / 48, t.val % 4, 0] ∧ win0_1.index t = ![t.val / 48, t.val / 4 % 12 / 4, t.val % 4, t.val / 4 % 4] ∧ win0_2.index t = ![t.val / 4 / 9, 0, t.val / 4 % 9] :=
  (by decide +kernel : ∀ t : Fin grid0.N, _)

variable (m : (ℓ : Loc nD τ sig) → Buf (Elt Ideal) ℓ)

/-- What one point adds, of its blocks. -/
def part (X : FVec Ideal S1x512x1024 .bf16) (Y : FVec Ideal S1x1x512x256 .bf16) : FVec Ideal S1024x256 .f32 := fun j =>
  ∑ k : Fin 512, X (ix3 (0 : Fin 1) k (j 0)) * Y (ix4 (0 : Fin 1) (0 : Fin 1) k (j 1))

theorem starts (X : FVec Ideal S1x512x1024 .bf16) (Y : FVec Ideal S1x1x512x256 .bf16) (j : S1024x256.Idx) :
    (k0_pay2 (F := Ideal) X Y j : EReal) = part X Y j := by
  pointwise [k0_pay2, k0_pay1, part]

theorem adds (X : FVec Ideal S1x512x1024 .bf16) (Y : FVec Ideal S1x1x512x256 .bf16) (acc : FVec Ideal S1024x256 .f32) (j : S1024x256.Idx) :
    (k0_pay3 (F := Ideal) X Y acc j : EReal) = acc j + part X Y j := by
  pointwise [k0_pay3, k0_pay1, part]

theorem total (c : Dev nD) (t : Fin cfg0.N) (h : t.val % 4 = 3) (j : S1024x256.Idx) : (outsAt0 m c t.val t.isLt).2 j
    = product (m (c.tc.loc main_arg0)) (m (c.tc.loc main_arg1)) (ix3 (⟨t.val / 4 / 9, by have := lt_of_lt_of_eq t.isLt N_0; omega⟩ : Fin 4) (j 0) (⟨t.val / 4 % 9 * 256 + (j 1).val, by have := lt_of_lt_of_eq t.isLt N_0; have := (j 1).isLt; change (j 1).val < 256 at this; omega⟩ : Fin 2304)) := by
  rw [Pipeline.eq_sum_fin_of_reset_step_apply_of_flush (fun n h => (outsAt0 m c n h).2) 4 (fun _ => 0)
    (fun t j => part (iblk m c 0 t) (iblk m c 1 t) j)
    (fun t h j => by rw [outsAt0_A m c t h (by omega) (by omega)]; frame_out; exact (starts _ _ j).trans (zero_add _).symm)
    (fun t h j => by
      by_cases h' : t.val % 4 = 3
      · rw [outsAt0_C m c t h (by omega) h']; frame_out; exact (adds _ _ _ j).trans (congrArg (· + _) (congrFun (Memref.IsWhole.read_unread _ _) j))
      · rw [outsAt0_B m c t h (by omega) h']; frame_out; exact (adds _ _ _ j).trans (congrArg (· + _) (congrFun (Memref.IsWhole.read_unread _ _) j))) t h _, zero_add]
  unfold product part
  refine Fin.sum_mul_add_congr fun s k hl => congrArg₂ (· * ·) ?_ ?_
  · blk_point [iblk, V, index ⟨_, Pipeline.run_point_lt_of_flush t h s⟩, group]
  · blk_point [iblk, V, index ⟨_, Pipeline.run_point_lt_of_flush t h s⟩, group, third, within]

theorem out (c : Dev nD) (t : Fin cfg0.N) (h : t.val % 4 = 3) : (outsAt0 m c t.val t.isLt).1 = k0_pay4 (outsAt0 m c t.val t.isLt).2 := by
  rw [outsAt0_C m c t (by omega) (by omega) h]
  frame_out

theorem left (c : Dev nD) : (dats m 0 c).arrAt 2 cfg0.N = product (m (c.tc.loc main_arg0)) (m (c.tc.loc main_arg1)) := by
  refine (dats m 0 c).arrAt_eq_of_covers 2 _ (by decide +kernel) fun t hf y => ?_
  have h := (flush0_2 t).mp hf
  have e : ∀ j : S1024x256.Idx, _ := total m c t h
  blk_simp
  rw [after0_2, out m c t h]
  generalize (outsAt0 m c t.val t.isLt).2 = acc at e
  pointwise [k0_pay4]
  rw [e]
  refine congrArg (product _ _) ?_
  blk_ext [index t]

theorem frame_bits : Cert.quiescent_DilQkvDw := fun m g _ => by
  have h := Gen.frame (F := Bits) m g
  rw [← same] at h
  exact h

theorem frame_ideal : Cert.quiescent_DilQkvDwIdeal := fun m g _ => Gen.frame m g

theorem frame_reference : Cert.quiescent_DilQkvDwReferenceIdeal := fun m g _ =>
  (θ_run _ _ _).mono (fun r h => ⟨fun c => (h c).2, sem_eq_zero_of_no_sems rfl _⟩) (DilQkvDwReferenceIdeal.Value.run m g)

theorem algebraic : Cert.algebraic_DilQkvDwIdeal_DilQkvDwReferenceIdeal := fun m g m' g' _ h =>
  ⟨fun c => product (m (c.tc.loc main_arg0)) (m (c.tc.loc main_arg1)),
    (θ_run _ _ _).mono (fun r hr c => ⟨(hr c).1.trans (left m c), (hr c).2⟩) (Value.run_blocks m g),
    (θ_run _ _ _).mono (fun r hr c => by
      obtain ⟨h0, h1⟩ := h c
      refine ⟨((hr c).1.trans ?_).trans (congrArg₂ product h0 h1), (hr c).2⟩
      funext i
      pointwise [product]
      have e := matched DilQkvDwReferenceIdeal.Gen.shapeCasts_S1024x3x3x1024_S1024x4x2304 (i 1) (i 0) (i 2)
      exact Fin.sum_fin_congr fun k => (mul_comm _ _).trans (congrArg₂ (· * ·)
        (congrArg (m' _) (congrArg (fun a : DilQkvDwReferenceIdeal.S1024x3x3x1024.Idx => ix3 (a 1) k (a 0)) e))
        (congrArg (m' _) (congrArg (fun a : DilQkvDwReferenceIdeal.S1024x3x3x1024.Idx => ix4 (a 1) (a 2) k (a 3)) e)))) (DilQkvDwReferenceIdeal.Value.run m' g')⟩

end Cert.DilQkvDwIdeal

end
-- ==== Proof.Norms.lean ====
/-
  The gradients through the division of rows by their root mean squares, over blocks of rows.
-/
module

public import proofs.«01_k».proof.Defs
public import proofs.«01_k».proof.Proof.Reals
public import proofs.«01_k».proof.Proof.Gen.NormPost
public import proofs.«01_k».proof.Proof.Gen.NormPostIdeal.Value
public import proofs.«01_k».proof.Proof.Gen.NormPostReferenceIdeal.Run
public import proofs.«01_k».proof.Proof.Gen.NormPre
public import proofs.«01_k».proof.Proof.Gen.NormPreIdeal.Value
public import proofs.«01_k».proof.Proof.Gen.NormPreReferenceIdeal.Run
public import proofs.«01_k».proof.Proof.Gen.NormPre3
public import proofs.«01_k».proof.Proof.Gen.NormPre3Ideal.Value
public import proofs.«01_k».proof.Proof.Gen.NormPre3ReferenceIdeal.Run
public import Idealize.ShloMosaic.Lib.Pipeline.ValueKit
public import Idealize.ShloMosaic.Lib.Pointwise

@[expose] public section

set_option maxRecDepth 16384

noncomputable section

open Idealize Idealize.ShloMosaic Idealize.SL Idealize.SL.Sem TcCoe Cert.Reals

namespace Cert.NormPostIdeal

open Gen

/-- The two printed programs are one. -/
theorem same {F : FTy → Type} [FloatOps F] : NormPost.defs (F := F) = defs :=
  congrArg (Pipeline.defs pcfgs) (congrArg Defs.onTc (funext fun p => match p with | 0 => rfl))

/-- The gradient of an array whose rows were divided by their root mean squares. -/
def gradient (D U : FVec Ideal S2048x1024 .f32) (G : FVec Ideal S1x1024 .f32) : FVec Ideal S2048x1024 .f32 := fun i =>
  scale (∑ l, U (ix2 (i 0) l) * U (ix2 (i 0) l)) * (D i * G (ix2 (0 : Fin 1) (i 1)) - U i * scale (∑ l, U (ix2 (i 0) l) * U (ix2 (i 0) l))
    * Ideal.div (∑ k : Fin 1024, D (ix2 (i 0) k) * G (ix2 (0 : Fin 1) k) * (U (ix2 (i 0) k) * scale (∑ l, U (ix2 (i 0) l) * U (ix2 (i 0) l)))) (Ideal.ofBits .f32 0x44800000#32))

/-- A device's part of the gradient of the factors its columns were multiplied with. -/
def factors (D U : FVec Ideal S2048x1024 .f32) : FVec Ideal S1x1024 .f32 := fun i =>
  ∑ x : Fin 2048, D (ix2 x (i 1)) * (U (ix2 x (i 1)) * scale (∑ l, U (ix2 x l) * U (ix2 x l)))

theorem index : ∀ t : Fin cfg0.N, win0_0.index t = ![t.val, 0] ∧ win0_1.index t = ![t.val, 0] ∧ win0_2.index t = ![0, 0] ∧ win0_3.index t = ![t.val, 0] ∧ win0_4.index t = ![0, 0] :=
  (by decide +kernel : ∀ t : Fin grid0.N, _)

variable (m : (ℓ : Loc nD τ sig) → Buf (Elt Ideal) ℓ)

theorem outs (c : Dev nD) (t : Fin cfg0.N) : (outsAt0 m c t.val t.isLt).1 = k0_pay3 (iblk m c 0 t) (iblk m c 1 t) (iblk m c 2 t) := by
  by_cases h : t.val % 8 = 0
  · rw [outsAt0_A m c t h]
    frame_out
  · rw [outsAt0_B m c t h]
    frame_out

theorem left_gradient (c : Dev nD) : (dats m 0 c).arrAt 3 cfg0.N = gradient (m (c.tc.loc main_arg0)) (m (c.tc.loc main_arg1)) (m (c.tc.loc main_arg2)) := by
  refine (dats m 0 c).arrAt_eq_of_covers 3 _ (by decide +kernel) fun t _ y => ?_
  blk_simp
  rw [after0_3, outs]
  pointwise [k0_pay5, k0_pay3, k0_pay2, k0_pay1, gradient, scale]
  blk_point [iblk, V, index t]

/-- What one block of rows adds to it. -/
def part (D U : FVec Ideal S256x1024 .f32) : FVec Ideal S1x1024 .f32 := fun i =>
  ∑ x : Fin 256, D (ix2 x (i 1)) * (U (ix2 x (i 1)) * scale (∑ l, U (ix2 x l) * U (ix2 x l)))

theorem starts (j : S1x1024.Idx) : (k0_pay4 (F := Ideal) j : EReal) = 0 := by
  pointwise [k0_pay4]

theorem adds (D U : FVec Ideal S256x1024 .f32) (acc : FVec Ideal S1x1024 .f32) (j : S1x1024.Idx) :
    (k0_pay5 (F := Ideal) D U acc j : EReal) = acc j + part D U j := by
  pointwise [k0_pay5, k0_pay3, k0_pay2, k0_pay1, part, scale]

theorem total (c : Dev nD) (t : Fin cfg0.N) (h : t.val % 8 = 7) (j : S1x1024.Idx) : (outsAt0 m c t.val t.isLt).2 j = factors (m (c.tc.loc main_arg0)) (m (c.tc.loc main_arg1)) j := by
  rw [Pipeline.eq_sum_fin_of_reset_step_apply_of_flush (fun n h => (outsAt0 m c n h).2) 8 (fun _ => 0)
    (fun t j => part (iblk m c 0 t) (iblk m c 1 t) j)
    (fun t h j => by rw [outsAt0_A m c t h]; frame_out; exact (adds _ _ _ j).trans (congrArg (· + _) (starts j)))
    (fun t h j => by rw [outsAt0_B m c t h]; frame_out; exact adds _ _ _ j) t h _, zero_add]
  unfold factors part scale
  refine Fin.sum_mul_add_congr fun s k hl => ?_
  blk_point [iblk, V, index ⟨_, Pipeline.run_point_lt_of_flush t h s⟩]

theorem left_factors (c : Dev nD) : (dats m 0 c).arrAt 4 cfg0.N = factors (m (c.tc.loc main_arg0)) (m (c.tc.loc main_arg1)) := by
  refine (dats m 0 c).arrAt_eq_of_covers 4 _ (by decide +kernel) fun t hf y => ?_
  have h := (flush0_4 t).mp hf
  blk_simp
  rw [after0_4]
  refine (total m c t h y).trans (congrArg (factors _ _ ) ?_)
  blk_ext [index t]

theorem frame_bits : Cert.quiescent_NormPost := fun m g _ => by
  have h := Gen.frame (F := Bits) m g
  rw [← same] at h
  exact h

theorem frame_ideal : Cert.quiescent_NormPostIdeal := fun m g _ => Gen.frame m g

theorem frame_reference : Cert.quiescent_NormPostReferenceIdeal := fun m g _ =>
  (θ_run _ _ _).mono (fun r h => ⟨fun c => (h c).2.2, sem_eq_zero_of_no_sems rfl _⟩) (NormPostReferenceIdeal.Value.run m g)

theorem algebraic : Cert.algebraic_NormPostIdeal_NormPostReferenceIdeal := fun m g m' g' _ h =>
  ⟨fun c => gradient (m (c.tc.loc main_arg0)) (m (c.tc.loc main_arg1)) (m (c.tc.loc main_arg2)),
    fun c => factors (m (c.tc.loc main_arg0)) (m (c.tc.loc main_arg1)),
    (θ_run _ _ _).mono (fun r hr c => ⟨(hr c).1.trans (left_gradient m c), (hr c).2.1.trans (left_factors m c), (hr c).2.2⟩) (Value.run_blocks m g),
    (θ_run _ _ _).mono (fun r hr c => by
      obtain ⟨h0, h1, h2⟩ := h c
      refine ⟨((hr c).1.trans ?_).trans (congr (congrArg₂ gradient h0 h1) h2), ((hr c).2.1.trans ?_).trans (congrArg₂ factors h0 h1), (hr c).2.2⟩
      · funext i
        have q : (0 : EReal) ≤ ∑ l : Fin 1024, ((show EReal from m' (c.tc.loc NormPostReferenceIdeal.main_arg1) (ix2 (i 0) l)) * (show EReal from m' (c.tc.loc NormPostReferenceIdeal.main_arg1) (ix2 (i 0) l))) :=
          Finset.sum_nonneg fun l _ => sq_nonneg _
        have e := fun t u (T U : Fin 1024 → EReal) => back q t u T U
        unfold scale at e
        pointwise [gradient, scale]
        clear hr
        simp only [Finset.univ_unique, Finset.sum_singleton]
        exact e _ _ _ _
      · funext i
        pointwise [factors, scale]
        exact Fin.sum_fin_congr fun k => mul_comm _ _) (NormPostReferenceIdeal.Value.run m' g')⟩

end Cert.NormPostIdeal

namespace Cert.NormPreIdeal

open Gen

/-- The two printed programs are one. -/
theorem same {F : FTy → Type} [FloatOps F] : NormPre.defs (F := F) = defs :=
  congrArg (Pipeline.defs pcfgs) (congrArg Defs.onTc (funext fun p => match p with | 0 => rfl))

/-- The gradient of an array whose rows were divided by their root mean squares, added to a gradient of the same array. -/
def gradient (D U : FVec Ideal S2048x1024 .f32) (G : FVec Ideal S1x1024 .f32) (R : FVec Ideal S2048x1024 .f32) : FVec Ideal S2048x1024 .f32 := fun i =>
  scale (∑ l, U (ix2 (i 0) l) * U (ix2 (i 0) l)) * (D i * G (ix2 (0 : Fin 1) (i 1)) - U i * scale (∑ l, U (ix2 (i 0) l) * U (ix2 (i 0) l))
    * Ideal.div (∑ k : Fin 1024, D (ix2 (i 0) k) * G (ix2 (0 : Fin 1) k) * (U (ix2 (i 0) k) * scale (∑ l, U (ix2 (i 0) l) * U (ix2 (i 0) l)))) (Ideal.ofBits .f32 0x44800000#32)) + R i

/-- A device's part of the gradient of the factors its columns were multiplied with. -/
def factors (D U : FVec Ideal S2048x1024 .f32) : FVec Ideal S1x1024 .f32 := fun i =>
  ∑ x : Fin 2048, D (ix2 x (i 1)) * (U (ix2 x (i 1)) * scale (∑ l, U (ix2 x l) * U (ix2 x l)))

theorem index : ∀ t : Fin cfg0.N, win0_0.index t = ![t.val, 0] ∧ win0_1.index t = ![t.val, 0] ∧ win0_2.index t = ![0, 0] ∧ win0_3.index t = ![t.val, 0] ∧ win0_4.index t = ![t.val, 0] ∧ win0_5.index t = ![0, 0] :=
  (by decide +kernel : ∀ t : Fin grid0.N, _)

variable (m : (ℓ : Loc nD τ sig) → Buf (Elt Ideal) ℓ)

theorem outs (c : Dev nD) (t : Fin cfg0.N) : (outsAt0 m c t.val t.isLt).1 = k0_pay3 (iblk m c 0 t) (iblk m c 1 t) (iblk m c 2 t) (iblk m c 3 t) := by
  by_cases h : t.val % 8 = 0
  · rw [outsAt0_A m c t h]
    frame_out
  · rw [outsAt0_B m c t h]
    frame_out

theorem left_gradient (c : Dev nD) : (dats m 0 c).arrAt 4 cfg0.N = gradient (m (c.tc.loc main_arg0)) (m (c.tc.loc main_arg1)) (m (c.tc.loc main_arg2)) (m (c.tc.loc main_arg3)) := by
  refine (dats m 0 c).arrAt_eq_of_covers 4 _ (by decide +kernel) fun t _ y => ?_
  blk_simp
  rw [after0_4, outs]
  pointwise [k0_pay5, k0_pay3, k0_pay2, k0_pay1, gradient, scale]
  blk_point [iblk, V, index t]

/-- What one block of rows adds to it. -/
def part (D U : FVec Ideal S256x1024 .f32) : FVec Ideal S1x1024 .f32 := fun i =>
  ∑ x : Fin 256, D (ix2 x (i 1)) * (U (ix2 x (i 1)) * scale (∑ l, U (ix2 x l) * U (ix2 x l)))

theorem starts (j : S1x1024.Idx) : (k0_pay4 (F := Ideal) j : EReal) = 0 := by
  pointwise [k0_pay4]

theorem adds (D U : FVec Ideal S256x1024 .f32) (acc : FVec Ideal S1x1024 .f32) (j : S1x1024.Idx) :
    (k0_pay5 (F := Ideal) D U acc j : EReal) = acc j + part D U j := by
  pointwise [k0_pay5, k0_pay3, k0_pay2, k0_pay1, part, scale]

theorem total (c : Dev nD) (t : Fin cfg0.N) (h : t.val % 8 = 7) (j : S1x1024.Idx) : (outsAt0 m c t.val t.isLt).2 j = factors (m (c.tc.loc main_arg0)) (m (c.tc.loc main_arg1)) j := by
  rw [Pipeline.eq_sum_fin_of_reset_step_apply_of_flush (fun n h => (outsAt0 m c n h).2) 8 (fun _ => 0)
    (fun t j => part (iblk m c 0 t) (iblk m c 1 t) j)
    (fun t h j => by rw [outsAt0_A m c t h]; frame_out; exact (adds _ _ _ j).trans (congrArg (· + _) (starts j)))
    (fun t h j => by rw [outsAt0_B m c t h]; frame_out; exact adds _ _ _ j) t h _, zero_add]
  unfold factors part scale
  refine Fin.sum_mul_add_congr fun s k hl => ?_
  blk_point [iblk, V, index ⟨_, Pipeline.run_point_lt_of_flush t h s⟩]

theorem left_factors (c : Dev nD) : (dats m 0 c).arrAt 5 cfg0.N = factors (m (c.tc.loc main_arg0)) (m (c.tc.loc main_arg1)) := by
  refine (dats m 0 c).arrAt_eq_of_covers 5 _ (by decide +kernel) fun t hf y => ?_
  have h := (flush0_5 t).mp hf
  blk_simp
  rw [after0_5]
  refine (total m c t h y).trans (congrArg (factors _ _ ) ?_)
  blk_ext [index t]

theorem frame_bits : Cert.quiescent_NormPre := fun m g _ => by
  have h := Gen.frame (F := Bits) m g
  rw [← same] at h
  exact h

theorem frame_ideal : Cert.quiescent_NormPreIdeal := fun m g _ => Gen.frame m g

theorem frame_reference : Cert.quiescent_NormPreReferenceIdeal := fun m g _ =>
  (θ_run _ _ _).mono (fun r h => ⟨fun c => (h c).2.2, sem_eq_zero_of_no_sems rfl _⟩) (NormPreReferenceIdeal.Value.run m g)

theorem algebraic : Cert.algebraic_NormPreIdeal_NormPreReferenceIdeal := fun m g m' g' _ h =>
  ⟨fun c => gradient (m (c.tc.loc main_arg0)) (m (c.tc.loc main_arg1)) (m (c.tc.loc main_arg2)) (m (c.tc.loc main_arg3)),
    fun c => factors (m (c.tc.loc main_arg0)) (m (c.tc.loc main_arg1)),
    (θ_run _ _ _).mono (fun r hr c => ⟨(hr c).1.trans (left_gradient m c), (hr c).2.1.trans (left_factors m c), (hr c).2.2⟩) (Value.run_blocks m g),
    (θ_run _ _ _).mono (fun r hr c => by
      obtain ⟨h0, h1, h2, h3⟩ := h c
      refine ⟨((hr c).1.trans ?_).trans (congr (congr (congrArg₂ gradient h0 h1) h2) h3), ((hr c).2.1.trans ?_).trans (congrArg₂ factors h0 h1), (hr c).2.2⟩
      · funext i
        have q : (0 : EReal) ≤ ∑ l : Fin 1024, ((show EReal from m' (c.tc.loc NormPreReferenceIdeal.main_arg1) (ix2 (i 0) l)) * (show EReal from m' (c.tc.loc NormPreReferenceIdeal.main_arg1) (ix2 (i 0) l))) :=
          Finset.sum_nonneg fun l _ => sq_nonneg _
        have e := fun t u (T U : Fin 1024 → EReal) => back q t u T U
        unfold scale at e
        pointwise [gradient, scale]
        clear hr
        simp only [Finset.univ_unique, Finset.sum_singleton]
        exact congrArg (· + _) (e _ _ _ _)
      · funext i
        pointwise [factors, scale]
        exact Fin.sum_fin_congr fun k => mul_comm _ _) (NormPreReferenceIdeal.Value.run m' g')⟩

end Cert.NormPreIdeal

namespace Cert.NormPre3Ideal

open Gen

/-- The two printed programs are one. -/
theorem same {F : FTy → Type} [FloatOps F] : NormPre3.defs (F := F) = defs :=
  congrArg (Pipeline.defs pcfgs) (congrArg Defs.onTc (funext fun p => match p with | 0 => rfl))

/-- The gradient of an array whose rows were divided by their root mean squares, added to a gradient of the same array. -/
def gradient (D E H U : FVec Ideal S2048x1024 .f32) (G : FVec Ideal S1x1024 .f32) (R : FVec Ideal S2048x1024 .f32) : FVec Ideal S2048x1024 .f32 := fun i =>
  scale (∑ l, U (ix2 (i 0) l) * U (ix2 (i 0) l)) * ((D i + E i + H i) * G (ix2 (0 : Fin 1) (i 1)) - U i * scale (∑ l, U (ix2 (i 0) l) * U (ix2 (i 0) l))
    * Ideal.div (∑ k : Fin 1024, (D (ix2 (i 0) k) + E (ix2 (i 0) k) + H (ix2 (i 0) k)) * G (ix2 (0 : Fin 1) k) * (U (ix2 (i 0) k) * scale (∑ l, U (ix2 (i 0) l) * U (ix2 (i 0) l)))) (Ideal.ofBits .f32 0x44800000#32)) + R i

/-- A device's part of the gradient of the factors its columns were multiplied with. -/
def factors (D E H U : FVec Ideal S2048x1024 .f32) : FVec Ideal S1x1024 .f32 := fun i =>
  ∑ x : Fin 2048, (D (ix2 x (i 1)) + E (ix2 x (i 1)) + H (ix2 x (i 1))) * (U (ix2 x (i 1)) * scale (∑ l, U (ix2 x l) * U (ix2 x l)))

theorem index : ∀ t : Fin cfg0.N, win0_0.index t = ![t.val, 0] ∧ win0_1.index t = ![t.val, 0] ∧ win0_2.index t = ![t.val, 0] ∧ win0_3.index t = ![t.val, 0] ∧ win0_4.index t = ![0, 0] ∧ win0_5.index t = ![t.val, 0] ∧ win0_6.index t = ![t.val, 0] ∧ win0_7.index t = ![0, 0] :=
  (by decide +kernel : ∀ t : Fin grid0.N, _)

variable (m : (ℓ : Loc nD τ sig) → Buf (Elt Ideal) ℓ)

theorem outs (c : Dev nD) (t : Fin cfg0.N) : (outsAt0 m c t.val t.isLt).1 = k0_pay5 (iblk m c 0 t) (iblk m c 1 t) (iblk m c 2 t) (iblk m c 3 t) (iblk m c 4 t) (iblk m c 5 t) := by
  by_cases h : t.val % 8 = 0
  · rw [outsAt0_A m c t h]
    frame_out
  · rw [outsAt0_B m c t h]
    frame_out

theorem left_gradient (c : Dev nD) : (dats m 0 c).arrAt 6 cfg0.N = gradient (m (c.tc.loc main_arg0)) (m (c.tc.loc main_arg1)) (m (c.tc.loc main_arg2)) (m (c.tc.loc main_arg3)) (m (c.tc.loc main_arg4)) (m (c.tc.loc main_arg5)) := by
  refine (dats m 0 c).arrAt_eq_of_covers 6 _ (by decide +kernel) fun t _ y => ?_
  blk_simp
  rw [after0_6, outs]
  pointwise [k0_pay5, k0_pay4, k0_pay3, k0_pay2, k0_pay1, gradient, scale]
  blk_point [iblk, V, index t]

/-- What one block of rows adds to it. -/
def part (D E H U : FVec Ideal S256x1024 .f32) : FVec Ideal S1x1024 .f32 := fun i =>
  ∑ x : Fin 256, (D (ix2 x (i 1)) + E (ix2 x (i 1)) + H (ix2 x (i 1))) * (U (ix2 x (i 1)) * scale (∑ l, U (ix2 x l) * U (ix2 x l)))

theorem starts (j : S1x1024.Idx) : (k0_pay6 (F := Ideal) j : EReal) = 0 := by
  pointwise [k0_pay6]

theorem adds (D E H U : FVec Ideal S256x1024 .f32) (acc : FVec Ideal S1x1024 .f32) (j : S1x1024.Idx) :
    (k0_pay1 (F := Ideal) (k0_pay2 D E H) (k0_pay4 U) acc j : EReal) = acc j + part D E H U j := by
  pointwise [k0_pay5, k0_pay4, k0_pay3, k0_pay2, k0_pay1, part, scale]

theorem total (c : Dev nD) (t : Fin cfg0.N) (h : t.val % 8 = 7) (j : S1x1024.Idx) : (outsAt0 m c t.val t.isLt).2 j = factors (m (c.tc.loc main_arg0)) (m (c.tc.loc main_arg1)) (m (c.tc.loc main_arg2)) (m (c.tc.loc main_arg3)) j := by
  rw [Pipeline.eq_sum_fin_of_reset_step_apply_of_flush (fun n h => (outsAt0 m c n h).2) 8 (fun _ => 0)
    (fun t j => part (iblk m c 0 t) (iblk m c 1 t) (iblk m c 2 t) (iblk m c 3 t) j)
    (fun t h j => by rw [outsAt0_A m c t h]; frame_out; exact (adds _ _ _ _ _ j).trans (congrArg (· + _) (starts j)))
    (fun t h j => by rw [outsAt0_B m c t h]; frame_out; exact adds _ _ _ _ _ j) t h _, zero_add]
  unfold factors part scale
  refine Fin.sum_mul_add_congr fun s k hl => ?_
  blk_point [iblk, V, index ⟨_, Pipeline.run_point_lt_of_flush t h s⟩]

theorem left_factors (c : Dev nD) : (dats m 0 c).arrAt 7 cfg0.N = factors (m (c.tc.loc main_arg0)) (m (c.tc.loc main_arg1)) (m (c.tc.loc main_arg2)) (m (c.tc.loc main_arg3)) := by
  refine (dats m 0 c).arrAt_eq_of_covers 7 _ (by decide +kernel) fun t hf y => ?_
  have h := (flush0_7 t).mp hf
  blk_simp
  rw [after0_7]
  refine (total m c t h y).trans (congrArg (factors _ _ _ _ ) ?_)
  blk_ext [index t]

theorem frame_bits : Cert.quiescent_NormPre3 := fun m g _ => by
  have h := Gen.frame (F := Bits) m g
  rw [← same] at h
  exact h

theorem frame_ideal : Cert.quiescent_NormPre3Ideal := fun m g _ => Gen.frame m g

theorem frame_reference : Cert.quiescent_NormPre3ReferenceIdeal := fun m g _ =>
  (θ_run _ _ _).mono (fun r h => ⟨fun c => (h c).2.2, sem_eq_zero_of_no_sems rfl _⟩) (NormPre3ReferenceIdeal.Value.run m g)

theorem algebraic : Cert.algebraic_NormPre3Ideal_NormPre3ReferenceIdeal := fun m g m' g' _ h =>
  ⟨fun c => gradient (m (c.tc.loc main_arg0)) (m (c.tc.loc main_arg1)) (m (c.tc.loc main_arg2)) (m (c.tc.loc main_arg3)) (m (c.tc.loc main_arg4)) (m (c.tc.loc main_arg5)),
    fun c => factors (m (c.tc.loc main_arg0)) (m (c.tc.loc main_arg1)) (m (c.tc.loc main_arg2)) (m (c.tc.loc main_arg3)),
    (θ_run _ _ _).mono (fun r hr c => ⟨(hr c).1.trans (left_gradient m c), (hr c).2.1.trans (left_factors m c), (hr c).2.2⟩) (Value.run_blocks m g),
    (θ_run _ _ _).mono (fun r hr c => by
      obtain ⟨h0, h1, h2, h3, h4, h5⟩ := h c
      refine ⟨((hr c).1.trans ?_).trans (congr (congr (congr (congr (congrArg₂ gradient h0 h1) h2) h3) h4) h5), ((hr c).2.1.trans ?_).trans (congr (congr (congrArg₂ factors h0 h1) h2) h3), (hr c).2.2⟩
      · funext i
        have q : (0 : EReal) ≤ ∑ l : Fin 1024, ((show EReal from m' (c.tc.loc NormPre3ReferenceIdeal.main_arg3) (ix2 (i 0) l)) * (show EReal from m' (c.tc.loc NormPre3ReferenceIdeal.main_arg3) (ix2 (i 0) l))) :=
          Finset.sum_nonneg fun l _ => sq_nonneg _
        have e := fun t u (T U : Fin 1024 → EReal) => back q t u T U
        unfold scale at e
        pointwise [NormPre3ReferenceIdeal.Value.res_main_v36, gradient, scale]
        clear hr
        simp only [Finset.univ_unique, Finset.sum_singleton]
        exact congrArg (· + _) (e _ _ _ _)
      · funext i
        pointwise [factors, scale]
        exact Fin.sum_fin_congr fun k => mul_comm _ _) (NormPre3ReferenceIdeal.Value.run m' g')⟩

end Cert.NormPre3Ideal

end
-- ==== Proof.Scaled.lean ====
/-
  Rows over their root mean squares, and the sum of an array with such rows, over blocks of rows.
-/
module

public import proofs.«01_k».proof.Defs
public import proofs.«01_k».proof.Proof.Reals
public import proofs.«01_k».proof.Proof.Gen.Rms
public import proofs.«01_k».proof.Proof.Gen.RmsIdeal.Value
public import proofs.«01_k».proof.Proof.Gen.RmsReferenceIdeal.Run
public import proofs.«01_k».proof.Proof.Gen.Resid
public import proofs.«01_k».proof.Proof.Gen.ResidIdeal.Value
public import proofs.«01_k».proof.Proof.Gen.ResidReferenceIdeal.Run
public import Idealize.ShloMosaic.Lib.Pipeline.ValueKit
public import Idealize.ShloMosaic.Lib.Pointwise

@[expose] public section

set_option maxRecDepth 16384

noncomputable section

open Idealize Idealize.ShloMosaic Idealize.SL Idealize.SL.Sem TcCoe Cert.Reals

namespace Cert.RmsIdeal

open Gen

/-- The two printed programs are one. -/
theorem same {F : FTy → Type} [FloatOps F] : Rms.defs (F := F) = defs :=
  congrArg (Pipeline.defs pcfgs) (congrArg Defs.onTc (funext fun p => match p with | 0 => rfl))

/-- Rows over their root mean squares, times the factors of their columns. -/
def normed (X : FVec Ideal S2048x1024 .f32) (G : FVec Ideal S1x1024 .f32) : FVec Ideal S2048x1024 .bf16 := fun i =>
  X i * scale (∑ l, X (ix2 (i 0) l) * X (ix2 (i 0) l)) * G (ix2 (0 : Fin 1) (i 1))

theorem index : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ)

theorem left_normed (c : Dev nD) : (dats m 0 c).arrAt 2 cfg0.N = normed (m (c.tc.loc main_arg0)) (m (c.tc.loc main_arg1)) := by
  refine (dats m 0 c).arrAt_eq_of_covers 2 _ (by decide +kernel) fun t _ y => ?_
  blk_simp
  rw [after0_2]
  frame_out
  pointwise [k0_pay1, normed, scale]
  blk_point [iblk, V, index t]

theorem frame_bits : Cert.quiescent_Rms := fun m g _ => by
  have h := Gen.frame (F := Bits) m g
  rw [← same] at h
  exact h

theorem frame_ideal : Cert.quiescent_RmsIdeal := fun m g _ => Gen.frame m g

theorem frame_reference : Cert.quiescent_RmsReferenceIdeal := fun m g _ =>
  (θ_run _ _ _).mono (fun r h => ⟨fun c => (h c).2, sem_eq_zero_of_no_sems rfl _⟩) (RmsReferenceIdeal.Value.run m g)

theorem algebraic : Cert.algebraic_RmsIdeal_RmsReferenceIdeal := fun m g m' g' _ h =>
  ⟨fun c => normed (m (c.tc.loc main_arg0)) (m (c.tc.loc main_arg1)),
    (θ_run _ _ _).mono (fun r hr c => ⟨(hr c).1.trans (left_normed m c), (hr c).2⟩) (Value.run_blocks m g),
    (θ_run _ _ _).mono (fun r hr c => by
      obtain ⟨h0, h1⟩ := h c
      refine ⟨((hr c).1.trans ?_).trans (congrArg₂ normed h0 h1), (hr c).2⟩
      funext i
      pointwise! [normed, scale]) (RmsReferenceIdeal.Value.run m' g')⟩

end Cert.RmsIdeal

namespace Cert.ResidIdeal

open Gen

/-- The two printed programs are one. -/
theorem same {F : FTy → Type} [FloatOps F] : Resid.defs (F := F) = defs :=
  congrArg (Pipeline.defs pcfgs) (congrArg Defs.onTc (funext fun p => match p with | 0 => rfl))

/-- An array and the rows of another over their root mean squares, times the factors of their columns. -/
def total (X : FVec Ideal S2048x1024 .f32) (U : FVec Ideal S2048x1024 .f32) (G : FVec Ideal S1x1024 .f32) : FVec Ideal S2048x1024 .f32 := fun i =>
  X i + U i * scale (∑ l, U (ix2 (i 0) l) * U (ix2 (i 0) l)) * G (ix2 (0 : Fin 1) (i 1))

theorem index : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

variable (m : (ℓ : Loc nD τ sig) → Buf (Elt Ideal) ℓ)

theorem left_total (c : Dev nD) : (dats m 0 c).arrAt 3 cfg0.N = total (m (c.tc.loc main_arg0)) (m (c.tc.loc main_arg1)) (m (c.tc.loc main_arg2)) := by
  refine (dats m 0 c).arrAt_eq_of_covers 3 _ (by decide +kernel) fun t _ y => ?_
  blk_simp
  rw [after0_3]
  frame_out
  pointwise [k0_pay1, total, scale]
  blk_point [iblk, V, index t]

theorem frame_bits : Cert.quiescent_Resid := fun m g _ => by
  have h := Gen.frame (F := Bits) m g
  rw [← same] at h
  exact h

theorem frame_ideal : Cert.quiescent_ResidIdeal := fun m g _ => Gen.frame m g

theorem frame_reference : Cert.quiescent_ResidReferenceIdeal := fun m g _ =>
  (θ_run _ _ _).mono (fun r h => ⟨fun c => (h c).2, sem_eq_zero_of_no_sems rfl _⟩) (ResidReferenceIdeal.Value.run m g)

theorem algebraic : Cert.algebraic_ResidIdeal_ResidReferenceIdeal := fun m g m' g' _ h =>
  ⟨fun c => total (m (c.tc.loc main_arg0)) (m (c.tc.loc main_arg1)) (m (c.tc.loc main_arg2)),
    (θ_run _ _ _).mono (fun r hr c => ⟨(hr c).1.trans (left_total m c), (hr c).2⟩) (Value.run_blocks m g),
    (θ_run _ _ _).mono (fun r hr c => by
      obtain ⟨h0, h1, h2⟩ := h c
      refine ⟨((hr c).1.trans ?_).trans (congr (congrArg₂ total h0 h1) h2), (hr c).2⟩
      funext i
      pointwise! [total, scale]) (ResidReferenceIdeal.Value.run m' g')⟩

end Cert.ResidIdeal

end
-- ==== Proof.Gated.lean ====
/-
  The gated activation and its gradient, over blocks of their arrays.
-/
module

public import proofs.«01_k».proof.Defs
public import proofs.«01_k».proof.Proof.Gen.Swiglu
public import proofs.«01_k».proof.Proof.Gen.SwigluIdeal.Value
public import proofs.«01_k».proof.Proof.Gen.SwigluReferenceIdeal.Run
public import proofs.«01_k».proof.Proof.Gen.SwigluBwd
public import proofs.«01_k».proof.Proof.Gen.SwigluBwdIdeal.Value
public import proofs.«01_k».proof.Proof.Gen.SwigluBwdReferenceIdeal.Run
public import Idealize.ShloMosaic.Lib.Pipeline.ValueKit
public import Idealize.ShloMosaic.Lib.Pointwise

@[expose] public section

set_option maxRecDepth 16384

noncomputable section

open Idealize Idealize.ShloMosaic Idealize.SL Idealize.SL.Sem TcCoe

namespace Cert.SwigluIdeal

open Gen

/-- The two printed programs are one. -/
theorem same {F : FTy → Type} [FloatOps F] : Swiglu.defs (F := F) = defs :=
  congrArg (Pipeline.defs pcfgs) (congrArg Defs.onTc (funext fun p => match p with | 0 => rfl))

/-- The gate times its logistic, times the other array. -/
def gated (A : FVec Ideal S4x2048x704 .bf16) (B : FVec Ideal S4x2048x704 .bf16) : FVec Ideal S4x2048x704 .bf16 := fun i =>
  A i * Ideal.logistic (A i) * B i

theorem index : ∀ t : Fin cfg0.N, win0_0.index t = ![t.val / 4, t.val % 4, 0] ∧ win0_1.index t = ![t.val / 4, t.val % 4, 0] ∧ win0_2.index t = ![t.val / 4, t.val % 4, 0] :=
  (by decide +kernel : ∀ t : Fin grid0.N, _)

variable (m : (ℓ : Loc nD τ sig) → Buf (Elt Ideal) ℓ)

theorem left_gated (c : Dev nD) : (dats m 0 c).arrAt 2 cfg0.N = gated (m (c.tc.loc main_arg0)) (m (c.tc.loc main_arg1)) := by
  refine (dats m 0 c).arrAt_eq_of_covers 2 _ (by decide +kernel) fun t _ y => ?_
  blk_simp
  rw [after0_2]
  frame_out
  pointwise [k0_pay1, gated]
  blk_point [iblk, V, index t]

theorem frame_bits : Cert.quiescent_Swiglu := fun m g _ => by
  have h := Gen.frame (F := Bits) m g
  rw [← same] at h
  exact h

theorem frame_ideal : Cert.quiescent_SwigluIdeal := fun m g _ => Gen.frame m g

theorem frame_reference : Cert.quiescent_SwigluReferenceIdeal := fun m g _ =>
  (θ_run _ _ _).mono (fun r h => ⟨fun c => (h c).2, sem_eq_zero_of_no_sems rfl _⟩) (SwigluReferenceIdeal.Value.run m g)

theorem algebraic : Cert.algebraic_SwigluIdeal_SwigluReferenceIdeal := fun m g m' g' _ h =>
  ⟨fun c => gated (m (c.tc.loc main_arg0)) (m (c.tc.loc main_arg1)),
    (θ_run _ _ _).mono (fun r hr c => ⟨(hr c).1.trans (left_gated m c), (hr c).2⟩) (Value.run_blocks m g),
    (θ_run _ _ _).mono (fun r hr c => by
      obtain ⟨h0, h1⟩ := h c
      refine ⟨((hr c).1.trans ?_).trans (congrArg₂ gated h0 h1), (hr c).2⟩
      funext i
      pointwise! [gated]) (SwigluReferenceIdeal.Value.run m' g')⟩

end Cert.SwigluIdeal

namespace Cert.SwigluBwdIdeal

open Gen

/-- The two printed programs are one. -/
theorem same {F : FTy → Type} [FloatOps F] : SwigluBwd.defs (F := F) = defs :=
  congrArg (Pipeline.defs pcfgs) (congrArg Defs.onTc (funext fun p => match p with | 0 => rfl))

/-- The gradient of the gate. -/
def gate (D : FVec Ideal S4x2048x704 .bf16) (A : FVec Ideal S4x2048x704 .bf16) (B : FVec Ideal S4x2048x704 .bf16) : FVec Ideal S4x2048x704 .bf16 := fun i =>
  D i * B i * Ideal.logistic (A i) * (1 + A i * (1 - Ideal.logistic (A i)))

/-- The gradient of the other array. -/
def other (D : FVec Ideal S4x2048x704 .bf16) (A : FVec Ideal S4x2048x704 .bf16) : FVec Ideal S4x2048x704 .bf16 := fun i =>
  D i * A i * Ideal.logistic (A i)

theorem index : ∀ t : Fin cfg0.N, win0_0.index t = ![t.val / 4, t.val % 4, 0] ∧ win0_1.index t = ![t.val / 4, t.val % 4, 0] ∧ win0_2.index t = ![t.val / 4, t.val % 4, 0] ∧ win0_3.index t = ![t.val / 4, t.val % 4, 0] ∧ win0_4.index t = ![t.val / 4, t.val % 4, 0] :=
  (by decide +kernel : ∀ t : Fin grid0.N, _)

variable (m : (ℓ : Loc nD τ sig) → Buf (Elt Ideal) ℓ)

theorem left_gate (c : Dev nD) : (dats m 0 c).arrAt 3 cfg0.N = gate (m (c.tc.loc main_arg0)) (m (c.tc.loc main_arg1)) (m (c.tc.loc main_arg2)) := by
  refine (dats m 0 c).arrAt_eq_of_covers 3 _ (by decide +kernel) fun t _ y => ?_
  blk_simp
  rw [after0_3]
  frame_out
  pointwise [k0_pay5, k0_pay4, k0_pay3, k0_pay2, k0_pay1, gate]
  blk_point [iblk, V, index t]

theorem left_other (c : Dev nD) : (dats m 0 c).arrAt 4 cfg0.N = other (m (c.tc.loc main_arg0)) (m (c.tc.loc main_arg1)) := by
  refine (dats m 0 c).arrAt_eq_of_covers 4 _ (by decide +kernel) fun t _ y => ?_
  blk_simp
  rw [after0_4]
  frame_out
  pointwise [k0_pay5, k0_pay4, k0_pay3, k0_pay2, k0_pay1, other]
  blk_point [iblk, V, index t]

theorem frame_bits : Cert.quiescent_SwigluBwd := fun m g _ => by
  have h := Gen.frame (F := Bits) m g
  rw [← same] at h
  exact h

theorem frame_ideal : Cert.quiescent_SwigluBwdIdeal := fun m g _ => Gen.frame m g

theorem frame_reference : Cert.quiescent_SwigluBwdReferenceIdeal := fun m g _ =>
  (θ_run _ _ _).mono (fun r h => ⟨fun c => (h c).2.2, sem_eq_zero_of_no_sems rfl _⟩) (SwigluBwdReferenceIdeal.Value.run m g)

theorem algebraic : Cert.algebraic_SwigluBwdIdeal_SwigluBwdReferenceIdeal := fun m g m' g' _ h =>
  ⟨fun c => gate (m (c.tc.loc main_arg0)) (m (c.tc.loc main_arg1)) (m (c.tc.loc main_arg2)), fun c => other (m (c.tc.loc main_arg0)) (m (c.tc.loc main_arg1)),
    (θ_run _ _ _).mono (fun r hr c => ⟨(hr c).1.trans (left_gate m c), (hr c).2.1.trans (left_other m c), (hr c).2.2⟩) (Value.run_blocks m g),
    (θ_run _ _ _).mono (fun r hr c => by
      obtain ⟨h0, h1, h2⟩ := h c
      refine ⟨((hr c).1.trans ?_).trans (congr (congrArg₂ gate h0 h1) h2), ((hr c).2.1.trans ?_).trans (congrArg₂ other h0 h1), (hr c).2.2⟩
      · funext i
        pointwise [gate]
        exact (mul_assoc _ _ _).symm
      · funext i
        pointwise [other]
        exact (mul_assoc _ _ _).symm) (SwigluBwdReferenceIdeal.Value.run m' g')⟩

end Cert.SwigluBwdIdeal

end
-- ==== Proof.Merge.lean ====
/-
  The merge of the groups of the dilated attention.
-/
module

public import proofs.«01_k».proof.Defs
public import proofs.«01_k».proof.Proof.Gen.DilMerge
public import proofs.«01_k».proof.Proof.Gen.DilMergeIdeal.Value
public import proofs.«01_k».proof.Proof.Gen.DilMergeReferenceIdeal.Run
public import Idealize.ShloMosaic.Lib.Pipeline.ValueKit
public import Idealize.ShloMosaic.Lib.Pointwise

@[expose] public section

set_option maxRecDepth 16384

noncomputable section

open Idealize Idealize.ShloMosaic Idealize.SL Idealize.SL.Sem TcCoe

namespace Cert.DilMergeIdeal

open Gen

/-- The two printed programs are one. -/
theorem same {F : FTy → Type} [FloatOps F] : DilMerge.defs (F := F) = defs :=
  congrArg (Pipeline.defs pcfgs) (congrArg Defs.onTc (funext fun p => match p with | 0 => rfl))

/-- The largest of the three log-sums. -/
def top (L : FVec Ideal S3x2048x1024 .f32) : FVec Ideal S2048x1024 .f32 := fun i =>
  Finset.univ.fold max (Ideal.ofBits .f32 0xFF800000#32) fun e : Fin 3 => L (ix3 e (i 0) (i 1))

/-- The weight of each group, before it is divided by their sum. -/
def weight (L : FVec Ideal S3x2048x1024 .f32) : FVec Ideal S3x2048x1024 .f32 := fun i =>
  Ideal.exp (L (ix3 (i 0) (i 1) (i 2)) - top L (ix2 (i 1) (i 2)))

/-- Three arrays, weighted and divided by the sum of the weights. -/
def merged (O L : FVec Ideal S3x2048x1024 .f32) : FVec Ideal S2048x1024 .bf16 := fun i =>
  Ideal.div (∑ k : Fin 3, weight L (ix3 k (i 0) (i 1)) * O (ix3 k (i 0) (i 1))) (∑ k : Fin 3, weight L (ix3 k (i 0) (i 1)))

/-- The logarithm of the sum of the exponentials. -/
def logsum (L : FVec Ideal S3x2048x1024 .f32) : FVec Ideal S2048x1024 .f32 := fun i =>
  top L (ix2 (i 0) (i 1)) + Ideal.log (∑ k : Fin 3, weight L (ix3 k (i 0) (i 1)))

theorem index : ∀ t : Fin cfg0.N, win0_0.index t = ![0, t.val, 0] ∧ win0_1.index t = ![0, t.val, 0] ∧ win0_2.index t = ![t.val, 0] ∧ win0_3.index t = ![t.val, 0] :=
  (by decide +kernel : ∀ t : Fin grid0.N, _)

variable (m : (ℓ : Loc nD τ sig) → Buf (Elt Ideal) ℓ)

theorem left_merged (c : Dev nD) : (dats m 0 c).arrAt 2 cfg0.N = merged (m (c.tc.loc main_arg0)) (m (c.tc.loc main_arg1)) := by
  refine (dats m 0 c).arrAt_eq_of_covers 2 _ (by decide +kernel) fun t _ y => ?_
  blk_simp
  rw [after0_2]
  frame_out
  pointwise [k0_pay5, k0_pay4, k0_pay3, k0_pay2, k0_pay1, merged, weight, top]
  blk_point [iblk, V, index t]

theorem left_logsum (c : Dev nD) : (dats m 0 c).arrAt 3 cfg0.N = logsum (m (c.tc.loc main_arg1)) := by
  refine (dats m 0 c).arrAt_eq_of_covers 3 _ (by decide +kernel) fun t _ y => ?_
  blk_simp
  rw [after0_3]
  frame_out
  pointwise [k0_pay5, k0_pay4, k0_pay3, k0_pay2, k0_pay1, logsum, weight, top]
  blk_point [iblk, V, index t]

theorem top_eq (L : FVec Ideal DilMergeReferenceIdeal.S3x2048x1024 .f32) : Host.reduce FloatOps.maximumf L (constant DilMergeReferenceIdeal.S_ .f32 0xFF800000#32) DilMergeReferenceIdeal.Gen.reducesTo_S3x2048x1024_S2048x1024_d0 DilMergeReferenceIdeal.Gen.h_S_ = top L := by
  funext i
  exact (Host.reduce_eq_fold ..).trans (Shape.ReducesTo.fold_fiber_r3_a0 DilMergeReferenceIdeal.Gen.reducesTo_S3x2048x1024_S2048x1024_d0 i max _ L)

theorem weight_eq (L : FVec Ideal DilMergeReferenceIdeal.S3x2048x1024 .f32) : Host.exp (subf L (broadcastInDim DilMergeReferenceIdeal.S3x2048x1024 ![0, 1, 2] DilMergeReferenceIdeal.Gen.bcast_S1x2048x1024_S3x2048x1024_0_1_2 (broadcastInDim DilMergeReferenceIdeal.S1x2048x1024 ![1, 2] DilMergeReferenceIdeal.Gen.bcast_S2048x1024_S1x2048x1024_1_2 (top L)))) = weight L := by
  funext i
  pointwise! [weight]

theorem sum_eq (W : FVec Ideal DilMergeReferenceIdeal.S3x2048x1024 .f32) (i : DilMergeReferenceIdeal.S2048x1024.Idx) : Host.reduceAdd (W) (constant DilMergeReferenceIdeal.S_ .f32 0x00000000#32) DilMergeReferenceIdeal.Gen.reducesTo_S3x2048x1024_S2048x1024_d0 DilMergeReferenceIdeal.Gen.h_S_ i = ∑ k : Fin 3, W (ix3 k (i 0) (i 1)) := by
  pointwise!

theorem weighted_eq (W O : FVec Ideal DilMergeReferenceIdeal.S3x2048x1024 .f32) (i : DilMergeReferenceIdeal.S2048x1024.Idx) : Host.reduceAdd (mulf W O) (constant DilMergeReferenceIdeal.S_ .f32 0x00000000#32) DilMergeReferenceIdeal.Gen.reducesTo_S3x2048x1024_S2048x1024_d0 DilMergeReferenceIdeal.Gen.h_S_ i = ∑ k : Fin 3, W (ix3 k (i 0) (i 1)) * O (ix3 k (i 0) (i 1)) := by
  pointwise!

theorem merged_eq (O : FVec Ideal DilMergeReferenceIdeal.S3x2048x1024 .f32) (A B : FVec Ideal DilMergeReferenceIdeal.S2048x1024 .f32) (L : FVec Ideal S3x2048x1024 .f32)
    (hA : ∀ i, A i = ∑ k : Fin 3, weight L (ix3 k (i 0) (i 1)) * O (ix3 k (i 0) (i 1))) (hB : ∀ i, B i = ∑ k : Fin 3, weight L (ix3 k (i 0) (i 1))) :
    truncf .bf16 (Host.divf A B) DilMergeReferenceIdeal.Gen.bitsLt_bf16_f32 = merged O L := by
  funext i
  unfold merged
  rw [← hA i, ← hB i]
  pointwise!

theorem logsum_eq (A B : FVec Ideal DilMergeReferenceIdeal.S2048x1024 .f32) (L : FVec Ideal S3x2048x1024 .f32)
    (hA : A = top L) (hB : ∀ i, B i = ∑ k : Fin 3, weight L (ix3 k (i 0) (i 1))) : addf A (Host.log B) = logsum L := by
  funext i
  unfold logsum
  rw [← hB i, ← hA]
  pointwise!

theorem frame_bits : Cert.quiescent_DilMerge := fun m g _ => by
  have h := Gen.frame (F := Bits) m g
  rw [← same] at h
  exact h

theorem frame_ideal : Cert.quiescent_DilMergeIdeal := fun m g _ => Gen.frame m g

theorem frame_reference : Cert.quiescent_DilMergeReferenceIdeal := fun m g _ =>
  (θ_run _ _ _).mono (fun r h => ⟨fun c => (h c).2.2, sem_eq_zero_of_no_sems rfl _⟩) (DilMergeReferenceIdeal.Value.run m g)

theorem algebraic : Cert.algebraic_DilMergeIdeal_DilMergeReferenceIdeal := fun m g m' g' _ h =>
  ⟨fun c => merged (m (c.tc.loc main_arg0)) (m (c.tc.loc main_arg1)), fun c => logsum (m (c.tc.loc main_arg1)),
    (θ_run _ _ _).mono (fun r hr c => ⟨(hr c).1.trans (left_merged m c), (hr c).2.1.trans (left_logsum m c), (hr c).2.2⟩) (Value.run_blocks m g),
    (θ_run _ _ _).mono (fun r hr c => by
      obtain ⟨h0, h1⟩ := h c
      refine ⟨((hr c).1.trans ?_).trans (congrArg₂ merged h0 h1), ((hr c).2.1.trans ?_).trans (congrArg logsum h1), (hr c).2.2⟩
      · rw [top_eq, weight_eq]
        exact merged_eq _ _ _ _ (weighted_eq _ _) (sum_eq _)
      · rw [top_eq, weight_eq]
        exact logsum_eq _ _ _ rfl (sum_eq _)) (DilMergeReferenceIdeal.Value.run m' g')⟩

end Cert.DilMergeIdeal

end
-- ==== Proof.Heads.lean ====
/-
  The products of two arrays summed over the columns of each head.
-/
module

public import proofs.«01_k».proof.Defs
public import proofs.«01_k».proof.Proof.Gen.Rowdot
public import proofs.«01_k».proof.Proof.Gen.RowdotIdeal.Frame
public import proofs.«01_k».proof.Proof.Gen.RowdotReferenceIdeal.Run
public import Idealize.ShloMosaic.Lib.Pipeline.ValueKit
public import Idealize.ShloMosaic.Lib.Pointwise

@[expose] public section

set_option maxRecDepth 16384

noncomputable section

open Idealize Idealize.ShloMosaic Idealize.SL Idealize.SL.Sem TcCoe

namespace Cert.RowdotIdeal

open Gen

/-- The products summed over the 64 columns of the head that a column belongs to. -/
def rowdot (A B : FVec Ideal S2048x1024 .bf16) : FVec Ideal S2048x1024 .f32 := fun i =>
  ∑ l : Fin 64, A (ix2 (i 0) ⟨(i 1).val / 64 * 64 + l, by have : (i 1).val < 1024 := (i 1).isLt; show _ < 1024; omega⟩) * B (ix2 (i 0) ⟨(i 1).val / 64 * 64 + l, by have : (i 1).val < 1024 := (i 1).isLt; show _ < 1024; omega⟩)

variable (m : (ℓ : Loc nD τ sig) → Buf (Elt Ideal) ℓ)

theorem by_condition {α : Type} {p : Prop} [Decidable p] {a : p → α} {b : ¬p → α} {r : α} (ha : ∀ h, a h = r) (hb : ∀ h, b h = r) :
    dite p a b = r := by
  split
  · exact ha _
  · exact hb _

theorem piece (v0 v2 : FVec Ideal S256x1024 .bf16) (y : S256x1024.Idx) :
    k0_pay1 (F := Ideal) (k0_pay2 v0 v2) (k0_pay3 v0 v2) (k0_pay4 v0 v2) (k0_pay5 v0 v2) (k0_pay6 v0 v2) (k0_pay7 v0 v2) (k0_pay8 v0 v2) (k0_pay9 v0 v2) (k0_pay10 v0 v2) (k0_pay11 v0 v2) y = ∑ l : Fin 64, v0 (ix2 (y 0) ⟨(y 1).val / 64 * 64 + l, by have : (y 1).val < 1024 := (y 1).isLt; show _ < 1024; omega⟩) * v2 (ix2 (y 0) ⟨(y 1).val / 64 * 64 + l, by have : (y 1).val < 1024 := (y 1).isLt; show _ < 1024; omega⟩) := by
  pointwise [k0_pay11, k0_pay10, k0_pay9, k0_pay8, k0_pay7, k0_pay6, k0_pay5, k0_pay4, k0_pay3, k0_pay2, k0_pay1]
  have hy : (y 1).val < 1024 := (y 1).isLt
  repeat' refine by_condition (fun h => ?_) (fun h => ?_)
  all_goals
    refine Finset.sum_congr rfl fun l _ => congrArg₂ (· * ·) (congrArg v0 (congrArg (ix2 (y 0)) (Fin.ext ?_))) (congrArg v2 (congrArg (ix2 (y 0)) (Fin.ext ?_))) <;>
    (dsimp only; omega)

theorem index : ∀ t : Fin cfg0.N, win0_0.index t = ![t.val, 0] ∧ win0_1.index t = ![t.val, 0] ∧ win0_2.index t = ![t.val, 0] :=
  (by decide +kernel : ∀ t : Fin grid0.N, _)

variable (m : (ℓ : Loc nD τ sig) → Buf (Elt Ideal) ℓ)

theorem left (c : Dev nD) : (dats m 0 c).arrAt 2 cfg0.N = rowdot (m (c.tc.loc main_arg0)) (m (c.tc.loc main_arg1)) := by
  refine (dats m 0 c).arrAt_eq_of_covers 2 _ (by decide +kernel) fun t _ y => ?_
  blk_simp
  rw [after0_2]
  frame_out
  refine (piece _ _ y).trans ?_
  unfold rowdot
  blk_point [iblk, V, index t]

theorem reference_rowdot (A B : FVec Ideal RowdotReferenceIdeal.S2048x1024 .bf16) : shapeCast RowdotReferenceIdeal.S2048x1024 (broadcastInDim RowdotReferenceIdeal.S2048x16x64 ![0, 1] RowdotReferenceIdeal.Gen.bcast_S2048x16_S2048x16x64_0_1 (Host.dotGeneral RowdotReferenceIdeal.dot_S2048x16x64_S2048x16x64_S2048x16_2_2_n_n_01_01 none (shapeCast RowdotReferenceIdeal.S2048x16x64 (extf .f32 A RowdotReferenceIdeal.Gen.bitsLt_bf16_f32) RowdotReferenceIdeal.Gen.shapeCasts_S2048x1024_S2048x16x64) (shapeCast RowdotReferenceIdeal.S2048x16x64 (extf .f32 B RowdotReferenceIdeal.Gen.bitsLt_bf16_f32) RowdotReferenceIdeal.Gen.shapeCasts_S2048x1024_S2048x16x64))) RowdotReferenceIdeal.Gen.shapeCasts_S2048x16x64_S2048x1024 = rowdot A B := by
  funext i
  pointwise [rowdot]

/-- The two printed programs are one. -/
theorem same {F : FTy → Type} [FloatOps F] : Rowdot.defs (F := F) = defs :=
  congrArg (Pipeline.defs pcfgs) (congrArg Defs.onTc (funext fun p => match p with | 0 => rfl))

theorem frame_bits : Cert.quiescent_Rowdot := fun m g _ => by
  have h := Gen.frame (F := Bits) m g
  rw [← same] at h
  exact h

theorem frame_ideal : Cert.quiescent_RowdotIdeal := fun m g _ => Gen.frame m g

theorem frame_reference : Cert.quiescent_RowdotReferenceIdeal := fun m g _ =>
  (θ_run _ _ _).mono (fun r h => ⟨fun c => (h c).2, sem_eq_zero_of_no_sems rfl _⟩) (RowdotReferenceIdeal.Value.run m g)

theorem algebraic : Cert.algebraic_RowdotIdeal_RowdotReferenceIdeal := fun m g m' g' _ h =>
  ⟨fun c => rowdot (m (c.tc.loc main_arg0)) (m (c.tc.loc main_arg1)),
    (θ_run _ _ _).mono (fun r hr c =>
      ⟨((hr c).1 2).trans (left m c), ((hr c).1 0).trans (((dats m 0 c).arrAt_in 0 rfl _).trans ((A_eq m c 0).trans (V_main_arg0 m c))),
        ((hr c).1 1).trans (((dats m 0 c).arrAt_in 1 rfl _).trans ((A_eq m c 1).trans (V_main_arg1 m c)))⟩) (run_main m g),
    (θ_run _ _ _).mono (fun r hr c => by
      obtain ⟨h0, h1⟩ := h c
      exact ⟨((hr c).1.trans (reference_rowdot _ _)).trans (congrArg₂ rowdot h0 h1), (hr c).2⟩) (RowdotReferenceIdeal.Value.run m' g')⟩

end Cert.RowdotIdeal

end
-- ==== Proof.Bias.lean ====
/-
  The gradient of the position bias, as the product of the gradients of the scores with the matrix of the diagonals.
-/
module

public import proofs.«01_k».proof.Defs
public import proofs.«01_k».proof.Proof.Gen.RpbGrad
public import proofs.«01_k».proof.Proof.Gen.RpbGradIdeal.Value
public import proofs.«01_k».proof.Proof.Gen.RpbGradReferenceIdeal.Run
public import Idealize.ShloMosaic.Lib.Pipeline.ValueKit
public import Idealize.ShloMosaic.Lib.Pointwise

@[expose] public section

set_option maxRecDepth 16384

noncomputable section

open Idealize Idealize.ShloMosaic Idealize.SL Idealize.SL.Sem TcCoe

namespace Cert.RpbGradIdeal

open Gen

/-- The two printed programs are one. -/
theorem same {F : FTy → Type} [FloatOps F] : RpbGrad.defs (F := F) = defs :=
  congrArg (Pipeline.defs pcfgs) (congrArg Defs.onTc (funext fun p => match p with | 0 => rfl))

/-- The product of the two arrays. -/
def product (Z : FVec Ideal S240x4096 .f32) (E : FVec Ideal S4096x128 .f32) : FVec Ideal S240x128 .f32 := fun i =>
  ∑ k : Fin 4096, Z (ix2 (i 0) k) * E (ix2 k (i 1))

theorem index : ∀ t : Fin cfg0.N, win0_0.index t = ![0, 0] ∧ win0_1.index t = ![0, 0] ∧ win0_2.index t = ![0, 0] :=
  (by decide +kernel : ∀ t : Fin grid0.N, _)

variable (m : (ℓ : Loc nD τ sig) → Buf (Elt Ideal) ℓ)

theorem left_product (c : Dev nD) : (dats m 0 c).arrAt 2 cfg0.N = product (m (c.tc.loc main_arg0)) (m (c.tc.loc main_arg1)) := by
  refine (dats m 0 c).arrAt_eq_of_covers 2 _ (by decide +kernel) fun t _ y => ?_
  blk_simp
  rw [after0_2]
  frame_out
  pointwise [k0_pay1, product]
  blk_point [iblk, V, index t]

theorem frame_bits : Cert.quiescent_RpbGrad := fun m g _ => by
  have h := Gen.frame (F := Bits) m g
  rw [← same] at h
  exact h

theorem frame_ideal : Cert.quiescent_RpbGradIdeal := fun m g _ => Gen.frame m g

theorem frame_reference : Cert.quiescent_RpbGradReferenceIdeal := fun m g _ =>
  (θ_run _ _ _).mono (fun r h => ⟨fun c => (h c).2, sem_eq_zero_of_no_sems rfl _⟩) (RpbGradReferenceIdeal.Value.run m g)

theorem algebraic : Cert.algebraic_RpbGradIdeal_RpbGradReferenceIdeal := fun m g m' g' _ h =>
  ⟨fun c => product (m (c.tc.loc main_arg0)) (m (c.tc.loc main_arg1)),
    (θ_run _ _ _).mono (fun r hr c => ⟨(hr c).1.trans (left_product m c), (hr c).2⟩) (Value.run_blocks m g),
    (θ_run _ _ _).mono (fun r hr c => by
      obtain ⟨h0, h1⟩ := h c
      refine ⟨((hr c).1.trans ?_).trans (congrArg₂ product h0 h1), (hr c).2⟩
      funext i
      pointwise! [product]) (RpbGradReferenceIdeal.Value.run m' g')⟩

end Cert.RpbGradIdeal

end
-- ==== Proof.Attention.lean ====
/-
  The neighbourhood attention.
-/
module

public import proofs.«01_k».proof.Defs
public import proofs.«01_k».proof.Proof.Gen.NaFwd
public import proofs.«01_k».proof.Proof.Gen.NaFwdIdeal.Value
public import proofs.«01_k».proof.Proof.Gen.NaFwdReferenceIdeal.Run
public import Idealize.ShloMosaic.Lib.Pipeline.ValueKit
public import Idealize.ShloMosaic.Lib.Pointwise

@[expose] public section

set_option maxRecDepth 16384

noncomputable section

open Idealize Idealize.ShloMosaic Idealize.SL Idealize.SL.Sem TcCoe

namespace Cert.NaFwdIdeal

/-- Attention of one query: its scaled row, the keys, the values of one column, and the bias. -/
def attend (q : Fin 64 → EReal) (k : Fin 768 → Fin 64 → EReal) (v b : Fin 768 → EReal) : EReal :=
  Ideal.div (∑ x, Ideal.exp (((∑ l, q l * k x l) + b x) - Finset.univ.fold max (Ideal.ofBits .f32 0xFF800000#32) fun z => (∑ l, q l * k z l) + b z) * v x)
    (∑ x, Ideal.exp (((∑ l, q l * k x l) + b x) - Finset.univ.fold max (Ideal.ofBits .f32 0xFF800000#32) fun z => (∑ l, q l * k z l) + b z))

theorem attend_congr {q q' : Fin 64 → EReal} {k k' : Fin 768 → Fin 64 → EReal} {v v' b b' : Fin 768 → EReal} (hq : ∀ l, q l = q' l) (hk : ∀ x l, k x l = k' x l)
    (hv : ∀ x, v x = v' x) (hb : ∀ x, b x = b' x) : attend q k v b = attend q' k' v' b' := by
  obtain rfl := funext hq
  obtain rfl := funext fun x => funext (hk x)
  obtain rfl := funext hv
  obtain rfl := funext hb
  rfl

/-- The attention of every query to the 768 keys of its block's window, which starts at 256 times the block's number less 256, held between 0 and 1280. The first
    block, the last and those between have each their own tiles of the bias. -/
def natten (A : FVec Ideal S2048x3072 .bf16) (B : FVec Ideal S3x16x256x768 .f32) : FVec Ideal S2048x1024 .bf16 := fun i =>
  have h0 : (i 0).val < 2048 := (i 0).isLt
  have h1 : (i 1).val < 1024 := (i 1).isLt
  attend (fun l => A (ix2 (i 0) ⟨(i 1).val / 64 * 64 + l, by show _ < 3072; omega⟩) * Ideal.ofBits .f32 0x3E000000#32)
    (fun x l => A (ix2 ⟨min (4 * ((i 0).val / 256) - 4) 20 * 64 + x, by show _ < 2048; omega⟩ ⟨1024 + ((i 1).val / 64 * 64 + l), by show _ < 3072; omega⟩))
    (fun x => A (ix2 ⟨min (4 * ((i 0).val / 256) - 4) 20 * 64 + x, by show _ < 2048; omega⟩ ⟨2048 + (i 1).val, by show _ < 3072; omega⟩))
    (fun x => B (ix4 ⟨((i 0).val / 256 + 6) / 7 + (i 0).val / 256 / 7, by show _ < 3; omega⟩ ⟨(i 1).val / 64, by show _ < 16; omega⟩ ⟨(i 0).val % 256, by show _ < 256; omega⟩ x))

theorem by_condition {α : Type} {p : Prop} [Decidable p] {a : p → α} {b : ¬p → α} {r : α} (ha : ∀ h, a h = r) (hb : ∀ h, b h = r) :
    dite p a b = r := by
  split
  · exact ha _
  · exact hb _

end Cert.NaFwdIdeal

namespace Cert.NaFwdReferenceIdeal

open Gen NaFwdIdeal

/-- The scaled queries of every block. -/
def hostQueries (A : FVec Ideal S2048x3072 .bf16) : FVec Ideal S8x256x16x64 .f32 :=
  mulf (shapeCast _ (shapeCast _ (extractStridedSlice S2048x1024 ![0, 0] (extf .f32 A bitsLt_bf16_f32) slices_S2048x3072_S2048x1024_0_0) shapeCasts_S2048x1024_S2048x16x64) shapeCasts_S2048x16x64_S8x256x16x64) (broadcastInDim S8x256x16x64 ![] bcast_S_S8x256x16x64 (constant S_ .f32 0x3E000000#32))

/-- The keys of every block. -/
def hostKeys (A : FVec Ideal S2048x3072 .bf16) : FVec Ideal S2048x16x64 .f32 :=
  shapeCast _ (extractStridedSlice S2048x1024 ![0, 1024] (extf .f32 A bitsLt_bf16_f32) slices_S2048x3072_S2048x1024_0_1024) shapeCasts_S2048x1024_S2048x16x64

/-- The values of every block. -/
def hostValues (A : FVec Ideal S2048x3072 .bf16) : FVec Ideal S2048x16x64 .f32 :=
  shapeCast _ (extractStridedSlice S2048x1024 ![0, 2048] (extf .f32 A bitsLt_bf16_f32) slices_S2048x3072_S2048x1024_0_2048) shapeCasts_S2048x1024_S2048x16x64

/-- The eight windows of an array's rows. -/
def hostWindows (X : FVec Ideal S2048x16x64 .f32) : FVec Ideal S8x768x16x64 .f32 :=
  concatenate S8x768x16x64 0 [⟨S1x768x16x64, broadcastInDim S1x768x16x64 ![1, 2, 3] bcast_S768x16x64_S1x768x16x64_1_2_3 (extractStridedSlice S768x16x64 ![0, 0, 0] X slices_S2048x16x64_S768x16x64_0_0_0)⟩, ⟨S1x768x16x64, broadcastInDim S1x768x16x64 ![1, 2, 3] bcast_S768x16x64_S1x768x16x64_1_2_3 (extractStridedSlice S768x16x64 ![0, 0, 0] X slices_S2048x16x64_S768x16x64_0_0_0)⟩, ⟨S1x768x16x64, broadcastInDim S1x768x16x64 ![1, 2, 3] bcast_S768x16x64_S1x768x16x64_1_2_3 (extractStridedSlice S768x16x64 ![256, 0, 0] X slices_S2048x16x64_S768x16x64_256_0_0)⟩, ⟨S1x768x16x64, broadcastInDim S1x768x16x64 ![1, 2, 3] bcast_S768x16x64_S1x768x16x64_1_2_3 (extractStridedSlice S768x16x64 ![512, 0, 0] X slices_S2048x16x64_S768x16x64_512_0_0)⟩, ⟨S1x768x16x64, broadcastInDim S1x768x16x64 ![1, 2, 3] bcast_S768x16x64_S1x768x16x64_1_2_3 (extractStridedSlice S768x16x64 ![768, 0, 0] X slices_S2048x16x64_S768x16x64_768_0_0)⟩, ⟨S1x768x16x64, broadcastInDim S1x768x16x64 ![1, 2, 3] bcast_S768x16x64_S1x768x16x64_1_2_3 (extractStridedSlice S768x16x64 ![1024, 0, 0] X slices_S2048x16x64_S768x16x64_1024_0_0)⟩, ⟨S1x768x16x64, broadcastInDim S1x768x16x64 ![1, 2, 3] bcast_S768x16x64_S1x768x16x64_1_2_3 (extractStridedSlice S768x16x64 ![1280, 0, 0] X slices_S2048x16x64_S768x16x64_1280_0_0)⟩, ⟨S1x768x16x64, broadcastInDim S1x768x16x64 ![1, 2, 3] bcast_S768x16x64_S1x768x16x64_1_2_3 (extractStridedSlice S768x16x64 ![1280, 0, 0] X slices_S2048x16x64_S768x16x64_1280_0_0)⟩]
    concatenates_S1x768x16x64_S1x768x16x64_S1x768x16x64_S1x768x16x64_S1x768x16x64_S1x768x16x64_S1x768x16x64_S1x768x16x64_S8x768x16x64_d0

/-- The bias of the eight blocks. -/
def hostBias (B : FVec Ideal S3x16x256x768 .f32) : FVec Ideal S8x16x256x768 .f32 :=
  concatenate S8x16x256x768 0 [⟨S1x16x256x768, broadcastInDim S1x16x256x768 ![1, 2, 3] bcast_S16x256x768_S1x16x256x768_1_2_3 (shapeCast _ (extractStridedSlice S1x16x256x768 ![0, 0, 0, 0] B slices_S3x16x256x768_S1x16x256x768_0_0_0_0) shapeCasts_S1x16x256x768_S16x256x768)⟩, ⟨S1x16x256x768, broadcastInDim S1x16x256x768 ![1, 2, 3] bcast_S16x256x768_S1x16x256x768_1_2_3 (shapeCast _ (extractStridedSlice S1x16x256x768 ![1, 0, 0, 0] B slices_S3x16x256x768_S1x16x256x768_1_0_0_0) shapeCasts_S1x16x256x768_S16x256x768)⟩, ⟨S1x16x256x768, broadcastInDim S1x16x256x768 ![1, 2, 3] bcast_S16x256x768_S1x16x256x768_1_2_3 (shapeCast _ (extractStridedSlice S1x16x256x768 ![1, 0, 0, 0] B slices_S3x16x256x768_S1x16x256x768_1_0_0_0) shapeCasts_S1x16x256x768_S16x256x768)⟩, ⟨S1x16x256x768, broadcastInDim S1x16x256x768 ![1, 2, 3] bcast_S16x256x768_S1x16x256x768_1_2_3 (shapeCast _ (extractStridedSlice S1x16x256x768 ![1, 0, 0, 0] B slices_S3x16x256x768_S1x16x256x768_1_0_0_0) shapeCasts_S1x16x256x768_S16x256x768)⟩, ⟨S1x16x256x768, broadcastInDim S1x16x256x768 ![1, 2, 3] bcast_S16x256x768_S1x16x256x768_1_2_3 (shapeCast _ (extractStridedSlice S1x16x256x768 ![1, 0, 0, 0] B slices_S3x16x256x768_S1x16x256x768_1_0_0_0) shapeCasts_S1x16x256x768_S16x256x768)⟩, ⟨S1x16x256x768, broadcastInDim S1x16x256x768 ![1, 2, 3] bcast_S16x256x768_S1x16x256x768_1_2_3 (shapeCast _ (extractStridedSlice S1x16x256x768 ![1, 0, 0, 0] B slices_S3x16x256x768_S1x16x256x768_1_0_0_0) shapeCasts_S1x16x256x768_S16x256x768)⟩, ⟨S1x16x256x768, broadcastInDim S1x16x256x768 ![1, 2, 3] bcast_S16x256x768_S1x16x256x768_1_2_3 (shapeCast _ (extractStridedSlice S1x16x256x768 ![1, 0, 0, 0] B slices_S3x16x256x768_S1x16x256x768_1_0_0_0) shapeCasts_S1x16x256x768_S16x256x768)⟩, ⟨S1x16x256x768, broadcastInDim S1x16x256x768 ![1, 2, 3] bcast_S16x256x768_S1x16x256x768_1_2_3 (shapeCast _ (extractStridedSlice S1x16x256x768 ![2, 0, 0, 0] B slices_S3x16x256x768_S1x16x256x768_2_0_0_0) shapeCasts_S1x16x256x768_S16x256x768)⟩]
    concatenates_S1x16x256x768_S1x16x256x768_S1x16x256x768_S1x16x256x768_S1x16x256x768_S1x16x256x768_S1x16x256x768_S1x16x256x768_S8x16x256x768_d0

/-- The scores. -/
def hostScores (Q : FVec Ideal S8x256x16x64 .f32) (K : FVec Ideal S8x768x16x64 .f32) (B : FVec Ideal S8x16x256x768 .f32) : FVec Ideal S8x16x256x768 .f32 :=
  addf (Host.dotGeneral dot_S8x256x16x64_S8x768x16x64_S8x16x256x768_3_3_1_1_02_02 none Q K) B

/-- The exponentials of the scores less the largest. -/
def hostExps (S : FVec Ideal S8x16x256x768 .f32) : FVec Ideal S8x16x256x768 .f32 :=
  Host.exp (subf S (broadcastInDim S8x16x256x768 ![0, 1, 2, 3] bcast_S8x16x256x1_S8x16x256x768_0_1_2_3 (broadcastInDim S8x16x256x1 ![0, 1, 2] bcast_S8x16x256_S8x16x256x1_0_1_2
    (Host.reduce FloatOps.maximumf S (constant S_ .f32 0xFF800000#32) reducesTo_S8x16x256x768_S8x16x256_d3 h_S_))))

/-- The weighted values over the sum of the weights. -/
def hostOut (E : FVec Ideal S8x16x256x768 .f32) (V : FVec Ideal S8x768x16x64 .f32) : FVec Ideal S2048x1024 .bf16 :=
  truncf .bf16 (shapeCast _ (transpose S8x256x16x64 [0, 2, 1, 3] (Host.divf (Host.dotGeneral dot_S8x16x256x768_S8x768x16x64_S8x16x256x64_3_1_2_3_01_02 none E V)
    (broadcastInDim S8x16x256x64 ![0, 1, 2, 3] bcast_S8x16x256x1_S8x16x256x64_0_1_2_3 (broadcastInDim S8x16x256x1 ![0, 1, 2] bcast_S8x16x256_S8x16x256x1_0_1_2
      (Host.reduceAdd E (constant S_ .f32 0x00000000#32) reducesTo_S8x16x256x768_S8x16x256_d3 h_S_)))) transposes_S8x16x256x64_S8x256x16x64_0_2_1_3) shapeCasts_S8x256x16x64_S2048x1024) bitsLt_bf16_f32

theorem res_eq (m : (ℓ : Loc nD τ sig) → Buf (Elt Ideal) ℓ) (c : Dev nD) : Value.res_main_v85 m c
    = hostOut (hostExps (hostScores (hostQueries (m (c.tc.loc main_arg0))) (hostWindows (hostKeys (m (c.tc.loc main_arg0)))) (hostBias (m (c.tc.loc main_arg1)))))
      (hostWindows (hostValues (m (c.tc.loc main_arg0)))) := rfl

theorem queries_apply (A : FVec Ideal S2048x3072 .bf16) (i : S8x256x16x64.Idx) (h0 : (i 0).val < 8) (h1 : (i 1).val < 256) (h2 : (i 2).val < 16) (h3 : (i 3).val < 64) : hostQueries A i
    = A (ix2 ⟨(i 0).val * 256 + (i 1).val, by show _ < 2048; omega⟩ ⟨(i 2).val * 64 + (i 3).val, by show _ < 3072; omega⟩) * Ideal.ofBits .f32 0x3E000000#32 := by
  pointwise! [hostQueries]

theorem keys_apply (A : FVec Ideal S2048x3072 .bf16) (i : S2048x16x64.Idx) (h1 : (i 1).val < 16) (h2 : (i 2).val < 64) :
    hostKeys A i = A (ix2 (i 0) ⟨1024 + ((i 1).val * 64 + (i 2).val), by show _ < 3072; omega⟩) := by
  pointwise! [hostKeys]

theorem values_apply (A : FVec Ideal S2048x3072 .bf16) (i : S2048x16x64.Idx) (h1 : (i 1).val < 16) (h2 : (i 2).val < 64) :
    hostValues A i = A (ix2 (i 0) ⟨2048 + ((i 1).val * 64 + (i 2).val), by show _ < 3072; omega⟩) := by
  pointwise! [hostValues]

theorem windows_apply (X : FVec Ideal S2048x16x64 .f32) (i : S8x768x16x64.Idx) (h0 : (i 0).val < 8) (h1 : (i 1).val < 768) :
    hostWindows X i = X (ix3 ⟨min (4 * (i 0).val - 4) 20 * 64 + (i 1).val, by show _ < 2048; omega⟩ (i 2) (i 3)) := by
  pointwise [hostWindows]
  repeat' refine NaFwdIdeal.by_condition (fun h => ?_) (fun h => ?_)
  all_goals exact congrArg X (congrArg (ix3 · (i 2) (i 3)) (Fin.ext (by dsimp only; omega)))

theorem bias_apply (B : FVec Ideal S3x16x256x768 .f32) (i : S8x16x256x768.Idx) (h0 : (i 0).val < 8) :
    hostBias B i = B (ix4 ⟨((i 0).val + 6) / 7 + (i 0).val / 7, by show _ < 3; omega⟩ (i 1) (i 2) (i 3)) := by
  pointwise [hostBias]
  repeat' refine NaFwdIdeal.by_condition (fun h => ?_) (fun h => ?_)
  all_goals exact congrArg B (congrArg (ix4 · (i 1) (i 2) (i 3)) (Fin.ext (by first | (show 0 = ((i 0).val + 6) / 7 + (i 0).val / 7; omega) | (show 1 = ((i 0).val + 6) / 7 + (i 0).val / 7; omega) | (show 2 = ((i 0).val + 6) / 7 + (i 0).val / 7; omega))))

theorem scores_apply (Q : FVec Ideal S8x256x16x64 .f32) (K : FVec Ideal S8x768x16x64 .f32) (B : FVec Ideal S8x16x256x768 .f32) (i : S8x16x256x768.Idx) :
    hostScores Q K B i = (∑ l : Fin 64, Q (ix4 (i 0) (i 2) (i 1) l) * K (ix4 (i 0) (i 3) (i 1) l)) + B i := by
  pointwise! [hostScores]

theorem exps_apply (S : FVec Ideal S8x16x256x768 .f32) (i : S8x16x256x768.Idx) :
    hostExps S i = Ideal.exp (S i - Finset.univ.fold max (Ideal.ofBits .f32 0xFF800000#32) fun z : Fin 768 => S (ix4 (i 0) (i 1) (i 2) z)) := by
  pointwise! [hostExps]

theorem out_apply (E : FVec Ideal S8x16x256x768 .f32) (V : FVec Ideal S8x768x16x64 .f32) (i : S2048x1024.Idx) (h0 : (i 0).val < 2048) (h1 : (i 1).val < 1024) :
    hostOut E V i = Ideal.div (∑ x : Fin 768, E (ix4 ⟨(i 0).val / 256, by show _ < 8; omega⟩ ⟨(i 1).val / 64, by show _ < 16; omega⟩ ⟨(i 0).val % 256, by show _ < 256; omega⟩ x)
        * V (ix4 ⟨(i 0).val / 256, by show _ < 8; omega⟩ x ⟨(i 1).val / 64, by show _ < 16; omega⟩ ⟨(i 1).val % 64, by show _ < 64; omega⟩))
      (∑ x : Fin 768, E (ix4 ⟨(i 0).val / 256, by show _ < 8; omega⟩ ⟨(i 1).val / 64, by show _ < 16; omega⟩ ⟨(i 0).val % 256, by show _ < 256; omega⟩ x)) := by
  pointwise! [hostOut]

theorem reference_natten (A : FVec Ideal S2048x3072 .bf16) (B : FVec Ideal S3x16x256x768 .f32) :
    hostOut (hostExps (hostScores (hostQueries A) (hostWindows (hostKeys A)) (hostBias B))) (hostWindows (hostValues A)) = NaFwdIdeal.natten A B := by
  funext i
  have h0 : (i 0).val < 2048 := (i 0).isLt
  have h1 : (i 1).val < 1024 := (i 1).isLt
  have score (x : Fin 768) : hostScores (hostQueries A) (hostWindows (hostKeys A)) (hostBias B)
      (ix4 ⟨(i 0).val / 256, by show _ < 8; omega⟩ ⟨(i 1).val / 64, by show _ < 16; omega⟩ ⟨(i 0).val % 256, by show _ < 256; omega⟩ x)
      = (∑ l : Fin 64, A (ix2 (i 0) ⟨(i 1).val / 64 * 64 + l, by show _ < 3072; omega⟩) * Ideal.ofBits .f32 0x3E000000#32
        * A (ix2 ⟨min (4 * ((i 0).val / 256) - 4) 20 * 64 + x, by show _ < 2048; omega⟩ ⟨1024 + ((i 1).val / 64 * 64 + l), by show _ < 3072; omega⟩))
        + B (ix4 ⟨((i 0).val / 256 + 6) / 7 + (i 0).val / 256 / 7, by show _ < 3; omega⟩ ⟨(i 1).val / 64, by show _ < 16; omega⟩ ⟨(i 0).val % 256, by show _ < 256; omega⟩ x) := by
    refine (scores_apply _ _ _ _).trans (congrArg₂ (· + ·) (Finset.sum_congr rfl fun l _ => congrArg₂ (· * ·) ?_ ?_) ?_)
    · refine (queries_apply _ _ (by show (i 0).val / 256 < 8; omega) (by show (i 0).val % 256 < 256; omega) (by show (i 1).val / 64 < 16; omega) l.isLt).trans ?_
      exact congrArg (A · * _) (congrArg (ix2 · _) (Fin.ext (by show (i 0).val / 256 * 256 + (i 0).val % 256 = _; omega)))
    · exact (windows_apply _ _ (by show (i 0).val / 256 < 8; omega) x.isLt).trans (keys_apply _ _ (by show (i 1).val / 64 < 16; omega) l.isLt)
    · exact bias_apply _ _ (by show (i 0).val / 256 < 8; omega)
  have exps (x : Fin 768) := (exps_apply (hostScores (hostQueries A) (hostWindows (hostKeys A)) (hostBias B))
      (ix4 ⟨(i 0).val / 256, by show _ < 8; omega⟩ ⟨(i 1).val / 64, by show _ < 16; omega⟩ ⟨(i 0).val % 256, by show _ < 256; omega⟩ x)).trans
    (congrArg Ideal.exp (congrArg₂ (· - ·) (score x) (congrArg (Finset.univ.fold max _) (funext score))))
  refine (out_apply _ _ i h0 h1).trans (congrArg₂ Ideal.div (Finset.sum_congr rfl fun x _ => congrArg₂ (· * ·) (exps x) ?_) (Finset.sum_congr rfl fun x _ => exps x))
  refine ((windows_apply _ _ (by show (i 0).val / 256 < 8; omega) x.isLt).trans (values_apply _ _ (by show (i 1).val / 64 < 16; omega) (by show (i 1).val % 64 < 64; omega))).trans ?_
  exact congrArg A (congrArg (ix2 _) (Fin.ext (by show 2048 + ((i 1).val / 64 * 64 + (i 1).val % 64) = 2048 + (i 1).val; omega)))

end Cert.NaFwdReferenceIdeal

namespace Cert.NaFwdIdeal

open Gen

theorem pay (q : FVec Ideal S256x128 .bf16) (k v : FVec Ideal S768x128 .bf16) (b0 b1 : FVec Ideal S1x1x256x768 .f32) (y : S256x128.Idx) (h1 : (y 1).val < 128) :
    k0_pay1 (F := Ideal) v (k0_pay2 q k v b0) (k0_pay3 q k) b1 y
      = attend (fun l => q (ix2 (y 0) ⟨(y 1).val / 64 * 64 + l, by show _ < 128; omega⟩) * Ideal.ofBits .bf16 0x3E00#16)
        (fun x l => k (ix2 x ⟨(y 1).val / 64 * 64 + l, by show _ < 128; omega⟩)) (fun x => v (ix2 x (y 1)))
        (fun x => if (y 1).val < 64 then b0 (ix4 0 0 (y 0) x) else b1 (ix4 0 0 (y 0) x)) := by
  pointwise [k0_pay1, k0_pay2, k0_pay3]
  refine by_condition (fun h => ?_) (fun h => ?_)
  · refine (attend_congr (q := fun l => q (ix2 (y 0) ⟨l, by show _ < 128; omega⟩) * Ideal.ofBits .bf16 0x3E00#16)
        (k := fun x l => k (ix2 x ⟨l, by show _ < 128; omega⟩)) (v := fun x => v (ix2 x (y 1))) (b := fun x => b0 (ix4 0 0 (y 0) x)) (fun l => ?_) (fun x l => ?_) (fun x => ?_) (fun x => (if_pos h).symm))
    · exact congrArg (q · * _) (congrArg (ix2 (y 0)) (Fin.ext (by dsimp only; omega)))
    · exact congrArg k (congrArg (ix2 x) (Fin.ext (by dsimp only; omega)))
    · rfl
  · refine (attend_congr (q := fun l => q (ix2 (y 0) ⟨64 + l, by show _ < 128; omega⟩) * Ideal.ofBits .bf16 0x3E00#16)
        (k := fun x l => k (ix2 x ⟨64 + l, by show _ < 128; omega⟩)) (v := fun x => v (ix2 x ⟨64 + ((y 1).val - 64), by show _ < 128; omega⟩)) (b := fun x => b1 (ix4 0 0 (y 0) x)) (fun l => ?_) (fun x l => ?_) (fun x => ?_) (fun x => (if_neg h).symm))
    · exact congrArg (q · * _) (congrArg (ix2 (y 0)) (Fin.ext (by dsimp only; omega)))
    · exact congrArg k (congrArg (ix2 x) (Fin.ext (by dsimp only; omega)))
    · exact congrArg v (congrArg (ix2 x) (Fin.ext (by dsimp only; omega)))

theorem eighth : Ideal.ofBits .bf16 0x3E00#16 = Ideal.ofBits .f32 0x3E000000#32 := by
  have h : Ideal.ofBits .bf16 0x3E00#16 = (((1 : ℝ) / 8 : ℝ) : EReal) := by
    simp [Ideal.ofBits, Ideal.ieee, -EReal.coe_mul]; norm_num
  have h' : Ideal.ofBits .f32 0x3E000000#32 = (((1 : ℝ) / 8 : ℝ) : EReal) := by
    simp [Ideal.ofBits, Ideal.ieee, -EReal.coe_mul]; norm_num
  exact h.trans h'.symm

theorem index : ∀ t : Fin cfg0.N, win0_0.index t = ![t.val % 8, t.val / 8] ∧ win0_1.index t = ![0, 8 + t.val / 8] ∧ win0_2.index t = ![0, 16 + t.val / 8]
    ∧ win0_3.index t = ![(t.val % 8 + 6) / 7 + t.val % 8 / 7, t.val / 8, 0, 0] ∧ win0_4.index t = ![t.val % 8, t.val / 8] ∧ k0_off1 (grid0.coords t) = ![min (4 * (t.val % 8) - 4) 20 * 64, 0] :=
  (by decide +kernel : ∀ t : Fin grid0.N, _)

variable (m : (ℓ : Loc nD τ sig) → Buf (Elt Ideal) ℓ)

theorem left (c : Dev nD) : (dats m 0 c).arrAt 4 cfg0.N = natten (m (c.tc.loc main_arg0)) (m (c.tc.loc main_arg1)) := by
  refine (dats m 0 c).arrAt_eq_of_covers 4 _ (by decide +kernel) fun t _ y => ?_
  have hy0 : (y 0).val < 256 := (y 0).isLt
  have hy1 : (y 1).val < 128 := (y 1).isLt
  have ht : t.val < 64 := t.isLt
  blk_simp
  rw [after0_4]
  unfold outsAt0
  frame_out
  refine (pay _ _ _ _ _ y hy1).trans ?_
  rw [eighth]
  obtain ⟨e0, e1, e2, e3, e4, e5⟩ := index t
  unfold natten
  refine attend_congr (fun l => ?_) (fun x l => ?_) (fun x => ?_) (fun x => ?_)
  · refine congrArg (· * _) ?_
    blk_point [iblk, V, e0, e4]
  · refine (View.ld_unit_apply_of _ _ _ _ _ (ix2 ⟨min (4 * (t.val % 8) - 4) 20 * 64 + x, by show _ < 2048; omega⟩ ⟨(y 1).val / 64 * 64 + l, by show _ < 128; omega⟩) (fun a => ?_)).trans ?_
    · rw [congrFun e5 a]
      match a with | ⟨0, _⟩ => rfl | ⟨1, _⟩ => exact (Nat.zero_add _).symm
    · blk_point [iblk, V, e1, e4]
  · refine (View.ld_unit_apply_of _ _ _ _ _ (ix2 ⟨min (4 * (t.val % 8) - 4) 20 * 64 + x, by show _ < 2048; omega⟩ (y 1)) (fun a => ?_)).trans ?_
    · rw [congrFun e5 a]
      match a with | ⟨0, _⟩ => rfl | ⟨1, _⟩ => exact (Nat.zero_add _).symm
    · blk_point [iblk, V, e2, e4]
  · by_cases h : (y 1).val < 64
    · refine (if_pos h).trans ?_
      refine (View.ld_unit_apply_of _ _ _ _ _ (ix4 0 0 (y 0) x) (fun a => ?_)).trans ?_
      · match a with | ⟨0, _⟩ => rfl | ⟨1, _⟩ => rfl | ⟨2, _⟩ => exact (Nat.zero_add _).symm | ⟨3, _⟩ => exact (Nat.zero_add _).symm
      · blk_point [iblk, V, e3, e4]
    · refine (if_neg h).trans ?_
      refine (View.ld_unit_apply_of _ _ _ _ _ (ix4 0 1 (y 0) x) (fun a => ?_)).trans ?_
      · match a with | ⟨0, _⟩ => rfl | ⟨1, _⟩ => rfl | ⟨2, _⟩ => exact (Nat.zero_add _).symm | ⟨3, _⟩ => exact (Nat.zero_add _).symm
      · blk_point [iblk, V, e3, e4]

/-- The two printed programs are one. -/
theorem same {F : FTy → Type} [FloatOps F] : NaFwd.defs (F := F) = defs :=
  congrArg (Pipeline.defs pcfgs) (congrArg Defs.onTc (funext fun p => match p with | 0 => rfl))

theorem frame_bits : Cert.quiescent_NaFwd := fun m g _ => by
  have h := Gen.frame (F := Bits) m g
  rw [← same] at h
  exact h

theorem frame_ideal : Cert.quiescent_NaFwdIdeal := fun m g _ => Gen.frame m g

theorem frame_reference : Cert.quiescent_NaFwdReferenceIdeal := fun m g _ =>
  (θ_run _ _ _).mono (fun r h => ⟨fun c => (h c).2, sem_eq_zero_of_no_sems rfl _⟩) (NaFwdReferenceIdeal.Value.run m g)

theorem algebraic : Cert.algebraic_NaFwdIdeal_NaFwdReferenceIdeal := fun m g m' g' _ h =>
  ⟨fun c => natten (m (c.tc.loc main_arg0)) (m (c.tc.loc main_arg1)),
    (θ_run _ _ _).mono (fun r hr c => ⟨(hr c).1.trans (left m c), (hr c).2⟩) (Value.run_blocks m g),
    (θ_run _ _ _).mono (fun r hr c => by
      obtain ⟨h0, h1⟩ := h c
      exact ⟨(((hr c).1.trans (NaFwdReferenceIdeal.res_eq m' c)).trans (NaFwdReferenceIdeal.reference_natten _ _)).trans (congrArg₂ natten h0 h1), (hr c).2⟩) (NaFwdReferenceIdeal.Value.run m' g')⟩

end Cert.NaFwdIdeal

end
-- ==== Proof.lean ====
module

public import proofs.«01_k».proof.Proof.Gen.GatherReference.Run
public import proofs.«01_k».proof.Proof.Gen.GatherReference.Read
public import proofs.«01_k».proof.Proof.Gen.GatherReferenceIdeal.Run
public import proofs.«01_k».proof.Proof.Gen.GatherReferenceIdeal.Read
public import proofs.«01_k».proof.Proof.Gen.Gather
public import proofs.«01_k».proof.Proof.Gen.GatherIdeal.Launch
public import proofs.«01_k».proof.Proof.Gen.PairExchangeReference.Run
public import proofs.«01_k».proof.Proof.Gen.PairExchangeReference.Read
public import proofs.«01_k».proof.Proof.Gen.PairExchangeReferenceIdeal.Run
public import proofs.«01_k».proof.Proof.Gen.PairExchangeReferenceIdeal.Read
public import proofs.«01_k».proof.Proof.Gen.PairExchange
public import proofs.«01_k».proof.Proof.Gen.PairExchangeIdeal.Launch
public import proofs.«01_k».proof.Proof.Gen.ChipExchangeReference.Run
public import proofs.«01_k».proof.Proof.Gen.ChipExchangeReference.Read
public import proofs.«01_k».proof.Proof.Gen.ChipExchangeReferenceIdeal.Run
public import proofs.«01_k».proof.Proof.Gen.ChipExchangeReferenceIdeal.Read
public import proofs.«01_k».proof.Proof.Gen.ChipExchange
public import proofs.«01_k».proof.Proof.Gen.ChipExchangeIdeal.Launch
public import proofs.«01_k».proof.Proof.Gen.PairShareReference.Run
public import proofs.«01_k».proof.Proof.Gen.PairShareReference.Read
public import proofs.«01_k».proof.Proof.Gen.PairShareReferenceIdeal.Run
public import proofs.«01_k».proof.Proof.Gen.PairShareReferenceIdeal.Read
public import proofs.«01_k».proof.Proof.Gen.PairShare
public import proofs.«01_k».proof.Proof.Gen.PairShareIdeal.Launch
public import proofs.«01_k».proof.Proof.Gen.Loss
public import proofs.«01_k».proof.Proof.Gen.LossIdeal.Value
public import proofs.«01_k».proof.Proof.Gen.LossReferenceIdeal.Run
public import proofs.«01_k».proof.Proof.Gen.Rms
public import proofs.«01_k».proof.Proof.Gen.RmsIdeal.Value
public import proofs.«01_k».proof.Proof.Gen.RmsReferenceIdeal.Run
public import proofs.«01_k».proof.Proof.Gen.Resid
public import proofs.«01_k».proof.Proof.Gen.ResidIdeal.Value
public import proofs.«01_k».proof.Proof.Gen.ResidReferenceIdeal.Run
public import proofs.«01_k».proof.Proof.Gen.NormPost
public import proofs.«01_k».proof.Proof.Gen.NormPostIdeal.Value
public import proofs.«01_k».proof.Proof.Gen.NormPostReferenceIdeal.Run
public import proofs.«01_k».proof.Proof.Gen.NormPre
public import proofs.«01_k».proof.Proof.Gen.NormPreIdeal.Value
public import proofs.«01_k».proof.Proof.Gen.NormPreReferenceIdeal.Run
public import proofs.«01_k».proof.Proof.Gen.NormPre3
public import proofs.«01_k».proof.Proof.Gen.NormPre3Ideal.Value
public import proofs.«01_k».proof.Proof.Gen.NormPre3ReferenceIdeal.Run
public import proofs.«01_k».proof.Proof.Gen.Swiglu
public import proofs.«01_k».proof.Proof.Gen.SwigluIdeal.Value
public import proofs.«01_k».proof.Proof.Gen.SwigluReferenceIdeal.Run
public import proofs.«01_k».proof.Proof.Gen.SwigluBwd
public import proofs.«01_k».proof.Proof.Gen.SwigluBwdIdeal.Value
public import proofs.«01_k».proof.Proof.Gen.SwigluBwdReferenceIdeal.Run
public import proofs.«01_k».proof.Proof.Gen.Proj
public import proofs.«01_k».proof.Proof.Gen.ProjIdeal.Value
public import proofs.«01_k».proof.Proof.Gen.ProjReferenceIdeal.Run
public import proofs.«01_k».proof.Proof.Gen.ProjDo
public import proofs.«01_k».proof.Proof.Gen.ProjDoIdeal.Value
public import proofs.«01_k».proof.Proof.Gen.ProjDoReferenceIdeal.Run
public import proofs.«01_k».proof.Proof.Gen.ProjDw
public import proofs.«01_k».proof.Proof.Gen.ProjDwIdeal.Value
public import proofs.«01_k».proof.Proof.Gen.ProjDwReferenceIdeal.Run
public import proofs.«01_k».proof.Proof.Gen.FfnIn
public import proofs.«01_k».proof.Proof.Gen.FfnInIdeal.Value
public import proofs.«01_k».proof.Proof.Gen.FfnInReferenceIdeal.Run
public import proofs.«01_k».proof.Proof.Gen.FfnOut
public import proofs.«01_k».proof.Proof.Gen.FfnOutIdeal.Value
public import proofs.«01_k».proof.Proof.Gen.FfnOutReferenceIdeal.Run
public import proofs.«01_k».proof.Proof.Gen.FfnDact
public import proofs.«01_k».proof.Proof.Gen.FfnDactIdeal.Value
public import proofs.«01_k».proof.Proof.Gen.FfnDactReferenceIdeal.Run
public import proofs.«01_k».proof.Proof.Gen.FfnDwDown
public import proofs.«01_k».proof.Proof.Gen.FfnDwDownIdeal.Value
public import proofs.«01_k».proof.Proof.Gen.FfnDwDownReferenceIdeal.Run
public import proofs.«01_k».proof.Proof.Gen.FfnDh
public import proofs.«01_k».proof.Proof.Gen.FfnDhIdeal.Value
public import proofs.«01_k».proof.Proof.Gen.FfnDhReferenceIdeal.Run
public import proofs.«01_k».proof.Proof.Gen.FfnDwIn
public import proofs.«01_k».proof.Proof.Gen.FfnDwInIdeal.Value
public import proofs.«01_k».proof.Proof.Gen.FfnDwInReferenceIdeal.Run
public import proofs.«01_k».proof.Proof.Gen.NaQkv
public import proofs.«01_k».proof.Proof.Gen.NaQkvIdeal.Value
public import proofs.«01_k».proof.Proof.Gen.NaQkvReferenceIdeal.Run
public import proofs.«01_k».proof.Proof.Gen.DilQkv
public import proofs.«01_k».proof.Proof.Gen.DilQkvIdeal.Value
public import proofs.«01_k».proof.Proof.Gen.DilQkvReferenceIdeal.Run
public import proofs.«01_k».proof.Proof.Gen.NaQkvDh
public import proofs.«01_k».proof.Proof.Gen.NaQkvDhIdeal.Value
public import proofs.«01_k».proof.Proof.Gen.NaQkvDhReferenceIdeal.Run
public import proofs.«01_k».proof.Proof.Gen.DilQkvDh
public import proofs.«01_k».proof.Proof.Gen.DilQkvDhIdeal.Value
public import proofs.«01_k».proof.Proof.Gen.DilQkvDhReferenceIdeal.Run
public import proofs.«01_k».proof.Proof.Gen.NaQkvDw
public import proofs.«01_k».proof.Proof.Gen.NaQkvDwIdeal.Value
public import proofs.«01_k».proof.Proof.Gen.NaQkvDwReferenceIdeal.Run
public import proofs.«01_k».proof.Proof.Gen.DilQkvDw
public import proofs.«01_k».proof.Proof.Gen.DilQkvDwIdeal.Value
public import proofs.«01_k».proof.Proof.Gen.DilQkvDwReferenceIdeal.Run
public import proofs.«01_k».proof.Proof.Gen.NaFwd
public import proofs.«01_k».proof.Proof.Gen.NaFwdIdeal.Value
public import proofs.«01_k».proof.Proof.Gen.NaFwdReferenceIdeal.Run
public import proofs.«01_k».proof.Proof.Gen.DilMerge
public import proofs.«01_k».proof.Proof.Gen.DilMergeIdeal.Value
public import proofs.«01_k».proof.Proof.Gen.DilMergeReferenceIdeal.Run
public import proofs.«01_k».proof.Proof.Gen.Rowdot
public import proofs.«01_k».proof.Proof.Gen.RowdotIdeal.Frame
public import proofs.«01_k».proof.Proof.Gen.RowdotReferenceIdeal.Run
public import proofs.«01_k».proof.Proof.Gen.RpbGrad
public import proofs.«01_k».proof.Proof.Gen.RpbGradIdeal.Value
public import proofs.«01_k».proof.Proof.Gen.RpbGradReferenceIdeal.Run
public import proofs.«01_k».proof.Proof.GatherClaims
public import proofs.«01_k».proof.Proof.PairSums
public import proofs.«01_k».proof.Proof.ChipSums
public import proofs.«01_k».proof.Proof.AdamSteps
public import proofs.«01_k».proof.Proof.Loss
public import proofs.«01_k».proof.Proof.Projections
public import proofs.«01_k».proof.Proof.Ffn
public import proofs.«01_k».proof.Proof.Qkv
public import proofs.«01_k».proof.Proof.QkvDh
public import proofs.«01_k».proof.Proof.QkvDw
public import proofs.«01_k».proof.Proof.Norms
public import proofs.«01_k».proof.Proof.Scaled
public import proofs.«01_k».proof.Proof.Gated
public import proofs.«01_k».proof.Proof.Merge
public import proofs.«01_k».proof.Proof.Heads
public import proofs.«01_k».proof.Proof.Bias
public import proofs.«01_k».proof.Proof.Attention

@[expose] public section

noncomputable section

namespace Cert.Proof

theorem claim : Cert.Claim :=
  ⟨Cert.Gather.Gen.facts, Cert.GatherIdeal.Gen.facts, Cert.GatherReferenceIdeal.Gen.facts, Cert.GatherReference.Gen.facts,
    Cert.PairExchange.Gen.facts, Cert.PairExchangeIdeal.Gen.facts, Cert.PairExchangeReferenceIdeal.Gen.facts, Cert.PairExchangeReference.Gen.facts,
    Cert.ChipExchange.Gen.facts, Cert.ChipExchangeIdeal.Gen.facts, Cert.ChipExchangeReferenceIdeal.Gen.facts, Cert.ChipExchangeReference.Gen.facts,
    Cert.PairShare.Gen.facts, Cert.PairShareIdeal.Gen.facts, Cert.PairShareReferenceIdeal.Gen.facts, Cert.PairShareReference.Gen.facts,
    Cert.PairSumNaQkv.Gen.facts, Cert.PairSumNaQkvIdeal.Gen.facts, Cert.PairSumNaQkvReferenceIdeal.Gen.facts, Cert.PairSumNaQkvReference.Gen.facts,
    Cert.PairSumOut.Gen.facts, Cert.PairSumOutIdeal.Gen.facts, Cert.PairSumOutReferenceIdeal.Gen.facts, Cert.PairSumOutReference.Gen.facts,
    Cert.PairSumFfn.Gen.facts, Cert.PairSumFfnIdeal.Gen.facts, Cert.PairSumFfnReferenceIdeal.Gen.facts, Cert.PairSumFfnReference.Gen.facts,
    Cert.PairSumFfnDown.Gen.facts, Cert.PairSumFfnDownIdeal.Gen.facts, Cert.PairSumFfnDownReferenceIdeal.Gen.facts, Cert.PairSumFfnDownReference.Gen.facts,
    Cert.PairSumDilQkv.Gen.facts, Cert.PairSumDilQkvIdeal.Gen.facts, Cert.PairSumDilQkvReferenceIdeal.Gen.facts, Cert.PairSumDilQkvReference.Gen.facts,
    Cert.ChipSumNaQkv.Gen.facts, Cert.ChipSumNaQkvIdeal.Gen.facts, Cert.ChipSumNaQkvReferenceIdeal.Gen.facts, Cert.ChipSumNaQkvReference.Gen.facts,
    Cert.ChipSumOut.Gen.facts, Cert.ChipSumOutIdeal.Gen.facts, Cert.ChipSumOutReferenceIdeal.Gen.facts, Cert.ChipSumOutReference.Gen.facts,
    Cert.ChipSumFfn.Gen.facts, Cert.ChipSumFfnIdeal.Gen.facts, Cert.ChipSumFfnReferenceIdeal.Gen.facts, Cert.ChipSumFfnReference.Gen.facts,
    Cert.ChipSumFfnDown.Gen.facts, Cert.ChipSumFfnDownIdeal.Gen.facts, Cert.ChipSumFfnDownReferenceIdeal.Gen.facts, Cert.ChipSumFfnDownReference.Gen.facts,
    Cert.ChipSumDilQkv.Gen.facts, Cert.ChipSumDilQkvIdeal.Gen.facts, Cert.ChipSumDilQkvReferenceIdeal.Gen.facts, Cert.ChipSumDilQkvReference.Gen.facts,
    Cert.AdamNaQkv.Gen.facts, Cert.AdamNaQkvIdeal.Gen.facts, Cert.AdamNaQkvReferenceIdeal.Gen.facts,
    Cert.AdamOut.Gen.facts, Cert.AdamOutIdeal.Gen.facts, Cert.AdamOutReferenceIdeal.Gen.facts,
    Cert.AdamFfn.Gen.facts, Cert.AdamFfnIdeal.Gen.facts, Cert.AdamFfnReferenceIdeal.Gen.facts,
    Cert.AdamFfnDown.Gen.facts, Cert.AdamFfnDownIdeal.Gen.facts, Cert.AdamFfnDownReferenceIdeal.Gen.facts,
    Cert.AdamDilQkv.Gen.facts, Cert.AdamDilQkvIdeal.Gen.facts, Cert.AdamDilQkvReferenceIdeal.Gen.facts,
    Cert.AdamSmall.Gen.facts, Cert.AdamSmallIdeal.Gen.facts, Cert.AdamSmallReferenceIdeal.Gen.facts,
    Cert.Loss.Gen.facts, Cert.LossIdeal.Gen.facts, Cert.LossReferenceIdeal.Gen.facts,
    Cert.Rms.Gen.facts, Cert.RmsIdeal.Gen.facts, Cert.RmsReferenceIdeal.Gen.facts,
    Cert.Resid.Gen.facts, Cert.ResidIdeal.Gen.facts, Cert.ResidReferenceIdeal.Gen.facts,
    Cert.NormPost.Gen.facts, Cert.NormPostIdeal.Gen.facts, Cert.NormPostReferenceIdeal.Gen.facts,
    Cert.NormPre.Gen.facts, Cert.NormPreIdeal.Gen.facts, Cert.NormPreReferenceIdeal.Gen.facts,
    Cert.NormPre3.Gen.facts, Cert.NormPre3Ideal.Gen.facts, Cert.NormPre3ReferenceIdeal.Gen.facts,
    Cert.Swiglu.Gen.facts, Cert.SwigluIdeal.Gen.facts, Cert.SwigluReferenceIdeal.Gen.facts,
    Cert.SwigluBwd.Gen.facts, Cert.SwigluBwdIdeal.Gen.facts, Cert.SwigluBwdReferenceIdeal.Gen.facts,
    Cert.Proj.Gen.facts, Cert.ProjIdeal.Gen.facts, Cert.ProjReferenceIdeal.Gen.facts,
    Cert.ProjDo.Gen.facts, Cert.ProjDoIdeal.Gen.facts, Cert.ProjDoReferenceIdeal.Gen.facts,
    Cert.ProjDw.Gen.facts, Cert.ProjDwIdeal.Gen.facts, Cert.ProjDwReferenceIdeal.Gen.facts,
    Cert.FfnIn.Gen.facts, Cert.FfnInIdeal.Gen.facts, Cert.FfnInReferenceIdeal.Gen.facts,
    Cert.FfnOut.Gen.facts, Cert.FfnOutIdeal.Gen.facts, Cert.FfnOutReferenceIdeal.Gen.facts,
    Cert.FfnDact.Gen.facts, Cert.FfnDactIdeal.Gen.facts, Cert.FfnDactReferenceIdeal.Gen.facts,
    Cert.FfnDwDown.Gen.facts, Cert.FfnDwDownIdeal.Gen.facts, Cert.FfnDwDownReferenceIdeal.Gen.facts,
    Cert.FfnDh.Gen.facts, Cert.FfnDhIdeal.Gen.facts, Cert.FfnDhReferenceIdeal.Gen.facts,
    Cert.FfnDwIn.Gen.facts, Cert.FfnDwInIdeal.Gen.facts, Cert.FfnDwInReferenceIdeal.Gen.facts,
    Cert.NaQkv.Gen.facts, Cert.NaQkvIdeal.Gen.facts, Cert.NaQkvReferenceIdeal.Gen.facts,
    Cert.DilQkv.Gen.facts, Cert.DilQkvIdeal.Gen.facts, Cert.DilQkvReferenceIdeal.Gen.facts,
    Cert.NaQkvDh.Gen.facts, Cert.NaQkvDhIdeal.Gen.facts, Cert.NaQkvDhReferenceIdeal.Gen.facts,
    Cert.DilQkvDh.Gen.facts, Cert.DilQkvDhIdeal.Gen.facts, Cert.DilQkvDhReferenceIdeal.Gen.facts,
    Cert.NaQkvDw.Gen.facts, Cert.NaQkvDwIdeal.Gen.facts, Cert.NaQkvDwReferenceIdeal.Gen.facts,
    Cert.DilQkvDw.Gen.facts, Cert.DilQkvDwIdeal.Gen.facts, Cert.DilQkvDwReferenceIdeal.Gen.facts,
    Cert.NaFwd.Gen.facts, Cert.NaFwdIdeal.Gen.facts, Cert.NaFwdReferenceIdeal.Gen.facts,
    Cert.DilMerge.Gen.facts, Cert.DilMergeIdeal.Gen.facts, Cert.DilMergeReferenceIdeal.Gen.facts,
    Cert.Rowdot.Gen.facts, Cert.RowdotIdeal.Gen.facts, Cert.RowdotReferenceIdeal.Gen.facts,
    Cert.RpbGrad.Gen.facts, Cert.RpbGradIdeal.Gen.facts, Cert.RpbGradReferenceIdeal.Gen.facts,
    GatherIdeal.frame_bits, GatherIdeal.frame_ideal, GatherIdeal.frame_reference, GatherIdeal.frame_reference_bits,
    PairExchangeIdeal.frame_bits, PairExchangeIdeal.frame_ideal, PairExchangeIdeal.frame_reference, PairExchangeIdeal.frame_reference_bits,
    ChipExchangeIdeal.frame_bits, ChipExchangeIdeal.frame_ideal, ChipExchangeIdeal.frame_reference, ChipExchangeIdeal.frame_reference_bits,
    PairShareIdeal.frame_bits, PairShareIdeal.frame_ideal, PairShareIdeal.frame_reference, PairShareIdeal.frame_reference_bits,
    PairSumNaQkvIdeal.frame_bits, PairSumNaQkvIdeal.frame_ideal, PairSumNaQkvIdeal.frame_reference, PairSumNaQkvIdeal.frame_reference_bits,
    PairSumOutIdeal.frame_bits, PairSumOutIdeal.frame_ideal, PairSumOutIdeal.frame_reference, PairSumOutIdeal.frame_reference_bits,
    PairSumFfnIdeal.frame_bits, PairSumFfnIdeal.frame_ideal, PairSumFfnIdeal.frame_reference, PairSumFfnIdeal.frame_reference_bits,
    PairSumFfnDownIdeal.frame_bits, PairSumFfnDownIdeal.frame_ideal, PairSumFfnDownIdeal.frame_reference, PairSumFfnDownIdeal.frame_reference_bits,
    PairSumDilQkvIdeal.frame_bits, PairSumDilQkvIdeal.frame_ideal, PairSumDilQkvIdeal.frame_reference, PairSumDilQkvIdeal.frame_reference_bits,
    ChipSumNaQkvIdeal.frame_bits, ChipSumNaQkvIdeal.frame_ideal, ChipSumNaQkvIdeal.frame_reference, ChipSumNaQkvIdeal.frame_reference_bits,
    ChipSumOutIdeal.frame_bits, ChipSumOutIdeal.frame_ideal, ChipSumOutIdeal.frame_reference, ChipSumOutIdeal.frame_reference_bits,
    ChipSumFfnIdeal.frame_bits, ChipSumFfnIdeal.frame_ideal, ChipSumFfnIdeal.frame_reference, ChipSumFfnIdeal.frame_reference_bits,
    ChipSumFfnDownIdeal.frame_bits, ChipSumFfnDownIdeal.frame_ideal, ChipSumFfnDownIdeal.frame_reference, ChipSumFfnDownIdeal.frame_reference_bits,
    ChipSumDilQkvIdeal.frame_bits, ChipSumDilQkvIdeal.frame_ideal, ChipSumDilQkvIdeal.frame_reference, ChipSumDilQkvIdeal.frame_reference_bits,
    AdamNaQkvIdeal.frame_bits, AdamNaQkvIdeal.frame_ideal, AdamNaQkvIdeal.frame_reference,
    AdamOutIdeal.frame_bits, AdamOutIdeal.frame_ideal, AdamOutIdeal.frame_reference,
    AdamFfnIdeal.frame_bits, AdamFfnIdeal.frame_ideal, AdamFfnIdeal.frame_reference,
    AdamFfnDownIdeal.frame_bits, AdamFfnDownIdeal.frame_ideal, AdamFfnDownIdeal.frame_reference,
    AdamDilQkvIdeal.frame_bits, AdamDilQkvIdeal.frame_ideal, AdamDilQkvIdeal.frame_reference,
    AdamSmallIdeal.frame_bits, AdamSmallIdeal.frame_ideal, AdamSmallIdeal.frame_reference,
    LossIdeal.frame_bits, LossIdeal.frame_ideal, LossIdeal.frame_reference,
    RmsIdeal.frame_bits, RmsIdeal.frame_ideal, RmsIdeal.frame_reference,
    ResidIdeal.frame_bits, ResidIdeal.frame_ideal, ResidIdeal.frame_reference,
    NormPostIdeal.frame_bits, NormPostIdeal.frame_ideal, NormPostIdeal.frame_reference,
    NormPreIdeal.frame_bits, NormPreIdeal.frame_ideal, NormPreIdeal.frame_reference,
    NormPre3Ideal.frame_bits, NormPre3Ideal.frame_ideal, NormPre3Ideal.frame_reference,
    SwigluIdeal.frame_bits, SwigluIdeal.frame_ideal, SwigluIdeal.frame_reference,
    SwigluBwdIdeal.frame_bits, SwigluBwdIdeal.frame_ideal, SwigluBwdIdeal.frame_reference,
    ProjIdeal.frame_bits, ProjIdeal.frame_ideal, ProjIdeal.frame_reference,
    ProjDoIdeal.frame_bits, ProjDoIdeal.frame_ideal, ProjDoIdeal.frame_reference,
    ProjDwIdeal.frame_bits, ProjDwIdeal.frame_ideal, ProjDwIdeal.frame_reference,
    FfnInIdeal.frame_bits, FfnInIdeal.frame_ideal, FfnInIdeal.frame_reference,
    FfnOutIdeal.frame_bits, FfnOutIdeal.frame_ideal, FfnOutIdeal.frame_reference,
    FfnDactIdeal.frame_bits, FfnDactIdeal.frame_ideal, FfnDactIdeal.frame_reference,
    FfnDwDownIdeal.frame_bits, FfnDwDownIdeal.frame_ideal, FfnDwDownIdeal.frame_reference,
    FfnDhIdeal.frame_bits, FfnDhIdeal.frame_ideal, FfnDhIdeal.frame_reference,
    FfnDwInIdeal.frame_bits, FfnDwInIdeal.frame_ideal, FfnDwInIdeal.frame_reference,
    NaQkvIdeal.frame_bits, NaQkvIdeal.frame_ideal, NaQkvIdeal.frame_reference,
    DilQkvIdeal.frame_bits, DilQkvIdeal.frame_ideal, DilQkvIdeal.frame_reference,
    NaQkvDhIdeal.frame_bits, NaQkvDhIdeal.frame_ideal, NaQkvDhIdeal.frame_reference,
    DilQkvDhIdeal.frame_bits, DilQkvDhIdeal.frame_ideal, DilQkvDhIdeal.frame_reference,
    NaQkvDwIdeal.frame_bits, NaQkvDwIdeal.frame_ideal, NaQkvDwIdeal.frame_reference,
    DilQkvDwIdeal.frame_bits, DilQkvDwIdeal.frame_ideal, DilQkvDwIdeal.frame_reference,
    NaFwdIdeal.frame_bits, NaFwdIdeal.frame_ideal, NaFwdIdeal.frame_reference,
    DilMergeIdeal.frame_bits, DilMergeIdeal.frame_ideal, DilMergeIdeal.frame_reference,
    RowdotIdeal.frame_bits, RowdotIdeal.frame_ideal, RowdotIdeal.frame_reference,
    RpbGradIdeal.frame_bits, RpbGradIdeal.frame_ideal, RpbGradIdeal.frame_reference,
    trivial, GatherIdeal.algebraic, GatherIdeal.bitexact,
    trivial, PairExchangeIdeal.algebraic, PairExchangeIdeal.bitexact,
    trivial, ChipExchangeIdeal.algebraic, ChipExchangeIdeal.bitexact,
    trivial, PairShareIdeal.algebraic, PairShareIdeal.bitexact,
    trivial, PairSumNaQkvIdeal.algebraic, PairSumNaQkvIdeal.bitexact,
    trivial, PairSumOutIdeal.algebraic, PairSumOutIdeal.bitexact,
    trivial, PairSumFfnIdeal.algebraic, PairSumFfnIdeal.bitexact,
    trivial, PairSumFfnDownIdeal.algebraic, PairSumFfnDownIdeal.bitexact,
    trivial, PairSumDilQkvIdeal.algebraic, PairSumDilQkvIdeal.bitexact,
    trivial, ChipSumNaQkvIdeal.algebraic, ChipSumNaQkvIdeal.bitexact,
    trivial, ChipSumOutIdeal.algebraic, ChipSumOutIdeal.bitexact,
    trivial, ChipSumFfnIdeal.algebraic, ChipSumFfnIdeal.bitexact,
    trivial, ChipSumFfnDownIdeal.algebraic, ChipSumFfnDownIdeal.bitexact,
    trivial, ChipSumDilQkvIdeal.algebraic, ChipSumDilQkvIdeal.bitexact,
    trivial, AdamNaQkvIdeal.algebraic,
    trivial, AdamOutIdeal.algebraic,
    trivial, AdamFfnIdeal.algebraic,
    trivial, AdamFfnDownIdeal.algebraic,
    trivial, AdamDilQkvIdeal.algebraic,
    trivial, AdamSmallIdeal.algebraic,
    trivial, LossIdeal.algebraic,
    trivial, RmsIdeal.algebraic,
    trivial, ResidIdeal.algebraic,
    trivial, NormPostIdeal.algebraic,
    trivial, NormPreIdeal.algebraic,
    trivial, NormPre3Ideal.algebraic,
    trivial, SwigluIdeal.algebraic,
    trivial, SwigluBwdIdeal.algebraic,
    trivial, ProjIdeal.algebraic,
    trivial, ProjDoIdeal.algebraic,
    trivial, ProjDwIdeal.algebraic,
    trivial, FfnInIdeal.algebraic,
    trivial, FfnOutIdeal.algebraic,
    trivial, FfnDactIdeal.algebraic,
    trivial, FfnDwDownIdeal.algebraic,
    trivial, FfnDhIdeal.algebraic,
    trivial, FfnDwInIdeal.algebraic,
    trivial, NaQkvIdeal.algebraic,
    trivial, DilQkvIdeal.algebraic,
    trivial, NaQkvDhIdeal.algebraic,
    trivial, DilQkvDhIdeal.algebraic,
    trivial, NaQkvDwIdeal.algebraic,
    trivial, DilQkvDwIdeal.algebraic,
    trivial, NaFwdIdeal.algebraic,
    trivial, DilMergeIdeal.algebraic,
    trivial, RowdotIdeal.algebraic,
    trivial, RpbGradIdeal.algebraic⟩

end Cert.Proof

end
